-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S32x16x512 : Shape := ⟨3, ![32, 16, 512]⟩
abbrev S32x8 : Shape := ⟨2, ![32, 8]⟩
abbrev S100000x128 : Shape := ⟨2, ![100000, 128]⟩
abbrev S100000x1 : Shape := ⟨2, ![100000, 1]⟩
abbrev S8 : Shape := ⟨1, ![8]⟩
abbrev S30 : Shape := ⟨1, ![30]⟩
abbrev S30x128 : Shape := ⟨2, ![30, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S32x16x512 : S_.BroadcastsInDim S32x16x512 (![] : Fin 0 → Fin S32x16x512.rank)
  reducesTo_S32x16x512_S_d0_1_2 : S32x16x512.ReducesTo [0, 1, 2] S_
  h_S_ : 0 < S_.numel
  bcast_S_S32x8 : S_.BroadcastsInDim S32x8 (![] : Fin 0 → Fin S32x8.rank)
  reducesTo_S32x8_S_d0_1 : S32x8.ReducesTo [0, 1] S_

variable [Facts]

def fn {F : FTy → Type} [FloatOps F] (main_arg0 : IVec S32x16x512 32) (main_arg1 : IVec S32x8 32) (main_arg2 : FVec F S100000x128 .f32) (main_arg3 : FVec F S100000x1 .f32) (main_arg4 : FVec F S8 .f32) (main_arg5 : FVec F S30 .f32) (main_arg6 : FVec F S30 .f32) (main_arg7 : FVec F S30x128 .f32) (main_arg8 : FVec F S128 .f32) (main_arg9 : FVec F S128 .f32) (main_arg10 : FVec F S128 .f32) (main_arg11 : FVec F S128x64 .f32) (main_arg12 : FVec F S64 .f32) (main_arg13 : FVec F S64 .f32) (main_arg14 : FVec F S64 .f32) (main_arg15 : FVec F S64x32 .f32) (main_arg16 : FVec F S32 .f32) (main_arg17 : FVec F S32 .f32) (main_arg18 : FVec F S32 .f32) (main_arg19 : FVec F S32x1 .f32) (main_arg20 : FVec F S1 .f32) (main_arg21 : FVec F S1 .f32) (main_arg22 : FVec F S1 .f32) : IVec S_ 1 :=
  let main_c : IVec S_ 32 := constantI S_ 32 0#32
  let main_v0 : IVec S32x16x512 32 := broadcastInDim S32x16x512 ![] bcast_S_S32x16x512 main_c
  let main_v1 : IVec S32x16x512 1 := cmpi .sge main_arg0 main_v0
  let main_c_0 : IVec S_ 32 := constantI S_ 32 100000#32
  let main_v2 : IVec S32x16x512 32 := broadcastInDim S32x16x512 ![] bcast_S_S32x16x512 main_c_0
  let main_v3 : IVec S32x16x512 1 := cmpi .slt main_arg0 main_v2
  let main_v4 : IVec S32x16x512 1 := andi main_v1 main_v3
  let main_c_1 : IVec S_ 1 := constantI S_ 1 1#1
  let main_v5 : IVec S_ 1 := (fun x v => Host.reduce IntOp.andi x v reducesTo_S32x16x512_S_d0_1_2 h_S_) main_v4 main_c_1
  let main_c_2 : IVec S_ 32 := constantI S_ 32 0#32
  let main_v6 : IVec S32x8 32 := broadcastInDim S32x8 ![] bcast_S_S32x8 main_c_2
  let main_v7 : IVec S32x8 1 := cmpi .sge main_arg1 main_v6
  let main_c_3 : IVec S_ 32 := constantI S_ 32 100000#32
  let main_v8 : IVec S32x8 32 := broadcastInDim S32x8 ![] bcast_S_S32x8 main_c_3
  let main_v9 : IVec S32x8 1 := cmpi .slt main_arg1 main_v8
  let main_v10 : IVec S32x8 1 := andi main_v7 main_v9
  let main_c_4 : IVec S_ 1 := constantI S_ 1 1#1
  let main_v11 : IVec S_ 1 := (fun x v => Host.reduce IntOp.andi x v reducesTo_S32x8_S_d0_1 h_S_) main_v10 main_c_4
  let main_v12 : IVec S_ 1 := andi main_v5 main_v11
  main_v12
-- ==== Kernel.lean ====
abbrev S32x16x512 : Shape := ⟨3, ![32, 16, 512]⟩
abbrev S32x8 : Shape := ⟨2, ![32, 8]⟩
abbrev S100000x128 : Shape := ⟨2, ![100000, 128]⟩
abbrev S100000x1 : Shape := ⟨2, ![100000, 1]⟩
abbrev S8 : Shape := ⟨1, ![8]⟩
abbrev S30 : Shape := ⟨1, ![30]⟩
abbrev S30x128 : Shape := ⟨2, ![30, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S100000x1x128 : Shape := ⟨3, ![100000, 1, 128]⟩
abbrev S100000 : Shape := ⟨1, ![100000]⟩
abbrev S_ : Shape := ⟨0, ![]⟩
abbrev S100096 : Shape := ⟨1, ![100096]⟩
abbrev S782x1x128 : Shape := ⟨3, ![782, 1, 128]⟩
abbrev S32x1x8192 : Shape := ⟨3, ![32, 1, 8192]⟩
abbrev S256 : Shape := ⟨1, ![256]⟩
abbrev S8x1 : Shape := ⟨2, ![8, 1]⟩
abbrev S1x30 : Shape := ⟨2, ![1, 30]⟩
abbrev S1x128 : Shape := ⟨2, ![1, 128]⟩
abbrev S1x64 : Shape := ⟨2, ![1, 64]⟩
abbrev S1x32 : Shape := ⟨2, ![1, 32]⟩
abbrev S1x1 : Shape := ⟨2, ![1, 1]⟩
abbrev S32x1x16 : Shape := ⟨3, ![32, 1, 16]⟩
abbrev S1x1x8192 : Shape := ⟨3, ![1, 1, 8192]⟩
abbrev S1x1x16 : Shape := ⟨3, ![1, 1, 16]⟩
abbrev S1x8192 : Shape := ⟨2, ![1, 8192]⟩
abbrev S8x128 : Shape := ⟨2, ![8, 128]⟩
abbrev S512x128 : Shape := ⟨2, ![512, 128]⟩
abbrev S128x30 : Shape := ⟨2, ![128, 30]⟩
abbrev S1x1x128 : Shape := ⟨3, ![1, 1, 128]⟩
abbrev S8x512 : Shape := ⟨2, ![8, 512]⟩
abbrev S4x128x128 : Shape := ⟨3, ![4, 128, 128]⟩
abbrev S4x128 : Shape := ⟨2, ![4, 128]⟩
abbrev S1x512 : Shape := ⟨2, ![1, 512]⟩
abbrev S128x128 : Shape := ⟨2, ![128, 128]⟩
abbrev S128x32 : Shape := ⟨2, ![128, 32]⟩
abbrev S128x1 : Shape := ⟨2, ![128, 1]⟩
abbrev S128x16 : Shape := ⟨2, ![128, 16]⟩
abbrev S1x16 : Shape := ⟨2, ![1, 16]⟩

abbrev nBuf : Space → Nat
  | .hbm => 46
  | .vmem => 30
  | .smem => 2
  | _ => 0

abbrev bufTy : (tb : Table) → Fin (tcTables nBuf tb) → BufTy
  | .hbm, ⟨0, _⟩ => ⟨S32x16x512, .i32⟩
  | .hbm, ⟨1, _⟩ => ⟨S32x8, .i32⟩
  | .hbm, ⟨2, _⟩ => ⟨S100000x128, .f32⟩
  | .hbm, ⟨3, _⟩ => ⟨S100000x1, .f32⟩
  | .hbm, ⟨4, _⟩ => ⟨S8, .f32⟩
  | .hbm, ⟨5, _⟩ => ⟨S30, .f32⟩
  | .hbm, ⟨6, _⟩ => ⟨S30, .f32⟩
  | .hbm, ⟨7, _⟩ => ⟨S30x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64x32, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S32x1, .f32⟩
  | .hbm, ⟨20, _⟩ => ⟨S1, .f32⟩
  | .hbm, ⟨21, _⟩ => ⟨S1, .f32⟩
  | .hbm, ⟨22, _⟩ => ⟨S1, .f32⟩
  | .hbm, ⟨23, _⟩ => ⟨S100000x1x128, .f32⟩
  | .hbm, ⟨24, _⟩ => ⟨S100000, .f32⟩
  | .hbm, ⟨25, _⟩ => ⟨S_, .i32⟩
  | .hbm, ⟨26, _⟩ => ⟨S_, .f32⟩
  | .hbm, ⟨27, _⟩ => ⟨S100096, .f32⟩
  | .hbm, ⟨28, _⟩ => ⟨S782x1x128, .f32⟩
  | .hbm, ⟨29, _⟩ => ⟨S32x1x8192, .i32⟩
  | .hbm, ⟨30, _⟩ => ⟨S8x1, .f32⟩
  | .hbm, ⟨31, _⟩ => ⟨S1x30, .f32⟩
  | .hbm, ⟨32, _⟩ => ⟨S1x30, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x64, .f32⟩
  | .hbm, ⟨37, _⟩ => ⟨S1x64, .f32⟩
  | .hbm, ⟨38, _⟩ => ⟨S1x64, .f32⟩
  | .hbm, ⟨39, _⟩ => ⟨S1x32, .f32⟩
  | .hbm, ⟨40, _⟩ => ⟨S1x32, .f32⟩
  | .hbm, ⟨41, _⟩ => ⟨S1x32, .f32⟩
  | .hbm, ⟨42, _⟩ => ⟨S1x1, .f32⟩
  | .hbm, ⟨43, _⟩ => ⟨S1x1, .f32⟩
  | .hbm, ⟨44, _⟩ => ⟨S1x1, .f32⟩
  | .hbm, ⟨45, _⟩ => ⟨S32x1x16, .f32⟩
  | .local _ .vmem, ⟨0, _⟩ => ⟨S100000x1x128, .f32⟩
  | .local _ .vmem, ⟨1, _⟩ => ⟨S782x1x128, .f32⟩
  | .local _ .vmem, ⟨2, _⟩ => ⟨S1x1x8192, .i32⟩
  | .local _ .vmem, ⟨3, _⟩ => ⟨S1x1x8192, .i32⟩
  | .local _ .vmem, ⟨4, _⟩ => ⟨S8x1, .f32⟩
  | .local _ .vmem, ⟨5, _⟩ => ⟨S1x30, .f32⟩
  | .local _ .vmem, ⟨6, _⟩ => ⟨S1x30, .f32⟩
  | .local _ .vmem, ⟨7, _⟩ => ⟨S30x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S128x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S64x32, .f32⟩
  | .local _ .vmem, ⟨16, _⟩ => ⟨S1x32, .f32⟩
  | .local _ .vmem, ⟨17, _⟩ => ⟨S1x32, .f32⟩
  | .local _ .vmem, ⟨18, _⟩ => ⟨S1x32, .f32⟩
  | .local _ .vmem, ⟨19, _⟩ => ⟨S32x1, .f32⟩
  | .local _ .vmem, ⟨20, _⟩ => ⟨S1x1, .f32⟩
  | .local _ .vmem, ⟨21, _⟩ => ⟨S1x1, .f32⟩
  | .local _ .vmem, ⟨22, _⟩ => ⟨S1x1, .f32⟩
  | .local _ .vmem, ⟨23, _⟩ => ⟨S1x1x16, .f32⟩
  | .local _ .vmem, ⟨24, _⟩ => ⟨S1x1x16, .f32⟩
  | .local _ .vmem, ⟨25, _⟩ => ⟨S8x128, .f32⟩
  | .local _ .vmem, ⟨26, _⟩ => ⟨S8x128, .f32⟩
  | .local _ .vmem, ⟨27, _⟩ => ⟨S512x128, .f32⟩
  | .local _ .vmem, ⟨28, _⟩ => ⟨S512x128, .f32⟩
  | .local _ .vmem, ⟨29, _⟩ => ⟨S128x30, .f32⟩
  | .local _ .smem, ⟨0, _⟩ => ⟨S256, .i32⟩
  | .local _ .smem, ⟨1, _⟩ => ⟨S1x8192, .i32⟩
  | _, _ => ⟨S32x16x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨1, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_call0_v0 : Ref sig .tc := ⟨.hbm, 23, rfl⟩
abbrev main_call0_v1 : Ref sig .tc := ⟨.hbm, 24, rfl⟩
abbrev main_call0_c : Ref sig .tc := ⟨.hbm, 25, rfl⟩
abbrev main_call0_call0_v0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_v15 : Ref sig .tc := ⟨.hbm, 39, rfl⟩
abbrev main_call0_v16 : Ref sig .tc := ⟨.hbm, 40, rfl⟩
abbrev main_call0_v17 : Ref sig .tc := ⟨.hbm, 41, rfl⟩
abbrev main_call0_v18 : Ref sig .tc := ⟨.hbm, 42, rfl⟩
abbrev main_call0_v19 : Ref sig .tc := ⟨.hbm, 43, rfl⟩
abbrev main_call0_v20 : Ref sig .tc := ⟨.hbm, 44, rfl⟩
abbrev main_v0 : Ref sig .tc := ⟨.hbm, 45, rfl⟩
abbrev main_call0_v5 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg22_1 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem22_1 : DmaSem sig := 24

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_call0_v5.idx], fun | 0 => main_call0_v5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v3 : BitVec 32 := Scalar.muli arg0 c8_i32
  let c0_i32_2 : BitVec 32 := 0#32
  let v4 : BitVec 32 := Scalar.addi v3 c0_i32_2
  let v5 : Index := Scalar.indexCast v4
  ![v5.toNat]
def k0_off2 (v6 : BitVec 32) : Fin 3 → Nat :=
  let v7 : Index := Scalar.indexCast v6
  let c0 : Index := 0#32
  let c0_3 : Index := 0#32
  ![v7.toNat, 0, 0]

def k0_off3 (v6 : BitVec 32) : Fin 3 → Nat :=
  let c7_i32 : BitVec 32 := 7#32
  let v13 : BitVec 32 := Scalar.shrsi v6 c7_i32
  let v14 : Index := Scalar.indexCast v13
  let c0_6 : Index := 0#32
  let c0_7 : Index := 0#32
  ![v14.toNat, 0, 0]

def k0_chk1 (v6 : BitVec 32) : Prop :=
  (∀ a, (k0_off2 v6) a + S1x1x128.size a ≤ S100000x1x128.size a) ∧
  (∀ a, (k0_off3 v6) a + S1x1x128.size a ≤ S782x1x128.size a)
theorem k0_off2_inb : ∀ (v6 : BitVec 32) (k0_hw1 : k0_chk1 v6), ∀ a, (k0_off2 v6) a + S1x1x128.size a ≤ S100000x1x128.size a := fun v6 k0_hw1 => k0_hw1.1
theorem k0_off3_inb : ∀ (v6 : BitVec 32) (k0_hw1 : k0_chk1 v6), ∀ a, (k0_off3 v6) a + S1x1x128.size a ≤ S782x1x128.size a := fun v6 k0_hw1 => k0_hw1.2

def k0_off4 (i : grid0.Coords) : Fin 1 → Nat :=
  let arg0 : BitVec 32 := BitVec.ofNat 32 (i 0).val
  let c8_i32_10 : BitVec 32 := 8#32
  let v26 : BitVec 32 := Scalar.muli arg0 c8_i32_10
  let c1_i32 : BitVec 32 := 1#32
  let v27 : BitVec 32 := Scalar.addi v26 c1_i32
  let v28 : Index := Scalar.indexCast v27
  ![v28.toNat]
def k0_off5 (v29 : BitVec 32) : Fin 3 → Nat :=
  let v30 : Index := Scalar.indexCast v29
  let c0_11 : Index := 0#32
  let c0_12 : Index := 0#32
  ![v30.toNat, 0, 0]

def k0_off6 (v29 : BitVec 32) : Fin 3 → Nat :=
  let c7_i32_14 : BitVec 32 := 7#32
  let v36 : BitVec 32 := Scalar.shrsi v29 c7_i32_14
  let v37 : Index := Scalar.indexCast v36
  let c0_15 : Index := 0#32
  let c0_16 : Index := 0#32
  ![v37.toNat, 0, 0]

def k0_chk2 (v29 : BitVec 32) : Prop :=
  (∀ a, (k0_off5 v29) a + S1x1x128.size a ≤ S100000x1x128.size a) ∧
  (∀ a, (k0_off6 v29) a + S1x1x128.size a ≤ S782x1x128.size a)
theorem k0_off5_inb : ∀ (v29 : BitVec 32) (k0_hw2 : k0_chk2 v29), ∀ a, (k0_off5 v29) a + S1x1x128.size a ≤ S100000x1x128.size a := fun v29 k0_hw2 => k0_hw2.1
theorem k0_off6_inb : ∀ (v29 : BitVec 32) (k0_hw2 : k0_chk2 v29), ∀ a, (k0_off6 v29) a + S1x1x128.size a ≤ S782x1x128.size a := fun v29 k0_hw2 => k0_hw2.2

def k0_off7 (i : grid0.Coords) : Fin 1 → Nat :=
  let arg0 : BitVec 32 := BitVec.ofNat 32 (i 0).val
  let c8_i32_20 : BitVec 32 := 8#32
  let v49 : BitVec 32 := Scalar.muli arg0 c8_i32_20
  let c2_i32 : BitVec 32 := 2#32
  let v50 : BitVec 32 := Scalar.addi v49 c2_i32
  let v51 : Index := Scalar.indexCast v50
  ![v51.toNat]
def k0_off8 (v52 : BitVec 32) : Fin 3 → Nat :=
  let v53 : Index := Scalar.indexCast v52
  let c0_21 : Index := 0#32
  let c0_22 : Index := 0#32
  ![v53.toNat, 0, 0]

def k0_off9 (v52 : BitVec 32) : Fin 3 → Nat :=
  let c7_i32_24 : BitVec 32 := 7#32
  let v59 : BitVec 32 := Scalar.shrsi v52 c7_i32_24
  let v60 : Index := Scalar.indexCast v59
  let c0_25 : Index := 0#32
  let c0_26 : Index := 0#32
  ![v60.toNat, 0, 0]

def k0_chk3 (v52 : BitVec 32) : Prop :=
  (∀ a, (k0_off8 v52) a + S1x1x128.size a ≤ S100000x1x128.size a) ∧
  (∀ a, (k0_off9 v52) a + S1x1x128.size a ≤ S782x1x128.size a)
theorem k0_off8_inb : ∀ (v52 : BitVec 32) (k0_hw3 : k0_chk3 v52), ∀ a, (k0_off8 v52) a + S1x1x128.size a ≤ S100000x1x128.size a := fun v52 k0_hw3 => k0_hw3.1
theorem k0_off9_inb : ∀ (v52 : BitVec 32) (k0_hw3 : k0_chk3 v52), ∀ a, (k0_off9 v52) a + S1x1x128.size a ≤ S782x1x128.size a := fun v52 k0_hw3 => k0_hw3.2

def k0_off10 (i : grid0.Coords) : Fin 1 → Nat :=
  let arg0 : BitVec 32 := BitVec.ofNat 32 (i 0).val
  let c8_i32_30 : BitVec 32 := 8#32
  let v72 : BitVec 32 := Scalar.muli arg0 c8_i32_30
  let c3_i32 : BitVec 32 := 3#32
  let v73 : BitVec 32 := Scalar.addi v72 c3_i32
  let v74 : Index := Scalar.indexCast v73
  ![v74.toNat]
def k0_off11 (v75 : BitVec 32) : Fin 3 → Nat :=
  let v76 : Index := Scalar.indexCast v75
  let c0_31 : Index := 0#32
  let c0_32 : Index := 0#32
  ![v76.toNat, 0, 0]

def k0_off12 (v75 : BitVec 32) : Fin 3 → Nat :=
  let c7_i32_34 : BitVec 32 := 7#32
  let v82 : BitVec 32 := Scalar.shrsi v75 c7_i32_34
  let v83 : Index := Scalar.indexCast v82
  let c0_35 : Index := 0#32
  let c0_36 : Index := 0#32
  ![v83.toNat, 0, 0]

def k0_chk4 (v75 : BitVec 32) : Prop :=
  (∀ a, (k0_off11 v75) a + S1x1x128.size a ≤ S100000x1x128.size a) ∧
  (∀ a, (k0_off12 v75) a + S1x1x128.size a ≤ S782x1x128.size a)
theorem k0_off11_inb : ∀ (v75 : BitVec 32) (k0_hw4 : k0_chk4 v75), ∀ a, (k0_off11 v75) a + S1x1x128.size a ≤ S100000x1x128.size a := fun v75 k0_hw4 => k0_hw4.1
theorem k0_off12_inb : ∀ (v75 : BitVec 32) (k0_hw4 : k0_chk4 v75), ∀ a, (k0_off12 v75) a + S1x1x128.size a ≤ S782x1x128.size a := fun v75 k0_hw4 => k0_hw4.2

def k0_off13 (i : grid0.Coords) : Fin 1 → Nat :=
  let arg0 : BitVec 32 := BitVec.ofNat 32 (i 0).val
  let c8_i32_40 : BitVec 32 := 8#32
  let v95 : BitVec 32 := Scalar.muli arg0 c8_i32_40
  let c4_i32 : BitVec 32 := 4#32
  let v96 : BitVec 32 := Scalar.addi v95 c4_i32
  let v97 : Index := Scalar.indexCast v96
  ![v97.toNat]
def k0_off14 (v98 : BitVec 32) : Fin 3 → Nat :=
  let v99 : Index := Scalar.indexCast v98
  let c0_41 : Index := 0#32
  let c0_42 : Index := 0#32
  ![v99.toNat, 0, 0]

def k0_off15 (v98 : BitVec 32) : Fin 3 → Nat :=
  let c7_i32_44 : BitVec 32 := 7#32
  let v105 : BitVec 32 := Scalar.shrsi v98 c7_i32_44
  let v106 : Index := Scalar.indexCast v105
  let c0_45 : Index := 0#32
  let c0_46 : Index := 0#32
  ![v106.toNat, 0, 0]

def k0_chk5 (v98 : BitVec 32) : Prop :=
  (∀ a, (k0_off14 v98) a + S1x1x128.size a ≤ S100000x1x128.size a) ∧
  (∀ a, (k0_off15 v98) a + S1x1x128.size a ≤ S782x1x128.size a)
theorem k0_off14_inb : ∀ (v98 : BitVec 32) (k0_hw5 : k0_chk5 v98), ∀ a, (k0_off14 v98) a + S1x1x128.size a ≤ S100000x1x128.size a := fun v98 k0_hw5 => k0_hw5.1
theorem k0_off15_inb : ∀ (v98 : BitVec 32) (k0_hw5 : k0_chk5 v98), ∀ a, (k0_off15 v98) a + S1x1x128.size a ≤ S782x1x128.size a := fun v98 k0_hw5 => k0_hw5.2

def k0_off16 (i : grid0.Coords) : Fin 1 → Nat :=
  let arg0 : BitVec 32 := BitVec.ofNat 32 (i 0).val
  let c8_i32_50 : BitVec 32 := 8#32
  let v118 : BitVec 32 := Scalar.muli arg0 c8_i32_50
  let c5_i32 : BitVec 32 := 5#32
  let v119 : BitVec 32 := Scalar.addi v118 c5_i32
  let v120 : Index := Scalar.indexCast v119
  ![v120.toNat]
def k0_off17 (v121 : BitVec 32) : Fin 3 → Nat :=
  let v122 : Index := Scalar.indexCast v121
  let c0_51 : Index := 0#32
  let c0_52 : Index := 0#32
  ![v122.toNat, 0, 0]

def k0_off18 (v121 : BitVec 32) : Fin 3 → Nat :=
  let c7_i32_54 : BitVec 32 := 7#32
  let v128 : BitVec 32 := Scalar.shrsi v121 c7_i32_54
  let v129 : Index := Scalar.indexCast v128
  let c0_55 : Index := 0#32
  let c0_56 : Index := 0#32
  ![v129.toNat, 0, 0]

def k0_chk6 (v121 : BitVec 32) : Prop :=
  (∀ a, (k0_off17 v121) a + S1x1x128.size a ≤ S100000x1x128.size a) ∧
  (∀ a, (k0_off18 v121) a + S1x1x128.size a ≤ S782x1x128.size a)
theorem k0_off17_inb : ∀ (v121 : BitVec 32) (k0_hw6 : k0_chk6 v121), ∀ a, (k0_off17 v121) a + S1x1x128.size a ≤ S100000x1x128.size a := fun v121 k0_hw6 => k0_hw6.1
theorem k0_off18_inb : ∀ (v121 : BitVec 32) (k0_hw6 : k0_chk6 v121), ∀ a, (k0_off18 v121) a + S1x1x128.size a ≤ S782x1x128.size a := fun v121 k0_hw6 => k0_hw6.2

def k0_off19 (i : grid0.Coords) : Fin 1 → Nat :=
  let arg0 : BitVec 32 := BitVec.ofNat 32 (i 0).val
  let c8_i32_60 : BitVec 32 := 8#32
  let v141 : BitVec 32 := Scalar.muli arg0 c8_i32_60
  let c6_i32 : BitVec 32 := 6#32
  let v142 : BitVec 32 := Scalar.addi v141 c6_i32
  let v143 : Index := Scalar.indexCast v142
  ![v143.toNat]
def k0_off20 (v144 : BitVec 32) : Fin 3 → Nat :=
  let v145 : Index := Scalar.indexCast v144
  let c0_61 : Index := 0#32
  let c0_62 : Index := 0#32
  ![v145.toNat, 0, 0]

def k0_off21 (v144 : BitVec 32) : Fin 3 → Nat :=
  let c7_i32_64 : BitVec 32 := 7#32
  let v151 : BitVec 32 := Scalar.shrsi v144 c7_i32_64
  let v152 : Index := Scalar.indexCast v151
  let c0_65 : Index := 0#32
  let c0_66 : Index := 0#32
  ![v152.toNat, 0, 0]

def k0_chk7 (v144 : BitVec 32) : Prop :=
  (∀ a, (k0_off20 v144) a + S1x1x128.size a ≤ S100000x1x128.size a) ∧
  (∀ a, (k0_off21 v144) a + S1x1x128.size a ≤ S782x1x128.size a)
theorem k0_off20_inb : ∀ (v144 : BitVec 32) (k0_hw7 : k0_chk7 v144), ∀ a, (k0_off20 v144) a + S1x1x128.size a ≤ S100000x1x128.size a := fun v144 k0_hw7 => k0_hw7.1
theorem k0_off21_inb : ∀ (v144 : BitVec 32) (k0_hw7 : k0_chk7 v144), ∀ a, (k0_off21 v144) a + S1x1x128.size a ≤ S782x1x128.size a := fun v144 k0_hw7 => k0_hw7.2

def k0_off22 (i : grid0.Coords) : Fin 1 → Nat :=
  let arg0 : BitVec 32 := BitVec.ofNat 32 (i 0).val
  let c8_i32_70 : BitVec 32 := 8#32
  let v164 : BitVec 32 := Scalar.muli arg0 c8_i32_70
  let c7_i32_71 : BitVec 32 := 7#32
  let v165 : BitVec 32 := Scalar.addi v164 c7_i32_71
  let v166 : Index := Scalar.indexCast v165
  ![v166.toNat]
def k0_off23 (v167 : BitVec 32) : Fin 3 → Nat :=
  let v168 : Index := Scalar.indexCast v167
  let c0_72 : Index := 0#32
  let c0_73 : Index := 0#32
  ![v168.toNat, 0, 0]

def k0_off24 (v167 : BitVec 32) : Fin 3 → Nat :=
  let c7_i32_75 : BitVec 32 := 7#32
  let v174 : BitVec 32 := Scalar.shrsi v167 c7_i32_75
  let v175 : Index := Scalar.indexCast v174
  let c0_76 : Index := 0#32
  let c0_77 : Index := 0#32
  ![v175.toNat, 0, 0]

def k0_chk8 (v167 : BitVec 32) : Prop :=
  (∀ a, (k0_off23 v167) a + S1x1x128.size a ≤ S100000x1x128.size a) ∧
  (∀ a, (k0_off24 v167) a + S1x1x128.size a ≤ S782x1x128.size a)
theorem k0_off23_inb : ∀ (v167 : BitVec 32) (k0_hw8 : k0_chk8 v167), ∀ a, (k0_off23 v167) a + S1x1x128.size a ≤ S100000x1x128.size a := fun v167 k0_hw8 => k0_hw8.1
theorem k0_off24_inb : ∀ (v167 : BitVec 32) (k0_hw8 : k0_chk8 v167), ∀ a, (k0_off24 v167) a + S1x1x128.size a ≤ S782x1x128.size a := fun v167 k0_hw8 => k0_hw8.2

def k0_off25 (v209 : BitVec 32) : Fin 3 → Nat :=
  let v210 : Index := Scalar.indexCast v209
  let c0_95 : Index := 0#32
  let c0_96 : Index := 0#32
  ![v210.toNat, 0, 0]

def k0_chk9 (v209 : BitVec 32) : Prop :=
  (∀ a, (k0_off25 v209) a + S1x1x128.size a ≤ S100000x1x128.size a)
theorem k0_off25_inb : ∀ (v209 : BitVec 32) (k0_hw9 : k0_chk9 v209), ∀ a, (k0_off25 v209) a + S1x1x128.size a ≤ S100000x1x128.size a := fun v209 k0_hw9 => k0_hw9

def k0_off26 (v216 : BitVec 32) : Fin 3 → Nat :=
  let v217 : Index := Scalar.indexCast v216
  let c0_101 : Index := 0#32
  let c0_102 : Index := 0#32
  ![v217.toNat, 0, 0]

def k0_chk10 (v216 : BitVec 32) : Prop :=
  (∀ a, (k0_off26 v216) a + S1x1x128.size a ≤ S100000x1x128.size a)
theorem k0_off26_inb : ∀ (v216 : BitVec 32) (k0_hw10 : k0_chk10 v216), ∀ a, (k0_off26 v216) a + S1x1x128.size a ≤ S100000x1x128.size a := fun v216 k0_hw10 => k0_hw10

def k0_off27 (v223 : BitVec 32) : Fin 3 → Nat :=
  let v224 : Index := Scalar.indexCast v223
  let c0_107 : Index := 0#32
  let c0_108 : Index := 0#32
  ![v224.toNat, 0, 0]

def k0_chk11 (v223 : BitVec 32) : Prop :=
  (∀ a, (k0_off27 v223) a + S1x1x128.size a ≤ S100000x1x128.size a)
theorem k0_off27_inb : ∀ (v223 : BitVec 32) (k0_hw11 : k0_chk11 v223), ∀ a, (k0_off27 v223) a + S1x1x128.size a ≤ S100000x1x128.size a := fun v223 k0_hw11 => k0_hw11

def k0_off28 (v230 : BitVec 32) : Fin 3 → Nat :=
  let v231 : Index := Scalar.indexCast v230
  let c0_113 : Index := 0#32
  let c0_114 : Index := 0#32
  ![v231.toNat, 0, 0]

def k0_chk12 (v230 : BitVec 32) : Prop :=
  (∀ a, (k0_off28 v230) a + S1x1x128.size a ≤ S100000x1x128.size a)
theorem k0_off28_inb : ∀ (v230 : BitVec 32) (k0_hw12 : k0_chk12 v230), ∀ a, (k0_off28 v230) a + S1x1x128.size a ≤ S100000x1x128.size a := fun v230 k0_hw12 => k0_hw12

def k0_off29 (v237 : BitVec 32) : Fin 3 → Nat :=
  let v238 : Index := Scalar.indexCast v237
  let c0_119 : Index := 0#32
  let c0_120 : Index := 0#32
  ![v238.toNat, 0, 0]

def k0_chk13 (v237 : BitVec 32) : Prop :=
  (∀ a, (k0_off29 v237) a + S1x1x128.size a ≤ S100000x1x128.size a)
theorem k0_off29_inb : ∀ (v237 : BitVec 32) (k0_hw13 : k0_chk13 v237), ∀ a, (k0_off29 v237) a + S1x1x128.size a ≤ S100000x1x128.size a := fun v237 k0_hw13 => k0_hw13

def k0_off30 (v244 : BitVec 32) : Fin 3 → Nat :=
  let v245 : Index := Scalar.indexCast v244
  let c0_125 : Index := 0#32
  let c0_126 : Index := 0#32
  ![v245.toNat, 0, 0]

def k0_chk14 (v244 : BitVec 32) : Prop :=
  (∀ a, (k0_off30 v244) a + S1x1x128.size a ≤ S100000x1x128.size a)
theorem k0_off30_inb : ∀ (v244 : BitVec 32) (k0_hw14 : k0_chk14 v244), ∀ a, (k0_off30 v244) a + S1x1x128.size a ≤ S100000x1x128.size a := fun v244 k0_hw14 => k0_hw14

def k0_off31 (v251 : BitVec 32) : Fin 3 → Nat :=
  let v252 : Index := Scalar.indexCast v251
  let c0_131 : Index := 0#32
  let c0_132 : Index := 0#32
  ![v252.toNat, 0, 0]

def k0_chk15 (v251 : BitVec 32) : Prop :=
  (∀ a, (k0_off31 v251) a + S1x1x128.size a ≤ S100000x1x128.size a)
theorem k0_off31_inb : ∀ (v251 : BitVec 32) (k0_hw15 : k0_chk15 v251), ∀ a, (k0_off31 v251) a + S1x1x128.size a ≤ S100000x1x128.size a := fun v251 k0_hw15 => k0_hw15

def k0_off32 (v258 : BitVec 32) : Fin 3 → Nat :=
  let v259 : Index := Scalar.indexCast v258
  let c0_137 : Index := 0#32
  let c0_138 : Index := 0#32
  ![v259.toNat, 0, 0]

def k0_chk16 (v258 : BitVec 32) : Prop :=
  (∀ a, (k0_off32 v258) a + S1x1x128.size a ≤ S100000x1x128.size a)
theorem k0_off32_inb : ∀ (v258 : BitVec 32) (k0_hw16 : k0_chk16 v258), ∀ a, (k0_off32 v258) a + S1x1x128.size a ≤ S100000x1x128.size a := fun v258 k0_hw16 => k0_hw16

def k0_off33 (v265 : BitVec 32) : Fin 3 → Nat :=
  let v266 : Index := Scalar.indexCast v265
  let c0_142 : Index := 0#32
  let c0_143 : Index := 0#32
  ![v266.toNat, 0, 0]

def k0_chk17 (v265 : BitVec 32) : Prop :=
  (∀ a, (k0_off33 v265) a + S1x1x128.size a ≤ S100000x1x128.size a)
theorem k0_off33_inb : ∀ (v265 : BitVec 32) (k0_hw17 : k0_chk17 v265), ∀ a, (k0_off33 v265) a + S1x1x128.size a ≤ S100000x1x128.size a := fun v265 k0_hw17 => k0_hw17

def k0_off34 (v272 : BitVec 32) : Fin 3 → Nat :=
  let v273 : Index := Scalar.indexCast v272
  let c0_147 : Index := 0#32
  let c0_148 : Index := 0#32
  ![v273.toNat, 0, 0]

def k0_chk18 (v272 : BitVec 32) : Prop :=
  (∀ a, (k0_off34 v272) a + S1x1x128.size a ≤ S100000x1x128.size a)
theorem k0_off34_inb : ∀ (v272 : BitVec 32) (k0_hw18 : k0_chk18 v272), ∀ a, (k0_off34 v272) a + S1x1x128.size a ≤ S100000x1x128.size a := fun v272 k0_hw18 => k0_hw18

def k0_off35 (v279 : BitVec 32) : Fin 3 → Nat :=
  let v280 : Index := Scalar.indexCast v279
  let c0_152 : Index := 0#32
  let c0_153 : Index := 0#32
  ![v280.toNat, 0, 0]

def k0_chk19 (v279 : BitVec 32) : Prop :=
  (∀ a, (k0_off35 v279) a + S1x1x128.size a ≤ S100000x1x128.size a)
theorem k0_off35_inb : ∀ (v279 : BitVec 32) (k0_hw19 : k0_chk19 v279), ∀ a, (k0_off35 v279) a + S1x1x128.size a ≤ S100000x1x128.size a := fun v279 k0_hw19 => k0_hw19

def k0_off36 (v286 : BitVec 32) : Fin 3 → Nat :=
  let v287 : Index := Scalar.indexCast v286
  let c0_157 : Index := 0#32
  let c0_158 : Index := 0#32
  ![v287.toNat, 0, 0]

def k0_chk20 (v286 : BitVec 32) : Prop :=
  (∀ a, (k0_off36 v286) a + S1x1x128.size a ≤ S100000x1x128.size a)
theorem k0_off36_inb : ∀ (v286 : BitVec 32) (k0_hw20 : k0_chk20 v286), ∀ a, (k0_off36 v286) a + S1x1x128.size a ≤ S100000x1x128.size a := fun v286 k0_hw20 => k0_hw20

def k0_off37 (v293 : BitVec 32) : Fin 3 → Nat :=
  let v294 : Index := Scalar.indexCast v293
  let c0_162 : Index := 0#32
  let c0_163 : Index := 0#32
  ![v294.toNat, 0, 0]

def k0_chk21 (v293 : BitVec 32) : Prop :=
  (∀ a, (k0_off37 v293) a + S1x1x128.size a ≤ S100000x1x128.size a)
theorem k0_off37_inb : ∀ (v293 : BitVec 32) (k0_hw21 : k0_chk21 v293), ∀ a, (k0_off37 v293) a + S1x1x128.size a ≤ S100000x1x128.size a := fun v293 k0_hw21 => k0_hw21

def k0_off38 (v300 : BitVec 32) : Fin 3 → Nat :=
  let v301 : Index := Scalar.indexCast v300
  let c0_167 : Index := 0#32
  let c0_168 : Index := 0#32
  ![v301.toNat, 0, 0]

def k0_chk22 (v300 : BitVec 32) : Prop :=
  (∀ a, (k0_off38 v300) a + S1x1x128.size a ≤ S100000x1x128.size a)
theorem k0_off38_inb : ∀ (v300 : BitVec 32) (k0_hw22 : k0_chk22 v300), ∀ a, (k0_off38 v300) a + S1x1x128.size a ≤ S100000x1x128.size a := fun v300 k0_hw22 => k0_hw22

def k0_off39 (v307 : BitVec 32) : Fin 3 → Nat :=
  let v308 : Index := Scalar.indexCast v307
  let c0_172 : Index := 0#32
  let c0_173 : Index := 0#32
  ![v308.toNat, 0, 0]

def k0_chk23 (v307 : BitVec 32) : Prop :=
  (∀ a, (k0_off39 v307) a + S1x1x128.size a ≤ S100000x1x128.size a)
theorem k0_off39_inb : ∀ (v307 : BitVec 32) (k0_hw23 : k0_chk23 v307), ∀ a, (k0_off39 v307) a + S1x1x128.size a ≤ S100000x1x128.size a := fun v307 k0_hw23 => k0_hw23

def k0_off40 (v314 : BitVec 32) : Fin 3 → Nat :=
  let v315 : Index := Scalar.indexCast v314
  let c0_177 : Index := 0#32
  let c0_178 : Index := 0#32
  ![v315.toNat, 0, 0]

def k0_chk24 (v314 : BitVec 32) : Prop :=
  (∀ a, (k0_off40 v314) a + S1x1x128.size a ≤ S100000x1x128.size a)
theorem k0_off40_inb : ∀ (v314 : BitVec 32) (k0_hw24 : k0_chk24 v314), ∀ a, (k0_off40 v314) a + S1x1x128.size a ≤ S100000x1x128.size a := fun v314 k0_hw24 => k0_hw24

def k0_off41 (v321 : BitVec 32) : Fin 3 → Nat :=
  let v322 : Index := Scalar.indexCast v321
  let c0_182 : Index := 0#32
  let c0_183 : Index := 0#32
  ![v322.toNat, 0, 0]

def k0_chk25 (v321 : BitVec 32) : Prop :=
  (∀ a, (k0_off41 v321) a + S1x1x128.size a ≤ S100000x1x128.size a)
theorem k0_off41_inb : ∀ (v321 : BitVec 32) (k0_hw25 : k0_chk25 v321), ∀ a, (k0_off41 v321) a + S1x1x128.size a ≤ S100000x1x128.size a := fun v321 k0_hw25 => k0_hw25

def k0_off42 (v328 : BitVec 32) : Fin 3 → Nat :=
  let v329 : Index := Scalar.indexCast v328
  let c0_187 : Index := 0#32
  let c0_188 : Index := 0#32
  ![v329.toNat, 0, 0]

def k0_chk26 (v328 : BitVec 32) : Prop :=
  (∀ a, (k0_off42 v328) a + S1x1x128.size a ≤ S100000x1x128.size a)
theorem k0_off42_inb : ∀ (v328 : BitVec 32) (k0_hw26 : k0_chk26 v328), ∀ a, (k0_off42 v328) a + S1x1x128.size a ≤ S100000x1x128.size a := fun v328 k0_hw26 => k0_hw26

def k0_off43 (v335 : BitVec 32) : Fin 3 → Nat :=
  let v336 : Index := Scalar.indexCast v335
  let c0_192 : Index := 0#32
  let c0_193 : Index := 0#32
  ![v336.toNat, 0, 0]

def k0_chk27 (v335 : BitVec 32) : Prop :=
  (∀ a, (k0_off43 v335) a + S1x1x128.size a ≤ S100000x1x128.size a)
theorem k0_off43_inb : ∀ (v335 : BitVec 32) (k0_hw27 : k0_chk27 v335), ∀ a, (k0_off43 v335) a + S1x1x128.size a ≤ S100000x1x128.size a := fun v335 k0_hw27 => k0_hw27

def k0_off44 (v342 : BitVec 32) : Fin 3 → Nat :=
  let v343 : Index := Scalar.indexCast v342
  let c0_197 : Index := 0#32
  let c0_198 : Index := 0#32
  ![v343.toNat, 0, 0]

def k0_chk28 (v342 : BitVec 32) : Prop :=
  (∀ a, (k0_off44 v342) a + S1x1x128.size a ≤ S100000x1x128.size a)
theorem k0_off44_inb : ∀ (v342 : BitVec 32) (k0_hw28 : k0_chk28 v342), ∀ a, (k0_off44 v342) a + S1x1x128.size a ≤ S100000x1x128.size a := fun v342 k0_hw28 => k0_hw28

def k0_off45 (v349 : BitVec 32) : Fin 3 → Nat :=
  let v350 : Index := Scalar.indexCast v349
  let c0_202 : Index := 0#32
  let c0_203 : Index := 0#32
  ![v350.toNat, 0, 0]

def k0_chk29 (v349 : BitVec 32) : Prop :=
  (∀ a, (k0_off45 v349) a + S1x1x128.size a ≤ S100000x1x128.size a)
theorem k0_off45_inb : ∀ (v349 : BitVec 32) (k0_hw29 : k0_chk29 v349), ∀ a, (k0_off45 v349) a + S1x1x128.size a ≤ S100000x1x128.size a := fun v349 k0_hw29 => k0_hw29

def k0_off46 (v356 : BitVec 32) : Fin 3 → Nat :=
  let v357 : Index := Scalar.indexCast v356
  let c0_207 : Index := 0#32
  let c0_208 : Index := 0#32
  ![v357.toNat, 0, 0]

def k0_chk30 (v356 : BitVec 32) : Prop :=
  (∀ a, (k0_off46 v356) a + S1x1x128.size a ≤ S100000x1x128.size a)
theorem k0_off46_inb : ∀ (v356 : BitVec 32) (k0_hw30 : k0_chk30 v356), ∀ a, (k0_off46 v356) a + S1x1x128.size a ≤ S100000x1x128.size a := fun v356 k0_hw30 => k0_hw30

def k0_off47 (v363 : BitVec 32) : Fin 3 → Nat :=
  let v364 : Index := Scalar.indexCast v363
  let c0_212 : Index := 0#32
  let c0_213 : Index := 0#32
  ![v364.toNat, 0, 0]

def k0_chk31 (v363 : BitVec 32) : Prop :=
  (∀ a, (k0_off47 v363) a + S1x1x128.size a ≤ S100000x1x128.size a)
theorem k0_off47_inb : ∀ (v363 : BitVec 32) (k0_hw31 : k0_chk31 v363), ∀ a, (k0_off47 v363) a + S1x1x128.size a ≤ S100000x1x128.size a := fun v363 k0_hw31 => k0_hw31

def k0_off48 (v370 : BitVec 32) : Fin 3 → Nat :=
  let v371 : Index := Scalar.indexCast v370
  let c0_217 : Index := 0#32
  let c0_218 : Index := 0#32
  ![v371.toNat, 0, 0]

def k0_chk32 (v370 : BitVec 32) : Prop :=
  (∀ a, (k0_off48 v370) a + S1x1x128.size a ≤ S100000x1x128.size a)
theorem k0_off48_inb : ∀ (v370 : BitVec 32) (k0_hw32 : k0_chk32 v370), ∀ a, (k0_off48 v370) a + S1x1x128.size a ≤ S100000x1x128.size a := fun v370 k0_hw32 => k0_hw32

def k0_off49 (v377 : BitVec 32) : Fin 3 → Nat :=
  let v378 : Index := Scalar.indexCast v377
  let c0_222 : Index := 0#32
  let c0_223 : Index := 0#32
  ![v378.toNat, 0, 0]

def k0_chk33 (v377 : BitVec 32) : Prop :=
  (∀ a, (k0_off49 v377) a + S1x1x128.size a ≤ S100000x1x128.size a)
theorem k0_off49_inb : ∀ (v377 : BitVec 32) (k0_hw33 : k0_chk33 v377), ∀ a, (k0_off49 v377) a + S1x1x128.size a ≤ S100000x1x128.size a := fun v377 k0_hw33 => k0_hw33

def k0_off50 (v384 : BitVec 32) : Fin 3 → Nat :=
  let v385 : Index := Scalar.indexCast v384
  let c0_227 : Index := 0#32
  let c0_228 : Index := 0#32
  ![v385.toNat, 0, 0]

def k0_chk34 (v384 : BitVec 32) : Prop :=
  (∀ a, (k0_off50 v384) a + S1x1x128.size a ≤ S100000x1x128.size a)
theorem k0_off50_inb : ∀ (v384 : BitVec 32) (k0_hw34 : k0_chk34 v384), ∀ a, (k0_off50 v384) a + S1x1x128.size a ≤ S100000x1x128.size a := fun v384 k0_hw34 => k0_hw34

def k0_off51 (v391 : BitVec 32) : Fin 3 → Nat :=
  let v392 : Index := Scalar.indexCast v391
  let c0_232 : Index := 0#32
  let c0_233 : Index := 0#32
  ![v392.toNat, 0, 0]

def k0_chk35 (v391 : BitVec 32) : Prop :=
  (∀ a, (k0_off51 v391) a + S1x1x128.size a ≤ S100000x1x128.size a)
theorem k0_off51_inb : ∀ (v391 : BitVec 32) (k0_hw35 : k0_chk35 v391), ∀ a, (k0_off51 v391) a + S1x1x128.size a ≤ S100000x1x128.size a := fun v391 k0_hw35 => k0_hw35

def k0_off52 (v398 : BitVec 32) : Fin 3 → Nat :=
  let v399 : Index := Scalar.indexCast v398
  let c0_237 : Index := 0#32
  let c0_238 : Index := 0#32
  ![v399.toNat, 0, 0]

def k0_chk36 (v398 : BitVec 32) : Prop :=
  (∀ a, (k0_off52 v398) a + S1x1x128.size a ≤ S100000x1x128.size a)
theorem k0_off52_inb : ∀ (v398 : BitVec 32) (k0_hw36 : k0_chk36 v398), ∀ a, (k0_off52 v398) a + S1x1x128.size a ≤ S100000x1x128.size a := fun v398 k0_hw36 => k0_hw36

def k0_off53 (v405 : BitVec 32) : Fin 3 → Nat :=
  let v406 : Index := Scalar.indexCast v405
  let c0_242 : Index := 0#32
  let c0_243 : Index := 0#32
  ![v406.toNat, 0, 0]

def k0_chk37 (v405 : BitVec 32) : Prop :=
  (∀ a, (k0_off53 v405) a + S1x1x128.size a ≤ S100000x1x128.size a)
theorem k0_off53_inb : ∀ (v405 : BitVec 32) (k0_hw37 : k0_chk37 v405), ∀ a, (k0_off53 v405) a + S1x1x128.size a ≤ S100000x1x128.size a := fun v405 k0_hw37 => k0_hw37

def k0_off54 (v412 : BitVec 32) : Fin 3 → Nat :=
  let v413 : Index := Scalar.indexCast v412
  let c0_247 : Index := 0#32
  let c0_248 : Index := 0#32
  ![v413.toNat, 0, 0]

def k0_chk38 (v412 : BitVec 32) : Prop :=
  (∀ a, (k0_off54 v412) a + S1x1x128.size a ≤ S100000x1x128.size a)
theorem k0_off54_inb : ∀ (v412 : BitVec 32) (k0_hw38 : k0_chk38 v412), ∀ a, (k0_off54 v412) a + S1x1x128.size a ≤ S100000x1x128.size a := fun v412 k0_hw38 => k0_hw38

def k0_off55 (v419 : BitVec 32) : Fin 3 → Nat :=
  let v420 : Index := Scalar.indexCast v419
  let c0_252 : Index := 0#32
  let c0_253 : Index := 0#32
  ![v420.toNat, 0, 0]

def k0_chk39 (v419 : BitVec 32) : Prop :=
  (∀ a, (k0_off55 v419) a + S1x1x128.size a ≤ S100000x1x128.size a)
theorem k0_off55_inb : ∀ (v419 : BitVec 32) (k0_hw39 : k0_chk39 v419), ∀ a, (k0_off55 v419) a + S1x1x128.size a ≤ S100000x1x128.size a := fun v419 k0_hw39 => k0_hw39

def k0_off56 (v426 : BitVec 32) : Fin 3 → Nat :=
  let v427 : Index := Scalar.indexCast v426
  let c0_257 : Index := 0#32
  let c0_258 : Index := 0#32
  ![v427.toNat, 0, 0]

def k0_chk40 (v426 : BitVec 32) : Prop :=
  (∀ a, (k0_off56 v426) a + S1x1x128.size a ≤ S100000x1x128.size a)
theorem k0_off56_inb : ∀ (v426 : BitVec 32) (k0_hw40 : k0_chk40 v426), ∀ a, (k0_off56 v426) a + S1x1x128.size a ≤ S100000x1x128.size a := fun v426 k0_hw40 => k0_hw40

def k0_off57 (v433 : BitVec 32) : Fin 3 → Nat :=
  let v434 : Index := Scalar.indexCast v433
  let c0_262 : Index := 0#32
  let c0_263 : Index := 0#32
  ![v434.toNat, 0, 0]

def k0_chk41 (v433 : BitVec 32) : Prop :=
  (∀ a, (k0_off57 v433) a + S1x1x128.size a ≤ S100000x1x128.size a)
theorem k0_off57_inb : ∀ (v433 : BitVec 32) (k0_hw41 : k0_chk41 v433), ∀ a, (k0_off57 v433) a + S1x1x128.size a ≤ S100000x1x128.size a := fun v433 k0_hw41 => k0_hw41

def k0_off58 (v440 : BitVec 32) : Fin 3 → Nat :=
  let v441 : Index := Scalar.indexCast v440
  let c0_267 : Index := 0#32
  let c0_268 : Index := 0#32
  ![v441.toNat, 0, 0]

def k0_chk42 (v440 : BitVec 32) : Prop :=
  (∀ a, (k0_off58 v440) a + S1x1x128.size a ≤ S100000x1x128.size a)
theorem k0_off58_inb : ∀ (v440 : BitVec 32) (k0_hw42 : k0_chk42 v440), ∀ a, (k0_off58 v440) a + S1x1x128.size a ≤ S100000x1x128.size a := fun v440 k0_hw42 => k0_hw42

def k0_off59 (v447 : BitVec 32) : Fin 3 → Nat :=
  let v448 : Index := Scalar.indexCast v447
  let c0_272 : Index := 0#32
  let c0_273 : Index := 0#32
  ![v448.toNat, 0, 0]

def k0_chk43 (v447 : BitVec 32) : Prop :=
  (∀ a, (k0_off59 v447) a + S1x1x128.size a ≤ S100000x1x128.size a)
theorem k0_off59_inb : ∀ (v447 : BitVec 32) (k0_hw43 : k0_chk43 v447), ∀ a, (k0_off59 v447) a + S1x1x128.size a ≤ S100000x1x128.size a := fun v447 k0_hw43 => k0_hw43

def k0_off60 (v454 : BitVec 32) : Fin 3 → Nat :=
  let v455 : Index := Scalar.indexCast v454
  let c0_277 : Index := 0#32
  let c0_278 : Index := 0#32
  ![v455.toNat, 0, 0]

def k0_chk44 (v454 : BitVec 32) : Prop :=
  (∀ a, (k0_off60 v454) a + S1x1x128.size a ≤ S100000x1x128.size a)
theorem k0_off60_inb : ∀ (v454 : BitVec 32) (k0_hw44 : k0_chk44 v454), ∀ a, (k0_off60 v454) a + S1x1x128.size a ≤ S100000x1x128.size a := fun v454 k0_hw44 => k0_hw44

def k0_off61 (v461 : BitVec 32) : Fin 3 → Nat :=
  let v462 : Index := Scalar.indexCast v461
  let c0_282 : Index := 0#32
  let c0_283 : Index := 0#32
  ![v462.toNat, 0, 0]

def k0_chk45 (v461 : BitVec 32) : Prop :=
  (∀ a, (k0_off61 v461) a + S1x1x128.size a ≤ S100000x1x128.size a)
theorem k0_off61_inb : ∀ (v461 : BitVec 32) (k0_hw45 : k0_chk45 v461), ∀ a, (k0_off61 v461) a + S1x1x128.size a ≤ S100000x1x128.size a := fun v461 k0_hw45 => k0_hw45

def k0_off62 (v468 : BitVec 32) : Fin 3 → Nat :=
  let v469 : Index := Scalar.indexCast v468
  let c0_287 : Index := 0#32
  let c0_288 : Index := 0#32
  ![v469.toNat, 0, 0]

def k0_chk46 (v468 : BitVec 32) : Prop :=
  (∀ a, (k0_off62 v468) a + S1x1x128.size a ≤ S100000x1x128.size a)
theorem k0_off62_inb : ∀ (v468 : BitVec 32) (k0_hw46 : k0_chk46 v468), ∀ a, (k0_off62 v468) a + S1x1x128.size a ≤ S100000x1x128.size a := fun v468 k0_hw46 => k0_hw46

def k0_off63 (v475 : BitVec 32) : Fin 3 → Nat :=
  let v476 : Index := Scalar.indexCast v475
  let c0_292 : Index := 0#32
  let c0_293 : Index := 0#32
  ![v476.toNat, 0, 0]

def k0_chk47 (v475 : BitVec 32) : Prop :=
  (∀ a, (k0_off63 v475) a + S1x1x128.size a ≤ S100000x1x128.size a)
theorem k0_off63_inb : ∀ (v475 : BitVec 32) (k0_hw47 : k0_chk47 v475), ∀ a, (k0_off63 v475) a + S1x1x128.size a ≤ S100000x1x128.size a := fun v475 k0_hw47 => k0_hw47

def k0_off64 (v482 : BitVec 32) : Fin 3 → Nat :=
  let v483 : Index := Scalar.indexCast v482
  let c0_297 : Index := 0#32
  let c0_298 : Index := 0#32
  ![v483.toNat, 0, 0]

def k0_chk48 (v482 : BitVec 32) : Prop :=
  (∀ a, (k0_off64 v482) a + S1x1x128.size a ≤ S100000x1x128.size a)
theorem k0_off64_inb : ∀ (v482 : BitVec 32) (k0_hw48 : k0_chk48 v482), ∀ a, (k0_off64 v482) a + S1x1x128.size a ≤ S100000x1x128.size a := fun v482 k0_hw48 => k0_hw48

def k0_off65 (v489 : BitVec 32) : Fin 3 → Nat :=
  let v490 : Index := Scalar.indexCast v489
  let c0_302 : Index := 0#32
  let c0_303 : Index := 0#32
  ![v490.toNat, 0, 0]

def k0_chk49 (v489 : BitVec 32) : Prop :=
  (∀ a, (k0_off65 v489) a + S1x1x128.size a ≤ S100000x1x128.size a)
theorem k0_off65_inb : ∀ (v489 : BitVec 32) (k0_hw49 : k0_chk49 v489), ∀ a, (k0_off65 v489) a + S1x1x128.size a ≤ S100000x1x128.size a := fun v489 k0_hw49 => k0_hw49

def k0_off66 (v496 : BitVec 32) : Fin 3 → Nat :=
  let v497 : Index := Scalar.indexCast v496
  let c0_307 : Index := 0#32
  let c0_308 : Index := 0#32
  ![v497.toNat, 0, 0]

def k0_chk50 (v496 : BitVec 32) : Prop :=
  (∀ a, (k0_off66 v496) a + S1x1x128.size a ≤ S100000x1x128.size a)
theorem k0_off66_inb : ∀ (v496 : BitVec 32) (k0_hw50 : k0_chk50 v496), ∀ a, (k0_off66 v496) a + S1x1x128.size a ≤ S100000x1x128.size a := fun v496 k0_hw50 => k0_hw50

def k0_off67 (v503 : BitVec 32) : Fin 3 → Nat :=
  let v504 : Index := Scalar.indexCast v503
  let c0_312 : Index := 0#32
  let c0_313 : Index := 0#32
  ![v504.toNat, 0, 0]

def k0_chk51 (v503 : BitVec 32) : Prop :=
  (∀ a, (k0_off67 v503) a + S1x1x128.size a ≤ S100000x1x128.size a)
theorem k0_off67_inb : ∀ (v503 : BitVec 32) (k0_hw51 : k0_chk51 v503), ∀ a, (k0_off67 v503) a + S1x1x128.size a ≤ S100000x1x128.size a := fun v503 k0_hw51 => k0_hw51

def k0_off68 (v510 : BitVec 32) : Fin 3 → Nat :=
  let v511 : Index := Scalar.indexCast v510
  let c0_317 : Index := 0#32
  let c0_318 : Index := 0#32
  ![v511.toNat, 0, 0]

def k0_chk52 (v510 : BitVec 32) : Prop :=
  (∀ a, (k0_off68 v510) a + S1x1x128.size a ≤ S100000x1x128.size a)
theorem k0_off68_inb : ∀ (v510 : BitVec 32) (k0_hw52 : k0_chk52 v510), ∀ a, (k0_off68 v510) a + S1x1x128.size a ≤ S100000x1x128.size a := fun v510 k0_hw52 => k0_hw52

def k0_off69 (v517 : BitVec 32) : Fin 3 → Nat :=
  let v518 : Index := Scalar.indexCast v517
  let c0_322 : Index := 0#32
  let c0_323 : Index := 0#32
  ![v518.toNat, 0, 0]

def k0_chk53 (v517 : BitVec 32) : Prop :=
  (∀ a, (k0_off69 v517) a + S1x1x128.size a ≤ S100000x1x128.size a)
theorem k0_off69_inb : ∀ (v517 : BitVec 32) (k0_hw53 : k0_chk53 v517), ∀ a, (k0_off69 v517) a + S1x1x128.size a ≤ S100000x1x128.size a := fun v517 k0_hw53 => k0_hw53

def k0_off70 (v524 : BitVec 32) : Fin 3 → Nat :=
  let v525 : Index := Scalar.indexCast v524
  let c0_327 : Index := 0#32
  let c0_328 : Index := 0#32
  ![v525.toNat, 0, 0]

def k0_chk54 (v524 : BitVec 32) : Prop :=
  (∀ a, (k0_off70 v524) a + S1x1x128.size a ≤ S100000x1x128.size a)
theorem k0_off70_inb : ∀ (v524 : BitVec 32) (k0_hw54 : k0_chk54 v524), ∀ a, (k0_off70 v524) a + S1x1x128.size a ≤ S100000x1x128.size a := fun v524 k0_hw54 => k0_hw54

def k0_off71 (v531 : BitVec 32) : Fin 3 → Nat :=
  let v532 : Index := Scalar.indexCast v531
  let c0_332 : Index := 0#32
  let c0_333 : Index := 0#32
  ![v532.toNat, 0, 0]

def k0_chk55 (v531 : BitVec 32) : Prop :=
  (∀ a, (k0_off71 v531) a + S1x1x128.size a ≤ S100000x1x128.size a)
theorem k0_off71_inb : ∀ (v531 : BitVec 32) (k0_hw55 : k0_chk55 v531), ∀ a, (k0_off71 v531) a + S1x1x128.size a ≤ S100000x1x128.size a := fun v531 k0_hw55 => k0_hw55

def k0_off72 (v538 : BitVec 32) : Fin 3 → Nat :=
  let v539 : Index := Scalar.indexCast v538
  let c0_337 : Index := 0#32
  let c0_338 : Index := 0#32
  ![v539.toNat, 0, 0]

def k0_chk56 (v538 : BitVec 32) : Prop :=
  (∀ a, (k0_off72 v538) a + S1x1x128.size a ≤ S100000x1x128.size a)
theorem k0_off72_inb : ∀ (v538 : BitVec 32) (k0_hw56 : k0_chk56 v538), ∀ a, (k0_off72 v538) a + S1x1x128.size a ≤ S100000x1x128.size a := fun v538 k0_hw56 => k0_hw56

def k0_off73 (v545 : BitVec 32) : Fin 3 → Nat :=
  let v546 : Index := Scalar.indexCast v545
  let c0_342 : Index := 0#32
  let c0_343 : Index := 0#32
  ![v546.toNat, 0, 0]

def k0_chk57 (v545 : BitVec 32) : Prop :=
  (∀ a, (k0_off73 v545) a + S1x1x128.size a ≤ S100000x1x128.size a)
theorem k0_off73_inb : ∀ (v545 : BitVec 32) (k0_hw57 : k0_chk57 v545), ∀ a, (k0_off73 v545) a + S1x1x128.size a ≤ S100000x1x128.size a := fun v545 k0_hw57 => k0_hw57

def k0_off74 (v552 : BitVec 32) : Fin 3 → Nat :=
  let v553 : Index := Scalar.indexCast v552
  let c0_347 : Index := 0#32
  let c0_348 : Index := 0#32
  ![v553.toNat, 0, 0]

def k0_chk58 (v552 : BitVec 32) : Prop :=
  (∀ a, (k0_off74 v552) a + S1x1x128.size a ≤ S100000x1x128.size a)
theorem k0_off74_inb : ∀ (v552 : BitVec 32) (k0_hw58 : k0_chk58 v552), ∀ a, (k0_off74 v552) a + S1x1x128.size a ≤ S100000x1x128.size a := fun v552 k0_hw58 => k0_hw58

def k0_off75 (v559 : BitVec 32) : Fin 3 → Nat :=
  let v560 : Index := Scalar.indexCast v559
  let c0_352 : Index := 0#32
  let c0_353 : Index := 0#32
  ![v560.toNat, 0, 0]

def k0_chk59 (v559 : BitVec 32) : Prop :=
  (∀ a, (k0_off75 v559) a + S1x1x128.size a ≤ S100000x1x128.size a)
theorem k0_off75_inb : ∀ (v559 : BitVec 32) (k0_hw59 : k0_chk59 v559), ∀ a, (k0_off75 v559) a + S1x1x128.size a ≤ S100000x1x128.size a := fun v559 k0_hw59 => k0_hw59

def k0_off76 (v566 : BitVec 32) : Fin 3 → Nat :=
  let v567 : Index := Scalar.indexCast v566
  let c0_357 : Index := 0#32
  let c0_358 : Index := 0#32
  ![v567.toNat, 0, 0]

def k0_chk60 (v566 : BitVec 32) : Prop :=
  (∀ a, (k0_off76 v566) a + S1x1x128.size a ≤ S100000x1x128.size a)
theorem k0_off76_inb : ∀ (v566 : BitVec 32) (k0_hw60 : k0_chk60 v566), ∀ a, (k0_off76 v566) a + S1x1x128.size a ≤ S100000x1x128.size a := fun v566 k0_hw60 => k0_hw60

def k0_off77 (v573 : BitVec 32) : Fin 3 → Nat :=
  let v574 : Index := Scalar.indexCast v573
  let c0_362 : Index := 0#32
  let c0_363 : Index := 0#32
  ![v574.toNat, 0, 0]

def k0_chk61 (v573 : BitVec 32) : Prop :=
  (∀ a, (k0_off77 v573) a + S1x1x128.size a ≤ S100000x1x128.size a)
theorem k0_off77_inb : ∀ (v573 : BitVec 32) (k0_hw61 : k0_chk61 v573), ∀ a, (k0_off77 v573) a + S1x1x128.size a ≤ S100000x1x128.size a := fun v573 k0_hw61 => k0_hw61

def k0_off78 (v580 : BitVec 32) : Fin 3 → Nat :=
  let v581 : Index := Scalar.indexCast v580
  let c0_367 : Index := 0#32
  let c0_368 : Index := 0#32
  ![v581.toNat, 0, 0]

def k0_chk62 (v580 : BitVec 32) : Prop :=
  (∀ a, (k0_off78 v580) a + S1x1x128.size a ≤ S100000x1x128.size a)
theorem k0_off78_inb : ∀ (v580 : BitVec 32) (k0_hw62 : k0_chk62 v580), ∀ a, (k0_off78 v580) a + S1x1x128.size a ≤ S100000x1x128.size a := fun v580 k0_hw62 => k0_hw62

def k0_off79 (v587 : BitVec 32) : Fin 3 → Nat :=
  let v588 : Index := Scalar.indexCast v587
  let c0_372 : Index := 0#32
  let c0_373 : Index := 0#32
  ![v588.toNat, 0, 0]

def k0_chk63 (v587 : BitVec 32) : Prop :=
  (∀ a, (k0_off79 v587) a + S1x1x128.size a ≤ S100000x1x128.size a)
theorem k0_off79_inb : ∀ (v587 : BitVec 32) (k0_hw63 : k0_chk63 v587), ∀ a, (k0_off79 v587) a + S1x1x128.size a ≤ S100000x1x128.size a := fun v587 k0_hw63 => k0_hw63

def k0_off80 (v594 : BitVec 32) : Fin 3 → Nat :=
  let v595 : Index := Scalar.indexCast v594
  let c0_377 : Index := 0#32
  let c0_378 : Index := 0#32
  ![v595.toNat, 0, 0]

def k0_chk64 (v594 : BitVec 32) : Prop :=
  (∀ a, (k0_off80 v594) a + S1x1x128.size a ≤ S100000x1x128.size a)
theorem k0_off80_inb : ∀ (v594 : BitVec 32) (k0_hw64 : k0_chk64 v594), ∀ a, (k0_off80 v594) a + S1x1x128.size a ≤ S100000x1x128.size a := fun v594 k0_hw64 => k0_hw64

def k0_off81 (v601 : BitVec 32) : Fin 3 → Nat :=
  let v602 : Index := Scalar.indexCast v601
  let c0_382 : Index := 0#32
  let c0_383 : Index := 0#32
  ![v602.toNat, 0, 0]

def k0_chk65 (v601 : BitVec 32) : Prop :=
  (∀ a, (k0_off81 v601) a + S1x1x128.size a ≤ S100000x1x128.size a)
theorem k0_off81_inb : ∀ (v601 : BitVec 32) (k0_hw65 : k0_chk65 v601), ∀ a, (k0_off81 v601) a + S1x1x128.size a ≤ S100000x1x128.size a := fun v601 k0_hw65 => k0_hw65

def k0_off82 (v608 : BitVec 32) : Fin 3 → Nat :=
  let v609 : Index := Scalar.indexCast v608
  let c0_387 : Index := 0#32
  let c0_388 : Index := 0#32
  ![v609.toNat, 0, 0]

def k0_chk66 (v608 : BitVec 32) : Prop :=
  (∀ a, (k0_off82 v608) a + S1x1x128.size a ≤ S100000x1x128.size a)
theorem k0_off82_inb : ∀ (v608 : BitVec 32) (k0_hw66 : k0_chk66 v608), ∀ a, (k0_off82 v608) a + S1x1x128.size a ≤ S100000x1x128.size a := fun v608 k0_hw66 => k0_hw66

def k0_off83 (v615 : BitVec 32) : Fin 3 → Nat :=
  let v616 : Index := Scalar.indexCast v615
  let c0_392 : Index := 0#32
  let c0_393 : Index := 0#32
  ![v616.toNat, 0, 0]

def k0_chk67 (v615 : BitVec 32) : Prop :=
  (∀ a, (k0_off83 v615) a + S1x1x128.size a ≤ S100000x1x128.size a)
theorem k0_off83_inb : ∀ (v615 : BitVec 32) (k0_hw67 : k0_chk67 v615), ∀ a, (k0_off83 v615) a + S1x1x128.size a ≤ S100000x1x128.size a := fun v615 k0_hw67 => k0_hw67

def k0_off84 (v622 : BitVec 32) : Fin 3 → Nat :=
  let v623 : Index := Scalar.indexCast v622
  let c0_397 : Index := 0#32
  let c0_398 : Index := 0#32
  ![v623.toNat, 0, 0]

def k0_chk68 (v622 : BitVec 32) : Prop :=
  (∀ a, (k0_off84 v622) a + S1x1x128.size a ≤ S100000x1x128.size a)
theorem k0_off84_inb : ∀ (v622 : BitVec 32) (k0_hw68 : k0_chk68 v622), ∀ a, (k0_off84 v622) a + S1x1x128.size a ≤ S100000x1x128.size a := fun v622 k0_hw68 => k0_hw68

def k0_off85 (v629 : BitVec 32) : Fin 3 → Nat :=
  let v630 : Index := Scalar.indexCast v629
  let c0_402 : Index := 0#32
  let c0_403 : Index := 0#32
  ![v630.toNat, 0, 0]

def k0_chk69 (v629 : BitVec 32) : Prop :=
  (∀ a, (k0_off85 v629) a + S1x1x128.size a ≤ S100000x1x128.size a)
theorem k0_off85_inb : ∀ (v629 : BitVec 32) (k0_hw69 : k0_chk69 v629), ∀ a, (k0_off85 v629) a + S1x1x128.size a ≤ S100000x1x128.size a := fun v629 k0_hw69 => k0_hw69

def k0_off86 (v636 : BitVec 32) : Fin 3 → Nat :=
  let v637 : Index := Scalar.indexCast v636
  let c0_407 : Index := 0#32
  let c0_408 : Index := 0#32
  ![v637.toNat, 0, 0]

def k0_chk70 (v636 : BitVec 32) : Prop :=
  (∀ a, (k0_off86 v636) a + S1x1x128.size a ≤ S100000x1x128.size a)
theorem k0_off86_inb : ∀ (v636 : BitVec 32) (k0_hw70 : k0_chk70 v636), ∀ a, (k0_off86 v636) a + S1x1x128.size a ≤ S100000x1x128.size a := fun v636 k0_hw70 => k0_hw70

def k0_off87 (v643 : BitVec 32) : Fin 3 → Nat :=
  let v644 : Index := Scalar.indexCast v643
  let c0_412 : Index := 0#32
  let c0_413 : Index := 0#32
  ![v644.toNat, 0, 0]

def k0_chk71 (v643 : BitVec 32) : Prop :=
  (∀ a, (k0_off87 v643) a + S1x1x128.size a ≤ S100000x1x128.size a)
theorem k0_off87_inb : ∀ (v643 : BitVec 32) (k0_hw71 : k0_chk71 v643), ∀ a, (k0_off87 v643) a + S1x1x128.size a ≤ S100000x1x128.size a := fun v643 k0_hw71 => k0_hw71

def k0_off88 (v650 : BitVec 32) : Fin 3 → Nat :=
  let v651 : Index := Scalar.indexCast v650
  let c0_417 : Index := 0#32
  let c0_418 : Index := 0#32
  ![v651.toNat, 0, 0]

def k0_chk72 (v650 : BitVec 32) : Prop :=
  (∀ a, (k0_off88 v650) a + S1x1x128.size a ≤ S100000x1x128.size a)
theorem k0_off88_inb : ∀ (v650 : BitVec 32) (k0_hw72 : k0_chk72 v650), ∀ a, (k0_off88 v650) a + S1x1x128.size a ≤ S100000x1x128.size a := fun v650 k0_hw72 => k0_hw72

def k0_off89 (v657 : BitVec 32) : Fin 3 → Nat :=
  let v658 : Index := Scalar.indexCast v657
  let c0_422 : Index := 0#32
  let c0_423 : Index := 0#32
  ![v658.toNat, 0, 0]

def k0_chk73 (v657 : BitVec 32) : Prop :=
  (∀ a, (k0_off89 v657) a + S1x1x128.size a ≤ S100000x1x128.size a)
theorem k0_off89_inb : ∀ (v657 : BitVec 32) (k0_hw73 : k0_chk73 v657), ∀ a, (k0_off89 v657) a + S1x1x128.size a ≤ S100000x1x128.size a := fun v657 k0_hw73 => k0_hw73

def k0_off90 (v664 : BitVec 32) : Fin 3 → Nat :=
  let v665 : Index := Scalar.indexCast v664
  let c0_427 : Index := 0#32
  let c0_428 : Index := 0#32
  ![v665.toNat, 0, 0]

def k0_chk74 (v664 : BitVec 32) : Prop :=
  (∀ a, (k0_off90 v664) a + S1x1x128.size a ≤ S100000x1x128.size a)
theorem k0_off90_inb : ∀ (v664 : BitVec 32) (k0_hw74 : k0_chk74 v664), ∀ a, (k0_off90 v664) a + S1x1x128.size a ≤ S100000x1x128.size a := fun v664 k0_hw74 => k0_hw74

def k0_off91 (v671 : BitVec 32) : Fin 3 → Nat :=
  let v672 : Index := Scalar.indexCast v671
  let c0_432 : Index := 0#32
  let c0_433 : Index := 0#32
  ![v672.toNat, 0, 0]

def k0_chk75 (v671 : BitVec 32) : Prop :=
  (∀ a, (k0_off91 v671) a + S1x1x128.size a ≤ S100000x1x128.size a)
theorem k0_off91_inb : ∀ (v671 : BitVec 32) (k0_hw75 : k0_chk75 v671), ∀ a, (k0_off91 v671) a + S1x1x128.size a ≤ S100000x1x128.size a := fun v671 k0_hw75 => k0_hw75

def k0_off92 (v678 : BitVec 32) : Fin 3 → Nat :=
  let v679 : Index := Scalar.indexCast v678
  let c0_437 : Index := 0#32
  let c0_438 : Index := 0#32
  ![v679.toNat, 0, 0]

def k0_chk76 (v678 : BitVec 32) : Prop :=
  (∀ a, (k0_off92 v678) a + S1x1x128.size a ≤ S100000x1x128.size a)
theorem k0_off92_inb : ∀ (v678 : BitVec 32) (k0_hw76 : k0_chk76 v678), ∀ a, (k0_off92 v678) a + S1x1x128.size a ≤ S100000x1x128.size a := fun v678 k0_hw76 => k0_hw76

def k0_off93 (v685 : BitVec 32) : Fin 3 → Nat :=
  let v686 : Index := Scalar.indexCast v685
  let c0_442 : Index := 0#32
  let c0_443 : Index := 0#32
  ![v686.toNat, 0, 0]

def k0_chk77 (v685 : BitVec 32) : Prop :=
  (∀ a, (k0_off93 v685) a + S1x1x128.size a ≤ S100000x1x128.size a)
theorem k0_off93_inb : ∀ (v685 : BitVec 32) (k0_hw77 : k0_chk77 v685), ∀ a, (k0_off93 v685) a + S1x1x128.size a ≤ S100000x1x128.size a := fun v685 k0_hw77 => k0_hw77

def k0_off94 (v692 : BitVec 32) : Fin 3 → Nat :=
  let v693 : Index := Scalar.indexCast v692
  let c0_447 : Index := 0#32
  let c0_448 : Index := 0#32
  ![v693.toNat, 0, 0]

def k0_chk78 (v692 : BitVec 32) : Prop :=
  (∀ a, (k0_off94 v692) a + S1x1x128.size a ≤ S100000x1x128.size a)
theorem k0_off94_inb : ∀ (v692 : BitVec 32) (k0_hw78 : k0_chk78 v692), ∀ a, (k0_off94 v692) a + S1x1x128.size a ≤ S100000x1x128.size a := fun v692 k0_hw78 => k0_hw78

def k0_off95 (v699 : BitVec 32) : Fin 3 → Nat :=
  let v700 : Index := Scalar.indexCast v699
  let c0_452 : Index := 0#32
  let c0_453 : Index := 0#32
  ![v700.toNat, 0, 0]

def k0_chk79 (v699 : BitVec 32) : Prop :=
  (∀ a, (k0_off95 v699) a + S1x1x128.size a ≤ S100000x1x128.size a)
theorem k0_off95_inb : ∀ (v699 : BitVec 32) (k0_hw79 : k0_chk79 v699), ∀ a, (k0_off95 v699) a + S1x1x128.size a ≤ S100000x1x128.size a := fun v699 k0_hw79 => k0_hw79

def k0_off96 (v706 : BitVec 32) : Fin 3 → Nat :=
  let v707 : Index := Scalar.indexCast v706
  let c0_457 : Index := 0#32
  let c0_458 : Index := 0#32
  ![v707.toNat, 0, 0]

def k0_chk80 (v706 : BitVec 32) : Prop :=
  (∀ a, (k0_off96 v706) a + S1x1x128.size a ≤ S100000x1x128.size a)
theorem k0_off96_inb : ∀ (v706 : BitVec 32) (k0_hw80 : k0_chk80 v706), ∀ a, (k0_off96 v706) a + S1x1x128.size a ≤ S100000x1x128.size a := fun v706 k0_hw80 => k0_hw80

def k0_off97 (v713 : BitVec 32) : Fin 3 → Nat :=
  let v714 : Index := Scalar.indexCast v713
  let c0_462 : Index := 0#32
  let c0_463 : Index := 0#32
  ![v714.toNat, 0, 0]

def k0_chk81 (v713 : BitVec 32) : Prop :=
  (∀ a, (k0_off97 v713) a + S1x1x128.size a ≤ S100000x1x128.size a)
theorem k0_off97_inb : ∀ (v713 : BitVec 32) (k0_hw81 : k0_chk81 v713), ∀ a, (k0_off97 v713) a + S1x1x128.size a ≤ S100000x1x128.size a := fun v713 k0_hw81 => k0_hw81

def k0_off98 (v720 : BitVec 32) : Fin 3 → Nat :=
  let v721 : Index := Scalar.indexCast v720
  let c0_467 : Index := 0#32
  let c0_468 : Index := 0#32
  ![v721.toNat, 0, 0]

def k0_chk82 (v720 : BitVec 32) : Prop :=
  (∀ a, (k0_off98 v720) a + S1x1x128.size a ≤ S100000x1x128.size a)
theorem k0_off98_inb : ∀ (v720 : BitVec 32) (k0_hw82 : k0_chk82 v720), ∀ a, (k0_off98 v720) a + S1x1x128.size a ≤ S100000x1x128.size a := fun v720 k0_hw82 => k0_hw82

def k0_off99 (v727 : BitVec 32) : Fin 3 → Nat :=
  let v728 : Index := Scalar.indexCast v727
  let c0_472 : Index := 0#32
  let c0_473 : Index := 0#32
  ![v728.toNat, 0, 0]

def k0_chk83 (v727 : BitVec 32) : Prop :=
  (∀ a, (k0_off99 v727) a + S1x1x128.size a ≤ S100000x1x128.size a)
theorem k0_off99_inb : ∀ (v727 : BitVec 32) (k0_hw83 : k0_chk83 v727), ∀ a, (k0_off99 v727) a + S1x1x128.size a ≤ S100000x1x128.size a := fun v727 k0_hw83 => k0_hw83

def k0_off100 (v734 : BitVec 32) : Fin 3 → Nat :=
  let v735 : Index := Scalar.indexCast v734
  let c0_477 : Index := 0#32
  let c0_478 : Index := 0#32
  ![v735.toNat, 0, 0]

def k0_chk84 (v734 : BitVec 32) : Prop :=
  (∀ a, (k0_off100 v734) a + S1x1x128.size a ≤ S100000x1x128.size a)
theorem k0_off100_inb : ∀ (v734 : BitVec 32) (k0_hw84 : k0_chk84 v734), ∀ a, (k0_off100 v734) a + S1x1x128.size a ≤ S100000x1x128.size a := fun v734 k0_hw84 => k0_hw84

def k0_off101 (v741 : BitVec 32) : Fin 3 → Nat :=
  let v742 : Index := Scalar.indexCast v741
  let c0_482 : Index := 0#32
  let c0_483 : Index := 0#32
  ![v742.toNat, 0, 0]

def k0_chk85 (v741 : BitVec 32) : Prop :=
  (∀ a, (k0_off101 v741) a + S1x1x128.size a ≤ S100000x1x128.size a)
theorem k0_off101_inb : ∀ (v741 : BitVec 32) (k0_hw85 : k0_chk85 v741), ∀ a, (k0_off101 v741) a + S1x1x128.size a ≤ S100000x1x128.size a := fun v741 k0_hw85 => k0_hw85

def k0_off102 (v748 : BitVec 32) : Fin 3 → Nat :=
  let v749 : Index := Scalar.indexCast v748
  let c0_487 : Index := 0#32
  let c0_488 : Index := 0#32
  ![v749.toNat, 0, 0]

def k0_chk86 (v748 : BitVec 32) : Prop :=
  (∀ a, (k0_off102 v748) a + S1x1x128.size a ≤ S100000x1x128.size a)
theorem k0_off102_inb : ∀ (v748 : BitVec 32) (k0_hw86 : k0_chk86 v748), ∀ a, (k0_off102 v748) a + S1x1x128.size a ≤ S100000x1x128.size a := fun v748 k0_hw86 => k0_hw86

def k0_off103 (v755 : BitVec 32) : Fin 3 → Nat :=
  let v756 : Index := Scalar.indexCast v755
  let c0_492 : Index := 0#32
  let c0_493 : Index := 0#32
  ![v756.toNat, 0, 0]

def k0_chk87 (v755 : BitVec 32) : Prop :=
  (∀ a, (k0_off103 v755) a + S1x1x128.size a ≤ S100000x1x128.size a)
theorem k0_off103_inb : ∀ (v755 : BitVec 32) (k0_hw87 : k0_chk87 v755), ∀ a, (k0_off103 v755) a + S1x1x128.size a ≤ S100000x1x128.size a := fun v755 k0_hw87 => k0_hw87

def k0_off104 (v762 : BitVec 32) : Fin 3 → Nat :=
  let v763 : Index := Scalar.indexCast v762
  let c0_497 : Index := 0#32
  let c0_498 : Index := 0#32
  ![v763.toNat, 0, 0]

def k0_chk88 (v762 : BitVec 32) : Prop :=
  (∀ a, (k0_off104 v762) a + S1x1x128.size a ≤ S100000x1x128.size a)
theorem k0_off104_inb : ∀ (v762 : BitVec 32) (k0_hw88 : k0_chk88 v762), ∀ a, (k0_off104 v762) a + S1x1x128.size a ≤ S100000x1x128.size a := fun v762 k0_hw88 => k0_hw88

def k0_off105 (v769 : BitVec 32) : Fin 3 → Nat :=
  let v770 : Index := Scalar.indexCast v769
  let c0_502 : Index := 0#32
  let c0_503 : Index := 0#32
  ![v770.toNat, 0, 0]

def k0_chk89 (v769 : BitVec 32) : Prop :=
  (∀ a, (k0_off105 v769) a + S1x1x128.size a ≤ S100000x1x128.size a)
theorem k0_off105_inb : ∀ (v769 : BitVec 32) (k0_hw89 : k0_chk89 v769), ∀ a, (k0_off105 v769) a + S1x1x128.size a ≤ S100000x1x128.size a := fun v769 k0_hw89 => k0_hw89

def k0_off106 (v776 : BitVec 32) : Fin 3 → Nat :=
  let v777 : Index := Scalar.indexCast v776
  let c0_507 : Index := 0#32
  let c0_508 : Index := 0#32
  ![v777.toNat, 0, 0]

def k0_chk90 (v776 : BitVec 32) : Prop :=
  (∀ a, (k0_off106 v776) a + S1x1x128.size a ≤ S100000x1x128.size a)
theorem k0_off106_inb : ∀ (v776 : BitVec 32) (k0_hw90 : k0_chk90 v776), ∀ a, (k0_off106 v776) a + S1x1x128.size a ≤ S100000x1x128.size a := fun v776 k0_hw90 => k0_hw90

def k0_off107 (v783 : BitVec 32) : Fin 3 → Nat :=
  let v784 : Index := Scalar.indexCast v783
  let c0_512 : Index := 0#32
  let c0_513 : Index := 0#32
  ![v784.toNat, 0, 0]

def k0_chk91 (v783 : BitVec 32) : Prop :=
  (∀ a, (k0_off107 v783) a + S1x1x128.size a ≤ S100000x1x128.size a)
theorem k0_off107_inb : ∀ (v783 : BitVec 32) (k0_hw91 : k0_chk91 v783), ∀ a, (k0_off107 v783) a + S1x1x128.size a ≤ S100000x1x128.size a := fun v783 k0_hw91 => k0_hw91

def k0_off108 (v790 : BitVec 32) : Fin 3 → Nat :=
  let v791 : Index := Scalar.indexCast v790
  let c0_517 : Index := 0#32
  let c0_518 : Index := 0#32
  ![v791.toNat, 0, 0]

def k0_chk92 (v790 : BitVec 32) : Prop :=
  (∀ a, (k0_off108 v790) a + S1x1x128.size a ≤ S100000x1x128.size a)
theorem k0_off108_inb : ∀ (v790 : BitVec 32) (k0_hw92 : k0_chk92 v790), ∀ a, (k0_off108 v790) a + S1x1x128.size a ≤ S100000x1x128.size a := fun v790 k0_hw92 => k0_hw92

def k0_off109 (v797 : BitVec 32) : Fin 3 → Nat :=
  let v798 : Index := Scalar.indexCast v797
  let c0_522 : Index := 0#32
  let c0_523 : Index := 0#32
  ![v798.toNat, 0, 0]

def k0_chk93 (v797 : BitVec 32) : Prop :=
  (∀ a, (k0_off109 v797) a + S1x1x128.size a ≤ S100000x1x128.size a)
theorem k0_off109_inb : ∀ (v797 : BitVec 32) (k0_hw93 : k0_chk93 v797), ∀ a, (k0_off109 v797) a + S1x1x128.size a ≤ S100000x1x128.size a := fun v797 k0_hw93 => k0_hw93

def k0_off110 (v804 : BitVec 32) : Fin 3 → Nat :=
  let v805 : Index := Scalar.indexCast v804
  let c0_527 : Index := 0#32
  let c0_528 : Index := 0#32
  ![v805.toNat, 0, 0]

def k0_chk94 (v804 : BitVec 32) : Prop :=
  (∀ a, (k0_off110 v804) a + S1x1x128.size a ≤ S100000x1x128.size a)
theorem k0_off110_inb : ∀ (v804 : BitVec 32) (k0_hw94 : k0_chk94 v804), ∀ a, (k0_off110 v804) a + S1x1x128.size a ≤ S100000x1x128.size a := fun v804 k0_hw94 => k0_hw94

def k0_off111 (v811 : BitVec 32) : Fin 3 → Nat :=
  let v812 : Index := Scalar.indexCast v811
  let c0_532 : Index := 0#32
  let c0_533 : Index := 0#32
  ![v812.toNat, 0, 0]

def k0_chk95 (v811 : BitVec 32) : Prop :=
  (∀ a, (k0_off111 v811) a + S1x1x128.size a ≤ S100000x1x128.size a)
theorem k0_off111_inb : ∀ (v811 : BitVec 32) (k0_hw95 : k0_chk95 v811), ∀ a, (k0_off111 v811) a + S1x1x128.size a ≤ S100000x1x128.size a := fun v811 k0_hw95 => k0_hw95

def k0_off112 (v818 : BitVec 32) : Fin 3 → Nat :=
  let v819 : Index := Scalar.indexCast v818
  let c0_537 : Index := 0#32
  let c0_538 : Index := 0#32
  ![v819.toNat, 0, 0]

def k0_chk96 (v818 : BitVec 32) : Prop :=
  (∀ a, (k0_off112 v818) a + S1x1x128.size a ≤ S100000x1x128.size a)
theorem k0_off112_inb : ∀ (v818 : BitVec 32) (k0_hw96 : k0_chk96 v818), ∀ a, (k0_off112 v818) a + S1x1x128.size a ≤ S100000x1x128.size a := fun v818 k0_hw96 => k0_hw96

def k0_off113 (v825 : BitVec 32) : Fin 3 → Nat :=
  let v826 : Index := Scalar.indexCast v825
  let c0_542 : Index := 0#32
  let c0_543 : Index := 0#32
  ![v826.toNat, 0, 0]

def k0_chk97 (v825 : BitVec 32) : Prop :=
  (∀ a, (k0_off113 v825) a + S1x1x128.size a ≤ S100000x1x128.size a)
theorem k0_off113_inb : ∀ (v825 : BitVec 32) (k0_hw97 : k0_chk97 v825), ∀ a, (k0_off113 v825) a + S1x1x128.size a ≤ S100000x1x128.size a := fun v825 k0_hw97 => k0_hw97

def k0_off114 (v832 : BitVec 32) : Fin 3 → Nat :=
  let v833 : Index := Scalar.indexCast v832
  let c0_547 : Index := 0#32
  let c0_548 : Index := 0#32
  ![v833.toNat, 0, 0]

def k0_chk98 (v832 : BitVec 32) : Prop :=
  (∀ a, (k0_off114 v832) a + S1x1x128.size a ≤ S100000x1x128.size a)
theorem k0_off114_inb : ∀ (v832 : BitVec 32) (k0_hw98 : k0_chk98 v832), ∀ a, (k0_off114 v832) a + S1x1x128.size a ≤ S100000x1x128.size a := fun v832 k0_hw98 => k0_hw98

def k0_off115 (v839 : BitVec 32) : Fin 3 → Nat :=
  let v840 : Index := Scalar.indexCast v839
  let c0_552 : Index := 0#32
  let c0_553 : Index := 0#32
  ![v840.toNat, 0, 0]

def k0_chk99 (v839 : BitVec 32) : Prop :=
  (∀ a, (k0_off115 v839) a + S1x1x128.size a ≤ S100000x1x128.size a)
theorem k0_off115_inb : ∀ (v839 : BitVec 32) (k0_hw99 : k0_chk99 v839), ∀ a, (k0_off115 v839) a + S1x1x128.size a ≤ S100000x1x128.size a := fun v839 k0_hw99 => k0_hw99

def k0_off116 (v846 : BitVec 32) : Fin 3 → Nat :=
  let v847 : Index := Scalar.indexCast v846
  let c0_557 : Index := 0#32
  let c0_558 : Index := 0#32
  ![v847.toNat, 0, 0]

def k0_chk100 (v846 : BitVec 32) : Prop :=
  (∀ a, (k0_off116 v846) a + S1x1x128.size a ≤ S100000x1x128.size a)
theorem k0_off116_inb : ∀ (v846 : BitVec 32) (k0_hw100 : k0_chk100 v846), ∀ a, (k0_off116 v846) a + S1x1x128.size a ≤ S100000x1x128.size a := fun v846 k0_hw100 => k0_hw100

def k0_off117 (v853 : BitVec 32) : Fin 3 → Nat :=
  let v854 : Index := Scalar.indexCast v853
  let c0_562 : Index := 0#32
  let c0_563 : Index := 0#32
  ![v854.toNat, 0, 0]

def k0_chk101 (v853 : BitVec 32) : Prop :=
  (∀ a, (k0_off117 v853) a + S1x1x128.size a ≤ S100000x1x128.size a)
theorem k0_off117_inb : ∀ (v853 : BitVec 32) (k0_hw101 : k0_chk101 v853), ∀ a, (k0_off117 v853) a + S1x1x128.size a ≤ S100000x1x128.size a := fun v853 k0_hw101 => k0_hw101

def k0_off118 (v860 : BitVec 32) : Fin 3 → Nat :=
  let v861 : Index := Scalar.indexCast v860
  let c0_567 : Index := 0#32
  let c0_568 : Index := 0#32
  ![v861.toNat, 0, 0]

def k0_chk102 (v860 : BitVec 32) : Prop :=
  (∀ a, (k0_off118 v860) a + S1x1x128.size a ≤ S100000x1x128.size a)
theorem k0_off118_inb : ∀ (v860 : BitVec 32) (k0_hw102 : k0_chk102 v860), ∀ a, (k0_off118 v860) a + S1x1x128.size a ≤ S100000x1x128.size a := fun v860 k0_hw102 => k0_hw102

def k0_off119 (v867 : BitVec 32) : Fin 3 → Nat :=
  let v868 : Index := Scalar.indexCast v867
  let c0_572 : Index := 0#32
  let c0_573 : Index := 0#32
  ![v868.toNat, 0, 0]

def k0_chk103 (v867 : BitVec 32) : Prop :=
  (∀ a, (k0_off119 v867) a + S1x1x128.size a ≤ S100000x1x128.size a)
theorem k0_off119_inb : ∀ (v867 : BitVec 32) (k0_hw103 : k0_chk103 v867), ∀ a, (k0_off119 v867) a + S1x1x128.size a ≤ S100000x1x128.size a := fun v867 k0_hw103 => k0_hw103

def k0_off120 (v874 : BitVec 32) : Fin 3 → Nat :=
  let v875 : Index := Scalar.indexCast v874
  let c0_577 : Index := 0#32
  let c0_578 : Index := 0#32
  ![v875.toNat, 0, 0]

def k0_chk104 (v874 : BitVec 32) : Prop :=
  (∀ a, (k0_off120 v874) a + S1x1x128.size a ≤ S100000x1x128.size a)
theorem k0_off120_inb : ∀ (v874 : BitVec 32) (k0_hw104 : k0_chk104 v874), ∀ a, (k0_off120 v874) a + S1x1x128.size a ≤ S100000x1x128.size a := fun v874 k0_hw104 => k0_hw104

def k0_off121 (v881 : BitVec 32) : Fin 3 → Nat :=
  let v882 : Index := Scalar.indexCast v881
  let c0_582 : Index := 0#32
  let c0_583 : Index := 0#32
  ![v882.toNat, 0, 0]

def k0_chk105 (v881 : BitVec 32) : Prop :=
  (∀ a, (k0_off121 v881) a + S1x1x128.size a ≤ S100000x1x128.size a)
theorem k0_off121_inb : ∀ (v881 : BitVec 32) (k0_hw105 : k0_chk105 v881), ∀ a, (k0_off121 v881) a + S1x1x128.size a ≤ S100000x1x128.size a := fun v881 k0_hw105 => k0_hw105

def k0_off122 (v888 : BitVec 32) : Fin 3 → Nat :=
  let v889 : Index := Scalar.indexCast v888
  let c0_587 : Index := 0#32
  let c0_588 : Index := 0#32
  ![v889.toNat, 0, 0]

def k0_chk106 (v888 : BitVec 32) : Prop :=
  (∀ a, (k0_off122 v888) a + S1x1x128.size a ≤ S100000x1x128.size a)
theorem k0_off122_inb : ∀ (v888 : BitVec 32) (k0_hw106 : k0_chk106 v888), ∀ a, (k0_off122 v888) a + S1x1x128.size a ≤ S100000x1x128.size a := fun v888 k0_hw106 => k0_hw106

def k0_off123 (v895 : BitVec 32) : Fin 3 → Nat :=
  let v896 : Index := Scalar.indexCast v895
  let c0_592 : Index := 0#32
  let c0_593 : Index := 0#32
  ![v896.toNat, 0, 0]

def k0_chk107 (v895 : BitVec 32) : Prop :=
  (∀ a, (k0_off123 v895) a + S1x1x128.size a ≤ S100000x1x128.size a)
theorem k0_off123_inb : ∀ (v895 : BitVec 32) (k0_hw107 : k0_chk107 v895), ∀ a, (k0_off123 v895) a + S1x1x128.size a ≤ S100000x1x128.size a := fun v895 k0_hw107 => k0_hw107

def k0_off124 (v902 : BitVec 32) : Fin 3 → Nat :=
  let v903 : Index := Scalar.indexCast v902
  let c0_597 : Index := 0#32
  let c0_598 : Index := 0#32
  ![v903.toNat, 0, 0]

def k0_chk108 (v902 : BitVec 32) : Prop :=
  (∀ a, (k0_off124 v902) a + S1x1x128.size a ≤ S100000x1x128.size a)
theorem k0_off124_inb : ∀ (v902 : BitVec 32) (k0_hw108 : k0_chk108 v902), ∀ a, (k0_off124 v902) a + S1x1x128.size a ≤ S100000x1x128.size a := fun v902 k0_hw108 => k0_hw108

def k0_off125 (v909 : BitVec 32) : Fin 3 → Nat :=
  let v910 : Index := Scalar.indexCast v909
  let c0_602 : Index := 0#32
  let c0_603 : Index := 0#32
  ![v910.toNat, 0, 0]

def k0_chk109 (v909 : BitVec 32) : Prop :=
  (∀ a, (k0_off125 v909) a + S1x1x128.size a ≤ S100000x1x128.size a)
theorem k0_off125_inb : ∀ (v909 : BitVec 32) (k0_hw109 : k0_chk109 v909), ∀ a, (k0_off125 v909) a + S1x1x128.size a ≤ S100000x1x128.size a := fun v909 k0_hw109 => k0_hw109

def k0_off126 (v916 : BitVec 32) : Fin 3 → Nat :=
  let v917 : Index := Scalar.indexCast v916
  let c0_607 : Index := 0#32
  let c0_608 : Index := 0#32
  ![v917.toNat, 0, 0]

def k0_chk110 (v916 : BitVec 32) : Prop :=
  (∀ a, (k0_off126 v916) a + S1x1x128.size a ≤ S100000x1x128.size a)
theorem k0_off126_inb : ∀ (v916 : BitVec 32) (k0_hw110 : k0_chk110 v916), ∀ a, (k0_off126 v916) a + S1x1x128.size a ≤ S100000x1x128.size a := fun v916 k0_hw110 => k0_hw110

def k0_off127 (v923 : BitVec 32) : Fin 3 → Nat :=
  let v924 : Index := Scalar.indexCast v923
  let c0_612 : Index := 0#32
  let c0_613 : Index := 0#32
  ![v924.toNat, 0, 0]

def k0_chk111 (v923 : BitVec 32) : Prop :=
  (∀ a, (k0_off127 v923) a + S1x1x128.size a ≤ S100000x1x128.size a)
theorem k0_off127_inb : ∀ (v923 : BitVec 32) (k0_hw111 : k0_chk111 v923), ∀ a, (k0_off127 v923) a + S1x1x128.size a ≤ S100000x1x128.size a := fun v923 k0_hw111 => k0_hw111

def k0_off128 (v930 : BitVec 32) : Fin 3 → Nat :=
  let v931 : Index := Scalar.indexCast v930
  let c0_617 : Index := 0#32
  let c0_618 : Index := 0#32
  ![v931.toNat, 0, 0]

def k0_chk112 (v930 : BitVec 32) : Prop :=
  (∀ a, (k0_off128 v930) a + S1x1x128.size a ≤ S100000x1x128.size a)
theorem k0_off128_inb : ∀ (v930 : BitVec 32) (k0_hw112 : k0_chk112 v930), ∀ a, (k0_off128 v930) a + S1x1x128.size a ≤ S100000x1x128.size a := fun v930 k0_hw112 => k0_hw112

def k0_off129 (v937 : BitVec 32) : Fin 3 → Nat :=
  let v938 : Index := Scalar.indexCast v937
  let c0_622 : Index := 0#32
  let c0_623 : Index := 0#32
  ![v938.toNat, 0, 0]

def k0_chk113 (v937 : BitVec 32) : Prop :=
  (∀ a, (k0_off129 v937) a + S1x1x128.size a ≤ S100000x1x128.size a)
theorem k0_off129_inb : ∀ (v937 : BitVec 32) (k0_hw113 : k0_chk113 v937), ∀ a, (k0_off129 v937) a + S1x1x128.size a ≤ S100000x1x128.size a := fun v937 k0_hw113 => k0_hw113

def k0_off130 (v944 : BitVec 32) : Fin 3 → Nat :=
  let v945 : Index := Scalar.indexCast v944
  let c0_627 : Index := 0#32
  let c0_628 : Index := 0#32
  ![v945.toNat, 0, 0]

def k0_chk114 (v944 : BitVec 32) : Prop :=
  (∀ a, (k0_off130 v944) a + S1x1x128.size a ≤ S100000x1x128.size a)
theorem k0_off130_inb : ∀ (v944 : BitVec 32) (k0_hw114 : k0_chk114 v944), ∀ a, (k0_off130 v944) a + S1x1x128.size a ≤ S100000x1x128.size a := fun v944 k0_hw114 => k0_hw114

def k0_off131 (v951 : BitVec 32) : Fin 3 → Nat :=
  let v952 : Index := Scalar.indexCast v951
  let c0_632 : Index := 0#32
  let c0_633 : Index := 0#32
  ![v952.toNat, 0, 0]

def k0_chk115 (v951 : BitVec 32) : Prop :=
  (∀ a, (k0_off131 v951) a + S1x1x128.size a ≤ S100000x1x128.size a)
theorem k0_off131_inb : ∀ (v951 : BitVec 32) (k0_hw115 : k0_chk115 v951), ∀ a, (k0_off131 v951) a + S1x1x128.size a ≤ S100000x1x128.size a := fun v951 k0_hw115 => k0_hw115

def k0_off132 (v958 : BitVec 32) : Fin 3 → Nat :=
  let v959 : Index := Scalar.indexCast v958
  let c0_637 : Index := 0#32
  let c0_638 : Index := 0#32
  ![v959.toNat, 0, 0]

def k0_chk116 (v958 : BitVec 32) : Prop :=
  (∀ a, (k0_off132 v958) a + S1x1x128.size a ≤ S100000x1x128.size a)
theorem k0_off132_inb : ∀ (v958 : BitVec 32) (k0_hw116 : k0_chk116 v958), ∀ a, (k0_off132 v958) a + S1x1x128.size a ≤ S100000x1x128.size a := fun v958 k0_hw116 => k0_hw116

def k0_off133 (v965 : BitVec 32) : Fin 3 → Nat :=
  let v966 : Index := Scalar.indexCast v965
  let c0_642 : Index := 0#32
  let c0_643 : Index := 0#32
  ![v966.toNat, 0, 0]

def k0_chk117 (v965 : BitVec 32) : Prop :=
  (∀ a, (k0_off133 v965) a + S1x1x128.size a ≤ S100000x1x128.size a)
theorem k0_off133_inb : ∀ (v965 : BitVec 32) (k0_hw117 : k0_chk117 v965), ∀ a, (k0_off133 v965) a + S1x1x128.size a ≤ S100000x1x128.size a := fun v965 k0_hw117 => k0_hw117

def k0_off134 (v972 : BitVec 32) : Fin 3 → Nat :=
  let v973 : Index := Scalar.indexCast v972
  let c0_647 : Index := 0#32
  let c0_648 : Index := 0#32
  ![v973.toNat, 0, 0]

def k0_chk118 (v972 : BitVec 32) : Prop :=
  (∀ a, (k0_off134 v972) a + S1x1x128.size a ≤ S100000x1x128.size a)
theorem k0_off134_inb : ∀ (v972 : BitVec 32) (k0_hw118 : k0_chk118 v972), ∀ a, (k0_off134 v972) a + S1x1x128.size a ≤ S100000x1x128.size a := fun v972 k0_hw118 => k0_hw118

def k0_off135 (v979 : BitVec 32) : Fin 3 → Nat :=
  let v980 : Index := Scalar.indexCast v979
  let c0_652 : Index := 0#32
  let c0_653 : Index := 0#32
  ![v980.toNat, 0, 0]

def k0_chk119 (v979 : BitVec 32) : Prop :=
  (∀ a, (k0_off135 v979) a + S1x1x128.size a ≤ S100000x1x128.size a)
theorem k0_off135_inb : ∀ (v979 : BitVec 32) (k0_hw119 : k0_chk119 v979), ∀ a, (k0_off135 v979) a + S1x1x128.size a ≤ S100000x1x128.size a := fun v979 k0_hw119 => k0_hw119

def k0_off136 (v986 : BitVec 32) : Fin 3 → Nat :=
  let v987 : Index := Scalar.indexCast v986
  let c0_657 : Index := 0#32
  let c0_658 : Index := 0#32
  ![v987.toNat, 0, 0]

def k0_chk120 (v986 : BitVec 32) : Prop :=
  (∀ a, (k0_off136 v986) a + S1x1x128.size a ≤ S100000x1x128.size a)
theorem k0_off136_inb : ∀ (v986 : BitVec 32) (k0_hw120 : k0_chk120 v986), ∀ a, (k0_off136 v986) a + S1x1x128.size a ≤ S100000x1x128.size a := fun v986 k0_hw120 => k0_hw120

def k0_off137 (v993 : BitVec 32) : Fin 3 → Nat :=
  let v994 : Index := Scalar.indexCast v993
  let c0_662 : Index := 0#32
  let c0_663 : Index := 0#32
  ![v994.toNat, 0, 0]

def k0_chk121 (v993 : BitVec 32) : Prop :=
  (∀ a, (k0_off137 v993) a + S1x1x128.size a ≤ S100000x1x128.size a)
theorem k0_off137_inb : ∀ (v993 : BitVec 32) (k0_hw121 : k0_chk121 v993), ∀ a, (k0_off137 v993) a + S1x1x128.size a ≤ S100000x1x128.size a := fun v993 k0_hw121 => k0_hw121

def k0_off138 (v1000 : BitVec 32) : Fin 3 → Nat :=
  let v1001 : Index := Scalar.indexCast v1000
  let c0_667 : Index := 0#32
  let c0_668 : Index := 0#32
  ![v1001.toNat, 0, 0]

def k0_chk122 (v1000 : BitVec 32) : Prop :=
  (∀ a, (k0_off138 v1000) a + S1x1x128.size a ≤ S100000x1x128.size a)
theorem k0_off138_inb : ∀ (v1000 : BitVec 32) (k0_hw122 : k0_chk122 v1000), ∀ a, (k0_off138 v1000) a + S1x1x128.size a ≤ S100000x1x128.size a := fun v1000 k0_hw122 => k0_hw122

def k0_off139 (v1007 : BitVec 32) : Fin 3 → Nat :=
  let v1008 : Index := Scalar.indexCast v1007
  let c0_672 : Index := 0#32
  let c0_673 : Index := 0#32
  ![v1008.toNat, 0, 0]

def k0_chk123 (v1007 : BitVec 32) : Prop :=
  (∀ a, (k0_off139 v1007) a + S1x1x128.size a ≤ S100000x1x128.size a)
theorem k0_off139_inb : ∀ (v1007 : BitVec 32) (k0_hw123 : k0_chk123 v1007), ∀ a, (k0_off139 v1007) a + S1x1x128.size a ≤ S100000x1x128.size a := fun v1007 k0_hw123 => k0_hw123

def k0_off140 (v1014 : BitVec 32) : Fin 3 → Nat :=
  let v1015 : Index := Scalar.indexCast v1014
  let c0_677 : Index := 0#32
  let c0_678 : Index := 0#32
  ![v1015.toNat, 0, 0]

def k0_chk124 (v1014 : BitVec 32) : Prop :=
  (∀ a, (k0_off140 v1014) a + S1x1x128.size a ≤ S100000x1x128.size a)
theorem k0_off140_inb : ∀ (v1014 : BitVec 32) (k0_hw124 : k0_chk124 v1014), ∀ a, (k0_off140 v1014) a + S1x1x128.size a ≤ S100000x1x128.size a := fun v1014 k0_hw124 => k0_hw124

def k0_off141 (v1021 : BitVec 32) : Fin 3 → Nat :=
  let v1022 : Index := Scalar.indexCast v1021
  let c0_682 : Index := 0#32
  let c0_683 : Index := 0#32
  ![v1022.toNat, 0, 0]

def k0_chk125 (v1021 : BitVec 32) : Prop :=
  (∀ a, (k0_off141 v1021) a + S1x1x128.size a ≤ S100000x1x128.size a)
theorem k0_off141_inb : ∀ (v1021 : BitVec 32) (k0_hw125 : k0_chk125 v1021), ∀ a, (k0_off141 v1021) a + S1x1x128.size a ≤ S100000x1x128.size a := fun v1021 k0_hw125 => k0_hw125

def k0_off142 (v1028 : BitVec 32) : Fin 3 → Nat :=
  let v1029 : Index := Scalar.indexCast v1028
  let c0_687 : Index := 0#32
  let c0_688 : Index := 0#32
  ![v1029.toNat, 0, 0]

def k0_chk126 (v1028 : BitVec 32) : Prop :=
  (∀ a, (k0_off142 v1028) a + S1x1x128.size a ≤ S100000x1x128.size a)
theorem k0_off142_inb : ∀ (v1028 : BitVec 32) (k0_hw126 : k0_chk126 v1028), ∀ a, (k0_off142 v1028) a + S1x1x128.size a ≤ S100000x1x128.size a := fun v1028 k0_hw126 => k0_hw126

def k0_off143 (v1035 : BitVec 32) : Fin 3 → Nat :=
  let v1036 : Index := Scalar.indexCast v1035
  let c0_692 : Index := 0#32
  let c0_693 : Index := 0#32
  ![v1036.toNat, 0, 0]

def k0_chk127 (v1035 : BitVec 32) : Prop :=
  (∀ a, (k0_off143 v1035) a + S1x1x128.size a ≤ S100000x1x128.size a)
theorem k0_off143_inb : ∀ (v1035 : BitVec 32) (k0_hw127 : k0_chk127 v1035), ∀ a, (k0_off143 v1035) a + S1x1x128.size a ≤ S100000x1x128.size a := fun v1035 k0_hw127 => k0_hw127

def k0_off144 (v1042 : BitVec 32) : Fin 3 → Nat :=
  let v1043 : Index := Scalar.indexCast v1042
  let c0_697 : Index := 0#32
  let c0_698 : Index := 0#32
  ![v1043.toNat, 0, 0]

def k0_chk128 (v1042 : BitVec 32) : Prop :=
  (∀ a, (k0_off144 v1042) a + S1x1x128.size a ≤ S100000x1x128.size a)
theorem k0_off144_inb : ∀ (v1042 : BitVec 32) (k0_hw128 : k0_chk128 v1042), ∀ a, (k0_off144 v1042) a + S1x1x128.size a ≤ S100000x1x128.size a := fun v1042 k0_hw128 => k0_hw128

def k0_off145 (v1049 : BitVec 32) : Fin 3 → Nat :=
  let v1050 : Index := Scalar.indexCast v1049
  let c0_702 : Index := 0#32
  let c0_703 : Index := 0#32
  ![v1050.toNat, 0, 0]

def k0_chk129 (v1049 : BitVec 32) : Prop :=
  (∀ a, (k0_off145 v1049) a + S1x1x128.size a ≤ S100000x1x128.size a)
theorem k0_off145_inb : ∀ (v1049 : BitVec 32) (k0_hw129 : k0_chk129 v1049), ∀ a, (k0_off145 v1049) a + S1x1x128.size a ≤ S100000x1x128.size a := fun v1049 k0_hw129 => k0_hw129

def k0_off146 (v1056 : BitVec 32) : Fin 3 → Nat :=
  let v1057 : Index := Scalar.indexCast v1056
  let c0_707 : Index := 0#32
  let c0_708 : Index := 0#32
  ![v1057.toNat, 0, 0]

def k0_chk130 (v1056 : BitVec 32) : Prop :=
  (∀ a, (k0_off146 v1056) a + S1x1x128.size a ≤ S100000x1x128.size a)
theorem k0_off146_inb : ∀ (v1056 : BitVec 32) (k0_hw130 : k0_chk130 v1056), ∀ a, (k0_off146 v1056) a + S1x1x128.size a ≤ S100000x1x128.size a := fun v1056 k0_hw130 => k0_hw130

def k0_off147 (v1063 : BitVec 32) : Fin 3 → Nat :=
  let v1064 : Index := Scalar.indexCast v1063
  let c0_712 : Index := 0#32
  let c0_713 : Index := 0#32
  ![v1064.toNat, 0, 0]

def k0_chk131 (v1063 : BitVec 32) : Prop :=
  (∀ a, (k0_off147 v1063) a + S1x1x128.size a ≤ S100000x1x128.size a)
theorem k0_off147_inb : ∀ (v1063 : BitVec 32) (k0_hw131 : k0_chk131 v1063), ∀ a, (k0_off147 v1063) a + S1x1x128.size a ≤ S100000x1x128.size a := fun v1063 k0_hw131 => k0_hw131

def k0_off148 (v1070 : BitVec 32) : Fin 3 → Nat :=
  let v1071 : Index := Scalar.indexCast v1070
  let c0_717 : Index := 0#32
  let c0_718 : Index := 0#32
  ![v1071.toNat, 0, 0]

def k0_chk132 (v1070 : BitVec 32) : Prop :=
  (∀ a, (k0_off148 v1070) a + S1x1x128.size a ≤ S100000x1x128.size a)
theorem k0_off148_inb : ∀ (v1070 : BitVec 32) (k0_hw132 : k0_chk132 v1070), ∀ a, (k0_off148 v1070) a + S1x1x128.size a ≤ S100000x1x128.size a := fun v1070 k0_hw132 => k0_hw132

def k0_off149 (v1077 : BitVec 32) : Fin 3 → Nat :=
  let v1078 : Index := Scalar.indexCast v1077
  let c0_722 : Index := 0#32
  let c0_723 : Index := 0#32
  ![v1078.toNat, 0, 0]

def k0_chk133 (v1077 : BitVec 32) : Prop :=
  (∀ a, (k0_off149 v1077) a + S1x1x128.size a ≤ S100000x1x128.size a)
theorem k0_off149_inb : ∀ (v1077 : BitVec 32) (k0_hw133 : k0_chk133 v1077), ∀ a, (k0_off149 v1077) a + S1x1x128.size a ≤ S100000x1x128.size a := fun v1077 k0_hw133 => k0_hw133

def k0_off150 (v1084 : BitVec 32) : Fin 3 → Nat :=
  let v1085 : Index := Scalar.indexCast v1084
  let c0_727 : Index := 0#32
  let c0_728 : Index := 0#32
  ![v1085.toNat, 0, 0]

def k0_chk134 (v1084 : BitVec 32) : Prop :=
  (∀ a, (k0_off150 v1084) a + S1x1x128.size a ≤ S100000x1x128.size a)
theorem k0_off150_inb : ∀ (v1084 : BitVec 32) (k0_hw134 : k0_chk134 v1084), ∀ a, (k0_off150 v1084) a + S1x1x128.size a ≤ S100000x1x128.size a := fun v1084 k0_hw134 => k0_hw134

def k0_off151 (v1091 : BitVec 32) : Fin 3 → Nat :=
  let v1092 : Index := Scalar.indexCast v1091
  let c0_732 : Index := 0#32
  let c0_733 : Index := 0#32
  ![v1092.toNat, 0, 0]

def k0_chk135 (v1091 : BitVec 32) : Prop :=
  (∀ a, (k0_off151 v1091) a + S1x1x128.size a ≤ S100000x1x128.size a)
theorem k0_off151_inb : ∀ (v1091 : BitVec 32) (k0_hw135 : k0_chk135 v1091), ∀ a, (k0_off151 v1091) a + S1x1x128.size a ≤ S100000x1x128.size a := fun v1091 k0_hw135 => k0_hw135

def k0_off152 (v1098 : BitVec 32) : Fin 3 → Nat :=
  let v1099 : Index := Scalar.indexCast v1098
  let c0_737 : Index := 0#32
  let c0_738 : Index := 0#32
  ![v1099.toNat, 0, 0]

def k0_chk136 (v1098 : BitVec 32) : Prop :=
  (∀ a, (k0_off152 v1098) a + S1x1x128.size a ≤ S100000x1x128.size a)
theorem k0_off152_inb : ∀ (v1098 : BitVec 32) (k0_hw136 : k0_chk136 v1098), ∀ a, (k0_off152 v1098) a + S1x1x128.size a ≤ S100000x1x128.size a := fun v1098 k0_hw136 => k0_hw136

def k0_off153 (v1105 : BitVec 32) : Fin 3 → Nat :=
  let v1106 : Index := Scalar.indexCast v1105
  let c0_742 : Index := 0#32
  let c0_743 : Index := 0#32
  ![v1106.toNat, 0, 0]

def k0_chk137 (v1105 : BitVec 32) : Prop :=
  (∀ a, (k0_off153 v1105) a + S1x1x128.size a ≤ S100000x1x128.size a)
theorem k0_off153_inb : ∀ (v1105 : BitVec 32) (k0_hw137 : k0_chk137 v1105), ∀ a, (k0_off153 v1105) a + S1x1x128.size a ≤ S100000x1x128.size a := fun v1105 k0_hw137 => k0_hw137

def k0_off154 (v1112 : BitVec 32) : Fin 3 → Nat :=
  let v1113 : Index := Scalar.indexCast v1112
  let c0_747 : Index := 0#32
  let c0_748 : Index := 0#32
  ![v1113.toNat, 0, 0]

def k0_chk138 (v1112 : BitVec 32) : Prop :=
  (∀ a, (k0_off154 v1112) a + S1x1x128.size a ≤ S100000x1x128.size a)
theorem k0_off154_inb : ∀ (v1112 : BitVec 32) (k0_hw138 : k0_chk138 v1112), ∀ a, (k0_off154 v1112) a + S1x1x128.size a ≤ S100000x1x128.size a := fun v1112 k0_hw138 => k0_hw138

def k0_off155 (v1119 : BitVec 32) : Fin 3 → Nat :=
  let v1120 : Index := Scalar.indexCast v1119
  let c0_752 : Index := 0#32
  let c0_753 : Index := 0#32
  ![v1120.toNat, 0, 0]

def k0_chk139 (v1119 : BitVec 32) : Prop :=
  (∀ a, (k0_off155 v1119) a + S1x1x128.size a ≤ S100000x1x128.size a)
theorem k0_off155_inb : ∀ (v1119 : BitVec 32) (k0_hw139 : k0_chk139 v1119), ∀ a, (k0_off155 v1119) a + S1x1x128.size a ≤ S100000x1x128.size a := fun v1119 k0_hw139 => k0_hw139

def k0_off156 (v1126 : BitVec 32) : Fin 3 → Nat :=
  let v1127 : Index := Scalar.indexCast v1126
  let c0_757 : Index := 0#32
  let c0_758 : Index := 0#32
  ![v1127.toNat, 0, 0]

def k0_chk140 (v1126 : BitVec 32) : Prop :=
  (∀ a, (k0_off156 v1126) a + S1x1x128.size a ≤ S100000x1x128.size a)
theorem k0_off156_inb : ∀ (v1126 : BitVec 32) (k0_hw140 : k0_chk140 v1126), ∀ a, (k0_off156 v1126) a + S1x1x128.size a ≤ S100000x1x128.size a := fun v1126 k0_hw140 => k0_hw140

def k0_off157 (v1133 : BitVec 32) : Fin 3 → Nat :=
  let v1134 : Index := Scalar.indexCast v1133
  let c0_762 : Index := 0#32
  let c0_763 : Index := 0#32
  ![v1134.toNat, 0, 0]

def k0_chk141 (v1133 : BitVec 32) : Prop :=
  (∀ a, (k0_off157 v1133) a + S1x1x128.size a ≤ S100000x1x128.size a)
theorem k0_off157_inb : ∀ (v1133 : BitVec 32) (k0_hw141 : k0_chk141 v1133), ∀ a, (k0_off157 v1133) a + S1x1x128.size a ≤ S100000x1x128.size a := fun v1133 k0_hw141 => k0_hw141

def k0_off158 (v1140 : BitVec 32) : Fin 3 → Nat :=
  let v1141 : Index := Scalar.indexCast v1140
  let c0_767 : Index := 0#32
  let c0_768 : Index := 0#32
  ![v1141.toNat, 0, 0]

def k0_chk142 (v1140 : BitVec 32) : Prop :=
  (∀ a, (k0_off158 v1140) a + S1x1x128.size a ≤ S100000x1x128.size a)
theorem k0_off158_inb : ∀ (v1140 : BitVec 32) (k0_hw142 : k0_chk142 v1140), ∀ a, (k0_off158 v1140) a + S1x1x128.size a ≤ S100000x1x128.size a := fun v1140 k0_hw142 => k0_hw142

def k0_off159 (v1147 : BitVec 32) : Fin 3 → Nat :=
  let v1148 : Index := Scalar.indexCast v1147
  let c0_772 : Index := 0#32
  let c0_773 : Index := 0#32
  ![v1148.toNat, 0, 0]

def k0_chk143 (v1147 : BitVec 32) : Prop :=
  (∀ a, (k0_off159 v1147) a + S1x1x128.size a ≤ S100000x1x128.size a)
theorem k0_off159_inb : ∀ (v1147 : BitVec 32) (k0_hw143 : k0_chk143 v1147), ∀ a, (k0_off159 v1147) a + S1x1x128.size a ≤ S100000x1x128.size a := fun v1147 k0_hw143 => k0_hw143

def k0_off160 (v1154 : BitVec 32) : Fin 3 → Nat :=
  let v1155 : Index := Scalar.indexCast v1154
  let c0_777 : Index := 0#32
  let c0_778 : Index := 0#32
  ![v1155.toNat, 0, 0]

def k0_chk144 (v1154 : BitVec 32) : Prop :=
  (∀ a, (k0_off160 v1154) a + S1x1x128.size a ≤ S100000x1x128.size a)
theorem k0_off160_inb : ∀ (v1154 : BitVec 32) (k0_hw144 : k0_chk144 v1154), ∀ a, (k0_off160 v1154) a + S1x1x128.size a ≤ S100000x1x128.size a := fun v1154 k0_hw144 => k0_hw144

def k0_off161 (v1161 : BitVec 32) : Fin 3 → Nat :=
  let v1162 : Index := Scalar.indexCast v1161
  let c0_782 : Index := 0#32
  let c0_783 : Index := 0#32
  ![v1162.toNat, 0, 0]

def k0_chk145 (v1161 : BitVec 32) : Prop :=
  (∀ a, (k0_off161 v1161) a + S1x1x128.size a ≤ S100000x1x128.size a)
theorem k0_off161_inb : ∀ (v1161 : BitVec 32) (k0_hw145 : k0_chk145 v1161), ∀ a, (k0_off161 v1161) a + S1x1x128.size a ≤ S100000x1x128.size a := fun v1161 k0_hw145 => k0_hw145

def k0_off162 (v1168 : BitVec 32) : Fin 3 → Nat :=
  let v1169 : Index := Scalar.indexCast v1168
  let c0_787 : Index := 0#32
  let c0_788 : Index := 0#32
  ![v1169.toNat, 0, 0]

def k0_chk146 (v1168 : BitVec 32) : Prop :=
  (∀ a, (k0_off162 v1168) a + S1x1x128.size a ≤ S100000x1x128.size a)
theorem k0_off162_inb : ∀ (v1168 : BitVec 32) (k0_hw146 : k0_chk146 v1168), ∀ a, (k0_off162 v1168) a + S1x1x128.size a ≤ S100000x1x128.size a := fun v1168 k0_hw146 => k0_hw146

def k0_off163 (v1175 : BitVec 32) : Fin 3 → Nat :=
  let v1176 : Index := Scalar.indexCast v1175
  let c0_792 : Index := 0#32
  let c0_793 : Index := 0#32
  ![v1176.toNat, 0, 0]

def k0_chk147 (v1175 : BitVec 32) : Prop :=
  (∀ a, (k0_off163 v1175) a + S1x1x128.size a ≤ S100000x1x128.size a)
theorem k0_off163_inb : ∀ (v1175 : BitVec 32) (k0_hw147 : k0_chk147 v1175), ∀ a, (k0_off163 v1175) a + S1x1x128.size a ≤ S100000x1x128.size a := fun v1175 k0_hw147 => k0_hw147

def k0_off164 (v1182 : BitVec 32) : Fin 3 → Nat :=
  let v1183 : Index := Scalar.indexCast v1182
  let c0_797 : Index := 0#32
  let c0_798 : Index := 0#32
  ![v1183.toNat, 0, 0]

def k0_chk148 (v1182 : BitVec 32) : Prop :=
  (∀ a, (k0_off164 v1182) a + S1x1x128.size a ≤ S100000x1x128.size a)
theorem k0_off164_inb : ∀ (v1182 : BitVec 32) (k0_hw148 : k0_chk148 v1182), ∀ a, (k0_off164 v1182) a + S1x1x128.size a ≤ S100000x1x128.size a := fun v1182 k0_hw148 => k0_hw148

def k0_off165 (v1189 : BitVec 32) : Fin 3 → Nat :=
  let v1190 : Index := Scalar.indexCast v1189
  let c0_802 : Index := 0#32
  let c0_803 : Index := 0#32
  ![v1190.toNat, 0, 0]

def k0_chk149 (v1189 : BitVec 32) : Prop :=
  (∀ a, (k0_off165 v1189) a + S1x1x128.size a ≤ S100000x1x128.size a)
theorem k0_off165_inb : ∀ (v1189 : BitVec 32) (k0_hw149 : k0_chk149 v1189), ∀ a, (k0_off165 v1189) a + S1x1x128.size a ≤ S100000x1x128.size a := fun v1189 k0_hw149 => k0_hw149

def k0_off166 (v1196 : BitVec 32) : Fin 3 → Nat :=
  let v1197 : Index := Scalar.indexCast v1196
  let c0_807 : Index := 0#32
  let c0_808 : Index := 0#32
  ![v1197.toNat, 0, 0]

def k0_chk150 (v1196 : BitVec 32) : Prop :=
  (∀ a, (k0_off166 v1196) a + S1x1x128.size a ≤ S100000x1x128.size a)
theorem k0_off166_inb : ∀ (v1196 : BitVec 32) (k0_hw150 : k0_chk150 v1196), ∀ a, (k0_off166 v1196) a + S1x1x128.size a ≤ S100000x1x128.size a := fun v1196 k0_hw150 => k0_hw150

def k0_off167 (v1203 : BitVec 32) : Fin 3 → Nat :=
  let v1204 : Index := Scalar.indexCast v1203
  let c0_812 : Index := 0#32
  let c0_813 : Index := 0#32
  ![v1204.toNat, 0, 0]

def k0_chk151 (v1203 : BitVec 32) : Prop :=
  (∀ a, (k0_off167 v1203) a + S1x1x128.size a ≤ S100000x1x128.size a)
theorem k0_off167_inb : ∀ (v1203 : BitVec 32) (k0_hw151 : k0_chk151 v1203), ∀ a, (k0_off167 v1203) a + S1x1x128.size a ≤ S100000x1x128.size a := fun v1203 k0_hw151 => k0_hw151

def k0_off168 (v1210 : BitVec 32) : Fin 3 → Nat :=
  let v1211 : Index := Scalar.indexCast v1210
  let c0_817 : Index := 0#32
  let c0_818 : Index := 0#32
  ![v1211.toNat, 0, 0]

def k0_chk152 (v1210 : BitVec 32) : Prop :=
  (∀ a, (k0_off168 v1210) a + S1x1x128.size a ≤ S100000x1x128.size a)
theorem k0_off168_inb : ∀ (v1210 : BitVec 32) (k0_hw152 : k0_chk152 v1210), ∀ a, (k0_off168 v1210) a + S1x1x128.size a ≤ S100000x1x128.size a := fun v1210 k0_hw152 => k0_hw152

def k0_off169 (v1217 : BitVec 32) : Fin 3 → Nat :=
  let v1218 : Index := Scalar.indexCast v1217
  let c0_822 : Index := 0#32
  let c0_823 : Index := 0#32
  ![v1218.toNat, 0, 0]

def k0_chk153 (v1217 : BitVec 32) : Prop :=
  (∀ a, (k0_off169 v1217) a + S1x1x128.size a ≤ S100000x1x128.size a)
theorem k0_off169_inb : ∀ (v1217 : BitVec 32) (k0_hw153 : k0_chk153 v1217), ∀ a, (k0_off169 v1217) a + S1x1x128.size a ≤ S100000x1x128.size a := fun v1217 k0_hw153 => k0_hw153

def k0_off170 (v1224 : BitVec 32) : Fin 3 → Nat :=
  let v1225 : Index := Scalar.indexCast v1224
  let c0_827 : Index := 0#32
  let c0_828 : Index := 0#32
  ![v1225.toNat, 0, 0]

def k0_chk154 (v1224 : BitVec 32) : Prop :=
  (∀ a, (k0_off170 v1224) a + S1x1x128.size a ≤ S100000x1x128.size a)
theorem k0_off170_inb : ∀ (v1224 : BitVec 32) (k0_hw154 : k0_chk154 v1224), ∀ a, (k0_off170 v1224) a + S1x1x128.size a ≤ S100000x1x128.size a := fun v1224 k0_hw154 => k0_hw154

def k0_off171 (v1231 : BitVec 32) : Fin 3 → Nat :=
  let v1232 : Index := Scalar.indexCast v1231
  let c0_832 : Index := 0#32
  let c0_833 : Index := 0#32
  ![v1232.toNat, 0, 0]

def k0_chk155 (v1231 : BitVec 32) : Prop :=
  (∀ a, (k0_off171 v1231) a + S1x1x128.size a ≤ S100000x1x128.size a)
theorem k0_off171_inb : ∀ (v1231 : BitVec 32) (k0_hw155 : k0_chk155 v1231), ∀ a, (k0_off171 v1231) a + S1x1x128.size a ≤ S100000x1x128.size a := fun v1231 k0_hw155 => k0_hw155

def k0_off172 (v1238 : BitVec 32) : Fin 3 → Nat :=
  let v1239 : Index := Scalar.indexCast v1238
  let c0_837 : Index := 0#32
  let c0_838 : Index := 0#32
  ![v1239.toNat, 0, 0]

def k0_chk156 (v1238 : BitVec 32) : Prop :=
  (∀ a, (k0_off172 v1238) a + S1x1x128.size a ≤ S100000x1x128.size a)
theorem k0_off172_inb : ∀ (v1238 : BitVec 32) (k0_hw156 : k0_chk156 v1238), ∀ a, (k0_off172 v1238) a + S1x1x128.size a ≤ S100000x1x128.size a := fun v1238 k0_hw156 => k0_hw156

def k0_off173 (v1245 : BitVec 32) : Fin 3 → Nat :=
  let v1246 : Index := Scalar.indexCast v1245
  let c0_842 : Index := 0#32
  let c0_843 : Index := 0#32
  ![v1246.toNat, 0, 0]

def k0_chk157 (v1245 : BitVec 32) : Prop :=
  (∀ a, (k0_off173 v1245) a + S1x1x128.size a ≤ S100000x1x128.size a)
theorem k0_off173_inb : ∀ (v1245 : BitVec 32) (k0_hw157 : k0_chk157 v1245), ∀ a, (k0_off173 v1245) a + S1x1x128.size a ≤ S100000x1x128.size a := fun v1245 k0_hw157 => k0_hw157

def k0_off174 (v1252 : BitVec 32) : Fin 3 → Nat :=
  let v1253 : Index := Scalar.indexCast v1252
  let c0_847 : Index := 0#32
  let c0_848 : Index := 0#32
  ![v1253.toNat, 0, 0]

def k0_chk158 (v1252 : BitVec 32) : Prop :=
  (∀ a, (k0_off174 v1252) a + S1x1x128.size a ≤ S100000x1x128.size a)
theorem k0_off174_inb : ∀ (v1252 : BitVec 32) (k0_hw158 : k0_chk158 v1252), ∀ a, (k0_off174 v1252) a + S1x1x128.size a ≤ S100000x1x128.size a := fun v1252 k0_hw158 => k0_hw158

def k0_off175 (v1259 : BitVec 32) : Fin 3 → Nat :=
  let v1260 : Index := Scalar.indexCast v1259
  let c0_852 : Index := 0#32
  let c0_853 : Index := 0#32
  ![v1260.toNat, 0, 0]

def k0_chk159 (v1259 : BitVec 32) : Prop :=
  (∀ a, (k0_off175 v1259) a + S1x1x128.size a ≤ S100000x1x128.size a)
theorem k0_off175_inb : ∀ (v1259 : BitVec 32) (k0_hw159 : k0_chk159 v1259), ∀ a, (k0_off175 v1259) a + S1x1x128.size a ≤ S100000x1x128.size a := fun v1259 k0_hw159 => k0_hw159

def k0_off176 (v1266 : BitVec 32) : Fin 3 → Nat :=
  let v1267 : Index := Scalar.indexCast v1266
  let c0_857 : Index := 0#32
  let c0_858 : Index := 0#32
  ![v1267.toNat, 0, 0]

def k0_chk160 (v1266 : BitVec 32) : Prop :=
  (∀ a, (k0_off176 v1266) a + S1x1x128.size a ≤ S100000x1x128.size a)
theorem k0_off176_inb : ∀ (v1266 : BitVec 32) (k0_hw160 : k0_chk160 v1266), ∀ a, (k0_off176 v1266) a + S1x1x128.size a ≤ S100000x1x128.size a := fun v1266 k0_hw160 => k0_hw160

def k0_off177 (v1273 : BitVec 32) : Fin 3 → Nat :=
  let v1274 : Index := Scalar.indexCast v1273
  let c0_862 : Index := 0#32
  let c0_863 : Index := 0#32
  ![v1274.toNat, 0, 0]

def k0_chk161 (v1273 : BitVec 32) : Prop :=
  (∀ a, (k0_off177 v1273) a + S1x1x128.size a ≤ S100000x1x128.size a)
theorem k0_off177_inb : ∀ (v1273 : BitVec 32) (k0_hw161 : k0_chk161 v1273), ∀ a, (k0_off177 v1273) a + S1x1x128.size a ≤ S100000x1x128.size a := fun v1273 k0_hw161 => k0_hw161

def k0_off178 (v1280 : BitVec 32) : Fin 3 → Nat :=
  let v1281 : Index := Scalar.indexCast v1280
  let c0_867 : Index := 0#32
  let c0_868 : Index := 0#32
  ![v1281.toNat, 0, 0]

def k0_chk162 (v1280 : BitVec 32) : Prop :=
  (∀ a, (k0_off178 v1280) a + S1x1x128.size a ≤ S100000x1x128.size a)
theorem k0_off178_inb : ∀ (v1280 : BitVec 32) (k0_hw162 : k0_chk162 v1280), ∀ a, (k0_off178 v1280) a + S1x1x128.size a ≤ S100000x1x128.size a := fun v1280 k0_hw162 => k0_hw162

def k0_off179 (v1287 : BitVec 32) : Fin 3 → Nat :=
  let v1288 : Index := Scalar.indexCast v1287
  let c0_872 : Index := 0#32
  let c0_873 : Index := 0#32
  ![v1288.toNat, 0, 0]

def k0_chk163 (v1287 : BitVec 32) : Prop :=
  (∀ a, (k0_off179 v1287) a + S1x1x128.size a ≤ S100000x1x128.size a)
theorem k0_off179_inb : ∀ (v1287 : BitVec 32) (k0_hw163 : k0_chk163 v1287), ∀ a, (k0_off179 v1287) a + S1x1x128.size a ≤ S100000x1x128.size a := fun v1287 k0_hw163 => k0_hw163

def k0_off180 (v1294 : BitVec 32) : Fin 3 → Nat :=
  let v1295 : Index := Scalar.indexCast v1294
  let c0_877 : Index := 0#32
  let c0_878 : Index := 0#32
  ![v1295.toNat, 0, 0]

def k0_chk164 (v1294 : BitVec 32) : Prop :=
  (∀ a, (k0_off180 v1294) a + S1x1x128.size a ≤ S100000x1x128.size a)
theorem k0_off180_inb : ∀ (v1294 : BitVec 32) (k0_hw164 : k0_chk164 v1294), ∀ a, (k0_off180 v1294) a + S1x1x128.size a ≤ S100000x1x128.size a := fun v1294 k0_hw164 => k0_hw164

def k0_off181 (v1301 : BitVec 32) : Fin 3 → Nat :=
  let v1302 : Index := Scalar.indexCast v1301
  let c0_882 : Index := 0#32
  let c0_883 : Index := 0#32
  ![v1302.toNat, 0, 0]

def k0_chk165 (v1301 : BitVec 32) : Prop :=
  (∀ a, (k0_off181 v1301) a + S1x1x128.size a ≤ S100000x1x128.size a)
theorem k0_off181_inb : ∀ (v1301 : BitVec 32) (k0_hw165 : k0_chk165 v1301), ∀ a, (k0_off181 v1301) a + S1x1x128.size a ≤ S100000x1x128.size a := fun v1301 k0_hw165 => k0_hw165

def k0_off182 (v1308 : BitVec 32) : Fin 3 → Nat :=
  let v1309 : Index := Scalar.indexCast v1308
  let c0_887 : Index := 0#32
  let c0_888 : Index := 0#32
  ![v1309.toNat, 0, 0]

def k0_chk166 (v1308 : BitVec 32) : Prop :=
  (∀ a, (k0_off182 v1308) a + S1x1x128.size a ≤ S100000x1x128.size a)
theorem k0_off182_inb : ∀ (v1308 : BitVec 32) (k0_hw166 : k0_chk166 v1308), ∀ a, (k0_off182 v1308) a + S1x1x128.size a ≤ S100000x1x128.size a := fun v1308 k0_hw166 => k0_hw166

def k0_off183 (v1315 : BitVec 32) : Fin 3 → Nat :=
  let v1316 : Index := Scalar.indexCast v1315
  let c0_892 : Index := 0#32
  let c0_893 : Index := 0#32
  ![v1316.toNat, 0, 0]

def k0_chk167 (v1315 : BitVec 32) : Prop :=
  (∀ a, (k0_off183 v1315) a + S1x1x128.size a ≤ S100000x1x128.size a)
theorem k0_off183_inb : ∀ (v1315 : BitVec 32) (k0_hw167 : k0_chk167 v1315), ∀ a, (k0_off183 v1315) a + S1x1x128.size a ≤ S100000x1x128.size a := fun v1315 k0_hw167 => k0_hw167

def k0_off184 (v1322 : BitVec 32) : Fin 3 → Nat :=
  let v1323 : Index := Scalar.indexCast v1322
  let c0_897 : Index := 0#32
  let c0_898 : Index := 0#32
  ![v1323.toNat, 0, 0]

def k0_chk168 (v1322 : BitVec 32) : Prop :=
  (∀ a, (k0_off184 v1322) a + S1x1x128.size a ≤ S100000x1x128.size a)
theorem k0_off184_inb : ∀ (v1322 : BitVec 32) (k0_hw168 : k0_chk168 v1322), ∀ a, (k0_off184 v1322) a + S1x1x128.size a ≤ S100000x1x128.size a := fun v1322 k0_hw168 => k0_hw168

def k0_off185 (v1329 : BitVec 32) : Fin 3 → Nat :=
  let v1330 : Index := Scalar.indexCast v1329
  let c0_902 : Index := 0#32
  let c0_903 : Index := 0#32
  ![v1330.toNat, 0, 0]

def k0_chk169 (v1329 : BitVec 32) : Prop :=
  (∀ a, (k0_off185 v1329) a + S1x1x128.size a ≤ S100000x1x128.size a)
theorem k0_off185_inb : ∀ (v1329 : BitVec 32) (k0_hw169 : k0_chk169 v1329), ∀ a, (k0_off185 v1329) a + S1x1x128.size a ≤ S100000x1x128.size a := fun v1329 k0_hw169 => k0_hw169

def k0_off186 (v1336 : BitVec 32) : Fin 3 → Nat :=
  let v1337 : Index := Scalar.indexCast v1336
  let c0_907 : Index := 0#32
  let c0_908 : Index := 0#32
  ![v1337.toNat, 0, 0]

def k0_chk170 (v1336 : BitVec 32) : Prop :=
  (∀ a, (k0_off186 v1336) a + S1x1x128.size a ≤ S100000x1x128.size a)
theorem k0_off186_inb : ∀ (v1336 : BitVec 32) (k0_hw170 : k0_chk170 v1336), ∀ a, (k0_off186 v1336) a + S1x1x128.size a ≤ S100000x1x128.size a := fun v1336 k0_hw170 => k0_hw170

def k0_off187 (v1343 : BitVec 32) : Fin 3 → Nat :=
  let v1344 : Index := Scalar.indexCast v1343
  let c0_912 : Index := 0#32
  let c0_913 : Index := 0#32
  ![v1344.toNat, 0, 0]

def k0_chk171 (v1343 : BitVec 32) : Prop :=
  (∀ a, (k0_off187 v1343) a + S1x1x128.size a ≤ S100000x1x128.size a)
theorem k0_off187_inb : ∀ (v1343 : BitVec 32) (k0_hw171 : k0_chk171 v1343), ∀ a, (k0_off187 v1343) a + S1x1x128.size a ≤ S100000x1x128.size a := fun v1343 k0_hw171 => k0_hw171

def k0_off188 (v1350 : BitVec 32) : Fin 3 → Nat :=
  let v1351 : Index := Scalar.indexCast v1350
  let c0_917 : Index := 0#32
  let c0_918 : Index := 0#32
  ![v1351.toNat, 0, 0]

def k0_chk172 (v1350 : BitVec 32) : Prop :=
  (∀ a, (k0_off188 v1350) a + S1x1x128.size a ≤ S100000x1x128.size a)
theorem k0_off188_inb : ∀ (v1350 : BitVec 32) (k0_hw172 : k0_chk172 v1350), ∀ a, (k0_off188 v1350) a + S1x1x128.size a ≤ S100000x1x128.size a := fun v1350 k0_hw172 => k0_hw172

def k0_off189 (v1357 : BitVec 32) : Fin 3 → Nat :=
  let v1358 : Index := Scalar.indexCast v1357
  let c0_922 : Index := 0#32
  let c0_923 : Index := 0#32
  ![v1358.toNat, 0, 0]

def k0_chk173 (v1357 : BitVec 32) : Prop :=
  (∀ a, (k0_off189 v1357) a + S1x1x128.size a ≤ S100000x1x128.size a)
theorem k0_off189_inb : ∀ (v1357 : BitVec 32) (k0_hw173 : k0_chk173 v1357), ∀ a, (k0_off189 v1357) a + S1x1x128.size a ≤ S100000x1x128.size a := fun v1357 k0_hw173 => k0_hw173

def k0_off190 (v1364 : BitVec 32) : Fin 3 → Nat :=
  let v1365 : Index := Scalar.indexCast v1364
  let c0_927 : Index := 0#32
  let c0_928 : Index := 0#32
  ![v1365.toNat, 0, 0]

def k0_chk174 (v1364 : BitVec 32) : Prop :=
  (∀ a, (k0_off190 v1364) a + S1x1x128.size a ≤ S100000x1x128.size a)
theorem k0_off190_inb : ∀ (v1364 : BitVec 32) (k0_hw174 : k0_chk174 v1364), ∀ a, (k0_off190 v1364) a + S1x1x128.size a ≤ S100000x1x128.size a := fun v1364 k0_hw174 => k0_hw174

def k0_off191 (v1371 : BitVec 32) : Fin 3 → Nat :=
  let v1372 : Index := Scalar.indexCast v1371
  let c0_932 : Index := 0#32
  let c0_933 : Index := 0#32
  ![v1372.toNat, 0, 0]

def k0_chk175 (v1371 : BitVec 32) : Prop :=
  (∀ a, (k0_off191 v1371) a + S1x1x128.size a ≤ S100000x1x128.size a)
theorem k0_off191_inb : ∀ (v1371 : BitVec 32) (k0_hw175 : k0_chk175 v1371), ∀ a, (k0_off191 v1371) a + S1x1x128.size a ≤ S100000x1x128.size a := fun v1371 k0_hw175 => k0_hw175

def k0_off192 (v1378 : BitVec 32) : Fin 3 → Nat :=
  let v1379 : Index := Scalar.indexCast v1378
  let c0_937 : Index := 0#32
  let c0_938 : Index := 0#32
  ![v1379.toNat, 0, 0]

def k0_chk176 (v1378 : BitVec 32) : Prop :=
  (∀ a, (k0_off192 v1378) a + S1x1x128.size a ≤ S100000x1x128.size a)
theorem k0_off192_inb : ∀ (v1378 : BitVec 32) (k0_hw176 : k0_chk176 v1378), ∀ a, (k0_off192 v1378) a + S1x1x128.size a ≤ S100000x1x128.size a := fun v1378 k0_hw176 => k0_hw176

def k0_off193 (v1385 : BitVec 32) : Fin 3 → Nat :=
  let v1386 : Index := Scalar.indexCast v1385
  let c0_942 : Index := 0#32
  let c0_943 : Index := 0#32
  ![v1386.toNat, 0, 0]

def k0_chk177 (v1385 : BitVec 32) : Prop :=
  (∀ a, (k0_off193 v1385) a + S1x1x128.size a ≤ S100000x1x128.size a)
theorem k0_off193_inb : ∀ (v1385 : BitVec 32) (k0_hw177 : k0_chk177 v1385), ∀ a, (k0_off193 v1385) a + S1x1x128.size a ≤ S100000x1x128.size a := fun v1385 k0_hw177 => k0_hw177

def k0_off194 (v1392 : BitVec 32) : Fin 3 → Nat :=
  let v1393 : Index := Scalar.indexCast v1392
  let c0_947 : Index := 0#32
  let c0_948 : Index := 0#32
  ![v1393.toNat, 0, 0]

def k0_chk178 (v1392 : BitVec 32) : Prop :=
  (∀ a, (k0_off194 v1392) a + S1x1x128.size a ≤ S100000x1x128.size a)
theorem k0_off194_inb : ∀ (v1392 : BitVec 32) (k0_hw178 : k0_chk178 v1392), ∀ a, (k0_off194 v1392) a + S1x1x128.size a ≤ S100000x1x128.size a := fun v1392 k0_hw178 => k0_hw178

def k0_off195 (v1399 : BitVec 32) : Fin 3 → Nat :=
  let v1400 : Index := Scalar.indexCast v1399
  let c0_952 : Index := 0#32
  let c0_953 : Index := 0#32
  ![v1400.toNat, 0, 0]

def k0_chk179 (v1399 : BitVec 32) : Prop :=
  (∀ a, (k0_off195 v1399) a + S1x1x128.size a ≤ S100000x1x128.size a)
theorem k0_off195_inb : ∀ (v1399 : BitVec 32) (k0_hw179 : k0_chk179 v1399), ∀ a, (k0_off195 v1399) a + S1x1x128.size a ≤ S100000x1x128.size a := fun v1399 k0_hw179 => k0_hw179

def k0_off196 (v1406 : BitVec 32) : Fin 3 → Nat :=
  let v1407 : Index := Scalar.indexCast v1406
  let c0_957 : Index := 0#32
  let c0_958 : Index := 0#32
  ![v1407.toNat, 0, 0]

def k0_chk180 (v1406 : BitVec 32) : Prop :=
  (∀ a, (k0_off196 v1406) a + S1x1x128.size a ≤ S100000x1x128.size a)
theorem k0_off196_inb : ∀ (v1406 : BitVec 32) (k0_hw180 : k0_chk180 v1406), ∀ a, (k0_off196 v1406) a + S1x1x128.size a ≤ S100000x1x128.size a := fun v1406 k0_hw180 => k0_hw180

def k0_off197 (v1413 : BitVec 32) : Fin 3 → Nat :=
  let v1414 : Index := Scalar.indexCast v1413
  let c0_962 : Index := 0#32
  let c0_963 : Index := 0#32
  ![v1414.toNat, 0, 0]

def k0_chk181 (v1413 : BitVec 32) : Prop :=
  (∀ a, (k0_off197 v1413) a + S1x1x128.size a ≤ S100000x1x128.size a)
theorem k0_off197_inb : ∀ (v1413 : BitVec 32) (k0_hw181 : k0_chk181 v1413), ∀ a, (k0_off197 v1413) a + S1x1x128.size a ≤ S100000x1x128.size a := fun v1413 k0_hw181 => k0_hw181

def k0_off198 (v1420 : BitVec 32) : Fin 3 → Nat :=
  let v1421 : Index := Scalar.indexCast v1420
  let c0_967 : Index := 0#32
  let c0_968 : Index := 0#32
  ![v1421.toNat, 0, 0]

def k0_chk182 (v1420 : BitVec 32) : Prop :=
  (∀ a, (k0_off198 v1420) a + S1x1x128.size a ≤ S100000x1x128.size a)
theorem k0_off198_inb : ∀ (v1420 : BitVec 32) (k0_hw182 : k0_chk182 v1420), ∀ a, (k0_off198 v1420) a + S1x1x128.size a ≤ S100000x1x128.size a := fun v1420 k0_hw182 => k0_hw182

def k0_off199 (v1427 : BitVec 32) : Fin 3 → Nat :=
  let v1428 : Index := Scalar.indexCast v1427
  let c0_972 : Index := 0#32
  let c0_973 : Index := 0#32
  ![v1428.toNat, 0, 0]

def k0_chk183 (v1427 : BitVec 32) : Prop :=
  (∀ a, (k0_off199 v1427) a + S1x1x128.size a ≤ S100000x1x128.size a)
theorem k0_off199_inb : ∀ (v1427 : BitVec 32) (k0_hw183 : k0_chk183 v1427), ∀ a, (k0_off199 v1427) a + S1x1x128.size a ≤ S100000x1x128.size a := fun v1427 k0_hw183 => k0_hw183

def k0_off200 (v1434 : BitVec 32) : Fin 3 → Nat :=
  let v1435 : Index := Scalar.indexCast v1434
  let c0_977 : Index := 0#32
  let c0_978 : Index := 0#32
  ![v1435.toNat, 0, 0]

def k0_chk184 (v1434 : BitVec 32) : Prop :=
  (∀ a, (k0_off200 v1434) a + S1x1x128.size a ≤ S100000x1x128.size a)
theorem k0_off200_inb : ∀ (v1434 : BitVec 32) (k0_hw184 : k0_chk184 v1434), ∀ a, (k0_off200 v1434) a + S1x1x128.size a ≤ S100000x1x128.size a := fun v1434 k0_hw184 => k0_hw184

def k0_off201 (v1441 : BitVec 32) : Fin 3 → Nat :=
  let v1442 : Index := Scalar.indexCast v1441
  let c0_982 : Index := 0#32
  let c0_983 : Index := 0#32
  ![v1442.toNat, 0, 0]

def k0_chk185 (v1441 : BitVec 32) : Prop :=
  (∀ a, (k0_off201 v1441) a + S1x1x128.size a ≤ S100000x1x128.size a)
theorem k0_off201_inb : ∀ (v1441 : BitVec 32) (k0_hw185 : k0_chk185 v1441), ∀ a, (k0_off201 v1441) a + S1x1x128.size a ≤ S100000x1x128.size a := fun v1441 k0_hw185 => k0_hw185

def k0_off202 (v1448 : BitVec 32) : Fin 3 → Nat :=
  let v1449 : Index := Scalar.indexCast v1448
  let c0_987 : Index := 0#32
  let c0_988 : Index := 0#32
  ![v1449.toNat, 0, 0]

def k0_chk186 (v1448 : BitVec 32) : Prop :=
  (∀ a, (k0_off202 v1448) a + S1x1x128.size a ≤ S100000x1x128.size a)
theorem k0_off202_inb : ∀ (v1448 : BitVec 32) (k0_hw186 : k0_chk186 v1448), ∀ a, (k0_off202 v1448) a + S1x1x128.size a ≤ S100000x1x128.size a := fun v1448 k0_hw186 => k0_hw186

def k0_off203 (v1455 : BitVec 32) : Fin 3 → Nat :=
  let v1456 : Index := Scalar.indexCast v1455
  let c0_992 : Index := 0#32
  let c0_993 : Index := 0#32
  ![v1456.toNat, 0, 0]

def k0_chk187 (v1455 : BitVec 32) : Prop :=
  (∀ a, (k0_off203 v1455) a + S1x1x128.size a ≤ S100000x1x128.size a)
theorem k0_off203_inb : ∀ (v1455 : BitVec 32) (k0_hw187 : k0_chk187 v1455), ∀ a, (k0_off203 v1455) a + S1x1x128.size a ≤ S100000x1x128.size a := fun v1455 k0_hw187 => k0_hw187

def k0_off204 (v1462 : BitVec 32) : Fin 3 → Nat :=
  let v1463 : Index := Scalar.indexCast v1462
  let c0_997 : Index := 0#32
  let c0_998 : Index := 0#32
  ![v1463.toNat, 0, 0]

def k0_chk188 (v1462 : BitVec 32) : Prop :=
  (∀ a, (k0_off204 v1462) a + S1x1x128.size a ≤ S100000x1x128.size a)
theorem k0_off204_inb : ∀ (v1462 : BitVec 32) (k0_hw188 : k0_chk188 v1462), ∀ a, (k0_off204 v1462) a + S1x1x128.size a ≤ S100000x1x128.size a := fun v1462 k0_hw188 => k0_hw188

def k0_off205 (v1469 : BitVec 32) : Fin 3 → Nat :=
  let v1470 : Index := Scalar.indexCast v1469
  let c0_1002 : Index := 0#32
  let c0_1003 : Index := 0#32
  ![v1470.toNat, 0, 0]

def k0_chk189 (v1469 : BitVec 32) : Prop :=
  (∀ a, (k0_off205 v1469) a + S1x1x128.size a ≤ S100000x1x128.size a)
theorem k0_off205_inb : ∀ (v1469 : BitVec 32) (k0_hw189 : k0_chk189 v1469), ∀ a, (k0_off205 v1469) a + S1x1x128.size a ≤ S100000x1x128.size a := fun v1469 k0_hw189 => k0_hw189

def k0_off206 (v1476 : BitVec 32) : Fin 3 → Nat :=
  let v1477 : Index := Scalar.indexCast v1476
  let c0_1007 : Index := 0#32
  let c0_1008 : Index := 0#32
  ![v1477.toNat, 0, 0]

def k0_chk190 (v1476 : BitVec 32) : Prop :=
  (∀ a, (k0_off206 v1476) a + S1x1x128.size a ≤ S100000x1x128.size a)
theorem k0_off206_inb : ∀ (v1476 : BitVec 32) (k0_hw190 : k0_chk190 v1476), ∀ a, (k0_off206 v1476) a + S1x1x128.size a ≤ S100000x1x128.size a := fun v1476 k0_hw190 => k0_hw190

def k0_off207 (v1483 : BitVec 32) : Fin 3 → Nat :=
  let v1484 : Index := Scalar.indexCast v1483
  let c0_1012 : Index := 0#32
  let c0_1013 : Index := 0#32
  ![v1484.toNat, 0, 0]

def k0_chk191 (v1483 : BitVec 32) : Prop :=
  (∀ a, (k0_off207 v1483) a + S1x1x128.size a ≤ S100000x1x128.size a)
theorem k0_off207_inb : ∀ (v1483 : BitVec 32) (k0_hw191 : k0_chk191 v1483), ∀ a, (k0_off207 v1483) a + S1x1x128.size a ≤ S100000x1x128.size a := fun v1483 k0_hw191 => k0_hw191

def k0_off208 (v1490 : BitVec 32) : Fin 3 → Nat :=
  let v1491 : Index := Scalar.indexCast v1490
  let c0_1017 : Index := 0#32
  let c0_1018 : Index := 0#32
  ![v1491.toNat, 0, 0]

def k0_chk192 (v1490 : BitVec 32) : Prop :=
  (∀ a, (k0_off208 v1490) a + S1x1x128.size a ≤ S100000x1x128.size a)
theorem k0_off208_inb : ∀ (v1490 : BitVec 32) (k0_hw192 : k0_chk192 v1490), ∀ a, (k0_off208 v1490) a + S1x1x128.size a ≤ S100000x1x128.size a := fun v1490 k0_hw192 => k0_hw192

def k0_off209 (v1497 : BitVec 32) : Fin 3 → Nat :=
  let v1498 : Index := Scalar.indexCast v1497
  let c0_1022 : Index := 0#32
  let c0_1023 : Index := 0#32
  ![v1498.toNat, 0, 0]

def k0_chk193 (v1497 : BitVec 32) : Prop :=
  (∀ a, (k0_off209 v1497) a + S1x1x128.size a ≤ S100000x1x128.size a)
theorem k0_off209_inb : ∀ (v1497 : BitVec 32) (k0_hw193 : k0_chk193 v1497), ∀ a, (k0_off209 v1497) a + S1x1x128.size a ≤ S100000x1x128.size a := fun v1497 k0_hw193 => k0_hw193

def k0_off210 (v1504 : BitVec 32) : Fin 3 → Nat :=
  let v1505 : Index := Scalar.indexCast v1504
  let c0_1027 : Index := 0#32
  let c0_1028 : Index := 0#32
  ![v1505.toNat, 0, 0]

def k0_chk194 (v1504 : BitVec 32) : Prop :=
  (∀ a, (k0_off210 v1504) a + S1x1x128.size a ≤ S100000x1x128.size a)
theorem k0_off210_inb : ∀ (v1504 : BitVec 32) (k0_hw194 : k0_chk194 v1504), ∀ a, (k0_off210 v1504) a + S1x1x128.size a ≤ S100000x1x128.size a := fun v1504 k0_hw194 => k0_hw194

def k0_off211 (v1511 : BitVec 32) : Fin 3 → Nat :=
  let v1512 : Index := Scalar.indexCast v1511
  let c0_1032 : Index := 0#32
  let c0_1033 : Index := 0#32
  ![v1512.toNat, 0, 0]

def k0_chk195 (v1511 : BitVec 32) : Prop :=
  (∀ a, (k0_off211 v1511) a + S1x1x128.size a ≤ S100000x1x128.size a)
theorem k0_off211_inb : ∀ (v1511 : BitVec 32) (k0_hw195 : k0_chk195 v1511), ∀ a, (k0_off211 v1511) a + S1x1x128.size a ≤ S100000x1x128.size a := fun v1511 k0_hw195 => k0_hw195

def k0_off212 (v1518 : BitVec 32) : Fin 3 → Nat :=
  let v1519 : Index := Scalar.indexCast v1518
  let c0_1037 : Index := 0#32
  let c0_1038 : Index := 0#32
  ![v1519.toNat, 0, 0]

def k0_chk196 (v1518 : BitVec 32) : Prop :=
  (∀ a, (k0_off212 v1518) a + S1x1x128.size a ≤ S100000x1x128.size a)
theorem k0_off212_inb : ∀ (v1518 : BitVec 32) (k0_hw196 : k0_chk196 v1518), ∀ a, (k0_off212 v1518) a + S1x1x128.size a ≤ S100000x1x128.size a := fun v1518 k0_hw196 => k0_hw196

def k0_off213 (v1525 : BitVec 32) : Fin 3 → Nat :=
  let v1526 : Index := Scalar.indexCast v1525
  let c0_1042 : Index := 0#32
  let c0_1043 : Index := 0#32
  ![v1526.toNat, 0, 0]

def k0_chk197 (v1525 : BitVec 32) : Prop :=
  (∀ a, (k0_off213 v1525) a + S1x1x128.size a ≤ S100000x1x128.size a)
theorem k0_off213_inb : ∀ (v1525 : BitVec 32) (k0_hw197 : k0_chk197 v1525), ∀ a, (k0_off213 v1525) a + S1x1x128.size a ≤ S100000x1x128.size a := fun v1525 k0_hw197 => k0_hw197

def k0_off214 (v1532 : BitVec 32) : Fin 3 → Nat :=
  let v1533 : Index := Scalar.indexCast v1532
  let c0_1047 : Index := 0#32
  let c0_1048 : Index := 0#32
  ![v1533.toNat, 0, 0]

def k0_chk198 (v1532 : BitVec 32) : Prop :=
  (∀ a, (k0_off214 v1532) a + S1x1x128.size a ≤ S100000x1x128.size a)
theorem k0_off214_inb : ∀ (v1532 : BitVec 32) (k0_hw198 : k0_chk198 v1532), ∀ a, (k0_off214 v1532) a + S1x1x128.size a ≤ S100000x1x128.size a := fun v1532 k0_hw198 => k0_hw198

def k0_off215 (v1539 : BitVec 32) : Fin 3 → Nat :=
  let v1540 : Index := Scalar.indexCast v1539
  let c0_1052 : Index := 0#32
  let c0_1053 : Index := 0#32
  ![v1540.toNat, 0, 0]

def k0_chk199 (v1539 : BitVec 32) : Prop :=
  (∀ a, (k0_off215 v1539) a + S1x1x128.size a ≤ S100000x1x128.size a)
theorem k0_off215_inb : ∀ (v1539 : BitVec 32) (k0_hw199 : k0_chk199 v1539), ∀ a, (k0_off215 v1539) a + S1x1x128.size a ≤ S100000x1x128.size a := fun v1539 k0_hw199 => k0_hw199

def k0_off216 (v1546 : BitVec 32) : Fin 3 → Nat :=
  let v1547 : Index := Scalar.indexCast v1546
  let c0_1057 : Index := 0#32
  let c0_1058 : Index := 0#32
  ![v1547.toNat, 0, 0]

def k0_chk200 (v1546 : BitVec 32) : Prop :=
  (∀ a, (k0_off216 v1546) a + S1x1x128.size a ≤ S100000x1x128.size a)
theorem k0_off216_inb : ∀ (v1546 : BitVec 32) (k0_hw200 : k0_chk200 v1546), ∀ a, (k0_off216 v1546) a + S1x1x128.size a ≤ S100000x1x128.size a := fun v1546 k0_hw200 => k0_hw200

def k0_off217 (v1553 : BitVec 32) : Fin 3 → Nat :=
  let v1554 : Index := Scalar.indexCast v1553
  let c0_1062 : Index := 0#32
  let c0_1063 : Index := 0#32
  ![v1554.toNat, 0, 0]

def k0_chk201 (v1553 : BitVec 32) : Prop :=
  (∀ a, (k0_off217 v1553) a + S1x1x128.size a ≤ S100000x1x128.size a)
theorem k0_off217_inb : ∀ (v1553 : BitVec 32) (k0_hw201 : k0_chk201 v1553), ∀ a, (k0_off217 v1553) a + S1x1x128.size a ≤ S100000x1x128.size a := fun v1553 k0_hw201 => k0_hw201

def k0_off218 (v1560 : BitVec 32) : Fin 3 → Nat :=
  let v1561 : Index := Scalar.indexCast v1560
  let c0_1067 : Index := 0#32
  let c0_1068 : Index := 0#32
  ![v1561.toNat, 0, 0]

def k0_chk202 (v1560 : BitVec 32) : Prop :=
  (∀ a, (k0_off218 v1560) a + S1x1x128.size a ≤ S100000x1x128.size a)
theorem k0_off218_inb : ∀ (v1560 : BitVec 32) (k0_hw202 : k0_chk202 v1560), ∀ a, (k0_off218 v1560) a + S1x1x128.size a ≤ S100000x1x128.size a := fun v1560 k0_hw202 => k0_hw202

def k0_off219 (v1567 : BitVec 32) : Fin 3 → Nat :=
  let v1568 : Index := Scalar.indexCast v1567
  let c0_1072 : Index := 0#32
  let c0_1073 : Index := 0#32
  ![v1568.toNat, 0, 0]

def k0_chk203 (v1567 : BitVec 32) : Prop :=
  (∀ a, (k0_off219 v1567) a + S1x1x128.size a ≤ S100000x1x128.size a)
theorem k0_off219_inb : ∀ (v1567 : BitVec 32) (k0_hw203 : k0_chk203 v1567), ∀ a, (k0_off219 v1567) a + S1x1x128.size a ≤ S100000x1x128.size a := fun v1567 k0_hw203 => k0_hw203

def k0_off220 (v1574 : BitVec 32) : Fin 3 → Nat :=
  let v1575 : Index := Scalar.indexCast v1574
  let c0_1077 : Index := 0#32
  let c0_1078 : Index := 0#32
  ![v1575.toNat, 0, 0]

def k0_chk204 (v1574 : BitVec 32) : Prop :=
  (∀ a, (k0_off220 v1574) a + S1x1x128.size a ≤ S100000x1x128.size a)
theorem k0_off220_inb : ∀ (v1574 : BitVec 32) (k0_hw204 : k0_chk204 v1574), ∀ a, (k0_off220 v1574) a + S1x1x128.size a ≤ S100000x1x128.size a := fun v1574 k0_hw204 => k0_hw204

def k0_off221 (v1581 : BitVec 32) : Fin 3 → Nat :=
  let v1582 : Index := Scalar.indexCast v1581
  let c0_1082 : Index := 0#32
  let c0_1083 : Index := 0#32
  ![v1582.toNat, 0, 0]

def k0_chk205 (v1581 : BitVec 32) : Prop :=
  (∀ a, (k0_off221 v1581) a + S1x1x128.size a ≤ S100000x1x128.size a)
theorem k0_off221_inb : ∀ (v1581 : BitVec 32) (k0_hw205 : k0_chk205 v1581), ∀ a, (k0_off221 v1581) a + S1x1x128.size a ≤ S100000x1x128.size a := fun v1581 k0_hw205 => k0_hw205

def k0_off222 (v1588 : BitVec 32) : Fin 3 → Nat :=
  let v1589 : Index := Scalar.indexCast v1588
  let c0_1087 : Index := 0#32
  let c0_1088 : Index := 0#32
  ![v1589.toNat, 0, 0]

def k0_chk206 (v1588 : BitVec 32) : Prop :=
  (∀ a, (k0_off222 v1588) a + S1x1x128.size a ≤ S100000x1x128.size a)
theorem k0_off222_inb : ∀ (v1588 : BitVec 32) (k0_hw206 : k0_chk206 v1588), ∀ a, (k0_off222 v1588) a + S1x1x128.size a ≤ S100000x1x128.size a := fun v1588 k0_hw206 => k0_hw206

def k0_off223 (v1595 : BitVec 32) : Fin 3 → Nat :=
  let v1596 : Index := Scalar.indexCast v1595
  let c0_1092 : Index := 0#32
  let c0_1093 : Index := 0#32
  ![v1596.toNat, 0, 0]

def k0_chk207 (v1595 : BitVec 32) : Prop :=
  (∀ a, (k0_off223 v1595) a + S1x1x128.size a ≤ S100000x1x128.size a)
theorem k0_off223_inb : ∀ (v1595 : BitVec 32) (k0_hw207 : k0_chk207 v1595), ∀ a, (k0_off223 v1595) a + S1x1x128.size a ≤ S100000x1x128.size a := fun v1595 k0_hw207 => k0_hw207

def k0_off224 (v1602 : BitVec 32) : Fin 3 → Nat :=
  let v1603 : Index := Scalar.indexCast v1602
  let c0_1097 : Index := 0#32
  let c0_1098 : Index := 0#32
  ![v1603.toNat, 0, 0]

def k0_chk208 (v1602 : BitVec 32) : Prop :=
  (∀ a, (k0_off224 v1602) a + S1x1x128.size a ≤ S100000x1x128.size a)
theorem k0_off224_inb : ∀ (v1602 : BitVec 32) (k0_hw208 : k0_chk208 v1602), ∀ a, (k0_off224 v1602) a + S1x1x128.size a ≤ S100000x1x128.size a := fun v1602 k0_hw208 => k0_hw208

def k0_off225 (v1609 : BitVec 32) : Fin 3 → Nat :=
  let v1610 : Index := Scalar.indexCast v1609
  let c0_1102 : Index := 0#32
  let c0_1103 : Index := 0#32
  ![v1610.toNat, 0, 0]

def k0_chk209 (v1609 : BitVec 32) : Prop :=
  (∀ a, (k0_off225 v1609) a + S1x1x128.size a ≤ S100000x1x128.size a)
theorem k0_off225_inb : ∀ (v1609 : BitVec 32) (k0_hw209 : k0_chk209 v1609), ∀ a, (k0_off225 v1609) a + S1x1x128.size a ≤ S100000x1x128.size a := fun v1609 k0_hw209 => k0_hw209

def k0_off226 (v1616 : BitVec 32) : Fin 3 → Nat :=
  let v1617 : Index := Scalar.indexCast v1616
  let c0_1107 : Index := 0#32
  let c0_1108 : Index := 0#32
  ![v1617.toNat, 0, 0]

def k0_chk210 (v1616 : BitVec 32) : Prop :=
  (∀ a, (k0_off226 v1616) a + S1x1x128.size a ≤ S100000x1x128.size a)
theorem k0_off226_inb : ∀ (v1616 : BitVec 32) (k0_hw210 : k0_chk210 v1616), ∀ a, (k0_off226 v1616) a + S1x1x128.size a ≤ S100000x1x128.size a := fun v1616 k0_hw210 => k0_hw210

def k0_off227 (v1623 : BitVec 32) : Fin 3 → Nat :=
  let v1624 : Index := Scalar.indexCast v1623
  let c0_1112 : Index := 0#32
  let c0_1113 : Index := 0#32
  ![v1624.toNat, 0, 0]

def k0_chk211 (v1623 : BitVec 32) : Prop :=
  (∀ a, (k0_off227 v1623) a + S1x1x128.size a ≤ S100000x1x128.size a)
theorem k0_off227_inb : ∀ (v1623 : BitVec 32) (k0_hw211 : k0_chk211 v1623), ∀ a, (k0_off227 v1623) a + S1x1x128.size a ≤ S100000x1x128.size a := fun v1623 k0_hw211 => k0_hw211

def k0_off228 (v1630 : BitVec 32) : Fin 3 → Nat :=
  let v1631 : Index := Scalar.indexCast v1630
  let c0_1117 : Index := 0#32
  let c0_1118 : Index := 0#32
  ![v1631.toNat, 0, 0]

def k0_chk212 (v1630 : BitVec 32) : Prop :=
  (∀ a, (k0_off228 v1630) a + S1x1x128.size a ≤ S100000x1x128.size a)
theorem k0_off228_inb : ∀ (v1630 : BitVec 32) (k0_hw212 : k0_chk212 v1630), ∀ a, (k0_off228 v1630) a + S1x1x128.size a ≤ S100000x1x128.size a := fun v1630 k0_hw212 => k0_hw212

def k0_off229 (v1637 : BitVec 32) : Fin 3 → Nat :=
  let v1638 : Index := Scalar.indexCast v1637
  let c0_1122 : Index := 0#32
  let c0_1123 : Index := 0#32
  ![v1638.toNat, 0, 0]

def k0_chk213 (v1637 : BitVec 32) : Prop :=
  (∀ a, (k0_off229 v1637) a + S1x1x128.size a ≤ S100000x1x128.size a)
theorem k0_off229_inb : ∀ (v1637 : BitVec 32) (k0_hw213 : k0_chk213 v1637), ∀ a, (k0_off229 v1637) a + S1x1x128.size a ≤ S100000x1x128.size a := fun v1637 k0_hw213 => k0_hw213

def k0_off230 (v1644 : BitVec 32) : Fin 3 → Nat :=
  let v1645 : Index := Scalar.indexCast v1644
  let c0_1127 : Index := 0#32
  let c0_1128 : Index := 0#32
  ![v1645.toNat, 0, 0]

def k0_chk214 (v1644 : BitVec 32) : Prop :=
  (∀ a, (k0_off230 v1644) a + S1x1x128.size a ≤ S100000x1x128.size a)
theorem k0_off230_inb : ∀ (v1644 : BitVec 32) (k0_hw214 : k0_chk214 v1644), ∀ a, (k0_off230 v1644) a + S1x1x128.size a ≤ S100000x1x128.size a := fun v1644 k0_hw214 => k0_hw214

def k0_off231 (v1651 : BitVec 32) : Fin 3 → Nat :=
  let v1652 : Index := Scalar.indexCast v1651
  let c0_1132 : Index := 0#32
  let c0_1133 : Index := 0#32
  ![v1652.toNat, 0, 0]

def k0_chk215 (v1651 : BitVec 32) : Prop :=
  (∀ a, (k0_off231 v1651) a + S1x1x128.size a ≤ S100000x1x128.size a)
theorem k0_off231_inb : ∀ (v1651 : BitVec 32) (k0_hw215 : k0_chk215 v1651), ∀ a, (k0_off231 v1651) a + S1x1x128.size a ≤ S100000x1x128.size a := fun v1651 k0_hw215 => k0_hw215

def k0_off232 (v1658 : BitVec 32) : Fin 3 → Nat :=
  let v1659 : Index := Scalar.indexCast v1658
  let c0_1137 : Index := 0#32
  let c0_1138 : Index := 0#32
  ![v1659.toNat, 0, 0]

def k0_chk216 (v1658 : BitVec 32) : Prop :=
  (∀ a, (k0_off232 v1658) a + S1x1x128.size a ≤ S100000x1x128.size a)
theorem k0_off232_inb : ∀ (v1658 : BitVec 32) (k0_hw216 : k0_chk216 v1658), ∀ a, (k0_off232 v1658) a + S1x1x128.size a ≤ S100000x1x128.size a := fun v1658 k0_hw216 => k0_hw216

def k0_off233 (v1665 : BitVec 32) : Fin 3 → Nat :=
  let v1666 : Index := Scalar.indexCast v1665
  let c0_1142 : Index := 0#32
  let c0_1143 : Index := 0#32
  ![v1666.toNat, 0, 0]

def k0_chk217 (v1665 : BitVec 32) : Prop :=
  (∀ a, (k0_off233 v1665) a + S1x1x128.size a ≤ S100000x1x128.size a)
theorem k0_off233_inb : ∀ (v1665 : BitVec 32) (k0_hw217 : k0_chk217 v1665), ∀ a, (k0_off233 v1665) a + S1x1x128.size a ≤ S100000x1x128.size a := fun v1665 k0_hw217 => k0_hw217

def k0_off234 (v1672 : BitVec 32) : Fin 3 → Nat :=
  let v1673 : Index := Scalar.indexCast v1672
  let c0_1147 : Index := 0#32
  let c0_1148 : Index := 0#32
  ![v1673.toNat, 0, 0]

def k0_chk218 (v1672 : BitVec 32) : Prop :=
  (∀ a, (k0_off234 v1672) a + S1x1x128.size a ≤ S100000x1x128.size a)
theorem k0_off234_inb : ∀ (v1672 : BitVec 32) (k0_hw218 : k0_chk218 v1672), ∀ a, (k0_off234 v1672) a + S1x1x128.size a ≤ S100000x1x128.size a := fun v1672 k0_hw218 => k0_hw218

def k0_off235 (v1679 : BitVec 32) : Fin 3 → Nat :=
  let v1680 : Index := Scalar.indexCast v1679
  let c0_1152 : Index := 0#32
  let c0_1153 : Index := 0#32
  ![v1680.toNat, 0, 0]

def k0_chk219 (v1679 : BitVec 32) : Prop :=
  (∀ a, (k0_off235 v1679) a + S1x1x128.size a ≤ S100000x1x128.size a)
theorem k0_off235_inb : ∀ (v1679 : BitVec 32) (k0_hw219 : k0_chk219 v1679), ∀ a, (k0_off235 v1679) a + S1x1x128.size a ≤ S100000x1x128.size a := fun v1679 k0_hw219 => k0_hw219

def k0_off236 (v1686 : BitVec 32) : Fin 3 → Nat :=
  let v1687 : Index := Scalar.indexCast v1686
  let c0_1157 : Index := 0#32
  let c0_1158 : Index := 0#32
  ![v1687.toNat, 0, 0]

def k0_chk220 (v1686 : BitVec 32) : Prop :=
  (∀ a, (k0_off236 v1686) a + S1x1x128.size a ≤ S100000x1x128.size a)
theorem k0_off236_inb : ∀ (v1686 : BitVec 32) (k0_hw220 : k0_chk220 v1686), ∀ a, (k0_off236 v1686) a + S1x1x128.size a ≤ S100000x1x128.size a := fun v1686 k0_hw220 => k0_hw220

def k0_off237 (v1693 : BitVec 32) : Fin 3 → Nat :=
  let v1694 : Index := Scalar.indexCast v1693
  let c0_1162 : Index := 0#32
  let c0_1163 : Index := 0#32
  ![v1694.toNat, 0, 0]

def k0_chk221 (v1693 : BitVec 32) : Prop :=
  (∀ a, (k0_off237 v1693) a + S1x1x128.size a ≤ S100000x1x128.size a)
theorem k0_off237_inb : ∀ (v1693 : BitVec 32) (k0_hw221 : k0_chk221 v1693), ∀ a, (k0_off237 v1693) a + S1x1x128.size a ≤ S100000x1x128.size a := fun v1693 k0_hw221 => k0_hw221

def k0_off238 (v1700 : BitVec 32) : Fin 3 → Nat :=
  let v1701 : Index := Scalar.indexCast v1700
  let c0_1167 : Index := 0#32
  let c0_1168 : Index := 0#32
  ![v1701.toNat, 0, 0]

def k0_chk222 (v1700 : BitVec 32) : Prop :=
  (∀ a, (k0_off238 v1700) a + S1x1x128.size a ≤ S100000x1x128.size a)
theorem k0_off238_inb : ∀ (v1700 : BitVec 32) (k0_hw222 : k0_chk222 v1700), ∀ a, (k0_off238 v1700) a + S1x1x128.size a ≤ S100000x1x128.size a := fun v1700 k0_hw222 => k0_hw222

def k0_off239 (v1707 : BitVec 32) : Fin 3 → Nat :=
  let v1708 : Index := Scalar.indexCast v1707
  let c0_1172 : Index := 0#32
  let c0_1173 : Index := 0#32
  ![v1708.toNat, 0, 0]

def k0_chk223 (v1707 : BitVec 32) : Prop :=
  (∀ a, (k0_off239 v1707) a + S1x1x128.size a ≤ S100000x1x128.size a)
theorem k0_off239_inb : ∀ (v1707 : BitVec 32) (k0_hw223 : k0_chk223 v1707), ∀ a, (k0_off239 v1707) a + S1x1x128.size a ≤ S100000x1x128.size a := fun v1707 k0_hw223 => k0_hw223

def k0_off240 (v1714 : BitVec 32) : Fin 3 → Nat :=
  let v1715 : Index := Scalar.indexCast v1714
  let c0_1177 : Index := 0#32
  let c0_1178 : Index := 0#32
  ![v1715.toNat, 0, 0]

def k0_chk224 (v1714 : BitVec 32) : Prop :=
  (∀ a, (k0_off240 v1714) a + S1x1x128.size a ≤ S100000x1x128.size a)
theorem k0_off240_inb : ∀ (v1714 : BitVec 32) (k0_hw224 : k0_chk224 v1714), ∀ a, (k0_off240 v1714) a + S1x1x128.size a ≤ S100000x1x128.size a := fun v1714 k0_hw224 => k0_hw224

def k0_off241 (v1721 : BitVec 32) : Fin 3 → Nat :=
  let v1722 : Index := Scalar.indexCast v1721
  let c0_1182 : Index := 0#32
  let c0_1183 : Index := 0#32
  ![v1722.toNat, 0, 0]

def k0_chk225 (v1721 : BitVec 32) : Prop :=
  (∀ a, (k0_off241 v1721) a + S1x1x128.size a ≤ S100000x1x128.size a)
theorem k0_off241_inb : ∀ (v1721 : BitVec 32) (k0_hw225 : k0_chk225 v1721), ∀ a, (k0_off241 v1721) a + S1x1x128.size a ≤ S100000x1x128.size a := fun v1721 k0_hw225 => k0_hw225

def k0_off242 (v1728 : BitVec 32) : Fin 3 → Nat :=
  let v1729 : Index := Scalar.indexCast v1728
  let c0_1187 : Index := 0#32
  let c0_1188 : Index := 0#32
  ![v1729.toNat, 0, 0]

def k0_chk226 (v1728 : BitVec 32) : Prop :=
  (∀ a, (k0_off242 v1728) a + S1x1x128.size a ≤ S100000x1x128.size a)
theorem k0_off242_inb : ∀ (v1728 : BitVec 32) (k0_hw226 : k0_chk226 v1728), ∀ a, (k0_off242 v1728) a + S1x1x128.size a ≤ S100000x1x128.size a := fun v1728 k0_hw226 => k0_hw226

def k0_off243 (v1735 : BitVec 32) : Fin 3 → Nat :=
  let v1736 : Index := Scalar.indexCast v1735
  let c0_1192 : Index := 0#32
  let c0_1193 : Index := 0#32
  ![v1736.toNat, 0, 0]

def k0_chk227 (v1735 : BitVec 32) : Prop :=
  (∀ a, (k0_off243 v1735) a + S1x1x128.size a ≤ S100000x1x128.size a)
theorem k0_off243_inb : ∀ (v1735 : BitVec 32) (k0_hw227 : k0_chk227 v1735), ∀ a, (k0_off243 v1735) a + S1x1x128.size a ≤ S100000x1x128.size a := fun v1735 k0_hw227 => k0_hw227

def k0_off244 (v1742 : BitVec 32) : Fin 3 → Nat :=
  let v1743 : Index := Scalar.indexCast v1742
  let c0_1197 : Index := 0#32
  let c0_1198 : Index := 0#32
  ![v1743.toNat, 0, 0]

def k0_chk228 (v1742 : BitVec 32) : Prop :=
  (∀ a, (k0_off244 v1742) a + S1x1x128.size a ≤ S100000x1x128.size a)
theorem k0_off244_inb : ∀ (v1742 : BitVec 32) (k0_hw228 : k0_chk228 v1742), ∀ a, (k0_off244 v1742) a + S1x1x128.size a ≤ S100000x1x128.size a := fun v1742 k0_hw228 => k0_hw228

def k0_off245 (v1749 : BitVec 32) : Fin 3 → Nat :=
  let v1750 : Index := Scalar.indexCast v1749
  let c0_1202 : Index := 0#32
  let c0_1203 : Index := 0#32
  ![v1750.toNat, 0, 0]

def k0_chk229 (v1749 : BitVec 32) : Prop :=
  (∀ a, (k0_off245 v1749) a + S1x1x128.size a ≤ S100000x1x128.size a)
theorem k0_off245_inb : ∀ (v1749 : BitVec 32) (k0_hw229 : k0_chk229 v1749), ∀ a, (k0_off245 v1749) a + S1x1x128.size a ≤ S100000x1x128.size a := fun v1749 k0_hw229 => k0_hw229

def k0_off246 (v1756 : BitVec 32) : Fin 3 → Nat :=
  let v1757 : Index := Scalar.indexCast v1756
  let c0_1207 : Index := 0#32
  let c0_1208 : Index := 0#32
  ![v1757.toNat, 0, 0]

def k0_chk230 (v1756 : BitVec 32) : Prop :=
  (∀ a, (k0_off246 v1756) a + S1x1x128.size a ≤ S100000x1x128.size a)
theorem k0_off246_inb : ∀ (v1756 : BitVec 32) (k0_hw230 : k0_chk230 v1756), ∀ a, (k0_off246 v1756) a + S1x1x128.size a ≤ S100000x1x128.size a := fun v1756 k0_hw230 => k0_hw230

def k0_off247 (v1763 : BitVec 32) : Fin 3 → Nat :=
  let v1764 : Index := Scalar.indexCast v1763
  let c0_1212 : Index := 0#32
  let c0_1213 : Index := 0#32
  ![v1764.toNat, 0, 0]

def k0_chk231 (v1763 : BitVec 32) : Prop :=
  (∀ a, (k0_off247 v1763) a + S1x1x128.size a ≤ S100000x1x128.size a)
theorem k0_off247_inb : ∀ (v1763 : BitVec 32) (k0_hw231 : k0_chk231 v1763), ∀ a, (k0_off247 v1763) a + S1x1x128.size a ≤ S100000x1x128.size a := fun v1763 k0_hw231 => k0_hw231

def k0_off248 (v1770 : BitVec 32) : Fin 3 → Nat :=
  let v1771 : Index := Scalar.indexCast v1770
  let c0_1217 : Index := 0#32
  let c0_1218 : Index := 0#32
  ![v1771.toNat, 0, 0]

def k0_chk232 (v1770 : BitVec 32) : Prop :=
  (∀ a, (k0_off248 v1770) a + S1x1x128.size a ≤ S100000x1x128.size a)
theorem k0_off248_inb : ∀ (v1770 : BitVec 32) (k0_hw232 : k0_chk232 v1770), ∀ a, (k0_off248 v1770) a + S1x1x128.size a ≤ S100000x1x128.size a := fun v1770 k0_hw232 => k0_hw232

def k0_off249 (v1777 : BitVec 32) : Fin 3 → Nat :=
  let v1778 : Index := Scalar.indexCast v1777
  let c0_1222 : Index := 0#32
  let c0_1223 : Index := 0#32
  ![v1778.toNat, 0, 0]

def k0_chk233 (v1777 : BitVec 32) : Prop :=
  (∀ a, (k0_off249 v1777) a + S1x1x128.size a ≤ S100000x1x128.size a)
theorem k0_off249_inb : ∀ (v1777 : BitVec 32) (k0_hw233 : k0_chk233 v1777), ∀ a, (k0_off249 v1777) a + S1x1x128.size a ≤ S100000x1x128.size a := fun v1777 k0_hw233 => k0_hw233

def k0_off250 (v1784 : BitVec 32) : Fin 3 → Nat :=
  let v1785 : Index := Scalar.indexCast v1784
  let c0_1227 : Index := 0#32
  let c0_1228 : Index := 0#32
  ![v1785.toNat, 0, 0]

def k0_chk234 (v1784 : BitVec 32) : Prop :=
  (∀ a, (k0_off250 v1784) a + S1x1x128.size a ≤ S100000x1x128.size a)
theorem k0_off250_inb : ∀ (v1784 : BitVec 32) (k0_hw234 : k0_chk234 v1784), ∀ a, (k0_off250 v1784) a + S1x1x128.size a ≤ S100000x1x128.size a := fun v1784 k0_hw234 => k0_hw234

def k0_off251 (v1791 : BitVec 32) : Fin 3 → Nat :=
  let v1792 : Index := Scalar.indexCast v1791
  let c0_1232 : Index := 0#32
  let c0_1233 : Index := 0#32
  ![v1792.toNat, 0, 0]

def k0_chk235 (v1791 : BitVec 32) : Prop :=
  (∀ a, (k0_off251 v1791) a + S1x1x128.size a ≤ S100000x1x128.size a)
theorem k0_off251_inb : ∀ (v1791 : BitVec 32) (k0_hw235 : k0_chk235 v1791), ∀ a, (k0_off251 v1791) a + S1x1x128.size a ≤ S100000x1x128.size a := fun v1791 k0_hw235 => k0_hw235

def k0_off252 (v1798 : BitVec 32) : Fin 3 → Nat :=
  let v1799 : Index := Scalar.indexCast v1798
  let c0_1237 : Index := 0#32
  let c0_1238 : Index := 0#32
  ![v1799.toNat, 0, 0]

def k0_chk236 (v1798 : BitVec 32) : Prop :=
  (∀ a, (k0_off252 v1798) a + S1x1x128.size a ≤ S100000x1x128.size a)
theorem k0_off252_inb : ∀ (v1798 : BitVec 32) (k0_hw236 : k0_chk236 v1798), ∀ a, (k0_off252 v1798) a + S1x1x128.size a ≤ S100000x1x128.size a := fun v1798 k0_hw236 => k0_hw236

def k0_off253 (v1805 : BitVec 32) : Fin 3 → Nat :=
  let v1806 : Index := Scalar.indexCast v1805
  let c0_1242 : Index := 0#32
  let c0_1243 : Index := 0#32
  ![v1806.toNat, 0, 0]

def k0_chk237 (v1805 : BitVec 32) : Prop :=
  (∀ a, (k0_off253 v1805) a + S1x1x128.size a ≤ S100000x1x128.size a)
theorem k0_off253_inb : ∀ (v1805 : BitVec 32) (k0_hw237 : k0_chk237 v1805), ∀ a, (k0_off253 v1805) a + S1x1x128.size a ≤ S100000x1x128.size a := fun v1805 k0_hw237 => k0_hw237

def k0_off254 (v1812 : BitVec 32) : Fin 3 → Nat :=
  let v1813 : Index := Scalar.indexCast v1812
  let c0_1247 : Index := 0#32
  let c0_1248 : Index := 0#32
  ![v1813.toNat, 0, 0]

def k0_chk238 (v1812 : BitVec 32) : Prop :=
  (∀ a, (k0_off254 v1812) a + S1x1x128.size a ≤ S100000x1x128.size a)
theorem k0_off254_inb : ∀ (v1812 : BitVec 32) (k0_hw238 : k0_chk238 v1812), ∀ a, (k0_off254 v1812) a + S1x1x128.size a ≤ S100000x1x128.size a := fun v1812 k0_hw238 => k0_hw238

def k0_off255 (v1819 : BitVec 32) : Fin 3 → Nat :=
  let v1820 : Index := Scalar.indexCast v1819
  let c0_1252 : Index := 0#32
  let c0_1253 : Index := 0#32
  ![v1820.toNat, 0, 0]

def k0_chk239 (v1819 : BitVec 32) : Prop :=
  (∀ a, (k0_off255 v1819) a + S1x1x128.size a ≤ S100000x1x128.size a)
theorem k0_off255_inb : ∀ (v1819 : BitVec 32) (k0_hw239 : k0_chk239 v1819), ∀ a, (k0_off255 v1819) a + S1x1x128.size a ≤ S100000x1x128.size a := fun v1819 k0_hw239 => k0_hw239

def k0_off256 (v1826 : BitVec 32) : Fin 3 → Nat :=
  let v1827 : Index := Scalar.indexCast v1826
  let c0_1257 : Index := 0#32
  let c0_1258 : Index := 0#32
  ![v1827.toNat, 0, 0]

def k0_chk240 (v1826 : BitVec 32) : Prop :=
  (∀ a, (k0_off256 v1826) a + S1x1x128.size a ≤ S100000x1x128.size a)
theorem k0_off256_inb : ∀ (v1826 : BitVec 32) (k0_hw240 : k0_chk240 v1826), ∀ a, (k0_off256 v1826) a + S1x1x128.size a ≤ S100000x1x128.size a := fun v1826 k0_hw240 => k0_hw240

def k0_off257 (v1833 : BitVec 32) : Fin 3 → Nat :=
  let v1834 : Index := Scalar.indexCast v1833
  let c0_1262 : Index := 0#32
  let c0_1263 : Index := 0#32
  ![v1834.toNat, 0, 0]

def k0_chk241 (v1833 : BitVec 32) : Prop :=
  (∀ a, (k0_off257 v1833) a + S1x1x128.size a ≤ S100000x1x128.size a)
theorem k0_off257_inb : ∀ (v1833 : BitVec 32) (k0_hw241 : k0_chk241 v1833), ∀ a, (k0_off257 v1833) a + S1x1x128.size a ≤ S100000x1x128.size a := fun v1833 k0_hw241 => k0_hw241

def k0_off258 (v1840 : BitVec 32) : Fin 3 → Nat :=
  let v1841 : Index := Scalar.indexCast v1840
  let c0_1267 : Index := 0#32
  let c0_1268 : Index := 0#32
  ![v1841.toNat, 0, 0]

def k0_chk242 (v1840 : BitVec 32) : Prop :=
  (∀ a, (k0_off258 v1840) a + S1x1x128.size a ≤ S100000x1x128.size a)
theorem k0_off258_inb : ∀ (v1840 : BitVec 32) (k0_hw242 : k0_chk242 v1840), ∀ a, (k0_off258 v1840) a + S1x1x128.size a ≤ S100000x1x128.size a := fun v1840 k0_hw242 => k0_hw242

def k0_off259 (v1847 : BitVec 32) : Fin 3 → Nat :=
  let v1848 : Index := Scalar.indexCast v1847
  let c0_1272 : Index := 0#32
  let c0_1273 : Index := 0#32
  ![v1848.toNat, 0, 0]

def k0_chk243 (v1847 : BitVec 32) : Prop :=
  (∀ a, (k0_off259 v1847) a + S1x1x128.size a ≤ S100000x1x128.size a)
theorem k0_off259_inb : ∀ (v1847 : BitVec 32) (k0_hw243 : k0_chk243 v1847), ∀ a, (k0_off259 v1847) a + S1x1x128.size a ≤ S100000x1x128.size a := fun v1847 k0_hw243 => k0_hw243

def k0_off260 (v1854 : BitVec 32) : Fin 3 → Nat :=
  let v1855 : Index := Scalar.indexCast v1854
  let c0_1277 : Index := 0#32
  let c0_1278 : Index := 0#32
  ![v1855.toNat, 0, 0]

def k0_chk244 (v1854 : BitVec 32) : Prop :=
  (∀ a, (k0_off260 v1854) a + S1x1x128.size a ≤ S100000x1x128.size a)
theorem k0_off260_inb : ∀ (v1854 : BitVec 32) (k0_hw244 : k0_chk244 v1854), ∀ a, (k0_off260 v1854) a + S1x1x128.size a ≤ S100000x1x128.size a := fun v1854 k0_hw244 => k0_hw244

def k0_off261 (v1861 : BitVec 32) : Fin 3 → Nat :=
  let v1862 : Index := Scalar.indexCast v1861
  let c0_1282 : Index := 0#32
  let c0_1283 : Index := 0#32
  ![v1862.toNat, 0, 0]

def k0_chk245 (v1861 : BitVec 32) : Prop :=
  (∀ a, (k0_off261 v1861) a + S1x1x128.size a ≤ S100000x1x128.size a)
theorem k0_off261_inb : ∀ (v1861 : BitVec 32) (k0_hw245 : k0_chk245 v1861), ∀ a, (k0_off261 v1861) a + S1x1x128.size a ≤ S100000x1x128.size a := fun v1861 k0_hw245 => k0_hw245

def k0_off262 (v1868 : BitVec 32) : Fin 3 → Nat :=
  let v1869 : Index := Scalar.indexCast v1868
  let c0_1287 : Index := 0#32
  let c0_1288 : Index := 0#32
  ![v1869.toNat, 0, 0]

def k0_chk246 (v1868 : BitVec 32) : Prop :=
  (∀ a, (k0_off262 v1868) a + S1x1x128.size a ≤ S100000x1x128.size a)
theorem k0_off262_inb : ∀ (v1868 : BitVec 32) (k0_hw246 : k0_chk246 v1868), ∀ a, (k0_off262 v1868) a + S1x1x128.size a ≤ S100000x1x128.size a := fun v1868 k0_hw246 => k0_hw246

def k0_off263 (v1875 : BitVec 32) : Fin 3 → Nat :=
  let v1876 : Index := Scalar.indexCast v1875
  let c0_1292 : Index := 0#32
  let c0_1293 : Index := 0#32
  ![v1876.toNat, 0, 0]

def k0_chk247 (v1875 : BitVec 32) : Prop :=
  (∀ a, (k0_off263 v1875) a + S1x1x128.size a ≤ S100000x1x128.size a)
theorem k0_off263_inb : ∀ (v1875 : BitVec 32) (k0_hw247 : k0_chk247 v1875), ∀ a, (k0_off263 v1875) a + S1x1x128.size a ≤ S100000x1x128.size a := fun v1875 k0_hw247 => k0_hw247

def k0_off264 (v1882 : BitVec 32) : Fin 3 → Nat :=
  let v1883 : Index := Scalar.indexCast v1882
  let c0_1297 : Index := 0#32
  let c0_1298 : Index := 0#32
  ![v1883.toNat, 0, 0]

def k0_chk248 (v1882 : BitVec 32) : Prop :=
  (∀ a, (k0_off264 v1882) a + S1x1x128.size a ≤ S100000x1x128.size a)
theorem k0_off264_inb : ∀ (v1882 : BitVec 32) (k0_hw248 : k0_chk248 v1882), ∀ a, (k0_off264 v1882) a + S1x1x128.size a ≤ S100000x1x128.size a := fun v1882 k0_hw248 => k0_hw248

def k0_off265 (v1889 : BitVec 32) : Fin 3 → Nat :=
  let v1890 : Index := Scalar.indexCast v1889
  let c0_1302 : Index := 0#32
  let c0_1303 : Index := 0#32
  ![v1890.toNat, 0, 0]

def k0_chk249 (v1889 : BitVec 32) : Prop :=
  (∀ a, (k0_off265 v1889) a + S1x1x128.size a ≤ S100000x1x128.size a)
theorem k0_off265_inb : ∀ (v1889 : BitVec 32) (k0_hw249 : k0_chk249 v1889), ∀ a, (k0_off265 v1889) a + S1x1x128.size a ≤ S100000x1x128.size a := fun v1889 k0_hw249 => k0_hw249

def k0_off266 (v1896 : BitVec 32) : Fin 3 → Nat :=
  let v1897 : Index := Scalar.indexCast v1896
  let c0_1307 : Index := 0#32
  let c0_1308 : Index := 0#32
  ![v1897.toNat, 0, 0]

def k0_chk250 (v1896 : BitVec 32) : Prop :=
  (∀ a, (k0_off266 v1896) a + S1x1x128.size a ≤ S100000x1x128.size a)
theorem k0_off266_inb : ∀ (v1896 : BitVec 32) (k0_hw250 : k0_chk250 v1896), ∀ a, (k0_off266 v1896) a + S1x1x128.size a ≤ S100000x1x128.size a := fun v1896 k0_hw250 => k0_hw250

def k0_off267 (v1903 : BitVec 32) : Fin 3 → Nat :=
  let v1904 : Index := Scalar.indexCast v1903
  let c0_1312 : Index := 0#32
  let c0_1313 : Index := 0#32
  ![v1904.toNat, 0, 0]

def k0_chk251 (v1903 : BitVec 32) : Prop :=
  (∀ a, (k0_off267 v1903) a + S1x1x128.size a ≤ S100000x1x128.size a)
theorem k0_off267_inb : ∀ (v1903 : BitVec 32) (k0_hw251 : k0_chk251 v1903), ∀ a, (k0_off267 v1903) a + S1x1x128.size a ≤ S100000x1x128.size a := fun v1903 k0_hw251 => k0_hw251

def k0_off268 (v1910 : BitVec 32) : Fin 3 → Nat :=
  let v1911 : Index := Scalar.indexCast v1910
  let c0_1317 : Index := 0#32
  let c0_1318 : Index := 0#32
  ![v1911.toNat, 0, 0]

def k0_chk252 (v1910 : BitVec 32) : Prop :=
  (∀ a, (k0_off268 v1910) a + S1x1x128.size a ≤ S100000x1x128.size a)
theorem k0_off268_inb : ∀ (v1910 : BitVec 32) (k0_hw252 : k0_chk252 v1910), ∀ a, (k0_off268 v1910) a + S1x1x128.size a ≤ S100000x1x128.size a := fun v1910 k0_hw252 => k0_hw252

def k0_off269 (v1917 : BitVec 32) : Fin 3 → Nat :=
  let v1918 : Index := Scalar.indexCast v1917
  let c0_1322 : Index := 0#32
  let c0_1323 : Index := 0#32
  ![v1918.toNat, 0, 0]

def k0_chk253 (v1917 : BitVec 32) : Prop :=
  (∀ a, (k0_off269 v1917) a + S1x1x128.size a ≤ S100000x1x128.size a)
theorem k0_off269_inb : ∀ (v1917 : BitVec 32) (k0_hw253 : k0_chk253 v1917), ∀ a, (k0_off269 v1917) a + S1x1x128.size a ≤ S100000x1x128.size a := fun v1917 k0_hw253 => k0_hw253

def k0_off270 (v1924 : BitVec 32) : Fin 3 → Nat :=
  let v1925 : Index := Scalar.indexCast v1924
  let c0_1327 : Index := 0#32
  let c0_1328 : Index := 0#32
  ![v1925.toNat, 0, 0]

def k0_chk254 (v1924 : BitVec 32) : Prop :=
  (∀ a, (k0_off270 v1924) a + S1x1x128.size a ≤ S100000x1x128.size a)
theorem k0_off270_inb : ∀ (v1924 : BitVec 32) (k0_hw254 : k0_chk254 v1924), ∀ a, (k0_off270 v1924) a + S1x1x128.size a ≤ S100000x1x128.size a := fun v1924 k0_hw254 => k0_hw254

def k0_off271 (v1931 : BitVec 32) : Fin 3 → Nat :=
  let v1932 : Index := Scalar.indexCast v1931
  let c0_1332 : Index := 0#32
  let c0_1333 : Index := 0#32
  ![v1932.toNat, 0, 0]

def k0_chk255 (v1931 : BitVec 32) : Prop :=
  (∀ a, (k0_off271 v1931) a + S1x1x128.size a ≤ S100000x1x128.size a)
theorem k0_off271_inb : ∀ (v1931 : BitVec 32) (k0_hw255 : k0_chk255 v1931), ∀ a, (k0_off271 v1931) a + S1x1x128.size a ≤ S100000x1x128.size a := fun v1931 k0_hw255 => k0_hw255

def k0_off272 (v1938 : BitVec 32) : Fin 3 → Nat :=
  let v1939 : Index := Scalar.indexCast v1938
  let c0_1337 : Index := 0#32
  let c0_1338 : Index := 0#32
  ![v1939.toNat, 0, 0]

def k0_chk256 (v1938 : BitVec 32) : Prop :=
  (∀ a, (k0_off272 v1938) a + S1x1x128.size a ≤ S100000x1x128.size a)
theorem k0_off272_inb : ∀ (v1938 : BitVec 32) (k0_hw256 : k0_chk256 v1938), ∀ a, (k0_off272 v1938) a + S1x1x128.size a ≤ S100000x1x128.size a := fun v1938 k0_hw256 => k0_hw256

def k0_off273 (v1945 : BitVec 32) : Fin 3 → Nat :=
  let v1946 : Index := Scalar.indexCast v1945
  let c0_1342 : Index := 0#32
  let c0_1343 : Index := 0#32
  ![v1946.toNat, 0, 0]

def k0_chk257 (v1945 : BitVec 32) : Prop :=
  (∀ a, (k0_off273 v1945) a + S1x1x128.size a ≤ S100000x1x128.size a)
theorem k0_off273_inb : ∀ (v1945 : BitVec 32) (k0_hw257 : k0_chk257 v1945), ∀ a, (k0_off273 v1945) a + S1x1x128.size a ≤ S100000x1x128.size a := fun v1945 k0_hw257 => k0_hw257

def k0_off274 (v1952 : BitVec 32) : Fin 3 → Nat :=
  let v1953 : Index := Scalar.indexCast v1952
  let c0_1347 : Index := 0#32
  let c0_1348 : Index := 0#32
  ![v1953.toNat, 0, 0]

def k0_chk258 (v1952 : BitVec 32) : Prop :=
  (∀ a, (k0_off274 v1952) a + S1x1x128.size a ≤ S100000x1x128.size a)
theorem k0_off274_inb : ∀ (v1952 : BitVec 32) (k0_hw258 : k0_chk258 v1952), ∀ a, (k0_off274 v1952) a + S1x1x128.size a ≤ S100000x1x128.size a := fun v1952 k0_hw258 => k0_hw258

def k0_off275 (v1959 : BitVec 32) : Fin 3 → Nat :=
  let v1960 : Index := Scalar.indexCast v1959
  let c0_1352 : Index := 0#32
  let c0_1353 : Index := 0#32
  ![v1960.toNat, 0, 0]

def k0_chk259 (v1959 : BitVec 32) : Prop :=
  (∀ a, (k0_off275 v1959) a + S1x1x128.size a ≤ S100000x1x128.size a)
theorem k0_off275_inb : ∀ (v1959 : BitVec 32) (k0_hw259 : k0_chk259 v1959), ∀ a, (k0_off275 v1959) a + S1x1x128.size a ≤ S100000x1x128.size a := fun v1959 k0_hw259 => k0_hw259

def k0_off276 (v1966 : BitVec 32) : Fin 3 → Nat :=
  let v1967 : Index := Scalar.indexCast v1966
  let c0_1357 : Index := 0#32
  let c0_1358 : Index := 0#32
  ![v1967.toNat, 0, 0]

def k0_chk260 (v1966 : BitVec 32) : Prop :=
  (∀ a, (k0_off276 v1966) a + S1x1x128.size a ≤ S100000x1x128.size a)
theorem k0_off276_inb : ∀ (v1966 : BitVec 32) (k0_hw260 : k0_chk260 v1966), ∀ a, (k0_off276 v1966) a + S1x1x128.size a ≤ S100000x1x128.size a := fun v1966 k0_hw260 => k0_hw260

def k0_off277 (v1973 : BitVec 32) : Fin 3 → Nat :=
  let v1974 : Index := Scalar.indexCast v1973
  let c0_1362 : Index := 0#32
  let c0_1363 : Index := 0#32
  ![v1974.toNat, 0, 0]

def k0_chk261 (v1973 : BitVec 32) : Prop :=
  (∀ a, (k0_off277 v1973) a + S1x1x128.size a ≤ S100000x1x128.size a)
theorem k0_off277_inb : ∀ (v1973 : BitVec 32) (k0_hw261 : k0_chk261 v1973), ∀ a, (k0_off277 v1973) a + S1x1x128.size a ≤ S100000x1x128.size a := fun v1973 k0_hw261 => k0_hw261

def k0_off278 (v1980 : BitVec 32) : Fin 3 → Nat :=
  let v1981 : Index := Scalar.indexCast v1980
  let c0_1367 : Index := 0#32
  let c0_1368 : Index := 0#32
  ![v1981.toNat, 0, 0]

def k0_chk262 (v1980 : BitVec 32) : Prop :=
  (∀ a, (k0_off278 v1980) a + S1x1x128.size a ≤ S100000x1x128.size a)
theorem k0_off278_inb : ∀ (v1980 : BitVec 32) (k0_hw262 : k0_chk262 v1980), ∀ a, (k0_off278 v1980) a + S1x1x128.size a ≤ S100000x1x128.size a := fun v1980 k0_hw262 => k0_hw262

def k0_off279 (v1987 : BitVec 32) : Fin 3 → Nat :=
  let v1988 : Index := Scalar.indexCast v1987
  let c0_1372 : Index := 0#32
  let c0_1373 : Index := 0#32
  ![v1988.toNat, 0, 0]

def k0_chk263 (v1987 : BitVec 32) : Prop :=
  (∀ a, (k0_off279 v1987) a + S1x1x128.size a ≤ S100000x1x128.size a)
theorem k0_off279_inb : ∀ (v1987 : BitVec 32) (k0_hw263 : k0_chk263 v1987), ∀ a, (k0_off279 v1987) a + S1x1x128.size a ≤ S100000x1x128.size a := fun v1987 k0_hw263 => k0_hw263

def k0_off280 (v1994 : BitVec 32) : Fin 3 → Nat :=
  let v1995 : Index := Scalar.indexCast v1994
  let c0_1377 : Index := 0#32
  let c0_1378 : Index := 0#32
  ![v1995.toNat, 0, 0]

def k0_chk264 (v1994 : BitVec 32) : Prop :=
  (∀ a, (k0_off280 v1994) a + S1x1x128.size a ≤ S100000x1x128.size a)
theorem k0_off280_inb : ∀ (v1994 : BitVec 32) (k0_hw264 : k0_chk264 v1994), ∀ a, (k0_off280 v1994) a + S1x1x128.size a ≤ S100000x1x128.size a := fun v1994 k0_hw264 => k0_hw264

def k0_off281 (v2001 : BitVec 32) : Fin 3 → Nat :=
  let v2002 : Index := Scalar.indexCast v2001
  let c0_1382 : Index := 0#32
  let c0_1383 : Index := 0#32
  ![v2002.toNat, 0, 0]

def k0_chk265 (v2001 : BitVec 32) : Prop :=
  (∀ a, (k0_off281 v2001) a + S1x1x128.size a ≤ S100000x1x128.size a)
theorem k0_off281_inb : ∀ (v2001 : BitVec 32) (k0_hw265 : k0_chk265 v2001), ∀ a, (k0_off281 v2001) a + S1x1x128.size a ≤ S100000x1x128.size a := fun v2001 k0_hw265 => k0_hw265

def k0_off282 (v2008 : BitVec 32) : Fin 3 → Nat :=
  let v2009 : Index := Scalar.indexCast v2008
  let c0_1387 : Index := 0#32
  let c0_1388 : Index := 0#32
  ![v2009.toNat, 0, 0]

def k0_chk266 (v2008 : BitVec 32) : Prop :=
  (∀ a, (k0_off282 v2008) a + S1x1x128.size a ≤ S100000x1x128.size a)
theorem k0_off282_inb : ∀ (v2008 : BitVec 32) (k0_hw266 : k0_chk266 v2008), ∀ a, (k0_off282 v2008) a + S1x1x128.size a ≤ S100000x1x128.size a := fun v2008 k0_hw266 => k0_hw266

def k0_off283 (v2015 : BitVec 32) : Fin 3 → Nat :=
  let v2016 : Index := Scalar.indexCast v2015
  let c0_1392 : Index := 0#32
  let c0_1393 : Index := 0#32
  ![v2016.toNat, 0, 0]

def k0_chk267 (v2015 : BitVec 32) : Prop :=
  (∀ a, (k0_off283 v2015) a + S1x1x128.size a ≤ S100000x1x128.size a)
theorem k0_off283_inb : ∀ (v2015 : BitVec 32) (k0_hw267 : k0_chk267 v2015), ∀ a, (k0_off283 v2015) a + S1x1x128.size a ≤ S100000x1x128.size a := fun v2015 k0_hw267 => k0_hw267

def k0_off284 (v2022 : BitVec 32) : Fin 3 → Nat :=
  let v2023 : Index := Scalar.indexCast v2022
  let c0_1397 : Index := 0#32
  let c0_1398 : Index := 0#32
  ![v2023.toNat, 0, 0]

def k0_chk268 (v2022 : BitVec 32) : Prop :=
  (∀ a, (k0_off284 v2022) a + S1x1x128.size a ≤ S100000x1x128.size a)
theorem k0_off284_inb : ∀ (v2022 : BitVec 32) (k0_hw268 : k0_chk268 v2022), ∀ a, (k0_off284 v2022) a + S1x1x128.size a ≤ S100000x1x128.size a := fun v2022 k0_hw268 => k0_hw268

def k0_off285 (v2029 : BitVec 32) : Fin 3 → Nat :=
  let v2030 : Index := Scalar.indexCast v2029
  let c0_1402 : Index := 0#32
  let c0_1403 : Index := 0#32
  ![v2030.toNat, 0, 0]

def k0_chk269 (v2029 : BitVec 32) : Prop :=
  (∀ a, (k0_off285 v2029) a + S1x1x128.size a ≤ S100000x1x128.size a)
theorem k0_off285_inb : ∀ (v2029 : BitVec 32) (k0_hw269 : k0_chk269 v2029), ∀ a, (k0_off285 v2029) a + S1x1x128.size a ≤ S100000x1x128.size a := fun v2029 k0_hw269 => k0_hw269

def k0_off286 (v2036 : BitVec 32) : Fin 3 → Nat :=
  let v2037 : Index := Scalar.indexCast v2036
  let c0_1407 : Index := 0#32
  let c0_1408 : Index := 0#32
  ![v2037.toNat, 0, 0]

def k0_chk270 (v2036 : BitVec 32) : Prop :=
  (∀ a, (k0_off286 v2036) a + S1x1x128.size a ≤ S100000x1x128.size a)
theorem k0_off286_inb : ∀ (v2036 : BitVec 32) (k0_hw270 : k0_chk270 v2036), ∀ a, (k0_off286 v2036) a + S1x1x128.size a ≤ S100000x1x128.size a := fun v2036 k0_hw270 => k0_hw270

def k0_off287 (v2043 : BitVec 32) : Fin 3 → Nat :=
  let v2044 : Index := Scalar.indexCast v2043
  let c0_1412 : Index := 0#32
  let c0_1413 : Index := 0#32
  ![v2044.toNat, 0, 0]

def k0_chk271 (v2043 : BitVec 32) : Prop :=
  (∀ a, (k0_off287 v2043) a + S1x1x128.size a ≤ S100000x1x128.size a)
theorem k0_off287_inb : ∀ (v2043 : BitVec 32) (k0_hw271 : k0_chk271 v2043), ∀ a, (k0_off287 v2043) a + S1x1x128.size a ≤ S100000x1x128.size a := fun v2043 k0_hw271 => k0_hw271

def k0_off288 (v2050 : BitVec 32) : Fin 3 → Nat :=
  let v2051 : Index := Scalar.indexCast v2050
  let c0_1417 : Index := 0#32
  let c0_1418 : Index := 0#32
  ![v2051.toNat, 0, 0]

def k0_chk272 (v2050 : BitVec 32) : Prop :=
  (∀ a, (k0_off288 v2050) a + S1x1x128.size a ≤ S100000x1x128.size a)
theorem k0_off288_inb : ∀ (v2050 : BitVec 32) (k0_hw272 : k0_chk272 v2050), ∀ a, (k0_off288 v2050) a + S1x1x128.size a ≤ S100000x1x128.size a := fun v2050 k0_hw272 => k0_hw272

def k0_off289 (v2057 : BitVec 32) : Fin 3 → Nat :=
  let v2058 : Index := Scalar.indexCast v2057
  let c0_1422 : Index := 0#32
  let c0_1423 : Index := 0#32
  ![v2058.toNat, 0, 0]

def k0_chk273 (v2057 : BitVec 32) : Prop :=
  (∀ a, (k0_off289 v2057) a + S1x1x128.size a ≤ S100000x1x128.size a)
theorem k0_off289_inb : ∀ (v2057 : BitVec 32) (k0_hw273 : k0_chk273 v2057), ∀ a, (k0_off289 v2057) a + S1x1x128.size a ≤ S100000x1x128.size a := fun v2057 k0_hw273 => k0_hw273

def k0_off290 (v2064 : BitVec 32) : Fin 3 → Nat :=
  let v2065 : Index := Scalar.indexCast v2064
  let c0_1427 : Index := 0#32
  let c0_1428 : Index := 0#32
  ![v2065.toNat, 0, 0]

def k0_chk274 (v2064 : BitVec 32) : Prop :=
  (∀ a, (k0_off290 v2064) a + S1x1x128.size a ≤ S100000x1x128.size a)
theorem k0_off290_inb : ∀ (v2064 : BitVec 32) (k0_hw274 : k0_chk274 v2064), ∀ a, (k0_off290 v2064) a + S1x1x128.size a ≤ S100000x1x128.size a := fun v2064 k0_hw274 => k0_hw274

def k0_off291 (v2071 : BitVec 32) : Fin 3 → Nat :=
  let v2072 : Index := Scalar.indexCast v2071
  let c0_1432 : Index := 0#32
  let c0_1433 : Index := 0#32
  ![v2072.toNat, 0, 0]

def k0_chk275 (v2071 : BitVec 32) : Prop :=
  (∀ a, (k0_off291 v2071) a + S1x1x128.size a ≤ S100000x1x128.size a)
theorem k0_off291_inb : ∀ (v2071 : BitVec 32) (k0_hw275 : k0_chk275 v2071), ∀ a, (k0_off291 v2071) a + S1x1x128.size a ≤ S100000x1x128.size a := fun v2071 k0_hw275 => k0_hw275

def k0_off292 (v2078 : BitVec 32) : Fin 3 → Nat :=
  let v2079 : Index := Scalar.indexCast v2078
  let c0_1437 : Index := 0#32
  let c0_1438 : Index := 0#32
  ![v2079.toNat, 0, 0]

def k0_chk276 (v2078 : BitVec 32) : Prop :=
  (∀ a, (k0_off292 v2078) a + S1x1x128.size a ≤ S100000x1x128.size a)
theorem k0_off292_inb : ∀ (v2078 : BitVec 32) (k0_hw276 : k0_chk276 v2078), ∀ a, (k0_off292 v2078) a + S1x1x128.size a ≤ S100000x1x128.size a := fun v2078 k0_hw276 => k0_hw276

def k0_off293 (v2085 : BitVec 32) : Fin 3 → Nat :=
  let v2086 : Index := Scalar.indexCast v2085
  let c0_1442 : Index := 0#32
  let c0_1443 : Index := 0#32
  ![v2086.toNat, 0, 0]

def k0_chk277 (v2085 : BitVec 32) : Prop :=
  (∀ a, (k0_off293 v2085) a + S1x1x128.size a ≤ S100000x1x128.size a)
theorem k0_off293_inb : ∀ (v2085 : BitVec 32) (k0_hw277 : k0_chk277 v2085), ∀ a, (k0_off293 v2085) a + S1x1x128.size a ≤ S100000x1x128.size a := fun v2085 k0_hw277 => k0_hw277

def k0_off294 (v2092 : BitVec 32) : Fin 3 → Nat :=
  let v2093 : Index := Scalar.indexCast v2092
  let c0_1447 : Index := 0#32
  let c0_1448 : Index := 0#32
  ![v2093.toNat, 0, 0]

def k0_chk278 (v2092 : BitVec 32) : Prop :=
  (∀ a, (k0_off294 v2092) a + S1x1x128.size a ≤ S100000x1x128.size a)
theorem k0_off294_inb : ∀ (v2092 : BitVec 32) (k0_hw278 : k0_chk278 v2092), ∀ a, (k0_off294 v2092) a + S1x1x128.size a ≤ S100000x1x128.size a := fun v2092 k0_hw278 => k0_hw278

def k0_off295 (v2099 : BitVec 32) : Fin 3 → Nat :=
  let v2100 : Index := Scalar.indexCast v2099
  let c0_1452 : Index := 0#32
  let c0_1453 : Index := 0#32
  ![v2100.toNat, 0, 0]

def k0_chk279 (v2099 : BitVec 32) : Prop :=
  (∀ a, (k0_off295 v2099) a + S1x1x128.size a ≤ S100000x1x128.size a)
theorem k0_off295_inb : ∀ (v2099 : BitVec 32) (k0_hw279 : k0_chk279 v2099), ∀ a, (k0_off295 v2099) a + S1x1x128.size a ≤ S100000x1x128.size a := fun v2099 k0_hw279 => k0_hw279

def k0_off296 (v2106 : BitVec 32) : Fin 3 → Nat :=
  let v2107 : Index := Scalar.indexCast v2106
  let c0_1457 : Index := 0#32
  let c0_1458 : Index := 0#32
  ![v2107.toNat, 0, 0]

def k0_chk280 (v2106 : BitVec 32) : Prop :=
  (∀ a, (k0_off296 v2106) a + S1x1x128.size a ≤ S100000x1x128.size a)
theorem k0_off296_inb : ∀ (v2106 : BitVec 32) (k0_hw280 : k0_chk280 v2106), ∀ a, (k0_off296 v2106) a + S1x1x128.size a ≤ S100000x1x128.size a := fun v2106 k0_hw280 => k0_hw280

def k0_off297 (v2113 : BitVec 32) : Fin 3 → Nat :=
  let v2114 : Index := Scalar.indexCast v2113
  let c0_1462 : Index := 0#32
  let c0_1463 : Index := 0#32
  ![v2114.toNat, 0, 0]

def k0_chk281 (v2113 : BitVec 32) : Prop :=
  (∀ a, (k0_off297 v2113) a + S1x1x128.size a ≤ S100000x1x128.size a)
theorem k0_off297_inb : ∀ (v2113 : BitVec 32) (k0_hw281 : k0_chk281 v2113), ∀ a, (k0_off297 v2113) a + S1x1x128.size a ≤ S100000x1x128.size a := fun v2113 k0_hw281 => k0_hw281

def k0_off298 (v2120 : BitVec 32) : Fin 3 → Nat :=
  let v2121 : Index := Scalar.indexCast v2120
  let c0_1467 : Index := 0#32
  let c0_1468 : Index := 0#32
  ![v2121.toNat, 0, 0]

def k0_chk282 (v2120 : BitVec 32) : Prop :=
  (∀ a, (k0_off298 v2120) a + S1x1x128.size a ≤ S100000x1x128.size a)
theorem k0_off298_inb : ∀ (v2120 : BitVec 32) (k0_hw282 : k0_chk282 v2120), ∀ a, (k0_off298 v2120) a + S1x1x128.size a ≤ S100000x1x128.size a := fun v2120 k0_hw282 => k0_hw282

def k0_off299 (v2127 : BitVec 32) : Fin 3 → Nat :=
  let v2128 : Index := Scalar.indexCast v2127
  let c0_1472 : Index := 0#32
  let c0_1473 : Index := 0#32
  ![v2128.toNat, 0, 0]

def k0_chk283 (v2127 : BitVec 32) : Prop :=
  (∀ a, (k0_off299 v2127) a + S1x1x128.size a ≤ S100000x1x128.size a)
theorem k0_off299_inb : ∀ (v2127 : BitVec 32) (k0_hw283 : k0_chk283 v2127), ∀ a, (k0_off299 v2127) a + S1x1x128.size a ≤ S100000x1x128.size a := fun v2127 k0_hw283 => k0_hw283

def k0_off300 (v2134 : BitVec 32) : Fin 3 → Nat :=
  let v2135 : Index := Scalar.indexCast v2134
  let c0_1477 : Index := 0#32
  let c0_1478 : Index := 0#32
  ![v2135.toNat, 0, 0]

def k0_chk284 (v2134 : BitVec 32) : Prop :=
  (∀ a, (k0_off300 v2134) a + S1x1x128.size a ≤ S100000x1x128.size a)
theorem k0_off300_inb : ∀ (v2134 : BitVec 32) (k0_hw284 : k0_chk284 v2134), ∀ a, (k0_off300 v2134) a + S1x1x128.size a ≤ S100000x1x128.size a := fun v2134 k0_hw284 => k0_hw284

def k0_off301 (v2141 : BitVec 32) : Fin 3 → Nat :=
  let v2142 : Index := Scalar.indexCast v2141
  let c0_1482 : Index := 0#32
  let c0_1483 : Index := 0#32
  ![v2142.toNat, 0, 0]

def k0_chk285 (v2141 : BitVec 32) : Prop :=
  (∀ a, (k0_off301 v2141) a + S1x1x128.size a ≤ S100000x1x128.size a)
theorem k0_off301_inb : ∀ (v2141 : BitVec 32) (k0_hw285 : k0_chk285 v2141), ∀ a, (k0_off301 v2141) a + S1x1x128.size a ≤ S100000x1x128.size a := fun v2141 k0_hw285 => k0_hw285

def k0_off302 (v2148 : BitVec 32) : Fin 3 → Nat :=
  let v2149 : Index := Scalar.indexCast v2148
  let c0_1487 : Index := 0#32
  let c0_1488 : Index := 0#32
  ![v2149.toNat, 0, 0]

def k0_chk286 (v2148 : BitVec 32) : Prop :=
  (∀ a, (k0_off302 v2148) a + S1x1x128.size a ≤ S100000x1x128.size a)
theorem k0_off302_inb : ∀ (v2148 : BitVec 32) (k0_hw286 : k0_chk286 v2148), ∀ a, (k0_off302 v2148) a + S1x1x128.size a ≤ S100000x1x128.size a := fun v2148 k0_hw286 => k0_hw286

def k0_off303 (v2155 : BitVec 32) : Fin 3 → Nat :=
  let v2156 : Index := Scalar.indexCast v2155
  let c0_1492 : Index := 0#32
  let c0_1493 : Index := 0#32
  ![v2156.toNat, 0, 0]

def k0_chk287 (v2155 : BitVec 32) : Prop :=
  (∀ a, (k0_off303 v2155) a + S1x1x128.size a ≤ S100000x1x128.size a)
theorem k0_off303_inb : ∀ (v2155 : BitVec 32) (k0_hw287 : k0_chk287 v2155), ∀ a, (k0_off303 v2155) a + S1x1x128.size a ≤ S100000x1x128.size a := fun v2155 k0_hw287 => k0_hw287

def k0_off304 (v2162 : BitVec 32) : Fin 3 → Nat :=
  let v2163 : Index := Scalar.indexCast v2162
  let c0_1497 : Index := 0#32
  let c0_1498 : Index := 0#32
  ![v2163.toNat, 0, 0]

def k0_chk288 (v2162 : BitVec 32) : Prop :=
  (∀ a, (k0_off304 v2162) a + S1x1x128.size a ≤ S100000x1x128.size a)
theorem k0_off304_inb : ∀ (v2162 : BitVec 32) (k0_hw288 : k0_chk288 v2162), ∀ a, (k0_off304 v2162) a + S1x1x128.size a ≤ S100000x1x128.size a := fun v2162 k0_hw288 => k0_hw288

def k0_off305 (v2169 : BitVec 32) : Fin 3 → Nat :=
  let v2170 : Index := Scalar.indexCast v2169
  let c0_1502 : Index := 0#32
  let c0_1503 : Index := 0#32
  ![v2170.toNat, 0, 0]

def k0_chk289 (v2169 : BitVec 32) : Prop :=
  (∀ a, (k0_off305 v2169) a + S1x1x128.size a ≤ S100000x1x128.size a)
theorem k0_off305_inb : ∀ (v2169 : BitVec 32) (k0_hw289 : k0_chk289 v2169), ∀ a, (k0_off305 v2169) a + S1x1x128.size a ≤ S100000x1x128.size a := fun v2169 k0_hw289 => k0_hw289

def k0_off306 (v2176 : BitVec 32) : Fin 3 → Nat :=
  let v2177 : Index := Scalar.indexCast v2176
  let c0_1507 : Index := 0#32
  let c0_1508 : Index := 0#32
  ![v2177.toNat, 0, 0]

def k0_chk290 (v2176 : BitVec 32) : Prop :=
  (∀ a, (k0_off306 v2176) a + S1x1x128.size a ≤ S100000x1x128.size a)
theorem k0_off306_inb : ∀ (v2176 : BitVec 32) (k0_hw290 : k0_chk290 v2176), ∀ a, (k0_off306 v2176) a + S1x1x128.size a ≤ S100000x1x128.size a := fun v2176 k0_hw290 => k0_hw290

def k0_off307 (v2183 : BitVec 32) : Fin 3 → Nat :=
  let v2184 : Index := Scalar.indexCast v2183
  let c0_1512 : Index := 0#32
  let c0_1513 : Index := 0#32
  ![v2184.toNat, 0, 0]

def k0_chk291 (v2183 : BitVec 32) : Prop :=
  (∀ a, (k0_off307 v2183) a + S1x1x128.size a ≤ S100000x1x128.size a)
theorem k0_off307_inb : ∀ (v2183 : BitVec 32) (k0_hw291 : k0_chk291 v2183), ∀ a, (k0_off307 v2183) a + S1x1x128.size a ≤ S100000x1x128.size a := fun v2183 k0_hw291 => k0_hw291

def k0_off308 (v2190 : BitVec 32) : Fin 3 → Nat :=
  let v2191 : Index := Scalar.indexCast v2190
  let c0_1517 : Index := 0#32
  let c0_1518 : Index := 0#32
  ![v2191.toNat, 0, 0]

def k0_chk292 (v2190 : BitVec 32) : Prop :=
  (∀ a, (k0_off308 v2190) a + S1x1x128.size a ≤ S100000x1x128.size a)
theorem k0_off308_inb : ∀ (v2190 : BitVec 32) (k0_hw292 : k0_chk292 v2190), ∀ a, (k0_off308 v2190) a + S1x1x128.size a ≤ S100000x1x128.size a := fun v2190 k0_hw292 => k0_hw292

def k0_off309 (v2197 : BitVec 32) : Fin 3 → Nat :=
  let v2198 : Index := Scalar.indexCast v2197
  let c0_1522 : Index := 0#32
  let c0_1523 : Index := 0#32
  ![v2198.toNat, 0, 0]

def k0_chk293 (v2197 : BitVec 32) : Prop :=
  (∀ a, (k0_off309 v2197) a + S1x1x128.size a ≤ S100000x1x128.size a)
theorem k0_off309_inb : ∀ (v2197 : BitVec 32) (k0_hw293 : k0_chk293 v2197), ∀ a, (k0_off309 v2197) a + S1x1x128.size a ≤ S100000x1x128.size a := fun v2197 k0_hw293 => k0_hw293

def k0_off310 (v2204 : BitVec 32) : Fin 3 → Nat :=
  let v2205 : Index := Scalar.indexCast v2204
  let c0_1527 : Index := 0#32
  let c0_1528 : Index := 0#32
  ![v2205.toNat, 0, 0]

def k0_chk294 (v2204 : BitVec 32) : Prop :=
  (∀ a, (k0_off310 v2204) a + S1x1x128.size a ≤ S100000x1x128.size a)
theorem k0_off310_inb : ∀ (v2204 : BitVec 32) (k0_hw294 : k0_chk294 v2204), ∀ a, (k0_off310 v2204) a + S1x1x128.size a ≤ S100000x1x128.size a := fun v2204 k0_hw294 => k0_hw294

def k0_off311 (v2211 : BitVec 32) : Fin 3 → Nat :=
  let v2212 : Index := Scalar.indexCast v2211
  let c0_1532 : Index := 0#32
  let c0_1533 : Index := 0#32
  ![v2212.toNat, 0, 0]

def k0_chk295 (v2211 : BitVec 32) : Prop :=
  (∀ a, (k0_off311 v2211) a + S1x1x128.size a ≤ S100000x1x128.size a)
theorem k0_off311_inb : ∀ (v2211 : BitVec 32) (k0_hw295 : k0_chk295 v2211), ∀ a, (k0_off311 v2211) a + S1x1x128.size a ≤ S100000x1x128.size a := fun v2211 k0_hw295 => k0_hw295

def k0_off312 (v2218 : BitVec 32) : Fin 3 → Nat :=
  let v2219 : Index := Scalar.indexCast v2218
  let c0_1537 : Index := 0#32
  let c0_1538 : Index := 0#32
  ![v2219.toNat, 0, 0]

def k0_chk296 (v2218 : BitVec 32) : Prop :=
  (∀ a, (k0_off312 v2218) a + S1x1x128.size a ≤ S100000x1x128.size a)
theorem k0_off312_inb : ∀ (v2218 : BitVec 32) (k0_hw296 : k0_chk296 v2218), ∀ a, (k0_off312 v2218) a + S1x1x128.size a ≤ S100000x1x128.size a := fun v2218 k0_hw296 => k0_hw296

def k0_off313 (v2225 : BitVec 32) : Fin 3 → Nat :=
  let v2226 : Index := Scalar.indexCast v2225
  let c0_1542 : Index := 0#32
  let c0_1543 : Index := 0#32
  ![v2226.toNat, 0, 0]

def k0_chk297 (v2225 : BitVec 32) : Prop :=
  (∀ a, (k0_off313 v2225) a + S1x1x128.size a ≤ S100000x1x128.size a)
theorem k0_off313_inb : ∀ (v2225 : BitVec 32) (k0_hw297 : k0_chk297 v2225), ∀ a, (k0_off313 v2225) a + S1x1x128.size a ≤ S100000x1x128.size a := fun v2225 k0_hw297 => k0_hw297

def k0_off314 (v2232 : BitVec 32) : Fin 3 → Nat :=
  let v2233 : Index := Scalar.indexCast v2232
  let c0_1547 : Index := 0#32
  let c0_1548 : Index := 0#32
  ![v2233.toNat, 0, 0]

def k0_chk298 (v2232 : BitVec 32) : Prop :=
  (∀ a, (k0_off314 v2232) a + S1x1x128.size a ≤ S100000x1x128.size a)
theorem k0_off314_inb : ∀ (v2232 : BitVec 32) (k0_hw298 : k0_chk298 v2232), ∀ a, (k0_off314 v2232) a + S1x1x128.size a ≤ S100000x1x128.size a := fun v2232 k0_hw298 => k0_hw298

def k0_off315 (v2239 : BitVec 32) : Fin 3 → Nat :=
  let v2240 : Index := Scalar.indexCast v2239
  let c0_1552 : Index := 0#32
  let c0_1553 : Index := 0#32
  ![v2240.toNat, 0, 0]

def k0_chk299 (v2239 : BitVec 32) : Prop :=
  (∀ a, (k0_off315 v2239) a + S1x1x128.size a ≤ S100000x1x128.size a)
theorem k0_off315_inb : ∀ (v2239 : BitVec 32) (k0_hw299 : k0_chk299 v2239), ∀ a, (k0_off315 v2239) a + S1x1x128.size a ≤ S100000x1x128.size a := fun v2239 k0_hw299 => k0_hw299

def k0_off316 (v2246 : BitVec 32) : Fin 3 → Nat :=
  let v2247 : Index := Scalar.indexCast v2246
  let c0_1557 : Index := 0#32
  let c0_1558 : Index := 0#32
  ![v2247.toNat, 0, 0]

def k0_chk300 (v2246 : BitVec 32) : Prop :=
  (∀ a, (k0_off316 v2246) a + S1x1x128.size a ≤ S100000x1x128.size a)
theorem k0_off316_inb : ∀ (v2246 : BitVec 32) (k0_hw300 : k0_chk300 v2246), ∀ a, (k0_off316 v2246) a + S1x1x128.size a ≤ S100000x1x128.size a := fun v2246 k0_hw300 => k0_hw300

def k0_off317 (v2253 : BitVec 32) : Fin 3 → Nat :=
  let v2254 : Index := Scalar.indexCast v2253
  let c0_1562 : Index := 0#32
  let c0_1563 : Index := 0#32
  ![v2254.toNat, 0, 0]

def k0_chk301 (v2253 : BitVec 32) : Prop :=
  (∀ a, (k0_off317 v2253) a + S1x1x128.size a ≤ S100000x1x128.size a)
theorem k0_off317_inb : ∀ (v2253 : BitVec 32) (k0_hw301 : k0_chk301 v2253), ∀ a, (k0_off317 v2253) a + S1x1x128.size a ≤ S100000x1x128.size a := fun v2253 k0_hw301 => k0_hw301

def k0_off318 (v2260 : BitVec 32) : Fin 3 → Nat :=
  let v2261 : Index := Scalar.indexCast v2260
  let c0_1567 : Index := 0#32
  let c0_1568 : Index := 0#32
  ![v2261.toNat, 0, 0]

def k0_chk302 (v2260 : BitVec 32) : Prop :=
  (∀ a, (k0_off318 v2260) a + S1x1x128.size a ≤ S100000x1x128.size a)
theorem k0_off318_inb : ∀ (v2260 : BitVec 32) (k0_hw302 : k0_chk302 v2260), ∀ a, (k0_off318 v2260) a + S1x1x128.size a ≤ S100000x1x128.size a := fun v2260 k0_hw302 => k0_hw302

def k0_off319 (v2267 : BitVec 32) : Fin 3 → Nat :=
  let v2268 : Index := Scalar.indexCast v2267
  let c0_1572 : Index := 0#32
  let c0_1573 : Index := 0#32
  ![v2268.toNat, 0, 0]

def k0_chk303 (v2267 : BitVec 32) : Prop :=
  (∀ a, (k0_off319 v2267) a + S1x1x128.size a ≤ S100000x1x128.size a)
theorem k0_off319_inb : ∀ (v2267 : BitVec 32) (k0_hw303 : k0_chk303 v2267), ∀ a, (k0_off319 v2267) a + S1x1x128.size a ≤ S100000x1x128.size a := fun v2267 k0_hw303 => k0_hw303

def k0_off320 (v2274 : BitVec 32) : Fin 3 → Nat :=
  let v2275 : Index := Scalar.indexCast v2274
  let c0_1577 : Index := 0#32
  let c0_1578 : Index := 0#32
  ![v2275.toNat, 0, 0]

def k0_chk304 (v2274 : BitVec 32) : Prop :=
  (∀ a, (k0_off320 v2274) a + S1x1x128.size a ≤ S100000x1x128.size a)
theorem k0_off320_inb : ∀ (v2274 : BitVec 32) (k0_hw304 : k0_chk304 v2274), ∀ a, (k0_off320 v2274) a + S1x1x128.size a ≤ S100000x1x128.size a := fun v2274 k0_hw304 => k0_hw304

def k0_off321 (v2281 : BitVec 32) : Fin 3 → Nat :=
  let v2282 : Index := Scalar.indexCast v2281
  let c0_1582 : Index := 0#32
  let c0_1583 : Index := 0#32
  ![v2282.toNat, 0, 0]

def k0_chk305 (v2281 : BitVec 32) : Prop :=
  (∀ a, (k0_off321 v2281) a + S1x1x128.size a ≤ S100000x1x128.size a)
theorem k0_off321_inb : ∀ (v2281 : BitVec 32) (k0_hw305 : k0_chk305 v2281), ∀ a, (k0_off321 v2281) a + S1x1x128.size a ≤ S100000x1x128.size a := fun v2281 k0_hw305 => k0_hw305

def k0_off322 (v2288 : BitVec 32) : Fin 3 → Nat :=
  let v2289 : Index := Scalar.indexCast v2288
  let c0_1587 : Index := 0#32
  let c0_1588 : Index := 0#32
  ![v2289.toNat, 0, 0]

def k0_chk306 (v2288 : BitVec 32) : Prop :=
  (∀ a, (k0_off322 v2288) a + S1x1x128.size a ≤ S100000x1x128.size a)
theorem k0_off322_inb : ∀ (v2288 : BitVec 32) (k0_hw306 : k0_chk306 v2288), ∀ a, (k0_off322 v2288) a + S1x1x128.size a ≤ S100000x1x128.size a := fun v2288 k0_hw306 => k0_hw306

def k0_off323 (v2295 : BitVec 32) : Fin 3 → Nat :=
  let v2296 : Index := Scalar.indexCast v2295
  let c0_1592 : Index := 0#32
  let c0_1593 : Index := 0#32
  ![v2296.toNat, 0, 0]

def k0_chk307 (v2295 : BitVec 32) : Prop :=
  (∀ a, (k0_off323 v2295) a + S1x1x128.size a ≤ S100000x1x128.size a)
theorem k0_off323_inb : ∀ (v2295 : BitVec 32) (k0_hw307 : k0_chk307 v2295), ∀ a, (k0_off323 v2295) a + S1x1x128.size a ≤ S100000x1x128.size a := fun v2295 k0_hw307 => k0_hw307

def k0_off324 (v2302 : BitVec 32) : Fin 3 → Nat :=
  let v2303 : Index := Scalar.indexCast v2302
  let c0_1597 : Index := 0#32
  let c0_1598 : Index := 0#32
  ![v2303.toNat, 0, 0]

def k0_chk308 (v2302 : BitVec 32) : Prop :=
  (∀ a, (k0_off324 v2302) a + S1x1x128.size a ≤ S100000x1x128.size a)
theorem k0_off324_inb : ∀ (v2302 : BitVec 32) (k0_hw308 : k0_chk308 v2302), ∀ a, (k0_off324 v2302) a + S1x1x128.size a ≤ S100000x1x128.size a := fun v2302 k0_hw308 => k0_hw308

def k0_off325 (v2309 : BitVec 32) : Fin 3 → Nat :=
  let v2310 : Index := Scalar.indexCast v2309
  let c0_1602 : Index := 0#32
  let c0_1603 : Index := 0#32
  ![v2310.toNat, 0, 0]

def k0_chk309 (v2309 : BitVec 32) : Prop :=
  (∀ a, (k0_off325 v2309) a + S1x1x128.size a ≤ S100000x1x128.size a)
theorem k0_off325_inb : ∀ (v2309 : BitVec 32) (k0_hw309 : k0_chk309 v2309), ∀ a, (k0_off325 v2309) a + S1x1x128.size a ≤ S100000x1x128.size a := fun v2309 k0_hw309 => k0_hw309

def k0_off326 (v2316 : BitVec 32) : Fin 3 → Nat :=
  let v2317 : Index := Scalar.indexCast v2316
  let c0_1607 : Index := 0#32
  let c0_1608 : Index := 0#32
  ![v2317.toNat, 0, 0]

def k0_chk310 (v2316 : BitVec 32) : Prop :=
  (∀ a, (k0_off326 v2316) a + S1x1x128.size a ≤ S100000x1x128.size a)
theorem k0_off326_inb : ∀ (v2316 : BitVec 32) (k0_hw310 : k0_chk310 v2316), ∀ a, (k0_off326 v2316) a + S1x1x128.size a ≤ S100000x1x128.size a := fun v2316 k0_hw310 => k0_hw310

def k0_off327 (v2323 : BitVec 32) : Fin 3 → Nat :=
  let v2324 : Index := Scalar.indexCast v2323
  let c0_1612 : Index := 0#32
  let c0_1613 : Index := 0#32
  ![v2324.toNat, 0, 0]

def k0_chk311 (v2323 : BitVec 32) : Prop :=
  (∀ a, (k0_off327 v2323) a + S1x1x128.size a ≤ S100000x1x128.size a)
theorem k0_off327_inb : ∀ (v2323 : BitVec 32) (k0_hw311 : k0_chk311 v2323), ∀ a, (k0_off327 v2323) a + S1x1x128.size a ≤ S100000x1x128.size a := fun v2323 k0_hw311 => k0_hw311

def k0_off328 (v2330 : BitVec 32) : Fin 3 → Nat :=
  let v2331 : Index := Scalar.indexCast v2330
  let c0_1617 : Index := 0#32
  let c0_1618 : Index := 0#32
  ![v2331.toNat, 0, 0]

def k0_chk312 (v2330 : BitVec 32) : Prop :=
  (∀ a, (k0_off328 v2330) a + S1x1x128.size a ≤ S100000x1x128.size a)
theorem k0_off328_inb : ∀ (v2330 : BitVec 32) (k0_hw312 : k0_chk312 v2330), ∀ a, (k0_off328 v2330) a + S1x1x128.size a ≤ S100000x1x128.size a := fun v2330 k0_hw312 => k0_hw312

def k0_off329 (v2337 : BitVec 32) : Fin 3 → Nat :=
  let v2338 : Index := Scalar.indexCast v2337
  let c0_1622 : Index := 0#32
  let c0_1623 : Index := 0#32
  ![v2338.toNat, 0, 0]

def k0_chk313 (v2337 : BitVec 32) : Prop :=
  (∀ a, (k0_off329 v2337) a + S1x1x128.size a ≤ S100000x1x128.size a)
theorem k0_off329_inb : ∀ (v2337 : BitVec 32) (k0_hw313 : k0_chk313 v2337), ∀ a, (k0_off329 v2337) a + S1x1x128.size a ≤ S100000x1x128.size a := fun v2337 k0_hw313 => k0_hw313

def k0_off330 (v2344 : BitVec 32) : Fin 3 → Nat :=
  let v2345 : Index := Scalar.indexCast v2344
  let c0_1627 : Index := 0#32
  let c0_1628 : Index := 0#32
  ![v2345.toNat, 0, 0]

def k0_chk314 (v2344 : BitVec 32) : Prop :=
  (∀ a, (k0_off330 v2344) a + S1x1x128.size a ≤ S100000x1x128.size a)
theorem k0_off330_inb : ∀ (v2344 : BitVec 32) (k0_hw314 : k0_chk314 v2344), ∀ a, (k0_off330 v2344) a + S1x1x128.size a ≤ S100000x1x128.size a := fun v2344 k0_hw314 => k0_hw314

def k0_off331 (v2351 : BitVec 32) : Fin 3 → Nat :=
  let v2352 : Index := Scalar.indexCast v2351
  let c0_1632 : Index := 0#32
  let c0_1633 : Index := 0#32
  ![v2352.toNat, 0, 0]

def k0_chk315 (v2351 : BitVec 32) : Prop :=
  (∀ a, (k0_off331 v2351) a + S1x1x128.size a ≤ S100000x1x128.size a)
theorem k0_off331_inb : ∀ (v2351 : BitVec 32) (k0_hw315 : k0_chk315 v2351), ∀ a, (k0_off331 v2351) a + S1x1x128.size a ≤ S100000x1x128.size a := fun v2351 k0_hw315 => k0_hw315

def k0_off332 (v2358 : BitVec 32) : Fin 3 → Nat :=
  let v2359 : Index := Scalar.indexCast v2358
  let c0_1637 : Index := 0#32
  let c0_1638 : Index := 0#32
  ![v2359.toNat, 0, 0]

def k0_chk316 (v2358 : BitVec 32) : Prop :=
  (∀ a, (k0_off332 v2358) a + S1x1x128.size a ≤ S100000x1x128.size a)
theorem k0_off332_inb : ∀ (v2358 : BitVec 32) (k0_hw316 : k0_chk316 v2358), ∀ a, (k0_off332 v2358) a + S1x1x128.size a ≤ S100000x1x128.size a := fun v2358 k0_hw316 => k0_hw316

def k0_off333 (v2365 : BitVec 32) : Fin 3 → Nat :=
  let v2366 : Index := Scalar.indexCast v2365
  let c0_1642 : Index := 0#32
  let c0_1643 : Index := 0#32
  ![v2366.toNat, 0, 0]

def k0_chk317 (v2365 : BitVec 32) : Prop :=
  (∀ a, (k0_off333 v2365) a + S1x1x128.size a ≤ S100000x1x128.size a)
theorem k0_off333_inb : ∀ (v2365 : BitVec 32) (k0_hw317 : k0_chk317 v2365), ∀ a, (k0_off333 v2365) a + S1x1x128.size a ≤ S100000x1x128.size a := fun v2365 k0_hw317 => k0_hw317

def k0_off334 (v2372 : BitVec 32) : Fin 3 → Nat :=
  let v2373 : Index := Scalar.indexCast v2372
  let c0_1647 : Index := 0#32
  let c0_1648 : Index := 0#32
  ![v2373.toNat, 0, 0]

def k0_chk318 (v2372 : BitVec 32) : Prop :=
  (∀ a, (k0_off334 v2372) a + S1x1x128.size a ≤ S100000x1x128.size a)
theorem k0_off334_inb : ∀ (v2372 : BitVec 32) (k0_hw318 : k0_chk318 v2372), ∀ a, (k0_off334 v2372) a + S1x1x128.size a ≤ S100000x1x128.size a := fun v2372 k0_hw318 => k0_hw318

def k0_off335 (v2379 : BitVec 32) : Fin 3 → Nat :=
  let v2380 : Index := Scalar.indexCast v2379
  let c0_1652 : Index := 0#32
  let c0_1653 : Index := 0#32
  ![v2380.toNat, 0, 0]

def k0_chk319 (v2379 : BitVec 32) : Prop :=
  (∀ a, (k0_off335 v2379) a + S1x1x128.size a ≤ S100000x1x128.size a)
theorem k0_off335_inb : ∀ (v2379 : BitVec 32) (k0_hw319 : k0_chk319 v2379), ∀ a, (k0_off335 v2379) a + S1x1x128.size a ≤ S100000x1x128.size a := fun v2379 k0_hw319 => k0_hw319

def k0_off336 (v2386 : BitVec 32) : Fin 3 → Nat :=
  let v2387 : Index := Scalar.indexCast v2386
  let c0_1657 : Index := 0#32
  let c0_1658 : Index := 0#32
  ![v2387.toNat, 0, 0]

def k0_chk320 (v2386 : BitVec 32) : Prop :=
  (∀ a, (k0_off336 v2386) a + S1x1x128.size a ≤ S100000x1x128.size a)
theorem k0_off336_inb : ∀ (v2386 : BitVec 32) (k0_hw320 : k0_chk320 v2386), ∀ a, (k0_off336 v2386) a + S1x1x128.size a ≤ S100000x1x128.size a := fun v2386 k0_hw320 => k0_hw320

def k0_off337 (v2393 : BitVec 32) : Fin 3 → Nat :=
  let v2394 : Index := Scalar.indexCast v2393
  let c0_1662 : Index := 0#32
  let c0_1663 : Index := 0#32
  ![v2394.toNat, 0, 0]

def k0_chk321 (v2393 : BitVec 32) : Prop :=
  (∀ a, (k0_off337 v2393) a + S1x1x128.size a ≤ S100000x1x128.size a)
theorem k0_off337_inb : ∀ (v2393 : BitVec 32) (k0_hw321 : k0_chk321 v2393), ∀ a, (k0_off337 v2393) a + S1x1x128.size a ≤ S100000x1x128.size a := fun v2393 k0_hw321 => k0_hw321

def k0_off338 (v2400 : BitVec 32) : Fin 3 → Nat :=
  let v2401 : Index := Scalar.indexCast v2400
  let c0_1667 : Index := 0#32
  let c0_1668 : Index := 0#32
  ![v2401.toNat, 0, 0]

def k0_chk322 (v2400 : BitVec 32) : Prop :=
  (∀ a, (k0_off338 v2400) a + S1x1x128.size a ≤ S100000x1x128.size a)
theorem k0_off338_inb : ∀ (v2400 : BitVec 32) (k0_hw322 : k0_chk322 v2400), ∀ a, (k0_off338 v2400) a + S1x1x128.size a ≤ S100000x1x128.size a := fun v2400 k0_hw322 => k0_hw322

def k0_off339 (v2407 : BitVec 32) : Fin 3 → Nat :=
  let v2408 : Index := Scalar.indexCast v2407
  let c0_1672 : Index := 0#32
  let c0_1673 : Index := 0#32
  ![v2408.toNat, 0, 0]

def k0_chk323 (v2407 : BitVec 32) : Prop :=
  (∀ a, (k0_off339 v2407) a + S1x1x128.size a ≤ S100000x1x128.size a)
theorem k0_off339_inb : ∀ (v2407 : BitVec 32) (k0_hw323 : k0_chk323 v2407), ∀ a, (k0_off339 v2407) a + S1x1x128.size a ≤ S100000x1x128.size a := fun v2407 k0_hw323 => k0_hw323

def k0_off340 (v2414 : BitVec 32) : Fin 3 → Nat :=
  let v2415 : Index := Scalar.indexCast v2414
  let c0_1677 : Index := 0#32
  let c0_1678 : Index := 0#32
  ![v2415.toNat, 0, 0]

def k0_chk324 (v2414 : BitVec 32) : Prop :=
  (∀ a, (k0_off340 v2414) a + S1x1x128.size a ≤ S100000x1x128.size a)
theorem k0_off340_inb : ∀ (v2414 : BitVec 32) (k0_hw324 : k0_chk324 v2414), ∀ a, (k0_off340 v2414) a + S1x1x128.size a ≤ S100000x1x128.size a := fun v2414 k0_hw324 => k0_hw324

def k0_off341 (v2421 : BitVec 32) : Fin 3 → Nat :=
  let v2422 : Index := Scalar.indexCast v2421
  let c0_1682 : Index := 0#32
  let c0_1683 : Index := 0#32
  ![v2422.toNat, 0, 0]

def k0_chk325 (v2421 : BitVec 32) : Prop :=
  (∀ a, (k0_off341 v2421) a + S1x1x128.size a ≤ S100000x1x128.size a)
theorem k0_off341_inb : ∀ (v2421 : BitVec 32) (k0_hw325 : k0_chk325 v2421), ∀ a, (k0_off341 v2421) a + S1x1x128.size a ≤ S100000x1x128.size a := fun v2421 k0_hw325 => k0_hw325

def k0_off342 (v2428 : BitVec 32) : Fin 3 → Nat :=
  let v2429 : Index := Scalar.indexCast v2428
  let c0_1687 : Index := 0#32
  let c0_1688 : Index := 0#32
  ![v2429.toNat, 0, 0]

def k0_chk326 (v2428 : BitVec 32) : Prop :=
  (∀ a, (k0_off342 v2428) a + S1x1x128.size a ≤ S100000x1x128.size a)
theorem k0_off342_inb : ∀ (v2428 : BitVec 32) (k0_hw326 : k0_chk326 v2428), ∀ a, (k0_off342 v2428) a + S1x1x128.size a ≤ S100000x1x128.size a := fun v2428 k0_hw326 => k0_hw326

def k0_off343 (v2435 : BitVec 32) : Fin 3 → Nat :=
  let v2436 : Index := Scalar.indexCast v2435
  let c0_1692 : Index := 0#32
  let c0_1693 : Index := 0#32
  ![v2436.toNat, 0, 0]

def k0_chk327 (v2435 : BitVec 32) : Prop :=
  (∀ a, (k0_off343 v2435) a + S1x1x128.size a ≤ S100000x1x128.size a)
theorem k0_off343_inb : ∀ (v2435 : BitVec 32) (k0_hw327 : k0_chk327 v2435), ∀ a, (k0_off343 v2435) a + S1x1x128.size a ≤ S100000x1x128.size a := fun v2435 k0_hw327 => k0_hw327

def k0_off344 (v2442 : BitVec 32) : Fin 3 → Nat :=
  let v2443 : Index := Scalar.indexCast v2442
  let c0_1697 : Index := 0#32
  let c0_1698 : Index := 0#32
  ![v2443.toNat, 0, 0]

def k0_chk328 (v2442 : BitVec 32) : Prop :=
  (∀ a, (k0_off344 v2442) a + S1x1x128.size a ≤ S100000x1x128.size a)
theorem k0_off344_inb : ∀ (v2442 : BitVec 32) (k0_hw328 : k0_chk328 v2442), ∀ a, (k0_off344 v2442) a + S1x1x128.size a ≤ S100000x1x128.size a := fun v2442 k0_hw328 => k0_hw328

def k0_off345 (v2449 : BitVec 32) : Fin 3 → Nat :=
  let v2450 : Index := Scalar.indexCast v2449
  let c0_1702 : Index := 0#32
  let c0_1703 : Index := 0#32
  ![v2450.toNat, 0, 0]

def k0_chk329 (v2449 : BitVec 32) : Prop :=
  (∀ a, (k0_off345 v2449) a + S1x1x128.size a ≤ S100000x1x128.size a)
theorem k0_off345_inb : ∀ (v2449 : BitVec 32) (k0_hw329 : k0_chk329 v2449), ∀ a, (k0_off345 v2449) a + S1x1x128.size a ≤ S100000x1x128.size a := fun v2449 k0_hw329 => k0_hw329

def k0_off346 (v2456 : BitVec 32) : Fin 3 → Nat :=
  let v2457 : Index := Scalar.indexCast v2456
  let c0_1707 : Index := 0#32
  let c0_1708 : Index := 0#32
  ![v2457.toNat, 0, 0]

def k0_chk330 (v2456 : BitVec 32) : Prop :=
  (∀ a, (k0_off346 v2456) a + S1x1x128.size a ≤ S100000x1x128.size a)
theorem k0_off346_inb : ∀ (v2456 : BitVec 32) (k0_hw330 : k0_chk330 v2456), ∀ a, (k0_off346 v2456) a + S1x1x128.size a ≤ S100000x1x128.size a := fun v2456 k0_hw330 => k0_hw330

def k0_off347 (v2463 : BitVec 32) : Fin 3 → Nat :=
  let v2464 : Index := Scalar.indexCast v2463
  let c0_1712 : Index := 0#32
  let c0_1713 : Index := 0#32
  ![v2464.toNat, 0, 0]

def k0_chk331 (v2463 : BitVec 32) : Prop :=
  (∀ a, (k0_off347 v2463) a + S1x1x128.size a ≤ S100000x1x128.size a)
theorem k0_off347_inb : ∀ (v2463 : BitVec 32) (k0_hw331 : k0_chk331 v2463), ∀ a, (k0_off347 v2463) a + S1x1x128.size a ≤ S100000x1x128.size a := fun v2463 k0_hw331 => k0_hw331

def k0_off348 (v2470 : BitVec 32) : Fin 3 → Nat :=
  let v2471 : Index := Scalar.indexCast v2470
  let c0_1717 : Index := 0#32
  let c0_1718 : Index := 0#32
  ![v2471.toNat, 0, 0]

def k0_chk332 (v2470 : BitVec 32) : Prop :=
  (∀ a, (k0_off348 v2470) a + S1x1x128.size a ≤ S100000x1x128.size a)
theorem k0_off348_inb : ∀ (v2470 : BitVec 32) (k0_hw332 : k0_chk332 v2470), ∀ a, (k0_off348 v2470) a + S1x1x128.size a ≤ S100000x1x128.size a := fun v2470 k0_hw332 => k0_hw332

def k0_off349 (v2477 : BitVec 32) : Fin 3 → Nat :=
  let v2478 : Index := Scalar.indexCast v2477
  let c0_1722 : Index := 0#32
  let c0_1723 : Index := 0#32
  ![v2478.toNat, 0, 0]

def k0_chk333 (v2477 : BitVec 32) : Prop :=
  (∀ a, (k0_off349 v2477) a + S1x1x128.size a ≤ S100000x1x128.size a)
theorem k0_off349_inb : ∀ (v2477 : BitVec 32) (k0_hw333 : k0_chk333 v2477), ∀ a, (k0_off349 v2477) a + S1x1x128.size a ≤ S100000x1x128.size a := fun v2477 k0_hw333 => k0_hw333

def k0_off350 (v2484 : BitVec 32) : Fin 3 → Nat :=
  let v2485 : Index := Scalar.indexCast v2484
  let c0_1727 : Index := 0#32
  let c0_1728 : Index := 0#32
  ![v2485.toNat, 0, 0]

def k0_chk334 (v2484 : BitVec 32) : Prop :=
  (∀ a, (k0_off350 v2484) a + S1x1x128.size a ≤ S100000x1x128.size a)
theorem k0_off350_inb : ∀ (v2484 : BitVec 32) (k0_hw334 : k0_chk334 v2484), ∀ a, (k0_off350 v2484) a + S1x1x128.size a ≤ S100000x1x128.size a := fun v2484 k0_hw334 => k0_hw334

def k0_off351 (v2491 : BitVec 32) : Fin 3 → Nat :=
  let v2492 : Index := Scalar.indexCast v2491
  let c0_1732 : Index := 0#32
  let c0_1733 : Index := 0#32
  ![v2492.toNat, 0, 0]

def k0_chk335 (v2491 : BitVec 32) : Prop :=
  (∀ a, (k0_off351 v2491) a + S1x1x128.size a ≤ S100000x1x128.size a)
theorem k0_off351_inb : ∀ (v2491 : BitVec 32) (k0_hw335 : k0_chk335 v2491), ∀ a, (k0_off351 v2491) a + S1x1x128.size a ≤ S100000x1x128.size a := fun v2491 k0_hw335 => k0_hw335

def k0_off352 (v2498 : BitVec 32) : Fin 3 → Nat :=
  let v2499 : Index := Scalar.indexCast v2498
  let c0_1737 : Index := 0#32
  let c0_1738 : Index := 0#32
  ![v2499.toNat, 0, 0]

def k0_chk336 (v2498 : BitVec 32) : Prop :=
  (∀ a, (k0_off352 v2498) a + S1x1x128.size a ≤ S100000x1x128.size a)
theorem k0_off352_inb : ∀ (v2498 : BitVec 32) (k0_hw336 : k0_chk336 v2498), ∀ a, (k0_off352 v2498) a + S1x1x128.size a ≤ S100000x1x128.size a := fun v2498 k0_hw336 => k0_hw336

def k0_off353 (v2505 : BitVec 32) : Fin 3 → Nat :=
  let v2506 : Index := Scalar.indexCast v2505
  let c0_1742 : Index := 0#32
  let c0_1743 : Index := 0#32
  ![v2506.toNat, 0, 0]

def k0_chk337 (v2505 : BitVec 32) : Prop :=
  (∀ a, (k0_off353 v2505) a + S1x1x128.size a ≤ S100000x1x128.size a)
theorem k0_off353_inb : ∀ (v2505 : BitVec 32) (k0_hw337 : k0_chk337 v2505), ∀ a, (k0_off353 v2505) a + S1x1x128.size a ≤ S100000x1x128.size a := fun v2505 k0_hw337 => k0_hw337

def k0_off354 (v2512 : BitVec 32) : Fin 3 → Nat :=
  let v2513 : Index := Scalar.indexCast v2512
  let c0_1747 : Index := 0#32
  let c0_1748 : Index := 0#32
  ![v2513.toNat, 0, 0]

def k0_chk338 (v2512 : BitVec 32) : Prop :=
  (∀ a, (k0_off354 v2512) a + S1x1x128.size a ≤ S100000x1x128.size a)
theorem k0_off354_inb : ∀ (v2512 : BitVec 32) (k0_hw338 : k0_chk338 v2512), ∀ a, (k0_off354 v2512) a + S1x1x128.size a ≤ S100000x1x128.size a := fun v2512 k0_hw338 => k0_hw338

def k0_off355 (v2519 : BitVec 32) : Fin 3 → Nat :=
  let v2520 : Index := Scalar.indexCast v2519
  let c0_1752 : Index := 0#32
  let c0_1753 : Index := 0#32
  ![v2520.toNat, 0, 0]

def k0_chk339 (v2519 : BitVec 32) : Prop :=
  (∀ a, (k0_off355 v2519) a + S1x1x128.size a ≤ S100000x1x128.size a)
theorem k0_off355_inb : ∀ (v2519 : BitVec 32) (k0_hw339 : k0_chk339 v2519), ∀ a, (k0_off355 v2519) a + S1x1x128.size a ≤ S100000x1x128.size a := fun v2519 k0_hw339 => k0_hw339

def k0_off356 (v2526 : BitVec 32) : Fin 3 → Nat :=
  let v2527 : Index := Scalar.indexCast v2526
  let c0_1757 : Index := 0#32
  let c0_1758 : Index := 0#32
  ![v2527.toNat, 0, 0]

def k0_chk340 (v2526 : BitVec 32) : Prop :=
  (∀ a, (k0_off356 v2526) a + S1x1x128.size a ≤ S100000x1x128.size a)
theorem k0_off356_inb : ∀ (v2526 : BitVec 32) (k0_hw340 : k0_chk340 v2526), ∀ a, (k0_off356 v2526) a + S1x1x128.size a ≤ S100000x1x128.size a := fun v2526 k0_hw340 => k0_hw340

def k0_off357 (v2533 : BitVec 32) : Fin 3 → Nat :=
  let v2534 : Index := Scalar.indexCast v2533
  let c0_1762 : Index := 0#32
  let c0_1763 : Index := 0#32
  ![v2534.toNat, 0, 0]

def k0_chk341 (v2533 : BitVec 32) : Prop :=
  (∀ a, (k0_off357 v2533) a + S1x1x128.size a ≤ S100000x1x128.size a)
theorem k0_off357_inb : ∀ (v2533 : BitVec 32) (k0_hw341 : k0_chk341 v2533), ∀ a, (k0_off357 v2533) a + S1x1x128.size a ≤ S100000x1x128.size a := fun v2533 k0_hw341 => k0_hw341

def k0_off358 (v2540 : BitVec 32) : Fin 3 → Nat :=
  let v2541 : Index := Scalar.indexCast v2540
  let c0_1767 : Index := 0#32
  let c0_1768 : Index := 0#32
  ![v2541.toNat, 0, 0]

def k0_chk342 (v2540 : BitVec 32) : Prop :=
  (∀ a, (k0_off358 v2540) a + S1x1x128.size a ≤ S100000x1x128.size a)
theorem k0_off358_inb : ∀ (v2540 : BitVec 32) (k0_hw342 : k0_chk342 v2540), ∀ a, (k0_off358 v2540) a + S1x1x128.size a ≤ S100000x1x128.size a := fun v2540 k0_hw342 => k0_hw342

def k0_off359 (v2547 : BitVec 32) : Fin 3 → Nat :=
  let v2548 : Index := Scalar.indexCast v2547
  let c0_1772 : Index := 0#32
  let c0_1773 : Index := 0#32
  ![v2548.toNat, 0, 0]

def k0_chk343 (v2547 : BitVec 32) : Prop :=
  (∀ a, (k0_off359 v2547) a + S1x1x128.size a ≤ S100000x1x128.size a)
theorem k0_off359_inb : ∀ (v2547 : BitVec 32) (k0_hw343 : k0_chk343 v2547), ∀ a, (k0_off359 v2547) a + S1x1x128.size a ≤ S100000x1x128.size a := fun v2547 k0_hw343 => k0_hw343

def k0_off360 (v2554 : BitVec 32) : Fin 3 → Nat :=
  let v2555 : Index := Scalar.indexCast v2554
  let c0_1777 : Index := 0#32
  let c0_1778 : Index := 0#32
  ![v2555.toNat, 0, 0]

def k0_chk344 (v2554 : BitVec 32) : Prop :=
  (∀ a, (k0_off360 v2554) a + S1x1x128.size a ≤ S100000x1x128.size a)
theorem k0_off360_inb : ∀ (v2554 : BitVec 32) (k0_hw344 : k0_chk344 v2554), ∀ a, (k0_off360 v2554) a + S1x1x128.size a ≤ S100000x1x128.size a := fun v2554 k0_hw344 => k0_hw344

def k0_off361 (v2561 : BitVec 32) : Fin 3 → Nat :=
  let v2562 : Index := Scalar.indexCast v2561
  let c0_1782 : Index := 0#32
  let c0_1783 : Index := 0#32
  ![v2562.toNat, 0, 0]

def k0_chk345 (v2561 : BitVec 32) : Prop :=
  (∀ a, (k0_off361 v2561) a + S1x1x128.size a ≤ S100000x1x128.size a)
theorem k0_off361_inb : ∀ (v2561 : BitVec 32) (k0_hw345 : k0_chk345 v2561), ∀ a, (k0_off361 v2561) a + S1x1x128.size a ≤ S100000x1x128.size a := fun v2561 k0_hw345 => k0_hw345

def k0_off362 (v2568 : BitVec 32) : Fin 3 → Nat :=
  let v2569 : Index := Scalar.indexCast v2568
  let c0_1787 : Index := 0#32
  let c0_1788 : Index := 0#32
  ![v2569.toNat, 0, 0]

def k0_chk346 (v2568 : BitVec 32) : Prop :=
  (∀ a, (k0_off362 v2568) a + S1x1x128.size a ≤ S100000x1x128.size a)
theorem k0_off362_inb : ∀ (v2568 : BitVec 32) (k0_hw346 : k0_chk346 v2568), ∀ a, (k0_off362 v2568) a + S1x1x128.size a ≤ S100000x1x128.size a := fun v2568 k0_hw346 => k0_hw346

def k0_off363 (v2575 : BitVec 32) : Fin 3 → Nat :=
  let v2576 : Index := Scalar.indexCast v2575
  let c0_1792 : Index := 0#32
  let c0_1793 : Index := 0#32
  ![v2576.toNat, 0, 0]

def k0_chk347 (v2575 : BitVec 32) : Prop :=
  (∀ a, (k0_off363 v2575) a + S1x1x128.size a ≤ S100000x1x128.size a)
theorem k0_off363_inb : ∀ (v2575 : BitVec 32) (k0_hw347 : k0_chk347 v2575), ∀ a, (k0_off363 v2575) a + S1x1x128.size a ≤ S100000x1x128.size a := fun v2575 k0_hw347 => k0_hw347

def k0_off364 (v2582 : BitVec 32) : Fin 3 → Nat :=
  let v2583 : Index := Scalar.indexCast v2582
  let c0_1797 : Index := 0#32
  let c0_1798 : Index := 0#32
  ![v2583.toNat, 0, 0]

def k0_chk348 (v2582 : BitVec 32) : Prop :=
  (∀ a, (k0_off364 v2582) a + S1x1x128.size a ≤ S100000x1x128.size a)
theorem k0_off364_inb : ∀ (v2582 : BitVec 32) (k0_hw348 : k0_chk348 v2582), ∀ a, (k0_off364 v2582) a + S1x1x128.size a ≤ S100000x1x128.size a := fun v2582 k0_hw348 => k0_hw348

def k0_off365 (v2589 : BitVec 32) : Fin 3 → Nat :=
  let v2590 : Index := Scalar.indexCast v2589
  let c0_1802 : Index := 0#32
  let c0_1803 : Index := 0#32
  ![v2590.toNat, 0, 0]

def k0_chk349 (v2589 : BitVec 32) : Prop :=
  (∀ a, (k0_off365 v2589) a + S1x1x128.size a ≤ S100000x1x128.size a)
theorem k0_off365_inb : ∀ (v2589 : BitVec 32) (k0_hw349 : k0_chk349 v2589), ∀ a, (k0_off365 v2589) a + S1x1x128.size a ≤ S100000x1x128.size a := fun v2589 k0_hw349 => k0_hw349

def k0_off366 (v2596 : BitVec 32) : Fin 3 → Nat :=
  let v2597 : Index := Scalar.indexCast v2596
  let c0_1807 : Index := 0#32
  let c0_1808 : Index := 0#32
  ![v2597.toNat, 0, 0]

def k0_chk350 (v2596 : BitVec 32) : Prop :=
  (∀ a, (k0_off366 v2596) a + S1x1x128.size a ≤ S100000x1x128.size a)
theorem k0_off366_inb : ∀ (v2596 : BitVec 32) (k0_hw350 : k0_chk350 v2596), ∀ a, (k0_off366 v2596) a + S1x1x128.size a ≤ S100000x1x128.size a := fun v2596 k0_hw350 => k0_hw350

def k0_off367 (v2603 : BitVec 32) : Fin 3 → Nat :=
  let v2604 : Index := Scalar.indexCast v2603
  let c0_1812 : Index := 0#32
  let c0_1813 : Index := 0#32
  ![v2604.toNat, 0, 0]

def k0_chk351 (v2603 : BitVec 32) : Prop :=
  (∀ a, (k0_off367 v2603) a + S1x1x128.size a ≤ S100000x1x128.size a)
theorem k0_off367_inb : ∀ (v2603 : BitVec 32) (k0_hw351 : k0_chk351 v2603), ∀ a, (k0_off367 v2603) a + S1x1x128.size a ≤ S100000x1x128.size a := fun v2603 k0_hw351 => k0_hw351

def k0_off368 (v2610 : BitVec 32) : Fin 3 → Nat :=
  let v2611 : Index := Scalar.indexCast v2610
  let c0_1817 : Index := 0#32
  let c0_1818 : Index := 0#32
  ![v2611.toNat, 0, 0]

def k0_chk352 (v2610 : BitVec 32) : Prop :=
  (∀ a, (k0_off368 v2610) a + S1x1x128.size a ≤ S100000x1x128.size a)
theorem k0_off368_inb : ∀ (v2610 : BitVec 32) (k0_hw352 : k0_chk352 v2610), ∀ a, (k0_off368 v2610) a + S1x1x128.size a ≤ S100000x1x128.size a := fun v2610 k0_hw352 => k0_hw352

def k0_off369 (v2617 : BitVec 32) : Fin 3 → Nat :=
  let v2618 : Index := Scalar.indexCast v2617
  let c0_1822 : Index := 0#32
  let c0_1823 : Index := 0#32
  ![v2618.toNat, 0, 0]

def k0_chk353 (v2617 : BitVec 32) : Prop :=
  (∀ a, (k0_off369 v2617) a + S1x1x128.size a ≤ S100000x1x128.size a)
theorem k0_off369_inb : ∀ (v2617 : BitVec 32) (k0_hw353 : k0_chk353 v2617), ∀ a, (k0_off369 v2617) a + S1x1x128.size a ≤ S100000x1x128.size a := fun v2617 k0_hw353 => k0_hw353

def k0_off370 (v2624 : BitVec 32) : Fin 3 → Nat :=
  let v2625 : Index := Scalar.indexCast v2624
  let c0_1827 : Index := 0#32
  let c0_1828 : Index := 0#32
  ![v2625.toNat, 0, 0]

def k0_chk354 (v2624 : BitVec 32) : Prop :=
  (∀ a, (k0_off370 v2624) a + S1x1x128.size a ≤ S100000x1x128.size a)
theorem k0_off370_inb : ∀ (v2624 : BitVec 32) (k0_hw354 : k0_chk354 v2624), ∀ a, (k0_off370 v2624) a + S1x1x128.size a ≤ S100000x1x128.size a := fun v2624 k0_hw354 => k0_hw354

def k0_off371 (v2631 : BitVec 32) : Fin 3 → Nat :=
  let v2632 : Index := Scalar.indexCast v2631
  let c0_1832 : Index := 0#32
  let c0_1833 : Index := 0#32
  ![v2632.toNat, 0, 0]

def k0_chk355 (v2631 : BitVec 32) : Prop :=
  (∀ a, (k0_off371 v2631) a + S1x1x128.size a ≤ S100000x1x128.size a)
theorem k0_off371_inb : ∀ (v2631 : BitVec 32) (k0_hw355 : k0_chk355 v2631), ∀ a, (k0_off371 v2631) a + S1x1x128.size a ≤ S100000x1x128.size a := fun v2631 k0_hw355 => k0_hw355

def k0_off372 (v2638 : BitVec 32) : Fin 3 → Nat :=
  let v2639 : Index := Scalar.indexCast v2638
  let c0_1837 : Index := 0#32
  let c0_1838 : Index := 0#32
  ![v2639.toNat, 0, 0]

def k0_chk356 (v2638 : BitVec 32) : Prop :=
  (∀ a, (k0_off372 v2638) a + S1x1x128.size a ≤ S100000x1x128.size a)
theorem k0_off372_inb : ∀ (v2638 : BitVec 32) (k0_hw356 : k0_chk356 v2638), ∀ a, (k0_off372 v2638) a + S1x1x128.size a ≤ S100000x1x128.size a := fun v2638 k0_hw356 => k0_hw356

def k0_off373 (v2645 : BitVec 32) : Fin 3 → Nat :=
  let v2646 : Index := Scalar.indexCast v2645
  let c0_1842 : Index := 0#32
  let c0_1843 : Index := 0#32
  ![v2646.toNat, 0, 0]

def k0_chk357 (v2645 : BitVec 32) : Prop :=
  (∀ a, (k0_off373 v2645) a + S1x1x128.size a ≤ S100000x1x128.size a)
theorem k0_off373_inb : ∀ (v2645 : BitVec 32) (k0_hw357 : k0_chk357 v2645), ∀ a, (k0_off373 v2645) a + S1x1x128.size a ≤ S100000x1x128.size a := fun v2645 k0_hw357 => k0_hw357

def k0_off374 (v2652 : BitVec 32) : Fin 3 → Nat :=
  let v2653 : Index := Scalar.indexCast v2652
  let c0_1847 : Index := 0#32
  let c0_1848 : Index := 0#32
  ![v2653.toNat, 0, 0]

def k0_chk358 (v2652 : BitVec 32) : Prop :=
  (∀ a, (k0_off374 v2652) a + S1x1x128.size a ≤ S100000x1x128.size a)
theorem k0_off374_inb : ∀ (v2652 : BitVec 32) (k0_hw358 : k0_chk358 v2652), ∀ a, (k0_off374 v2652) a + S1x1x128.size a ≤ S100000x1x128.size a := fun v2652 k0_hw358 => k0_hw358

def k0_off375 (v2659 : BitVec 32) : Fin 3 → Nat :=
  let v2660 : Index := Scalar.indexCast v2659
  let c0_1852 : Index := 0#32
  let c0_1853 : Index := 0#32
  ![v2660.toNat, 0, 0]

def k0_chk359 (v2659 : BitVec 32) : Prop :=
  (∀ a, (k0_off375 v2659) a + S1x1x128.size a ≤ S100000x1x128.size a)
theorem k0_off375_inb : ∀ (v2659 : BitVec 32) (k0_hw359 : k0_chk359 v2659), ∀ a, (k0_off375 v2659) a + S1x1x128.size a ≤ S100000x1x128.size a := fun v2659 k0_hw359 => k0_hw359

def k0_off376 (v2666 : BitVec 32) : Fin 3 → Nat :=
  let v2667 : Index := Scalar.indexCast v2666
  let c0_1857 : Index := 0#32
  let c0_1858 : Index := 0#32
  ![v2667.toNat, 0, 0]

def k0_chk360 (v2666 : BitVec 32) : Prop :=
  (∀ a, (k0_off376 v2666) a + S1x1x128.size a ≤ S100000x1x128.size a)
theorem k0_off376_inb : ∀ (v2666 : BitVec 32) (k0_hw360 : k0_chk360 v2666), ∀ a, (k0_off376 v2666) a + S1x1x128.size a ≤ S100000x1x128.size a := fun v2666 k0_hw360 => k0_hw360

def k0_off377 (v2673 : BitVec 32) : Fin 3 → Nat :=
  let v2674 : Index := Scalar.indexCast v2673
  let c0_1862 : Index := 0#32
  let c0_1863 : Index := 0#32
  ![v2674.toNat, 0, 0]

def k0_chk361 (v2673 : BitVec 32) : Prop :=
  (∀ a, (k0_off377 v2673) a + S1x1x128.size a ≤ S100000x1x128.size a)
theorem k0_off377_inb : ∀ (v2673 : BitVec 32) (k0_hw361 : k0_chk361 v2673), ∀ a, (k0_off377 v2673) a + S1x1x128.size a ≤ S100000x1x128.size a := fun v2673 k0_hw361 => k0_hw361

def k0_off378 (v2680 : BitVec 32) : Fin 3 → Nat :=
  let v2681 : Index := Scalar.indexCast v2680
  let c0_1867 : Index := 0#32
  let c0_1868 : Index := 0#32
  ![v2681.toNat, 0, 0]

def k0_chk362 (v2680 : BitVec 32) : Prop :=
  (∀ a, (k0_off378 v2680) a + S1x1x128.size a ≤ S100000x1x128.size a)
theorem k0_off378_inb : ∀ (v2680 : BitVec 32) (k0_hw362 : k0_chk362 v2680), ∀ a, (k0_off378 v2680) a + S1x1x128.size a ≤ S100000x1x128.size a := fun v2680 k0_hw362 => k0_hw362

def k0_off379 (v2687 : BitVec 32) : Fin 3 → Nat :=
  let v2688 : Index := Scalar.indexCast v2687
  let c0_1872 : Index := 0#32
  let c0_1873 : Index := 0#32
  ![v2688.toNat, 0, 0]

def k0_chk363 (v2687 : BitVec 32) : Prop :=
  (∀ a, (k0_off379 v2687) a + S1x1x128.size a ≤ S100000x1x128.size a)
theorem k0_off379_inb : ∀ (v2687 : BitVec 32) (k0_hw363 : k0_chk363 v2687), ∀ a, (k0_off379 v2687) a + S1x1x128.size a ≤ S100000x1x128.size a := fun v2687 k0_hw363 => k0_hw363

def k0_off380 (v2694 : BitVec 32) : Fin 3 → Nat :=
  let v2695 : Index := Scalar.indexCast v2694
  let c0_1877 : Index := 0#32
  let c0_1878 : Index := 0#32
  ![v2695.toNat, 0, 0]

def k0_chk364 (v2694 : BitVec 32) : Prop :=
  (∀ a, (k0_off380 v2694) a + S1x1x128.size a ≤ S100000x1x128.size a)
theorem k0_off380_inb : ∀ (v2694 : BitVec 32) (k0_hw364 : k0_chk364 v2694), ∀ a, (k0_off380 v2694) a + S1x1x128.size a ≤ S100000x1x128.size a := fun v2694 k0_hw364 => k0_hw364

def k0_off381 (v2701 : BitVec 32) : Fin 3 → Nat :=
  let v2702 : Index := Scalar.indexCast v2701
  let c0_1882 : Index := 0#32
  let c0_1883 : Index := 0#32
  ![v2702.toNat, 0, 0]

def k0_chk365 (v2701 : BitVec 32) : Prop :=
  (∀ a, (k0_off381 v2701) a + S1x1x128.size a ≤ S100000x1x128.size a)
theorem k0_off381_inb : ∀ (v2701 : BitVec 32) (k0_hw365 : k0_chk365 v2701), ∀ a, (k0_off381 v2701) a + S1x1x128.size a ≤ S100000x1x128.size a := fun v2701 k0_hw365 => k0_hw365

def k0_off382 (v2708 : BitVec 32) : Fin 3 → Nat :=
  let v2709 : Index := Scalar.indexCast v2708
  let c0_1887 : Index := 0#32
  let c0_1888 : Index := 0#32
  ![v2709.toNat, 0, 0]

def k0_chk366 (v2708 : BitVec 32) : Prop :=
  (∀ a, (k0_off382 v2708) a + S1x1x128.size a ≤ S100000x1x128.size a)
theorem k0_off382_inb : ∀ (v2708 : BitVec 32) (k0_hw366 : k0_chk366 v2708), ∀ a, (k0_off382 v2708) a + S1x1x128.size a ≤ S100000x1x128.size a := fun v2708 k0_hw366 => k0_hw366

def k0_off383 (v2715 : BitVec 32) : Fin 3 → Nat :=
  let v2716 : Index := Scalar.indexCast v2715
  let c0_1892 : Index := 0#32
  let c0_1893 : Index := 0#32
  ![v2716.toNat, 0, 0]

def k0_chk367 (v2715 : BitVec 32) : Prop :=
  (∀ a, (k0_off383 v2715) a + S1x1x128.size a ≤ S100000x1x128.size a)
theorem k0_off383_inb : ∀ (v2715 : BitVec 32) (k0_hw367 : k0_chk367 v2715), ∀ a, (k0_off383 v2715) a + S1x1x128.size a ≤ S100000x1x128.size a := fun v2715 k0_hw367 => k0_hw367

def k0_off384 (v2722 : BitVec 32) : Fin 3 → Nat :=
  let v2723 : Index := Scalar.indexCast v2722
  let c0_1897 : Index := 0#32
  let c0_1898 : Index := 0#32
  ![v2723.toNat, 0, 0]

def k0_chk368 (v2722 : BitVec 32) : Prop :=
  (∀ a, (k0_off384 v2722) a + S1x1x128.size a ≤ S100000x1x128.size a)
theorem k0_off384_inb : ∀ (v2722 : BitVec 32) (k0_hw368 : k0_chk368 v2722), ∀ a, (k0_off384 v2722) a + S1x1x128.size a ≤ S100000x1x128.size a := fun v2722 k0_hw368 => k0_hw368

def k0_off385 (v2729 : BitVec 32) : Fin 3 → Nat :=
  let v2730 : Index := Scalar.indexCast v2729
  let c0_1902 : Index := 0#32
  let c0_1903 : Index := 0#32
  ![v2730.toNat, 0, 0]

def k0_chk369 (v2729 : BitVec 32) : Prop :=
  (∀ a, (k0_off385 v2729) a + S1x1x128.size a ≤ S100000x1x128.size a)
theorem k0_off385_inb : ∀ (v2729 : BitVec 32) (k0_hw369 : k0_chk369 v2729), ∀ a, (k0_off385 v2729) a + S1x1x128.size a ≤ S100000x1x128.size a := fun v2729 k0_hw369 => k0_hw369

def k0_off386 (v2736 : BitVec 32) : Fin 3 → Nat :=
  let v2737 : Index := Scalar.indexCast v2736
  let c0_1907 : Index := 0#32
  let c0_1908 : Index := 0#32
  ![v2737.toNat, 0, 0]

def k0_chk370 (v2736 : BitVec 32) : Prop :=
  (∀ a, (k0_off386 v2736) a + S1x1x128.size a ≤ S100000x1x128.size a)
theorem k0_off386_inb : ∀ (v2736 : BitVec 32) (k0_hw370 : k0_chk370 v2736), ∀ a, (k0_off386 v2736) a + S1x1x128.size a ≤ S100000x1x128.size a := fun v2736 k0_hw370 => k0_hw370

def k0_off387 (v2743 : BitVec 32) : Fin 3 → Nat :=
  let v2744 : Index := Scalar.indexCast v2743
  let c0_1912 : Index := 0#32
  let c0_1913 : Index := 0#32
  ![v2744.toNat, 0, 0]

def k0_chk371 (v2743 : BitVec 32) : Prop :=
  (∀ a, (k0_off387 v2743) a + S1x1x128.size a ≤ S100000x1x128.size a)
theorem k0_off387_inb : ∀ (v2743 : BitVec 32) (k0_hw371 : k0_chk371 v2743), ∀ a, (k0_off387 v2743) a + S1x1x128.size a ≤ S100000x1x128.size a := fun v2743 k0_hw371 => k0_hw371

def k0_off388 (v2750 : BitVec 32) : Fin 3 → Nat :=
  let v2751 : Index := Scalar.indexCast v2750
  let c0_1917 : Index := 0#32
  let c0_1918 : Index := 0#32
  ![v2751.toNat, 0, 0]

def k0_chk372 (v2750 : BitVec 32) : Prop :=
  (∀ a, (k0_off388 v2750) a + S1x1x128.size a ≤ S100000x1x128.size a)
theorem k0_off388_inb : ∀ (v2750 : BitVec 32) (k0_hw372 : k0_chk372 v2750), ∀ a, (k0_off388 v2750) a + S1x1x128.size a ≤ S100000x1x128.size a := fun v2750 k0_hw372 => k0_hw372

def k0_off389 (v2757 : BitVec 32) : Fin 3 → Nat :=
  let v2758 : Index := Scalar.indexCast v2757
  let c0_1922 : Index := 0#32
  let c0_1923 : Index := 0#32
  ![v2758.toNat, 0, 0]

def k0_chk373 (v2757 : BitVec 32) : Prop :=
  (∀ a, (k0_off389 v2757) a + S1x1x128.size a ≤ S100000x1x128.size a)
theorem k0_off389_inb : ∀ (v2757 : BitVec 32) (k0_hw373 : k0_chk373 v2757), ∀ a, (k0_off389 v2757) a + S1x1x128.size a ≤ S100000x1x128.size a := fun v2757 k0_hw373 => k0_hw373

def k0_off390 (v2764 : BitVec 32) : Fin 3 → Nat :=
  let v2765 : Index := Scalar.indexCast v2764
  let c0_1927 : Index := 0#32
  let c0_1928 : Index := 0#32
  ![v2765.toNat, 0, 0]

def k0_chk374 (v2764 : BitVec 32) : Prop :=
  (∀ a, (k0_off390 v2764) a + S1x1x128.size a ≤ S100000x1x128.size a)
theorem k0_off390_inb : ∀ (v2764 : BitVec 32) (k0_hw374 : k0_chk374 v2764), ∀ a, (k0_off390 v2764) a + S1x1x128.size a ≤ S100000x1x128.size a := fun v2764 k0_hw374 => k0_hw374

def k0_off391 (v2771 : BitVec 32) : Fin 3 → Nat :=
  let v2772 : Index := Scalar.indexCast v2771
  let c0_1932 : Index := 0#32
  let c0_1933 : Index := 0#32
  ![v2772.toNat, 0, 0]

def k0_chk375 (v2771 : BitVec 32) : Prop :=
  (∀ a, (k0_off391 v2771) a + S1x1x128.size a ≤ S100000x1x128.size a)
theorem k0_off391_inb : ∀ (v2771 : BitVec 32) (k0_hw375 : k0_chk375 v2771), ∀ a, (k0_off391 v2771) a + S1x1x128.size a ≤ S100000x1x128.size a := fun v2771 k0_hw375 => k0_hw375

def k0_off392 (v2778 : BitVec 32) : Fin 3 → Nat :=
  let v2779 : Index := Scalar.indexCast v2778
  let c0_1937 : Index := 0#32
  let c0_1938 : Index := 0#32
  ![v2779.toNat, 0, 0]

def k0_chk376 (v2778 : BitVec 32) : Prop :=
  (∀ a, (k0_off392 v2778) a + S1x1x128.size a ≤ S100000x1x128.size a)
theorem k0_off392_inb : ∀ (v2778 : BitVec 32) (k0_hw376 : k0_chk376 v2778), ∀ a, (k0_off392 v2778) a + S1x1x128.size a ≤ S100000x1x128.size a := fun v2778 k0_hw376 => k0_hw376

def k0_off393 (v2785 : BitVec 32) : Fin 3 → Nat :=
  let v2786 : Index := Scalar.indexCast v2785
  let c0_1942 : Index := 0#32
  let c0_1943 : Index := 0#32
  ![v2786.toNat, 0, 0]

def k0_chk377 (v2785 : BitVec 32) : Prop :=
  (∀ a, (k0_off393 v2785) a + S1x1x128.size a ≤ S100000x1x128.size a)
theorem k0_off393_inb : ∀ (v2785 : BitVec 32) (k0_hw377 : k0_chk377 v2785), ∀ a, (k0_off393 v2785) a + S1x1x128.size a ≤ S100000x1x128.size a := fun v2785 k0_hw377 => k0_hw377

def k0_off394 (v2792 : BitVec 32) : Fin 3 → Nat :=
  let v2793 : Index := Scalar.indexCast v2792
  let c0_1947 : Index := 0#32
  let c0_1948 : Index := 0#32
  ![v2793.toNat, 0, 0]

def k0_chk378 (v2792 : BitVec 32) : Prop :=
  (∀ a, (k0_off394 v2792) a + S1x1x128.size a ≤ S100000x1x128.size a)
theorem k0_off394_inb : ∀ (v2792 : BitVec 32) (k0_hw378 : k0_chk378 v2792), ∀ a, (k0_off394 v2792) a + S1x1x128.size a ≤ S100000x1x128.size a := fun v2792 k0_hw378 => k0_hw378

def k0_off395 (v2799 : BitVec 32) : Fin 3 → Nat :=
  let v2800 : Index := Scalar.indexCast v2799
  let c0_1952 : Index := 0#32
  let c0_1953 : Index := 0#32
  ![v2800.toNat, 0, 0]

def k0_chk379 (v2799 : BitVec 32) : Prop :=
  (∀ a, (k0_off395 v2799) a + S1x1x128.size a ≤ S100000x1x128.size a)
theorem k0_off395_inb : ∀ (v2799 : BitVec 32) (k0_hw379 : k0_chk379 v2799), ∀ a, (k0_off395 v2799) a + S1x1x128.size a ≤ S100000x1x128.size a := fun v2799 k0_hw379 => k0_hw379

def k0_off396 (v2806 : BitVec 32) : Fin 3 → Nat :=
  let v2807 : Index := Scalar.indexCast v2806
  let c0_1957 : Index := 0#32
  let c0_1958 : Index := 0#32
  ![v2807.toNat, 0, 0]

def k0_chk380 (v2806 : BitVec 32) : Prop :=
  (∀ a, (k0_off396 v2806) a + S1x1x128.size a ≤ S100000x1x128.size a)
theorem k0_off396_inb : ∀ (v2806 : BitVec 32) (k0_hw380 : k0_chk380 v2806), ∀ a, (k0_off396 v2806) a + S1x1x128.size a ≤ S100000x1x128.size a := fun v2806 k0_hw380 => k0_hw380

def k0_off397 (v2813 : BitVec 32) : Fin 3 → Nat :=
  let v2814 : Index := Scalar.indexCast v2813
  let c0_1962 : Index := 0#32
  let c0_1963 : Index := 0#32
  ![v2814.toNat, 0, 0]

def k0_chk381 (v2813 : BitVec 32) : Prop :=
  (∀ a, (k0_off397 v2813) a + S1x1x128.size a ≤ S100000x1x128.size a)
theorem k0_off397_inb : ∀ (v2813 : BitVec 32) (k0_hw381 : k0_chk381 v2813), ∀ a, (k0_off397 v2813) a + S1x1x128.size a ≤ S100000x1x128.size a := fun v2813 k0_hw381 => k0_hw381

def k0_off398 (v2820 : BitVec 32) : Fin 3 → Nat :=
  let v2821 : Index := Scalar.indexCast v2820
  let c0_1967 : Index := 0#32
  let c0_1968 : Index := 0#32
  ![v2821.toNat, 0, 0]

def k0_chk382 (v2820 : BitVec 32) : Prop :=
  (∀ a, (k0_off398 v2820) a + S1x1x128.size a ≤ S100000x1x128.size a)
theorem k0_off398_inb : ∀ (v2820 : BitVec 32) (k0_hw382 : k0_chk382 v2820), ∀ a, (k0_off398 v2820) a + S1x1x128.size a ≤ S100000x1x128.size a := fun v2820 k0_hw382 => k0_hw382

def k0_off399 (v2827 : BitVec 32) : Fin 3 → Nat :=
  let v2828 : Index := Scalar.indexCast v2827
  let c0_1972 : Index := 0#32
  let c0_1973 : Index := 0#32
  ![v2828.toNat, 0, 0]

def k0_chk383 (v2827 : BitVec 32) : Prop :=
  (∀ a, (k0_off399 v2827) a + S1x1x128.size a ≤ S100000x1x128.size a)
theorem k0_off399_inb : ∀ (v2827 : BitVec 32) (k0_hw383 : k0_chk383 v2827), ∀ a, (k0_off399 v2827) a + S1x1x128.size a ≤ S100000x1x128.size a := fun v2827 k0_hw383 => k0_hw383

def k0_off400 (v2834 : BitVec 32) : Fin 3 → Nat :=
  let v2835 : Index := Scalar.indexCast v2834
  let c0_1977 : Index := 0#32
  let c0_1978 : Index := 0#32
  ![v2835.toNat, 0, 0]

def k0_chk384 (v2834 : BitVec 32) : Prop :=
  (∀ a, (k0_off400 v2834) a + S1x1x128.size a ≤ S100000x1x128.size a)
theorem k0_off400_inb : ∀ (v2834 : BitVec 32) (k0_hw384 : k0_chk384 v2834), ∀ a, (k0_off400 v2834) a + S1x1x128.size a ≤ S100000x1x128.size a := fun v2834 k0_hw384 => k0_hw384

def k0_off401 (v2841 : BitVec 32) : Fin 3 → Nat :=
  let v2842 : Index := Scalar.indexCast v2841
  let c0_1982 : Index := 0#32
  let c0_1983 : Index := 0#32
  ![v2842.toNat, 0, 0]

def k0_chk385 (v2841 : BitVec 32) : Prop :=
  (∀ a, (k0_off401 v2841) a + S1x1x128.size a ≤ S100000x1x128.size a)
theorem k0_off401_inb : ∀ (v2841 : BitVec 32) (k0_hw385 : k0_chk385 v2841), ∀ a, (k0_off401 v2841) a + S1x1x128.size a ≤ S100000x1x128.size a := fun v2841 k0_hw385 => k0_hw385

def k0_off402 (v2848 : BitVec 32) : Fin 3 → Nat :=
  let v2849 : Index := Scalar.indexCast v2848
  let c0_1987 : Index := 0#32
  let c0_1988 : Index := 0#32
  ![v2849.toNat, 0, 0]

def k0_chk386 (v2848 : BitVec 32) : Prop :=
  (∀ a, (k0_off402 v2848) a + S1x1x128.size a ≤ S100000x1x128.size a)
theorem k0_off402_inb : ∀ (v2848 : BitVec 32) (k0_hw386 : k0_chk386 v2848), ∀ a, (k0_off402 v2848) a + S1x1x128.size a ≤ S100000x1x128.size a := fun v2848 k0_hw386 => k0_hw386

def k0_off403 (v2855 : BitVec 32) : Fin 3 → Nat :=
  let v2856 : Index := Scalar.indexCast v2855
  let c0_1992 : Index := 0#32
  let c0_1993 : Index := 0#32
  ![v2856.toNat, 0, 0]

def k0_chk387 (v2855 : BitVec 32) : Prop :=
  (∀ a, (k0_off403 v2855) a + S1x1x128.size a ≤ S100000x1x128.size a)
theorem k0_off403_inb : ∀ (v2855 : BitVec 32) (k0_hw387 : k0_chk387 v2855), ∀ a, (k0_off403 v2855) a + S1x1x128.size a ≤ S100000x1x128.size a := fun v2855 k0_hw387 => k0_hw387

def k0_off404 (v2862 : BitVec 32) : Fin 3 → Nat :=
  let v2863 : Index := Scalar.indexCast v2862
  let c0_1997 : Index := 0#32
  let c0_1998 : Index := 0#32
  ![v2863.toNat, 0, 0]

def k0_chk388 (v2862 : BitVec 32) : Prop :=
  (∀ a, (k0_off404 v2862) a + S1x1x128.size a ≤ S100000x1x128.size a)
theorem k0_off404_inb : ∀ (v2862 : BitVec 32) (k0_hw388 : k0_chk388 v2862), ∀ a, (k0_off404 v2862) a + S1x1x128.size a ≤ S100000x1x128.size a := fun v2862 k0_hw388 => k0_hw388

def k0_off405 (v2869 : BitVec 32) : Fin 3 → Nat :=
  let v2870 : Index := Scalar.indexCast v2869
  let c0_2002 : Index := 0#32
  let c0_2003 : Index := 0#32
  ![v2870.toNat, 0, 0]

def k0_chk389 (v2869 : BitVec 32) : Prop :=
  (∀ a, (k0_off405 v2869) a + S1x1x128.size a ≤ S100000x1x128.size a)
theorem k0_off405_inb : ∀ (v2869 : BitVec 32) (k0_hw389 : k0_chk389 v2869), ∀ a, (k0_off405 v2869) a + S1x1x128.size a ≤ S100000x1x128.size a := fun v2869 k0_hw389 => k0_hw389

def k0_off406 (v2876 : BitVec 32) : Fin 3 → Nat :=
  let v2877 : Index := Scalar.indexCast v2876
  let c0_2007 : Index := 0#32
  let c0_2008 : Index := 0#32
  ![v2877.toNat, 0, 0]

def k0_chk390 (v2876 : BitVec 32) : Prop :=
  (∀ a, (k0_off406 v2876) a + S1x1x128.size a ≤ S100000x1x128.size a)
theorem k0_off406_inb : ∀ (v2876 : BitVec 32) (k0_hw390 : k0_chk390 v2876), ∀ a, (k0_off406 v2876) a + S1x1x128.size a ≤ S100000x1x128.size a := fun v2876 k0_hw390 => k0_hw390

def k0_off407 (v2883 : BitVec 32) : Fin 3 → Nat :=
  let v2884 : Index := Scalar.indexCast v2883
  let c0_2012 : Index := 0#32
  let c0_2013 : Index := 0#32
  ![v2884.toNat, 0, 0]

def k0_chk391 (v2883 : BitVec 32) : Prop :=
  (∀ a, (k0_off407 v2883) a + S1x1x128.size a ≤ S100000x1x128.size a)
theorem k0_off407_inb : ∀ (v2883 : BitVec 32) (k0_hw391 : k0_chk391 v2883), ∀ a, (k0_off407 v2883) a + S1x1x128.size a ≤ S100000x1x128.size a := fun v2883 k0_hw391 => k0_hw391

def k0_off408 (v2890 : BitVec 32) : Fin 3 → Nat :=
  let v2891 : Index := Scalar.indexCast v2890
  let c0_2017 : Index := 0#32
  let c0_2018 : Index := 0#32
  ![v2891.toNat, 0, 0]

def k0_chk392 (v2890 : BitVec 32) : Prop :=
  (∀ a, (k0_off408 v2890) a + S1x1x128.size a ≤ S100000x1x128.size a)
theorem k0_off408_inb : ∀ (v2890 : BitVec 32) (k0_hw392 : k0_chk392 v2890), ∀ a, (k0_off408 v2890) a + S1x1x128.size a ≤ S100000x1x128.size a := fun v2890 k0_hw392 => k0_hw392

def k0_off409 (v2897 : BitVec 32) : Fin 3 → Nat :=
  let v2898 : Index := Scalar.indexCast v2897
  let c0_2022 : Index := 0#32
  let c0_2023 : Index := 0#32
  ![v2898.toNat, 0, 0]

def k0_chk393 (v2897 : BitVec 32) : Prop :=
  (∀ a, (k0_off409 v2897) a + S1x1x128.size a ≤ S100000x1x128.size a)
theorem k0_off409_inb : ∀ (v2897 : BitVec 32) (k0_hw393 : k0_chk393 v2897), ∀ a, (k0_off409 v2897) a + S1x1x128.size a ≤ S100000x1x128.size a := fun v2897 k0_hw393 => k0_hw393

def k0_off410 (v2904 : BitVec 32) : Fin 3 → Nat :=
  let v2905 : Index := Scalar.indexCast v2904
  let c0_2027 : Index := 0#32
  let c0_2028 : Index := 0#32
  ![v2905.toNat, 0, 0]

def k0_chk394 (v2904 : BitVec 32) : Prop :=
  (∀ a, (k0_off410 v2904) a + S1x1x128.size a ≤ S100000x1x128.size a)
theorem k0_off410_inb : ∀ (v2904 : BitVec 32) (k0_hw394 : k0_chk394 v2904), ∀ a, (k0_off410 v2904) a + S1x1x128.size a ≤ S100000x1x128.size a := fun v2904 k0_hw394 => k0_hw394

def k0_off411 (v2911 : BitVec 32) : Fin 3 → Nat :=
  let v2912 : Index := Scalar.indexCast v2911
  let c0_2032 : Index := 0#32
  let c0_2033 : Index := 0#32
  ![v2912.toNat, 0, 0]

def k0_chk395 (v2911 : BitVec 32) : Prop :=
  (∀ a, (k0_off411 v2911) a + S1x1x128.size a ≤ S100000x1x128.size a)
theorem k0_off411_inb : ∀ (v2911 : BitVec 32) (k0_hw395 : k0_chk395 v2911), ∀ a, (k0_off411 v2911) a + S1x1x128.size a ≤ S100000x1x128.size a := fun v2911 k0_hw395 => k0_hw395

def k0_off412 (v2918 : BitVec 32) : Fin 3 → Nat :=
  let v2919 : Index := Scalar.indexCast v2918
  let c0_2037 : Index := 0#32
  let c0_2038 : Index := 0#32
  ![v2919.toNat, 0, 0]

def k0_chk396 (v2918 : BitVec 32) : Prop :=
  (∀ a, (k0_off412 v2918) a + S1x1x128.size a ≤ S100000x1x128.size a)
theorem k0_off412_inb : ∀ (v2918 : BitVec 32) (k0_hw396 : k0_chk396 v2918), ∀ a, (k0_off412 v2918) a + S1x1x128.size a ≤ S100000x1x128.size a := fun v2918 k0_hw396 => k0_hw396

def k0_off413 (v2925 : BitVec 32) : Fin 3 → Nat :=
  let v2926 : Index := Scalar.indexCast v2925
  let c0_2042 : Index := 0#32
  let c0_2043 : Index := 0#32
  ![v2926.toNat, 0, 0]

def k0_chk397 (v2925 : BitVec 32) : Prop :=
  (∀ a, (k0_off413 v2925) a + S1x1x128.size a ≤ S100000x1x128.size a)
theorem k0_off413_inb : ∀ (v2925 : BitVec 32) (k0_hw397 : k0_chk397 v2925), ∀ a, (k0_off413 v2925) a + S1x1x128.size a ≤ S100000x1x128.size a := fun v2925 k0_hw397 => k0_hw397

def k0_off414 (v2932 : BitVec 32) : Fin 3 → Nat :=
  let v2933 : Index := Scalar.indexCast v2932
  let c0_2047 : Index := 0#32
  let c0_2048 : Index := 0#32
  ![v2933.toNat, 0, 0]

def k0_chk398 (v2932 : BitVec 32) : Prop :=
  (∀ a, (k0_off414 v2932) a + S1x1x128.size a ≤ S100000x1x128.size a)
theorem k0_off414_inb : ∀ (v2932 : BitVec 32) (k0_hw398 : k0_chk398 v2932), ∀ a, (k0_off414 v2932) a + S1x1x128.size a ≤ S100000x1x128.size a := fun v2932 k0_hw398 => k0_hw398

def k0_off415 (v2939 : BitVec 32) : Fin 3 → Nat :=
  let v2940 : Index := Scalar.indexCast v2939
  let c0_2052 : Index := 0#32
  let c0_2053 : Index := 0#32
  ![v2940.toNat, 0, 0]

def k0_chk399 (v2939 : BitVec 32) : Prop :=
  (∀ a, (k0_off415 v2939) a + S1x1x128.size a ≤ S100000x1x128.size a)
theorem k0_off415_inb : ∀ (v2939 : BitVec 32) (k0_hw399 : k0_chk399 v2939), ∀ a, (k0_off415 v2939) a + S1x1x128.size a ≤ S100000x1x128.size a := fun v2939 k0_hw399 => k0_hw399

def k0_off416 (v2946 : BitVec 32) : Fin 3 → Nat :=
  let v2947 : Index := Scalar.indexCast v2946
  let c0_2057 : Index := 0#32
  let c0_2058 : Index := 0#32
  ![v2947.toNat, 0, 0]

def k0_chk400 (v2946 : BitVec 32) : Prop :=
  (∀ a, (k0_off416 v2946) a + S1x1x128.size a ≤ S100000x1x128.size a)
theorem k0_off416_inb : ∀ (v2946 : BitVec 32) (k0_hw400 : k0_chk400 v2946), ∀ a, (k0_off416 v2946) a + S1x1x128.size a ≤ S100000x1x128.size a := fun v2946 k0_hw400 => k0_hw400

def k0_off417 (v2953 : BitVec 32) : Fin 3 → Nat :=
  let v2954 : Index := Scalar.indexCast v2953
  let c0_2062 : Index := 0#32
  let c0_2063 : Index := 0#32
  ![v2954.toNat, 0, 0]

def k0_chk401 (v2953 : BitVec 32) : Prop :=
  (∀ a, (k0_off417 v2953) a + S1x1x128.size a ≤ S100000x1x128.size a)
theorem k0_off417_inb : ∀ (v2953 : BitVec 32) (k0_hw401 : k0_chk401 v2953), ∀ a, (k0_off417 v2953) a + S1x1x128.size a ≤ S100000x1x128.size a := fun v2953 k0_hw401 => k0_hw401

def k0_off418 (v2960 : BitVec 32) : Fin 3 → Nat :=
  let v2961 : Index := Scalar.indexCast v2960
  let c0_2067 : Index := 0#32
  let c0_2068 : Index := 0#32
  ![v2961.toNat, 0, 0]

def k0_chk402 (v2960 : BitVec 32) : Prop :=
  (∀ a, (k0_off418 v2960) a + S1x1x128.size a ≤ S100000x1x128.size a)
theorem k0_off418_inb : ∀ (v2960 : BitVec 32) (k0_hw402 : k0_chk402 v2960), ∀ a, (k0_off418 v2960) a + S1x1x128.size a ≤ S100000x1x128.size a := fun v2960 k0_hw402 => k0_hw402

def k0_off419 (v2967 : BitVec 32) : Fin 3 → Nat :=
  let v2968 : Index := Scalar.indexCast v2967
  let c0_2072 : Index := 0#32
  let c0_2073 : Index := 0#32
  ![v2968.toNat, 0, 0]

def k0_chk403 (v2967 : BitVec 32) : Prop :=
  (∀ a, (k0_off419 v2967) a + S1x1x128.size a ≤ S100000x1x128.size a)
theorem k0_off419_inb : ∀ (v2967 : BitVec 32) (k0_hw403 : k0_chk403 v2967), ∀ a, (k0_off419 v2967) a + S1x1x128.size a ≤ S100000x1x128.size a := fun v2967 k0_hw403 => k0_hw403

def k0_off420 (v2974 : BitVec 32) : Fin 3 → Nat :=
  let v2975 : Index := Scalar.indexCast v2974
  let c0_2077 : Index := 0#32
  let c0_2078 : Index := 0#32
  ![v2975.toNat, 0, 0]

def k0_chk404 (v2974 : BitVec 32) : Prop :=
  (∀ a, (k0_off420 v2974) a + S1x1x128.size a ≤ S100000x1x128.size a)
theorem k0_off420_inb : ∀ (v2974 : BitVec 32) (k0_hw404 : k0_chk404 v2974), ∀ a, (k0_off420 v2974) a + S1x1x128.size a ≤ S100000x1x128.size a := fun v2974 k0_hw404 => k0_hw404

def k0_off421 (v2981 : BitVec 32) : Fin 3 → Nat :=
  let v2982 : Index := Scalar.indexCast v2981
  let c0_2082 : Index := 0#32
  let c0_2083 : Index := 0#32
  ![v2982.toNat, 0, 0]

def k0_chk405 (v2981 : BitVec 32) : Prop :=
  (∀ a, (k0_off421 v2981) a + S1x1x128.size a ≤ S100000x1x128.size a)
theorem k0_off421_inb : ∀ (v2981 : BitVec 32) (k0_hw405 : k0_chk405 v2981), ∀ a, (k0_off421 v2981) a + S1x1x128.size a ≤ S100000x1x128.size a := fun v2981 k0_hw405 => k0_hw405

def k0_off422 (v2988 : BitVec 32) : Fin 3 → Nat :=
  let v2989 : Index := Scalar.indexCast v2988
  let c0_2087 : Index := 0#32
  let c0_2088 : Index := 0#32
  ![v2989.toNat, 0, 0]

def k0_chk406 (v2988 : BitVec 32) : Prop :=
  (∀ a, (k0_off422 v2988) a + S1x1x128.size a ≤ S100000x1x128.size a)
theorem k0_off422_inb : ∀ (v2988 : BitVec 32) (k0_hw406 : k0_chk406 v2988), ∀ a, (k0_off422 v2988) a + S1x1x128.size a ≤ S100000x1x128.size a := fun v2988 k0_hw406 => k0_hw406

def k0_off423 (v2995 : BitVec 32) : Fin 3 → Nat :=
  let v2996 : Index := Scalar.indexCast v2995
  let c0_2092 : Index := 0#32
  let c0_2093 : Index := 0#32
  ![v2996.toNat, 0, 0]

def k0_chk407 (v2995 : BitVec 32) : Prop :=
  (∀ a, (k0_off423 v2995) a + S1x1x128.size a ≤ S100000x1x128.size a)
theorem k0_off423_inb : ∀ (v2995 : BitVec 32) (k0_hw407 : k0_chk407 v2995), ∀ a, (k0_off423 v2995) a + S1x1x128.size a ≤ S100000x1x128.size a := fun v2995 k0_hw407 => k0_hw407

def k0_off424 (v3002 : BitVec 32) : Fin 3 → Nat :=
  let v3003 : Index := Scalar.indexCast v3002
  let c0_2097 : Index := 0#32
  let c0_2098 : Index := 0#32
  ![v3003.toNat, 0, 0]

def k0_chk408 (v3002 : BitVec 32) : Prop :=
  (∀ a, (k0_off424 v3002) a + S1x1x128.size a ≤ S100000x1x128.size a)
theorem k0_off424_inb : ∀ (v3002 : BitVec 32) (k0_hw408 : k0_chk408 v3002), ∀ a, (k0_off424 v3002) a + S1x1x128.size a ≤ S100000x1x128.size a := fun v3002 k0_hw408 => k0_hw408

def k0_off425 (v3009 : BitVec 32) : Fin 3 → Nat :=
  let v3010 : Index := Scalar.indexCast v3009
  let c0_2102 : Index := 0#32
  let c0_2103 : Index := 0#32
  ![v3010.toNat, 0, 0]

def k0_chk409 (v3009 : BitVec 32) : Prop :=
  (∀ a, (k0_off425 v3009) a + S1x1x128.size a ≤ S100000x1x128.size a)
theorem k0_off425_inb : ∀ (v3009 : BitVec 32) (k0_hw409 : k0_chk409 v3009), ∀ a, (k0_off425 v3009) a + S1x1x128.size a ≤ S100000x1x128.size a := fun v3009 k0_hw409 => k0_hw409

def k0_off426 (v3016 : BitVec 32) : Fin 3 → Nat :=
  let v3017 : Index := Scalar.indexCast v3016
  let c0_2107 : Index := 0#32
  let c0_2108 : Index := 0#32
  ![v3017.toNat, 0, 0]

def k0_chk410 (v3016 : BitVec 32) : Prop :=
  (∀ a, (k0_off426 v3016) a + S1x1x128.size a ≤ S100000x1x128.size a)
theorem k0_off426_inb : ∀ (v3016 : BitVec 32) (k0_hw410 : k0_chk410 v3016), ∀ a, (k0_off426 v3016) a + S1x1x128.size a ≤ S100000x1x128.size a := fun v3016 k0_hw410 => k0_hw410

def k0_off427 (v3023 : BitVec 32) : Fin 3 → Nat :=
  let v3024 : Index := Scalar.indexCast v3023
  let c0_2112 : Index := 0#32
  let c0_2113 : Index := 0#32
  ![v3024.toNat, 0, 0]

def k0_chk411 (v3023 : BitVec 32) : Prop :=
  (∀ a, (k0_off427 v3023) a + S1x1x128.size a ≤ S100000x1x128.size a)
theorem k0_off427_inb : ∀ (v3023 : BitVec 32) (k0_hw411 : k0_chk411 v3023), ∀ a, (k0_off427 v3023) a + S1x1x128.size a ≤ S100000x1x128.size a := fun v3023 k0_hw411 => k0_hw411

def k0_off428 (v3030 : BitVec 32) : Fin 3 → Nat :=
  let v3031 : Index := Scalar.indexCast v3030
  let c0_2117 : Index := 0#32
  let c0_2118 : Index := 0#32
  ![v3031.toNat, 0, 0]

def k0_chk412 (v3030 : BitVec 32) : Prop :=
  (∀ a, (k0_off428 v3030) a + S1x1x128.size a ≤ S100000x1x128.size a)
theorem k0_off428_inb : ∀ (v3030 : BitVec 32) (k0_hw412 : k0_chk412 v3030), ∀ a, (k0_off428 v3030) a + S1x1x128.size a ≤ S100000x1x128.size a := fun v3030 k0_hw412 => k0_hw412

def k0_off429 (v3037 : BitVec 32) : Fin 3 → Nat :=
  let v3038 : Index := Scalar.indexCast v3037
  let c0_2122 : Index := 0#32
  let c0_2123 : Index := 0#32
  ![v3038.toNat, 0, 0]

def k0_chk413 (v3037 : BitVec 32) : Prop :=
  (∀ a, (k0_off429 v3037) a + S1x1x128.size a ≤ S100000x1x128.size a)
theorem k0_off429_inb : ∀ (v3037 : BitVec 32) (k0_hw413 : k0_chk413 v3037), ∀ a, (k0_off429 v3037) a + S1x1x128.size a ≤ S100000x1x128.size a := fun v3037 k0_hw413 => k0_hw413

def k0_off430 (v3044 : BitVec 32) : Fin 3 → Nat :=
  let v3045 : Index := Scalar.indexCast v3044
  let c0_2127 : Index := 0#32
  let c0_2128 : Index := 0#32
  ![v3045.toNat, 0, 0]

def k0_chk414 (v3044 : BitVec 32) : Prop :=
  (∀ a, (k0_off430 v3044) a + S1x1x128.size a ≤ S100000x1x128.size a)
theorem k0_off430_inb : ∀ (v3044 : BitVec 32) (k0_hw414 : k0_chk414 v3044), ∀ a, (k0_off430 v3044) a + S1x1x128.size a ≤ S100000x1x128.size a := fun v3044 k0_hw414 => k0_hw414

def k0_off431 (v3051 : BitVec 32) : Fin 3 → Nat :=
  let v3052 : Index := Scalar.indexCast v3051
  let c0_2132 : Index := 0#32
  let c0_2133 : Index := 0#32
  ![v3052.toNat, 0, 0]

def k0_chk415 (v3051 : BitVec 32) : Prop :=
  (∀ a, (k0_off431 v3051) a + S1x1x128.size a ≤ S100000x1x128.size a)
theorem k0_off431_inb : ∀ (v3051 : BitVec 32) (k0_hw415 : k0_chk415 v3051), ∀ a, (k0_off431 v3051) a + S1x1x128.size a ≤ S100000x1x128.size a := fun v3051 k0_hw415 => k0_hw415

def k0_off432 (v3058 : BitVec 32) : Fin 3 → Nat :=
  let v3059 : Index := Scalar.indexCast v3058
  let c0_2137 : Index := 0#32
  let c0_2138 : Index := 0#32
  ![v3059.toNat, 0, 0]

def k0_chk416 (v3058 : BitVec 32) : Prop :=
  (∀ a, (k0_off432 v3058) a + S1x1x128.size a ≤ S100000x1x128.size a)
theorem k0_off432_inb : ∀ (v3058 : BitVec 32) (k0_hw416 : k0_chk416 v3058), ∀ a, (k0_off432 v3058) a + S1x1x128.size a ≤ S100000x1x128.size a := fun v3058 k0_hw416 => k0_hw416

def k0_off433 (v3065 : BitVec 32) : Fin 3 → Nat :=
  let v3066 : Index := Scalar.indexCast v3065
  let c0_2142 : Index := 0#32
  let c0_2143 : Index := 0#32
  ![v3066.toNat, 0, 0]

def k0_chk417 (v3065 : BitVec 32) : Prop :=
  (∀ a, (k0_off433 v3065) a + S1x1x128.size a ≤ S100000x1x128.size a)
theorem k0_off433_inb : ∀ (v3065 : BitVec 32) (k0_hw417 : k0_chk417 v3065), ∀ a, (k0_off433 v3065) a + S1x1x128.size a ≤ S100000x1x128.size a := fun v3065 k0_hw417 => k0_hw417

def k0_off434 (v3072 : BitVec 32) : Fin 3 → Nat :=
  let v3073 : Index := Scalar.indexCast v3072
  let c0_2147 : Index := 0#32
  let c0_2148 : Index := 0#32
  ![v3073.toNat, 0, 0]

def k0_chk418 (v3072 : BitVec 32) : Prop :=
  (∀ a, (k0_off434 v3072) a + S1x1x128.size a ≤ S100000x1x128.size a)
theorem k0_off434_inb : ∀ (v3072 : BitVec 32) (k0_hw418 : k0_chk418 v3072), ∀ a, (k0_off434 v3072) a + S1x1x128.size a ≤ S100000x1x128.size a := fun v3072 k0_hw418 => k0_hw418

def k0_off435 (v3079 : BitVec 32) : Fin 3 → Nat :=
  let v3080 : Index := Scalar.indexCast v3079
  let c0_2152 : Index := 0#32
  let c0_2153 : Index := 0#32
  ![v3080.toNat, 0, 0]

def k0_chk419 (v3079 : BitVec 32) : Prop :=
  (∀ a, (k0_off435 v3079) a + S1x1x128.size a ≤ S100000x1x128.size a)
theorem k0_off435_inb : ∀ (v3079 : BitVec 32) (k0_hw419 : k0_chk419 v3079), ∀ a, (k0_off435 v3079) a + S1x1x128.size a ≤ S100000x1x128.size a := fun v3079 k0_hw419 => k0_hw419

def k0_off436 (v3086 : BitVec 32) : Fin 3 → Nat :=
  let v3087 : Index := Scalar.indexCast v3086
  let c0_2157 : Index := 0#32
  let c0_2158 : Index := 0#32
  ![v3087.toNat, 0, 0]

def k0_chk420 (v3086 : BitVec 32) : Prop :=
  (∀ a, (k0_off436 v3086) a + S1x1x128.size a ≤ S100000x1x128.size a)
theorem k0_off436_inb : ∀ (v3086 : BitVec 32) (k0_hw420 : k0_chk420 v3086), ∀ a, (k0_off436 v3086) a + S1x1x128.size a ≤ S100000x1x128.size a := fun v3086 k0_hw420 => k0_hw420

def k0_off437 (v3093 : BitVec 32) : Fin 3 → Nat :=
  let v3094 : Index := Scalar.indexCast v3093
  let c0_2162 : Index := 0#32
  let c0_2163 : Index := 0#32
  ![v3094.toNat, 0, 0]

def k0_chk421 (v3093 : BitVec 32) : Prop :=
  (∀ a, (k0_off437 v3093) a + S1x1x128.size a ≤ S100000x1x128.size a)
theorem k0_off437_inb : ∀ (v3093 : BitVec 32) (k0_hw421 : k0_chk421 v3093), ∀ a, (k0_off437 v3093) a + S1x1x128.size a ≤ S100000x1x128.size a := fun v3093 k0_hw421 => k0_hw421

def k0_off438 (v3100 : BitVec 32) : Fin 3 → Nat :=
  let v3101 : Index := Scalar.indexCast v3100
  let c0_2167 : Index := 0#32
  let c0_2168 : Index := 0#32
  ![v3101.toNat, 0, 0]

def k0_chk422 (v3100 : BitVec 32) : Prop :=
  (∀ a, (k0_off438 v3100) a + S1x1x128.size a ≤ S100000x1x128.size a)
theorem k0_off438_inb : ∀ (v3100 : BitVec 32) (k0_hw422 : k0_chk422 v3100), ∀ a, (k0_off438 v3100) a + S1x1x128.size a ≤ S100000x1x128.size a := fun v3100 k0_hw422 => k0_hw422

def k0_off439 (v3107 : BitVec 32) : Fin 3 → Nat :=
  let v3108 : Index := Scalar.indexCast v3107
  let c0_2172 : Index := 0#32
  let c0_2173 : Index := 0#32
  ![v3108.toNat, 0, 0]

def k0_chk423 (v3107 : BitVec 32) : Prop :=
  (∀ a, (k0_off439 v3107) a + S1x1x128.size a ≤ S100000x1x128.size a)
theorem k0_off439_inb : ∀ (v3107 : BitVec 32) (k0_hw423 : k0_chk423 v3107), ∀ a, (k0_off439 v3107) a + S1x1x128.size a ≤ S100000x1x128.size a := fun v3107 k0_hw423 => k0_hw423

def k0_off440 (v3114 : BitVec 32) : Fin 3 → Nat :=
  let v3115 : Index := Scalar.indexCast v3114
  let c0_2177 : Index := 0#32
  let c0_2178 : Index := 0#32
  ![v3115.toNat, 0, 0]

def k0_chk424 (v3114 : BitVec 32) : Prop :=
  (∀ a, (k0_off440 v3114) a + S1x1x128.size a ≤ S100000x1x128.size a)
theorem k0_off440_inb : ∀ (v3114 : BitVec 32) (k0_hw424 : k0_chk424 v3114), ∀ a, (k0_off440 v3114) a + S1x1x128.size a ≤ S100000x1x128.size a := fun v3114 k0_hw424 => k0_hw424

def k0_off441 (v3121 : BitVec 32) : Fin 3 → Nat :=
  let v3122 : Index := Scalar.indexCast v3121
  let c0_2182 : Index := 0#32
  let c0_2183 : Index := 0#32
  ![v3122.toNat, 0, 0]

def k0_chk425 (v3121 : BitVec 32) : Prop :=
  (∀ a, (k0_off441 v3121) a + S1x1x128.size a ≤ S100000x1x128.size a)
theorem k0_off441_inb : ∀ (v3121 : BitVec 32) (k0_hw425 : k0_chk425 v3121), ∀ a, (k0_off441 v3121) a + S1x1x128.size a ≤ S100000x1x128.size a := fun v3121 k0_hw425 => k0_hw425

def k0_off442 (v3128 : BitVec 32) : Fin 3 → Nat :=
  let v3129 : Index := Scalar.indexCast v3128
  let c0_2187 : Index := 0#32
  let c0_2188 : Index := 0#32
  ![v3129.toNat, 0, 0]

def k0_chk426 (v3128 : BitVec 32) : Prop :=
  (∀ a, (k0_off442 v3128) a + S1x1x128.size a ≤ S100000x1x128.size a)
theorem k0_off442_inb : ∀ (v3128 : BitVec 32) (k0_hw426 : k0_chk426 v3128), ∀ a, (k0_off442 v3128) a + S1x1x128.size a ≤ S100000x1x128.size a := fun v3128 k0_hw426 => k0_hw426

def k0_off443 (v3135 : BitVec 32) : Fin 3 → Nat :=
  let v3136 : Index := Scalar.indexCast v3135
  let c0_2192 : Index := 0#32
  let c0_2193 : Index := 0#32
  ![v3136.toNat, 0, 0]

def k0_chk427 (v3135 : BitVec 32) : Prop :=
  (∀ a, (k0_off443 v3135) a + S1x1x128.size a ≤ S100000x1x128.size a)
theorem k0_off443_inb : ∀ (v3135 : BitVec 32) (k0_hw427 : k0_chk427 v3135), ∀ a, (k0_off443 v3135) a + S1x1x128.size a ≤ S100000x1x128.size a := fun v3135 k0_hw427 => k0_hw427

def k0_off444 (v3142 : BitVec 32) : Fin 3 → Nat :=
  let v3143 : Index := Scalar.indexCast v3142
  let c0_2197 : Index := 0#32
  let c0_2198 : Index := 0#32
  ![v3143.toNat, 0, 0]

def k0_chk428 (v3142 : BitVec 32) : Prop :=
  (∀ a, (k0_off444 v3142) a + S1x1x128.size a ≤ S100000x1x128.size a)
theorem k0_off444_inb : ∀ (v3142 : BitVec 32) (k0_hw428 : k0_chk428 v3142), ∀ a, (k0_off444 v3142) a + S1x1x128.size a ≤ S100000x1x128.size a := fun v3142 k0_hw428 => k0_hw428

def k0_off445 (v3149 : BitVec 32) : Fin 3 → Nat :=
  let v3150 : Index := Scalar.indexCast v3149
  let c0_2202 : Index := 0#32
  let c0_2203 : Index := 0#32
  ![v3150.toNat, 0, 0]

def k0_chk429 (v3149 : BitVec 32) : Prop :=
  (∀ a, (k0_off445 v3149) a + S1x1x128.size a ≤ S100000x1x128.size a)
theorem k0_off445_inb : ∀ (v3149 : BitVec 32) (k0_hw429 : k0_chk429 v3149), ∀ a, (k0_off445 v3149) a + S1x1x128.size a ≤ S100000x1x128.size a := fun v3149 k0_hw429 => k0_hw429

def k0_off446 (v3156 : BitVec 32) : Fin 3 → Nat :=
  let v3157 : Index := Scalar.indexCast v3156
  let c0_2207 : Index := 0#32
  let c0_2208 : Index := 0#32
  ![v3157.toNat, 0, 0]

def k0_chk430 (v3156 : BitVec 32) : Prop :=
  (∀ a, (k0_off446 v3156) a + S1x1x128.size a ≤ S100000x1x128.size a)
theorem k0_off446_inb : ∀ (v3156 : BitVec 32) (k0_hw430 : k0_chk430 v3156), ∀ a, (k0_off446 v3156) a + S1x1x128.size a ≤ S100000x1x128.size a := fun v3156 k0_hw430 => k0_hw430

def k0_off447 (v3163 : BitVec 32) : Fin 3 → Nat :=
  let v3164 : Index := Scalar.indexCast v3163
  let c0_2212 : Index := 0#32
  let c0_2213 : Index := 0#32
  ![v3164.toNat, 0, 0]

def k0_chk431 (v3163 : BitVec 32) : Prop :=
  (∀ a, (k0_off447 v3163) a + S1x1x128.size a ≤ S100000x1x128.size a)
theorem k0_off447_inb : ∀ (v3163 : BitVec 32) (k0_hw431 : k0_chk431 v3163), ∀ a, (k0_off447 v3163) a + S1x1x128.size a ≤ S100000x1x128.size a := fun v3163 k0_hw431 => k0_hw431

def k0_off448 (v3170 : BitVec 32) : Fin 3 → Nat :=
  let v3171 : Index := Scalar.indexCast v3170
  let c0_2217 : Index := 0#32
  let c0_2218 : Index := 0#32
  ![v3171.toNat, 0, 0]

def k0_chk432 (v3170 : BitVec 32) : Prop :=
  (∀ a, (k0_off448 v3170) a + S1x1x128.size a ≤ S100000x1x128.size a)
theorem k0_off448_inb : ∀ (v3170 : BitVec 32) (k0_hw432 : k0_chk432 v3170), ∀ a, (k0_off448 v3170) a + S1x1x128.size a ≤ S100000x1x128.size a := fun v3170 k0_hw432 => k0_hw432

def k0_off449 (v3177 : BitVec 32) : Fin 3 → Nat :=
  let v3178 : Index := Scalar.indexCast v3177
  let c0_2222 : Index := 0#32
  let c0_2223 : Index := 0#32
  ![v3178.toNat, 0, 0]

def k0_chk433 (v3177 : BitVec 32) : Prop :=
  (∀ a, (k0_off449 v3177) a + S1x1x128.size a ≤ S100000x1x128.size a)
theorem k0_off449_inb : ∀ (v3177 : BitVec 32) (k0_hw433 : k0_chk433 v3177), ∀ a, (k0_off449 v3177) a + S1x1x128.size a ≤ S100000x1x128.size a := fun v3177 k0_hw433 => k0_hw433

def k0_off450 (v3184 : BitVec 32) : Fin 3 → Nat :=
  let v3185 : Index := Scalar.indexCast v3184
  let c0_2227 : Index := 0#32
  let c0_2228 : Index := 0#32
  ![v3185.toNat, 0, 0]

def k0_chk434 (v3184 : BitVec 32) : Prop :=
  (∀ a, (k0_off450 v3184) a + S1x1x128.size a ≤ S100000x1x128.size a)
theorem k0_off450_inb : ∀ (v3184 : BitVec 32) (k0_hw434 : k0_chk434 v3184), ∀ a, (k0_off450 v3184) a + S1x1x128.size a ≤ S100000x1x128.size a := fun v3184 k0_hw434 => k0_hw434

def k0_off451 (v3191 : BitVec 32) : Fin 3 → Nat :=
  let v3192 : Index := Scalar.indexCast v3191
  let c0_2232 : Index := 0#32
  let c0_2233 : Index := 0#32
  ![v3192.toNat, 0, 0]

def k0_chk435 (v3191 : BitVec 32) : Prop :=
  (∀ a, (k0_off451 v3191) a + S1x1x128.size a ≤ S100000x1x128.size a)
theorem k0_off451_inb : ∀ (v3191 : BitVec 32) (k0_hw435 : k0_chk435 v3191), ∀ a, (k0_off451 v3191) a + S1x1x128.size a ≤ S100000x1x128.size a := fun v3191 k0_hw435 => k0_hw435

def k0_off452 (v3198 : BitVec 32) : Fin 3 → Nat :=
  let v3199 : Index := Scalar.indexCast v3198
  let c0_2237 : Index := 0#32
  let c0_2238 : Index := 0#32
  ![v3199.toNat, 0, 0]

def k0_chk436 (v3198 : BitVec 32) : Prop :=
  (∀ a, (k0_off452 v3198) a + S1x1x128.size a ≤ S100000x1x128.size a)
theorem k0_off452_inb : ∀ (v3198 : BitVec 32) (k0_hw436 : k0_chk436 v3198), ∀ a, (k0_off452 v3198) a + S1x1x128.size a ≤ S100000x1x128.size a := fun v3198 k0_hw436 => k0_hw436

def k0_off453 (v3205 : BitVec 32) : Fin 3 → Nat :=
  let v3206 : Index := Scalar.indexCast v3205
  let c0_2242 : Index := 0#32
  let c0_2243 : Index := 0#32
  ![v3206.toNat, 0, 0]

def k0_chk437 (v3205 : BitVec 32) : Prop :=
  (∀ a, (k0_off453 v3205) a + S1x1x128.size a ≤ S100000x1x128.size a)
theorem k0_off453_inb : ∀ (v3205 : BitVec 32) (k0_hw437 : k0_chk437 v3205), ∀ a, (k0_off453 v3205) a + S1x1x128.size a ≤ S100000x1x128.size a := fun v3205 k0_hw437 => k0_hw437

def k0_off454 (v3212 : BitVec 32) : Fin 3 → Nat :=
  let v3213 : Index := Scalar.indexCast v3212
  let c0_2247 : Index := 0#32
  let c0_2248 : Index := 0#32
  ![v3213.toNat, 0, 0]

def k0_chk438 (v3212 : BitVec 32) : Prop :=
  (∀ a, (k0_off454 v3212) a + S1x1x128.size a ≤ S100000x1x128.size a)
theorem k0_off454_inb : ∀ (v3212 : BitVec 32) (k0_hw438 : k0_chk438 v3212), ∀ a, (k0_off454 v3212) a + S1x1x128.size a ≤ S100000x1x128.size a := fun v3212 k0_hw438 => k0_hw438

def k0_off455 (v3219 : BitVec 32) : Fin 3 → Nat :=
  let v3220 : Index := Scalar.indexCast v3219
  let c0_2252 : Index := 0#32
  let c0_2253 : Index := 0#32
  ![v3220.toNat, 0, 0]

def k0_chk439 (v3219 : BitVec 32) : Prop :=
  (∀ a, (k0_off455 v3219) a + S1x1x128.size a ≤ S100000x1x128.size a)
theorem k0_off455_inb : ∀ (v3219 : BitVec 32) (k0_hw439 : k0_chk439 v3219), ∀ a, (k0_off455 v3219) a + S1x1x128.size a ≤ S100000x1x128.size a := fun v3219 k0_hw439 => k0_hw439

def k0_off456 (v3226 : BitVec 32) : Fin 3 → Nat :=
  let v3227 : Index := Scalar.indexCast v3226
  let c0_2257 : Index := 0#32
  let c0_2258 : Index := 0#32
  ![v3227.toNat, 0, 0]

def k0_chk440 (v3226 : BitVec 32) : Prop :=
  (∀ a, (k0_off456 v3226) a + S1x1x128.size a ≤ S100000x1x128.size a)
theorem k0_off456_inb : ∀ (v3226 : BitVec 32) (k0_hw440 : k0_chk440 v3226), ∀ a, (k0_off456 v3226) a + S1x1x128.size a ≤ S100000x1x128.size a := fun v3226 k0_hw440 => k0_hw440

def k0_off457 (v3233 : BitVec 32) : Fin 3 → Nat :=
  let v3234 : Index := Scalar.indexCast v3233
  let c0_2262 : Index := 0#32
  let c0_2263 : Index := 0#32
  ![v3234.toNat, 0, 0]

def k0_chk441 (v3233 : BitVec 32) : Prop :=
  (∀ a, (k0_off457 v3233) a + S1x1x128.size a ≤ S100000x1x128.size a)
theorem k0_off457_inb : ∀ (v3233 : BitVec 32) (k0_hw441 : k0_chk441 v3233), ∀ a, (k0_off457 v3233) a + S1x1x128.size a ≤ S100000x1x128.size a := fun v3233 k0_hw441 => k0_hw441

def k0_off458 (v3240 : BitVec 32) : Fin 3 → Nat :=
  let v3241 : Index := Scalar.indexCast v3240
  let c0_2267 : Index := 0#32
  let c0_2268 : Index := 0#32
  ![v3241.toNat, 0, 0]

def k0_chk442 (v3240 : BitVec 32) : Prop :=
  (∀ a, (k0_off458 v3240) a + S1x1x128.size a ≤ S100000x1x128.size a)
theorem k0_off458_inb : ∀ (v3240 : BitVec 32) (k0_hw442 : k0_chk442 v3240), ∀ a, (k0_off458 v3240) a + S1x1x128.size a ≤ S100000x1x128.size a := fun v3240 k0_hw442 => k0_hw442

def k0_off459 (v3247 : BitVec 32) : Fin 3 → Nat :=
  let v3248 : Index := Scalar.indexCast v3247
  let c0_2272 : Index := 0#32
  let c0_2273 : Index := 0#32
  ![v3248.toNat, 0, 0]

def k0_chk443 (v3247 : BitVec 32) : Prop :=
  (∀ a, (k0_off459 v3247) a + S1x1x128.size a ≤ S100000x1x128.size a)
theorem k0_off459_inb : ∀ (v3247 : BitVec 32) (k0_hw443 : k0_chk443 v3247), ∀ a, (k0_off459 v3247) a + S1x1x128.size a ≤ S100000x1x128.size a := fun v3247 k0_hw443 => k0_hw443

def k0_off460 (v3254 : BitVec 32) : Fin 3 → Nat :=
  let v3255 : Index := Scalar.indexCast v3254
  let c0_2277 : Index := 0#32
  let c0_2278 : Index := 0#32
  ![v3255.toNat, 0, 0]

def k0_chk444 (v3254 : BitVec 32) : Prop :=
  (∀ a, (k0_off460 v3254) a + S1x1x128.size a ≤ S100000x1x128.size a)
theorem k0_off460_inb : ∀ (v3254 : BitVec 32) (k0_hw444 : k0_chk444 v3254), ∀ a, (k0_off460 v3254) a + S1x1x128.size a ≤ S100000x1x128.size a := fun v3254 k0_hw444 => k0_hw444

def k0_off461 (v3261 : BitVec 32) : Fin 3 → Nat :=
  let v3262 : Index := Scalar.indexCast v3261
  let c0_2282 : Index := 0#32
  let c0_2283 : Index := 0#32
  ![v3262.toNat, 0, 0]

def k0_chk445 (v3261 : BitVec 32) : Prop :=
  (∀ a, (k0_off461 v3261) a + S1x1x128.size a ≤ S100000x1x128.size a)
theorem k0_off461_inb : ∀ (v3261 : BitVec 32) (k0_hw445 : k0_chk445 v3261), ∀ a, (k0_off461 v3261) a + S1x1x128.size a ≤ S100000x1x128.size a := fun v3261 k0_hw445 => k0_hw445

def k0_off462 (v3268 : BitVec 32) : Fin 3 → Nat :=
  let v3269 : Index := Scalar.indexCast v3268
  let c0_2287 : Index := 0#32
  let c0_2288 : Index := 0#32
  ![v3269.toNat, 0, 0]

def k0_chk446 (v3268 : BitVec 32) : Prop :=
  (∀ a, (k0_off462 v3268) a + S1x1x128.size a ≤ S100000x1x128.size a)
theorem k0_off462_inb : ∀ (v3268 : BitVec 32) (k0_hw446 : k0_chk446 v3268), ∀ a, (k0_off462 v3268) a + S1x1x128.size a ≤ S100000x1x128.size a := fun v3268 k0_hw446 => k0_hw446

def k0_off463 (v3275 : BitVec 32) : Fin 3 → Nat :=
  let v3276 : Index := Scalar.indexCast v3275
  let c0_2292 : Index := 0#32
  let c0_2293 : Index := 0#32
  ![v3276.toNat, 0, 0]

def k0_chk447 (v3275 : BitVec 32) : Prop :=
  (∀ a, (k0_off463 v3275) a + S1x1x128.size a ≤ S100000x1x128.size a)
theorem k0_off463_inb : ∀ (v3275 : BitVec 32) (k0_hw447 : k0_chk447 v3275), ∀ a, (k0_off463 v3275) a + S1x1x128.size a ≤ S100000x1x128.size a := fun v3275 k0_hw447 => k0_hw447

def k0_off464 (v3282 : BitVec 32) : Fin 3 → Nat :=
  let v3283 : Index := Scalar.indexCast v3282
  let c0_2297 : Index := 0#32
  let c0_2298 : Index := 0#32
  ![v3283.toNat, 0, 0]

def k0_chk448 (v3282 : BitVec 32) : Prop :=
  (∀ a, (k0_off464 v3282) a + S1x1x128.size a ≤ S100000x1x128.size a)
theorem k0_off464_inb : ∀ (v3282 : BitVec 32) (k0_hw448 : k0_chk448 v3282), ∀ a, (k0_off464 v3282) a + S1x1x128.size a ≤ S100000x1x128.size a := fun v3282 k0_hw448 => k0_hw448

def k0_off465 (v3289 : BitVec 32) : Fin 3 → Nat :=
  let v3290 : Index := Scalar.indexCast v3289
  let c0_2302 : Index := 0#32
  let c0_2303 : Index := 0#32
  ![v3290.toNat, 0, 0]

def k0_chk449 (v3289 : BitVec 32) : Prop :=
  (∀ a, (k0_off465 v3289) a + S1x1x128.size a ≤ S100000x1x128.size a)
theorem k0_off465_inb : ∀ (v3289 : BitVec 32) (k0_hw449 : k0_chk449 v3289), ∀ a, (k0_off465 v3289) a + S1x1x128.size a ≤ S100000x1x128.size a := fun v3289 k0_hw449 => k0_hw449

def k0_off466 (v3296 : BitVec 32) : Fin 3 → Nat :=
  let v3297 : Index := Scalar.indexCast v3296
  let c0_2307 : Index := 0#32
  let c0_2308 : Index := 0#32
  ![v3297.toNat, 0, 0]

def k0_chk450 (v3296 : BitVec 32) : Prop :=
  (∀ a, (k0_off466 v3296) a + S1x1x128.size a ≤ S100000x1x128.size a)
theorem k0_off466_inb : ∀ (v3296 : BitVec 32) (k0_hw450 : k0_chk450 v3296), ∀ a, (k0_off466 v3296) a + S1x1x128.size a ≤ S100000x1x128.size a := fun v3296 k0_hw450 => k0_hw450

def k0_off467 (v3303 : BitVec 32) : Fin 3 → Nat :=
  let v3304 : Index := Scalar.indexCast v3303
  let c0_2312 : Index := 0#32
  let c0_2313 : Index := 0#32
  ![v3304.toNat, 0, 0]

def k0_chk451 (v3303 : BitVec 32) : Prop :=
  (∀ a, (k0_off467 v3303) a + S1x1x128.size a ≤ S100000x1x128.size a)
theorem k0_off467_inb : ∀ (v3303 : BitVec 32) (k0_hw451 : k0_chk451 v3303), ∀ a, (k0_off467 v3303) a + S1x1x128.size a ≤ S100000x1x128.size a := fun v3303 k0_hw451 => k0_hw451

def k0_off468 (v3310 : BitVec 32) : Fin 3 → Nat :=
  let v3311 : Index := Scalar.indexCast v3310
  let c0_2317 : Index := 0#32
  let c0_2318 : Index := 0#32
  ![v3311.toNat, 0, 0]

def k0_chk452 (v3310 : BitVec 32) : Prop :=
  (∀ a, (k0_off468 v3310) a + S1x1x128.size a ≤ S100000x1x128.size a)
theorem k0_off468_inb : ∀ (v3310 : BitVec 32) (k0_hw452 : k0_chk452 v3310), ∀ a, (k0_off468 v3310) a + S1x1x128.size a ≤ S100000x1x128.size a := fun v3310 k0_hw452 => k0_hw452

def k0_off469 (v3317 : BitVec 32) : Fin 3 → Nat :=
  let v3318 : Index := Scalar.indexCast v3317
  let c0_2322 : Index := 0#32
  let c0_2323 : Index := 0#32
  ![v3318.toNat, 0, 0]

def k0_chk453 (v3317 : BitVec 32) : Prop :=
  (∀ a, (k0_off469 v3317) a + S1x1x128.size a ≤ S100000x1x128.size a)
theorem k0_off469_inb : ∀ (v3317 : BitVec 32) (k0_hw453 : k0_chk453 v3317), ∀ a, (k0_off469 v3317) a + S1x1x128.size a ≤ S100000x1x128.size a := fun v3317 k0_hw453 => k0_hw453

def k0_off470 (v3324 : BitVec 32) : Fin 3 → Nat :=
  let v3325 : Index := Scalar.indexCast v3324
  let c0_2327 : Index := 0#32
  let c0_2328 : Index := 0#32
  ![v3325.toNat, 0, 0]

def k0_chk454 (v3324 : BitVec 32) : Prop :=
  (∀ a, (k0_off470 v3324) a + S1x1x128.size a ≤ S100000x1x128.size a)
theorem k0_off470_inb : ∀ (v3324 : BitVec 32) (k0_hw454 : k0_chk454 v3324), ∀ a, (k0_off470 v3324) a + S1x1x128.size a ≤ S100000x1x128.size a := fun v3324 k0_hw454 => k0_hw454

def k0_off471 (v3331 : BitVec 32) : Fin 3 → Nat :=
  let v3332 : Index := Scalar.indexCast v3331
  let c0_2332 : Index := 0#32
  let c0_2333 : Index := 0#32
  ![v3332.toNat, 0, 0]

def k0_chk455 (v3331 : BitVec 32) : Prop :=
  (∀ a, (k0_off471 v3331) a + S1x1x128.size a ≤ S100000x1x128.size a)
theorem k0_off471_inb : ∀ (v3331 : BitVec 32) (k0_hw455 : k0_chk455 v3331), ∀ a, (k0_off471 v3331) a + S1x1x128.size a ≤ S100000x1x128.size a := fun v3331 k0_hw455 => k0_hw455

def k0_off472 (v3338 : BitVec 32) : Fin 3 → Nat :=
  let v3339 : Index := Scalar.indexCast v3338
  let c0_2337 : Index := 0#32
  let c0_2338 : Index := 0#32
  ![v3339.toNat, 0, 0]

def k0_chk456 (v3338 : BitVec 32) : Prop :=
  (∀ a, (k0_off472 v3338) a + S1x1x128.size a ≤ S100000x1x128.size a)
theorem k0_off472_inb : ∀ (v3338 : BitVec 32) (k0_hw456 : k0_chk456 v3338), ∀ a, (k0_off472 v3338) a + S1x1x128.size a ≤ S100000x1x128.size a := fun v3338 k0_hw456 => k0_hw456

def k0_off473 (v3345 : BitVec 32) : Fin 3 → Nat :=
  let v3346 : Index := Scalar.indexCast v3345
  let c0_2342 : Index := 0#32
  let c0_2343 : Index := 0#32
  ![v3346.toNat, 0, 0]

def k0_chk457 (v3345 : BitVec 32) : Prop :=
  (∀ a, (k0_off473 v3345) a + S1x1x128.size a ≤ S100000x1x128.size a)
theorem k0_off473_inb : ∀ (v3345 : BitVec 32) (k0_hw457 : k0_chk457 v3345), ∀ a, (k0_off473 v3345) a + S1x1x128.size a ≤ S100000x1x128.size a := fun v3345 k0_hw457 => k0_hw457

def k0_off474 (v3352 : BitVec 32) : Fin 3 → Nat :=
  let v3353 : Index := Scalar.indexCast v3352
  let c0_2347 : Index := 0#32
  let c0_2348 : Index := 0#32
  ![v3353.toNat, 0, 0]

def k0_chk458 (v3352 : BitVec 32) : Prop :=
  (∀ a, (k0_off474 v3352) a + S1x1x128.size a ≤ S100000x1x128.size a)
theorem k0_off474_inb : ∀ (v3352 : BitVec 32) (k0_hw458 : k0_chk458 v3352), ∀ a, (k0_off474 v3352) a + S1x1x128.size a ≤ S100000x1x128.size a := fun v3352 k0_hw458 => k0_hw458

def k0_off475 (v3359 : BitVec 32) : Fin 3 → Nat :=
  let v3360 : Index := Scalar.indexCast v3359
  let c0_2352 : Index := 0#32
  let c0_2353 : Index := 0#32
  ![v3360.toNat, 0, 0]

def k0_chk459 (v3359 : BitVec 32) : Prop :=
  (∀ a, (k0_off475 v3359) a + S1x1x128.size a ≤ S100000x1x128.size a)
theorem k0_off475_inb : ∀ (v3359 : BitVec 32) (k0_hw459 : k0_chk459 v3359), ∀ a, (k0_off475 v3359) a + S1x1x128.size a ≤ S100000x1x128.size a := fun v3359 k0_hw459 => k0_hw459

def k0_off476 (v3366 : BitVec 32) : Fin 3 → Nat :=
  let v3367 : Index := Scalar.indexCast v3366
  let c0_2357 : Index := 0#32
  let c0_2358 : Index := 0#32
  ![v3367.toNat, 0, 0]

def k0_chk460 (v3366 : BitVec 32) : Prop :=
  (∀ a, (k0_off476 v3366) a + S1x1x128.size a ≤ S100000x1x128.size a)
theorem k0_off476_inb : ∀ (v3366 : BitVec 32) (k0_hw460 : k0_chk460 v3366), ∀ a, (k0_off476 v3366) a + S1x1x128.size a ≤ S100000x1x128.size a := fun v3366 k0_hw460 => k0_hw460

def k0_off477 (v3373 : BitVec 32) : Fin 3 → Nat :=
  let v3374 : Index := Scalar.indexCast v3373
  let c0_2362 : Index := 0#32
  let c0_2363 : Index := 0#32
  ![v3374.toNat, 0, 0]

def k0_chk461 (v3373 : BitVec 32) : Prop :=
  (∀ a, (k0_off477 v3373) a + S1x1x128.size a ≤ S100000x1x128.size a)
theorem k0_off477_inb : ∀ (v3373 : BitVec 32) (k0_hw461 : k0_chk461 v3373), ∀ a, (k0_off477 v3373) a + S1x1x128.size a ≤ S100000x1x128.size a := fun v3373 k0_hw461 => k0_hw461

def k0_off478 (v3380 : BitVec 32) : Fin 3 → Nat :=
  let v3381 : Index := Scalar.indexCast v3380
  let c0_2367 : Index := 0#32
  let c0_2368 : Index := 0#32
  ![v3381.toNat, 0, 0]

def k0_chk462 (v3380 : BitVec 32) : Prop :=
  (∀ a, (k0_off478 v3380) a + S1x1x128.size a ≤ S100000x1x128.size a)
theorem k0_off478_inb : ∀ (v3380 : BitVec 32) (k0_hw462 : k0_chk462 v3380), ∀ a, (k0_off478 v3380) a + S1x1x128.size a ≤ S100000x1x128.size a := fun v3380 k0_hw462 => k0_hw462

def k0_off479 (v3387 : BitVec 32) : Fin 3 → Nat :=
  let v3388 : Index := Scalar.indexCast v3387
  let c0_2372 : Index := 0#32
  let c0_2373 : Index := 0#32
  ![v3388.toNat, 0, 0]

def k0_chk463 (v3387 : BitVec 32) : Prop :=
  (∀ a, (k0_off479 v3387) a + S1x1x128.size a ≤ S100000x1x128.size a)
theorem k0_off479_inb : ∀ (v3387 : BitVec 32) (k0_hw463 : k0_chk463 v3387), ∀ a, (k0_off479 v3387) a + S1x1x128.size a ≤ S100000x1x128.size a := fun v3387 k0_hw463 => k0_hw463

def k0_off480 (v3394 : BitVec 32) : Fin 3 → Nat :=
  let v3395 : Index := Scalar.indexCast v3394
  let c0_2377 : Index := 0#32
  let c0_2378 : Index := 0#32
  ![v3395.toNat, 0, 0]

def k0_chk464 (v3394 : BitVec 32) : Prop :=
  (∀ a, (k0_off480 v3394) a + S1x1x128.size a ≤ S100000x1x128.size a)
theorem k0_off480_inb : ∀ (v3394 : BitVec 32) (k0_hw464 : k0_chk464 v3394), ∀ a, (k0_off480 v3394) a + S1x1x128.size a ≤ S100000x1x128.size a := fun v3394 k0_hw464 => k0_hw464

def k0_off481 (v3401 : BitVec 32) : Fin 3 → Nat :=
  let v3402 : Index := Scalar.indexCast v3401
  let c0_2382 : Index := 0#32
  let c0_2383 : Index := 0#32
  ![v3402.toNat, 0, 0]

def k0_chk465 (v3401 : BitVec 32) : Prop :=
  (∀ a, (k0_off481 v3401) a + S1x1x128.size a ≤ S100000x1x128.size a)
theorem k0_off481_inb : ∀ (v3401 : BitVec 32) (k0_hw465 : k0_chk465 v3401), ∀ a, (k0_off481 v3401) a + S1x1x128.size a ≤ S100000x1x128.size a := fun v3401 k0_hw465 => k0_hw465

def k0_off482 (v3408 : BitVec 32) : Fin 3 → Nat :=
  let v3409 : Index := Scalar.indexCast v3408
  let c0_2387 : Index := 0#32
  let c0_2388 : Index := 0#32
  ![v3409.toNat, 0, 0]

def k0_chk466 (v3408 : BitVec 32) : Prop :=
  (∀ a, (k0_off482 v3408) a + S1x1x128.size a ≤ S100000x1x128.size a)
theorem k0_off482_inb : ∀ (v3408 : BitVec 32) (k0_hw466 : k0_chk466 v3408), ∀ a, (k0_off482 v3408) a + S1x1x128.size a ≤ S100000x1x128.size a := fun v3408 k0_hw466 => k0_hw466

def k0_off483 (v3415 : BitVec 32) : Fin 3 → Nat :=
  let v3416 : Index := Scalar.indexCast v3415
  let c0_2392 : Index := 0#32
  let c0_2393 : Index := 0#32
  ![v3416.toNat, 0, 0]

def k0_chk467 (v3415 : BitVec 32) : Prop :=
  (∀ a, (k0_off483 v3415) a + S1x1x128.size a ≤ S100000x1x128.size a)
theorem k0_off483_inb : ∀ (v3415 : BitVec 32) (k0_hw467 : k0_chk467 v3415), ∀ a, (k0_off483 v3415) a + S1x1x128.size a ≤ S100000x1x128.size a := fun v3415 k0_hw467 => k0_hw467

def k0_off484 (v3422 : BitVec 32) : Fin 3 → Nat :=
  let v3423 : Index := Scalar.indexCast v3422
  let c0_2397 : Index := 0#32
  let c0_2398 : Index := 0#32
  ![v3423.toNat, 0, 0]

def k0_chk468 (v3422 : BitVec 32) : Prop :=
  (∀ a, (k0_off484 v3422) a + S1x1x128.size a ≤ S100000x1x128.size a)
theorem k0_off484_inb : ∀ (v3422 : BitVec 32) (k0_hw468 : k0_chk468 v3422), ∀ a, (k0_off484 v3422) a + S1x1x128.size a ≤ S100000x1x128.size a := fun v3422 k0_hw468 => k0_hw468

def k0_off485 (v3429 : BitVec 32) : Fin 3 → Nat :=
  let v3430 : Index := Scalar.indexCast v3429
  let c0_2402 : Index := 0#32
  let c0_2403 : Index := 0#32
  ![v3430.toNat, 0, 0]

def k0_chk469 (v3429 : BitVec 32) : Prop :=
  (∀ a, (k0_off485 v3429) a + S1x1x128.size a ≤ S100000x1x128.size a)
theorem k0_off485_inb : ∀ (v3429 : BitVec 32) (k0_hw469 : k0_chk469 v3429), ∀ a, (k0_off485 v3429) a + S1x1x128.size a ≤ S100000x1x128.size a := fun v3429 k0_hw469 => k0_hw469

def k0_off486 (v3436 : BitVec 32) : Fin 3 → Nat :=
  let v3437 : Index := Scalar.indexCast v3436
  let c0_2407 : Index := 0#32
  let c0_2408 : Index := 0#32
  ![v3437.toNat, 0, 0]

def k0_chk470 (v3436 : BitVec 32) : Prop :=
  (∀ a, (k0_off486 v3436) a + S1x1x128.size a ≤ S100000x1x128.size a)
theorem k0_off486_inb : ∀ (v3436 : BitVec 32) (k0_hw470 : k0_chk470 v3436), ∀ a, (k0_off486 v3436) a + S1x1x128.size a ≤ S100000x1x128.size a := fun v3436 k0_hw470 => k0_hw470

def k0_off487 (v3443 : BitVec 32) : Fin 3 → Nat :=
  let v3444 : Index := Scalar.indexCast v3443
  let c0_2412 : Index := 0#32
  let c0_2413 : Index := 0#32
  ![v3444.toNat, 0, 0]

def k0_chk471 (v3443 : BitVec 32) : Prop :=
  (∀ a, (k0_off487 v3443) a + S1x1x128.size a ≤ S100000x1x128.size a)
theorem k0_off487_inb : ∀ (v3443 : BitVec 32) (k0_hw471 : k0_chk471 v3443), ∀ a, (k0_off487 v3443) a + S1x1x128.size a ≤ S100000x1x128.size a := fun v3443 k0_hw471 => k0_hw471

def k0_off488 (v3450 : BitVec 32) : Fin 3 → Nat :=
  let v3451 : Index := Scalar.indexCast v3450
  let c0_2417 : Index := 0#32
  let c0_2418 : Index := 0#32
  ![v3451.toNat, 0, 0]

def k0_chk472 (v3450 : BitVec 32) : Prop :=
  (∀ a, (k0_off488 v3450) a + S1x1x128.size a ≤ S100000x1x128.size a)
theorem k0_off488_inb : ∀ (v3450 : BitVec 32) (k0_hw472 : k0_chk472 v3450), ∀ a, (k0_off488 v3450) a + S1x1x128.size a ≤ S100000x1x128.size a := fun v3450 k0_hw472 => k0_hw472

def k0_off489 (v3457 : BitVec 32) : Fin 3 → Nat :=
  let v3458 : Index := Scalar.indexCast v3457
  let c0_2422 : Index := 0#32
  let c0_2423 : Index := 0#32
  ![v3458.toNat, 0, 0]

def k0_chk473 (v3457 : BitVec 32) : Prop :=
  (∀ a, (k0_off489 v3457) a + S1x1x128.size a ≤ S100000x1x128.size a)
theorem k0_off489_inb : ∀ (v3457 : BitVec 32) (k0_hw473 : k0_chk473 v3457), ∀ a, (k0_off489 v3457) a + S1x1x128.size a ≤ S100000x1x128.size a := fun v3457 k0_hw473 => k0_hw473

def k0_off490 (v3464 : BitVec 32) : Fin 3 → Nat :=
  let v3465 : Index := Scalar.indexCast v3464
  let c0_2427 : Index := 0#32
  let c0_2428 : Index := 0#32
  ![v3465.toNat, 0, 0]

def k0_chk474 (v3464 : BitVec 32) : Prop :=
  (∀ a, (k0_off490 v3464) a + S1x1x128.size a ≤ S100000x1x128.size a)
theorem k0_off490_inb : ∀ (v3464 : BitVec 32) (k0_hw474 : k0_chk474 v3464), ∀ a, (k0_off490 v3464) a + S1x1x128.size a ≤ S100000x1x128.size a := fun v3464 k0_hw474 => k0_hw474

def k0_off491 (v3471 : BitVec 32) : Fin 3 → Nat :=
  let v3472 : Index := Scalar.indexCast v3471
  let c0_2432 : Index := 0#32
  let c0_2433 : Index := 0#32
  ![v3472.toNat, 0, 0]

def k0_chk475 (v3471 : BitVec 32) : Prop :=
  (∀ a, (k0_off491 v3471) a + S1x1x128.size a ≤ S100000x1x128.size a)
theorem k0_off491_inb : ∀ (v3471 : BitVec 32) (k0_hw475 : k0_chk475 v3471), ∀ a, (k0_off491 v3471) a + S1x1x128.size a ≤ S100000x1x128.size a := fun v3471 k0_hw475 => k0_hw475

def k0_off492 (v3478 : BitVec 32) : Fin 3 → Nat :=
  let v3479 : Index := Scalar.indexCast v3478
  let c0_2437 : Index := 0#32
  let c0_2438 : Index := 0#32
  ![v3479.toNat, 0, 0]

def k0_chk476 (v3478 : BitVec 32) : Prop :=
  (∀ a, (k0_off492 v3478) a + S1x1x128.size a ≤ S100000x1x128.size a)
theorem k0_off492_inb : ∀ (v3478 : BitVec 32) (k0_hw476 : k0_chk476 v3478), ∀ a, (k0_off492 v3478) a + S1x1x128.size a ≤ S100000x1x128.size a := fun v3478 k0_hw476 => k0_hw476

def k0_off493 (v3485 : BitVec 32) : Fin 3 → Nat :=
  let v3486 : Index := Scalar.indexCast v3485
  let c0_2442 : Index := 0#32
  let c0_2443 : Index := 0#32
  ![v3486.toNat, 0, 0]

def k0_chk477 (v3485 : BitVec 32) : Prop :=
  (∀ a, (k0_off493 v3485) a + S1x1x128.size a ≤ S100000x1x128.size a)
theorem k0_off493_inb : ∀ (v3485 : BitVec 32) (k0_hw477 : k0_chk477 v3485), ∀ a, (k0_off493 v3485) a + S1x1x128.size a ≤ S100000x1x128.size a := fun v3485 k0_hw477 => k0_hw477

def k0_off494 (v3492 : BitVec 32) : Fin 3 → Nat :=
  let v3493 : Index := Scalar.indexCast v3492
  let c0_2447 : Index := 0#32
  let c0_2448 : Index := 0#32
  ![v3493.toNat, 0, 0]

def k0_chk478 (v3492 : BitVec 32) : Prop :=
  (∀ a, (k0_off494 v3492) a + S1x1x128.size a ≤ S100000x1x128.size a)
theorem k0_off494_inb : ∀ (v3492 : BitVec 32) (k0_hw478 : k0_chk478 v3492), ∀ a, (k0_off494 v3492) a + S1x1x128.size a ≤ S100000x1x128.size a := fun v3492 k0_hw478 => k0_hw478

def k0_off495 (v3499 : BitVec 32) : Fin 3 → Nat :=
  let v3500 : Index := Scalar.indexCast v3499
  let c0_2452 : Index := 0#32
  let c0_2453 : Index := 0#32
  ![v3500.toNat, 0, 0]

def k0_chk479 (v3499 : BitVec 32) : Prop :=
  (∀ a, (k0_off495 v3499) a + S1x1x128.size a ≤ S100000x1x128.size a)
theorem k0_off495_inb : ∀ (v3499 : BitVec 32) (k0_hw479 : k0_chk479 v3499), ∀ a, (k0_off495 v3499) a + S1x1x128.size a ≤ S100000x1x128.size a := fun v3499 k0_hw479 => k0_hw479

def k0_off496 (v3506 : BitVec 32) : Fin 3 → Nat :=
  let v3507 : Index := Scalar.indexCast v3506
  let c0_2457 : Index := 0#32
  let c0_2458 : Index := 0#32
  ![v3507.toNat, 0, 0]

def k0_chk480 (v3506 : BitVec 32) : Prop :=
  (∀ a, (k0_off496 v3506) a + S1x1x128.size a ≤ S100000x1x128.size a)
theorem k0_off496_inb : ∀ (v3506 : BitVec 32) (k0_hw480 : k0_chk480 v3506), ∀ a, (k0_off496 v3506) a + S1x1x128.size a ≤ S100000x1x128.size a := fun v3506 k0_hw480 => k0_hw480

def k0_off497 (v3513 : BitVec 32) : Fin 3 → Nat :=
  let v3514 : Index := Scalar.indexCast v3513
  let c0_2462 : Index := 0#32
  let c0_2463 : Index := 0#32
  ![v3514.toNat, 0, 0]

def k0_chk481 (v3513 : BitVec 32) : Prop :=
  (∀ a, (k0_off497 v3513) a + S1x1x128.size a ≤ S100000x1x128.size a)
theorem k0_off497_inb : ∀ (v3513 : BitVec 32) (k0_hw481 : k0_chk481 v3513), ∀ a, (k0_off497 v3513) a + S1x1x128.size a ≤ S100000x1x128.size a := fun v3513 k0_hw481 => k0_hw481

def k0_off498 (v3520 : BitVec 32) : Fin 3 → Nat :=
  let v3521 : Index := Scalar.indexCast v3520
  let c0_2467 : Index := 0#32
  let c0_2468 : Index := 0#32
  ![v3521.toNat, 0, 0]

def k0_chk482 (v3520 : BitVec 32) : Prop :=
  (∀ a, (k0_off498 v3520) a + S1x1x128.size a ≤ S100000x1x128.size a)
theorem k0_off498_inb : ∀ (v3520 : BitVec 32) (k0_hw482 : k0_chk482 v3520), ∀ a, (k0_off498 v3520) a + S1x1x128.size a ≤ S100000x1x128.size a := fun v3520 k0_hw482 => k0_hw482

def k0_off499 (v3527 : BitVec 32) : Fin 3 → Nat :=
  let v3528 : Index := Scalar.indexCast v3527
  let c0_2472 : Index := 0#32
  let c0_2473 : Index := 0#32
  ![v3528.toNat, 0, 0]

def k0_chk483 (v3527 : BitVec 32) : Prop :=
  (∀ a, (k0_off499 v3527) a + S1x1x128.size a ≤ S100000x1x128.size a)
theorem k0_off499_inb : ∀ (v3527 : BitVec 32) (k0_hw483 : k0_chk483 v3527), ∀ a, (k0_off499 v3527) a + S1x1x128.size a ≤ S100000x1x128.size a := fun v3527 k0_hw483 => k0_hw483

def k0_off500 (v3534 : BitVec 32) : Fin 3 → Nat :=
  let v3535 : Index := Scalar.indexCast v3534
  let c0_2477 : Index := 0#32
  let c0_2478 : Index := 0#32
  ![v3535.toNat, 0, 0]

def k0_chk484 (v3534 : BitVec 32) : Prop :=
  (∀ a, (k0_off500 v3534) a + S1x1x128.size a ≤ S100000x1x128.size a)
theorem k0_off500_inb : ∀ (v3534 : BitVec 32) (k0_hw484 : k0_chk484 v3534), ∀ a, (k0_off500 v3534) a + S1x1x128.size a ≤ S100000x1x128.size a := fun v3534 k0_hw484 => k0_hw484

def k0_off501 (v3541 : BitVec 32) : Fin 3 → Nat :=
  let v3542 : Index := Scalar.indexCast v3541
  let c0_2482 : Index := 0#32
  let c0_2483 : Index := 0#32
  ![v3542.toNat, 0, 0]

def k0_chk485 (v3541 : BitVec 32) : Prop :=
  (∀ a, (k0_off501 v3541) a + S1x1x128.size a ≤ S100000x1x128.size a)
theorem k0_off501_inb : ∀ (v3541 : BitVec 32) (k0_hw485 : k0_chk485 v3541), ∀ a, (k0_off501 v3541) a + S1x1x128.size a ≤ S100000x1x128.size a := fun v3541 k0_hw485 => k0_hw485

def k0_off502 (v3548 : BitVec 32) : Fin 3 → Nat :=
  let v3549 : Index := Scalar.indexCast v3548
  let c0_2487 : Index := 0#32
  let c0_2488 : Index := 0#32
  ![v3549.toNat, 0, 0]

def k0_chk486 (v3548 : BitVec 32) : Prop :=
  (∀ a, (k0_off502 v3548) a + S1x1x128.size a ≤ S100000x1x128.size a)
theorem k0_off502_inb : ∀ (v3548 : BitVec 32) (k0_hw486 : k0_chk486 v3548), ∀ a, (k0_off502 v3548) a + S1x1x128.size a ≤ S100000x1x128.size a := fun v3548 k0_hw486 => k0_hw486

def k0_off503 (v3555 : BitVec 32) : Fin 3 → Nat :=
  let v3556 : Index := Scalar.indexCast v3555
  let c0_2492 : Index := 0#32
  let c0_2493 : Index := 0#32
  ![v3556.toNat, 0, 0]

def k0_chk487 (v3555 : BitVec 32) : Prop :=
  (∀ a, (k0_off503 v3555) a + S1x1x128.size a ≤ S100000x1x128.size a)
theorem k0_off503_inb : ∀ (v3555 : BitVec 32) (k0_hw487 : k0_chk487 v3555), ∀ a, (k0_off503 v3555) a + S1x1x128.size a ≤ S100000x1x128.size a := fun v3555 k0_hw487 => k0_hw487

def k0_off504 (v3562 : BitVec 32) : Fin 3 → Nat :=
  let v3563 : Index := Scalar.indexCast v3562
  let c0_2497 : Index := 0#32
  let c0_2498 : Index := 0#32
  ![v3563.toNat, 0, 0]

def k0_chk488 (v3562 : BitVec 32) : Prop :=
  (∀ a, (k0_off504 v3562) a + S1x1x128.size a ≤ S100000x1x128.size a)
theorem k0_off504_inb : ∀ (v3562 : BitVec 32) (k0_hw488 : k0_chk488 v3562), ∀ a, (k0_off504 v3562) a + S1x1x128.size a ≤ S100000x1x128.size a := fun v3562 k0_hw488 => k0_hw488

def k0_off505 (v3569 : BitVec 32) : Fin 3 → Nat :=
  let v3570 : Index := Scalar.indexCast v3569
  let c0_2502 : Index := 0#32
  let c0_2503 : Index := 0#32
  ![v3570.toNat, 0, 0]

def k0_chk489 (v3569 : BitVec 32) : Prop :=
  (∀ a, (k0_off505 v3569) a + S1x1x128.size a ≤ S100000x1x128.size a)
theorem k0_off505_inb : ∀ (v3569 : BitVec 32) (k0_hw489 : k0_chk489 v3569), ∀ a, (k0_off505 v3569) a + S1x1x128.size a ≤ S100000x1x128.size a := fun v3569 k0_hw489 => k0_hw489

def k0_off506 (v3576 : BitVec 32) : Fin 3 → Nat :=
  let v3577 : Index := Scalar.indexCast v3576
  let c0_2507 : Index := 0#32
  let c0_2508 : Index := 0#32
  ![v3577.toNat, 0, 0]

def k0_chk490 (v3576 : BitVec 32) : Prop :=
  (∀ a, (k0_off506 v3576) a + S1x1x128.size a ≤ S100000x1x128.size a)
theorem k0_off506_inb : ∀ (v3576 : BitVec 32) (k0_hw490 : k0_chk490 v3576), ∀ a, (k0_off506 v3576) a + S1x1x128.size a ≤ S100000x1x128.size a := fun v3576 k0_hw490 => k0_hw490

def k0_off507 (v3583 : BitVec 32) : Fin 3 → Nat :=
  let v3584 : Index := Scalar.indexCast v3583
  let c0_2512 : Index := 0#32
  let c0_2513 : Index := 0#32
  ![v3584.toNat, 0, 0]

def k0_chk491 (v3583 : BitVec 32) : Prop :=
  (∀ a, (k0_off507 v3583) a + S1x1x128.size a ≤ S100000x1x128.size a)
theorem k0_off507_inb : ∀ (v3583 : BitVec 32) (k0_hw491 : k0_chk491 v3583), ∀ a, (k0_off507 v3583) a + S1x1x128.size a ≤ S100000x1x128.size a := fun v3583 k0_hw491 => k0_hw491

def k0_off508 (v3590 : BitVec 32) : Fin 3 → Nat :=
  let v3591 : Index := Scalar.indexCast v3590
  let c0_2517 : Index := 0#32
  let c0_2518 : Index := 0#32
  ![v3591.toNat, 0, 0]

def k0_chk492 (v3590 : BitVec 32) : Prop :=
  (∀ a, (k0_off508 v3590) a + S1x1x128.size a ≤ S100000x1x128.size a)
theorem k0_off508_inb : ∀ (v3590 : BitVec 32) (k0_hw492 : k0_chk492 v3590), ∀ a, (k0_off508 v3590) a + S1x1x128.size a ≤ S100000x1x128.size a := fun v3590 k0_hw492 => k0_hw492

def k0_off509 (v3597 : BitVec 32) : Fin 3 → Nat :=
  let v3598 : Index := Scalar.indexCast v3597
  let c0_2522 : Index := 0#32
  let c0_2523 : Index := 0#32
  ![v3598.toNat, 0, 0]

def k0_chk493 (v3597 : BitVec 32) : Prop :=
  (∀ a, (k0_off509 v3597) a + S1x1x128.size a ≤ S100000x1x128.size a)
theorem k0_off509_inb : ∀ (v3597 : BitVec 32) (k0_hw493 : k0_chk493 v3597), ∀ a, (k0_off509 v3597) a + S1x1x128.size a ≤ S100000x1x128.size a := fun v3597 k0_hw493 => k0_hw493

def k0_off510 (v3604 : BitVec 32) : Fin 3 → Nat :=
  let v3605 : Index := Scalar.indexCast v3604
  let c0_2527 : Index := 0#32
  let c0_2528 : Index := 0#32
  ![v3605.toNat, 0, 0]

def k0_chk494 (v3604 : BitVec 32) : Prop :=
  (∀ a, (k0_off510 v3604) a + S1x1x128.size a ≤ S100000x1x128.size a)
theorem k0_off510_inb : ∀ (v3604 : BitVec 32) (k0_hw494 : k0_chk494 v3604), ∀ a, (k0_off510 v3604) a + S1x1x128.size a ≤ S100000x1x128.size a := fun v3604 k0_hw494 => k0_hw494

def k0_off511 (v3611 : BitVec 32) : Fin 3 → Nat :=
  let v3612 : Index := Scalar.indexCast v3611
  let c0_2532 : Index := 0#32
  let c0_2533 : Index := 0#32
  ![v3612.toNat, 0, 0]

def k0_chk495 (v3611 : BitVec 32) : Prop :=
  (∀ a, (k0_off511 v3611) a + S1x1x128.size a ≤ S100000x1x128.size a)
theorem k0_off511_inb : ∀ (v3611 : BitVec 32) (k0_hw495 : k0_chk495 v3611), ∀ a, (k0_off511 v3611) a + S1x1x128.size a ≤ S100000x1x128.size a := fun v3611 k0_hw495 => k0_hw495

def k0_off512 (v3618 : BitVec 32) : Fin 3 → Nat :=
  let v3619 : Index := Scalar.indexCast v3618
  let c0_2537 : Index := 0#32
  let c0_2538 : Index := 0#32
  ![v3619.toNat, 0, 0]

def k0_chk496 (v3618 : BitVec 32) : Prop :=
  (∀ a, (k0_off512 v3618) a + S1x1x128.size a ≤ S100000x1x128.size a)
theorem k0_off512_inb : ∀ (v3618 : BitVec 32) (k0_hw496 : k0_chk496 v3618), ∀ a, (k0_off512 v3618) a + S1x1x128.size a ≤ S100000x1x128.size a := fun v3618 k0_hw496 => k0_hw496

def k0_off513 (v3625 : BitVec 32) : Fin 3 → Nat :=
  let v3626 : Index := Scalar.indexCast v3625
  let c0_2542 : Index := 0#32
  let c0_2543 : Index := 0#32
  ![v3626.toNat, 0, 0]

def k0_chk497 (v3625 : BitVec 32) : Prop :=
  (∀ a, (k0_off513 v3625) a + S1x1x128.size a ≤ S100000x1x128.size a)
theorem k0_off513_inb : ∀ (v3625 : BitVec 32) (k0_hw497 : k0_chk497 v3625), ∀ a, (k0_off513 v3625) a + S1x1x128.size a ≤ S100000x1x128.size a := fun v3625 k0_hw497 => k0_hw497

def k0_off514 (v3632 : BitVec 32) : Fin 3 → Nat :=
  let v3633 : Index := Scalar.indexCast v3632
  let c0_2547 : Index := 0#32
  let c0_2548 : Index := 0#32
  ![v3633.toNat, 0, 0]

def k0_chk498 (v3632 : BitVec 32) : Prop :=
  (∀ a, (k0_off514 v3632) a + S1x1x128.size a ≤ S100000x1x128.size a)
theorem k0_off514_inb : ∀ (v3632 : BitVec 32) (k0_hw498 : k0_chk498 v3632), ∀ a, (k0_off514 v3632) a + S1x1x128.size a ≤ S100000x1x128.size a := fun v3632 k0_hw498 => k0_hw498

def k0_off515 (v3639 : BitVec 32) : Fin 3 → Nat :=
  let v3640 : Index := Scalar.indexCast v3639
  let c0_2552 : Index := 0#32
  let c0_2553 : Index := 0#32
  ![v3640.toNat, 0, 0]

def k0_chk499 (v3639 : BitVec 32) : Prop :=
  (∀ a, (k0_off515 v3639) a + S1x1x128.size a ≤ S100000x1x128.size a)
theorem k0_off515_inb : ∀ (v3639 : BitVec 32) (k0_hw499 : k0_chk499 v3639), ∀ a, (k0_off515 v3639) a + S1x1x128.size a ≤ S100000x1x128.size a := fun v3639 k0_hw499 => k0_hw499

def k0_off516 (v3646 : BitVec 32) : Fin 3 → Nat :=
  let v3647 : Index := Scalar.indexCast v3646
  let c0_2557 : Index := 0#32
  let c0_2558 : Index := 0#32
  ![v3647.toNat, 0, 0]

def k0_chk500 (v3646 : BitVec 32) : Prop :=
  (∀ a, (k0_off516 v3646) a + S1x1x128.size a ≤ S100000x1x128.size a)
theorem k0_off516_inb : ∀ (v3646 : BitVec 32) (k0_hw500 : k0_chk500 v3646), ∀ a, (k0_off516 v3646) a + S1x1x128.size a ≤ S100000x1x128.size a := fun v3646 k0_hw500 => k0_hw500

def k0_off517 (v3653 : BitVec 32) : Fin 3 → Nat :=
  let v3654 : Index := Scalar.indexCast v3653
  let c0_2562 : Index := 0#32
  let c0_2563 : Index := 0#32
  ![v3654.toNat, 0, 0]

def k0_chk501 (v3653 : BitVec 32) : Prop :=
  (∀ a, (k0_off517 v3653) a + S1x1x128.size a ≤ S100000x1x128.size a)
theorem k0_off517_inb : ∀ (v3653 : BitVec 32) (k0_hw501 : k0_chk501 v3653), ∀ a, (k0_off517 v3653) a + S1x1x128.size a ≤ S100000x1x128.size a := fun v3653 k0_hw501 => k0_hw501

def k0_off518 (v3660 : BitVec 32) : Fin 3 → Nat :=
  let v3661 : Index := Scalar.indexCast v3660
  let c0_2567 : Index := 0#32
  let c0_2568 : Index := 0#32
  ![v3661.toNat, 0, 0]

def k0_chk502 (v3660 : BitVec 32) : Prop :=
  (∀ a, (k0_off518 v3660) a + S1x1x128.size a ≤ S100000x1x128.size a)
theorem k0_off518_inb : ∀ (v3660 : BitVec 32) (k0_hw502 : k0_chk502 v3660), ∀ a, (k0_off518 v3660) a + S1x1x128.size a ≤ S100000x1x128.size a := fun v3660 k0_hw502 => k0_hw502

def k0_off519 (v3667 : BitVec 32) : Fin 3 → Nat :=
  let v3668 : Index := Scalar.indexCast v3667
  let c0_2572 : Index := 0#32
  let c0_2573 : Index := 0#32
  ![v3668.toNat, 0, 0]

def k0_chk503 (v3667 : BitVec 32) : Prop :=
  (∀ a, (k0_off519 v3667) a + S1x1x128.size a ≤ S100000x1x128.size a)
theorem k0_off519_inb : ∀ (v3667 : BitVec 32) (k0_hw503 : k0_chk503 v3667), ∀ a, (k0_off519 v3667) a + S1x1x128.size a ≤ S100000x1x128.size a := fun v3667 k0_hw503 => k0_hw503

def k0_off520 (v3674 : BitVec 32) : Fin 3 → Nat :=
  let v3675 : Index := Scalar.indexCast v3674
  let c0_2577 : Index := 0#32
  let c0_2578 : Index := 0#32
  ![v3675.toNat, 0, 0]

def k0_chk504 (v3674 : BitVec 32) : Prop :=
  (∀ a, (k0_off520 v3674) a + S1x1x128.size a ≤ S100000x1x128.size a)
theorem k0_off520_inb : ∀ (v3674 : BitVec 32) (k0_hw504 : k0_chk504 v3674), ∀ a, (k0_off520 v3674) a + S1x1x128.size a ≤ S100000x1x128.size a := fun v3674 k0_hw504 => k0_hw504

def k0_off521 (v3681 : BitVec 32) : Fin 3 → Nat :=
  let v3682 : Index := Scalar.indexCast v3681
  let c0_2582 : Index := 0#32
  let c0_2583 : Index := 0#32
  ![v3682.toNat, 0, 0]

def k0_chk505 (v3681 : BitVec 32) : Prop :=
  (∀ a, (k0_off521 v3681) a + S1x1x128.size a ≤ S100000x1x128.size a)
theorem k0_off521_inb : ∀ (v3681 : BitVec 32) (k0_hw505 : k0_chk505 v3681), ∀ a, (k0_off521 v3681) a + S1x1x128.size a ≤ S100000x1x128.size a := fun v3681 k0_hw505 => k0_hw505

def k0_off522 (v3688 : BitVec 32) : Fin 3 → Nat :=
  let v3689 : Index := Scalar.indexCast v3688
  let c0_2587 : Index := 0#32
  let c0_2588 : Index := 0#32
  ![v3689.toNat, 0, 0]

def k0_chk506 (v3688 : BitVec 32) : Prop :=
  (∀ a, (k0_off522 v3688) a + S1x1x128.size a ≤ S100000x1x128.size a)
theorem k0_off522_inb : ∀ (v3688 : BitVec 32) (k0_hw506 : k0_chk506 v3688), ∀ a, (k0_off522 v3688) a + S1x1x128.size a ≤ S100000x1x128.size a := fun v3688 k0_hw506 => k0_hw506

def k0_off523 (v3695 : BitVec 32) : Fin 3 → Nat :=
  let v3696 : Index := Scalar.indexCast v3695
  let c0_2592 : Index := 0#32
  let c0_2593 : Index := 0#32
  ![v3696.toNat, 0, 0]

def k0_chk507 (v3695 : BitVec 32) : Prop :=
  (∀ a, (k0_off523 v3695) a + S1x1x128.size a ≤ S100000x1x128.size a)
theorem k0_off523_inb : ∀ (v3695 : BitVec 32) (k0_hw507 : k0_chk507 v3695), ∀ a, (k0_off523 v3695) a + S1x1x128.size a ≤ S100000x1x128.size a := fun v3695 k0_hw507 => k0_hw507

def k0_off524 (v3702 : BitVec 32) : Fin 3 → Nat :=
  let v3703 : Index := Scalar.indexCast v3702
  let c0_2597 : Index := 0#32
  let c0_2598 : Index := 0#32
  ![v3703.toNat, 0, 0]

def k0_chk508 (v3702 : BitVec 32) : Prop :=
  (∀ a, (k0_off524 v3702) a + S1x1x128.size a ≤ S100000x1x128.size a)
theorem k0_off524_inb : ∀ (v3702 : BitVec 32) (k0_hw508 : k0_chk508 v3702), ∀ a, (k0_off524 v3702) a + S1x1x128.size a ≤ S100000x1x128.size a := fun v3702 k0_hw508 => k0_hw508

def k0_off525 (v3709 : BitVec 32) : Fin 3 → Nat :=
  let v3710 : Index := Scalar.indexCast v3709
  let c0_2602 : Index := 0#32
  let c0_2603 : Index := 0#32
  ![v3710.toNat, 0, 0]

def k0_chk509 (v3709 : BitVec 32) : Prop :=
  (∀ a, (k0_off525 v3709) a + S1x1x128.size a ≤ S100000x1x128.size a)
theorem k0_off525_inb : ∀ (v3709 : BitVec 32) (k0_hw509 : k0_chk509 v3709), ∀ a, (k0_off525 v3709) a + S1x1x128.size a ≤ S100000x1x128.size a := fun v3709 k0_hw509 => k0_hw509

def k0_off526 (v3716 : BitVec 32) : Fin 3 → Nat :=
  let v3717 : Index := Scalar.indexCast v3716
  let c0_2607 : Index := 0#32
  let c0_2608 : Index := 0#32
  ![v3717.toNat, 0, 0]

def k0_chk510 (v3716 : BitVec 32) : Prop :=
  (∀ a, (k0_off526 v3716) a + S1x1x128.size a ≤ S100000x1x128.size a)
theorem k0_off526_inb : ∀ (v3716 : BitVec 32) (k0_hw510 : k0_chk510 v3716), ∀ a, (k0_off526 v3716) a + S1x1x128.size a ≤ S100000x1x128.size a := fun v3716 k0_hw510 => k0_hw510

def k0_off527 (v3723 : BitVec 32) : Fin 3 → Nat :=
  let v3724 : Index := Scalar.indexCast v3723
  let c0_2612 : Index := 0#32
  let c0_2613 : Index := 0#32
  ![v3724.toNat, 0, 0]

def k0_chk511 (v3723 : BitVec 32) : Prop :=
  (∀ a, (k0_off527 v3723) a + S1x1x128.size a ≤ S100000x1x128.size a)
theorem k0_off527_inb : ∀ (v3723 : BitVec 32) (k0_hw511 : k0_chk511 v3723), ∀ a, (k0_off527 v3723) a + S1x1x128.size a ≤ S100000x1x128.size a := fun v3723 k0_hw511 => k0_hw511

def k0_off528 (v3730 : BitVec 32) : Fin 3 → Nat :=
  let v3731 : Index := Scalar.indexCast v3730
  let c0_2617 : Index := 0#32
  let c0_2618 : Index := 0#32
  ![v3731.toNat, 0, 0]

def k0_chk512 (v3730 : BitVec 32) : Prop :=
  (∀ a, (k0_off528 v3730) a + S1x1x128.size a ≤ S100000x1x128.size a)
theorem k0_off528_inb : ∀ (v3730 : BitVec 32) (k0_hw512 : k0_chk512 v3730), ∀ a, (k0_off528 v3730) a + S1x1x128.size a ≤ S100000x1x128.size a := fun v3730 k0_hw512 => k0_hw512

def k0_off529 (v3737 : BitVec 32) : Fin 3 → Nat :=
  let v3738 : Index := Scalar.indexCast v3737
  let c0_2622 : Index := 0#32
  let c0_2623 : Index := 0#32
  ![v3738.toNat, 0, 0]

def k0_chk513 (v3737 : BitVec 32) : Prop :=
  (∀ a, (k0_off529 v3737) a + S1x1x128.size a ≤ S100000x1x128.size a)
theorem k0_off529_inb : ∀ (v3737 : BitVec 32) (k0_hw513 : k0_chk513 v3737), ∀ a, (k0_off529 v3737) a + S1x1x128.size a ≤ S100000x1x128.size a := fun v3737 k0_hw513 => k0_hw513

def k0_off530 (v3744 : BitVec 32) : Fin 3 → Nat :=
  let v3745 : Index := Scalar.indexCast v3744
  let c0_2627 : Index := 0#32
  let c0_2628 : Index := 0#32
  ![v3745.toNat, 0, 0]

def k0_chk514 (v3744 : BitVec 32) : Prop :=
  (∀ a, (k0_off530 v3744) a + S1x1x128.size a ≤ S100000x1x128.size a)
theorem k0_off530_inb : ∀ (v3744 : BitVec 32) (k0_hw514 : k0_chk514 v3744), ∀ a, (k0_off530 v3744) a + S1x1x128.size a ≤ S100000x1x128.size a := fun v3744 k0_hw514 => k0_hw514

def k0_off531 (v3751 : BitVec 32) : Fin 3 → Nat :=
  let v3752 : Index := Scalar.indexCast v3751
  let c0_2632 : Index := 0#32
  let c0_2633 : Index := 0#32
  ![v3752.toNat, 0, 0]

def k0_chk515 (v3751 : BitVec 32) : Prop :=
  (∀ a, (k0_off531 v3751) a + S1x1x128.size a ≤ S100000x1x128.size a)
theorem k0_off531_inb : ∀ (v3751 : BitVec 32) (k0_hw515 : k0_chk515 v3751), ∀ a, (k0_off531 v3751) a + S1x1x128.size a ≤ S100000x1x128.size a := fun v3751 k0_hw515 => k0_hw515

def k0_off532 (v3758 : BitVec 32) : Fin 3 → Nat :=
  let v3759 : Index := Scalar.indexCast v3758
  let c0_2637 : Index := 0#32
  let c0_2638 : Index := 0#32
  ![v3759.toNat, 0, 0]

def k0_chk516 (v3758 : BitVec 32) : Prop :=
  (∀ a, (k0_off532 v3758) a + S1x1x128.size a ≤ S100000x1x128.size a)
theorem k0_off532_inb : ∀ (v3758 : BitVec 32) (k0_hw516 : k0_chk516 v3758), ∀ a, (k0_off532 v3758) a + S1x1x128.size a ≤ S100000x1x128.size a := fun v3758 k0_hw516 => k0_hw516

def k0_off533 (v3765 : BitVec 32) : Fin 3 → Nat :=
  let v3766 : Index := Scalar.indexCast v3765
  let c0_2642 : Index := 0#32
  let c0_2643 : Index := 0#32
  ![v3766.toNat, 0, 0]

def k0_chk517 (v3765 : BitVec 32) : Prop :=
  (∀ a, (k0_off533 v3765) a + S1x1x128.size a ≤ S100000x1x128.size a)
theorem k0_off533_inb : ∀ (v3765 : BitVec 32) (k0_hw517 : k0_chk517 v3765), ∀ a, (k0_off533 v3765) a + S1x1x128.size a ≤ S100000x1x128.size a := fun v3765 k0_hw517 => k0_hw517

def k0_off534 (v3772 : BitVec 32) : Fin 3 → Nat :=
  let v3773 : Index := Scalar.indexCast v3772
  let c0_2647 : Index := 0#32
  let c0_2648 : Index := 0#32
  ![v3773.toNat, 0, 0]

def k0_chk518 (v3772 : BitVec 32) : Prop :=
  (∀ a, (k0_off534 v3772) a + S1x1x128.size a ≤ S100000x1x128.size a)
theorem k0_off534_inb : ∀ (v3772 : BitVec 32) (k0_hw518 : k0_chk518 v3772), ∀ a, (k0_off534 v3772) a + S1x1x128.size a ≤ S100000x1x128.size a := fun v3772 k0_hw518 => k0_hw518

def k0_off535 (v3779 : BitVec 32) : Fin 3 → Nat :=
  let v3780 : Index := Scalar.indexCast v3779
  let c0_2652 : Index := 0#32
  let c0_2653 : Index := 0#32
  ![v3780.toNat, 0, 0]

def k0_chk519 (v3779 : BitVec 32) : Prop :=
  (∀ a, (k0_off535 v3779) a + S1x1x128.size a ≤ S100000x1x128.size a)
theorem k0_off535_inb : ∀ (v3779 : BitVec 32) (k0_hw519 : k0_chk519 v3779), ∀ a, (k0_off535 v3779) a + S1x1x128.size a ≤ S100000x1x128.size a := fun v3779 k0_hw519 => k0_hw519

def k0_off536 (v3786 : BitVec 32) : Fin 3 → Nat :=
  let v3787 : Index := Scalar.indexCast v3786
  let c0_2657 : Index := 0#32
  let c0_2658 : Index := 0#32
  ![v3787.toNat, 0, 0]

def k0_chk520 (v3786 : BitVec 32) : Prop :=
  (∀ a, (k0_off536 v3786) a + S1x1x128.size a ≤ S100000x1x128.size a)
theorem k0_off536_inb : ∀ (v3786 : BitVec 32) (k0_hw520 : k0_chk520 v3786), ∀ a, (k0_off536 v3786) a + S1x1x128.size a ≤ S100000x1x128.size a := fun v3786 k0_hw520 => k0_hw520

@[reducible] def k0_t1_loop : Scf.Loop 32 :=
  let c0_i32_2661 : BitVec 32 := 0#32
  let c8_i32_2662 : BitVec 32 := 8#32
  let v3793 : BitVec 32 := Scalar.addi c0_i32_2661 c8_i32_2662
  let c1_i32_2663 : BitVec 32 := 1#32
  ⟨c0_i32_2661, v3793, c1_i32_2663⟩
def k0_off537 (k0_t1 : Fin k0_t1_loop.trips) : Fin 2 → Nat :=
  let c0_2720 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c0_i32_2719 : BitVec 32 := 0#32
  let v3889 : BitVec 32 := Scalar.addi v3888 c0_i32_2719
  let v3890 : Index := Scalar.indexCast v3889
  ![0, v3890.toNat]
def k0_off538 (v3891 : BitVec 32) : Fin 3 → Nat :=
  let v3892 : Index := Scalar.indexCast v3891
  let c0_2721 : Index := 0#32
  let c0_2722 : Index := 0#32
  ![v3892.toNat, 0, 0]

def k0_chk521 (v3891 : BitVec 32) : Prop :=
  (∀ a, (k0_off538 v3891) a + S1x1x128.size a ≤ S100000x1x128.size a)
theorem k0_off538_inb : ∀ (v3891 : BitVec 32) (k0_hw521 : k0_chk521 v3891), ∀ a, (k0_off538 v3891) a + S1x1x128.size a ≤ S100000x1x128.size a := fun v3891 k0_hw521 => k0_hw521

def k0_off539 (k0_t1 : Fin k0_t1_loop.trips) : Fin 2 → Nat :=
  let c0_2726 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c1_i32_2725 : BitVec 32 := 1#32
  let v3898 : BitVec 32 := Scalar.addi v3888 c1_i32_2725
  let v3899 : Index := Scalar.indexCast v3898
  ![0, v3899.toNat]
def k0_off540 (v3900 : BitVec 32) : Fin 3 → Nat :=
  let v3901 : Index := Scalar.indexCast v3900
  let c0_2727 : Index := 0#32
  let c0_2728 : Index := 0#32
  ![v3901.toNat, 0, 0]

def k0_chk522 (v3900 : BitVec 32) : Prop :=
  (∀ a, (k0_off540 v3900) a + S1x1x128.size a ≤ S100000x1x128.size a)
theorem k0_off540_inb : ∀ (v3900 : BitVec 32) (k0_hw522 : k0_chk522 v3900), ∀ a, (k0_off540 v3900) a + S1x1x128.size a ≤ S100000x1x128.size a := fun v3900 k0_hw522 => k0_hw522

def k0_off541 (k0_t1 : Fin k0_t1_loop.trips) : Fin 2 → Nat :=
  let c0_2732 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c2_i32_2731 : BitVec 32 := 2#32
  let v3907 : BitVec 32 := Scalar.addi v3888 c2_i32_2731
  let v3908 : Index := Scalar.indexCast v3907
  ![0, v3908.toNat]
def k0_off542 (v3909 : BitVec 32) : Fin 3 → Nat :=
  let v3910 : Index := Scalar.indexCast v3909
  let c0_2733 : Index := 0#32
  let c0_2734 : Index := 0#32
  ![v3910.toNat, 0, 0]

def k0_chk523 (v3909 : BitVec 32) : Prop :=
  (∀ a, (k0_off542 v3909) a + S1x1x128.size a ≤ S100000x1x128.size a)
theorem k0_off542_inb : ∀ (v3909 : BitVec 32) (k0_hw523 : k0_chk523 v3909), ∀ a, (k0_off542 v3909) a + S1x1x128.size a ≤ S100000x1x128.size a := fun v3909 k0_hw523 => k0_hw523

def k0_off543 (k0_t1 : Fin k0_t1_loop.trips) : Fin 2 → Nat :=
  let c0_2738 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c3_i32_2737 : BitVec 32 := 3#32
  let v3916 : BitVec 32 := Scalar.addi v3888 c3_i32_2737
  let v3917 : Index := Scalar.indexCast v3916
  ![0, v3917.toNat]
def k0_off544 (v3918 : BitVec 32) : Fin 3 → Nat :=
  let v3919 : Index := Scalar.indexCast v3918
  let c0_2739 : Index := 0#32
  let c0_2740 : Index := 0#32
  ![v3919.toNat, 0, 0]

def k0_chk524 (v3918 : BitVec 32) : Prop :=
  (∀ a, (k0_off544 v3918) a + S1x1x128.size a ≤ S100000x1x128.size a)
theorem k0_off544_inb : ∀ (v3918 : BitVec 32) (k0_hw524 : k0_chk524 v3918), ∀ a, (k0_off544 v3918) a + S1x1x128.size a ≤ S100000x1x128.size a := fun v3918 k0_hw524 => k0_hw524

def k0_off545 (k0_t1 : Fin k0_t1_loop.trips) : Fin 2 → Nat :=
  let c0_2744 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c4_i32_2743 : BitVec 32 := 4#32
  let v3925 : BitVec 32 := Scalar.addi v3888 c4_i32_2743
  let v3926 : Index := Scalar.indexCast v3925
  ![0, v3926.toNat]
def k0_off546 (v3927 : BitVec 32) : Fin 3 → Nat :=
  let v3928 : Index := Scalar.indexCast v3927
  let c0_2745 : Index := 0#32
  let c0_2746 : Index := 0#32
  ![v3928.toNat, 0, 0]

def k0_chk525 (v3927 : BitVec 32) : Prop :=
  (∀ a, (k0_off546 v3927) a + S1x1x128.size a ≤ S100000x1x128.size a)
theorem k0_off546_inb : ∀ (v3927 : BitVec 32) (k0_hw525 : k0_chk525 v3927), ∀ a, (k0_off546 v3927) a + S1x1x128.size a ≤ S100000x1x128.size a := fun v3927 k0_hw525 => k0_hw525

def k0_off547 (k0_t1 : Fin k0_t1_loop.trips) : Fin 2 → Nat :=
  let c0_2750 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c5_i32_2749 : BitVec 32 := 5#32
  let v3934 : BitVec 32 := Scalar.addi v3888 c5_i32_2749
  let v3935 : Index := Scalar.indexCast v3934
  ![0, v3935.toNat]
def k0_off548 (v3936 : BitVec 32) : Fin 3 → Nat :=
  let v3937 : Index := Scalar.indexCast v3936
  let c0_2751 : Index := 0#32
  let c0_2752 : Index := 0#32
  ![v3937.toNat, 0, 0]

def k0_chk526 (v3936 : BitVec 32) : Prop :=
  (∀ a, (k0_off548 v3936) a + S1x1x128.size a ≤ S100000x1x128.size a)
theorem k0_off548_inb : ∀ (v3936 : BitVec 32) (k0_hw526 : k0_chk526 v3936), ∀ a, (k0_off548 v3936) a + S1x1x128.size a ≤ S100000x1x128.size a := fun v3936 k0_hw526 => k0_hw526

def k0_off549 (k0_t1 : Fin k0_t1_loop.trips) : Fin 2 → Nat :=
  let c0_2756 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c6_i32_2755 : BitVec 32 := 6#32
  let v3943 : BitVec 32 := Scalar.addi v3888 c6_i32_2755
  let v3944 : Index := Scalar.indexCast v3943
  ![0, v3944.toNat]
def k0_off550 (v3945 : BitVec 32) : Fin 3 → Nat :=
  let v3946 : Index := Scalar.indexCast v3945
  let c0_2757 : Index := 0#32
  let c0_2758 : Index := 0#32
  ![v3946.toNat, 0, 0]

def k0_chk527 (v3945 : BitVec 32) : Prop :=
  (∀ a, (k0_off550 v3945) a + S1x1x128.size a ≤ S100000x1x128.size a)
theorem k0_off550_inb : ∀ (v3945 : BitVec 32) (k0_hw527 : k0_chk527 v3945), ∀ a, (k0_off550 v3945) a + S1x1x128.size a ≤ S100000x1x128.size a := fun v3945 k0_hw527 => k0_hw527

def k0_off551 (k0_t1 : Fin k0_t1_loop.trips) : Fin 2 → Nat :=
  let c0_2762 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c7_i32_2761 : BitVec 32 := 7#32
  let v3952 : BitVec 32 := Scalar.addi v3888 c7_i32_2761
  let v3953 : Index := Scalar.indexCast v3952
  ![0, v3953.toNat]
def k0_off552 (v3954 : BitVec 32) : Fin 3 → Nat :=
  let v3955 : Index := Scalar.indexCast v3954
  let c0_2763 : Index := 0#32
  let c0_2764 : Index := 0#32
  ![v3955.toNat, 0, 0]

def k0_chk528 (v3954 : BitVec 32) : Prop :=
  (∀ a, (k0_off552 v3954) a + S1x1x128.size a ≤ S100000x1x128.size a)
theorem k0_off552_inb : ∀ (v3954 : BitVec 32) (k0_hw528 : k0_chk528 v3954), ∀ a, (k0_off552 v3954) a + S1x1x128.size a ≤ S100000x1x128.size a := fun v3954 k0_hw528 => k0_hw528

def k0_off553 (k0_t1 : Fin k0_t1_loop.trips) : Fin 2 → Nat :=
  let c0_2768 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c8_i32_2767 : BitVec 32 := 8#32
  let v3961 : BitVec 32 := Scalar.addi v3888 c8_i32_2767
  let v3962 : Index := Scalar.indexCast v3961
  ![0, v3962.toNat]
def k0_off554 (v3963 : BitVec 32) : Fin 3 → Nat :=
  let v3964 : Index := Scalar.indexCast v3963
  let c0_2769 : Index := 0#32
  let c0_2770 : Index := 0#32
  ![v3964.toNat, 0, 0]

def k0_chk529 (v3963 : BitVec 32) : Prop :=
  (∀ a, (k0_off554 v3963) a + S1x1x128.size a ≤ S100000x1x128.size a)
theorem k0_off554_inb : ∀ (v3963 : BitVec 32) (k0_hw529 : k0_chk529 v3963), ∀ a, (k0_off554 v3963) a + S1x1x128.size a ≤ S100000x1x128.size a := fun v3963 k0_hw529 => k0_hw529

def k0_off555 (k0_t1 : Fin k0_t1_loop.trips) : Fin 2 → Nat :=
  let c0_2773 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c9_i32 : BitVec 32 := 9#32
  let v3970 : BitVec 32 := Scalar.addi v3888 c9_i32
  let v3971 : Index := Scalar.indexCast v3970
  ![0, v3971.toNat]
def k0_off556 (v3972 : BitVec 32) : Fin 3 → Nat :=
  let v3973 : Index := Scalar.indexCast v3972
  let c0_2774 : Index := 0#32
  let c0_2775 : Index := 0#32
  ![v3973.toNat, 0, 0]

def k0_chk530 (v3972 : BitVec 32) : Prop :=
  (∀ a, (k0_off556 v3972) a + S1x1x128.size a ≤ S100000x1x128.size a)
theorem k0_off556_inb : ∀ (v3972 : BitVec 32) (k0_hw530 : k0_chk530 v3972), ∀ a, (k0_off556 v3972) a + S1x1x128.size a ≤ S100000x1x128.size a := fun v3972 k0_hw530 => k0_hw530

def k0_off557 (k0_t1 : Fin k0_t1_loop.trips) : Fin 2 → Nat :=
  let c0_2778 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c10_i32 : BitVec 32 := 10#32
  let v3979 : BitVec 32 := Scalar.addi v3888 c10_i32
  let v3980 : Index := Scalar.indexCast v3979
  ![0, v3980.toNat]
def k0_off558 (v3981 : BitVec 32) : Fin 3 → Nat :=
  let v3982 : Index := Scalar.indexCast v3981
  let c0_2779 : Index := 0#32
  let c0_2780 : Index := 0#32
  ![v3982.toNat, 0, 0]

def k0_chk531 (v3981 : BitVec 32) : Prop :=
  (∀ a, (k0_off558 v3981) a + S1x1x128.size a ≤ S100000x1x128.size a)
theorem k0_off558_inb : ∀ (v3981 : BitVec 32) (k0_hw531 : k0_chk531 v3981), ∀ a, (k0_off558 v3981) a + S1x1x128.size a ≤ S100000x1x128.size a := fun v3981 k0_hw531 => k0_hw531

def k0_off559 (k0_t1 : Fin k0_t1_loop.trips) : Fin 2 → Nat :=
  let c0_2783 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c11_i32 : BitVec 32 := 11#32
  let v3988 : BitVec 32 := Scalar.addi v3888 c11_i32
  let v3989 : Index := Scalar.indexCast v3988
  ![0, v3989.toNat]
def k0_off560 (v3990 : BitVec 32) : Fin 3 → Nat :=
  let v3991 : Index := Scalar.indexCast v3990
  let c0_2784 : Index := 0#32
  let c0_2785 : Index := 0#32
  ![v3991.toNat, 0, 0]

def k0_chk532 (v3990 : BitVec 32) : Prop :=
  (∀ a, (k0_off560 v3990) a + S1x1x128.size a ≤ S100000x1x128.size a)
theorem k0_off560_inb : ∀ (v3990 : BitVec 32) (k0_hw532 : k0_chk532 v3990), ∀ a, (k0_off560 v3990) a + S1x1x128.size a ≤ S100000x1x128.size a := fun v3990 k0_hw532 => k0_hw532

def k0_off561 (k0_t1 : Fin k0_t1_loop.trips) : Fin 2 → Nat :=
  let c0_2788 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c12_i32 : BitVec 32 := 12#32
  let v3997 : BitVec 32 := Scalar.addi v3888 c12_i32
  let v3998 : Index := Scalar.indexCast v3997
  ![0, v3998.toNat]
def k0_off562 (v3999 : BitVec 32) : Fin 3 → Nat :=
  let v4000 : Index := Scalar.indexCast v3999
  let c0_2789 : Index := 0#32
  let c0_2790 : Index := 0#32
  ![v4000.toNat, 0, 0]

def k0_chk533 (v3999 : BitVec 32) : Prop :=
  (∀ a, (k0_off562 v3999) a + S1x1x128.size a ≤ S100000x1x128.size a)
theorem k0_off562_inb : ∀ (v3999 : BitVec 32) (k0_hw533 : k0_chk533 v3999), ∀ a, (k0_off562 v3999) a + S1x1x128.size a ≤ S100000x1x128.size a := fun v3999 k0_hw533 => k0_hw533

def k0_off563 (k0_t1 : Fin k0_t1_loop.trips) : Fin 2 → Nat :=
  let c0_2793 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c13_i32 : BitVec 32 := 13#32
  let v4006 : BitVec 32 := Scalar.addi v3888 c13_i32
  let v4007 : Index := Scalar.indexCast v4006
  ![0, v4007.toNat]
def k0_off564 (v4008 : BitVec 32) : Fin 3 → Nat :=
  let v4009 : Index := Scalar.indexCast v4008
  let c0_2794 : Index := 0#32
  let c0_2795 : Index := 0#32
  ![v4009.toNat, 0, 0]

def k0_chk534 (v4008 : BitVec 32) : Prop :=
  (∀ a, (k0_off564 v4008) a + S1x1x128.size a ≤ S100000x1x128.size a)
theorem k0_off564_inb : ∀ (v4008 : BitVec 32) (k0_hw534 : k0_chk534 v4008), ∀ a, (k0_off564 v4008) a + S1x1x128.size a ≤ S100000x1x128.size a := fun v4008 k0_hw534 => k0_hw534

def k0_off565 (k0_t1 : Fin k0_t1_loop.trips) : Fin 2 → Nat :=
  let c0_2798 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c14_i32 : BitVec 32 := 14#32
  let v4015 : BitVec 32 := Scalar.addi v3888 c14_i32
  let v4016 : Index := Scalar.indexCast v4015
  ![0, v4016.toNat]
def k0_off566 (v4017 : BitVec 32) : Fin 3 → Nat :=
  let v4018 : Index := Scalar.indexCast v4017
  let c0_2799 : Index := 0#32
  let c0_2800 : Index := 0#32
  ![v4018.toNat, 0, 0]

def k0_chk535 (v4017 : BitVec 32) : Prop :=
  (∀ a, (k0_off566 v4017) a + S1x1x128.size a ≤ S100000x1x128.size a)
theorem k0_off566_inb : ∀ (v4017 : BitVec 32) (k0_hw535 : k0_chk535 v4017), ∀ a, (k0_off566 v4017) a + S1x1x128.size a ≤ S100000x1x128.size a := fun v4017 k0_hw535 => k0_hw535

def k0_off567 (k0_t1 : Fin k0_t1_loop.trips) : Fin 2 → Nat :=
  let c0_2803 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c15_i32 : BitVec 32 := 15#32
  let v4024 : BitVec 32 := Scalar.addi v3888 c15_i32
  let v4025 : Index := Scalar.indexCast v4024
  ![0, v4025.toNat]
def k0_off568 (v4026 : BitVec 32) : Fin 3 → Nat :=
  let v4027 : Index := Scalar.indexCast v4026
  let c0_2804 : Index := 0#32
  let c0_2805 : Index := 0#32
  ![v4027.toNat, 0, 0]

def k0_chk536 (v4026 : BitVec 32) : Prop :=
  (∀ a, (k0_off568 v4026) a + S1x1x128.size a ≤ S100000x1x128.size a)
theorem k0_off568_inb : ∀ (v4026 : BitVec 32) (k0_hw536 : k0_chk536 v4026), ∀ a, (k0_off568 v4026) a + S1x1x128.size a ≤ S100000x1x128.size a := fun v4026 k0_hw536 => k0_hw536

def k0_off569 (k0_t1 : Fin k0_t1_loop.trips) : Fin 2 → Nat :=
  let c0_2808 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c16_i32 : BitVec 32 := 16#32
  let v4033 : BitVec 32 := Scalar.addi v3888 c16_i32
  let v4034 : Index := Scalar.indexCast v4033
  ![0, v4034.toNat]
def k0_off570 (v4035 : BitVec 32) : Fin 3 → Nat :=
  let v4036 : Index := Scalar.indexCast v4035
  let c0_2809 : Index := 0#32
  let c0_2810 : Index := 0#32
  ![v4036.toNat, 0, 0]

def k0_chk537 (v4035 : BitVec 32) : Prop :=
  (∀ a, (k0_off570 v4035) a + S1x1x128.size a ≤ S100000x1x128.size a)
theorem k0_off570_inb : ∀ (v4035 : BitVec 32) (k0_hw537 : k0_chk537 v4035), ∀ a, (k0_off570 v4035) a + S1x1x128.size a ≤ S100000x1x128.size a := fun v4035 k0_hw537 => k0_hw537

def k0_off571 (k0_t1 : Fin k0_t1_loop.trips) : Fin 2 → Nat :=
  let c0_2813 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c17_i32 : BitVec 32 := 17#32
  let v4042 : BitVec 32 := Scalar.addi v3888 c17_i32
  let v4043 : Index := Scalar.indexCast v4042
  ![0, v4043.toNat]
def k0_off572 (v4044 : BitVec 32) : Fin 3 → Nat :=
  let v4045 : Index := Scalar.indexCast v4044
  let c0_2814 : Index := 0#32
  let c0_2815 : Index := 0#32
  ![v4045.toNat, 0, 0]

def k0_chk538 (v4044 : BitVec 32) : Prop :=
  (∀ a, (k0_off572 v4044) a + S1x1x128.size a ≤ S100000x1x128.size a)
theorem k0_off572_inb : ∀ (v4044 : BitVec 32) (k0_hw538 : k0_chk538 v4044), ∀ a, (k0_off572 v4044) a + S1x1x128.size a ≤ S100000x1x128.size a := fun v4044 k0_hw538 => k0_hw538

def k0_off573 (k0_t1 : Fin k0_t1_loop.trips) : Fin 2 → Nat :=
  let c0_2818 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c18_i32 : BitVec 32 := 18#32
  let v4051 : BitVec 32 := Scalar.addi v3888 c18_i32
  let v4052 : Index := Scalar.indexCast v4051
  ![0, v4052.toNat]
def k0_off574 (v4053 : BitVec 32) : Fin 3 → Nat :=
  let v4054 : Index := Scalar.indexCast v4053
  let c0_2819 : Index := 0#32
  let c0_2820 : Index := 0#32
  ![v4054.toNat, 0, 0]

def k0_chk539 (v4053 : BitVec 32) : Prop :=
  (∀ a, (k0_off574 v4053) a + S1x1x128.size a ≤ S100000x1x128.size a)
theorem k0_off574_inb : ∀ (v4053 : BitVec 32) (k0_hw539 : k0_chk539 v4053), ∀ a, (k0_off574 v4053) a + S1x1x128.size a ≤ S100000x1x128.size a := fun v4053 k0_hw539 => k0_hw539

def k0_off575 (k0_t1 : Fin k0_t1_loop.trips) : Fin 2 → Nat :=
  let c0_2823 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c19_i32 : BitVec 32 := 19#32
  let v4060 : BitVec 32 := Scalar.addi v3888 c19_i32
  let v4061 : Index := Scalar.indexCast v4060
  ![0, v4061.toNat]
def k0_off576 (v4062 : BitVec 32) : Fin 3 → Nat :=
  let v4063 : Index := Scalar.indexCast v4062
  let c0_2824 : Index := 0#32
  let c0_2825 : Index := 0#32
  ![v4063.toNat, 0, 0]

def k0_chk540 (v4062 : BitVec 32) : Prop :=
  (∀ a, (k0_off576 v4062) a + S1x1x128.size a ≤ S100000x1x128.size a)
theorem k0_off576_inb : ∀ (v4062 : BitVec 32) (k0_hw540 : k0_chk540 v4062), ∀ a, (k0_off576 v4062) a + S1x1x128.size a ≤ S100000x1x128.size a := fun v4062 k0_hw540 => k0_hw540

def k0_off577 (k0_t1 : Fin k0_t1_loop.trips) : Fin 2 → Nat :=
  let c0_2828 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c20_i32 : BitVec 32 := 20#32
  let v4069 : BitVec 32 := Scalar.addi v3888 c20_i32
  let v4070 : Index := Scalar.indexCast v4069
  ![0, v4070.toNat]
def k0_off578 (v4071 : BitVec 32) : Fin 3 → Nat :=
  let v4072 : Index := Scalar.indexCast v4071
  let c0_2829 : Index := 0#32
  let c0_2830 : Index := 0#32
  ![v4072.toNat, 0, 0]

def k0_chk541 (v4071 : BitVec 32) : Prop :=
  (∀ a, (k0_off578 v4071) a + S1x1x128.size a ≤ S100000x1x128.size a)
theorem k0_off578_inb : ∀ (v4071 : BitVec 32) (k0_hw541 : k0_chk541 v4071), ∀ a, (k0_off578 v4071) a + S1x1x128.size a ≤ S100000x1x128.size a := fun v4071 k0_hw541 => k0_hw541

def k0_off579 (k0_t1 : Fin k0_t1_loop.trips) : Fin 2 → Nat :=
  let c0_2833 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c21_i32 : BitVec 32 := 21#32
  let v4078 : BitVec 32 := Scalar.addi v3888 c21_i32
  let v4079 : Index := Scalar.indexCast v4078
  ![0, v4079.toNat]
def k0_off580 (v4080 : BitVec 32) : Fin 3 → Nat :=
  let v4081 : Index := Scalar.indexCast v4080
  let c0_2834 : Index := 0#32
  let c0_2835 : Index := 0#32
  ![v4081.toNat, 0, 0]

def k0_chk542 (v4080 : BitVec 32) : Prop :=
  (∀ a, (k0_off580 v4080) a + S1x1x128.size a ≤ S100000x1x128.size a)
theorem k0_off580_inb : ∀ (v4080 : BitVec 32) (k0_hw542 : k0_chk542 v4080), ∀ a, (k0_off580 v4080) a + S1x1x128.size a ≤ S100000x1x128.size a := fun v4080 k0_hw542 => k0_hw542

def k0_off581 (k0_t1 : Fin k0_t1_loop.trips) : Fin 2 → Nat :=
  let c0_2838 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c22_i32 : BitVec 32 := 22#32
  let v4087 : BitVec 32 := Scalar.addi v3888 c22_i32
  let v4088 : Index := Scalar.indexCast v4087
  ![0, v4088.toNat]
def k0_off582 (v4089 : BitVec 32) : Fin 3 → Nat :=
  let v4090 : Index := Scalar.indexCast v4089
  let c0_2839 : Index := 0#32
  let c0_2840 : Index := 0#32
  ![v4090.toNat, 0, 0]

def k0_chk543 (v4089 : BitVec 32) : Prop :=
  (∀ a, (k0_off582 v4089) a + S1x1x128.size a ≤ S100000x1x128.size a)
theorem k0_off582_inb : ∀ (v4089 : BitVec 32) (k0_hw543 : k0_chk543 v4089), ∀ a, (k0_off582 v4089) a + S1x1x128.size a ≤ S100000x1x128.size a := fun v4089 k0_hw543 => k0_hw543

def k0_off583 (k0_t1 : Fin k0_t1_loop.trips) : Fin 2 → Nat :=
  let c0_2843 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c23_i32 : BitVec 32 := 23#32
  let v4096 : BitVec 32 := Scalar.addi v3888 c23_i32
  let v4097 : Index := Scalar.indexCast v4096
  ![0, v4097.toNat]
def k0_off584 (v4098 : BitVec 32) : Fin 3 → Nat :=
  let v4099 : Index := Scalar.indexCast v4098
  let c0_2844 : Index := 0#32
  let c0_2845 : Index := 0#32
  ![v4099.toNat, 0, 0]

def k0_chk544 (v4098 : BitVec 32) : Prop :=
  (∀ a, (k0_off584 v4098) a + S1x1x128.size a ≤ S100000x1x128.size a)
theorem k0_off584_inb : ∀ (v4098 : BitVec 32) (k0_hw544 : k0_chk544 v4098), ∀ a, (k0_off584 v4098) a + S1x1x128.size a ≤ S100000x1x128.size a := fun v4098 k0_hw544 => k0_hw544

def k0_off585 (k0_t1 : Fin k0_t1_loop.trips) : Fin 2 → Nat :=
  let c0_2848 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c24_i32 : BitVec 32 := 24#32
  let v4105 : BitVec 32 := Scalar.addi v3888 c24_i32
  let v4106 : Index := Scalar.indexCast v4105
  ![0, v4106.toNat]
def k0_off586 (v4107 : BitVec 32) : Fin 3 → Nat :=
  let v4108 : Index := Scalar.indexCast v4107
  let c0_2849 : Index := 0#32
  let c0_2850 : Index := 0#32
  ![v4108.toNat, 0, 0]

def k0_chk545 (v4107 : BitVec 32) : Prop :=
  (∀ a, (k0_off586 v4107) a + S1x1x128.size a ≤ S100000x1x128.size a)
theorem k0_off586_inb : ∀ (v4107 : BitVec 32) (k0_hw545 : k0_chk545 v4107), ∀ a, (k0_off586 v4107) a + S1x1x128.size a ≤ S100000x1x128.size a := fun v4107 k0_hw545 => k0_hw545

def k0_off587 (k0_t1 : Fin k0_t1_loop.trips) : Fin 2 → Nat :=
  let c0_2853 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c25_i32 : BitVec 32 := 25#32
  let v4114 : BitVec 32 := Scalar.addi v3888 c25_i32
  let v4115 : Index := Scalar.indexCast v4114
  ![0, v4115.toNat]
def k0_off588 (v4116 : BitVec 32) : Fin 3 → Nat :=
  let v4117 : Index := Scalar.indexCast v4116
  let c0_2854 : Index := 0#32
  let c0_2855 : Index := 0#32
  ![v4117.toNat, 0, 0]

def k0_chk546 (v4116 : BitVec 32) : Prop :=
  (∀ a, (k0_off588 v4116) a + S1x1x128.size a ≤ S100000x1x128.size a)
theorem k0_off588_inb : ∀ (v4116 : BitVec 32) (k0_hw546 : k0_chk546 v4116), ∀ a, (k0_off588 v4116) a + S1x1x128.size a ≤ S100000x1x128.size a := fun v4116 k0_hw546 => k0_hw546

def k0_off589 (k0_t1 : Fin k0_t1_loop.trips) : Fin 2 → Nat :=
  let c0_2858 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c26_i32 : BitVec 32 := 26#32
  let v4123 : BitVec 32 := Scalar.addi v3888 c26_i32
  let v4124 : Index := Scalar.indexCast v4123
  ![0, v4124.toNat]
def k0_off590 (v4125 : BitVec 32) : Fin 3 → Nat :=
  let v4126 : Index := Scalar.indexCast v4125
  let c0_2859 : Index := 0#32
  let c0_2860 : Index := 0#32
  ![v4126.toNat, 0, 0]

def k0_chk547 (v4125 : BitVec 32) : Prop :=
  (∀ a, (k0_off590 v4125) a + S1x1x128.size a ≤ S100000x1x128.size a)
theorem k0_off590_inb : ∀ (v4125 : BitVec 32) (k0_hw547 : k0_chk547 v4125), ∀ a, (k0_off590 v4125) a + S1x1x128.size a ≤ S100000x1x128.size a := fun v4125 k0_hw547 => k0_hw547

def k0_off591 (k0_t1 : Fin k0_t1_loop.trips) : Fin 2 → Nat :=
  let c0_2863 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c27_i32 : BitVec 32 := 27#32
  let v4132 : BitVec 32 := Scalar.addi v3888 c27_i32
  let v4133 : Index := Scalar.indexCast v4132
  ![0, v4133.toNat]
def k0_off592 (v4134 : BitVec 32) : Fin 3 → Nat :=
  let v4135 : Index := Scalar.indexCast v4134
  let c0_2864 : Index := 0#32
  let c0_2865 : Index := 0#32
  ![v4135.toNat, 0, 0]

def k0_chk548 (v4134 : BitVec 32) : Prop :=
  (∀ a, (k0_off592 v4134) a + S1x1x128.size a ≤ S100000x1x128.size a)
theorem k0_off592_inb : ∀ (v4134 : BitVec 32) (k0_hw548 : k0_chk548 v4134), ∀ a, (k0_off592 v4134) a + S1x1x128.size a ≤ S100000x1x128.size a := fun v4134 k0_hw548 => k0_hw548

def k0_off593 (k0_t1 : Fin k0_t1_loop.trips) : Fin 2 → Nat :=
  let c0_2868 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c28_i32 : BitVec 32 := 28#32
  let v4141 : BitVec 32 := Scalar.addi v3888 c28_i32
  let v4142 : Index := Scalar.indexCast v4141
  ![0, v4142.toNat]
def k0_off594 (v4143 : BitVec 32) : Fin 3 → Nat :=
  let v4144 : Index := Scalar.indexCast v4143
  let c0_2869 : Index := 0#32
  let c0_2870 : Index := 0#32
  ![v4144.toNat, 0, 0]

def k0_chk549 (v4143 : BitVec 32) : Prop :=
  (∀ a, (k0_off594 v4143) a + S1x1x128.size a ≤ S100000x1x128.size a)
theorem k0_off594_inb : ∀ (v4143 : BitVec 32) (k0_hw549 : k0_chk549 v4143), ∀ a, (k0_off594 v4143) a + S1x1x128.size a ≤ S100000x1x128.size a := fun v4143 k0_hw549 => k0_hw549

def k0_off595 (k0_t1 : Fin k0_t1_loop.trips) : Fin 2 → Nat :=
  let c0_2873 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c29_i32 : BitVec 32 := 29#32
  let v4150 : BitVec 32 := Scalar.addi v3888 c29_i32
  let v4151 : Index := Scalar.indexCast v4150
  ![0, v4151.toNat]
def k0_off596 (v4152 : BitVec 32) : Fin 3 → Nat :=
  let v4153 : Index := Scalar.indexCast v4152
  let c0_2874 : Index := 0#32
  let c0_2875 : Index := 0#32
  ![v4153.toNat, 0, 0]

def k0_chk550 (v4152 : BitVec 32) : Prop :=
  (∀ a, (k0_off596 v4152) a + S1x1x128.size a ≤ S100000x1x128.size a)
theorem k0_off596_inb : ∀ (v4152 : BitVec 32) (k0_hw550 : k0_chk550 v4152), ∀ a, (k0_off596 v4152) a + S1x1x128.size a ≤ S100000x1x128.size a := fun v4152 k0_hw550 => k0_hw550

def k0_off597 (k0_t1 : Fin k0_t1_loop.trips) : Fin 2 → Nat :=
  let c0_2878 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c30_i32 : BitVec 32 := 30#32
  let v4159 : BitVec 32 := Scalar.addi v3888 c30_i32
  let v4160 : Index := Scalar.indexCast v4159
  ![0, v4160.toNat]
def k0_off598 (v4161 : BitVec 32) : Fin 3 → Nat :=
  let v4162 : Index := Scalar.indexCast v4161
  let c0_2879 : Index := 0#32
  let c0_2880 : Index := 0#32
  ![v4162.toNat, 0, 0]

def k0_chk551 (v4161 : BitVec 32) : Prop :=
  (∀ a, (k0_off598 v4161) a + S1x1x128.size a ≤ S100000x1x128.size a)
theorem k0_off598_inb : ∀ (v4161 : BitVec 32) (k0_hw551 : k0_chk551 v4161), ∀ a, (k0_off598 v4161) a + S1x1x128.size a ≤ S100000x1x128.size a := fun v4161 k0_hw551 => k0_hw551

def k0_off599 (k0_t1 : Fin k0_t1_loop.trips) : Fin 2 → Nat :=
  let c0_2883 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c31_i32 : BitVec 32 := 31#32
  let v4168 : BitVec 32 := Scalar.addi v3888 c31_i32
  let v4169 : Index := Scalar.indexCast v4168
  ![0, v4169.toNat]
def k0_off600 (v4170 : BitVec 32) : Fin 3 → Nat :=
  let v4171 : Index := Scalar.indexCast v4170
  let c0_2884 : Index := 0#32
  let c0_2885 : Index := 0#32
  ![v4171.toNat, 0, 0]

def k0_chk552 (v4170 : BitVec 32) : Prop :=
  (∀ a, (k0_off600 v4170) a + S1x1x128.size a ≤ S100000x1x128.size a)
theorem k0_off600_inb : ∀ (v4170 : BitVec 32) (k0_hw552 : k0_chk552 v4170), ∀ a, (k0_off600 v4170) a + S1x1x128.size a ≤ S100000x1x128.size a := fun v4170 k0_hw552 => k0_hw552

def k0_off601 (k0_t1 : Fin k0_t1_loop.trips) : Fin 2 → Nat :=
  let c0_2888 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c32_i32 : BitVec 32 := 32#32
  let v4177 : BitVec 32 := Scalar.addi v3888 c32_i32
  let v4178 : Index := Scalar.indexCast v4177
  ![0, v4178.toNat]
def k0_off602 (v4179 : BitVec 32) : Fin 3 → Nat :=
  let v4180 : Index := Scalar.indexCast v4179
  let c0_2889 : Index := 0#32
  let c0_2890 : Index := 0#32
  ![v4180.toNat, 0, 0]

def k0_chk553 (v4179 : BitVec 32) : Prop :=
  (∀ a, (k0_off602 v4179) a + S1x1x128.size a ≤ S100000x1x128.size a)
theorem k0_off602_inb : ∀ (v4179 : BitVec 32) (k0_hw553 : k0_chk553 v4179), ∀ a, (k0_off602 v4179) a + S1x1x128.size a ≤ S100000x1x128.size a := fun v4179 k0_hw553 => k0_hw553

def k0_off603 (k0_t1 : Fin k0_t1_loop.trips) : Fin 2 → Nat :=
  let c0_2893 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c33_i32 : BitVec 32 := 33#32
  let v4186 : BitVec 32 := Scalar.addi v3888 c33_i32
  let v4187 : Index := Scalar.indexCast v4186
  ![0, v4187.toNat]
def k0_off604 (v4188 : BitVec 32) : Fin 3 → Nat :=
  let v4189 : Index := Scalar.indexCast v4188
  let c0_2894 : Index := 0#32
  let c0_2895 : Index := 0#32
  ![v4189.toNat, 0, 0]

def k0_chk554 (v4188 : BitVec 32) : Prop :=
  (∀ a, (k0_off604 v4188) a + S1x1x128.size a ≤ S100000x1x128.size a)
theorem k0_off604_inb : ∀ (v4188 : BitVec 32) (k0_hw554 : k0_chk554 v4188), ∀ a, (k0_off604 v4188) a + S1x1x128.size a ≤ S100000x1x128.size a := fun v4188 k0_hw554 => k0_hw554

def k0_off605 (k0_t1 : Fin k0_t1_loop.trips) : Fin 2 → Nat :=
  let c0_2898 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c34_i32 : BitVec 32 := 34#32
  let v4195 : BitVec 32 := Scalar.addi v3888 c34_i32
  let v4196 : Index := Scalar.indexCast v4195
  ![0, v4196.toNat]
def k0_off606 (v4197 : BitVec 32) : Fin 3 → Nat :=
  let v4198 : Index := Scalar.indexCast v4197
  let c0_2899 : Index := 0#32
  let c0_2900 : Index := 0#32
  ![v4198.toNat, 0, 0]

def k0_chk555 (v4197 : BitVec 32) : Prop :=
  (∀ a, (k0_off606 v4197) a + S1x1x128.size a ≤ S100000x1x128.size a)
theorem k0_off606_inb : ∀ (v4197 : BitVec 32) (k0_hw555 : k0_chk555 v4197), ∀ a, (k0_off606 v4197) a + S1x1x128.size a ≤ S100000x1x128.size a := fun v4197 k0_hw555 => k0_hw555

def k0_off607 (k0_t1 : Fin k0_t1_loop.trips) : Fin 2 → Nat :=
  let c0_2903 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c35_i32 : BitVec 32 := 35#32
  let v4204 : BitVec 32 := Scalar.addi v3888 c35_i32
  let v4205 : Index := Scalar.indexCast v4204
  ![0, v4205.toNat]
def k0_off608 (v4206 : BitVec 32) : Fin 3 → Nat :=
  let v4207 : Index := Scalar.indexCast v4206
  let c0_2904 : Index := 0#32
  let c0_2905 : Index := 0#32
  ![v4207.toNat, 0, 0]

def k0_chk556 (v4206 : BitVec 32) : Prop :=
  (∀ a, (k0_off608 v4206) a + S1x1x128.size a ≤ S100000x1x128.size a)
theorem k0_off608_inb : ∀ (v4206 : BitVec 32) (k0_hw556 : k0_chk556 v4206), ∀ a, (k0_off608 v4206) a + S1x1x128.size a ≤ S100000x1x128.size a := fun v4206 k0_hw556 => k0_hw556

def k0_off609 (k0_t1 : Fin k0_t1_loop.trips) : Fin 2 → Nat :=
  let c0_2908 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c36_i32 : BitVec 32 := 36#32
  let v4213 : BitVec 32 := Scalar.addi v3888 c36_i32
  let v4214 : Index := Scalar.indexCast v4213
  ![0, v4214.toNat]
def k0_off610 (v4215 : BitVec 32) : Fin 3 → Nat :=
  let v4216 : Index := Scalar.indexCast v4215
  let c0_2909 : Index := 0#32
  let c0_2910 : Index := 0#32
  ![v4216.toNat, 0, 0]

def k0_chk557 (v4215 : BitVec 32) : Prop :=
  (∀ a, (k0_off610 v4215) a + S1x1x128.size a ≤ S100000x1x128.size a)
theorem k0_off610_inb : ∀ (v4215 : BitVec 32) (k0_hw557 : k0_chk557 v4215), ∀ a, (k0_off610 v4215) a + S1x1x128.size a ≤ S100000x1x128.size a := fun v4215 k0_hw557 => k0_hw557

def k0_off611 (k0_t1 : Fin k0_t1_loop.trips) : Fin 2 → Nat :=
  let c0_2913 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c37_i32 : BitVec 32 := 37#32
  let v4222 : BitVec 32 := Scalar.addi v3888 c37_i32
  let v4223 : Index := Scalar.indexCast v4222
  ![0, v4223.toNat]
def k0_off612 (v4224 : BitVec 32) : Fin 3 → Nat :=
  let v4225 : Index := Scalar.indexCast v4224
  let c0_2914 : Index := 0#32
  let c0_2915 : Index := 0#32
  ![v4225.toNat, 0, 0]

def k0_chk558 (v4224 : BitVec 32) : Prop :=
  (∀ a, (k0_off612 v4224) a + S1x1x128.size a ≤ S100000x1x128.size a)
theorem k0_off612_inb : ∀ (v4224 : BitVec 32) (k0_hw558 : k0_chk558 v4224), ∀ a, (k0_off612 v4224) a + S1x1x128.size a ≤ S100000x1x128.size a := fun v4224 k0_hw558 => k0_hw558

def k0_off613 (k0_t1 : Fin k0_t1_loop.trips) : Fin 2 → Nat :=
  let c0_2918 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c38_i32 : BitVec 32 := 38#32
  let v4231 : BitVec 32 := Scalar.addi v3888 c38_i32
  let v4232 : Index := Scalar.indexCast v4231
  ![0, v4232.toNat]
def k0_off614 (v4233 : BitVec 32) : Fin 3 → Nat :=
  let v4234 : Index := Scalar.indexCast v4233
  let c0_2919 : Index := 0#32
  let c0_2920 : Index := 0#32
  ![v4234.toNat, 0, 0]

def k0_chk559 (v4233 : BitVec 32) : Prop :=
  (∀ a, (k0_off614 v4233) a + S1x1x128.size a ≤ S100000x1x128.size a)
theorem k0_off614_inb : ∀ (v4233 : BitVec 32) (k0_hw559 : k0_chk559 v4233), ∀ a, (k0_off614 v4233) a + S1x1x128.size a ≤ S100000x1x128.size a := fun v4233 k0_hw559 => k0_hw559

def k0_off615 (k0_t1 : Fin k0_t1_loop.trips) : Fin 2 → Nat :=
  let c0_2923 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c39_i32 : BitVec 32 := 39#32
  let v4240 : BitVec 32 := Scalar.addi v3888 c39_i32
  let v4241 : Index := Scalar.indexCast v4240
  ![0, v4241.toNat]
def k0_off616 (v4242 : BitVec 32) : Fin 3 → Nat :=
  let v4243 : Index := Scalar.indexCast v4242
  let c0_2924 : Index := 0#32
  let c0_2925 : Index := 0#32
  ![v4243.toNat, 0, 0]

def k0_chk560 (v4242 : BitVec 32) : Prop :=
  (∀ a, (k0_off616 v4242) a + S1x1x128.size a ≤ S100000x1x128.size a)
theorem k0_off616_inb : ∀ (v4242 : BitVec 32) (k0_hw560 : k0_chk560 v4242), ∀ a, (k0_off616 v4242) a + S1x1x128.size a ≤ S100000x1x128.size a := fun v4242 k0_hw560 => k0_hw560

def k0_off617 (k0_t1 : Fin k0_t1_loop.trips) : Fin 2 → Nat :=
  let c0_2928 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c40_i32 : BitVec 32 := 40#32
  let v4249 : BitVec 32 := Scalar.addi v3888 c40_i32
  let v4250 : Index := Scalar.indexCast v4249
  ![0, v4250.toNat]
def k0_off618 (v4251 : BitVec 32) : Fin 3 → Nat :=
  let v4252 : Index := Scalar.indexCast v4251
  let c0_2929 : Index := 0#32
  let c0_2930 : Index := 0#32
  ![v4252.toNat, 0, 0]

def k0_chk561 (v4251 : BitVec 32) : Prop :=
  (∀ a, (k0_off618 v4251) a + S1x1x128.size a ≤ S100000x1x128.size a)
theorem k0_off618_inb : ∀ (v4251 : BitVec 32) (k0_hw561 : k0_chk561 v4251), ∀ a, (k0_off618 v4251) a + S1x1x128.size a ≤ S100000x1x128.size a := fun v4251 k0_hw561 => k0_hw561

def k0_off619 (k0_t1 : Fin k0_t1_loop.trips) : Fin 2 → Nat :=
  let c0_2933 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c41_i32 : BitVec 32 := 41#32
  let v4258 : BitVec 32 := Scalar.addi v3888 c41_i32
  let v4259 : Index := Scalar.indexCast v4258
  ![0, v4259.toNat]
def k0_off620 (v4260 : BitVec 32) : Fin 3 → Nat :=
  let v4261 : Index := Scalar.indexCast v4260
  let c0_2934 : Index := 0#32
  let c0_2935 : Index := 0#32
  ![v4261.toNat, 0, 0]

def k0_chk562 (v4260 : BitVec 32) : Prop :=
  (∀ a, (k0_off620 v4260) a + S1x1x128.size a ≤ S100000x1x128.size a)
theorem k0_off620_inb : ∀ (v4260 : BitVec 32) (k0_hw562 : k0_chk562 v4260), ∀ a, (k0_off620 v4260) a + S1x1x128.size a ≤ S100000x1x128.size a := fun v4260 k0_hw562 => k0_hw562

def k0_off621 (k0_t1 : Fin k0_t1_loop.trips) : Fin 2 → Nat :=
  let c0_2938 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c42_i32 : BitVec 32 := 42#32
  let v4267 : BitVec 32 := Scalar.addi v3888 c42_i32
  let v4268 : Index := Scalar.indexCast v4267
  ![0, v4268.toNat]
def k0_off622 (v4269 : BitVec 32) : Fin 3 → Nat :=
  let v4270 : Index := Scalar.indexCast v4269
  let c0_2939 : Index := 0#32
  let c0_2940 : Index := 0#32
  ![v4270.toNat, 0, 0]

def k0_chk563 (v4269 : BitVec 32) : Prop :=
  (∀ a, (k0_off622 v4269) a + S1x1x128.size a ≤ S100000x1x128.size a)
theorem k0_off622_inb : ∀ (v4269 : BitVec 32) (k0_hw563 : k0_chk563 v4269), ∀ a, (k0_off622 v4269) a + S1x1x128.size a ≤ S100000x1x128.size a := fun v4269 k0_hw563 => k0_hw563

def k0_off623 (k0_t1 : Fin k0_t1_loop.trips) : Fin 2 → Nat :=
  let c0_2943 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c43_i32 : BitVec 32 := 43#32
  let v4276 : BitVec 32 := Scalar.addi v3888 c43_i32
  let v4277 : Index := Scalar.indexCast v4276
  ![0, v4277.toNat]
def k0_off624 (v4278 : BitVec 32) : Fin 3 → Nat :=
  let v4279 : Index := Scalar.indexCast v4278
  let c0_2944 : Index := 0#32
  let c0_2945 : Index := 0#32
  ![v4279.toNat, 0, 0]

def k0_chk564 (v4278 : BitVec 32) : Prop :=
  (∀ a, (k0_off624 v4278) a + S1x1x128.size a ≤ S100000x1x128.size a)
theorem k0_off624_inb : ∀ (v4278 : BitVec 32) (k0_hw564 : k0_chk564 v4278), ∀ a, (k0_off624 v4278) a + S1x1x128.size a ≤ S100000x1x128.size a := fun v4278 k0_hw564 => k0_hw564

def k0_off625 (k0_t1 : Fin k0_t1_loop.trips) : Fin 2 → Nat :=
  let c0_2948 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c44_i32 : BitVec 32 := 44#32
  let v4285 : BitVec 32 := Scalar.addi v3888 c44_i32
  let v4286 : Index := Scalar.indexCast v4285
  ![0, v4286.toNat]
def k0_off626 (v4287 : BitVec 32) : Fin 3 → Nat :=
  let v4288 : Index := Scalar.indexCast v4287
  let c0_2949 : Index := 0#32
  let c0_2950 : Index := 0#32
  ![v4288.toNat, 0, 0]

def k0_chk565 (v4287 : BitVec 32) : Prop :=
  (∀ a, (k0_off626 v4287) a + S1x1x128.size a ≤ S100000x1x128.size a)
theorem k0_off626_inb : ∀ (v4287 : BitVec 32) (k0_hw565 : k0_chk565 v4287), ∀ a, (k0_off626 v4287) a + S1x1x128.size a ≤ S100000x1x128.size a := fun v4287 k0_hw565 => k0_hw565

def k0_off627 (k0_t1 : Fin k0_t1_loop.trips) : Fin 2 → Nat :=
  let c0_2953 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c45_i32 : BitVec 32 := 45#32
  let v4294 : BitVec 32 := Scalar.addi v3888 c45_i32
  let v4295 : Index := Scalar.indexCast v4294
  ![0, v4295.toNat]
def k0_off628 (v4296 : BitVec 32) : Fin 3 → Nat :=
  let v4297 : Index := Scalar.indexCast v4296
  let c0_2954 : Index := 0#32
  let c0_2955 : Index := 0#32
  ![v4297.toNat, 0, 0]

def k0_chk566 (v4296 : BitVec 32) : Prop :=
  (∀ a, (k0_off628 v4296) a + S1x1x128.size a ≤ S100000x1x128.size a)
theorem k0_off628_inb : ∀ (v4296 : BitVec 32) (k0_hw566 : k0_chk566 v4296), ∀ a, (k0_off628 v4296) a + S1x1x128.size a ≤ S100000x1x128.size a := fun v4296 k0_hw566 => k0_hw566

def k0_off629 (k0_t1 : Fin k0_t1_loop.trips) : Fin 2 → Nat :=
  let c0_2958 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c46_i32 : BitVec 32 := 46#32
  let v4303 : BitVec 32 := Scalar.addi v3888 c46_i32
  let v4304 : Index := Scalar.indexCast v4303
  ![0, v4304.toNat]
def k0_off630 (v4305 : BitVec 32) : Fin 3 → Nat :=
  let v4306 : Index := Scalar.indexCast v4305
  let c0_2959 : Index := 0#32
  let c0_2960 : Index := 0#32
  ![v4306.toNat, 0, 0]

def k0_chk567 (v4305 : BitVec 32) : Prop :=
  (∀ a, (k0_off630 v4305) a + S1x1x128.size a ≤ S100000x1x128.size a)
theorem k0_off630_inb : ∀ (v4305 : BitVec 32) (k0_hw567 : k0_chk567 v4305), ∀ a, (k0_off630 v4305) a + S1x1x128.size a ≤ S100000x1x128.size a := fun v4305 k0_hw567 => k0_hw567

def k0_off631 (k0_t1 : Fin k0_t1_loop.trips) : Fin 2 → Nat :=
  let c0_2963 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c47_i32 : BitVec 32 := 47#32
  let v4312 : BitVec 32 := Scalar.addi v3888 c47_i32
  let v4313 : Index := Scalar.indexCast v4312
  ![0, v4313.toNat]
def k0_off632 (v4314 : BitVec 32) : Fin 3 → Nat :=
  let v4315 : Index := Scalar.indexCast v4314
  let c0_2964 : Index := 0#32
  let c0_2965 : Index := 0#32
  ![v4315.toNat, 0, 0]

def k0_chk568 (v4314 : BitVec 32) : Prop :=
  (∀ a, (k0_off632 v4314) a + S1x1x128.size a ≤ S100000x1x128.size a)
theorem k0_off632_inb : ∀ (v4314 : BitVec 32) (k0_hw568 : k0_chk568 v4314), ∀ a, (k0_off632 v4314) a + S1x1x128.size a ≤ S100000x1x128.size a := fun v4314 k0_hw568 => k0_hw568

def k0_off633 (k0_t1 : Fin k0_t1_loop.trips) : Fin 2 → Nat :=
  let c0_2968 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c48_i32 : BitVec 32 := 48#32
  let v4321 : BitVec 32 := Scalar.addi v3888 c48_i32
  let v4322 : Index := Scalar.indexCast v4321
  ![0, v4322.toNat]
def k0_off634 (v4323 : BitVec 32) : Fin 3 → Nat :=
  let v4324 : Index := Scalar.indexCast v4323
  let c0_2969 : Index := 0#32
  let c0_2970 : Index := 0#32
  ![v4324.toNat, 0, 0]

def k0_chk569 (v4323 : BitVec 32) : Prop :=
  (∀ a, (k0_off634 v4323) a + S1x1x128.size a ≤ S100000x1x128.size a)
theorem k0_off634_inb : ∀ (v4323 : BitVec 32) (k0_hw569 : k0_chk569 v4323), ∀ a, (k0_off634 v4323) a + S1x1x128.size a ≤ S100000x1x128.size a := fun v4323 k0_hw569 => k0_hw569

def k0_off635 (k0_t1 : Fin k0_t1_loop.trips) : Fin 2 → Nat :=
  let c0_2973 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c49_i32 : BitVec 32 := 49#32
  let v4330 : BitVec 32 := Scalar.addi v3888 c49_i32
  let v4331 : Index := Scalar.indexCast v4330
  ![0, v4331.toNat]
def k0_off636 (v4332 : BitVec 32) : Fin 3 → Nat :=
  let v4333 : Index := Scalar.indexCast v4332
  let c0_2974 : Index := 0#32
  let c0_2975 : Index := 0#32
  ![v4333.toNat, 0, 0]

def k0_chk570 (v4332 : BitVec 32) : Prop :=
  (∀ a, (k0_off636 v4332) a + S1x1x128.size a ≤ S100000x1x128.size a)
theorem k0_off636_inb : ∀ (v4332 : BitVec 32) (k0_hw570 : k0_chk570 v4332), ∀ a, (k0_off636 v4332) a + S1x1x128.size a ≤ S100000x1x128.size a := fun v4332 k0_hw570 => k0_hw570

def k0_off637 (k0_t1 : Fin k0_t1_loop.trips) : Fin 2 → Nat :=
  let c0_2978 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c50_i32 : BitVec 32 := 50#32
  let v4339 : BitVec 32 := Scalar.addi v3888 c50_i32
  let v4340 : Index := Scalar.indexCast v4339
  ![0, v4340.toNat]
def k0_off638 (v4341 : BitVec 32) : Fin 3 → Nat :=
  let v4342 : Index := Scalar.indexCast v4341
  let c0_2979 : Index := 0#32
  let c0_2980 : Index := 0#32
  ![v4342.toNat, 0, 0]

def k0_chk571 (v4341 : BitVec 32) : Prop :=
  (∀ a, (k0_off638 v4341) a + S1x1x128.size a ≤ S100000x1x128.size a)
theorem k0_off638_inb : ∀ (v4341 : BitVec 32) (k0_hw571 : k0_chk571 v4341), ∀ a, (k0_off638 v4341) a + S1x1x128.size a ≤ S100000x1x128.size a := fun v4341 k0_hw571 => k0_hw571

def k0_off639 (k0_t1 : Fin k0_t1_loop.trips) : Fin 2 → Nat :=
  let c0_2983 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c51_i32 : BitVec 32 := 51#32
  let v4348 : BitVec 32 := Scalar.addi v3888 c51_i32
  let v4349 : Index := Scalar.indexCast v4348
  ![0, v4349.toNat]
def k0_off640 (v4350 : BitVec 32) : Fin 3 → Nat :=
  let v4351 : Index := Scalar.indexCast v4350
  let c0_2984 : Index := 0#32
  let c0_2985 : Index := 0#32
  ![v4351.toNat, 0, 0]

def k0_chk572 (v4350 : BitVec 32) : Prop :=
  (∀ a, (k0_off640 v4350) a + S1x1x128.size a ≤ S100000x1x128.size a)
theorem k0_off640_inb : ∀ (v4350 : BitVec 32) (k0_hw572 : k0_chk572 v4350), ∀ a, (k0_off640 v4350) a + S1x1x128.size a ≤ S100000x1x128.size a := fun v4350 k0_hw572 => k0_hw572

def k0_off641 (k0_t1 : Fin k0_t1_loop.trips) : Fin 2 → Nat :=
  let c0_2988 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c52_i32 : BitVec 32 := 52#32
  let v4357 : BitVec 32 := Scalar.addi v3888 c52_i32
  let v4358 : Index := Scalar.indexCast v4357
  ![0, v4358.toNat]
def k0_off642 (v4359 : BitVec 32) : Fin 3 → Nat :=
  let v4360 : Index := Scalar.indexCast v4359
  let c0_2989 : Index := 0#32
  let c0_2990 : Index := 0#32
  ![v4360.toNat, 0, 0]

def k0_chk573 (v4359 : BitVec 32) : Prop :=
  (∀ a, (k0_off642 v4359) a + S1x1x128.size a ≤ S100000x1x128.size a)
theorem k0_off642_inb : ∀ (v4359 : BitVec 32) (k0_hw573 : k0_chk573 v4359), ∀ a, (k0_off642 v4359) a + S1x1x128.size a ≤ S100000x1x128.size a := fun v4359 k0_hw573 => k0_hw573

def k0_off643 (k0_t1 : Fin k0_t1_loop.trips) : Fin 2 → Nat :=
  let c0_2993 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c53_i32 : BitVec 32 := 53#32
  let v4366 : BitVec 32 := Scalar.addi v3888 c53_i32
  let v4367 : Index := Scalar.indexCast v4366
  ![0, v4367.toNat]
def k0_off644 (v4368 : BitVec 32) : Fin 3 → Nat :=
  let v4369 : Index := Scalar.indexCast v4368
  let c0_2994 : Index := 0#32
  let c0_2995 : Index := 0#32
  ![v4369.toNat, 0, 0]

def k0_chk574 (v4368 : BitVec 32) : Prop :=
  (∀ a, (k0_off644 v4368) a + S1x1x128.size a ≤ S100000x1x128.size a)
theorem k0_off644_inb : ∀ (v4368 : BitVec 32) (k0_hw574 : k0_chk574 v4368), ∀ a, (k0_off644 v4368) a + S1x1x128.size a ≤ S100000x1x128.size a := fun v4368 k0_hw574 => k0_hw574

def k0_off645 (k0_t1 : Fin k0_t1_loop.trips) : Fin 2 → Nat :=
  let c0_2998 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c54_i32 : BitVec 32 := 54#32
  let v4375 : BitVec 32 := Scalar.addi v3888 c54_i32
  let v4376 : Index := Scalar.indexCast v4375
  ![0, v4376.toNat]
def k0_off646 (v4377 : BitVec 32) : Fin 3 → Nat :=
  let v4378 : Index := Scalar.indexCast v4377
  let c0_2999 : Index := 0#32
  let c0_3000 : Index := 0#32
  ![v4378.toNat, 0, 0]

def k0_chk575 (v4377 : BitVec 32) : Prop :=
  (∀ a, (k0_off646 v4377) a + S1x1x128.size a ≤ S100000x1x128.size a)
theorem k0_off646_inb : ∀ (v4377 : BitVec 32) (k0_hw575 : k0_chk575 v4377), ∀ a, (k0_off646 v4377) a + S1x1x128.size a ≤ S100000x1x128.size a := fun v4377 k0_hw575 => k0_hw575

def k0_off647 (k0_t1 : Fin k0_t1_loop.trips) : Fin 2 → Nat :=
  let c0_3003 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c55_i32 : BitVec 32 := 55#32
  let v4384 : BitVec 32 := Scalar.addi v3888 c55_i32
  let v4385 : Index := Scalar.indexCast v4384
  ![0, v4385.toNat]
def k0_off648 (v4386 : BitVec 32) : Fin 3 → Nat :=
  let v4387 : Index := Scalar.indexCast v4386
  let c0_3004 : Index := 0#32
  let c0_3005 : Index := 0#32
  ![v4387.toNat, 0, 0]

def k0_chk576 (v4386 : BitVec 32) : Prop :=
  (∀ a, (k0_off648 v4386) a + S1x1x128.size a ≤ S100000x1x128.size a)
theorem k0_off648_inb : ∀ (v4386 : BitVec 32) (k0_hw576 : k0_chk576 v4386), ∀ a, (k0_off648 v4386) a + S1x1x128.size a ≤ S100000x1x128.size a := fun v4386 k0_hw576 => k0_hw576

def k0_off649 (k0_t1 : Fin k0_t1_loop.trips) : Fin 2 → Nat :=
  let c0_3008 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c56_i32 : BitVec 32 := 56#32
  let v4393 : BitVec 32 := Scalar.addi v3888 c56_i32
  let v4394 : Index := Scalar.indexCast v4393
  ![0, v4394.toNat]
def k0_off650 (v4395 : BitVec 32) : Fin 3 → Nat :=
  let v4396 : Index := Scalar.indexCast v4395
  let c0_3009 : Index := 0#32
  let c0_3010 : Index := 0#32
  ![v4396.toNat, 0, 0]

def k0_chk577 (v4395 : BitVec 32) : Prop :=
  (∀ a, (k0_off650 v4395) a + S1x1x128.size a ≤ S100000x1x128.size a)
theorem k0_off650_inb : ∀ (v4395 : BitVec 32) (k0_hw577 : k0_chk577 v4395), ∀ a, (k0_off650 v4395) a + S1x1x128.size a ≤ S100000x1x128.size a := fun v4395 k0_hw577 => k0_hw577

def k0_off651 (k0_t1 : Fin k0_t1_loop.trips) : Fin 2 → Nat :=
  let c0_3013 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c57_i32 : BitVec 32 := 57#32
  let v4402 : BitVec 32 := Scalar.addi v3888 c57_i32
  let v4403 : Index := Scalar.indexCast v4402
  ![0, v4403.toNat]
def k0_off652 (v4404 : BitVec 32) : Fin 3 → Nat :=
  let v4405 : Index := Scalar.indexCast v4404
  let c0_3014 : Index := 0#32
  let c0_3015 : Index := 0#32
  ![v4405.toNat, 0, 0]

def k0_chk578 (v4404 : BitVec 32) : Prop :=
  (∀ a, (k0_off652 v4404) a + S1x1x128.size a ≤ S100000x1x128.size a)
theorem k0_off652_inb : ∀ (v4404 : BitVec 32) (k0_hw578 : k0_chk578 v4404), ∀ a, (k0_off652 v4404) a + S1x1x128.size a ≤ S100000x1x128.size a := fun v4404 k0_hw578 => k0_hw578

def k0_off653 (k0_t1 : Fin k0_t1_loop.trips) : Fin 2 → Nat :=
  let c0_3018 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c58_i32 : BitVec 32 := 58#32
  let v4411 : BitVec 32 := Scalar.addi v3888 c58_i32
  let v4412 : Index := Scalar.indexCast v4411
  ![0, v4412.toNat]
def k0_off654 (v4413 : BitVec 32) : Fin 3 → Nat :=
  let v4414 : Index := Scalar.indexCast v4413
  let c0_3019 : Index := 0#32
  let c0_3020 : Index := 0#32
  ![v4414.toNat, 0, 0]

def k0_chk579 (v4413 : BitVec 32) : Prop :=
  (∀ a, (k0_off654 v4413) a + S1x1x128.size a ≤ S100000x1x128.size a)
theorem k0_off654_inb : ∀ (v4413 : BitVec 32) (k0_hw579 : k0_chk579 v4413), ∀ a, (k0_off654 v4413) a + S1x1x128.size a ≤ S100000x1x128.size a := fun v4413 k0_hw579 => k0_hw579

def k0_off655 (k0_t1 : Fin k0_t1_loop.trips) : Fin 2 → Nat :=
  let c0_3023 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c59_i32 : BitVec 32 := 59#32
  let v4420 : BitVec 32 := Scalar.addi v3888 c59_i32
  let v4421 : Index := Scalar.indexCast v4420
  ![0, v4421.toNat]
def k0_off656 (v4422 : BitVec 32) : Fin 3 → Nat :=
  let v4423 : Index := Scalar.indexCast v4422
  let c0_3024 : Index := 0#32
  let c0_3025 : Index := 0#32
  ![v4423.toNat, 0, 0]

def k0_chk580 (v4422 : BitVec 32) : Prop :=
  (∀ a, (k0_off656 v4422) a + S1x1x128.size a ≤ S100000x1x128.size a)
theorem k0_off656_inb : ∀ (v4422 : BitVec 32) (k0_hw580 : k0_chk580 v4422), ∀ a, (k0_off656 v4422) a + S1x1x128.size a ≤ S100000x1x128.size a := fun v4422 k0_hw580 => k0_hw580

def k0_off657 (k0_t1 : Fin k0_t1_loop.trips) : Fin 2 → Nat :=
  let c0_3028 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c60_i32 : BitVec 32 := 60#32
  let v4429 : BitVec 32 := Scalar.addi v3888 c60_i32
  let v4430 : Index := Scalar.indexCast v4429
  ![0, v4430.toNat]
def k0_off658 (v4431 : BitVec 32) : Fin 3 → Nat :=
  let v4432 : Index := Scalar.indexCast v4431
  let c0_3029 : Index := 0#32
  let c0_3030 : Index := 0#32
  ![v4432.toNat, 0, 0]

def k0_chk581 (v4431 : BitVec 32) : Prop :=
  (∀ a, (k0_off658 v4431) a + S1x1x128.size a ≤ S100000x1x128.size a)
theorem k0_off658_inb : ∀ (v4431 : BitVec 32) (k0_hw581 : k0_chk581 v4431), ∀ a, (k0_off658 v4431) a + S1x1x128.size a ≤ S100000x1x128.size a := fun v4431 k0_hw581 => k0_hw581

def k0_off659 (k0_t1 : Fin k0_t1_loop.trips) : Fin 2 → Nat :=
  let c0_3033 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c61_i32 : BitVec 32 := 61#32
  let v4438 : BitVec 32 := Scalar.addi v3888 c61_i32
  let v4439 : Index := Scalar.indexCast v4438
  ![0, v4439.toNat]
def k0_off660 (v4440 : BitVec 32) : Fin 3 → Nat :=
  let v4441 : Index := Scalar.indexCast v4440
  let c0_3034 : Index := 0#32
  let c0_3035 : Index := 0#32
  ![v4441.toNat, 0, 0]

def k0_chk582 (v4440 : BitVec 32) : Prop :=
  (∀ a, (k0_off660 v4440) a + S1x1x128.size a ≤ S100000x1x128.size a)
theorem k0_off660_inb : ∀ (v4440 : BitVec 32) (k0_hw582 : k0_chk582 v4440), ∀ a, (k0_off660 v4440) a + S1x1x128.size a ≤ S100000x1x128.size a := fun v4440 k0_hw582 => k0_hw582

def k0_off661 (k0_t1 : Fin k0_t1_loop.trips) : Fin 2 → Nat :=
  let c0_3038 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c62_i32 : BitVec 32 := 62#32
  let v4447 : BitVec 32 := Scalar.addi v3888 c62_i32
  let v4448 : Index := Scalar.indexCast v4447
  ![0, v4448.toNat]
def k0_off662 (v4449 : BitVec 32) : Fin 3 → Nat :=
  let v4450 : Index := Scalar.indexCast v4449
  let c0_3039 : Index := 0#32
  let c0_3040 : Index := 0#32
  ![v4450.toNat, 0, 0]

def k0_chk583 (v4449 : BitVec 32) : Prop :=
  (∀ a, (k0_off662 v4449) a + S1x1x128.size a ≤ S100000x1x128.size a)
theorem k0_off662_inb : ∀ (v4449 : BitVec 32) (k0_hw583 : k0_chk583 v4449), ∀ a, (k0_off662 v4449) a + S1x1x128.size a ≤ S100000x1x128.size a := fun v4449 k0_hw583 => k0_hw583

def k0_off663 (k0_t1 : Fin k0_t1_loop.trips) : Fin 2 → Nat :=
  let c0_3043 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c63_i32 : BitVec 32 := 63#32
  let v4456 : BitVec 32 := Scalar.addi v3888 c63_i32
  let v4457 : Index := Scalar.indexCast v4456
  ![0, v4457.toNat]
def k0_off664 (v4458 : BitVec 32) : Fin 3 → Nat :=
  let v4459 : Index := Scalar.indexCast v4458
  let c0_3044 : Index := 0#32
  let c0_3045 : Index := 0#32
  ![v4459.toNat, 0, 0]

def k0_chk584 (v4458 : BitVec 32) : Prop :=
  (∀ a, (k0_off664 v4458) a + S1x1x128.size a ≤ S100000x1x128.size a)
theorem k0_off664_inb : ∀ (v4458 : BitVec 32) (k0_hw584 : k0_chk584 v4458), ∀ a, (k0_off664 v4458) a + S1x1x128.size a ≤ S100000x1x128.size a := fun v4458 k0_hw584 => k0_hw584

def k0_off665 (k0_t1 : Fin k0_t1_loop.trips) : Fin 2 → Nat :=
  let c0_3048 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c64_i32 : BitVec 32 := 64#32
  let v4465 : BitVec 32 := Scalar.addi v3888 c64_i32
  let v4466 : Index := Scalar.indexCast v4465
  ![0, v4466.toNat]
def k0_off666 (v4467 : BitVec 32) : Fin 3 → Nat :=
  let v4468 : Index := Scalar.indexCast v4467
  let c0_3049 : Index := 0#32
  let c0_3050 : Index := 0#32
  ![v4468.toNat, 0, 0]

def k0_chk585 (v4467 : BitVec 32) : Prop :=
  (∀ a, (k0_off666 v4467) a + S1x1x128.size a ≤ S100000x1x128.size a)
theorem k0_off666_inb : ∀ (v4467 : BitVec 32) (k0_hw585 : k0_chk585 v4467), ∀ a, (k0_off666 v4467) a + S1x1x128.size a ≤ S100000x1x128.size a := fun v4467 k0_hw585 => k0_hw585

def k0_off667 (k0_t1 : Fin k0_t1_loop.trips) : Fin 2 → Nat :=
  let c0_3053 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c65_i32 : BitVec 32 := 65#32
  let v4474 : BitVec 32 := Scalar.addi v3888 c65_i32
  let v4475 : Index := Scalar.indexCast v4474
  ![0, v4475.toNat]
def k0_off668 (v4476 : BitVec 32) : Fin 3 → Nat :=
  let v4477 : Index := Scalar.indexCast v4476
  let c0_3054 : Index := 0#32
  let c0_3055 : Index := 0#32
  ![v4477.toNat, 0, 0]

def k0_chk586 (v4476 : BitVec 32) : Prop :=
  (∀ a, (k0_off668 v4476) a + S1x1x128.size a ≤ S100000x1x128.size a)
theorem k0_off668_inb : ∀ (v4476 : BitVec 32) (k0_hw586 : k0_chk586 v4476), ∀ a, (k0_off668 v4476) a + S1x1x128.size a ≤ S100000x1x128.size a := fun v4476 k0_hw586 => k0_hw586

def k0_off669 (k0_t1 : Fin k0_t1_loop.trips) : Fin 2 → Nat :=
  let c0_3058 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c66_i32 : BitVec 32 := 66#32
  let v4483 : BitVec 32 := Scalar.addi v3888 c66_i32
  let v4484 : Index := Scalar.indexCast v4483
  ![0, v4484.toNat]
def k0_off670 (v4485 : BitVec 32) : Fin 3 → Nat :=
  let v4486 : Index := Scalar.indexCast v4485
  let c0_3059 : Index := 0#32
  let c0_3060 : Index := 0#32
  ![v4486.toNat, 0, 0]

def k0_chk587 (v4485 : BitVec 32) : Prop :=
  (∀ a, (k0_off670 v4485) a + S1x1x128.size a ≤ S100000x1x128.size a)
theorem k0_off670_inb : ∀ (v4485 : BitVec 32) (k0_hw587 : k0_chk587 v4485), ∀ a, (k0_off670 v4485) a + S1x1x128.size a ≤ S100000x1x128.size a := fun v4485 k0_hw587 => k0_hw587

def k0_off671 (k0_t1 : Fin k0_t1_loop.trips) : Fin 2 → Nat :=
  let c0_3063 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c67_i32 : BitVec 32 := 67#32
  let v4492 : BitVec 32 := Scalar.addi v3888 c67_i32
  let v4493 : Index := Scalar.indexCast v4492
  ![0, v4493.toNat]
def k0_off672 (v4494 : BitVec 32) : Fin 3 → Nat :=
  let v4495 : Index := Scalar.indexCast v4494
  let c0_3064 : Index := 0#32
  let c0_3065 : Index := 0#32
  ![v4495.toNat, 0, 0]

def k0_chk588 (v4494 : BitVec 32) : Prop :=
  (∀ a, (k0_off672 v4494) a + S1x1x128.size a ≤ S100000x1x128.size a)
theorem k0_off672_inb : ∀ (v4494 : BitVec 32) (k0_hw588 : k0_chk588 v4494), ∀ a, (k0_off672 v4494) a + S1x1x128.size a ≤ S100000x1x128.size a := fun v4494 k0_hw588 => k0_hw588

def k0_off673 (k0_t1 : Fin k0_t1_loop.trips) : Fin 2 → Nat :=
  let c0_3068 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c68_i32 : BitVec 32 := 68#32
  let v4501 : BitVec 32 := Scalar.addi v3888 c68_i32
  let v4502 : Index := Scalar.indexCast v4501
  ![0, v4502.toNat]
def k0_off674 (v4503 : BitVec 32) : Fin 3 → Nat :=
  let v4504 : Index := Scalar.indexCast v4503
  let c0_3069 : Index := 0#32
  let c0_3070 : Index := 0#32
  ![v4504.toNat, 0, 0]

def k0_chk589 (v4503 : BitVec 32) : Prop :=
  (∀ a, (k0_off674 v4503) a + S1x1x128.size a ≤ S100000x1x128.size a)
theorem k0_off674_inb : ∀ (v4503 : BitVec 32) (k0_hw589 : k0_chk589 v4503), ∀ a, (k0_off674 v4503) a + S1x1x128.size a ≤ S100000x1x128.size a := fun v4503 k0_hw589 => k0_hw589

def k0_off675 (k0_t1 : Fin k0_t1_loop.trips) : Fin 2 → Nat :=
  let c0_3073 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c69_i32 : BitVec 32 := 69#32
  let v4510 : BitVec 32 := Scalar.addi v3888 c69_i32
  let v4511 : Index := Scalar.indexCast v4510
  ![0, v4511.toNat]
def k0_off676 (v4512 : BitVec 32) : Fin 3 → Nat :=
  let v4513 : Index := Scalar.indexCast v4512
  let c0_3074 : Index := 0#32
  let c0_3075 : Index := 0#32
  ![v4513.toNat, 0, 0]

def k0_chk590 (v4512 : BitVec 32) : Prop :=
  (∀ a, (k0_off676 v4512) a + S1x1x128.size a ≤ S100000x1x128.size a)
theorem k0_off676_inb : ∀ (v4512 : BitVec 32) (k0_hw590 : k0_chk590 v4512), ∀ a, (k0_off676 v4512) a + S1x1x128.size a ≤ S100000x1x128.size a := fun v4512 k0_hw590 => k0_hw590

def k0_off677 (k0_t1 : Fin k0_t1_loop.trips) : Fin 2 → Nat :=
  let c0_3078 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c70_i32 : BitVec 32 := 70#32
  let v4519 : BitVec 32 := Scalar.addi v3888 c70_i32
  let v4520 : Index := Scalar.indexCast v4519
  ![0, v4520.toNat]
def k0_off678 (v4521 : BitVec 32) : Fin 3 → Nat :=
  let v4522 : Index := Scalar.indexCast v4521
  let c0_3079 : Index := 0#32
  let c0_3080 : Index := 0#32
  ![v4522.toNat, 0, 0]

def k0_chk591 (v4521 : BitVec 32) : Prop :=
  (∀ a, (k0_off678 v4521) a + S1x1x128.size a ≤ S100000x1x128.size a)
theorem k0_off678_inb : ∀ (v4521 : BitVec 32) (k0_hw591 : k0_chk591 v4521), ∀ a, (k0_off678 v4521) a + S1x1x128.size a ≤ S100000x1x128.size a := fun v4521 k0_hw591 => k0_hw591

def k0_off679 (k0_t1 : Fin k0_t1_loop.trips) : Fin 2 → Nat :=
  let c0_3083 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c71_i32 : BitVec 32 := 71#32
  let v4528 : BitVec 32 := Scalar.addi v3888 c71_i32
  let v4529 : Index := Scalar.indexCast v4528
  ![0, v4529.toNat]
def k0_off680 (v4530 : BitVec 32) : Fin 3 → Nat :=
  let v4531 : Index := Scalar.indexCast v4530
  let c0_3084 : Index := 0#32
  let c0_3085 : Index := 0#32
  ![v4531.toNat, 0, 0]

def k0_chk592 (v4530 : BitVec 32) : Prop :=
  (∀ a, (k0_off680 v4530) a + S1x1x128.size a ≤ S100000x1x128.size a)
theorem k0_off680_inb : ∀ (v4530 : BitVec 32) (k0_hw592 : k0_chk592 v4530), ∀ a, (k0_off680 v4530) a + S1x1x128.size a ≤ S100000x1x128.size a := fun v4530 k0_hw592 => k0_hw592

def k0_off681 (k0_t1 : Fin k0_t1_loop.trips) : Fin 2 → Nat :=
  let c0_3088 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c72_i32 : BitVec 32 := 72#32
  let v4537 : BitVec 32 := Scalar.addi v3888 c72_i32
  let v4538 : Index := Scalar.indexCast v4537
  ![0, v4538.toNat]
def k0_off682 (v4539 : BitVec 32) : Fin 3 → Nat :=
  let v4540 : Index := Scalar.indexCast v4539
  let c0_3089 : Index := 0#32
  let c0_3090 : Index := 0#32
  ![v4540.toNat, 0, 0]

def k0_chk593 (v4539 : BitVec 32) : Prop :=
  (∀ a, (k0_off682 v4539) a + S1x1x128.size a ≤ S100000x1x128.size a)
theorem k0_off682_inb : ∀ (v4539 : BitVec 32) (k0_hw593 : k0_chk593 v4539), ∀ a, (k0_off682 v4539) a + S1x1x128.size a ≤ S100000x1x128.size a := fun v4539 k0_hw593 => k0_hw593

def k0_off683 (k0_t1 : Fin k0_t1_loop.trips) : Fin 2 → Nat :=
  let c0_3093 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c73_i32 : BitVec 32 := 73#32
  let v4546 : BitVec 32 := Scalar.addi v3888 c73_i32
  let v4547 : Index := Scalar.indexCast v4546
  ![0, v4547.toNat]
def k0_off684 (v4548 : BitVec 32) : Fin 3 → Nat :=
  let v4549 : Index := Scalar.indexCast v4548
  let c0_3094 : Index := 0#32
  let c0_3095 : Index := 0#32
  ![v4549.toNat, 0, 0]

def k0_chk594 (v4548 : BitVec 32) : Prop :=
  (∀ a, (k0_off684 v4548) a + S1x1x128.size a ≤ S100000x1x128.size a)
theorem k0_off684_inb : ∀ (v4548 : BitVec 32) (k0_hw594 : k0_chk594 v4548), ∀ a, (k0_off684 v4548) a + S1x1x128.size a ≤ S100000x1x128.size a := fun v4548 k0_hw594 => k0_hw594

def k0_off685 (k0_t1 : Fin k0_t1_loop.trips) : Fin 2 → Nat :=
  let c0_3098 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c74_i32 : BitVec 32 := 74#32
  let v4555 : BitVec 32 := Scalar.addi v3888 c74_i32
  let v4556 : Index := Scalar.indexCast v4555
  ![0, v4556.toNat]
def k0_off686 (v4557 : BitVec 32) : Fin 3 → Nat :=
  let v4558 : Index := Scalar.indexCast v4557
  let c0_3099 : Index := 0#32
  let c0_3100 : Index := 0#32
  ![v4558.toNat, 0, 0]

def k0_chk595 (v4557 : BitVec 32) : Prop :=
  (∀ a, (k0_off686 v4557) a + S1x1x128.size a ≤ S100000x1x128.size a)
theorem k0_off686_inb : ∀ (v4557 : BitVec 32) (k0_hw595 : k0_chk595 v4557), ∀ a, (k0_off686 v4557) a + S1x1x128.size a ≤ S100000x1x128.size a := fun v4557 k0_hw595 => k0_hw595

def k0_off687 (k0_t1 : Fin k0_t1_loop.trips) : Fin 2 → Nat :=
  let c0_3103 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c75_i32 : BitVec 32 := 75#32
  let v4564 : BitVec 32 := Scalar.addi v3888 c75_i32
  let v4565 : Index := Scalar.indexCast v4564
  ![0, v4565.toNat]
def k0_off688 (v4566 : BitVec 32) : Fin 3 → Nat :=
  let v4567 : Index := Scalar.indexCast v4566
  let c0_3104 : Index := 0#32
  let c0_3105 : Index := 0#32
  ![v4567.toNat, 0, 0]

def k0_chk596 (v4566 : BitVec 32) : Prop :=
  (∀ a, (k0_off688 v4566) a + S1x1x128.size a ≤ S100000x1x128.size a)
theorem k0_off688_inb : ∀ (v4566 : BitVec 32) (k0_hw596 : k0_chk596 v4566), ∀ a, (k0_off688 v4566) a + S1x1x128.size a ≤ S100000x1x128.size a := fun v4566 k0_hw596 => k0_hw596

def k0_off689 (k0_t1 : Fin k0_t1_loop.trips) : Fin 2 → Nat :=
  let c0_3108 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c76_i32 : BitVec 32 := 76#32
  let v4573 : BitVec 32 := Scalar.addi v3888 c76_i32
  let v4574 : Index := Scalar.indexCast v4573
  ![0, v4574.toNat]
def k0_off690 (v4575 : BitVec 32) : Fin 3 → Nat :=
  let v4576 : Index := Scalar.indexCast v4575
  let c0_3109 : Index := 0#32
  let c0_3110 : Index := 0#32
  ![v4576.toNat, 0, 0]

def k0_chk597 (v4575 : BitVec 32) : Prop :=
  (∀ a, (k0_off690 v4575) a + S1x1x128.size a ≤ S100000x1x128.size a)
theorem k0_off690_inb : ∀ (v4575 : BitVec 32) (k0_hw597 : k0_chk597 v4575), ∀ a, (k0_off690 v4575) a + S1x1x128.size a ≤ S100000x1x128.size a := fun v4575 k0_hw597 => k0_hw597

def k0_off691 (k0_t1 : Fin k0_t1_loop.trips) : Fin 2 → Nat :=
  let c0_3113 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c77_i32 : BitVec 32 := 77#32
  let v4582 : BitVec 32 := Scalar.addi v3888 c77_i32
  let v4583 : Index := Scalar.indexCast v4582
  ![0, v4583.toNat]
def k0_off692 (v4584 : BitVec 32) : Fin 3 → Nat :=
  let v4585 : Index := Scalar.indexCast v4584
  let c0_3114 : Index := 0#32
  let c0_3115 : Index := 0#32
  ![v4585.toNat, 0, 0]

def k0_chk598 (v4584 : BitVec 32) : Prop :=
  (∀ a, (k0_off692 v4584) a + S1x1x128.size a ≤ S100000x1x128.size a)
theorem k0_off692_inb : ∀ (v4584 : BitVec 32) (k0_hw598 : k0_chk598 v4584), ∀ a, (k0_off692 v4584) a + S1x1x128.size a ≤ S100000x1x128.size a := fun v4584 k0_hw598 => k0_hw598

def k0_off693 (k0_t1 : Fin k0_t1_loop.trips) : Fin 2 → Nat :=
  let c0_3118 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c78_i32 : BitVec 32 := 78#32
  let v4591 : BitVec 32 := Scalar.addi v3888 c78_i32
  let v4592 : Index := Scalar.indexCast v4591
  ![0, v4592.toNat]
def k0_off694 (v4593 : BitVec 32) : Fin 3 → Nat :=
  let v4594 : Index := Scalar.indexCast v4593
  let c0_3119 : Index := 0#32
  let c0_3120 : Index := 0#32
  ![v4594.toNat, 0, 0]

def k0_chk599 (v4593 : BitVec 32) : Prop :=
  (∀ a, (k0_off694 v4593) a + S1x1x128.size a ≤ S100000x1x128.size a)
theorem k0_off694_inb : ∀ (v4593 : BitVec 32) (k0_hw599 : k0_chk599 v4593), ∀ a, (k0_off694 v4593) a + S1x1x128.size a ≤ S100000x1x128.size a := fun v4593 k0_hw599 => k0_hw599

def k0_off695 (k0_t1 : Fin k0_t1_loop.trips) : Fin 2 → Nat :=
  let c0_3123 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c79_i32 : BitVec 32 := 79#32
  let v4600 : BitVec 32 := Scalar.addi v3888 c79_i32
  let v4601 : Index := Scalar.indexCast v4600
  ![0, v4601.toNat]
def k0_off696 (v4602 : BitVec 32) : Fin 3 → Nat :=
  let v4603 : Index := Scalar.indexCast v4602
  let c0_3124 : Index := 0#32
  let c0_3125 : Index := 0#32
  ![v4603.toNat, 0, 0]

def k0_chk600 (v4602 : BitVec 32) : Prop :=
  (∀ a, (k0_off696 v4602) a + S1x1x128.size a ≤ S100000x1x128.size a)
theorem k0_off696_inb : ∀ (v4602 : BitVec 32) (k0_hw600 : k0_chk600 v4602), ∀ a, (k0_off696 v4602) a + S1x1x128.size a ≤ S100000x1x128.size a := fun v4602 k0_hw600 => k0_hw600

def k0_off697 (k0_t1 : Fin k0_t1_loop.trips) : Fin 2 → Nat :=
  let c0_3128 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c80_i32 : BitVec 32 := 80#32
  let v4609 : BitVec 32 := Scalar.addi v3888 c80_i32
  let v4610 : Index := Scalar.indexCast v4609
  ![0, v4610.toNat]
def k0_off698 (v4611 : BitVec 32) : Fin 3 → Nat :=
  let v4612 : Index := Scalar.indexCast v4611
  let c0_3129 : Index := 0#32
  let c0_3130 : Index := 0#32
  ![v4612.toNat, 0, 0]

def k0_chk601 (v4611 : BitVec 32) : Prop :=
  (∀ a, (k0_off698 v4611) a + S1x1x128.size a ≤ S100000x1x128.size a)
theorem k0_off698_inb : ∀ (v4611 : BitVec 32) (k0_hw601 : k0_chk601 v4611), ∀ a, (k0_off698 v4611) a + S1x1x128.size a ≤ S100000x1x128.size a := fun v4611 k0_hw601 => k0_hw601

def k0_off699 (k0_t1 : Fin k0_t1_loop.trips) : Fin 2 → Nat :=
  let c0_3133 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c81_i32 : BitVec 32 := 81#32
  let v4618 : BitVec 32 := Scalar.addi v3888 c81_i32
  let v4619 : Index := Scalar.indexCast v4618
  ![0, v4619.toNat]
def k0_off700 (v4620 : BitVec 32) : Fin 3 → Nat :=
  let v4621 : Index := Scalar.indexCast v4620
  let c0_3134 : Index := 0#32
  let c0_3135 : Index := 0#32
  ![v4621.toNat, 0, 0]

def k0_chk602 (v4620 : BitVec 32) : Prop :=
  (∀ a, (k0_off700 v4620) a + S1x1x128.size a ≤ S100000x1x128.size a)
theorem k0_off700_inb : ∀ (v4620 : BitVec 32) (k0_hw602 : k0_chk602 v4620), ∀ a, (k0_off700 v4620) a + S1x1x128.size a ≤ S100000x1x128.size a := fun v4620 k0_hw602 => k0_hw602

def k0_off701 (k0_t1 : Fin k0_t1_loop.trips) : Fin 2 → Nat :=
  let c0_3138 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c82_i32 : BitVec 32 := 82#32
  let v4627 : BitVec 32 := Scalar.addi v3888 c82_i32
  let v4628 : Index := Scalar.indexCast v4627
  ![0, v4628.toNat]
def k0_off702 (v4629 : BitVec 32) : Fin 3 → Nat :=
  let v4630 : Index := Scalar.indexCast v4629
  let c0_3139 : Index := 0#32
  let c0_3140 : Index := 0#32
  ![v4630.toNat, 0, 0]

def k0_chk603 (v4629 : BitVec 32) : Prop :=
  (∀ a, (k0_off702 v4629) a + S1x1x128.size a ≤ S100000x1x128.size a)
theorem k0_off702_inb : ∀ (v4629 : BitVec 32) (k0_hw603 : k0_chk603 v4629), ∀ a, (k0_off702 v4629) a + S1x1x128.size a ≤ S100000x1x128.size a := fun v4629 k0_hw603 => k0_hw603

def k0_off703 (k0_t1 : Fin k0_t1_loop.trips) : Fin 2 → Nat :=
  let c0_3143 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c83_i32 : BitVec 32 := 83#32
  let v4636 : BitVec 32 := Scalar.addi v3888 c83_i32
  let v4637 : Index := Scalar.indexCast v4636
  ![0, v4637.toNat]
def k0_off704 (v4638 : BitVec 32) : Fin 3 → Nat :=
  let v4639 : Index := Scalar.indexCast v4638
  let c0_3144 : Index := 0#32
  let c0_3145 : Index := 0#32
  ![v4639.toNat, 0, 0]

def k0_chk604 (v4638 : BitVec 32) : Prop :=
  (∀ a, (k0_off704 v4638) a + S1x1x128.size a ≤ S100000x1x128.size a)
theorem k0_off704_inb : ∀ (v4638 : BitVec 32) (k0_hw604 : k0_chk604 v4638), ∀ a, (k0_off704 v4638) a + S1x1x128.size a ≤ S100000x1x128.size a := fun v4638 k0_hw604 => k0_hw604

def k0_off705 (k0_t1 : Fin k0_t1_loop.trips) : Fin 2 → Nat :=
  let c0_3148 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c84_i32 : BitVec 32 := 84#32
  let v4645 : BitVec 32 := Scalar.addi v3888 c84_i32
  let v4646 : Index := Scalar.indexCast v4645
  ![0, v4646.toNat]
def k0_off706 (v4647 : BitVec 32) : Fin 3 → Nat :=
  let v4648 : Index := Scalar.indexCast v4647
  let c0_3149 : Index := 0#32
  let c0_3150 : Index := 0#32
  ![v4648.toNat, 0, 0]

def k0_chk605 (v4647 : BitVec 32) : Prop :=
  (∀ a, (k0_off706 v4647) a + S1x1x128.size a ≤ S100000x1x128.size a)
theorem k0_off706_inb : ∀ (v4647 : BitVec 32) (k0_hw605 : k0_chk605 v4647), ∀ a, (k0_off706 v4647) a + S1x1x128.size a ≤ S100000x1x128.size a := fun v4647 k0_hw605 => k0_hw605

def k0_off707 (k0_t1 : Fin k0_t1_loop.trips) : Fin 2 → Nat :=
  let c0_3153 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c85_i32 : BitVec 32 := 85#32
  let v4654 : BitVec 32 := Scalar.addi v3888 c85_i32
  let v4655 : Index := Scalar.indexCast v4654
  ![0, v4655.toNat]
def k0_off708 (v4656 : BitVec 32) : Fin 3 → Nat :=
  let v4657 : Index := Scalar.indexCast v4656
  let c0_3154 : Index := 0#32
  let c0_3155 : Index := 0#32
  ![v4657.toNat, 0, 0]

def k0_chk606 (v4656 : BitVec 32) : Prop :=
  (∀ a, (k0_off708 v4656) a + S1x1x128.size a ≤ S100000x1x128.size a)
theorem k0_off708_inb : ∀ (v4656 : BitVec 32) (k0_hw606 : k0_chk606 v4656), ∀ a, (k0_off708 v4656) a + S1x1x128.size a ≤ S100000x1x128.size a := fun v4656 k0_hw606 => k0_hw606

def k0_off709 (k0_t1 : Fin k0_t1_loop.trips) : Fin 2 → Nat :=
  let c0_3158 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c86_i32 : BitVec 32 := 86#32
  let v4663 : BitVec 32 := Scalar.addi v3888 c86_i32
  let v4664 : Index := Scalar.indexCast v4663
  ![0, v4664.toNat]
def k0_off710 (v4665 : BitVec 32) : Fin 3 → Nat :=
  let v4666 : Index := Scalar.indexCast v4665
  let c0_3159 : Index := 0#32
  let c0_3160 : Index := 0#32
  ![v4666.toNat, 0, 0]

def k0_chk607 (v4665 : BitVec 32) : Prop :=
  (∀ a, (k0_off710 v4665) a + S1x1x128.size a ≤ S100000x1x128.size a)
theorem k0_off710_inb : ∀ (v4665 : BitVec 32) (k0_hw607 : k0_chk607 v4665), ∀ a, (k0_off710 v4665) a + S1x1x128.size a ≤ S100000x1x128.size a := fun v4665 k0_hw607 => k0_hw607

def k0_off711 (k0_t1 : Fin k0_t1_loop.trips) : Fin 2 → Nat :=
  let c0_3163 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c87_i32 : BitVec 32 := 87#32
  let v4672 : BitVec 32 := Scalar.addi v3888 c87_i32
  let v4673 : Index := Scalar.indexCast v4672
  ![0, v4673.toNat]
def k0_off712 (v4674 : BitVec 32) : Fin 3 → Nat :=
  let v4675 : Index := Scalar.indexCast v4674
  let c0_3164 : Index := 0#32
  let c0_3165 : Index := 0#32
  ![v4675.toNat, 0, 0]

def k0_chk608 (v4674 : BitVec 32) : Prop :=
  (∀ a, (k0_off712 v4674) a + S1x1x128.size a ≤ S100000x1x128.size a)
theorem k0_off712_inb : ∀ (v4674 : BitVec 32) (k0_hw608 : k0_chk608 v4674), ∀ a, (k0_off712 v4674) a + S1x1x128.size a ≤ S100000x1x128.size a := fun v4674 k0_hw608 => k0_hw608

def k0_off713 (k0_t1 : Fin k0_t1_loop.trips) : Fin 2 → Nat :=
  let c0_3168 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c88_i32 : BitVec 32 := 88#32
  let v4681 : BitVec 32 := Scalar.addi v3888 c88_i32
  let v4682 : Index := Scalar.indexCast v4681
  ![0, v4682.toNat]
def k0_off714 (v4683 : BitVec 32) : Fin 3 → Nat :=
  let v4684 : Index := Scalar.indexCast v4683
  let c0_3169 : Index := 0#32
  let c0_3170 : Index := 0#32
  ![v4684.toNat, 0, 0]

def k0_chk609 (v4683 : BitVec 32) : Prop :=
  (∀ a, (k0_off714 v4683) a + S1x1x128.size a ≤ S100000x1x128.size a)
theorem k0_off714_inb : ∀ (v4683 : BitVec 32) (k0_hw609 : k0_chk609 v4683), ∀ a, (k0_off714 v4683) a + S1x1x128.size a ≤ S100000x1x128.size a := fun v4683 k0_hw609 => k0_hw609

def k0_off715 (k0_t1 : Fin k0_t1_loop.trips) : Fin 2 → Nat :=
  let c0_3173 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c89_i32 : BitVec 32 := 89#32
  let v4690 : BitVec 32 := Scalar.addi v3888 c89_i32
  let v4691 : Index := Scalar.indexCast v4690
  ![0, v4691.toNat]
def k0_off716 (v4692 : BitVec 32) : Fin 3 → Nat :=
  let v4693 : Index := Scalar.indexCast v4692
  let c0_3174 : Index := 0#32
  let c0_3175 : Index := 0#32
  ![v4693.toNat, 0, 0]

def k0_chk610 (v4692 : BitVec 32) : Prop :=
  (∀ a, (k0_off716 v4692) a + S1x1x128.size a ≤ S100000x1x128.size a)
theorem k0_off716_inb : ∀ (v4692 : BitVec 32) (k0_hw610 : k0_chk610 v4692), ∀ a, (k0_off716 v4692) a + S1x1x128.size a ≤ S100000x1x128.size a := fun v4692 k0_hw610 => k0_hw610

def k0_off717 (k0_t1 : Fin k0_t1_loop.trips) : Fin 2 → Nat :=
  let c0_3178 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c90_i32 : BitVec 32 := 90#32
  let v4699 : BitVec 32 := Scalar.addi v3888 c90_i32
  let v4700 : Index := Scalar.indexCast v4699
  ![0, v4700.toNat]
def k0_off718 (v4701 : BitVec 32) : Fin 3 → Nat :=
  let v4702 : Index := Scalar.indexCast v4701
  let c0_3179 : Index := 0#32
  let c0_3180 : Index := 0#32
  ![v4702.toNat, 0, 0]

def k0_chk611 (v4701 : BitVec 32) : Prop :=
  (∀ a, (k0_off718 v4701) a + S1x1x128.size a ≤ S100000x1x128.size a)
theorem k0_off718_inb : ∀ (v4701 : BitVec 32) (k0_hw611 : k0_chk611 v4701), ∀ a, (k0_off718 v4701) a + S1x1x128.size a ≤ S100000x1x128.size a := fun v4701 k0_hw611 => k0_hw611

def k0_off719 (k0_t1 : Fin k0_t1_loop.trips) : Fin 2 → Nat :=
  let c0_3183 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c91_i32 : BitVec 32 := 91#32
  let v4708 : BitVec 32 := Scalar.addi v3888 c91_i32
  let v4709 : Index := Scalar.indexCast v4708
  ![0, v4709.toNat]
def k0_off720 (v4710 : BitVec 32) : Fin 3 → Nat :=
  let v4711 : Index := Scalar.indexCast v4710
  let c0_3184 : Index := 0#32
  let c0_3185 : Index := 0#32
  ![v4711.toNat, 0, 0]

def k0_chk612 (v4710 : BitVec 32) : Prop :=
  (∀ a, (k0_off720 v4710) a + S1x1x128.size a ≤ S100000x1x128.size a)
theorem k0_off720_inb : ∀ (v4710 : BitVec 32) (k0_hw612 : k0_chk612 v4710), ∀ a, (k0_off720 v4710) a + S1x1x128.size a ≤ S100000x1x128.size a := fun v4710 k0_hw612 => k0_hw612

def k0_off721 (k0_t1 : Fin k0_t1_loop.trips) : Fin 2 → Nat :=
  let c0_3188 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c92_i32 : BitVec 32 := 92#32
  let v4717 : BitVec 32 := Scalar.addi v3888 c92_i32
  let v4718 : Index := Scalar.indexCast v4717
  ![0, v4718.toNat]
def k0_off722 (v4719 : BitVec 32) : Fin 3 → Nat :=
  let v4720 : Index := Scalar.indexCast v4719
  let c0_3189 : Index := 0#32
  let c0_3190 : Index := 0#32
  ![v4720.toNat, 0, 0]

def k0_chk613 (v4719 : BitVec 32) : Prop :=
  (∀ a, (k0_off722 v4719) a + S1x1x128.size a ≤ S100000x1x128.size a)
theorem k0_off722_inb : ∀ (v4719 : BitVec 32) (k0_hw613 : k0_chk613 v4719), ∀ a, (k0_off722 v4719) a + S1x1x128.size a ≤ S100000x1x128.size a := fun v4719 k0_hw613 => k0_hw613

def k0_off723 (k0_t1 : Fin k0_t1_loop.trips) : Fin 2 → Nat :=
  let c0_3193 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c93_i32 : BitVec 32 := 93#32
  let v4726 : BitVec 32 := Scalar.addi v3888 c93_i32
  let v4727 : Index := Scalar.indexCast v4726
  ![0, v4727.toNat]
def k0_off724 (v4728 : BitVec 32) : Fin 3 → Nat :=
  let v4729 : Index := Scalar.indexCast v4728
  let c0_3194 : Index := 0#32
  let c0_3195 : Index := 0#32
  ![v4729.toNat, 0, 0]

def k0_chk614 (v4728 : BitVec 32) : Prop :=
  (∀ a, (k0_off724 v4728) a + S1x1x128.size a ≤ S100000x1x128.size a)
theorem k0_off724_inb : ∀ (v4728 : BitVec 32) (k0_hw614 : k0_chk614 v4728), ∀ a, (k0_off724 v4728) a + S1x1x128.size a ≤ S100000x1x128.size a := fun v4728 k0_hw614 => k0_hw614

def k0_off725 (k0_t1 : Fin k0_t1_loop.trips) : Fin 2 → Nat :=
  let c0_3198 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c94_i32 : BitVec 32 := 94#32
  let v4735 : BitVec 32 := Scalar.addi v3888 c94_i32
  let v4736 : Index := Scalar.indexCast v4735
  ![0, v4736.toNat]
def k0_off726 (v4737 : BitVec 32) : Fin 3 → Nat :=
  let v4738 : Index := Scalar.indexCast v4737
  let c0_3199 : Index := 0#32
  let c0_3200 : Index := 0#32
  ![v4738.toNat, 0, 0]

def k0_chk615 (v4737 : BitVec 32) : Prop :=
  (∀ a, (k0_off726 v4737) a + S1x1x128.size a ≤ S100000x1x128.size a)
theorem k0_off726_inb : ∀ (v4737 : BitVec 32) (k0_hw615 : k0_chk615 v4737), ∀ a, (k0_off726 v4737) a + S1x1x128.size a ≤ S100000x1x128.size a := fun v4737 k0_hw615 => k0_hw615

def k0_off727 (k0_t1 : Fin k0_t1_loop.trips) : Fin 2 → Nat :=
  let c0_3203 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c95_i32 : BitVec 32 := 95#32
  let v4744 : BitVec 32 := Scalar.addi v3888 c95_i32
  let v4745 : Index := Scalar.indexCast v4744
  ![0, v4745.toNat]
def k0_off728 (v4746 : BitVec 32) : Fin 3 → Nat :=
  let v4747 : Index := Scalar.indexCast v4746
  let c0_3204 : Index := 0#32
  let c0_3205 : Index := 0#32
  ![v4747.toNat, 0, 0]

def k0_chk616 (v4746 : BitVec 32) : Prop :=
  (∀ a, (k0_off728 v4746) a + S1x1x128.size a ≤ S100000x1x128.size a)
theorem k0_off728_inb : ∀ (v4746 : BitVec 32) (k0_hw616 : k0_chk616 v4746), ∀ a, (k0_off728 v4746) a + S1x1x128.size a ≤ S100000x1x128.size a := fun v4746 k0_hw616 => k0_hw616

def k0_off729 (k0_t1 : Fin k0_t1_loop.trips) : Fin 2 → Nat :=
  let c0_3208 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c96_i32 : BitVec 32 := 96#32
  let v4753 : BitVec 32 := Scalar.addi v3888 c96_i32
  let v4754 : Index := Scalar.indexCast v4753
  ![0, v4754.toNat]
def k0_off730 (v4755 : BitVec 32) : Fin 3 → Nat :=
  let v4756 : Index := Scalar.indexCast v4755
  let c0_3209 : Index := 0#32
  let c0_3210 : Index := 0#32
  ![v4756.toNat, 0, 0]

def k0_chk617 (v4755 : BitVec 32) : Prop :=
  (∀ a, (k0_off730 v4755) a + S1x1x128.size a ≤ S100000x1x128.size a)
theorem k0_off730_inb : ∀ (v4755 : BitVec 32) (k0_hw617 : k0_chk617 v4755), ∀ a, (k0_off730 v4755) a + S1x1x128.size a ≤ S100000x1x128.size a := fun v4755 k0_hw617 => k0_hw617

def k0_off731 (k0_t1 : Fin k0_t1_loop.trips) : Fin 2 → Nat :=
  let c0_3213 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c97_i32 : BitVec 32 := 97#32
  let v4762 : BitVec 32 := Scalar.addi v3888 c97_i32
  let v4763 : Index := Scalar.indexCast v4762
  ![0, v4763.toNat]
def k0_off732 (v4764 : BitVec 32) : Fin 3 → Nat :=
  let v4765 : Index := Scalar.indexCast v4764
  let c0_3214 : Index := 0#32
  let c0_3215 : Index := 0#32
  ![v4765.toNat, 0, 0]

def k0_chk618 (v4764 : BitVec 32) : Prop :=
  (∀ a, (k0_off732 v4764) a + S1x1x128.size a ≤ S100000x1x128.size a)
theorem k0_off732_inb : ∀ (v4764 : BitVec 32) (k0_hw618 : k0_chk618 v4764), ∀ a, (k0_off732 v4764) a + S1x1x128.size a ≤ S100000x1x128.size a := fun v4764 k0_hw618 => k0_hw618

def k0_off733 (k0_t1 : Fin k0_t1_loop.trips) : Fin 2 → Nat :=
  let c0_3218 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c98_i32 : BitVec 32 := 98#32
  let v4771 : BitVec 32 := Scalar.addi v3888 c98_i32
  let v4772 : Index := Scalar.indexCast v4771
  ![0, v4772.toNat]
def k0_off734 (v4773 : BitVec 32) : Fin 3 → Nat :=
  let v4774 : Index := Scalar.indexCast v4773
  let c0_3219 : Index := 0#32
  let c0_3220 : Index := 0#32
  ![v4774.toNat, 0, 0]

def k0_chk619 (v4773 : BitVec 32) : Prop :=
  (∀ a, (k0_off734 v4773) a + S1x1x128.size a ≤ S100000x1x128.size a)
theorem k0_off734_inb : ∀ (v4773 : BitVec 32) (k0_hw619 : k0_chk619 v4773), ∀ a, (k0_off734 v4773) a + S1x1x128.size a ≤ S100000x1x128.size a := fun v4773 k0_hw619 => k0_hw619

def k0_off735 (k0_t1 : Fin k0_t1_loop.trips) : Fin 2 → Nat :=
  let c0_3223 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c99_i32 : BitVec 32 := 99#32
  let v4780 : BitVec 32 := Scalar.addi v3888 c99_i32
  let v4781 : Index := Scalar.indexCast v4780
  ![0, v4781.toNat]
def k0_off736 (v4782 : BitVec 32) : Fin 3 → Nat :=
  let v4783 : Index := Scalar.indexCast v4782
  let c0_3224 : Index := 0#32
  let c0_3225 : Index := 0#32
  ![v4783.toNat, 0, 0]

def k0_chk620 (v4782 : BitVec 32) : Prop :=
  (∀ a, (k0_off736 v4782) a + S1x1x128.size a ≤ S100000x1x128.size a)
theorem k0_off736_inb : ∀ (v4782 : BitVec 32) (k0_hw620 : k0_chk620 v4782), ∀ a, (k0_off736 v4782) a + S1x1x128.size a ≤ S100000x1x128.size a := fun v4782 k0_hw620 => k0_hw620

def k0_off737 (k0_t1 : Fin k0_t1_loop.trips) : Fin 2 → Nat :=
  let c0_3228 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c100_i32 : BitVec 32 := 100#32
  let v4789 : BitVec 32 := Scalar.addi v3888 c100_i32
  let v4790 : Index := Scalar.indexCast v4789
  ![0, v4790.toNat]
def k0_off738 (v4791 : BitVec 32) : Fin 3 → Nat :=
  let v4792 : Index := Scalar.indexCast v4791
  let c0_3229 : Index := 0#32
  let c0_3230 : Index := 0#32
  ![v4792.toNat, 0, 0]

def k0_chk621 (v4791 : BitVec 32) : Prop :=
  (∀ a, (k0_off738 v4791) a + S1x1x128.size a ≤ S100000x1x128.size a)
theorem k0_off738_inb : ∀ (v4791 : BitVec 32) (k0_hw621 : k0_chk621 v4791), ∀ a, (k0_off738 v4791) a + S1x1x128.size a ≤ S100000x1x128.size a := fun v4791 k0_hw621 => k0_hw621

def k0_off739 (k0_t1 : Fin k0_t1_loop.trips) : Fin 2 → Nat :=
  let c0_3233 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c101_i32 : BitVec 32 := 101#32
  let v4798 : BitVec 32 := Scalar.addi v3888 c101_i32
  let v4799 : Index := Scalar.indexCast v4798
  ![0, v4799.toNat]
def k0_off740 (v4800 : BitVec 32) : Fin 3 → Nat :=
  let v4801 : Index := Scalar.indexCast v4800
  let c0_3234 : Index := 0#32
  let c0_3235 : Index := 0#32
  ![v4801.toNat, 0, 0]

def k0_chk622 (v4800 : BitVec 32) : Prop :=
  (∀ a, (k0_off740 v4800) a + S1x1x128.size a ≤ S100000x1x128.size a)
theorem k0_off740_inb : ∀ (v4800 : BitVec 32) (k0_hw622 : k0_chk622 v4800), ∀ a, (k0_off740 v4800) a + S1x1x128.size a ≤ S100000x1x128.size a := fun v4800 k0_hw622 => k0_hw622

def k0_off741 (k0_t1 : Fin k0_t1_loop.trips) : Fin 2 → Nat :=
  let c0_3238 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c102_i32 : BitVec 32 := 102#32
  let v4807 : BitVec 32 := Scalar.addi v3888 c102_i32
  let v4808 : Index := Scalar.indexCast v4807
  ![0, v4808.toNat]
def k0_off742 (v4809 : BitVec 32) : Fin 3 → Nat :=
  let v4810 : Index := Scalar.indexCast v4809
  let c0_3239 : Index := 0#32
  let c0_3240 : Index := 0#32
  ![v4810.toNat, 0, 0]

def k0_chk623 (v4809 : BitVec 32) : Prop :=
  (∀ a, (k0_off742 v4809) a + S1x1x128.size a ≤ S100000x1x128.size a)
theorem k0_off742_inb : ∀ (v4809 : BitVec 32) (k0_hw623 : k0_chk623 v4809), ∀ a, (k0_off742 v4809) a + S1x1x128.size a ≤ S100000x1x128.size a := fun v4809 k0_hw623 => k0_hw623

def k0_off743 (k0_t1 : Fin k0_t1_loop.trips) : Fin 2 → Nat :=
  let c0_3243 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c103_i32 : BitVec 32 := 103#32
  let v4816 : BitVec 32 := Scalar.addi v3888 c103_i32
  let v4817 : Index := Scalar.indexCast v4816
  ![0, v4817.toNat]
def k0_off744 (v4818 : BitVec 32) : Fin 3 → Nat :=
  let v4819 : Index := Scalar.indexCast v4818
  let c0_3244 : Index := 0#32
  let c0_3245 : Index := 0#32
  ![v4819.toNat, 0, 0]

def k0_chk624 (v4818 : BitVec 32) : Prop :=
  (∀ a, (k0_off744 v4818) a + S1x1x128.size a ≤ S100000x1x128.size a)
theorem k0_off744_inb : ∀ (v4818 : BitVec 32) (k0_hw624 : k0_chk624 v4818), ∀ a, (k0_off744 v4818) a + S1x1x128.size a ≤ S100000x1x128.size a := fun v4818 k0_hw624 => k0_hw624

def k0_off745 (k0_t1 : Fin k0_t1_loop.trips) : Fin 2 → Nat :=
  let c0_3248 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c104_i32 : BitVec 32 := 104#32
  let v4825 : BitVec 32 := Scalar.addi v3888 c104_i32
  let v4826 : Index := Scalar.indexCast v4825
  ![0, v4826.toNat]
def k0_off746 (v4827 : BitVec 32) : Fin 3 → Nat :=
  let v4828 : Index := Scalar.indexCast v4827
  let c0_3249 : Index := 0#32
  let c0_3250 : Index := 0#32
  ![v4828.toNat, 0, 0]

def k0_chk625 (v4827 : BitVec 32) : Prop :=
  (∀ a, (k0_off746 v4827) a + S1x1x128.size a ≤ S100000x1x128.size a)
theorem k0_off746_inb : ∀ (v4827 : BitVec 32) (k0_hw625 : k0_chk625 v4827), ∀ a, (k0_off746 v4827) a + S1x1x128.size a ≤ S100000x1x128.size a := fun v4827 k0_hw625 => k0_hw625

def k0_off747 (k0_t1 : Fin k0_t1_loop.trips) : Fin 2 → Nat :=
  let c0_3253 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c105_i32 : BitVec 32 := 105#32
  let v4834 : BitVec 32 := Scalar.addi v3888 c105_i32
  let v4835 : Index := Scalar.indexCast v4834
  ![0, v4835.toNat]
def k0_off748 (v4836 : BitVec 32) : Fin 3 → Nat :=
  let v4837 : Index := Scalar.indexCast v4836
  let c0_3254 : Index := 0#32
  let c0_3255 : Index := 0#32
  ![v4837.toNat, 0, 0]

def k0_chk626 (v4836 : BitVec 32) : Prop :=
  (∀ a, (k0_off748 v4836) a + S1x1x128.size a ≤ S100000x1x128.size a)
theorem k0_off748_inb : ∀ (v4836 : BitVec 32) (k0_hw626 : k0_chk626 v4836), ∀ a, (k0_off748 v4836) a + S1x1x128.size a ≤ S100000x1x128.size a := fun v4836 k0_hw626 => k0_hw626

def k0_off749 (k0_t1 : Fin k0_t1_loop.trips) : Fin 2 → Nat :=
  let c0_3258 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c106_i32 : BitVec 32 := 106#32
  let v4843 : BitVec 32 := Scalar.addi v3888 c106_i32
  let v4844 : Index := Scalar.indexCast v4843
  ![0, v4844.toNat]
def k0_off750 (v4845 : BitVec 32) : Fin 3 → Nat :=
  let v4846 : Index := Scalar.indexCast v4845
  let c0_3259 : Index := 0#32
  let c0_3260 : Index := 0#32
  ![v4846.toNat, 0, 0]

def k0_chk627 (v4845 : BitVec 32) : Prop :=
  (∀ a, (k0_off750 v4845) a + S1x1x128.size a ≤ S100000x1x128.size a)
theorem k0_off750_inb : ∀ (v4845 : BitVec 32) (k0_hw627 : k0_chk627 v4845), ∀ a, (k0_off750 v4845) a + S1x1x128.size a ≤ S100000x1x128.size a := fun v4845 k0_hw627 => k0_hw627

def k0_off751 (k0_t1 : Fin k0_t1_loop.trips) : Fin 2 → Nat :=
  let c0_3263 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c107_i32 : BitVec 32 := 107#32
  let v4852 : BitVec 32 := Scalar.addi v3888 c107_i32
  let v4853 : Index := Scalar.indexCast v4852
  ![0, v4853.toNat]
def k0_off752 (v4854 : BitVec 32) : Fin 3 → Nat :=
  let v4855 : Index := Scalar.indexCast v4854
  let c0_3264 : Index := 0#32
  let c0_3265 : Index := 0#32
  ![v4855.toNat, 0, 0]

def k0_chk628 (v4854 : BitVec 32) : Prop :=
  (∀ a, (k0_off752 v4854) a + S1x1x128.size a ≤ S100000x1x128.size a)
theorem k0_off752_inb : ∀ (v4854 : BitVec 32) (k0_hw628 : k0_chk628 v4854), ∀ a, (k0_off752 v4854) a + S1x1x128.size a ≤ S100000x1x128.size a := fun v4854 k0_hw628 => k0_hw628

def k0_off753 (k0_t1 : Fin k0_t1_loop.trips) : Fin 2 → Nat :=
  let c0_3268 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c108_i32 : BitVec 32 := 108#32
  let v4861 : BitVec 32 := Scalar.addi v3888 c108_i32
  let v4862 : Index := Scalar.indexCast v4861
  ![0, v4862.toNat]
def k0_off754 (v4863 : BitVec 32) : Fin 3 → Nat :=
  let v4864 : Index := Scalar.indexCast v4863
  let c0_3269 : Index := 0#32
  let c0_3270 : Index := 0#32
  ![v4864.toNat, 0, 0]

def k0_chk629 (v4863 : BitVec 32) : Prop :=
  (∀ a, (k0_off754 v4863) a + S1x1x128.size a ≤ S100000x1x128.size a)
theorem k0_off754_inb : ∀ (v4863 : BitVec 32) (k0_hw629 : k0_chk629 v4863), ∀ a, (k0_off754 v4863) a + S1x1x128.size a ≤ S100000x1x128.size a := fun v4863 k0_hw629 => k0_hw629

def k0_off755 (k0_t1 : Fin k0_t1_loop.trips) : Fin 2 → Nat :=
  let c0_3273 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c109_i32 : BitVec 32 := 109#32
  let v4870 : BitVec 32 := Scalar.addi v3888 c109_i32
  let v4871 : Index := Scalar.indexCast v4870
  ![0, v4871.toNat]
def k0_off756 (v4872 : BitVec 32) : Fin 3 → Nat :=
  let v4873 : Index := Scalar.indexCast v4872
  let c0_3274 : Index := 0#32
  let c0_3275 : Index := 0#32
  ![v4873.toNat, 0, 0]

def k0_chk630 (v4872 : BitVec 32) : Prop :=
  (∀ a, (k0_off756 v4872) a + S1x1x128.size a ≤ S100000x1x128.size a)
theorem k0_off756_inb : ∀ (v4872 : BitVec 32) (k0_hw630 : k0_chk630 v4872), ∀ a, (k0_off756 v4872) a + S1x1x128.size a ≤ S100000x1x128.size a := fun v4872 k0_hw630 => k0_hw630

def k0_off757 (k0_t1 : Fin k0_t1_loop.trips) : Fin 2 → Nat :=
  let c0_3278 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c110_i32 : BitVec 32 := 110#32
  let v4879 : BitVec 32 := Scalar.addi v3888 c110_i32
  let v4880 : Index := Scalar.indexCast v4879
  ![0, v4880.toNat]
def k0_off758 (v4881 : BitVec 32) : Fin 3 → Nat :=
  let v4882 : Index := Scalar.indexCast v4881
  let c0_3279 : Index := 0#32
  let c0_3280 : Index := 0#32
  ![v4882.toNat, 0, 0]

def k0_chk631 (v4881 : BitVec 32) : Prop :=
  (∀ a, (k0_off758 v4881) a + S1x1x128.size a ≤ S100000x1x128.size a)
theorem k0_off758_inb : ∀ (v4881 : BitVec 32) (k0_hw631 : k0_chk631 v4881), ∀ a, (k0_off758 v4881) a + S1x1x128.size a ≤ S100000x1x128.size a := fun v4881 k0_hw631 => k0_hw631

def k0_off759 (k0_t1 : Fin k0_t1_loop.trips) : Fin 2 → Nat :=
  let c0_3283 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c111_i32 : BitVec 32 := 111#32
  let v4888 : BitVec 32 := Scalar.addi v3888 c111_i32
  let v4889 : Index := Scalar.indexCast v4888
  ![0, v4889.toNat]
def k0_off760 (v4890 : BitVec 32) : Fin 3 → Nat :=
  let v4891 : Index := Scalar.indexCast v4890
  let c0_3284 : Index := 0#32
  let c0_3285 : Index := 0#32
  ![v4891.toNat, 0, 0]

def k0_chk632 (v4890 : BitVec 32) : Prop :=
  (∀ a, (k0_off760 v4890) a + S1x1x128.size a ≤ S100000x1x128.size a)
theorem k0_off760_inb : ∀ (v4890 : BitVec 32) (k0_hw632 : k0_chk632 v4890), ∀ a, (k0_off760 v4890) a + S1x1x128.size a ≤ S100000x1x128.size a := fun v4890 k0_hw632 => k0_hw632

def k0_off761 (k0_t1 : Fin k0_t1_loop.trips) : Fin 2 → Nat :=
  let c0_3288 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c112_i32 : BitVec 32 := 112#32
  let v4897 : BitVec 32 := Scalar.addi v3888 c112_i32
  let v4898 : Index := Scalar.indexCast v4897
  ![0, v4898.toNat]
def k0_off762 (v4899 : BitVec 32) : Fin 3 → Nat :=
  let v4900 : Index := Scalar.indexCast v4899
  let c0_3289 : Index := 0#32
  let c0_3290 : Index := 0#32
  ![v4900.toNat, 0, 0]

def k0_chk633 (v4899 : BitVec 32) : Prop :=
  (∀ a, (k0_off762 v4899) a + S1x1x128.size a ≤ S100000x1x128.size a)
theorem k0_off762_inb : ∀ (v4899 : BitVec 32) (k0_hw633 : k0_chk633 v4899), ∀ a, (k0_off762 v4899) a + S1x1x128.size a ≤ S100000x1x128.size a := fun v4899 k0_hw633 => k0_hw633

def k0_off763 (k0_t1 : Fin k0_t1_loop.trips) : Fin 2 → Nat :=
  let c0_3293 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c113_i32 : BitVec 32 := 113#32
  let v4906 : BitVec 32 := Scalar.addi v3888 c113_i32
  let v4907 : Index := Scalar.indexCast v4906
  ![0, v4907.toNat]
def k0_off764 (v4908 : BitVec 32) : Fin 3 → Nat :=
  let v4909 : Index := Scalar.indexCast v4908
  let c0_3294 : Index := 0#32
  let c0_3295 : Index := 0#32
  ![v4909.toNat, 0, 0]

def k0_chk634 (v4908 : BitVec 32) : Prop :=
  (∀ a, (k0_off764 v4908) a + S1x1x128.size a ≤ S100000x1x128.size a)
theorem k0_off764_inb : ∀ (v4908 : BitVec 32) (k0_hw634 : k0_chk634 v4908), ∀ a, (k0_off764 v4908) a + S1x1x128.size a ≤ S100000x1x128.size a := fun v4908 k0_hw634 => k0_hw634

def k0_off765 (k0_t1 : Fin k0_t1_loop.trips) : Fin 2 → Nat :=
  let c0_3298 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c114_i32 : BitVec 32 := 114#32
  let v4915 : BitVec 32 := Scalar.addi v3888 c114_i32
  let v4916 : Index := Scalar.indexCast v4915
  ![0, v4916.toNat]
def k0_off766 (v4917 : BitVec 32) : Fin 3 → Nat :=
  let v4918 : Index := Scalar.indexCast v4917
  let c0_3299 : Index := 0#32
  let c0_3300 : Index := 0#32
  ![v4918.toNat, 0, 0]

def k0_chk635 (v4917 : BitVec 32) : Prop :=
  (∀ a, (k0_off766 v4917) a + S1x1x128.size a ≤ S100000x1x128.size a)
theorem k0_off766_inb : ∀ (v4917 : BitVec 32) (k0_hw635 : k0_chk635 v4917), ∀ a, (k0_off766 v4917) a + S1x1x128.size a ≤ S100000x1x128.size a := fun v4917 k0_hw635 => k0_hw635

def k0_off767 (k0_t1 : Fin k0_t1_loop.trips) : Fin 2 → Nat :=
  let c0_3303 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c115_i32 : BitVec 32 := 115#32
  let v4924 : BitVec 32 := Scalar.addi v3888 c115_i32
  let v4925 : Index := Scalar.indexCast v4924
  ![0, v4925.toNat]
def k0_off768 (v4926 : BitVec 32) : Fin 3 → Nat :=
  let v4927 : Index := Scalar.indexCast v4926
  let c0_3304 : Index := 0#32
  let c0_3305 : Index := 0#32
  ![v4927.toNat, 0, 0]

def k0_chk636 (v4926 : BitVec 32) : Prop :=
  (∀ a, (k0_off768 v4926) a + S1x1x128.size a ≤ S100000x1x128.size a)
theorem k0_off768_inb : ∀ (v4926 : BitVec 32) (k0_hw636 : k0_chk636 v4926), ∀ a, (k0_off768 v4926) a + S1x1x128.size a ≤ S100000x1x128.size a := fun v4926 k0_hw636 => k0_hw636

def k0_off769 (k0_t1 : Fin k0_t1_loop.trips) : Fin 2 → Nat :=
  let c0_3308 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c116_i32 : BitVec 32 := 116#32
  let v4933 : BitVec 32 := Scalar.addi v3888 c116_i32
  let v4934 : Index := Scalar.indexCast v4933
  ![0, v4934.toNat]
def k0_off770 (v4935 : BitVec 32) : Fin 3 → Nat :=
  let v4936 : Index := Scalar.indexCast v4935
  let c0_3309 : Index := 0#32
  let c0_3310 : Index := 0#32
  ![v4936.toNat, 0, 0]

def k0_chk637 (v4935 : BitVec 32) : Prop :=
  (∀ a, (k0_off770 v4935) a + S1x1x128.size a ≤ S100000x1x128.size a)
theorem k0_off770_inb : ∀ (v4935 : BitVec 32) (k0_hw637 : k0_chk637 v4935), ∀ a, (k0_off770 v4935) a + S1x1x128.size a ≤ S100000x1x128.size a := fun v4935 k0_hw637 => k0_hw637

def k0_off771 (k0_t1 : Fin k0_t1_loop.trips) : Fin 2 → Nat :=
  let c0_3313 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c117_i32 : BitVec 32 := 117#32
  let v4942 : BitVec 32 := Scalar.addi v3888 c117_i32
  let v4943 : Index := Scalar.indexCast v4942
  ![0, v4943.toNat]
def k0_off772 (v4944 : BitVec 32) : Fin 3 → Nat :=
  let v4945 : Index := Scalar.indexCast v4944
  let c0_3314 : Index := 0#32
  let c0_3315 : Index := 0#32
  ![v4945.toNat, 0, 0]

def k0_chk638 (v4944 : BitVec 32) : Prop :=
  (∀ a, (k0_off772 v4944) a + S1x1x128.size a ≤ S100000x1x128.size a)
theorem k0_off772_inb : ∀ (v4944 : BitVec 32) (k0_hw638 : k0_chk638 v4944), ∀ a, (k0_off772 v4944) a + S1x1x128.size a ≤ S100000x1x128.size a := fun v4944 k0_hw638 => k0_hw638

def k0_off773 (k0_t1 : Fin k0_t1_loop.trips) : Fin 2 → Nat :=
  let c0_3318 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c118_i32 : BitVec 32 := 118#32
  let v4951 : BitVec 32 := Scalar.addi v3888 c118_i32
  let v4952 : Index := Scalar.indexCast v4951
  ![0, v4952.toNat]
def k0_off774 (v4953 : BitVec 32) : Fin 3 → Nat :=
  let v4954 : Index := Scalar.indexCast v4953
  let c0_3319 : Index := 0#32
  let c0_3320 : Index := 0#32
  ![v4954.toNat, 0, 0]

def k0_chk639 (v4953 : BitVec 32) : Prop :=
  (∀ a, (k0_off774 v4953) a + S1x1x128.size a ≤ S100000x1x128.size a)
theorem k0_off774_inb : ∀ (v4953 : BitVec 32) (k0_hw639 : k0_chk639 v4953), ∀ a, (k0_off774 v4953) a + S1x1x128.size a ≤ S100000x1x128.size a := fun v4953 k0_hw639 => k0_hw639

def k0_off775 (k0_t1 : Fin k0_t1_loop.trips) : Fin 2 → Nat :=
  let c0_3323 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c119_i32 : BitVec 32 := 119#32
  let v4960 : BitVec 32 := Scalar.addi v3888 c119_i32
  let v4961 : Index := Scalar.indexCast v4960
  ![0, v4961.toNat]
def k0_off776 (v4962 : BitVec 32) : Fin 3 → Nat :=
  let v4963 : Index := Scalar.indexCast v4962
  let c0_3324 : Index := 0#32
  let c0_3325 : Index := 0#32
  ![v4963.toNat, 0, 0]

def k0_chk640 (v4962 : BitVec 32) : Prop :=
  (∀ a, (k0_off776 v4962) a + S1x1x128.size a ≤ S100000x1x128.size a)
theorem k0_off776_inb : ∀ (v4962 : BitVec 32) (k0_hw640 : k0_chk640 v4962), ∀ a, (k0_off776 v4962) a + S1x1x128.size a ≤ S100000x1x128.size a := fun v4962 k0_hw640 => k0_hw640

def k0_off777 (k0_t1 : Fin k0_t1_loop.trips) : Fin 2 → Nat :=
  let c0_3328 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c120_i32 : BitVec 32 := 120#32
  let v4969 : BitVec 32 := Scalar.addi v3888 c120_i32
  let v4970 : Index := Scalar.indexCast v4969
  ![0, v4970.toNat]
def k0_off778 (v4971 : BitVec 32) : Fin 3 → Nat :=
  let v4972 : Index := Scalar.indexCast v4971
  let c0_3329 : Index := 0#32
  let c0_3330 : Index := 0#32
  ![v4972.toNat, 0, 0]

def k0_chk641 (v4971 : BitVec 32) : Prop :=
  (∀ a, (k0_off778 v4971) a + S1x1x128.size a ≤ S100000x1x128.size a)
theorem k0_off778_inb : ∀ (v4971 : BitVec 32) (k0_hw641 : k0_chk641 v4971), ∀ a, (k0_off778 v4971) a + S1x1x128.size a ≤ S100000x1x128.size a := fun v4971 k0_hw641 => k0_hw641

def k0_off779 (k0_t1 : Fin k0_t1_loop.trips) : Fin 2 → Nat :=
  let c0_3333 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c121_i32 : BitVec 32 := 121#32
  let v4978 : BitVec 32 := Scalar.addi v3888 c121_i32
  let v4979 : Index := Scalar.indexCast v4978
  ![0, v4979.toNat]
def k0_off780 (v4980 : BitVec 32) : Fin 3 → Nat :=
  let v4981 : Index := Scalar.indexCast v4980
  let c0_3334 : Index := 0#32
  let c0_3335 : Index := 0#32
  ![v4981.toNat, 0, 0]

def k0_chk642 (v4980 : BitVec 32) : Prop :=
  (∀ a, (k0_off780 v4980) a + S1x1x128.size a ≤ S100000x1x128.size a)
theorem k0_off780_inb : ∀ (v4980 : BitVec 32) (k0_hw642 : k0_chk642 v4980), ∀ a, (k0_off780 v4980) a + S1x1x128.size a ≤ S100000x1x128.size a := fun v4980 k0_hw642 => k0_hw642

def k0_off781 (k0_t1 : Fin k0_t1_loop.trips) : Fin 2 → Nat :=
  let c0_3338 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c122_i32 : BitVec 32 := 122#32
  let v4987 : BitVec 32 := Scalar.addi v3888 c122_i32
  let v4988 : Index := Scalar.indexCast v4987
  ![0, v4988.toNat]
def k0_off782 (v4989 : BitVec 32) : Fin 3 → Nat :=
  let v4990 : Index := Scalar.indexCast v4989
  let c0_3339 : Index := 0#32
  let c0_3340 : Index := 0#32
  ![v4990.toNat, 0, 0]

def k0_chk643 (v4989 : BitVec 32) : Prop :=
  (∀ a, (k0_off782 v4989) a + S1x1x128.size a ≤ S100000x1x128.size a)
theorem k0_off782_inb : ∀ (v4989 : BitVec 32) (k0_hw643 : k0_chk643 v4989), ∀ a, (k0_off782 v4989) a + S1x1x128.size a ≤ S100000x1x128.size a := fun v4989 k0_hw643 => k0_hw643

def k0_off783 (k0_t1 : Fin k0_t1_loop.trips) : Fin 2 → Nat :=
  let c0_3343 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c123_i32 : BitVec 32 := 123#32
  let v4996 : BitVec 32 := Scalar.addi v3888 c123_i32
  let v4997 : Index := Scalar.indexCast v4996
  ![0, v4997.toNat]
def k0_off784 (v4998 : BitVec 32) : Fin 3 → Nat :=
  let v4999 : Index := Scalar.indexCast v4998
  let c0_3344 : Index := 0#32
  let c0_3345 : Index := 0#32
  ![v4999.toNat, 0, 0]

def k0_chk644 (v4998 : BitVec 32) : Prop :=
  (∀ a, (k0_off784 v4998) a + S1x1x128.size a ≤ S100000x1x128.size a)
theorem k0_off784_inb : ∀ (v4998 : BitVec 32) (k0_hw644 : k0_chk644 v4998), ∀ a, (k0_off784 v4998) a + S1x1x128.size a ≤ S100000x1x128.size a := fun v4998 k0_hw644 => k0_hw644

def k0_off785 (k0_t1 : Fin k0_t1_loop.trips) : Fin 2 → Nat :=
  let c0_3348 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c124_i32 : BitVec 32 := 124#32
  let v5005 : BitVec 32 := Scalar.addi v3888 c124_i32
  let v5006 : Index := Scalar.indexCast v5005
  ![0, v5006.toNat]
def k0_off786 (v5007 : BitVec 32) : Fin 3 → Nat :=
  let v5008 : Index := Scalar.indexCast v5007
  let c0_3349 : Index := 0#32
  let c0_3350 : Index := 0#32
  ![v5008.toNat, 0, 0]

def k0_chk645 (v5007 : BitVec 32) : Prop :=
  (∀ a, (k0_off786 v5007) a + S1x1x128.size a ≤ S100000x1x128.size a)
theorem k0_off786_inb : ∀ (v5007 : BitVec 32) (k0_hw645 : k0_chk645 v5007), ∀ a, (k0_off786 v5007) a + S1x1x128.size a ≤ S100000x1x128.size a := fun v5007 k0_hw645 => k0_hw645

def k0_off787 (k0_t1 : Fin k0_t1_loop.trips) : Fin 2 → Nat :=
  let c0_3353 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c125_i32 : BitVec 32 := 125#32
  let v5014 : BitVec 32 := Scalar.addi v3888 c125_i32
  let v5015 : Index := Scalar.indexCast v5014
  ![0, v5015.toNat]
def k0_off788 (v5016 : BitVec 32) : Fin 3 → Nat :=
  let v5017 : Index := Scalar.indexCast v5016
  let c0_3354 : Index := 0#32
  let c0_3355 : Index := 0#32
  ![v5017.toNat, 0, 0]

def k0_chk646 (v5016 : BitVec 32) : Prop :=
  (∀ a, (k0_off788 v5016) a + S1x1x128.size a ≤ S100000x1x128.size a)
theorem k0_off788_inb : ∀ (v5016 : BitVec 32) (k0_hw646 : k0_chk646 v5016), ∀ a, (k0_off788 v5016) a + S1x1x128.size a ≤ S100000x1x128.size a := fun v5016 k0_hw646 => k0_hw646

def k0_off789 (k0_t1 : Fin k0_t1_loop.trips) : Fin 2 → Nat :=
  let c0_3358 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c126_i32 : BitVec 32 := 126#32
  let v5023 : BitVec 32 := Scalar.addi v3888 c126_i32
  let v5024 : Index := Scalar.indexCast v5023
  ![0, v5024.toNat]
def k0_off790 (v5025 : BitVec 32) : Fin 3 → Nat :=
  let v5026 : Index := Scalar.indexCast v5025
  let c0_3359 : Index := 0#32
  let c0_3360 : Index := 0#32
  ![v5026.toNat, 0, 0]

def k0_chk647 (v5025 : BitVec 32) : Prop :=
  (∀ a, (k0_off790 v5025) a + S1x1x128.size a ≤ S100000x1x128.size a)
theorem k0_off790_inb : ∀ (v5025 : BitVec 32) (k0_hw647 : k0_chk647 v5025), ∀ a, (k0_off790 v5025) a + S1x1x128.size a ≤ S100000x1x128.size a := fun v5025 k0_hw647 => k0_hw647

def k0_off791 (k0_t1 : Fin k0_t1_loop.trips) : Fin 2 → Nat :=
  let c0_3364 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c127_i32_3363 : BitVec 32 := 127#32
  let v5032 : BitVec 32 := Scalar.addi v3888 c127_i32_3363
  let v5033 : Index := Scalar.indexCast v5032
  ![0, v5033.toNat]
def k0_off792 (v5034 : BitVec 32) : Fin 3 → Nat :=
  let v5035 : Index := Scalar.indexCast v5034
  let c0_3365 : Index := 0#32
  let c0_3366 : Index := 0#32
  ![v5035.toNat, 0, 0]

def k0_chk648 (v5034 : BitVec 32) : Prop :=
  (∀ a, (k0_off792 v5034) a + S1x1x128.size a ≤ S100000x1x128.size a)
theorem k0_off792_inb : ∀ (v5034 : BitVec 32) (k0_hw648 : k0_chk648 v5034), ∀ a, (k0_off792 v5034) a + S1x1x128.size a ≤ S100000x1x128.size a := fun v5034 k0_hw648 => k0_hw648

def k0_off793 (k0_t1 : Fin k0_t1_loop.trips) : Fin 2 → Nat :=
  let c0_3369 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c128_i32 : BitVec 32 := 128#32
  let v5041 : BitVec 32 := Scalar.addi v3888 c128_i32
  let v5042 : Index := Scalar.indexCast v5041
  ![0, v5042.toNat]
def k0_off794 (v5043 : BitVec 32) : Fin 3 → Nat :=
  let v5044 : Index := Scalar.indexCast v5043
  let c0_3370 : Index := 0#32
  let c0_3371 : Index := 0#32
  ![v5044.toNat, 0, 0]

def k0_chk649 (v5043 : BitVec 32) : Prop :=
  (∀ a, (k0_off794 v5043) a + S1x1x128.size a ≤ S100000x1x128.size a)
theorem k0_off794_inb : ∀ (v5043 : BitVec 32) (k0_hw649 : k0_chk649 v5043), ∀ a, (k0_off794 v5043) a + S1x1x128.size a ≤ S100000x1x128.size a := fun v5043 k0_hw649 => k0_hw649

def k0_off795 (k0_t1 : Fin k0_t1_loop.trips) : Fin 2 → Nat :=
  let c0_3374 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c129_i32 : BitVec 32 := 129#32
  let v5050 : BitVec 32 := Scalar.addi v3888 c129_i32
  let v5051 : Index := Scalar.indexCast v5050
  ![0, v5051.toNat]
def k0_off796 (v5052 : BitVec 32) : Fin 3 → Nat :=
  let v5053 : Index := Scalar.indexCast v5052
  let c0_3375 : Index := 0#32
  let c0_3376 : Index := 0#32
  ![v5053.toNat, 0, 0]

def k0_chk650 (v5052 : BitVec 32) : Prop :=
  (∀ a, (k0_off796 v5052) a + S1x1x128.size a ≤ S100000x1x128.size a)
theorem k0_off796_inb : ∀ (v5052 : BitVec 32) (k0_hw650 : k0_chk650 v5052), ∀ a, (k0_off796 v5052) a + S1x1x128.size a ≤ S100000x1x128.size a := fun v5052 k0_hw650 => k0_hw650

def k0_off797 (k0_t1 : Fin k0_t1_loop.trips) : Fin 2 → Nat :=
  let c0_3379 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c130_i32 : BitVec 32 := 130#32
  let v5059 : BitVec 32 := Scalar.addi v3888 c130_i32
  let v5060 : Index := Scalar.indexCast v5059
  ![0, v5060.toNat]
def k0_off798 (v5061 : BitVec 32) : Fin 3 → Nat :=
  let v5062 : Index := Scalar.indexCast v5061
  let c0_3380 : Index := 0#32
  let c0_3381 : Index := 0#32
  ![v5062.toNat, 0, 0]

def k0_chk651 (v5061 : BitVec 32) : Prop :=
  (∀ a, (k0_off798 v5061) a + S1x1x128.size a ≤ S100000x1x128.size a)
theorem k0_off798_inb : ∀ (v5061 : BitVec 32) (k0_hw651 : k0_chk651 v5061), ∀ a, (k0_off798 v5061) a + S1x1x128.size a ≤ S100000x1x128.size a := fun v5061 k0_hw651 => k0_hw651

def k0_off799 (k0_t1 : Fin k0_t1_loop.trips) : Fin 2 → Nat :=
  let c0_3384 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c131_i32 : BitVec 32 := 131#32
  let v5068 : BitVec 32 := Scalar.addi v3888 c131_i32
  let v5069 : Index := Scalar.indexCast v5068
  ![0, v5069.toNat]
def k0_off800 (v5070 : BitVec 32) : Fin 3 → Nat :=
  let v5071 : Index := Scalar.indexCast v5070
  let c0_3385 : Index := 0#32
  let c0_3386 : Index := 0#32
  ![v5071.toNat, 0, 0]

def k0_chk652 (v5070 : BitVec 32) : Prop :=
  (∀ a, (k0_off800 v5070) a + S1x1x128.size a ≤ S100000x1x128.size a)
theorem k0_off800_inb : ∀ (v5070 : BitVec 32) (k0_hw652 : k0_chk652 v5070), ∀ a, (k0_off800 v5070) a + S1x1x128.size a ≤ S100000x1x128.size a := fun v5070 k0_hw652 => k0_hw652

def k0_off801 (k0_t1 : Fin k0_t1_loop.trips) : Fin 2 → Nat :=
  let c0_3389 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c132_i32 : BitVec 32 := 132#32
  let v5077 : BitVec 32 := Scalar.addi v3888 c132_i32
  let v5078 : Index := Scalar.indexCast v5077
  ![0, v5078.toNat]
def k0_off802 (v5079 : BitVec 32) : Fin 3 → Nat :=
  let v5080 : Index := Scalar.indexCast v5079
  let c0_3390 : Index := 0#32
  let c0_3391 : Index := 0#32
  ![v5080.toNat, 0, 0]

def k0_chk653 (v5079 : BitVec 32) : Prop :=
  (∀ a, (k0_off802 v5079) a + S1x1x128.size a ≤ S100000x1x128.size a)
theorem k0_off802_inb : ∀ (v5079 : BitVec 32) (k0_hw653 : k0_chk653 v5079), ∀ a, (k0_off802 v5079) a + S1x1x128.size a ≤ S100000x1x128.size a := fun v5079 k0_hw653 => k0_hw653

def k0_off803 (k0_t1 : Fin k0_t1_loop.trips) : Fin 2 → Nat :=
  let c0_3394 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c133_i32 : BitVec 32 := 133#32
  let v5086 : BitVec 32 := Scalar.addi v3888 c133_i32
  let v5087 : Index := Scalar.indexCast v5086
  ![0, v5087.toNat]
def k0_off804 (v5088 : BitVec 32) : Fin 3 → Nat :=
  let v5089 : Index := Scalar.indexCast v5088
  let c0_3395 : Index := 0#32
  let c0_3396 : Index := 0#32
  ![v5089.toNat, 0, 0]

def k0_chk654 (v5088 : BitVec 32) : Prop :=
  (∀ a, (k0_off804 v5088) a + S1x1x128.size a ≤ S100000x1x128.size a)
theorem k0_off804_inb : ∀ (v5088 : BitVec 32) (k0_hw654 : k0_chk654 v5088), ∀ a, (k0_off804 v5088) a + S1x1x128.size a ≤ S100000x1x128.size a := fun v5088 k0_hw654 => k0_hw654

def k0_off805 (k0_t1 : Fin k0_t1_loop.trips) : Fin 2 → Nat :=
  let c0_3399 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c134_i32 : BitVec 32 := 134#32
  let v5095 : BitVec 32 := Scalar.addi v3888 c134_i32
  let v5096 : Index := Scalar.indexCast v5095
  ![0, v5096.toNat]
def k0_off806 (v5097 : BitVec 32) : Fin 3 → Nat :=
  let v5098 : Index := Scalar.indexCast v5097
  let c0_3400 : Index := 0#32
  let c0_3401 : Index := 0#32
  ![v5098.toNat, 0, 0]

def k0_chk655 (v5097 : BitVec 32) : Prop :=
  (∀ a, (k0_off806 v5097) a + S1x1x128.size a ≤ S100000x1x128.size a)
theorem k0_off806_inb : ∀ (v5097 : BitVec 32) (k0_hw655 : k0_chk655 v5097), ∀ a, (k0_off806 v5097) a + S1x1x128.size a ≤ S100000x1x128.size a := fun v5097 k0_hw655 => k0_hw655

def k0_off807 (k0_t1 : Fin k0_t1_loop.trips) : Fin 2 → Nat :=
  let c0_3404 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c135_i32 : BitVec 32 := 135#32
  let v5104 : BitVec 32 := Scalar.addi v3888 c135_i32
  let v5105 : Index := Scalar.indexCast v5104
  ![0, v5105.toNat]
def k0_off808 (v5106 : BitVec 32) : Fin 3 → Nat :=
  let v5107 : Index := Scalar.indexCast v5106
  let c0_3405 : Index := 0#32
  let c0_3406 : Index := 0#32
  ![v5107.toNat, 0, 0]

def k0_chk656 (v5106 : BitVec 32) : Prop :=
  (∀ a, (k0_off808 v5106) a + S1x1x128.size a ≤ S100000x1x128.size a)
theorem k0_off808_inb : ∀ (v5106 : BitVec 32) (k0_hw656 : k0_chk656 v5106), ∀ a, (k0_off808 v5106) a + S1x1x128.size a ≤ S100000x1x128.size a := fun v5106 k0_hw656 => k0_hw656

def k0_off809 (k0_t1 : Fin k0_t1_loop.trips) : Fin 2 → Nat :=
  let c0_3409 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c136_i32 : BitVec 32 := 136#32
  let v5113 : BitVec 32 := Scalar.addi v3888 c136_i32
  let v5114 : Index := Scalar.indexCast v5113
  ![0, v5114.toNat]
def k0_off810 (v5115 : BitVec 32) : Fin 3 → Nat :=
  let v5116 : Index := Scalar.indexCast v5115
  let c0_3410 : Index := 0#32
  let c0_3411 : Index := 0#32
  ![v5116.toNat, 0, 0]

def k0_chk657 (v5115 : BitVec 32) : Prop :=
  (∀ a, (k0_off810 v5115) a + S1x1x128.size a ≤ S100000x1x128.size a)
theorem k0_off810_inb : ∀ (v5115 : BitVec 32) (k0_hw657 : k0_chk657 v5115), ∀ a, (k0_off810 v5115) a + S1x1x128.size a ≤ S100000x1x128.size a := fun v5115 k0_hw657 => k0_hw657

def k0_off811 (k0_t1 : Fin k0_t1_loop.trips) : Fin 2 → Nat :=
  let c0_3414 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c137_i32 : BitVec 32 := 137#32
  let v5122 : BitVec 32 := Scalar.addi v3888 c137_i32
  let v5123 : Index := Scalar.indexCast v5122
  ![0, v5123.toNat]
def k0_off812 (v5124 : BitVec 32) : Fin 3 → Nat :=
  let v5125 : Index := Scalar.indexCast v5124
  let c0_3415 : Index := 0#32
  let c0_3416 : Index := 0#32
  ![v5125.toNat, 0, 0]

def k0_chk658 (v5124 : BitVec 32) : Prop :=
  (∀ a, (k0_off812 v5124) a + S1x1x128.size a ≤ S100000x1x128.size a)
theorem k0_off812_inb : ∀ (v5124 : BitVec 32) (k0_hw658 : k0_chk658 v5124), ∀ a, (k0_off812 v5124) a + S1x1x128.size a ≤ S100000x1x128.size a := fun v5124 k0_hw658 => k0_hw658

def k0_off813 (k0_t1 : Fin k0_t1_loop.trips) : Fin 2 → Nat :=
  let c0_3419 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c138_i32 : BitVec 32 := 138#32
  let v5131 : BitVec 32 := Scalar.addi v3888 c138_i32
  let v5132 : Index := Scalar.indexCast v5131
  ![0, v5132.toNat]
def k0_off814 (v5133 : BitVec 32) : Fin 3 → Nat :=
  let v5134 : Index := Scalar.indexCast v5133
  let c0_3420 : Index := 0#32
  let c0_3421 : Index := 0#32
  ![v5134.toNat, 0, 0]

def k0_chk659 (v5133 : BitVec 32) : Prop :=
  (∀ a, (k0_off814 v5133) a + S1x1x128.size a ≤ S100000x1x128.size a)
theorem k0_off814_inb : ∀ (v5133 : BitVec 32) (k0_hw659 : k0_chk659 v5133), ∀ a, (k0_off814 v5133) a + S1x1x128.size a ≤ S100000x1x128.size a := fun v5133 k0_hw659 => k0_hw659

def k0_off815 (k0_t1 : Fin k0_t1_loop.trips) : Fin 2 → Nat :=
  let c0_3424 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c139_i32 : BitVec 32 := 139#32
  let v5140 : BitVec 32 := Scalar.addi v3888 c139_i32
  let v5141 : Index := Scalar.indexCast v5140
  ![0, v5141.toNat]
def k0_off816 (v5142 : BitVec 32) : Fin 3 → Nat :=
  let v5143 : Index := Scalar.indexCast v5142
  let c0_3425 : Index := 0#32
  let c0_3426 : Index := 0#32
  ![v5143.toNat, 0, 0]

def k0_chk660 (v5142 : BitVec 32) : Prop :=
  (∀ a, (k0_off816 v5142) a + S1x1x128.size a ≤ S100000x1x128.size a)
theorem k0_off816_inb : ∀ (v5142 : BitVec 32) (k0_hw660 : k0_chk660 v5142), ∀ a, (k0_off816 v5142) a + S1x1x128.size a ≤ S100000x1x128.size a := fun v5142 k0_hw660 => k0_hw660

def k0_off817 (k0_t1 : Fin k0_t1_loop.trips) : Fin 2 → Nat :=
  let c0_3429 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c140_i32 : BitVec 32 := 140#32
  let v5149 : BitVec 32 := Scalar.addi v3888 c140_i32
  let v5150 : Index := Scalar.indexCast v5149
  ![0, v5150.toNat]
def k0_off818 (v5151 : BitVec 32) : Fin 3 → Nat :=
  let v5152 : Index := Scalar.indexCast v5151
  let c0_3430 : Index := 0#32
  let c0_3431 : Index := 0#32
  ![v5152.toNat, 0, 0]

def k0_chk661 (v5151 : BitVec 32) : Prop :=
  (∀ a, (k0_off818 v5151) a + S1x1x128.size a ≤ S100000x1x128.size a)
theorem k0_off818_inb : ∀ (v5151 : BitVec 32) (k0_hw661 : k0_chk661 v5151), ∀ a, (k0_off818 v5151) a + S1x1x128.size a ≤ S100000x1x128.size a := fun v5151 k0_hw661 => k0_hw661

def k0_off819 (k0_t1 : Fin k0_t1_loop.trips) : Fin 2 → Nat :=
  let c0_3434 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c141_i32 : BitVec 32 := 141#32
  let v5158 : BitVec 32 := Scalar.addi v3888 c141_i32
  let v5159 : Index := Scalar.indexCast v5158
  ![0, v5159.toNat]
def k0_off820 (v5160 : BitVec 32) : Fin 3 → Nat :=
  let v5161 : Index := Scalar.indexCast v5160
  let c0_3435 : Index := 0#32
  let c0_3436 : Index := 0#32
  ![v5161.toNat, 0, 0]

def k0_chk662 (v5160 : BitVec 32) : Prop :=
  (∀ a, (k0_off820 v5160) a + S1x1x128.size a ≤ S100000x1x128.size a)
theorem k0_off820_inb : ∀ (v5160 : BitVec 32) (k0_hw662 : k0_chk662 v5160), ∀ a, (k0_off820 v5160) a + S1x1x128.size a ≤ S100000x1x128.size a := fun v5160 k0_hw662 => k0_hw662

def k0_off821 (k0_t1 : Fin k0_t1_loop.trips) : Fin 2 → Nat :=
  let c0_3439 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c142_i32 : BitVec 32 := 142#32
  let v5167 : BitVec 32 := Scalar.addi v3888 c142_i32
  let v5168 : Index := Scalar.indexCast v5167
  ![0, v5168.toNat]
def k0_off822 (v5169 : BitVec 32) : Fin 3 → Nat :=
  let v5170 : Index := Scalar.indexCast v5169
  let c0_3440 : Index := 0#32
  let c0_3441 : Index := 0#32
  ![v5170.toNat, 0, 0]

def k0_chk663 (v5169 : BitVec 32) : Prop :=
  (∀ a, (k0_off822 v5169) a + S1x1x128.size a ≤ S100000x1x128.size a)
theorem k0_off822_inb : ∀ (v5169 : BitVec 32) (k0_hw663 : k0_chk663 v5169), ∀ a, (k0_off822 v5169) a + S1x1x128.size a ≤ S100000x1x128.size a := fun v5169 k0_hw663 => k0_hw663

def k0_off823 (k0_t1 : Fin k0_t1_loop.trips) : Fin 2 → Nat :=
  let c0_3444 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c143_i32 : BitVec 32 := 143#32
  let v5176 : BitVec 32 := Scalar.addi v3888 c143_i32
  let v5177 : Index := Scalar.indexCast v5176
  ![0, v5177.toNat]
def k0_off824 (v5178 : BitVec 32) : Fin 3 → Nat :=
  let v5179 : Index := Scalar.indexCast v5178
  let c0_3445 : Index := 0#32
  let c0_3446 : Index := 0#32
  ![v5179.toNat, 0, 0]

def k0_chk664 (v5178 : BitVec 32) : Prop :=
  (∀ a, (k0_off824 v5178) a + S1x1x128.size a ≤ S100000x1x128.size a)
theorem k0_off824_inb : ∀ (v5178 : BitVec 32) (k0_hw664 : k0_chk664 v5178), ∀ a, (k0_off824 v5178) a + S1x1x128.size a ≤ S100000x1x128.size a := fun v5178 k0_hw664 => k0_hw664

def k0_off825 (k0_t1 : Fin k0_t1_loop.trips) : Fin 2 → Nat :=
  let c0_3449 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c144_i32 : BitVec 32 := 144#32
  let v5185 : BitVec 32 := Scalar.addi v3888 c144_i32
  let v5186 : Index := Scalar.indexCast v5185
  ![0, v5186.toNat]
def k0_off826 (v5187 : BitVec 32) : Fin 3 → Nat :=
  let v5188 : Index := Scalar.indexCast v5187
  let c0_3450 : Index := 0#32
  let c0_3451 : Index := 0#32
  ![v5188.toNat, 0, 0]

def k0_chk665 (v5187 : BitVec 32) : Prop :=
  (∀ a, (k0_off826 v5187) a + S1x1x128.size a ≤ S100000x1x128.size a)
theorem k0_off826_inb : ∀ (v5187 : BitVec 32) (k0_hw665 : k0_chk665 v5187), ∀ a, (k0_off826 v5187) a + S1x1x128.size a ≤ S100000x1x128.size a := fun v5187 k0_hw665 => k0_hw665

def k0_off827 (k0_t1 : Fin k0_t1_loop.trips) : Fin 2 → Nat :=
  let c0_3454 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c145_i32 : BitVec 32 := 145#32
  let v5194 : BitVec 32 := Scalar.addi v3888 c145_i32
  let v5195 : Index := Scalar.indexCast v5194
  ![0, v5195.toNat]
def k0_off828 (v5196 : BitVec 32) : Fin 3 → Nat :=
  let v5197 : Index := Scalar.indexCast v5196
  let c0_3455 : Index := 0#32
  let c0_3456 : Index := 0#32
  ![v5197.toNat, 0, 0]

def k0_chk666 (v5196 : BitVec 32) : Prop :=
  (∀ a, (k0_off828 v5196) a + S1x1x128.size a ≤ S100000x1x128.size a)
theorem k0_off828_inb : ∀ (v5196 : BitVec 32) (k0_hw666 : k0_chk666 v5196), ∀ a, (k0_off828 v5196) a + S1x1x128.size a ≤ S100000x1x128.size a := fun v5196 k0_hw666 => k0_hw666

def k0_off829 (k0_t1 : Fin k0_t1_loop.trips) : Fin 2 → Nat :=
  let c0_3459 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c146_i32 : BitVec 32 := 146#32
  let v5203 : BitVec 32 := Scalar.addi v3888 c146_i32
  let v5204 : Index := Scalar.indexCast v5203
  ![0, v5204.toNat]
def k0_off830 (v5205 : BitVec 32) : Fin 3 → Nat :=
  let v5206 : Index := Scalar.indexCast v5205
  let c0_3460 : Index := 0#32
  let c0_3461 : Index := 0#32
  ![v5206.toNat, 0, 0]

def k0_chk667 (v5205 : BitVec 32) : Prop :=
  (∀ a, (k0_off830 v5205) a + S1x1x128.size a ≤ S100000x1x128.size a)
theorem k0_off830_inb : ∀ (v5205 : BitVec 32) (k0_hw667 : k0_chk667 v5205), ∀ a, (k0_off830 v5205) a + S1x1x128.size a ≤ S100000x1x128.size a := fun v5205 k0_hw667 => k0_hw667

def k0_off831 (k0_t1 : Fin k0_t1_loop.trips) : Fin 2 → Nat :=
  let c0_3464 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c147_i32 : BitVec 32 := 147#32
  let v5212 : BitVec 32 := Scalar.addi v3888 c147_i32
  let v5213 : Index := Scalar.indexCast v5212
  ![0, v5213.toNat]
def k0_off832 (v5214 : BitVec 32) : Fin 3 → Nat :=
  let v5215 : Index := Scalar.indexCast v5214
  let c0_3465 : Index := 0#32
  let c0_3466 : Index := 0#32
  ![v5215.toNat, 0, 0]

def k0_chk668 (v5214 : BitVec 32) : Prop :=
  (∀ a, (k0_off832 v5214) a + S1x1x128.size a ≤ S100000x1x128.size a)
theorem k0_off832_inb : ∀ (v5214 : BitVec 32) (k0_hw668 : k0_chk668 v5214), ∀ a, (k0_off832 v5214) a + S1x1x128.size a ≤ S100000x1x128.size a := fun v5214 k0_hw668 => k0_hw668

def k0_off833 (k0_t1 : Fin k0_t1_loop.trips) : Fin 2 → Nat :=
  let c0_3469 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c148_i32 : BitVec 32 := 148#32
  let v5221 : BitVec 32 := Scalar.addi v3888 c148_i32
  let v5222 : Index := Scalar.indexCast v5221
  ![0, v5222.toNat]
def k0_off834 (v5223 : BitVec 32) : Fin 3 → Nat :=
  let v5224 : Index := Scalar.indexCast v5223
  let c0_3470 : Index := 0#32
  let c0_3471 : Index := 0#32
  ![v5224.toNat, 0, 0]

def k0_chk669 (v5223 : BitVec 32) : Prop :=
  (∀ a, (k0_off834 v5223) a + S1x1x128.size a ≤ S100000x1x128.size a)
theorem k0_off834_inb : ∀ (v5223 : BitVec 32) (k0_hw669 : k0_chk669 v5223), ∀ a, (k0_off834 v5223) a + S1x1x128.size a ≤ S100000x1x128.size a := fun v5223 k0_hw669 => k0_hw669

def k0_off835 (k0_t1 : Fin k0_t1_loop.trips) : Fin 2 → Nat :=
  let c0_3474 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c149_i32 : BitVec 32 := 149#32
  let v5230 : BitVec 32 := Scalar.addi v3888 c149_i32
  let v5231 : Index := Scalar.indexCast v5230
  ![0, v5231.toNat]
def k0_off836 (v5232 : BitVec 32) : Fin 3 → Nat :=
  let v5233 : Index := Scalar.indexCast v5232
  let c0_3475 : Index := 0#32
  let c0_3476 : Index := 0#32
  ![v5233.toNat, 0, 0]

def k0_chk670 (v5232 : BitVec 32) : Prop :=
  (∀ a, (k0_off836 v5232) a + S1x1x128.size a ≤ S100000x1x128.size a)
theorem k0_off836_inb : ∀ (v5232 : BitVec 32) (k0_hw670 : k0_chk670 v5232), ∀ a, (k0_off836 v5232) a + S1x1x128.size a ≤ S100000x1x128.size a := fun v5232 k0_hw670 => k0_hw670

def k0_off837 (k0_t1 : Fin k0_t1_loop.trips) : Fin 2 → Nat :=
  let c0_3479 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c150_i32 : BitVec 32 := 150#32
  let v5239 : BitVec 32 := Scalar.addi v3888 c150_i32
  let v5240 : Index := Scalar.indexCast v5239
  ![0, v5240.toNat]
def k0_off838 (v5241 : BitVec 32) : Fin 3 → Nat :=
  let v5242 : Index := Scalar.indexCast v5241
  let c0_3480 : Index := 0#32
  let c0_3481 : Index := 0#32
  ![v5242.toNat, 0, 0]

def k0_chk671 (v5241 : BitVec 32) : Prop :=
  (∀ a, (k0_off838 v5241) a + S1x1x128.size a ≤ S100000x1x128.size a)
theorem k0_off838_inb : ∀ (v5241 : BitVec 32) (k0_hw671 : k0_chk671 v5241), ∀ a, (k0_off838 v5241) a + S1x1x128.size a ≤ S100000x1x128.size a := fun v5241 k0_hw671 => k0_hw671

def k0_off839 (k0_t1 : Fin k0_t1_loop.trips) : Fin 2 → Nat :=
  let c0_3484 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c151_i32 : BitVec 32 := 151#32
  let v5248 : BitVec 32 := Scalar.addi v3888 c151_i32
  let v5249 : Index := Scalar.indexCast v5248
  ![0, v5249.toNat]
def k0_off840 (v5250 : BitVec 32) : Fin 3 → Nat :=
  let v5251 : Index := Scalar.indexCast v5250
  let c0_3485 : Index := 0#32
  let c0_3486 : Index := 0#32
  ![v5251.toNat, 0, 0]

def k0_chk672 (v5250 : BitVec 32) : Prop :=
  (∀ a, (k0_off840 v5250) a + S1x1x128.size a ≤ S100000x1x128.size a)
theorem k0_off840_inb : ∀ (v5250 : BitVec 32) (k0_hw672 : k0_chk672 v5250), ∀ a, (k0_off840 v5250) a + S1x1x128.size a ≤ S100000x1x128.size a := fun v5250 k0_hw672 => k0_hw672

def k0_off841 (k0_t1 : Fin k0_t1_loop.trips) : Fin 2 → Nat :=
  let c0_3489 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c152_i32 : BitVec 32 := 152#32
  let v5257 : BitVec 32 := Scalar.addi v3888 c152_i32
  let v5258 : Index := Scalar.indexCast v5257
  ![0, v5258.toNat]
def k0_off842 (v5259 : BitVec 32) : Fin 3 → Nat :=
  let v5260 : Index := Scalar.indexCast v5259
  let c0_3490 : Index := 0#32
  let c0_3491 : Index := 0#32
  ![v5260.toNat, 0, 0]

def k0_chk673 (v5259 : BitVec 32) : Prop :=
  (∀ a, (k0_off842 v5259) a + S1x1x128.size a ≤ S100000x1x128.size a)
theorem k0_off842_inb : ∀ (v5259 : BitVec 32) (k0_hw673 : k0_chk673 v5259), ∀ a, (k0_off842 v5259) a + S1x1x128.size a ≤ S100000x1x128.size a := fun v5259 k0_hw673 => k0_hw673

def k0_off843 (k0_t1 : Fin k0_t1_loop.trips) : Fin 2 → Nat :=
  let c0_3494 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c153_i32 : BitVec 32 := 153#32
  let v5266 : BitVec 32 := Scalar.addi v3888 c153_i32
  let v5267 : Index := Scalar.indexCast v5266
  ![0, v5267.toNat]
def k0_off844 (v5268 : BitVec 32) : Fin 3 → Nat :=
  let v5269 : Index := Scalar.indexCast v5268
  let c0_3495 : Index := 0#32
  let c0_3496 : Index := 0#32
  ![v5269.toNat, 0, 0]

def k0_chk674 (v5268 : BitVec 32) : Prop :=
  (∀ a, (k0_off844 v5268) a + S1x1x128.size a ≤ S100000x1x128.size a)
theorem k0_off844_inb : ∀ (v5268 : BitVec 32) (k0_hw674 : k0_chk674 v5268), ∀ a, (k0_off844 v5268) a + S1x1x128.size a ≤ S100000x1x128.size a := fun v5268 k0_hw674 => k0_hw674

def k0_off845 (k0_t1 : Fin k0_t1_loop.trips) : Fin 2 → Nat :=
  let c0_3499 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c154_i32 : BitVec 32 := 154#32
  let v5275 : BitVec 32 := Scalar.addi v3888 c154_i32
  let v5276 : Index := Scalar.indexCast v5275
  ![0, v5276.toNat]
def k0_off846 (v5277 : BitVec 32) : Fin 3 → Nat :=
  let v5278 : Index := Scalar.indexCast v5277
  let c0_3500 : Index := 0#32
  let c0_3501 : Index := 0#32
  ![v5278.toNat, 0, 0]

def k0_chk675 (v5277 : BitVec 32) : Prop :=
  (∀ a, (k0_off846 v5277) a + S1x1x128.size a ≤ S100000x1x128.size a)
theorem k0_off846_inb : ∀ (v5277 : BitVec 32) (k0_hw675 : k0_chk675 v5277), ∀ a, (k0_off846 v5277) a + S1x1x128.size a ≤ S100000x1x128.size a := fun v5277 k0_hw675 => k0_hw675

def k0_off847 (k0_t1 : Fin k0_t1_loop.trips) : Fin 2 → Nat :=
  let c0_3504 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c155_i32 : BitVec 32 := 155#32
  let v5284 : BitVec 32 := Scalar.addi v3888 c155_i32
  let v5285 : Index := Scalar.indexCast v5284
  ![0, v5285.toNat]
def k0_off848 (v5286 : BitVec 32) : Fin 3 → Nat :=
  let v5287 : Index := Scalar.indexCast v5286
  let c0_3505 : Index := 0#32
  let c0_3506 : Index := 0#32
  ![v5287.toNat, 0, 0]

def k0_chk676 (v5286 : BitVec 32) : Prop :=
  (∀ a, (k0_off848 v5286) a + S1x1x128.size a ≤ S100000x1x128.size a)
theorem k0_off848_inb : ∀ (v5286 : BitVec 32) (k0_hw676 : k0_chk676 v5286), ∀ a, (k0_off848 v5286) a + S1x1x128.size a ≤ S100000x1x128.size a := fun v5286 k0_hw676 => k0_hw676

def k0_off849 (k0_t1 : Fin k0_t1_loop.trips) : Fin 2 → Nat :=
  let c0_3509 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c156_i32 : BitVec 32 := 156#32
  let v5293 : BitVec 32 := Scalar.addi v3888 c156_i32
  let v5294 : Index := Scalar.indexCast v5293
  ![0, v5294.toNat]
def k0_off850 (v5295 : BitVec 32) : Fin 3 → Nat :=
  let v5296 : Index := Scalar.indexCast v5295
  let c0_3510 : Index := 0#32
  let c0_3511 : Index := 0#32
  ![v5296.toNat, 0, 0]

def k0_chk677 (v5295 : BitVec 32) : Prop :=
  (∀ a, (k0_off850 v5295) a + S1x1x128.size a ≤ S100000x1x128.size a)
theorem k0_off850_inb : ∀ (v5295 : BitVec 32) (k0_hw677 : k0_chk677 v5295), ∀ a, (k0_off850 v5295) a + S1x1x128.size a ≤ S100000x1x128.size a := fun v5295 k0_hw677 => k0_hw677

def k0_off851 (k0_t1 : Fin k0_t1_loop.trips) : Fin 2 → Nat :=
  let c0_3514 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c157_i32 : BitVec 32 := 157#32
  let v5302 : BitVec 32 := Scalar.addi v3888 c157_i32
  let v5303 : Index := Scalar.indexCast v5302
  ![0, v5303.toNat]
def k0_off852 (v5304 : BitVec 32) : Fin 3 → Nat :=
  let v5305 : Index := Scalar.indexCast v5304
  let c0_3515 : Index := 0#32
  let c0_3516 : Index := 0#32
  ![v5305.toNat, 0, 0]

def k0_chk678 (v5304 : BitVec 32) : Prop :=
  (∀ a, (k0_off852 v5304) a + S1x1x128.size a ≤ S100000x1x128.size a)
theorem k0_off852_inb : ∀ (v5304 : BitVec 32) (k0_hw678 : k0_chk678 v5304), ∀ a, (k0_off852 v5304) a + S1x1x128.size a ≤ S100000x1x128.size a := fun v5304 k0_hw678 => k0_hw678

def k0_off853 (k0_t1 : Fin k0_t1_loop.trips) : Fin 2 → Nat :=
  let c0_3519 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c158_i32 : BitVec 32 := 158#32
  let v5311 : BitVec 32 := Scalar.addi v3888 c158_i32
  let v5312 : Index := Scalar.indexCast v5311
  ![0, v5312.toNat]
def k0_off854 (v5313 : BitVec 32) : Fin 3 → Nat :=
  let v5314 : Index := Scalar.indexCast v5313
  let c0_3520 : Index := 0#32
  let c0_3521 : Index := 0#32
  ![v5314.toNat, 0, 0]

def k0_chk679 (v5313 : BitVec 32) : Prop :=
  (∀ a, (k0_off854 v5313) a + S1x1x128.size a ≤ S100000x1x128.size a)
theorem k0_off854_inb : ∀ (v5313 : BitVec 32) (k0_hw679 : k0_chk679 v5313), ∀ a, (k0_off854 v5313) a + S1x1x128.size a ≤ S100000x1x128.size a := fun v5313 k0_hw679 => k0_hw679

def k0_off855 (k0_t1 : Fin k0_t1_loop.trips) : Fin 2 → Nat :=
  let c0_3524 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c159_i32 : BitVec 32 := 159#32
  let v5320 : BitVec 32 := Scalar.addi v3888 c159_i32
  let v5321 : Index := Scalar.indexCast v5320
  ![0, v5321.toNat]
def k0_off856 (v5322 : BitVec 32) : Fin 3 → Nat :=
  let v5323 : Index := Scalar.indexCast v5322
  let c0_3525 : Index := 0#32
  let c0_3526 : Index := 0#32
  ![v5323.toNat, 0, 0]

def k0_chk680 (v5322 : BitVec 32) : Prop :=
  (∀ a, (k0_off856 v5322) a + S1x1x128.size a ≤ S100000x1x128.size a)
theorem k0_off856_inb : ∀ (v5322 : BitVec 32) (k0_hw680 : k0_chk680 v5322), ∀ a, (k0_off856 v5322) a + S1x1x128.size a ≤ S100000x1x128.size a := fun v5322 k0_hw680 => k0_hw680

def k0_off857 (k0_t1 : Fin k0_t1_loop.trips) : Fin 2 → Nat :=
  let c0_3529 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c160_i32 : BitVec 32 := 160#32
  let v5329 : BitVec 32 := Scalar.addi v3888 c160_i32
  let v5330 : Index := Scalar.indexCast v5329
  ![0, v5330.toNat]
def k0_off858 (v5331 : BitVec 32) : Fin 3 → Nat :=
  let v5332 : Index := Scalar.indexCast v5331
  let c0_3530 : Index := 0#32
  let c0_3531 : Index := 0#32
  ![v5332.toNat, 0, 0]

def k0_chk681 (v5331 : BitVec 32) : Prop :=
  (∀ a, (k0_off858 v5331) a + S1x1x128.size a ≤ S100000x1x128.size a)
theorem k0_off858_inb : ∀ (v5331 : BitVec 32) (k0_hw681 : k0_chk681 v5331), ∀ a, (k0_off858 v5331) a + S1x1x128.size a ≤ S100000x1x128.size a := fun v5331 k0_hw681 => k0_hw681

def k0_off859 (k0_t1 : Fin k0_t1_loop.trips) : Fin 2 → Nat :=
  let c0_3534 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c161_i32 : BitVec 32 := 161#32
  let v5338 : BitVec 32 := Scalar.addi v3888 c161_i32
  let v5339 : Index := Scalar.indexCast v5338
  ![0, v5339.toNat]
def k0_off860 (v5340 : BitVec 32) : Fin 3 → Nat :=
  let v5341 : Index := Scalar.indexCast v5340
  let c0_3535 : Index := 0#32
  let c0_3536 : Index := 0#32
  ![v5341.toNat, 0, 0]

def k0_chk682 (v5340 : BitVec 32) : Prop :=
  (∀ a, (k0_off860 v5340) a + S1x1x128.size a ≤ S100000x1x128.size a)
theorem k0_off860_inb : ∀ (v5340 : BitVec 32) (k0_hw682 : k0_chk682 v5340), ∀ a, (k0_off860 v5340) a + S1x1x128.size a ≤ S100000x1x128.size a := fun v5340 k0_hw682 => k0_hw682

def k0_off861 (k0_t1 : Fin k0_t1_loop.trips) : Fin 2 → Nat :=
  let c0_3539 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c162_i32 : BitVec 32 := 162#32
  let v5347 : BitVec 32 := Scalar.addi v3888 c162_i32
  let v5348 : Index := Scalar.indexCast v5347
  ![0, v5348.toNat]
def k0_off862 (v5349 : BitVec 32) : Fin 3 → Nat :=
  let v5350 : Index := Scalar.indexCast v5349
  let c0_3540 : Index := 0#32
  let c0_3541 : Index := 0#32
  ![v5350.toNat, 0, 0]

def k0_chk683 (v5349 : BitVec 32) : Prop :=
  (∀ a, (k0_off862 v5349) a + S1x1x128.size a ≤ S100000x1x128.size a)
theorem k0_off862_inb : ∀ (v5349 : BitVec 32) (k0_hw683 : k0_chk683 v5349), ∀ a, (k0_off862 v5349) a + S1x1x128.size a ≤ S100000x1x128.size a := fun v5349 k0_hw683 => k0_hw683

def k0_off863 (k0_t1 : Fin k0_t1_loop.trips) : Fin 2 → Nat :=
  let c0_3544 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c163_i32 : BitVec 32 := 163#32
  let v5356 : BitVec 32 := Scalar.addi v3888 c163_i32
  let v5357 : Index := Scalar.indexCast v5356
  ![0, v5357.toNat]
def k0_off864 (v5358 : BitVec 32) : Fin 3 → Nat :=
  let v5359 : Index := Scalar.indexCast v5358
  let c0_3545 : Index := 0#32
  let c0_3546 : Index := 0#32
  ![v5359.toNat, 0, 0]

def k0_chk684 (v5358 : BitVec 32) : Prop :=
  (∀ a, (k0_off864 v5358) a + S1x1x128.size a ≤ S100000x1x128.size a)
theorem k0_off864_inb : ∀ (v5358 : BitVec 32) (k0_hw684 : k0_chk684 v5358), ∀ a, (k0_off864 v5358) a + S1x1x128.size a ≤ S100000x1x128.size a := fun v5358 k0_hw684 => k0_hw684

def k0_off865 (k0_t1 : Fin k0_t1_loop.trips) : Fin 2 → Nat :=
  let c0_3549 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c164_i32 : BitVec 32 := 164#32
  let v5365 : BitVec 32 := Scalar.addi v3888 c164_i32
  let v5366 : Index := Scalar.indexCast v5365
  ![0, v5366.toNat]
def k0_off866 (v5367 : BitVec 32) : Fin 3 → Nat :=
  let v5368 : Index := Scalar.indexCast v5367
  let c0_3550 : Index := 0#32
  let c0_3551 : Index := 0#32
  ![v5368.toNat, 0, 0]

def k0_chk685 (v5367 : BitVec 32) : Prop :=
  (∀ a, (k0_off866 v5367) a + S1x1x128.size a ≤ S100000x1x128.size a)
theorem k0_off866_inb : ∀ (v5367 : BitVec 32) (k0_hw685 : k0_chk685 v5367), ∀ a, (k0_off866 v5367) a + S1x1x128.size a ≤ S100000x1x128.size a := fun v5367 k0_hw685 => k0_hw685

def k0_off867 (k0_t1 : Fin k0_t1_loop.trips) : Fin 2 → Nat :=
  let c0_3554 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c165_i32 : BitVec 32 := 165#32
  let v5374 : BitVec 32 := Scalar.addi v3888 c165_i32
  let v5375 : Index := Scalar.indexCast v5374
  ![0, v5375.toNat]
def k0_off868 (v5376 : BitVec 32) : Fin 3 → Nat :=
  let v5377 : Index := Scalar.indexCast v5376
  let c0_3555 : Index := 0#32
  let c0_3556 : Index := 0#32
  ![v5377.toNat, 0, 0]

def k0_chk686 (v5376 : BitVec 32) : Prop :=
  (∀ a, (k0_off868 v5376) a + S1x1x128.size a ≤ S100000x1x128.size a)
theorem k0_off868_inb : ∀ (v5376 : BitVec 32) (k0_hw686 : k0_chk686 v5376), ∀ a, (k0_off868 v5376) a + S1x1x128.size a ≤ S100000x1x128.size a := fun v5376 k0_hw686 => k0_hw686

def k0_off869 (k0_t1 : Fin k0_t1_loop.trips) : Fin 2 → Nat :=
  let c0_3559 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c166_i32 : BitVec 32 := 166#32
  let v5383 : BitVec 32 := Scalar.addi v3888 c166_i32
  let v5384 : Index := Scalar.indexCast v5383
  ![0, v5384.toNat]
def k0_off870 (v5385 : BitVec 32) : Fin 3 → Nat :=
  let v5386 : Index := Scalar.indexCast v5385
  let c0_3560 : Index := 0#32
  let c0_3561 : Index := 0#32
  ![v5386.toNat, 0, 0]

def k0_chk687 (v5385 : BitVec 32) : Prop :=
  (∀ a, (k0_off870 v5385) a + S1x1x128.size a ≤ S100000x1x128.size a)
theorem k0_off870_inb : ∀ (v5385 : BitVec 32) (k0_hw687 : k0_chk687 v5385), ∀ a, (k0_off870 v5385) a + S1x1x128.size a ≤ S100000x1x128.size a := fun v5385 k0_hw687 => k0_hw687

def k0_off871 (k0_t1 : Fin k0_t1_loop.trips) : Fin 2 → Nat :=
  let c0_3564 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c167_i32 : BitVec 32 := 167#32
  let v5392 : BitVec 32 := Scalar.addi v3888 c167_i32
  let v5393 : Index := Scalar.indexCast v5392
  ![0, v5393.toNat]
def k0_off872 (v5394 : BitVec 32) : Fin 3 → Nat :=
  let v5395 : Index := Scalar.indexCast v5394
  let c0_3565 : Index := 0#32
  let c0_3566 : Index := 0#32
  ![v5395.toNat, 0, 0]

def k0_chk688 (v5394 : BitVec 32) : Prop :=
  (∀ a, (k0_off872 v5394) a + S1x1x128.size a ≤ S100000x1x128.size a)
theorem k0_off872_inb : ∀ (v5394 : BitVec 32) (k0_hw688 : k0_chk688 v5394), ∀ a, (k0_off872 v5394) a + S1x1x128.size a ≤ S100000x1x128.size a := fun v5394 k0_hw688 => k0_hw688

def k0_off873 (k0_t1 : Fin k0_t1_loop.trips) : Fin 2 → Nat :=
  let c0_3569 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c168_i32 : BitVec 32 := 168#32
  let v5401 : BitVec 32 := Scalar.addi v3888 c168_i32
  let v5402 : Index := Scalar.indexCast v5401
  ![0, v5402.toNat]
def k0_off874 (v5403 : BitVec 32) : Fin 3 → Nat :=
  let v5404 : Index := Scalar.indexCast v5403
  let c0_3570 : Index := 0#32
  let c0_3571 : Index := 0#32
  ![v5404.toNat, 0, 0]

def k0_chk689 (v5403 : BitVec 32) : Prop :=
  (∀ a, (k0_off874 v5403) a + S1x1x128.size a ≤ S100000x1x128.size a)
theorem k0_off874_inb : ∀ (v5403 : BitVec 32) (k0_hw689 : k0_chk689 v5403), ∀ a, (k0_off874 v5403) a + S1x1x128.size a ≤ S100000x1x128.size a := fun v5403 k0_hw689 => k0_hw689

def k0_off875 (k0_t1 : Fin k0_t1_loop.trips) : Fin 2 → Nat :=
  let c0_3574 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c169_i32 : BitVec 32 := 169#32
  let v5410 : BitVec 32 := Scalar.addi v3888 c169_i32
  let v5411 : Index := Scalar.indexCast v5410
  ![0, v5411.toNat]
def k0_off876 (v5412 : BitVec 32) : Fin 3 → Nat :=
  let v5413 : Index := Scalar.indexCast v5412
  let c0_3575 : Index := 0#32
  let c0_3576 : Index := 0#32
  ![v5413.toNat, 0, 0]

def k0_chk690 (v5412 : BitVec 32) : Prop :=
  (∀ a, (k0_off876 v5412) a + S1x1x128.size a ≤ S100000x1x128.size a)
theorem k0_off876_inb : ∀ (v5412 : BitVec 32) (k0_hw690 : k0_chk690 v5412), ∀ a, (k0_off876 v5412) a + S1x1x128.size a ≤ S100000x1x128.size a := fun v5412 k0_hw690 => k0_hw690

def k0_off877 (k0_t1 : Fin k0_t1_loop.trips) : Fin 2 → Nat :=
  let c0_3579 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c170_i32 : BitVec 32 := 170#32
  let v5419 : BitVec 32 := Scalar.addi v3888 c170_i32
  let v5420 : Index := Scalar.indexCast v5419
  ![0, v5420.toNat]
def k0_off878 (v5421 : BitVec 32) : Fin 3 → Nat :=
  let v5422 : Index := Scalar.indexCast v5421
  let c0_3580 : Index := 0#32
  let c0_3581 : Index := 0#32
  ![v5422.toNat, 0, 0]

def k0_chk691 (v5421 : BitVec 32) : Prop :=
  (∀ a, (k0_off878 v5421) a + S1x1x128.size a ≤ S100000x1x128.size a)
theorem k0_off878_inb : ∀ (v5421 : BitVec 32) (k0_hw691 : k0_chk691 v5421), ∀ a, (k0_off878 v5421) a + S1x1x128.size a ≤ S100000x1x128.size a := fun v5421 k0_hw691 => k0_hw691

def k0_off879 (k0_t1 : Fin k0_t1_loop.trips) : Fin 2 → Nat :=
  let c0_3584 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c171_i32 : BitVec 32 := 171#32
  let v5428 : BitVec 32 := Scalar.addi v3888 c171_i32
  let v5429 : Index := Scalar.indexCast v5428
  ![0, v5429.toNat]
def k0_off880 (v5430 : BitVec 32) : Fin 3 → Nat :=
  let v5431 : Index := Scalar.indexCast v5430
  let c0_3585 : Index := 0#32
  let c0_3586 : Index := 0#32
  ![v5431.toNat, 0, 0]

def k0_chk692 (v5430 : BitVec 32) : Prop :=
  (∀ a, (k0_off880 v5430) a + S1x1x128.size a ≤ S100000x1x128.size a)
theorem k0_off880_inb : ∀ (v5430 : BitVec 32) (k0_hw692 : k0_chk692 v5430), ∀ a, (k0_off880 v5430) a + S1x1x128.size a ≤ S100000x1x128.size a := fun v5430 k0_hw692 => k0_hw692

def k0_off881 (k0_t1 : Fin k0_t1_loop.trips) : Fin 2 → Nat :=
  let c0_3589 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c172_i32 : BitVec 32 := 172#32
  let v5437 : BitVec 32 := Scalar.addi v3888 c172_i32
  let v5438 : Index := Scalar.indexCast v5437
  ![0, v5438.toNat]
def k0_off882 (v5439 : BitVec 32) : Fin 3 → Nat :=
  let v5440 : Index := Scalar.indexCast v5439
  let c0_3590 : Index := 0#32
  let c0_3591 : Index := 0#32
  ![v5440.toNat, 0, 0]

def k0_chk693 (v5439 : BitVec 32) : Prop :=
  (∀ a, (k0_off882 v5439) a + S1x1x128.size a ≤ S100000x1x128.size a)
theorem k0_off882_inb : ∀ (v5439 : BitVec 32) (k0_hw693 : k0_chk693 v5439), ∀ a, (k0_off882 v5439) a + S1x1x128.size a ≤ S100000x1x128.size a := fun v5439 k0_hw693 => k0_hw693

def k0_off883 (k0_t1 : Fin k0_t1_loop.trips) : Fin 2 → Nat :=
  let c0_3594 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c173_i32 : BitVec 32 := 173#32
  let v5446 : BitVec 32 := Scalar.addi v3888 c173_i32
  let v5447 : Index := Scalar.indexCast v5446
  ![0, v5447.toNat]
def k0_off884 (v5448 : BitVec 32) : Fin 3 → Nat :=
  let v5449 : Index := Scalar.indexCast v5448
  let c0_3595 : Index := 0#32
  let c0_3596 : Index := 0#32
  ![v5449.toNat, 0, 0]

def k0_chk694 (v5448 : BitVec 32) : Prop :=
  (∀ a, (k0_off884 v5448) a + S1x1x128.size a ≤ S100000x1x128.size a)
theorem k0_off884_inb : ∀ (v5448 : BitVec 32) (k0_hw694 : k0_chk694 v5448), ∀ a, (k0_off884 v5448) a + S1x1x128.size a ≤ S100000x1x128.size a := fun v5448 k0_hw694 => k0_hw694

def k0_off885 (k0_t1 : Fin k0_t1_loop.trips) : Fin 2 → Nat :=
  let c0_3599 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c174_i32 : BitVec 32 := 174#32
  let v5455 : BitVec 32 := Scalar.addi v3888 c174_i32
  let v5456 : Index := Scalar.indexCast v5455
  ![0, v5456.toNat]
def k0_off886 (v5457 : BitVec 32) : Fin 3 → Nat :=
  let v5458 : Index := Scalar.indexCast v5457
  let c0_3600 : Index := 0#32
  let c0_3601 : Index := 0#32
  ![v5458.toNat, 0, 0]

def k0_chk695 (v5457 : BitVec 32) : Prop :=
  (∀ a, (k0_off886 v5457) a + S1x1x128.size a ≤ S100000x1x128.size a)
theorem k0_off886_inb : ∀ (v5457 : BitVec 32) (k0_hw695 : k0_chk695 v5457), ∀ a, (k0_off886 v5457) a + S1x1x128.size a ≤ S100000x1x128.size a := fun v5457 k0_hw695 => k0_hw695

def k0_off887 (k0_t1 : Fin k0_t1_loop.trips) : Fin 2 → Nat :=
  let c0_3604 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c175_i32 : BitVec 32 := 175#32
  let v5464 : BitVec 32 := Scalar.addi v3888 c175_i32
  let v5465 : Index := Scalar.indexCast v5464
  ![0, v5465.toNat]
def k0_off888 (v5466 : BitVec 32) : Fin 3 → Nat :=
  let v5467 : Index := Scalar.indexCast v5466
  let c0_3605 : Index := 0#32
  let c0_3606 : Index := 0#32
  ![v5467.toNat, 0, 0]

def k0_chk696 (v5466 : BitVec 32) : Prop :=
  (∀ a, (k0_off888 v5466) a + S1x1x128.size a ≤ S100000x1x128.size a)
theorem k0_off888_inb : ∀ (v5466 : BitVec 32) (k0_hw696 : k0_chk696 v5466), ∀ a, (k0_off888 v5466) a + S1x1x128.size a ≤ S100000x1x128.size a := fun v5466 k0_hw696 => k0_hw696

def k0_off889 (k0_t1 : Fin k0_t1_loop.trips) : Fin 2 → Nat :=
  let c0_3609 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c176_i32 : BitVec 32 := 176#32
  let v5473 : BitVec 32 := Scalar.addi v3888 c176_i32
  let v5474 : Index := Scalar.indexCast v5473
  ![0, v5474.toNat]
def k0_off890 (v5475 : BitVec 32) : Fin 3 → Nat :=
  let v5476 : Index := Scalar.indexCast v5475
  let c0_3610 : Index := 0#32
  let c0_3611 : Index := 0#32
  ![v5476.toNat, 0, 0]

def k0_chk697 (v5475 : BitVec 32) : Prop :=
  (∀ a, (k0_off890 v5475) a + S1x1x128.size a ≤ S100000x1x128.size a)
theorem k0_off890_inb : ∀ (v5475 : BitVec 32) (k0_hw697 : k0_chk697 v5475), ∀ a, (k0_off890 v5475) a + S1x1x128.size a ≤ S100000x1x128.size a := fun v5475 k0_hw697 => k0_hw697

def k0_off891 (k0_t1 : Fin k0_t1_loop.trips) : Fin 2 → Nat :=
  let c0_3614 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c177_i32 : BitVec 32 := 177#32
  let v5482 : BitVec 32 := Scalar.addi v3888 c177_i32
  let v5483 : Index := Scalar.indexCast v5482
  ![0, v5483.toNat]
def k0_off892 (v5484 : BitVec 32) : Fin 3 → Nat :=
  let v5485 : Index := Scalar.indexCast v5484
  let c0_3615 : Index := 0#32
  let c0_3616 : Index := 0#32
  ![v5485.toNat, 0, 0]

def k0_chk698 (v5484 : BitVec 32) : Prop :=
  (∀ a, (k0_off892 v5484) a + S1x1x128.size a ≤ S100000x1x128.size a)
theorem k0_off892_inb : ∀ (v5484 : BitVec 32) (k0_hw698 : k0_chk698 v5484), ∀ a, (k0_off892 v5484) a + S1x1x128.size a ≤ S100000x1x128.size a := fun v5484 k0_hw698 => k0_hw698

def k0_off893 (k0_t1 : Fin k0_t1_loop.trips) : Fin 2 → Nat :=
  let c0_3619 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c178_i32 : BitVec 32 := 178#32
  let v5491 : BitVec 32 := Scalar.addi v3888 c178_i32
  let v5492 : Index := Scalar.indexCast v5491
  ![0, v5492.toNat]
def k0_off894 (v5493 : BitVec 32) : Fin 3 → Nat :=
  let v5494 : Index := Scalar.indexCast v5493
  let c0_3620 : Index := 0#32
  let c0_3621 : Index := 0#32
  ![v5494.toNat, 0, 0]

def k0_chk699 (v5493 : BitVec 32) : Prop :=
  (∀ a, (k0_off894 v5493) a + S1x1x128.size a ≤ S100000x1x128.size a)
theorem k0_off894_inb : ∀ (v5493 : BitVec 32) (k0_hw699 : k0_chk699 v5493), ∀ a, (k0_off894 v5493) a + S1x1x128.size a ≤ S100000x1x128.size a := fun v5493 k0_hw699 => k0_hw699

def k0_off895 (k0_t1 : Fin k0_t1_loop.trips) : Fin 2 → Nat :=
  let c0_3624 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c179_i32 : BitVec 32 := 179#32
  let v5500 : BitVec 32 := Scalar.addi v3888 c179_i32
  let v5501 : Index := Scalar.indexCast v5500
  ![0, v5501.toNat]
def k0_off896 (v5502 : BitVec 32) : Fin 3 → Nat :=
  let v5503 : Index := Scalar.indexCast v5502
  let c0_3625 : Index := 0#32
  let c0_3626 : Index := 0#32
  ![v5503.toNat, 0, 0]

def k0_chk700 (v5502 : BitVec 32) : Prop :=
  (∀ a, (k0_off896 v5502) a + S1x1x128.size a ≤ S100000x1x128.size a)
theorem k0_off896_inb : ∀ (v5502 : BitVec 32) (k0_hw700 : k0_chk700 v5502), ∀ a, (k0_off896 v5502) a + S1x1x128.size a ≤ S100000x1x128.size a := fun v5502 k0_hw700 => k0_hw700

def k0_off897 (k0_t1 : Fin k0_t1_loop.trips) : Fin 2 → Nat :=
  let c0_3629 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c180_i32 : BitVec 32 := 180#32
  let v5509 : BitVec 32 := Scalar.addi v3888 c180_i32
  let v5510 : Index := Scalar.indexCast v5509
  ![0, v5510.toNat]
def k0_off898 (v5511 : BitVec 32) : Fin 3 → Nat :=
  let v5512 : Index := Scalar.indexCast v5511
  let c0_3630 : Index := 0#32
  let c0_3631 : Index := 0#32
  ![v5512.toNat, 0, 0]

def k0_chk701 (v5511 : BitVec 32) : Prop :=
  (∀ a, (k0_off898 v5511) a + S1x1x128.size a ≤ S100000x1x128.size a)
theorem k0_off898_inb : ∀ (v5511 : BitVec 32) (k0_hw701 : k0_chk701 v5511), ∀ a, (k0_off898 v5511) a + S1x1x128.size a ≤ S100000x1x128.size a := fun v5511 k0_hw701 => k0_hw701

def k0_off899 (k0_t1 : Fin k0_t1_loop.trips) : Fin 2 → Nat :=
  let c0_3634 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c181_i32 : BitVec 32 := 181#32
  let v5518 : BitVec 32 := Scalar.addi v3888 c181_i32
  let v5519 : Index := Scalar.indexCast v5518
  ![0, v5519.toNat]
def k0_off900 (v5520 : BitVec 32) : Fin 3 → Nat :=
  let v5521 : Index := Scalar.indexCast v5520
  let c0_3635 : Index := 0#32
  let c0_3636 : Index := 0#32
  ![v5521.toNat, 0, 0]

def k0_chk702 (v5520 : BitVec 32) : Prop :=
  (∀ a, (k0_off900 v5520) a + S1x1x128.size a ≤ S100000x1x128.size a)
theorem k0_off900_inb : ∀ (v5520 : BitVec 32) (k0_hw702 : k0_chk702 v5520), ∀ a, (k0_off900 v5520) a + S1x1x128.size a ≤ S100000x1x128.size a := fun v5520 k0_hw702 => k0_hw702

def k0_off901 (k0_t1 : Fin k0_t1_loop.trips) : Fin 2 → Nat :=
  let c0_3639 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c182_i32 : BitVec 32 := 182#32
  let v5527 : BitVec 32 := Scalar.addi v3888 c182_i32
  let v5528 : Index := Scalar.indexCast v5527
  ![0, v5528.toNat]
def k0_off902 (v5529 : BitVec 32) : Fin 3 → Nat :=
  let v5530 : Index := Scalar.indexCast v5529
  let c0_3640 : Index := 0#32
  let c0_3641 : Index := 0#32
  ![v5530.toNat, 0, 0]

def k0_chk703 (v5529 : BitVec 32) : Prop :=
  (∀ a, (k0_off902 v5529) a + S1x1x128.size a ≤ S100000x1x128.size a)
theorem k0_off902_inb : ∀ (v5529 : BitVec 32) (k0_hw703 : k0_chk703 v5529), ∀ a, (k0_off902 v5529) a + S1x1x128.size a ≤ S100000x1x128.size a := fun v5529 k0_hw703 => k0_hw703

def k0_off903 (k0_t1 : Fin k0_t1_loop.trips) : Fin 2 → Nat :=
  let c0_3644 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c183_i32 : BitVec 32 := 183#32
  let v5536 : BitVec 32 := Scalar.addi v3888 c183_i32
  let v5537 : Index := Scalar.indexCast v5536
  ![0, v5537.toNat]
def k0_off904 (v5538 : BitVec 32) : Fin 3 → Nat :=
  let v5539 : Index := Scalar.indexCast v5538
  let c0_3645 : Index := 0#32
  let c0_3646 : Index := 0#32
  ![v5539.toNat, 0, 0]

def k0_chk704 (v5538 : BitVec 32) : Prop :=
  (∀ a, (k0_off904 v5538) a + S1x1x128.size a ≤ S100000x1x128.size a)
theorem k0_off904_inb : ∀ (v5538 : BitVec 32) (k0_hw704 : k0_chk704 v5538), ∀ a, (k0_off904 v5538) a + S1x1x128.size a ≤ S100000x1x128.size a := fun v5538 k0_hw704 => k0_hw704

def k0_off905 (k0_t1 : Fin k0_t1_loop.trips) : Fin 2 → Nat :=
  let c0_3649 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c184_i32 : BitVec 32 := 184#32
  let v5545 : BitVec 32 := Scalar.addi v3888 c184_i32
  let v5546 : Index := Scalar.indexCast v5545
  ![0, v5546.toNat]
def k0_off906 (v5547 : BitVec 32) : Fin 3 → Nat :=
  let v5548 : Index := Scalar.indexCast v5547
  let c0_3650 : Index := 0#32
  let c0_3651 : Index := 0#32
  ![v5548.toNat, 0, 0]

def k0_chk705 (v5547 : BitVec 32) : Prop :=
  (∀ a, (k0_off906 v5547) a + S1x1x128.size a ≤ S100000x1x128.size a)
theorem k0_off906_inb : ∀ (v5547 : BitVec 32) (k0_hw705 : k0_chk705 v5547), ∀ a, (k0_off906 v5547) a + S1x1x128.size a ≤ S100000x1x128.size a := fun v5547 k0_hw705 => k0_hw705

def k0_off907 (k0_t1 : Fin k0_t1_loop.trips) : Fin 2 → Nat :=
  let c0_3654 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c185_i32 : BitVec 32 := 185#32
  let v5554 : BitVec 32 := Scalar.addi v3888 c185_i32
  let v5555 : Index := Scalar.indexCast v5554
  ![0, v5555.toNat]
def k0_off908 (v5556 : BitVec 32) : Fin 3 → Nat :=
  let v5557 : Index := Scalar.indexCast v5556
  let c0_3655 : Index := 0#32
  let c0_3656 : Index := 0#32
  ![v5557.toNat, 0, 0]

def k0_chk706 (v5556 : BitVec 32) : Prop :=
  (∀ a, (k0_off908 v5556) a + S1x1x128.size a ≤ S100000x1x128.size a)
theorem k0_off908_inb : ∀ (v5556 : BitVec 32) (k0_hw706 : k0_chk706 v5556), ∀ a, (k0_off908 v5556) a + S1x1x128.size a ≤ S100000x1x128.size a := fun v5556 k0_hw706 => k0_hw706

def k0_off909 (k0_t1 : Fin k0_t1_loop.trips) : Fin 2 → Nat :=
  let c0_3659 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c186_i32 : BitVec 32 := 186#32
  let v5563 : BitVec 32 := Scalar.addi v3888 c186_i32
  let v5564 : Index := Scalar.indexCast v5563
  ![0, v5564.toNat]
def k0_off910 (v5565 : BitVec 32) : Fin 3 → Nat :=
  let v5566 : Index := Scalar.indexCast v5565
  let c0_3660 : Index := 0#32
  let c0_3661 : Index := 0#32
  ![v5566.toNat, 0, 0]

def k0_chk707 (v5565 : BitVec 32) : Prop :=
  (∀ a, (k0_off910 v5565) a + S1x1x128.size a ≤ S100000x1x128.size a)
theorem k0_off910_inb : ∀ (v5565 : BitVec 32) (k0_hw707 : k0_chk707 v5565), ∀ a, (k0_off910 v5565) a + S1x1x128.size a ≤ S100000x1x128.size a := fun v5565 k0_hw707 => k0_hw707

def k0_off911 (k0_t1 : Fin k0_t1_loop.trips) : Fin 2 → Nat :=
  let c0_3664 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c187_i32 : BitVec 32 := 187#32
  let v5572 : BitVec 32 := Scalar.addi v3888 c187_i32
  let v5573 : Index := Scalar.indexCast v5572
  ![0, v5573.toNat]
def k0_off912 (v5574 : BitVec 32) : Fin 3 → Nat :=
  let v5575 : Index := Scalar.indexCast v5574
  let c0_3665 : Index := 0#32
  let c0_3666 : Index := 0#32
  ![v5575.toNat, 0, 0]

def k0_chk708 (v5574 : BitVec 32) : Prop :=
  (∀ a, (k0_off912 v5574) a + S1x1x128.size a ≤ S100000x1x128.size a)
theorem k0_off912_inb : ∀ (v5574 : BitVec 32) (k0_hw708 : k0_chk708 v5574), ∀ a, (k0_off912 v5574) a + S1x1x128.size a ≤ S100000x1x128.size a := fun v5574 k0_hw708 => k0_hw708

def k0_off913 (k0_t1 : Fin k0_t1_loop.trips) : Fin 2 → Nat :=
  let c0_3669 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c188_i32 : BitVec 32 := 188#32
  let v5581 : BitVec 32 := Scalar.addi v3888 c188_i32
  let v5582 : Index := Scalar.indexCast v5581
  ![0, v5582.toNat]
def k0_off914 (v5583 : BitVec 32) : Fin 3 → Nat :=
  let v5584 : Index := Scalar.indexCast v5583
  let c0_3670 : Index := 0#32
  let c0_3671 : Index := 0#32
  ![v5584.toNat, 0, 0]

def k0_chk709 (v5583 : BitVec 32) : Prop :=
  (∀ a, (k0_off914 v5583) a + S1x1x128.size a ≤ S100000x1x128.size a)
theorem k0_off914_inb : ∀ (v5583 : BitVec 32) (k0_hw709 : k0_chk709 v5583), ∀ a, (k0_off914 v5583) a + S1x1x128.size a ≤ S100000x1x128.size a := fun v5583 k0_hw709 => k0_hw709

def k0_off915 (k0_t1 : Fin k0_t1_loop.trips) : Fin 2 → Nat :=
  let c0_3674 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c189_i32 : BitVec 32 := 189#32
  let v5590 : BitVec 32 := Scalar.addi v3888 c189_i32
  let v5591 : Index := Scalar.indexCast v5590
  ![0, v5591.toNat]
def k0_off916 (v5592 : BitVec 32) : Fin 3 → Nat :=
  let v5593 : Index := Scalar.indexCast v5592
  let c0_3675 : Index := 0#32
  let c0_3676 : Index := 0#32
  ![v5593.toNat, 0, 0]

def k0_chk710 (v5592 : BitVec 32) : Prop :=
  (∀ a, (k0_off916 v5592) a + S1x1x128.size a ≤ S100000x1x128.size a)
theorem k0_off916_inb : ∀ (v5592 : BitVec 32) (k0_hw710 : k0_chk710 v5592), ∀ a, (k0_off916 v5592) a + S1x1x128.size a ≤ S100000x1x128.size a := fun v5592 k0_hw710 => k0_hw710

def k0_off917 (k0_t1 : Fin k0_t1_loop.trips) : Fin 2 → Nat :=
  let c0_3679 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c190_i32 : BitVec 32 := 190#32
  let v5599 : BitVec 32 := Scalar.addi v3888 c190_i32
  let v5600 : Index := Scalar.indexCast v5599
  ![0, v5600.toNat]
def k0_off918 (v5601 : BitVec 32) : Fin 3 → Nat :=
  let v5602 : Index := Scalar.indexCast v5601
  let c0_3680 : Index := 0#32
  let c0_3681 : Index := 0#32
  ![v5602.toNat, 0, 0]

def k0_chk711 (v5601 : BitVec 32) : Prop :=
  (∀ a, (k0_off918 v5601) a + S1x1x128.size a ≤ S100000x1x128.size a)
theorem k0_off918_inb : ∀ (v5601 : BitVec 32) (k0_hw711 : k0_chk711 v5601), ∀ a, (k0_off918 v5601) a + S1x1x128.size a ≤ S100000x1x128.size a := fun v5601 k0_hw711 => k0_hw711

def k0_off919 (k0_t1 : Fin k0_t1_loop.trips) : Fin 2 → Nat :=
  let c0_3684 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c191_i32 : BitVec 32 := 191#32
  let v5608 : BitVec 32 := Scalar.addi v3888 c191_i32
  let v5609 : Index := Scalar.indexCast v5608
  ![0, v5609.toNat]
def k0_off920 (v5610 : BitVec 32) : Fin 3 → Nat :=
  let v5611 : Index := Scalar.indexCast v5610
  let c0_3685 : Index := 0#32
  let c0_3686 : Index := 0#32
  ![v5611.toNat, 0, 0]

def k0_chk712 (v5610 : BitVec 32) : Prop :=
  (∀ a, (k0_off920 v5610) a + S1x1x128.size a ≤ S100000x1x128.size a)
theorem k0_off920_inb : ∀ (v5610 : BitVec 32) (k0_hw712 : k0_chk712 v5610), ∀ a, (k0_off920 v5610) a + S1x1x128.size a ≤ S100000x1x128.size a := fun v5610 k0_hw712 => k0_hw712

def k0_off921 (k0_t1 : Fin k0_t1_loop.trips) : Fin 2 → Nat :=
  let c0_3689 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c192_i32 : BitVec 32 := 192#32
  let v5617 : BitVec 32 := Scalar.addi v3888 c192_i32
  let v5618 : Index := Scalar.indexCast v5617
  ![0, v5618.toNat]
def k0_off922 (v5619 : BitVec 32) : Fin 3 → Nat :=
  let v5620 : Index := Scalar.indexCast v5619
  let c0_3690 : Index := 0#32
  let c0_3691 : Index := 0#32
  ![v5620.toNat, 0, 0]

def k0_chk713 (v5619 : BitVec 32) : Prop :=
  (∀ a, (k0_off922 v5619) a + S1x1x128.size a ≤ S100000x1x128.size a)
theorem k0_off922_inb : ∀ (v5619 : BitVec 32) (k0_hw713 : k0_chk713 v5619), ∀ a, (k0_off922 v5619) a + S1x1x128.size a ≤ S100000x1x128.size a := fun v5619 k0_hw713 => k0_hw713

def k0_off923 (k0_t1 : Fin k0_t1_loop.trips) : Fin 2 → Nat :=
  let c0_3694 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c193_i32 : BitVec 32 := 193#32
  let v5626 : BitVec 32 := Scalar.addi v3888 c193_i32
  let v5627 : Index := Scalar.indexCast v5626
  ![0, v5627.toNat]
def k0_off924 (v5628 : BitVec 32) : Fin 3 → Nat :=
  let v5629 : Index := Scalar.indexCast v5628
  let c0_3695 : Index := 0#32
  let c0_3696 : Index := 0#32
  ![v5629.toNat, 0, 0]

def k0_chk714 (v5628 : BitVec 32) : Prop :=
  (∀ a, (k0_off924 v5628) a + S1x1x128.size a ≤ S100000x1x128.size a)
theorem k0_off924_inb : ∀ (v5628 : BitVec 32) (k0_hw714 : k0_chk714 v5628), ∀ a, (k0_off924 v5628) a + S1x1x128.size a ≤ S100000x1x128.size a := fun v5628 k0_hw714 => k0_hw714

def k0_off925 (k0_t1 : Fin k0_t1_loop.trips) : Fin 2 → Nat :=
  let c0_3699 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c194_i32 : BitVec 32 := 194#32
  let v5635 : BitVec 32 := Scalar.addi v3888 c194_i32
  let v5636 : Index := Scalar.indexCast v5635
  ![0, v5636.toNat]
def k0_off926 (v5637 : BitVec 32) : Fin 3 → Nat :=
  let v5638 : Index := Scalar.indexCast v5637
  let c0_3700 : Index := 0#32
  let c0_3701 : Index := 0#32
  ![v5638.toNat, 0, 0]

def k0_chk715 (v5637 : BitVec 32) : Prop :=
  (∀ a, (k0_off926 v5637) a + S1x1x128.size a ≤ S100000x1x128.size a)
theorem k0_off926_inb : ∀ (v5637 : BitVec 32) (k0_hw715 : k0_chk715 v5637), ∀ a, (k0_off926 v5637) a + S1x1x128.size a ≤ S100000x1x128.size a := fun v5637 k0_hw715 => k0_hw715

def k0_off927 (k0_t1 : Fin k0_t1_loop.trips) : Fin 2 → Nat :=
  let c0_3704 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c195_i32 : BitVec 32 := 195#32
  let v5644 : BitVec 32 := Scalar.addi v3888 c195_i32
  let v5645 : Index := Scalar.indexCast v5644
  ![0, v5645.toNat]
def k0_off928 (v5646 : BitVec 32) : Fin 3 → Nat :=
  let v5647 : Index := Scalar.indexCast v5646
  let c0_3705 : Index := 0#32
  let c0_3706 : Index := 0#32
  ![v5647.toNat, 0, 0]

def k0_chk716 (v5646 : BitVec 32) : Prop :=
  (∀ a, (k0_off928 v5646) a + S1x1x128.size a ≤ S100000x1x128.size a)
theorem k0_off928_inb : ∀ (v5646 : BitVec 32) (k0_hw716 : k0_chk716 v5646), ∀ a, (k0_off928 v5646) a + S1x1x128.size a ≤ S100000x1x128.size a := fun v5646 k0_hw716 => k0_hw716

def k0_off929 (k0_t1 : Fin k0_t1_loop.trips) : Fin 2 → Nat :=
  let c0_3709 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c196_i32 : BitVec 32 := 196#32
  let v5653 : BitVec 32 := Scalar.addi v3888 c196_i32
  let v5654 : Index := Scalar.indexCast v5653
  ![0, v5654.toNat]
def k0_off930 (v5655 : BitVec 32) : Fin 3 → Nat :=
  let v5656 : Index := Scalar.indexCast v5655
  let c0_3710 : Index := 0#32
  let c0_3711 : Index := 0#32
  ![v5656.toNat, 0, 0]

def k0_chk717 (v5655 : BitVec 32) : Prop :=
  (∀ a, (k0_off930 v5655) a + S1x1x128.size a ≤ S100000x1x128.size a)
theorem k0_off930_inb : ∀ (v5655 : BitVec 32) (k0_hw717 : k0_chk717 v5655), ∀ a, (k0_off930 v5655) a + S1x1x128.size a ≤ S100000x1x128.size a := fun v5655 k0_hw717 => k0_hw717

def k0_off931 (k0_t1 : Fin k0_t1_loop.trips) : Fin 2 → Nat :=
  let c0_3714 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c197_i32 : BitVec 32 := 197#32
  let v5662 : BitVec 32 := Scalar.addi v3888 c197_i32
  let v5663 : Index := Scalar.indexCast v5662
  ![0, v5663.toNat]
def k0_off932 (v5664 : BitVec 32) : Fin 3 → Nat :=
  let v5665 : Index := Scalar.indexCast v5664
  let c0_3715 : Index := 0#32
  let c0_3716 : Index := 0#32
  ![v5665.toNat, 0, 0]

def k0_chk718 (v5664 : BitVec 32) : Prop :=
  (∀ a, (k0_off932 v5664) a + S1x1x128.size a ≤ S100000x1x128.size a)
theorem k0_off932_inb : ∀ (v5664 : BitVec 32) (k0_hw718 : k0_chk718 v5664), ∀ a, (k0_off932 v5664) a + S1x1x128.size a ≤ S100000x1x128.size a := fun v5664 k0_hw718 => k0_hw718

def k0_off933 (k0_t1 : Fin k0_t1_loop.trips) : Fin 2 → Nat :=
  let c0_3719 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c198_i32 : BitVec 32 := 198#32
  let v5671 : BitVec 32 := Scalar.addi v3888 c198_i32
  let v5672 : Index := Scalar.indexCast v5671
  ![0, v5672.toNat]
def k0_off934 (v5673 : BitVec 32) : Fin 3 → Nat :=
  let v5674 : Index := Scalar.indexCast v5673
  let c0_3720 : Index := 0#32
  let c0_3721 : Index := 0#32
  ![v5674.toNat, 0, 0]

def k0_chk719 (v5673 : BitVec 32) : Prop :=
  (∀ a, (k0_off934 v5673) a + S1x1x128.size a ≤ S100000x1x128.size a)
theorem k0_off934_inb : ∀ (v5673 : BitVec 32) (k0_hw719 : k0_chk719 v5673), ∀ a, (k0_off934 v5673) a + S1x1x128.size a ≤ S100000x1x128.size a := fun v5673 k0_hw719 => k0_hw719

def k0_off935 (k0_t1 : Fin k0_t1_loop.trips) : Fin 2 → Nat :=
  let c0_3724 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c199_i32 : BitVec 32 := 199#32
  let v5680 : BitVec 32 := Scalar.addi v3888 c199_i32
  let v5681 : Index := Scalar.indexCast v5680
  ![0, v5681.toNat]
def k0_off936 (v5682 : BitVec 32) : Fin 3 → Nat :=
  let v5683 : Index := Scalar.indexCast v5682
  let c0_3725 : Index := 0#32
  let c0_3726 : Index := 0#32
  ![v5683.toNat, 0, 0]

def k0_chk720 (v5682 : BitVec 32) : Prop :=
  (∀ a, (k0_off936 v5682) a + S1x1x128.size a ≤ S100000x1x128.size a)
theorem k0_off936_inb : ∀ (v5682 : BitVec 32) (k0_hw720 : k0_chk720 v5682), ∀ a, (k0_off936 v5682) a + S1x1x128.size a ≤ S100000x1x128.size a := fun v5682 k0_hw720 => k0_hw720

def k0_off937 (k0_t1 : Fin k0_t1_loop.trips) : Fin 2 → Nat :=
  let c0_3729 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c200_i32 : BitVec 32 := 200#32
  let v5689 : BitVec 32 := Scalar.addi v3888 c200_i32
  let v5690 : Index := Scalar.indexCast v5689
  ![0, v5690.toNat]
def k0_off938 (v5691 : BitVec 32) : Fin 3 → Nat :=
  let v5692 : Index := Scalar.indexCast v5691
  let c0_3730 : Index := 0#32
  let c0_3731 : Index := 0#32
  ![v5692.toNat, 0, 0]

def k0_chk721 (v5691 : BitVec 32) : Prop :=
  (∀ a, (k0_off938 v5691) a + S1x1x128.size a ≤ S100000x1x128.size a)
theorem k0_off938_inb : ∀ (v5691 : BitVec 32) (k0_hw721 : k0_chk721 v5691), ∀ a, (k0_off938 v5691) a + S1x1x128.size a ≤ S100000x1x128.size a := fun v5691 k0_hw721 => k0_hw721

def k0_off939 (k0_t1 : Fin k0_t1_loop.trips) : Fin 2 → Nat :=
  let c0_3734 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c201_i32 : BitVec 32 := 201#32
  let v5698 : BitVec 32 := Scalar.addi v3888 c201_i32
  let v5699 : Index := Scalar.indexCast v5698
  ![0, v5699.toNat]
def k0_off940 (v5700 : BitVec 32) : Fin 3 → Nat :=
  let v5701 : Index := Scalar.indexCast v5700
  let c0_3735 : Index := 0#32
  let c0_3736 : Index := 0#32
  ![v5701.toNat, 0, 0]

def k0_chk722 (v5700 : BitVec 32) : Prop :=
  (∀ a, (k0_off940 v5700) a + S1x1x128.size a ≤ S100000x1x128.size a)
theorem k0_off940_inb : ∀ (v5700 : BitVec 32) (k0_hw722 : k0_chk722 v5700), ∀ a, (k0_off940 v5700) a + S1x1x128.size a ≤ S100000x1x128.size a := fun v5700 k0_hw722 => k0_hw722

def k0_off941 (k0_t1 : Fin k0_t1_loop.trips) : Fin 2 → Nat :=
  let c0_3739 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c202_i32 : BitVec 32 := 202#32
  let v5707 : BitVec 32 := Scalar.addi v3888 c202_i32
  let v5708 : Index := Scalar.indexCast v5707
  ![0, v5708.toNat]
def k0_off942 (v5709 : BitVec 32) : Fin 3 → Nat :=
  let v5710 : Index := Scalar.indexCast v5709
  let c0_3740 : Index := 0#32
  let c0_3741 : Index := 0#32
  ![v5710.toNat, 0, 0]

def k0_chk723 (v5709 : BitVec 32) : Prop :=
  (∀ a, (k0_off942 v5709) a + S1x1x128.size a ≤ S100000x1x128.size a)
theorem k0_off942_inb : ∀ (v5709 : BitVec 32) (k0_hw723 : k0_chk723 v5709), ∀ a, (k0_off942 v5709) a + S1x1x128.size a ≤ S100000x1x128.size a := fun v5709 k0_hw723 => k0_hw723

def k0_off943 (k0_t1 : Fin k0_t1_loop.trips) : Fin 2 → Nat :=
  let c0_3744 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c203_i32 : BitVec 32 := 203#32
  let v5716 : BitVec 32 := Scalar.addi v3888 c203_i32
  let v5717 : Index := Scalar.indexCast v5716
  ![0, v5717.toNat]
def k0_off944 (v5718 : BitVec 32) : Fin 3 → Nat :=
  let v5719 : Index := Scalar.indexCast v5718
  let c0_3745 : Index := 0#32
  let c0_3746 : Index := 0#32
  ![v5719.toNat, 0, 0]

def k0_chk724 (v5718 : BitVec 32) : Prop :=
  (∀ a, (k0_off944 v5718) a + S1x1x128.size a ≤ S100000x1x128.size a)
theorem k0_off944_inb : ∀ (v5718 : BitVec 32) (k0_hw724 : k0_chk724 v5718), ∀ a, (k0_off944 v5718) a + S1x1x128.size a ≤ S100000x1x128.size a := fun v5718 k0_hw724 => k0_hw724

def k0_off945 (k0_t1 : Fin k0_t1_loop.trips) : Fin 2 → Nat :=
  let c0_3749 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c204_i32 : BitVec 32 := 204#32
  let v5725 : BitVec 32 := Scalar.addi v3888 c204_i32
  let v5726 : Index := Scalar.indexCast v5725
  ![0, v5726.toNat]
def k0_off946 (v5727 : BitVec 32) : Fin 3 → Nat :=
  let v5728 : Index := Scalar.indexCast v5727
  let c0_3750 : Index := 0#32
  let c0_3751 : Index := 0#32
  ![v5728.toNat, 0, 0]

def k0_chk725 (v5727 : BitVec 32) : Prop :=
  (∀ a, (k0_off946 v5727) a + S1x1x128.size a ≤ S100000x1x128.size a)
theorem k0_off946_inb : ∀ (v5727 : BitVec 32) (k0_hw725 : k0_chk725 v5727), ∀ a, (k0_off946 v5727) a + S1x1x128.size a ≤ S100000x1x128.size a := fun v5727 k0_hw725 => k0_hw725

def k0_off947 (k0_t1 : Fin k0_t1_loop.trips) : Fin 2 → Nat :=
  let c0_3754 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c205_i32 : BitVec 32 := 205#32
  let v5734 : BitVec 32 := Scalar.addi v3888 c205_i32
  let v5735 : Index := Scalar.indexCast v5734
  ![0, v5735.toNat]
def k0_off948 (v5736 : BitVec 32) : Fin 3 → Nat :=
  let v5737 : Index := Scalar.indexCast v5736
  let c0_3755 : Index := 0#32
  let c0_3756 : Index := 0#32
  ![v5737.toNat, 0, 0]

def k0_chk726 (v5736 : BitVec 32) : Prop :=
  (∀ a, (k0_off948 v5736) a + S1x1x128.size a ≤ S100000x1x128.size a)
theorem k0_off948_inb : ∀ (v5736 : BitVec 32) (k0_hw726 : k0_chk726 v5736), ∀ a, (k0_off948 v5736) a + S1x1x128.size a ≤ S100000x1x128.size a := fun v5736 k0_hw726 => k0_hw726

def k0_off949 (k0_t1 : Fin k0_t1_loop.trips) : Fin 2 → Nat :=
  let c0_3759 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c206_i32 : BitVec 32 := 206#32
  let v5743 : BitVec 32 := Scalar.addi v3888 c206_i32
  let v5744 : Index := Scalar.indexCast v5743
  ![0, v5744.toNat]
def k0_off950 (v5745 : BitVec 32) : Fin 3 → Nat :=
  let v5746 : Index := Scalar.indexCast v5745
  let c0_3760 : Index := 0#32
  let c0_3761 : Index := 0#32
  ![v5746.toNat, 0, 0]

def k0_chk727 (v5745 : BitVec 32) : Prop :=
  (∀ a, (k0_off950 v5745) a + S1x1x128.size a ≤ S100000x1x128.size a)
theorem k0_off950_inb : ∀ (v5745 : BitVec 32) (k0_hw727 : k0_chk727 v5745), ∀ a, (k0_off950 v5745) a + S1x1x128.size a ≤ S100000x1x128.size a := fun v5745 k0_hw727 => k0_hw727

def k0_off951 (k0_t1 : Fin k0_t1_loop.trips) : Fin 2 → Nat :=
  let c0_3764 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c207_i32 : BitVec 32 := 207#32
  let v5752 : BitVec 32 := Scalar.addi v3888 c207_i32
  let v5753 : Index := Scalar.indexCast v5752
  ![0, v5753.toNat]
def k0_off952 (v5754 : BitVec 32) : Fin 3 → Nat :=
  let v5755 : Index := Scalar.indexCast v5754
  let c0_3765 : Index := 0#32
  let c0_3766 : Index := 0#32
  ![v5755.toNat, 0, 0]

def k0_chk728 (v5754 : BitVec 32) : Prop :=
  (∀ a, (k0_off952 v5754) a + S1x1x128.size a ≤ S100000x1x128.size a)
theorem k0_off952_inb : ∀ (v5754 : BitVec 32) (k0_hw728 : k0_chk728 v5754), ∀ a, (k0_off952 v5754) a + S1x1x128.size a ≤ S100000x1x128.size a := fun v5754 k0_hw728 => k0_hw728

def k0_off953 (k0_t1 : Fin k0_t1_loop.trips) : Fin 2 → Nat :=
  let c0_3769 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c208_i32 : BitVec 32 := 208#32
  let v5761 : BitVec 32 := Scalar.addi v3888 c208_i32
  let v5762 : Index := Scalar.indexCast v5761
  ![0, v5762.toNat]
def k0_off954 (v5763 : BitVec 32) : Fin 3 → Nat :=
  let v5764 : Index := Scalar.indexCast v5763
  let c0_3770 : Index := 0#32
  let c0_3771 : Index := 0#32
  ![v5764.toNat, 0, 0]

def k0_chk729 (v5763 : BitVec 32) : Prop :=
  (∀ a, (k0_off954 v5763) a + S1x1x128.size a ≤ S100000x1x128.size a)
theorem k0_off954_inb : ∀ (v5763 : BitVec 32) (k0_hw729 : k0_chk729 v5763), ∀ a, (k0_off954 v5763) a + S1x1x128.size a ≤ S100000x1x128.size a := fun v5763 k0_hw729 => k0_hw729

def k0_off955 (k0_t1 : Fin k0_t1_loop.trips) : Fin 2 → Nat :=
  let c0_3774 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c209_i32 : BitVec 32 := 209#32
  let v5770 : BitVec 32 := Scalar.addi v3888 c209_i32
  let v5771 : Index := Scalar.indexCast v5770
  ![0, v5771.toNat]
def k0_off956 (v5772 : BitVec 32) : Fin 3 → Nat :=
  let v5773 : Index := Scalar.indexCast v5772
  let c0_3775 : Index := 0#32
  let c0_3776 : Index := 0#32
  ![v5773.toNat, 0, 0]

def k0_chk730 (v5772 : BitVec 32) : Prop :=
  (∀ a, (k0_off956 v5772) a + S1x1x128.size a ≤ S100000x1x128.size a)
theorem k0_off956_inb : ∀ (v5772 : BitVec 32) (k0_hw730 : k0_chk730 v5772), ∀ a, (k0_off956 v5772) a + S1x1x128.size a ≤ S100000x1x128.size a := fun v5772 k0_hw730 => k0_hw730

def k0_off957 (k0_t1 : Fin k0_t1_loop.trips) : Fin 2 → Nat :=
  let c0_3779 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c210_i32 : BitVec 32 := 210#32
  let v5779 : BitVec 32 := Scalar.addi v3888 c210_i32
  let v5780 : Index := Scalar.indexCast v5779
  ![0, v5780.toNat]
def k0_off958 (v5781 : BitVec 32) : Fin 3 → Nat :=
  let v5782 : Index := Scalar.indexCast v5781
  let c0_3780 : Index := 0#32
  let c0_3781 : Index := 0#32
  ![v5782.toNat, 0, 0]

def k0_chk731 (v5781 : BitVec 32) : Prop :=
  (∀ a, (k0_off958 v5781) a + S1x1x128.size a ≤ S100000x1x128.size a)
theorem k0_off958_inb : ∀ (v5781 : BitVec 32) (k0_hw731 : k0_chk731 v5781), ∀ a, (k0_off958 v5781) a + S1x1x128.size a ≤ S100000x1x128.size a := fun v5781 k0_hw731 => k0_hw731

def k0_off959 (k0_t1 : Fin k0_t1_loop.trips) : Fin 2 → Nat :=
  let c0_3784 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c211_i32 : BitVec 32 := 211#32
  let v5788 : BitVec 32 := Scalar.addi v3888 c211_i32
  let v5789 : Index := Scalar.indexCast v5788
  ![0, v5789.toNat]
def k0_off960 (v5790 : BitVec 32) : Fin 3 → Nat :=
  let v5791 : Index := Scalar.indexCast v5790
  let c0_3785 : Index := 0#32
  let c0_3786 : Index := 0#32
  ![v5791.toNat, 0, 0]

def k0_chk732 (v5790 : BitVec 32) : Prop :=
  (∀ a, (k0_off960 v5790) a + S1x1x128.size a ≤ S100000x1x128.size a)
theorem k0_off960_inb : ∀ (v5790 : BitVec 32) (k0_hw732 : k0_chk732 v5790), ∀ a, (k0_off960 v5790) a + S1x1x128.size a ≤ S100000x1x128.size a := fun v5790 k0_hw732 => k0_hw732

def k0_off961 (k0_t1 : Fin k0_t1_loop.trips) : Fin 2 → Nat :=
  let c0_3789 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c212_i32 : BitVec 32 := 212#32
  let v5797 : BitVec 32 := Scalar.addi v3888 c212_i32
  let v5798 : Index := Scalar.indexCast v5797
  ![0, v5798.toNat]
def k0_off962 (v5799 : BitVec 32) : Fin 3 → Nat :=
  let v5800 : Index := Scalar.indexCast v5799
  let c0_3790 : Index := 0#32
  let c0_3791 : Index := 0#32
  ![v5800.toNat, 0, 0]

def k0_chk733 (v5799 : BitVec 32) : Prop :=
  (∀ a, (k0_off962 v5799) a + S1x1x128.size a ≤ S100000x1x128.size a)
theorem k0_off962_inb : ∀ (v5799 : BitVec 32) (k0_hw733 : k0_chk733 v5799), ∀ a, (k0_off962 v5799) a + S1x1x128.size a ≤ S100000x1x128.size a := fun v5799 k0_hw733 => k0_hw733

def k0_off963 (k0_t1 : Fin k0_t1_loop.trips) : Fin 2 → Nat :=
  let c0_3794 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c213_i32 : BitVec 32 := 213#32
  let v5806 : BitVec 32 := Scalar.addi v3888 c213_i32
  let v5807 : Index := Scalar.indexCast v5806
  ![0, v5807.toNat]
def k0_off964 (v5808 : BitVec 32) : Fin 3 → Nat :=
  let v5809 : Index := Scalar.indexCast v5808
  let c0_3795 : Index := 0#32
  let c0_3796 : Index := 0#32
  ![v5809.toNat, 0, 0]

def k0_chk734 (v5808 : BitVec 32) : Prop :=
  (∀ a, (k0_off964 v5808) a + S1x1x128.size a ≤ S100000x1x128.size a)
theorem k0_off964_inb : ∀ (v5808 : BitVec 32) (k0_hw734 : k0_chk734 v5808), ∀ a, (k0_off964 v5808) a + S1x1x128.size a ≤ S100000x1x128.size a := fun v5808 k0_hw734 => k0_hw734

def k0_off965 (k0_t1 : Fin k0_t1_loop.trips) : Fin 2 → Nat :=
  let c0_3799 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c214_i32 : BitVec 32 := 214#32
  let v5815 : BitVec 32 := Scalar.addi v3888 c214_i32
  let v5816 : Index := Scalar.indexCast v5815
  ![0, v5816.toNat]
def k0_off966 (v5817 : BitVec 32) : Fin 3 → Nat :=
  let v5818 : Index := Scalar.indexCast v5817
  let c0_3800 : Index := 0#32
  let c0_3801 : Index := 0#32
  ![v5818.toNat, 0, 0]

def k0_chk735 (v5817 : BitVec 32) : Prop :=
  (∀ a, (k0_off966 v5817) a + S1x1x128.size a ≤ S100000x1x128.size a)
theorem k0_off966_inb : ∀ (v5817 : BitVec 32) (k0_hw735 : k0_chk735 v5817), ∀ a, (k0_off966 v5817) a + S1x1x128.size a ≤ S100000x1x128.size a := fun v5817 k0_hw735 => k0_hw735

def k0_off967 (k0_t1 : Fin k0_t1_loop.trips) : Fin 2 → Nat :=
  let c0_3804 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c215_i32 : BitVec 32 := 215#32
  let v5824 : BitVec 32 := Scalar.addi v3888 c215_i32
  let v5825 : Index := Scalar.indexCast v5824
  ![0, v5825.toNat]
def k0_off968 (v5826 : BitVec 32) : Fin 3 → Nat :=
  let v5827 : Index := Scalar.indexCast v5826
  let c0_3805 : Index := 0#32
  let c0_3806 : Index := 0#32
  ![v5827.toNat, 0, 0]

def k0_chk736 (v5826 : BitVec 32) : Prop :=
  (∀ a, (k0_off968 v5826) a + S1x1x128.size a ≤ S100000x1x128.size a)
theorem k0_off968_inb : ∀ (v5826 : BitVec 32) (k0_hw736 : k0_chk736 v5826), ∀ a, (k0_off968 v5826) a + S1x1x128.size a ≤ S100000x1x128.size a := fun v5826 k0_hw736 => k0_hw736

def k0_off969 (k0_t1 : Fin k0_t1_loop.trips) : Fin 2 → Nat :=
  let c0_3809 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c216_i32 : BitVec 32 := 216#32
  let v5833 : BitVec 32 := Scalar.addi v3888 c216_i32
  let v5834 : Index := Scalar.indexCast v5833
  ![0, v5834.toNat]
def k0_off970 (v5835 : BitVec 32) : Fin 3 → Nat :=
  let v5836 : Index := Scalar.indexCast v5835
  let c0_3810 : Index := 0#32
  let c0_3811 : Index := 0#32
  ![v5836.toNat, 0, 0]

def k0_chk737 (v5835 : BitVec 32) : Prop :=
  (∀ a, (k0_off970 v5835) a + S1x1x128.size a ≤ S100000x1x128.size a)
theorem k0_off970_inb : ∀ (v5835 : BitVec 32) (k0_hw737 : k0_chk737 v5835), ∀ a, (k0_off970 v5835) a + S1x1x128.size a ≤ S100000x1x128.size a := fun v5835 k0_hw737 => k0_hw737

def k0_off971 (k0_t1 : Fin k0_t1_loop.trips) : Fin 2 → Nat :=
  let c0_3814 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c217_i32 : BitVec 32 := 217#32
  let v5842 : BitVec 32 := Scalar.addi v3888 c217_i32
  let v5843 : Index := Scalar.indexCast v5842
  ![0, v5843.toNat]
def k0_off972 (v5844 : BitVec 32) : Fin 3 → Nat :=
  let v5845 : Index := Scalar.indexCast v5844
  let c0_3815 : Index := 0#32
  let c0_3816 : Index := 0#32
  ![v5845.toNat, 0, 0]

def k0_chk738 (v5844 : BitVec 32) : Prop :=
  (∀ a, (k0_off972 v5844) a + S1x1x128.size a ≤ S100000x1x128.size a)
theorem k0_off972_inb : ∀ (v5844 : BitVec 32) (k0_hw738 : k0_chk738 v5844), ∀ a, (k0_off972 v5844) a + S1x1x128.size a ≤ S100000x1x128.size a := fun v5844 k0_hw738 => k0_hw738

def k0_off973 (k0_t1 : Fin k0_t1_loop.trips) : Fin 2 → Nat :=
  let c0_3819 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c218_i32 : BitVec 32 := 218#32
  let v5851 : BitVec 32 := Scalar.addi v3888 c218_i32
  let v5852 : Index := Scalar.indexCast v5851
  ![0, v5852.toNat]
def k0_off974 (v5853 : BitVec 32) : Fin 3 → Nat :=
  let v5854 : Index := Scalar.indexCast v5853
  let c0_3820 : Index := 0#32
  let c0_3821 : Index := 0#32
  ![v5854.toNat, 0, 0]

def k0_chk739 (v5853 : BitVec 32) : Prop :=
  (∀ a, (k0_off974 v5853) a + S1x1x128.size a ≤ S100000x1x128.size a)
theorem k0_off974_inb : ∀ (v5853 : BitVec 32) (k0_hw739 : k0_chk739 v5853), ∀ a, (k0_off974 v5853) a + S1x1x128.size a ≤ S100000x1x128.size a := fun v5853 k0_hw739 => k0_hw739

def k0_off975 (k0_t1 : Fin k0_t1_loop.trips) : Fin 2 → Nat :=
  let c0_3824 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c219_i32 : BitVec 32 := 219#32
  let v5860 : BitVec 32 := Scalar.addi v3888 c219_i32
  let v5861 : Index := Scalar.indexCast v5860
  ![0, v5861.toNat]
def k0_off976 (v5862 : BitVec 32) : Fin 3 → Nat :=
  let v5863 : Index := Scalar.indexCast v5862
  let c0_3825 : Index := 0#32
  let c0_3826 : Index := 0#32
  ![v5863.toNat, 0, 0]

def k0_chk740 (v5862 : BitVec 32) : Prop :=
  (∀ a, (k0_off976 v5862) a + S1x1x128.size a ≤ S100000x1x128.size a)
theorem k0_off976_inb : ∀ (v5862 : BitVec 32) (k0_hw740 : k0_chk740 v5862), ∀ a, (k0_off976 v5862) a + S1x1x128.size a ≤ S100000x1x128.size a := fun v5862 k0_hw740 => k0_hw740

def k0_off977 (k0_t1 : Fin k0_t1_loop.trips) : Fin 2 → Nat :=
  let c0_3829 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c220_i32 : BitVec 32 := 220#32
  let v5869 : BitVec 32 := Scalar.addi v3888 c220_i32
  let v5870 : Index := Scalar.indexCast v5869
  ![0, v5870.toNat]
def k0_off978 (v5871 : BitVec 32) : Fin 3 → Nat :=
  let v5872 : Index := Scalar.indexCast v5871
  let c0_3830 : Index := 0#32
  let c0_3831 : Index := 0#32
  ![v5872.toNat, 0, 0]

def k0_chk741 (v5871 : BitVec 32) : Prop :=
  (∀ a, (k0_off978 v5871) a + S1x1x128.size a ≤ S100000x1x128.size a)
theorem k0_off978_inb : ∀ (v5871 : BitVec 32) (k0_hw741 : k0_chk741 v5871), ∀ a, (k0_off978 v5871) a + S1x1x128.size a ≤ S100000x1x128.size a := fun v5871 k0_hw741 => k0_hw741

def k0_off979 (k0_t1 : Fin k0_t1_loop.trips) : Fin 2 → Nat :=
  let c0_3834 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c221_i32 : BitVec 32 := 221#32
  let v5878 : BitVec 32 := Scalar.addi v3888 c221_i32
  let v5879 : Index := Scalar.indexCast v5878
  ![0, v5879.toNat]
def k0_off980 (v5880 : BitVec 32) : Fin 3 → Nat :=
  let v5881 : Index := Scalar.indexCast v5880
  let c0_3835 : Index := 0#32
  let c0_3836 : Index := 0#32
  ![v5881.toNat, 0, 0]

def k0_chk742 (v5880 : BitVec 32) : Prop :=
  (∀ a, (k0_off980 v5880) a + S1x1x128.size a ≤ S100000x1x128.size a)
theorem k0_off980_inb : ∀ (v5880 : BitVec 32) (k0_hw742 : k0_chk742 v5880), ∀ a, (k0_off980 v5880) a + S1x1x128.size a ≤ S100000x1x128.size a := fun v5880 k0_hw742 => k0_hw742

def k0_off981 (k0_t1 : Fin k0_t1_loop.trips) : Fin 2 → Nat :=
  let c0_3839 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c222_i32 : BitVec 32 := 222#32
  let v5887 : BitVec 32 := Scalar.addi v3888 c222_i32
  let v5888 : Index := Scalar.indexCast v5887
  ![0, v5888.toNat]
def k0_off982 (v5889 : BitVec 32) : Fin 3 → Nat :=
  let v5890 : Index := Scalar.indexCast v5889
  let c0_3840 : Index := 0#32
  let c0_3841 : Index := 0#32
  ![v5890.toNat, 0, 0]

def k0_chk743 (v5889 : BitVec 32) : Prop :=
  (∀ a, (k0_off982 v5889) a + S1x1x128.size a ≤ S100000x1x128.size a)
theorem k0_off982_inb : ∀ (v5889 : BitVec 32) (k0_hw743 : k0_chk743 v5889), ∀ a, (k0_off982 v5889) a + S1x1x128.size a ≤ S100000x1x128.size a := fun v5889 k0_hw743 => k0_hw743

def k0_off983 (k0_t1 : Fin k0_t1_loop.trips) : Fin 2 → Nat :=
  let c0_3844 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c223_i32 : BitVec 32 := 223#32
  let v5896 : BitVec 32 := Scalar.addi v3888 c223_i32
  let v5897 : Index := Scalar.indexCast v5896
  ![0, v5897.toNat]
def k0_off984 (v5898 : BitVec 32) : Fin 3 → Nat :=
  let v5899 : Index := Scalar.indexCast v5898
  let c0_3845 : Index := 0#32
  let c0_3846 : Index := 0#32
  ![v5899.toNat, 0, 0]

def k0_chk744 (v5898 : BitVec 32) : Prop :=
  (∀ a, (k0_off984 v5898) a + S1x1x128.size a ≤ S100000x1x128.size a)
theorem k0_off984_inb : ∀ (v5898 : BitVec 32) (k0_hw744 : k0_chk744 v5898), ∀ a, (k0_off984 v5898) a + S1x1x128.size a ≤ S100000x1x128.size a := fun v5898 k0_hw744 => k0_hw744

def k0_off985 (k0_t1 : Fin k0_t1_loop.trips) : Fin 2 → Nat :=
  let c0_3849 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c224_i32 : BitVec 32 := 224#32
  let v5905 : BitVec 32 := Scalar.addi v3888 c224_i32
  let v5906 : Index := Scalar.indexCast v5905
  ![0, v5906.toNat]
def k0_off986 (v5907 : BitVec 32) : Fin 3 → Nat :=
  let v5908 : Index := Scalar.indexCast v5907
  let c0_3850 : Index := 0#32
  let c0_3851 : Index := 0#32
  ![v5908.toNat, 0, 0]

def k0_chk745 (v5907 : BitVec 32) : Prop :=
  (∀ a, (k0_off986 v5907) a + S1x1x128.size a ≤ S100000x1x128.size a)
theorem k0_off986_inb : ∀ (v5907 : BitVec 32) (k0_hw745 : k0_chk745 v5907), ∀ a, (k0_off986 v5907) a + S1x1x128.size a ≤ S100000x1x128.size a := fun v5907 k0_hw745 => k0_hw745

def k0_off987 (k0_t1 : Fin k0_t1_loop.trips) : Fin 2 → Nat :=
  let c0_3854 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c225_i32 : BitVec 32 := 225#32
  let v5914 : BitVec 32 := Scalar.addi v3888 c225_i32
  let v5915 : Index := Scalar.indexCast v5914
  ![0, v5915.toNat]
def k0_off988 (v5916 : BitVec 32) : Fin 3 → Nat :=
  let v5917 : Index := Scalar.indexCast v5916
  let c0_3855 : Index := 0#32
  let c0_3856 : Index := 0#32
  ![v5917.toNat, 0, 0]

def k0_chk746 (v5916 : BitVec 32) : Prop :=
  (∀ a, (k0_off988 v5916) a + S1x1x128.size a ≤ S100000x1x128.size a)
theorem k0_off988_inb : ∀ (v5916 : BitVec 32) (k0_hw746 : k0_chk746 v5916), ∀ a, (k0_off988 v5916) a + S1x1x128.size a ≤ S100000x1x128.size a := fun v5916 k0_hw746 => k0_hw746

def k0_off989 (k0_t1 : Fin k0_t1_loop.trips) : Fin 2 → Nat :=
  let c0_3859 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c226_i32 : BitVec 32 := 226#32
  let v5923 : BitVec 32 := Scalar.addi v3888 c226_i32
  let v5924 : Index := Scalar.indexCast v5923
  ![0, v5924.toNat]
def k0_off990 (v5925 : BitVec 32) : Fin 3 → Nat :=
  let v5926 : Index := Scalar.indexCast v5925
  let c0_3860 : Index := 0#32
  let c0_3861 : Index := 0#32
  ![v5926.toNat, 0, 0]

def k0_chk747 (v5925 : BitVec 32) : Prop :=
  (∀ a, (k0_off990 v5925) a + S1x1x128.size a ≤ S100000x1x128.size a)
theorem k0_off990_inb : ∀ (v5925 : BitVec 32) (k0_hw747 : k0_chk747 v5925), ∀ a, (k0_off990 v5925) a + S1x1x128.size a ≤ S100000x1x128.size a := fun v5925 k0_hw747 => k0_hw747

def k0_off991 (k0_t1 : Fin k0_t1_loop.trips) : Fin 2 → Nat :=
  let c0_3864 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c227_i32 : BitVec 32 := 227#32
  let v5932 : BitVec 32 := Scalar.addi v3888 c227_i32
  let v5933 : Index := Scalar.indexCast v5932
  ![0, v5933.toNat]
def k0_off992 (v5934 : BitVec 32) : Fin 3 → Nat :=
  let v5935 : Index := Scalar.indexCast v5934
  let c0_3865 : Index := 0#32
  let c0_3866 : Index := 0#32
  ![v5935.toNat, 0, 0]

def k0_chk748 (v5934 : BitVec 32) : Prop :=
  (∀ a, (k0_off992 v5934) a + S1x1x128.size a ≤ S100000x1x128.size a)
theorem k0_off992_inb : ∀ (v5934 : BitVec 32) (k0_hw748 : k0_chk748 v5934), ∀ a, (k0_off992 v5934) a + S1x1x128.size a ≤ S100000x1x128.size a := fun v5934 k0_hw748 => k0_hw748

def k0_off993 (k0_t1 : Fin k0_t1_loop.trips) : Fin 2 → Nat :=
  let c0_3869 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c228_i32 : BitVec 32 := 228#32
  let v5941 : BitVec 32 := Scalar.addi v3888 c228_i32
  let v5942 : Index := Scalar.indexCast v5941
  ![0, v5942.toNat]
def k0_off994 (v5943 : BitVec 32) : Fin 3 → Nat :=
  let v5944 : Index := Scalar.indexCast v5943
  let c0_3870 : Index := 0#32
  let c0_3871 : Index := 0#32
  ![v5944.toNat, 0, 0]

def k0_chk749 (v5943 : BitVec 32) : Prop :=
  (∀ a, (k0_off994 v5943) a + S1x1x128.size a ≤ S100000x1x128.size a)
theorem k0_off994_inb : ∀ (v5943 : BitVec 32) (k0_hw749 : k0_chk749 v5943), ∀ a, (k0_off994 v5943) a + S1x1x128.size a ≤ S100000x1x128.size a := fun v5943 k0_hw749 => k0_hw749

def k0_off995 (k0_t1 : Fin k0_t1_loop.trips) : Fin 2 → Nat :=
  let c0_3874 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c229_i32 : BitVec 32 := 229#32
  let v5950 : BitVec 32 := Scalar.addi v3888 c229_i32
  let v5951 : Index := Scalar.indexCast v5950
  ![0, v5951.toNat]
def k0_off996 (v5952 : BitVec 32) : Fin 3 → Nat :=
  let v5953 : Index := Scalar.indexCast v5952
  let c0_3875 : Index := 0#32
  let c0_3876 : Index := 0#32
  ![v5953.toNat, 0, 0]

def k0_chk750 (v5952 : BitVec 32) : Prop :=
  (∀ a, (k0_off996 v5952) a + S1x1x128.size a ≤ S100000x1x128.size a)
theorem k0_off996_inb : ∀ (v5952 : BitVec 32) (k0_hw750 : k0_chk750 v5952), ∀ a, (k0_off996 v5952) a + S1x1x128.size a ≤ S100000x1x128.size a := fun v5952 k0_hw750 => k0_hw750

def k0_off997 (k0_t1 : Fin k0_t1_loop.trips) : Fin 2 → Nat :=
  let c0_3879 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c230_i32 : BitVec 32 := 230#32
  let v5959 : BitVec 32 := Scalar.addi v3888 c230_i32
  let v5960 : Index := Scalar.indexCast v5959
  ![0, v5960.toNat]
def k0_off998 (v5961 : BitVec 32) : Fin 3 → Nat :=
  let v5962 : Index := Scalar.indexCast v5961
  let c0_3880 : Index := 0#32
  let c0_3881 : Index := 0#32
  ![v5962.toNat, 0, 0]

def k0_chk751 (v5961 : BitVec 32) : Prop :=
  (∀ a, (k0_off998 v5961) a + S1x1x128.size a ≤ S100000x1x128.size a)
theorem k0_off998_inb : ∀ (v5961 : BitVec 32) (k0_hw751 : k0_chk751 v5961), ∀ a, (k0_off998 v5961) a + S1x1x128.size a ≤ S100000x1x128.size a := fun v5961 k0_hw751 => k0_hw751

def k0_off999 (k0_t1 : Fin k0_t1_loop.trips) : Fin 2 → Nat :=
  let c0_3884 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c231_i32 : BitVec 32 := 231#32
  let v5968 : BitVec 32 := Scalar.addi v3888 c231_i32
  let v5969 : Index := Scalar.indexCast v5968
  ![0, v5969.toNat]
def k0_off1000 (v5970 : BitVec 32) : Fin 3 → Nat :=
  let v5971 : Index := Scalar.indexCast v5970
  let c0_3885 : Index := 0#32
  let c0_3886 : Index := 0#32
  ![v5971.toNat, 0, 0]

def k0_chk752 (v5970 : BitVec 32) : Prop :=
  (∀ a, (k0_off1000 v5970) a + S1x1x128.size a ≤ S100000x1x128.size a)
theorem k0_off1000_inb : ∀ (v5970 : BitVec 32) (k0_hw752 : k0_chk752 v5970), ∀ a, (k0_off1000 v5970) a + S1x1x128.size a ≤ S100000x1x128.size a := fun v5970 k0_hw752 => k0_hw752

def k0_off1001 (k0_t1 : Fin k0_t1_loop.trips) : Fin 2 → Nat :=
  let c0_3889 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c232_i32 : BitVec 32 := 232#32
  let v5977 : BitVec 32 := Scalar.addi v3888 c232_i32
  let v5978 : Index := Scalar.indexCast v5977
  ![0, v5978.toNat]
def k0_off1002 (v5979 : BitVec 32) : Fin 3 → Nat :=
  let v5980 : Index := Scalar.indexCast v5979
  let c0_3890 : Index := 0#32
  let c0_3891 : Index := 0#32
  ![v5980.toNat, 0, 0]

def k0_chk753 (v5979 : BitVec 32) : Prop :=
  (∀ a, (k0_off1002 v5979) a + S1x1x128.size a ≤ S100000x1x128.size a)
theorem k0_off1002_inb : ∀ (v5979 : BitVec 32) (k0_hw753 : k0_chk753 v5979), ∀ a, (k0_off1002 v5979) a + S1x1x128.size a ≤ S100000x1x128.size a := fun v5979 k0_hw753 => k0_hw753

def k0_off1003 (k0_t1 : Fin k0_t1_loop.trips) : Fin 2 → Nat :=
  let c0_3894 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c233_i32 : BitVec 32 := 233#32
  let v5986 : BitVec 32 := Scalar.addi v3888 c233_i32
  let v5987 : Index := Scalar.indexCast v5986
  ![0, v5987.toNat]
def k0_off1004 (v5988 : BitVec 32) : Fin 3 → Nat :=
  let v5989 : Index := Scalar.indexCast v5988
  let c0_3895 : Index := 0#32
  let c0_3896 : Index := 0#32
  ![v5989.toNat, 0, 0]

def k0_chk754 (v5988 : BitVec 32) : Prop :=
  (∀ a, (k0_off1004 v5988) a + S1x1x128.size a ≤ S100000x1x128.size a)
theorem k0_off1004_inb : ∀ (v5988 : BitVec 32) (k0_hw754 : k0_chk754 v5988), ∀ a, (k0_off1004 v5988) a + S1x1x128.size a ≤ S100000x1x128.size a := fun v5988 k0_hw754 => k0_hw754

def k0_off1005 (k0_t1 : Fin k0_t1_loop.trips) : Fin 2 → Nat :=
  let c0_3899 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c234_i32 : BitVec 32 := 234#32
  let v5995 : BitVec 32 := Scalar.addi v3888 c234_i32
  let v5996 : Index := Scalar.indexCast v5995
  ![0, v5996.toNat]
def k0_off1006 (v5997 : BitVec 32) : Fin 3 → Nat :=
  let v5998 : Index := Scalar.indexCast v5997
  let c0_3900 : Index := 0#32
  let c0_3901 : Index := 0#32
  ![v5998.toNat, 0, 0]

def k0_chk755 (v5997 : BitVec 32) : Prop :=
  (∀ a, (k0_off1006 v5997) a + S1x1x128.size a ≤ S100000x1x128.size a)
theorem k0_off1006_inb : ∀ (v5997 : BitVec 32) (k0_hw755 : k0_chk755 v5997), ∀ a, (k0_off1006 v5997) a + S1x1x128.size a ≤ S100000x1x128.size a := fun v5997 k0_hw755 => k0_hw755

def k0_off1007 (k0_t1 : Fin k0_t1_loop.trips) : Fin 2 → Nat :=
  let c0_3904 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c235_i32 : BitVec 32 := 235#32
  let v6004 : BitVec 32 := Scalar.addi v3888 c235_i32
  let v6005 : Index := Scalar.indexCast v6004
  ![0, v6005.toNat]
def k0_off1008 (v6006 : BitVec 32) : Fin 3 → Nat :=
  let v6007 : Index := Scalar.indexCast v6006
  let c0_3905 : Index := 0#32
  let c0_3906 : Index := 0#32
  ![v6007.toNat, 0, 0]

def k0_chk756 (v6006 : BitVec 32) : Prop :=
  (∀ a, (k0_off1008 v6006) a + S1x1x128.size a ≤ S100000x1x128.size a)
theorem k0_off1008_inb : ∀ (v6006 : BitVec 32) (k0_hw756 : k0_chk756 v6006), ∀ a, (k0_off1008 v6006) a + S1x1x128.size a ≤ S100000x1x128.size a := fun v6006 k0_hw756 => k0_hw756

def k0_off1009 (k0_t1 : Fin k0_t1_loop.trips) : Fin 2 → Nat :=
  let c0_3909 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c236_i32 : BitVec 32 := 236#32
  let v6013 : BitVec 32 := Scalar.addi v3888 c236_i32
  let v6014 : Index := Scalar.indexCast v6013
  ![0, v6014.toNat]
def k0_off1010 (v6015 : BitVec 32) : Fin 3 → Nat :=
  let v6016 : Index := Scalar.indexCast v6015
  let c0_3910 : Index := 0#32
  let c0_3911 : Index := 0#32
  ![v6016.toNat, 0, 0]

def k0_chk757 (v6015 : BitVec 32) : Prop :=
  (∀ a, (k0_off1010 v6015) a + S1x1x128.size a ≤ S100000x1x128.size a)
theorem k0_off1010_inb : ∀ (v6015 : BitVec 32) (k0_hw757 : k0_chk757 v6015), ∀ a, (k0_off1010 v6015) a + S1x1x128.size a ≤ S100000x1x128.size a := fun v6015 k0_hw757 => k0_hw757

def k0_off1011 (k0_t1 : Fin k0_t1_loop.trips) : Fin 2 → Nat :=
  let c0_3914 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c237_i32 : BitVec 32 := 237#32
  let v6022 : BitVec 32 := Scalar.addi v3888 c237_i32
  let v6023 : Index := Scalar.indexCast v6022
  ![0, v6023.toNat]
def k0_off1012 (v6024 : BitVec 32) : Fin 3 → Nat :=
  let v6025 : Index := Scalar.indexCast v6024
  let c0_3915 : Index := 0#32
  let c0_3916 : Index := 0#32
  ![v6025.toNat, 0, 0]

def k0_chk758 (v6024 : BitVec 32) : Prop :=
  (∀ a, (k0_off1012 v6024) a + S1x1x128.size a ≤ S100000x1x128.size a)
theorem k0_off1012_inb : ∀ (v6024 : BitVec 32) (k0_hw758 : k0_chk758 v6024), ∀ a, (k0_off1012 v6024) a + S1x1x128.size a ≤ S100000x1x128.size a := fun v6024 k0_hw758 => k0_hw758

def k0_off1013 (k0_t1 : Fin k0_t1_loop.trips) : Fin 2 → Nat :=
  let c0_3919 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c238_i32 : BitVec 32 := 238#32
  let v6031 : BitVec 32 := Scalar.addi v3888 c238_i32
  let v6032 : Index := Scalar.indexCast v6031
  ![0, v6032.toNat]
def k0_off1014 (v6033 : BitVec 32) : Fin 3 → Nat :=
  let v6034 : Index := Scalar.indexCast v6033
  let c0_3920 : Index := 0#32
  let c0_3921 : Index := 0#32
  ![v6034.toNat, 0, 0]

def k0_chk759 (v6033 : BitVec 32) : Prop :=
  (∀ a, (k0_off1014 v6033) a + S1x1x128.size a ≤ S100000x1x128.size a)
theorem k0_off1014_inb : ∀ (v6033 : BitVec 32) (k0_hw759 : k0_chk759 v6033), ∀ a, (k0_off1014 v6033) a + S1x1x128.size a ≤ S100000x1x128.size a := fun v6033 k0_hw759 => k0_hw759

def k0_off1015 (k0_t1 : Fin k0_t1_loop.trips) : Fin 2 → Nat :=
  let c0_3924 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c239_i32 : BitVec 32 := 239#32
  let v6040 : BitVec 32 := Scalar.addi v3888 c239_i32
  let v6041 : Index := Scalar.indexCast v6040
  ![0, v6041.toNat]
def k0_off1016 (v6042 : BitVec 32) : Fin 3 → Nat :=
  let v6043 : Index := Scalar.indexCast v6042
  let c0_3925 : Index := 0#32
  let c0_3926 : Index := 0#32
  ![v6043.toNat, 0, 0]

def k0_chk760 (v6042 : BitVec 32) : Prop :=
  (∀ a, (k0_off1016 v6042) a + S1x1x128.size a ≤ S100000x1x128.size a)
theorem k0_off1016_inb : ∀ (v6042 : BitVec 32) (k0_hw760 : k0_chk760 v6042), ∀ a, (k0_off1016 v6042) a + S1x1x128.size a ≤ S100000x1x128.size a := fun v6042 k0_hw760 => k0_hw760

def k0_off1017 (k0_t1 : Fin k0_t1_loop.trips) : Fin 2 → Nat :=
  let c0_3929 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c240_i32 : BitVec 32 := 240#32
  let v6049 : BitVec 32 := Scalar.addi v3888 c240_i32
  let v6050 : Index := Scalar.indexCast v6049
  ![0, v6050.toNat]
def k0_off1018 (v6051 : BitVec 32) : Fin 3 → Nat :=
  let v6052 : Index := Scalar.indexCast v6051
  let c0_3930 : Index := 0#32
  let c0_3931 : Index := 0#32
  ![v6052.toNat, 0, 0]

def k0_chk761 (v6051 : BitVec 32) : Prop :=
  (∀ a, (k0_off1018 v6051) a + S1x1x128.size a ≤ S100000x1x128.size a)
theorem k0_off1018_inb : ∀ (v6051 : BitVec 32) (k0_hw761 : k0_chk761 v6051), ∀ a, (k0_off1018 v6051) a + S1x1x128.size a ≤ S100000x1x128.size a := fun v6051 k0_hw761 => k0_hw761

def k0_off1019 (k0_t1 : Fin k0_t1_loop.trips) : Fin 2 → Nat :=
  let c0_3934 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c241_i32 : BitVec 32 := 241#32
  let v6058 : BitVec 32 := Scalar.addi v3888 c241_i32
  let v6059 : Index := Scalar.indexCast v6058
  ![0, v6059.toNat]
def k0_off1020 (v6060 : BitVec 32) : Fin 3 → Nat :=
  let v6061 : Index := Scalar.indexCast v6060
  let c0_3935 : Index := 0#32
  let c0_3936 : Index := 0#32
  ![v6061.toNat, 0, 0]

def k0_chk762 (v6060 : BitVec 32) : Prop :=
  (∀ a, (k0_off1020 v6060) a + S1x1x128.size a ≤ S100000x1x128.size a)
theorem k0_off1020_inb : ∀ (v6060 : BitVec 32) (k0_hw762 : k0_chk762 v6060), ∀ a, (k0_off1020 v6060) a + S1x1x128.size a ≤ S100000x1x128.size a := fun v6060 k0_hw762 => k0_hw762

def k0_off1021 (k0_t1 : Fin k0_t1_loop.trips) : Fin 2 → Nat :=
  let c0_3939 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c242_i32 : BitVec 32 := 242#32
  let v6067 : BitVec 32 := Scalar.addi v3888 c242_i32
  let v6068 : Index := Scalar.indexCast v6067
  ![0, v6068.toNat]
def k0_off1022 (v6069 : BitVec 32) : Fin 3 → Nat :=
  let v6070 : Index := Scalar.indexCast v6069
  let c0_3940 : Index := 0#32
  let c0_3941 : Index := 0#32
  ![v6070.toNat, 0, 0]

def k0_chk763 (v6069 : BitVec 32) : Prop :=
  (∀ a, (k0_off1022 v6069) a + S1x1x128.size a ≤ S100000x1x128.size a)
theorem k0_off1022_inb : ∀ (v6069 : BitVec 32) (k0_hw763 : k0_chk763 v6069), ∀ a, (k0_off1022 v6069) a + S1x1x128.size a ≤ S100000x1x128.size a := fun v6069 k0_hw763 => k0_hw763

def k0_off1023 (k0_t1 : Fin k0_t1_loop.trips) : Fin 2 → Nat :=
  let c0_3944 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c243_i32 : BitVec 32 := 243#32
  let v6076 : BitVec 32 := Scalar.addi v3888 c243_i32
  let v6077 : Index := Scalar.indexCast v6076
  ![0, v6077.toNat]
def k0_off1024 (v6078 : BitVec 32) : Fin 3 → Nat :=
  let v6079 : Index := Scalar.indexCast v6078
  let c0_3945 : Index := 0#32
  let c0_3946 : Index := 0#32
  ![v6079.toNat, 0, 0]

def k0_chk764 (v6078 : BitVec 32) : Prop :=
  (∀ a, (k0_off1024 v6078) a + S1x1x128.size a ≤ S100000x1x128.size a)
theorem k0_off1024_inb : ∀ (v6078 : BitVec 32) (k0_hw764 : k0_chk764 v6078), ∀ a, (k0_off1024 v6078) a + S1x1x128.size a ≤ S100000x1x128.size a := fun v6078 k0_hw764 => k0_hw764

def k0_off1025 (k0_t1 : Fin k0_t1_loop.trips) : Fin 2 → Nat :=
  let c0_3949 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c244_i32 : BitVec 32 := 244#32
  let v6085 : BitVec 32 := Scalar.addi v3888 c244_i32
  let v6086 : Index := Scalar.indexCast v6085
  ![0, v6086.toNat]
def k0_off1026 (v6087 : BitVec 32) : Fin 3 → Nat :=
  let v6088 : Index := Scalar.indexCast v6087
  let c0_3950 : Index := 0#32
  let c0_3951 : Index := 0#32
  ![v6088.toNat, 0, 0]

def k0_chk765 (v6087 : BitVec 32) : Prop :=
  (∀ a, (k0_off1026 v6087) a + S1x1x128.size a ≤ S100000x1x128.size a)
theorem k0_off1026_inb : ∀ (v6087 : BitVec 32) (k0_hw765 : k0_chk765 v6087), ∀ a, (k0_off1026 v6087) a + S1x1x128.size a ≤ S100000x1x128.size a := fun v6087 k0_hw765 => k0_hw765

def k0_off1027 (k0_t1 : Fin k0_t1_loop.trips) : Fin 2 → Nat :=
  let c0_3954 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c245_i32 : BitVec 32 := 245#32
  let v6094 : BitVec 32 := Scalar.addi v3888 c245_i32
  let v6095 : Index := Scalar.indexCast v6094
  ![0, v6095.toNat]
def k0_off1028 (v6096 : BitVec 32) : Fin 3 → Nat :=
  let v6097 : Index := Scalar.indexCast v6096
  let c0_3955 : Index := 0#32
  let c0_3956 : Index := 0#32
  ![v6097.toNat, 0, 0]

def k0_chk766 (v6096 : BitVec 32) : Prop :=
  (∀ a, (k0_off1028 v6096) a + S1x1x128.size a ≤ S100000x1x128.size a)
theorem k0_off1028_inb : ∀ (v6096 : BitVec 32) (k0_hw766 : k0_chk766 v6096), ∀ a, (k0_off1028 v6096) a + S1x1x128.size a ≤ S100000x1x128.size a := fun v6096 k0_hw766 => k0_hw766

def k0_off1029 (k0_t1 : Fin k0_t1_loop.trips) : Fin 2 → Nat :=
  let c0_3959 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c246_i32 : BitVec 32 := 246#32
  let v6103 : BitVec 32 := Scalar.addi v3888 c246_i32
  let v6104 : Index := Scalar.indexCast v6103
  ![0, v6104.toNat]
def k0_off1030 (v6105 : BitVec 32) : Fin 3 → Nat :=
  let v6106 : Index := Scalar.indexCast v6105
  let c0_3960 : Index := 0#32
  let c0_3961 : Index := 0#32
  ![v6106.toNat, 0, 0]

def k0_chk767 (v6105 : BitVec 32) : Prop :=
  (∀ a, (k0_off1030 v6105) a + S1x1x128.size a ≤ S100000x1x128.size a)
theorem k0_off1030_inb : ∀ (v6105 : BitVec 32) (k0_hw767 : k0_chk767 v6105), ∀ a, (k0_off1030 v6105) a + S1x1x128.size a ≤ S100000x1x128.size a := fun v6105 k0_hw767 => k0_hw767

def k0_off1031 (k0_t1 : Fin k0_t1_loop.trips) : Fin 2 → Nat :=
  let c0_3964 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c247_i32 : BitVec 32 := 247#32
  let v6112 : BitVec 32 := Scalar.addi v3888 c247_i32
  let v6113 : Index := Scalar.indexCast v6112
  ![0, v6113.toNat]
def k0_off1032 (v6114 : BitVec 32) : Fin 3 → Nat :=
  let v6115 : Index := Scalar.indexCast v6114
  let c0_3965 : Index := 0#32
  let c0_3966 : Index := 0#32
  ![v6115.toNat, 0, 0]

def k0_chk768 (v6114 : BitVec 32) : Prop :=
  (∀ a, (k0_off1032 v6114) a + S1x1x128.size a ≤ S100000x1x128.size a)
theorem k0_off1032_inb : ∀ (v6114 : BitVec 32) (k0_hw768 : k0_chk768 v6114), ∀ a, (k0_off1032 v6114) a + S1x1x128.size a ≤ S100000x1x128.size a := fun v6114 k0_hw768 => k0_hw768

def k0_off1033 (k0_t1 : Fin k0_t1_loop.trips) : Fin 2 → Nat :=
  let c0_3969 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c248_i32 : BitVec 32 := 248#32
  let v6121 : BitVec 32 := Scalar.addi v3888 c248_i32
  let v6122 : Index := Scalar.indexCast v6121
  ![0, v6122.toNat]
def k0_off1034 (v6123 : BitVec 32) : Fin 3 → Nat :=
  let v6124 : Index := Scalar.indexCast v6123
  let c0_3970 : Index := 0#32
  let c0_3971 : Index := 0#32
  ![v6124.toNat, 0, 0]

def k0_chk769 (v6123 : BitVec 32) : Prop :=
  (∀ a, (k0_off1034 v6123) a + S1x1x128.size a ≤ S100000x1x128.size a)
theorem k0_off1034_inb : ∀ (v6123 : BitVec 32) (k0_hw769 : k0_chk769 v6123), ∀ a, (k0_off1034 v6123) a + S1x1x128.size a ≤ S100000x1x128.size a := fun v6123 k0_hw769 => k0_hw769

def k0_off1035 (k0_t1 : Fin k0_t1_loop.trips) : Fin 2 → Nat :=
  let c0_3974 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c249_i32 : BitVec 32 := 249#32
  let v6130 : BitVec 32 := Scalar.addi v3888 c249_i32
  let v6131 : Index := Scalar.indexCast v6130
  ![0, v6131.toNat]
def k0_off1036 (v6132 : BitVec 32) : Fin 3 → Nat :=
  let v6133 : Index := Scalar.indexCast v6132
  let c0_3975 : Index := 0#32
  let c0_3976 : Index := 0#32
  ![v6133.toNat, 0, 0]

def k0_chk770 (v6132 : BitVec 32) : Prop :=
  (∀ a, (k0_off1036 v6132) a + S1x1x128.size a ≤ S100000x1x128.size a)
theorem k0_off1036_inb : ∀ (v6132 : BitVec 32) (k0_hw770 : k0_chk770 v6132), ∀ a, (k0_off1036 v6132) a + S1x1x128.size a ≤ S100000x1x128.size a := fun v6132 k0_hw770 => k0_hw770

def k0_off1037 (k0_t1 : Fin k0_t1_loop.trips) : Fin 2 → Nat :=
  let c0_3979 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c250_i32 : BitVec 32 := 250#32
  let v6139 : BitVec 32 := Scalar.addi v3888 c250_i32
  let v6140 : Index := Scalar.indexCast v6139
  ![0, v6140.toNat]
def k0_off1038 (v6141 : BitVec 32) : Fin 3 → Nat :=
  let v6142 : Index := Scalar.indexCast v6141
  let c0_3980 : Index := 0#32
  let c0_3981 : Index := 0#32
  ![v6142.toNat, 0, 0]

def k0_chk771 (v6141 : BitVec 32) : Prop :=
  (∀ a, (k0_off1038 v6141) a + S1x1x128.size a ≤ S100000x1x128.size a)
theorem k0_off1038_inb : ∀ (v6141 : BitVec 32) (k0_hw771 : k0_chk771 v6141), ∀ a, (k0_off1038 v6141) a + S1x1x128.size a ≤ S100000x1x128.size a := fun v6141 k0_hw771 => k0_hw771

def k0_off1039 (k0_t1 : Fin k0_t1_loop.trips) : Fin 2 → Nat :=
  let c0_3984 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c251_i32 : BitVec 32 := 251#32
  let v6148 : BitVec 32 := Scalar.addi v3888 c251_i32
  let v6149 : Index := Scalar.indexCast v6148
  ![0, v6149.toNat]
def k0_off1040 (v6150 : BitVec 32) : Fin 3 → Nat :=
  let v6151 : Index := Scalar.indexCast v6150
  let c0_3985 : Index := 0#32
  let c0_3986 : Index := 0#32
  ![v6151.toNat, 0, 0]

def k0_chk772 (v6150 : BitVec 32) : Prop :=
  (∀ a, (k0_off1040 v6150) a + S1x1x128.size a ≤ S100000x1x128.size a)
theorem k0_off1040_inb : ∀ (v6150 : BitVec 32) (k0_hw772 : k0_chk772 v6150), ∀ a, (k0_off1040 v6150) a + S1x1x128.size a ≤ S100000x1x128.size a := fun v6150 k0_hw772 => k0_hw772

def k0_off1041 (k0_t1 : Fin k0_t1_loop.trips) : Fin 2 → Nat :=
  let c0_3989 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c252_i32 : BitVec 32 := 252#32
  let v6157 : BitVec 32 := Scalar.addi v3888 c252_i32
  let v6158 : Index := Scalar.indexCast v6157
  ![0, v6158.toNat]
def k0_off1042 (v6159 : BitVec 32) : Fin 3 → Nat :=
  let v6160 : Index := Scalar.indexCast v6159
  let c0_3990 : Index := 0#32
  let c0_3991 : Index := 0#32
  ![v6160.toNat, 0, 0]

def k0_chk773 (v6159 : BitVec 32) : Prop :=
  (∀ a, (k0_off1042 v6159) a + S1x1x128.size a ≤ S100000x1x128.size a)
theorem k0_off1042_inb : ∀ (v6159 : BitVec 32) (k0_hw773 : k0_chk773 v6159), ∀ a, (k0_off1042 v6159) a + S1x1x128.size a ≤ S100000x1x128.size a := fun v6159 k0_hw773 => k0_hw773

def k0_off1043 (k0_t1 : Fin k0_t1_loop.trips) : Fin 2 → Nat :=
  let c0_3994 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c253_i32 : BitVec 32 := 253#32
  let v6166 : BitVec 32 := Scalar.addi v3888 c253_i32
  let v6167 : Index := Scalar.indexCast v6166
  ![0, v6167.toNat]
def k0_off1044 (v6168 : BitVec 32) : Fin 3 → Nat :=
  let v6169 : Index := Scalar.indexCast v6168
  let c0_3995 : Index := 0#32
  let c0_3996 : Index := 0#32
  ![v6169.toNat, 0, 0]

def k0_chk774 (v6168 : BitVec 32) : Prop :=
  (∀ a, (k0_off1044 v6168) a + S1x1x128.size a ≤ S100000x1x128.size a)
theorem k0_off1044_inb : ∀ (v6168 : BitVec 32) (k0_hw774 : k0_chk774 v6168), ∀ a, (k0_off1044 v6168) a + S1x1x128.size a ≤ S100000x1x128.size a := fun v6168 k0_hw774 => k0_hw774

def k0_off1045 (k0_t1 : Fin k0_t1_loop.trips) : Fin 2 → Nat :=
  let c0_3999 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c254_i32 : BitVec 32 := 254#32
  let v6175 : BitVec 32 := Scalar.addi v3888 c254_i32
  let v6176 : Index := Scalar.indexCast v6175
  ![0, v6176.toNat]
def k0_off1046 (v6177 : BitVec 32) : Fin 3 → Nat :=
  let v6178 : Index := Scalar.indexCast v6177
  let c0_4000 : Index := 0#32
  let c0_4001 : Index := 0#32
  ![v6178.toNat, 0, 0]

def k0_chk775 (v6177 : BitVec 32) : Prop :=
  (∀ a, (k0_off1046 v6177) a + S1x1x128.size a ≤ S100000x1x128.size a)
theorem k0_off1046_inb : ∀ (v6177 : BitVec 32) (k0_hw775 : k0_chk775 v6177), ∀ a, (k0_off1046 v6177) a + S1x1x128.size a ≤ S100000x1x128.size a := fun v6177 k0_hw775 => k0_hw775

def k0_off1047 (k0_t1 : Fin k0_t1_loop.trips) : Fin 2 → Nat :=
  let c0_4004 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c255_i32 : BitVec 32 := 255#32
  let v6184 : BitVec 32 := Scalar.addi v3888 c255_i32
  let v6185 : Index := Scalar.indexCast v6184
  ![0, v6185.toNat]
def k0_off1048 (v6186 : BitVec 32) : Fin 3 → Nat :=
  let v6187 : Index := Scalar.indexCast v6186
  let c0_4005 : Index := 0#32
  let c0_4006 : Index := 0#32
  ![v6187.toNat, 0, 0]

def k0_chk776 (v6186 : BitVec 32) : Prop :=
  (∀ a, (k0_off1048 v6186) a + S1x1x128.size a ≤ S100000x1x128.size a)
theorem k0_off1048_inb : ∀ (v6186 : BitVec 32) (k0_hw776 : k0_chk776 v6186), ∀ a, (k0_off1048 v6186) a + S1x1x128.size a ≤ S100000x1x128.size a := fun v6186 k0_hw776 => k0_hw776

def k0_off1049 (k0_t1 : Fin k0_t1_loop.trips) : Fin 2 → Nat :=
  let c0_4009 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c256_i32 : BitVec 32 := 256#32
  let v6193 : BitVec 32 := Scalar.addi v3888 c256_i32
  let v6194 : Index := Scalar.indexCast v6193
  ![0, v6194.toNat]
def k0_off1050 (v6195 : BitVec 32) : Fin 3 → Nat :=
  let v6196 : Index := Scalar.indexCast v6195
  let c0_4010 : Index := 0#32
  let c0_4011 : Index := 0#32
  ![v6196.toNat, 0, 0]

def k0_chk777 (v6195 : BitVec 32) : Prop :=
  (∀ a, (k0_off1050 v6195) a + S1x1x128.size a ≤ S100000x1x128.size a)
theorem k0_off1050_inb : ∀ (v6195 : BitVec 32) (k0_hw777 : k0_chk777 v6195), ∀ a, (k0_off1050 v6195) a + S1x1x128.size a ≤ S100000x1x128.size a := fun v6195 k0_hw777 => k0_hw777

def k0_off1051 (k0_t1 : Fin k0_t1_loop.trips) : Fin 2 → Nat :=
  let c0_4014 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c257_i32 : BitVec 32 := 257#32
  let v6202 : BitVec 32 := Scalar.addi v3888 c257_i32
  let v6203 : Index := Scalar.indexCast v6202
  ![0, v6203.toNat]
def k0_off1052 (v6204 : BitVec 32) : Fin 3 → Nat :=
  let v6205 : Index := Scalar.indexCast v6204
  let c0_4015 : Index := 0#32
  let c0_4016 : Index := 0#32
  ![v6205.toNat, 0, 0]

def k0_chk778 (v6204 : BitVec 32) : Prop :=
  (∀ a, (k0_off1052 v6204) a + S1x1x128.size a ≤ S100000x1x128.size a)
theorem k0_off1052_inb : ∀ (v6204 : BitVec 32) (k0_hw778 : k0_chk778 v6204), ∀ a, (k0_off1052 v6204) a + S1x1x128.size a ≤ S100000x1x128.size a := fun v6204 k0_hw778 => k0_hw778

def k0_off1053 (k0_t1 : Fin k0_t1_loop.trips) : Fin 2 → Nat :=
  let c0_4019 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c258_i32 : BitVec 32 := 258#32
  let v6211 : BitVec 32 := Scalar.addi v3888 c258_i32
  let v6212 : Index := Scalar.indexCast v6211
  ![0, v6212.toNat]
def k0_off1054 (v6213 : BitVec 32) : Fin 3 → Nat :=
  let v6214 : Index := Scalar.indexCast v6213
  let c0_4020 : Index := 0#32
  let c0_4021 : Index := 0#32
  ![v6214.toNat, 0, 0]

def k0_chk779 (v6213 : BitVec 32) : Prop :=
  (∀ a, (k0_off1054 v6213) a + S1x1x128.size a ≤ S100000x1x128.size a)
theorem k0_off1054_inb : ∀ (v6213 : BitVec 32) (k0_hw779 : k0_chk779 v6213), ∀ a, (k0_off1054 v6213) a + S1x1x128.size a ≤ S100000x1x128.size a := fun v6213 k0_hw779 => k0_hw779

def k0_off1055 (k0_t1 : Fin k0_t1_loop.trips) : Fin 2 → Nat :=
  let c0_4024 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c259_i32 : BitVec 32 := 259#32
  let v6220 : BitVec 32 := Scalar.addi v3888 c259_i32
  let v6221 : Index := Scalar.indexCast v6220
  ![0, v6221.toNat]
def k0_off1056 (v6222 : BitVec 32) : Fin 3 → Nat :=
  let v6223 : Index := Scalar.indexCast v6222
  let c0_4025 : Index := 0#32
  let c0_4026 : Index := 0#32
  ![v6223.toNat, 0, 0]

def k0_chk780 (v6222 : BitVec 32) : Prop :=
  (∀ a, (k0_off1056 v6222) a + S1x1x128.size a ≤ S100000x1x128.size a)
theorem k0_off1056_inb : ∀ (v6222 : BitVec 32) (k0_hw780 : k0_chk780 v6222), ∀ a, (k0_off1056 v6222) a + S1x1x128.size a ≤ S100000x1x128.size a := fun v6222 k0_hw780 => k0_hw780

def k0_off1057 (k0_t1 : Fin k0_t1_loop.trips) : Fin 2 → Nat :=
  let c0_4029 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c260_i32 : BitVec 32 := 260#32
  let v6229 : BitVec 32 := Scalar.addi v3888 c260_i32
  let v6230 : Index := Scalar.indexCast v6229
  ![0, v6230.toNat]
def k0_off1058 (v6231 : BitVec 32) : Fin 3 → Nat :=
  let v6232 : Index := Scalar.indexCast v6231
  let c0_4030 : Index := 0#32
  let c0_4031 : Index := 0#32
  ![v6232.toNat, 0, 0]

def k0_chk781 (v6231 : BitVec 32) : Prop :=
  (∀ a, (k0_off1058 v6231) a + S1x1x128.size a ≤ S100000x1x128.size a)
theorem k0_off1058_inb : ∀ (v6231 : BitVec 32) (k0_hw781 : k0_chk781 v6231), ∀ a, (k0_off1058 v6231) a + S1x1x128.size a ≤ S100000x1x128.size a := fun v6231 k0_hw781 => k0_hw781

def k0_off1059 (k0_t1 : Fin k0_t1_loop.trips) : Fin 2 → Nat :=
  let c0_4034 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c261_i32 : BitVec 32 := 261#32
  let v6238 : BitVec 32 := Scalar.addi v3888 c261_i32
  let v6239 : Index := Scalar.indexCast v6238
  ![0, v6239.toNat]
def k0_off1060 (v6240 : BitVec 32) : Fin 3 → Nat :=
  let v6241 : Index := Scalar.indexCast v6240
  let c0_4035 : Index := 0#32
  let c0_4036 : Index := 0#32
  ![v6241.toNat, 0, 0]

def k0_chk782 (v6240 : BitVec 32) : Prop :=
  (∀ a, (k0_off1060 v6240) a + S1x1x128.size a ≤ S100000x1x128.size a)
theorem k0_off1060_inb : ∀ (v6240 : BitVec 32) (k0_hw782 : k0_chk782 v6240), ∀ a, (k0_off1060 v6240) a + S1x1x128.size a ≤ S100000x1x128.size a := fun v6240 k0_hw782 => k0_hw782

def k0_off1061 (k0_t1 : Fin k0_t1_loop.trips) : Fin 2 → Nat :=
  let c0_4039 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c262_i32 : BitVec 32 := 262#32
  let v6247 : BitVec 32 := Scalar.addi v3888 c262_i32
  let v6248 : Index := Scalar.indexCast v6247
  ![0, v6248.toNat]
def k0_off1062 (v6249 : BitVec 32) : Fin 3 → Nat :=
  let v6250 : Index := Scalar.indexCast v6249
  let c0_4040 : Index := 0#32
  let c0_4041 : Index := 0#32
  ![v6250.toNat, 0, 0]

def k0_chk783 (v6249 : BitVec 32) : Prop :=
  (∀ a, (k0_off1062 v6249) a + S1x1x128.size a ≤ S100000x1x128.size a)
theorem k0_off1062_inb : ∀ (v6249 : BitVec 32) (k0_hw783 : k0_chk783 v6249), ∀ a, (k0_off1062 v6249) a + S1x1x128.size a ≤ S100000x1x128.size a := fun v6249 k0_hw783 => k0_hw783

def k0_off1063 (k0_t1 : Fin k0_t1_loop.trips) : Fin 2 → Nat :=
  let c0_4044 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c263_i32 : BitVec 32 := 263#32
  let v6256 : BitVec 32 := Scalar.addi v3888 c263_i32
  let v6257 : Index := Scalar.indexCast v6256
  ![0, v6257.toNat]
def k0_off1064 (v6258 : BitVec 32) : Fin 3 → Nat :=
  let v6259 : Index := Scalar.indexCast v6258
  let c0_4045 : Index := 0#32
  let c0_4046 : Index := 0#32
  ![v6259.toNat, 0, 0]

def k0_chk784 (v6258 : BitVec 32) : Prop :=
  (∀ a, (k0_off1064 v6258) a + S1x1x128.size a ≤ S100000x1x128.size a)
theorem k0_off1064_inb : ∀ (v6258 : BitVec 32) (k0_hw784 : k0_chk784 v6258), ∀ a, (k0_off1064 v6258) a + S1x1x128.size a ≤ S100000x1x128.size a := fun v6258 k0_hw784 => k0_hw784

def k0_off1065 (k0_t1 : Fin k0_t1_loop.trips) : Fin 2 → Nat :=
  let c0_4049 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c264_i32 : BitVec 32 := 264#32
  let v6265 : BitVec 32 := Scalar.addi v3888 c264_i32
  let v6266 : Index := Scalar.indexCast v6265
  ![0, v6266.toNat]
def k0_off1066 (v6267 : BitVec 32) : Fin 3 → Nat :=
  let v6268 : Index := Scalar.indexCast v6267
  let c0_4050 : Index := 0#32
  let c0_4051 : Index := 0#32
  ![v6268.toNat, 0, 0]

def k0_chk785 (v6267 : BitVec 32) : Prop :=
  (∀ a, (k0_off1066 v6267) a + S1x1x128.size a ≤ S100000x1x128.size a)
theorem k0_off1066_inb : ∀ (v6267 : BitVec 32) (k0_hw785 : k0_chk785 v6267), ∀ a, (k0_off1066 v6267) a + S1x1x128.size a ≤ S100000x1x128.size a := fun v6267 k0_hw785 => k0_hw785

def k0_off1067 (k0_t1 : Fin k0_t1_loop.trips) : Fin 2 → Nat :=
  let c0_4054 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c265_i32 : BitVec 32 := 265#32
  let v6274 : BitVec 32 := Scalar.addi v3888 c265_i32
  let v6275 : Index := Scalar.indexCast v6274
  ![0, v6275.toNat]
def k0_off1068 (v6276 : BitVec 32) : Fin 3 → Nat :=
  let v6277 : Index := Scalar.indexCast v6276
  let c0_4055 : Index := 0#32
  let c0_4056 : Index := 0#32
  ![v6277.toNat, 0, 0]

def k0_chk786 (v6276 : BitVec 32) : Prop :=
  (∀ a, (k0_off1068 v6276) a + S1x1x128.size a ≤ S100000x1x128.size a)
theorem k0_off1068_inb : ∀ (v6276 : BitVec 32) (k0_hw786 : k0_chk786 v6276), ∀ a, (k0_off1068 v6276) a + S1x1x128.size a ≤ S100000x1x128.size a := fun v6276 k0_hw786 => k0_hw786

def k0_off1069 (k0_t1 : Fin k0_t1_loop.trips) : Fin 2 → Nat :=
  let c0_4059 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c266_i32 : BitVec 32 := 266#32
  let v6283 : BitVec 32 := Scalar.addi v3888 c266_i32
  let v6284 : Index := Scalar.indexCast v6283
  ![0, v6284.toNat]
def k0_off1070 (v6285 : BitVec 32) : Fin 3 → Nat :=
  let v6286 : Index := Scalar.indexCast v6285
  let c0_4060 : Index := 0#32
  let c0_4061 : Index := 0#32
  ![v6286.toNat, 0, 0]

def k0_chk787 (v6285 : BitVec 32) : Prop :=
  (∀ a, (k0_off1070 v6285) a + S1x1x128.size a ≤ S100000x1x128.size a)
theorem k0_off1070_inb : ∀ (v6285 : BitVec 32) (k0_hw787 : k0_chk787 v6285), ∀ a, (k0_off1070 v6285) a + S1x1x128.size a ≤ S100000x1x128.size a := fun v6285 k0_hw787 => k0_hw787

def k0_off1071 (k0_t1 : Fin k0_t1_loop.trips) : Fin 2 → Nat :=
  let c0_4064 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c267_i32 : BitVec 32 := 267#32
  let v6292 : BitVec 32 := Scalar.addi v3888 c267_i32
  let v6293 : Index := Scalar.indexCast v6292
  ![0, v6293.toNat]
def k0_off1072 (v6294 : BitVec 32) : Fin 3 → Nat :=
  let v6295 : Index := Scalar.indexCast v6294
  let c0_4065 : Index := 0#32
  let c0_4066 : Index := 0#32
  ![v6295.toNat, 0, 0]

def k0_chk788 (v6294 : BitVec 32) : Prop :=
  (∀ a, (k0_off1072 v6294) a + S1x1x128.size a ≤ S100000x1x128.size a)
theorem k0_off1072_inb : ∀ (v6294 : BitVec 32) (k0_hw788 : k0_chk788 v6294), ∀ a, (k0_off1072 v6294) a + S1x1x128.size a ≤ S100000x1x128.size a := fun v6294 k0_hw788 => k0_hw788

def k0_off1073 (k0_t1 : Fin k0_t1_loop.trips) : Fin 2 → Nat :=
  let c0_4069 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c268_i32 : BitVec 32 := 268#32
  let v6301 : BitVec 32 := Scalar.addi v3888 c268_i32
  let v6302 : Index := Scalar.indexCast v6301
  ![0, v6302.toNat]
def k0_off1074 (v6303 : BitVec 32) : Fin 3 → Nat :=
  let v6304 : Index := Scalar.indexCast v6303
  let c0_4070 : Index := 0#32
  let c0_4071 : Index := 0#32
  ![v6304.toNat, 0, 0]

def k0_chk789 (v6303 : BitVec 32) : Prop :=
  (∀ a, (k0_off1074 v6303) a + S1x1x128.size a ≤ S100000x1x128.size a)
theorem k0_off1074_inb : ∀ (v6303 : BitVec 32) (k0_hw789 : k0_chk789 v6303), ∀ a, (k0_off1074 v6303) a + S1x1x128.size a ≤ S100000x1x128.size a := fun v6303 k0_hw789 => k0_hw789

def k0_off1075 (k0_t1 : Fin k0_t1_loop.trips) : Fin 2 → Nat :=
  let c0_4074 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c269_i32 : BitVec 32 := 269#32
  let v6310 : BitVec 32 := Scalar.addi v3888 c269_i32
  let v6311 : Index := Scalar.indexCast v6310
  ![0, v6311.toNat]
def k0_off1076 (v6312 : BitVec 32) : Fin 3 → Nat :=
  let v6313 : Index := Scalar.indexCast v6312
  let c0_4075 : Index := 0#32
  let c0_4076 : Index := 0#32
  ![v6313.toNat, 0, 0]

def k0_chk790 (v6312 : BitVec 32) : Prop :=
  (∀ a, (k0_off1076 v6312) a + S1x1x128.size a ≤ S100000x1x128.size a)
theorem k0_off1076_inb : ∀ (v6312 : BitVec 32) (k0_hw790 : k0_chk790 v6312), ∀ a, (k0_off1076 v6312) a + S1x1x128.size a ≤ S100000x1x128.size a := fun v6312 k0_hw790 => k0_hw790

def k0_off1077 (k0_t1 : Fin k0_t1_loop.trips) : Fin 2 → Nat :=
  let c0_4079 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c270_i32 : BitVec 32 := 270#32
  let v6319 : BitVec 32 := Scalar.addi v3888 c270_i32
  let v6320 : Index := Scalar.indexCast v6319
  ![0, v6320.toNat]
def k0_off1078 (v6321 : BitVec 32) : Fin 3 → Nat :=
  let v6322 : Index := Scalar.indexCast v6321
  let c0_4080 : Index := 0#32
  let c0_4081 : Index := 0#32
  ![v6322.toNat, 0, 0]

def k0_chk791 (v6321 : BitVec 32) : Prop :=
  (∀ a, (k0_off1078 v6321) a + S1x1x128.size a ≤ S100000x1x128.size a)
theorem k0_off1078_inb : ∀ (v6321 : BitVec 32) (k0_hw791 : k0_chk791 v6321), ∀ a, (k0_off1078 v6321) a + S1x1x128.size a ≤ S100000x1x128.size a := fun v6321 k0_hw791 => k0_hw791

def k0_off1079 (k0_t1 : Fin k0_t1_loop.trips) : Fin 2 → Nat :=
  let c0_4084 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c271_i32 : BitVec 32 := 271#32
  let v6328 : BitVec 32 := Scalar.addi v3888 c271_i32
  let v6329 : Index := Scalar.indexCast v6328
  ![0, v6329.toNat]
def k0_off1080 (v6330 : BitVec 32) : Fin 3 → Nat :=
  let v6331 : Index := Scalar.indexCast v6330
  let c0_4085 : Index := 0#32
  let c0_4086 : Index := 0#32
  ![v6331.toNat, 0, 0]

def k0_chk792 (v6330 : BitVec 32) : Prop :=
  (∀ a, (k0_off1080 v6330) a + S1x1x128.size a ≤ S100000x1x128.size a)
theorem k0_off1080_inb : ∀ (v6330 : BitVec 32) (k0_hw792 : k0_chk792 v6330), ∀ a, (k0_off1080 v6330) a + S1x1x128.size a ≤ S100000x1x128.size a := fun v6330 k0_hw792 => k0_hw792

def k0_off1081 (k0_t1 : Fin k0_t1_loop.trips) : Fin 2 → Nat :=
  let c0_4089 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c272_i32 : BitVec 32 := 272#32
  let v6337 : BitVec 32 := Scalar.addi v3888 c272_i32
  let v6338 : Index := Scalar.indexCast v6337
  ![0, v6338.toNat]
def k0_off1082 (v6339 : BitVec 32) : Fin 3 → Nat :=
  let v6340 : Index := Scalar.indexCast v6339
  let c0_4090 : Index := 0#32
  let c0_4091 : Index := 0#32
  ![v6340.toNat, 0, 0]

def k0_chk793 (v6339 : BitVec 32) : Prop :=
  (∀ a, (k0_off1082 v6339) a + S1x1x128.size a ≤ S100000x1x128.size a)
theorem k0_off1082_inb : ∀ (v6339 : BitVec 32) (k0_hw793 : k0_chk793 v6339), ∀ a, (k0_off1082 v6339) a + S1x1x128.size a ≤ S100000x1x128.size a := fun v6339 k0_hw793 => k0_hw793

def k0_off1083 (k0_t1 : Fin k0_t1_loop.trips) : Fin 2 → Nat :=
  let c0_4094 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c273_i32 : BitVec 32 := 273#32
  let v6346 : BitVec 32 := Scalar.addi v3888 c273_i32
  let v6347 : Index := Scalar.indexCast v6346
  ![0, v6347.toNat]
def k0_off1084 (v6348 : BitVec 32) : Fin 3 → Nat :=
  let v6349 : Index := Scalar.indexCast v6348
  let c0_4095 : Index := 0#32
  let c0_4096 : Index := 0#32
  ![v6349.toNat, 0, 0]

def k0_chk794 (v6348 : BitVec 32) : Prop :=
  (∀ a, (k0_off1084 v6348) a + S1x1x128.size a ≤ S100000x1x128.size a)
theorem k0_off1084_inb : ∀ (v6348 : BitVec 32) (k0_hw794 : k0_chk794 v6348), ∀ a, (k0_off1084 v6348) a + S1x1x128.size a ≤ S100000x1x128.size a := fun v6348 k0_hw794 => k0_hw794

def k0_off1085 (k0_t1 : Fin k0_t1_loop.trips) : Fin 2 → Nat :=
  let c0_4099 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c274_i32 : BitVec 32 := 274#32
  let v6355 : BitVec 32 := Scalar.addi v3888 c274_i32
  let v6356 : Index := Scalar.indexCast v6355
  ![0, v6356.toNat]
def k0_off1086 (v6357 : BitVec 32) : Fin 3 → Nat :=
  let v6358 : Index := Scalar.indexCast v6357
  let c0_4100 : Index := 0#32
  let c0_4101 : Index := 0#32
  ![v6358.toNat, 0, 0]

def k0_chk795 (v6357 : BitVec 32) : Prop :=
  (∀ a, (k0_off1086 v6357) a + S1x1x128.size a ≤ S100000x1x128.size a)
theorem k0_off1086_inb : ∀ (v6357 : BitVec 32) (k0_hw795 : k0_chk795 v6357), ∀ a, (k0_off1086 v6357) a + S1x1x128.size a ≤ S100000x1x128.size a := fun v6357 k0_hw795 => k0_hw795

def k0_off1087 (k0_t1 : Fin k0_t1_loop.trips) : Fin 2 → Nat :=
  let c0_4104 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c275_i32 : BitVec 32 := 275#32
  let v6364 : BitVec 32 := Scalar.addi v3888 c275_i32
  let v6365 : Index := Scalar.indexCast v6364
  ![0, v6365.toNat]
def k0_off1088 (v6366 : BitVec 32) : Fin 3 → Nat :=
  let v6367 : Index := Scalar.indexCast v6366
  let c0_4105 : Index := 0#32
  let c0_4106 : Index := 0#32
  ![v6367.toNat, 0, 0]

def k0_chk796 (v6366 : BitVec 32) : Prop :=
  (∀ a, (k0_off1088 v6366) a + S1x1x128.size a ≤ S100000x1x128.size a)
theorem k0_off1088_inb : ∀ (v6366 : BitVec 32) (k0_hw796 : k0_chk796 v6366), ∀ a, (k0_off1088 v6366) a + S1x1x128.size a ≤ S100000x1x128.size a := fun v6366 k0_hw796 => k0_hw796

def k0_off1089 (k0_t1 : Fin k0_t1_loop.trips) : Fin 2 → Nat :=
  let c0_4109 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c276_i32 : BitVec 32 := 276#32
  let v6373 : BitVec 32 := Scalar.addi v3888 c276_i32
  let v6374 : Index := Scalar.indexCast v6373
  ![0, v6374.toNat]
def k0_off1090 (v6375 : BitVec 32) : Fin 3 → Nat :=
  let v6376 : Index := Scalar.indexCast v6375
  let c0_4110 : Index := 0#32
  let c0_4111 : Index := 0#32
  ![v6376.toNat, 0, 0]

def k0_chk797 (v6375 : BitVec 32) : Prop :=
  (∀ a, (k0_off1090 v6375) a + S1x1x128.size a ≤ S100000x1x128.size a)
theorem k0_off1090_inb : ∀ (v6375 : BitVec 32) (k0_hw797 : k0_chk797 v6375), ∀ a, (k0_off1090 v6375) a + S1x1x128.size a ≤ S100000x1x128.size a := fun v6375 k0_hw797 => k0_hw797

def k0_off1091 (k0_t1 : Fin k0_t1_loop.trips) : Fin 2 → Nat :=
  let c0_4114 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c277_i32 : BitVec 32 := 277#32
  let v6382 : BitVec 32 := Scalar.addi v3888 c277_i32
  let v6383 : Index := Scalar.indexCast v6382
  ![0, v6383.toNat]
def k0_off1092 (v6384 : BitVec 32) : Fin 3 → Nat :=
  let v6385 : Index := Scalar.indexCast v6384
  let c0_4115 : Index := 0#32
  let c0_4116 : Index := 0#32
  ![v6385.toNat, 0, 0]

def k0_chk798 (v6384 : BitVec 32) : Prop :=
  (∀ a, (k0_off1092 v6384) a + S1x1x128.size a ≤ S100000x1x128.size a)
theorem k0_off1092_inb : ∀ (v6384 : BitVec 32) (k0_hw798 : k0_chk798 v6384), ∀ a, (k0_off1092 v6384) a + S1x1x128.size a ≤ S100000x1x128.size a := fun v6384 k0_hw798 => k0_hw798

def k0_off1093 (k0_t1 : Fin k0_t1_loop.trips) : Fin 2 → Nat :=
  let c0_4119 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c278_i32 : BitVec 32 := 278#32
  let v6391 : BitVec 32 := Scalar.addi v3888 c278_i32
  let v6392 : Index := Scalar.indexCast v6391
  ![0, v6392.toNat]
def k0_off1094 (v6393 : BitVec 32) : Fin 3 → Nat :=
  let v6394 : Index := Scalar.indexCast v6393
  let c0_4120 : Index := 0#32
  let c0_4121 : Index := 0#32
  ![v6394.toNat, 0, 0]

def k0_chk799 (v6393 : BitVec 32) : Prop :=
  (∀ a, (k0_off1094 v6393) a + S1x1x128.size a ≤ S100000x1x128.size a)
theorem k0_off1094_inb : ∀ (v6393 : BitVec 32) (k0_hw799 : k0_chk799 v6393), ∀ a, (k0_off1094 v6393) a + S1x1x128.size a ≤ S100000x1x128.size a := fun v6393 k0_hw799 => k0_hw799

def k0_off1095 (k0_t1 : Fin k0_t1_loop.trips) : Fin 2 → Nat :=
  let c0_4124 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c279_i32 : BitVec 32 := 279#32
  let v6400 : BitVec 32 := Scalar.addi v3888 c279_i32
  let v6401 : Index := Scalar.indexCast v6400
  ![0, v6401.toNat]
def k0_off1096 (v6402 : BitVec 32) : Fin 3 → Nat :=
  let v6403 : Index := Scalar.indexCast v6402
  let c0_4125 : Index := 0#32
  let c0_4126 : Index := 0#32
  ![v6403.toNat, 0, 0]

def k0_chk800 (v6402 : BitVec 32) : Prop :=
  (∀ a, (k0_off1096 v6402) a + S1x1x128.size a ≤ S100000x1x128.size a)
theorem k0_off1096_inb : ∀ (v6402 : BitVec 32) (k0_hw800 : k0_chk800 v6402), ∀ a, (k0_off1096 v6402) a + S1x1x128.size a ≤ S100000x1x128.size a := fun v6402 k0_hw800 => k0_hw800

def k0_off1097 (k0_t1 : Fin k0_t1_loop.trips) : Fin 2 → Nat :=
  let c0_4129 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c280_i32 : BitVec 32 := 280#32
  let v6409 : BitVec 32 := Scalar.addi v3888 c280_i32
  let v6410 : Index := Scalar.indexCast v6409
  ![0, v6410.toNat]
def k0_off1098 (v6411 : BitVec 32) : Fin 3 → Nat :=
  let v6412 : Index := Scalar.indexCast v6411
  let c0_4130 : Index := 0#32
  let c0_4131 : Index := 0#32
  ![v6412.toNat, 0, 0]

def k0_chk801 (v6411 : BitVec 32) : Prop :=
  (∀ a, (k0_off1098 v6411) a + S1x1x128.size a ≤ S100000x1x128.size a)
theorem k0_off1098_inb : ∀ (v6411 : BitVec 32) (k0_hw801 : k0_chk801 v6411), ∀ a, (k0_off1098 v6411) a + S1x1x128.size a ≤ S100000x1x128.size a := fun v6411 k0_hw801 => k0_hw801

def k0_off1099 (k0_t1 : Fin k0_t1_loop.trips) : Fin 2 → Nat :=
  let c0_4134 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c281_i32 : BitVec 32 := 281#32
  let v6418 : BitVec 32 := Scalar.addi v3888 c281_i32
  let v6419 : Index := Scalar.indexCast v6418
  ![0, v6419.toNat]
def k0_off1100 (v6420 : BitVec 32) : Fin 3 → Nat :=
  let v6421 : Index := Scalar.indexCast v6420
  let c0_4135 : Index := 0#32
  let c0_4136 : Index := 0#32
  ![v6421.toNat, 0, 0]

def k0_chk802 (v6420 : BitVec 32) : Prop :=
  (∀ a, (k0_off1100 v6420) a + S1x1x128.size a ≤ S100000x1x128.size a)
theorem k0_off1100_inb : ∀ (v6420 : BitVec 32) (k0_hw802 : k0_chk802 v6420), ∀ a, (k0_off1100 v6420) a + S1x1x128.size a ≤ S100000x1x128.size a := fun v6420 k0_hw802 => k0_hw802

def k0_off1101 (k0_t1 : Fin k0_t1_loop.trips) : Fin 2 → Nat :=
  let c0_4139 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c282_i32 : BitVec 32 := 282#32
  let v6427 : BitVec 32 := Scalar.addi v3888 c282_i32
  let v6428 : Index := Scalar.indexCast v6427
  ![0, v6428.toNat]
def k0_off1102 (v6429 : BitVec 32) : Fin 3 → Nat :=
  let v6430 : Index := Scalar.indexCast v6429
  let c0_4140 : Index := 0#32
  let c0_4141 : Index := 0#32
  ![v6430.toNat, 0, 0]

def k0_chk803 (v6429 : BitVec 32) : Prop :=
  (∀ a, (k0_off1102 v6429) a + S1x1x128.size a ≤ S100000x1x128.size a)
theorem k0_off1102_inb : ∀ (v6429 : BitVec 32) (k0_hw803 : k0_chk803 v6429), ∀ a, (k0_off1102 v6429) a + S1x1x128.size a ≤ S100000x1x128.size a := fun v6429 k0_hw803 => k0_hw803

def k0_off1103 (k0_t1 : Fin k0_t1_loop.trips) : Fin 2 → Nat :=
  let c0_4144 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c283_i32 : BitVec 32 := 283#32
  let v6436 : BitVec 32 := Scalar.addi v3888 c283_i32
  let v6437 : Index := Scalar.indexCast v6436
  ![0, v6437.toNat]
def k0_off1104 (v6438 : BitVec 32) : Fin 3 → Nat :=
  let v6439 : Index := Scalar.indexCast v6438
  let c0_4145 : Index := 0#32
  let c0_4146 : Index := 0#32
  ![v6439.toNat, 0, 0]

def k0_chk804 (v6438 : BitVec 32) : Prop :=
  (∀ a, (k0_off1104 v6438) a + S1x1x128.size a ≤ S100000x1x128.size a)
theorem k0_off1104_inb : ∀ (v6438 : BitVec 32) (k0_hw804 : k0_chk804 v6438), ∀ a, (k0_off1104 v6438) a + S1x1x128.size a ≤ S100000x1x128.size a := fun v6438 k0_hw804 => k0_hw804

def k0_off1105 (k0_t1 : Fin k0_t1_loop.trips) : Fin 2 → Nat :=
  let c0_4149 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c284_i32 : BitVec 32 := 284#32
  let v6445 : BitVec 32 := Scalar.addi v3888 c284_i32
  let v6446 : Index := Scalar.indexCast v6445
  ![0, v6446.toNat]
def k0_off1106 (v6447 : BitVec 32) : Fin 3 → Nat :=
  let v6448 : Index := Scalar.indexCast v6447
  let c0_4150 : Index := 0#32
  let c0_4151 : Index := 0#32
  ![v6448.toNat, 0, 0]

def k0_chk805 (v6447 : BitVec 32) : Prop :=
  (∀ a, (k0_off1106 v6447) a + S1x1x128.size a ≤ S100000x1x128.size a)
theorem k0_off1106_inb : ∀ (v6447 : BitVec 32) (k0_hw805 : k0_chk805 v6447), ∀ a, (k0_off1106 v6447) a + S1x1x128.size a ≤ S100000x1x128.size a := fun v6447 k0_hw805 => k0_hw805

def k0_off1107 (k0_t1 : Fin k0_t1_loop.trips) : Fin 2 → Nat :=
  let c0_4154 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c285_i32 : BitVec 32 := 285#32
  let v6454 : BitVec 32 := Scalar.addi v3888 c285_i32
  let v6455 : Index := Scalar.indexCast v6454
  ![0, v6455.toNat]
def k0_off1108 (v6456 : BitVec 32) : Fin 3 → Nat :=
  let v6457 : Index := Scalar.indexCast v6456
  let c0_4155 : Index := 0#32
  let c0_4156 : Index := 0#32
  ![v6457.toNat, 0, 0]

def k0_chk806 (v6456 : BitVec 32) : Prop :=
  (∀ a, (k0_off1108 v6456) a + S1x1x128.size a ≤ S100000x1x128.size a)
theorem k0_off1108_inb : ∀ (v6456 : BitVec 32) (k0_hw806 : k0_chk806 v6456), ∀ a, (k0_off1108 v6456) a + S1x1x128.size a ≤ S100000x1x128.size a := fun v6456 k0_hw806 => k0_hw806

def k0_off1109 (k0_t1 : Fin k0_t1_loop.trips) : Fin 2 → Nat :=
  let c0_4159 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c286_i32 : BitVec 32 := 286#32
  let v6463 : BitVec 32 := Scalar.addi v3888 c286_i32
  let v6464 : Index := Scalar.indexCast v6463
  ![0, v6464.toNat]
def k0_off1110 (v6465 : BitVec 32) : Fin 3 → Nat :=
  let v6466 : Index := Scalar.indexCast v6465
  let c0_4160 : Index := 0#32
  let c0_4161 : Index := 0#32
  ![v6466.toNat, 0, 0]

def k0_chk807 (v6465 : BitVec 32) : Prop :=
  (∀ a, (k0_off1110 v6465) a + S1x1x128.size a ≤ S100000x1x128.size a)
theorem k0_off1110_inb : ∀ (v6465 : BitVec 32) (k0_hw807 : k0_chk807 v6465), ∀ a, (k0_off1110 v6465) a + S1x1x128.size a ≤ S100000x1x128.size a := fun v6465 k0_hw807 => k0_hw807

def k0_off1111 (k0_t1 : Fin k0_t1_loop.trips) : Fin 2 → Nat :=
  let c0_4164 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c287_i32 : BitVec 32 := 287#32
  let v6472 : BitVec 32 := Scalar.addi v3888 c287_i32
  let v6473 : Index := Scalar.indexCast v6472
  ![0, v6473.toNat]
def k0_off1112 (v6474 : BitVec 32) : Fin 3 → Nat :=
  let v6475 : Index := Scalar.indexCast v6474
  let c0_4165 : Index := 0#32
  let c0_4166 : Index := 0#32
  ![v6475.toNat, 0, 0]

def k0_chk808 (v6474 : BitVec 32) : Prop :=
  (∀ a, (k0_off1112 v6474) a + S1x1x128.size a ≤ S100000x1x128.size a)
theorem k0_off1112_inb : ∀ (v6474 : BitVec 32) (k0_hw808 : k0_chk808 v6474), ∀ a, (k0_off1112 v6474) a + S1x1x128.size a ≤ S100000x1x128.size a := fun v6474 k0_hw808 => k0_hw808

def k0_off1113 (k0_t1 : Fin k0_t1_loop.trips) : Fin 2 → Nat :=
  let c0_4169 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c288_i32 : BitVec 32 := 288#32
  let v6481 : BitVec 32 := Scalar.addi v3888 c288_i32
  let v6482 : Index := Scalar.indexCast v6481
  ![0, v6482.toNat]
def k0_off1114 (v6483 : BitVec 32) : Fin 3 → Nat :=
  let v6484 : Index := Scalar.indexCast v6483
  let c0_4170 : Index := 0#32
  let c0_4171 : Index := 0#32
  ![v6484.toNat, 0, 0]

def k0_chk809 (v6483 : BitVec 32) : Prop :=
  (∀ a, (k0_off1114 v6483) a + S1x1x128.size a ≤ S100000x1x128.size a)
theorem k0_off1114_inb : ∀ (v6483 : BitVec 32) (k0_hw809 : k0_chk809 v6483), ∀ a, (k0_off1114 v6483) a + S1x1x128.size a ≤ S100000x1x128.size a := fun v6483 k0_hw809 => k0_hw809

def k0_off1115 (k0_t1 : Fin k0_t1_loop.trips) : Fin 2 → Nat :=
  let c0_4174 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c289_i32 : BitVec 32 := 289#32
  let v6490 : BitVec 32 := Scalar.addi v3888 c289_i32
  let v6491 : Index := Scalar.indexCast v6490
  ![0, v6491.toNat]
def k0_off1116 (v6492 : BitVec 32) : Fin 3 → Nat :=
  let v6493 : Index := Scalar.indexCast v6492
  let c0_4175 : Index := 0#32
  let c0_4176 : Index := 0#32
  ![v6493.toNat, 0, 0]

def k0_chk810 (v6492 : BitVec 32) : Prop :=
  (∀ a, (k0_off1116 v6492) a + S1x1x128.size a ≤ S100000x1x128.size a)
theorem k0_off1116_inb : ∀ (v6492 : BitVec 32) (k0_hw810 : k0_chk810 v6492), ∀ a, (k0_off1116 v6492) a + S1x1x128.size a ≤ S100000x1x128.size a := fun v6492 k0_hw810 => k0_hw810

def k0_off1117 (k0_t1 : Fin k0_t1_loop.trips) : Fin 2 → Nat :=
  let c0_4179 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c290_i32 : BitVec 32 := 290#32
  let v6499 : BitVec 32 := Scalar.addi v3888 c290_i32
  let v6500 : Index := Scalar.indexCast v6499
  ![0, v6500.toNat]
def k0_off1118 (v6501 : BitVec 32) : Fin 3 → Nat :=
  let v6502 : Index := Scalar.indexCast v6501
  let c0_4180 : Index := 0#32
  let c0_4181 : Index := 0#32
  ![v6502.toNat, 0, 0]

def k0_chk811 (v6501 : BitVec 32) : Prop :=
  (∀ a, (k0_off1118 v6501) a + S1x1x128.size a ≤ S100000x1x128.size a)
theorem k0_off1118_inb : ∀ (v6501 : BitVec 32) (k0_hw811 : k0_chk811 v6501), ∀ a, (k0_off1118 v6501) a + S1x1x128.size a ≤ S100000x1x128.size a := fun v6501 k0_hw811 => k0_hw811

def k0_off1119 (k0_t1 : Fin k0_t1_loop.trips) : Fin 2 → Nat :=
  let c0_4184 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c291_i32 : BitVec 32 := 291#32
  let v6508 : BitVec 32 := Scalar.addi v3888 c291_i32
  let v6509 : Index := Scalar.indexCast v6508
  ![0, v6509.toNat]
def k0_off1120 (v6510 : BitVec 32) : Fin 3 → Nat :=
  let v6511 : Index := Scalar.indexCast v6510
  let c0_4185 : Index := 0#32
  let c0_4186 : Index := 0#32
  ![v6511.toNat, 0, 0]

def k0_chk812 (v6510 : BitVec 32) : Prop :=
  (∀ a, (k0_off1120 v6510) a + S1x1x128.size a ≤ S100000x1x128.size a)
theorem k0_off1120_inb : ∀ (v6510 : BitVec 32) (k0_hw812 : k0_chk812 v6510), ∀ a, (k0_off1120 v6510) a + S1x1x128.size a ≤ S100000x1x128.size a := fun v6510 k0_hw812 => k0_hw812

def k0_off1121 (k0_t1 : Fin k0_t1_loop.trips) : Fin 2 → Nat :=
  let c0_4189 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c292_i32 : BitVec 32 := 292#32
  let v6517 : BitVec 32 := Scalar.addi v3888 c292_i32
  let v6518 : Index := Scalar.indexCast v6517
  ![0, v6518.toNat]
def k0_off1122 (v6519 : BitVec 32) : Fin 3 → Nat :=
  let v6520 : Index := Scalar.indexCast v6519
  let c0_4190 : Index := 0#32
  let c0_4191 : Index := 0#32
  ![v6520.toNat, 0, 0]

def k0_chk813 (v6519 : BitVec 32) : Prop :=
  (∀ a, (k0_off1122 v6519) a + S1x1x128.size a ≤ S100000x1x128.size a)
theorem k0_off1122_inb : ∀ (v6519 : BitVec 32) (k0_hw813 : k0_chk813 v6519), ∀ a, (k0_off1122 v6519) a + S1x1x128.size a ≤ S100000x1x128.size a := fun v6519 k0_hw813 => k0_hw813

def k0_off1123 (k0_t1 : Fin k0_t1_loop.trips) : Fin 2 → Nat :=
  let c0_4194 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c293_i32 : BitVec 32 := 293#32
  let v6526 : BitVec 32 := Scalar.addi v3888 c293_i32
  let v6527 : Index := Scalar.indexCast v6526
  ![0, v6527.toNat]
def k0_off1124 (v6528 : BitVec 32) : Fin 3 → Nat :=
  let v6529 : Index := Scalar.indexCast v6528
  let c0_4195 : Index := 0#32
  let c0_4196 : Index := 0#32
  ![v6529.toNat, 0, 0]

def k0_chk814 (v6528 : BitVec 32) : Prop :=
  (∀ a, (k0_off1124 v6528) a + S1x1x128.size a ≤ S100000x1x128.size a)
theorem k0_off1124_inb : ∀ (v6528 : BitVec 32) (k0_hw814 : k0_chk814 v6528), ∀ a, (k0_off1124 v6528) a + S1x1x128.size a ≤ S100000x1x128.size a := fun v6528 k0_hw814 => k0_hw814

def k0_off1125 (k0_t1 : Fin k0_t1_loop.trips) : Fin 2 → Nat :=
  let c0_4199 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c294_i32 : BitVec 32 := 294#32
  let v6535 : BitVec 32 := Scalar.addi v3888 c294_i32
  let v6536 : Index := Scalar.indexCast v6535
  ![0, v6536.toNat]
def k0_off1126 (v6537 : BitVec 32) : Fin 3 → Nat :=
  let v6538 : Index := Scalar.indexCast v6537
  let c0_4200 : Index := 0#32
  let c0_4201 : Index := 0#32
  ![v6538.toNat, 0, 0]

def k0_chk815 (v6537 : BitVec 32) : Prop :=
  (∀ a, (k0_off1126 v6537) a + S1x1x128.size a ≤ S100000x1x128.size a)
theorem k0_off1126_inb : ∀ (v6537 : BitVec 32) (k0_hw815 : k0_chk815 v6537), ∀ a, (k0_off1126 v6537) a + S1x1x128.size a ≤ S100000x1x128.size a := fun v6537 k0_hw815 => k0_hw815

def k0_off1127 (k0_t1 : Fin k0_t1_loop.trips) : Fin 2 → Nat :=
  let c0_4204 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c295_i32 : BitVec 32 := 295#32
  let v6544 : BitVec 32 := Scalar.addi v3888 c295_i32
  let v6545 : Index := Scalar.indexCast v6544
  ![0, v6545.toNat]
def k0_off1128 (v6546 : BitVec 32) : Fin 3 → Nat :=
  let v6547 : Index := Scalar.indexCast v6546
  let c0_4205 : Index := 0#32
  let c0_4206 : Index := 0#32
  ![v6547.toNat, 0, 0]

def k0_chk816 (v6546 : BitVec 32) : Prop :=
  (∀ a, (k0_off1128 v6546) a + S1x1x128.size a ≤ S100000x1x128.size a)
theorem k0_off1128_inb : ∀ (v6546 : BitVec 32) (k0_hw816 : k0_chk816 v6546), ∀ a, (k0_off1128 v6546) a + S1x1x128.size a ≤ S100000x1x128.size a := fun v6546 k0_hw816 => k0_hw816

def k0_off1129 (k0_t1 : Fin k0_t1_loop.trips) : Fin 2 → Nat :=
  let c0_4209 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c296_i32 : BitVec 32 := 296#32
  let v6553 : BitVec 32 := Scalar.addi v3888 c296_i32
  let v6554 : Index := Scalar.indexCast v6553
  ![0, v6554.toNat]
def k0_off1130 (v6555 : BitVec 32) : Fin 3 → Nat :=
  let v6556 : Index := Scalar.indexCast v6555
  let c0_4210 : Index := 0#32
  let c0_4211 : Index := 0#32
  ![v6556.toNat, 0, 0]

def k0_chk817 (v6555 : BitVec 32) : Prop :=
  (∀ a, (k0_off1130 v6555) a + S1x1x128.size a ≤ S100000x1x128.size a)
theorem k0_off1130_inb : ∀ (v6555 : BitVec 32) (k0_hw817 : k0_chk817 v6555), ∀ a, (k0_off1130 v6555) a + S1x1x128.size a ≤ S100000x1x128.size a := fun v6555 k0_hw817 => k0_hw817

def k0_off1131 (k0_t1 : Fin k0_t1_loop.trips) : Fin 2 → Nat :=
  let c0_4214 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c297_i32 : BitVec 32 := 297#32
  let v6562 : BitVec 32 := Scalar.addi v3888 c297_i32
  let v6563 : Index := Scalar.indexCast v6562
  ![0, v6563.toNat]
def k0_off1132 (v6564 : BitVec 32) : Fin 3 → Nat :=
  let v6565 : Index := Scalar.indexCast v6564
  let c0_4215 : Index := 0#32
  let c0_4216 : Index := 0#32
  ![v6565.toNat, 0, 0]

def k0_chk818 (v6564 : BitVec 32) : Prop :=
  (∀ a, (k0_off1132 v6564) a + S1x1x128.size a ≤ S100000x1x128.size a)
theorem k0_off1132_inb : ∀ (v6564 : BitVec 32) (k0_hw818 : k0_chk818 v6564), ∀ a, (k0_off1132 v6564) a + S1x1x128.size a ≤ S100000x1x128.size a := fun v6564 k0_hw818 => k0_hw818

def k0_off1133 (k0_t1 : Fin k0_t1_loop.trips) : Fin 2 → Nat :=
  let c0_4219 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c298_i32 : BitVec 32 := 298#32
  let v6571 : BitVec 32 := Scalar.addi v3888 c298_i32
  let v6572 : Index := Scalar.indexCast v6571
  ![0, v6572.toNat]
def k0_off1134 (v6573 : BitVec 32) : Fin 3 → Nat :=
  let v6574 : Index := Scalar.indexCast v6573
  let c0_4220 : Index := 0#32
  let c0_4221 : Index := 0#32
  ![v6574.toNat, 0, 0]

def k0_chk819 (v6573 : BitVec 32) : Prop :=
  (∀ a, (k0_off1134 v6573) a + S1x1x128.size a ≤ S100000x1x128.size a)
theorem k0_off1134_inb : ∀ (v6573 : BitVec 32) (k0_hw819 : k0_chk819 v6573), ∀ a, (k0_off1134 v6573) a + S1x1x128.size a ≤ S100000x1x128.size a := fun v6573 k0_hw819 => k0_hw819

def k0_off1135 (k0_t1 : Fin k0_t1_loop.trips) : Fin 2 → Nat :=
  let c0_4224 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c299_i32 : BitVec 32 := 299#32
  let v6580 : BitVec 32 := Scalar.addi v3888 c299_i32
  let v6581 : Index := Scalar.indexCast v6580
  ![0, v6581.toNat]
def k0_off1136 (v6582 : BitVec 32) : Fin 3 → Nat :=
  let v6583 : Index := Scalar.indexCast v6582
  let c0_4225 : Index := 0#32
  let c0_4226 : Index := 0#32
  ![v6583.toNat, 0, 0]

def k0_chk820 (v6582 : BitVec 32) : Prop :=
  (∀ a, (k0_off1136 v6582) a + S1x1x128.size a ≤ S100000x1x128.size a)
theorem k0_off1136_inb : ∀ (v6582 : BitVec 32) (k0_hw820 : k0_chk820 v6582), ∀ a, (k0_off1136 v6582) a + S1x1x128.size a ≤ S100000x1x128.size a := fun v6582 k0_hw820 => k0_hw820

def k0_off1137 (k0_t1 : Fin k0_t1_loop.trips) : Fin 2 → Nat :=
  let c0_4229 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c300_i32 : BitVec 32 := 300#32
  let v6589 : BitVec 32 := Scalar.addi v3888 c300_i32
  let v6590 : Index := Scalar.indexCast v6589
  ![0, v6590.toNat]
def k0_off1138 (v6591 : BitVec 32) : Fin 3 → Nat :=
  let v6592 : Index := Scalar.indexCast v6591
  let c0_4230 : Index := 0#32
  let c0_4231 : Index := 0#32
  ![v6592.toNat, 0, 0]

def k0_chk821 (v6591 : BitVec 32) : Prop :=
  (∀ a, (k0_off1138 v6591) a + S1x1x128.size a ≤ S100000x1x128.size a)
theorem k0_off1138_inb : ∀ (v6591 : BitVec 32) (k0_hw821 : k0_chk821 v6591), ∀ a, (k0_off1138 v6591) a + S1x1x128.size a ≤ S100000x1x128.size a := fun v6591 k0_hw821 => k0_hw821

def k0_off1139 (k0_t1 : Fin k0_t1_loop.trips) : Fin 2 → Nat :=
  let c0_4234 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c301_i32 : BitVec 32 := 301#32
  let v6598 : BitVec 32 := Scalar.addi v3888 c301_i32
  let v6599 : Index := Scalar.indexCast v6598
  ![0, v6599.toNat]
def k0_off1140 (v6600 : BitVec 32) : Fin 3 → Nat :=
  let v6601 : Index := Scalar.indexCast v6600
  let c0_4235 : Index := 0#32
  let c0_4236 : Index := 0#32
  ![v6601.toNat, 0, 0]

def k0_chk822 (v6600 : BitVec 32) : Prop :=
  (∀ a, (k0_off1140 v6600) a + S1x1x128.size a ≤ S100000x1x128.size a)
theorem k0_off1140_inb : ∀ (v6600 : BitVec 32) (k0_hw822 : k0_chk822 v6600), ∀ a, (k0_off1140 v6600) a + S1x1x128.size a ≤ S100000x1x128.size a := fun v6600 k0_hw822 => k0_hw822

def k0_off1141 (k0_t1 : Fin k0_t1_loop.trips) : Fin 2 → Nat :=
  let c0_4239 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c302_i32 : BitVec 32 := 302#32
  let v6607 : BitVec 32 := Scalar.addi v3888 c302_i32
  let v6608 : Index := Scalar.indexCast v6607
  ![0, v6608.toNat]
def k0_off1142 (v6609 : BitVec 32) : Fin 3 → Nat :=
  let v6610 : Index := Scalar.indexCast v6609
  let c0_4240 : Index := 0#32
  let c0_4241 : Index := 0#32
  ![v6610.toNat, 0, 0]

def k0_chk823 (v6609 : BitVec 32) : Prop :=
  (∀ a, (k0_off1142 v6609) a + S1x1x128.size a ≤ S100000x1x128.size a)
theorem k0_off1142_inb : ∀ (v6609 : BitVec 32) (k0_hw823 : k0_chk823 v6609), ∀ a, (k0_off1142 v6609) a + S1x1x128.size a ≤ S100000x1x128.size a := fun v6609 k0_hw823 => k0_hw823

def k0_off1143 (k0_t1 : Fin k0_t1_loop.trips) : Fin 2 → Nat :=
  let c0_4244 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c303_i32 : BitVec 32 := 303#32
  let v6616 : BitVec 32 := Scalar.addi v3888 c303_i32
  let v6617 : Index := Scalar.indexCast v6616
  ![0, v6617.toNat]
def k0_off1144 (v6618 : BitVec 32) : Fin 3 → Nat :=
  let v6619 : Index := Scalar.indexCast v6618
  let c0_4245 : Index := 0#32
  let c0_4246 : Index := 0#32
  ![v6619.toNat, 0, 0]

def k0_chk824 (v6618 : BitVec 32) : Prop :=
  (∀ a, (k0_off1144 v6618) a + S1x1x128.size a ≤ S100000x1x128.size a)
theorem k0_off1144_inb : ∀ (v6618 : BitVec 32) (k0_hw824 : k0_chk824 v6618), ∀ a, (k0_off1144 v6618) a + S1x1x128.size a ≤ S100000x1x128.size a := fun v6618 k0_hw824 => k0_hw824

def k0_off1145 (k0_t1 : Fin k0_t1_loop.trips) : Fin 2 → Nat :=
  let c0_4249 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c304_i32 : BitVec 32 := 304#32
  let v6625 : BitVec 32 := Scalar.addi v3888 c304_i32
  let v6626 : Index := Scalar.indexCast v6625
  ![0, v6626.toNat]
def k0_off1146 (v6627 : BitVec 32) : Fin 3 → Nat :=
  let v6628 : Index := Scalar.indexCast v6627
  let c0_4250 : Index := 0#32
  let c0_4251 : Index := 0#32
  ![v6628.toNat, 0, 0]

def k0_chk825 (v6627 : BitVec 32) : Prop :=
  (∀ a, (k0_off1146 v6627) a + S1x1x128.size a ≤ S100000x1x128.size a)
theorem k0_off1146_inb : ∀ (v6627 : BitVec 32) (k0_hw825 : k0_chk825 v6627), ∀ a, (k0_off1146 v6627) a + S1x1x128.size a ≤ S100000x1x128.size a := fun v6627 k0_hw825 => k0_hw825

def k0_off1147 (k0_t1 : Fin k0_t1_loop.trips) : Fin 2 → Nat :=
  let c0_4254 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c305_i32 : BitVec 32 := 305#32
  let v6634 : BitVec 32 := Scalar.addi v3888 c305_i32
  let v6635 : Index := Scalar.indexCast v6634
  ![0, v6635.toNat]
def k0_off1148 (v6636 : BitVec 32) : Fin 3 → Nat :=
  let v6637 : Index := Scalar.indexCast v6636
  let c0_4255 : Index := 0#32
  let c0_4256 : Index := 0#32
  ![v6637.toNat, 0, 0]

def k0_chk826 (v6636 : BitVec 32) : Prop :=
  (∀ a, (k0_off1148 v6636) a + S1x1x128.size a ≤ S100000x1x128.size a)
theorem k0_off1148_inb : ∀ (v6636 : BitVec 32) (k0_hw826 : k0_chk826 v6636), ∀ a, (k0_off1148 v6636) a + S1x1x128.size a ≤ S100000x1x128.size a := fun v6636 k0_hw826 => k0_hw826

def k0_off1149 (k0_t1 : Fin k0_t1_loop.trips) : Fin 2 → Nat :=
  let c0_4259 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c306_i32 : BitVec 32 := 306#32
  let v6643 : BitVec 32 := Scalar.addi v3888 c306_i32
  let v6644 : Index := Scalar.indexCast v6643
  ![0, v6644.toNat]
def k0_off1150 (v6645 : BitVec 32) : Fin 3 → Nat :=
  let v6646 : Index := Scalar.indexCast v6645
  let c0_4260 : Index := 0#32
  let c0_4261 : Index := 0#32
  ![v6646.toNat, 0, 0]

def k0_chk827 (v6645 : BitVec 32) : Prop :=
  (∀ a, (k0_off1150 v6645) a + S1x1x128.size a ≤ S100000x1x128.size a)
theorem k0_off1150_inb : ∀ (v6645 : BitVec 32) (k0_hw827 : k0_chk827 v6645), ∀ a, (k0_off1150 v6645) a + S1x1x128.size a ≤ S100000x1x128.size a := fun v6645 k0_hw827 => k0_hw827

def k0_off1151 (k0_t1 : Fin k0_t1_loop.trips) : Fin 2 → Nat :=
  let c0_4264 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c307_i32 : BitVec 32 := 307#32
  let v6652 : BitVec 32 := Scalar.addi v3888 c307_i32
  let v6653 : Index := Scalar.indexCast v6652
  ![0, v6653.toNat]
def k0_off1152 (v6654 : BitVec 32) : Fin 3 → Nat :=
  let v6655 : Index := Scalar.indexCast v6654
  let c0_4265 : Index := 0#32
  let c0_4266 : Index := 0#32
  ![v6655.toNat, 0, 0]

def k0_chk828 (v6654 : BitVec 32) : Prop :=
  (∀ a, (k0_off1152 v6654) a + S1x1x128.size a ≤ S100000x1x128.size a)
theorem k0_off1152_inb : ∀ (v6654 : BitVec 32) (k0_hw828 : k0_chk828 v6654), ∀ a, (k0_off1152 v6654) a + S1x1x128.size a ≤ S100000x1x128.size a := fun v6654 k0_hw828 => k0_hw828

def k0_off1153 (k0_t1 : Fin k0_t1_loop.trips) : Fin 2 → Nat :=
  let c0_4269 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c308_i32 : BitVec 32 := 308#32
  let v6661 : BitVec 32 := Scalar.addi v3888 c308_i32
  let v6662 : Index := Scalar.indexCast v6661
  ![0, v6662.toNat]
def k0_off1154 (v6663 : BitVec 32) : Fin 3 → Nat :=
  let v6664 : Index := Scalar.indexCast v6663
  let c0_4270 : Index := 0#32
  let c0_4271 : Index := 0#32
  ![v6664.toNat, 0, 0]

def k0_chk829 (v6663 : BitVec 32) : Prop :=
  (∀ a, (k0_off1154 v6663) a + S1x1x128.size a ≤ S100000x1x128.size a)
theorem k0_off1154_inb : ∀ (v6663 : BitVec 32) (k0_hw829 : k0_chk829 v6663), ∀ a, (k0_off1154 v6663) a + S1x1x128.size a ≤ S100000x1x128.size a := fun v6663 k0_hw829 => k0_hw829

def k0_off1155 (k0_t1 : Fin k0_t1_loop.trips) : Fin 2 → Nat :=
  let c0_4274 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c309_i32 : BitVec 32 := 309#32
  let v6670 : BitVec 32 := Scalar.addi v3888 c309_i32
  let v6671 : Index := Scalar.indexCast v6670
  ![0, v6671.toNat]
def k0_off1156 (v6672 : BitVec 32) : Fin 3 → Nat :=
  let v6673 : Index := Scalar.indexCast v6672
  let c0_4275 : Index := 0#32
  let c0_4276 : Index := 0#32
  ![v6673.toNat, 0, 0]

def k0_chk830 (v6672 : BitVec 32) : Prop :=
  (∀ a, (k0_off1156 v6672) a + S1x1x128.size a ≤ S100000x1x128.size a)
theorem k0_off1156_inb : ∀ (v6672 : BitVec 32) (k0_hw830 : k0_chk830 v6672), ∀ a, (k0_off1156 v6672) a + S1x1x128.size a ≤ S100000x1x128.size a := fun v6672 k0_hw830 => k0_hw830

def k0_off1157 (k0_t1 : Fin k0_t1_loop.trips) : Fin 2 → Nat :=
  let c0_4279 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c310_i32 : BitVec 32 := 310#32
  let v6679 : BitVec 32 := Scalar.addi v3888 c310_i32
  let v6680 : Index := Scalar.indexCast v6679
  ![0, v6680.toNat]
def k0_off1158 (v6681 : BitVec 32) : Fin 3 → Nat :=
  let v6682 : Index := Scalar.indexCast v6681
  let c0_4280 : Index := 0#32
  let c0_4281 : Index := 0#32
  ![v6682.toNat, 0, 0]

def k0_chk831 (v6681 : BitVec 32) : Prop :=
  (∀ a, (k0_off1158 v6681) a + S1x1x128.size a ≤ S100000x1x128.size a)
theorem k0_off1158_inb : ∀ (v6681 : BitVec 32) (k0_hw831 : k0_chk831 v6681), ∀ a, (k0_off1158 v6681) a + S1x1x128.size a ≤ S100000x1x128.size a := fun v6681 k0_hw831 => k0_hw831

def k0_off1159 (k0_t1 : Fin k0_t1_loop.trips) : Fin 2 → Nat :=
  let c0_4284 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c311_i32 : BitVec 32 := 311#32
  let v6688 : BitVec 32 := Scalar.addi v3888 c311_i32
  let v6689 : Index := Scalar.indexCast v6688
  ![0, v6689.toNat]
def k0_off1160 (v6690 : BitVec 32) : Fin 3 → Nat :=
  let v6691 : Index := Scalar.indexCast v6690
  let c0_4285 : Index := 0#32
  let c0_4286 : Index := 0#32
  ![v6691.toNat, 0, 0]

def k0_chk832 (v6690 : BitVec 32) : Prop :=
  (∀ a, (k0_off1160 v6690) a + S1x1x128.size a ≤ S100000x1x128.size a)
theorem k0_off1160_inb : ∀ (v6690 : BitVec 32) (k0_hw832 : k0_chk832 v6690), ∀ a, (k0_off1160 v6690) a + S1x1x128.size a ≤ S100000x1x128.size a := fun v6690 k0_hw832 => k0_hw832

def k0_off1161 (k0_t1 : Fin k0_t1_loop.trips) : Fin 2 → Nat :=
  let c0_4289 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c312_i32 : BitVec 32 := 312#32
  let v6697 : BitVec 32 := Scalar.addi v3888 c312_i32
  let v6698 : Index := Scalar.indexCast v6697
  ![0, v6698.toNat]
def k0_off1162 (v6699 : BitVec 32) : Fin 3 → Nat :=
  let v6700 : Index := Scalar.indexCast v6699
  let c0_4290 : Index := 0#32
  let c0_4291 : Index := 0#32
  ![v6700.toNat, 0, 0]

def k0_chk833 (v6699 : BitVec 32) : Prop :=
  (∀ a, (k0_off1162 v6699) a + S1x1x128.size a ≤ S100000x1x128.size a)
theorem k0_off1162_inb : ∀ (v6699 : BitVec 32) (k0_hw833 : k0_chk833 v6699), ∀ a, (k0_off1162 v6699) a + S1x1x128.size a ≤ S100000x1x128.size a := fun v6699 k0_hw833 => k0_hw833

def k0_off1163 (k0_t1 : Fin k0_t1_loop.trips) : Fin 2 → Nat :=
  let c0_4294 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c313_i32 : BitVec 32 := 313#32
  let v6706 : BitVec 32 := Scalar.addi v3888 c313_i32
  let v6707 : Index := Scalar.indexCast v6706
  ![0, v6707.toNat]
def k0_off1164 (v6708 : BitVec 32) : Fin 3 → Nat :=
  let v6709 : Index := Scalar.indexCast v6708
  let c0_4295 : Index := 0#32
  let c0_4296 : Index := 0#32
  ![v6709.toNat, 0, 0]

def k0_chk834 (v6708 : BitVec 32) : Prop :=
  (∀ a, (k0_off1164 v6708) a + S1x1x128.size a ≤ S100000x1x128.size a)
theorem k0_off1164_inb : ∀ (v6708 : BitVec 32) (k0_hw834 : k0_chk834 v6708), ∀ a, (k0_off1164 v6708) a + S1x1x128.size a ≤ S100000x1x128.size a := fun v6708 k0_hw834 => k0_hw834

def k0_off1165 (k0_t1 : Fin k0_t1_loop.trips) : Fin 2 → Nat :=
  let c0_4299 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c314_i32 : BitVec 32 := 314#32
  let v6715 : BitVec 32 := Scalar.addi v3888 c314_i32
  let v6716 : Index := Scalar.indexCast v6715
  ![0, v6716.toNat]
def k0_off1166 (v6717 : BitVec 32) : Fin 3 → Nat :=
  let v6718 : Index := Scalar.indexCast v6717
  let c0_4300 : Index := 0#32
  let c0_4301 : Index := 0#32
  ![v6718.toNat, 0, 0]

def k0_chk835 (v6717 : BitVec 32) : Prop :=
  (∀ a, (k0_off1166 v6717) a + S1x1x128.size a ≤ S100000x1x128.size a)
theorem k0_off1166_inb : ∀ (v6717 : BitVec 32) (k0_hw835 : k0_chk835 v6717), ∀ a, (k0_off1166 v6717) a + S1x1x128.size a ≤ S100000x1x128.size a := fun v6717 k0_hw835 => k0_hw835

def k0_off1167 (k0_t1 : Fin k0_t1_loop.trips) : Fin 2 → Nat :=
  let c0_4304 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c315_i32 : BitVec 32 := 315#32
  let v6724 : BitVec 32 := Scalar.addi v3888 c315_i32
  let v6725 : Index := Scalar.indexCast v6724
  ![0, v6725.toNat]
def k0_off1168 (v6726 : BitVec 32) : Fin 3 → Nat :=
  let v6727 : Index := Scalar.indexCast v6726
  let c0_4305 : Index := 0#32
  let c0_4306 : Index := 0#32
  ![v6727.toNat, 0, 0]

def k0_chk836 (v6726 : BitVec 32) : Prop :=
  (∀ a, (k0_off1168 v6726) a + S1x1x128.size a ≤ S100000x1x128.size a)
theorem k0_off1168_inb : ∀ (v6726 : BitVec 32) (k0_hw836 : k0_chk836 v6726), ∀ a, (k0_off1168 v6726) a + S1x1x128.size a ≤ S100000x1x128.size a := fun v6726 k0_hw836 => k0_hw836

def k0_off1169 (k0_t1 : Fin k0_t1_loop.trips) : Fin 2 → Nat :=
  let c0_4309 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c316_i32 : BitVec 32 := 316#32
  let v6733 : BitVec 32 := Scalar.addi v3888 c316_i32
  let v6734 : Index := Scalar.indexCast v6733
  ![0, v6734.toNat]
def k0_off1170 (v6735 : BitVec 32) : Fin 3 → Nat :=
  let v6736 : Index := Scalar.indexCast v6735
  let c0_4310 : Index := 0#32
  let c0_4311 : Index := 0#32
  ![v6736.toNat, 0, 0]

def k0_chk837 (v6735 : BitVec 32) : Prop :=
  (∀ a, (k0_off1170 v6735) a + S1x1x128.size a ≤ S100000x1x128.size a)
theorem k0_off1170_inb : ∀ (v6735 : BitVec 32) (k0_hw837 : k0_chk837 v6735), ∀ a, (k0_off1170 v6735) a + S1x1x128.size a ≤ S100000x1x128.size a := fun v6735 k0_hw837 => k0_hw837

def k0_off1171 (k0_t1 : Fin k0_t1_loop.trips) : Fin 2 → Nat :=
  let c0_4314 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c317_i32 : BitVec 32 := 317#32
  let v6742 : BitVec 32 := Scalar.addi v3888 c317_i32
  let v6743 : Index := Scalar.indexCast v6742
  ![0, v6743.toNat]
def k0_off1172 (v6744 : BitVec 32) : Fin 3 → Nat :=
  let v6745 : Index := Scalar.indexCast v6744
  let c0_4315 : Index := 0#32
  let c0_4316 : Index := 0#32
  ![v6745.toNat, 0, 0]

def k0_chk838 (v6744 : BitVec 32) : Prop :=
  (∀ a, (k0_off1172 v6744) a + S1x1x128.size a ≤ S100000x1x128.size a)
theorem k0_off1172_inb : ∀ (v6744 : BitVec 32) (k0_hw838 : k0_chk838 v6744), ∀ a, (k0_off1172 v6744) a + S1x1x128.size a ≤ S100000x1x128.size a := fun v6744 k0_hw838 => k0_hw838

def k0_off1173 (k0_t1 : Fin k0_t1_loop.trips) : Fin 2 → Nat :=
  let c0_4319 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c318_i32 : BitVec 32 := 318#32
  let v6751 : BitVec 32 := Scalar.addi v3888 c318_i32
  let v6752 : Index := Scalar.indexCast v6751
  ![0, v6752.toNat]
def k0_off1174 (v6753 : BitVec 32) : Fin 3 → Nat :=
  let v6754 : Index := Scalar.indexCast v6753
  let c0_4320 : Index := 0#32
  let c0_4321 : Index := 0#32
  ![v6754.toNat, 0, 0]

def k0_chk839 (v6753 : BitVec 32) : Prop :=
  (∀ a, (k0_off1174 v6753) a + S1x1x128.size a ≤ S100000x1x128.size a)
theorem k0_off1174_inb : ∀ (v6753 : BitVec 32) (k0_hw839 : k0_chk839 v6753), ∀ a, (k0_off1174 v6753) a + S1x1x128.size a ≤ S100000x1x128.size a := fun v6753 k0_hw839 => k0_hw839

def k0_off1175 (k0_t1 : Fin k0_t1_loop.trips) : Fin 2 → Nat :=
  let c0_4324 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c319_i32 : BitVec 32 := 319#32
  let v6760 : BitVec 32 := Scalar.addi v3888 c319_i32
  let v6761 : Index := Scalar.indexCast v6760
  ![0, v6761.toNat]
def k0_off1176 (v6762 : BitVec 32) : Fin 3 → Nat :=
  let v6763 : Index := Scalar.indexCast v6762
  let c0_4325 : Index := 0#32
  let c0_4326 : Index := 0#32
  ![v6763.toNat, 0, 0]

def k0_chk840 (v6762 : BitVec 32) : Prop :=
  (∀ a, (k0_off1176 v6762) a + S1x1x128.size a ≤ S100000x1x128.size a)
theorem k0_off1176_inb : ∀ (v6762 : BitVec 32) (k0_hw840 : k0_chk840 v6762), ∀ a, (k0_off1176 v6762) a + S1x1x128.size a ≤ S100000x1x128.size a := fun v6762 k0_hw840 => k0_hw840

def k0_off1177 (k0_t1 : Fin k0_t1_loop.trips) : Fin 2 → Nat :=
  let c0_4329 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c320_i32 : BitVec 32 := 320#32
  let v6769 : BitVec 32 := Scalar.addi v3888 c320_i32
  let v6770 : Index := Scalar.indexCast v6769
  ![0, v6770.toNat]
def k0_off1178 (v6771 : BitVec 32) : Fin 3 → Nat :=
  let v6772 : Index := Scalar.indexCast v6771
  let c0_4330 : Index := 0#32
  let c0_4331 : Index := 0#32
  ![v6772.toNat, 0, 0]

def k0_chk841 (v6771 : BitVec 32) : Prop :=
  (∀ a, (k0_off1178 v6771) a + S1x1x128.size a ≤ S100000x1x128.size a)
theorem k0_off1178_inb : ∀ (v6771 : BitVec 32) (k0_hw841 : k0_chk841 v6771), ∀ a, (k0_off1178 v6771) a + S1x1x128.size a ≤ S100000x1x128.size a := fun v6771 k0_hw841 => k0_hw841

def k0_off1179 (k0_t1 : Fin k0_t1_loop.trips) : Fin 2 → Nat :=
  let c0_4334 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c321_i32 : BitVec 32 := 321#32
  let v6778 : BitVec 32 := Scalar.addi v3888 c321_i32
  let v6779 : Index := Scalar.indexCast v6778
  ![0, v6779.toNat]
def k0_off1180 (v6780 : BitVec 32) : Fin 3 → Nat :=
  let v6781 : Index := Scalar.indexCast v6780
  let c0_4335 : Index := 0#32
  let c0_4336 : Index := 0#32
  ![v6781.toNat, 0, 0]

def k0_chk842 (v6780 : BitVec 32) : Prop :=
  (∀ a, (k0_off1180 v6780) a + S1x1x128.size a ≤ S100000x1x128.size a)
theorem k0_off1180_inb : ∀ (v6780 : BitVec 32) (k0_hw842 : k0_chk842 v6780), ∀ a, (k0_off1180 v6780) a + S1x1x128.size a ≤ S100000x1x128.size a := fun v6780 k0_hw842 => k0_hw842

def k0_off1181 (k0_t1 : Fin k0_t1_loop.trips) : Fin 2 → Nat :=
  let c0_4339 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c322_i32 : BitVec 32 := 322#32
  let v6787 : BitVec 32 := Scalar.addi v3888 c322_i32
  let v6788 : Index := Scalar.indexCast v6787
  ![0, v6788.toNat]
def k0_off1182 (v6789 : BitVec 32) : Fin 3 → Nat :=
  let v6790 : Index := Scalar.indexCast v6789
  let c0_4340 : Index := 0#32
  let c0_4341 : Index := 0#32
  ![v6790.toNat, 0, 0]

def k0_chk843 (v6789 : BitVec 32) : Prop :=
  (∀ a, (k0_off1182 v6789) a + S1x1x128.size a ≤ S100000x1x128.size a)
theorem k0_off1182_inb : ∀ (v6789 : BitVec 32) (k0_hw843 : k0_chk843 v6789), ∀ a, (k0_off1182 v6789) a + S1x1x128.size a ≤ S100000x1x128.size a := fun v6789 k0_hw843 => k0_hw843

def k0_off1183 (k0_t1 : Fin k0_t1_loop.trips) : Fin 2 → Nat :=
  let c0_4344 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c323_i32 : BitVec 32 := 323#32
  let v6796 : BitVec 32 := Scalar.addi v3888 c323_i32
  let v6797 : Index := Scalar.indexCast v6796
  ![0, v6797.toNat]
def k0_off1184 (v6798 : BitVec 32) : Fin 3 → Nat :=
  let v6799 : Index := Scalar.indexCast v6798
  let c0_4345 : Index := 0#32
  let c0_4346 : Index := 0#32
  ![v6799.toNat, 0, 0]

def k0_chk844 (v6798 : BitVec 32) : Prop :=
  (∀ a, (k0_off1184 v6798) a + S1x1x128.size a ≤ S100000x1x128.size a)
theorem k0_off1184_inb : ∀ (v6798 : BitVec 32) (k0_hw844 : k0_chk844 v6798), ∀ a, (k0_off1184 v6798) a + S1x1x128.size a ≤ S100000x1x128.size a := fun v6798 k0_hw844 => k0_hw844

def k0_off1185 (k0_t1 : Fin k0_t1_loop.trips) : Fin 2 → Nat :=
  let c0_4349 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c324_i32 : BitVec 32 := 324#32
  let v6805 : BitVec 32 := Scalar.addi v3888 c324_i32
  let v6806 : Index := Scalar.indexCast v6805
  ![0, v6806.toNat]
def k0_off1186 (v6807 : BitVec 32) : Fin 3 → Nat :=
  let v6808 : Index := Scalar.indexCast v6807
  let c0_4350 : Index := 0#32
  let c0_4351 : Index := 0#32
  ![v6808.toNat, 0, 0]

def k0_chk845 (v6807 : BitVec 32) : Prop :=
  (∀ a, (k0_off1186 v6807) a + S1x1x128.size a ≤ S100000x1x128.size a)
theorem k0_off1186_inb : ∀ (v6807 : BitVec 32) (k0_hw845 : k0_chk845 v6807), ∀ a, (k0_off1186 v6807) a + S1x1x128.size a ≤ S100000x1x128.size a := fun v6807 k0_hw845 => k0_hw845

def k0_off1187 (k0_t1 : Fin k0_t1_loop.trips) : Fin 2 → Nat :=
  let c0_4354 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c325_i32 : BitVec 32 := 325#32
  let v6814 : BitVec 32 := Scalar.addi v3888 c325_i32
  let v6815 : Index := Scalar.indexCast v6814
  ![0, v6815.toNat]
def k0_off1188 (v6816 : BitVec 32) : Fin 3 → Nat :=
  let v6817 : Index := Scalar.indexCast v6816
  let c0_4355 : Index := 0#32
  let c0_4356 : Index := 0#32
  ![v6817.toNat, 0, 0]

def k0_chk846 (v6816 : BitVec 32) : Prop :=
  (∀ a, (k0_off1188 v6816) a + S1x1x128.size a ≤ S100000x1x128.size a)
theorem k0_off1188_inb : ∀ (v6816 : BitVec 32) (k0_hw846 : k0_chk846 v6816), ∀ a, (k0_off1188 v6816) a + S1x1x128.size a ≤ S100000x1x128.size a := fun v6816 k0_hw846 => k0_hw846

def k0_off1189 (k0_t1 : Fin k0_t1_loop.trips) : Fin 2 → Nat :=
  let c0_4359 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c326_i32 : BitVec 32 := 326#32
  let v6823 : BitVec 32 := Scalar.addi v3888 c326_i32
  let v6824 : Index := Scalar.indexCast v6823
  ![0, v6824.toNat]
def k0_off1190 (v6825 : BitVec 32) : Fin 3 → Nat :=
  let v6826 : Index := Scalar.indexCast v6825
  let c0_4360 : Index := 0#32
  let c0_4361 : Index := 0#32
  ![v6826.toNat, 0, 0]

def k0_chk847 (v6825 : BitVec 32) : Prop :=
  (∀ a, (k0_off1190 v6825) a + S1x1x128.size a ≤ S100000x1x128.size a)
theorem k0_off1190_inb : ∀ (v6825 : BitVec 32) (k0_hw847 : k0_chk847 v6825), ∀ a, (k0_off1190 v6825) a + S1x1x128.size a ≤ S100000x1x128.size a := fun v6825 k0_hw847 => k0_hw847

def k0_off1191 (k0_t1 : Fin k0_t1_loop.trips) : Fin 2 → Nat :=
  let c0_4364 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c327_i32 : BitVec 32 := 327#32
  let v6832 : BitVec 32 := Scalar.addi v3888 c327_i32
  let v6833 : Index := Scalar.indexCast v6832
  ![0, v6833.toNat]
def k0_off1192 (v6834 : BitVec 32) : Fin 3 → Nat :=
  let v6835 : Index := Scalar.indexCast v6834
  let c0_4365 : Index := 0#32
  let c0_4366 : Index := 0#32
  ![v6835.toNat, 0, 0]

def k0_chk848 (v6834 : BitVec 32) : Prop :=
  (∀ a, (k0_off1192 v6834) a + S1x1x128.size a ≤ S100000x1x128.size a)
theorem k0_off1192_inb : ∀ (v6834 : BitVec 32) (k0_hw848 : k0_chk848 v6834), ∀ a, (k0_off1192 v6834) a + S1x1x128.size a ≤ S100000x1x128.size a := fun v6834 k0_hw848 => k0_hw848

def k0_off1193 (k0_t1 : Fin k0_t1_loop.trips) : Fin 2 → Nat :=
  let c0_4369 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c328_i32 : BitVec 32 := 328#32
  let v6841 : BitVec 32 := Scalar.addi v3888 c328_i32
  let v6842 : Index := Scalar.indexCast v6841
  ![0, v6842.toNat]
def k0_off1194 (v6843 : BitVec 32) : Fin 3 → Nat :=
  let v6844 : Index := Scalar.indexCast v6843
  let c0_4370 : Index := 0#32
  let c0_4371 : Index := 0#32
  ![v6844.toNat, 0, 0]

def k0_chk849 (v6843 : BitVec 32) : Prop :=
  (∀ a, (k0_off1194 v6843) a + S1x1x128.size a ≤ S100000x1x128.size a)
theorem k0_off1194_inb : ∀ (v6843 : BitVec 32) (k0_hw849 : k0_chk849 v6843), ∀ a, (k0_off1194 v6843) a + S1x1x128.size a ≤ S100000x1x128.size a := fun v6843 k0_hw849 => k0_hw849

def k0_off1195 (k0_t1 : Fin k0_t1_loop.trips) : Fin 2 → Nat :=
  let c0_4374 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c329_i32 : BitVec 32 := 329#32
  let v6850 : BitVec 32 := Scalar.addi v3888 c329_i32
  let v6851 : Index := Scalar.indexCast v6850
  ![0, v6851.toNat]
def k0_off1196 (v6852 : BitVec 32) : Fin 3 → Nat :=
  let v6853 : Index := Scalar.indexCast v6852
  let c0_4375 : Index := 0#32
  let c0_4376 : Index := 0#32
  ![v6853.toNat, 0, 0]

def k0_chk850 (v6852 : BitVec 32) : Prop :=
  (∀ a, (k0_off1196 v6852) a + S1x1x128.size a ≤ S100000x1x128.size a)
theorem k0_off1196_inb : ∀ (v6852 : BitVec 32) (k0_hw850 : k0_chk850 v6852), ∀ a, (k0_off1196 v6852) a + S1x1x128.size a ≤ S100000x1x128.size a := fun v6852 k0_hw850 => k0_hw850

def k0_off1197 (k0_t1 : Fin k0_t1_loop.trips) : Fin 2 → Nat :=
  let c0_4379 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c330_i32 : BitVec 32 := 330#32
  let v6859 : BitVec 32 := Scalar.addi v3888 c330_i32
  let v6860 : Index := Scalar.indexCast v6859
  ![0, v6860.toNat]
def k0_off1198 (v6861 : BitVec 32) : Fin 3 → Nat :=
  let v6862 : Index := Scalar.indexCast v6861
  let c0_4380 : Index := 0#32
  let c0_4381 : Index := 0#32
  ![v6862.toNat, 0, 0]

def k0_chk851 (v6861 : BitVec 32) : Prop :=
  (∀ a, (k0_off1198 v6861) a + S1x1x128.size a ≤ S100000x1x128.size a)
theorem k0_off1198_inb : ∀ (v6861 : BitVec 32) (k0_hw851 : k0_chk851 v6861), ∀ a, (k0_off1198 v6861) a + S1x1x128.size a ≤ S100000x1x128.size a := fun v6861 k0_hw851 => k0_hw851

def k0_off1199 (k0_t1 : Fin k0_t1_loop.trips) : Fin 2 → Nat :=
  let c0_4384 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c331_i32 : BitVec 32 := 331#32
  let v6868 : BitVec 32 := Scalar.addi v3888 c331_i32
  let v6869 : Index := Scalar.indexCast v6868
  ![0, v6869.toNat]
def k0_off1200 (v6870 : BitVec 32) : Fin 3 → Nat :=
  let v6871 : Index := Scalar.indexCast v6870
  let c0_4385 : Index := 0#32
  let c0_4386 : Index := 0#32
  ![v6871.toNat, 0, 0]

def k0_chk852 (v6870 : BitVec 32) : Prop :=
  (∀ a, (k0_off1200 v6870) a + S1x1x128.size a ≤ S100000x1x128.size a)
theorem k0_off1200_inb : ∀ (v6870 : BitVec 32) (k0_hw852 : k0_chk852 v6870), ∀ a, (k0_off1200 v6870) a + S1x1x128.size a ≤ S100000x1x128.size a := fun v6870 k0_hw852 => k0_hw852

def k0_off1201 (k0_t1 : Fin k0_t1_loop.trips) : Fin 2 → Nat :=
  let c0_4389 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c332_i32 : BitVec 32 := 332#32
  let v6877 : BitVec 32 := Scalar.addi v3888 c332_i32
  let v6878 : Index := Scalar.indexCast v6877
  ![0, v6878.toNat]
def k0_off1202 (v6879 : BitVec 32) : Fin 3 → Nat :=
  let v6880 : Index := Scalar.indexCast v6879
  let c0_4390 : Index := 0#32
  let c0_4391 : Index := 0#32
  ![v6880.toNat, 0, 0]

def k0_chk853 (v6879 : BitVec 32) : Prop :=
  (∀ a, (k0_off1202 v6879) a + S1x1x128.size a ≤ S100000x1x128.size a)
theorem k0_off1202_inb : ∀ (v6879 : BitVec 32) (k0_hw853 : k0_chk853 v6879), ∀ a, (k0_off1202 v6879) a + S1x1x128.size a ≤ S100000x1x128.size a := fun v6879 k0_hw853 => k0_hw853

def k0_off1203 (k0_t1 : Fin k0_t1_loop.trips) : Fin 2 → Nat :=
  let c0_4394 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c333_i32 : BitVec 32 := 333#32
  let v6886 : BitVec 32 := Scalar.addi v3888 c333_i32
  let v6887 : Index := Scalar.indexCast v6886
  ![0, v6887.toNat]
def k0_off1204 (v6888 : BitVec 32) : Fin 3 → Nat :=
  let v6889 : Index := Scalar.indexCast v6888
  let c0_4395 : Index := 0#32
  let c0_4396 : Index := 0#32
  ![v6889.toNat, 0, 0]

def k0_chk854 (v6888 : BitVec 32) : Prop :=
  (∀ a, (k0_off1204 v6888) a + S1x1x128.size a ≤ S100000x1x128.size a)
theorem k0_off1204_inb : ∀ (v6888 : BitVec 32) (k0_hw854 : k0_chk854 v6888), ∀ a, (k0_off1204 v6888) a + S1x1x128.size a ≤ S100000x1x128.size a := fun v6888 k0_hw854 => k0_hw854

def k0_off1205 (k0_t1 : Fin k0_t1_loop.trips) : Fin 2 → Nat :=
  let c0_4399 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c334_i32 : BitVec 32 := 334#32
  let v6895 : BitVec 32 := Scalar.addi v3888 c334_i32
  let v6896 : Index := Scalar.indexCast v6895
  ![0, v6896.toNat]
def k0_off1206 (v6897 : BitVec 32) : Fin 3 → Nat :=
  let v6898 : Index := Scalar.indexCast v6897
  let c0_4400 : Index := 0#32
  let c0_4401 : Index := 0#32
  ![v6898.toNat, 0, 0]

def k0_chk855 (v6897 : BitVec 32) : Prop :=
  (∀ a, (k0_off1206 v6897) a + S1x1x128.size a ≤ S100000x1x128.size a)
theorem k0_off1206_inb : ∀ (v6897 : BitVec 32) (k0_hw855 : k0_chk855 v6897), ∀ a, (k0_off1206 v6897) a + S1x1x128.size a ≤ S100000x1x128.size a := fun v6897 k0_hw855 => k0_hw855

def k0_off1207 (k0_t1 : Fin k0_t1_loop.trips) : Fin 2 → Nat :=
  let c0_4404 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c335_i32 : BitVec 32 := 335#32
  let v6904 : BitVec 32 := Scalar.addi v3888 c335_i32
  let v6905 : Index := Scalar.indexCast v6904
  ![0, v6905.toNat]
def k0_off1208 (v6906 : BitVec 32) : Fin 3 → Nat :=
  let v6907 : Index := Scalar.indexCast v6906
  let c0_4405 : Index := 0#32
  let c0_4406 : Index := 0#32
  ![v6907.toNat, 0, 0]

def k0_chk856 (v6906 : BitVec 32) : Prop :=
  (∀ a, (k0_off1208 v6906) a + S1x1x128.size a ≤ S100000x1x128.size a)
theorem k0_off1208_inb : ∀ (v6906 : BitVec 32) (k0_hw856 : k0_chk856 v6906), ∀ a, (k0_off1208 v6906) a + S1x1x128.size a ≤ S100000x1x128.size a := fun v6906 k0_hw856 => k0_hw856

def k0_off1209 (k0_t1 : Fin k0_t1_loop.trips) : Fin 2 → Nat :=
  let c0_4409 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c336_i32 : BitVec 32 := 336#32
  let v6913 : BitVec 32 := Scalar.addi v3888 c336_i32
  let v6914 : Index := Scalar.indexCast v6913
  ![0, v6914.toNat]
def k0_off1210 (v6915 : BitVec 32) : Fin 3 → Nat :=
  let v6916 : Index := Scalar.indexCast v6915
  let c0_4410 : Index := 0#32
  let c0_4411 : Index := 0#32
  ![v6916.toNat, 0, 0]

def k0_chk857 (v6915 : BitVec 32) : Prop :=
  (∀ a, (k0_off1210 v6915) a + S1x1x128.size a ≤ S100000x1x128.size a)
theorem k0_off1210_inb : ∀ (v6915 : BitVec 32) (k0_hw857 : k0_chk857 v6915), ∀ a, (k0_off1210 v6915) a + S1x1x128.size a ≤ S100000x1x128.size a := fun v6915 k0_hw857 => k0_hw857

def k0_off1211 (k0_t1 : Fin k0_t1_loop.trips) : Fin 2 → Nat :=
  let c0_4414 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c337_i32 : BitVec 32 := 337#32
  let v6922 : BitVec 32 := Scalar.addi v3888 c337_i32
  let v6923 : Index := Scalar.indexCast v6922
  ![0, v6923.toNat]
def k0_off1212 (v6924 : BitVec 32) : Fin 3 → Nat :=
  let v6925 : Index := Scalar.indexCast v6924
  let c0_4415 : Index := 0#32
  let c0_4416 : Index := 0#32
  ![v6925.toNat, 0, 0]

def k0_chk858 (v6924 : BitVec 32) : Prop :=
  (∀ a, (k0_off1212 v6924) a + S1x1x128.size a ≤ S100000x1x128.size a)
theorem k0_off1212_inb : ∀ (v6924 : BitVec 32) (k0_hw858 : k0_chk858 v6924), ∀ a, (k0_off1212 v6924) a + S1x1x128.size a ≤ S100000x1x128.size a := fun v6924 k0_hw858 => k0_hw858

def k0_off1213 (k0_t1 : Fin k0_t1_loop.trips) : Fin 2 → Nat :=
  let c0_4419 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c338_i32 : BitVec 32 := 338#32
  let v6931 : BitVec 32 := Scalar.addi v3888 c338_i32
  let v6932 : Index := Scalar.indexCast v6931
  ![0, v6932.toNat]
def k0_off1214 (v6933 : BitVec 32) : Fin 3 → Nat :=
  let v6934 : Index := Scalar.indexCast v6933
  let c0_4420 : Index := 0#32
  let c0_4421 : Index := 0#32
  ![v6934.toNat, 0, 0]

def k0_chk859 (v6933 : BitVec 32) : Prop :=
  (∀ a, (k0_off1214 v6933) a + S1x1x128.size a ≤ S100000x1x128.size a)
theorem k0_off1214_inb : ∀ (v6933 : BitVec 32) (k0_hw859 : k0_chk859 v6933), ∀ a, (k0_off1214 v6933) a + S1x1x128.size a ≤ S100000x1x128.size a := fun v6933 k0_hw859 => k0_hw859

def k0_off1215 (k0_t1 : Fin k0_t1_loop.trips) : Fin 2 → Nat :=
  let c0_4424 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c339_i32 : BitVec 32 := 339#32
  let v6940 : BitVec 32 := Scalar.addi v3888 c339_i32
  let v6941 : Index := Scalar.indexCast v6940
  ![0, v6941.toNat]
def k0_off1216 (v6942 : BitVec 32) : Fin 3 → Nat :=
  let v6943 : Index := Scalar.indexCast v6942
  let c0_4425 : Index := 0#32
  let c0_4426 : Index := 0#32
  ![v6943.toNat, 0, 0]

def k0_chk860 (v6942 : BitVec 32) : Prop :=
  (∀ a, (k0_off1216 v6942) a + S1x1x128.size a ≤ S100000x1x128.size a)
theorem k0_off1216_inb : ∀ (v6942 : BitVec 32) (k0_hw860 : k0_chk860 v6942), ∀ a, (k0_off1216 v6942) a + S1x1x128.size a ≤ S100000x1x128.size a := fun v6942 k0_hw860 => k0_hw860

def k0_off1217 (k0_t1 : Fin k0_t1_loop.trips) : Fin 2 → Nat :=
  let c0_4429 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c340_i32 : BitVec 32 := 340#32
  let v6949 : BitVec 32 := Scalar.addi v3888 c340_i32
  let v6950 : Index := Scalar.indexCast v6949
  ![0, v6950.toNat]
def k0_off1218 (v6951 : BitVec 32) : Fin 3 → Nat :=
  let v6952 : Index := Scalar.indexCast v6951
  let c0_4430 : Index := 0#32
  let c0_4431 : Index := 0#32
  ![v6952.toNat, 0, 0]

def k0_chk861 (v6951 : BitVec 32) : Prop :=
  (∀ a, (k0_off1218 v6951) a + S1x1x128.size a ≤ S100000x1x128.size a)
theorem k0_off1218_inb : ∀ (v6951 : BitVec 32) (k0_hw861 : k0_chk861 v6951), ∀ a, (k0_off1218 v6951) a + S1x1x128.size a ≤ S100000x1x128.size a := fun v6951 k0_hw861 => k0_hw861

def k0_off1219 (k0_t1 : Fin k0_t1_loop.trips) : Fin 2 → Nat :=
  let c0_4434 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c341_i32 : BitVec 32 := 341#32
  let v6958 : BitVec 32 := Scalar.addi v3888 c341_i32
  let v6959 : Index := Scalar.indexCast v6958
  ![0, v6959.toNat]
def k0_off1220 (v6960 : BitVec 32) : Fin 3 → Nat :=
  let v6961 : Index := Scalar.indexCast v6960
  let c0_4435 : Index := 0#32
  let c0_4436 : Index := 0#32
  ![v6961.toNat, 0, 0]

def k0_chk862 (v6960 : BitVec 32) : Prop :=
  (∀ a, (k0_off1220 v6960) a + S1x1x128.size a ≤ S100000x1x128.size a)
theorem k0_off1220_inb : ∀ (v6960 : BitVec 32) (k0_hw862 : k0_chk862 v6960), ∀ a, (k0_off1220 v6960) a + S1x1x128.size a ≤ S100000x1x128.size a := fun v6960 k0_hw862 => k0_hw862

def k0_off1221 (k0_t1 : Fin k0_t1_loop.trips) : Fin 2 → Nat :=
  let c0_4439 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c342_i32 : BitVec 32 := 342#32
  let v6967 : BitVec 32 := Scalar.addi v3888 c342_i32
  let v6968 : Index := Scalar.indexCast v6967
  ![0, v6968.toNat]
def k0_off1222 (v6969 : BitVec 32) : Fin 3 → Nat :=
  let v6970 : Index := Scalar.indexCast v6969
  let c0_4440 : Index := 0#32
  let c0_4441 : Index := 0#32
  ![v6970.toNat, 0, 0]

def k0_chk863 (v6969 : BitVec 32) : Prop :=
  (∀ a, (k0_off1222 v6969) a + S1x1x128.size a ≤ S100000x1x128.size a)
theorem k0_off1222_inb : ∀ (v6969 : BitVec 32) (k0_hw863 : k0_chk863 v6969), ∀ a, (k0_off1222 v6969) a + S1x1x128.size a ≤ S100000x1x128.size a := fun v6969 k0_hw863 => k0_hw863

def k0_off1223 (k0_t1 : Fin k0_t1_loop.trips) : Fin 2 → Nat :=
  let c0_4444 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c343_i32 : BitVec 32 := 343#32
  let v6976 : BitVec 32 := Scalar.addi v3888 c343_i32
  let v6977 : Index := Scalar.indexCast v6976
  ![0, v6977.toNat]
def k0_off1224 (v6978 : BitVec 32) : Fin 3 → Nat :=
  let v6979 : Index := Scalar.indexCast v6978
  let c0_4445 : Index := 0#32
  let c0_4446 : Index := 0#32
  ![v6979.toNat, 0, 0]

def k0_chk864 (v6978 : BitVec 32) : Prop :=
  (∀ a, (k0_off1224 v6978) a + S1x1x128.size a ≤ S100000x1x128.size a)
theorem k0_off1224_inb : ∀ (v6978 : BitVec 32) (k0_hw864 : k0_chk864 v6978), ∀ a, (k0_off1224 v6978) a + S1x1x128.size a ≤ S100000x1x128.size a := fun v6978 k0_hw864 => k0_hw864

def k0_off1225 (k0_t1 : Fin k0_t1_loop.trips) : Fin 2 → Nat :=
  let c0_4449 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c344_i32 : BitVec 32 := 344#32
  let v6985 : BitVec 32 := Scalar.addi v3888 c344_i32
  let v6986 : Index := Scalar.indexCast v6985
  ![0, v6986.toNat]
def k0_off1226 (v6987 : BitVec 32) : Fin 3 → Nat :=
  let v6988 : Index := Scalar.indexCast v6987
  let c0_4450 : Index := 0#32
  let c0_4451 : Index := 0#32
  ![v6988.toNat, 0, 0]

def k0_chk865 (v6987 : BitVec 32) : Prop :=
  (∀ a, (k0_off1226 v6987) a + S1x1x128.size a ≤ S100000x1x128.size a)
theorem k0_off1226_inb : ∀ (v6987 : BitVec 32) (k0_hw865 : k0_chk865 v6987), ∀ a, (k0_off1226 v6987) a + S1x1x128.size a ≤ S100000x1x128.size a := fun v6987 k0_hw865 => k0_hw865

def k0_off1227 (k0_t1 : Fin k0_t1_loop.trips) : Fin 2 → Nat :=
  let c0_4454 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c345_i32 : BitVec 32 := 345#32
  let v6994 : BitVec 32 := Scalar.addi v3888 c345_i32
  let v6995 : Index := Scalar.indexCast v6994
  ![0, v6995.toNat]
def k0_off1228 (v6996 : BitVec 32) : Fin 3 → Nat :=
  let v6997 : Index := Scalar.indexCast v6996
  let c0_4455 : Index := 0#32
  let c0_4456 : Index := 0#32
  ![v6997.toNat, 0, 0]

def k0_chk866 (v6996 : BitVec 32) : Prop :=
  (∀ a, (k0_off1228 v6996) a + S1x1x128.size a ≤ S100000x1x128.size a)
theorem k0_off1228_inb : ∀ (v6996 : BitVec 32) (k0_hw866 : k0_chk866 v6996), ∀ a, (k0_off1228 v6996) a + S1x1x128.size a ≤ S100000x1x128.size a := fun v6996 k0_hw866 => k0_hw866

def k0_off1229 (k0_t1 : Fin k0_t1_loop.trips) : Fin 2 → Nat :=
  let c0_4459 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c346_i32 : BitVec 32 := 346#32
  let v7003 : BitVec 32 := Scalar.addi v3888 c346_i32
  let v7004 : Index := Scalar.indexCast v7003
  ![0, v7004.toNat]
def k0_off1230 (v7005 : BitVec 32) : Fin 3 → Nat :=
  let v7006 : Index := Scalar.indexCast v7005
  let c0_4460 : Index := 0#32
  let c0_4461 : Index := 0#32
  ![v7006.toNat, 0, 0]

def k0_chk867 (v7005 : BitVec 32) : Prop :=
  (∀ a, (k0_off1230 v7005) a + S1x1x128.size a ≤ S100000x1x128.size a)
theorem k0_off1230_inb : ∀ (v7005 : BitVec 32) (k0_hw867 : k0_chk867 v7005), ∀ a, (k0_off1230 v7005) a + S1x1x128.size a ≤ S100000x1x128.size a := fun v7005 k0_hw867 => k0_hw867

def k0_off1231 (k0_t1 : Fin k0_t1_loop.trips) : Fin 2 → Nat :=
  let c0_4464 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c347_i32 : BitVec 32 := 347#32
  let v7012 : BitVec 32 := Scalar.addi v3888 c347_i32
  let v7013 : Index := Scalar.indexCast v7012
  ![0, v7013.toNat]
def k0_off1232 (v7014 : BitVec 32) : Fin 3 → Nat :=
  let v7015 : Index := Scalar.indexCast v7014
  let c0_4465 : Index := 0#32
  let c0_4466 : Index := 0#32
  ![v7015.toNat, 0, 0]

def k0_chk868 (v7014 : BitVec 32) : Prop :=
  (∀ a, (k0_off1232 v7014) a + S1x1x128.size a ≤ S100000x1x128.size a)
theorem k0_off1232_inb : ∀ (v7014 : BitVec 32) (k0_hw868 : k0_chk868 v7014), ∀ a, (k0_off1232 v7014) a + S1x1x128.size a ≤ S100000x1x128.size a := fun v7014 k0_hw868 => k0_hw868

def k0_off1233 (k0_t1 : Fin k0_t1_loop.trips) : Fin 2 → Nat :=
  let c0_4469 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c348_i32 : BitVec 32 := 348#32
  let v7021 : BitVec 32 := Scalar.addi v3888 c348_i32
  let v7022 : Index := Scalar.indexCast v7021
  ![0, v7022.toNat]
def k0_off1234 (v7023 : BitVec 32) : Fin 3 → Nat :=
  let v7024 : Index := Scalar.indexCast v7023
  let c0_4470 : Index := 0#32
  let c0_4471 : Index := 0#32
  ![v7024.toNat, 0, 0]

def k0_chk869 (v7023 : BitVec 32) : Prop :=
  (∀ a, (k0_off1234 v7023) a + S1x1x128.size a ≤ S100000x1x128.size a)
theorem k0_off1234_inb : ∀ (v7023 : BitVec 32) (k0_hw869 : k0_chk869 v7023), ∀ a, (k0_off1234 v7023) a + S1x1x128.size a ≤ S100000x1x128.size a := fun v7023 k0_hw869 => k0_hw869

def k0_off1235 (k0_t1 : Fin k0_t1_loop.trips) : Fin 2 → Nat :=
  let c0_4474 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c349_i32 : BitVec 32 := 349#32
  let v7030 : BitVec 32 := Scalar.addi v3888 c349_i32
  let v7031 : Index := Scalar.indexCast v7030
  ![0, v7031.toNat]
def k0_off1236 (v7032 : BitVec 32) : Fin 3 → Nat :=
  let v7033 : Index := Scalar.indexCast v7032
  let c0_4475 : Index := 0#32
  let c0_4476 : Index := 0#32
  ![v7033.toNat, 0, 0]

def k0_chk870 (v7032 : BitVec 32) : Prop :=
  (∀ a, (k0_off1236 v7032) a + S1x1x128.size a ≤ S100000x1x128.size a)
theorem k0_off1236_inb : ∀ (v7032 : BitVec 32) (k0_hw870 : k0_chk870 v7032), ∀ a, (k0_off1236 v7032) a + S1x1x128.size a ≤ S100000x1x128.size a := fun v7032 k0_hw870 => k0_hw870

def k0_off1237 (k0_t1 : Fin k0_t1_loop.trips) : Fin 2 → Nat :=
  let c0_4479 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c350_i32 : BitVec 32 := 350#32
  let v7039 : BitVec 32 := Scalar.addi v3888 c350_i32
  let v7040 : Index := Scalar.indexCast v7039
  ![0, v7040.toNat]
def k0_off1238 (v7041 : BitVec 32) : Fin 3 → Nat :=
  let v7042 : Index := Scalar.indexCast v7041
  let c0_4480 : Index := 0#32
  let c0_4481 : Index := 0#32
  ![v7042.toNat, 0, 0]

def k0_chk871 (v7041 : BitVec 32) : Prop :=
  (∀ a, (k0_off1238 v7041) a + S1x1x128.size a ≤ S100000x1x128.size a)
theorem k0_off1238_inb : ∀ (v7041 : BitVec 32) (k0_hw871 : k0_chk871 v7041), ∀ a, (k0_off1238 v7041) a + S1x1x128.size a ≤ S100000x1x128.size a := fun v7041 k0_hw871 => k0_hw871

def k0_off1239 (k0_t1 : Fin k0_t1_loop.trips) : Fin 2 → Nat :=
  let c0_4484 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c351_i32 : BitVec 32 := 351#32
  let v7048 : BitVec 32 := Scalar.addi v3888 c351_i32
  let v7049 : Index := Scalar.indexCast v7048
  ![0, v7049.toNat]
def k0_off1240 (v7050 : BitVec 32) : Fin 3 → Nat :=
  let v7051 : Index := Scalar.indexCast v7050
  let c0_4485 : Index := 0#32
  let c0_4486 : Index := 0#32
  ![v7051.toNat, 0, 0]

def k0_chk872 (v7050 : BitVec 32) : Prop :=
  (∀ a, (k0_off1240 v7050) a + S1x1x128.size a ≤ S100000x1x128.size a)
theorem k0_off1240_inb : ∀ (v7050 : BitVec 32) (k0_hw872 : k0_chk872 v7050), ∀ a, (k0_off1240 v7050) a + S1x1x128.size a ≤ S100000x1x128.size a := fun v7050 k0_hw872 => k0_hw872

def k0_off1241 (k0_t1 : Fin k0_t1_loop.trips) : Fin 2 → Nat :=
  let c0_4489 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c352_i32 : BitVec 32 := 352#32
  let v7057 : BitVec 32 := Scalar.addi v3888 c352_i32
  let v7058 : Index := Scalar.indexCast v7057
  ![0, v7058.toNat]
def k0_off1242 (v7059 : BitVec 32) : Fin 3 → Nat :=
  let v7060 : Index := Scalar.indexCast v7059
  let c0_4490 : Index := 0#32
  let c0_4491 : Index := 0#32
  ![v7060.toNat, 0, 0]

def k0_chk873 (v7059 : BitVec 32) : Prop :=
  (∀ a, (k0_off1242 v7059) a + S1x1x128.size a ≤ S100000x1x128.size a)
theorem k0_off1242_inb : ∀ (v7059 : BitVec 32) (k0_hw873 : k0_chk873 v7059), ∀ a, (k0_off1242 v7059) a + S1x1x128.size a ≤ S100000x1x128.size a := fun v7059 k0_hw873 => k0_hw873

def k0_off1243 (k0_t1 : Fin k0_t1_loop.trips) : Fin 2 → Nat :=
  let c0_4494 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c353_i32 : BitVec 32 := 353#32
  let v7066 : BitVec 32 := Scalar.addi v3888 c353_i32
  let v7067 : Index := Scalar.indexCast v7066
  ![0, v7067.toNat]
def k0_off1244 (v7068 : BitVec 32) : Fin 3 → Nat :=
  let v7069 : Index := Scalar.indexCast v7068
  let c0_4495 : Index := 0#32
  let c0_4496 : Index := 0#32
  ![v7069.toNat, 0, 0]

def k0_chk874 (v7068 : BitVec 32) : Prop :=
  (∀ a, (k0_off1244 v7068) a + S1x1x128.size a ≤ S100000x1x128.size a)
theorem k0_off1244_inb : ∀ (v7068 : BitVec 32) (k0_hw874 : k0_chk874 v7068), ∀ a, (k0_off1244 v7068) a + S1x1x128.size a ≤ S100000x1x128.size a := fun v7068 k0_hw874 => k0_hw874

def k0_off1245 (k0_t1 : Fin k0_t1_loop.trips) : Fin 2 → Nat :=
  let c0_4499 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c354_i32 : BitVec 32 := 354#32
  let v7075 : BitVec 32 := Scalar.addi v3888 c354_i32
  let v7076 : Index := Scalar.indexCast v7075
  ![0, v7076.toNat]
def k0_off1246 (v7077 : BitVec 32) : Fin 3 → Nat :=
  let v7078 : Index := Scalar.indexCast v7077
  let c0_4500 : Index := 0#32
  let c0_4501 : Index := 0#32
  ![v7078.toNat, 0, 0]

def k0_chk875 (v7077 : BitVec 32) : Prop :=
  (∀ a, (k0_off1246 v7077) a + S1x1x128.size a ≤ S100000x1x128.size a)
theorem k0_off1246_inb : ∀ (v7077 : BitVec 32) (k0_hw875 : k0_chk875 v7077), ∀ a, (k0_off1246 v7077) a + S1x1x128.size a ≤ S100000x1x128.size a := fun v7077 k0_hw875 => k0_hw875

def k0_off1247 (k0_t1 : Fin k0_t1_loop.trips) : Fin 2 → Nat :=
  let c0_4504 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c355_i32 : BitVec 32 := 355#32
  let v7084 : BitVec 32 := Scalar.addi v3888 c355_i32
  let v7085 : Index := Scalar.indexCast v7084
  ![0, v7085.toNat]
def k0_off1248 (v7086 : BitVec 32) : Fin 3 → Nat :=
  let v7087 : Index := Scalar.indexCast v7086
  let c0_4505 : Index := 0#32
  let c0_4506 : Index := 0#32
  ![v7087.toNat, 0, 0]

def k0_chk876 (v7086 : BitVec 32) : Prop :=
  (∀ a, (k0_off1248 v7086) a + S1x1x128.size a ≤ S100000x1x128.size a)
theorem k0_off1248_inb : ∀ (v7086 : BitVec 32) (k0_hw876 : k0_chk876 v7086), ∀ a, (k0_off1248 v7086) a + S1x1x128.size a ≤ S100000x1x128.size a := fun v7086 k0_hw876 => k0_hw876

def k0_off1249 (k0_t1 : Fin k0_t1_loop.trips) : Fin 2 → Nat :=
  let c0_4509 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c356_i32 : BitVec 32 := 356#32
  let v7093 : BitVec 32 := Scalar.addi v3888 c356_i32
  let v7094 : Index := Scalar.indexCast v7093
  ![0, v7094.toNat]
def k0_off1250 (v7095 : BitVec 32) : Fin 3 → Nat :=
  let v7096 : Index := Scalar.indexCast v7095
  let c0_4510 : Index := 0#32
  let c0_4511 : Index := 0#32
  ![v7096.toNat, 0, 0]

def k0_chk877 (v7095 : BitVec 32) : Prop :=
  (∀ a, (k0_off1250 v7095) a + S1x1x128.size a ≤ S100000x1x128.size a)
theorem k0_off1250_inb : ∀ (v7095 : BitVec 32) (k0_hw877 : k0_chk877 v7095), ∀ a, (k0_off1250 v7095) a + S1x1x128.size a ≤ S100000x1x128.size a := fun v7095 k0_hw877 => k0_hw877

def k0_off1251 (k0_t1 : Fin k0_t1_loop.trips) : Fin 2 → Nat :=
  let c0_4514 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c357_i32 : BitVec 32 := 357#32
  let v7102 : BitVec 32 := Scalar.addi v3888 c357_i32
  let v7103 : Index := Scalar.indexCast v7102
  ![0, v7103.toNat]
def k0_off1252 (v7104 : BitVec 32) : Fin 3 → Nat :=
  let v7105 : Index := Scalar.indexCast v7104
  let c0_4515 : Index := 0#32
  let c0_4516 : Index := 0#32
  ![v7105.toNat, 0, 0]

def k0_chk878 (v7104 : BitVec 32) : Prop :=
  (∀ a, (k0_off1252 v7104) a + S1x1x128.size a ≤ S100000x1x128.size a)
theorem k0_off1252_inb : ∀ (v7104 : BitVec 32) (k0_hw878 : k0_chk878 v7104), ∀ a, (k0_off1252 v7104) a + S1x1x128.size a ≤ S100000x1x128.size a := fun v7104 k0_hw878 => k0_hw878

def k0_off1253 (k0_t1 : Fin k0_t1_loop.trips) : Fin 2 → Nat :=
  let c0_4519 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c358_i32 : BitVec 32 := 358#32
  let v7111 : BitVec 32 := Scalar.addi v3888 c358_i32
  let v7112 : Index := Scalar.indexCast v7111
  ![0, v7112.toNat]
def k0_off1254 (v7113 : BitVec 32) : Fin 3 → Nat :=
  let v7114 : Index := Scalar.indexCast v7113
  let c0_4520 : Index := 0#32
  let c0_4521 : Index := 0#32
  ![v7114.toNat, 0, 0]

def k0_chk879 (v7113 : BitVec 32) : Prop :=
  (∀ a, (k0_off1254 v7113) a + S1x1x128.size a ≤ S100000x1x128.size a)
theorem k0_off1254_inb : ∀ (v7113 : BitVec 32) (k0_hw879 : k0_chk879 v7113), ∀ a, (k0_off1254 v7113) a + S1x1x128.size a ≤ S100000x1x128.size a := fun v7113 k0_hw879 => k0_hw879

def k0_off1255 (k0_t1 : Fin k0_t1_loop.trips) : Fin 2 → Nat :=
  let c0_4524 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c359_i32 : BitVec 32 := 359#32
  let v7120 : BitVec 32 := Scalar.addi v3888 c359_i32
  let v7121 : Index := Scalar.indexCast v7120
  ![0, v7121.toNat]
def k0_off1256 (v7122 : BitVec 32) : Fin 3 → Nat :=
  let v7123 : Index := Scalar.indexCast v7122
  let c0_4525 : Index := 0#32
  let c0_4526 : Index := 0#32
  ![v7123.toNat, 0, 0]

def k0_chk880 (v7122 : BitVec 32) : Prop :=
  (∀ a, (k0_off1256 v7122) a + S1x1x128.size a ≤ S100000x1x128.size a)
theorem k0_off1256_inb : ∀ (v7122 : BitVec 32) (k0_hw880 : k0_chk880 v7122), ∀ a, (k0_off1256 v7122) a + S1x1x128.size a ≤ S100000x1x128.size a := fun v7122 k0_hw880 => k0_hw880

def k0_off1257 (k0_t1 : Fin k0_t1_loop.trips) : Fin 2 → Nat :=
  let c0_4529 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c360_i32 : BitVec 32 := 360#32
  let v7129 : BitVec 32 := Scalar.addi v3888 c360_i32
  let v7130 : Index := Scalar.indexCast v7129
  ![0, v7130.toNat]
def k0_off1258 (v7131 : BitVec 32) : Fin 3 → Nat :=
  let v7132 : Index := Scalar.indexCast v7131
  let c0_4530 : Index := 0#32
  let c0_4531 : Index := 0#32
  ![v7132.toNat, 0, 0]

def k0_chk881 (v7131 : BitVec 32) : Prop :=
  (∀ a, (k0_off1258 v7131) a + S1x1x128.size a ≤ S100000x1x128.size a)
theorem k0_off1258_inb : ∀ (v7131 : BitVec 32) (k0_hw881 : k0_chk881 v7131), ∀ a, (k0_off1258 v7131) a + S1x1x128.size a ≤ S100000x1x128.size a := fun v7131 k0_hw881 => k0_hw881

def k0_off1259 (k0_t1 : Fin k0_t1_loop.trips) : Fin 2 → Nat :=
  let c0_4534 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c361_i32 : BitVec 32 := 361#32
  let v7138 : BitVec 32 := Scalar.addi v3888 c361_i32
  let v7139 : Index := Scalar.indexCast v7138
  ![0, v7139.toNat]
def k0_off1260 (v7140 : BitVec 32) : Fin 3 → Nat :=
  let v7141 : Index := Scalar.indexCast v7140
  let c0_4535 : Index := 0#32
  let c0_4536 : Index := 0#32
  ![v7141.toNat, 0, 0]

def k0_chk882 (v7140 : BitVec 32) : Prop :=
  (∀ a, (k0_off1260 v7140) a + S1x1x128.size a ≤ S100000x1x128.size a)
theorem k0_off1260_inb : ∀ (v7140 : BitVec 32) (k0_hw882 : k0_chk882 v7140), ∀ a, (k0_off1260 v7140) a + S1x1x128.size a ≤ S100000x1x128.size a := fun v7140 k0_hw882 => k0_hw882

def k0_off1261 (k0_t1 : Fin k0_t1_loop.trips) : Fin 2 → Nat :=
  let c0_4539 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c362_i32 : BitVec 32 := 362#32
  let v7147 : BitVec 32 := Scalar.addi v3888 c362_i32
  let v7148 : Index := Scalar.indexCast v7147
  ![0, v7148.toNat]
def k0_off1262 (v7149 : BitVec 32) : Fin 3 → Nat :=
  let v7150 : Index := Scalar.indexCast v7149
  let c0_4540 : Index := 0#32
  let c0_4541 : Index := 0#32
  ![v7150.toNat, 0, 0]

def k0_chk883 (v7149 : BitVec 32) : Prop :=
  (∀ a, (k0_off1262 v7149) a + S1x1x128.size a ≤ S100000x1x128.size a)
theorem k0_off1262_inb : ∀ (v7149 : BitVec 32) (k0_hw883 : k0_chk883 v7149), ∀ a, (k0_off1262 v7149) a + S1x1x128.size a ≤ S100000x1x128.size a := fun v7149 k0_hw883 => k0_hw883

def k0_off1263 (k0_t1 : Fin k0_t1_loop.trips) : Fin 2 → Nat :=
  let c0_4544 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c363_i32 : BitVec 32 := 363#32
  let v7156 : BitVec 32 := Scalar.addi v3888 c363_i32
  let v7157 : Index := Scalar.indexCast v7156
  ![0, v7157.toNat]
def k0_off1264 (v7158 : BitVec 32) : Fin 3 → Nat :=
  let v7159 : Index := Scalar.indexCast v7158
  let c0_4545 : Index := 0#32
  let c0_4546 : Index := 0#32
  ![v7159.toNat, 0, 0]

def k0_chk884 (v7158 : BitVec 32) : Prop :=
  (∀ a, (k0_off1264 v7158) a + S1x1x128.size a ≤ S100000x1x128.size a)
theorem k0_off1264_inb : ∀ (v7158 : BitVec 32) (k0_hw884 : k0_chk884 v7158), ∀ a, (k0_off1264 v7158) a + S1x1x128.size a ≤ S100000x1x128.size a := fun v7158 k0_hw884 => k0_hw884

def k0_off1265 (k0_t1 : Fin k0_t1_loop.trips) : Fin 2 → Nat :=
  let c0_4549 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c364_i32 : BitVec 32 := 364#32
  let v7165 : BitVec 32 := Scalar.addi v3888 c364_i32
  let v7166 : Index := Scalar.indexCast v7165
  ![0, v7166.toNat]
def k0_off1266 (v7167 : BitVec 32) : Fin 3 → Nat :=
  let v7168 : Index := Scalar.indexCast v7167
  let c0_4550 : Index := 0#32
  let c0_4551 : Index := 0#32
  ![v7168.toNat, 0, 0]

def k0_chk885 (v7167 : BitVec 32) : Prop :=
  (∀ a, (k0_off1266 v7167) a + S1x1x128.size a ≤ S100000x1x128.size a)
theorem k0_off1266_inb : ∀ (v7167 : BitVec 32) (k0_hw885 : k0_chk885 v7167), ∀ a, (k0_off1266 v7167) a + S1x1x128.size a ≤ S100000x1x128.size a := fun v7167 k0_hw885 => k0_hw885

def k0_off1267 (k0_t1 : Fin k0_t1_loop.trips) : Fin 2 → Nat :=
  let c0_4554 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c365_i32 : BitVec 32 := 365#32
  let v7174 : BitVec 32 := Scalar.addi v3888 c365_i32
  let v7175 : Index := Scalar.indexCast v7174
  ![0, v7175.toNat]
def k0_off1268 (v7176 : BitVec 32) : Fin 3 → Nat :=
  let v7177 : Index := Scalar.indexCast v7176
  let c0_4555 : Index := 0#32
  let c0_4556 : Index := 0#32
  ![v7177.toNat, 0, 0]

def k0_chk886 (v7176 : BitVec 32) : Prop :=
  (∀ a, (k0_off1268 v7176) a + S1x1x128.size a ≤ S100000x1x128.size a)
theorem k0_off1268_inb : ∀ (v7176 : BitVec 32) (k0_hw886 : k0_chk886 v7176), ∀ a, (k0_off1268 v7176) a + S1x1x128.size a ≤ S100000x1x128.size a := fun v7176 k0_hw886 => k0_hw886

def k0_off1269 (k0_t1 : Fin k0_t1_loop.trips) : Fin 2 → Nat :=
  let c0_4559 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c366_i32 : BitVec 32 := 366#32
  let v7183 : BitVec 32 := Scalar.addi v3888 c366_i32
  let v7184 : Index := Scalar.indexCast v7183
  ![0, v7184.toNat]
def k0_off1270 (v7185 : BitVec 32) : Fin 3 → Nat :=
  let v7186 : Index := Scalar.indexCast v7185
  let c0_4560 : Index := 0#32
  let c0_4561 : Index := 0#32
  ![v7186.toNat, 0, 0]

def k0_chk887 (v7185 : BitVec 32) : Prop :=
  (∀ a, (k0_off1270 v7185) a + S1x1x128.size a ≤ S100000x1x128.size a)
theorem k0_off1270_inb : ∀ (v7185 : BitVec 32) (k0_hw887 : k0_chk887 v7185), ∀ a, (k0_off1270 v7185) a + S1x1x128.size a ≤ S100000x1x128.size a := fun v7185 k0_hw887 => k0_hw887

def k0_off1271 (k0_t1 : Fin k0_t1_loop.trips) : Fin 2 → Nat :=
  let c0_4564 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c367_i32 : BitVec 32 := 367#32
  let v7192 : BitVec 32 := Scalar.addi v3888 c367_i32
  let v7193 : Index := Scalar.indexCast v7192
  ![0, v7193.toNat]
def k0_off1272 (v7194 : BitVec 32) : Fin 3 → Nat :=
  let v7195 : Index := Scalar.indexCast v7194
  let c0_4565 : Index := 0#32
  let c0_4566 : Index := 0#32
  ![v7195.toNat, 0, 0]

def k0_chk888 (v7194 : BitVec 32) : Prop :=
  (∀ a, (k0_off1272 v7194) a + S1x1x128.size a ≤ S100000x1x128.size a)
theorem k0_off1272_inb : ∀ (v7194 : BitVec 32) (k0_hw888 : k0_chk888 v7194), ∀ a, (k0_off1272 v7194) a + S1x1x128.size a ≤ S100000x1x128.size a := fun v7194 k0_hw888 => k0_hw888

def k0_off1273 (k0_t1 : Fin k0_t1_loop.trips) : Fin 2 → Nat :=
  let c0_4569 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c368_i32 : BitVec 32 := 368#32
  let v7201 : BitVec 32 := Scalar.addi v3888 c368_i32
  let v7202 : Index := Scalar.indexCast v7201
  ![0, v7202.toNat]
def k0_off1274 (v7203 : BitVec 32) : Fin 3 → Nat :=
  let v7204 : Index := Scalar.indexCast v7203
  let c0_4570 : Index := 0#32
  let c0_4571 : Index := 0#32
  ![v7204.toNat, 0, 0]

def k0_chk889 (v7203 : BitVec 32) : Prop :=
  (∀ a, (k0_off1274 v7203) a + S1x1x128.size a ≤ S100000x1x128.size a)
theorem k0_off1274_inb : ∀ (v7203 : BitVec 32) (k0_hw889 : k0_chk889 v7203), ∀ a, (k0_off1274 v7203) a + S1x1x128.size a ≤ S100000x1x128.size a := fun v7203 k0_hw889 => k0_hw889

def k0_off1275 (k0_t1 : Fin k0_t1_loop.trips) : Fin 2 → Nat :=
  let c0_4574 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c369_i32 : BitVec 32 := 369#32
  let v7210 : BitVec 32 := Scalar.addi v3888 c369_i32
  let v7211 : Index := Scalar.indexCast v7210
  ![0, v7211.toNat]
def k0_off1276 (v7212 : BitVec 32) : Fin 3 → Nat :=
  let v7213 : Index := Scalar.indexCast v7212
  let c0_4575 : Index := 0#32
  let c0_4576 : Index := 0#32
  ![v7213.toNat, 0, 0]

def k0_chk890 (v7212 : BitVec 32) : Prop :=
  (∀ a, (k0_off1276 v7212) a + S1x1x128.size a ≤ S100000x1x128.size a)
theorem k0_off1276_inb : ∀ (v7212 : BitVec 32) (k0_hw890 : k0_chk890 v7212), ∀ a, (k0_off1276 v7212) a + S1x1x128.size a ≤ S100000x1x128.size a := fun v7212 k0_hw890 => k0_hw890

def k0_off1277 (k0_t1 : Fin k0_t1_loop.trips) : Fin 2 → Nat :=
  let c0_4579 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c370_i32 : BitVec 32 := 370#32
  let v7219 : BitVec 32 := Scalar.addi v3888 c370_i32
  let v7220 : Index := Scalar.indexCast v7219
  ![0, v7220.toNat]
def k0_off1278 (v7221 : BitVec 32) : Fin 3 → Nat :=
  let v7222 : Index := Scalar.indexCast v7221
  let c0_4580 : Index := 0#32
  let c0_4581 : Index := 0#32
  ![v7222.toNat, 0, 0]

def k0_chk891 (v7221 : BitVec 32) : Prop :=
  (∀ a, (k0_off1278 v7221) a + S1x1x128.size a ≤ S100000x1x128.size a)
theorem k0_off1278_inb : ∀ (v7221 : BitVec 32) (k0_hw891 : k0_chk891 v7221), ∀ a, (k0_off1278 v7221) a + S1x1x128.size a ≤ S100000x1x128.size a := fun v7221 k0_hw891 => k0_hw891

def k0_off1279 (k0_t1 : Fin k0_t1_loop.trips) : Fin 2 → Nat :=
  let c0_4584 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c371_i32 : BitVec 32 := 371#32
  let v7228 : BitVec 32 := Scalar.addi v3888 c371_i32
  let v7229 : Index := Scalar.indexCast v7228
  ![0, v7229.toNat]
def k0_off1280 (v7230 : BitVec 32) : Fin 3 → Nat :=
  let v7231 : Index := Scalar.indexCast v7230
  let c0_4585 : Index := 0#32
  let c0_4586 : Index := 0#32
  ![v7231.toNat, 0, 0]

def k0_chk892 (v7230 : BitVec 32) : Prop :=
  (∀ a, (k0_off1280 v7230) a + S1x1x128.size a ≤ S100000x1x128.size a)
theorem k0_off1280_inb : ∀ (v7230 : BitVec 32) (k0_hw892 : k0_chk892 v7230), ∀ a, (k0_off1280 v7230) a + S1x1x128.size a ≤ S100000x1x128.size a := fun v7230 k0_hw892 => k0_hw892

def k0_off1281 (k0_t1 : Fin k0_t1_loop.trips) : Fin 2 → Nat :=
  let c0_4589 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c372_i32 : BitVec 32 := 372#32
  let v7237 : BitVec 32 := Scalar.addi v3888 c372_i32
  let v7238 : Index := Scalar.indexCast v7237
  ![0, v7238.toNat]
def k0_off1282 (v7239 : BitVec 32) : Fin 3 → Nat :=
  let v7240 : Index := Scalar.indexCast v7239
  let c0_4590 : Index := 0#32
  let c0_4591 : Index := 0#32
  ![v7240.toNat, 0, 0]

def k0_chk893 (v7239 : BitVec 32) : Prop :=
  (∀ a, (k0_off1282 v7239) a + S1x1x128.size a ≤ S100000x1x128.size a)
theorem k0_off1282_inb : ∀ (v7239 : BitVec 32) (k0_hw893 : k0_chk893 v7239), ∀ a, (k0_off1282 v7239) a + S1x1x128.size a ≤ S100000x1x128.size a := fun v7239 k0_hw893 => k0_hw893

def k0_off1283 (k0_t1 : Fin k0_t1_loop.trips) : Fin 2 → Nat :=
  let c0_4594 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c373_i32 : BitVec 32 := 373#32
  let v7246 : BitVec 32 := Scalar.addi v3888 c373_i32
  let v7247 : Index := Scalar.indexCast v7246
  ![0, v7247.toNat]
def k0_off1284 (v7248 : BitVec 32) : Fin 3 → Nat :=
  let v7249 : Index := Scalar.indexCast v7248
  let c0_4595 : Index := 0#32
  let c0_4596 : Index := 0#32
  ![v7249.toNat, 0, 0]

def k0_chk894 (v7248 : BitVec 32) : Prop :=
  (∀ a, (k0_off1284 v7248) a + S1x1x128.size a ≤ S100000x1x128.size a)
theorem k0_off1284_inb : ∀ (v7248 : BitVec 32) (k0_hw894 : k0_chk894 v7248), ∀ a, (k0_off1284 v7248) a + S1x1x128.size a ≤ S100000x1x128.size a := fun v7248 k0_hw894 => k0_hw894

def k0_off1285 (k0_t1 : Fin k0_t1_loop.trips) : Fin 2 → Nat :=
  let c0_4599 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c374_i32 : BitVec 32 := 374#32
  let v7255 : BitVec 32 := Scalar.addi v3888 c374_i32
  let v7256 : Index := Scalar.indexCast v7255
  ![0, v7256.toNat]
def k0_off1286 (v7257 : BitVec 32) : Fin 3 → Nat :=
  let v7258 : Index := Scalar.indexCast v7257
  let c0_4600 : Index := 0#32
  let c0_4601 : Index := 0#32
  ![v7258.toNat, 0, 0]

def k0_chk895 (v7257 : BitVec 32) : Prop :=
  (∀ a, (k0_off1286 v7257) a + S1x1x128.size a ≤ S100000x1x128.size a)
theorem k0_off1286_inb : ∀ (v7257 : BitVec 32) (k0_hw895 : k0_chk895 v7257), ∀ a, (k0_off1286 v7257) a + S1x1x128.size a ≤ S100000x1x128.size a := fun v7257 k0_hw895 => k0_hw895

def k0_off1287 (k0_t1 : Fin k0_t1_loop.trips) : Fin 2 → Nat :=
  let c0_4604 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c375_i32 : BitVec 32 := 375#32
  let v7264 : BitVec 32 := Scalar.addi v3888 c375_i32
  let v7265 : Index := Scalar.indexCast v7264
  ![0, v7265.toNat]
def k0_off1288 (v7266 : BitVec 32) : Fin 3 → Nat :=
  let v7267 : Index := Scalar.indexCast v7266
  let c0_4605 : Index := 0#32
  let c0_4606 : Index := 0#32
  ![v7267.toNat, 0, 0]

def k0_chk896 (v7266 : BitVec 32) : Prop :=
  (∀ a, (k0_off1288 v7266) a + S1x1x128.size a ≤ S100000x1x128.size a)
theorem k0_off1288_inb : ∀ (v7266 : BitVec 32) (k0_hw896 : k0_chk896 v7266), ∀ a, (k0_off1288 v7266) a + S1x1x128.size a ≤ S100000x1x128.size a := fun v7266 k0_hw896 => k0_hw896

def k0_off1289 (k0_t1 : Fin k0_t1_loop.trips) : Fin 2 → Nat :=
  let c0_4609 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c376_i32 : BitVec 32 := 376#32
  let v7273 : BitVec 32 := Scalar.addi v3888 c376_i32
  let v7274 : Index := Scalar.indexCast v7273
  ![0, v7274.toNat]
def k0_off1290 (v7275 : BitVec 32) : Fin 3 → Nat :=
  let v7276 : Index := Scalar.indexCast v7275
  let c0_4610 : Index := 0#32
  let c0_4611 : Index := 0#32
  ![v7276.toNat, 0, 0]

def k0_chk897 (v7275 : BitVec 32) : Prop :=
  (∀ a, (k0_off1290 v7275) a + S1x1x128.size a ≤ S100000x1x128.size a)
theorem k0_off1290_inb : ∀ (v7275 : BitVec 32) (k0_hw897 : k0_chk897 v7275), ∀ a, (k0_off1290 v7275) a + S1x1x128.size a ≤ S100000x1x128.size a := fun v7275 k0_hw897 => k0_hw897

def k0_off1291 (k0_t1 : Fin k0_t1_loop.trips) : Fin 2 → Nat :=
  let c0_4614 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c377_i32 : BitVec 32 := 377#32
  let v7282 : BitVec 32 := Scalar.addi v3888 c377_i32
  let v7283 : Index := Scalar.indexCast v7282
  ![0, v7283.toNat]
def k0_off1292 (v7284 : BitVec 32) : Fin 3 → Nat :=
  let v7285 : Index := Scalar.indexCast v7284
  let c0_4615 : Index := 0#32
  let c0_4616 : Index := 0#32
  ![v7285.toNat, 0, 0]

def k0_chk898 (v7284 : BitVec 32) : Prop :=
  (∀ a, (k0_off1292 v7284) a + S1x1x128.size a ≤ S100000x1x128.size a)
theorem k0_off1292_inb : ∀ (v7284 : BitVec 32) (k0_hw898 : k0_chk898 v7284), ∀ a, (k0_off1292 v7284) a + S1x1x128.size a ≤ S100000x1x128.size a := fun v7284 k0_hw898 => k0_hw898

def k0_off1293 (k0_t1 : Fin k0_t1_loop.trips) : Fin 2 → Nat :=
  let c0_4619 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c378_i32 : BitVec 32 := 378#32
  let v7291 : BitVec 32 := Scalar.addi v3888 c378_i32
  let v7292 : Index := Scalar.indexCast v7291
  ![0, v7292.toNat]
def k0_off1294 (v7293 : BitVec 32) : Fin 3 → Nat :=
  let v7294 : Index := Scalar.indexCast v7293
  let c0_4620 : Index := 0#32
  let c0_4621 : Index := 0#32
  ![v7294.toNat, 0, 0]

def k0_chk899 (v7293 : BitVec 32) : Prop :=
  (∀ a, (k0_off1294 v7293) a + S1x1x128.size a ≤ S100000x1x128.size a)
theorem k0_off1294_inb : ∀ (v7293 : BitVec 32) (k0_hw899 : k0_chk899 v7293), ∀ a, (k0_off1294 v7293) a + S1x1x128.size a ≤ S100000x1x128.size a := fun v7293 k0_hw899 => k0_hw899

def k0_off1295 (k0_t1 : Fin k0_t1_loop.trips) : Fin 2 → Nat :=
  let c0_4624 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c379_i32 : BitVec 32 := 379#32
  let v7300 : BitVec 32 := Scalar.addi v3888 c379_i32
  let v7301 : Index := Scalar.indexCast v7300
  ![0, v7301.toNat]
def k0_off1296 (v7302 : BitVec 32) : Fin 3 → Nat :=
  let v7303 : Index := Scalar.indexCast v7302
  let c0_4625 : Index := 0#32
  let c0_4626 : Index := 0#32
  ![v7303.toNat, 0, 0]

def k0_chk900 (v7302 : BitVec 32) : Prop :=
  (∀ a, (k0_off1296 v7302) a + S1x1x128.size a ≤ S100000x1x128.size a)
theorem k0_off1296_inb : ∀ (v7302 : BitVec 32) (k0_hw900 : k0_chk900 v7302), ∀ a, (k0_off1296 v7302) a + S1x1x128.size a ≤ S100000x1x128.size a := fun v7302 k0_hw900 => k0_hw900

def k0_off1297 (k0_t1 : Fin k0_t1_loop.trips) : Fin 2 → Nat :=
  let c0_4629 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c380_i32 : BitVec 32 := 380#32
  let v7309 : BitVec 32 := Scalar.addi v3888 c380_i32
  let v7310 : Index := Scalar.indexCast v7309
  ![0, v7310.toNat]
def k0_off1298 (v7311 : BitVec 32) : Fin 3 → Nat :=
  let v7312 : Index := Scalar.indexCast v7311
  let c0_4630 : Index := 0#32
  let c0_4631 : Index := 0#32
  ![v7312.toNat, 0, 0]

def k0_chk901 (v7311 : BitVec 32) : Prop :=
  (∀ a, (k0_off1298 v7311) a + S1x1x128.size a ≤ S100000x1x128.size a)
theorem k0_off1298_inb : ∀ (v7311 : BitVec 32) (k0_hw901 : k0_chk901 v7311), ∀ a, (k0_off1298 v7311) a + S1x1x128.size a ≤ S100000x1x128.size a := fun v7311 k0_hw901 => k0_hw901

def k0_off1299 (k0_t1 : Fin k0_t1_loop.trips) : Fin 2 → Nat :=
  let c0_4634 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c381_i32 : BitVec 32 := 381#32
  let v7318 : BitVec 32 := Scalar.addi v3888 c381_i32
  let v7319 : Index := Scalar.indexCast v7318
  ![0, v7319.toNat]
def k0_off1300 (v7320 : BitVec 32) : Fin 3 → Nat :=
  let v7321 : Index := Scalar.indexCast v7320
  let c0_4635 : Index := 0#32
  let c0_4636 : Index := 0#32
  ![v7321.toNat, 0, 0]

def k0_chk902 (v7320 : BitVec 32) : Prop :=
  (∀ a, (k0_off1300 v7320) a + S1x1x128.size a ≤ S100000x1x128.size a)
theorem k0_off1300_inb : ∀ (v7320 : BitVec 32) (k0_hw902 : k0_chk902 v7320), ∀ a, (k0_off1300 v7320) a + S1x1x128.size a ≤ S100000x1x128.size a := fun v7320 k0_hw902 => k0_hw902

def k0_off1301 (k0_t1 : Fin k0_t1_loop.trips) : Fin 2 → Nat :=
  let c0_4639 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c382_i32 : BitVec 32 := 382#32
  let v7327 : BitVec 32 := Scalar.addi v3888 c382_i32
  let v7328 : Index := Scalar.indexCast v7327
  ![0, v7328.toNat]
def k0_off1302 (v7329 : BitVec 32) : Fin 3 → Nat :=
  let v7330 : Index := Scalar.indexCast v7329
  let c0_4640 : Index := 0#32
  let c0_4641 : Index := 0#32
  ![v7330.toNat, 0, 0]

def k0_chk903 (v7329 : BitVec 32) : Prop :=
  (∀ a, (k0_off1302 v7329) a + S1x1x128.size a ≤ S100000x1x128.size a)
theorem k0_off1302_inb : ∀ (v7329 : BitVec 32) (k0_hw903 : k0_chk903 v7329), ∀ a, (k0_off1302 v7329) a + S1x1x128.size a ≤ S100000x1x128.size a := fun v7329 k0_hw903 => k0_hw903

def k0_off1303 (k0_t1 : Fin k0_t1_loop.trips) : Fin 2 → Nat :=
  let c0_4644 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c383_i32 : BitVec 32 := 383#32
  let v7336 : BitVec 32 := Scalar.addi v3888 c383_i32
  let v7337 : Index := Scalar.indexCast v7336
  ![0, v7337.toNat]
def k0_off1304 (v7338 : BitVec 32) : Fin 3 → Nat :=
  let v7339 : Index := Scalar.indexCast v7338
  let c0_4645 : Index := 0#32
  let c0_4646 : Index := 0#32
  ![v7339.toNat, 0, 0]

def k0_chk904 (v7338 : BitVec 32) : Prop :=
  (∀ a, (k0_off1304 v7338) a + S1x1x128.size a ≤ S100000x1x128.size a)
theorem k0_off1304_inb : ∀ (v7338 : BitVec 32) (k0_hw904 : k0_chk904 v7338), ∀ a, (k0_off1304 v7338) a + S1x1x128.size a ≤ S100000x1x128.size a := fun v7338 k0_hw904 => k0_hw904

def k0_off1305 (k0_t1 : Fin k0_t1_loop.trips) : Fin 2 → Nat :=
  let c0_4649 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c384_i32 : BitVec 32 := 384#32
  let v7345 : BitVec 32 := Scalar.addi v3888 c384_i32
  let v7346 : Index := Scalar.indexCast v7345
  ![0, v7346.toNat]
def k0_off1306 (v7347 : BitVec 32) : Fin 3 → Nat :=
  let v7348 : Index := Scalar.indexCast v7347
  let c0_4650 : Index := 0#32
  let c0_4651 : Index := 0#32
  ![v7348.toNat, 0, 0]

def k0_chk905 (v7347 : BitVec 32) : Prop :=
  (∀ a, (k0_off1306 v7347) a + S1x1x128.size a ≤ S100000x1x128.size a)
theorem k0_off1306_inb : ∀ (v7347 : BitVec 32) (k0_hw905 : k0_chk905 v7347), ∀ a, (k0_off1306 v7347) a + S1x1x128.size a ≤ S100000x1x128.size a := fun v7347 k0_hw905 => k0_hw905

def k0_off1307 (k0_t1 : Fin k0_t1_loop.trips) : Fin 2 → Nat :=
  let c0_4654 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c385_i32 : BitVec 32 := 385#32
  let v7354 : BitVec 32 := Scalar.addi v3888 c385_i32
  let v7355 : Index := Scalar.indexCast v7354
  ![0, v7355.toNat]
def k0_off1308 (v7356 : BitVec 32) : Fin 3 → Nat :=
  let v7357 : Index := Scalar.indexCast v7356
  let c0_4655 : Index := 0#32
  let c0_4656 : Index := 0#32
  ![v7357.toNat, 0, 0]

def k0_chk906 (v7356 : BitVec 32) : Prop :=
  (∀ a, (k0_off1308 v7356) a + S1x1x128.size a ≤ S100000x1x128.size a)
theorem k0_off1308_inb : ∀ (v7356 : BitVec 32) (k0_hw906 : k0_chk906 v7356), ∀ a, (k0_off1308 v7356) a + S1x1x128.size a ≤ S100000x1x128.size a := fun v7356 k0_hw906 => k0_hw906

def k0_off1309 (k0_t1 : Fin k0_t1_loop.trips) : Fin 2 → Nat :=
  let c0_4659 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c386_i32 : BitVec 32 := 386#32
  let v7363 : BitVec 32 := Scalar.addi v3888 c386_i32
  let v7364 : Index := Scalar.indexCast v7363
  ![0, v7364.toNat]
def k0_off1310 (v7365 : BitVec 32) : Fin 3 → Nat :=
  let v7366 : Index := Scalar.indexCast v7365
  let c0_4660 : Index := 0#32
  let c0_4661 : Index := 0#32
  ![v7366.toNat, 0, 0]

def k0_chk907 (v7365 : BitVec 32) : Prop :=
  (∀ a, (k0_off1310 v7365) a + S1x1x128.size a ≤ S100000x1x128.size a)
theorem k0_off1310_inb : ∀ (v7365 : BitVec 32) (k0_hw907 : k0_chk907 v7365), ∀ a, (k0_off1310 v7365) a + S1x1x128.size a ≤ S100000x1x128.size a := fun v7365 k0_hw907 => k0_hw907

def k0_off1311 (k0_t1 : Fin k0_t1_loop.trips) : Fin 2 → Nat :=
  let c0_4664 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c387_i32 : BitVec 32 := 387#32
  let v7372 : BitVec 32 := Scalar.addi v3888 c387_i32
  let v7373 : Index := Scalar.indexCast v7372
  ![0, v7373.toNat]
def k0_off1312 (v7374 : BitVec 32) : Fin 3 → Nat :=
  let v7375 : Index := Scalar.indexCast v7374
  let c0_4665 : Index := 0#32
  let c0_4666 : Index := 0#32
  ![v7375.toNat, 0, 0]

def k0_chk908 (v7374 : BitVec 32) : Prop :=
  (∀ a, (k0_off1312 v7374) a + S1x1x128.size a ≤ S100000x1x128.size a)
theorem k0_off1312_inb : ∀ (v7374 : BitVec 32) (k0_hw908 : k0_chk908 v7374), ∀ a, (k0_off1312 v7374) a + S1x1x128.size a ≤ S100000x1x128.size a := fun v7374 k0_hw908 => k0_hw908

def k0_off1313 (k0_t1 : Fin k0_t1_loop.trips) : Fin 2 → Nat :=
  let c0_4669 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c388_i32 : BitVec 32 := 388#32
  let v7381 : BitVec 32 := Scalar.addi v3888 c388_i32
  let v7382 : Index := Scalar.indexCast v7381
  ![0, v7382.toNat]
def k0_off1314 (v7383 : BitVec 32) : Fin 3 → Nat :=
  let v7384 : Index := Scalar.indexCast v7383
  let c0_4670 : Index := 0#32
  let c0_4671 : Index := 0#32
  ![v7384.toNat, 0, 0]

def k0_chk909 (v7383 : BitVec 32) : Prop :=
  (∀ a, (k0_off1314 v7383) a + S1x1x128.size a ≤ S100000x1x128.size a)
theorem k0_off1314_inb : ∀ (v7383 : BitVec 32) (k0_hw909 : k0_chk909 v7383), ∀ a, (k0_off1314 v7383) a + S1x1x128.size a ≤ S100000x1x128.size a := fun v7383 k0_hw909 => k0_hw909

def k0_off1315 (k0_t1 : Fin k0_t1_loop.trips) : Fin 2 → Nat :=
  let c0_4674 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c389_i32 : BitVec 32 := 389#32
  let v7390 : BitVec 32 := Scalar.addi v3888 c389_i32
  let v7391 : Index := Scalar.indexCast v7390
  ![0, v7391.toNat]
def k0_off1316 (v7392 : BitVec 32) : Fin 3 → Nat :=
  let v7393 : Index := Scalar.indexCast v7392
  let c0_4675 : Index := 0#32
  let c0_4676 : Index := 0#32
  ![v7393.toNat, 0, 0]

def k0_chk910 (v7392 : BitVec 32) : Prop :=
  (∀ a, (k0_off1316 v7392) a + S1x1x128.size a ≤ S100000x1x128.size a)
theorem k0_off1316_inb : ∀ (v7392 : BitVec 32) (k0_hw910 : k0_chk910 v7392), ∀ a, (k0_off1316 v7392) a + S1x1x128.size a ≤ S100000x1x128.size a := fun v7392 k0_hw910 => k0_hw910

def k0_off1317 (k0_t1 : Fin k0_t1_loop.trips) : Fin 2 → Nat :=
  let c0_4679 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c390_i32 : BitVec 32 := 390#32
  let v7399 : BitVec 32 := Scalar.addi v3888 c390_i32
  let v7400 : Index := Scalar.indexCast v7399
  ![0, v7400.toNat]
def k0_off1318 (v7401 : BitVec 32) : Fin 3 → Nat :=
  let v7402 : Index := Scalar.indexCast v7401
  let c0_4680 : Index := 0#32
  let c0_4681 : Index := 0#32
  ![v7402.toNat, 0, 0]

def k0_chk911 (v7401 : BitVec 32) : Prop :=
  (∀ a, (k0_off1318 v7401) a + S1x1x128.size a ≤ S100000x1x128.size a)
theorem k0_off1318_inb : ∀ (v7401 : BitVec 32) (k0_hw911 : k0_chk911 v7401), ∀ a, (k0_off1318 v7401) a + S1x1x128.size a ≤ S100000x1x128.size a := fun v7401 k0_hw911 => k0_hw911

def k0_off1319 (k0_t1 : Fin k0_t1_loop.trips) : Fin 2 → Nat :=
  let c0_4684 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c391_i32 : BitVec 32 := 391#32
  let v7408 : BitVec 32 := Scalar.addi v3888 c391_i32
  let v7409 : Index := Scalar.indexCast v7408
  ![0, v7409.toNat]
def k0_off1320 (v7410 : BitVec 32) : Fin 3 → Nat :=
  let v7411 : Index := Scalar.indexCast v7410
  let c0_4685 : Index := 0#32
  let c0_4686 : Index := 0#32
  ![v7411.toNat, 0, 0]

def k0_chk912 (v7410 : BitVec 32) : Prop :=
  (∀ a, (k0_off1320 v7410) a + S1x1x128.size a ≤ S100000x1x128.size a)
theorem k0_off1320_inb : ∀ (v7410 : BitVec 32) (k0_hw912 : k0_chk912 v7410), ∀ a, (k0_off1320 v7410) a + S1x1x128.size a ≤ S100000x1x128.size a := fun v7410 k0_hw912 => k0_hw912

def k0_off1321 (k0_t1 : Fin k0_t1_loop.trips) : Fin 2 → Nat :=
  let c0_4689 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c392_i32 : BitVec 32 := 392#32
  let v7417 : BitVec 32 := Scalar.addi v3888 c392_i32
  let v7418 : Index := Scalar.indexCast v7417
  ![0, v7418.toNat]
def k0_off1322 (v7419 : BitVec 32) : Fin 3 → Nat :=
  let v7420 : Index := Scalar.indexCast v7419
  let c0_4690 : Index := 0#32
  let c0_4691 : Index := 0#32
  ![v7420.toNat, 0, 0]

def k0_chk913 (v7419 : BitVec 32) : Prop :=
  (∀ a, (k0_off1322 v7419) a + S1x1x128.size a ≤ S100000x1x128.size a)
theorem k0_off1322_inb : ∀ (v7419 : BitVec 32) (k0_hw913 : k0_chk913 v7419), ∀ a, (k0_off1322 v7419) a + S1x1x128.size a ≤ S100000x1x128.size a := fun v7419 k0_hw913 => k0_hw913

def k0_off1323 (k0_t1 : Fin k0_t1_loop.trips) : Fin 2 → Nat :=
  let c0_4694 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c393_i32 : BitVec 32 := 393#32
  let v7426 : BitVec 32 := Scalar.addi v3888 c393_i32
  let v7427 : Index := Scalar.indexCast v7426
  ![0, v7427.toNat]
def k0_off1324 (v7428 : BitVec 32) : Fin 3 → Nat :=
  let v7429 : Index := Scalar.indexCast v7428
  let c0_4695 : Index := 0#32
  let c0_4696 : Index := 0#32
  ![v7429.toNat, 0, 0]

def k0_chk914 (v7428 : BitVec 32) : Prop :=
  (∀ a, (k0_off1324 v7428) a + S1x1x128.size a ≤ S100000x1x128.size a)
theorem k0_off1324_inb : ∀ (v7428 : BitVec 32) (k0_hw914 : k0_chk914 v7428), ∀ a, (k0_off1324 v7428) a + S1x1x128.size a ≤ S100000x1x128.size a := fun v7428 k0_hw914 => k0_hw914

def k0_off1325 (k0_t1 : Fin k0_t1_loop.trips) : Fin 2 → Nat :=
  let c0_4699 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c394_i32 : BitVec 32 := 394#32
  let v7435 : BitVec 32 := Scalar.addi v3888 c394_i32
  let v7436 : Index := Scalar.indexCast v7435
  ![0, v7436.toNat]
def k0_off1326 (v7437 : BitVec 32) : Fin 3 → Nat :=
  let v7438 : Index := Scalar.indexCast v7437
  let c0_4700 : Index := 0#32
  let c0_4701 : Index := 0#32
  ![v7438.toNat, 0, 0]

def k0_chk915 (v7437 : BitVec 32) : Prop :=
  (∀ a, (k0_off1326 v7437) a + S1x1x128.size a ≤ S100000x1x128.size a)
theorem k0_off1326_inb : ∀ (v7437 : BitVec 32) (k0_hw915 : k0_chk915 v7437), ∀ a, (k0_off1326 v7437) a + S1x1x128.size a ≤ S100000x1x128.size a := fun v7437 k0_hw915 => k0_hw915

def k0_off1327 (k0_t1 : Fin k0_t1_loop.trips) : Fin 2 → Nat :=
  let c0_4704 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c395_i32 : BitVec 32 := 395#32
  let v7444 : BitVec 32 := Scalar.addi v3888 c395_i32
  let v7445 : Index := Scalar.indexCast v7444
  ![0, v7445.toNat]
def k0_off1328 (v7446 : BitVec 32) : Fin 3 → Nat :=
  let v7447 : Index := Scalar.indexCast v7446
  let c0_4705 : Index := 0#32
  let c0_4706 : Index := 0#32
  ![v7447.toNat, 0, 0]

def k0_chk916 (v7446 : BitVec 32) : Prop :=
  (∀ a, (k0_off1328 v7446) a + S1x1x128.size a ≤ S100000x1x128.size a)
theorem k0_off1328_inb : ∀ (v7446 : BitVec 32) (k0_hw916 : k0_chk916 v7446), ∀ a, (k0_off1328 v7446) a + S1x1x128.size a ≤ S100000x1x128.size a := fun v7446 k0_hw916 => k0_hw916

def k0_off1329 (k0_t1 : Fin k0_t1_loop.trips) : Fin 2 → Nat :=
  let c0_4709 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c396_i32 : BitVec 32 := 396#32
  let v7453 : BitVec 32 := Scalar.addi v3888 c396_i32
  let v7454 : Index := Scalar.indexCast v7453
  ![0, v7454.toNat]
def k0_off1330 (v7455 : BitVec 32) : Fin 3 → Nat :=
  let v7456 : Index := Scalar.indexCast v7455
  let c0_4710 : Index := 0#32
  let c0_4711 : Index := 0#32
  ![v7456.toNat, 0, 0]

def k0_chk917 (v7455 : BitVec 32) : Prop :=
  (∀ a, (k0_off1330 v7455) a + S1x1x128.size a ≤ S100000x1x128.size a)
theorem k0_off1330_inb : ∀ (v7455 : BitVec 32) (k0_hw917 : k0_chk917 v7455), ∀ a, (k0_off1330 v7455) a + S1x1x128.size a ≤ S100000x1x128.size a := fun v7455 k0_hw917 => k0_hw917

def k0_off1331 (k0_t1 : Fin k0_t1_loop.trips) : Fin 2 → Nat :=
  let c0_4714 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c397_i32 : BitVec 32 := 397#32
  let v7462 : BitVec 32 := Scalar.addi v3888 c397_i32
  let v7463 : Index := Scalar.indexCast v7462
  ![0, v7463.toNat]
def k0_off1332 (v7464 : BitVec 32) : Fin 3 → Nat :=
  let v7465 : Index := Scalar.indexCast v7464
  let c0_4715 : Index := 0#32
  let c0_4716 : Index := 0#32
  ![v7465.toNat, 0, 0]

def k0_chk918 (v7464 : BitVec 32) : Prop :=
  (∀ a, (k0_off1332 v7464) a + S1x1x128.size a ≤ S100000x1x128.size a)
theorem k0_off1332_inb : ∀ (v7464 : BitVec 32) (k0_hw918 : k0_chk918 v7464), ∀ a, (k0_off1332 v7464) a + S1x1x128.size a ≤ S100000x1x128.size a := fun v7464 k0_hw918 => k0_hw918

def k0_off1333 (k0_t1 : Fin k0_t1_loop.trips) : Fin 2 → Nat :=
  let c0_4719 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c398_i32 : BitVec 32 := 398#32
  let v7471 : BitVec 32 := Scalar.addi v3888 c398_i32
  let v7472 : Index := Scalar.indexCast v7471
  ![0, v7472.toNat]
def k0_off1334 (v7473 : BitVec 32) : Fin 3 → Nat :=
  let v7474 : Index := Scalar.indexCast v7473
  let c0_4720 : Index := 0#32
  let c0_4721 : Index := 0#32
  ![v7474.toNat, 0, 0]

def k0_chk919 (v7473 : BitVec 32) : Prop :=
  (∀ a, (k0_off1334 v7473) a + S1x1x128.size a ≤ S100000x1x128.size a)
theorem k0_off1334_inb : ∀ (v7473 : BitVec 32) (k0_hw919 : k0_chk919 v7473), ∀ a, (k0_off1334 v7473) a + S1x1x128.size a ≤ S100000x1x128.size a := fun v7473 k0_hw919 => k0_hw919

def k0_off1335 (k0_t1 : Fin k0_t1_loop.trips) : Fin 2 → Nat :=
  let c0_4724 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c399_i32 : BitVec 32 := 399#32
  let v7480 : BitVec 32 := Scalar.addi v3888 c399_i32
  let v7481 : Index := Scalar.indexCast v7480
  ![0, v7481.toNat]
def k0_off1336 (v7482 : BitVec 32) : Fin 3 → Nat :=
  let v7483 : Index := Scalar.indexCast v7482
  let c0_4725 : Index := 0#32
  let c0_4726 : Index := 0#32
  ![v7483.toNat, 0, 0]

def k0_chk920 (v7482 : BitVec 32) : Prop :=
  (∀ a, (k0_off1336 v7482) a + S1x1x128.size a ≤ S100000x1x128.size a)
theorem k0_off1336_inb : ∀ (v7482 : BitVec 32) (k0_hw920 : k0_chk920 v7482), ∀ a, (k0_off1336 v7482) a + S1x1x128.size a ≤ S100000x1x128.size a := fun v7482 k0_hw920 => k0_hw920

def k0_off1337 (k0_t1 : Fin k0_t1_loop.trips) : Fin 2 → Nat :=
  let c0_4729 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c400_i32 : BitVec 32 := 400#32
  let v7489 : BitVec 32 := Scalar.addi v3888 c400_i32
  let v7490 : Index := Scalar.indexCast v7489
  ![0, v7490.toNat]
def k0_off1338 (v7491 : BitVec 32) : Fin 3 → Nat :=
  let v7492 : Index := Scalar.indexCast v7491
  let c0_4730 : Index := 0#32
  let c0_4731 : Index := 0#32
  ![v7492.toNat, 0, 0]

def k0_chk921 (v7491 : BitVec 32) : Prop :=
  (∀ a, (k0_off1338 v7491) a + S1x1x128.size a ≤ S100000x1x128.size a)
theorem k0_off1338_inb : ∀ (v7491 : BitVec 32) (k0_hw921 : k0_chk921 v7491), ∀ a, (k0_off1338 v7491) a + S1x1x128.size a ≤ S100000x1x128.size a := fun v7491 k0_hw921 => k0_hw921

def k0_off1339 (k0_t1 : Fin k0_t1_loop.trips) : Fin 2 → Nat :=
  let c0_4734 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c401_i32 : BitVec 32 := 401#32
  let v7498 : BitVec 32 := Scalar.addi v3888 c401_i32
  let v7499 : Index := Scalar.indexCast v7498
  ![0, v7499.toNat]
def k0_off1340 (v7500 : BitVec 32) : Fin 3 → Nat :=
  let v7501 : Index := Scalar.indexCast v7500
  let c0_4735 : Index := 0#32
  let c0_4736 : Index := 0#32
  ![v7501.toNat, 0, 0]

def k0_chk922 (v7500 : BitVec 32) : Prop :=
  (∀ a, (k0_off1340 v7500) a + S1x1x128.size a ≤ S100000x1x128.size a)
theorem k0_off1340_inb : ∀ (v7500 : BitVec 32) (k0_hw922 : k0_chk922 v7500), ∀ a, (k0_off1340 v7500) a + S1x1x128.size a ≤ S100000x1x128.size a := fun v7500 k0_hw922 => k0_hw922

def k0_off1341 (k0_t1 : Fin k0_t1_loop.trips) : Fin 2 → Nat :=
  let c0_4739 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c402_i32 : BitVec 32 := 402#32
  let v7507 : BitVec 32 := Scalar.addi v3888 c402_i32
  let v7508 : Index := Scalar.indexCast v7507
  ![0, v7508.toNat]
def k0_off1342 (v7509 : BitVec 32) : Fin 3 → Nat :=
  let v7510 : Index := Scalar.indexCast v7509
  let c0_4740 : Index := 0#32
  let c0_4741 : Index := 0#32
  ![v7510.toNat, 0, 0]

def k0_chk923 (v7509 : BitVec 32) : Prop :=
  (∀ a, (k0_off1342 v7509) a + S1x1x128.size a ≤ S100000x1x128.size a)
theorem k0_off1342_inb : ∀ (v7509 : BitVec 32) (k0_hw923 : k0_chk923 v7509), ∀ a, (k0_off1342 v7509) a + S1x1x128.size a ≤ S100000x1x128.size a := fun v7509 k0_hw923 => k0_hw923

def k0_off1343 (k0_t1 : Fin k0_t1_loop.trips) : Fin 2 → Nat :=
  let c0_4744 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c403_i32 : BitVec 32 := 403#32
  let v7516 : BitVec 32 := Scalar.addi v3888 c403_i32
  let v7517 : Index := Scalar.indexCast v7516
  ![0, v7517.toNat]
def k0_off1344 (v7518 : BitVec 32) : Fin 3 → Nat :=
  let v7519 : Index := Scalar.indexCast v7518
  let c0_4745 : Index := 0#32
  let c0_4746 : Index := 0#32
  ![v7519.toNat, 0, 0]

def k0_chk924 (v7518 : BitVec 32) : Prop :=
  (∀ a, (k0_off1344 v7518) a + S1x1x128.size a ≤ S100000x1x128.size a)
theorem k0_off1344_inb : ∀ (v7518 : BitVec 32) (k0_hw924 : k0_chk924 v7518), ∀ a, (k0_off1344 v7518) a + S1x1x128.size a ≤ S100000x1x128.size a := fun v7518 k0_hw924 => k0_hw924

def k0_off1345 (k0_t1 : Fin k0_t1_loop.trips) : Fin 2 → Nat :=
  let c0_4749 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c404_i32 : BitVec 32 := 404#32
  let v7525 : BitVec 32 := Scalar.addi v3888 c404_i32
  let v7526 : Index := Scalar.indexCast v7525
  ![0, v7526.toNat]
def k0_off1346 (v7527 : BitVec 32) : Fin 3 → Nat :=
  let v7528 : Index := Scalar.indexCast v7527
  let c0_4750 : Index := 0#32
  let c0_4751 : Index := 0#32
  ![v7528.toNat, 0, 0]

def k0_chk925 (v7527 : BitVec 32) : Prop :=
  (∀ a, (k0_off1346 v7527) a + S1x1x128.size a ≤ S100000x1x128.size a)
theorem k0_off1346_inb : ∀ (v7527 : BitVec 32) (k0_hw925 : k0_chk925 v7527), ∀ a, (k0_off1346 v7527) a + S1x1x128.size a ≤ S100000x1x128.size a := fun v7527 k0_hw925 => k0_hw925

def k0_off1347 (k0_t1 : Fin k0_t1_loop.trips) : Fin 2 → Nat :=
  let c0_4754 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c405_i32 : BitVec 32 := 405#32
  let v7534 : BitVec 32 := Scalar.addi v3888 c405_i32
  let v7535 : Index := Scalar.indexCast v7534
  ![0, v7535.toNat]
def k0_off1348 (v7536 : BitVec 32) : Fin 3 → Nat :=
  let v7537 : Index := Scalar.indexCast v7536
  let c0_4755 : Index := 0#32
  let c0_4756 : Index := 0#32
  ![v7537.toNat, 0, 0]

def k0_chk926 (v7536 : BitVec 32) : Prop :=
  (∀ a, (k0_off1348 v7536) a + S1x1x128.size a ≤ S100000x1x128.size a)
theorem k0_off1348_inb : ∀ (v7536 : BitVec 32) (k0_hw926 : k0_chk926 v7536), ∀ a, (k0_off1348 v7536) a + S1x1x128.size a ≤ S100000x1x128.size a := fun v7536 k0_hw926 => k0_hw926

def k0_off1349 (k0_t1 : Fin k0_t1_loop.trips) : Fin 2 → Nat :=
  let c0_4759 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c406_i32 : BitVec 32 := 406#32
  let v7543 : BitVec 32 := Scalar.addi v3888 c406_i32
  let v7544 : Index := Scalar.indexCast v7543
  ![0, v7544.toNat]
def k0_off1350 (v7545 : BitVec 32) : Fin 3 → Nat :=
  let v7546 : Index := Scalar.indexCast v7545
  let c0_4760 : Index := 0#32
  let c0_4761 : Index := 0#32
  ![v7546.toNat, 0, 0]

def k0_chk927 (v7545 : BitVec 32) : Prop :=
  (∀ a, (k0_off1350 v7545) a + S1x1x128.size a ≤ S100000x1x128.size a)
theorem k0_off1350_inb : ∀ (v7545 : BitVec 32) (k0_hw927 : k0_chk927 v7545), ∀ a, (k0_off1350 v7545) a + S1x1x128.size a ≤ S100000x1x128.size a := fun v7545 k0_hw927 => k0_hw927

def k0_off1351 (k0_t1 : Fin k0_t1_loop.trips) : Fin 2 → Nat :=
  let c0_4764 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c407_i32 : BitVec 32 := 407#32
  let v7552 : BitVec 32 := Scalar.addi v3888 c407_i32
  let v7553 : Index := Scalar.indexCast v7552
  ![0, v7553.toNat]
def k0_off1352 (v7554 : BitVec 32) : Fin 3 → Nat :=
  let v7555 : Index := Scalar.indexCast v7554
  let c0_4765 : Index := 0#32
  let c0_4766 : Index := 0#32
  ![v7555.toNat, 0, 0]

def k0_chk928 (v7554 : BitVec 32) : Prop :=
  (∀ a, (k0_off1352 v7554) a + S1x1x128.size a ≤ S100000x1x128.size a)
theorem k0_off1352_inb : ∀ (v7554 : BitVec 32) (k0_hw928 : k0_chk928 v7554), ∀ a, (k0_off1352 v7554) a + S1x1x128.size a ≤ S100000x1x128.size a := fun v7554 k0_hw928 => k0_hw928

def k0_off1353 (k0_t1 : Fin k0_t1_loop.trips) : Fin 2 → Nat :=
  let c0_4769 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c408_i32 : BitVec 32 := 408#32
  let v7561 : BitVec 32 := Scalar.addi v3888 c408_i32
  let v7562 : Index := Scalar.indexCast v7561
  ![0, v7562.toNat]
def k0_off1354 (v7563 : BitVec 32) : Fin 3 → Nat :=
  let v7564 : Index := Scalar.indexCast v7563
  let c0_4770 : Index := 0#32
  let c0_4771 : Index := 0#32
  ![v7564.toNat, 0, 0]

def k0_chk929 (v7563 : BitVec 32) : Prop :=
  (∀ a, (k0_off1354 v7563) a + S1x1x128.size a ≤ S100000x1x128.size a)
theorem k0_off1354_inb : ∀ (v7563 : BitVec 32) (k0_hw929 : k0_chk929 v7563), ∀ a, (k0_off1354 v7563) a + S1x1x128.size a ≤ S100000x1x128.size a := fun v7563 k0_hw929 => k0_hw929

def k0_off1355 (k0_t1 : Fin k0_t1_loop.trips) : Fin 2 → Nat :=
  let c0_4774 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c409_i32 : BitVec 32 := 409#32
  let v7570 : BitVec 32 := Scalar.addi v3888 c409_i32
  let v7571 : Index := Scalar.indexCast v7570
  ![0, v7571.toNat]
def k0_off1356 (v7572 : BitVec 32) : Fin 3 → Nat :=
  let v7573 : Index := Scalar.indexCast v7572
  let c0_4775 : Index := 0#32
  let c0_4776 : Index := 0#32
  ![v7573.toNat, 0, 0]

def k0_chk930 (v7572 : BitVec 32) : Prop :=
  (∀ a, (k0_off1356 v7572) a + S1x1x128.size a ≤ S100000x1x128.size a)
theorem k0_off1356_inb : ∀ (v7572 : BitVec 32) (k0_hw930 : k0_chk930 v7572), ∀ a, (k0_off1356 v7572) a + S1x1x128.size a ≤ S100000x1x128.size a := fun v7572 k0_hw930 => k0_hw930

def k0_off1357 (k0_t1 : Fin k0_t1_loop.trips) : Fin 2 → Nat :=
  let c0_4779 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c410_i32 : BitVec 32 := 410#32
  let v7579 : BitVec 32 := Scalar.addi v3888 c410_i32
  let v7580 : Index := Scalar.indexCast v7579
  ![0, v7580.toNat]
def k0_off1358 (v7581 : BitVec 32) : Fin 3 → Nat :=
  let v7582 : Index := Scalar.indexCast v7581
  let c0_4780 : Index := 0#32
  let c0_4781 : Index := 0#32
  ![v7582.toNat, 0, 0]

def k0_chk931 (v7581 : BitVec 32) : Prop :=
  (∀ a, (k0_off1358 v7581) a + S1x1x128.size a ≤ S100000x1x128.size a)
theorem k0_off1358_inb : ∀ (v7581 : BitVec 32) (k0_hw931 : k0_chk931 v7581), ∀ a, (k0_off1358 v7581) a + S1x1x128.size a ≤ S100000x1x128.size a := fun v7581 k0_hw931 => k0_hw931

def k0_off1359 (k0_t1 : Fin k0_t1_loop.trips) : Fin 2 → Nat :=
  let c0_4784 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c411_i32 : BitVec 32 := 411#32
  let v7588 : BitVec 32 := Scalar.addi v3888 c411_i32
  let v7589 : Index := Scalar.indexCast v7588
  ![0, v7589.toNat]
def k0_off1360 (v7590 : BitVec 32) : Fin 3 → Nat :=
  let v7591 : Index := Scalar.indexCast v7590
  let c0_4785 : Index := 0#32
  let c0_4786 : Index := 0#32
  ![v7591.toNat, 0, 0]

def k0_chk932 (v7590 : BitVec 32) : Prop :=
  (∀ a, (k0_off1360 v7590) a + S1x1x128.size a ≤ S100000x1x128.size a)
theorem k0_off1360_inb : ∀ (v7590 : BitVec 32) (k0_hw932 : k0_chk932 v7590), ∀ a, (k0_off1360 v7590) a + S1x1x128.size a ≤ S100000x1x128.size a := fun v7590 k0_hw932 => k0_hw932

def k0_off1361 (k0_t1 : Fin k0_t1_loop.trips) : Fin 2 → Nat :=
  let c0_4789 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c412_i32 : BitVec 32 := 412#32
  let v7597 : BitVec 32 := Scalar.addi v3888 c412_i32
  let v7598 : Index := Scalar.indexCast v7597
  ![0, v7598.toNat]
def k0_off1362 (v7599 : BitVec 32) : Fin 3 → Nat :=
  let v7600 : Index := Scalar.indexCast v7599
  let c0_4790 : Index := 0#32
  let c0_4791 : Index := 0#32
  ![v7600.toNat, 0, 0]

def k0_chk933 (v7599 : BitVec 32) : Prop :=
  (∀ a, (k0_off1362 v7599) a + S1x1x128.size a ≤ S100000x1x128.size a)
theorem k0_off1362_inb : ∀ (v7599 : BitVec 32) (k0_hw933 : k0_chk933 v7599), ∀ a, (k0_off1362 v7599) a + S1x1x128.size a ≤ S100000x1x128.size a := fun v7599 k0_hw933 => k0_hw933

def k0_off1363 (k0_t1 : Fin k0_t1_loop.trips) : Fin 2 → Nat :=
  let c0_4794 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c413_i32 : BitVec 32 := 413#32
  let v7606 : BitVec 32 := Scalar.addi v3888 c413_i32
  let v7607 : Index := Scalar.indexCast v7606
  ![0, v7607.toNat]
def k0_off1364 (v7608 : BitVec 32) : Fin 3 → Nat :=
  let v7609 : Index := Scalar.indexCast v7608
  let c0_4795 : Index := 0#32
  let c0_4796 : Index := 0#32
  ![v7609.toNat, 0, 0]

def k0_chk934 (v7608 : BitVec 32) : Prop :=
  (∀ a, (k0_off1364 v7608) a + S1x1x128.size a ≤ S100000x1x128.size a)
theorem k0_off1364_inb : ∀ (v7608 : BitVec 32) (k0_hw934 : k0_chk934 v7608), ∀ a, (k0_off1364 v7608) a + S1x1x128.size a ≤ S100000x1x128.size a := fun v7608 k0_hw934 => k0_hw934

def k0_off1365 (k0_t1 : Fin k0_t1_loop.trips) : Fin 2 → Nat :=
  let c0_4799 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c414_i32 : BitVec 32 := 414#32
  let v7615 : BitVec 32 := Scalar.addi v3888 c414_i32
  let v7616 : Index := Scalar.indexCast v7615
  ![0, v7616.toNat]
def k0_off1366 (v7617 : BitVec 32) : Fin 3 → Nat :=
  let v7618 : Index := Scalar.indexCast v7617
  let c0_4800 : Index := 0#32
  let c0_4801 : Index := 0#32
  ![v7618.toNat, 0, 0]

def k0_chk935 (v7617 : BitVec 32) : Prop :=
  (∀ a, (k0_off1366 v7617) a + S1x1x128.size a ≤ S100000x1x128.size a)
theorem k0_off1366_inb : ∀ (v7617 : BitVec 32) (k0_hw935 : k0_chk935 v7617), ∀ a, (k0_off1366 v7617) a + S1x1x128.size a ≤ S100000x1x128.size a := fun v7617 k0_hw935 => k0_hw935

def k0_off1367 (k0_t1 : Fin k0_t1_loop.trips) : Fin 2 → Nat :=
  let c0_4804 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c415_i32 : BitVec 32 := 415#32
  let v7624 : BitVec 32 := Scalar.addi v3888 c415_i32
  let v7625 : Index := Scalar.indexCast v7624
  ![0, v7625.toNat]
def k0_off1368 (v7626 : BitVec 32) : Fin 3 → Nat :=
  let v7627 : Index := Scalar.indexCast v7626
  let c0_4805 : Index := 0#32
  let c0_4806 : Index := 0#32
  ![v7627.toNat, 0, 0]

def k0_chk936 (v7626 : BitVec 32) : Prop :=
  (∀ a, (k0_off1368 v7626) a + S1x1x128.size a ≤ S100000x1x128.size a)
theorem k0_off1368_inb : ∀ (v7626 : BitVec 32) (k0_hw936 : k0_chk936 v7626), ∀ a, (k0_off1368 v7626) a + S1x1x128.size a ≤ S100000x1x128.size a := fun v7626 k0_hw936 => k0_hw936

def k0_off1369 (k0_t1 : Fin k0_t1_loop.trips) : Fin 2 → Nat :=
  let c0_4809 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c416_i32 : BitVec 32 := 416#32
  let v7633 : BitVec 32 := Scalar.addi v3888 c416_i32
  let v7634 : Index := Scalar.indexCast v7633
  ![0, v7634.toNat]
def k0_off1370 (v7635 : BitVec 32) : Fin 3 → Nat :=
  let v7636 : Index := Scalar.indexCast v7635
  let c0_4810 : Index := 0#32
  let c0_4811 : Index := 0#32
  ![v7636.toNat, 0, 0]

def k0_chk937 (v7635 : BitVec 32) : Prop :=
  (∀ a, (k0_off1370 v7635) a + S1x1x128.size a ≤ S100000x1x128.size a)
theorem k0_off1370_inb : ∀ (v7635 : BitVec 32) (k0_hw937 : k0_chk937 v7635), ∀ a, (k0_off1370 v7635) a + S1x1x128.size a ≤ S100000x1x128.size a := fun v7635 k0_hw937 => k0_hw937

def k0_off1371 (k0_t1 : Fin k0_t1_loop.trips) : Fin 2 → Nat :=
  let c0_4814 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c417_i32 : BitVec 32 := 417#32
  let v7642 : BitVec 32 := Scalar.addi v3888 c417_i32
  let v7643 : Index := Scalar.indexCast v7642
  ![0, v7643.toNat]
def k0_off1372 (v7644 : BitVec 32) : Fin 3 → Nat :=
  let v7645 : Index := Scalar.indexCast v7644
  let c0_4815 : Index := 0#32
  let c0_4816 : Index := 0#32
  ![v7645.toNat, 0, 0]

def k0_chk938 (v7644 : BitVec 32) : Prop :=
  (∀ a, (k0_off1372 v7644) a + S1x1x128.size a ≤ S100000x1x128.size a)
theorem k0_off1372_inb : ∀ (v7644 : BitVec 32) (k0_hw938 : k0_chk938 v7644), ∀ a, (k0_off1372 v7644) a + S1x1x128.size a ≤ S100000x1x128.size a := fun v7644 k0_hw938 => k0_hw938

def k0_off1373 (k0_t1 : Fin k0_t1_loop.trips) : Fin 2 → Nat :=
  let c0_4819 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c418_i32 : BitVec 32 := 418#32
  let v7651 : BitVec 32 := Scalar.addi v3888 c418_i32
  let v7652 : Index := Scalar.indexCast v7651
  ![0, v7652.toNat]
def k0_off1374 (v7653 : BitVec 32) : Fin 3 → Nat :=
  let v7654 : Index := Scalar.indexCast v7653
  let c0_4820 : Index := 0#32
  let c0_4821 : Index := 0#32
  ![v7654.toNat, 0, 0]

def k0_chk939 (v7653 : BitVec 32) : Prop :=
  (∀ a, (k0_off1374 v7653) a + S1x1x128.size a ≤ S100000x1x128.size a)
theorem k0_off1374_inb : ∀ (v7653 : BitVec 32) (k0_hw939 : k0_chk939 v7653), ∀ a, (k0_off1374 v7653) a + S1x1x128.size a ≤ S100000x1x128.size a := fun v7653 k0_hw939 => k0_hw939

def k0_off1375 (k0_t1 : Fin k0_t1_loop.trips) : Fin 2 → Nat :=
  let c0_4824 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c419_i32 : BitVec 32 := 419#32
  let v7660 : BitVec 32 := Scalar.addi v3888 c419_i32
  let v7661 : Index := Scalar.indexCast v7660
  ![0, v7661.toNat]
def k0_off1376 (v7662 : BitVec 32) : Fin 3 → Nat :=
  let v7663 : Index := Scalar.indexCast v7662
  let c0_4825 : Index := 0#32
  let c0_4826 : Index := 0#32
  ![v7663.toNat, 0, 0]

def k0_chk940 (v7662 : BitVec 32) : Prop :=
  (∀ a, (k0_off1376 v7662) a + S1x1x128.size a ≤ S100000x1x128.size a)
theorem k0_off1376_inb : ∀ (v7662 : BitVec 32) (k0_hw940 : k0_chk940 v7662), ∀ a, (k0_off1376 v7662) a + S1x1x128.size a ≤ S100000x1x128.size a := fun v7662 k0_hw940 => k0_hw940

def k0_off1377 (k0_t1 : Fin k0_t1_loop.trips) : Fin 2 → Nat :=
  let c0_4829 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c420_i32 : BitVec 32 := 420#32
  let v7669 : BitVec 32 := Scalar.addi v3888 c420_i32
  let v7670 : Index := Scalar.indexCast v7669
  ![0, v7670.toNat]
def k0_off1378 (v7671 : BitVec 32) : Fin 3 → Nat :=
  let v7672 : Index := Scalar.indexCast v7671
  let c0_4830 : Index := 0#32
  let c0_4831 : Index := 0#32
  ![v7672.toNat, 0, 0]

def k0_chk941 (v7671 : BitVec 32) : Prop :=
  (∀ a, (k0_off1378 v7671) a + S1x1x128.size a ≤ S100000x1x128.size a)
theorem k0_off1378_inb : ∀ (v7671 : BitVec 32) (k0_hw941 : k0_chk941 v7671), ∀ a, (k0_off1378 v7671) a + S1x1x128.size a ≤ S100000x1x128.size a := fun v7671 k0_hw941 => k0_hw941

def k0_off1379 (k0_t1 : Fin k0_t1_loop.trips) : Fin 2 → Nat :=
  let c0_4834 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c421_i32 : BitVec 32 := 421#32
  let v7678 : BitVec 32 := Scalar.addi v3888 c421_i32
  let v7679 : Index := Scalar.indexCast v7678
  ![0, v7679.toNat]
def k0_off1380 (v7680 : BitVec 32) : Fin 3 → Nat :=
  let v7681 : Index := Scalar.indexCast v7680
  let c0_4835 : Index := 0#32
  let c0_4836 : Index := 0#32
  ![v7681.toNat, 0, 0]

def k0_chk942 (v7680 : BitVec 32) : Prop :=
  (∀ a, (k0_off1380 v7680) a + S1x1x128.size a ≤ S100000x1x128.size a)
theorem k0_off1380_inb : ∀ (v7680 : BitVec 32) (k0_hw942 : k0_chk942 v7680), ∀ a, (k0_off1380 v7680) a + S1x1x128.size a ≤ S100000x1x128.size a := fun v7680 k0_hw942 => k0_hw942

def k0_off1381 (k0_t1 : Fin k0_t1_loop.trips) : Fin 2 → Nat :=
  let c0_4839 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c422_i32 : BitVec 32 := 422#32
  let v7687 : BitVec 32 := Scalar.addi v3888 c422_i32
  let v7688 : Index := Scalar.indexCast v7687
  ![0, v7688.toNat]
def k0_off1382 (v7689 : BitVec 32) : Fin 3 → Nat :=
  let v7690 : Index := Scalar.indexCast v7689
  let c0_4840 : Index := 0#32
  let c0_4841 : Index := 0#32
  ![v7690.toNat, 0, 0]

def k0_chk943 (v7689 : BitVec 32) : Prop :=
  (∀ a, (k0_off1382 v7689) a + S1x1x128.size a ≤ S100000x1x128.size a)
theorem k0_off1382_inb : ∀ (v7689 : BitVec 32) (k0_hw943 : k0_chk943 v7689), ∀ a, (k0_off1382 v7689) a + S1x1x128.size a ≤ S100000x1x128.size a := fun v7689 k0_hw943 => k0_hw943

def k0_off1383 (k0_t1 : Fin k0_t1_loop.trips) : Fin 2 → Nat :=
  let c0_4844 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c423_i32 : BitVec 32 := 423#32
  let v7696 : BitVec 32 := Scalar.addi v3888 c423_i32
  let v7697 : Index := Scalar.indexCast v7696
  ![0, v7697.toNat]
def k0_off1384 (v7698 : BitVec 32) : Fin 3 → Nat :=
  let v7699 : Index := Scalar.indexCast v7698
  let c0_4845 : Index := 0#32
  let c0_4846 : Index := 0#32
  ![v7699.toNat, 0, 0]

def k0_chk944 (v7698 : BitVec 32) : Prop :=
  (∀ a, (k0_off1384 v7698) a + S1x1x128.size a ≤ S100000x1x128.size a)
theorem k0_off1384_inb : ∀ (v7698 : BitVec 32) (k0_hw944 : k0_chk944 v7698), ∀ a, (k0_off1384 v7698) a + S1x1x128.size a ≤ S100000x1x128.size a := fun v7698 k0_hw944 => k0_hw944

def k0_off1385 (k0_t1 : Fin k0_t1_loop.trips) : Fin 2 → Nat :=
  let c0_4849 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c424_i32 : BitVec 32 := 424#32
  let v7705 : BitVec 32 := Scalar.addi v3888 c424_i32
  let v7706 : Index := Scalar.indexCast v7705
  ![0, v7706.toNat]
def k0_off1386 (v7707 : BitVec 32) : Fin 3 → Nat :=
  let v7708 : Index := Scalar.indexCast v7707
  let c0_4850 : Index := 0#32
  let c0_4851 : Index := 0#32
  ![v7708.toNat, 0, 0]

def k0_chk945 (v7707 : BitVec 32) : Prop :=
  (∀ a, (k0_off1386 v7707) a + S1x1x128.size a ≤ S100000x1x128.size a)
theorem k0_off1386_inb : ∀ (v7707 : BitVec 32) (k0_hw945 : k0_chk945 v7707), ∀ a, (k0_off1386 v7707) a + S1x1x128.size a ≤ S100000x1x128.size a := fun v7707 k0_hw945 => k0_hw945

def k0_off1387 (k0_t1 : Fin k0_t1_loop.trips) : Fin 2 → Nat :=
  let c0_4854 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c425_i32 : BitVec 32 := 425#32
  let v7714 : BitVec 32 := Scalar.addi v3888 c425_i32
  let v7715 : Index := Scalar.indexCast v7714
  ![0, v7715.toNat]
def k0_off1388 (v7716 : BitVec 32) : Fin 3 → Nat :=
  let v7717 : Index := Scalar.indexCast v7716
  let c0_4855 : Index := 0#32
  let c0_4856 : Index := 0#32
  ![v7717.toNat, 0, 0]

def k0_chk946 (v7716 : BitVec 32) : Prop :=
  (∀ a, (k0_off1388 v7716) a + S1x1x128.size a ≤ S100000x1x128.size a)
theorem k0_off1388_inb : ∀ (v7716 : BitVec 32) (k0_hw946 : k0_chk946 v7716), ∀ a, (k0_off1388 v7716) a + S1x1x128.size a ≤ S100000x1x128.size a := fun v7716 k0_hw946 => k0_hw946

def k0_off1389 (k0_t1 : Fin k0_t1_loop.trips) : Fin 2 → Nat :=
  let c0_4859 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c426_i32 : BitVec 32 := 426#32
  let v7723 : BitVec 32 := Scalar.addi v3888 c426_i32
  let v7724 : Index := Scalar.indexCast v7723
  ![0, v7724.toNat]
def k0_off1390 (v7725 : BitVec 32) : Fin 3 → Nat :=
  let v7726 : Index := Scalar.indexCast v7725
  let c0_4860 : Index := 0#32
  let c0_4861 : Index := 0#32
  ![v7726.toNat, 0, 0]

def k0_chk947 (v7725 : BitVec 32) : Prop :=
  (∀ a, (k0_off1390 v7725) a + S1x1x128.size a ≤ S100000x1x128.size a)
theorem k0_off1390_inb : ∀ (v7725 : BitVec 32) (k0_hw947 : k0_chk947 v7725), ∀ a, (k0_off1390 v7725) a + S1x1x128.size a ≤ S100000x1x128.size a := fun v7725 k0_hw947 => k0_hw947

def k0_off1391 (k0_t1 : Fin k0_t1_loop.trips) : Fin 2 → Nat :=
  let c0_4864 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c427_i32 : BitVec 32 := 427#32
  let v7732 : BitVec 32 := Scalar.addi v3888 c427_i32
  let v7733 : Index := Scalar.indexCast v7732
  ![0, v7733.toNat]
def k0_off1392 (v7734 : BitVec 32) : Fin 3 → Nat :=
  let v7735 : Index := Scalar.indexCast v7734
  let c0_4865 : Index := 0#32
  let c0_4866 : Index := 0#32
  ![v7735.toNat, 0, 0]

def k0_chk948 (v7734 : BitVec 32) : Prop :=
  (∀ a, (k0_off1392 v7734) a + S1x1x128.size a ≤ S100000x1x128.size a)
theorem k0_off1392_inb : ∀ (v7734 : BitVec 32) (k0_hw948 : k0_chk948 v7734), ∀ a, (k0_off1392 v7734) a + S1x1x128.size a ≤ S100000x1x128.size a := fun v7734 k0_hw948 => k0_hw948

def k0_off1393 (k0_t1 : Fin k0_t1_loop.trips) : Fin 2 → Nat :=
  let c0_4869 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c428_i32 : BitVec 32 := 428#32
  let v7741 : BitVec 32 := Scalar.addi v3888 c428_i32
  let v7742 : Index := Scalar.indexCast v7741
  ![0, v7742.toNat]
def k0_off1394 (v7743 : BitVec 32) : Fin 3 → Nat :=
  let v7744 : Index := Scalar.indexCast v7743
  let c0_4870 : Index := 0#32
  let c0_4871 : Index := 0#32
  ![v7744.toNat, 0, 0]

def k0_chk949 (v7743 : BitVec 32) : Prop :=
  (∀ a, (k0_off1394 v7743) a + S1x1x128.size a ≤ S100000x1x128.size a)
theorem k0_off1394_inb : ∀ (v7743 : BitVec 32) (k0_hw949 : k0_chk949 v7743), ∀ a, (k0_off1394 v7743) a + S1x1x128.size a ≤ S100000x1x128.size a := fun v7743 k0_hw949 => k0_hw949

def k0_off1395 (k0_t1 : Fin k0_t1_loop.trips) : Fin 2 → Nat :=
  let c0_4874 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c429_i32 : BitVec 32 := 429#32
  let v7750 : BitVec 32 := Scalar.addi v3888 c429_i32
  let v7751 : Index := Scalar.indexCast v7750
  ![0, v7751.toNat]
def k0_off1396 (v7752 : BitVec 32) : Fin 3 → Nat :=
  let v7753 : Index := Scalar.indexCast v7752
  let c0_4875 : Index := 0#32
  let c0_4876 : Index := 0#32
  ![v7753.toNat, 0, 0]

def k0_chk950 (v7752 : BitVec 32) : Prop :=
  (∀ a, (k0_off1396 v7752) a + S1x1x128.size a ≤ S100000x1x128.size a)
theorem k0_off1396_inb : ∀ (v7752 : BitVec 32) (k0_hw950 : k0_chk950 v7752), ∀ a, (k0_off1396 v7752) a + S1x1x128.size a ≤ S100000x1x128.size a := fun v7752 k0_hw950 => k0_hw950

def k0_off1397 (k0_t1 : Fin k0_t1_loop.trips) : Fin 2 → Nat :=
  let c0_4879 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c430_i32 : BitVec 32 := 430#32
  let v7759 : BitVec 32 := Scalar.addi v3888 c430_i32
  let v7760 : Index := Scalar.indexCast v7759
  ![0, v7760.toNat]
def k0_off1398 (v7761 : BitVec 32) : Fin 3 → Nat :=
  let v7762 : Index := Scalar.indexCast v7761
  let c0_4880 : Index := 0#32
  let c0_4881 : Index := 0#32
  ![v7762.toNat, 0, 0]

def k0_chk951 (v7761 : BitVec 32) : Prop :=
  (∀ a, (k0_off1398 v7761) a + S1x1x128.size a ≤ S100000x1x128.size a)
theorem k0_off1398_inb : ∀ (v7761 : BitVec 32) (k0_hw951 : k0_chk951 v7761), ∀ a, (k0_off1398 v7761) a + S1x1x128.size a ≤ S100000x1x128.size a := fun v7761 k0_hw951 => k0_hw951

def k0_off1399 (k0_t1 : Fin k0_t1_loop.trips) : Fin 2 → Nat :=
  let c0_4884 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c431_i32 : BitVec 32 := 431#32
  let v7768 : BitVec 32 := Scalar.addi v3888 c431_i32
  let v7769 : Index := Scalar.indexCast v7768
  ![0, v7769.toNat]
def k0_off1400 (v7770 : BitVec 32) : Fin 3 → Nat :=
  let v7771 : Index := Scalar.indexCast v7770
  let c0_4885 : Index := 0#32
  let c0_4886 : Index := 0#32
  ![v7771.toNat, 0, 0]

def k0_chk952 (v7770 : BitVec 32) : Prop :=
  (∀ a, (k0_off1400 v7770) a + S1x1x128.size a ≤ S100000x1x128.size a)
theorem k0_off1400_inb : ∀ (v7770 : BitVec 32) (k0_hw952 : k0_chk952 v7770), ∀ a, (k0_off1400 v7770) a + S1x1x128.size a ≤ S100000x1x128.size a := fun v7770 k0_hw952 => k0_hw952

def k0_off1401 (k0_t1 : Fin k0_t1_loop.trips) : Fin 2 → Nat :=
  let c0_4889 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c432_i32 : BitVec 32 := 432#32
  let v7777 : BitVec 32 := Scalar.addi v3888 c432_i32
  let v7778 : Index := Scalar.indexCast v7777
  ![0, v7778.toNat]
def k0_off1402 (v7779 : BitVec 32) : Fin 3 → Nat :=
  let v7780 : Index := Scalar.indexCast v7779
  let c0_4890 : Index := 0#32
  let c0_4891 : Index := 0#32
  ![v7780.toNat, 0, 0]

def k0_chk953 (v7779 : BitVec 32) : Prop :=
  (∀ a, (k0_off1402 v7779) a + S1x1x128.size a ≤ S100000x1x128.size a)
theorem k0_off1402_inb : ∀ (v7779 : BitVec 32) (k0_hw953 : k0_chk953 v7779), ∀ a, (k0_off1402 v7779) a + S1x1x128.size a ≤ S100000x1x128.size a := fun v7779 k0_hw953 => k0_hw953

def k0_off1403 (k0_t1 : Fin k0_t1_loop.trips) : Fin 2 → Nat :=
  let c0_4894 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c433_i32 : BitVec 32 := 433#32
  let v7786 : BitVec 32 := Scalar.addi v3888 c433_i32
  let v7787 : Index := Scalar.indexCast v7786
  ![0, v7787.toNat]
def k0_off1404 (v7788 : BitVec 32) : Fin 3 → Nat :=
  let v7789 : Index := Scalar.indexCast v7788
  let c0_4895 : Index := 0#32
  let c0_4896 : Index := 0#32
  ![v7789.toNat, 0, 0]

def k0_chk954 (v7788 : BitVec 32) : Prop :=
  (∀ a, (k0_off1404 v7788) a + S1x1x128.size a ≤ S100000x1x128.size a)
theorem k0_off1404_inb : ∀ (v7788 : BitVec 32) (k0_hw954 : k0_chk954 v7788), ∀ a, (k0_off1404 v7788) a + S1x1x128.size a ≤ S100000x1x128.size a := fun v7788 k0_hw954 => k0_hw954

def k0_off1405 (k0_t1 : Fin k0_t1_loop.trips) : Fin 2 → Nat :=
  let c0_4899 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c434_i32 : BitVec 32 := 434#32
  let v7795 : BitVec 32 := Scalar.addi v3888 c434_i32
  let v7796 : Index := Scalar.indexCast v7795
  ![0, v7796.toNat]
def k0_off1406 (v7797 : BitVec 32) : Fin 3 → Nat :=
  let v7798 : Index := Scalar.indexCast v7797
  let c0_4900 : Index := 0#32
  let c0_4901 : Index := 0#32
  ![v7798.toNat, 0, 0]

def k0_chk955 (v7797 : BitVec 32) : Prop :=
  (∀ a, (k0_off1406 v7797) a + S1x1x128.size a ≤ S100000x1x128.size a)
theorem k0_off1406_inb : ∀ (v7797 : BitVec 32) (k0_hw955 : k0_chk955 v7797), ∀ a, (k0_off1406 v7797) a + S1x1x128.size a ≤ S100000x1x128.size a := fun v7797 k0_hw955 => k0_hw955

def k0_off1407 (k0_t1 : Fin k0_t1_loop.trips) : Fin 2 → Nat :=
  let c0_4904 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c435_i32 : BitVec 32 := 435#32
  let v7804 : BitVec 32 := Scalar.addi v3888 c435_i32
  let v7805 : Index := Scalar.indexCast v7804
  ![0, v7805.toNat]
def k0_off1408 (v7806 : BitVec 32) : Fin 3 → Nat :=
  let v7807 : Index := Scalar.indexCast v7806
  let c0_4905 : Index := 0#32
  let c0_4906 : Index := 0#32
  ![v7807.toNat, 0, 0]

def k0_chk956 (v7806 : BitVec 32) : Prop :=
  (∀ a, (k0_off1408 v7806) a + S1x1x128.size a ≤ S100000x1x128.size a)
theorem k0_off1408_inb : ∀ (v7806 : BitVec 32) (k0_hw956 : k0_chk956 v7806), ∀ a, (k0_off1408 v7806) a + S1x1x128.size a ≤ S100000x1x128.size a := fun v7806 k0_hw956 => k0_hw956

def k0_off1409 (k0_t1 : Fin k0_t1_loop.trips) : Fin 2 → Nat :=
  let c0_4909 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c436_i32 : BitVec 32 := 436#32
  let v7813 : BitVec 32 := Scalar.addi v3888 c436_i32
  let v7814 : Index := Scalar.indexCast v7813
  ![0, v7814.toNat]
def k0_off1410 (v7815 : BitVec 32) : Fin 3 → Nat :=
  let v7816 : Index := Scalar.indexCast v7815
  let c0_4910 : Index := 0#32
  let c0_4911 : Index := 0#32
  ![v7816.toNat, 0, 0]

def k0_chk957 (v7815 : BitVec 32) : Prop :=
  (∀ a, (k0_off1410 v7815) a + S1x1x128.size a ≤ S100000x1x128.size a)
theorem k0_off1410_inb : ∀ (v7815 : BitVec 32) (k0_hw957 : k0_chk957 v7815), ∀ a, (k0_off1410 v7815) a + S1x1x128.size a ≤ S100000x1x128.size a := fun v7815 k0_hw957 => k0_hw957

def k0_off1411 (k0_t1 : Fin k0_t1_loop.trips) : Fin 2 → Nat :=
  let c0_4914 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c437_i32 : BitVec 32 := 437#32
  let v7822 : BitVec 32 := Scalar.addi v3888 c437_i32
  let v7823 : Index := Scalar.indexCast v7822
  ![0, v7823.toNat]
def k0_off1412 (v7824 : BitVec 32) : Fin 3 → Nat :=
  let v7825 : Index := Scalar.indexCast v7824
  let c0_4915 : Index := 0#32
  let c0_4916 : Index := 0#32
  ![v7825.toNat, 0, 0]

def k0_chk958 (v7824 : BitVec 32) : Prop :=
  (∀ a, (k0_off1412 v7824) a + S1x1x128.size a ≤ S100000x1x128.size a)
theorem k0_off1412_inb : ∀ (v7824 : BitVec 32) (k0_hw958 : k0_chk958 v7824), ∀ a, (k0_off1412 v7824) a + S1x1x128.size a ≤ S100000x1x128.size a := fun v7824 k0_hw958 => k0_hw958

def k0_off1413 (k0_t1 : Fin k0_t1_loop.trips) : Fin 2 → Nat :=
  let c0_4919 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c438_i32 : BitVec 32 := 438#32
  let v7831 : BitVec 32 := Scalar.addi v3888 c438_i32
  let v7832 : Index := Scalar.indexCast v7831
  ![0, v7832.toNat]
def k0_off1414 (v7833 : BitVec 32) : Fin 3 → Nat :=
  let v7834 : Index := Scalar.indexCast v7833
  let c0_4920 : Index := 0#32
  let c0_4921 : Index := 0#32
  ![v7834.toNat, 0, 0]

def k0_chk959 (v7833 : BitVec 32) : Prop :=
  (∀ a, (k0_off1414 v7833) a + S1x1x128.size a ≤ S100000x1x128.size a)
theorem k0_off1414_inb : ∀ (v7833 : BitVec 32) (k0_hw959 : k0_chk959 v7833), ∀ a, (k0_off1414 v7833) a + S1x1x128.size a ≤ S100000x1x128.size a := fun v7833 k0_hw959 => k0_hw959

def k0_off1415 (k0_t1 : Fin k0_t1_loop.trips) : Fin 2 → Nat :=
  let c0_4924 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c439_i32 : BitVec 32 := 439#32
  let v7840 : BitVec 32 := Scalar.addi v3888 c439_i32
  let v7841 : Index := Scalar.indexCast v7840
  ![0, v7841.toNat]
def k0_off1416 (v7842 : BitVec 32) : Fin 3 → Nat :=
  let v7843 : Index := Scalar.indexCast v7842
  let c0_4925 : Index := 0#32
  let c0_4926 : Index := 0#32
  ![v7843.toNat, 0, 0]

def k0_chk960 (v7842 : BitVec 32) : Prop :=
  (∀ a, (k0_off1416 v7842) a + S1x1x128.size a ≤ S100000x1x128.size a)
theorem k0_off1416_inb : ∀ (v7842 : BitVec 32) (k0_hw960 : k0_chk960 v7842), ∀ a, (k0_off1416 v7842) a + S1x1x128.size a ≤ S100000x1x128.size a := fun v7842 k0_hw960 => k0_hw960

def k0_off1417 (k0_t1 : Fin k0_t1_loop.trips) : Fin 2 → Nat :=
  let c0_4929 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c440_i32 : BitVec 32 := 440#32
  let v7849 : BitVec 32 := Scalar.addi v3888 c440_i32
  let v7850 : Index := Scalar.indexCast v7849
  ![0, v7850.toNat]
def k0_off1418 (v7851 : BitVec 32) : Fin 3 → Nat :=
  let v7852 : Index := Scalar.indexCast v7851
  let c0_4930 : Index := 0#32
  let c0_4931 : Index := 0#32
  ![v7852.toNat, 0, 0]

def k0_chk961 (v7851 : BitVec 32) : Prop :=
  (∀ a, (k0_off1418 v7851) a + S1x1x128.size a ≤ S100000x1x128.size a)
theorem k0_off1418_inb : ∀ (v7851 : BitVec 32) (k0_hw961 : k0_chk961 v7851), ∀ a, (k0_off1418 v7851) a + S1x1x128.size a ≤ S100000x1x128.size a := fun v7851 k0_hw961 => k0_hw961

def k0_off1419 (k0_t1 : Fin k0_t1_loop.trips) : Fin 2 → Nat :=
  let c0_4934 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c441_i32 : BitVec 32 := 441#32
  let v7858 : BitVec 32 := Scalar.addi v3888 c441_i32
  let v7859 : Index := Scalar.indexCast v7858
  ![0, v7859.toNat]
def k0_off1420 (v7860 : BitVec 32) : Fin 3 → Nat :=
  let v7861 : Index := Scalar.indexCast v7860
  let c0_4935 : Index := 0#32
  let c0_4936 : Index := 0#32
  ![v7861.toNat, 0, 0]

def k0_chk962 (v7860 : BitVec 32) : Prop :=
  (∀ a, (k0_off1420 v7860) a + S1x1x128.size a ≤ S100000x1x128.size a)
theorem k0_off1420_inb : ∀ (v7860 : BitVec 32) (k0_hw962 : k0_chk962 v7860), ∀ a, (k0_off1420 v7860) a + S1x1x128.size a ≤ S100000x1x128.size a := fun v7860 k0_hw962 => k0_hw962

def k0_off1421 (k0_t1 : Fin k0_t1_loop.trips) : Fin 2 → Nat :=
  let c0_4939 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c442_i32 : BitVec 32 := 442#32
  let v7867 : BitVec 32 := Scalar.addi v3888 c442_i32
  let v7868 : Index := Scalar.indexCast v7867
  ![0, v7868.toNat]
def k0_off1422 (v7869 : BitVec 32) : Fin 3 → Nat :=
  let v7870 : Index := Scalar.indexCast v7869
  let c0_4940 : Index := 0#32
  let c0_4941 : Index := 0#32
  ![v7870.toNat, 0, 0]

def k0_chk963 (v7869 : BitVec 32) : Prop :=
  (∀ a, (k0_off1422 v7869) a + S1x1x128.size a ≤ S100000x1x128.size a)
theorem k0_off1422_inb : ∀ (v7869 : BitVec 32) (k0_hw963 : k0_chk963 v7869), ∀ a, (k0_off1422 v7869) a + S1x1x128.size a ≤ S100000x1x128.size a := fun v7869 k0_hw963 => k0_hw963

def k0_off1423 (k0_t1 : Fin k0_t1_loop.trips) : Fin 2 → Nat :=
  let c0_4944 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c443_i32 : BitVec 32 := 443#32
  let v7876 : BitVec 32 := Scalar.addi v3888 c443_i32
  let v7877 : Index := Scalar.indexCast v7876
  ![0, v7877.toNat]
def k0_off1424 (v7878 : BitVec 32) : Fin 3 → Nat :=
  let v7879 : Index := Scalar.indexCast v7878
  let c0_4945 : Index := 0#32
  let c0_4946 : Index := 0#32
  ![v7879.toNat, 0, 0]

def k0_chk964 (v7878 : BitVec 32) : Prop :=
  (∀ a, (k0_off1424 v7878) a + S1x1x128.size a ≤ S100000x1x128.size a)
theorem k0_off1424_inb : ∀ (v7878 : BitVec 32) (k0_hw964 : k0_chk964 v7878), ∀ a, (k0_off1424 v7878) a + S1x1x128.size a ≤ S100000x1x128.size a := fun v7878 k0_hw964 => k0_hw964

def k0_off1425 (k0_t1 : Fin k0_t1_loop.trips) : Fin 2 → Nat :=
  let c0_4949 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c444_i32 : BitVec 32 := 444#32
  let v7885 : BitVec 32 := Scalar.addi v3888 c444_i32
  let v7886 : Index := Scalar.indexCast v7885
  ![0, v7886.toNat]
def k0_off1426 (v7887 : BitVec 32) : Fin 3 → Nat :=
  let v7888 : Index := Scalar.indexCast v7887
  let c0_4950 : Index := 0#32
  let c0_4951 : Index := 0#32
  ![v7888.toNat, 0, 0]

def k0_chk965 (v7887 : BitVec 32) : Prop :=
  (∀ a, (k0_off1426 v7887) a + S1x1x128.size a ≤ S100000x1x128.size a)
theorem k0_off1426_inb : ∀ (v7887 : BitVec 32) (k0_hw965 : k0_chk965 v7887), ∀ a, (k0_off1426 v7887) a + S1x1x128.size a ≤ S100000x1x128.size a := fun v7887 k0_hw965 => k0_hw965

def k0_off1427 (k0_t1 : Fin k0_t1_loop.trips) : Fin 2 → Nat :=
  let c0_4954 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c445_i32 : BitVec 32 := 445#32
  let v7894 : BitVec 32 := Scalar.addi v3888 c445_i32
  let v7895 : Index := Scalar.indexCast v7894
  ![0, v7895.toNat]
def k0_off1428 (v7896 : BitVec 32) : Fin 3 → Nat :=
  let v7897 : Index := Scalar.indexCast v7896
  let c0_4955 : Index := 0#32
  let c0_4956 : Index := 0#32
  ![v7897.toNat, 0, 0]

def k0_chk966 (v7896 : BitVec 32) : Prop :=
  (∀ a, (k0_off1428 v7896) a + S1x1x128.size a ≤ S100000x1x128.size a)
theorem k0_off1428_inb : ∀ (v7896 : BitVec 32) (k0_hw966 : k0_chk966 v7896), ∀ a, (k0_off1428 v7896) a + S1x1x128.size a ≤ S100000x1x128.size a := fun v7896 k0_hw966 => k0_hw966

def k0_off1429 (k0_t1 : Fin k0_t1_loop.trips) : Fin 2 → Nat :=
  let c0_4959 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c446_i32 : BitVec 32 := 446#32
  let v7903 : BitVec 32 := Scalar.addi v3888 c446_i32
  let v7904 : Index := Scalar.indexCast v7903
  ![0, v7904.toNat]
def k0_off1430 (v7905 : BitVec 32) : Fin 3 → Nat :=
  let v7906 : Index := Scalar.indexCast v7905
  let c0_4960 : Index := 0#32
  let c0_4961 : Index := 0#32
  ![v7906.toNat, 0, 0]

def k0_chk967 (v7905 : BitVec 32) : Prop :=
  (∀ a, (k0_off1430 v7905) a + S1x1x128.size a ≤ S100000x1x128.size a)
theorem k0_off1430_inb : ∀ (v7905 : BitVec 32) (k0_hw967 : k0_chk967 v7905), ∀ a, (k0_off1430 v7905) a + S1x1x128.size a ≤ S100000x1x128.size a := fun v7905 k0_hw967 => k0_hw967

def k0_off1431 (k0_t1 : Fin k0_t1_loop.trips) : Fin 2 → Nat :=
  let c0_4964 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c447_i32 : BitVec 32 := 447#32
  let v7912 : BitVec 32 := Scalar.addi v3888 c447_i32
  let v7913 : Index := Scalar.indexCast v7912
  ![0, v7913.toNat]
def k0_off1432 (v7914 : BitVec 32) : Fin 3 → Nat :=
  let v7915 : Index := Scalar.indexCast v7914
  let c0_4965 : Index := 0#32
  let c0_4966 : Index := 0#32
  ![v7915.toNat, 0, 0]

def k0_chk968 (v7914 : BitVec 32) : Prop :=
  (∀ a, (k0_off1432 v7914) a + S1x1x128.size a ≤ S100000x1x128.size a)
theorem k0_off1432_inb : ∀ (v7914 : BitVec 32) (k0_hw968 : k0_chk968 v7914), ∀ a, (k0_off1432 v7914) a + S1x1x128.size a ≤ S100000x1x128.size a := fun v7914 k0_hw968 => k0_hw968

def k0_off1433 (k0_t1 : Fin k0_t1_loop.trips) : Fin 2 → Nat :=
  let c0_4969 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c448_i32 : BitVec 32 := 448#32
  let v7921 : BitVec 32 := Scalar.addi v3888 c448_i32
  let v7922 : Index := Scalar.indexCast v7921
  ![0, v7922.toNat]
def k0_off1434 (v7923 : BitVec 32) : Fin 3 → Nat :=
  let v7924 : Index := Scalar.indexCast v7923
  let c0_4970 : Index := 0#32
  let c0_4971 : Index := 0#32
  ![v7924.toNat, 0, 0]

def k0_chk969 (v7923 : BitVec 32) : Prop :=
  (∀ a, (k0_off1434 v7923) a + S1x1x128.size a ≤ S100000x1x128.size a)
theorem k0_off1434_inb : ∀ (v7923 : BitVec 32) (k0_hw969 : k0_chk969 v7923), ∀ a, (k0_off1434 v7923) a + S1x1x128.size a ≤ S100000x1x128.size a := fun v7923 k0_hw969 => k0_hw969

def k0_off1435 (k0_t1 : Fin k0_t1_loop.trips) : Fin 2 → Nat :=
  let c0_4974 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c449_i32 : BitVec 32 := 449#32
  let v7930 : BitVec 32 := Scalar.addi v3888 c449_i32
  let v7931 : Index := Scalar.indexCast v7930
  ![0, v7931.toNat]
def k0_off1436 (v7932 : BitVec 32) : Fin 3 → Nat :=
  let v7933 : Index := Scalar.indexCast v7932
  let c0_4975 : Index := 0#32
  let c0_4976 : Index := 0#32
  ![v7933.toNat, 0, 0]

def k0_chk970 (v7932 : BitVec 32) : Prop :=
  (∀ a, (k0_off1436 v7932) a + S1x1x128.size a ≤ S100000x1x128.size a)
theorem k0_off1436_inb : ∀ (v7932 : BitVec 32) (k0_hw970 : k0_chk970 v7932), ∀ a, (k0_off1436 v7932) a + S1x1x128.size a ≤ S100000x1x128.size a := fun v7932 k0_hw970 => k0_hw970

def k0_off1437 (k0_t1 : Fin k0_t1_loop.trips) : Fin 2 → Nat :=
  let c0_4979 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c450_i32 : BitVec 32 := 450#32
  let v7939 : BitVec 32 := Scalar.addi v3888 c450_i32
  let v7940 : Index := Scalar.indexCast v7939
  ![0, v7940.toNat]
def k0_off1438 (v7941 : BitVec 32) : Fin 3 → Nat :=
  let v7942 : Index := Scalar.indexCast v7941
  let c0_4980 : Index := 0#32
  let c0_4981 : Index := 0#32
  ![v7942.toNat, 0, 0]

def k0_chk971 (v7941 : BitVec 32) : Prop :=
  (∀ a, (k0_off1438 v7941) a + S1x1x128.size a ≤ S100000x1x128.size a)
theorem k0_off1438_inb : ∀ (v7941 : BitVec 32) (k0_hw971 : k0_chk971 v7941), ∀ a, (k0_off1438 v7941) a + S1x1x128.size a ≤ S100000x1x128.size a := fun v7941 k0_hw971 => k0_hw971

def k0_off1439 (k0_t1 : Fin k0_t1_loop.trips) : Fin 2 → Nat :=
  let c0_4984 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c451_i32 : BitVec 32 := 451#32
  let v7948 : BitVec 32 := Scalar.addi v3888 c451_i32
  let v7949 : Index := Scalar.indexCast v7948
  ![0, v7949.toNat]
def k0_off1440 (v7950 : BitVec 32) : Fin 3 → Nat :=
  let v7951 : Index := Scalar.indexCast v7950
  let c0_4985 : Index := 0#32
  let c0_4986 : Index := 0#32
  ![v7951.toNat, 0, 0]

def k0_chk972 (v7950 : BitVec 32) : Prop :=
  (∀ a, (k0_off1440 v7950) a + S1x1x128.size a ≤ S100000x1x128.size a)
theorem k0_off1440_inb : ∀ (v7950 : BitVec 32) (k0_hw972 : k0_chk972 v7950), ∀ a, (k0_off1440 v7950) a + S1x1x128.size a ≤ S100000x1x128.size a := fun v7950 k0_hw972 => k0_hw972

def k0_off1441 (k0_t1 : Fin k0_t1_loop.trips) : Fin 2 → Nat :=
  let c0_4989 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c452_i32 : BitVec 32 := 452#32
  let v7957 : BitVec 32 := Scalar.addi v3888 c452_i32
  let v7958 : Index := Scalar.indexCast v7957
  ![0, v7958.toNat]
def k0_off1442 (v7959 : BitVec 32) : Fin 3 → Nat :=
  let v7960 : Index := Scalar.indexCast v7959
  let c0_4990 : Index := 0#32
  let c0_4991 : Index := 0#32
  ![v7960.toNat, 0, 0]

def k0_chk973 (v7959 : BitVec 32) : Prop :=
  (∀ a, (k0_off1442 v7959) a + S1x1x128.size a ≤ S100000x1x128.size a)
theorem k0_off1442_inb : ∀ (v7959 : BitVec 32) (k0_hw973 : k0_chk973 v7959), ∀ a, (k0_off1442 v7959) a + S1x1x128.size a ≤ S100000x1x128.size a := fun v7959 k0_hw973 => k0_hw973

def k0_off1443 (k0_t1 : Fin k0_t1_loop.trips) : Fin 2 → Nat :=
  let c0_4994 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c453_i32 : BitVec 32 := 453#32
  let v7966 : BitVec 32 := Scalar.addi v3888 c453_i32
  let v7967 : Index := Scalar.indexCast v7966
  ![0, v7967.toNat]
def k0_off1444 (v7968 : BitVec 32) : Fin 3 → Nat :=
  let v7969 : Index := Scalar.indexCast v7968
  let c0_4995 : Index := 0#32
  let c0_4996 : Index := 0#32
  ![v7969.toNat, 0, 0]

def k0_chk974 (v7968 : BitVec 32) : Prop :=
  (∀ a, (k0_off1444 v7968) a + S1x1x128.size a ≤ S100000x1x128.size a)
theorem k0_off1444_inb : ∀ (v7968 : BitVec 32) (k0_hw974 : k0_chk974 v7968), ∀ a, (k0_off1444 v7968) a + S1x1x128.size a ≤ S100000x1x128.size a := fun v7968 k0_hw974 => k0_hw974

def k0_off1445 (k0_t1 : Fin k0_t1_loop.trips) : Fin 2 → Nat :=
  let c0_4999 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c454_i32 : BitVec 32 := 454#32
  let v7975 : BitVec 32 := Scalar.addi v3888 c454_i32
  let v7976 : Index := Scalar.indexCast v7975
  ![0, v7976.toNat]
def k0_off1446 (v7977 : BitVec 32) : Fin 3 → Nat :=
  let v7978 : Index := Scalar.indexCast v7977
  let c0_5000 : Index := 0#32
  let c0_5001 : Index := 0#32
  ![v7978.toNat, 0, 0]

def k0_chk975 (v7977 : BitVec 32) : Prop :=
  (∀ a, (k0_off1446 v7977) a + S1x1x128.size a ≤ S100000x1x128.size a)
theorem k0_off1446_inb : ∀ (v7977 : BitVec 32) (k0_hw975 : k0_chk975 v7977), ∀ a, (k0_off1446 v7977) a + S1x1x128.size a ≤ S100000x1x128.size a := fun v7977 k0_hw975 => k0_hw975

def k0_off1447 (k0_t1 : Fin k0_t1_loop.trips) : Fin 2 → Nat :=
  let c0_5004 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c455_i32 : BitVec 32 := 455#32
  let v7984 : BitVec 32 := Scalar.addi v3888 c455_i32
  let v7985 : Index := Scalar.indexCast v7984
  ![0, v7985.toNat]
def k0_off1448 (v7986 : BitVec 32) : Fin 3 → Nat :=
  let v7987 : Index := Scalar.indexCast v7986
  let c0_5005 : Index := 0#32
  let c0_5006 : Index := 0#32
  ![v7987.toNat, 0, 0]

def k0_chk976 (v7986 : BitVec 32) : Prop :=
  (∀ a, (k0_off1448 v7986) a + S1x1x128.size a ≤ S100000x1x128.size a)
theorem k0_off1448_inb : ∀ (v7986 : BitVec 32) (k0_hw976 : k0_chk976 v7986), ∀ a, (k0_off1448 v7986) a + S1x1x128.size a ≤ S100000x1x128.size a := fun v7986 k0_hw976 => k0_hw976

def k0_off1449 (k0_t1 : Fin k0_t1_loop.trips) : Fin 2 → Nat :=
  let c0_5009 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c456_i32 : BitVec 32 := 456#32
  let v7993 : BitVec 32 := Scalar.addi v3888 c456_i32
  let v7994 : Index := Scalar.indexCast v7993
  ![0, v7994.toNat]
def k0_off1450 (v7995 : BitVec 32) : Fin 3 → Nat :=
  let v7996 : Index := Scalar.indexCast v7995
  let c0_5010 : Index := 0#32
  let c0_5011 : Index := 0#32
  ![v7996.toNat, 0, 0]

def k0_chk977 (v7995 : BitVec 32) : Prop :=
  (∀ a, (k0_off1450 v7995) a + S1x1x128.size a ≤ S100000x1x128.size a)
theorem k0_off1450_inb : ∀ (v7995 : BitVec 32) (k0_hw977 : k0_chk977 v7995), ∀ a, (k0_off1450 v7995) a + S1x1x128.size a ≤ S100000x1x128.size a := fun v7995 k0_hw977 => k0_hw977

def k0_off1451 (k0_t1 : Fin k0_t1_loop.trips) : Fin 2 → Nat :=
  let c0_5014 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c457_i32 : BitVec 32 := 457#32
  let v8002 : BitVec 32 := Scalar.addi v3888 c457_i32
  let v8003 : Index := Scalar.indexCast v8002
  ![0, v8003.toNat]
def k0_off1452 (v8004 : BitVec 32) : Fin 3 → Nat :=
  let v8005 : Index := Scalar.indexCast v8004
  let c0_5015 : Index := 0#32
  let c0_5016 : Index := 0#32
  ![v8005.toNat, 0, 0]

def k0_chk978 (v8004 : BitVec 32) : Prop :=
  (∀ a, (k0_off1452 v8004) a + S1x1x128.size a ≤ S100000x1x128.size a)
theorem k0_off1452_inb : ∀ (v8004 : BitVec 32) (k0_hw978 : k0_chk978 v8004), ∀ a, (k0_off1452 v8004) a + S1x1x128.size a ≤ S100000x1x128.size a := fun v8004 k0_hw978 => k0_hw978

def k0_off1453 (k0_t1 : Fin k0_t1_loop.trips) : Fin 2 → Nat :=
  let c0_5019 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c458_i32 : BitVec 32 := 458#32
  let v8011 : BitVec 32 := Scalar.addi v3888 c458_i32
  let v8012 : Index := Scalar.indexCast v8011
  ![0, v8012.toNat]
def k0_off1454 (v8013 : BitVec 32) : Fin 3 → Nat :=
  let v8014 : Index := Scalar.indexCast v8013
  let c0_5020 : Index := 0#32
  let c0_5021 : Index := 0#32
  ![v8014.toNat, 0, 0]

def k0_chk979 (v8013 : BitVec 32) : Prop :=
  (∀ a, (k0_off1454 v8013) a + S1x1x128.size a ≤ S100000x1x128.size a)
theorem k0_off1454_inb : ∀ (v8013 : BitVec 32) (k0_hw979 : k0_chk979 v8013), ∀ a, (k0_off1454 v8013) a + S1x1x128.size a ≤ S100000x1x128.size a := fun v8013 k0_hw979 => k0_hw979

def k0_off1455 (k0_t1 : Fin k0_t1_loop.trips) : Fin 2 → Nat :=
  let c0_5024 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c459_i32 : BitVec 32 := 459#32
  let v8020 : BitVec 32 := Scalar.addi v3888 c459_i32
  let v8021 : Index := Scalar.indexCast v8020
  ![0, v8021.toNat]
def k0_off1456 (v8022 : BitVec 32) : Fin 3 → Nat :=
  let v8023 : Index := Scalar.indexCast v8022
  let c0_5025 : Index := 0#32
  let c0_5026 : Index := 0#32
  ![v8023.toNat, 0, 0]

def k0_chk980 (v8022 : BitVec 32) : Prop :=
  (∀ a, (k0_off1456 v8022) a + S1x1x128.size a ≤ S100000x1x128.size a)
theorem k0_off1456_inb : ∀ (v8022 : BitVec 32) (k0_hw980 : k0_chk980 v8022), ∀ a, (k0_off1456 v8022) a + S1x1x128.size a ≤ S100000x1x128.size a := fun v8022 k0_hw980 => k0_hw980

def k0_off1457 (k0_t1 : Fin k0_t1_loop.trips) : Fin 2 → Nat :=
  let c0_5029 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c460_i32 : BitVec 32 := 460#32
  let v8029 : BitVec 32 := Scalar.addi v3888 c460_i32
  let v8030 : Index := Scalar.indexCast v8029
  ![0, v8030.toNat]
def k0_off1458 (v8031 : BitVec 32) : Fin 3 → Nat :=
  let v8032 : Index := Scalar.indexCast v8031
  let c0_5030 : Index := 0#32
  let c0_5031 : Index := 0#32
  ![v8032.toNat, 0, 0]

def k0_chk981 (v8031 : BitVec 32) : Prop :=
  (∀ a, (k0_off1458 v8031) a + S1x1x128.size a ≤ S100000x1x128.size a)
theorem k0_off1458_inb : ∀ (v8031 : BitVec 32) (k0_hw981 : k0_chk981 v8031), ∀ a, (k0_off1458 v8031) a + S1x1x128.size a ≤ S100000x1x128.size a := fun v8031 k0_hw981 => k0_hw981

def k0_off1459 (k0_t1 : Fin k0_t1_loop.trips) : Fin 2 → Nat :=
  let c0_5034 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c461_i32 : BitVec 32 := 461#32
  let v8038 : BitVec 32 := Scalar.addi v3888 c461_i32
  let v8039 : Index := Scalar.indexCast v8038
  ![0, v8039.toNat]
def k0_off1460 (v8040 : BitVec 32) : Fin 3 → Nat :=
  let v8041 : Index := Scalar.indexCast v8040
  let c0_5035 : Index := 0#32
  let c0_5036 : Index := 0#32
  ![v8041.toNat, 0, 0]

def k0_chk982 (v8040 : BitVec 32) : Prop :=
  (∀ a, (k0_off1460 v8040) a + S1x1x128.size a ≤ S100000x1x128.size a)
theorem k0_off1460_inb : ∀ (v8040 : BitVec 32) (k0_hw982 : k0_chk982 v8040), ∀ a, (k0_off1460 v8040) a + S1x1x128.size a ≤ S100000x1x128.size a := fun v8040 k0_hw982 => k0_hw982

def k0_off1461 (k0_t1 : Fin k0_t1_loop.trips) : Fin 2 → Nat :=
  let c0_5039 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c462_i32 : BitVec 32 := 462#32
  let v8047 : BitVec 32 := Scalar.addi v3888 c462_i32
  let v8048 : Index := Scalar.indexCast v8047
  ![0, v8048.toNat]
def k0_off1462 (v8049 : BitVec 32) : Fin 3 → Nat :=
  let v8050 : Index := Scalar.indexCast v8049
  let c0_5040 : Index := 0#32
  let c0_5041 : Index := 0#32
  ![v8050.toNat, 0, 0]

def k0_chk983 (v8049 : BitVec 32) : Prop :=
  (∀ a, (k0_off1462 v8049) a + S1x1x128.size a ≤ S100000x1x128.size a)
theorem k0_off1462_inb : ∀ (v8049 : BitVec 32) (k0_hw983 : k0_chk983 v8049), ∀ a, (k0_off1462 v8049) a + S1x1x128.size a ≤ S100000x1x128.size a := fun v8049 k0_hw983 => k0_hw983

def k0_off1463 (k0_t1 : Fin k0_t1_loop.trips) : Fin 2 → Nat :=
  let c0_5044 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c463_i32 : BitVec 32 := 463#32
  let v8056 : BitVec 32 := Scalar.addi v3888 c463_i32
  let v8057 : Index := Scalar.indexCast v8056
  ![0, v8057.toNat]
def k0_off1464 (v8058 : BitVec 32) : Fin 3 → Nat :=
  let v8059 : Index := Scalar.indexCast v8058
  let c0_5045 : Index := 0#32
  let c0_5046 : Index := 0#32
  ![v8059.toNat, 0, 0]

def k0_chk984 (v8058 : BitVec 32) : Prop :=
  (∀ a, (k0_off1464 v8058) a + S1x1x128.size a ≤ S100000x1x128.size a)
theorem k0_off1464_inb : ∀ (v8058 : BitVec 32) (k0_hw984 : k0_chk984 v8058), ∀ a, (k0_off1464 v8058) a + S1x1x128.size a ≤ S100000x1x128.size a := fun v8058 k0_hw984 => k0_hw984

def k0_off1465 (k0_t1 : Fin k0_t1_loop.trips) : Fin 2 → Nat :=
  let c0_5049 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c464_i32 : BitVec 32 := 464#32
  let v8065 : BitVec 32 := Scalar.addi v3888 c464_i32
  let v8066 : Index := Scalar.indexCast v8065
  ![0, v8066.toNat]
def k0_off1466 (v8067 : BitVec 32) : Fin 3 → Nat :=
  let v8068 : Index := Scalar.indexCast v8067
  let c0_5050 : Index := 0#32
  let c0_5051 : Index := 0#32
  ![v8068.toNat, 0, 0]

def k0_chk985 (v8067 : BitVec 32) : Prop :=
  (∀ a, (k0_off1466 v8067) a + S1x1x128.size a ≤ S100000x1x128.size a)
theorem k0_off1466_inb : ∀ (v8067 : BitVec 32) (k0_hw985 : k0_chk985 v8067), ∀ a, (k0_off1466 v8067) a + S1x1x128.size a ≤ S100000x1x128.size a := fun v8067 k0_hw985 => k0_hw985

def k0_off1467 (k0_t1 : Fin k0_t1_loop.trips) : Fin 2 → Nat :=
  let c0_5054 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c465_i32 : BitVec 32 := 465#32
  let v8074 : BitVec 32 := Scalar.addi v3888 c465_i32
  let v8075 : Index := Scalar.indexCast v8074
  ![0, v8075.toNat]
def k0_off1468 (v8076 : BitVec 32) : Fin 3 → Nat :=
  let v8077 : Index := Scalar.indexCast v8076
  let c0_5055 : Index := 0#32
  let c0_5056 : Index := 0#32
  ![v8077.toNat, 0, 0]

def k0_chk986 (v8076 : BitVec 32) : Prop :=
  (∀ a, (k0_off1468 v8076) a + S1x1x128.size a ≤ S100000x1x128.size a)
theorem k0_off1468_inb : ∀ (v8076 : BitVec 32) (k0_hw986 : k0_chk986 v8076), ∀ a, (k0_off1468 v8076) a + S1x1x128.size a ≤ S100000x1x128.size a := fun v8076 k0_hw986 => k0_hw986

def k0_off1469 (k0_t1 : Fin k0_t1_loop.trips) : Fin 2 → Nat :=
  let c0_5059 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c466_i32 : BitVec 32 := 466#32
  let v8083 : BitVec 32 := Scalar.addi v3888 c466_i32
  let v8084 : Index := Scalar.indexCast v8083
  ![0, v8084.toNat]
def k0_off1470 (v8085 : BitVec 32) : Fin 3 → Nat :=
  let v8086 : Index := Scalar.indexCast v8085
  let c0_5060 : Index := 0#32
  let c0_5061 : Index := 0#32
  ![v8086.toNat, 0, 0]

def k0_chk987 (v8085 : BitVec 32) : Prop :=
  (∀ a, (k0_off1470 v8085) a + S1x1x128.size a ≤ S100000x1x128.size a)
theorem k0_off1470_inb : ∀ (v8085 : BitVec 32) (k0_hw987 : k0_chk987 v8085), ∀ a, (k0_off1470 v8085) a + S1x1x128.size a ≤ S100000x1x128.size a := fun v8085 k0_hw987 => k0_hw987

def k0_off1471 (k0_t1 : Fin k0_t1_loop.trips) : Fin 2 → Nat :=
  let c0_5064 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c467_i32 : BitVec 32 := 467#32
  let v8092 : BitVec 32 := Scalar.addi v3888 c467_i32
  let v8093 : Index := Scalar.indexCast v8092
  ![0, v8093.toNat]
def k0_off1472 (v8094 : BitVec 32) : Fin 3 → Nat :=
  let v8095 : Index := Scalar.indexCast v8094
  let c0_5065 : Index := 0#32
  let c0_5066 : Index := 0#32
  ![v8095.toNat, 0, 0]

def k0_chk988 (v8094 : BitVec 32) : Prop :=
  (∀ a, (k0_off1472 v8094) a + S1x1x128.size a ≤ S100000x1x128.size a)
theorem k0_off1472_inb : ∀ (v8094 : BitVec 32) (k0_hw988 : k0_chk988 v8094), ∀ a, (k0_off1472 v8094) a + S1x1x128.size a ≤ S100000x1x128.size a := fun v8094 k0_hw988 => k0_hw988

def k0_off1473 (k0_t1 : Fin k0_t1_loop.trips) : Fin 2 → Nat :=
  let c0_5069 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c468_i32 : BitVec 32 := 468#32
  let v8101 : BitVec 32 := Scalar.addi v3888 c468_i32
  let v8102 : Index := Scalar.indexCast v8101
  ![0, v8102.toNat]
def k0_off1474 (v8103 : BitVec 32) : Fin 3 → Nat :=
  let v8104 : Index := Scalar.indexCast v8103
  let c0_5070 : Index := 0#32
  let c0_5071 : Index := 0#32
  ![v8104.toNat, 0, 0]

def k0_chk989 (v8103 : BitVec 32) : Prop :=
  (∀ a, (k0_off1474 v8103) a + S1x1x128.size a ≤ S100000x1x128.size a)
theorem k0_off1474_inb : ∀ (v8103 : BitVec 32) (k0_hw989 : k0_chk989 v8103), ∀ a, (k0_off1474 v8103) a + S1x1x128.size a ≤ S100000x1x128.size a := fun v8103 k0_hw989 => k0_hw989

def k0_off1475 (k0_t1 : Fin k0_t1_loop.trips) : Fin 2 → Nat :=
  let c0_5074 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c469_i32 : BitVec 32 := 469#32
  let v8110 : BitVec 32 := Scalar.addi v3888 c469_i32
  let v8111 : Index := Scalar.indexCast v8110
  ![0, v8111.toNat]
def k0_off1476 (v8112 : BitVec 32) : Fin 3 → Nat :=
  let v8113 : Index := Scalar.indexCast v8112
  let c0_5075 : Index := 0#32
  let c0_5076 : Index := 0#32
  ![v8113.toNat, 0, 0]

def k0_chk990 (v8112 : BitVec 32) : Prop :=
  (∀ a, (k0_off1476 v8112) a + S1x1x128.size a ≤ S100000x1x128.size a)
theorem k0_off1476_inb : ∀ (v8112 : BitVec 32) (k0_hw990 : k0_chk990 v8112), ∀ a, (k0_off1476 v8112) a + S1x1x128.size a ≤ S100000x1x128.size a := fun v8112 k0_hw990 => k0_hw990

def k0_off1477 (k0_t1 : Fin k0_t1_loop.trips) : Fin 2 → Nat :=
  let c0_5079 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c470_i32 : BitVec 32 := 470#32
  let v8119 : BitVec 32 := Scalar.addi v3888 c470_i32
  let v8120 : Index := Scalar.indexCast v8119
  ![0, v8120.toNat]
def k0_off1478 (v8121 : BitVec 32) : Fin 3 → Nat :=
  let v8122 : Index := Scalar.indexCast v8121
  let c0_5080 : Index := 0#32
  let c0_5081 : Index := 0#32
  ![v8122.toNat, 0, 0]

def k0_chk991 (v8121 : BitVec 32) : Prop :=
  (∀ a, (k0_off1478 v8121) a + S1x1x128.size a ≤ S100000x1x128.size a)
theorem k0_off1478_inb : ∀ (v8121 : BitVec 32) (k0_hw991 : k0_chk991 v8121), ∀ a, (k0_off1478 v8121) a + S1x1x128.size a ≤ S100000x1x128.size a := fun v8121 k0_hw991 => k0_hw991

def k0_off1479 (k0_t1 : Fin k0_t1_loop.trips) : Fin 2 → Nat :=
  let c0_5084 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c471_i32 : BitVec 32 := 471#32
  let v8128 : BitVec 32 := Scalar.addi v3888 c471_i32
  let v8129 : Index := Scalar.indexCast v8128
  ![0, v8129.toNat]
def k0_off1480 (v8130 : BitVec 32) : Fin 3 → Nat :=
  let v8131 : Index := Scalar.indexCast v8130
  let c0_5085 : Index := 0#32
  let c0_5086 : Index := 0#32
  ![v8131.toNat, 0, 0]

def k0_chk992 (v8130 : BitVec 32) : Prop :=
  (∀ a, (k0_off1480 v8130) a + S1x1x128.size a ≤ S100000x1x128.size a)
theorem k0_off1480_inb : ∀ (v8130 : BitVec 32) (k0_hw992 : k0_chk992 v8130), ∀ a, (k0_off1480 v8130) a + S1x1x128.size a ≤ S100000x1x128.size a := fun v8130 k0_hw992 => k0_hw992

def k0_off1481 (k0_t1 : Fin k0_t1_loop.trips) : Fin 2 → Nat :=
  let c0_5089 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c472_i32 : BitVec 32 := 472#32
  let v8137 : BitVec 32 := Scalar.addi v3888 c472_i32
  let v8138 : Index := Scalar.indexCast v8137
  ![0, v8138.toNat]
def k0_off1482 (v8139 : BitVec 32) : Fin 3 → Nat :=
  let v8140 : Index := Scalar.indexCast v8139
  let c0_5090 : Index := 0#32
  let c0_5091 : Index := 0#32
  ![v8140.toNat, 0, 0]

def k0_chk993 (v8139 : BitVec 32) : Prop :=
  (∀ a, (k0_off1482 v8139) a + S1x1x128.size a ≤ S100000x1x128.size a)
theorem k0_off1482_inb : ∀ (v8139 : BitVec 32) (k0_hw993 : k0_chk993 v8139), ∀ a, (k0_off1482 v8139) a + S1x1x128.size a ≤ S100000x1x128.size a := fun v8139 k0_hw993 => k0_hw993

def k0_off1483 (k0_t1 : Fin k0_t1_loop.trips) : Fin 2 → Nat :=
  let c0_5094 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c473_i32 : BitVec 32 := 473#32
  let v8146 : BitVec 32 := Scalar.addi v3888 c473_i32
  let v8147 : Index := Scalar.indexCast v8146
  ![0, v8147.toNat]
def k0_off1484 (v8148 : BitVec 32) : Fin 3 → Nat :=
  let v8149 : Index := Scalar.indexCast v8148
  let c0_5095 : Index := 0#32
  let c0_5096 : Index := 0#32
  ![v8149.toNat, 0, 0]

def k0_chk994 (v8148 : BitVec 32) : Prop :=
  (∀ a, (k0_off1484 v8148) a + S1x1x128.size a ≤ S100000x1x128.size a)
theorem k0_off1484_inb : ∀ (v8148 : BitVec 32) (k0_hw994 : k0_chk994 v8148), ∀ a, (k0_off1484 v8148) a + S1x1x128.size a ≤ S100000x1x128.size a := fun v8148 k0_hw994 => k0_hw994

def k0_off1485 (k0_t1 : Fin k0_t1_loop.trips) : Fin 2 → Nat :=
  let c0_5099 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c474_i32 : BitVec 32 := 474#32
  let v8155 : BitVec 32 := Scalar.addi v3888 c474_i32
  let v8156 : Index := Scalar.indexCast v8155
  ![0, v8156.toNat]
def k0_off1486 (v8157 : BitVec 32) : Fin 3 → Nat :=
  let v8158 : Index := Scalar.indexCast v8157
  let c0_5100 : Index := 0#32
  let c0_5101 : Index := 0#32
  ![v8158.toNat, 0, 0]

def k0_chk995 (v8157 : BitVec 32) : Prop :=
  (∀ a, (k0_off1486 v8157) a + S1x1x128.size a ≤ S100000x1x128.size a)
theorem k0_off1486_inb : ∀ (v8157 : BitVec 32) (k0_hw995 : k0_chk995 v8157), ∀ a, (k0_off1486 v8157) a + S1x1x128.size a ≤ S100000x1x128.size a := fun v8157 k0_hw995 => k0_hw995

def k0_off1487 (k0_t1 : Fin k0_t1_loop.trips) : Fin 2 → Nat :=
  let c0_5104 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c475_i32 : BitVec 32 := 475#32
  let v8164 : BitVec 32 := Scalar.addi v3888 c475_i32
  let v8165 : Index := Scalar.indexCast v8164
  ![0, v8165.toNat]
def k0_off1488 (v8166 : BitVec 32) : Fin 3 → Nat :=
  let v8167 : Index := Scalar.indexCast v8166
  let c0_5105 : Index := 0#32
  let c0_5106 : Index := 0#32
  ![v8167.toNat, 0, 0]

def k0_chk996 (v8166 : BitVec 32) : Prop :=
  (∀ a, (k0_off1488 v8166) a + S1x1x128.size a ≤ S100000x1x128.size a)
theorem k0_off1488_inb : ∀ (v8166 : BitVec 32) (k0_hw996 : k0_chk996 v8166), ∀ a, (k0_off1488 v8166) a + S1x1x128.size a ≤ S100000x1x128.size a := fun v8166 k0_hw996 => k0_hw996

def k0_off1489 (k0_t1 : Fin k0_t1_loop.trips) : Fin 2 → Nat :=
  let c0_5109 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c476_i32 : BitVec 32 := 476#32
  let v8173 : BitVec 32 := Scalar.addi v3888 c476_i32
  let v8174 : Index := Scalar.indexCast v8173
  ![0, v8174.toNat]
def k0_off1490 (v8175 : BitVec 32) : Fin 3 → Nat :=
  let v8176 : Index := Scalar.indexCast v8175
  let c0_5110 : Index := 0#32
  let c0_5111 : Index := 0#32
  ![v8176.toNat, 0, 0]

def k0_chk997 (v8175 : BitVec 32) : Prop :=
  (∀ a, (k0_off1490 v8175) a + S1x1x128.size a ≤ S100000x1x128.size a)
theorem k0_off1490_inb : ∀ (v8175 : BitVec 32) (k0_hw997 : k0_chk997 v8175), ∀ a, (k0_off1490 v8175) a + S1x1x128.size a ≤ S100000x1x128.size a := fun v8175 k0_hw997 => k0_hw997

def k0_off1491 (k0_t1 : Fin k0_t1_loop.trips) : Fin 2 → Nat :=
  let c0_5114 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c477_i32 : BitVec 32 := 477#32
  let v8182 : BitVec 32 := Scalar.addi v3888 c477_i32
  let v8183 : Index := Scalar.indexCast v8182
  ![0, v8183.toNat]
def k0_off1492 (v8184 : BitVec 32) : Fin 3 → Nat :=
  let v8185 : Index := Scalar.indexCast v8184
  let c0_5115 : Index := 0#32
  let c0_5116 : Index := 0#32
  ![v8185.toNat, 0, 0]

def k0_chk998 (v8184 : BitVec 32) : Prop :=
  (∀ a, (k0_off1492 v8184) a + S1x1x128.size a ≤ S100000x1x128.size a)
theorem k0_off1492_inb : ∀ (v8184 : BitVec 32) (k0_hw998 : k0_chk998 v8184), ∀ a, (k0_off1492 v8184) a + S1x1x128.size a ≤ S100000x1x128.size a := fun v8184 k0_hw998 => k0_hw998

def k0_off1493 (k0_t1 : Fin k0_t1_loop.trips) : Fin 2 → Nat :=
  let c0_5119 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c478_i32 : BitVec 32 := 478#32
  let v8191 : BitVec 32 := Scalar.addi v3888 c478_i32
  let v8192 : Index := Scalar.indexCast v8191
  ![0, v8192.toNat]
def k0_off1494 (v8193 : BitVec 32) : Fin 3 → Nat :=
  let v8194 : Index := Scalar.indexCast v8193
  let c0_5120 : Index := 0#32
  let c0_5121 : Index := 0#32
  ![v8194.toNat, 0, 0]

def k0_chk999 (v8193 : BitVec 32) : Prop :=
  (∀ a, (k0_off1494 v8193) a + S1x1x128.size a ≤ S100000x1x128.size a)
theorem k0_off1494_inb : ∀ (v8193 : BitVec 32) (k0_hw999 : k0_chk999 v8193), ∀ a, (k0_off1494 v8193) a + S1x1x128.size a ≤ S100000x1x128.size a := fun v8193 k0_hw999 => k0_hw999

def k0_off1495 (k0_t1 : Fin k0_t1_loop.trips) : Fin 2 → Nat :=
  let c0_5124 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c479_i32 : BitVec 32 := 479#32
  let v8200 : BitVec 32 := Scalar.addi v3888 c479_i32
  let v8201 : Index := Scalar.indexCast v8200
  ![0, v8201.toNat]
def k0_off1496 (v8202 : BitVec 32) : Fin 3 → Nat :=
  let v8203 : Index := Scalar.indexCast v8202
  let c0_5125 : Index := 0#32
  let c0_5126 : Index := 0#32
  ![v8203.toNat, 0, 0]

def k0_chk1000 (v8202 : BitVec 32) : Prop :=
  (∀ a, (k0_off1496 v8202) a + S1x1x128.size a ≤ S100000x1x128.size a)
theorem k0_off1496_inb : ∀ (v8202 : BitVec 32) (k0_hw1000 : k0_chk1000 v8202), ∀ a, (k0_off1496 v8202) a + S1x1x128.size a ≤ S100000x1x128.size a := fun v8202 k0_hw1000 => k0_hw1000

def k0_off1497 (k0_t1 : Fin k0_t1_loop.trips) : Fin 2 → Nat :=
  let c0_5129 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c480_i32 : BitVec 32 := 480#32
  let v8209 : BitVec 32 := Scalar.addi v3888 c480_i32
  let v8210 : Index := Scalar.indexCast v8209
  ![0, v8210.toNat]
def k0_off1498 (v8211 : BitVec 32) : Fin 3 → Nat :=
  let v8212 : Index := Scalar.indexCast v8211
  let c0_5130 : Index := 0#32
  let c0_5131 : Index := 0#32
  ![v8212.toNat, 0, 0]

def k0_chk1001 (v8211 : BitVec 32) : Prop :=
  (∀ a, (k0_off1498 v8211) a + S1x1x128.size a ≤ S100000x1x128.size a)
theorem k0_off1498_inb : ∀ (v8211 : BitVec 32) (k0_hw1001 : k0_chk1001 v8211), ∀ a, (k0_off1498 v8211) a + S1x1x128.size a ≤ S100000x1x128.size a := fun v8211 k0_hw1001 => k0_hw1001

def k0_off1499 (k0_t1 : Fin k0_t1_loop.trips) : Fin 2 → Nat :=
  let c0_5134 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c481_i32 : BitVec 32 := 481#32
  let v8218 : BitVec 32 := Scalar.addi v3888 c481_i32
  let v8219 : Index := Scalar.indexCast v8218
  ![0, v8219.toNat]
def k0_off1500 (v8220 : BitVec 32) : Fin 3 → Nat :=
  let v8221 : Index := Scalar.indexCast v8220
  let c0_5135 : Index := 0#32
  let c0_5136 : Index := 0#32
  ![v8221.toNat, 0, 0]

def k0_chk1002 (v8220 : BitVec 32) : Prop :=
  (∀ a, (k0_off1500 v8220) a + S1x1x128.size a ≤ S100000x1x128.size a)
theorem k0_off1500_inb : ∀ (v8220 : BitVec 32) (k0_hw1002 : k0_chk1002 v8220), ∀ a, (k0_off1500 v8220) a + S1x1x128.size a ≤ S100000x1x128.size a := fun v8220 k0_hw1002 => k0_hw1002

def k0_off1501 (k0_t1 : Fin k0_t1_loop.trips) : Fin 2 → Nat :=
  let c0_5139 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c482_i32 : BitVec 32 := 482#32
  let v8227 : BitVec 32 := Scalar.addi v3888 c482_i32
  let v8228 : Index := Scalar.indexCast v8227
  ![0, v8228.toNat]
def k0_off1502 (v8229 : BitVec 32) : Fin 3 → Nat :=
  let v8230 : Index := Scalar.indexCast v8229
  let c0_5140 : Index := 0#32
  let c0_5141 : Index := 0#32
  ![v8230.toNat, 0, 0]

def k0_chk1003 (v8229 : BitVec 32) : Prop :=
  (∀ a, (k0_off1502 v8229) a + S1x1x128.size a ≤ S100000x1x128.size a)
theorem k0_off1502_inb : ∀ (v8229 : BitVec 32) (k0_hw1003 : k0_chk1003 v8229), ∀ a, (k0_off1502 v8229) a + S1x1x128.size a ≤ S100000x1x128.size a := fun v8229 k0_hw1003 => k0_hw1003

def k0_off1503 (k0_t1 : Fin k0_t1_loop.trips) : Fin 2 → Nat :=
  let c0_5144 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c483_i32 : BitVec 32 := 483#32
  let v8236 : BitVec 32 := Scalar.addi v3888 c483_i32
  let v8237 : Index := Scalar.indexCast v8236
  ![0, v8237.toNat]
def k0_off1504 (v8238 : BitVec 32) : Fin 3 → Nat :=
  let v8239 : Index := Scalar.indexCast v8238
  let c0_5145 : Index := 0#32
  let c0_5146 : Index := 0#32
  ![v8239.toNat, 0, 0]

def k0_chk1004 (v8238 : BitVec 32) : Prop :=
  (∀ a, (k0_off1504 v8238) a + S1x1x128.size a ≤ S100000x1x128.size a)
theorem k0_off1504_inb : ∀ (v8238 : BitVec 32) (k0_hw1004 : k0_chk1004 v8238), ∀ a, (k0_off1504 v8238) a + S1x1x128.size a ≤ S100000x1x128.size a := fun v8238 k0_hw1004 => k0_hw1004

def k0_off1505 (k0_t1 : Fin k0_t1_loop.trips) : Fin 2 → Nat :=
  let c0_5149 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c484_i32 : BitVec 32 := 484#32
  let v8245 : BitVec 32 := Scalar.addi v3888 c484_i32
  let v8246 : Index := Scalar.indexCast v8245
  ![0, v8246.toNat]
def k0_off1506 (v8247 : BitVec 32) : Fin 3 → Nat :=
  let v8248 : Index := Scalar.indexCast v8247
  let c0_5150 : Index := 0#32
  let c0_5151 : Index := 0#32
  ![v8248.toNat, 0, 0]

def k0_chk1005 (v8247 : BitVec 32) : Prop :=
  (∀ a, (k0_off1506 v8247) a + S1x1x128.size a ≤ S100000x1x128.size a)
theorem k0_off1506_inb : ∀ (v8247 : BitVec 32) (k0_hw1005 : k0_chk1005 v8247), ∀ a, (k0_off1506 v8247) a + S1x1x128.size a ≤ S100000x1x128.size a := fun v8247 k0_hw1005 => k0_hw1005

def k0_off1507 (k0_t1 : Fin k0_t1_loop.trips) : Fin 2 → Nat :=
  let c0_5154 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c485_i32 : BitVec 32 := 485#32
  let v8254 : BitVec 32 := Scalar.addi v3888 c485_i32
  let v8255 : Index := Scalar.indexCast v8254
  ![0, v8255.toNat]
def k0_off1508 (v8256 : BitVec 32) : Fin 3 → Nat :=
  let v8257 : Index := Scalar.indexCast v8256
  let c0_5155 : Index := 0#32
  let c0_5156 : Index := 0#32
  ![v8257.toNat, 0, 0]

def k0_chk1006 (v8256 : BitVec 32) : Prop :=
  (∀ a, (k0_off1508 v8256) a + S1x1x128.size a ≤ S100000x1x128.size a)
theorem k0_off1508_inb : ∀ (v8256 : BitVec 32) (k0_hw1006 : k0_chk1006 v8256), ∀ a, (k0_off1508 v8256) a + S1x1x128.size a ≤ S100000x1x128.size a := fun v8256 k0_hw1006 => k0_hw1006

def k0_off1509 (k0_t1 : Fin k0_t1_loop.trips) : Fin 2 → Nat :=
  let c0_5159 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c486_i32 : BitVec 32 := 486#32
  let v8263 : BitVec 32 := Scalar.addi v3888 c486_i32
  let v8264 : Index := Scalar.indexCast v8263
  ![0, v8264.toNat]
def k0_off1510 (v8265 : BitVec 32) : Fin 3 → Nat :=
  let v8266 : Index := Scalar.indexCast v8265
  let c0_5160 : Index := 0#32
  let c0_5161 : Index := 0#32
  ![v8266.toNat, 0, 0]

def k0_chk1007 (v8265 : BitVec 32) : Prop :=
  (∀ a, (k0_off1510 v8265) a + S1x1x128.size a ≤ S100000x1x128.size a)
theorem k0_off1510_inb : ∀ (v8265 : BitVec 32) (k0_hw1007 : k0_chk1007 v8265), ∀ a, (k0_off1510 v8265) a + S1x1x128.size a ≤ S100000x1x128.size a := fun v8265 k0_hw1007 => k0_hw1007

def k0_off1511 (k0_t1 : Fin k0_t1_loop.trips) : Fin 2 → Nat :=
  let c0_5164 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c487_i32 : BitVec 32 := 487#32
  let v8272 : BitVec 32 := Scalar.addi v3888 c487_i32
  let v8273 : Index := Scalar.indexCast v8272
  ![0, v8273.toNat]
def k0_off1512 (v8274 : BitVec 32) : Fin 3 → Nat :=
  let v8275 : Index := Scalar.indexCast v8274
  let c0_5165 : Index := 0#32
  let c0_5166 : Index := 0#32
  ![v8275.toNat, 0, 0]

def k0_chk1008 (v8274 : BitVec 32) : Prop :=
  (∀ a, (k0_off1512 v8274) a + S1x1x128.size a ≤ S100000x1x128.size a)
theorem k0_off1512_inb : ∀ (v8274 : BitVec 32) (k0_hw1008 : k0_chk1008 v8274), ∀ a, (k0_off1512 v8274) a + S1x1x128.size a ≤ S100000x1x128.size a := fun v8274 k0_hw1008 => k0_hw1008

def k0_off1513 (k0_t1 : Fin k0_t1_loop.trips) : Fin 2 → Nat :=
  let c0_5169 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c488_i32 : BitVec 32 := 488#32
  let v8281 : BitVec 32 := Scalar.addi v3888 c488_i32
  let v8282 : Index := Scalar.indexCast v8281
  ![0, v8282.toNat]
def k0_off1514 (v8283 : BitVec 32) : Fin 3 → Nat :=
  let v8284 : Index := Scalar.indexCast v8283
  let c0_5170 : Index := 0#32
  let c0_5171 : Index := 0#32
  ![v8284.toNat, 0, 0]

def k0_chk1009 (v8283 : BitVec 32) : Prop :=
  (∀ a, (k0_off1514 v8283) a + S1x1x128.size a ≤ S100000x1x128.size a)
theorem k0_off1514_inb : ∀ (v8283 : BitVec 32) (k0_hw1009 : k0_chk1009 v8283), ∀ a, (k0_off1514 v8283) a + S1x1x128.size a ≤ S100000x1x128.size a := fun v8283 k0_hw1009 => k0_hw1009

def k0_off1515 (k0_t1 : Fin k0_t1_loop.trips) : Fin 2 → Nat :=
  let c0_5174 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c489_i32 : BitVec 32 := 489#32
  let v8290 : BitVec 32 := Scalar.addi v3888 c489_i32
  let v8291 : Index := Scalar.indexCast v8290
  ![0, v8291.toNat]
def k0_off1516 (v8292 : BitVec 32) : Fin 3 → Nat :=
  let v8293 : Index := Scalar.indexCast v8292
  let c0_5175 : Index := 0#32
  let c0_5176 : Index := 0#32
  ![v8293.toNat, 0, 0]

def k0_chk1010 (v8292 : BitVec 32) : Prop :=
  (∀ a, (k0_off1516 v8292) a + S1x1x128.size a ≤ S100000x1x128.size a)
theorem k0_off1516_inb : ∀ (v8292 : BitVec 32) (k0_hw1010 : k0_chk1010 v8292), ∀ a, (k0_off1516 v8292) a + S1x1x128.size a ≤ S100000x1x128.size a := fun v8292 k0_hw1010 => k0_hw1010

def k0_off1517 (k0_t1 : Fin k0_t1_loop.trips) : Fin 2 → Nat :=
  let c0_5179 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c490_i32 : BitVec 32 := 490#32
  let v8299 : BitVec 32 := Scalar.addi v3888 c490_i32
  let v8300 : Index := Scalar.indexCast v8299
  ![0, v8300.toNat]
def k0_off1518 (v8301 : BitVec 32) : Fin 3 → Nat :=
  let v8302 : Index := Scalar.indexCast v8301
  let c0_5180 : Index := 0#32
  let c0_5181 : Index := 0#32
  ![v8302.toNat, 0, 0]

def k0_chk1011 (v8301 : BitVec 32) : Prop :=
  (∀ a, (k0_off1518 v8301) a + S1x1x128.size a ≤ S100000x1x128.size a)
theorem k0_off1518_inb : ∀ (v8301 : BitVec 32) (k0_hw1011 : k0_chk1011 v8301), ∀ a, (k0_off1518 v8301) a + S1x1x128.size a ≤ S100000x1x128.size a := fun v8301 k0_hw1011 => k0_hw1011

def k0_off1519 (k0_t1 : Fin k0_t1_loop.trips) : Fin 2 → Nat :=
  let c0_5184 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c491_i32 : BitVec 32 := 491#32
  let v8308 : BitVec 32 := Scalar.addi v3888 c491_i32
  let v8309 : Index := Scalar.indexCast v8308
  ![0, v8309.toNat]
def k0_off1520 (v8310 : BitVec 32) : Fin 3 → Nat :=
  let v8311 : Index := Scalar.indexCast v8310
  let c0_5185 : Index := 0#32
  let c0_5186 : Index := 0#32
  ![v8311.toNat, 0, 0]

def k0_chk1012 (v8310 : BitVec 32) : Prop :=
  (∀ a, (k0_off1520 v8310) a + S1x1x128.size a ≤ S100000x1x128.size a)
theorem k0_off1520_inb : ∀ (v8310 : BitVec 32) (k0_hw1012 : k0_chk1012 v8310), ∀ a, (k0_off1520 v8310) a + S1x1x128.size a ≤ S100000x1x128.size a := fun v8310 k0_hw1012 => k0_hw1012

def k0_off1521 (k0_t1 : Fin k0_t1_loop.trips) : Fin 2 → Nat :=
  let c0_5189 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c492_i32 : BitVec 32 := 492#32
  let v8317 : BitVec 32 := Scalar.addi v3888 c492_i32
  let v8318 : Index := Scalar.indexCast v8317
  ![0, v8318.toNat]
def k0_off1522 (v8319 : BitVec 32) : Fin 3 → Nat :=
  let v8320 : Index := Scalar.indexCast v8319
  let c0_5190 : Index := 0#32
  let c0_5191 : Index := 0#32
  ![v8320.toNat, 0, 0]

def k0_chk1013 (v8319 : BitVec 32) : Prop :=
  (∀ a, (k0_off1522 v8319) a + S1x1x128.size a ≤ S100000x1x128.size a)
theorem k0_off1522_inb : ∀ (v8319 : BitVec 32) (k0_hw1013 : k0_chk1013 v8319), ∀ a, (k0_off1522 v8319) a + S1x1x128.size a ≤ S100000x1x128.size a := fun v8319 k0_hw1013 => k0_hw1013

def k0_off1523 (k0_t1 : Fin k0_t1_loop.trips) : Fin 2 → Nat :=
  let c0_5194 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c493_i32 : BitVec 32 := 493#32
  let v8326 : BitVec 32 := Scalar.addi v3888 c493_i32
  let v8327 : Index := Scalar.indexCast v8326
  ![0, v8327.toNat]
def k0_off1524 (v8328 : BitVec 32) : Fin 3 → Nat :=
  let v8329 : Index := Scalar.indexCast v8328
  let c0_5195 : Index := 0#32
  let c0_5196 : Index := 0#32
  ![v8329.toNat, 0, 0]

def k0_chk1014 (v8328 : BitVec 32) : Prop :=
  (∀ a, (k0_off1524 v8328) a + S1x1x128.size a ≤ S100000x1x128.size a)
theorem k0_off1524_inb : ∀ (v8328 : BitVec 32) (k0_hw1014 : k0_chk1014 v8328), ∀ a, (k0_off1524 v8328) a + S1x1x128.size a ≤ S100000x1x128.size a := fun v8328 k0_hw1014 => k0_hw1014

def k0_off1525 (k0_t1 : Fin k0_t1_loop.trips) : Fin 2 → Nat :=
  let c0_5199 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c494_i32 : BitVec 32 := 494#32
  let v8335 : BitVec 32 := Scalar.addi v3888 c494_i32
  let v8336 : Index := Scalar.indexCast v8335
  ![0, v8336.toNat]
def k0_off1526 (v8337 : BitVec 32) : Fin 3 → Nat :=
  let v8338 : Index := Scalar.indexCast v8337
  let c0_5200 : Index := 0#32
  let c0_5201 : Index := 0#32
  ![v8338.toNat, 0, 0]

def k0_chk1015 (v8337 : BitVec 32) : Prop :=
  (∀ a, (k0_off1526 v8337) a + S1x1x128.size a ≤ S100000x1x128.size a)
theorem k0_off1526_inb : ∀ (v8337 : BitVec 32) (k0_hw1015 : k0_chk1015 v8337), ∀ a, (k0_off1526 v8337) a + S1x1x128.size a ≤ S100000x1x128.size a := fun v8337 k0_hw1015 => k0_hw1015

def k0_off1527 (k0_t1 : Fin k0_t1_loop.trips) : Fin 2 → Nat :=
  let c0_5204 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c495_i32 : BitVec 32 := 495#32
  let v8344 : BitVec 32 := Scalar.addi v3888 c495_i32
  let v8345 : Index := Scalar.indexCast v8344
  ![0, v8345.toNat]
def k0_off1528 (v8346 : BitVec 32) : Fin 3 → Nat :=
  let v8347 : Index := Scalar.indexCast v8346
  let c0_5205 : Index := 0#32
  let c0_5206 : Index := 0#32
  ![v8347.toNat, 0, 0]

def k0_chk1016 (v8346 : BitVec 32) : Prop :=
  (∀ a, (k0_off1528 v8346) a + S1x1x128.size a ≤ S100000x1x128.size a)
theorem k0_off1528_inb : ∀ (v8346 : BitVec 32) (k0_hw1016 : k0_chk1016 v8346), ∀ a, (k0_off1528 v8346) a + S1x1x128.size a ≤ S100000x1x128.size a := fun v8346 k0_hw1016 => k0_hw1016

def k0_off1529 (k0_t1 : Fin k0_t1_loop.trips) : Fin 2 → Nat :=
  let c0_5209 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c496_i32 : BitVec 32 := 496#32
  let v8353 : BitVec 32 := Scalar.addi v3888 c496_i32
  let v8354 : Index := Scalar.indexCast v8353
  ![0, v8354.toNat]
def k0_off1530 (v8355 : BitVec 32) : Fin 3 → Nat :=
  let v8356 : Index := Scalar.indexCast v8355
  let c0_5210 : Index := 0#32
  let c0_5211 : Index := 0#32
  ![v8356.toNat, 0, 0]

def k0_chk1017 (v8355 : BitVec 32) : Prop :=
  (∀ a, (k0_off1530 v8355) a + S1x1x128.size a ≤ S100000x1x128.size a)
theorem k0_off1530_inb : ∀ (v8355 : BitVec 32) (k0_hw1017 : k0_chk1017 v8355), ∀ a, (k0_off1530 v8355) a + S1x1x128.size a ≤ S100000x1x128.size a := fun v8355 k0_hw1017 => k0_hw1017

def k0_off1531 (k0_t1 : Fin k0_t1_loop.trips) : Fin 2 → Nat :=
  let c0_5214 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c497_i32 : BitVec 32 := 497#32
  let v8362 : BitVec 32 := Scalar.addi v3888 c497_i32
  let v8363 : Index := Scalar.indexCast v8362
  ![0, v8363.toNat]
def k0_off1532 (v8364 : BitVec 32) : Fin 3 → Nat :=
  let v8365 : Index := Scalar.indexCast v8364
  let c0_5215 : Index := 0#32
  let c0_5216 : Index := 0#32
  ![v8365.toNat, 0, 0]

def k0_chk1018 (v8364 : BitVec 32) : Prop :=
  (∀ a, (k0_off1532 v8364) a + S1x1x128.size a ≤ S100000x1x128.size a)
theorem k0_off1532_inb : ∀ (v8364 : BitVec 32) (k0_hw1018 : k0_chk1018 v8364), ∀ a, (k0_off1532 v8364) a + S1x1x128.size a ≤ S100000x1x128.size a := fun v8364 k0_hw1018 => k0_hw1018

def k0_off1533 (k0_t1 : Fin k0_t1_loop.trips) : Fin 2 → Nat :=
  let c0_5219 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c498_i32 : BitVec 32 := 498#32
  let v8371 : BitVec 32 := Scalar.addi v3888 c498_i32
  let v8372 : Index := Scalar.indexCast v8371
  ![0, v8372.toNat]
def k0_off1534 (v8373 : BitVec 32) : Fin 3 → Nat :=
  let v8374 : Index := Scalar.indexCast v8373
  let c0_5220 : Index := 0#32
  let c0_5221 : Index := 0#32
  ![v8374.toNat, 0, 0]

def k0_chk1019 (v8373 : BitVec 32) : Prop :=
  (∀ a, (k0_off1534 v8373) a + S1x1x128.size a ≤ S100000x1x128.size a)
theorem k0_off1534_inb : ∀ (v8373 : BitVec 32) (k0_hw1019 : k0_chk1019 v8373), ∀ a, (k0_off1534 v8373) a + S1x1x128.size a ≤ S100000x1x128.size a := fun v8373 k0_hw1019 => k0_hw1019

def k0_off1535 (k0_t1 : Fin k0_t1_loop.trips) : Fin 2 → Nat :=
  let c0_5224 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c499_i32 : BitVec 32 := 499#32
  let v8380 : BitVec 32 := Scalar.addi v3888 c499_i32
  let v8381 : Index := Scalar.indexCast v8380
  ![0, v8381.toNat]
def k0_off1536 (v8382 : BitVec 32) : Fin 3 → Nat :=
  let v8383 : Index := Scalar.indexCast v8382
  let c0_5225 : Index := 0#32
  let c0_5226 : Index := 0#32
  ![v8383.toNat, 0, 0]

def k0_chk1020 (v8382 : BitVec 32) : Prop :=
  (∀ a, (k0_off1536 v8382) a + S1x1x128.size a ≤ S100000x1x128.size a)
theorem k0_off1536_inb : ∀ (v8382 : BitVec 32) (k0_hw1020 : k0_chk1020 v8382), ∀ a, (k0_off1536 v8382) a + S1x1x128.size a ≤ S100000x1x128.size a := fun v8382 k0_hw1020 => k0_hw1020

def k0_off1537 (k0_t1 : Fin k0_t1_loop.trips) : Fin 2 → Nat :=
  let c0_5229 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c500_i32 : BitVec 32 := 500#32
  let v8389 : BitVec 32 := Scalar.addi v3888 c500_i32
  let v8390 : Index := Scalar.indexCast v8389
  ![0, v8390.toNat]
def k0_off1538 (v8391 : BitVec 32) : Fin 3 → Nat :=
  let v8392 : Index := Scalar.indexCast v8391
  let c0_5230 : Index := 0#32
  let c0_5231 : Index := 0#32
  ![v8392.toNat, 0, 0]

def k0_chk1021 (v8391 : BitVec 32) : Prop :=
  (∀ a, (k0_off1538 v8391) a + S1x1x128.size a ≤ S100000x1x128.size a)
theorem k0_off1538_inb : ∀ (v8391 : BitVec 32) (k0_hw1021 : k0_chk1021 v8391), ∀ a, (k0_off1538 v8391) a + S1x1x128.size a ≤ S100000x1x128.size a := fun v8391 k0_hw1021 => k0_hw1021

def k0_off1539 (k0_t1 : Fin k0_t1_loop.trips) : Fin 2 → Nat :=
  let c0_5234 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c501_i32 : BitVec 32 := 501#32
  let v8398 : BitVec 32 := Scalar.addi v3888 c501_i32
  let v8399 : Index := Scalar.indexCast v8398
  ![0, v8399.toNat]
def k0_off1540 (v8400 : BitVec 32) : Fin 3 → Nat :=
  let v8401 : Index := Scalar.indexCast v8400
  let c0_5235 : Index := 0#32
  let c0_5236 : Index := 0#32
  ![v8401.toNat, 0, 0]

def k0_chk1022 (v8400 : BitVec 32) : Prop :=
  (∀ a, (k0_off1540 v8400) a + S1x1x128.size a ≤ S100000x1x128.size a)
theorem k0_off1540_inb : ∀ (v8400 : BitVec 32) (k0_hw1022 : k0_chk1022 v8400), ∀ a, (k0_off1540 v8400) a + S1x1x128.size a ≤ S100000x1x128.size a := fun v8400 k0_hw1022 => k0_hw1022

def k0_off1541 (k0_t1 : Fin k0_t1_loop.trips) : Fin 2 → Nat :=
  let c0_5239 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c502_i32 : BitVec 32 := 502#32
  let v8407 : BitVec 32 := Scalar.addi v3888 c502_i32
  let v8408 : Index := Scalar.indexCast v8407
  ![0, v8408.toNat]
def k0_off1542 (v8409 : BitVec 32) : Fin 3 → Nat :=
  let v8410 : Index := Scalar.indexCast v8409
  let c0_5240 : Index := 0#32
  let c0_5241 : Index := 0#32
  ![v8410.toNat, 0, 0]

def k0_chk1023 (v8409 : BitVec 32) : Prop :=
  (∀ a, (k0_off1542 v8409) a + S1x1x128.size a ≤ S100000x1x128.size a)
theorem k0_off1542_inb : ∀ (v8409 : BitVec 32) (k0_hw1023 : k0_chk1023 v8409), ∀ a, (k0_off1542 v8409) a + S1x1x128.size a ≤ S100000x1x128.size a := fun v8409 k0_hw1023 => k0_hw1023

def k0_off1543 (k0_t1 : Fin k0_t1_loop.trips) : Fin 2 → Nat :=
  let c0_5244 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c503_i32 : BitVec 32 := 503#32
  let v8416 : BitVec 32 := Scalar.addi v3888 c503_i32
  let v8417 : Index := Scalar.indexCast v8416
  ![0, v8417.toNat]
def k0_off1544 (v8418 : BitVec 32) : Fin 3 → Nat :=
  let v8419 : Index := Scalar.indexCast v8418
  let c0_5245 : Index := 0#32
  let c0_5246 : Index := 0#32
  ![v8419.toNat, 0, 0]

def k0_chk1024 (v8418 : BitVec 32) : Prop :=
  (∀ a, (k0_off1544 v8418) a + S1x1x128.size a ≤ S100000x1x128.size a)
theorem k0_off1544_inb : ∀ (v8418 : BitVec 32) (k0_hw1024 : k0_chk1024 v8418), ∀ a, (k0_off1544 v8418) a + S1x1x128.size a ≤ S100000x1x128.size a := fun v8418 k0_hw1024 => k0_hw1024

def k0_off1545 (k0_t1 : Fin k0_t1_loop.trips) : Fin 2 → Nat :=
  let c0_5249 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c504_i32 : BitVec 32 := 504#32
  let v8425 : BitVec 32 := Scalar.addi v3888 c504_i32
  let v8426 : Index := Scalar.indexCast v8425
  ![0, v8426.toNat]
def k0_off1546 (v8427 : BitVec 32) : Fin 3 → Nat :=
  let v8428 : Index := Scalar.indexCast v8427
  let c0_5250 : Index := 0#32
  let c0_5251 : Index := 0#32
  ![v8428.toNat, 0, 0]

def k0_chk1025 (v8427 : BitVec 32) : Prop :=
  (∀ a, (k0_off1546 v8427) a + S1x1x128.size a ≤ S100000x1x128.size a)
theorem k0_off1546_inb : ∀ (v8427 : BitVec 32) (k0_hw1025 : k0_chk1025 v8427), ∀ a, (k0_off1546 v8427) a + S1x1x128.size a ≤ S100000x1x128.size a := fun v8427 k0_hw1025 => k0_hw1025

def k0_off1547 (k0_t1 : Fin k0_t1_loop.trips) : Fin 2 → Nat :=
  let c0_5254 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c505_i32 : BitVec 32 := 505#32
  let v8434 : BitVec 32 := Scalar.addi v3888 c505_i32
  let v8435 : Index := Scalar.indexCast v8434
  ![0, v8435.toNat]
def k0_off1548 (v8436 : BitVec 32) : Fin 3 → Nat :=
  let v8437 : Index := Scalar.indexCast v8436
  let c0_5255 : Index := 0#32
  let c0_5256 : Index := 0#32
  ![v8437.toNat, 0, 0]

def k0_chk1026 (v8436 : BitVec 32) : Prop :=
  (∀ a, (k0_off1548 v8436) a + S1x1x128.size a ≤ S100000x1x128.size a)
theorem k0_off1548_inb : ∀ (v8436 : BitVec 32) (k0_hw1026 : k0_chk1026 v8436), ∀ a, (k0_off1548 v8436) a + S1x1x128.size a ≤ S100000x1x128.size a := fun v8436 k0_hw1026 => k0_hw1026

def k0_off1549 (k0_t1 : Fin k0_t1_loop.trips) : Fin 2 → Nat :=
  let c0_5259 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c506_i32 : BitVec 32 := 506#32
  let v8443 : BitVec 32 := Scalar.addi v3888 c506_i32
  let v8444 : Index := Scalar.indexCast v8443
  ![0, v8444.toNat]
def k0_off1550 (v8445 : BitVec 32) : Fin 3 → Nat :=
  let v8446 : Index := Scalar.indexCast v8445
  let c0_5260 : Index := 0#32
  let c0_5261 : Index := 0#32
  ![v8446.toNat, 0, 0]

def k0_chk1027 (v8445 : BitVec 32) : Prop :=
  (∀ a, (k0_off1550 v8445) a + S1x1x128.size a ≤ S100000x1x128.size a)
theorem k0_off1550_inb : ∀ (v8445 : BitVec 32) (k0_hw1027 : k0_chk1027 v8445), ∀ a, (k0_off1550 v8445) a + S1x1x128.size a ≤ S100000x1x128.size a := fun v8445 k0_hw1027 => k0_hw1027

def k0_off1551 (k0_t1 : Fin k0_t1_loop.trips) : Fin 2 → Nat :=
  let c0_5264 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c507_i32 : BitVec 32 := 507#32
  let v8452 : BitVec 32 := Scalar.addi v3888 c507_i32
  let v8453 : Index := Scalar.indexCast v8452
  ![0, v8453.toNat]
def k0_off1552 (v8454 : BitVec 32) : Fin 3 → Nat :=
  let v8455 : Index := Scalar.indexCast v8454
  let c0_5265 : Index := 0#32
  let c0_5266 : Index := 0#32
  ![v8455.toNat, 0, 0]

def k0_chk1028 (v8454 : BitVec 32) : Prop :=
  (∀ a, (k0_off1552 v8454) a + S1x1x128.size a ≤ S100000x1x128.size a)
theorem k0_off1552_inb : ∀ (v8454 : BitVec 32) (k0_hw1028 : k0_chk1028 v8454), ∀ a, (k0_off1552 v8454) a + S1x1x128.size a ≤ S100000x1x128.size a := fun v8454 k0_hw1028 => k0_hw1028

def k0_off1553 (k0_t1 : Fin k0_t1_loop.trips) : Fin 2 → Nat :=
  let c0_5269 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c508_i32 : BitVec 32 := 508#32
  let v8461 : BitVec 32 := Scalar.addi v3888 c508_i32
  let v8462 : Index := Scalar.indexCast v8461
  ![0, v8462.toNat]
def k0_off1554 (v8463 : BitVec 32) : Fin 3 → Nat :=
  let v8464 : Index := Scalar.indexCast v8463
  let c0_5270 : Index := 0#32
  let c0_5271 : Index := 0#32
  ![v8464.toNat, 0, 0]

def k0_chk1029 (v8463 : BitVec 32) : Prop :=
  (∀ a, (k0_off1554 v8463) a + S1x1x128.size a ≤ S100000x1x128.size a)
theorem k0_off1554_inb : ∀ (v8463 : BitVec 32) (k0_hw1029 : k0_chk1029 v8463), ∀ a, (k0_off1554 v8463) a + S1x1x128.size a ≤ S100000x1x128.size a := fun v8463 k0_hw1029 => k0_hw1029

def k0_off1555 (k0_t1 : Fin k0_t1_loop.trips) : Fin 2 → Nat :=
  let c0_5274 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c509_i32 : BitVec 32 := 509#32
  let v8470 : BitVec 32 := Scalar.addi v3888 c509_i32
  let v8471 : Index := Scalar.indexCast v8470
  ![0, v8471.toNat]
def k0_off1556 (v8472 : BitVec 32) : Fin 3 → Nat :=
  let v8473 : Index := Scalar.indexCast v8472
  let c0_5275 : Index := 0#32
  let c0_5276 : Index := 0#32
  ![v8473.toNat, 0, 0]

def k0_chk1030 (v8472 : BitVec 32) : Prop :=
  (∀ a, (k0_off1556 v8472) a + S1x1x128.size a ≤ S100000x1x128.size a)
theorem k0_off1556_inb : ∀ (v8472 : BitVec 32) (k0_hw1030 : k0_chk1030 v8472), ∀ a, (k0_off1556 v8472) a + S1x1x128.size a ≤ S100000x1x128.size a := fun v8472 k0_hw1030 => k0_hw1030

def k0_off1557 (k0_t1 : Fin k0_t1_loop.trips) : Fin 2 → Nat :=
  let c0_5279 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c510_i32 : BitVec 32 := 510#32
  let v8479 : BitVec 32 := Scalar.addi v3888 c510_i32
  let v8480 : Index := Scalar.indexCast v8479
  ![0, v8480.toNat]
def k0_off1558 (v8481 : BitVec 32) : Fin 3 → Nat :=
  let v8482 : Index := Scalar.indexCast v8481
  let c0_5280 : Index := 0#32
  let c0_5281 : Index := 0#32
  ![v8482.toNat, 0, 0]

def k0_chk1031 (v8481 : BitVec 32) : Prop :=
  (∀ a, (k0_off1558 v8481) a + S1x1x128.size a ≤ S100000x1x128.size a)
theorem k0_off1558_inb : ∀ (v8481 : BitVec 32) (k0_hw1031 : k0_chk1031 v8481), ∀ a, (k0_off1558 v8481) a + S1x1x128.size a ≤ S100000x1x128.size a := fun v8481 k0_hw1031 => k0_hw1031

def k0_off1559 (k0_t1 : Fin k0_t1_loop.trips) : Fin 2 → Nat :=
  let c0_5284 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_2718 : BitVec 32 := 1#32
  let v3887 : BitVec 32 := Scalar.addi v3886 c1_i32_2718
  let c512_i32 : BitVec 32 := 512#32
  let v3888 : BitVec 32 := Scalar.muli v3887 c512_i32
  let c511_i32 : BitVec 32 := 511#32
  let v8488 : BitVec 32 := Scalar.addi v3888 c511_i32
  let v8489 : Index := Scalar.indexCast v8488
  ![0, v8489.toNat]
def k0_off1560 (v8490 : BitVec 32) : Fin 3 → Nat :=
  let v8491 : Index := Scalar.indexCast v8490
  let c0_5285 : Index := 0#32
  let c0_5286 : Index := 0#32
  ![v8491.toNat, 0, 0]

def k0_chk1032 (v8490 : BitVec 32) : Prop :=
  (∀ a, (k0_off1560 v8490) a + S1x1x128.size a ≤ S100000x1x128.size a)
theorem k0_off1560_inb : ∀ (v8490 : BitVec 32) (k0_hw1032 : k0_chk1032 v8490), ∀ a, (k0_off1560 v8490) a + S1x1x128.size a ≤ S100000x1x128.size a := fun v8490 k0_hw1032 => k0_hw1032

def k0_off1561 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c8_i32_5301 : BitVec 32 := 8#32
  let v8527 : BitVec 32 := Scalar.muli v3886 c8_i32_5301
  let v8528 : Index := Scalar.indexCast v8527
  let c0_5302 : Index := 0#32
  ![v8528.toNat, 0]
def k0_off1562 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c8_i32_5305 : BitVec 32 := 8#32
  let v8538 : BitVec 32 := Scalar.muli v3886 c8_i32_5305
  let v8539 : Index := Scalar.indexCast v8538
  let c1_5306 : Index := 1#32
  ![v8539.toNat, 1]
def k0_off1563 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c8_i32_5309 : BitVec 32 := 8#32
  let v8549 : BitVec 32 := Scalar.muli v3886 c8_i32_5309
  let v8550 : Index := Scalar.indexCast v8549
  let c2_5310 : Index := 2#32
  ![v8550.toNat, 2]
def k0_off1564 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c8_i32_5313 : BitVec 32 := 8#32
  let v8560 : BitVec 32 := Scalar.muli v3886 c8_i32_5313
  let v8561 : Index := Scalar.indexCast v8560
  let c3_5314 : Index := 3#32
  ![v8561.toNat, 3]
def k0_off1565 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c8_i32_5317 : BitVec 32 := 8#32
  let v8571 : BitVec 32 := Scalar.muli v3886 c8_i32_5317
  let v8572 : Index := Scalar.indexCast v8571
  let c4_5318 : Index := 4#32
  ![v8572.toNat, 4]
def k0_off1566 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c8_i32_5321 : BitVec 32 := 8#32
  let v8582 : BitVec 32 := Scalar.muli v3886 c8_i32_5321
  let v8583 : Index := Scalar.indexCast v8582
  let c5_5322 : Index := 5#32
  ![v8583.toNat, 5]
def k0_off1567 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c8_i32_5325 : BitVec 32 := 8#32
  let v8593 : BitVec 32 := Scalar.muli v3886 c8_i32_5325
  let v8594 : Index := Scalar.indexCast v8593
  let c6_5326 : Index := 6#32
  ![v8594.toNat, 6]
def k0_off1568 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c8_i32_5329 : BitVec 32 := 8#32
  let v8604 : BitVec 32 := Scalar.muli v3886 c8_i32_5329
  let v8605 : Index := Scalar.indexCast v8604
  let c7_5330 : Index := 7#32
  ![v8605.toNat, 7]
def k0_off1569 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c8_i32_5333 : BitVec 32 := 8#32
  let v8615 : BitVec 32 := Scalar.muli v3886 c8_i32_5333
  let v8616 : Index := Scalar.indexCast v8615
  let c8_5334 : Index := 8#32
  ![v8616.toNat, 8]
def k0_off1570 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c8_i32_5337 : BitVec 32 := 8#32
  let v8626 : BitVec 32 := Scalar.muli v3886 c8_i32_5337
  let v8627 : Index := Scalar.indexCast v8626
  let c9_5338 : Index := 9#32
  ![v8627.toNat, 9]
def k0_off1571 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c8_i32_5341 : BitVec 32 := 8#32
  let v8637 : BitVec 32 := Scalar.muli v3886 c8_i32_5341
  let v8638 : Index := Scalar.indexCast v8637
  let c10_5342 : Index := 10#32
  ![v8638.toNat, 10]
def k0_off1572 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c8_i32_5345 : BitVec 32 := 8#32
  let v8648 : BitVec 32 := Scalar.muli v3886 c8_i32_5345
  let v8649 : Index := Scalar.indexCast v8648
  let c11_5346 : Index := 11#32
  ![v8649.toNat, 11]
def k0_off1573 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c8_i32_5349 : BitVec 32 := 8#32
  let v8659 : BitVec 32 := Scalar.muli v3886 c8_i32_5349
  let v8660 : Index := Scalar.indexCast v8659
  let c12_5350 : Index := 12#32
  ![v8660.toNat, 12]
def k0_off1574 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c8_i32_5353 : BitVec 32 := 8#32
  let v8670 : BitVec 32 := Scalar.muli v3886 c8_i32_5353
  let v8671 : Index := Scalar.indexCast v8670
  let c13_5354 : Index := 13#32
  ![v8671.toNat, 13]
def k0_off1575 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c8_i32_5357 : BitVec 32 := 8#32
  let v8681 : BitVec 32 := Scalar.muli v3886 c8_i32_5357
  let v8682 : Index := Scalar.indexCast v8681
  let c14_5358 : Index := 14#32
  ![v8682.toNat, 14]
def k0_off1576 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c8_i32_5361 : BitVec 32 := 8#32
  let v8692 : BitVec 32 := Scalar.muli v3886 c8_i32_5361
  let v8693 : Index := Scalar.indexCast v8692
  let c15_5362 : Index := 15#32
  ![v8693.toNat, 15]
def k0_off1577 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c8_i32_5365 : BitVec 32 := 8#32
  let v8703 : BitVec 32 := Scalar.muli v3886 c8_i32_5365
  let v8704 : Index := Scalar.indexCast v8703
  let c16_5366 : Index := 16#32
  ![v8704.toNat, 16]
def k0_off1578 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c8_i32_5369 : BitVec 32 := 8#32
  let v8714 : BitVec 32 := Scalar.muli v3886 c8_i32_5369
  let v8715 : Index := Scalar.indexCast v8714
  let c17_5370 : Index := 17#32
  ![v8715.toNat, 17]
def k0_off1579 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c8_i32_5373 : BitVec 32 := 8#32
  let v8725 : BitVec 32 := Scalar.muli v3886 c8_i32_5373
  let v8726 : Index := Scalar.indexCast v8725
  let c18_5374 : Index := 18#32
  ![v8726.toNat, 18]
def k0_off1580 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c8_i32_5377 : BitVec 32 := 8#32
  let v8736 : BitVec 32 := Scalar.muli v3886 c8_i32_5377
  let v8737 : Index := Scalar.indexCast v8736
  let c19_5378 : Index := 19#32
  ![v8737.toNat, 19]
def k0_off1581 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c8_i32_5381 : BitVec 32 := 8#32
  let v8747 : BitVec 32 := Scalar.muli v3886 c8_i32_5381
  let v8748 : Index := Scalar.indexCast v8747
  let c20_5382 : Index := 20#32
  ![v8748.toNat, 20]
def k0_off1582 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c8_i32_5385 : BitVec 32 := 8#32
  let v8758 : BitVec 32 := Scalar.muli v3886 c8_i32_5385
  let v8759 : Index := Scalar.indexCast v8758
  let c21_5386 : Index := 21#32
  ![v8759.toNat, 21]
def k0_off1583 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c8_i32_5389 : BitVec 32 := 8#32
  let v8769 : BitVec 32 := Scalar.muli v3886 c8_i32_5389
  let v8770 : Index := Scalar.indexCast v8769
  let c22_5390 : Index := 22#32
  ![v8770.toNat, 22]
def k0_off1584 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c8_i32_5393 : BitVec 32 := 8#32
  let v8780 : BitVec 32 := Scalar.muli v3886 c8_i32_5393
  let v8781 : Index := Scalar.indexCast v8780
  let c23_5394 : Index := 23#32
  ![v8781.toNat, 23]
def k0_off1585 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c8_i32_5397 : BitVec 32 := 8#32
  let v8791 : BitVec 32 := Scalar.muli v3886 c8_i32_5397
  let v8792 : Index := Scalar.indexCast v8791
  let c24_5398 : Index := 24#32
  ![v8792.toNat, 24]
def k0_off1586 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c8_i32_5401 : BitVec 32 := 8#32
  let v8802 : BitVec 32 := Scalar.muli v3886 c8_i32_5401
  let v8803 : Index := Scalar.indexCast v8802
  let c25_5402 : Index := 25#32
  ![v8803.toNat, 25]
def k0_off1587 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c8_i32_5405 : BitVec 32 := 8#32
  let v8813 : BitVec 32 := Scalar.muli v3886 c8_i32_5405
  let v8814 : Index := Scalar.indexCast v8813
  let c26_5406 : Index := 26#32
  ![v8814.toNat, 26]
def k0_off1588 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c8_i32_5409 : BitVec 32 := 8#32
  let v8824 : BitVec 32 := Scalar.muli v3886 c8_i32_5409
  let v8825 : Index := Scalar.indexCast v8824
  let c27_5410 : Index := 27#32
  ![v8825.toNat, 27]
def k0_off1589 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c8_i32_5413 : BitVec 32 := 8#32
  let v8835 : BitVec 32 := Scalar.muli v3886 c8_i32_5413
  let v8836 : Index := Scalar.indexCast v8835
  let c28_5414 : Index := 28#32
  ![v8836.toNat, 28]
def k0_off1590 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c8_i32_5417 : BitVec 32 := 8#32
  let v8846 : BitVec 32 := Scalar.muli v3886 c8_i32_5417
  let v8847 : Index := Scalar.indexCast v8846
  let c29_5418 : Index := 29#32
  ![v8847.toNat, 29]
def k0_off1591 (k0_t1 : Fin k0_t1_loop.trips) : Fin 2 → Nat :=
  let c0_5423 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c0_i32_5422 : BitVec 32 := 0#32
  let v8854 : BitVec 32 := Scalar.addi v8853 c0_i32_5422
  let v8855 : Index := Scalar.indexCast v8854
  ![0, v8855.toNat]
def k0_off1592 (v8856 : BitVec 32) : Fin 3 → Nat :=
  let v8857 : Index := Scalar.indexCast v8856
  let c0_5424 : Index := 0#32
  let c0_5425 : Index := 0#32
  ![v8857.toNat, 0, 0]

def k0_chk1033 (v8856 : BitVec 32) : Prop :=
  (∀ a, (k0_off1592 v8856) a + S1x1x128.size a ≤ S100000x1x128.size a)
theorem k0_off1592_inb : ∀ (v8856 : BitVec 32) (k0_hw1033 : k0_chk1033 v8856), ∀ a, (k0_off1592 v8856) a + S1x1x128.size a ≤ S100000x1x128.size a := fun v8856 k0_hw1033 => k0_hw1033

def k0_off1593 (k0_t1 : Fin k0_t1_loop.trips) : Fin 2 → Nat :=
  let c0_5429 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c1_i32_5428 : BitVec 32 := 1#32
  let v8863 : BitVec 32 := Scalar.addi v8853 c1_i32_5428
  let v8864 : Index := Scalar.indexCast v8863
  ![0, v8864.toNat]
def k0_off1594 (v8865 : BitVec 32) : Fin 3 → Nat :=
  let v8866 : Index := Scalar.indexCast v8865
  let c0_5430 : Index := 0#32
  let c0_5431 : Index := 0#32
  ![v8866.toNat, 0, 0]

def k0_chk1034 (v8865 : BitVec 32) : Prop :=
  (∀ a, (k0_off1594 v8865) a + S1x1x128.size a ≤ S100000x1x128.size a)
theorem k0_off1594_inb : ∀ (v8865 : BitVec 32) (k0_hw1034 : k0_chk1034 v8865), ∀ a, (k0_off1594 v8865) a + S1x1x128.size a ≤ S100000x1x128.size a := fun v8865 k0_hw1034 => k0_hw1034

def k0_off1595 (k0_t1 : Fin k0_t1_loop.trips) : Fin 2 → Nat :=
  let c0_5435 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c2_i32_5434 : BitVec 32 := 2#32
  let v8872 : BitVec 32 := Scalar.addi v8853 c2_i32_5434
  let v8873 : Index := Scalar.indexCast v8872
  ![0, v8873.toNat]
def k0_off1596 (v8874 : BitVec 32) : Fin 3 → Nat :=
  let v8875 : Index := Scalar.indexCast v8874
  let c0_5436 : Index := 0#32
  let c0_5437 : Index := 0#32
  ![v8875.toNat, 0, 0]

def k0_chk1035 (v8874 : BitVec 32) : Prop :=
  (∀ a, (k0_off1596 v8874) a + S1x1x128.size a ≤ S100000x1x128.size a)
theorem k0_off1596_inb : ∀ (v8874 : BitVec 32) (k0_hw1035 : k0_chk1035 v8874), ∀ a, (k0_off1596 v8874) a + S1x1x128.size a ≤ S100000x1x128.size a := fun v8874 k0_hw1035 => k0_hw1035

def k0_off1597 (k0_t1 : Fin k0_t1_loop.trips) : Fin 2 → Nat :=
  let c0_5441 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c3_i32_5440 : BitVec 32 := 3#32
  let v8881 : BitVec 32 := Scalar.addi v8853 c3_i32_5440
  let v8882 : Index := Scalar.indexCast v8881
  ![0, v8882.toNat]
def k0_off1598 (v8883 : BitVec 32) : Fin 3 → Nat :=
  let v8884 : Index := Scalar.indexCast v8883
  let c0_5442 : Index := 0#32
  let c0_5443 : Index := 0#32
  ![v8884.toNat, 0, 0]

def k0_chk1036 (v8883 : BitVec 32) : Prop :=
  (∀ a, (k0_off1598 v8883) a + S1x1x128.size a ≤ S100000x1x128.size a)
theorem k0_off1598_inb : ∀ (v8883 : BitVec 32) (k0_hw1036 : k0_chk1036 v8883), ∀ a, (k0_off1598 v8883) a + S1x1x128.size a ≤ S100000x1x128.size a := fun v8883 k0_hw1036 => k0_hw1036

def k0_off1599 (k0_t1 : Fin k0_t1_loop.trips) : Fin 2 → Nat :=
  let c0_5447 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c4_i32_5446 : BitVec 32 := 4#32
  let v8890 : BitVec 32 := Scalar.addi v8853 c4_i32_5446
  let v8891 : Index := Scalar.indexCast v8890
  ![0, v8891.toNat]
def k0_off1600 (v8892 : BitVec 32) : Fin 3 → Nat :=
  let v8893 : Index := Scalar.indexCast v8892
  let c0_5448 : Index := 0#32
  let c0_5449 : Index := 0#32
  ![v8893.toNat, 0, 0]

def k0_chk1037 (v8892 : BitVec 32) : Prop :=
  (∀ a, (k0_off1600 v8892) a + S1x1x128.size a ≤ S100000x1x128.size a)
theorem k0_off1600_inb : ∀ (v8892 : BitVec 32) (k0_hw1037 : k0_chk1037 v8892), ∀ a, (k0_off1600 v8892) a + S1x1x128.size a ≤ S100000x1x128.size a := fun v8892 k0_hw1037 => k0_hw1037

def k0_off1601 (k0_t1 : Fin k0_t1_loop.trips) : Fin 2 → Nat :=
  let c0_5453 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c5_i32_5452 : BitVec 32 := 5#32
  let v8899 : BitVec 32 := Scalar.addi v8853 c5_i32_5452
  let v8900 : Index := Scalar.indexCast v8899
  ![0, v8900.toNat]
def k0_off1602 (v8901 : BitVec 32) : Fin 3 → Nat :=
  let v8902 : Index := Scalar.indexCast v8901
  let c0_5454 : Index := 0#32
  let c0_5455 : Index := 0#32
  ![v8902.toNat, 0, 0]

def k0_chk1038 (v8901 : BitVec 32) : Prop :=
  (∀ a, (k0_off1602 v8901) a + S1x1x128.size a ≤ S100000x1x128.size a)
theorem k0_off1602_inb : ∀ (v8901 : BitVec 32) (k0_hw1038 : k0_chk1038 v8901), ∀ a, (k0_off1602 v8901) a + S1x1x128.size a ≤ S100000x1x128.size a := fun v8901 k0_hw1038 => k0_hw1038

def k0_off1603 (k0_t1 : Fin k0_t1_loop.trips) : Fin 2 → Nat :=
  let c0_5459 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c6_i32_5458 : BitVec 32 := 6#32
  let v8908 : BitVec 32 := Scalar.addi v8853 c6_i32_5458
  let v8909 : Index := Scalar.indexCast v8908
  ![0, v8909.toNat]
def k0_off1604 (v8910 : BitVec 32) : Fin 3 → Nat :=
  let v8911 : Index := Scalar.indexCast v8910
  let c0_5460 : Index := 0#32
  let c0_5461 : Index := 0#32
  ![v8911.toNat, 0, 0]

def k0_chk1039 (v8910 : BitVec 32) : Prop :=
  (∀ a, (k0_off1604 v8910) a + S1x1x128.size a ≤ S100000x1x128.size a)
theorem k0_off1604_inb : ∀ (v8910 : BitVec 32) (k0_hw1039 : k0_chk1039 v8910), ∀ a, (k0_off1604 v8910) a + S1x1x128.size a ≤ S100000x1x128.size a := fun v8910 k0_hw1039 => k0_hw1039

def k0_off1605 (k0_t1 : Fin k0_t1_loop.trips) : Fin 2 → Nat :=
  let c0_5465 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c7_i32_5464 : BitVec 32 := 7#32
  let v8917 : BitVec 32 := Scalar.addi v8853 c7_i32_5464
  let v8918 : Index := Scalar.indexCast v8917
  ![0, v8918.toNat]
def k0_off1606 (v8919 : BitVec 32) : Fin 3 → Nat :=
  let v8920 : Index := Scalar.indexCast v8919
  let c0_5466 : Index := 0#32
  let c0_5467 : Index := 0#32
  ![v8920.toNat, 0, 0]

def k0_chk1040 (v8919 : BitVec 32) : Prop :=
  (∀ a, (k0_off1606 v8919) a + S1x1x128.size a ≤ S100000x1x128.size a)
theorem k0_off1606_inb : ∀ (v8919 : BitVec 32) (k0_hw1040 : k0_chk1040 v8919), ∀ a, (k0_off1606 v8919) a + S1x1x128.size a ≤ S100000x1x128.size a := fun v8919 k0_hw1040 => k0_hw1040

def k0_off1607 (k0_t1 : Fin k0_t1_loop.trips) : Fin 2 → Nat :=
  let c0_5471 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c8_i32_5470 : BitVec 32 := 8#32
  let v8926 : BitVec 32 := Scalar.addi v8853 c8_i32_5470
  let v8927 : Index := Scalar.indexCast v8926
  ![0, v8927.toNat]
def k0_off1608 (v8928 : BitVec 32) : Fin 3 → Nat :=
  let v8929 : Index := Scalar.indexCast v8928
  let c0_5472 : Index := 0#32
  let c0_5473 : Index := 0#32
  ![v8929.toNat, 0, 0]

def k0_chk1041 (v8928 : BitVec 32) : Prop :=
  (∀ a, (k0_off1608 v8928) a + S1x1x128.size a ≤ S100000x1x128.size a)
theorem k0_off1608_inb : ∀ (v8928 : BitVec 32) (k0_hw1041 : k0_chk1041 v8928), ∀ a, (k0_off1608 v8928) a + S1x1x128.size a ≤ S100000x1x128.size a := fun v8928 k0_hw1041 => k0_hw1041

def k0_off1609 (k0_t1 : Fin k0_t1_loop.trips) : Fin 2 → Nat :=
  let c0_5477 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c9_i32_5476 : BitVec 32 := 9#32
  let v8935 : BitVec 32 := Scalar.addi v8853 c9_i32_5476
  let v8936 : Index := Scalar.indexCast v8935
  ![0, v8936.toNat]
def k0_off1610 (v8937 : BitVec 32) : Fin 3 → Nat :=
  let v8938 : Index := Scalar.indexCast v8937
  let c0_5478 : Index := 0#32
  let c0_5479 : Index := 0#32
  ![v8938.toNat, 0, 0]

def k0_chk1042 (v8937 : BitVec 32) : Prop :=
  (∀ a, (k0_off1610 v8937) a + S1x1x128.size a ≤ S100000x1x128.size a)
theorem k0_off1610_inb : ∀ (v8937 : BitVec 32) (k0_hw1042 : k0_chk1042 v8937), ∀ a, (k0_off1610 v8937) a + S1x1x128.size a ≤ S100000x1x128.size a := fun v8937 k0_hw1042 => k0_hw1042

def k0_off1611 (k0_t1 : Fin k0_t1_loop.trips) : Fin 2 → Nat :=
  let c0_5483 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c10_i32_5482 : BitVec 32 := 10#32
  let v8944 : BitVec 32 := Scalar.addi v8853 c10_i32_5482
  let v8945 : Index := Scalar.indexCast v8944
  ![0, v8945.toNat]
def k0_off1612 (v8946 : BitVec 32) : Fin 3 → Nat :=
  let v8947 : Index := Scalar.indexCast v8946
  let c0_5484 : Index := 0#32
  let c0_5485 : Index := 0#32
  ![v8947.toNat, 0, 0]

def k0_chk1043 (v8946 : BitVec 32) : Prop :=
  (∀ a, (k0_off1612 v8946) a + S1x1x128.size a ≤ S100000x1x128.size a)
theorem k0_off1612_inb : ∀ (v8946 : BitVec 32) (k0_hw1043 : k0_chk1043 v8946), ∀ a, (k0_off1612 v8946) a + S1x1x128.size a ≤ S100000x1x128.size a := fun v8946 k0_hw1043 => k0_hw1043

def k0_off1613 (k0_t1 : Fin k0_t1_loop.trips) : Fin 2 → Nat :=
  let c0_5489 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c11_i32_5488 : BitVec 32 := 11#32
  let v8953 : BitVec 32 := Scalar.addi v8853 c11_i32_5488
  let v8954 : Index := Scalar.indexCast v8953
  ![0, v8954.toNat]
def k0_off1614 (v8955 : BitVec 32) : Fin 3 → Nat :=
  let v8956 : Index := Scalar.indexCast v8955
  let c0_5490 : Index := 0#32
  let c0_5491 : Index := 0#32
  ![v8956.toNat, 0, 0]

def k0_chk1044 (v8955 : BitVec 32) : Prop :=
  (∀ a, (k0_off1614 v8955) a + S1x1x128.size a ≤ S100000x1x128.size a)
theorem k0_off1614_inb : ∀ (v8955 : BitVec 32) (k0_hw1044 : k0_chk1044 v8955), ∀ a, (k0_off1614 v8955) a + S1x1x128.size a ≤ S100000x1x128.size a := fun v8955 k0_hw1044 => k0_hw1044

def k0_off1615 (k0_t1 : Fin k0_t1_loop.trips) : Fin 2 → Nat :=
  let c0_5495 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c12_i32_5494 : BitVec 32 := 12#32
  let v8962 : BitVec 32 := Scalar.addi v8853 c12_i32_5494
  let v8963 : Index := Scalar.indexCast v8962
  ![0, v8963.toNat]
def k0_off1616 (v8964 : BitVec 32) : Fin 3 → Nat :=
  let v8965 : Index := Scalar.indexCast v8964
  let c0_5496 : Index := 0#32
  let c0_5497 : Index := 0#32
  ![v8965.toNat, 0, 0]

def k0_chk1045 (v8964 : BitVec 32) : Prop :=
  (∀ a, (k0_off1616 v8964) a + S1x1x128.size a ≤ S100000x1x128.size a)
theorem k0_off1616_inb : ∀ (v8964 : BitVec 32) (k0_hw1045 : k0_chk1045 v8964), ∀ a, (k0_off1616 v8964) a + S1x1x128.size a ≤ S100000x1x128.size a := fun v8964 k0_hw1045 => k0_hw1045

def k0_off1617 (k0_t1 : Fin k0_t1_loop.trips) : Fin 2 → Nat :=
  let c0_5501 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c13_i32_5500 : BitVec 32 := 13#32
  let v8971 : BitVec 32 := Scalar.addi v8853 c13_i32_5500
  let v8972 : Index := Scalar.indexCast v8971
  ![0, v8972.toNat]
def k0_off1618 (v8973 : BitVec 32) : Fin 3 → Nat :=
  let v8974 : Index := Scalar.indexCast v8973
  let c0_5502 : Index := 0#32
  let c0_5503 : Index := 0#32
  ![v8974.toNat, 0, 0]

def k0_chk1046 (v8973 : BitVec 32) : Prop :=
  (∀ a, (k0_off1618 v8973) a + S1x1x128.size a ≤ S100000x1x128.size a)
theorem k0_off1618_inb : ∀ (v8973 : BitVec 32) (k0_hw1046 : k0_chk1046 v8973), ∀ a, (k0_off1618 v8973) a + S1x1x128.size a ≤ S100000x1x128.size a := fun v8973 k0_hw1046 => k0_hw1046

def k0_off1619 (k0_t1 : Fin k0_t1_loop.trips) : Fin 2 → Nat :=
  let c0_5507 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c14_i32_5506 : BitVec 32 := 14#32
  let v8980 : BitVec 32 := Scalar.addi v8853 c14_i32_5506
  let v8981 : Index := Scalar.indexCast v8980
  ![0, v8981.toNat]
def k0_off1620 (v8982 : BitVec 32) : Fin 3 → Nat :=
  let v8983 : Index := Scalar.indexCast v8982
  let c0_5508 : Index := 0#32
  let c0_5509 : Index := 0#32
  ![v8983.toNat, 0, 0]

def k0_chk1047 (v8982 : BitVec 32) : Prop :=
  (∀ a, (k0_off1620 v8982) a + S1x1x128.size a ≤ S100000x1x128.size a)
theorem k0_off1620_inb : ∀ (v8982 : BitVec 32) (k0_hw1047 : k0_chk1047 v8982), ∀ a, (k0_off1620 v8982) a + S1x1x128.size a ≤ S100000x1x128.size a := fun v8982 k0_hw1047 => k0_hw1047

def k0_off1621 (k0_t1 : Fin k0_t1_loop.trips) : Fin 2 → Nat :=
  let c0_5513 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c15_i32_5512 : BitVec 32 := 15#32
  let v8989 : BitVec 32 := Scalar.addi v8853 c15_i32_5512
  let v8990 : Index := Scalar.indexCast v8989
  ![0, v8990.toNat]
def k0_off1622 (v8991 : BitVec 32) : Fin 3 → Nat :=
  let v8992 : Index := Scalar.indexCast v8991
  let c0_5514 : Index := 0#32
  let c0_5515 : Index := 0#32
  ![v8992.toNat, 0, 0]

def k0_chk1048 (v8991 : BitVec 32) : Prop :=
  (∀ a, (k0_off1622 v8991) a + S1x1x128.size a ≤ S100000x1x128.size a)
theorem k0_off1622_inb : ∀ (v8991 : BitVec 32) (k0_hw1048 : k0_chk1048 v8991), ∀ a, (k0_off1622 v8991) a + S1x1x128.size a ≤ S100000x1x128.size a := fun v8991 k0_hw1048 => k0_hw1048

def k0_off1623 (k0_t1 : Fin k0_t1_loop.trips) : Fin 2 → Nat :=
  let c0_5519 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c16_i32_5518 : BitVec 32 := 16#32
  let v8998 : BitVec 32 := Scalar.addi v8853 c16_i32_5518
  let v8999 : Index := Scalar.indexCast v8998
  ![0, v8999.toNat]
def k0_off1624 (v9000 : BitVec 32) : Fin 3 → Nat :=
  let v9001 : Index := Scalar.indexCast v9000
  let c0_5520 : Index := 0#32
  let c0_5521 : Index := 0#32
  ![v9001.toNat, 0, 0]

def k0_chk1049 (v9000 : BitVec 32) : Prop :=
  (∀ a, (k0_off1624 v9000) a + S1x1x128.size a ≤ S100000x1x128.size a)
theorem k0_off1624_inb : ∀ (v9000 : BitVec 32) (k0_hw1049 : k0_chk1049 v9000), ∀ a, (k0_off1624 v9000) a + S1x1x128.size a ≤ S100000x1x128.size a := fun v9000 k0_hw1049 => k0_hw1049

def k0_off1625 (k0_t1 : Fin k0_t1_loop.trips) : Fin 2 → Nat :=
  let c0_5525 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c17_i32_5524 : BitVec 32 := 17#32
  let v9007 : BitVec 32 := Scalar.addi v8853 c17_i32_5524
  let v9008 : Index := Scalar.indexCast v9007
  ![0, v9008.toNat]
def k0_off1626 (v9009 : BitVec 32) : Fin 3 → Nat :=
  let v9010 : Index := Scalar.indexCast v9009
  let c0_5526 : Index := 0#32
  let c0_5527 : Index := 0#32
  ![v9010.toNat, 0, 0]

def k0_chk1050 (v9009 : BitVec 32) : Prop :=
  (∀ a, (k0_off1626 v9009) a + S1x1x128.size a ≤ S100000x1x128.size a)
theorem k0_off1626_inb : ∀ (v9009 : BitVec 32) (k0_hw1050 : k0_chk1050 v9009), ∀ a, (k0_off1626 v9009) a + S1x1x128.size a ≤ S100000x1x128.size a := fun v9009 k0_hw1050 => k0_hw1050

def k0_off1627 (k0_t1 : Fin k0_t1_loop.trips) : Fin 2 → Nat :=
  let c0_5531 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c18_i32_5530 : BitVec 32 := 18#32
  let v9016 : BitVec 32 := Scalar.addi v8853 c18_i32_5530
  let v9017 : Index := Scalar.indexCast v9016
  ![0, v9017.toNat]
def k0_off1628 (v9018 : BitVec 32) : Fin 3 → Nat :=
  let v9019 : Index := Scalar.indexCast v9018
  let c0_5532 : Index := 0#32
  let c0_5533 : Index := 0#32
  ![v9019.toNat, 0, 0]

def k0_chk1051 (v9018 : BitVec 32) : Prop :=
  (∀ a, (k0_off1628 v9018) a + S1x1x128.size a ≤ S100000x1x128.size a)
theorem k0_off1628_inb : ∀ (v9018 : BitVec 32) (k0_hw1051 : k0_chk1051 v9018), ∀ a, (k0_off1628 v9018) a + S1x1x128.size a ≤ S100000x1x128.size a := fun v9018 k0_hw1051 => k0_hw1051

def k0_off1629 (k0_t1 : Fin k0_t1_loop.trips) : Fin 2 → Nat :=
  let c0_5537 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c19_i32_5536 : BitVec 32 := 19#32
  let v9025 : BitVec 32 := Scalar.addi v8853 c19_i32_5536
  let v9026 : Index := Scalar.indexCast v9025
  ![0, v9026.toNat]
def k0_off1630 (v9027 : BitVec 32) : Fin 3 → Nat :=
  let v9028 : Index := Scalar.indexCast v9027
  let c0_5538 : Index := 0#32
  let c0_5539 : Index := 0#32
  ![v9028.toNat, 0, 0]

def k0_chk1052 (v9027 : BitVec 32) : Prop :=
  (∀ a, (k0_off1630 v9027) a + S1x1x128.size a ≤ S100000x1x128.size a)
theorem k0_off1630_inb : ∀ (v9027 : BitVec 32) (k0_hw1052 : k0_chk1052 v9027), ∀ a, (k0_off1630 v9027) a + S1x1x128.size a ≤ S100000x1x128.size a := fun v9027 k0_hw1052 => k0_hw1052

def k0_off1631 (k0_t1 : Fin k0_t1_loop.trips) : Fin 2 → Nat :=
  let c0_5543 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c20_i32_5542 : BitVec 32 := 20#32
  let v9034 : BitVec 32 := Scalar.addi v8853 c20_i32_5542
  let v9035 : Index := Scalar.indexCast v9034
  ![0, v9035.toNat]
def k0_off1632 (v9036 : BitVec 32) : Fin 3 → Nat :=
  let v9037 : Index := Scalar.indexCast v9036
  let c0_5544 : Index := 0#32
  let c0_5545 : Index := 0#32
  ![v9037.toNat, 0, 0]

def k0_chk1053 (v9036 : BitVec 32) : Prop :=
  (∀ a, (k0_off1632 v9036) a + S1x1x128.size a ≤ S100000x1x128.size a)
theorem k0_off1632_inb : ∀ (v9036 : BitVec 32) (k0_hw1053 : k0_chk1053 v9036), ∀ a, (k0_off1632 v9036) a + S1x1x128.size a ≤ S100000x1x128.size a := fun v9036 k0_hw1053 => k0_hw1053

def k0_off1633 (k0_t1 : Fin k0_t1_loop.trips) : Fin 2 → Nat :=
  let c0_5549 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c21_i32_5548 : BitVec 32 := 21#32
  let v9043 : BitVec 32 := Scalar.addi v8853 c21_i32_5548
  let v9044 : Index := Scalar.indexCast v9043
  ![0, v9044.toNat]
def k0_off1634 (v9045 : BitVec 32) : Fin 3 → Nat :=
  let v9046 : Index := Scalar.indexCast v9045
  let c0_5550 : Index := 0#32
  let c0_5551 : Index := 0#32
  ![v9046.toNat, 0, 0]

def k0_chk1054 (v9045 : BitVec 32) : Prop :=
  (∀ a, (k0_off1634 v9045) a + S1x1x128.size a ≤ S100000x1x128.size a)
theorem k0_off1634_inb : ∀ (v9045 : BitVec 32) (k0_hw1054 : k0_chk1054 v9045), ∀ a, (k0_off1634 v9045) a + S1x1x128.size a ≤ S100000x1x128.size a := fun v9045 k0_hw1054 => k0_hw1054

def k0_off1635 (k0_t1 : Fin k0_t1_loop.trips) : Fin 2 → Nat :=
  let c0_5555 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c22_i32_5554 : BitVec 32 := 22#32
  let v9052 : BitVec 32 := Scalar.addi v8853 c22_i32_5554
  let v9053 : Index := Scalar.indexCast v9052
  ![0, v9053.toNat]
def k0_off1636 (v9054 : BitVec 32) : Fin 3 → Nat :=
  let v9055 : Index := Scalar.indexCast v9054
  let c0_5556 : Index := 0#32
  let c0_5557 : Index := 0#32
  ![v9055.toNat, 0, 0]

def k0_chk1055 (v9054 : BitVec 32) : Prop :=
  (∀ a, (k0_off1636 v9054) a + S1x1x128.size a ≤ S100000x1x128.size a)
theorem k0_off1636_inb : ∀ (v9054 : BitVec 32) (k0_hw1055 : k0_chk1055 v9054), ∀ a, (k0_off1636 v9054) a + S1x1x128.size a ≤ S100000x1x128.size a := fun v9054 k0_hw1055 => k0_hw1055

def k0_off1637 (k0_t1 : Fin k0_t1_loop.trips) : Fin 2 → Nat :=
  let c0_5561 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c23_i32_5560 : BitVec 32 := 23#32
  let v9061 : BitVec 32 := Scalar.addi v8853 c23_i32_5560
  let v9062 : Index := Scalar.indexCast v9061
  ![0, v9062.toNat]
def k0_off1638 (v9063 : BitVec 32) : Fin 3 → Nat :=
  let v9064 : Index := Scalar.indexCast v9063
  let c0_5562 : Index := 0#32
  let c0_5563 : Index := 0#32
  ![v9064.toNat, 0, 0]

def k0_chk1056 (v9063 : BitVec 32) : Prop :=
  (∀ a, (k0_off1638 v9063) a + S1x1x128.size a ≤ S100000x1x128.size a)
theorem k0_off1638_inb : ∀ (v9063 : BitVec 32) (k0_hw1056 : k0_chk1056 v9063), ∀ a, (k0_off1638 v9063) a + S1x1x128.size a ≤ S100000x1x128.size a := fun v9063 k0_hw1056 => k0_hw1056

def k0_off1639 (k0_t1 : Fin k0_t1_loop.trips) : Fin 2 → Nat :=
  let c0_5567 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c24_i32_5566 : BitVec 32 := 24#32
  let v9070 : BitVec 32 := Scalar.addi v8853 c24_i32_5566
  let v9071 : Index := Scalar.indexCast v9070
  ![0, v9071.toNat]
def k0_off1640 (v9072 : BitVec 32) : Fin 3 → Nat :=
  let v9073 : Index := Scalar.indexCast v9072
  let c0_5568 : Index := 0#32
  let c0_5569 : Index := 0#32
  ![v9073.toNat, 0, 0]

def k0_chk1057 (v9072 : BitVec 32) : Prop :=
  (∀ a, (k0_off1640 v9072) a + S1x1x128.size a ≤ S100000x1x128.size a)
theorem k0_off1640_inb : ∀ (v9072 : BitVec 32) (k0_hw1057 : k0_chk1057 v9072), ∀ a, (k0_off1640 v9072) a + S1x1x128.size a ≤ S100000x1x128.size a := fun v9072 k0_hw1057 => k0_hw1057

def k0_off1641 (k0_t1 : Fin k0_t1_loop.trips) : Fin 2 → Nat :=
  let c0_5573 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c25_i32_5572 : BitVec 32 := 25#32
  let v9079 : BitVec 32 := Scalar.addi v8853 c25_i32_5572
  let v9080 : Index := Scalar.indexCast v9079
  ![0, v9080.toNat]
def k0_off1642 (v9081 : BitVec 32) : Fin 3 → Nat :=
  let v9082 : Index := Scalar.indexCast v9081
  let c0_5574 : Index := 0#32
  let c0_5575 : Index := 0#32
  ![v9082.toNat, 0, 0]

def k0_chk1058 (v9081 : BitVec 32) : Prop :=
  (∀ a, (k0_off1642 v9081) a + S1x1x128.size a ≤ S100000x1x128.size a)
theorem k0_off1642_inb : ∀ (v9081 : BitVec 32) (k0_hw1058 : k0_chk1058 v9081), ∀ a, (k0_off1642 v9081) a + S1x1x128.size a ≤ S100000x1x128.size a := fun v9081 k0_hw1058 => k0_hw1058

def k0_off1643 (k0_t1 : Fin k0_t1_loop.trips) : Fin 2 → Nat :=
  let c0_5579 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c26_i32_5578 : BitVec 32 := 26#32
  let v9088 : BitVec 32 := Scalar.addi v8853 c26_i32_5578
  let v9089 : Index := Scalar.indexCast v9088
  ![0, v9089.toNat]
def k0_off1644 (v9090 : BitVec 32) : Fin 3 → Nat :=
  let v9091 : Index := Scalar.indexCast v9090
  let c0_5580 : Index := 0#32
  let c0_5581 : Index := 0#32
  ![v9091.toNat, 0, 0]

def k0_chk1059 (v9090 : BitVec 32) : Prop :=
  (∀ a, (k0_off1644 v9090) a + S1x1x128.size a ≤ S100000x1x128.size a)
theorem k0_off1644_inb : ∀ (v9090 : BitVec 32) (k0_hw1059 : k0_chk1059 v9090), ∀ a, (k0_off1644 v9090) a + S1x1x128.size a ≤ S100000x1x128.size a := fun v9090 k0_hw1059 => k0_hw1059

def k0_off1645 (k0_t1 : Fin k0_t1_loop.trips) : Fin 2 → Nat :=
  let c0_5585 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c27_i32_5584 : BitVec 32 := 27#32
  let v9097 : BitVec 32 := Scalar.addi v8853 c27_i32_5584
  let v9098 : Index := Scalar.indexCast v9097
  ![0, v9098.toNat]
def k0_off1646 (v9099 : BitVec 32) : Fin 3 → Nat :=
  let v9100 : Index := Scalar.indexCast v9099
  let c0_5586 : Index := 0#32
  let c0_5587 : Index := 0#32
  ![v9100.toNat, 0, 0]

def k0_chk1060 (v9099 : BitVec 32) : Prop :=
  (∀ a, (k0_off1646 v9099) a + S1x1x128.size a ≤ S100000x1x128.size a)
theorem k0_off1646_inb : ∀ (v9099 : BitVec 32) (k0_hw1060 : k0_chk1060 v9099), ∀ a, (k0_off1646 v9099) a + S1x1x128.size a ≤ S100000x1x128.size a := fun v9099 k0_hw1060 => k0_hw1060

def k0_off1647 (k0_t1 : Fin k0_t1_loop.trips) : Fin 2 → Nat :=
  let c0_5591 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c28_i32_5590 : BitVec 32 := 28#32
  let v9106 : BitVec 32 := Scalar.addi v8853 c28_i32_5590
  let v9107 : Index := Scalar.indexCast v9106
  ![0, v9107.toNat]
def k0_off1648 (v9108 : BitVec 32) : Fin 3 → Nat :=
  let v9109 : Index := Scalar.indexCast v9108
  let c0_5592 : Index := 0#32
  let c0_5593 : Index := 0#32
  ![v9109.toNat, 0, 0]

def k0_chk1061 (v9108 : BitVec 32) : Prop :=
  (∀ a, (k0_off1648 v9108) a + S1x1x128.size a ≤ S100000x1x128.size a)
theorem k0_off1648_inb : ∀ (v9108 : BitVec 32) (k0_hw1061 : k0_chk1061 v9108), ∀ a, (k0_off1648 v9108) a + S1x1x128.size a ≤ S100000x1x128.size a := fun v9108 k0_hw1061 => k0_hw1061

def k0_off1649 (k0_t1 : Fin k0_t1_loop.trips) : Fin 2 → Nat :=
  let c0_5597 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c29_i32_5596 : BitVec 32 := 29#32
  let v9115 : BitVec 32 := Scalar.addi v8853 c29_i32_5596
  let v9116 : Index := Scalar.indexCast v9115
  ![0, v9116.toNat]
def k0_off1650 (v9117 : BitVec 32) : Fin 3 → Nat :=
  let v9118 : Index := Scalar.indexCast v9117
  let c0_5598 : Index := 0#32
  let c0_5599 : Index := 0#32
  ![v9118.toNat, 0, 0]

def k0_chk1062 (v9117 : BitVec 32) : Prop :=
  (∀ a, (k0_off1650 v9117) a + S1x1x128.size a ≤ S100000x1x128.size a)
theorem k0_off1650_inb : ∀ (v9117 : BitVec 32) (k0_hw1062 : k0_chk1062 v9117), ∀ a, (k0_off1650 v9117) a + S1x1x128.size a ≤ S100000x1x128.size a := fun v9117 k0_hw1062 => k0_hw1062

def k0_off1651 (k0_t1 : Fin k0_t1_loop.trips) : Fin 2 → Nat :=
  let c0_5603 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c30_i32_5602 : BitVec 32 := 30#32
  let v9124 : BitVec 32 := Scalar.addi v8853 c30_i32_5602
  let v9125 : Index := Scalar.indexCast v9124
  ![0, v9125.toNat]
def k0_off1652 (v9126 : BitVec 32) : Fin 3 → Nat :=
  let v9127 : Index := Scalar.indexCast v9126
  let c0_5604 : Index := 0#32
  let c0_5605 : Index := 0#32
  ![v9127.toNat, 0, 0]

def k0_chk1063 (v9126 : BitVec 32) : Prop :=
  (∀ a, (k0_off1652 v9126) a + S1x1x128.size a ≤ S100000x1x128.size a)
theorem k0_off1652_inb : ∀ (v9126 : BitVec 32) (k0_hw1063 : k0_chk1063 v9126), ∀ a, (k0_off1652 v9126) a + S1x1x128.size a ≤ S100000x1x128.size a := fun v9126 k0_hw1063 => k0_hw1063

def k0_off1653 (k0_t1 : Fin k0_t1_loop.trips) : Fin 2 → Nat :=
  let c0_5609 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c31_i32_5608 : BitVec 32 := 31#32
  let v9133 : BitVec 32 := Scalar.addi v8853 c31_i32_5608
  let v9134 : Index := Scalar.indexCast v9133
  ![0, v9134.toNat]
def k0_off1654 (v9135 : BitVec 32) : Fin 3 → Nat :=
  let v9136 : Index := Scalar.indexCast v9135
  let c0_5610 : Index := 0#32
  let c0_5611 : Index := 0#32
  ![v9136.toNat, 0, 0]

def k0_chk1064 (v9135 : BitVec 32) : Prop :=
  (∀ a, (k0_off1654 v9135) a + S1x1x128.size a ≤ S100000x1x128.size a)
theorem k0_off1654_inb : ∀ (v9135 : BitVec 32) (k0_hw1064 : k0_chk1064 v9135), ∀ a, (k0_off1654 v9135) a + S1x1x128.size a ≤ S100000x1x128.size a := fun v9135 k0_hw1064 => k0_hw1064

def k0_off1655 (k0_t1 : Fin k0_t1_loop.trips) : Fin 2 → Nat :=
  let c0_5615 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c32_i32_5614 : BitVec 32 := 32#32
  let v9142 : BitVec 32 := Scalar.addi v8853 c32_i32_5614
  let v9143 : Index := Scalar.indexCast v9142
  ![0, v9143.toNat]
def k0_off1656 (v9144 : BitVec 32) : Fin 3 → Nat :=
  let v9145 : Index := Scalar.indexCast v9144
  let c0_5616 : Index := 0#32
  let c0_5617 : Index := 0#32
  ![v9145.toNat, 0, 0]

def k0_chk1065 (v9144 : BitVec 32) : Prop :=
  (∀ a, (k0_off1656 v9144) a + S1x1x128.size a ≤ S100000x1x128.size a)
theorem k0_off1656_inb : ∀ (v9144 : BitVec 32) (k0_hw1065 : k0_chk1065 v9144), ∀ a, (k0_off1656 v9144) a + S1x1x128.size a ≤ S100000x1x128.size a := fun v9144 k0_hw1065 => k0_hw1065

def k0_off1657 (k0_t1 : Fin k0_t1_loop.trips) : Fin 2 → Nat :=
  let c0_5621 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c33_i32_5620 : BitVec 32 := 33#32
  let v9151 : BitVec 32 := Scalar.addi v8853 c33_i32_5620
  let v9152 : Index := Scalar.indexCast v9151
  ![0, v9152.toNat]
def k0_off1658 (v9153 : BitVec 32) : Fin 3 → Nat :=
  let v9154 : Index := Scalar.indexCast v9153
  let c0_5622 : Index := 0#32
  let c0_5623 : Index := 0#32
  ![v9154.toNat, 0, 0]

def k0_chk1066 (v9153 : BitVec 32) : Prop :=
  (∀ a, (k0_off1658 v9153) a + S1x1x128.size a ≤ S100000x1x128.size a)
theorem k0_off1658_inb : ∀ (v9153 : BitVec 32) (k0_hw1066 : k0_chk1066 v9153), ∀ a, (k0_off1658 v9153) a + S1x1x128.size a ≤ S100000x1x128.size a := fun v9153 k0_hw1066 => k0_hw1066

def k0_off1659 (k0_t1 : Fin k0_t1_loop.trips) : Fin 2 → Nat :=
  let c0_5627 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c34_i32_5626 : BitVec 32 := 34#32
  let v9160 : BitVec 32 := Scalar.addi v8853 c34_i32_5626
  let v9161 : Index := Scalar.indexCast v9160
  ![0, v9161.toNat]
def k0_off1660 (v9162 : BitVec 32) : Fin 3 → Nat :=
  let v9163 : Index := Scalar.indexCast v9162
  let c0_5628 : Index := 0#32
  let c0_5629 : Index := 0#32
  ![v9163.toNat, 0, 0]

def k0_chk1067 (v9162 : BitVec 32) : Prop :=
  (∀ a, (k0_off1660 v9162) a + S1x1x128.size a ≤ S100000x1x128.size a)
theorem k0_off1660_inb : ∀ (v9162 : BitVec 32) (k0_hw1067 : k0_chk1067 v9162), ∀ a, (k0_off1660 v9162) a + S1x1x128.size a ≤ S100000x1x128.size a := fun v9162 k0_hw1067 => k0_hw1067

def k0_off1661 (k0_t1 : Fin k0_t1_loop.trips) : Fin 2 → Nat :=
  let c0_5633 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c35_i32_5632 : BitVec 32 := 35#32
  let v9169 : BitVec 32 := Scalar.addi v8853 c35_i32_5632
  let v9170 : Index := Scalar.indexCast v9169
  ![0, v9170.toNat]
def k0_off1662 (v9171 : BitVec 32) : Fin 3 → Nat :=
  let v9172 : Index := Scalar.indexCast v9171
  let c0_5634 : Index := 0#32
  let c0_5635 : Index := 0#32
  ![v9172.toNat, 0, 0]

def k0_chk1068 (v9171 : BitVec 32) : Prop :=
  (∀ a, (k0_off1662 v9171) a + S1x1x128.size a ≤ S100000x1x128.size a)
theorem k0_off1662_inb : ∀ (v9171 : BitVec 32) (k0_hw1068 : k0_chk1068 v9171), ∀ a, (k0_off1662 v9171) a + S1x1x128.size a ≤ S100000x1x128.size a := fun v9171 k0_hw1068 => k0_hw1068

def k0_off1663 (k0_t1 : Fin k0_t1_loop.trips) : Fin 2 → Nat :=
  let c0_5639 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c36_i32_5638 : BitVec 32 := 36#32
  let v9178 : BitVec 32 := Scalar.addi v8853 c36_i32_5638
  let v9179 : Index := Scalar.indexCast v9178
  ![0, v9179.toNat]
def k0_off1664 (v9180 : BitVec 32) : Fin 3 → Nat :=
  let v9181 : Index := Scalar.indexCast v9180
  let c0_5640 : Index := 0#32
  let c0_5641 : Index := 0#32
  ![v9181.toNat, 0, 0]

def k0_chk1069 (v9180 : BitVec 32) : Prop :=
  (∀ a, (k0_off1664 v9180) a + S1x1x128.size a ≤ S100000x1x128.size a)
theorem k0_off1664_inb : ∀ (v9180 : BitVec 32) (k0_hw1069 : k0_chk1069 v9180), ∀ a, (k0_off1664 v9180) a + S1x1x128.size a ≤ S100000x1x128.size a := fun v9180 k0_hw1069 => k0_hw1069

def k0_off1665 (k0_t1 : Fin k0_t1_loop.trips) : Fin 2 → Nat :=
  let c0_5645 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c37_i32_5644 : BitVec 32 := 37#32
  let v9187 : BitVec 32 := Scalar.addi v8853 c37_i32_5644
  let v9188 : Index := Scalar.indexCast v9187
  ![0, v9188.toNat]
def k0_off1666 (v9189 : BitVec 32) : Fin 3 → Nat :=
  let v9190 : Index := Scalar.indexCast v9189
  let c0_5646 : Index := 0#32
  let c0_5647 : Index := 0#32
  ![v9190.toNat, 0, 0]

def k0_chk1070 (v9189 : BitVec 32) : Prop :=
  (∀ a, (k0_off1666 v9189) a + S1x1x128.size a ≤ S100000x1x128.size a)
theorem k0_off1666_inb : ∀ (v9189 : BitVec 32) (k0_hw1070 : k0_chk1070 v9189), ∀ a, (k0_off1666 v9189) a + S1x1x128.size a ≤ S100000x1x128.size a := fun v9189 k0_hw1070 => k0_hw1070

def k0_off1667 (k0_t1 : Fin k0_t1_loop.trips) : Fin 2 → Nat :=
  let c0_5651 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c38_i32_5650 : BitVec 32 := 38#32
  let v9196 : BitVec 32 := Scalar.addi v8853 c38_i32_5650
  let v9197 : Index := Scalar.indexCast v9196
  ![0, v9197.toNat]
def k0_off1668 (v9198 : BitVec 32) : Fin 3 → Nat :=
  let v9199 : Index := Scalar.indexCast v9198
  let c0_5652 : Index := 0#32
  let c0_5653 : Index := 0#32
  ![v9199.toNat, 0, 0]

def k0_chk1071 (v9198 : BitVec 32) : Prop :=
  (∀ a, (k0_off1668 v9198) a + S1x1x128.size a ≤ S100000x1x128.size a)
theorem k0_off1668_inb : ∀ (v9198 : BitVec 32) (k0_hw1071 : k0_chk1071 v9198), ∀ a, (k0_off1668 v9198) a + S1x1x128.size a ≤ S100000x1x128.size a := fun v9198 k0_hw1071 => k0_hw1071

def k0_off1669 (k0_t1 : Fin k0_t1_loop.trips) : Fin 2 → Nat :=
  let c0_5657 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c39_i32_5656 : BitVec 32 := 39#32
  let v9205 : BitVec 32 := Scalar.addi v8853 c39_i32_5656
  let v9206 : Index := Scalar.indexCast v9205
  ![0, v9206.toNat]
def k0_off1670 (v9207 : BitVec 32) : Fin 3 → Nat :=
  let v9208 : Index := Scalar.indexCast v9207
  let c0_5658 : Index := 0#32
  let c0_5659 : Index := 0#32
  ![v9208.toNat, 0, 0]

def k0_chk1072 (v9207 : BitVec 32) : Prop :=
  (∀ a, (k0_off1670 v9207) a + S1x1x128.size a ≤ S100000x1x128.size a)
theorem k0_off1670_inb : ∀ (v9207 : BitVec 32) (k0_hw1072 : k0_chk1072 v9207), ∀ a, (k0_off1670 v9207) a + S1x1x128.size a ≤ S100000x1x128.size a := fun v9207 k0_hw1072 => k0_hw1072

def k0_off1671 (k0_t1 : Fin k0_t1_loop.trips) : Fin 2 → Nat :=
  let c0_5663 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c40_i32_5662 : BitVec 32 := 40#32
  let v9214 : BitVec 32 := Scalar.addi v8853 c40_i32_5662
  let v9215 : Index := Scalar.indexCast v9214
  ![0, v9215.toNat]
def k0_off1672 (v9216 : BitVec 32) : Fin 3 → Nat :=
  let v9217 : Index := Scalar.indexCast v9216
  let c0_5664 : Index := 0#32
  let c0_5665 : Index := 0#32
  ![v9217.toNat, 0, 0]

def k0_chk1073 (v9216 : BitVec 32) : Prop :=
  (∀ a, (k0_off1672 v9216) a + S1x1x128.size a ≤ S100000x1x128.size a)
theorem k0_off1672_inb : ∀ (v9216 : BitVec 32) (k0_hw1073 : k0_chk1073 v9216), ∀ a, (k0_off1672 v9216) a + S1x1x128.size a ≤ S100000x1x128.size a := fun v9216 k0_hw1073 => k0_hw1073

def k0_off1673 (k0_t1 : Fin k0_t1_loop.trips) : Fin 2 → Nat :=
  let c0_5669 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c41_i32_5668 : BitVec 32 := 41#32
  let v9223 : BitVec 32 := Scalar.addi v8853 c41_i32_5668
  let v9224 : Index := Scalar.indexCast v9223
  ![0, v9224.toNat]
def k0_off1674 (v9225 : BitVec 32) : Fin 3 → Nat :=
  let v9226 : Index := Scalar.indexCast v9225
  let c0_5670 : Index := 0#32
  let c0_5671 : Index := 0#32
  ![v9226.toNat, 0, 0]

def k0_chk1074 (v9225 : BitVec 32) : Prop :=
  (∀ a, (k0_off1674 v9225) a + S1x1x128.size a ≤ S100000x1x128.size a)
theorem k0_off1674_inb : ∀ (v9225 : BitVec 32) (k0_hw1074 : k0_chk1074 v9225), ∀ a, (k0_off1674 v9225) a + S1x1x128.size a ≤ S100000x1x128.size a := fun v9225 k0_hw1074 => k0_hw1074

def k0_off1675 (k0_t1 : Fin k0_t1_loop.trips) : Fin 2 → Nat :=
  let c0_5675 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c42_i32_5674 : BitVec 32 := 42#32
  let v9232 : BitVec 32 := Scalar.addi v8853 c42_i32_5674
  let v9233 : Index := Scalar.indexCast v9232
  ![0, v9233.toNat]
def k0_off1676 (v9234 : BitVec 32) : Fin 3 → Nat :=
  let v9235 : Index := Scalar.indexCast v9234
  let c0_5676 : Index := 0#32
  let c0_5677 : Index := 0#32
  ![v9235.toNat, 0, 0]

def k0_chk1075 (v9234 : BitVec 32) : Prop :=
  (∀ a, (k0_off1676 v9234) a + S1x1x128.size a ≤ S100000x1x128.size a)
theorem k0_off1676_inb : ∀ (v9234 : BitVec 32) (k0_hw1075 : k0_chk1075 v9234), ∀ a, (k0_off1676 v9234) a + S1x1x128.size a ≤ S100000x1x128.size a := fun v9234 k0_hw1075 => k0_hw1075

def k0_off1677 (k0_t1 : Fin k0_t1_loop.trips) : Fin 2 → Nat :=
  let c0_5681 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c43_i32_5680 : BitVec 32 := 43#32
  let v9241 : BitVec 32 := Scalar.addi v8853 c43_i32_5680
  let v9242 : Index := Scalar.indexCast v9241
  ![0, v9242.toNat]
def k0_off1678 (v9243 : BitVec 32) : Fin 3 → Nat :=
  let v9244 : Index := Scalar.indexCast v9243
  let c0_5682 : Index := 0#32
  let c0_5683 : Index := 0#32
  ![v9244.toNat, 0, 0]

def k0_chk1076 (v9243 : BitVec 32) : Prop :=
  (∀ a, (k0_off1678 v9243) a + S1x1x128.size a ≤ S100000x1x128.size a)
theorem k0_off1678_inb : ∀ (v9243 : BitVec 32) (k0_hw1076 : k0_chk1076 v9243), ∀ a, (k0_off1678 v9243) a + S1x1x128.size a ≤ S100000x1x128.size a := fun v9243 k0_hw1076 => k0_hw1076

def k0_off1679 (k0_t1 : Fin k0_t1_loop.trips) : Fin 2 → Nat :=
  let c0_5687 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c44_i32_5686 : BitVec 32 := 44#32
  let v9250 : BitVec 32 := Scalar.addi v8853 c44_i32_5686
  let v9251 : Index := Scalar.indexCast v9250
  ![0, v9251.toNat]
def k0_off1680 (v9252 : BitVec 32) : Fin 3 → Nat :=
  let v9253 : Index := Scalar.indexCast v9252
  let c0_5688 : Index := 0#32
  let c0_5689 : Index := 0#32
  ![v9253.toNat, 0, 0]

def k0_chk1077 (v9252 : BitVec 32) : Prop :=
  (∀ a, (k0_off1680 v9252) a + S1x1x128.size a ≤ S100000x1x128.size a)
theorem k0_off1680_inb : ∀ (v9252 : BitVec 32) (k0_hw1077 : k0_chk1077 v9252), ∀ a, (k0_off1680 v9252) a + S1x1x128.size a ≤ S100000x1x128.size a := fun v9252 k0_hw1077 => k0_hw1077

def k0_off1681 (k0_t1 : Fin k0_t1_loop.trips) : Fin 2 → Nat :=
  let c0_5693 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c45_i32_5692 : BitVec 32 := 45#32
  let v9259 : BitVec 32 := Scalar.addi v8853 c45_i32_5692
  let v9260 : Index := Scalar.indexCast v9259
  ![0, v9260.toNat]
def k0_off1682 (v9261 : BitVec 32) : Fin 3 → Nat :=
  let v9262 : Index := Scalar.indexCast v9261
  let c0_5694 : Index := 0#32
  let c0_5695 : Index := 0#32
  ![v9262.toNat, 0, 0]

def k0_chk1078 (v9261 : BitVec 32) : Prop :=
  (∀ a, (k0_off1682 v9261) a + S1x1x128.size a ≤ S100000x1x128.size a)
theorem k0_off1682_inb : ∀ (v9261 : BitVec 32) (k0_hw1078 : k0_chk1078 v9261), ∀ a, (k0_off1682 v9261) a + S1x1x128.size a ≤ S100000x1x128.size a := fun v9261 k0_hw1078 => k0_hw1078

def k0_off1683 (k0_t1 : Fin k0_t1_loop.trips) : Fin 2 → Nat :=
  let c0_5699 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c46_i32_5698 : BitVec 32 := 46#32
  let v9268 : BitVec 32 := Scalar.addi v8853 c46_i32_5698
  let v9269 : Index := Scalar.indexCast v9268
  ![0, v9269.toNat]
def k0_off1684 (v9270 : BitVec 32) : Fin 3 → Nat :=
  let v9271 : Index := Scalar.indexCast v9270
  let c0_5700 : Index := 0#32
  let c0_5701 : Index := 0#32
  ![v9271.toNat, 0, 0]

def k0_chk1079 (v9270 : BitVec 32) : Prop :=
  (∀ a, (k0_off1684 v9270) a + S1x1x128.size a ≤ S100000x1x128.size a)
theorem k0_off1684_inb : ∀ (v9270 : BitVec 32) (k0_hw1079 : k0_chk1079 v9270), ∀ a, (k0_off1684 v9270) a + S1x1x128.size a ≤ S100000x1x128.size a := fun v9270 k0_hw1079 => k0_hw1079

def k0_off1685 (k0_t1 : Fin k0_t1_loop.trips) : Fin 2 → Nat :=
  let c0_5705 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c47_i32_5704 : BitVec 32 := 47#32
  let v9277 : BitVec 32 := Scalar.addi v8853 c47_i32_5704
  let v9278 : Index := Scalar.indexCast v9277
  ![0, v9278.toNat]
def k0_off1686 (v9279 : BitVec 32) : Fin 3 → Nat :=
  let v9280 : Index := Scalar.indexCast v9279
  let c0_5706 : Index := 0#32
  let c0_5707 : Index := 0#32
  ![v9280.toNat, 0, 0]

def k0_chk1080 (v9279 : BitVec 32) : Prop :=
  (∀ a, (k0_off1686 v9279) a + S1x1x128.size a ≤ S100000x1x128.size a)
theorem k0_off1686_inb : ∀ (v9279 : BitVec 32) (k0_hw1080 : k0_chk1080 v9279), ∀ a, (k0_off1686 v9279) a + S1x1x128.size a ≤ S100000x1x128.size a := fun v9279 k0_hw1080 => k0_hw1080

def k0_off1687 (k0_t1 : Fin k0_t1_loop.trips) : Fin 2 → Nat :=
  let c0_5711 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c48_i32_5710 : BitVec 32 := 48#32
  let v9286 : BitVec 32 := Scalar.addi v8853 c48_i32_5710
  let v9287 : Index := Scalar.indexCast v9286
  ![0, v9287.toNat]
def k0_off1688 (v9288 : BitVec 32) : Fin 3 → Nat :=
  let v9289 : Index := Scalar.indexCast v9288
  let c0_5712 : Index := 0#32
  let c0_5713 : Index := 0#32
  ![v9289.toNat, 0, 0]

def k0_chk1081 (v9288 : BitVec 32) : Prop :=
  (∀ a, (k0_off1688 v9288) a + S1x1x128.size a ≤ S100000x1x128.size a)
theorem k0_off1688_inb : ∀ (v9288 : BitVec 32) (k0_hw1081 : k0_chk1081 v9288), ∀ a, (k0_off1688 v9288) a + S1x1x128.size a ≤ S100000x1x128.size a := fun v9288 k0_hw1081 => k0_hw1081

def k0_off1689 (k0_t1 : Fin k0_t1_loop.trips) : Fin 2 → Nat :=
  let c0_5717 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c49_i32_5716 : BitVec 32 := 49#32
  let v9295 : BitVec 32 := Scalar.addi v8853 c49_i32_5716
  let v9296 : Index := Scalar.indexCast v9295
  ![0, v9296.toNat]
def k0_off1690 (v9297 : BitVec 32) : Fin 3 → Nat :=
  let v9298 : Index := Scalar.indexCast v9297
  let c0_5718 : Index := 0#32
  let c0_5719 : Index := 0#32
  ![v9298.toNat, 0, 0]

def k0_chk1082 (v9297 : BitVec 32) : Prop :=
  (∀ a, (k0_off1690 v9297) a + S1x1x128.size a ≤ S100000x1x128.size a)
theorem k0_off1690_inb : ∀ (v9297 : BitVec 32) (k0_hw1082 : k0_chk1082 v9297), ∀ a, (k0_off1690 v9297) a + S1x1x128.size a ≤ S100000x1x128.size a := fun v9297 k0_hw1082 => k0_hw1082

def k0_off1691 (k0_t1 : Fin k0_t1_loop.trips) : Fin 2 → Nat :=
  let c0_5723 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c50_i32_5722 : BitVec 32 := 50#32
  let v9304 : BitVec 32 := Scalar.addi v8853 c50_i32_5722
  let v9305 : Index := Scalar.indexCast v9304
  ![0, v9305.toNat]
def k0_off1692 (v9306 : BitVec 32) : Fin 3 → Nat :=
  let v9307 : Index := Scalar.indexCast v9306
  let c0_5724 : Index := 0#32
  let c0_5725 : Index := 0#32
  ![v9307.toNat, 0, 0]

def k0_chk1083 (v9306 : BitVec 32) : Prop :=
  (∀ a, (k0_off1692 v9306) a + S1x1x128.size a ≤ S100000x1x128.size a)
theorem k0_off1692_inb : ∀ (v9306 : BitVec 32) (k0_hw1083 : k0_chk1083 v9306), ∀ a, (k0_off1692 v9306) a + S1x1x128.size a ≤ S100000x1x128.size a := fun v9306 k0_hw1083 => k0_hw1083

def k0_off1693 (k0_t1 : Fin k0_t1_loop.trips) : Fin 2 → Nat :=
  let c0_5729 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c51_i32_5728 : BitVec 32 := 51#32
  let v9313 : BitVec 32 := Scalar.addi v8853 c51_i32_5728
  let v9314 : Index := Scalar.indexCast v9313
  ![0, v9314.toNat]
def k0_off1694 (v9315 : BitVec 32) : Fin 3 → Nat :=
  let v9316 : Index := Scalar.indexCast v9315
  let c0_5730 : Index := 0#32
  let c0_5731 : Index := 0#32
  ![v9316.toNat, 0, 0]

def k0_chk1084 (v9315 : BitVec 32) : Prop :=
  (∀ a, (k0_off1694 v9315) a + S1x1x128.size a ≤ S100000x1x128.size a)
theorem k0_off1694_inb : ∀ (v9315 : BitVec 32) (k0_hw1084 : k0_chk1084 v9315), ∀ a, (k0_off1694 v9315) a + S1x1x128.size a ≤ S100000x1x128.size a := fun v9315 k0_hw1084 => k0_hw1084

def k0_off1695 (k0_t1 : Fin k0_t1_loop.trips) : Fin 2 → Nat :=
  let c0_5735 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c52_i32_5734 : BitVec 32 := 52#32
  let v9322 : BitVec 32 := Scalar.addi v8853 c52_i32_5734
  let v9323 : Index := Scalar.indexCast v9322
  ![0, v9323.toNat]
def k0_off1696 (v9324 : BitVec 32) : Fin 3 → Nat :=
  let v9325 : Index := Scalar.indexCast v9324
  let c0_5736 : Index := 0#32
  let c0_5737 : Index := 0#32
  ![v9325.toNat, 0, 0]

def k0_chk1085 (v9324 : BitVec 32) : Prop :=
  (∀ a, (k0_off1696 v9324) a + S1x1x128.size a ≤ S100000x1x128.size a)
theorem k0_off1696_inb : ∀ (v9324 : BitVec 32) (k0_hw1085 : k0_chk1085 v9324), ∀ a, (k0_off1696 v9324) a + S1x1x128.size a ≤ S100000x1x128.size a := fun v9324 k0_hw1085 => k0_hw1085

def k0_off1697 (k0_t1 : Fin k0_t1_loop.trips) : Fin 2 → Nat :=
  let c0_5741 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c53_i32_5740 : BitVec 32 := 53#32
  let v9331 : BitVec 32 := Scalar.addi v8853 c53_i32_5740
  let v9332 : Index := Scalar.indexCast v9331
  ![0, v9332.toNat]
def k0_off1698 (v9333 : BitVec 32) : Fin 3 → Nat :=
  let v9334 : Index := Scalar.indexCast v9333
  let c0_5742 : Index := 0#32
  let c0_5743 : Index := 0#32
  ![v9334.toNat, 0, 0]

def k0_chk1086 (v9333 : BitVec 32) : Prop :=
  (∀ a, (k0_off1698 v9333) a + S1x1x128.size a ≤ S100000x1x128.size a)
theorem k0_off1698_inb : ∀ (v9333 : BitVec 32) (k0_hw1086 : k0_chk1086 v9333), ∀ a, (k0_off1698 v9333) a + S1x1x128.size a ≤ S100000x1x128.size a := fun v9333 k0_hw1086 => k0_hw1086

def k0_off1699 (k0_t1 : Fin k0_t1_loop.trips) : Fin 2 → Nat :=
  let c0_5747 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c54_i32_5746 : BitVec 32 := 54#32
  let v9340 : BitVec 32 := Scalar.addi v8853 c54_i32_5746
  let v9341 : Index := Scalar.indexCast v9340
  ![0, v9341.toNat]
def k0_off1700 (v9342 : BitVec 32) : Fin 3 → Nat :=
  let v9343 : Index := Scalar.indexCast v9342
  let c0_5748 : Index := 0#32
  let c0_5749 : Index := 0#32
  ![v9343.toNat, 0, 0]

def k0_chk1087 (v9342 : BitVec 32) : Prop :=
  (∀ a, (k0_off1700 v9342) a + S1x1x128.size a ≤ S100000x1x128.size a)
theorem k0_off1700_inb : ∀ (v9342 : BitVec 32) (k0_hw1087 : k0_chk1087 v9342), ∀ a, (k0_off1700 v9342) a + S1x1x128.size a ≤ S100000x1x128.size a := fun v9342 k0_hw1087 => k0_hw1087

def k0_off1701 (k0_t1 : Fin k0_t1_loop.trips) : Fin 2 → Nat :=
  let c0_5753 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c55_i32_5752 : BitVec 32 := 55#32
  let v9349 : BitVec 32 := Scalar.addi v8853 c55_i32_5752
  let v9350 : Index := Scalar.indexCast v9349
  ![0, v9350.toNat]
def k0_off1702 (v9351 : BitVec 32) : Fin 3 → Nat :=
  let v9352 : Index := Scalar.indexCast v9351
  let c0_5754 : Index := 0#32
  let c0_5755 : Index := 0#32
  ![v9352.toNat, 0, 0]

def k0_chk1088 (v9351 : BitVec 32) : Prop :=
  (∀ a, (k0_off1702 v9351) a + S1x1x128.size a ≤ S100000x1x128.size a)
theorem k0_off1702_inb : ∀ (v9351 : BitVec 32) (k0_hw1088 : k0_chk1088 v9351), ∀ a, (k0_off1702 v9351) a + S1x1x128.size a ≤ S100000x1x128.size a := fun v9351 k0_hw1088 => k0_hw1088

def k0_off1703 (k0_t1 : Fin k0_t1_loop.trips) : Fin 2 → Nat :=
  let c0_5759 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c56_i32_5758 : BitVec 32 := 56#32
  let v9358 : BitVec 32 := Scalar.addi v8853 c56_i32_5758
  let v9359 : Index := Scalar.indexCast v9358
  ![0, v9359.toNat]
def k0_off1704 (v9360 : BitVec 32) : Fin 3 → Nat :=
  let v9361 : Index := Scalar.indexCast v9360
  let c0_5760 : Index := 0#32
  let c0_5761 : Index := 0#32
  ![v9361.toNat, 0, 0]

def k0_chk1089 (v9360 : BitVec 32) : Prop :=
  (∀ a, (k0_off1704 v9360) a + S1x1x128.size a ≤ S100000x1x128.size a)
theorem k0_off1704_inb : ∀ (v9360 : BitVec 32) (k0_hw1089 : k0_chk1089 v9360), ∀ a, (k0_off1704 v9360) a + S1x1x128.size a ≤ S100000x1x128.size a := fun v9360 k0_hw1089 => k0_hw1089

def k0_off1705 (k0_t1 : Fin k0_t1_loop.trips) : Fin 2 → Nat :=
  let c0_5765 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c57_i32_5764 : BitVec 32 := 57#32
  let v9367 : BitVec 32 := Scalar.addi v8853 c57_i32_5764
  let v9368 : Index := Scalar.indexCast v9367
  ![0, v9368.toNat]
def k0_off1706 (v9369 : BitVec 32) : Fin 3 → Nat :=
  let v9370 : Index := Scalar.indexCast v9369
  let c0_5766 : Index := 0#32
  let c0_5767 : Index := 0#32
  ![v9370.toNat, 0, 0]

def k0_chk1090 (v9369 : BitVec 32) : Prop :=
  (∀ a, (k0_off1706 v9369) a + S1x1x128.size a ≤ S100000x1x128.size a)
theorem k0_off1706_inb : ∀ (v9369 : BitVec 32) (k0_hw1090 : k0_chk1090 v9369), ∀ a, (k0_off1706 v9369) a + S1x1x128.size a ≤ S100000x1x128.size a := fun v9369 k0_hw1090 => k0_hw1090

def k0_off1707 (k0_t1 : Fin k0_t1_loop.trips) : Fin 2 → Nat :=
  let c0_5771 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c58_i32_5770 : BitVec 32 := 58#32
  let v9376 : BitVec 32 := Scalar.addi v8853 c58_i32_5770
  let v9377 : Index := Scalar.indexCast v9376
  ![0, v9377.toNat]
def k0_off1708 (v9378 : BitVec 32) : Fin 3 → Nat :=
  let v9379 : Index := Scalar.indexCast v9378
  let c0_5772 : Index := 0#32
  let c0_5773 : Index := 0#32
  ![v9379.toNat, 0, 0]

def k0_chk1091 (v9378 : BitVec 32) : Prop :=
  (∀ a, (k0_off1708 v9378) a + S1x1x128.size a ≤ S100000x1x128.size a)
theorem k0_off1708_inb : ∀ (v9378 : BitVec 32) (k0_hw1091 : k0_chk1091 v9378), ∀ a, (k0_off1708 v9378) a + S1x1x128.size a ≤ S100000x1x128.size a := fun v9378 k0_hw1091 => k0_hw1091

def k0_off1709 (k0_t1 : Fin k0_t1_loop.trips) : Fin 2 → Nat :=
  let c0_5777 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c59_i32_5776 : BitVec 32 := 59#32
  let v9385 : BitVec 32 := Scalar.addi v8853 c59_i32_5776
  let v9386 : Index := Scalar.indexCast v9385
  ![0, v9386.toNat]
def k0_off1710 (v9387 : BitVec 32) : Fin 3 → Nat :=
  let v9388 : Index := Scalar.indexCast v9387
  let c0_5778 : Index := 0#32
  let c0_5779 : Index := 0#32
  ![v9388.toNat, 0, 0]

def k0_chk1092 (v9387 : BitVec 32) : Prop :=
  (∀ a, (k0_off1710 v9387) a + S1x1x128.size a ≤ S100000x1x128.size a)
theorem k0_off1710_inb : ∀ (v9387 : BitVec 32) (k0_hw1092 : k0_chk1092 v9387), ∀ a, (k0_off1710 v9387) a + S1x1x128.size a ≤ S100000x1x128.size a := fun v9387 k0_hw1092 => k0_hw1092

def k0_off1711 (k0_t1 : Fin k0_t1_loop.trips) : Fin 2 → Nat :=
  let c0_5783 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c60_i32_5782 : BitVec 32 := 60#32
  let v9394 : BitVec 32 := Scalar.addi v8853 c60_i32_5782
  let v9395 : Index := Scalar.indexCast v9394
  ![0, v9395.toNat]
def k0_off1712 (v9396 : BitVec 32) : Fin 3 → Nat :=
  let v9397 : Index := Scalar.indexCast v9396
  let c0_5784 : Index := 0#32
  let c0_5785 : Index := 0#32
  ![v9397.toNat, 0, 0]

def k0_chk1093 (v9396 : BitVec 32) : Prop :=
  (∀ a, (k0_off1712 v9396) a + S1x1x128.size a ≤ S100000x1x128.size a)
theorem k0_off1712_inb : ∀ (v9396 : BitVec 32) (k0_hw1093 : k0_chk1093 v9396), ∀ a, (k0_off1712 v9396) a + S1x1x128.size a ≤ S100000x1x128.size a := fun v9396 k0_hw1093 => k0_hw1093

def k0_off1713 (k0_t1 : Fin k0_t1_loop.trips) : Fin 2 → Nat :=
  let c0_5789 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c61_i32_5788 : BitVec 32 := 61#32
  let v9403 : BitVec 32 := Scalar.addi v8853 c61_i32_5788
  let v9404 : Index := Scalar.indexCast v9403
  ![0, v9404.toNat]
def k0_off1714 (v9405 : BitVec 32) : Fin 3 → Nat :=
  let v9406 : Index := Scalar.indexCast v9405
  let c0_5790 : Index := 0#32
  let c0_5791 : Index := 0#32
  ![v9406.toNat, 0, 0]

def k0_chk1094 (v9405 : BitVec 32) : Prop :=
  (∀ a, (k0_off1714 v9405) a + S1x1x128.size a ≤ S100000x1x128.size a)
theorem k0_off1714_inb : ∀ (v9405 : BitVec 32) (k0_hw1094 : k0_chk1094 v9405), ∀ a, (k0_off1714 v9405) a + S1x1x128.size a ≤ S100000x1x128.size a := fun v9405 k0_hw1094 => k0_hw1094

def k0_off1715 (k0_t1 : Fin k0_t1_loop.trips) : Fin 2 → Nat :=
  let c0_5795 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c62_i32_5794 : BitVec 32 := 62#32
  let v9412 : BitVec 32 := Scalar.addi v8853 c62_i32_5794
  let v9413 : Index := Scalar.indexCast v9412
  ![0, v9413.toNat]
def k0_off1716 (v9414 : BitVec 32) : Fin 3 → Nat :=
  let v9415 : Index := Scalar.indexCast v9414
  let c0_5796 : Index := 0#32
  let c0_5797 : Index := 0#32
  ![v9415.toNat, 0, 0]

def k0_chk1095 (v9414 : BitVec 32) : Prop :=
  (∀ a, (k0_off1716 v9414) a + S1x1x128.size a ≤ S100000x1x128.size a)
theorem k0_off1716_inb : ∀ (v9414 : BitVec 32) (k0_hw1095 : k0_chk1095 v9414), ∀ a, (k0_off1716 v9414) a + S1x1x128.size a ≤ S100000x1x128.size a := fun v9414 k0_hw1095 => k0_hw1095

def k0_off1717 (k0_t1 : Fin k0_t1_loop.trips) : Fin 2 → Nat :=
  let c0_5801 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c63_i32_5800 : BitVec 32 := 63#32
  let v9421 : BitVec 32 := Scalar.addi v8853 c63_i32_5800
  let v9422 : Index := Scalar.indexCast v9421
  ![0, v9422.toNat]
def k0_off1718 (v9423 : BitVec 32) : Fin 3 → Nat :=
  let v9424 : Index := Scalar.indexCast v9423
  let c0_5802 : Index := 0#32
  let c0_5803 : Index := 0#32
  ![v9424.toNat, 0, 0]

def k0_chk1096 (v9423 : BitVec 32) : Prop :=
  (∀ a, (k0_off1718 v9423) a + S1x1x128.size a ≤ S100000x1x128.size a)
theorem k0_off1718_inb : ∀ (v9423 : BitVec 32) (k0_hw1096 : k0_chk1096 v9423), ∀ a, (k0_off1718 v9423) a + S1x1x128.size a ≤ S100000x1x128.size a := fun v9423 k0_hw1096 => k0_hw1096

def k0_off1719 (k0_t1 : Fin k0_t1_loop.trips) : Fin 2 → Nat :=
  let c0_5807 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c64_i32_5806 : BitVec 32 := 64#32
  let v9430 : BitVec 32 := Scalar.addi v8853 c64_i32_5806
  let v9431 : Index := Scalar.indexCast v9430
  ![0, v9431.toNat]
def k0_off1720 (v9432 : BitVec 32) : Fin 3 → Nat :=
  let v9433 : Index := Scalar.indexCast v9432
  let c0_5808 : Index := 0#32
  let c0_5809 : Index := 0#32
  ![v9433.toNat, 0, 0]

def k0_chk1097 (v9432 : BitVec 32) : Prop :=
  (∀ a, (k0_off1720 v9432) a + S1x1x128.size a ≤ S100000x1x128.size a)
theorem k0_off1720_inb : ∀ (v9432 : BitVec 32) (k0_hw1097 : k0_chk1097 v9432), ∀ a, (k0_off1720 v9432) a + S1x1x128.size a ≤ S100000x1x128.size a := fun v9432 k0_hw1097 => k0_hw1097

def k0_off1721 (k0_t1 : Fin k0_t1_loop.trips) : Fin 2 → Nat :=
  let c0_5813 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c65_i32_5812 : BitVec 32 := 65#32
  let v9439 : BitVec 32 := Scalar.addi v8853 c65_i32_5812
  let v9440 : Index := Scalar.indexCast v9439
  ![0, v9440.toNat]
def k0_off1722 (v9441 : BitVec 32) : Fin 3 → Nat :=
  let v9442 : Index := Scalar.indexCast v9441
  let c0_5814 : Index := 0#32
  let c0_5815 : Index := 0#32
  ![v9442.toNat, 0, 0]

def k0_chk1098 (v9441 : BitVec 32) : Prop :=
  (∀ a, (k0_off1722 v9441) a + S1x1x128.size a ≤ S100000x1x128.size a)
theorem k0_off1722_inb : ∀ (v9441 : BitVec 32) (k0_hw1098 : k0_chk1098 v9441), ∀ a, (k0_off1722 v9441) a + S1x1x128.size a ≤ S100000x1x128.size a := fun v9441 k0_hw1098 => k0_hw1098

def k0_off1723 (k0_t1 : Fin k0_t1_loop.trips) : Fin 2 → Nat :=
  let c0_5819 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c66_i32_5818 : BitVec 32 := 66#32
  let v9448 : BitVec 32 := Scalar.addi v8853 c66_i32_5818
  let v9449 : Index := Scalar.indexCast v9448
  ![0, v9449.toNat]
def k0_off1724 (v9450 : BitVec 32) : Fin 3 → Nat :=
  let v9451 : Index := Scalar.indexCast v9450
  let c0_5820 : Index := 0#32
  let c0_5821 : Index := 0#32
  ![v9451.toNat, 0, 0]

def k0_chk1099 (v9450 : BitVec 32) : Prop :=
  (∀ a, (k0_off1724 v9450) a + S1x1x128.size a ≤ S100000x1x128.size a)
theorem k0_off1724_inb : ∀ (v9450 : BitVec 32) (k0_hw1099 : k0_chk1099 v9450), ∀ a, (k0_off1724 v9450) a + S1x1x128.size a ≤ S100000x1x128.size a := fun v9450 k0_hw1099 => k0_hw1099

def k0_off1725 (k0_t1 : Fin k0_t1_loop.trips) : Fin 2 → Nat :=
  let c0_5825 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c67_i32_5824 : BitVec 32 := 67#32
  let v9457 : BitVec 32 := Scalar.addi v8853 c67_i32_5824
  let v9458 : Index := Scalar.indexCast v9457
  ![0, v9458.toNat]
def k0_off1726 (v9459 : BitVec 32) : Fin 3 → Nat :=
  let v9460 : Index := Scalar.indexCast v9459
  let c0_5826 : Index := 0#32
  let c0_5827 : Index := 0#32
  ![v9460.toNat, 0, 0]

def k0_chk1100 (v9459 : BitVec 32) : Prop :=
  (∀ a, (k0_off1726 v9459) a + S1x1x128.size a ≤ S100000x1x128.size a)
theorem k0_off1726_inb : ∀ (v9459 : BitVec 32) (k0_hw1100 : k0_chk1100 v9459), ∀ a, (k0_off1726 v9459) a + S1x1x128.size a ≤ S100000x1x128.size a := fun v9459 k0_hw1100 => k0_hw1100

def k0_off1727 (k0_t1 : Fin k0_t1_loop.trips) : Fin 2 → Nat :=
  let c0_5831 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c68_i32_5830 : BitVec 32 := 68#32
  let v9466 : BitVec 32 := Scalar.addi v8853 c68_i32_5830
  let v9467 : Index := Scalar.indexCast v9466
  ![0, v9467.toNat]
def k0_off1728 (v9468 : BitVec 32) : Fin 3 → Nat :=
  let v9469 : Index := Scalar.indexCast v9468
  let c0_5832 : Index := 0#32
  let c0_5833 : Index := 0#32
  ![v9469.toNat, 0, 0]

def k0_chk1101 (v9468 : BitVec 32) : Prop :=
  (∀ a, (k0_off1728 v9468) a + S1x1x128.size a ≤ S100000x1x128.size a)
theorem k0_off1728_inb : ∀ (v9468 : BitVec 32) (k0_hw1101 : k0_chk1101 v9468), ∀ a, (k0_off1728 v9468) a + S1x1x128.size a ≤ S100000x1x128.size a := fun v9468 k0_hw1101 => k0_hw1101

def k0_off1729 (k0_t1 : Fin k0_t1_loop.trips) : Fin 2 → Nat :=
  let c0_5837 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c69_i32_5836 : BitVec 32 := 69#32
  let v9475 : BitVec 32 := Scalar.addi v8853 c69_i32_5836
  let v9476 : Index := Scalar.indexCast v9475
  ![0, v9476.toNat]
def k0_off1730 (v9477 : BitVec 32) : Fin 3 → Nat :=
  let v9478 : Index := Scalar.indexCast v9477
  let c0_5838 : Index := 0#32
  let c0_5839 : Index := 0#32
  ![v9478.toNat, 0, 0]

def k0_chk1102 (v9477 : BitVec 32) : Prop :=
  (∀ a, (k0_off1730 v9477) a + S1x1x128.size a ≤ S100000x1x128.size a)
theorem k0_off1730_inb : ∀ (v9477 : BitVec 32) (k0_hw1102 : k0_chk1102 v9477), ∀ a, (k0_off1730 v9477) a + S1x1x128.size a ≤ S100000x1x128.size a := fun v9477 k0_hw1102 => k0_hw1102

def k0_off1731 (k0_t1 : Fin k0_t1_loop.trips) : Fin 2 → Nat :=
  let c0_5843 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c70_i32_5842 : BitVec 32 := 70#32
  let v9484 : BitVec 32 := Scalar.addi v8853 c70_i32_5842
  let v9485 : Index := Scalar.indexCast v9484
  ![0, v9485.toNat]
def k0_off1732 (v9486 : BitVec 32) : Fin 3 → Nat :=
  let v9487 : Index := Scalar.indexCast v9486
  let c0_5844 : Index := 0#32
  let c0_5845 : Index := 0#32
  ![v9487.toNat, 0, 0]

def k0_chk1103 (v9486 : BitVec 32) : Prop :=
  (∀ a, (k0_off1732 v9486) a + S1x1x128.size a ≤ S100000x1x128.size a)
theorem k0_off1732_inb : ∀ (v9486 : BitVec 32) (k0_hw1103 : k0_chk1103 v9486), ∀ a, (k0_off1732 v9486) a + S1x1x128.size a ≤ S100000x1x128.size a := fun v9486 k0_hw1103 => k0_hw1103

def k0_off1733 (k0_t1 : Fin k0_t1_loop.trips) : Fin 2 → Nat :=
  let c0_5849 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c71_i32_5848 : BitVec 32 := 71#32
  let v9493 : BitVec 32 := Scalar.addi v8853 c71_i32_5848
  let v9494 : Index := Scalar.indexCast v9493
  ![0, v9494.toNat]
def k0_off1734 (v9495 : BitVec 32) : Fin 3 → Nat :=
  let v9496 : Index := Scalar.indexCast v9495
  let c0_5850 : Index := 0#32
  let c0_5851 : Index := 0#32
  ![v9496.toNat, 0, 0]

def k0_chk1104 (v9495 : BitVec 32) : Prop :=
  (∀ a, (k0_off1734 v9495) a + S1x1x128.size a ≤ S100000x1x128.size a)
theorem k0_off1734_inb : ∀ (v9495 : BitVec 32) (k0_hw1104 : k0_chk1104 v9495), ∀ a, (k0_off1734 v9495) a + S1x1x128.size a ≤ S100000x1x128.size a := fun v9495 k0_hw1104 => k0_hw1104

def k0_off1735 (k0_t1 : Fin k0_t1_loop.trips) : Fin 2 → Nat :=
  let c0_5855 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c72_i32_5854 : BitVec 32 := 72#32
  let v9502 : BitVec 32 := Scalar.addi v8853 c72_i32_5854
  let v9503 : Index := Scalar.indexCast v9502
  ![0, v9503.toNat]
def k0_off1736 (v9504 : BitVec 32) : Fin 3 → Nat :=
  let v9505 : Index := Scalar.indexCast v9504
  let c0_5856 : Index := 0#32
  let c0_5857 : Index := 0#32
  ![v9505.toNat, 0, 0]

def k0_chk1105 (v9504 : BitVec 32) : Prop :=
  (∀ a, (k0_off1736 v9504) a + S1x1x128.size a ≤ S100000x1x128.size a)
theorem k0_off1736_inb : ∀ (v9504 : BitVec 32) (k0_hw1105 : k0_chk1105 v9504), ∀ a, (k0_off1736 v9504) a + S1x1x128.size a ≤ S100000x1x128.size a := fun v9504 k0_hw1105 => k0_hw1105

def k0_off1737 (k0_t1 : Fin k0_t1_loop.trips) : Fin 2 → Nat :=
  let c0_5861 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c73_i32_5860 : BitVec 32 := 73#32
  let v9511 : BitVec 32 := Scalar.addi v8853 c73_i32_5860
  let v9512 : Index := Scalar.indexCast v9511
  ![0, v9512.toNat]
def k0_off1738 (v9513 : BitVec 32) : Fin 3 → Nat :=
  let v9514 : Index := Scalar.indexCast v9513
  let c0_5862 : Index := 0#32
  let c0_5863 : Index := 0#32
  ![v9514.toNat, 0, 0]

def k0_chk1106 (v9513 : BitVec 32) : Prop :=
  (∀ a, (k0_off1738 v9513) a + S1x1x128.size a ≤ S100000x1x128.size a)
theorem k0_off1738_inb : ∀ (v9513 : BitVec 32) (k0_hw1106 : k0_chk1106 v9513), ∀ a, (k0_off1738 v9513) a + S1x1x128.size a ≤ S100000x1x128.size a := fun v9513 k0_hw1106 => k0_hw1106

def k0_off1739 (k0_t1 : Fin k0_t1_loop.trips) : Fin 2 → Nat :=
  let c0_5867 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c74_i32_5866 : BitVec 32 := 74#32
  let v9520 : BitVec 32 := Scalar.addi v8853 c74_i32_5866
  let v9521 : Index := Scalar.indexCast v9520
  ![0, v9521.toNat]
def k0_off1740 (v9522 : BitVec 32) : Fin 3 → Nat :=
  let v9523 : Index := Scalar.indexCast v9522
  let c0_5868 : Index := 0#32
  let c0_5869 : Index := 0#32
  ![v9523.toNat, 0, 0]

def k0_chk1107 (v9522 : BitVec 32) : Prop :=
  (∀ a, (k0_off1740 v9522) a + S1x1x128.size a ≤ S100000x1x128.size a)
theorem k0_off1740_inb : ∀ (v9522 : BitVec 32) (k0_hw1107 : k0_chk1107 v9522), ∀ a, (k0_off1740 v9522) a + S1x1x128.size a ≤ S100000x1x128.size a := fun v9522 k0_hw1107 => k0_hw1107

def k0_off1741 (k0_t1 : Fin k0_t1_loop.trips) : Fin 2 → Nat :=
  let c0_5873 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c75_i32_5872 : BitVec 32 := 75#32
  let v9529 : BitVec 32 := Scalar.addi v8853 c75_i32_5872
  let v9530 : Index := Scalar.indexCast v9529
  ![0, v9530.toNat]
def k0_off1742 (v9531 : BitVec 32) : Fin 3 → Nat :=
  let v9532 : Index := Scalar.indexCast v9531
  let c0_5874 : Index := 0#32
  let c0_5875 : Index := 0#32
  ![v9532.toNat, 0, 0]

def k0_chk1108 (v9531 : BitVec 32) : Prop :=
  (∀ a, (k0_off1742 v9531) a + S1x1x128.size a ≤ S100000x1x128.size a)
theorem k0_off1742_inb : ∀ (v9531 : BitVec 32) (k0_hw1108 : k0_chk1108 v9531), ∀ a, (k0_off1742 v9531) a + S1x1x128.size a ≤ S100000x1x128.size a := fun v9531 k0_hw1108 => k0_hw1108

def k0_off1743 (k0_t1 : Fin k0_t1_loop.trips) : Fin 2 → Nat :=
  let c0_5879 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c76_i32_5878 : BitVec 32 := 76#32
  let v9538 : BitVec 32 := Scalar.addi v8853 c76_i32_5878
  let v9539 : Index := Scalar.indexCast v9538
  ![0, v9539.toNat]
def k0_off1744 (v9540 : BitVec 32) : Fin 3 → Nat :=
  let v9541 : Index := Scalar.indexCast v9540
  let c0_5880 : Index := 0#32
  let c0_5881 : Index := 0#32
  ![v9541.toNat, 0, 0]

def k0_chk1109 (v9540 : BitVec 32) : Prop :=
  (∀ a, (k0_off1744 v9540) a + S1x1x128.size a ≤ S100000x1x128.size a)
theorem k0_off1744_inb : ∀ (v9540 : BitVec 32) (k0_hw1109 : k0_chk1109 v9540), ∀ a, (k0_off1744 v9540) a + S1x1x128.size a ≤ S100000x1x128.size a := fun v9540 k0_hw1109 => k0_hw1109

def k0_off1745 (k0_t1 : Fin k0_t1_loop.trips) : Fin 2 → Nat :=
  let c0_5885 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c77_i32_5884 : BitVec 32 := 77#32
  let v9547 : BitVec 32 := Scalar.addi v8853 c77_i32_5884
  let v9548 : Index := Scalar.indexCast v9547
  ![0, v9548.toNat]
def k0_off1746 (v9549 : BitVec 32) : Fin 3 → Nat :=
  let v9550 : Index := Scalar.indexCast v9549
  let c0_5886 : Index := 0#32
  let c0_5887 : Index := 0#32
  ![v9550.toNat, 0, 0]

def k0_chk1110 (v9549 : BitVec 32) : Prop :=
  (∀ a, (k0_off1746 v9549) a + S1x1x128.size a ≤ S100000x1x128.size a)
theorem k0_off1746_inb : ∀ (v9549 : BitVec 32) (k0_hw1110 : k0_chk1110 v9549), ∀ a, (k0_off1746 v9549) a + S1x1x128.size a ≤ S100000x1x128.size a := fun v9549 k0_hw1110 => k0_hw1110

def k0_off1747 (k0_t1 : Fin k0_t1_loop.trips) : Fin 2 → Nat :=
  let c0_5891 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c78_i32_5890 : BitVec 32 := 78#32
  let v9556 : BitVec 32 := Scalar.addi v8853 c78_i32_5890
  let v9557 : Index := Scalar.indexCast v9556
  ![0, v9557.toNat]
def k0_off1748 (v9558 : BitVec 32) : Fin 3 → Nat :=
  let v9559 : Index := Scalar.indexCast v9558
  let c0_5892 : Index := 0#32
  let c0_5893 : Index := 0#32
  ![v9559.toNat, 0, 0]

def k0_chk1111 (v9558 : BitVec 32) : Prop :=
  (∀ a, (k0_off1748 v9558) a + S1x1x128.size a ≤ S100000x1x128.size a)
theorem k0_off1748_inb : ∀ (v9558 : BitVec 32) (k0_hw1111 : k0_chk1111 v9558), ∀ a, (k0_off1748 v9558) a + S1x1x128.size a ≤ S100000x1x128.size a := fun v9558 k0_hw1111 => k0_hw1111

def k0_off1749 (k0_t1 : Fin k0_t1_loop.trips) : Fin 2 → Nat :=
  let c0_5897 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c79_i32_5896 : BitVec 32 := 79#32
  let v9565 : BitVec 32 := Scalar.addi v8853 c79_i32_5896
  let v9566 : Index := Scalar.indexCast v9565
  ![0, v9566.toNat]
def k0_off1750 (v9567 : BitVec 32) : Fin 3 → Nat :=
  let v9568 : Index := Scalar.indexCast v9567
  let c0_5898 : Index := 0#32
  let c0_5899 : Index := 0#32
  ![v9568.toNat, 0, 0]

def k0_chk1112 (v9567 : BitVec 32) : Prop :=
  (∀ a, (k0_off1750 v9567) a + S1x1x128.size a ≤ S100000x1x128.size a)
theorem k0_off1750_inb : ∀ (v9567 : BitVec 32) (k0_hw1112 : k0_chk1112 v9567), ∀ a, (k0_off1750 v9567) a + S1x1x128.size a ≤ S100000x1x128.size a := fun v9567 k0_hw1112 => k0_hw1112

def k0_off1751 (k0_t1 : Fin k0_t1_loop.trips) : Fin 2 → Nat :=
  let c0_5903 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c80_i32_5902 : BitVec 32 := 80#32
  let v9574 : BitVec 32 := Scalar.addi v8853 c80_i32_5902
  let v9575 : Index := Scalar.indexCast v9574
  ![0, v9575.toNat]
def k0_off1752 (v9576 : BitVec 32) : Fin 3 → Nat :=
  let v9577 : Index := Scalar.indexCast v9576
  let c0_5904 : Index := 0#32
  let c0_5905 : Index := 0#32
  ![v9577.toNat, 0, 0]

def k0_chk1113 (v9576 : BitVec 32) : Prop :=
  (∀ a, (k0_off1752 v9576) a + S1x1x128.size a ≤ S100000x1x128.size a)
theorem k0_off1752_inb : ∀ (v9576 : BitVec 32) (k0_hw1113 : k0_chk1113 v9576), ∀ a, (k0_off1752 v9576) a + S1x1x128.size a ≤ S100000x1x128.size a := fun v9576 k0_hw1113 => k0_hw1113

def k0_off1753 (k0_t1 : Fin k0_t1_loop.trips) : Fin 2 → Nat :=
  let c0_5909 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c81_i32_5908 : BitVec 32 := 81#32
  let v9583 : BitVec 32 := Scalar.addi v8853 c81_i32_5908
  let v9584 : Index := Scalar.indexCast v9583
  ![0, v9584.toNat]
def k0_off1754 (v9585 : BitVec 32) : Fin 3 → Nat :=
  let v9586 : Index := Scalar.indexCast v9585
  let c0_5910 : Index := 0#32
  let c0_5911 : Index := 0#32
  ![v9586.toNat, 0, 0]

def k0_chk1114 (v9585 : BitVec 32) : Prop :=
  (∀ a, (k0_off1754 v9585) a + S1x1x128.size a ≤ S100000x1x128.size a)
theorem k0_off1754_inb : ∀ (v9585 : BitVec 32) (k0_hw1114 : k0_chk1114 v9585), ∀ a, (k0_off1754 v9585) a + S1x1x128.size a ≤ S100000x1x128.size a := fun v9585 k0_hw1114 => k0_hw1114

def k0_off1755 (k0_t1 : Fin k0_t1_loop.trips) : Fin 2 → Nat :=
  let c0_5915 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c82_i32_5914 : BitVec 32 := 82#32
  let v9592 : BitVec 32 := Scalar.addi v8853 c82_i32_5914
  let v9593 : Index := Scalar.indexCast v9592
  ![0, v9593.toNat]
def k0_off1756 (v9594 : BitVec 32) : Fin 3 → Nat :=
  let v9595 : Index := Scalar.indexCast v9594
  let c0_5916 : Index := 0#32
  let c0_5917 : Index := 0#32
  ![v9595.toNat, 0, 0]

def k0_chk1115 (v9594 : BitVec 32) : Prop :=
  (∀ a, (k0_off1756 v9594) a + S1x1x128.size a ≤ S100000x1x128.size a)
theorem k0_off1756_inb : ∀ (v9594 : BitVec 32) (k0_hw1115 : k0_chk1115 v9594), ∀ a, (k0_off1756 v9594) a + S1x1x128.size a ≤ S100000x1x128.size a := fun v9594 k0_hw1115 => k0_hw1115

def k0_off1757 (k0_t1 : Fin k0_t1_loop.trips) : Fin 2 → Nat :=
  let c0_5921 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c83_i32_5920 : BitVec 32 := 83#32
  let v9601 : BitVec 32 := Scalar.addi v8853 c83_i32_5920
  let v9602 : Index := Scalar.indexCast v9601
  ![0, v9602.toNat]
def k0_off1758 (v9603 : BitVec 32) : Fin 3 → Nat :=
  let v9604 : Index := Scalar.indexCast v9603
  let c0_5922 : Index := 0#32
  let c0_5923 : Index := 0#32
  ![v9604.toNat, 0, 0]

def k0_chk1116 (v9603 : BitVec 32) : Prop :=
  (∀ a, (k0_off1758 v9603) a + S1x1x128.size a ≤ S100000x1x128.size a)
theorem k0_off1758_inb : ∀ (v9603 : BitVec 32) (k0_hw1116 : k0_chk1116 v9603), ∀ a, (k0_off1758 v9603) a + S1x1x128.size a ≤ S100000x1x128.size a := fun v9603 k0_hw1116 => k0_hw1116

def k0_off1759 (k0_t1 : Fin k0_t1_loop.trips) : Fin 2 → Nat :=
  let c0_5927 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c84_i32_5926 : BitVec 32 := 84#32
  let v9610 : BitVec 32 := Scalar.addi v8853 c84_i32_5926
  let v9611 : Index := Scalar.indexCast v9610
  ![0, v9611.toNat]
def k0_off1760 (v9612 : BitVec 32) : Fin 3 → Nat :=
  let v9613 : Index := Scalar.indexCast v9612
  let c0_5928 : Index := 0#32
  let c0_5929 : Index := 0#32
  ![v9613.toNat, 0, 0]

def k0_chk1117 (v9612 : BitVec 32) : Prop :=
  (∀ a, (k0_off1760 v9612) a + S1x1x128.size a ≤ S100000x1x128.size a)
theorem k0_off1760_inb : ∀ (v9612 : BitVec 32) (k0_hw1117 : k0_chk1117 v9612), ∀ a, (k0_off1760 v9612) a + S1x1x128.size a ≤ S100000x1x128.size a := fun v9612 k0_hw1117 => k0_hw1117

def k0_off1761 (k0_t1 : Fin k0_t1_loop.trips) : Fin 2 → Nat :=
  let c0_5933 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c85_i32_5932 : BitVec 32 := 85#32
  let v9619 : BitVec 32 := Scalar.addi v8853 c85_i32_5932
  let v9620 : Index := Scalar.indexCast v9619
  ![0, v9620.toNat]
def k0_off1762 (v9621 : BitVec 32) : Fin 3 → Nat :=
  let v9622 : Index := Scalar.indexCast v9621
  let c0_5934 : Index := 0#32
  let c0_5935 : Index := 0#32
  ![v9622.toNat, 0, 0]

def k0_chk1118 (v9621 : BitVec 32) : Prop :=
  (∀ a, (k0_off1762 v9621) a + S1x1x128.size a ≤ S100000x1x128.size a)
theorem k0_off1762_inb : ∀ (v9621 : BitVec 32) (k0_hw1118 : k0_chk1118 v9621), ∀ a, (k0_off1762 v9621) a + S1x1x128.size a ≤ S100000x1x128.size a := fun v9621 k0_hw1118 => k0_hw1118

def k0_off1763 (k0_t1 : Fin k0_t1_loop.trips) : Fin 2 → Nat :=
  let c0_5939 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c86_i32_5938 : BitVec 32 := 86#32
  let v9628 : BitVec 32 := Scalar.addi v8853 c86_i32_5938
  let v9629 : Index := Scalar.indexCast v9628
  ![0, v9629.toNat]
def k0_off1764 (v9630 : BitVec 32) : Fin 3 → Nat :=
  let v9631 : Index := Scalar.indexCast v9630
  let c0_5940 : Index := 0#32
  let c0_5941 : Index := 0#32
  ![v9631.toNat, 0, 0]

def k0_chk1119 (v9630 : BitVec 32) : Prop :=
  (∀ a, (k0_off1764 v9630) a + S1x1x128.size a ≤ S100000x1x128.size a)
theorem k0_off1764_inb : ∀ (v9630 : BitVec 32) (k0_hw1119 : k0_chk1119 v9630), ∀ a, (k0_off1764 v9630) a + S1x1x128.size a ≤ S100000x1x128.size a := fun v9630 k0_hw1119 => k0_hw1119

def k0_off1765 (k0_t1 : Fin k0_t1_loop.trips) : Fin 2 → Nat :=
  let c0_5945 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c87_i32_5944 : BitVec 32 := 87#32
  let v9637 : BitVec 32 := Scalar.addi v8853 c87_i32_5944
  let v9638 : Index := Scalar.indexCast v9637
  ![0, v9638.toNat]
def k0_off1766 (v9639 : BitVec 32) : Fin 3 → Nat :=
  let v9640 : Index := Scalar.indexCast v9639
  let c0_5946 : Index := 0#32
  let c0_5947 : Index := 0#32
  ![v9640.toNat, 0, 0]

def k0_chk1120 (v9639 : BitVec 32) : Prop :=
  (∀ a, (k0_off1766 v9639) a + S1x1x128.size a ≤ S100000x1x128.size a)
theorem k0_off1766_inb : ∀ (v9639 : BitVec 32) (k0_hw1120 : k0_chk1120 v9639), ∀ a, (k0_off1766 v9639) a + S1x1x128.size a ≤ S100000x1x128.size a := fun v9639 k0_hw1120 => k0_hw1120

def k0_off1767 (k0_t1 : Fin k0_t1_loop.trips) : Fin 2 → Nat :=
  let c0_5951 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c88_i32_5950 : BitVec 32 := 88#32
  let v9646 : BitVec 32 := Scalar.addi v8853 c88_i32_5950
  let v9647 : Index := Scalar.indexCast v9646
  ![0, v9647.toNat]
def k0_off1768 (v9648 : BitVec 32) : Fin 3 → Nat :=
  let v9649 : Index := Scalar.indexCast v9648
  let c0_5952 : Index := 0#32
  let c0_5953 : Index := 0#32
  ![v9649.toNat, 0, 0]

def k0_chk1121 (v9648 : BitVec 32) : Prop :=
  (∀ a, (k0_off1768 v9648) a + S1x1x128.size a ≤ S100000x1x128.size a)
theorem k0_off1768_inb : ∀ (v9648 : BitVec 32) (k0_hw1121 : k0_chk1121 v9648), ∀ a, (k0_off1768 v9648) a + S1x1x128.size a ≤ S100000x1x128.size a := fun v9648 k0_hw1121 => k0_hw1121

def k0_off1769 (k0_t1 : Fin k0_t1_loop.trips) : Fin 2 → Nat :=
  let c0_5957 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c89_i32_5956 : BitVec 32 := 89#32
  let v9655 : BitVec 32 := Scalar.addi v8853 c89_i32_5956
  let v9656 : Index := Scalar.indexCast v9655
  ![0, v9656.toNat]
def k0_off1770 (v9657 : BitVec 32) : Fin 3 → Nat :=
  let v9658 : Index := Scalar.indexCast v9657
  let c0_5958 : Index := 0#32
  let c0_5959 : Index := 0#32
  ![v9658.toNat, 0, 0]

def k0_chk1122 (v9657 : BitVec 32) : Prop :=
  (∀ a, (k0_off1770 v9657) a + S1x1x128.size a ≤ S100000x1x128.size a)
theorem k0_off1770_inb : ∀ (v9657 : BitVec 32) (k0_hw1122 : k0_chk1122 v9657), ∀ a, (k0_off1770 v9657) a + S1x1x128.size a ≤ S100000x1x128.size a := fun v9657 k0_hw1122 => k0_hw1122

def k0_off1771 (k0_t1 : Fin k0_t1_loop.trips) : Fin 2 → Nat :=
  let c0_5963 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c90_i32_5962 : BitVec 32 := 90#32
  let v9664 : BitVec 32 := Scalar.addi v8853 c90_i32_5962
  let v9665 : Index := Scalar.indexCast v9664
  ![0, v9665.toNat]
def k0_off1772 (v9666 : BitVec 32) : Fin 3 → Nat :=
  let v9667 : Index := Scalar.indexCast v9666
  let c0_5964 : Index := 0#32
  let c0_5965 : Index := 0#32
  ![v9667.toNat, 0, 0]

def k0_chk1123 (v9666 : BitVec 32) : Prop :=
  (∀ a, (k0_off1772 v9666) a + S1x1x128.size a ≤ S100000x1x128.size a)
theorem k0_off1772_inb : ∀ (v9666 : BitVec 32) (k0_hw1123 : k0_chk1123 v9666), ∀ a, (k0_off1772 v9666) a + S1x1x128.size a ≤ S100000x1x128.size a := fun v9666 k0_hw1123 => k0_hw1123

def k0_off1773 (k0_t1 : Fin k0_t1_loop.trips) : Fin 2 → Nat :=
  let c0_5969 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c91_i32_5968 : BitVec 32 := 91#32
  let v9673 : BitVec 32 := Scalar.addi v8853 c91_i32_5968
  let v9674 : Index := Scalar.indexCast v9673
  ![0, v9674.toNat]
def k0_off1774 (v9675 : BitVec 32) : Fin 3 → Nat :=
  let v9676 : Index := Scalar.indexCast v9675
  let c0_5970 : Index := 0#32
  let c0_5971 : Index := 0#32
  ![v9676.toNat, 0, 0]

def k0_chk1124 (v9675 : BitVec 32) : Prop :=
  (∀ a, (k0_off1774 v9675) a + S1x1x128.size a ≤ S100000x1x128.size a)
theorem k0_off1774_inb : ∀ (v9675 : BitVec 32) (k0_hw1124 : k0_chk1124 v9675), ∀ a, (k0_off1774 v9675) a + S1x1x128.size a ≤ S100000x1x128.size a := fun v9675 k0_hw1124 => k0_hw1124

def k0_off1775 (k0_t1 : Fin k0_t1_loop.trips) : Fin 2 → Nat :=
  let c0_5975 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c92_i32_5974 : BitVec 32 := 92#32
  let v9682 : BitVec 32 := Scalar.addi v8853 c92_i32_5974
  let v9683 : Index := Scalar.indexCast v9682
  ![0, v9683.toNat]
def k0_off1776 (v9684 : BitVec 32) : Fin 3 → Nat :=
  let v9685 : Index := Scalar.indexCast v9684
  let c0_5976 : Index := 0#32
  let c0_5977 : Index := 0#32
  ![v9685.toNat, 0, 0]

def k0_chk1125 (v9684 : BitVec 32) : Prop :=
  (∀ a, (k0_off1776 v9684) a + S1x1x128.size a ≤ S100000x1x128.size a)
theorem k0_off1776_inb : ∀ (v9684 : BitVec 32) (k0_hw1125 : k0_chk1125 v9684), ∀ a, (k0_off1776 v9684) a + S1x1x128.size a ≤ S100000x1x128.size a := fun v9684 k0_hw1125 => k0_hw1125

def k0_off1777 (k0_t1 : Fin k0_t1_loop.trips) : Fin 2 → Nat :=
  let c0_5981 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c93_i32_5980 : BitVec 32 := 93#32
  let v9691 : BitVec 32 := Scalar.addi v8853 c93_i32_5980
  let v9692 : Index := Scalar.indexCast v9691
  ![0, v9692.toNat]
def k0_off1778 (v9693 : BitVec 32) : Fin 3 → Nat :=
  let v9694 : Index := Scalar.indexCast v9693
  let c0_5982 : Index := 0#32
  let c0_5983 : Index := 0#32
  ![v9694.toNat, 0, 0]

def k0_chk1126 (v9693 : BitVec 32) : Prop :=
  (∀ a, (k0_off1778 v9693) a + S1x1x128.size a ≤ S100000x1x128.size a)
theorem k0_off1778_inb : ∀ (v9693 : BitVec 32) (k0_hw1126 : k0_chk1126 v9693), ∀ a, (k0_off1778 v9693) a + S1x1x128.size a ≤ S100000x1x128.size a := fun v9693 k0_hw1126 => k0_hw1126

def k0_off1779 (k0_t1 : Fin k0_t1_loop.trips) : Fin 2 → Nat :=
  let c0_5987 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c94_i32_5986 : BitVec 32 := 94#32
  let v9700 : BitVec 32 := Scalar.addi v8853 c94_i32_5986
  let v9701 : Index := Scalar.indexCast v9700
  ![0, v9701.toNat]
def k0_off1780 (v9702 : BitVec 32) : Fin 3 → Nat :=
  let v9703 : Index := Scalar.indexCast v9702
  let c0_5988 : Index := 0#32
  let c0_5989 : Index := 0#32
  ![v9703.toNat, 0, 0]

def k0_chk1127 (v9702 : BitVec 32) : Prop :=
  (∀ a, (k0_off1780 v9702) a + S1x1x128.size a ≤ S100000x1x128.size a)
theorem k0_off1780_inb : ∀ (v9702 : BitVec 32) (k0_hw1127 : k0_chk1127 v9702), ∀ a, (k0_off1780 v9702) a + S1x1x128.size a ≤ S100000x1x128.size a := fun v9702 k0_hw1127 => k0_hw1127

def k0_off1781 (k0_t1 : Fin k0_t1_loop.trips) : Fin 2 → Nat :=
  let c0_5993 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c95_i32_5992 : BitVec 32 := 95#32
  let v9709 : BitVec 32 := Scalar.addi v8853 c95_i32_5992
  let v9710 : Index := Scalar.indexCast v9709
  ![0, v9710.toNat]
def k0_off1782 (v9711 : BitVec 32) : Fin 3 → Nat :=
  let v9712 : Index := Scalar.indexCast v9711
  let c0_5994 : Index := 0#32
  let c0_5995 : Index := 0#32
  ![v9712.toNat, 0, 0]

def k0_chk1128 (v9711 : BitVec 32) : Prop :=
  (∀ a, (k0_off1782 v9711) a + S1x1x128.size a ≤ S100000x1x128.size a)
theorem k0_off1782_inb : ∀ (v9711 : BitVec 32) (k0_hw1128 : k0_chk1128 v9711), ∀ a, (k0_off1782 v9711) a + S1x1x128.size a ≤ S100000x1x128.size a := fun v9711 k0_hw1128 => k0_hw1128

def k0_off1783 (k0_t1 : Fin k0_t1_loop.trips) : Fin 2 → Nat :=
  let c0_5999 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c96_i32_5998 : BitVec 32 := 96#32
  let v9718 : BitVec 32 := Scalar.addi v8853 c96_i32_5998
  let v9719 : Index := Scalar.indexCast v9718
  ![0, v9719.toNat]
def k0_off1784 (v9720 : BitVec 32) : Fin 3 → Nat :=
  let v9721 : Index := Scalar.indexCast v9720
  let c0_6000 : Index := 0#32
  let c0_6001 : Index := 0#32
  ![v9721.toNat, 0, 0]

def k0_chk1129 (v9720 : BitVec 32) : Prop :=
  (∀ a, (k0_off1784 v9720) a + S1x1x128.size a ≤ S100000x1x128.size a)
theorem k0_off1784_inb : ∀ (v9720 : BitVec 32) (k0_hw1129 : k0_chk1129 v9720), ∀ a, (k0_off1784 v9720) a + S1x1x128.size a ≤ S100000x1x128.size a := fun v9720 k0_hw1129 => k0_hw1129

def k0_off1785 (k0_t1 : Fin k0_t1_loop.trips) : Fin 2 → Nat :=
  let c0_6005 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c97_i32_6004 : BitVec 32 := 97#32
  let v9727 : BitVec 32 := Scalar.addi v8853 c97_i32_6004
  let v9728 : Index := Scalar.indexCast v9727
  ![0, v9728.toNat]
def k0_off1786 (v9729 : BitVec 32) : Fin 3 → Nat :=
  let v9730 : Index := Scalar.indexCast v9729
  let c0_6006 : Index := 0#32
  let c0_6007 : Index := 0#32
  ![v9730.toNat, 0, 0]

def k0_chk1130 (v9729 : BitVec 32) : Prop :=
  (∀ a, (k0_off1786 v9729) a + S1x1x128.size a ≤ S100000x1x128.size a)
theorem k0_off1786_inb : ∀ (v9729 : BitVec 32) (k0_hw1130 : k0_chk1130 v9729), ∀ a, (k0_off1786 v9729) a + S1x1x128.size a ≤ S100000x1x128.size a := fun v9729 k0_hw1130 => k0_hw1130

def k0_off1787 (k0_t1 : Fin k0_t1_loop.trips) : Fin 2 → Nat :=
  let c0_6011 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c98_i32_6010 : BitVec 32 := 98#32
  let v9736 : BitVec 32 := Scalar.addi v8853 c98_i32_6010
  let v9737 : Index := Scalar.indexCast v9736
  ![0, v9737.toNat]
def k0_off1788 (v9738 : BitVec 32) : Fin 3 → Nat :=
  let v9739 : Index := Scalar.indexCast v9738
  let c0_6012 : Index := 0#32
  let c0_6013 : Index := 0#32
  ![v9739.toNat, 0, 0]

def k0_chk1131 (v9738 : BitVec 32) : Prop :=
  (∀ a, (k0_off1788 v9738) a + S1x1x128.size a ≤ S100000x1x128.size a)
theorem k0_off1788_inb : ∀ (v9738 : BitVec 32) (k0_hw1131 : k0_chk1131 v9738), ∀ a, (k0_off1788 v9738) a + S1x1x128.size a ≤ S100000x1x128.size a := fun v9738 k0_hw1131 => k0_hw1131

def k0_off1789 (k0_t1 : Fin k0_t1_loop.trips) : Fin 2 → Nat :=
  let c0_6017 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c99_i32_6016 : BitVec 32 := 99#32
  let v9745 : BitVec 32 := Scalar.addi v8853 c99_i32_6016
  let v9746 : Index := Scalar.indexCast v9745
  ![0, v9746.toNat]
def k0_off1790 (v9747 : BitVec 32) : Fin 3 → Nat :=
  let v9748 : Index := Scalar.indexCast v9747
  let c0_6018 : Index := 0#32
  let c0_6019 : Index := 0#32
  ![v9748.toNat, 0, 0]

def k0_chk1132 (v9747 : BitVec 32) : Prop :=
  (∀ a, (k0_off1790 v9747) a + S1x1x128.size a ≤ S100000x1x128.size a)
theorem k0_off1790_inb : ∀ (v9747 : BitVec 32) (k0_hw1132 : k0_chk1132 v9747), ∀ a, (k0_off1790 v9747) a + S1x1x128.size a ≤ S100000x1x128.size a := fun v9747 k0_hw1132 => k0_hw1132

def k0_off1791 (k0_t1 : Fin k0_t1_loop.trips) : Fin 2 → Nat :=
  let c0_6023 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c100_i32_6022 : BitVec 32 := 100#32
  let v9754 : BitVec 32 := Scalar.addi v8853 c100_i32_6022
  let v9755 : Index := Scalar.indexCast v9754
  ![0, v9755.toNat]
def k0_off1792 (v9756 : BitVec 32) : Fin 3 → Nat :=
  let v9757 : Index := Scalar.indexCast v9756
  let c0_6024 : Index := 0#32
  let c0_6025 : Index := 0#32
  ![v9757.toNat, 0, 0]

def k0_chk1133 (v9756 : BitVec 32) : Prop :=
  (∀ a, (k0_off1792 v9756) a + S1x1x128.size a ≤ S100000x1x128.size a)
theorem k0_off1792_inb : ∀ (v9756 : BitVec 32) (k0_hw1133 : k0_chk1133 v9756), ∀ a, (k0_off1792 v9756) a + S1x1x128.size a ≤ S100000x1x128.size a := fun v9756 k0_hw1133 => k0_hw1133

def k0_off1793 (k0_t1 : Fin k0_t1_loop.trips) : Fin 2 → Nat :=
  let c0_6029 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c101_i32_6028 : BitVec 32 := 101#32
  let v9763 : BitVec 32 := Scalar.addi v8853 c101_i32_6028
  let v9764 : Index := Scalar.indexCast v9763
  ![0, v9764.toNat]
def k0_off1794 (v9765 : BitVec 32) : Fin 3 → Nat :=
  let v9766 : Index := Scalar.indexCast v9765
  let c0_6030 : Index := 0#32
  let c0_6031 : Index := 0#32
  ![v9766.toNat, 0, 0]

def k0_chk1134 (v9765 : BitVec 32) : Prop :=
  (∀ a, (k0_off1794 v9765) a + S1x1x128.size a ≤ S100000x1x128.size a)
theorem k0_off1794_inb : ∀ (v9765 : BitVec 32) (k0_hw1134 : k0_chk1134 v9765), ∀ a, (k0_off1794 v9765) a + S1x1x128.size a ≤ S100000x1x128.size a := fun v9765 k0_hw1134 => k0_hw1134

def k0_off1795 (k0_t1 : Fin k0_t1_loop.trips) : Fin 2 → Nat :=
  let c0_6035 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c102_i32_6034 : BitVec 32 := 102#32
  let v9772 : BitVec 32 := Scalar.addi v8853 c102_i32_6034
  let v9773 : Index := Scalar.indexCast v9772
  ![0, v9773.toNat]
def k0_off1796 (v9774 : BitVec 32) : Fin 3 → Nat :=
  let v9775 : Index := Scalar.indexCast v9774
  let c0_6036 : Index := 0#32
  let c0_6037 : Index := 0#32
  ![v9775.toNat, 0, 0]

def k0_chk1135 (v9774 : BitVec 32) : Prop :=
  (∀ a, (k0_off1796 v9774) a + S1x1x128.size a ≤ S100000x1x128.size a)
theorem k0_off1796_inb : ∀ (v9774 : BitVec 32) (k0_hw1135 : k0_chk1135 v9774), ∀ a, (k0_off1796 v9774) a + S1x1x128.size a ≤ S100000x1x128.size a := fun v9774 k0_hw1135 => k0_hw1135

def k0_off1797 (k0_t1 : Fin k0_t1_loop.trips) : Fin 2 → Nat :=
  let c0_6041 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c103_i32_6040 : BitVec 32 := 103#32
  let v9781 : BitVec 32 := Scalar.addi v8853 c103_i32_6040
  let v9782 : Index := Scalar.indexCast v9781
  ![0, v9782.toNat]
def k0_off1798 (v9783 : BitVec 32) : Fin 3 → Nat :=
  let v9784 : Index := Scalar.indexCast v9783
  let c0_6042 : Index := 0#32
  let c0_6043 : Index := 0#32
  ![v9784.toNat, 0, 0]

def k0_chk1136 (v9783 : BitVec 32) : Prop :=
  (∀ a, (k0_off1798 v9783) a + S1x1x128.size a ≤ S100000x1x128.size a)
theorem k0_off1798_inb : ∀ (v9783 : BitVec 32) (k0_hw1136 : k0_chk1136 v9783), ∀ a, (k0_off1798 v9783) a + S1x1x128.size a ≤ S100000x1x128.size a := fun v9783 k0_hw1136 => k0_hw1136

def k0_off1799 (k0_t1 : Fin k0_t1_loop.trips) : Fin 2 → Nat :=
  let c0_6047 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c104_i32_6046 : BitVec 32 := 104#32
  let v9790 : BitVec 32 := Scalar.addi v8853 c104_i32_6046
  let v9791 : Index := Scalar.indexCast v9790
  ![0, v9791.toNat]
def k0_off1800 (v9792 : BitVec 32) : Fin 3 → Nat :=
  let v9793 : Index := Scalar.indexCast v9792
  let c0_6048 : Index := 0#32
  let c0_6049 : Index := 0#32
  ![v9793.toNat, 0, 0]

def k0_chk1137 (v9792 : BitVec 32) : Prop :=
  (∀ a, (k0_off1800 v9792) a + S1x1x128.size a ≤ S100000x1x128.size a)
theorem k0_off1800_inb : ∀ (v9792 : BitVec 32) (k0_hw1137 : k0_chk1137 v9792), ∀ a, (k0_off1800 v9792) a + S1x1x128.size a ≤ S100000x1x128.size a := fun v9792 k0_hw1137 => k0_hw1137

def k0_off1801 (k0_t1 : Fin k0_t1_loop.trips) : Fin 2 → Nat :=
  let c0_6053 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c105_i32_6052 : BitVec 32 := 105#32
  let v9799 : BitVec 32 := Scalar.addi v8853 c105_i32_6052
  let v9800 : Index := Scalar.indexCast v9799
  ![0, v9800.toNat]
def k0_off1802 (v9801 : BitVec 32) : Fin 3 → Nat :=
  let v9802 : Index := Scalar.indexCast v9801
  let c0_6054 : Index := 0#32
  let c0_6055 : Index := 0#32
  ![v9802.toNat, 0, 0]

def k0_chk1138 (v9801 : BitVec 32) : Prop :=
  (∀ a, (k0_off1802 v9801) a + S1x1x128.size a ≤ S100000x1x128.size a)
theorem k0_off1802_inb : ∀ (v9801 : BitVec 32) (k0_hw1138 : k0_chk1138 v9801), ∀ a, (k0_off1802 v9801) a + S1x1x128.size a ≤ S100000x1x128.size a := fun v9801 k0_hw1138 => k0_hw1138

def k0_off1803 (k0_t1 : Fin k0_t1_loop.trips) : Fin 2 → Nat :=
  let c0_6059 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c106_i32_6058 : BitVec 32 := 106#32
  let v9808 : BitVec 32 := Scalar.addi v8853 c106_i32_6058
  let v9809 : Index := Scalar.indexCast v9808
  ![0, v9809.toNat]
def k0_off1804 (v9810 : BitVec 32) : Fin 3 → Nat :=
  let v9811 : Index := Scalar.indexCast v9810
  let c0_6060 : Index := 0#32
  let c0_6061 : Index := 0#32
  ![v9811.toNat, 0, 0]

def k0_chk1139 (v9810 : BitVec 32) : Prop :=
  (∀ a, (k0_off1804 v9810) a + S1x1x128.size a ≤ S100000x1x128.size a)
theorem k0_off1804_inb : ∀ (v9810 : BitVec 32) (k0_hw1139 : k0_chk1139 v9810), ∀ a, (k0_off1804 v9810) a + S1x1x128.size a ≤ S100000x1x128.size a := fun v9810 k0_hw1139 => k0_hw1139

def k0_off1805 (k0_t1 : Fin k0_t1_loop.trips) : Fin 2 → Nat :=
  let c0_6065 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c107_i32_6064 : BitVec 32 := 107#32
  let v9817 : BitVec 32 := Scalar.addi v8853 c107_i32_6064
  let v9818 : Index := Scalar.indexCast v9817
  ![0, v9818.toNat]
def k0_off1806 (v9819 : BitVec 32) : Fin 3 → Nat :=
  let v9820 : Index := Scalar.indexCast v9819
  let c0_6066 : Index := 0#32
  let c0_6067 : Index := 0#32
  ![v9820.toNat, 0, 0]

def k0_chk1140 (v9819 : BitVec 32) : Prop :=
  (∀ a, (k0_off1806 v9819) a + S1x1x128.size a ≤ S100000x1x128.size a)
theorem k0_off1806_inb : ∀ (v9819 : BitVec 32) (k0_hw1140 : k0_chk1140 v9819), ∀ a, (k0_off1806 v9819) a + S1x1x128.size a ≤ S100000x1x128.size a := fun v9819 k0_hw1140 => k0_hw1140

def k0_off1807 (k0_t1 : Fin k0_t1_loop.trips) : Fin 2 → Nat :=
  let c0_6071 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c108_i32_6070 : BitVec 32 := 108#32
  let v9826 : BitVec 32 := Scalar.addi v8853 c108_i32_6070
  let v9827 : Index := Scalar.indexCast v9826
  ![0, v9827.toNat]
def k0_off1808 (v9828 : BitVec 32) : Fin 3 → Nat :=
  let v9829 : Index := Scalar.indexCast v9828
  let c0_6072 : Index := 0#32
  let c0_6073 : Index := 0#32
  ![v9829.toNat, 0, 0]

def k0_chk1141 (v9828 : BitVec 32) : Prop :=
  (∀ a, (k0_off1808 v9828) a + S1x1x128.size a ≤ S100000x1x128.size a)
theorem k0_off1808_inb : ∀ (v9828 : BitVec 32) (k0_hw1141 : k0_chk1141 v9828), ∀ a, (k0_off1808 v9828) a + S1x1x128.size a ≤ S100000x1x128.size a := fun v9828 k0_hw1141 => k0_hw1141

def k0_off1809 (k0_t1 : Fin k0_t1_loop.trips) : Fin 2 → Nat :=
  let c0_6077 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c109_i32_6076 : BitVec 32 := 109#32
  let v9835 : BitVec 32 := Scalar.addi v8853 c109_i32_6076
  let v9836 : Index := Scalar.indexCast v9835
  ![0, v9836.toNat]
def k0_off1810 (v9837 : BitVec 32) : Fin 3 → Nat :=
  let v9838 : Index := Scalar.indexCast v9837
  let c0_6078 : Index := 0#32
  let c0_6079 : Index := 0#32
  ![v9838.toNat, 0, 0]

def k0_chk1142 (v9837 : BitVec 32) : Prop :=
  (∀ a, (k0_off1810 v9837) a + S1x1x128.size a ≤ S100000x1x128.size a)
theorem k0_off1810_inb : ∀ (v9837 : BitVec 32) (k0_hw1142 : k0_chk1142 v9837), ∀ a, (k0_off1810 v9837) a + S1x1x128.size a ≤ S100000x1x128.size a := fun v9837 k0_hw1142 => k0_hw1142

def k0_off1811 (k0_t1 : Fin k0_t1_loop.trips) : Fin 2 → Nat :=
  let c0_6083 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c110_i32_6082 : BitVec 32 := 110#32
  let v9844 : BitVec 32 := Scalar.addi v8853 c110_i32_6082
  let v9845 : Index := Scalar.indexCast v9844
  ![0, v9845.toNat]
def k0_off1812 (v9846 : BitVec 32) : Fin 3 → Nat :=
  let v9847 : Index := Scalar.indexCast v9846
  let c0_6084 : Index := 0#32
  let c0_6085 : Index := 0#32
  ![v9847.toNat, 0, 0]

def k0_chk1143 (v9846 : BitVec 32) : Prop :=
  (∀ a, (k0_off1812 v9846) a + S1x1x128.size a ≤ S100000x1x128.size a)
theorem k0_off1812_inb : ∀ (v9846 : BitVec 32) (k0_hw1143 : k0_chk1143 v9846), ∀ a, (k0_off1812 v9846) a + S1x1x128.size a ≤ S100000x1x128.size a := fun v9846 k0_hw1143 => k0_hw1143

def k0_off1813 (k0_t1 : Fin k0_t1_loop.trips) : Fin 2 → Nat :=
  let c0_6089 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c111_i32_6088 : BitVec 32 := 111#32
  let v9853 : BitVec 32 := Scalar.addi v8853 c111_i32_6088
  let v9854 : Index := Scalar.indexCast v9853
  ![0, v9854.toNat]
def k0_off1814 (v9855 : BitVec 32) : Fin 3 → Nat :=
  let v9856 : Index := Scalar.indexCast v9855
  let c0_6090 : Index := 0#32
  let c0_6091 : Index := 0#32
  ![v9856.toNat, 0, 0]

def k0_chk1144 (v9855 : BitVec 32) : Prop :=
  (∀ a, (k0_off1814 v9855) a + S1x1x128.size a ≤ S100000x1x128.size a)
theorem k0_off1814_inb : ∀ (v9855 : BitVec 32) (k0_hw1144 : k0_chk1144 v9855), ∀ a, (k0_off1814 v9855) a + S1x1x128.size a ≤ S100000x1x128.size a := fun v9855 k0_hw1144 => k0_hw1144

def k0_off1815 (k0_t1 : Fin k0_t1_loop.trips) : Fin 2 → Nat :=
  let c0_6095 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c112_i32_6094 : BitVec 32 := 112#32
  let v9862 : BitVec 32 := Scalar.addi v8853 c112_i32_6094
  let v9863 : Index := Scalar.indexCast v9862
  ![0, v9863.toNat]
def k0_off1816 (v9864 : BitVec 32) : Fin 3 → Nat :=
  let v9865 : Index := Scalar.indexCast v9864
  let c0_6096 : Index := 0#32
  let c0_6097 : Index := 0#32
  ![v9865.toNat, 0, 0]

def k0_chk1145 (v9864 : BitVec 32) : Prop :=
  (∀ a, (k0_off1816 v9864) a + S1x1x128.size a ≤ S100000x1x128.size a)
theorem k0_off1816_inb : ∀ (v9864 : BitVec 32) (k0_hw1145 : k0_chk1145 v9864), ∀ a, (k0_off1816 v9864) a + S1x1x128.size a ≤ S100000x1x128.size a := fun v9864 k0_hw1145 => k0_hw1145

def k0_off1817 (k0_t1 : Fin k0_t1_loop.trips) : Fin 2 → Nat :=
  let c0_6101 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c113_i32_6100 : BitVec 32 := 113#32
  let v9871 : BitVec 32 := Scalar.addi v8853 c113_i32_6100
  let v9872 : Index := Scalar.indexCast v9871
  ![0, v9872.toNat]
def k0_off1818 (v9873 : BitVec 32) : Fin 3 → Nat :=
  let v9874 : Index := Scalar.indexCast v9873
  let c0_6102 : Index := 0#32
  let c0_6103 : Index := 0#32
  ![v9874.toNat, 0, 0]

def k0_chk1146 (v9873 : BitVec 32) : Prop :=
  (∀ a, (k0_off1818 v9873) a + S1x1x128.size a ≤ S100000x1x128.size a)
theorem k0_off1818_inb : ∀ (v9873 : BitVec 32) (k0_hw1146 : k0_chk1146 v9873), ∀ a, (k0_off1818 v9873) a + S1x1x128.size a ≤ S100000x1x128.size a := fun v9873 k0_hw1146 => k0_hw1146

def k0_off1819 (k0_t1 : Fin k0_t1_loop.trips) : Fin 2 → Nat :=
  let c0_6107 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c114_i32_6106 : BitVec 32 := 114#32
  let v9880 : BitVec 32 := Scalar.addi v8853 c114_i32_6106
  let v9881 : Index := Scalar.indexCast v9880
  ![0, v9881.toNat]
def k0_off1820 (v9882 : BitVec 32) : Fin 3 → Nat :=
  let v9883 : Index := Scalar.indexCast v9882
  let c0_6108 : Index := 0#32
  let c0_6109 : Index := 0#32
  ![v9883.toNat, 0, 0]

def k0_chk1147 (v9882 : BitVec 32) : Prop :=
  (∀ a, (k0_off1820 v9882) a + S1x1x128.size a ≤ S100000x1x128.size a)
theorem k0_off1820_inb : ∀ (v9882 : BitVec 32) (k0_hw1147 : k0_chk1147 v9882), ∀ a, (k0_off1820 v9882) a + S1x1x128.size a ≤ S100000x1x128.size a := fun v9882 k0_hw1147 => k0_hw1147

def k0_off1821 (k0_t1 : Fin k0_t1_loop.trips) : Fin 2 → Nat :=
  let c0_6113 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c115_i32_6112 : BitVec 32 := 115#32
  let v9889 : BitVec 32 := Scalar.addi v8853 c115_i32_6112
  let v9890 : Index := Scalar.indexCast v9889
  ![0, v9890.toNat]
def k0_off1822 (v9891 : BitVec 32) : Fin 3 → Nat :=
  let v9892 : Index := Scalar.indexCast v9891
  let c0_6114 : Index := 0#32
  let c0_6115 : Index := 0#32
  ![v9892.toNat, 0, 0]

def k0_chk1148 (v9891 : BitVec 32) : Prop :=
  (∀ a, (k0_off1822 v9891) a + S1x1x128.size a ≤ S100000x1x128.size a)
theorem k0_off1822_inb : ∀ (v9891 : BitVec 32) (k0_hw1148 : k0_chk1148 v9891), ∀ a, (k0_off1822 v9891) a + S1x1x128.size a ≤ S100000x1x128.size a := fun v9891 k0_hw1148 => k0_hw1148

def k0_off1823 (k0_t1 : Fin k0_t1_loop.trips) : Fin 2 → Nat :=
  let c0_6119 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c116_i32_6118 : BitVec 32 := 116#32
  let v9898 : BitVec 32 := Scalar.addi v8853 c116_i32_6118
  let v9899 : Index := Scalar.indexCast v9898
  ![0, v9899.toNat]
def k0_off1824 (v9900 : BitVec 32) : Fin 3 → Nat :=
  let v9901 : Index := Scalar.indexCast v9900
  let c0_6120 : Index := 0#32
  let c0_6121 : Index := 0#32
  ![v9901.toNat, 0, 0]

def k0_chk1149 (v9900 : BitVec 32) : Prop :=
  (∀ a, (k0_off1824 v9900) a + S1x1x128.size a ≤ S100000x1x128.size a)
theorem k0_off1824_inb : ∀ (v9900 : BitVec 32) (k0_hw1149 : k0_chk1149 v9900), ∀ a, (k0_off1824 v9900) a + S1x1x128.size a ≤ S100000x1x128.size a := fun v9900 k0_hw1149 => k0_hw1149

def k0_off1825 (k0_t1 : Fin k0_t1_loop.trips) : Fin 2 → Nat :=
  let c0_6125 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c117_i32_6124 : BitVec 32 := 117#32
  let v9907 : BitVec 32 := Scalar.addi v8853 c117_i32_6124
  let v9908 : Index := Scalar.indexCast v9907
  ![0, v9908.toNat]
def k0_off1826 (v9909 : BitVec 32) : Fin 3 → Nat :=
  let v9910 : Index := Scalar.indexCast v9909
  let c0_6126 : Index := 0#32
  let c0_6127 : Index := 0#32
  ![v9910.toNat, 0, 0]

def k0_chk1150 (v9909 : BitVec 32) : Prop :=
  (∀ a, (k0_off1826 v9909) a + S1x1x128.size a ≤ S100000x1x128.size a)
theorem k0_off1826_inb : ∀ (v9909 : BitVec 32) (k0_hw1150 : k0_chk1150 v9909), ∀ a, (k0_off1826 v9909) a + S1x1x128.size a ≤ S100000x1x128.size a := fun v9909 k0_hw1150 => k0_hw1150

def k0_off1827 (k0_t1 : Fin k0_t1_loop.trips) : Fin 2 → Nat :=
  let c0_6131 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c118_i32_6130 : BitVec 32 := 118#32
  let v9916 : BitVec 32 := Scalar.addi v8853 c118_i32_6130
  let v9917 : Index := Scalar.indexCast v9916
  ![0, v9917.toNat]
def k0_off1828 (v9918 : BitVec 32) : Fin 3 → Nat :=
  let v9919 : Index := Scalar.indexCast v9918
  let c0_6132 : Index := 0#32
  let c0_6133 : Index := 0#32
  ![v9919.toNat, 0, 0]

def k0_chk1151 (v9918 : BitVec 32) : Prop :=
  (∀ a, (k0_off1828 v9918) a + S1x1x128.size a ≤ S100000x1x128.size a)
theorem k0_off1828_inb : ∀ (v9918 : BitVec 32) (k0_hw1151 : k0_chk1151 v9918), ∀ a, (k0_off1828 v9918) a + S1x1x128.size a ≤ S100000x1x128.size a := fun v9918 k0_hw1151 => k0_hw1151

def k0_off1829 (k0_t1 : Fin k0_t1_loop.trips) : Fin 2 → Nat :=
  let c0_6137 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c119_i32_6136 : BitVec 32 := 119#32
  let v9925 : BitVec 32 := Scalar.addi v8853 c119_i32_6136
  let v9926 : Index := Scalar.indexCast v9925
  ![0, v9926.toNat]
def k0_off1830 (v9927 : BitVec 32) : Fin 3 → Nat :=
  let v9928 : Index := Scalar.indexCast v9927
  let c0_6138 : Index := 0#32
  let c0_6139 : Index := 0#32
  ![v9928.toNat, 0, 0]

def k0_chk1152 (v9927 : BitVec 32) : Prop :=
  (∀ a, (k0_off1830 v9927) a + S1x1x128.size a ≤ S100000x1x128.size a)
theorem k0_off1830_inb : ∀ (v9927 : BitVec 32) (k0_hw1152 : k0_chk1152 v9927), ∀ a, (k0_off1830 v9927) a + S1x1x128.size a ≤ S100000x1x128.size a := fun v9927 k0_hw1152 => k0_hw1152

def k0_off1831 (k0_t1 : Fin k0_t1_loop.trips) : Fin 2 → Nat :=
  let c0_6143 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c120_i32_6142 : BitVec 32 := 120#32
  let v9934 : BitVec 32 := Scalar.addi v8853 c120_i32_6142
  let v9935 : Index := Scalar.indexCast v9934
  ![0, v9935.toNat]
def k0_off1832 (v9936 : BitVec 32) : Fin 3 → Nat :=
  let v9937 : Index := Scalar.indexCast v9936
  let c0_6144 : Index := 0#32
  let c0_6145 : Index := 0#32
  ![v9937.toNat, 0, 0]

def k0_chk1153 (v9936 : BitVec 32) : Prop :=
  (∀ a, (k0_off1832 v9936) a + S1x1x128.size a ≤ S100000x1x128.size a)
theorem k0_off1832_inb : ∀ (v9936 : BitVec 32) (k0_hw1153 : k0_chk1153 v9936), ∀ a, (k0_off1832 v9936) a + S1x1x128.size a ≤ S100000x1x128.size a := fun v9936 k0_hw1153 => k0_hw1153

def k0_off1833 (k0_t1 : Fin k0_t1_loop.trips) : Fin 2 → Nat :=
  let c0_6149 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c121_i32_6148 : BitVec 32 := 121#32
  let v9943 : BitVec 32 := Scalar.addi v8853 c121_i32_6148
  let v9944 : Index := Scalar.indexCast v9943
  ![0, v9944.toNat]
def k0_off1834 (v9945 : BitVec 32) : Fin 3 → Nat :=
  let v9946 : Index := Scalar.indexCast v9945
  let c0_6150 : Index := 0#32
  let c0_6151 : Index := 0#32
  ![v9946.toNat, 0, 0]

def k0_chk1154 (v9945 : BitVec 32) : Prop :=
  (∀ a, (k0_off1834 v9945) a + S1x1x128.size a ≤ S100000x1x128.size a)
theorem k0_off1834_inb : ∀ (v9945 : BitVec 32) (k0_hw1154 : k0_chk1154 v9945), ∀ a, (k0_off1834 v9945) a + S1x1x128.size a ≤ S100000x1x128.size a := fun v9945 k0_hw1154 => k0_hw1154

variable {F : FTy → Type} [FloatOps F]

def k0_off1835 (k0_t1 : Fin k0_t1_loop.trips) : Fin 2 → Nat :=
  let c0_6155 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c122_i32_6154 : BitVec 32 := 122#32
  let v9952 : BitVec 32 := Scalar.addi v8853 c122_i32_6154
  let v9953 : Index := Scalar.indexCast v9952
  ![0, v9953.toNat]
def k0_off1836 (v9954 : BitVec 32) : Fin 3 → Nat :=
  let v9955 : Index := Scalar.indexCast v9954
  let c0_6156 : Index := 0#32
  let c0_6157 : Index := 0#32
  ![v9955.toNat, 0, 0]

def k0_chk1155 (v9954 : BitVec 32) : Prop :=
  (∀ a, (k0_off1836 v9954) a + S1x1x128.size a ≤ S100000x1x128.size a)
theorem k0_off1836_inb : ∀ (v9954 : BitVec 32) (k0_hw1155 : k0_chk1155 v9954), ∀ a, (k0_off1836 v9954) a + S1x1x128.size a ≤ S100000x1x128.size a := fun v9954 k0_hw1155 => k0_hw1155

def k0_off1837 (k0_t1 : Fin k0_t1_loop.trips) : Fin 2 → Nat :=
  let c0_6161 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c123_i32_6160 : BitVec 32 := 123#32
  let v9961 : BitVec 32 := Scalar.addi v8853 c123_i32_6160
  let v9962 : Index := Scalar.indexCast v9961
  ![0, v9962.toNat]
def k0_off1838 (v9963 : BitVec 32) : Fin 3 → Nat :=
  let v9964 : Index := Scalar.indexCast v9963
  let c0_6162 : Index := 0#32
  let c0_6163 : Index := 0#32
  ![v9964.toNat, 0, 0]

def k0_chk1156 (v9963 : BitVec 32) : Prop :=
  (∀ a, (k0_off1838 v9963) a + S1x1x128.size a ≤ S100000x1x128.size a)
theorem k0_off1838_inb : ∀ (v9963 : BitVec 32) (k0_hw1156 : k0_chk1156 v9963), ∀ a, (k0_off1838 v9963) a + S1x1x128.size a ≤ S100000x1x128.size a := fun v9963 k0_hw1156 => k0_hw1156

def k0_off1839 (k0_t1 : Fin k0_t1_loop.trips) : Fin 2 → Nat :=
  let c0_6167 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c124_i32_6166 : BitVec 32 := 124#32
  let v9970 : BitVec 32 := Scalar.addi v8853 c124_i32_6166
  let v9971 : Index := Scalar.indexCast v9970
  ![0, v9971.toNat]
def k0_off1840 (v9972 : BitVec 32) : Fin 3 → Nat :=
  let v9973 : Index := Scalar.indexCast v9972
  let c0_6168 : Index := 0#32
  let c0_6169 : Index := 0#32
  ![v9973.toNat, 0, 0]

def k0_chk1157 (v9972 : BitVec 32) : Prop :=
  (∀ a, (k0_off1840 v9972) a + S1x1x128.size a ≤ S100000x1x128.size a)
theorem k0_off1840_inb : ∀ (v9972 : BitVec 32) (k0_hw1157 : k0_chk1157 v9972), ∀ a, (k0_off1840 v9972) a + S1x1x128.size a ≤ S100000x1x128.size a := fun v9972 k0_hw1157 => k0_hw1157

def k0_off1841 (k0_t1 : Fin k0_t1_loop.trips) : Fin 2 → Nat :=
  let c0_6173 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c125_i32_6172 : BitVec 32 := 125#32
  let v9979 : BitVec 32 := Scalar.addi v8853 c125_i32_6172
  let v9980 : Index := Scalar.indexCast v9979
  ![0, v9980.toNat]
def k0_off1842 (v9981 : BitVec 32) : Fin 3 → Nat :=
  let v9982 : Index := Scalar.indexCast v9981
  let c0_6174 : Index := 0#32
  let c0_6175 : Index := 0#32
  ![v9982.toNat, 0, 0]

def k0_chk1158 (v9981 : BitVec 32) : Prop :=
  (∀ a, (k0_off1842 v9981) a + S1x1x128.size a ≤ S100000x1x128.size a)
theorem k0_off1842_inb : ∀ (v9981 : BitVec 32) (k0_hw1158 : k0_chk1158 v9981), ∀ a, (k0_off1842 v9981) a + S1x1x128.size a ≤ S100000x1x128.size a := fun v9981 k0_hw1158 => k0_hw1158

def k0_off1843 (k0_t1 : Fin k0_t1_loop.trips) : Fin 2 → Nat :=
  let c0_6179 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c126_i32_6178 : BitVec 32 := 126#32
  let v9988 : BitVec 32 := Scalar.addi v8853 c126_i32_6178
  let v9989 : Index := Scalar.indexCast v9988
  ![0, v9989.toNat]
def k0_off1844 (v9990 : BitVec 32) : Fin 3 → Nat :=
  let v9991 : Index := Scalar.indexCast v9990
  let c0_6180 : Index := 0#32
  let c0_6181 : Index := 0#32
  ![v9991.toNat, 0, 0]

def k0_chk1159 (v9990 : BitVec 32) : Prop :=
  (∀ a, (k0_off1844 v9990) a + S1x1x128.size a ≤ S100000x1x128.size a)
theorem k0_off1844_inb : ∀ (v9990 : BitVec 32) (k0_hw1159 : k0_chk1159 v9990), ∀ a, (k0_off1844 v9990) a + S1x1x128.size a ≤ S100000x1x128.size a := fun v9990 k0_hw1159 => k0_hw1159

def k0_off1845 (k0_t1 : Fin k0_t1_loop.trips) : Fin 2 → Nat :=
  let c0_6185 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c127_i32_6184 : BitVec 32 := 127#32
  let v9997 : BitVec 32 := Scalar.addi v8853 c127_i32_6184
  let v9998 : Index := Scalar.indexCast v9997
  ![0, v9998.toNat]
def k0_off1846 (v9999 : BitVec 32) : Fin 3 → Nat :=
  let v10000 : Index := Scalar.indexCast v9999
  let c0_6186 : Index := 0#32
  let c0_6187 : Index := 0#32
  ![v10000.toNat, 0, 0]

def k0_chk1160 (v9999 : BitVec 32) : Prop :=
  (∀ a, (k0_off1846 v9999) a + S1x1x128.size a ≤ S100000x1x128.size a)
theorem k0_off1846_inb : ∀ (v9999 : BitVec 32) (k0_hw1160 : k0_chk1160 v9999), ∀ a, (k0_off1846 v9999) a + S1x1x128.size a ≤ S100000x1x128.size a := fun v9999 k0_hw1160 => k0_hw1160

def k0_off1847 (k0_t1 : Fin k0_t1_loop.trips) : Fin 2 → Nat :=
  let c0_6191 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c128_i32_6190 : BitVec 32 := 128#32
  let v10006 : BitVec 32 := Scalar.addi v8853 c128_i32_6190
  let v10007 : Index := Scalar.indexCast v10006
  ![0, v10007.toNat]
def k0_off1848 (v10008 : BitVec 32) : Fin 3 → Nat :=
  let v10009 : Index := Scalar.indexCast v10008
  let c0_6192 : Index := 0#32
  let c0_6193 : Index := 0#32
  ![v10009.toNat, 0, 0]

def k0_chk1161 (v10008 : BitVec 32) : Prop :=
  (∀ a, (k0_off1848 v10008) a + S1x1x128.size a ≤ S100000x1x128.size a)
theorem k0_off1848_inb : ∀ (v10008 : BitVec 32) (k0_hw1161 : k0_chk1161 v10008), ∀ a, (k0_off1848 v10008) a + S1x1x128.size a ≤ S100000x1x128.size a := fun v10008 k0_hw1161 => k0_hw1161

def k0_off1849 (k0_t1 : Fin k0_t1_loop.trips) : Fin 2 → Nat :=
  let c0_6197 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c129_i32_6196 : BitVec 32 := 129#32
  let v10015 : BitVec 32 := Scalar.addi v8853 c129_i32_6196
  let v10016 : Index := Scalar.indexCast v10015
  ![0, v10016.toNat]
def k0_off1850 (v10017 : BitVec 32) : Fin 3 → Nat :=
  let v10018 : Index := Scalar.indexCast v10017
  let c0_6198 : Index := 0#32
  let c0_6199 : Index := 0#32
  ![v10018.toNat, 0, 0]

def k0_chk1162 (v10017 : BitVec 32) : Prop :=
  (∀ a, (k0_off1850 v10017) a + S1x1x128.size a ≤ S100000x1x128.size a)
theorem k0_off1850_inb : ∀ (v10017 : BitVec 32) (k0_hw1162 : k0_chk1162 v10017), ∀ a, (k0_off1850 v10017) a + S1x1x128.size a ≤ S100000x1x128.size a := fun v10017 k0_hw1162 => k0_hw1162

def k0_off1851 (k0_t1 : Fin k0_t1_loop.trips) : Fin 2 → Nat :=
  let c0_6203 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c130_i32_6202 : BitVec 32 := 130#32
  let v10024 : BitVec 32 := Scalar.addi v8853 c130_i32_6202
  let v10025 : Index := Scalar.indexCast v10024
  ![0, v10025.toNat]
def k0_off1852 (v10026 : BitVec 32) : Fin 3 → Nat :=
  let v10027 : Index := Scalar.indexCast v10026
  let c0_6204 : Index := 0#32
  let c0_6205 : Index := 0#32
  ![v10027.toNat, 0, 0]

def k0_chk1163 (v10026 : BitVec 32) : Prop :=
  (∀ a, (k0_off1852 v10026) a + S1x1x128.size a ≤ S100000x1x128.size a)
theorem k0_off1852_inb : ∀ (v10026 : BitVec 32) (k0_hw1163 : k0_chk1163 v10026), ∀ a, (k0_off1852 v10026) a + S1x1x128.size a ≤ S100000x1x128.size a := fun v10026 k0_hw1163 => k0_hw1163

def k0_off1853 (k0_t1 : Fin k0_t1_loop.trips) : Fin 2 → Nat :=
  let c0_6209 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c131_i32_6208 : BitVec 32 := 131#32
  let v10033 : BitVec 32 := Scalar.addi v8853 c131_i32_6208
  let v10034 : Index := Scalar.indexCast v10033
  ![0, v10034.toNat]
def k0_off1854 (v10035 : BitVec 32) : Fin 3 → Nat :=
  let v10036 : Index := Scalar.indexCast v10035
  let c0_6210 : Index := 0#32
  let c0_6211 : Index := 0#32
  ![v10036.toNat, 0, 0]

def k0_chk1164 (v10035 : BitVec 32) : Prop :=
  (∀ a, (k0_off1854 v10035) a + S1x1x128.size a ≤ S100000x1x128.size a)
theorem k0_off1854_inb : ∀ (v10035 : BitVec 32) (k0_hw1164 : k0_chk1164 v10035), ∀ a, (k0_off1854 v10035) a + S1x1x128.size a ≤ S100000x1x128.size a := fun v10035 k0_hw1164 => k0_hw1164

def k0_off1855 (k0_t1 : Fin k0_t1_loop.trips) : Fin 2 → Nat :=
  let c0_6215 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c132_i32_6214 : BitVec 32 := 132#32
  let v10042 : BitVec 32 := Scalar.addi v8853 c132_i32_6214
  let v10043 : Index := Scalar.indexCast v10042
  ![0, v10043.toNat]
def k0_off1856 (v10044 : BitVec 32) : Fin 3 → Nat :=
  let v10045 : Index := Scalar.indexCast v10044
  let c0_6216 : Index := 0#32
  let c0_6217 : Index := 0#32
  ![v10045.toNat, 0, 0]

def k0_chk1165 (v10044 : BitVec 32) : Prop :=
  (∀ a, (k0_off1856 v10044) a + S1x1x128.size a ≤ S100000x1x128.size a)
theorem k0_off1856_inb : ∀ (v10044 : BitVec 32) (k0_hw1165 : k0_chk1165 v10044), ∀ a, (k0_off1856 v10044) a + S1x1x128.size a ≤ S100000x1x128.size a := fun v10044 k0_hw1165 => k0_hw1165

def k0_off1857 (k0_t1 : Fin k0_t1_loop.trips) : Fin 2 → Nat :=
  let c0_6221 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c133_i32_6220 : BitVec 32 := 133#32
  let v10051 : BitVec 32 := Scalar.addi v8853 c133_i32_6220
  let v10052 : Index := Scalar.indexCast v10051
  ![0, v10052.toNat]
def k0_off1858 (v10053 : BitVec 32) : Fin 3 → Nat :=
  let v10054 : Index := Scalar.indexCast v10053
  let c0_6222 : Index := 0#32
  let c0_6223 : Index := 0#32
  ![v10054.toNat, 0, 0]

def k0_chk1166 (v10053 : BitVec 32) : Prop :=
  (∀ a, (k0_off1858 v10053) a + S1x1x128.size a ≤ S100000x1x128.size a)
theorem k0_off1858_inb : ∀ (v10053 : BitVec 32) (k0_hw1166 : k0_chk1166 v10053), ∀ a, (k0_off1858 v10053) a + S1x1x128.size a ≤ S100000x1x128.size a := fun v10053 k0_hw1166 => k0_hw1166

def k0_off1859 (k0_t1 : Fin k0_t1_loop.trips) : Fin 2 → Nat :=
  let c0_6227 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c134_i32_6226 : BitVec 32 := 134#32
  let v10060 : BitVec 32 := Scalar.addi v8853 c134_i32_6226
  let v10061 : Index := Scalar.indexCast v10060
  ![0, v10061.toNat]
def k0_off1860 (v10062 : BitVec 32) : Fin 3 → Nat :=
  let v10063 : Index := Scalar.indexCast v10062
  let c0_6228 : Index := 0#32
  let c0_6229 : Index := 0#32
  ![v10063.toNat, 0, 0]

def k0_chk1167 (v10062 : BitVec 32) : Prop :=
  (∀ a, (k0_off1860 v10062) a + S1x1x128.size a ≤ S100000x1x128.size a)
theorem k0_off1860_inb : ∀ (v10062 : BitVec 32) (k0_hw1167 : k0_chk1167 v10062), ∀ a, (k0_off1860 v10062) a + S1x1x128.size a ≤ S100000x1x128.size a := fun v10062 k0_hw1167 => k0_hw1167

def k0_off1861 (k0_t1 : Fin k0_t1_loop.trips) : Fin 2 → Nat :=
  let c0_6233 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c135_i32_6232 : BitVec 32 := 135#32
  let v10069 : BitVec 32 := Scalar.addi v8853 c135_i32_6232
  let v10070 : Index := Scalar.indexCast v10069
  ![0, v10070.toNat]
def k0_off1862 (v10071 : BitVec 32) : Fin 3 → Nat :=
  let v10072 : Index := Scalar.indexCast v10071
  let c0_6234 : Index := 0#32
  let c0_6235 : Index := 0#32
  ![v10072.toNat, 0, 0]

def k0_chk1168 (v10071 : BitVec 32) : Prop :=
  (∀ a, (k0_off1862 v10071) a + S1x1x128.size a ≤ S100000x1x128.size a)
theorem k0_off1862_inb : ∀ (v10071 : BitVec 32) (k0_hw1168 : k0_chk1168 v10071), ∀ a, (k0_off1862 v10071) a + S1x1x128.size a ≤ S100000x1x128.size a := fun v10071 k0_hw1168 => k0_hw1168

def k0_off1863 (k0_t1 : Fin k0_t1_loop.trips) : Fin 2 → Nat :=
  let c0_6239 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c136_i32_6238 : BitVec 32 := 136#32
  let v10078 : BitVec 32 := Scalar.addi v8853 c136_i32_6238
  let v10079 : Index := Scalar.indexCast v10078
  ![0, v10079.toNat]
def k0_off1864 (v10080 : BitVec 32) : Fin 3 → Nat :=
  let v10081 : Index := Scalar.indexCast v10080
  let c0_6240 : Index := 0#32
  let c0_6241 : Index := 0#32
  ![v10081.toNat, 0, 0]

def k0_chk1169 (v10080 : BitVec 32) : Prop :=
  (∀ a, (k0_off1864 v10080) a + S1x1x128.size a ≤ S100000x1x128.size a)
theorem k0_off1864_inb : ∀ (v10080 : BitVec 32) (k0_hw1169 : k0_chk1169 v10080), ∀ a, (k0_off1864 v10080) a + S1x1x128.size a ≤ S100000x1x128.size a := fun v10080 k0_hw1169 => k0_hw1169

def k0_off1865 (k0_t1 : Fin k0_t1_loop.trips) : Fin 2 → Nat :=
  let c0_6245 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c137_i32_6244 : BitVec 32 := 137#32
  let v10087 : BitVec 32 := Scalar.addi v8853 c137_i32_6244
  let v10088 : Index := Scalar.indexCast v10087
  ![0, v10088.toNat]
def k0_off1866 (v10089 : BitVec 32) : Fin 3 → Nat :=
  let v10090 : Index := Scalar.indexCast v10089
  let c0_6246 : Index := 0#32
  let c0_6247 : Index := 0#32
  ![v10090.toNat, 0, 0]

def k0_chk1170 (v10089 : BitVec 32) : Prop :=
  (∀ a, (k0_off1866 v10089) a + S1x1x128.size a ≤ S100000x1x128.size a)
theorem k0_off1866_inb : ∀ (v10089 : BitVec 32) (k0_hw1170 : k0_chk1170 v10089), ∀ a, (k0_off1866 v10089) a + S1x1x128.size a ≤ S100000x1x128.size a := fun v10089 k0_hw1170 => k0_hw1170

def k0_off1867 (k0_t1 : Fin k0_t1_loop.trips) : Fin 2 → Nat :=
  let c0_6251 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c138_i32_6250 : BitVec 32 := 138#32
  let v10096 : BitVec 32 := Scalar.addi v8853 c138_i32_6250
  let v10097 : Index := Scalar.indexCast v10096
  ![0, v10097.toNat]
def k0_off1868 (v10098 : BitVec 32) : Fin 3 → Nat :=
  let v10099 : Index := Scalar.indexCast v10098
  let c0_6252 : Index := 0#32
  let c0_6253 : Index := 0#32
  ![v10099.toNat, 0, 0]

def k0_chk1171 (v10098 : BitVec 32) : Prop :=
  (∀ a, (k0_off1868 v10098) a + S1x1x128.size a ≤ S100000x1x128.size a)
theorem k0_off1868_inb : ∀ (v10098 : BitVec 32) (k0_hw1171 : k0_chk1171 v10098), ∀ a, (k0_off1868 v10098) a + S1x1x128.size a ≤ S100000x1x128.size a := fun v10098 k0_hw1171 => k0_hw1171

def k0_off1869 (k0_t1 : Fin k0_t1_loop.trips) : Fin 2 → Nat :=
  let c0_6257 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c139_i32_6256 : BitVec 32 := 139#32
  let v10105 : BitVec 32 := Scalar.addi v8853 c139_i32_6256
  let v10106 : Index := Scalar.indexCast v10105
  ![0, v10106.toNat]
def k0_off1870 (v10107 : BitVec 32) : Fin 3 → Nat :=
  let v10108 : Index := Scalar.indexCast v10107
  let c0_6258 : Index := 0#32
  let c0_6259 : Index := 0#32
  ![v10108.toNat, 0, 0]

def k0_chk1172 (v10107 : BitVec 32) : Prop :=
  (∀ a, (k0_off1870 v10107) a + S1x1x128.size a ≤ S100000x1x128.size a)
theorem k0_off1870_inb : ∀ (v10107 : BitVec 32) (k0_hw1172 : k0_chk1172 v10107), ∀ a, (k0_off1870 v10107) a + S1x1x128.size a ≤ S100000x1x128.size a := fun v10107 k0_hw1172 => k0_hw1172

def k0_off1871 (k0_t1 : Fin k0_t1_loop.trips) : Fin 2 → Nat :=
  let c0_6263 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c140_i32_6262 : BitVec 32 := 140#32
  let v10114 : BitVec 32 := Scalar.addi v8853 c140_i32_6262
  let v10115 : Index := Scalar.indexCast v10114
  ![0, v10115.toNat]
def k0_off1872 (v10116 : BitVec 32) : Fin 3 → Nat :=
  let v10117 : Index := Scalar.indexCast v10116
  let c0_6264 : Index := 0#32
  let c0_6265 : Index := 0#32
  ![v10117.toNat, 0, 0]

def k0_chk1173 (v10116 : BitVec 32) : Prop :=
  (∀ a, (k0_off1872 v10116) a + S1x1x128.size a ≤ S100000x1x128.size a)
theorem k0_off1872_inb : ∀ (v10116 : BitVec 32) (k0_hw1173 : k0_chk1173 v10116), ∀ a, (k0_off1872 v10116) a + S1x1x128.size a ≤ S100000x1x128.size a := fun v10116 k0_hw1173 => k0_hw1173

def k0_off1873 (k0_t1 : Fin k0_t1_loop.trips) : Fin 2 → Nat :=
  let c0_6269 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c141_i32_6268 : BitVec 32 := 141#32
  let v10123 : BitVec 32 := Scalar.addi v8853 c141_i32_6268
  let v10124 : Index := Scalar.indexCast v10123
  ![0, v10124.toNat]
def k0_off1874 (v10125 : BitVec 32) : Fin 3 → Nat :=
  let v10126 : Index := Scalar.indexCast v10125
  let c0_6270 : Index := 0#32
  let c0_6271 : Index := 0#32
  ![v10126.toNat, 0, 0]

def k0_chk1174 (v10125 : BitVec 32) : Prop :=
  (∀ a, (k0_off1874 v10125) a + S1x1x128.size a ≤ S100000x1x128.size a)
theorem k0_off1874_inb : ∀ (v10125 : BitVec 32) (k0_hw1174 : k0_chk1174 v10125), ∀ a, (k0_off1874 v10125) a + S1x1x128.size a ≤ S100000x1x128.size a := fun v10125 k0_hw1174 => k0_hw1174

def k0_off1875 (k0_t1 : Fin k0_t1_loop.trips) : Fin 2 → Nat :=
  let c0_6275 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c142_i32_6274 : BitVec 32 := 142#32
  let v10132 : BitVec 32 := Scalar.addi v8853 c142_i32_6274
  let v10133 : Index := Scalar.indexCast v10132
  ![0, v10133.toNat]
def k0_off1876 (v10134 : BitVec 32) : Fin 3 → Nat :=
  let v10135 : Index := Scalar.indexCast v10134
  let c0_6276 : Index := 0#32
  let c0_6277 : Index := 0#32
  ![v10135.toNat, 0, 0]

def k0_chk1175 (v10134 : BitVec 32) : Prop :=
  (∀ a, (k0_off1876 v10134) a + S1x1x128.size a ≤ S100000x1x128.size a)
theorem k0_off1876_inb : ∀ (v10134 : BitVec 32) (k0_hw1175 : k0_chk1175 v10134), ∀ a, (k0_off1876 v10134) a + S1x1x128.size a ≤ S100000x1x128.size a := fun v10134 k0_hw1175 => k0_hw1175

def k0_off1877 (k0_t1 : Fin k0_t1_loop.trips) : Fin 2 → Nat :=
  let c0_6281 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c143_i32_6280 : BitVec 32 := 143#32
  let v10141 : BitVec 32 := Scalar.addi v8853 c143_i32_6280
  let v10142 : Index := Scalar.indexCast v10141
  ![0, v10142.toNat]
def k0_off1878 (v10143 : BitVec 32) : Fin 3 → Nat :=
  let v10144 : Index := Scalar.indexCast v10143
  let c0_6282 : Index := 0#32
  let c0_6283 : Index := 0#32
  ![v10144.toNat, 0, 0]

def k0_chk1176 (v10143 : BitVec 32) : Prop :=
  (∀ a, (k0_off1878 v10143) a + S1x1x128.size a ≤ S100000x1x128.size a)
theorem k0_off1878_inb : ∀ (v10143 : BitVec 32) (k0_hw1176 : k0_chk1176 v10143), ∀ a, (k0_off1878 v10143) a + S1x1x128.size a ≤ S100000x1x128.size a := fun v10143 k0_hw1176 => k0_hw1176

def k0_off1879 (k0_t1 : Fin k0_t1_loop.trips) : Fin 2 → Nat :=
  let c0_6287 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c144_i32_6286 : BitVec 32 := 144#32
  let v10150 : BitVec 32 := Scalar.addi v8853 c144_i32_6286
  let v10151 : Index := Scalar.indexCast v10150
  ![0, v10151.toNat]
def k0_off1880 (v10152 : BitVec 32) : Fin 3 → Nat :=
  let v10153 : Index := Scalar.indexCast v10152
  let c0_6288 : Index := 0#32
  let c0_6289 : Index := 0#32
  ![v10153.toNat, 0, 0]

def k0_chk1177 (v10152 : BitVec 32) : Prop :=
  (∀ a, (k0_off1880 v10152) a + S1x1x128.size a ≤ S100000x1x128.size a)
theorem k0_off1880_inb : ∀ (v10152 : BitVec 32) (k0_hw1177 : k0_chk1177 v10152), ∀ a, (k0_off1880 v10152) a + S1x1x128.size a ≤ S100000x1x128.size a := fun v10152 k0_hw1177 => k0_hw1177

def k0_off1881 (k0_t1 : Fin k0_t1_loop.trips) : Fin 2 → Nat :=
  let c0_6293 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c145_i32_6292 : BitVec 32 := 145#32
  let v10159 : BitVec 32 := Scalar.addi v8853 c145_i32_6292
  let v10160 : Index := Scalar.indexCast v10159
  ![0, v10160.toNat]
def k0_off1882 (v10161 : BitVec 32) : Fin 3 → Nat :=
  let v10162 : Index := Scalar.indexCast v10161
  let c0_6294 : Index := 0#32
  let c0_6295 : Index := 0#32
  ![v10162.toNat, 0, 0]

def k0_chk1178 (v10161 : BitVec 32) : Prop :=
  (∀ a, (k0_off1882 v10161) a + S1x1x128.size a ≤ S100000x1x128.size a)
theorem k0_off1882_inb : ∀ (v10161 : BitVec 32) (k0_hw1178 : k0_chk1178 v10161), ∀ a, (k0_off1882 v10161) a + S1x1x128.size a ≤ S100000x1x128.size a := fun v10161 k0_hw1178 => k0_hw1178

def k0_off1883 (k0_t1 : Fin k0_t1_loop.trips) : Fin 2 → Nat :=
  let c0_6299 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c146_i32_6298 : BitVec 32 := 146#32
  let v10168 : BitVec 32 := Scalar.addi v8853 c146_i32_6298
  let v10169 : Index := Scalar.indexCast v10168
  ![0, v10169.toNat]
def k0_off1884 (v10170 : BitVec 32) : Fin 3 → Nat :=
  let v10171 : Index := Scalar.indexCast v10170
  let c0_6300 : Index := 0#32
  let c0_6301 : Index := 0#32
  ![v10171.toNat, 0, 0]

def k0_chk1179 (v10170 : BitVec 32) : Prop :=
  (∀ a, (k0_off1884 v10170) a + S1x1x128.size a ≤ S100000x1x128.size a)
theorem k0_off1884_inb : ∀ (v10170 : BitVec 32) (k0_hw1179 : k0_chk1179 v10170), ∀ a, (k0_off1884 v10170) a + S1x1x128.size a ≤ S100000x1x128.size a := fun v10170 k0_hw1179 => k0_hw1179

def k0_off1885 (k0_t1 : Fin k0_t1_loop.trips) : Fin 2 → Nat :=
  let c0_6305 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c147_i32_6304 : BitVec 32 := 147#32
  let v10177 : BitVec 32 := Scalar.addi v8853 c147_i32_6304
  let v10178 : Index := Scalar.indexCast v10177
  ![0, v10178.toNat]
def k0_off1886 (v10179 : BitVec 32) : Fin 3 → Nat :=
  let v10180 : Index := Scalar.indexCast v10179
  let c0_6306 : Index := 0#32
  let c0_6307 : Index := 0#32
  ![v10180.toNat, 0, 0]

def k0_chk1180 (v10179 : BitVec 32) : Prop :=
  (∀ a, (k0_off1886 v10179) a + S1x1x128.size a ≤ S100000x1x128.size a)
theorem k0_off1886_inb : ∀ (v10179 : BitVec 32) (k0_hw1180 : k0_chk1180 v10179), ∀ a, (k0_off1886 v10179) a + S1x1x128.size a ≤ S100000x1x128.size a := fun v10179 k0_hw1180 => k0_hw1180

def k0_off1887 (k0_t1 : Fin k0_t1_loop.trips) : Fin 2 → Nat :=
  let c0_6311 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c148_i32_6310 : BitVec 32 := 148#32
  let v10186 : BitVec 32 := Scalar.addi v8853 c148_i32_6310
  let v10187 : Index := Scalar.indexCast v10186
  ![0, v10187.toNat]
def k0_off1888 (v10188 : BitVec 32) : Fin 3 → Nat :=
  let v10189 : Index := Scalar.indexCast v10188
  let c0_6312 : Index := 0#32
  let c0_6313 : Index := 0#32
  ![v10189.toNat, 0, 0]

def k0_chk1181 (v10188 : BitVec 32) : Prop :=
  (∀ a, (k0_off1888 v10188) a + S1x1x128.size a ≤ S100000x1x128.size a)
theorem k0_off1888_inb : ∀ (v10188 : BitVec 32) (k0_hw1181 : k0_chk1181 v10188), ∀ a, (k0_off1888 v10188) a + S1x1x128.size a ≤ S100000x1x128.size a := fun v10188 k0_hw1181 => k0_hw1181

def k0_off1889 (k0_t1 : Fin k0_t1_loop.trips) : Fin 2 → Nat :=
  let c0_6317 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c149_i32_6316 : BitVec 32 := 149#32
  let v10195 : BitVec 32 := Scalar.addi v8853 c149_i32_6316
  let v10196 : Index := Scalar.indexCast v10195
  ![0, v10196.toNat]
def k0_off1890 (v10197 : BitVec 32) : Fin 3 → Nat :=
  let v10198 : Index := Scalar.indexCast v10197
  let c0_6318 : Index := 0#32
  let c0_6319 : Index := 0#32
  ![v10198.toNat, 0, 0]

def k0_chk1182 (v10197 : BitVec 32) : Prop :=
  (∀ a, (k0_off1890 v10197) a + S1x1x128.size a ≤ S100000x1x128.size a)
theorem k0_off1890_inb : ∀ (v10197 : BitVec 32) (k0_hw1182 : k0_chk1182 v10197), ∀ a, (k0_off1890 v10197) a + S1x1x128.size a ≤ S100000x1x128.size a := fun v10197 k0_hw1182 => k0_hw1182

def k0_off1891 (k0_t1 : Fin k0_t1_loop.trips) : Fin 2 → Nat :=
  let c0_6323 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c150_i32_6322 : BitVec 32 := 150#32
  let v10204 : BitVec 32 := Scalar.addi v8853 c150_i32_6322
  let v10205 : Index := Scalar.indexCast v10204
  ![0, v10205.toNat]
def k0_off1892 (v10206 : BitVec 32) : Fin 3 → Nat :=
  let v10207 : Index := Scalar.indexCast v10206
  let c0_6324 : Index := 0#32
  let c0_6325 : Index := 0#32
  ![v10207.toNat, 0, 0]

def k0_chk1183 (v10206 : BitVec 32) : Prop :=
  (∀ a, (k0_off1892 v10206) a + S1x1x128.size a ≤ S100000x1x128.size a)
theorem k0_off1892_inb : ∀ (v10206 : BitVec 32) (k0_hw1183 : k0_chk1183 v10206), ∀ a, (k0_off1892 v10206) a + S1x1x128.size a ≤ S100000x1x128.size a := fun v10206 k0_hw1183 => k0_hw1183

def k0_off1893 (k0_t1 : Fin k0_t1_loop.trips) : Fin 2 → Nat :=
  let c0_6329 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c151_i32_6328 : BitVec 32 := 151#32
  let v10213 : BitVec 32 := Scalar.addi v8853 c151_i32_6328
  let v10214 : Index := Scalar.indexCast v10213
  ![0, v10214.toNat]
def k0_off1894 (v10215 : BitVec 32) : Fin 3 → Nat :=
  let v10216 : Index := Scalar.indexCast v10215
  let c0_6330 : Index := 0#32
  let c0_6331 : Index := 0#32
  ![v10216.toNat, 0, 0]

def k0_chk1184 (v10215 : BitVec 32) : Prop :=
  (∀ a, (k0_off1894 v10215) a + S1x1x128.size a ≤ S100000x1x128.size a)
theorem k0_off1894_inb : ∀ (v10215 : BitVec 32) (k0_hw1184 : k0_chk1184 v10215), ∀ a, (k0_off1894 v10215) a + S1x1x128.size a ≤ S100000x1x128.size a := fun v10215 k0_hw1184 => k0_hw1184

def k0_off1895 (k0_t1 : Fin k0_t1_loop.trips) : Fin 2 → Nat :=
  let c0_6335 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c152_i32_6334 : BitVec 32 := 152#32
  let v10222 : BitVec 32 := Scalar.addi v8853 c152_i32_6334
  let v10223 : Index := Scalar.indexCast v10222
  ![0, v10223.toNat]
def k0_off1896 (v10224 : BitVec 32) : Fin 3 → Nat :=
  let v10225 : Index := Scalar.indexCast v10224
  let c0_6336 : Index := 0#32
  let c0_6337 : Index := 0#32
  ![v10225.toNat, 0, 0]

def k0_chk1185 (v10224 : BitVec 32) : Prop :=
  (∀ a, (k0_off1896 v10224) a + S1x1x128.size a ≤ S100000x1x128.size a)
theorem k0_off1896_inb : ∀ (v10224 : BitVec 32) (k0_hw1185 : k0_chk1185 v10224), ∀ a, (k0_off1896 v10224) a + S1x1x128.size a ≤ S100000x1x128.size a := fun v10224 k0_hw1185 => k0_hw1185

def k0_off1897 (k0_t1 : Fin k0_t1_loop.trips) : Fin 2 → Nat :=
  let c0_6341 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c153_i32_6340 : BitVec 32 := 153#32
  let v10231 : BitVec 32 := Scalar.addi v8853 c153_i32_6340
  let v10232 : Index := Scalar.indexCast v10231
  ![0, v10232.toNat]
def k0_off1898 (v10233 : BitVec 32) : Fin 3 → Nat :=
  let v10234 : Index := Scalar.indexCast v10233
  let c0_6342 : Index := 0#32
  let c0_6343 : Index := 0#32
  ![v10234.toNat, 0, 0]

def k0_chk1186 (v10233 : BitVec 32) : Prop :=
  (∀ a, (k0_off1898 v10233) a + S1x1x128.size a ≤ S100000x1x128.size a)
theorem k0_off1898_inb : ∀ (v10233 : BitVec 32) (k0_hw1186 : k0_chk1186 v10233), ∀ a, (k0_off1898 v10233) a + S1x1x128.size a ≤ S100000x1x128.size a := fun v10233 k0_hw1186 => k0_hw1186

def k0_off1899 (k0_t1 : Fin k0_t1_loop.trips) : Fin 2 → Nat :=
  let c0_6347 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c154_i32_6346 : BitVec 32 := 154#32
  let v10240 : BitVec 32 := Scalar.addi v8853 c154_i32_6346
  let v10241 : Index := Scalar.indexCast v10240
  ![0, v10241.toNat]
def k0_off1900 (v10242 : BitVec 32) : Fin 3 → Nat :=
  let v10243 : Index := Scalar.indexCast v10242
  let c0_6348 : Index := 0#32
  let c0_6349 : Index := 0#32
  ![v10243.toNat, 0, 0]

def k0_chk1187 (v10242 : BitVec 32) : Prop :=
  (∀ a, (k0_off1900 v10242) a + S1x1x128.size a ≤ S100000x1x128.size a)
theorem k0_off1900_inb : ∀ (v10242 : BitVec 32) (k0_hw1187 : k0_chk1187 v10242), ∀ a, (k0_off1900 v10242) a + S1x1x128.size a ≤ S100000x1x128.size a := fun v10242 k0_hw1187 => k0_hw1187

def k0_off1901 (k0_t1 : Fin k0_t1_loop.trips) : Fin 2 → Nat :=
  let c0_6353 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c155_i32_6352 : BitVec 32 := 155#32
  let v10249 : BitVec 32 := Scalar.addi v8853 c155_i32_6352
  let v10250 : Index := Scalar.indexCast v10249
  ![0, v10250.toNat]
def k0_off1902 (v10251 : BitVec 32) : Fin 3 → Nat :=
  let v10252 : Index := Scalar.indexCast v10251
  let c0_6354 : Index := 0#32
  let c0_6355 : Index := 0#32
  ![v10252.toNat, 0, 0]

def k0_chk1188 (v10251 : BitVec 32) : Prop :=
  (∀ a, (k0_off1902 v10251) a + S1x1x128.size a ≤ S100000x1x128.size a)
theorem k0_off1902_inb : ∀ (v10251 : BitVec 32) (k0_hw1188 : k0_chk1188 v10251), ∀ a, (k0_off1902 v10251) a + S1x1x128.size a ≤ S100000x1x128.size a := fun v10251 k0_hw1188 => k0_hw1188

def k0_off1903 (k0_t1 : Fin k0_t1_loop.trips) : Fin 2 → Nat :=
  let c0_6359 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c156_i32_6358 : BitVec 32 := 156#32
  let v10258 : BitVec 32 := Scalar.addi v8853 c156_i32_6358
  let v10259 : Index := Scalar.indexCast v10258
  ![0, v10259.toNat]
def k0_off1904 (v10260 : BitVec 32) : Fin 3 → Nat :=
  let v10261 : Index := Scalar.indexCast v10260
  let c0_6360 : Index := 0#32
  let c0_6361 : Index := 0#32
  ![v10261.toNat, 0, 0]

def k0_chk1189 (v10260 : BitVec 32) : Prop :=
  (∀ a, (k0_off1904 v10260) a + S1x1x128.size a ≤ S100000x1x128.size a)
theorem k0_off1904_inb : ∀ (v10260 : BitVec 32) (k0_hw1189 : k0_chk1189 v10260), ∀ a, (k0_off1904 v10260) a + S1x1x128.size a ≤ S100000x1x128.size a := fun v10260 k0_hw1189 => k0_hw1189

def k0_off1905 (k0_t1 : Fin k0_t1_loop.trips) : Fin 2 → Nat :=
  let c0_6365 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c157_i32_6364 : BitVec 32 := 157#32
  let v10267 : BitVec 32 := Scalar.addi v8853 c157_i32_6364
  let v10268 : Index := Scalar.indexCast v10267
  ![0, v10268.toNat]
def k0_off1906 (v10269 : BitVec 32) : Fin 3 → Nat :=
  let v10270 : Index := Scalar.indexCast v10269
  let c0_6366 : Index := 0#32
  let c0_6367 : Index := 0#32
  ![v10270.toNat, 0, 0]

def k0_chk1190 (v10269 : BitVec 32) : Prop :=
  (∀ a, (k0_off1906 v10269) a + S1x1x128.size a ≤ S100000x1x128.size a)
theorem k0_off1906_inb : ∀ (v10269 : BitVec 32) (k0_hw1190 : k0_chk1190 v10269), ∀ a, (k0_off1906 v10269) a + S1x1x128.size a ≤ S100000x1x128.size a := fun v10269 k0_hw1190 => k0_hw1190

def k0_off1907 (k0_t1 : Fin k0_t1_loop.trips) : Fin 2 → Nat :=
  let c0_6371 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c158_i32_6370 : BitVec 32 := 158#32
  let v10276 : BitVec 32 := Scalar.addi v8853 c158_i32_6370
  let v10277 : Index := Scalar.indexCast v10276
  ![0, v10277.toNat]
def k0_off1908 (v10278 : BitVec 32) : Fin 3 → Nat :=
  let v10279 : Index := Scalar.indexCast v10278
  let c0_6372 : Index := 0#32
  let c0_6373 : Index := 0#32
  ![v10279.toNat, 0, 0]

def k0_chk1191 (v10278 : BitVec 32) : Prop :=
  (∀ a, (k0_off1908 v10278) a + S1x1x128.size a ≤ S100000x1x128.size a)
theorem k0_off1908_inb : ∀ (v10278 : BitVec 32) (k0_hw1191 : k0_chk1191 v10278), ∀ a, (k0_off1908 v10278) a + S1x1x128.size a ≤ S100000x1x128.size a := fun v10278 k0_hw1191 => k0_hw1191

def k0_off1909 (k0_t1 : Fin k0_t1_loop.trips) : Fin 2 → Nat :=
  let c0_6377 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c159_i32_6376 : BitVec 32 := 159#32
  let v10285 : BitVec 32 := Scalar.addi v8853 c159_i32_6376
  let v10286 : Index := Scalar.indexCast v10285
  ![0, v10286.toNat]
def k0_off1910 (v10287 : BitVec 32) : Fin 3 → Nat :=
  let v10288 : Index := Scalar.indexCast v10287
  let c0_6378 : Index := 0#32
  let c0_6379 : Index := 0#32
  ![v10288.toNat, 0, 0]

def k0_chk1192 (v10287 : BitVec 32) : Prop :=
  (∀ a, (k0_off1910 v10287) a + S1x1x128.size a ≤ S100000x1x128.size a)
theorem k0_off1910_inb : ∀ (v10287 : BitVec 32) (k0_hw1192 : k0_chk1192 v10287), ∀ a, (k0_off1910 v10287) a + S1x1x128.size a ≤ S100000x1x128.size a := fun v10287 k0_hw1192 => k0_hw1192

def k0_off1911 (k0_t1 : Fin k0_t1_loop.trips) : Fin 2 → Nat :=
  let c0_6383 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c160_i32_6382 : BitVec 32 := 160#32
  let v10294 : BitVec 32 := Scalar.addi v8853 c160_i32_6382
  let v10295 : Index := Scalar.indexCast v10294
  ![0, v10295.toNat]
def k0_off1912 (v10296 : BitVec 32) : Fin 3 → Nat :=
  let v10297 : Index := Scalar.indexCast v10296
  let c0_6384 : Index := 0#32
  let c0_6385 : Index := 0#32
  ![v10297.toNat, 0, 0]

def k0_chk1193 (v10296 : BitVec 32) : Prop :=
  (∀ a, (k0_off1912 v10296) a + S1x1x128.size a ≤ S100000x1x128.size a)
theorem k0_off1912_inb : ∀ (v10296 : BitVec 32) (k0_hw1193 : k0_chk1193 v10296), ∀ a, (k0_off1912 v10296) a + S1x1x128.size a ≤ S100000x1x128.size a := fun v10296 k0_hw1193 => k0_hw1193

def k0_off1913 (k0_t1 : Fin k0_t1_loop.trips) : Fin 2 → Nat :=
  let c0_6389 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c161_i32_6388 : BitVec 32 := 161#32
  let v10303 : BitVec 32 := Scalar.addi v8853 c161_i32_6388
  let v10304 : Index := Scalar.indexCast v10303
  ![0, v10304.toNat]
def k0_off1914 (v10305 : BitVec 32) : Fin 3 → Nat :=
  let v10306 : Index := Scalar.indexCast v10305
  let c0_6390 : Index := 0#32
  let c0_6391 : Index := 0#32
  ![v10306.toNat, 0, 0]

def k0_chk1194 (v10305 : BitVec 32) : Prop :=
  (∀ a, (k0_off1914 v10305) a + S1x1x128.size a ≤ S100000x1x128.size a)
theorem k0_off1914_inb : ∀ (v10305 : BitVec 32) (k0_hw1194 : k0_chk1194 v10305), ∀ a, (k0_off1914 v10305) a + S1x1x128.size a ≤ S100000x1x128.size a := fun v10305 k0_hw1194 => k0_hw1194

def k0_off1915 (k0_t1 : Fin k0_t1_loop.trips) : Fin 2 → Nat :=
  let c0_6395 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c162_i32_6394 : BitVec 32 := 162#32
  let v10312 : BitVec 32 := Scalar.addi v8853 c162_i32_6394
  let v10313 : Index := Scalar.indexCast v10312
  ![0, v10313.toNat]
def k0_off1916 (v10314 : BitVec 32) : Fin 3 → Nat :=
  let v10315 : Index := Scalar.indexCast v10314
  let c0_6396 : Index := 0#32
  let c0_6397 : Index := 0#32
  ![v10315.toNat, 0, 0]

def k0_chk1195 (v10314 : BitVec 32) : Prop :=
  (∀ a, (k0_off1916 v10314) a + S1x1x128.size a ≤ S100000x1x128.size a)
theorem k0_off1916_inb : ∀ (v10314 : BitVec 32) (k0_hw1195 : k0_chk1195 v10314), ∀ a, (k0_off1916 v10314) a + S1x1x128.size a ≤ S100000x1x128.size a := fun v10314 k0_hw1195 => k0_hw1195

def k0_off1917 (k0_t1 : Fin k0_t1_loop.trips) : Fin 2 → Nat :=
  let c0_6401 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c163_i32_6400 : BitVec 32 := 163#32
  let v10321 : BitVec 32 := Scalar.addi v8853 c163_i32_6400
  let v10322 : Index := Scalar.indexCast v10321
  ![0, v10322.toNat]
def k0_off1918 (v10323 : BitVec 32) : Fin 3 → Nat :=
  let v10324 : Index := Scalar.indexCast v10323
  let c0_6402 : Index := 0#32
  let c0_6403 : Index := 0#32
  ![v10324.toNat, 0, 0]

def k0_chk1196 (v10323 : BitVec 32) : Prop :=
  (∀ a, (k0_off1918 v10323) a + S1x1x128.size a ≤ S100000x1x128.size a)
theorem k0_off1918_inb : ∀ (v10323 : BitVec 32) (k0_hw1196 : k0_chk1196 v10323), ∀ a, (k0_off1918 v10323) a + S1x1x128.size a ≤ S100000x1x128.size a := fun v10323 k0_hw1196 => k0_hw1196

def k0_off1919 (k0_t1 : Fin k0_t1_loop.trips) : Fin 2 → Nat :=
  let c0_6407 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c164_i32_6406 : BitVec 32 := 164#32
  let v10330 : BitVec 32 := Scalar.addi v8853 c164_i32_6406
  let v10331 : Index := Scalar.indexCast v10330
  ![0, v10331.toNat]
def k0_off1920 (v10332 : BitVec 32) : Fin 3 → Nat :=
  let v10333 : Index := Scalar.indexCast v10332
  let c0_6408 : Index := 0#32
  let c0_6409 : Index := 0#32
  ![v10333.toNat, 0, 0]

def k0_chk1197 (v10332 : BitVec 32) : Prop :=
  (∀ a, (k0_off1920 v10332) a + S1x1x128.size a ≤ S100000x1x128.size a)
theorem k0_off1920_inb : ∀ (v10332 : BitVec 32) (k0_hw1197 : k0_chk1197 v10332), ∀ a, (k0_off1920 v10332) a + S1x1x128.size a ≤ S100000x1x128.size a := fun v10332 k0_hw1197 => k0_hw1197

def k0_off1921 (k0_t1 : Fin k0_t1_loop.trips) : Fin 2 → Nat :=
  let c0_6413 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c165_i32_6412 : BitVec 32 := 165#32
  let v10339 : BitVec 32 := Scalar.addi v8853 c165_i32_6412
  let v10340 : Index := Scalar.indexCast v10339
  ![0, v10340.toNat]
def k0_off1922 (v10341 : BitVec 32) : Fin 3 → Nat :=
  let v10342 : Index := Scalar.indexCast v10341
  let c0_6414 : Index := 0#32
  let c0_6415 : Index := 0#32
  ![v10342.toNat, 0, 0]

def k0_chk1198 (v10341 : BitVec 32) : Prop :=
  (∀ a, (k0_off1922 v10341) a + S1x1x128.size a ≤ S100000x1x128.size a)
theorem k0_off1922_inb : ∀ (v10341 : BitVec 32) (k0_hw1198 : k0_chk1198 v10341), ∀ a, (k0_off1922 v10341) a + S1x1x128.size a ≤ S100000x1x128.size a := fun v10341 k0_hw1198 => k0_hw1198

def k0_off1923 (k0_t1 : Fin k0_t1_loop.trips) : Fin 2 → Nat :=
  let c0_6419 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c166_i32_6418 : BitVec 32 := 166#32
  let v10348 : BitVec 32 := Scalar.addi v8853 c166_i32_6418
  let v10349 : Index := Scalar.indexCast v10348
  ![0, v10349.toNat]
def k0_off1924 (v10350 : BitVec 32) : Fin 3 → Nat :=
  let v10351 : Index := Scalar.indexCast v10350
  let c0_6420 : Index := 0#32
  let c0_6421 : Index := 0#32
  ![v10351.toNat, 0, 0]

def k0_chk1199 (v10350 : BitVec 32) : Prop :=
  (∀ a, (k0_off1924 v10350) a + S1x1x128.size a ≤ S100000x1x128.size a)
theorem k0_off1924_inb : ∀ (v10350 : BitVec 32) (k0_hw1199 : k0_chk1199 v10350), ∀ a, (k0_off1924 v10350) a + S1x1x128.size a ≤ S100000x1x128.size a := fun v10350 k0_hw1199 => k0_hw1199

def k0_off1925 (k0_t1 : Fin k0_t1_loop.trips) : Fin 2 → Nat :=
  let c0_6425 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c167_i32_6424 : BitVec 32 := 167#32
  let v10357 : BitVec 32 := Scalar.addi v8853 c167_i32_6424
  let v10358 : Index := Scalar.indexCast v10357
  ![0, v10358.toNat]
def k0_off1926 (v10359 : BitVec 32) : Fin 3 → Nat :=
  let v10360 : Index := Scalar.indexCast v10359
  let c0_6426 : Index := 0#32
  let c0_6427 : Index := 0#32
  ![v10360.toNat, 0, 0]

def k0_chk1200 (v10359 : BitVec 32) : Prop :=
  (∀ a, (k0_off1926 v10359) a + S1x1x128.size a ≤ S100000x1x128.size a)
theorem k0_off1926_inb : ∀ (v10359 : BitVec 32) (k0_hw1200 : k0_chk1200 v10359), ∀ a, (k0_off1926 v10359) a + S1x1x128.size a ≤ S100000x1x128.size a := fun v10359 k0_hw1200 => k0_hw1200

def k0_off1927 (k0_t1 : Fin k0_t1_loop.trips) : Fin 2 → Nat :=
  let c0_6431 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c168_i32_6430 : BitVec 32 := 168#32
  let v10366 : BitVec 32 := Scalar.addi v8853 c168_i32_6430
  let v10367 : Index := Scalar.indexCast v10366
  ![0, v10367.toNat]
def k0_off1928 (v10368 : BitVec 32) : Fin 3 → Nat :=
  let v10369 : Index := Scalar.indexCast v10368
  let c0_6432 : Index := 0#32
  let c0_6433 : Index := 0#32
  ![v10369.toNat, 0, 0]

def k0_chk1201 (v10368 : BitVec 32) : Prop :=
  (∀ a, (k0_off1928 v10368) a + S1x1x128.size a ≤ S100000x1x128.size a)
theorem k0_off1928_inb : ∀ (v10368 : BitVec 32) (k0_hw1201 : k0_chk1201 v10368), ∀ a, (k0_off1928 v10368) a + S1x1x128.size a ≤ S100000x1x128.size a := fun v10368 k0_hw1201 => k0_hw1201

def k0_off1929 (k0_t1 : Fin k0_t1_loop.trips) : Fin 2 → Nat :=
  let c0_6437 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c169_i32_6436 : BitVec 32 := 169#32
  let v10375 : BitVec 32 := Scalar.addi v8853 c169_i32_6436
  let v10376 : Index := Scalar.indexCast v10375
  ![0, v10376.toNat]
def k0_off1930 (v10377 : BitVec 32) : Fin 3 → Nat :=
  let v10378 : Index := Scalar.indexCast v10377
  let c0_6438 : Index := 0#32
  let c0_6439 : Index := 0#32
  ![v10378.toNat, 0, 0]

def k0_chk1202 (v10377 : BitVec 32) : Prop :=
  (∀ a, (k0_off1930 v10377) a + S1x1x128.size a ≤ S100000x1x128.size a)
theorem k0_off1930_inb : ∀ (v10377 : BitVec 32) (k0_hw1202 : k0_chk1202 v10377), ∀ a, (k0_off1930 v10377) a + S1x1x128.size a ≤ S100000x1x128.size a := fun v10377 k0_hw1202 => k0_hw1202

def k0_off1931 (k0_t1 : Fin k0_t1_loop.trips) : Fin 2 → Nat :=
  let c0_6443 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c170_i32_6442 : BitVec 32 := 170#32
  let v10384 : BitVec 32 := Scalar.addi v8853 c170_i32_6442
  let v10385 : Index := Scalar.indexCast v10384
  ![0, v10385.toNat]
def k0_off1932 (v10386 : BitVec 32) : Fin 3 → Nat :=
  let v10387 : Index := Scalar.indexCast v10386
  let c0_6444 : Index := 0#32
  let c0_6445 : Index := 0#32
  ![v10387.toNat, 0, 0]

def k0_chk1203 (v10386 : BitVec 32) : Prop :=
  (∀ a, (k0_off1932 v10386) a + S1x1x128.size a ≤ S100000x1x128.size a)
theorem k0_off1932_inb : ∀ (v10386 : BitVec 32) (k0_hw1203 : k0_chk1203 v10386), ∀ a, (k0_off1932 v10386) a + S1x1x128.size a ≤ S100000x1x128.size a := fun v10386 k0_hw1203 => k0_hw1203

def k0_off1933 (k0_t1 : Fin k0_t1_loop.trips) : Fin 2 → Nat :=
  let c0_6449 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c171_i32_6448 : BitVec 32 := 171#32
  let v10393 : BitVec 32 := Scalar.addi v8853 c171_i32_6448
  let v10394 : Index := Scalar.indexCast v10393
  ![0, v10394.toNat]
def k0_off1934 (v10395 : BitVec 32) : Fin 3 → Nat :=
  let v10396 : Index := Scalar.indexCast v10395
  let c0_6450 : Index := 0#32
  let c0_6451 : Index := 0#32
  ![v10396.toNat, 0, 0]

def k0_chk1204 (v10395 : BitVec 32) : Prop :=
  (∀ a, (k0_off1934 v10395) a + S1x1x128.size a ≤ S100000x1x128.size a)
theorem k0_off1934_inb : ∀ (v10395 : BitVec 32) (k0_hw1204 : k0_chk1204 v10395), ∀ a, (k0_off1934 v10395) a + S1x1x128.size a ≤ S100000x1x128.size a := fun v10395 k0_hw1204 => k0_hw1204

def k0_off1935 (k0_t1 : Fin k0_t1_loop.trips) : Fin 2 → Nat :=
  let c0_6455 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c172_i32_6454 : BitVec 32 := 172#32
  let v10402 : BitVec 32 := Scalar.addi v8853 c172_i32_6454
  let v10403 : Index := Scalar.indexCast v10402
  ![0, v10403.toNat]
def k0_off1936 (v10404 : BitVec 32) : Fin 3 → Nat :=
  let v10405 : Index := Scalar.indexCast v10404
  let c0_6456 : Index := 0#32
  let c0_6457 : Index := 0#32
  ![v10405.toNat, 0, 0]

def k0_chk1205 (v10404 : BitVec 32) : Prop :=
  (∀ a, (k0_off1936 v10404) a + S1x1x128.size a ≤ S100000x1x128.size a)
theorem k0_off1936_inb : ∀ (v10404 : BitVec 32) (k0_hw1205 : k0_chk1205 v10404), ∀ a, (k0_off1936 v10404) a + S1x1x128.size a ≤ S100000x1x128.size a := fun v10404 k0_hw1205 => k0_hw1205

def k0_off1937 (k0_t1 : Fin k0_t1_loop.trips) : Fin 2 → Nat :=
  let c0_6461 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c173_i32_6460 : BitVec 32 := 173#32
  let v10411 : BitVec 32 := Scalar.addi v8853 c173_i32_6460
  let v10412 : Index := Scalar.indexCast v10411
  ![0, v10412.toNat]
def k0_off1938 (v10413 : BitVec 32) : Fin 3 → Nat :=
  let v10414 : Index := Scalar.indexCast v10413
  let c0_6462 : Index := 0#32
  let c0_6463 : Index := 0#32
  ![v10414.toNat, 0, 0]

def k0_chk1206 (v10413 : BitVec 32) : Prop :=
  (∀ a, (k0_off1938 v10413) a + S1x1x128.size a ≤ S100000x1x128.size a)
theorem k0_off1938_inb : ∀ (v10413 : BitVec 32) (k0_hw1206 : k0_chk1206 v10413), ∀ a, (k0_off1938 v10413) a + S1x1x128.size a ≤ S100000x1x128.size a := fun v10413 k0_hw1206 => k0_hw1206

def k0_off1939 (k0_t1 : Fin k0_t1_loop.trips) : Fin 2 → Nat :=
  let c0_6467 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c174_i32_6466 : BitVec 32 := 174#32
  let v10420 : BitVec 32 := Scalar.addi v8853 c174_i32_6466
  let v10421 : Index := Scalar.indexCast v10420
  ![0, v10421.toNat]
def k0_off1940 (v10422 : BitVec 32) : Fin 3 → Nat :=
  let v10423 : Index := Scalar.indexCast v10422
  let c0_6468 : Index := 0#32
  let c0_6469 : Index := 0#32
  ![v10423.toNat, 0, 0]

def k0_chk1207 (v10422 : BitVec 32) : Prop :=
  (∀ a, (k0_off1940 v10422) a + S1x1x128.size a ≤ S100000x1x128.size a)
theorem k0_off1940_inb : ∀ (v10422 : BitVec 32) (k0_hw1207 : k0_chk1207 v10422), ∀ a, (k0_off1940 v10422) a + S1x1x128.size a ≤ S100000x1x128.size a := fun v10422 k0_hw1207 => k0_hw1207

def k0_off1941 (k0_t1 : Fin k0_t1_loop.trips) : Fin 2 → Nat :=
  let c0_6473 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c175_i32_6472 : BitVec 32 := 175#32
  let v10429 : BitVec 32 := Scalar.addi v8853 c175_i32_6472
  let v10430 : Index := Scalar.indexCast v10429
  ![0, v10430.toNat]
def k0_off1942 (v10431 : BitVec 32) : Fin 3 → Nat :=
  let v10432 : Index := Scalar.indexCast v10431
  let c0_6474 : Index := 0#32
  let c0_6475 : Index := 0#32
  ![v10432.toNat, 0, 0]

def k0_chk1208 (v10431 : BitVec 32) : Prop :=
  (∀ a, (k0_off1942 v10431) a + S1x1x128.size a ≤ S100000x1x128.size a)
theorem k0_off1942_inb : ∀ (v10431 : BitVec 32) (k0_hw1208 : k0_chk1208 v10431), ∀ a, (k0_off1942 v10431) a + S1x1x128.size a ≤ S100000x1x128.size a := fun v10431 k0_hw1208 => k0_hw1208

def k0_off1943 (k0_t1 : Fin k0_t1_loop.trips) : Fin 2 → Nat :=
  let c0_6479 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c176_i32_6478 : BitVec 32 := 176#32
  let v10438 : BitVec 32 := Scalar.addi v8853 c176_i32_6478
  let v10439 : Index := Scalar.indexCast v10438
  ![0, v10439.toNat]
def k0_off1944 (v10440 : BitVec 32) : Fin 3 → Nat :=
  let v10441 : Index := Scalar.indexCast v10440
  let c0_6480 : Index := 0#32
  let c0_6481 : Index := 0#32
  ![v10441.toNat, 0, 0]

def k0_chk1209 (v10440 : BitVec 32) : Prop :=
  (∀ a, (k0_off1944 v10440) a + S1x1x128.size a ≤ S100000x1x128.size a)
theorem k0_off1944_inb : ∀ (v10440 : BitVec 32) (k0_hw1209 : k0_chk1209 v10440), ∀ a, (k0_off1944 v10440) a + S1x1x128.size a ≤ S100000x1x128.size a := fun v10440 k0_hw1209 => k0_hw1209

def k0_off1945 (k0_t1 : Fin k0_t1_loop.trips) : Fin 2 → Nat :=
  let c0_6485 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c177_i32_6484 : BitVec 32 := 177#32
  let v10447 : BitVec 32 := Scalar.addi v8853 c177_i32_6484
  let v10448 : Index := Scalar.indexCast v10447
  ![0, v10448.toNat]
def k0_off1946 (v10449 : BitVec 32) : Fin 3 → Nat :=
  let v10450 : Index := Scalar.indexCast v10449
  let c0_6486 : Index := 0#32
  let c0_6487 : Index := 0#32
  ![v10450.toNat, 0, 0]

def k0_chk1210 (v10449 : BitVec 32) : Prop :=
  (∀ a, (k0_off1946 v10449) a + S1x1x128.size a ≤ S100000x1x128.size a)
theorem k0_off1946_inb : ∀ (v10449 : BitVec 32) (k0_hw1210 : k0_chk1210 v10449), ∀ a, (k0_off1946 v10449) a + S1x1x128.size a ≤ S100000x1x128.size a := fun v10449 k0_hw1210 => k0_hw1210

def k0_off1947 (k0_t1 : Fin k0_t1_loop.trips) : Fin 2 → Nat :=
  let c0_6491 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c178_i32_6490 : BitVec 32 := 178#32
  let v10456 : BitVec 32 := Scalar.addi v8853 c178_i32_6490
  let v10457 : Index := Scalar.indexCast v10456
  ![0, v10457.toNat]
def k0_off1948 (v10458 : BitVec 32) : Fin 3 → Nat :=
  let v10459 : Index := Scalar.indexCast v10458
  let c0_6492 : Index := 0#32
  let c0_6493 : Index := 0#32
  ![v10459.toNat, 0, 0]

def k0_chk1211 (v10458 : BitVec 32) : Prop :=
  (∀ a, (k0_off1948 v10458) a + S1x1x128.size a ≤ S100000x1x128.size a)
theorem k0_off1948_inb : ∀ (v10458 : BitVec 32) (k0_hw1211 : k0_chk1211 v10458), ∀ a, (k0_off1948 v10458) a + S1x1x128.size a ≤ S100000x1x128.size a := fun v10458 k0_hw1211 => k0_hw1211

def k0_off1949 (k0_t1 : Fin k0_t1_loop.trips) : Fin 2 → Nat :=
  let c0_6497 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c179_i32_6496 : BitVec 32 := 179#32
  let v10465 : BitVec 32 := Scalar.addi v8853 c179_i32_6496
  let v10466 : Index := Scalar.indexCast v10465
  ![0, v10466.toNat]
def k0_off1950 (v10467 : BitVec 32) : Fin 3 → Nat :=
  let v10468 : Index := Scalar.indexCast v10467
  let c0_6498 : Index := 0#32
  let c0_6499 : Index := 0#32
  ![v10468.toNat, 0, 0]

def k0_chk1212 (v10467 : BitVec 32) : Prop :=
  (∀ a, (k0_off1950 v10467) a + S1x1x128.size a ≤ S100000x1x128.size a)
theorem k0_off1950_inb : ∀ (v10467 : BitVec 32) (k0_hw1212 : k0_chk1212 v10467), ∀ a, (k0_off1950 v10467) a + S1x1x128.size a ≤ S100000x1x128.size a := fun v10467 k0_hw1212 => k0_hw1212

def k0_off1951 (k0_t1 : Fin k0_t1_loop.trips) : Fin 2 → Nat :=
  let c0_6503 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c180_i32_6502 : BitVec 32 := 180#32
  let v10474 : BitVec 32 := Scalar.addi v8853 c180_i32_6502
  let v10475 : Index := Scalar.indexCast v10474
  ![0, v10475.toNat]
def k0_off1952 (v10476 : BitVec 32) : Fin 3 → Nat :=
  let v10477 : Index := Scalar.indexCast v10476
  let c0_6504 : Index := 0#32
  let c0_6505 : Index := 0#32
  ![v10477.toNat, 0, 0]

def k0_chk1213 (v10476 : BitVec 32) : Prop :=
  (∀ a, (k0_off1952 v10476) a + S1x1x128.size a ≤ S100000x1x128.size a)
theorem k0_off1952_inb : ∀ (v10476 : BitVec 32) (k0_hw1213 : k0_chk1213 v10476), ∀ a, (k0_off1952 v10476) a + S1x1x128.size a ≤ S100000x1x128.size a := fun v10476 k0_hw1213 => k0_hw1213

def k0_off1953 (k0_t1 : Fin k0_t1_loop.trips) : Fin 2 → Nat :=
  let c0_6509 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c181_i32_6508 : BitVec 32 := 181#32
  let v10483 : BitVec 32 := Scalar.addi v8853 c181_i32_6508
  let v10484 : Index := Scalar.indexCast v10483
  ![0, v10484.toNat]
def k0_off1954 (v10485 : BitVec 32) : Fin 3 → Nat :=
  let v10486 : Index := Scalar.indexCast v10485
  let c0_6510 : Index := 0#32
  let c0_6511 : Index := 0#32
  ![v10486.toNat, 0, 0]

def k0_chk1214 (v10485 : BitVec 32) : Prop :=
  (∀ a, (k0_off1954 v10485) a + S1x1x128.size a ≤ S100000x1x128.size a)
theorem k0_off1954_inb : ∀ (v10485 : BitVec 32) (k0_hw1214 : k0_chk1214 v10485), ∀ a, (k0_off1954 v10485) a + S1x1x128.size a ≤ S100000x1x128.size a := fun v10485 k0_hw1214 => k0_hw1214

def k0_off1955 (k0_t1 : Fin k0_t1_loop.trips) : Fin 2 → Nat :=
  let c0_6515 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c182_i32_6514 : BitVec 32 := 182#32
  let v10492 : BitVec 32 := Scalar.addi v8853 c182_i32_6514
  let v10493 : Index := Scalar.indexCast v10492
  ![0, v10493.toNat]
def k0_off1956 (v10494 : BitVec 32) : Fin 3 → Nat :=
  let v10495 : Index := Scalar.indexCast v10494
  let c0_6516 : Index := 0#32
  let c0_6517 : Index := 0#32
  ![v10495.toNat, 0, 0]

def k0_chk1215 (v10494 : BitVec 32) : Prop :=
  (∀ a, (k0_off1956 v10494) a + S1x1x128.size a ≤ S100000x1x128.size a)
theorem k0_off1956_inb : ∀ (v10494 : BitVec 32) (k0_hw1215 : k0_chk1215 v10494), ∀ a, (k0_off1956 v10494) a + S1x1x128.size a ≤ S100000x1x128.size a := fun v10494 k0_hw1215 => k0_hw1215

def k0_off1957 (k0_t1 : Fin k0_t1_loop.trips) : Fin 2 → Nat :=
  let c0_6521 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c183_i32_6520 : BitVec 32 := 183#32
  let v10501 : BitVec 32 := Scalar.addi v8853 c183_i32_6520
  let v10502 : Index := Scalar.indexCast v10501
  ![0, v10502.toNat]
def k0_off1958 (v10503 : BitVec 32) : Fin 3 → Nat :=
  let v10504 : Index := Scalar.indexCast v10503
  let c0_6522 : Index := 0#32
  let c0_6523 : Index := 0#32
  ![v10504.toNat, 0, 0]

def k0_chk1216 (v10503 : BitVec 32) : Prop :=
  (∀ a, (k0_off1958 v10503) a + S1x1x128.size a ≤ S100000x1x128.size a)
theorem k0_off1958_inb : ∀ (v10503 : BitVec 32) (k0_hw1216 : k0_chk1216 v10503), ∀ a, (k0_off1958 v10503) a + S1x1x128.size a ≤ S100000x1x128.size a := fun v10503 k0_hw1216 => k0_hw1216

def k0_off1959 (k0_t1 : Fin k0_t1_loop.trips) : Fin 2 → Nat :=
  let c0_6527 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c184_i32_6526 : BitVec 32 := 184#32
  let v10510 : BitVec 32 := Scalar.addi v8853 c184_i32_6526
  let v10511 : Index := Scalar.indexCast v10510
  ![0, v10511.toNat]
def k0_off1960 (v10512 : BitVec 32) : Fin 3 → Nat :=
  let v10513 : Index := Scalar.indexCast v10512
  let c0_6528 : Index := 0#32
  let c0_6529 : Index := 0#32
  ![v10513.toNat, 0, 0]

def k0_chk1217 (v10512 : BitVec 32) : Prop :=
  (∀ a, (k0_off1960 v10512) a + S1x1x128.size a ≤ S100000x1x128.size a)
theorem k0_off1960_inb : ∀ (v10512 : BitVec 32) (k0_hw1217 : k0_chk1217 v10512), ∀ a, (k0_off1960 v10512) a + S1x1x128.size a ≤ S100000x1x128.size a := fun v10512 k0_hw1217 => k0_hw1217

def k0_off1961 (k0_t1 : Fin k0_t1_loop.trips) : Fin 2 → Nat :=
  let c0_6533 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c185_i32_6532 : BitVec 32 := 185#32
  let v10519 : BitVec 32 := Scalar.addi v8853 c185_i32_6532
  let v10520 : Index := Scalar.indexCast v10519
  ![0, v10520.toNat]
def k0_off1962 (v10521 : BitVec 32) : Fin 3 → Nat :=
  let v10522 : Index := Scalar.indexCast v10521
  let c0_6534 : Index := 0#32
  let c0_6535 : Index := 0#32
  ![v10522.toNat, 0, 0]

def k0_chk1218 (v10521 : BitVec 32) : Prop :=
  (∀ a, (k0_off1962 v10521) a + S1x1x128.size a ≤ S100000x1x128.size a)
theorem k0_off1962_inb : ∀ (v10521 : BitVec 32) (k0_hw1218 : k0_chk1218 v10521), ∀ a, (k0_off1962 v10521) a + S1x1x128.size a ≤ S100000x1x128.size a := fun v10521 k0_hw1218 => k0_hw1218

def k0_off1963 (k0_t1 : Fin k0_t1_loop.trips) : Fin 2 → Nat :=
  let c0_6539 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c186_i32_6538 : BitVec 32 := 186#32
  let v10528 : BitVec 32 := Scalar.addi v8853 c186_i32_6538
  let v10529 : Index := Scalar.indexCast v10528
  ![0, v10529.toNat]
def k0_off1964 (v10530 : BitVec 32) : Fin 3 → Nat :=
  let v10531 : Index := Scalar.indexCast v10530
  let c0_6540 : Index := 0#32
  let c0_6541 : Index := 0#32
  ![v10531.toNat, 0, 0]

def k0_chk1219 (v10530 : BitVec 32) : Prop :=
  (∀ a, (k0_off1964 v10530) a + S1x1x128.size a ≤ S100000x1x128.size a)
theorem k0_off1964_inb : ∀ (v10530 : BitVec 32) (k0_hw1219 : k0_chk1219 v10530), ∀ a, (k0_off1964 v10530) a + S1x1x128.size a ≤ S100000x1x128.size a := fun v10530 k0_hw1219 => k0_hw1219

def k0_off1965 (k0_t1 : Fin k0_t1_loop.trips) : Fin 2 → Nat :=
  let c0_6545 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c187_i32_6544 : BitVec 32 := 187#32
  let v10537 : BitVec 32 := Scalar.addi v8853 c187_i32_6544
  let v10538 : Index := Scalar.indexCast v10537
  ![0, v10538.toNat]
def k0_off1966 (v10539 : BitVec 32) : Fin 3 → Nat :=
  let v10540 : Index := Scalar.indexCast v10539
  let c0_6546 : Index := 0#32
  let c0_6547 : Index := 0#32
  ![v10540.toNat, 0, 0]

def k0_chk1220 (v10539 : BitVec 32) : Prop :=
  (∀ a, (k0_off1966 v10539) a + S1x1x128.size a ≤ S100000x1x128.size a)
theorem k0_off1966_inb : ∀ (v10539 : BitVec 32) (k0_hw1220 : k0_chk1220 v10539), ∀ a, (k0_off1966 v10539) a + S1x1x128.size a ≤ S100000x1x128.size a := fun v10539 k0_hw1220 => k0_hw1220

def k0_off1967 (k0_t1 : Fin k0_t1_loop.trips) : Fin 2 → Nat :=
  let c0_6551 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c188_i32_6550 : BitVec 32 := 188#32
  let v10546 : BitVec 32 := Scalar.addi v8853 c188_i32_6550
  let v10547 : Index := Scalar.indexCast v10546
  ![0, v10547.toNat]
def k0_off1968 (v10548 : BitVec 32) : Fin 3 → Nat :=
  let v10549 : Index := Scalar.indexCast v10548
  let c0_6552 : Index := 0#32
  let c0_6553 : Index := 0#32
  ![v10549.toNat, 0, 0]

def k0_chk1221 (v10548 : BitVec 32) : Prop :=
  (∀ a, (k0_off1968 v10548) a + S1x1x128.size a ≤ S100000x1x128.size a)
theorem k0_off1968_inb : ∀ (v10548 : BitVec 32) (k0_hw1221 : k0_chk1221 v10548), ∀ a, (k0_off1968 v10548) a + S1x1x128.size a ≤ S100000x1x128.size a := fun v10548 k0_hw1221 => k0_hw1221

def k0_off1969 (k0_t1 : Fin k0_t1_loop.trips) : Fin 2 → Nat :=
  let c0_6557 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c189_i32_6556 : BitVec 32 := 189#32
  let v10555 : BitVec 32 := Scalar.addi v8853 c189_i32_6556
  let v10556 : Index := Scalar.indexCast v10555
  ![0, v10556.toNat]
def k0_off1970 (v10557 : BitVec 32) : Fin 3 → Nat :=
  let v10558 : Index := Scalar.indexCast v10557
  let c0_6558 : Index := 0#32
  let c0_6559 : Index := 0#32
  ![v10558.toNat, 0, 0]

def k0_chk1222 (v10557 : BitVec 32) : Prop :=
  (∀ a, (k0_off1970 v10557) a + S1x1x128.size a ≤ S100000x1x128.size a)
theorem k0_off1970_inb : ∀ (v10557 : BitVec 32) (k0_hw1222 : k0_chk1222 v10557), ∀ a, (k0_off1970 v10557) a + S1x1x128.size a ≤ S100000x1x128.size a := fun v10557 k0_hw1222 => k0_hw1222

def k0_off1971 (k0_t1 : Fin k0_t1_loop.trips) : Fin 2 → Nat :=
  let c0_6563 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c190_i32_6562 : BitVec 32 := 190#32
  let v10564 : BitVec 32 := Scalar.addi v8853 c190_i32_6562
  let v10565 : Index := Scalar.indexCast v10564
  ![0, v10565.toNat]
def k0_off1972 (v10566 : BitVec 32) : Fin 3 → Nat :=
  let v10567 : Index := Scalar.indexCast v10566
  let c0_6564 : Index := 0#32
  let c0_6565 : Index := 0#32
  ![v10567.toNat, 0, 0]

def k0_chk1223 (v10566 : BitVec 32) : Prop :=
  (∀ a, (k0_off1972 v10566) a + S1x1x128.size a ≤ S100000x1x128.size a)
theorem k0_off1972_inb : ∀ (v10566 : BitVec 32) (k0_hw1223 : k0_chk1223 v10566), ∀ a, (k0_off1972 v10566) a + S1x1x128.size a ≤ S100000x1x128.size a := fun v10566 k0_hw1223 => k0_hw1223

def k0_off1973 (k0_t1 : Fin k0_t1_loop.trips) : Fin 2 → Nat :=
  let c0_6569 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c191_i32_6568 : BitVec 32 := 191#32
  let v10573 : BitVec 32 := Scalar.addi v8853 c191_i32_6568
  let v10574 : Index := Scalar.indexCast v10573
  ![0, v10574.toNat]
def k0_off1974 (v10575 : BitVec 32) : Fin 3 → Nat :=
  let v10576 : Index := Scalar.indexCast v10575
  let c0_6570 : Index := 0#32
  let c0_6571 : Index := 0#32
  ![v10576.toNat, 0, 0]

def k0_chk1224 (v10575 : BitVec 32) : Prop :=
  (∀ a, (k0_off1974 v10575) a + S1x1x128.size a ≤ S100000x1x128.size a)
theorem k0_off1974_inb : ∀ (v10575 : BitVec 32) (k0_hw1224 : k0_chk1224 v10575), ∀ a, (k0_off1974 v10575) a + S1x1x128.size a ≤ S100000x1x128.size a := fun v10575 k0_hw1224 => k0_hw1224

def k0_off1975 (k0_t1 : Fin k0_t1_loop.trips) : Fin 2 → Nat :=
  let c0_6575 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c192_i32_6574 : BitVec 32 := 192#32
  let v10582 : BitVec 32 := Scalar.addi v8853 c192_i32_6574
  let v10583 : Index := Scalar.indexCast v10582
  ![0, v10583.toNat]
def k0_off1976 (v10584 : BitVec 32) : Fin 3 → Nat :=
  let v10585 : Index := Scalar.indexCast v10584
  let c0_6576 : Index := 0#32
  let c0_6577 : Index := 0#32
  ![v10585.toNat, 0, 0]

def k0_chk1225 (v10584 : BitVec 32) : Prop :=
  (∀ a, (k0_off1976 v10584) a + S1x1x128.size a ≤ S100000x1x128.size a)
theorem k0_off1976_inb : ∀ (v10584 : BitVec 32) (k0_hw1225 : k0_chk1225 v10584), ∀ a, (k0_off1976 v10584) a + S1x1x128.size a ≤ S100000x1x128.size a := fun v10584 k0_hw1225 => k0_hw1225

def k0_off1977 (k0_t1 : Fin k0_t1_loop.trips) : Fin 2 → Nat :=
  let c0_6581 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c193_i32_6580 : BitVec 32 := 193#32
  let v10591 : BitVec 32 := Scalar.addi v8853 c193_i32_6580
  let v10592 : Index := Scalar.indexCast v10591
  ![0, v10592.toNat]
def k0_off1978 (v10593 : BitVec 32) : Fin 3 → Nat :=
  let v10594 : Index := Scalar.indexCast v10593
  let c0_6582 : Index := 0#32
  let c0_6583 : Index := 0#32
  ![v10594.toNat, 0, 0]

def k0_chk1226 (v10593 : BitVec 32) : Prop :=
  (∀ a, (k0_off1978 v10593) a + S1x1x128.size a ≤ S100000x1x128.size a)
theorem k0_off1978_inb : ∀ (v10593 : BitVec 32) (k0_hw1226 : k0_chk1226 v10593), ∀ a, (k0_off1978 v10593) a + S1x1x128.size a ≤ S100000x1x128.size a := fun v10593 k0_hw1226 => k0_hw1226

def k0_off1979 (k0_t1 : Fin k0_t1_loop.trips) : Fin 2 → Nat :=
  let c0_6587 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c194_i32_6586 : BitVec 32 := 194#32
  let v10600 : BitVec 32 := Scalar.addi v8853 c194_i32_6586
  let v10601 : Index := Scalar.indexCast v10600
  ![0, v10601.toNat]
def k0_off1980 (v10602 : BitVec 32) : Fin 3 → Nat :=
  let v10603 : Index := Scalar.indexCast v10602
  let c0_6588 : Index := 0#32
  let c0_6589 : Index := 0#32
  ![v10603.toNat, 0, 0]

def k0_chk1227 (v10602 : BitVec 32) : Prop :=
  (∀ a, (k0_off1980 v10602) a + S1x1x128.size a ≤ S100000x1x128.size a)
theorem k0_off1980_inb : ∀ (v10602 : BitVec 32) (k0_hw1227 : k0_chk1227 v10602), ∀ a, (k0_off1980 v10602) a + S1x1x128.size a ≤ S100000x1x128.size a := fun v10602 k0_hw1227 => k0_hw1227

def k0_off1981 (k0_t1 : Fin k0_t1_loop.trips) : Fin 2 → Nat :=
  let c0_6593 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c195_i32_6592 : BitVec 32 := 195#32
  let v10609 : BitVec 32 := Scalar.addi v8853 c195_i32_6592
  let v10610 : Index := Scalar.indexCast v10609
  ![0, v10610.toNat]
def k0_off1982 (v10611 : BitVec 32) : Fin 3 → Nat :=
  let v10612 : Index := Scalar.indexCast v10611
  let c0_6594 : Index := 0#32
  let c0_6595 : Index := 0#32
  ![v10612.toNat, 0, 0]

def k0_chk1228 (v10611 : BitVec 32) : Prop :=
  (∀ a, (k0_off1982 v10611) a + S1x1x128.size a ≤ S100000x1x128.size a)
theorem k0_off1982_inb : ∀ (v10611 : BitVec 32) (k0_hw1228 : k0_chk1228 v10611), ∀ a, (k0_off1982 v10611) a + S1x1x128.size a ≤ S100000x1x128.size a := fun v10611 k0_hw1228 => k0_hw1228

def k0_off1983 (k0_t1 : Fin k0_t1_loop.trips) : Fin 2 → Nat :=
  let c0_6599 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c196_i32_6598 : BitVec 32 := 196#32
  let v10618 : BitVec 32 := Scalar.addi v8853 c196_i32_6598
  let v10619 : Index := Scalar.indexCast v10618
  ![0, v10619.toNat]
def k0_off1984 (v10620 : BitVec 32) : Fin 3 → Nat :=
  let v10621 : Index := Scalar.indexCast v10620
  let c0_6600 : Index := 0#32
  let c0_6601 : Index := 0#32
  ![v10621.toNat, 0, 0]

def k0_chk1229 (v10620 : BitVec 32) : Prop :=
  (∀ a, (k0_off1984 v10620) a + S1x1x128.size a ≤ S100000x1x128.size a)
theorem k0_off1984_inb : ∀ (v10620 : BitVec 32) (k0_hw1229 : k0_chk1229 v10620), ∀ a, (k0_off1984 v10620) a + S1x1x128.size a ≤ S100000x1x128.size a := fun v10620 k0_hw1229 => k0_hw1229

def k0_off1985 (k0_t1 : Fin k0_t1_loop.trips) : Fin 2 → Nat :=
  let c0_6605 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c197_i32_6604 : BitVec 32 := 197#32
  let v10627 : BitVec 32 := Scalar.addi v8853 c197_i32_6604
  let v10628 : Index := Scalar.indexCast v10627
  ![0, v10628.toNat]
def k0_off1986 (v10629 : BitVec 32) : Fin 3 → Nat :=
  let v10630 : Index := Scalar.indexCast v10629
  let c0_6606 : Index := 0#32
  let c0_6607 : Index := 0#32
  ![v10630.toNat, 0, 0]

def k0_chk1230 (v10629 : BitVec 32) : Prop :=
  (∀ a, (k0_off1986 v10629) a + S1x1x128.size a ≤ S100000x1x128.size a)
theorem k0_off1986_inb : ∀ (v10629 : BitVec 32) (k0_hw1230 : k0_chk1230 v10629), ∀ a, (k0_off1986 v10629) a + S1x1x128.size a ≤ S100000x1x128.size a := fun v10629 k0_hw1230 => k0_hw1230

def k0_off1987 (k0_t1 : Fin k0_t1_loop.trips) : Fin 2 → Nat :=
  let c0_6611 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c198_i32_6610 : BitVec 32 := 198#32
  let v10636 : BitVec 32 := Scalar.addi v8853 c198_i32_6610
  let v10637 : Index := Scalar.indexCast v10636
  ![0, v10637.toNat]
def k0_off1988 (v10638 : BitVec 32) : Fin 3 → Nat :=
  let v10639 : Index := Scalar.indexCast v10638
  let c0_6612 : Index := 0#32
  let c0_6613 : Index := 0#32
  ![v10639.toNat, 0, 0]

def k0_chk1231 (v10638 : BitVec 32) : Prop :=
  (∀ a, (k0_off1988 v10638) a + S1x1x128.size a ≤ S100000x1x128.size a)
theorem k0_off1988_inb : ∀ (v10638 : BitVec 32) (k0_hw1231 : k0_chk1231 v10638), ∀ a, (k0_off1988 v10638) a + S1x1x128.size a ≤ S100000x1x128.size a := fun v10638 k0_hw1231 => k0_hw1231

def k0_off1989 (k0_t1 : Fin k0_t1_loop.trips) : Fin 2 → Nat :=
  let c0_6617 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c199_i32_6616 : BitVec 32 := 199#32
  let v10645 : BitVec 32 := Scalar.addi v8853 c199_i32_6616
  let v10646 : Index := Scalar.indexCast v10645
  ![0, v10646.toNat]
def k0_off1990 (v10647 : BitVec 32) : Fin 3 → Nat :=
  let v10648 : Index := Scalar.indexCast v10647
  let c0_6618 : Index := 0#32
  let c0_6619 : Index := 0#32
  ![v10648.toNat, 0, 0]

def k0_chk1232 (v10647 : BitVec 32) : Prop :=
  (∀ a, (k0_off1990 v10647) a + S1x1x128.size a ≤ S100000x1x128.size a)
theorem k0_off1990_inb : ∀ (v10647 : BitVec 32) (k0_hw1232 : k0_chk1232 v10647), ∀ a, (k0_off1990 v10647) a + S1x1x128.size a ≤ S100000x1x128.size a := fun v10647 k0_hw1232 => k0_hw1232

def k0_off1991 (k0_t1 : Fin k0_t1_loop.trips) : Fin 2 → Nat :=
  let c0_6623 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c200_i32_6622 : BitVec 32 := 200#32
  let v10654 : BitVec 32 := Scalar.addi v8853 c200_i32_6622
  let v10655 : Index := Scalar.indexCast v10654
  ![0, v10655.toNat]
def k0_off1992 (v10656 : BitVec 32) : Fin 3 → Nat :=
  let v10657 : Index := Scalar.indexCast v10656
  let c0_6624 : Index := 0#32
  let c0_6625 : Index := 0#32
  ![v10657.toNat, 0, 0]

def k0_chk1233 (v10656 : BitVec 32) : Prop :=
  (∀ a, (k0_off1992 v10656) a + S1x1x128.size a ≤ S100000x1x128.size a)
theorem k0_off1992_inb : ∀ (v10656 : BitVec 32) (k0_hw1233 : k0_chk1233 v10656), ∀ a, (k0_off1992 v10656) a + S1x1x128.size a ≤ S100000x1x128.size a := fun v10656 k0_hw1233 => k0_hw1233

def k0_off1993 (k0_t1 : Fin k0_t1_loop.trips) : Fin 2 → Nat :=
  let c0_6629 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c201_i32_6628 : BitVec 32 := 201#32
  let v10663 : BitVec 32 := Scalar.addi v8853 c201_i32_6628
  let v10664 : Index := Scalar.indexCast v10663
  ![0, v10664.toNat]
def k0_off1994 (v10665 : BitVec 32) : Fin 3 → Nat :=
  let v10666 : Index := Scalar.indexCast v10665
  let c0_6630 : Index := 0#32
  let c0_6631 : Index := 0#32
  ![v10666.toNat, 0, 0]

def k0_chk1234 (v10665 : BitVec 32) : Prop :=
  (∀ a, (k0_off1994 v10665) a + S1x1x128.size a ≤ S100000x1x128.size a)
theorem k0_off1994_inb : ∀ (v10665 : BitVec 32) (k0_hw1234 : k0_chk1234 v10665), ∀ a, (k0_off1994 v10665) a + S1x1x128.size a ≤ S100000x1x128.size a := fun v10665 k0_hw1234 => k0_hw1234

def k0_off1995 (k0_t1 : Fin k0_t1_loop.trips) : Fin 2 → Nat :=
  let c0_6635 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c202_i32_6634 : BitVec 32 := 202#32
  let v10672 : BitVec 32 := Scalar.addi v8853 c202_i32_6634
  let v10673 : Index := Scalar.indexCast v10672
  ![0, v10673.toNat]
def k0_off1996 (v10674 : BitVec 32) : Fin 3 → Nat :=
  let v10675 : Index := Scalar.indexCast v10674
  let c0_6636 : Index := 0#32
  let c0_6637 : Index := 0#32
  ![v10675.toNat, 0, 0]

def k0_chk1235 (v10674 : BitVec 32) : Prop :=
  (∀ a, (k0_off1996 v10674) a + S1x1x128.size a ≤ S100000x1x128.size a)
theorem k0_off1996_inb : ∀ (v10674 : BitVec 32) (k0_hw1235 : k0_chk1235 v10674), ∀ a, (k0_off1996 v10674) a + S1x1x128.size a ≤ S100000x1x128.size a := fun v10674 k0_hw1235 => k0_hw1235

def k0_off1997 (k0_t1 : Fin k0_t1_loop.trips) : Fin 2 → Nat :=
  let c0_6641 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c203_i32_6640 : BitVec 32 := 203#32
  let v10681 : BitVec 32 := Scalar.addi v8853 c203_i32_6640
  let v10682 : Index := Scalar.indexCast v10681
  ![0, v10682.toNat]
def k0_off1998 (v10683 : BitVec 32) : Fin 3 → Nat :=
  let v10684 : Index := Scalar.indexCast v10683
  let c0_6642 : Index := 0#32
  let c0_6643 : Index := 0#32
  ![v10684.toNat, 0, 0]

def k0_chk1236 (v10683 : BitVec 32) : Prop :=
  (∀ a, (k0_off1998 v10683) a + S1x1x128.size a ≤ S100000x1x128.size a)
theorem k0_off1998_inb : ∀ (v10683 : BitVec 32) (k0_hw1236 : k0_chk1236 v10683), ∀ a, (k0_off1998 v10683) a + S1x1x128.size a ≤ S100000x1x128.size a := fun v10683 k0_hw1236 => k0_hw1236

def k0_off1999 (k0_t1 : Fin k0_t1_loop.trips) : Fin 2 → Nat :=
  let c0_6647 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c204_i32_6646 : BitVec 32 := 204#32
  let v10690 : BitVec 32 := Scalar.addi v8853 c204_i32_6646
  let v10691 : Index := Scalar.indexCast v10690
  ![0, v10691.toNat]
def k0_off2000 (v10692 : BitVec 32) : Fin 3 → Nat :=
  let v10693 : Index := Scalar.indexCast v10692
  let c0_6648 : Index := 0#32
  let c0_6649 : Index := 0#32
  ![v10693.toNat, 0, 0]

def k0_chk1237 (v10692 : BitVec 32) : Prop :=
  (∀ a, (k0_off2000 v10692) a + S1x1x128.size a ≤ S100000x1x128.size a)
theorem k0_off2000_inb : ∀ (v10692 : BitVec 32) (k0_hw1237 : k0_chk1237 v10692), ∀ a, (k0_off2000 v10692) a + S1x1x128.size a ≤ S100000x1x128.size a := fun v10692 k0_hw1237 => k0_hw1237

def k0_off2001 (k0_t1 : Fin k0_t1_loop.trips) : Fin 2 → Nat :=
  let c0_6653 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c205_i32_6652 : BitVec 32 := 205#32
  let v10699 : BitVec 32 := Scalar.addi v8853 c205_i32_6652
  let v10700 : Index := Scalar.indexCast v10699
  ![0, v10700.toNat]
def k0_off2002 (v10701 : BitVec 32) : Fin 3 → Nat :=
  let v10702 : Index := Scalar.indexCast v10701
  let c0_6654 : Index := 0#32
  let c0_6655 : Index := 0#32
  ![v10702.toNat, 0, 0]

def k0_chk1238 (v10701 : BitVec 32) : Prop :=
  (∀ a, (k0_off2002 v10701) a + S1x1x128.size a ≤ S100000x1x128.size a)
theorem k0_off2002_inb : ∀ (v10701 : BitVec 32) (k0_hw1238 : k0_chk1238 v10701), ∀ a, (k0_off2002 v10701) a + S1x1x128.size a ≤ S100000x1x128.size a := fun v10701 k0_hw1238 => k0_hw1238

def k0_off2003 (k0_t1 : Fin k0_t1_loop.trips) : Fin 2 → Nat :=
  let c0_6659 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c206_i32_6658 : BitVec 32 := 206#32
  let v10708 : BitVec 32 := Scalar.addi v8853 c206_i32_6658
  let v10709 : Index := Scalar.indexCast v10708
  ![0, v10709.toNat]
def k0_off2004 (v10710 : BitVec 32) : Fin 3 → Nat :=
  let v10711 : Index := Scalar.indexCast v10710
  let c0_6660 : Index := 0#32
  let c0_6661 : Index := 0#32
  ![v10711.toNat, 0, 0]

def k0_chk1239 (v10710 : BitVec 32) : Prop :=
  (∀ a, (k0_off2004 v10710) a + S1x1x128.size a ≤ S100000x1x128.size a)
theorem k0_off2004_inb : ∀ (v10710 : BitVec 32) (k0_hw1239 : k0_chk1239 v10710), ∀ a, (k0_off2004 v10710) a + S1x1x128.size a ≤ S100000x1x128.size a := fun v10710 k0_hw1239 => k0_hw1239

def k0_off2005 (k0_t1 : Fin k0_t1_loop.trips) : Fin 2 → Nat :=
  let c0_6665 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c207_i32_6664 : BitVec 32 := 207#32
  let v10717 : BitVec 32 := Scalar.addi v8853 c207_i32_6664
  let v10718 : Index := Scalar.indexCast v10717
  ![0, v10718.toNat]
def k0_off2006 (v10719 : BitVec 32) : Fin 3 → Nat :=
  let v10720 : Index := Scalar.indexCast v10719
  let c0_6666 : Index := 0#32
  let c0_6667 : Index := 0#32
  ![v10720.toNat, 0, 0]

def k0_chk1240 (v10719 : BitVec 32) : Prop :=
  (∀ a, (k0_off2006 v10719) a + S1x1x128.size a ≤ S100000x1x128.size a)
theorem k0_off2006_inb : ∀ (v10719 : BitVec 32) (k0_hw1240 : k0_chk1240 v10719), ∀ a, (k0_off2006 v10719) a + S1x1x128.size a ≤ S100000x1x128.size a := fun v10719 k0_hw1240 => k0_hw1240

def k0_off2007 (k0_t1 : Fin k0_t1_loop.trips) : Fin 2 → Nat :=
  let c0_6671 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c208_i32_6670 : BitVec 32 := 208#32
  let v10726 : BitVec 32 := Scalar.addi v8853 c208_i32_6670
  let v10727 : Index := Scalar.indexCast v10726
  ![0, v10727.toNat]
def k0_off2008 (v10728 : BitVec 32) : Fin 3 → Nat :=
  let v10729 : Index := Scalar.indexCast v10728
  let c0_6672 : Index := 0#32
  let c0_6673 : Index := 0#32
  ![v10729.toNat, 0, 0]

def k0_chk1241 (v10728 : BitVec 32) : Prop :=
  (∀ a, (k0_off2008 v10728) a + S1x1x128.size a ≤ S100000x1x128.size a)
theorem k0_off2008_inb : ∀ (v10728 : BitVec 32) (k0_hw1241 : k0_chk1241 v10728), ∀ a, (k0_off2008 v10728) a + S1x1x128.size a ≤ S100000x1x128.size a := fun v10728 k0_hw1241 => k0_hw1241

def k0_off2009 (k0_t1 : Fin k0_t1_loop.trips) : Fin 2 → Nat :=
  let c0_6677 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c209_i32_6676 : BitVec 32 := 209#32
  let v10735 : BitVec 32 := Scalar.addi v8853 c209_i32_6676
  let v10736 : Index := Scalar.indexCast v10735
  ![0, v10736.toNat]
def k0_off2010 (v10737 : BitVec 32) : Fin 3 → Nat :=
  let v10738 : Index := Scalar.indexCast v10737
  let c0_6678 : Index := 0#32
  let c0_6679 : Index := 0#32
  ![v10738.toNat, 0, 0]

def k0_chk1242 (v10737 : BitVec 32) : Prop :=
  (∀ a, (k0_off2010 v10737) a + S1x1x128.size a ≤ S100000x1x128.size a)
theorem k0_off2010_inb : ∀ (v10737 : BitVec 32) (k0_hw1242 : k0_chk1242 v10737), ∀ a, (k0_off2010 v10737) a + S1x1x128.size a ≤ S100000x1x128.size a := fun v10737 k0_hw1242 => k0_hw1242

def k0_off2011 (k0_t1 : Fin k0_t1_loop.trips) : Fin 2 → Nat :=
  let c0_6683 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c210_i32_6682 : BitVec 32 := 210#32
  let v10744 : BitVec 32 := Scalar.addi v8853 c210_i32_6682
  let v10745 : Index := Scalar.indexCast v10744
  ![0, v10745.toNat]
def k0_off2012 (v10746 : BitVec 32) : Fin 3 → Nat :=
  let v10747 : Index := Scalar.indexCast v10746
  let c0_6684 : Index := 0#32
  let c0_6685 : Index := 0#32
  ![v10747.toNat, 0, 0]

def k0_chk1243 (v10746 : BitVec 32) : Prop :=
  (∀ a, (k0_off2012 v10746) a + S1x1x128.size a ≤ S100000x1x128.size a)
theorem k0_off2012_inb : ∀ (v10746 : BitVec 32) (k0_hw1243 : k0_chk1243 v10746), ∀ a, (k0_off2012 v10746) a + S1x1x128.size a ≤ S100000x1x128.size a := fun v10746 k0_hw1243 => k0_hw1243

def k0_off2013 (k0_t1 : Fin k0_t1_loop.trips) : Fin 2 → Nat :=
  let c0_6689 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c211_i32_6688 : BitVec 32 := 211#32
  let v10753 : BitVec 32 := Scalar.addi v8853 c211_i32_6688
  let v10754 : Index := Scalar.indexCast v10753
  ![0, v10754.toNat]
def k0_off2014 (v10755 : BitVec 32) : Fin 3 → Nat :=
  let v10756 : Index := Scalar.indexCast v10755
  let c0_6690 : Index := 0#32
  let c0_6691 : Index := 0#32
  ![v10756.toNat, 0, 0]

def k0_chk1244 (v10755 : BitVec 32) : Prop :=
  (∀ a, (k0_off2014 v10755) a + S1x1x128.size a ≤ S100000x1x128.size a)
theorem k0_off2014_inb : ∀ (v10755 : BitVec 32) (k0_hw1244 : k0_chk1244 v10755), ∀ a, (k0_off2014 v10755) a + S1x1x128.size a ≤ S100000x1x128.size a := fun v10755 k0_hw1244 => k0_hw1244

def k0_off2015 (k0_t1 : Fin k0_t1_loop.trips) : Fin 2 → Nat :=
  let c0_6695 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c212_i32_6694 : BitVec 32 := 212#32
  let v10762 : BitVec 32 := Scalar.addi v8853 c212_i32_6694
  let v10763 : Index := Scalar.indexCast v10762
  ![0, v10763.toNat]
def k0_off2016 (v10764 : BitVec 32) : Fin 3 → Nat :=
  let v10765 : Index := Scalar.indexCast v10764
  let c0_6696 : Index := 0#32
  let c0_6697 : Index := 0#32
  ![v10765.toNat, 0, 0]

def k0_chk1245 (v10764 : BitVec 32) : Prop :=
  (∀ a, (k0_off2016 v10764) a + S1x1x128.size a ≤ S100000x1x128.size a)
theorem k0_off2016_inb : ∀ (v10764 : BitVec 32) (k0_hw1245 : k0_chk1245 v10764), ∀ a, (k0_off2016 v10764) a + S1x1x128.size a ≤ S100000x1x128.size a := fun v10764 k0_hw1245 => k0_hw1245

def k0_off2017 (k0_t1 : Fin k0_t1_loop.trips) : Fin 2 → Nat :=
  let c0_6701 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c213_i32_6700 : BitVec 32 := 213#32
  let v10771 : BitVec 32 := Scalar.addi v8853 c213_i32_6700
  let v10772 : Index := Scalar.indexCast v10771
  ![0, v10772.toNat]
def k0_off2018 (v10773 : BitVec 32) : Fin 3 → Nat :=
  let v10774 : Index := Scalar.indexCast v10773
  let c0_6702 : Index := 0#32
  let c0_6703 : Index := 0#32
  ![v10774.toNat, 0, 0]

def k0_chk1246 (v10773 : BitVec 32) : Prop :=
  (∀ a, (k0_off2018 v10773) a + S1x1x128.size a ≤ S100000x1x128.size a)
theorem k0_off2018_inb : ∀ (v10773 : BitVec 32) (k0_hw1246 : k0_chk1246 v10773), ∀ a, (k0_off2018 v10773) a + S1x1x128.size a ≤ S100000x1x128.size a := fun v10773 k0_hw1246 => k0_hw1246

def k0_off2019 (k0_t1 : Fin k0_t1_loop.trips) : Fin 2 → Nat :=
  let c0_6707 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c214_i32_6706 : BitVec 32 := 214#32
  let v10780 : BitVec 32 := Scalar.addi v8853 c214_i32_6706
  let v10781 : Index := Scalar.indexCast v10780
  ![0, v10781.toNat]
def k0_off2020 (v10782 : BitVec 32) : Fin 3 → Nat :=
  let v10783 : Index := Scalar.indexCast v10782
  let c0_6708 : Index := 0#32
  let c0_6709 : Index := 0#32
  ![v10783.toNat, 0, 0]

def k0_chk1247 (v10782 : BitVec 32) : Prop :=
  (∀ a, (k0_off2020 v10782) a + S1x1x128.size a ≤ S100000x1x128.size a)
theorem k0_off2020_inb : ∀ (v10782 : BitVec 32) (k0_hw1247 : k0_chk1247 v10782), ∀ a, (k0_off2020 v10782) a + S1x1x128.size a ≤ S100000x1x128.size a := fun v10782 k0_hw1247 => k0_hw1247

def k0_off2021 (k0_t1 : Fin k0_t1_loop.trips) : Fin 2 → Nat :=
  let c0_6713 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c215_i32_6712 : BitVec 32 := 215#32
  let v10789 : BitVec 32 := Scalar.addi v8853 c215_i32_6712
  let v10790 : Index := Scalar.indexCast v10789
  ![0, v10790.toNat]
def k0_off2022 (v10791 : BitVec 32) : Fin 3 → Nat :=
  let v10792 : Index := Scalar.indexCast v10791
  let c0_6714 : Index := 0#32
  let c0_6715 : Index := 0#32
  ![v10792.toNat, 0, 0]

def k0_chk1248 (v10791 : BitVec 32) : Prop :=
  (∀ a, (k0_off2022 v10791) a + S1x1x128.size a ≤ S100000x1x128.size a)
theorem k0_off2022_inb : ∀ (v10791 : BitVec 32) (k0_hw1248 : k0_chk1248 v10791), ∀ a, (k0_off2022 v10791) a + S1x1x128.size a ≤ S100000x1x128.size a := fun v10791 k0_hw1248 => k0_hw1248

def k0_off2023 (k0_t1 : Fin k0_t1_loop.trips) : Fin 2 → Nat :=
  let c0_6719 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c216_i32_6718 : BitVec 32 := 216#32
  let v10798 : BitVec 32 := Scalar.addi v8853 c216_i32_6718
  let v10799 : Index := Scalar.indexCast v10798
  ![0, v10799.toNat]
def k0_off2024 (v10800 : BitVec 32) : Fin 3 → Nat :=
  let v10801 : Index := Scalar.indexCast v10800
  let c0_6720 : Index := 0#32
  let c0_6721 : Index := 0#32
  ![v10801.toNat, 0, 0]

def k0_chk1249 (v10800 : BitVec 32) : Prop :=
  (∀ a, (k0_off2024 v10800) a + S1x1x128.size a ≤ S100000x1x128.size a)
theorem k0_off2024_inb : ∀ (v10800 : BitVec 32) (k0_hw1249 : k0_chk1249 v10800), ∀ a, (k0_off2024 v10800) a + S1x1x128.size a ≤ S100000x1x128.size a := fun v10800 k0_hw1249 => k0_hw1249

def k0_off2025 (k0_t1 : Fin k0_t1_loop.trips) : Fin 2 → Nat :=
  let c0_6725 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c217_i32_6724 : BitVec 32 := 217#32
  let v10807 : BitVec 32 := Scalar.addi v8853 c217_i32_6724
  let v10808 : Index := Scalar.indexCast v10807
  ![0, v10808.toNat]
def k0_off2026 (v10809 : BitVec 32) : Fin 3 → Nat :=
  let v10810 : Index := Scalar.indexCast v10809
  let c0_6726 : Index := 0#32
  let c0_6727 : Index := 0#32
  ![v10810.toNat, 0, 0]

def k0_chk1250 (v10809 : BitVec 32) : Prop :=
  (∀ a, (k0_off2026 v10809) a + S1x1x128.size a ≤ S100000x1x128.size a)
theorem k0_off2026_inb : ∀ (v10809 : BitVec 32) (k0_hw1250 : k0_chk1250 v10809), ∀ a, (k0_off2026 v10809) a + S1x1x128.size a ≤ S100000x1x128.size a := fun v10809 k0_hw1250 => k0_hw1250

def k0_off2027 (k0_t1 : Fin k0_t1_loop.trips) : Fin 2 → Nat :=
  let c0_6731 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c218_i32_6730 : BitVec 32 := 218#32
  let v10816 : BitVec 32 := Scalar.addi v8853 c218_i32_6730
  let v10817 : Index := Scalar.indexCast v10816
  ![0, v10817.toNat]
def k0_off2028 (v10818 : BitVec 32) : Fin 3 → Nat :=
  let v10819 : Index := Scalar.indexCast v10818
  let c0_6732 : Index := 0#32
  let c0_6733 : Index := 0#32
  ![v10819.toNat, 0, 0]

def k0_chk1251 (v10818 : BitVec 32) : Prop :=
  (∀ a, (k0_off2028 v10818) a + S1x1x128.size a ≤ S100000x1x128.size a)
theorem k0_off2028_inb : ∀ (v10818 : BitVec 32) (k0_hw1251 : k0_chk1251 v10818), ∀ a, (k0_off2028 v10818) a + S1x1x128.size a ≤ S100000x1x128.size a := fun v10818 k0_hw1251 => k0_hw1251

def k0_off2029 (k0_t1 : Fin k0_t1_loop.trips) : Fin 2 → Nat :=
  let c0_6737 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c219_i32_6736 : BitVec 32 := 219#32
  let v10825 : BitVec 32 := Scalar.addi v8853 c219_i32_6736
  let v10826 : Index := Scalar.indexCast v10825
  ![0, v10826.toNat]
def k0_off2030 (v10827 : BitVec 32) : Fin 3 → Nat :=
  let v10828 : Index := Scalar.indexCast v10827
  let c0_6738 : Index := 0#32
  let c0_6739 : Index := 0#32
  ![v10828.toNat, 0, 0]

def k0_chk1252 (v10827 : BitVec 32) : Prop :=
  (∀ a, (k0_off2030 v10827) a + S1x1x128.size a ≤ S100000x1x128.size a)
theorem k0_off2030_inb : ∀ (v10827 : BitVec 32) (k0_hw1252 : k0_chk1252 v10827), ∀ a, (k0_off2030 v10827) a + S1x1x128.size a ≤ S100000x1x128.size a := fun v10827 k0_hw1252 => k0_hw1252

def k0_off2031 (k0_t1 : Fin k0_t1_loop.trips) : Fin 2 → Nat :=
  let c0_6743 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c220_i32_6742 : BitVec 32 := 220#32
  let v10834 : BitVec 32 := Scalar.addi v8853 c220_i32_6742
  let v10835 : Index := Scalar.indexCast v10834
  ![0, v10835.toNat]
def k0_off2032 (v10836 : BitVec 32) : Fin 3 → Nat :=
  let v10837 : Index := Scalar.indexCast v10836
  let c0_6744 : Index := 0#32
  let c0_6745 : Index := 0#32
  ![v10837.toNat, 0, 0]

def k0_chk1253 (v10836 : BitVec 32) : Prop :=
  (∀ a, (k0_off2032 v10836) a + S1x1x128.size a ≤ S100000x1x128.size a)
theorem k0_off2032_inb : ∀ (v10836 : BitVec 32) (k0_hw1253 : k0_chk1253 v10836), ∀ a, (k0_off2032 v10836) a + S1x1x128.size a ≤ S100000x1x128.size a := fun v10836 k0_hw1253 => k0_hw1253

def k0_off2033 (k0_t1 : Fin k0_t1_loop.trips) : Fin 2 → Nat :=
  let c0_6749 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c221_i32_6748 : BitVec 32 := 221#32
  let v10843 : BitVec 32 := Scalar.addi v8853 c221_i32_6748
  let v10844 : Index := Scalar.indexCast v10843
  ![0, v10844.toNat]
def k0_off2034 (v10845 : BitVec 32) : Fin 3 → Nat :=
  let v10846 : Index := Scalar.indexCast v10845
  let c0_6750 : Index := 0#32
  let c0_6751 : Index := 0#32
  ![v10846.toNat, 0, 0]

def k0_chk1254 (v10845 : BitVec 32) : Prop :=
  (∀ a, (k0_off2034 v10845) a + S1x1x128.size a ≤ S100000x1x128.size a)
theorem k0_off2034_inb : ∀ (v10845 : BitVec 32) (k0_hw1254 : k0_chk1254 v10845), ∀ a, (k0_off2034 v10845) a + S1x1x128.size a ≤ S100000x1x128.size a := fun v10845 k0_hw1254 => k0_hw1254

def k0_off2035 (k0_t1 : Fin k0_t1_loop.trips) : Fin 2 → Nat :=
  let c0_6755 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c222_i32_6754 : BitVec 32 := 222#32
  let v10852 : BitVec 32 := Scalar.addi v8853 c222_i32_6754
  let v10853 : Index := Scalar.indexCast v10852
  ![0, v10853.toNat]
def k0_off2036 (v10854 : BitVec 32) : Fin 3 → Nat :=
  let v10855 : Index := Scalar.indexCast v10854
  let c0_6756 : Index := 0#32
  let c0_6757 : Index := 0#32
  ![v10855.toNat, 0, 0]

def k0_chk1255 (v10854 : BitVec 32) : Prop :=
  (∀ a, (k0_off2036 v10854) a + S1x1x128.size a ≤ S100000x1x128.size a)
theorem k0_off2036_inb : ∀ (v10854 : BitVec 32) (k0_hw1255 : k0_chk1255 v10854), ∀ a, (k0_off2036 v10854) a + S1x1x128.size a ≤ S100000x1x128.size a := fun v10854 k0_hw1255 => k0_hw1255

def k0_off2037 (k0_t1 : Fin k0_t1_loop.trips) : Fin 2 → Nat :=
  let c0_6761 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c223_i32_6760 : BitVec 32 := 223#32
  let v10861 : BitVec 32 := Scalar.addi v8853 c223_i32_6760
  let v10862 : Index := Scalar.indexCast v10861
  ![0, v10862.toNat]
def k0_off2038 (v10863 : BitVec 32) : Fin 3 → Nat :=
  let v10864 : Index := Scalar.indexCast v10863
  let c0_6762 : Index := 0#32
  let c0_6763 : Index := 0#32
  ![v10864.toNat, 0, 0]

def k0_chk1256 (v10863 : BitVec 32) : Prop :=
  (∀ a, (k0_off2038 v10863) a + S1x1x128.size a ≤ S100000x1x128.size a)
theorem k0_off2038_inb : ∀ (v10863 : BitVec 32) (k0_hw1256 : k0_chk1256 v10863), ∀ a, (k0_off2038 v10863) a + S1x1x128.size a ≤ S100000x1x128.size a := fun v10863 k0_hw1256 => k0_hw1256

def k0_off2039 (k0_t1 : Fin k0_t1_loop.trips) : Fin 2 → Nat :=
  let c0_6767 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c224_i32_6766 : BitVec 32 := 224#32
  let v10870 : BitVec 32 := Scalar.addi v8853 c224_i32_6766
  let v10871 : Index := Scalar.indexCast v10870
  ![0, v10871.toNat]
def k0_off2040 (v10872 : BitVec 32) : Fin 3 → Nat :=
  let v10873 : Index := Scalar.indexCast v10872
  let c0_6768 : Index := 0#32
  let c0_6769 : Index := 0#32
  ![v10873.toNat, 0, 0]

def k0_chk1257 (v10872 : BitVec 32) : Prop :=
  (∀ a, (k0_off2040 v10872) a + S1x1x128.size a ≤ S100000x1x128.size a)
theorem k0_off2040_inb : ∀ (v10872 : BitVec 32) (k0_hw1257 : k0_chk1257 v10872), ∀ a, (k0_off2040 v10872) a + S1x1x128.size a ≤ S100000x1x128.size a := fun v10872 k0_hw1257 => k0_hw1257

def k0_off2041 (k0_t1 : Fin k0_t1_loop.trips) : Fin 2 → Nat :=
  let c0_6773 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c225_i32_6772 : BitVec 32 := 225#32
  let v10879 : BitVec 32 := Scalar.addi v8853 c225_i32_6772
  let v10880 : Index := Scalar.indexCast v10879
  ![0, v10880.toNat]
def k0_off2042 (v10881 : BitVec 32) : Fin 3 → Nat :=
  let v10882 : Index := Scalar.indexCast v10881
  let c0_6774 : Index := 0#32
  let c0_6775 : Index := 0#32
  ![v10882.toNat, 0, 0]

def k0_chk1258 (v10881 : BitVec 32) : Prop :=
  (∀ a, (k0_off2042 v10881) a + S1x1x128.size a ≤ S100000x1x128.size a)
theorem k0_off2042_inb : ∀ (v10881 : BitVec 32) (k0_hw1258 : k0_chk1258 v10881), ∀ a, (k0_off2042 v10881) a + S1x1x128.size a ≤ S100000x1x128.size a := fun v10881 k0_hw1258 => k0_hw1258

def k0_off2043 (k0_t1 : Fin k0_t1_loop.trips) : Fin 2 → Nat :=
  let c0_6779 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c226_i32_6778 : BitVec 32 := 226#32
  let v10888 : BitVec 32 := Scalar.addi v8853 c226_i32_6778
  let v10889 : Index := Scalar.indexCast v10888
  ![0, v10889.toNat]
def k0_off2044 (v10890 : BitVec 32) : Fin 3 → Nat :=
  let v10891 : Index := Scalar.indexCast v10890
  let c0_6780 : Index := 0#32
  let c0_6781 : Index := 0#32
  ![v10891.toNat, 0, 0]

def k0_chk1259 (v10890 : BitVec 32) : Prop :=
  (∀ a, (k0_off2044 v10890) a + S1x1x128.size a ≤ S100000x1x128.size a)
theorem k0_off2044_inb : ∀ (v10890 : BitVec 32) (k0_hw1259 : k0_chk1259 v10890), ∀ a, (k0_off2044 v10890) a + S1x1x128.size a ≤ S100000x1x128.size a := fun v10890 k0_hw1259 => k0_hw1259

def k0_off2045 (k0_t1 : Fin k0_t1_loop.trips) : Fin 2 → Nat :=
  let c0_6785 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c227_i32_6784 : BitVec 32 := 227#32
  let v10897 : BitVec 32 := Scalar.addi v8853 c227_i32_6784
  let v10898 : Index := Scalar.indexCast v10897
  ![0, v10898.toNat]
def k0_off2046 (v10899 : BitVec 32) : Fin 3 → Nat :=
  let v10900 : Index := Scalar.indexCast v10899
  let c0_6786 : Index := 0#32
  let c0_6787 : Index := 0#32
  ![v10900.toNat, 0, 0]

def k0_chk1260 (v10899 : BitVec 32) : Prop :=
  (∀ a, (k0_off2046 v10899) a + S1x1x128.size a ≤ S100000x1x128.size a)
theorem k0_off2046_inb : ∀ (v10899 : BitVec 32) (k0_hw1260 : k0_chk1260 v10899), ∀ a, (k0_off2046 v10899) a + S1x1x128.size a ≤ S100000x1x128.size a := fun v10899 k0_hw1260 => k0_hw1260

def k0_off2047 (k0_t1 : Fin k0_t1_loop.trips) : Fin 2 → Nat :=
  let c0_6791 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c228_i32_6790 : BitVec 32 := 228#32
  let v10906 : BitVec 32 := Scalar.addi v8853 c228_i32_6790
  let v10907 : Index := Scalar.indexCast v10906
  ![0, v10907.toNat]
def k0_off2048 (v10908 : BitVec 32) : Fin 3 → Nat :=
  let v10909 : Index := Scalar.indexCast v10908
  let c0_6792 : Index := 0#32
  let c0_6793 : Index := 0#32
  ![v10909.toNat, 0, 0]

def k0_chk1261 (v10908 : BitVec 32) : Prop :=
  (∀ a, (k0_off2048 v10908) a + S1x1x128.size a ≤ S100000x1x128.size a)
theorem k0_off2048_inb : ∀ (v10908 : BitVec 32) (k0_hw1261 : k0_chk1261 v10908), ∀ a, (k0_off2048 v10908) a + S1x1x128.size a ≤ S100000x1x128.size a := fun v10908 k0_hw1261 => k0_hw1261

def k0_off2049 (k0_t1 : Fin k0_t1_loop.trips) : Fin 2 → Nat :=
  let c0_6797 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c229_i32_6796 : BitVec 32 := 229#32
  let v10915 : BitVec 32 := Scalar.addi v8853 c229_i32_6796
  let v10916 : Index := Scalar.indexCast v10915
  ![0, v10916.toNat]
def k0_off2050 (v10917 : BitVec 32) : Fin 3 → Nat :=
  let v10918 : Index := Scalar.indexCast v10917
  let c0_6798 : Index := 0#32
  let c0_6799 : Index := 0#32
  ![v10918.toNat, 0, 0]

def k0_chk1262 (v10917 : BitVec 32) : Prop :=
  (∀ a, (k0_off2050 v10917) a + S1x1x128.size a ≤ S100000x1x128.size a)
theorem k0_off2050_inb : ∀ (v10917 : BitVec 32) (k0_hw1262 : k0_chk1262 v10917), ∀ a, (k0_off2050 v10917) a + S1x1x128.size a ≤ S100000x1x128.size a := fun v10917 k0_hw1262 => k0_hw1262

def k0_off2051 (k0_t1 : Fin k0_t1_loop.trips) : Fin 2 → Nat :=
  let c0_6803 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c230_i32_6802 : BitVec 32 := 230#32
  let v10924 : BitVec 32 := Scalar.addi v8853 c230_i32_6802
  let v10925 : Index := Scalar.indexCast v10924
  ![0, v10925.toNat]
def k0_off2052 (v10926 : BitVec 32) : Fin 3 → Nat :=
  let v10927 : Index := Scalar.indexCast v10926
  let c0_6804 : Index := 0#32
  let c0_6805 : Index := 0#32
  ![v10927.toNat, 0, 0]

def k0_chk1263 (v10926 : BitVec 32) : Prop :=
  (∀ a, (k0_off2052 v10926) a + S1x1x128.size a ≤ S100000x1x128.size a)
theorem k0_off2052_inb : ∀ (v10926 : BitVec 32) (k0_hw1263 : k0_chk1263 v10926), ∀ a, (k0_off2052 v10926) a + S1x1x128.size a ≤ S100000x1x128.size a := fun v10926 k0_hw1263 => k0_hw1263

def k0_off2053 (k0_t1 : Fin k0_t1_loop.trips) : Fin 2 → Nat :=
  let c0_6809 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c231_i32_6808 : BitVec 32 := 231#32
  let v10933 : BitVec 32 := Scalar.addi v8853 c231_i32_6808
  let v10934 : Index := Scalar.indexCast v10933
  ![0, v10934.toNat]
def k0_off2054 (v10935 : BitVec 32) : Fin 3 → Nat :=
  let v10936 : Index := Scalar.indexCast v10935
  let c0_6810 : Index := 0#32
  let c0_6811 : Index := 0#32
  ![v10936.toNat, 0, 0]

def k0_chk1264 (v10935 : BitVec 32) : Prop :=
  (∀ a, (k0_off2054 v10935) a + S1x1x128.size a ≤ S100000x1x128.size a)
theorem k0_off2054_inb : ∀ (v10935 : BitVec 32) (k0_hw1264 : k0_chk1264 v10935), ∀ a, (k0_off2054 v10935) a + S1x1x128.size a ≤ S100000x1x128.size a := fun v10935 k0_hw1264 => k0_hw1264

def k0_off2055 (k0_t1 : Fin k0_t1_loop.trips) : Fin 2 → Nat :=
  let c0_6815 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c232_i32_6814 : BitVec 32 := 232#32
  let v10942 : BitVec 32 := Scalar.addi v8853 c232_i32_6814
  let v10943 : Index := Scalar.indexCast v10942
  ![0, v10943.toNat]
def k0_off2056 (v10944 : BitVec 32) : Fin 3 → Nat :=
  let v10945 : Index := Scalar.indexCast v10944
  let c0_6816 : Index := 0#32
  let c0_6817 : Index := 0#32
  ![v10945.toNat, 0, 0]

def k0_chk1265 (v10944 : BitVec 32) : Prop :=
  (∀ a, (k0_off2056 v10944) a + S1x1x128.size a ≤ S100000x1x128.size a)
theorem k0_off2056_inb : ∀ (v10944 : BitVec 32) (k0_hw1265 : k0_chk1265 v10944), ∀ a, (k0_off2056 v10944) a + S1x1x128.size a ≤ S100000x1x128.size a := fun v10944 k0_hw1265 => k0_hw1265

def k0_off2057 (k0_t1 : Fin k0_t1_loop.trips) : Fin 2 → Nat :=
  let c0_6821 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c233_i32_6820 : BitVec 32 := 233#32
  let v10951 : BitVec 32 := Scalar.addi v8853 c233_i32_6820
  let v10952 : Index := Scalar.indexCast v10951
  ![0, v10952.toNat]
def k0_off2058 (v10953 : BitVec 32) : Fin 3 → Nat :=
  let v10954 : Index := Scalar.indexCast v10953
  let c0_6822 : Index := 0#32
  let c0_6823 : Index := 0#32
  ![v10954.toNat, 0, 0]

def k0_chk1266 (v10953 : BitVec 32) : Prop :=
  (∀ a, (k0_off2058 v10953) a + S1x1x128.size a ≤ S100000x1x128.size a)
theorem k0_off2058_inb : ∀ (v10953 : BitVec 32) (k0_hw1266 : k0_chk1266 v10953), ∀ a, (k0_off2058 v10953) a + S1x1x128.size a ≤ S100000x1x128.size a := fun v10953 k0_hw1266 => k0_hw1266

def k0_off2059 (k0_t1 : Fin k0_t1_loop.trips) : Fin 2 → Nat :=
  let c0_6827 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c234_i32_6826 : BitVec 32 := 234#32
  let v10960 : BitVec 32 := Scalar.addi v8853 c234_i32_6826
  let v10961 : Index := Scalar.indexCast v10960
  ![0, v10961.toNat]
def k0_off2060 (v10962 : BitVec 32) : Fin 3 → Nat :=
  let v10963 : Index := Scalar.indexCast v10962
  let c0_6828 : Index := 0#32
  let c0_6829 : Index := 0#32
  ![v10963.toNat, 0, 0]

def k0_chk1267 (v10962 : BitVec 32) : Prop :=
  (∀ a, (k0_off2060 v10962) a + S1x1x128.size a ≤ S100000x1x128.size a)
theorem k0_off2060_inb : ∀ (v10962 : BitVec 32) (k0_hw1267 : k0_chk1267 v10962), ∀ a, (k0_off2060 v10962) a + S1x1x128.size a ≤ S100000x1x128.size a := fun v10962 k0_hw1267 => k0_hw1267

def k0_off2061 (k0_t1 : Fin k0_t1_loop.trips) : Fin 2 → Nat :=
  let c0_6833 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c235_i32_6832 : BitVec 32 := 235#32
  let v10969 : BitVec 32 := Scalar.addi v8853 c235_i32_6832
  let v10970 : Index := Scalar.indexCast v10969
  ![0, v10970.toNat]
def k0_off2062 (v10971 : BitVec 32) : Fin 3 → Nat :=
  let v10972 : Index := Scalar.indexCast v10971
  let c0_6834 : Index := 0#32
  let c0_6835 : Index := 0#32
  ![v10972.toNat, 0, 0]

def k0_chk1268 (v10971 : BitVec 32) : Prop :=
  (∀ a, (k0_off2062 v10971) a + S1x1x128.size a ≤ S100000x1x128.size a)
theorem k0_off2062_inb : ∀ (v10971 : BitVec 32) (k0_hw1268 : k0_chk1268 v10971), ∀ a, (k0_off2062 v10971) a + S1x1x128.size a ≤ S100000x1x128.size a := fun v10971 k0_hw1268 => k0_hw1268

def k0_off2063 (k0_t1 : Fin k0_t1_loop.trips) : Fin 2 → Nat :=
  let c0_6839 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c236_i32_6838 : BitVec 32 := 236#32
  let v10978 : BitVec 32 := Scalar.addi v8853 c236_i32_6838
  let v10979 : Index := Scalar.indexCast v10978
  ![0, v10979.toNat]
def k0_off2064 (v10980 : BitVec 32) : Fin 3 → Nat :=
  let v10981 : Index := Scalar.indexCast v10980
  let c0_6840 : Index := 0#32
  let c0_6841 : Index := 0#32
  ![v10981.toNat, 0, 0]

def k0_chk1269 (v10980 : BitVec 32) : Prop :=
  (∀ a, (k0_off2064 v10980) a + S1x1x128.size a ≤ S100000x1x128.size a)
theorem k0_off2064_inb : ∀ (v10980 : BitVec 32) (k0_hw1269 : k0_chk1269 v10980), ∀ a, (k0_off2064 v10980) a + S1x1x128.size a ≤ S100000x1x128.size a := fun v10980 k0_hw1269 => k0_hw1269

def k0_off2065 (k0_t1 : Fin k0_t1_loop.trips) : Fin 2 → Nat :=
  let c0_6845 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c237_i32_6844 : BitVec 32 := 237#32
  let v10987 : BitVec 32 := Scalar.addi v8853 c237_i32_6844
  let v10988 : Index := Scalar.indexCast v10987
  ![0, v10988.toNat]
def k0_off2066 (v10989 : BitVec 32) : Fin 3 → Nat :=
  let v10990 : Index := Scalar.indexCast v10989
  let c0_6846 : Index := 0#32
  let c0_6847 : Index := 0#32
  ![v10990.toNat, 0, 0]

def k0_chk1270 (v10989 : BitVec 32) : Prop :=
  (∀ a, (k0_off2066 v10989) a + S1x1x128.size a ≤ S100000x1x128.size a)
theorem k0_off2066_inb : ∀ (v10989 : BitVec 32) (k0_hw1270 : k0_chk1270 v10989), ∀ a, (k0_off2066 v10989) a + S1x1x128.size a ≤ S100000x1x128.size a := fun v10989 k0_hw1270 => k0_hw1270

def k0_off2067 (k0_t1 : Fin k0_t1_loop.trips) : Fin 2 → Nat :=
  let c0_6851 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c238_i32_6850 : BitVec 32 := 238#32
  let v10996 : BitVec 32 := Scalar.addi v8853 c238_i32_6850
  let v10997 : Index := Scalar.indexCast v10996
  ![0, v10997.toNat]
def k0_off2068 (v10998 : BitVec 32) : Fin 3 → Nat :=
  let v10999 : Index := Scalar.indexCast v10998
  let c0_6852 : Index := 0#32
  let c0_6853 : Index := 0#32
  ![v10999.toNat, 0, 0]

def k0_chk1271 (v10998 : BitVec 32) : Prop :=
  (∀ a, (k0_off2068 v10998) a + S1x1x128.size a ≤ S100000x1x128.size a)
theorem k0_off2068_inb : ∀ (v10998 : BitVec 32) (k0_hw1271 : k0_chk1271 v10998), ∀ a, (k0_off2068 v10998) a + S1x1x128.size a ≤ S100000x1x128.size a := fun v10998 k0_hw1271 => k0_hw1271

def k0_off2069 (k0_t1 : Fin k0_t1_loop.trips) : Fin 2 → Nat :=
  let c0_6857 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c239_i32_6856 : BitVec 32 := 239#32
  let v11005 : BitVec 32 := Scalar.addi v8853 c239_i32_6856
  let v11006 : Index := Scalar.indexCast v11005
  ![0, v11006.toNat]
def k0_off2070 (v11007 : BitVec 32) : Fin 3 → Nat :=
  let v11008 : Index := Scalar.indexCast v11007
  let c0_6858 : Index := 0#32
  let c0_6859 : Index := 0#32
  ![v11008.toNat, 0, 0]

def k0_chk1272 (v11007 : BitVec 32) : Prop :=
  (∀ a, (k0_off2070 v11007) a + S1x1x128.size a ≤ S100000x1x128.size a)
theorem k0_off2070_inb : ∀ (v11007 : BitVec 32) (k0_hw1272 : k0_chk1272 v11007), ∀ a, (k0_off2070 v11007) a + S1x1x128.size a ≤ S100000x1x128.size a := fun v11007 k0_hw1272 => k0_hw1272

def k0_off2071 (k0_t1 : Fin k0_t1_loop.trips) : Fin 2 → Nat :=
  let c0_6863 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c240_i32_6862 : BitVec 32 := 240#32
  let v11014 : BitVec 32 := Scalar.addi v8853 c240_i32_6862
  let v11015 : Index := Scalar.indexCast v11014
  ![0, v11015.toNat]
def k0_off2072 (v11016 : BitVec 32) : Fin 3 → Nat :=
  let v11017 : Index := Scalar.indexCast v11016
  let c0_6864 : Index := 0#32
  let c0_6865 : Index := 0#32
  ![v11017.toNat, 0, 0]

def k0_chk1273 (v11016 : BitVec 32) : Prop :=
  (∀ a, (k0_off2072 v11016) a + S1x1x128.size a ≤ S100000x1x128.size a)
theorem k0_off2072_inb : ∀ (v11016 : BitVec 32) (k0_hw1273 : k0_chk1273 v11016), ∀ a, (k0_off2072 v11016) a + S1x1x128.size a ≤ S100000x1x128.size a := fun v11016 k0_hw1273 => k0_hw1273

def k0_off2073 (k0_t1 : Fin k0_t1_loop.trips) : Fin 2 → Nat :=
  let c0_6869 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c241_i32_6868 : BitVec 32 := 241#32
  let v11023 : BitVec 32 := Scalar.addi v8853 c241_i32_6868
  let v11024 : Index := Scalar.indexCast v11023
  ![0, v11024.toNat]
def k0_off2074 (v11025 : BitVec 32) : Fin 3 → Nat :=
  let v11026 : Index := Scalar.indexCast v11025
  let c0_6870 : Index := 0#32
  let c0_6871 : Index := 0#32
  ![v11026.toNat, 0, 0]

def k0_chk1274 (v11025 : BitVec 32) : Prop :=
  (∀ a, (k0_off2074 v11025) a + S1x1x128.size a ≤ S100000x1x128.size a)
theorem k0_off2074_inb : ∀ (v11025 : BitVec 32) (k0_hw1274 : k0_chk1274 v11025), ∀ a, (k0_off2074 v11025) a + S1x1x128.size a ≤ S100000x1x128.size a := fun v11025 k0_hw1274 => k0_hw1274

def k0_off2075 (k0_t1 : Fin k0_t1_loop.trips) : Fin 2 → Nat :=
  let c0_6875 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c242_i32_6874 : BitVec 32 := 242#32
  let v11032 : BitVec 32 := Scalar.addi v8853 c242_i32_6874
  let v11033 : Index := Scalar.indexCast v11032
  ![0, v11033.toNat]
def k0_off2076 (v11034 : BitVec 32) : Fin 3 → Nat :=
  let v11035 : Index := Scalar.indexCast v11034
  let c0_6876 : Index := 0#32
  let c0_6877 : Index := 0#32
  ![v11035.toNat, 0, 0]

def k0_chk1275 (v11034 : BitVec 32) : Prop :=
  (∀ a, (k0_off2076 v11034) a + S1x1x128.size a ≤ S100000x1x128.size a)
theorem k0_off2076_inb : ∀ (v11034 : BitVec 32) (k0_hw1275 : k0_chk1275 v11034), ∀ a, (k0_off2076 v11034) a + S1x1x128.size a ≤ S100000x1x128.size a := fun v11034 k0_hw1275 => k0_hw1275

def k0_off2077 (k0_t1 : Fin k0_t1_loop.trips) : Fin 2 → Nat :=
  let c0_6881 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c243_i32_6880 : BitVec 32 := 243#32
  let v11041 : BitVec 32 := Scalar.addi v8853 c243_i32_6880
  let v11042 : Index := Scalar.indexCast v11041
  ![0, v11042.toNat]
def k0_off2078 (v11043 : BitVec 32) : Fin 3 → Nat :=
  let v11044 : Index := Scalar.indexCast v11043
  let c0_6882 : Index := 0#32
  let c0_6883 : Index := 0#32
  ![v11044.toNat, 0, 0]

def k0_chk1276 (v11043 : BitVec 32) : Prop :=
  (∀ a, (k0_off2078 v11043) a + S1x1x128.size a ≤ S100000x1x128.size a)
theorem k0_off2078_inb : ∀ (v11043 : BitVec 32) (k0_hw1276 : k0_chk1276 v11043), ∀ a, (k0_off2078 v11043) a + S1x1x128.size a ≤ S100000x1x128.size a := fun v11043 k0_hw1276 => k0_hw1276

def k0_off2079 (k0_t1 : Fin k0_t1_loop.trips) : Fin 2 → Nat :=
  let c0_6887 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c244_i32_6886 : BitVec 32 := 244#32
  let v11050 : BitVec 32 := Scalar.addi v8853 c244_i32_6886
  let v11051 : Index := Scalar.indexCast v11050
  ![0, v11051.toNat]
def k0_off2080 (v11052 : BitVec 32) : Fin 3 → Nat :=
  let v11053 : Index := Scalar.indexCast v11052
  let c0_6888 : Index := 0#32
  let c0_6889 : Index := 0#32
  ![v11053.toNat, 0, 0]

def k0_chk1277 (v11052 : BitVec 32) : Prop :=
  (∀ a, (k0_off2080 v11052) a + S1x1x128.size a ≤ S100000x1x128.size a)
theorem k0_off2080_inb : ∀ (v11052 : BitVec 32) (k0_hw1277 : k0_chk1277 v11052), ∀ a, (k0_off2080 v11052) a + S1x1x128.size a ≤ S100000x1x128.size a := fun v11052 k0_hw1277 => k0_hw1277

def k0_off2081 (k0_t1 : Fin k0_t1_loop.trips) : Fin 2 → Nat :=
  let c0_6893 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c245_i32_6892 : BitVec 32 := 245#32
  let v11059 : BitVec 32 := Scalar.addi v8853 c245_i32_6892
  let v11060 : Index := Scalar.indexCast v11059
  ![0, v11060.toNat]
def k0_off2082 (v11061 : BitVec 32) : Fin 3 → Nat :=
  let v11062 : Index := Scalar.indexCast v11061
  let c0_6894 : Index := 0#32
  let c0_6895 : Index := 0#32
  ![v11062.toNat, 0, 0]

def k0_chk1278 (v11061 : BitVec 32) : Prop :=
  (∀ a, (k0_off2082 v11061) a + S1x1x128.size a ≤ S100000x1x128.size a)
theorem k0_off2082_inb : ∀ (v11061 : BitVec 32) (k0_hw1278 : k0_chk1278 v11061), ∀ a, (k0_off2082 v11061) a + S1x1x128.size a ≤ S100000x1x128.size a := fun v11061 k0_hw1278 => k0_hw1278

def k0_off2083 (k0_t1 : Fin k0_t1_loop.trips) : Fin 2 → Nat :=
  let c0_6899 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c246_i32_6898 : BitVec 32 := 246#32
  let v11068 : BitVec 32 := Scalar.addi v8853 c246_i32_6898
  let v11069 : Index := Scalar.indexCast v11068
  ![0, v11069.toNat]
def k0_off2084 (v11070 : BitVec 32) : Fin 3 → Nat :=
  let v11071 : Index := Scalar.indexCast v11070
  let c0_6900 : Index := 0#32
  let c0_6901 : Index := 0#32
  ![v11071.toNat, 0, 0]

def k0_chk1279 (v11070 : BitVec 32) : Prop :=
  (∀ a, (k0_off2084 v11070) a + S1x1x128.size a ≤ S100000x1x128.size a)
theorem k0_off2084_inb : ∀ (v11070 : BitVec 32) (k0_hw1279 : k0_chk1279 v11070), ∀ a, (k0_off2084 v11070) a + S1x1x128.size a ≤ S100000x1x128.size a := fun v11070 k0_hw1279 => k0_hw1279

def k0_off2085 (k0_t1 : Fin k0_t1_loop.trips) : Fin 2 → Nat :=
  let c0_6905 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c247_i32_6904 : BitVec 32 := 247#32
  let v11077 : BitVec 32 := Scalar.addi v8853 c247_i32_6904
  let v11078 : Index := Scalar.indexCast v11077
  ![0, v11078.toNat]
def k0_off2086 (v11079 : BitVec 32) : Fin 3 → Nat :=
  let v11080 : Index := Scalar.indexCast v11079
  let c0_6906 : Index := 0#32
  let c0_6907 : Index := 0#32
  ![v11080.toNat, 0, 0]

def k0_chk1280 (v11079 : BitVec 32) : Prop :=
  (∀ a, (k0_off2086 v11079) a + S1x1x128.size a ≤ S100000x1x128.size a)
theorem k0_off2086_inb : ∀ (v11079 : BitVec 32) (k0_hw1280 : k0_chk1280 v11079), ∀ a, (k0_off2086 v11079) a + S1x1x128.size a ≤ S100000x1x128.size a := fun v11079 k0_hw1280 => k0_hw1280

def k0_off2087 (k0_t1 : Fin k0_t1_loop.trips) : Fin 2 → Nat :=
  let c0_6911 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c248_i32_6910 : BitVec 32 := 248#32
  let v11086 : BitVec 32 := Scalar.addi v8853 c248_i32_6910
  let v11087 : Index := Scalar.indexCast v11086
  ![0, v11087.toNat]
def k0_off2088 (v11088 : BitVec 32) : Fin 3 → Nat :=
  let v11089 : Index := Scalar.indexCast v11088
  let c0_6912 : Index := 0#32
  let c0_6913 : Index := 0#32
  ![v11089.toNat, 0, 0]

def k0_chk1281 (v11088 : BitVec 32) : Prop :=
  (∀ a, (k0_off2088 v11088) a + S1x1x128.size a ≤ S100000x1x128.size a)
theorem k0_off2088_inb : ∀ (v11088 : BitVec 32) (k0_hw1281 : k0_chk1281 v11088), ∀ a, (k0_off2088 v11088) a + S1x1x128.size a ≤ S100000x1x128.size a := fun v11088 k0_hw1281 => k0_hw1281

def k0_off2089 (k0_t1 : Fin k0_t1_loop.trips) : Fin 2 → Nat :=
  let c0_6917 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c249_i32_6916 : BitVec 32 := 249#32
  let v11095 : BitVec 32 := Scalar.addi v8853 c249_i32_6916
  let v11096 : Index := Scalar.indexCast v11095
  ![0, v11096.toNat]
def k0_off2090 (v11097 : BitVec 32) : Fin 3 → Nat :=
  let v11098 : Index := Scalar.indexCast v11097
  let c0_6918 : Index := 0#32
  let c0_6919 : Index := 0#32
  ![v11098.toNat, 0, 0]

def k0_chk1282 (v11097 : BitVec 32) : Prop :=
  (∀ a, (k0_off2090 v11097) a + S1x1x128.size a ≤ S100000x1x128.size a)
theorem k0_off2090_inb : ∀ (v11097 : BitVec 32) (k0_hw1282 : k0_chk1282 v11097), ∀ a, (k0_off2090 v11097) a + S1x1x128.size a ≤ S100000x1x128.size a := fun v11097 k0_hw1282 => k0_hw1282

def k0_off2091 (k0_t1 : Fin k0_t1_loop.trips) : Fin 2 → Nat :=
  let c0_6923 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c250_i32_6922 : BitVec 32 := 250#32
  let v11104 : BitVec 32 := Scalar.addi v8853 c250_i32_6922
  let v11105 : Index := Scalar.indexCast v11104
  ![0, v11105.toNat]
def k0_off2092 (v11106 : BitVec 32) : Fin 3 → Nat :=
  let v11107 : Index := Scalar.indexCast v11106
  let c0_6924 : Index := 0#32
  let c0_6925 : Index := 0#32
  ![v11107.toNat, 0, 0]

def k0_chk1283 (v11106 : BitVec 32) : Prop :=
  (∀ a, (k0_off2092 v11106) a + S1x1x128.size a ≤ S100000x1x128.size a)
theorem k0_off2092_inb : ∀ (v11106 : BitVec 32) (k0_hw1283 : k0_chk1283 v11106), ∀ a, (k0_off2092 v11106) a + S1x1x128.size a ≤ S100000x1x128.size a := fun v11106 k0_hw1283 => k0_hw1283

def k0_off2093 (k0_t1 : Fin k0_t1_loop.trips) : Fin 2 → Nat :=
  let c0_6929 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c251_i32_6928 : BitVec 32 := 251#32
  let v11113 : BitVec 32 := Scalar.addi v8853 c251_i32_6928
  let v11114 : Index := Scalar.indexCast v11113
  ![0, v11114.toNat]
def k0_off2094 (v11115 : BitVec 32) : Fin 3 → Nat :=
  let v11116 : Index := Scalar.indexCast v11115
  let c0_6930 : Index := 0#32
  let c0_6931 : Index := 0#32
  ![v11116.toNat, 0, 0]

def k0_chk1284 (v11115 : BitVec 32) : Prop :=
  (∀ a, (k0_off2094 v11115) a + S1x1x128.size a ≤ S100000x1x128.size a)
theorem k0_off2094_inb : ∀ (v11115 : BitVec 32) (k0_hw1284 : k0_chk1284 v11115), ∀ a, (k0_off2094 v11115) a + S1x1x128.size a ≤ S100000x1x128.size a := fun v11115 k0_hw1284 => k0_hw1284

def k0_off2095 (k0_t1 : Fin k0_t1_loop.trips) : Fin 2 → Nat :=
  let c0_6935 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c252_i32_6934 : BitVec 32 := 252#32
  let v11122 : BitVec 32 := Scalar.addi v8853 c252_i32_6934
  let v11123 : Index := Scalar.indexCast v11122
  ![0, v11123.toNat]
def k0_off2096 (v11124 : BitVec 32) : Fin 3 → Nat :=
  let v11125 : Index := Scalar.indexCast v11124
  let c0_6936 : Index := 0#32
  let c0_6937 : Index := 0#32
  ![v11125.toNat, 0, 0]

def k0_chk1285 (v11124 : BitVec 32) : Prop :=
  (∀ a, (k0_off2096 v11124) a + S1x1x128.size a ≤ S100000x1x128.size a)
theorem k0_off2096_inb : ∀ (v11124 : BitVec 32) (k0_hw1285 : k0_chk1285 v11124), ∀ a, (k0_off2096 v11124) a + S1x1x128.size a ≤ S100000x1x128.size a := fun v11124 k0_hw1285 => k0_hw1285

def k0_off2097 (k0_t1 : Fin k0_t1_loop.trips) : Fin 2 → Nat :=
  let c0_6941 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c253_i32_6940 : BitVec 32 := 253#32
  let v11131 : BitVec 32 := Scalar.addi v8853 c253_i32_6940
  let v11132 : Index := Scalar.indexCast v11131
  ![0, v11132.toNat]
def k0_off2098 (v11133 : BitVec 32) : Fin 3 → Nat :=
  let v11134 : Index := Scalar.indexCast v11133
  let c0_6942 : Index := 0#32
  let c0_6943 : Index := 0#32
  ![v11134.toNat, 0, 0]

def k0_chk1286 (v11133 : BitVec 32) : Prop :=
  (∀ a, (k0_off2098 v11133) a + S1x1x128.size a ≤ S100000x1x128.size a)
theorem k0_off2098_inb : ∀ (v11133 : BitVec 32) (k0_hw1286 : k0_chk1286 v11133), ∀ a, (k0_off2098 v11133) a + S1x1x128.size a ≤ S100000x1x128.size a := fun v11133 k0_hw1286 => k0_hw1286

def k0_off2099 (k0_t1 : Fin k0_t1_loop.trips) : Fin 2 → Nat :=
  let c0_6947 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c254_i32_6946 : BitVec 32 := 254#32
  let v11140 : BitVec 32 := Scalar.addi v8853 c254_i32_6946
  let v11141 : Index := Scalar.indexCast v11140
  ![0, v11141.toNat]
def k0_off2100 (v11142 : BitVec 32) : Fin 3 → Nat :=
  let v11143 : Index := Scalar.indexCast v11142
  let c0_6948 : Index := 0#32
  let c0_6949 : Index := 0#32
  ![v11143.toNat, 0, 0]

def k0_chk1287 (v11142 : BitVec 32) : Prop :=
  (∀ a, (k0_off2100 v11142) a + S1x1x128.size a ≤ S100000x1x128.size a)
theorem k0_off2100_inb : ∀ (v11142 : BitVec 32) (k0_hw1287 : k0_chk1287 v11142), ∀ a, (k0_off2100 v11142) a + S1x1x128.size a ≤ S100000x1x128.size a := fun v11142 k0_hw1287 => k0_hw1287

def k0_off2101 (k0_t1 : Fin k0_t1_loop.trips) : Fin 2 → Nat :=
  let c0_6953 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c255_i32_6952 : BitVec 32 := 255#32
  let v11149 : BitVec 32 := Scalar.addi v8853 c255_i32_6952
  let v11150 : Index := Scalar.indexCast v11149
  ![0, v11150.toNat]
def k0_off2102 (v11151 : BitVec 32) : Fin 3 → Nat :=
  let v11152 : Index := Scalar.indexCast v11151
  let c0_6954 : Index := 0#32
  let c0_6955 : Index := 0#32
  ![v11152.toNat, 0, 0]

def k0_chk1288 (v11151 : BitVec 32) : Prop :=
  (∀ a, (k0_off2102 v11151) a + S1x1x128.size a ≤ S100000x1x128.size a)
theorem k0_off2102_inb : ∀ (v11151 : BitVec 32) (k0_hw1288 : k0_chk1288 v11151), ∀ a, (k0_off2102 v11151) a + S1x1x128.size a ≤ S100000x1x128.size a := fun v11151 k0_hw1288 => k0_hw1288

def k0_off2103 (k0_t1 : Fin k0_t1_loop.trips) : Fin 2 → Nat :=
  let c0_6959 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c256_i32_6958 : BitVec 32 := 256#32
  let v11158 : BitVec 32 := Scalar.addi v8853 c256_i32_6958
  let v11159 : Index := Scalar.indexCast v11158
  ![0, v11159.toNat]
def k0_off2104 (v11160 : BitVec 32) : Fin 3 → Nat :=
  let v11161 : Index := Scalar.indexCast v11160
  let c0_6960 : Index := 0#32
  let c0_6961 : Index := 0#32
  ![v11161.toNat, 0, 0]

def k0_chk1289 (v11160 : BitVec 32) : Prop :=
  (∀ a, (k0_off2104 v11160) a + S1x1x128.size a ≤ S100000x1x128.size a)
theorem k0_off2104_inb : ∀ (v11160 : BitVec 32) (k0_hw1289 : k0_chk1289 v11160), ∀ a, (k0_off2104 v11160) a + S1x1x128.size a ≤ S100000x1x128.size a := fun v11160 k0_hw1289 => k0_hw1289

def k0_off2105 (k0_t1 : Fin k0_t1_loop.trips) : Fin 2 → Nat :=
  let c0_6965 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c257_i32_6964 : BitVec 32 := 257#32
  let v11167 : BitVec 32 := Scalar.addi v8853 c257_i32_6964
  let v11168 : Index := Scalar.indexCast v11167
  ![0, v11168.toNat]
def k0_off2106 (v11169 : BitVec 32) : Fin 3 → Nat :=
  let v11170 : Index := Scalar.indexCast v11169
  let c0_6966 : Index := 0#32
  let c0_6967 : Index := 0#32
  ![v11170.toNat, 0, 0]

def k0_chk1290 (v11169 : BitVec 32) : Prop :=
  (∀ a, (k0_off2106 v11169) a + S1x1x128.size a ≤ S100000x1x128.size a)
theorem k0_off2106_inb : ∀ (v11169 : BitVec 32) (k0_hw1290 : k0_chk1290 v11169), ∀ a, (k0_off2106 v11169) a + S1x1x128.size a ≤ S100000x1x128.size a := fun v11169 k0_hw1290 => k0_hw1290

def k0_off2107 (k0_t1 : Fin k0_t1_loop.trips) : Fin 2 → Nat :=
  let c0_6971 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c258_i32_6970 : BitVec 32 := 258#32
  let v11176 : BitVec 32 := Scalar.addi v8853 c258_i32_6970
  let v11177 : Index := Scalar.indexCast v11176
  ![0, v11177.toNat]
def k0_off2108 (v11178 : BitVec 32) : Fin 3 → Nat :=
  let v11179 : Index := Scalar.indexCast v11178
  let c0_6972 : Index := 0#32
  let c0_6973 : Index := 0#32
  ![v11179.toNat, 0, 0]

def k0_chk1291 (v11178 : BitVec 32) : Prop :=
  (∀ a, (k0_off2108 v11178) a + S1x1x128.size a ≤ S100000x1x128.size a)
theorem k0_off2108_inb : ∀ (v11178 : BitVec 32) (k0_hw1291 : k0_chk1291 v11178), ∀ a, (k0_off2108 v11178) a + S1x1x128.size a ≤ S100000x1x128.size a := fun v11178 k0_hw1291 => k0_hw1291

def k0_off2109 (k0_t1 : Fin k0_t1_loop.trips) : Fin 2 → Nat :=
  let c0_6977 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c259_i32_6976 : BitVec 32 := 259#32
  let v11185 : BitVec 32 := Scalar.addi v8853 c259_i32_6976
  let v11186 : Index := Scalar.indexCast v11185
  ![0, v11186.toNat]
def k0_off2110 (v11187 : BitVec 32) : Fin 3 → Nat :=
  let v11188 : Index := Scalar.indexCast v11187
  let c0_6978 : Index := 0#32
  let c0_6979 : Index := 0#32
  ![v11188.toNat, 0, 0]

def k0_chk1292 (v11187 : BitVec 32) : Prop :=
  (∀ a, (k0_off2110 v11187) a + S1x1x128.size a ≤ S100000x1x128.size a)
theorem k0_off2110_inb : ∀ (v11187 : BitVec 32) (k0_hw1292 : k0_chk1292 v11187), ∀ a, (k0_off2110 v11187) a + S1x1x128.size a ≤ S100000x1x128.size a := fun v11187 k0_hw1292 => k0_hw1292

def k0_off2111 (k0_t1 : Fin k0_t1_loop.trips) : Fin 2 → Nat :=
  let c0_6983 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c260_i32_6982 : BitVec 32 := 260#32
  let v11194 : BitVec 32 := Scalar.addi v8853 c260_i32_6982
  let v11195 : Index := Scalar.indexCast v11194
  ![0, v11195.toNat]
def k0_off2112 (v11196 : BitVec 32) : Fin 3 → Nat :=
  let v11197 : Index := Scalar.indexCast v11196
  let c0_6984 : Index := 0#32
  let c0_6985 : Index := 0#32
  ![v11197.toNat, 0, 0]

def k0_chk1293 (v11196 : BitVec 32) : Prop :=
  (∀ a, (k0_off2112 v11196) a + S1x1x128.size a ≤ S100000x1x128.size a)
theorem k0_off2112_inb : ∀ (v11196 : BitVec 32) (k0_hw1293 : k0_chk1293 v11196), ∀ a, (k0_off2112 v11196) a + S1x1x128.size a ≤ S100000x1x128.size a := fun v11196 k0_hw1293 => k0_hw1293

def k0_off2113 (k0_t1 : Fin k0_t1_loop.trips) : Fin 2 → Nat :=
  let c0_6989 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c261_i32_6988 : BitVec 32 := 261#32
  let v11203 : BitVec 32 := Scalar.addi v8853 c261_i32_6988
  let v11204 : Index := Scalar.indexCast v11203
  ![0, v11204.toNat]
def k0_off2114 (v11205 : BitVec 32) : Fin 3 → Nat :=
  let v11206 : Index := Scalar.indexCast v11205
  let c0_6990 : Index := 0#32
  let c0_6991 : Index := 0#32
  ![v11206.toNat, 0, 0]

def k0_chk1294 (v11205 : BitVec 32) : Prop :=
  (∀ a, (k0_off2114 v11205) a + S1x1x128.size a ≤ S100000x1x128.size a)
theorem k0_off2114_inb : ∀ (v11205 : BitVec 32) (k0_hw1294 : k0_chk1294 v11205), ∀ a, (k0_off2114 v11205) a + S1x1x128.size a ≤ S100000x1x128.size a := fun v11205 k0_hw1294 => k0_hw1294

def k0_off2115 (k0_t1 : Fin k0_t1_loop.trips) : Fin 2 → Nat :=
  let c0_6995 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c262_i32_6994 : BitVec 32 := 262#32
  let v11212 : BitVec 32 := Scalar.addi v8853 c262_i32_6994
  let v11213 : Index := Scalar.indexCast v11212
  ![0, v11213.toNat]
def k0_off2116 (v11214 : BitVec 32) : Fin 3 → Nat :=
  let v11215 : Index := Scalar.indexCast v11214
  let c0_6996 : Index := 0#32
  let c0_6997 : Index := 0#32
  ![v11215.toNat, 0, 0]

def k0_chk1295 (v11214 : BitVec 32) : Prop :=
  (∀ a, (k0_off2116 v11214) a + S1x1x128.size a ≤ S100000x1x128.size a)
theorem k0_off2116_inb : ∀ (v11214 : BitVec 32) (k0_hw1295 : k0_chk1295 v11214), ∀ a, (k0_off2116 v11214) a + S1x1x128.size a ≤ S100000x1x128.size a := fun v11214 k0_hw1295 => k0_hw1295

def k0_off2117 (k0_t1 : Fin k0_t1_loop.trips) : Fin 2 → Nat :=
  let c0_7001 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c263_i32_7000 : BitVec 32 := 263#32
  let v11221 : BitVec 32 := Scalar.addi v8853 c263_i32_7000
  let v11222 : Index := Scalar.indexCast v11221
  ![0, v11222.toNat]
def k0_off2118 (v11223 : BitVec 32) : Fin 3 → Nat :=
  let v11224 : Index := Scalar.indexCast v11223
  let c0_7002 : Index := 0#32
  let c0_7003 : Index := 0#32
  ![v11224.toNat, 0, 0]

def k0_chk1296 (v11223 : BitVec 32) : Prop :=
  (∀ a, (k0_off2118 v11223) a + S1x1x128.size a ≤ S100000x1x128.size a)
theorem k0_off2118_inb : ∀ (v11223 : BitVec 32) (k0_hw1296 : k0_chk1296 v11223), ∀ a, (k0_off2118 v11223) a + S1x1x128.size a ≤ S100000x1x128.size a := fun v11223 k0_hw1296 => k0_hw1296

def k0_off2119 (k0_t1 : Fin k0_t1_loop.trips) : Fin 2 → Nat :=
  let c0_7007 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c264_i32_7006 : BitVec 32 := 264#32
  let v11230 : BitVec 32 := Scalar.addi v8853 c264_i32_7006
  let v11231 : Index := Scalar.indexCast v11230
  ![0, v11231.toNat]
def k0_off2120 (v11232 : BitVec 32) : Fin 3 → Nat :=
  let v11233 : Index := Scalar.indexCast v11232
  let c0_7008 : Index := 0#32
  let c0_7009 : Index := 0#32
  ![v11233.toNat, 0, 0]

def k0_chk1297 (v11232 : BitVec 32) : Prop :=
  (∀ a, (k0_off2120 v11232) a + S1x1x128.size a ≤ S100000x1x128.size a)
theorem k0_off2120_inb : ∀ (v11232 : BitVec 32) (k0_hw1297 : k0_chk1297 v11232), ∀ a, (k0_off2120 v11232) a + S1x1x128.size a ≤ S100000x1x128.size a := fun v11232 k0_hw1297 => k0_hw1297

def k0_off2121 (k0_t1 : Fin k0_t1_loop.trips) : Fin 2 → Nat :=
  let c0_7013 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c265_i32_7012 : BitVec 32 := 265#32
  let v11239 : BitVec 32 := Scalar.addi v8853 c265_i32_7012
  let v11240 : Index := Scalar.indexCast v11239
  ![0, v11240.toNat]
def k0_off2122 (v11241 : BitVec 32) : Fin 3 → Nat :=
  let v11242 : Index := Scalar.indexCast v11241
  let c0_7014 : Index := 0#32
  let c0_7015 : Index := 0#32
  ![v11242.toNat, 0, 0]

def k0_chk1298 (v11241 : BitVec 32) : Prop :=
  (∀ a, (k0_off2122 v11241) a + S1x1x128.size a ≤ S100000x1x128.size a)
theorem k0_off2122_inb : ∀ (v11241 : BitVec 32) (k0_hw1298 : k0_chk1298 v11241), ∀ a, (k0_off2122 v11241) a + S1x1x128.size a ≤ S100000x1x128.size a := fun v11241 k0_hw1298 => k0_hw1298

def k0_off2123 (k0_t1 : Fin k0_t1_loop.trips) : Fin 2 → Nat :=
  let c0_7019 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c266_i32_7018 : BitVec 32 := 266#32
  let v11248 : BitVec 32 := Scalar.addi v8853 c266_i32_7018
  let v11249 : Index := Scalar.indexCast v11248
  ![0, v11249.toNat]
def k0_off2124 (v11250 : BitVec 32) : Fin 3 → Nat :=
  let v11251 : Index := Scalar.indexCast v11250
  let c0_7020 : Index := 0#32
  let c0_7021 : Index := 0#32
  ![v11251.toNat, 0, 0]

def k0_chk1299 (v11250 : BitVec 32) : Prop :=
  (∀ a, (k0_off2124 v11250) a + S1x1x128.size a ≤ S100000x1x128.size a)
theorem k0_off2124_inb : ∀ (v11250 : BitVec 32) (k0_hw1299 : k0_chk1299 v11250), ∀ a, (k0_off2124 v11250) a + S1x1x128.size a ≤ S100000x1x128.size a := fun v11250 k0_hw1299 => k0_hw1299

def k0_off2125 (k0_t1 : Fin k0_t1_loop.trips) : Fin 2 → Nat :=
  let c0_7025 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c267_i32_7024 : BitVec 32 := 267#32
  let v11257 : BitVec 32 := Scalar.addi v8853 c267_i32_7024
  let v11258 : Index := Scalar.indexCast v11257
  ![0, v11258.toNat]
def k0_off2126 (v11259 : BitVec 32) : Fin 3 → Nat :=
  let v11260 : Index := Scalar.indexCast v11259
  let c0_7026 : Index := 0#32
  let c0_7027 : Index := 0#32
  ![v11260.toNat, 0, 0]

def k0_chk1300 (v11259 : BitVec 32) : Prop :=
  (∀ a, (k0_off2126 v11259) a + S1x1x128.size a ≤ S100000x1x128.size a)
theorem k0_off2126_inb : ∀ (v11259 : BitVec 32) (k0_hw1300 : k0_chk1300 v11259), ∀ a, (k0_off2126 v11259) a + S1x1x128.size a ≤ S100000x1x128.size a := fun v11259 k0_hw1300 => k0_hw1300

def k0_off2127 (k0_t1 : Fin k0_t1_loop.trips) : Fin 2 → Nat :=
  let c0_7031 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c268_i32_7030 : BitVec 32 := 268#32
  let v11266 : BitVec 32 := Scalar.addi v8853 c268_i32_7030
  let v11267 : Index := Scalar.indexCast v11266
  ![0, v11267.toNat]
def k0_off2128 (v11268 : BitVec 32) : Fin 3 → Nat :=
  let v11269 : Index := Scalar.indexCast v11268
  let c0_7032 : Index := 0#32
  let c0_7033 : Index := 0#32
  ![v11269.toNat, 0, 0]

def k0_chk1301 (v11268 : BitVec 32) : Prop :=
  (∀ a, (k0_off2128 v11268) a + S1x1x128.size a ≤ S100000x1x128.size a)
theorem k0_off2128_inb : ∀ (v11268 : BitVec 32) (k0_hw1301 : k0_chk1301 v11268), ∀ a, (k0_off2128 v11268) a + S1x1x128.size a ≤ S100000x1x128.size a := fun v11268 k0_hw1301 => k0_hw1301

def k0_off2129 (k0_t1 : Fin k0_t1_loop.trips) : Fin 2 → Nat :=
  let c0_7037 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c269_i32_7036 : BitVec 32 := 269#32
  let v11275 : BitVec 32 := Scalar.addi v8853 c269_i32_7036
  let v11276 : Index := Scalar.indexCast v11275
  ![0, v11276.toNat]
def k0_off2130 (v11277 : BitVec 32) : Fin 3 → Nat :=
  let v11278 : Index := Scalar.indexCast v11277
  let c0_7038 : Index := 0#32
  let c0_7039 : Index := 0#32
  ![v11278.toNat, 0, 0]

def k0_chk1302 (v11277 : BitVec 32) : Prop :=
  (∀ a, (k0_off2130 v11277) a + S1x1x128.size a ≤ S100000x1x128.size a)
theorem k0_off2130_inb : ∀ (v11277 : BitVec 32) (k0_hw1302 : k0_chk1302 v11277), ∀ a, (k0_off2130 v11277) a + S1x1x128.size a ≤ S100000x1x128.size a := fun v11277 k0_hw1302 => k0_hw1302

def k0_off2131 (k0_t1 : Fin k0_t1_loop.trips) : Fin 2 → Nat :=
  let c0_7043 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c270_i32_7042 : BitVec 32 := 270#32
  let v11284 : BitVec 32 := Scalar.addi v8853 c270_i32_7042
  let v11285 : Index := Scalar.indexCast v11284
  ![0, v11285.toNat]
def k0_off2132 (v11286 : BitVec 32) : Fin 3 → Nat :=
  let v11287 : Index := Scalar.indexCast v11286
  let c0_7044 : Index := 0#32
  let c0_7045 : Index := 0#32
  ![v11287.toNat, 0, 0]

def k0_chk1303 (v11286 : BitVec 32) : Prop :=
  (∀ a, (k0_off2132 v11286) a + S1x1x128.size a ≤ S100000x1x128.size a)
theorem k0_off2132_inb : ∀ (v11286 : BitVec 32) (k0_hw1303 : k0_chk1303 v11286), ∀ a, (k0_off2132 v11286) a + S1x1x128.size a ≤ S100000x1x128.size a := fun v11286 k0_hw1303 => k0_hw1303

def k0_off2133 (k0_t1 : Fin k0_t1_loop.trips) : Fin 2 → Nat :=
  let c0_7049 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c271_i32_7048 : BitVec 32 := 271#32
  let v11293 : BitVec 32 := Scalar.addi v8853 c271_i32_7048
  let v11294 : Index := Scalar.indexCast v11293
  ![0, v11294.toNat]
def k0_off2134 (v11295 : BitVec 32) : Fin 3 → Nat :=
  let v11296 : Index := Scalar.indexCast v11295
  let c0_7050 : Index := 0#32
  let c0_7051 : Index := 0#32
  ![v11296.toNat, 0, 0]

def k0_chk1304 (v11295 : BitVec 32) : Prop :=
  (∀ a, (k0_off2134 v11295) a + S1x1x128.size a ≤ S100000x1x128.size a)
theorem k0_off2134_inb : ∀ (v11295 : BitVec 32) (k0_hw1304 : k0_chk1304 v11295), ∀ a, (k0_off2134 v11295) a + S1x1x128.size a ≤ S100000x1x128.size a := fun v11295 k0_hw1304 => k0_hw1304

def k0_off2135 (k0_t1 : Fin k0_t1_loop.trips) : Fin 2 → Nat :=
  let c0_7055 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c272_i32_7054 : BitVec 32 := 272#32
  let v11302 : BitVec 32 := Scalar.addi v8853 c272_i32_7054
  let v11303 : Index := Scalar.indexCast v11302
  ![0, v11303.toNat]
def k0_off2136 (v11304 : BitVec 32) : Fin 3 → Nat :=
  let v11305 : Index := Scalar.indexCast v11304
  let c0_7056 : Index := 0#32
  let c0_7057 : Index := 0#32
  ![v11305.toNat, 0, 0]

def k0_chk1305 (v11304 : BitVec 32) : Prop :=
  (∀ a, (k0_off2136 v11304) a + S1x1x128.size a ≤ S100000x1x128.size a)
theorem k0_off2136_inb : ∀ (v11304 : BitVec 32) (k0_hw1305 : k0_chk1305 v11304), ∀ a, (k0_off2136 v11304) a + S1x1x128.size a ≤ S100000x1x128.size a := fun v11304 k0_hw1305 => k0_hw1305

def k0_off2137 (k0_t1 : Fin k0_t1_loop.trips) : Fin 2 → Nat :=
  let c0_7061 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c273_i32_7060 : BitVec 32 := 273#32
  let v11311 : BitVec 32 := Scalar.addi v8853 c273_i32_7060
  let v11312 : Index := Scalar.indexCast v11311
  ![0, v11312.toNat]
def k0_off2138 (v11313 : BitVec 32) : Fin 3 → Nat :=
  let v11314 : Index := Scalar.indexCast v11313
  let c0_7062 : Index := 0#32
  let c0_7063 : Index := 0#32
  ![v11314.toNat, 0, 0]

def k0_chk1306 (v11313 : BitVec 32) : Prop :=
  (∀ a, (k0_off2138 v11313) a + S1x1x128.size a ≤ S100000x1x128.size a)
theorem k0_off2138_inb : ∀ (v11313 : BitVec 32) (k0_hw1306 : k0_chk1306 v11313), ∀ a, (k0_off2138 v11313) a + S1x1x128.size a ≤ S100000x1x128.size a := fun v11313 k0_hw1306 => k0_hw1306

def k0_off2139 (k0_t1 : Fin k0_t1_loop.trips) : Fin 2 → Nat :=
  let c0_7067 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c274_i32_7066 : BitVec 32 := 274#32
  let v11320 : BitVec 32 := Scalar.addi v8853 c274_i32_7066
  let v11321 : Index := Scalar.indexCast v11320
  ![0, v11321.toNat]
def k0_off2140 (v11322 : BitVec 32) : Fin 3 → Nat :=
  let v11323 : Index := Scalar.indexCast v11322
  let c0_7068 : Index := 0#32
  let c0_7069 : Index := 0#32
  ![v11323.toNat, 0, 0]

def k0_chk1307 (v11322 : BitVec 32) : Prop :=
  (∀ a, (k0_off2140 v11322) a + S1x1x128.size a ≤ S100000x1x128.size a)
theorem k0_off2140_inb : ∀ (v11322 : BitVec 32) (k0_hw1307 : k0_chk1307 v11322), ∀ a, (k0_off2140 v11322) a + S1x1x128.size a ≤ S100000x1x128.size a := fun v11322 k0_hw1307 => k0_hw1307

def k0_off2141 (k0_t1 : Fin k0_t1_loop.trips) : Fin 2 → Nat :=
  let c0_7073 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c275_i32_7072 : BitVec 32 := 275#32
  let v11329 : BitVec 32 := Scalar.addi v8853 c275_i32_7072
  let v11330 : Index := Scalar.indexCast v11329
  ![0, v11330.toNat]
def k0_off2142 (v11331 : BitVec 32) : Fin 3 → Nat :=
  let v11332 : Index := Scalar.indexCast v11331
  let c0_7074 : Index := 0#32
  let c0_7075 : Index := 0#32
  ![v11332.toNat, 0, 0]

def k0_chk1308 (v11331 : BitVec 32) : Prop :=
  (∀ a, (k0_off2142 v11331) a + S1x1x128.size a ≤ S100000x1x128.size a)
theorem k0_off2142_inb : ∀ (v11331 : BitVec 32) (k0_hw1308 : k0_chk1308 v11331), ∀ a, (k0_off2142 v11331) a + S1x1x128.size a ≤ S100000x1x128.size a := fun v11331 k0_hw1308 => k0_hw1308

def k0_off2143 (k0_t1 : Fin k0_t1_loop.trips) : Fin 2 → Nat :=
  let c0_7079 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c276_i32_7078 : BitVec 32 := 276#32
  let v11338 : BitVec 32 := Scalar.addi v8853 c276_i32_7078
  let v11339 : Index := Scalar.indexCast v11338
  ![0, v11339.toNat]
def k0_off2144 (v11340 : BitVec 32) : Fin 3 → Nat :=
  let v11341 : Index := Scalar.indexCast v11340
  let c0_7080 : Index := 0#32
  let c0_7081 : Index := 0#32
  ![v11341.toNat, 0, 0]

def k0_chk1309 (v11340 : BitVec 32) : Prop :=
  (∀ a, (k0_off2144 v11340) a + S1x1x128.size a ≤ S100000x1x128.size a)
theorem k0_off2144_inb : ∀ (v11340 : BitVec 32) (k0_hw1309 : k0_chk1309 v11340), ∀ a, (k0_off2144 v11340) a + S1x1x128.size a ≤ S100000x1x128.size a := fun v11340 k0_hw1309 => k0_hw1309

def k0_off2145 (k0_t1 : Fin k0_t1_loop.trips) : Fin 2 → Nat :=
  let c0_7085 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c277_i32_7084 : BitVec 32 := 277#32
  let v11347 : BitVec 32 := Scalar.addi v8853 c277_i32_7084
  let v11348 : Index := Scalar.indexCast v11347
  ![0, v11348.toNat]
def k0_off2146 (v11349 : BitVec 32) : Fin 3 → Nat :=
  let v11350 : Index := Scalar.indexCast v11349
  let c0_7086 : Index := 0#32
  let c0_7087 : Index := 0#32
  ![v11350.toNat, 0, 0]

def k0_chk1310 (v11349 : BitVec 32) : Prop :=
  (∀ a, (k0_off2146 v11349) a + S1x1x128.size a ≤ S100000x1x128.size a)
theorem k0_off2146_inb : ∀ (v11349 : BitVec 32) (k0_hw1310 : k0_chk1310 v11349), ∀ a, (k0_off2146 v11349) a + S1x1x128.size a ≤ S100000x1x128.size a := fun v11349 k0_hw1310 => k0_hw1310

def k0_off2147 (k0_t1 : Fin k0_t1_loop.trips) : Fin 2 → Nat :=
  let c0_7091 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c278_i32_7090 : BitVec 32 := 278#32
  let v11356 : BitVec 32 := Scalar.addi v8853 c278_i32_7090
  let v11357 : Index := Scalar.indexCast v11356
  ![0, v11357.toNat]
def k0_off2148 (v11358 : BitVec 32) : Fin 3 → Nat :=
  let v11359 : Index := Scalar.indexCast v11358
  let c0_7092 : Index := 0#32
  let c0_7093 : Index := 0#32
  ![v11359.toNat, 0, 0]

def k0_chk1311 (v11358 : BitVec 32) : Prop :=
  (∀ a, (k0_off2148 v11358) a + S1x1x128.size a ≤ S100000x1x128.size a)
theorem k0_off2148_inb : ∀ (v11358 : BitVec 32) (k0_hw1311 : k0_chk1311 v11358), ∀ a, (k0_off2148 v11358) a + S1x1x128.size a ≤ S100000x1x128.size a := fun v11358 k0_hw1311 => k0_hw1311

def k0_off2149 (k0_t1 : Fin k0_t1_loop.trips) : Fin 2 → Nat :=
  let c0_7097 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c279_i32_7096 : BitVec 32 := 279#32
  let v11365 : BitVec 32 := Scalar.addi v8853 c279_i32_7096
  let v11366 : Index := Scalar.indexCast v11365
  ![0, v11366.toNat]
def k0_off2150 (v11367 : BitVec 32) : Fin 3 → Nat :=
  let v11368 : Index := Scalar.indexCast v11367
  let c0_7098 : Index := 0#32
  let c0_7099 : Index := 0#32
  ![v11368.toNat, 0, 0]

def k0_chk1312 (v11367 : BitVec 32) : Prop :=
  (∀ a, (k0_off2150 v11367) a + S1x1x128.size a ≤ S100000x1x128.size a)
theorem k0_off2150_inb : ∀ (v11367 : BitVec 32) (k0_hw1312 : k0_chk1312 v11367), ∀ a, (k0_off2150 v11367) a + S1x1x128.size a ≤ S100000x1x128.size a := fun v11367 k0_hw1312 => k0_hw1312

def k0_off2151 (k0_t1 : Fin k0_t1_loop.trips) : Fin 2 → Nat :=
  let c0_7103 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c280_i32_7102 : BitVec 32 := 280#32
  let v11374 : BitVec 32 := Scalar.addi v8853 c280_i32_7102
  let v11375 : Index := Scalar.indexCast v11374
  ![0, v11375.toNat]
def k0_off2152 (v11376 : BitVec 32) : Fin 3 → Nat :=
  let v11377 : Index := Scalar.indexCast v11376
  let c0_7104 : Index := 0#32
  let c0_7105 : Index := 0#32
  ![v11377.toNat, 0, 0]

def k0_chk1313 (v11376 : BitVec 32) : Prop :=
  (∀ a, (k0_off2152 v11376) a + S1x1x128.size a ≤ S100000x1x128.size a)
theorem k0_off2152_inb : ∀ (v11376 : BitVec 32) (k0_hw1313 : k0_chk1313 v11376), ∀ a, (k0_off2152 v11376) a + S1x1x128.size a ≤ S100000x1x128.size a := fun v11376 k0_hw1313 => k0_hw1313

def k0_off2153 (k0_t1 : Fin k0_t1_loop.trips) : Fin 2 → Nat :=
  let c0_7109 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c281_i32_7108 : BitVec 32 := 281#32
  let v11383 : BitVec 32 := Scalar.addi v8853 c281_i32_7108
  let v11384 : Index := Scalar.indexCast v11383
  ![0, v11384.toNat]
def k0_off2154 (v11385 : BitVec 32) : Fin 3 → Nat :=
  let v11386 : Index := Scalar.indexCast v11385
  let c0_7110 : Index := 0#32
  let c0_7111 : Index := 0#32
  ![v11386.toNat, 0, 0]

def k0_chk1314 (v11385 : BitVec 32) : Prop :=
  (∀ a, (k0_off2154 v11385) a + S1x1x128.size a ≤ S100000x1x128.size a)
theorem k0_off2154_inb : ∀ (v11385 : BitVec 32) (k0_hw1314 : k0_chk1314 v11385), ∀ a, (k0_off2154 v11385) a + S1x1x128.size a ≤ S100000x1x128.size a := fun v11385 k0_hw1314 => k0_hw1314

def k0_off2155 (k0_t1 : Fin k0_t1_loop.trips) : Fin 2 → Nat :=
  let c0_7115 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c282_i32_7114 : BitVec 32 := 282#32
  let v11392 : BitVec 32 := Scalar.addi v8853 c282_i32_7114
  let v11393 : Index := Scalar.indexCast v11392
  ![0, v11393.toNat]
def k0_off2156 (v11394 : BitVec 32) : Fin 3 → Nat :=
  let v11395 : Index := Scalar.indexCast v11394
  let c0_7116 : Index := 0#32
  let c0_7117 : Index := 0#32
  ![v11395.toNat, 0, 0]

def k0_chk1315 (v11394 : BitVec 32) : Prop :=
  (∀ a, (k0_off2156 v11394) a + S1x1x128.size a ≤ S100000x1x128.size a)
theorem k0_off2156_inb : ∀ (v11394 : BitVec 32) (k0_hw1315 : k0_chk1315 v11394), ∀ a, (k0_off2156 v11394) a + S1x1x128.size a ≤ S100000x1x128.size a := fun v11394 k0_hw1315 => k0_hw1315

def k0_off2157 (k0_t1 : Fin k0_t1_loop.trips) : Fin 2 → Nat :=
  let c0_7121 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c283_i32_7120 : BitVec 32 := 283#32
  let v11401 : BitVec 32 := Scalar.addi v8853 c283_i32_7120
  let v11402 : Index := Scalar.indexCast v11401
  ![0, v11402.toNat]
def k0_off2158 (v11403 : BitVec 32) : Fin 3 → Nat :=
  let v11404 : Index := Scalar.indexCast v11403
  let c0_7122 : Index := 0#32
  let c0_7123 : Index := 0#32
  ![v11404.toNat, 0, 0]

def k0_chk1316 (v11403 : BitVec 32) : Prop :=
  (∀ a, (k0_off2158 v11403) a + S1x1x128.size a ≤ S100000x1x128.size a)
theorem k0_off2158_inb : ∀ (v11403 : BitVec 32) (k0_hw1316 : k0_chk1316 v11403), ∀ a, (k0_off2158 v11403) a + S1x1x128.size a ≤ S100000x1x128.size a := fun v11403 k0_hw1316 => k0_hw1316

def k0_off2159 (k0_t1 : Fin k0_t1_loop.trips) : Fin 2 → Nat :=
  let c0_7127 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c284_i32_7126 : BitVec 32 := 284#32
  let v11410 : BitVec 32 := Scalar.addi v8853 c284_i32_7126
  let v11411 : Index := Scalar.indexCast v11410
  ![0, v11411.toNat]
def k0_off2160 (v11412 : BitVec 32) : Fin 3 → Nat :=
  let v11413 : Index := Scalar.indexCast v11412
  let c0_7128 : Index := 0#32
  let c0_7129 : Index := 0#32
  ![v11413.toNat, 0, 0]

def k0_chk1317 (v11412 : BitVec 32) : Prop :=
  (∀ a, (k0_off2160 v11412) a + S1x1x128.size a ≤ S100000x1x128.size a)
theorem k0_off2160_inb : ∀ (v11412 : BitVec 32) (k0_hw1317 : k0_chk1317 v11412), ∀ a, (k0_off2160 v11412) a + S1x1x128.size a ≤ S100000x1x128.size a := fun v11412 k0_hw1317 => k0_hw1317

def k0_off2161 (k0_t1 : Fin k0_t1_loop.trips) : Fin 2 → Nat :=
  let c0_7133 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c285_i32_7132 : BitVec 32 := 285#32
  let v11419 : BitVec 32 := Scalar.addi v8853 c285_i32_7132
  let v11420 : Index := Scalar.indexCast v11419
  ![0, v11420.toNat]
def k0_off2162 (v11421 : BitVec 32) : Fin 3 → Nat :=
  let v11422 : Index := Scalar.indexCast v11421
  let c0_7134 : Index := 0#32
  let c0_7135 : Index := 0#32
  ![v11422.toNat, 0, 0]

def k0_chk1318 (v11421 : BitVec 32) : Prop :=
  (∀ a, (k0_off2162 v11421) a + S1x1x128.size a ≤ S100000x1x128.size a)
theorem k0_off2162_inb : ∀ (v11421 : BitVec 32) (k0_hw1318 : k0_chk1318 v11421), ∀ a, (k0_off2162 v11421) a + S1x1x128.size a ≤ S100000x1x128.size a := fun v11421 k0_hw1318 => k0_hw1318

def k0_off2163 (k0_t1 : Fin k0_t1_loop.trips) : Fin 2 → Nat :=
  let c0_7139 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c286_i32_7138 : BitVec 32 := 286#32
  let v11428 : BitVec 32 := Scalar.addi v8853 c286_i32_7138
  let v11429 : Index := Scalar.indexCast v11428
  ![0, v11429.toNat]
def k0_off2164 (v11430 : BitVec 32) : Fin 3 → Nat :=
  let v11431 : Index := Scalar.indexCast v11430
  let c0_7140 : Index := 0#32
  let c0_7141 : Index := 0#32
  ![v11431.toNat, 0, 0]

def k0_chk1319 (v11430 : BitVec 32) : Prop :=
  (∀ a, (k0_off2164 v11430) a + S1x1x128.size a ≤ S100000x1x128.size a)
theorem k0_off2164_inb : ∀ (v11430 : BitVec 32) (k0_hw1319 : k0_chk1319 v11430), ∀ a, (k0_off2164 v11430) a + S1x1x128.size a ≤ S100000x1x128.size a := fun v11430 k0_hw1319 => k0_hw1319

def k0_off2165 (k0_t1 : Fin k0_t1_loop.trips) : Fin 2 → Nat :=
  let c0_7145 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c287_i32_7144 : BitVec 32 := 287#32
  let v11437 : BitVec 32 := Scalar.addi v8853 c287_i32_7144
  let v11438 : Index := Scalar.indexCast v11437
  ![0, v11438.toNat]
def k0_off2166 (v11439 : BitVec 32) : Fin 3 → Nat :=
  let v11440 : Index := Scalar.indexCast v11439
  let c0_7146 : Index := 0#32
  let c0_7147 : Index := 0#32
  ![v11440.toNat, 0, 0]

def k0_chk1320 (v11439 : BitVec 32) : Prop :=
  (∀ a, (k0_off2166 v11439) a + S1x1x128.size a ≤ S100000x1x128.size a)
theorem k0_off2166_inb : ∀ (v11439 : BitVec 32) (k0_hw1320 : k0_chk1320 v11439), ∀ a, (k0_off2166 v11439) a + S1x1x128.size a ≤ S100000x1x128.size a := fun v11439 k0_hw1320 => k0_hw1320

def k0_off2167 (k0_t1 : Fin k0_t1_loop.trips) : Fin 2 → Nat :=
  let c0_7151 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c288_i32_7150 : BitVec 32 := 288#32
  let v11446 : BitVec 32 := Scalar.addi v8853 c288_i32_7150
  let v11447 : Index := Scalar.indexCast v11446
  ![0, v11447.toNat]
def k0_off2168 (v11448 : BitVec 32) : Fin 3 → Nat :=
  let v11449 : Index := Scalar.indexCast v11448
  let c0_7152 : Index := 0#32
  let c0_7153 : Index := 0#32
  ![v11449.toNat, 0, 0]

def k0_chk1321 (v11448 : BitVec 32) : Prop :=
  (∀ a, (k0_off2168 v11448) a + S1x1x128.size a ≤ S100000x1x128.size a)
theorem k0_off2168_inb : ∀ (v11448 : BitVec 32) (k0_hw1321 : k0_chk1321 v11448), ∀ a, (k0_off2168 v11448) a + S1x1x128.size a ≤ S100000x1x128.size a := fun v11448 k0_hw1321 => k0_hw1321

def k0_off2169 (k0_t1 : Fin k0_t1_loop.trips) : Fin 2 → Nat :=
  let c0_7157 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c289_i32_7156 : BitVec 32 := 289#32
  let v11455 : BitVec 32 := Scalar.addi v8853 c289_i32_7156
  let v11456 : Index := Scalar.indexCast v11455
  ![0, v11456.toNat]
def k0_off2170 (v11457 : BitVec 32) : Fin 3 → Nat :=
  let v11458 : Index := Scalar.indexCast v11457
  let c0_7158 : Index := 0#32
  let c0_7159 : Index := 0#32
  ![v11458.toNat, 0, 0]

def k0_chk1322 (v11457 : BitVec 32) : Prop :=
  (∀ a, (k0_off2170 v11457) a + S1x1x128.size a ≤ S100000x1x128.size a)
theorem k0_off2170_inb : ∀ (v11457 : BitVec 32) (k0_hw1322 : k0_chk1322 v11457), ∀ a, (k0_off2170 v11457) a + S1x1x128.size a ≤ S100000x1x128.size a := fun v11457 k0_hw1322 => k0_hw1322

def k0_off2171 (k0_t1 : Fin k0_t1_loop.trips) : Fin 2 → Nat :=
  let c0_7163 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c290_i32_7162 : BitVec 32 := 290#32
  let v11464 : BitVec 32 := Scalar.addi v8853 c290_i32_7162
  let v11465 : Index := Scalar.indexCast v11464
  ![0, v11465.toNat]
def k0_off2172 (v11466 : BitVec 32) : Fin 3 → Nat :=
  let v11467 : Index := Scalar.indexCast v11466
  let c0_7164 : Index := 0#32
  let c0_7165 : Index := 0#32
  ![v11467.toNat, 0, 0]

def k0_chk1323 (v11466 : BitVec 32) : Prop :=
  (∀ a, (k0_off2172 v11466) a + S1x1x128.size a ≤ S100000x1x128.size a)
theorem k0_off2172_inb : ∀ (v11466 : BitVec 32) (k0_hw1323 : k0_chk1323 v11466), ∀ a, (k0_off2172 v11466) a + S1x1x128.size a ≤ S100000x1x128.size a := fun v11466 k0_hw1323 => k0_hw1323

def k0_off2173 (k0_t1 : Fin k0_t1_loop.trips) : Fin 2 → Nat :=
  let c0_7169 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c291_i32_7168 : BitVec 32 := 291#32
  let v11473 : BitVec 32 := Scalar.addi v8853 c291_i32_7168
  let v11474 : Index := Scalar.indexCast v11473
  ![0, v11474.toNat]
def k0_off2174 (v11475 : BitVec 32) : Fin 3 → Nat :=
  let v11476 : Index := Scalar.indexCast v11475
  let c0_7170 : Index := 0#32
  let c0_7171 : Index := 0#32
  ![v11476.toNat, 0, 0]

def k0_chk1324 (v11475 : BitVec 32) : Prop :=
  (∀ a, (k0_off2174 v11475) a + S1x1x128.size a ≤ S100000x1x128.size a)
theorem k0_off2174_inb : ∀ (v11475 : BitVec 32) (k0_hw1324 : k0_chk1324 v11475), ∀ a, (k0_off2174 v11475) a + S1x1x128.size a ≤ S100000x1x128.size a := fun v11475 k0_hw1324 => k0_hw1324

def k0_off2175 (k0_t1 : Fin k0_t1_loop.trips) : Fin 2 → Nat :=
  let c0_7175 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c292_i32_7174 : BitVec 32 := 292#32
  let v11482 : BitVec 32 := Scalar.addi v8853 c292_i32_7174
  let v11483 : Index := Scalar.indexCast v11482
  ![0, v11483.toNat]
def k0_off2176 (v11484 : BitVec 32) : Fin 3 → Nat :=
  let v11485 : Index := Scalar.indexCast v11484
  let c0_7176 : Index := 0#32
  let c0_7177 : Index := 0#32
  ![v11485.toNat, 0, 0]

def k0_chk1325 (v11484 : BitVec 32) : Prop :=
  (∀ a, (k0_off2176 v11484) a + S1x1x128.size a ≤ S100000x1x128.size a)
theorem k0_off2176_inb : ∀ (v11484 : BitVec 32) (k0_hw1325 : k0_chk1325 v11484), ∀ a, (k0_off2176 v11484) a + S1x1x128.size a ≤ S100000x1x128.size a := fun v11484 k0_hw1325 => k0_hw1325

def k0_off2177 (k0_t1 : Fin k0_t1_loop.trips) : Fin 2 → Nat :=
  let c0_7181 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c293_i32_7180 : BitVec 32 := 293#32
  let v11491 : BitVec 32 := Scalar.addi v8853 c293_i32_7180
  let v11492 : Index := Scalar.indexCast v11491
  ![0, v11492.toNat]
def k0_off2178 (v11493 : BitVec 32) : Fin 3 → Nat :=
  let v11494 : Index := Scalar.indexCast v11493
  let c0_7182 : Index := 0#32
  let c0_7183 : Index := 0#32
  ![v11494.toNat, 0, 0]

def k0_chk1326 (v11493 : BitVec 32) : Prop :=
  (∀ a, (k0_off2178 v11493) a + S1x1x128.size a ≤ S100000x1x128.size a)
theorem k0_off2178_inb : ∀ (v11493 : BitVec 32) (k0_hw1326 : k0_chk1326 v11493), ∀ a, (k0_off2178 v11493) a + S1x1x128.size a ≤ S100000x1x128.size a := fun v11493 k0_hw1326 => k0_hw1326

def k0_off2179 (k0_t1 : Fin k0_t1_loop.trips) : Fin 2 → Nat :=
  let c0_7187 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c294_i32_7186 : BitVec 32 := 294#32
  let v11500 : BitVec 32 := Scalar.addi v8853 c294_i32_7186
  let v11501 : Index := Scalar.indexCast v11500
  ![0, v11501.toNat]
def k0_off2180 (v11502 : BitVec 32) : Fin 3 → Nat :=
  let v11503 : Index := Scalar.indexCast v11502
  let c0_7188 : Index := 0#32
  let c0_7189 : Index := 0#32
  ![v11503.toNat, 0, 0]

def k0_chk1327 (v11502 : BitVec 32) : Prop :=
  (∀ a, (k0_off2180 v11502) a + S1x1x128.size a ≤ S100000x1x128.size a)
theorem k0_off2180_inb : ∀ (v11502 : BitVec 32) (k0_hw1327 : k0_chk1327 v11502), ∀ a, (k0_off2180 v11502) a + S1x1x128.size a ≤ S100000x1x128.size a := fun v11502 k0_hw1327 => k0_hw1327

def k0_off2181 (k0_t1 : Fin k0_t1_loop.trips) : Fin 2 → Nat :=
  let c0_7193 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c295_i32_7192 : BitVec 32 := 295#32
  let v11509 : BitVec 32 := Scalar.addi v8853 c295_i32_7192
  let v11510 : Index := Scalar.indexCast v11509
  ![0, v11510.toNat]
def k0_off2182 (v11511 : BitVec 32) : Fin 3 → Nat :=
  let v11512 : Index := Scalar.indexCast v11511
  let c0_7194 : Index := 0#32
  let c0_7195 : Index := 0#32
  ![v11512.toNat, 0, 0]

def k0_chk1328 (v11511 : BitVec 32) : Prop :=
  (∀ a, (k0_off2182 v11511) a + S1x1x128.size a ≤ S100000x1x128.size a)
theorem k0_off2182_inb : ∀ (v11511 : BitVec 32) (k0_hw1328 : k0_chk1328 v11511), ∀ a, (k0_off2182 v11511) a + S1x1x128.size a ≤ S100000x1x128.size a := fun v11511 k0_hw1328 => k0_hw1328

def k0_off2183 (k0_t1 : Fin k0_t1_loop.trips) : Fin 2 → Nat :=
  let c0_7199 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c296_i32_7198 : BitVec 32 := 296#32
  let v11518 : BitVec 32 := Scalar.addi v8853 c296_i32_7198
  let v11519 : Index := Scalar.indexCast v11518
  ![0, v11519.toNat]
def k0_off2184 (v11520 : BitVec 32) : Fin 3 → Nat :=
  let v11521 : Index := Scalar.indexCast v11520
  let c0_7200 : Index := 0#32
  let c0_7201 : Index := 0#32
  ![v11521.toNat, 0, 0]

def k0_chk1329 (v11520 : BitVec 32) : Prop :=
  (∀ a, (k0_off2184 v11520) a + S1x1x128.size a ≤ S100000x1x128.size a)
theorem k0_off2184_inb : ∀ (v11520 : BitVec 32) (k0_hw1329 : k0_chk1329 v11520), ∀ a, (k0_off2184 v11520) a + S1x1x128.size a ≤ S100000x1x128.size a := fun v11520 k0_hw1329 => k0_hw1329

def k0_off2185 (k0_t1 : Fin k0_t1_loop.trips) : Fin 2 → Nat :=
  let c0_7205 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c297_i32_7204 : BitVec 32 := 297#32
  let v11527 : BitVec 32 := Scalar.addi v8853 c297_i32_7204
  let v11528 : Index := Scalar.indexCast v11527
  ![0, v11528.toNat]
def k0_off2186 (v11529 : BitVec 32) : Fin 3 → Nat :=
  let v11530 : Index := Scalar.indexCast v11529
  let c0_7206 : Index := 0#32
  let c0_7207 : Index := 0#32
  ![v11530.toNat, 0, 0]

def k0_chk1330 (v11529 : BitVec 32) : Prop :=
  (∀ a, (k0_off2186 v11529) a + S1x1x128.size a ≤ S100000x1x128.size a)
theorem k0_off2186_inb : ∀ (v11529 : BitVec 32) (k0_hw1330 : k0_chk1330 v11529), ∀ a, (k0_off2186 v11529) a + S1x1x128.size a ≤ S100000x1x128.size a := fun v11529 k0_hw1330 => k0_hw1330

def k0_off2187 (k0_t1 : Fin k0_t1_loop.trips) : Fin 2 → Nat :=
  let c0_7211 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c298_i32_7210 : BitVec 32 := 298#32
  let v11536 : BitVec 32 := Scalar.addi v8853 c298_i32_7210
  let v11537 : Index := Scalar.indexCast v11536
  ![0, v11537.toNat]
def k0_off2188 (v11538 : BitVec 32) : Fin 3 → Nat :=
  let v11539 : Index := Scalar.indexCast v11538
  let c0_7212 : Index := 0#32
  let c0_7213 : Index := 0#32
  ![v11539.toNat, 0, 0]

def k0_chk1331 (v11538 : BitVec 32) : Prop :=
  (∀ a, (k0_off2188 v11538) a + S1x1x128.size a ≤ S100000x1x128.size a)
theorem k0_off2188_inb : ∀ (v11538 : BitVec 32) (k0_hw1331 : k0_chk1331 v11538), ∀ a, (k0_off2188 v11538) a + S1x1x128.size a ≤ S100000x1x128.size a := fun v11538 k0_hw1331 => k0_hw1331

def k0_off2189 (k0_t1 : Fin k0_t1_loop.trips) : Fin 2 → Nat :=
  let c0_7217 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c299_i32_7216 : BitVec 32 := 299#32
  let v11545 : BitVec 32 := Scalar.addi v8853 c299_i32_7216
  let v11546 : Index := Scalar.indexCast v11545
  ![0, v11546.toNat]
def k0_off2190 (v11547 : BitVec 32) : Fin 3 → Nat :=
  let v11548 : Index := Scalar.indexCast v11547
  let c0_7218 : Index := 0#32
  let c0_7219 : Index := 0#32
  ![v11548.toNat, 0, 0]

def k0_chk1332 (v11547 : BitVec 32) : Prop :=
  (∀ a, (k0_off2190 v11547) a + S1x1x128.size a ≤ S100000x1x128.size a)
theorem k0_off2190_inb : ∀ (v11547 : BitVec 32) (k0_hw1332 : k0_chk1332 v11547), ∀ a, (k0_off2190 v11547) a + S1x1x128.size a ≤ S100000x1x128.size a := fun v11547 k0_hw1332 => k0_hw1332

def k0_off2191 (k0_t1 : Fin k0_t1_loop.trips) : Fin 2 → Nat :=
  let c0_7223 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c300_i32_7222 : BitVec 32 := 300#32
  let v11554 : BitVec 32 := Scalar.addi v8853 c300_i32_7222
  let v11555 : Index := Scalar.indexCast v11554
  ![0, v11555.toNat]
def k0_off2192 (v11556 : BitVec 32) : Fin 3 → Nat :=
  let v11557 : Index := Scalar.indexCast v11556
  let c0_7224 : Index := 0#32
  let c0_7225 : Index := 0#32
  ![v11557.toNat, 0, 0]

def k0_chk1333 (v11556 : BitVec 32) : Prop :=
  (∀ a, (k0_off2192 v11556) a + S1x1x128.size a ≤ S100000x1x128.size a)
theorem k0_off2192_inb : ∀ (v11556 : BitVec 32) (k0_hw1333 : k0_chk1333 v11556), ∀ a, (k0_off2192 v11556) a + S1x1x128.size a ≤ S100000x1x128.size a := fun v11556 k0_hw1333 => k0_hw1333

def k0_off2193 (k0_t1 : Fin k0_t1_loop.trips) : Fin 2 → Nat :=
  let c0_7229 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c301_i32_7228 : BitVec 32 := 301#32
  let v11563 : BitVec 32 := Scalar.addi v8853 c301_i32_7228
  let v11564 : Index := Scalar.indexCast v11563
  ![0, v11564.toNat]
def k0_off2194 (v11565 : BitVec 32) : Fin 3 → Nat :=
  let v11566 : Index := Scalar.indexCast v11565
  let c0_7230 : Index := 0#32
  let c0_7231 : Index := 0#32
  ![v11566.toNat, 0, 0]

def k0_chk1334 (v11565 : BitVec 32) : Prop :=
  (∀ a, (k0_off2194 v11565) a + S1x1x128.size a ≤ S100000x1x128.size a)
theorem k0_off2194_inb : ∀ (v11565 : BitVec 32) (k0_hw1334 : k0_chk1334 v11565), ∀ a, (k0_off2194 v11565) a + S1x1x128.size a ≤ S100000x1x128.size a := fun v11565 k0_hw1334 => k0_hw1334

def k0_off2195 (k0_t1 : Fin k0_t1_loop.trips) : Fin 2 → Nat :=
  let c0_7235 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c302_i32_7234 : BitVec 32 := 302#32
  let v11572 : BitVec 32 := Scalar.addi v8853 c302_i32_7234
  let v11573 : Index := Scalar.indexCast v11572
  ![0, v11573.toNat]
def k0_off2196 (v11574 : BitVec 32) : Fin 3 → Nat :=
  let v11575 : Index := Scalar.indexCast v11574
  let c0_7236 : Index := 0#32
  let c0_7237 : Index := 0#32
  ![v11575.toNat, 0, 0]

def k0_chk1335 (v11574 : BitVec 32) : Prop :=
  (∀ a, (k0_off2196 v11574) a + S1x1x128.size a ≤ S100000x1x128.size a)
theorem k0_off2196_inb : ∀ (v11574 : BitVec 32) (k0_hw1335 : k0_chk1335 v11574), ∀ a, (k0_off2196 v11574) a + S1x1x128.size a ≤ S100000x1x128.size a := fun v11574 k0_hw1335 => k0_hw1335

def k0_off2197 (k0_t1 : Fin k0_t1_loop.trips) : Fin 2 → Nat :=
  let c0_7241 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c303_i32_7240 : BitVec 32 := 303#32
  let v11581 : BitVec 32 := Scalar.addi v8853 c303_i32_7240
  let v11582 : Index := Scalar.indexCast v11581
  ![0, v11582.toNat]
def k0_off2198 (v11583 : BitVec 32) : Fin 3 → Nat :=
  let v11584 : Index := Scalar.indexCast v11583
  let c0_7242 : Index := 0#32
  let c0_7243 : Index := 0#32
  ![v11584.toNat, 0, 0]

def k0_chk1336 (v11583 : BitVec 32) : Prop :=
  (∀ a, (k0_off2198 v11583) a + S1x1x128.size a ≤ S100000x1x128.size a)
theorem k0_off2198_inb : ∀ (v11583 : BitVec 32) (k0_hw1336 : k0_chk1336 v11583), ∀ a, (k0_off2198 v11583) a + S1x1x128.size a ≤ S100000x1x128.size a := fun v11583 k0_hw1336 => k0_hw1336

def k0_off2199 (k0_t1 : Fin k0_t1_loop.trips) : Fin 2 → Nat :=
  let c0_7247 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c304_i32_7246 : BitVec 32 := 304#32
  let v11590 : BitVec 32 := Scalar.addi v8853 c304_i32_7246
  let v11591 : Index := Scalar.indexCast v11590
  ![0, v11591.toNat]
def k0_off2200 (v11592 : BitVec 32) : Fin 3 → Nat :=
  let v11593 : Index := Scalar.indexCast v11592
  let c0_7248 : Index := 0#32
  let c0_7249 : Index := 0#32
  ![v11593.toNat, 0, 0]

def k0_chk1337 (v11592 : BitVec 32) : Prop :=
  (∀ a, (k0_off2200 v11592) a + S1x1x128.size a ≤ S100000x1x128.size a)
theorem k0_off2200_inb : ∀ (v11592 : BitVec 32) (k0_hw1337 : k0_chk1337 v11592), ∀ a, (k0_off2200 v11592) a + S1x1x128.size a ≤ S100000x1x128.size a := fun v11592 k0_hw1337 => k0_hw1337

def k0_off2201 (k0_t1 : Fin k0_t1_loop.trips) : Fin 2 → Nat :=
  let c0_7253 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c305_i32_7252 : BitVec 32 := 305#32
  let v11599 : BitVec 32 := Scalar.addi v8853 c305_i32_7252
  let v11600 : Index := Scalar.indexCast v11599
  ![0, v11600.toNat]
def k0_off2202 (v11601 : BitVec 32) : Fin 3 → Nat :=
  let v11602 : Index := Scalar.indexCast v11601
  let c0_7254 : Index := 0#32
  let c0_7255 : Index := 0#32
  ![v11602.toNat, 0, 0]

def k0_chk1338 (v11601 : BitVec 32) : Prop :=
  (∀ a, (k0_off2202 v11601) a + S1x1x128.size a ≤ S100000x1x128.size a)
theorem k0_off2202_inb : ∀ (v11601 : BitVec 32) (k0_hw1338 : k0_chk1338 v11601), ∀ a, (k0_off2202 v11601) a + S1x1x128.size a ≤ S100000x1x128.size a := fun v11601 k0_hw1338 => k0_hw1338

def k0_off2203 (k0_t1 : Fin k0_t1_loop.trips) : Fin 2 → Nat :=
  let c0_7259 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c306_i32_7258 : BitVec 32 := 306#32
  let v11608 : BitVec 32 := Scalar.addi v8853 c306_i32_7258
  let v11609 : Index := Scalar.indexCast v11608
  ![0, v11609.toNat]
def k0_off2204 (v11610 : BitVec 32) : Fin 3 → Nat :=
  let v11611 : Index := Scalar.indexCast v11610
  let c0_7260 : Index := 0#32
  let c0_7261 : Index := 0#32
  ![v11611.toNat, 0, 0]

def k0_chk1339 (v11610 : BitVec 32) : Prop :=
  (∀ a, (k0_off2204 v11610) a + S1x1x128.size a ≤ S100000x1x128.size a)
theorem k0_off2204_inb : ∀ (v11610 : BitVec 32) (k0_hw1339 : k0_chk1339 v11610), ∀ a, (k0_off2204 v11610) a + S1x1x128.size a ≤ S100000x1x128.size a := fun v11610 k0_hw1339 => k0_hw1339

def k0_off2205 (k0_t1 : Fin k0_t1_loop.trips) : Fin 2 → Nat :=
  let c0_7265 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c307_i32_7264 : BitVec 32 := 307#32
  let v11617 : BitVec 32 := Scalar.addi v8853 c307_i32_7264
  let v11618 : Index := Scalar.indexCast v11617
  ![0, v11618.toNat]
def k0_off2206 (v11619 : BitVec 32) : Fin 3 → Nat :=
  let v11620 : Index := Scalar.indexCast v11619
  let c0_7266 : Index := 0#32
  let c0_7267 : Index := 0#32
  ![v11620.toNat, 0, 0]

def k0_chk1340 (v11619 : BitVec 32) : Prop :=
  (∀ a, (k0_off2206 v11619) a + S1x1x128.size a ≤ S100000x1x128.size a)
theorem k0_off2206_inb : ∀ (v11619 : BitVec 32) (k0_hw1340 : k0_chk1340 v11619), ∀ a, (k0_off2206 v11619) a + S1x1x128.size a ≤ S100000x1x128.size a := fun v11619 k0_hw1340 => k0_hw1340

def k0_off2207 (k0_t1 : Fin k0_t1_loop.trips) : Fin 2 → Nat :=
  let c0_7271 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c308_i32_7270 : BitVec 32 := 308#32
  let v11626 : BitVec 32 := Scalar.addi v8853 c308_i32_7270
  let v11627 : Index := Scalar.indexCast v11626
  ![0, v11627.toNat]
def k0_off2208 (v11628 : BitVec 32) : Fin 3 → Nat :=
  let v11629 : Index := Scalar.indexCast v11628
  let c0_7272 : Index := 0#32
  let c0_7273 : Index := 0#32
  ![v11629.toNat, 0, 0]

def k0_chk1341 (v11628 : BitVec 32) : Prop :=
  (∀ a, (k0_off2208 v11628) a + S1x1x128.size a ≤ S100000x1x128.size a)
theorem k0_off2208_inb : ∀ (v11628 : BitVec 32) (k0_hw1341 : k0_chk1341 v11628), ∀ a, (k0_off2208 v11628) a + S1x1x128.size a ≤ S100000x1x128.size a := fun v11628 k0_hw1341 => k0_hw1341

def k0_off2209 (k0_t1 : Fin k0_t1_loop.trips) : Fin 2 → Nat :=
  let c0_7277 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c309_i32_7276 : BitVec 32 := 309#32
  let v11635 : BitVec 32 := Scalar.addi v8853 c309_i32_7276
  let v11636 : Index := Scalar.indexCast v11635
  ![0, v11636.toNat]
def k0_off2210 (v11637 : BitVec 32) : Fin 3 → Nat :=
  let v11638 : Index := Scalar.indexCast v11637
  let c0_7278 : Index := 0#32
  let c0_7279 : Index := 0#32
  ![v11638.toNat, 0, 0]

def k0_chk1342 (v11637 : BitVec 32) : Prop :=
  (∀ a, (k0_off2210 v11637) a + S1x1x128.size a ≤ S100000x1x128.size a)
theorem k0_off2210_inb : ∀ (v11637 : BitVec 32) (k0_hw1342 : k0_chk1342 v11637), ∀ a, (k0_off2210 v11637) a + S1x1x128.size a ≤ S100000x1x128.size a := fun v11637 k0_hw1342 => k0_hw1342

def k0_off2211 (k0_t1 : Fin k0_t1_loop.trips) : Fin 2 → Nat :=
  let c0_7283 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c310_i32_7282 : BitVec 32 := 310#32
  let v11644 : BitVec 32 := Scalar.addi v8853 c310_i32_7282
  let v11645 : Index := Scalar.indexCast v11644
  ![0, v11645.toNat]
def k0_off2212 (v11646 : BitVec 32) : Fin 3 → Nat :=
  let v11647 : Index := Scalar.indexCast v11646
  let c0_7284 : Index := 0#32
  let c0_7285 : Index := 0#32
  ![v11647.toNat, 0, 0]

def k0_chk1343 (v11646 : BitVec 32) : Prop :=
  (∀ a, (k0_off2212 v11646) a + S1x1x128.size a ≤ S100000x1x128.size a)
theorem k0_off2212_inb : ∀ (v11646 : BitVec 32) (k0_hw1343 : k0_chk1343 v11646), ∀ a, (k0_off2212 v11646) a + S1x1x128.size a ≤ S100000x1x128.size a := fun v11646 k0_hw1343 => k0_hw1343

def k0_off2213 (k0_t1 : Fin k0_t1_loop.trips) : Fin 2 → Nat :=
  let c0_7289 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c311_i32_7288 : BitVec 32 := 311#32
  let v11653 : BitVec 32 := Scalar.addi v8853 c311_i32_7288
  let v11654 : Index := Scalar.indexCast v11653
  ![0, v11654.toNat]
def k0_off2214 (v11655 : BitVec 32) : Fin 3 → Nat :=
  let v11656 : Index := Scalar.indexCast v11655
  let c0_7290 : Index := 0#32
  let c0_7291 : Index := 0#32
  ![v11656.toNat, 0, 0]

def k0_chk1344 (v11655 : BitVec 32) : Prop :=
  (∀ a, (k0_off2214 v11655) a + S1x1x128.size a ≤ S100000x1x128.size a)
theorem k0_off2214_inb : ∀ (v11655 : BitVec 32) (k0_hw1344 : k0_chk1344 v11655), ∀ a, (k0_off2214 v11655) a + S1x1x128.size a ≤ S100000x1x128.size a := fun v11655 k0_hw1344 => k0_hw1344

def k0_off2215 (k0_t1 : Fin k0_t1_loop.trips) : Fin 2 → Nat :=
  let c0_7295 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c312_i32_7294 : BitVec 32 := 312#32
  let v11662 : BitVec 32 := Scalar.addi v8853 c312_i32_7294
  let v11663 : Index := Scalar.indexCast v11662
  ![0, v11663.toNat]
def k0_off2216 (v11664 : BitVec 32) : Fin 3 → Nat :=
  let v11665 : Index := Scalar.indexCast v11664
  let c0_7296 : Index := 0#32
  let c0_7297 : Index := 0#32
  ![v11665.toNat, 0, 0]

def k0_chk1345 (v11664 : BitVec 32) : Prop :=
  (∀ a, (k0_off2216 v11664) a + S1x1x128.size a ≤ S100000x1x128.size a)
theorem k0_off2216_inb : ∀ (v11664 : BitVec 32) (k0_hw1345 : k0_chk1345 v11664), ∀ a, (k0_off2216 v11664) a + S1x1x128.size a ≤ S100000x1x128.size a := fun v11664 k0_hw1345 => k0_hw1345

def k0_off2217 (k0_t1 : Fin k0_t1_loop.trips) : Fin 2 → Nat :=
  let c0_7301 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c313_i32_7300 : BitVec 32 := 313#32
  let v11671 : BitVec 32 := Scalar.addi v8853 c313_i32_7300
  let v11672 : Index := Scalar.indexCast v11671
  ![0, v11672.toNat]
def k0_off2218 (v11673 : BitVec 32) : Fin 3 → Nat :=
  let v11674 : Index := Scalar.indexCast v11673
  let c0_7302 : Index := 0#32
  let c0_7303 : Index := 0#32
  ![v11674.toNat, 0, 0]

def k0_chk1346 (v11673 : BitVec 32) : Prop :=
  (∀ a, (k0_off2218 v11673) a + S1x1x128.size a ≤ S100000x1x128.size a)
theorem k0_off2218_inb : ∀ (v11673 : BitVec 32) (k0_hw1346 : k0_chk1346 v11673), ∀ a, (k0_off2218 v11673) a + S1x1x128.size a ≤ S100000x1x128.size a := fun v11673 k0_hw1346 => k0_hw1346

def k0_off2219 (k0_t1 : Fin k0_t1_loop.trips) : Fin 2 → Nat :=
  let c0_7307 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c314_i32_7306 : BitVec 32 := 314#32
  let v11680 : BitVec 32 := Scalar.addi v8853 c314_i32_7306
  let v11681 : Index := Scalar.indexCast v11680
  ![0, v11681.toNat]
def k0_off2220 (v11682 : BitVec 32) : Fin 3 → Nat :=
  let v11683 : Index := Scalar.indexCast v11682
  let c0_7308 : Index := 0#32
  let c0_7309 : Index := 0#32
  ![v11683.toNat, 0, 0]

def k0_chk1347 (v11682 : BitVec 32) : Prop :=
  (∀ a, (k0_off2220 v11682) a + S1x1x128.size a ≤ S100000x1x128.size a)
theorem k0_off2220_inb : ∀ (v11682 : BitVec 32) (k0_hw1347 : k0_chk1347 v11682), ∀ a, (k0_off2220 v11682) a + S1x1x128.size a ≤ S100000x1x128.size a := fun v11682 k0_hw1347 => k0_hw1347

def k0_off2221 (k0_t1 : Fin k0_t1_loop.trips) : Fin 2 → Nat :=
  let c0_7313 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c315_i32_7312 : BitVec 32 := 315#32
  let v11689 : BitVec 32 := Scalar.addi v8853 c315_i32_7312
  let v11690 : Index := Scalar.indexCast v11689
  ![0, v11690.toNat]
def k0_off2222 (v11691 : BitVec 32) : Fin 3 → Nat :=
  let v11692 : Index := Scalar.indexCast v11691
  let c0_7314 : Index := 0#32
  let c0_7315 : Index := 0#32
  ![v11692.toNat, 0, 0]

def k0_chk1348 (v11691 : BitVec 32) : Prop :=
  (∀ a, (k0_off2222 v11691) a + S1x1x128.size a ≤ S100000x1x128.size a)
theorem k0_off2222_inb : ∀ (v11691 : BitVec 32) (k0_hw1348 : k0_chk1348 v11691), ∀ a, (k0_off2222 v11691) a + S1x1x128.size a ≤ S100000x1x128.size a := fun v11691 k0_hw1348 => k0_hw1348

def k0_off2223 (k0_t1 : Fin k0_t1_loop.trips) : Fin 2 → Nat :=
  let c0_7319 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c316_i32_7318 : BitVec 32 := 316#32
  let v11698 : BitVec 32 := Scalar.addi v8853 c316_i32_7318
  let v11699 : Index := Scalar.indexCast v11698
  ![0, v11699.toNat]
def k0_off2224 (v11700 : BitVec 32) : Fin 3 → Nat :=
  let v11701 : Index := Scalar.indexCast v11700
  let c0_7320 : Index := 0#32
  let c0_7321 : Index := 0#32
  ![v11701.toNat, 0, 0]

def k0_chk1349 (v11700 : BitVec 32) : Prop :=
  (∀ a, (k0_off2224 v11700) a + S1x1x128.size a ≤ S100000x1x128.size a)
theorem k0_off2224_inb : ∀ (v11700 : BitVec 32) (k0_hw1349 : k0_chk1349 v11700), ∀ a, (k0_off2224 v11700) a + S1x1x128.size a ≤ S100000x1x128.size a := fun v11700 k0_hw1349 => k0_hw1349

def k0_off2225 (k0_t1 : Fin k0_t1_loop.trips) : Fin 2 → Nat :=
  let c0_7325 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c317_i32_7324 : BitVec 32 := 317#32
  let v11707 : BitVec 32 := Scalar.addi v8853 c317_i32_7324
  let v11708 : Index := Scalar.indexCast v11707
  ![0, v11708.toNat]
def k0_off2226 (v11709 : BitVec 32) : Fin 3 → Nat :=
  let v11710 : Index := Scalar.indexCast v11709
  let c0_7326 : Index := 0#32
  let c0_7327 : Index := 0#32
  ![v11710.toNat, 0, 0]

def k0_chk1350 (v11709 : BitVec 32) : Prop :=
  (∀ a, (k0_off2226 v11709) a + S1x1x128.size a ≤ S100000x1x128.size a)
theorem k0_off2226_inb : ∀ (v11709 : BitVec 32) (k0_hw1350 : k0_chk1350 v11709), ∀ a, (k0_off2226 v11709) a + S1x1x128.size a ≤ S100000x1x128.size a := fun v11709 k0_hw1350 => k0_hw1350

def k0_off2227 (k0_t1 : Fin k0_t1_loop.trips) : Fin 2 → Nat :=
  let c0_7331 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c318_i32_7330 : BitVec 32 := 318#32
  let v11716 : BitVec 32 := Scalar.addi v8853 c318_i32_7330
  let v11717 : Index := Scalar.indexCast v11716
  ![0, v11717.toNat]
def k0_off2228 (v11718 : BitVec 32) : Fin 3 → Nat :=
  let v11719 : Index := Scalar.indexCast v11718
  let c0_7332 : Index := 0#32
  let c0_7333 : Index := 0#32
  ![v11719.toNat, 0, 0]

def k0_chk1351 (v11718 : BitVec 32) : Prop :=
  (∀ a, (k0_off2228 v11718) a + S1x1x128.size a ≤ S100000x1x128.size a)
theorem k0_off2228_inb : ∀ (v11718 : BitVec 32) (k0_hw1351 : k0_chk1351 v11718), ∀ a, (k0_off2228 v11718) a + S1x1x128.size a ≤ S100000x1x128.size a := fun v11718 k0_hw1351 => k0_hw1351

def k0_off2229 (k0_t1 : Fin k0_t1_loop.trips) : Fin 2 → Nat :=
  let c0_7337 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c319_i32_7336 : BitVec 32 := 319#32
  let v11725 : BitVec 32 := Scalar.addi v8853 c319_i32_7336
  let v11726 : Index := Scalar.indexCast v11725
  ![0, v11726.toNat]
def k0_off2230 (v11727 : BitVec 32) : Fin 3 → Nat :=
  let v11728 : Index := Scalar.indexCast v11727
  let c0_7338 : Index := 0#32
  let c0_7339 : Index := 0#32
  ![v11728.toNat, 0, 0]

def k0_chk1352 (v11727 : BitVec 32) : Prop :=
  (∀ a, (k0_off2230 v11727) a + S1x1x128.size a ≤ S100000x1x128.size a)
theorem k0_off2230_inb : ∀ (v11727 : BitVec 32) (k0_hw1352 : k0_chk1352 v11727), ∀ a, (k0_off2230 v11727) a + S1x1x128.size a ≤ S100000x1x128.size a := fun v11727 k0_hw1352 => k0_hw1352

def k0_off2231 (k0_t1 : Fin k0_t1_loop.trips) : Fin 2 → Nat :=
  let c0_7343 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c320_i32_7342 : BitVec 32 := 320#32
  let v11734 : BitVec 32 := Scalar.addi v8853 c320_i32_7342
  let v11735 : Index := Scalar.indexCast v11734
  ![0, v11735.toNat]
def k0_off2232 (v11736 : BitVec 32) : Fin 3 → Nat :=
  let v11737 : Index := Scalar.indexCast v11736
  let c0_7344 : Index := 0#32
  let c0_7345 : Index := 0#32
  ![v11737.toNat, 0, 0]

def k0_chk1353 (v11736 : BitVec 32) : Prop :=
  (∀ a, (k0_off2232 v11736) a + S1x1x128.size a ≤ S100000x1x128.size a)
theorem k0_off2232_inb : ∀ (v11736 : BitVec 32) (k0_hw1353 : k0_chk1353 v11736), ∀ a, (k0_off2232 v11736) a + S1x1x128.size a ≤ S100000x1x128.size a := fun v11736 k0_hw1353 => k0_hw1353

def k0_off2233 (k0_t1 : Fin k0_t1_loop.trips) : Fin 2 → Nat :=
  let c0_7349 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c321_i32_7348 : BitVec 32 := 321#32
  let v11743 : BitVec 32 := Scalar.addi v8853 c321_i32_7348
  let v11744 : Index := Scalar.indexCast v11743
  ![0, v11744.toNat]
def k0_off2234 (v11745 : BitVec 32) : Fin 3 → Nat :=
  let v11746 : Index := Scalar.indexCast v11745
  let c0_7350 : Index := 0#32
  let c0_7351 : Index := 0#32
  ![v11746.toNat, 0, 0]

def k0_chk1354 (v11745 : BitVec 32) : Prop :=
  (∀ a, (k0_off2234 v11745) a + S1x1x128.size a ≤ S100000x1x128.size a)
theorem k0_off2234_inb : ∀ (v11745 : BitVec 32) (k0_hw1354 : k0_chk1354 v11745), ∀ a, (k0_off2234 v11745) a + S1x1x128.size a ≤ S100000x1x128.size a := fun v11745 k0_hw1354 => k0_hw1354

def k0_off2235 (k0_t1 : Fin k0_t1_loop.trips) : Fin 2 → Nat :=
  let c0_7355 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c322_i32_7354 : BitVec 32 := 322#32
  let v11752 : BitVec 32 := Scalar.addi v8853 c322_i32_7354
  let v11753 : Index := Scalar.indexCast v11752
  ![0, v11753.toNat]
def k0_off2236 (v11754 : BitVec 32) : Fin 3 → Nat :=
  let v11755 : Index := Scalar.indexCast v11754
  let c0_7356 : Index := 0#32
  let c0_7357 : Index := 0#32
  ![v11755.toNat, 0, 0]

def k0_chk1355 (v11754 : BitVec 32) : Prop :=
  (∀ a, (k0_off2236 v11754) a + S1x1x128.size a ≤ S100000x1x128.size a)
theorem k0_off2236_inb : ∀ (v11754 : BitVec 32) (k0_hw1355 : k0_chk1355 v11754), ∀ a, (k0_off2236 v11754) a + S1x1x128.size a ≤ S100000x1x128.size a := fun v11754 k0_hw1355 => k0_hw1355

def k0_off2237 (k0_t1 : Fin k0_t1_loop.trips) : Fin 2 → Nat :=
  let c0_7361 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c323_i32_7360 : BitVec 32 := 323#32
  let v11761 : BitVec 32 := Scalar.addi v8853 c323_i32_7360
  let v11762 : Index := Scalar.indexCast v11761
  ![0, v11762.toNat]
def k0_off2238 (v11763 : BitVec 32) : Fin 3 → Nat :=
  let v11764 : Index := Scalar.indexCast v11763
  let c0_7362 : Index := 0#32
  let c0_7363 : Index := 0#32
  ![v11764.toNat, 0, 0]

def k0_chk1356 (v11763 : BitVec 32) : Prop :=
  (∀ a, (k0_off2238 v11763) a + S1x1x128.size a ≤ S100000x1x128.size a)
theorem k0_off2238_inb : ∀ (v11763 : BitVec 32) (k0_hw1356 : k0_chk1356 v11763), ∀ a, (k0_off2238 v11763) a + S1x1x128.size a ≤ S100000x1x128.size a := fun v11763 k0_hw1356 => k0_hw1356

def k0_off2239 (k0_t1 : Fin k0_t1_loop.trips) : Fin 2 → Nat :=
  let c0_7367 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c324_i32_7366 : BitVec 32 := 324#32
  let v11770 : BitVec 32 := Scalar.addi v8853 c324_i32_7366
  let v11771 : Index := Scalar.indexCast v11770
  ![0, v11771.toNat]
def k0_off2240 (v11772 : BitVec 32) : Fin 3 → Nat :=
  let v11773 : Index := Scalar.indexCast v11772
  let c0_7368 : Index := 0#32
  let c0_7369 : Index := 0#32
  ![v11773.toNat, 0, 0]

def k0_chk1357 (v11772 : BitVec 32) : Prop :=
  (∀ a, (k0_off2240 v11772) a + S1x1x128.size a ≤ S100000x1x128.size a)
theorem k0_off2240_inb : ∀ (v11772 : BitVec 32) (k0_hw1357 : k0_chk1357 v11772), ∀ a, (k0_off2240 v11772) a + S1x1x128.size a ≤ S100000x1x128.size a := fun v11772 k0_hw1357 => k0_hw1357

def k0_off2241 (k0_t1 : Fin k0_t1_loop.trips) : Fin 2 → Nat :=
  let c0_7373 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c325_i32_7372 : BitVec 32 := 325#32
  let v11779 : BitVec 32 := Scalar.addi v8853 c325_i32_7372
  let v11780 : Index := Scalar.indexCast v11779
  ![0, v11780.toNat]
def k0_off2242 (v11781 : BitVec 32) : Fin 3 → Nat :=
  let v11782 : Index := Scalar.indexCast v11781
  let c0_7374 : Index := 0#32
  let c0_7375 : Index := 0#32
  ![v11782.toNat, 0, 0]

def k0_chk1358 (v11781 : BitVec 32) : Prop :=
  (∀ a, (k0_off2242 v11781) a + S1x1x128.size a ≤ S100000x1x128.size a)
theorem k0_off2242_inb : ∀ (v11781 : BitVec 32) (k0_hw1358 : k0_chk1358 v11781), ∀ a, (k0_off2242 v11781) a + S1x1x128.size a ≤ S100000x1x128.size a := fun v11781 k0_hw1358 => k0_hw1358

def k0_off2243 (k0_t1 : Fin k0_t1_loop.trips) : Fin 2 → Nat :=
  let c0_7379 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c326_i32_7378 : BitVec 32 := 326#32
  let v11788 : BitVec 32 := Scalar.addi v8853 c326_i32_7378
  let v11789 : Index := Scalar.indexCast v11788
  ![0, v11789.toNat]
def k0_off2244 (v11790 : BitVec 32) : Fin 3 → Nat :=
  let v11791 : Index := Scalar.indexCast v11790
  let c0_7380 : Index := 0#32
  let c0_7381 : Index := 0#32
  ![v11791.toNat, 0, 0]

def k0_chk1359 (v11790 : BitVec 32) : Prop :=
  (∀ a, (k0_off2244 v11790) a + S1x1x128.size a ≤ S100000x1x128.size a)
theorem k0_off2244_inb : ∀ (v11790 : BitVec 32) (k0_hw1359 : k0_chk1359 v11790), ∀ a, (k0_off2244 v11790) a + S1x1x128.size a ≤ S100000x1x128.size a := fun v11790 k0_hw1359 => k0_hw1359

def k0_off2245 (k0_t1 : Fin k0_t1_loop.trips) : Fin 2 → Nat :=
  let c0_7385 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c327_i32_7384 : BitVec 32 := 327#32
  let v11797 : BitVec 32 := Scalar.addi v8853 c327_i32_7384
  let v11798 : Index := Scalar.indexCast v11797
  ![0, v11798.toNat]
def k0_off2246 (v11799 : BitVec 32) : Fin 3 → Nat :=
  let v11800 : Index := Scalar.indexCast v11799
  let c0_7386 : Index := 0#32
  let c0_7387 : Index := 0#32
  ![v11800.toNat, 0, 0]

def k0_chk1360 (v11799 : BitVec 32) : Prop :=
  (∀ a, (k0_off2246 v11799) a + S1x1x128.size a ≤ S100000x1x128.size a)
theorem k0_off2246_inb : ∀ (v11799 : BitVec 32) (k0_hw1360 : k0_chk1360 v11799), ∀ a, (k0_off2246 v11799) a + S1x1x128.size a ≤ S100000x1x128.size a := fun v11799 k0_hw1360 => k0_hw1360

def k0_off2247 (k0_t1 : Fin k0_t1_loop.trips) : Fin 2 → Nat :=
  let c0_7391 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c328_i32_7390 : BitVec 32 := 328#32
  let v11806 : BitVec 32 := Scalar.addi v8853 c328_i32_7390
  let v11807 : Index := Scalar.indexCast v11806
  ![0, v11807.toNat]
def k0_off2248 (v11808 : BitVec 32) : Fin 3 → Nat :=
  let v11809 : Index := Scalar.indexCast v11808
  let c0_7392 : Index := 0#32
  let c0_7393 : Index := 0#32
  ![v11809.toNat, 0, 0]

def k0_chk1361 (v11808 : BitVec 32) : Prop :=
  (∀ a, (k0_off2248 v11808) a + S1x1x128.size a ≤ S100000x1x128.size a)
theorem k0_off2248_inb : ∀ (v11808 : BitVec 32) (k0_hw1361 : k0_chk1361 v11808), ∀ a, (k0_off2248 v11808) a + S1x1x128.size a ≤ S100000x1x128.size a := fun v11808 k0_hw1361 => k0_hw1361

def k0_off2249 (k0_t1 : Fin k0_t1_loop.trips) : Fin 2 → Nat :=
  let c0_7397 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c329_i32_7396 : BitVec 32 := 329#32
  let v11815 : BitVec 32 := Scalar.addi v8853 c329_i32_7396
  let v11816 : Index := Scalar.indexCast v11815
  ![0, v11816.toNat]
def k0_off2250 (v11817 : BitVec 32) : Fin 3 → Nat :=
  let v11818 : Index := Scalar.indexCast v11817
  let c0_7398 : Index := 0#32
  let c0_7399 : Index := 0#32
  ![v11818.toNat, 0, 0]

def k0_chk1362 (v11817 : BitVec 32) : Prop :=
  (∀ a, (k0_off2250 v11817) a + S1x1x128.size a ≤ S100000x1x128.size a)
theorem k0_off2250_inb : ∀ (v11817 : BitVec 32) (k0_hw1362 : k0_chk1362 v11817), ∀ a, (k0_off2250 v11817) a + S1x1x128.size a ≤ S100000x1x128.size a := fun v11817 k0_hw1362 => k0_hw1362

def k0_off2251 (k0_t1 : Fin k0_t1_loop.trips) : Fin 2 → Nat :=
  let c0_7403 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c330_i32_7402 : BitVec 32 := 330#32
  let v11824 : BitVec 32 := Scalar.addi v8853 c330_i32_7402
  let v11825 : Index := Scalar.indexCast v11824
  ![0, v11825.toNat]
def k0_off2252 (v11826 : BitVec 32) : Fin 3 → Nat :=
  let v11827 : Index := Scalar.indexCast v11826
  let c0_7404 : Index := 0#32
  let c0_7405 : Index := 0#32
  ![v11827.toNat, 0, 0]

def k0_chk1363 (v11826 : BitVec 32) : Prop :=
  (∀ a, (k0_off2252 v11826) a + S1x1x128.size a ≤ S100000x1x128.size a)
theorem k0_off2252_inb : ∀ (v11826 : BitVec 32) (k0_hw1363 : k0_chk1363 v11826), ∀ a, (k0_off2252 v11826) a + S1x1x128.size a ≤ S100000x1x128.size a := fun v11826 k0_hw1363 => k0_hw1363

def k0_off2253 (k0_t1 : Fin k0_t1_loop.trips) : Fin 2 → Nat :=
  let c0_7409 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c331_i32_7408 : BitVec 32 := 331#32
  let v11833 : BitVec 32 := Scalar.addi v8853 c331_i32_7408
  let v11834 : Index := Scalar.indexCast v11833
  ![0, v11834.toNat]
def k0_off2254 (v11835 : BitVec 32) : Fin 3 → Nat :=
  let v11836 : Index := Scalar.indexCast v11835
  let c0_7410 : Index := 0#32
  let c0_7411 : Index := 0#32
  ![v11836.toNat, 0, 0]

def k0_chk1364 (v11835 : BitVec 32) : Prop :=
  (∀ a, (k0_off2254 v11835) a + S1x1x128.size a ≤ S100000x1x128.size a)
theorem k0_off2254_inb : ∀ (v11835 : BitVec 32) (k0_hw1364 : k0_chk1364 v11835), ∀ a, (k0_off2254 v11835) a + S1x1x128.size a ≤ S100000x1x128.size a := fun v11835 k0_hw1364 => k0_hw1364

def k0_off2255 (k0_t1 : Fin k0_t1_loop.trips) : Fin 2 → Nat :=
  let c0_7415 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c332_i32_7414 : BitVec 32 := 332#32
  let v11842 : BitVec 32 := Scalar.addi v8853 c332_i32_7414
  let v11843 : Index := Scalar.indexCast v11842
  ![0, v11843.toNat]
def k0_off2256 (v11844 : BitVec 32) : Fin 3 → Nat :=
  let v11845 : Index := Scalar.indexCast v11844
  let c0_7416 : Index := 0#32
  let c0_7417 : Index := 0#32
  ![v11845.toNat, 0, 0]

def k0_chk1365 (v11844 : BitVec 32) : Prop :=
  (∀ a, (k0_off2256 v11844) a + S1x1x128.size a ≤ S100000x1x128.size a)
theorem k0_off2256_inb : ∀ (v11844 : BitVec 32) (k0_hw1365 : k0_chk1365 v11844), ∀ a, (k0_off2256 v11844) a + S1x1x128.size a ≤ S100000x1x128.size a := fun v11844 k0_hw1365 => k0_hw1365

def k0_off2257 (k0_t1 : Fin k0_t1_loop.trips) : Fin 2 → Nat :=
  let c0_7421 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c333_i32_7420 : BitVec 32 := 333#32
  let v11851 : BitVec 32 := Scalar.addi v8853 c333_i32_7420
  let v11852 : Index := Scalar.indexCast v11851
  ![0, v11852.toNat]
def k0_off2258 (v11853 : BitVec 32) : Fin 3 → Nat :=
  let v11854 : Index := Scalar.indexCast v11853
  let c0_7422 : Index := 0#32
  let c0_7423 : Index := 0#32
  ![v11854.toNat, 0, 0]

def k0_chk1366 (v11853 : BitVec 32) : Prop :=
  (∀ a, (k0_off2258 v11853) a + S1x1x128.size a ≤ S100000x1x128.size a)
theorem k0_off2258_inb : ∀ (v11853 : BitVec 32) (k0_hw1366 : k0_chk1366 v11853), ∀ a, (k0_off2258 v11853) a + S1x1x128.size a ≤ S100000x1x128.size a := fun v11853 k0_hw1366 => k0_hw1366

def k0_off2259 (k0_t1 : Fin k0_t1_loop.trips) : Fin 2 → Nat :=
  let c0_7427 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c334_i32_7426 : BitVec 32 := 334#32
  let v11860 : BitVec 32 := Scalar.addi v8853 c334_i32_7426
  let v11861 : Index := Scalar.indexCast v11860
  ![0, v11861.toNat]
def k0_off2260 (v11862 : BitVec 32) : Fin 3 → Nat :=
  let v11863 : Index := Scalar.indexCast v11862
  let c0_7428 : Index := 0#32
  let c0_7429 : Index := 0#32
  ![v11863.toNat, 0, 0]

def k0_chk1367 (v11862 : BitVec 32) : Prop :=
  (∀ a, (k0_off2260 v11862) a + S1x1x128.size a ≤ S100000x1x128.size a)
theorem k0_off2260_inb : ∀ (v11862 : BitVec 32) (k0_hw1367 : k0_chk1367 v11862), ∀ a, (k0_off2260 v11862) a + S1x1x128.size a ≤ S100000x1x128.size a := fun v11862 k0_hw1367 => k0_hw1367

def k0_off2261 (k0_t1 : Fin k0_t1_loop.trips) : Fin 2 → Nat :=
  let c0_7433 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c335_i32_7432 : BitVec 32 := 335#32
  let v11869 : BitVec 32 := Scalar.addi v8853 c335_i32_7432
  let v11870 : Index := Scalar.indexCast v11869
  ![0, v11870.toNat]
def k0_off2262 (v11871 : BitVec 32) : Fin 3 → Nat :=
  let v11872 : Index := Scalar.indexCast v11871
  let c0_7434 : Index := 0#32
  let c0_7435 : Index := 0#32
  ![v11872.toNat, 0, 0]

def k0_chk1368 (v11871 : BitVec 32) : Prop :=
  (∀ a, (k0_off2262 v11871) a + S1x1x128.size a ≤ S100000x1x128.size a)
theorem k0_off2262_inb : ∀ (v11871 : BitVec 32) (k0_hw1368 : k0_chk1368 v11871), ∀ a, (k0_off2262 v11871) a + S1x1x128.size a ≤ S100000x1x128.size a := fun v11871 k0_hw1368 => k0_hw1368

def k0_off2263 (k0_t1 : Fin k0_t1_loop.trips) : Fin 2 → Nat :=
  let c0_7439 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c336_i32_7438 : BitVec 32 := 336#32
  let v11878 : BitVec 32 := Scalar.addi v8853 c336_i32_7438
  let v11879 : Index := Scalar.indexCast v11878
  ![0, v11879.toNat]
def k0_off2264 (v11880 : BitVec 32) : Fin 3 → Nat :=
  let v11881 : Index := Scalar.indexCast v11880
  let c0_7440 : Index := 0#32
  let c0_7441 : Index := 0#32
  ![v11881.toNat, 0, 0]

def k0_chk1369 (v11880 : BitVec 32) : Prop :=
  (∀ a, (k0_off2264 v11880) a + S1x1x128.size a ≤ S100000x1x128.size a)
theorem k0_off2264_inb : ∀ (v11880 : BitVec 32) (k0_hw1369 : k0_chk1369 v11880), ∀ a, (k0_off2264 v11880) a + S1x1x128.size a ≤ S100000x1x128.size a := fun v11880 k0_hw1369 => k0_hw1369

def k0_off2265 (k0_t1 : Fin k0_t1_loop.trips) : Fin 2 → Nat :=
  let c0_7445 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c337_i32_7444 : BitVec 32 := 337#32
  let v11887 : BitVec 32 := Scalar.addi v8853 c337_i32_7444
  let v11888 : Index := Scalar.indexCast v11887
  ![0, v11888.toNat]
def k0_off2266 (v11889 : BitVec 32) : Fin 3 → Nat :=
  let v11890 : Index := Scalar.indexCast v11889
  let c0_7446 : Index := 0#32
  let c0_7447 : Index := 0#32
  ![v11890.toNat, 0, 0]

def k0_chk1370 (v11889 : BitVec 32) : Prop :=
  (∀ a, (k0_off2266 v11889) a + S1x1x128.size a ≤ S100000x1x128.size a)
theorem k0_off2266_inb : ∀ (v11889 : BitVec 32) (k0_hw1370 : k0_chk1370 v11889), ∀ a, (k0_off2266 v11889) a + S1x1x128.size a ≤ S100000x1x128.size a := fun v11889 k0_hw1370 => k0_hw1370

def k0_off2267 (k0_t1 : Fin k0_t1_loop.trips) : Fin 2 → Nat :=
  let c0_7451 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c338_i32_7450 : BitVec 32 := 338#32
  let v11896 : BitVec 32 := Scalar.addi v8853 c338_i32_7450
  let v11897 : Index := Scalar.indexCast v11896
  ![0, v11897.toNat]
def k0_off2268 (v11898 : BitVec 32) : Fin 3 → Nat :=
  let v11899 : Index := Scalar.indexCast v11898
  let c0_7452 : Index := 0#32
  let c0_7453 : Index := 0#32
  ![v11899.toNat, 0, 0]

def k0_chk1371 (v11898 : BitVec 32) : Prop :=
  (∀ a, (k0_off2268 v11898) a + S1x1x128.size a ≤ S100000x1x128.size a)
theorem k0_off2268_inb : ∀ (v11898 : BitVec 32) (k0_hw1371 : k0_chk1371 v11898), ∀ a, (k0_off2268 v11898) a + S1x1x128.size a ≤ S100000x1x128.size a := fun v11898 k0_hw1371 => k0_hw1371

def k0_off2269 (k0_t1 : Fin k0_t1_loop.trips) : Fin 2 → Nat :=
  let c0_7457 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c339_i32_7456 : BitVec 32 := 339#32
  let v11905 : BitVec 32 := Scalar.addi v8853 c339_i32_7456
  let v11906 : Index := Scalar.indexCast v11905
  ![0, v11906.toNat]
def k0_off2270 (v11907 : BitVec 32) : Fin 3 → Nat :=
  let v11908 : Index := Scalar.indexCast v11907
  let c0_7458 : Index := 0#32
  let c0_7459 : Index := 0#32
  ![v11908.toNat, 0, 0]

def k0_chk1372 (v11907 : BitVec 32) : Prop :=
  (∀ a, (k0_off2270 v11907) a + S1x1x128.size a ≤ S100000x1x128.size a)
theorem k0_off2270_inb : ∀ (v11907 : BitVec 32) (k0_hw1372 : k0_chk1372 v11907), ∀ a, (k0_off2270 v11907) a + S1x1x128.size a ≤ S100000x1x128.size a := fun v11907 k0_hw1372 => k0_hw1372

def k0_off2271 (k0_t1 : Fin k0_t1_loop.trips) : Fin 2 → Nat :=
  let c0_7463 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c340_i32_7462 : BitVec 32 := 340#32
  let v11914 : BitVec 32 := Scalar.addi v8853 c340_i32_7462
  let v11915 : Index := Scalar.indexCast v11914
  ![0, v11915.toNat]
def k0_off2272 (v11916 : BitVec 32) : Fin 3 → Nat :=
  let v11917 : Index := Scalar.indexCast v11916
  let c0_7464 : Index := 0#32
  let c0_7465 : Index := 0#32
  ![v11917.toNat, 0, 0]

def k0_chk1373 (v11916 : BitVec 32) : Prop :=
  (∀ a, (k0_off2272 v11916) a + S1x1x128.size a ≤ S100000x1x128.size a)
theorem k0_off2272_inb : ∀ (v11916 : BitVec 32) (k0_hw1373 : k0_chk1373 v11916), ∀ a, (k0_off2272 v11916) a + S1x1x128.size a ≤ S100000x1x128.size a := fun v11916 k0_hw1373 => k0_hw1373

def k0_off2273 (k0_t1 : Fin k0_t1_loop.trips) : Fin 2 → Nat :=
  let c0_7469 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c341_i32_7468 : BitVec 32 := 341#32
  let v11923 : BitVec 32 := Scalar.addi v8853 c341_i32_7468
  let v11924 : Index := Scalar.indexCast v11923
  ![0, v11924.toNat]
def k0_off2274 (v11925 : BitVec 32) : Fin 3 → Nat :=
  let v11926 : Index := Scalar.indexCast v11925
  let c0_7470 : Index := 0#32
  let c0_7471 : Index := 0#32
  ![v11926.toNat, 0, 0]

def k0_chk1374 (v11925 : BitVec 32) : Prop :=
  (∀ a, (k0_off2274 v11925) a + S1x1x128.size a ≤ S100000x1x128.size a)
theorem k0_off2274_inb : ∀ (v11925 : BitVec 32) (k0_hw1374 : k0_chk1374 v11925), ∀ a, (k0_off2274 v11925) a + S1x1x128.size a ≤ S100000x1x128.size a := fun v11925 k0_hw1374 => k0_hw1374

def k0_off2275 (k0_t1 : Fin k0_t1_loop.trips) : Fin 2 → Nat :=
  let c0_7475 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c342_i32_7474 : BitVec 32 := 342#32
  let v11932 : BitVec 32 := Scalar.addi v8853 c342_i32_7474
  let v11933 : Index := Scalar.indexCast v11932
  ![0, v11933.toNat]
def k0_off2276 (v11934 : BitVec 32) : Fin 3 → Nat :=
  let v11935 : Index := Scalar.indexCast v11934
  let c0_7476 : Index := 0#32
  let c0_7477 : Index := 0#32
  ![v11935.toNat, 0, 0]

def k0_chk1375 (v11934 : BitVec 32) : Prop :=
  (∀ a, (k0_off2276 v11934) a + S1x1x128.size a ≤ S100000x1x128.size a)
theorem k0_off2276_inb : ∀ (v11934 : BitVec 32) (k0_hw1375 : k0_chk1375 v11934), ∀ a, (k0_off2276 v11934) a + S1x1x128.size a ≤ S100000x1x128.size a := fun v11934 k0_hw1375 => k0_hw1375

def k0_off2277 (k0_t1 : Fin k0_t1_loop.trips) : Fin 2 → Nat :=
  let c0_7481 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c343_i32_7480 : BitVec 32 := 343#32
  let v11941 : BitVec 32 := Scalar.addi v8853 c343_i32_7480
  let v11942 : Index := Scalar.indexCast v11941
  ![0, v11942.toNat]
def k0_off2278 (v11943 : BitVec 32) : Fin 3 → Nat :=
  let v11944 : Index := Scalar.indexCast v11943
  let c0_7482 : Index := 0#32
  let c0_7483 : Index := 0#32
  ![v11944.toNat, 0, 0]

def k0_chk1376 (v11943 : BitVec 32) : Prop :=
  (∀ a, (k0_off2278 v11943) a + S1x1x128.size a ≤ S100000x1x128.size a)
theorem k0_off2278_inb : ∀ (v11943 : BitVec 32) (k0_hw1376 : k0_chk1376 v11943), ∀ a, (k0_off2278 v11943) a + S1x1x128.size a ≤ S100000x1x128.size a := fun v11943 k0_hw1376 => k0_hw1376

def k0_off2279 (k0_t1 : Fin k0_t1_loop.trips) : Fin 2 → Nat :=
  let c0_7487 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c344_i32_7486 : BitVec 32 := 344#32
  let v11950 : BitVec 32 := Scalar.addi v8853 c344_i32_7486
  let v11951 : Index := Scalar.indexCast v11950
  ![0, v11951.toNat]
def k0_off2280 (v11952 : BitVec 32) : Fin 3 → Nat :=
  let v11953 : Index := Scalar.indexCast v11952
  let c0_7488 : Index := 0#32
  let c0_7489 : Index := 0#32
  ![v11953.toNat, 0, 0]

def k0_chk1377 (v11952 : BitVec 32) : Prop :=
  (∀ a, (k0_off2280 v11952) a + S1x1x128.size a ≤ S100000x1x128.size a)
theorem k0_off2280_inb : ∀ (v11952 : BitVec 32) (k0_hw1377 : k0_chk1377 v11952), ∀ a, (k0_off2280 v11952) a + S1x1x128.size a ≤ S100000x1x128.size a := fun v11952 k0_hw1377 => k0_hw1377

def k0_off2281 (k0_t1 : Fin k0_t1_loop.trips) : Fin 2 → Nat :=
  let c0_7493 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c345_i32_7492 : BitVec 32 := 345#32
  let v11959 : BitVec 32 := Scalar.addi v8853 c345_i32_7492
  let v11960 : Index := Scalar.indexCast v11959
  ![0, v11960.toNat]
def k0_off2282 (v11961 : BitVec 32) : Fin 3 → Nat :=
  let v11962 : Index := Scalar.indexCast v11961
  let c0_7494 : Index := 0#32
  let c0_7495 : Index := 0#32
  ![v11962.toNat, 0, 0]

def k0_chk1378 (v11961 : BitVec 32) : Prop :=
  (∀ a, (k0_off2282 v11961) a + S1x1x128.size a ≤ S100000x1x128.size a)
theorem k0_off2282_inb : ∀ (v11961 : BitVec 32) (k0_hw1378 : k0_chk1378 v11961), ∀ a, (k0_off2282 v11961) a + S1x1x128.size a ≤ S100000x1x128.size a := fun v11961 k0_hw1378 => k0_hw1378

def k0_off2283 (k0_t1 : Fin k0_t1_loop.trips) : Fin 2 → Nat :=
  let c0_7499 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c346_i32_7498 : BitVec 32 := 346#32
  let v11968 : BitVec 32 := Scalar.addi v8853 c346_i32_7498
  let v11969 : Index := Scalar.indexCast v11968
  ![0, v11969.toNat]
def k0_off2284 (v11970 : BitVec 32) : Fin 3 → Nat :=
  let v11971 : Index := Scalar.indexCast v11970
  let c0_7500 : Index := 0#32
  let c0_7501 : Index := 0#32
  ![v11971.toNat, 0, 0]

def k0_chk1379 (v11970 : BitVec 32) : Prop :=
  (∀ a, (k0_off2284 v11970) a + S1x1x128.size a ≤ S100000x1x128.size a)
theorem k0_off2284_inb : ∀ (v11970 : BitVec 32) (k0_hw1379 : k0_chk1379 v11970), ∀ a, (k0_off2284 v11970) a + S1x1x128.size a ≤ S100000x1x128.size a := fun v11970 k0_hw1379 => k0_hw1379

def k0_off2285 (k0_t1 : Fin k0_t1_loop.trips) : Fin 2 → Nat :=
  let c0_7505 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c347_i32_7504 : BitVec 32 := 347#32
  let v11977 : BitVec 32 := Scalar.addi v8853 c347_i32_7504
  let v11978 : Index := Scalar.indexCast v11977
  ![0, v11978.toNat]
def k0_off2286 (v11979 : BitVec 32) : Fin 3 → Nat :=
  let v11980 : Index := Scalar.indexCast v11979
  let c0_7506 : Index := 0#32
  let c0_7507 : Index := 0#32
  ![v11980.toNat, 0, 0]

def k0_chk1380 (v11979 : BitVec 32) : Prop :=
  (∀ a, (k0_off2286 v11979) a + S1x1x128.size a ≤ S100000x1x128.size a)
theorem k0_off2286_inb : ∀ (v11979 : BitVec 32) (k0_hw1380 : k0_chk1380 v11979), ∀ a, (k0_off2286 v11979) a + S1x1x128.size a ≤ S100000x1x128.size a := fun v11979 k0_hw1380 => k0_hw1380

def k0_off2287 (k0_t1 : Fin k0_t1_loop.trips) : Fin 2 → Nat :=
  let c0_7511 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c348_i32_7510 : BitVec 32 := 348#32
  let v11986 : BitVec 32 := Scalar.addi v8853 c348_i32_7510
  let v11987 : Index := Scalar.indexCast v11986
  ![0, v11987.toNat]
def k0_off2288 (v11988 : BitVec 32) : Fin 3 → Nat :=
  let v11989 : Index := Scalar.indexCast v11988
  let c0_7512 : Index := 0#32
  let c0_7513 : Index := 0#32
  ![v11989.toNat, 0, 0]

def k0_chk1381 (v11988 : BitVec 32) : Prop :=
  (∀ a, (k0_off2288 v11988) a + S1x1x128.size a ≤ S100000x1x128.size a)
theorem k0_off2288_inb : ∀ (v11988 : BitVec 32) (k0_hw1381 : k0_chk1381 v11988), ∀ a, (k0_off2288 v11988) a + S1x1x128.size a ≤ S100000x1x128.size a := fun v11988 k0_hw1381 => k0_hw1381

def k0_off2289 (k0_t1 : Fin k0_t1_loop.trips) : Fin 2 → Nat :=
  let c0_7517 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c349_i32_7516 : BitVec 32 := 349#32
  let v11995 : BitVec 32 := Scalar.addi v8853 c349_i32_7516
  let v11996 : Index := Scalar.indexCast v11995
  ![0, v11996.toNat]
def k0_off2290 (v11997 : BitVec 32) : Fin 3 → Nat :=
  let v11998 : Index := Scalar.indexCast v11997
  let c0_7518 : Index := 0#32
  let c0_7519 : Index := 0#32
  ![v11998.toNat, 0, 0]

def k0_chk1382 (v11997 : BitVec 32) : Prop :=
  (∀ a, (k0_off2290 v11997) a + S1x1x128.size a ≤ S100000x1x128.size a)
theorem k0_off2290_inb : ∀ (v11997 : BitVec 32) (k0_hw1382 : k0_chk1382 v11997), ∀ a, (k0_off2290 v11997) a + S1x1x128.size a ≤ S100000x1x128.size a := fun v11997 k0_hw1382 => k0_hw1382

def k0_off2291 (k0_t1 : Fin k0_t1_loop.trips) : Fin 2 → Nat :=
  let c0_7523 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c350_i32_7522 : BitVec 32 := 350#32
  let v12004 : BitVec 32 := Scalar.addi v8853 c350_i32_7522
  let v12005 : Index := Scalar.indexCast v12004
  ![0, v12005.toNat]
def k0_off2292 (v12006 : BitVec 32) : Fin 3 → Nat :=
  let v12007 : Index := Scalar.indexCast v12006
  let c0_7524 : Index := 0#32
  let c0_7525 : Index := 0#32
  ![v12007.toNat, 0, 0]

def k0_chk1383 (v12006 : BitVec 32) : Prop :=
  (∀ a, (k0_off2292 v12006) a + S1x1x128.size a ≤ S100000x1x128.size a)
theorem k0_off2292_inb : ∀ (v12006 : BitVec 32) (k0_hw1383 : k0_chk1383 v12006), ∀ a, (k0_off2292 v12006) a + S1x1x128.size a ≤ S100000x1x128.size a := fun v12006 k0_hw1383 => k0_hw1383

def k0_off2293 (k0_t1 : Fin k0_t1_loop.trips) : Fin 2 → Nat :=
  let c0_7529 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c351_i32_7528 : BitVec 32 := 351#32
  let v12013 : BitVec 32 := Scalar.addi v8853 c351_i32_7528
  let v12014 : Index := Scalar.indexCast v12013
  ![0, v12014.toNat]
def k0_off2294 (v12015 : BitVec 32) : Fin 3 → Nat :=
  let v12016 : Index := Scalar.indexCast v12015
  let c0_7530 : Index := 0#32
  let c0_7531 : Index := 0#32
  ![v12016.toNat, 0, 0]

def k0_chk1384 (v12015 : BitVec 32) : Prop :=
  (∀ a, (k0_off2294 v12015) a + S1x1x128.size a ≤ S100000x1x128.size a)
theorem k0_off2294_inb : ∀ (v12015 : BitVec 32) (k0_hw1384 : k0_chk1384 v12015), ∀ a, (k0_off2294 v12015) a + S1x1x128.size a ≤ S100000x1x128.size a := fun v12015 k0_hw1384 => k0_hw1384

def k0_off2295 (k0_t1 : Fin k0_t1_loop.trips) : Fin 2 → Nat :=
  let c0_7535 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c352_i32_7534 : BitVec 32 := 352#32
  let v12022 : BitVec 32 := Scalar.addi v8853 c352_i32_7534
  let v12023 : Index := Scalar.indexCast v12022
  ![0, v12023.toNat]
def k0_off2296 (v12024 : BitVec 32) : Fin 3 → Nat :=
  let v12025 : Index := Scalar.indexCast v12024
  let c0_7536 : Index := 0#32
  let c0_7537 : Index := 0#32
  ![v12025.toNat, 0, 0]

def k0_chk1385 (v12024 : BitVec 32) : Prop :=
  (∀ a, (k0_off2296 v12024) a + S1x1x128.size a ≤ S100000x1x128.size a)
theorem k0_off2296_inb : ∀ (v12024 : BitVec 32) (k0_hw1385 : k0_chk1385 v12024), ∀ a, (k0_off2296 v12024) a + S1x1x128.size a ≤ S100000x1x128.size a := fun v12024 k0_hw1385 => k0_hw1385

def k0_off2297 (k0_t1 : Fin k0_t1_loop.trips) : Fin 2 → Nat :=
  let c0_7541 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c353_i32_7540 : BitVec 32 := 353#32
  let v12031 : BitVec 32 := Scalar.addi v8853 c353_i32_7540
  let v12032 : Index := Scalar.indexCast v12031
  ![0, v12032.toNat]
def k0_off2298 (v12033 : BitVec 32) : Fin 3 → Nat :=
  let v12034 : Index := Scalar.indexCast v12033
  let c0_7542 : Index := 0#32
  let c0_7543 : Index := 0#32
  ![v12034.toNat, 0, 0]

def k0_chk1386 (v12033 : BitVec 32) : Prop :=
  (∀ a, (k0_off2298 v12033) a + S1x1x128.size a ≤ S100000x1x128.size a)
theorem k0_off2298_inb : ∀ (v12033 : BitVec 32) (k0_hw1386 : k0_chk1386 v12033), ∀ a, (k0_off2298 v12033) a + S1x1x128.size a ≤ S100000x1x128.size a := fun v12033 k0_hw1386 => k0_hw1386

def k0_off2299 (k0_t1 : Fin k0_t1_loop.trips) : Fin 2 → Nat :=
  let c0_7547 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c354_i32_7546 : BitVec 32 := 354#32
  let v12040 : BitVec 32 := Scalar.addi v8853 c354_i32_7546
  let v12041 : Index := Scalar.indexCast v12040
  ![0, v12041.toNat]
def k0_off2300 (v12042 : BitVec 32) : Fin 3 → Nat :=
  let v12043 : Index := Scalar.indexCast v12042
  let c0_7548 : Index := 0#32
  let c0_7549 : Index := 0#32
  ![v12043.toNat, 0, 0]

def k0_chk1387 (v12042 : BitVec 32) : Prop :=
  (∀ a, (k0_off2300 v12042) a + S1x1x128.size a ≤ S100000x1x128.size a)
theorem k0_off2300_inb : ∀ (v12042 : BitVec 32) (k0_hw1387 : k0_chk1387 v12042), ∀ a, (k0_off2300 v12042) a + S1x1x128.size a ≤ S100000x1x128.size a := fun v12042 k0_hw1387 => k0_hw1387

def k0_off2301 (k0_t1 : Fin k0_t1_loop.trips) : Fin 2 → Nat :=
  let c0_7553 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c355_i32_7552 : BitVec 32 := 355#32
  let v12049 : BitVec 32 := Scalar.addi v8853 c355_i32_7552
  let v12050 : Index := Scalar.indexCast v12049
  ![0, v12050.toNat]
def k0_off2302 (v12051 : BitVec 32) : Fin 3 → Nat :=
  let v12052 : Index := Scalar.indexCast v12051
  let c0_7554 : Index := 0#32
  let c0_7555 : Index := 0#32
  ![v12052.toNat, 0, 0]

def k0_chk1388 (v12051 : BitVec 32) : Prop :=
  (∀ a, (k0_off2302 v12051) a + S1x1x128.size a ≤ S100000x1x128.size a)
theorem k0_off2302_inb : ∀ (v12051 : BitVec 32) (k0_hw1388 : k0_chk1388 v12051), ∀ a, (k0_off2302 v12051) a + S1x1x128.size a ≤ S100000x1x128.size a := fun v12051 k0_hw1388 => k0_hw1388

def k0_off2303 (k0_t1 : Fin k0_t1_loop.trips) : Fin 2 → Nat :=
  let c0_7559 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c356_i32_7558 : BitVec 32 := 356#32
  let v12058 : BitVec 32 := Scalar.addi v8853 c356_i32_7558
  let v12059 : Index := Scalar.indexCast v12058
  ![0, v12059.toNat]
def k0_off2304 (v12060 : BitVec 32) : Fin 3 → Nat :=
  let v12061 : Index := Scalar.indexCast v12060
  let c0_7560 : Index := 0#32
  let c0_7561 : Index := 0#32
  ![v12061.toNat, 0, 0]

def k0_chk1389 (v12060 : BitVec 32) : Prop :=
  (∀ a, (k0_off2304 v12060) a + S1x1x128.size a ≤ S100000x1x128.size a)
theorem k0_off2304_inb : ∀ (v12060 : BitVec 32) (k0_hw1389 : k0_chk1389 v12060), ∀ a, (k0_off2304 v12060) a + S1x1x128.size a ≤ S100000x1x128.size a := fun v12060 k0_hw1389 => k0_hw1389

def k0_off2305 (k0_t1 : Fin k0_t1_loop.trips) : Fin 2 → Nat :=
  let c0_7565 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c357_i32_7564 : BitVec 32 := 357#32
  let v12067 : BitVec 32 := Scalar.addi v8853 c357_i32_7564
  let v12068 : Index := Scalar.indexCast v12067
  ![0, v12068.toNat]
def k0_off2306 (v12069 : BitVec 32) : Fin 3 → Nat :=
  let v12070 : Index := Scalar.indexCast v12069
  let c0_7566 : Index := 0#32
  let c0_7567 : Index := 0#32
  ![v12070.toNat, 0, 0]

def k0_chk1390 (v12069 : BitVec 32) : Prop :=
  (∀ a, (k0_off2306 v12069) a + S1x1x128.size a ≤ S100000x1x128.size a)
theorem k0_off2306_inb : ∀ (v12069 : BitVec 32) (k0_hw1390 : k0_chk1390 v12069), ∀ a, (k0_off2306 v12069) a + S1x1x128.size a ≤ S100000x1x128.size a := fun v12069 k0_hw1390 => k0_hw1390

def k0_off2307 (k0_t1 : Fin k0_t1_loop.trips) : Fin 2 → Nat :=
  let c0_7571 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c358_i32_7570 : BitVec 32 := 358#32
  let v12076 : BitVec 32 := Scalar.addi v8853 c358_i32_7570
  let v12077 : Index := Scalar.indexCast v12076
  ![0, v12077.toNat]
def k0_off2308 (v12078 : BitVec 32) : Fin 3 → Nat :=
  let v12079 : Index := Scalar.indexCast v12078
  let c0_7572 : Index := 0#32
  let c0_7573 : Index := 0#32
  ![v12079.toNat, 0, 0]

def k0_chk1391 (v12078 : BitVec 32) : Prop :=
  (∀ a, (k0_off2308 v12078) a + S1x1x128.size a ≤ S100000x1x128.size a)
theorem k0_off2308_inb : ∀ (v12078 : BitVec 32) (k0_hw1391 : k0_chk1391 v12078), ∀ a, (k0_off2308 v12078) a + S1x1x128.size a ≤ S100000x1x128.size a := fun v12078 k0_hw1391 => k0_hw1391

def k0_off2309 (k0_t1 : Fin k0_t1_loop.trips) : Fin 2 → Nat :=
  let c0_7577 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c359_i32_7576 : BitVec 32 := 359#32
  let v12085 : BitVec 32 := Scalar.addi v8853 c359_i32_7576
  let v12086 : Index := Scalar.indexCast v12085
  ![0, v12086.toNat]
def k0_off2310 (v12087 : BitVec 32) : Fin 3 → Nat :=
  let v12088 : Index := Scalar.indexCast v12087
  let c0_7578 : Index := 0#32
  let c0_7579 : Index := 0#32
  ![v12088.toNat, 0, 0]

def k0_chk1392 (v12087 : BitVec 32) : Prop :=
  (∀ a, (k0_off2310 v12087) a + S1x1x128.size a ≤ S100000x1x128.size a)
theorem k0_off2310_inb : ∀ (v12087 : BitVec 32) (k0_hw1392 : k0_chk1392 v12087), ∀ a, (k0_off2310 v12087) a + S1x1x128.size a ≤ S100000x1x128.size a := fun v12087 k0_hw1392 => k0_hw1392

def k0_off2311 (k0_t1 : Fin k0_t1_loop.trips) : Fin 2 → Nat :=
  let c0_7583 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c360_i32_7582 : BitVec 32 := 360#32
  let v12094 : BitVec 32 := Scalar.addi v8853 c360_i32_7582
  let v12095 : Index := Scalar.indexCast v12094
  ![0, v12095.toNat]
def k0_off2312 (v12096 : BitVec 32) : Fin 3 → Nat :=
  let v12097 : Index := Scalar.indexCast v12096
  let c0_7584 : Index := 0#32
  let c0_7585 : Index := 0#32
  ![v12097.toNat, 0, 0]

def k0_chk1393 (v12096 : BitVec 32) : Prop :=
  (∀ a, (k0_off2312 v12096) a + S1x1x128.size a ≤ S100000x1x128.size a)
theorem k0_off2312_inb : ∀ (v12096 : BitVec 32) (k0_hw1393 : k0_chk1393 v12096), ∀ a, (k0_off2312 v12096) a + S1x1x128.size a ≤ S100000x1x128.size a := fun v12096 k0_hw1393 => k0_hw1393

def k0_off2313 (k0_t1 : Fin k0_t1_loop.trips) : Fin 2 → Nat :=
  let c0_7589 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c361_i32_7588 : BitVec 32 := 361#32
  let v12103 : BitVec 32 := Scalar.addi v8853 c361_i32_7588
  let v12104 : Index := Scalar.indexCast v12103
  ![0, v12104.toNat]
def k0_off2314 (v12105 : BitVec 32) : Fin 3 → Nat :=
  let v12106 : Index := Scalar.indexCast v12105
  let c0_7590 : Index := 0#32
  let c0_7591 : Index := 0#32
  ![v12106.toNat, 0, 0]

def k0_chk1394 (v12105 : BitVec 32) : Prop :=
  (∀ a, (k0_off2314 v12105) a + S1x1x128.size a ≤ S100000x1x128.size a)
theorem k0_off2314_inb : ∀ (v12105 : BitVec 32) (k0_hw1394 : k0_chk1394 v12105), ∀ a, (k0_off2314 v12105) a + S1x1x128.size a ≤ S100000x1x128.size a := fun v12105 k0_hw1394 => k0_hw1394

def k0_off2315 (k0_t1 : Fin k0_t1_loop.trips) : Fin 2 → Nat :=
  let c0_7595 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c362_i32_7594 : BitVec 32 := 362#32
  let v12112 : BitVec 32 := Scalar.addi v8853 c362_i32_7594
  let v12113 : Index := Scalar.indexCast v12112
  ![0, v12113.toNat]
def k0_off2316 (v12114 : BitVec 32) : Fin 3 → Nat :=
  let v12115 : Index := Scalar.indexCast v12114
  let c0_7596 : Index := 0#32
  let c0_7597 : Index := 0#32
  ![v12115.toNat, 0, 0]

def k0_chk1395 (v12114 : BitVec 32) : Prop :=
  (∀ a, (k0_off2316 v12114) a + S1x1x128.size a ≤ S100000x1x128.size a)
theorem k0_off2316_inb : ∀ (v12114 : BitVec 32) (k0_hw1395 : k0_chk1395 v12114), ∀ a, (k0_off2316 v12114) a + S1x1x128.size a ≤ S100000x1x128.size a := fun v12114 k0_hw1395 => k0_hw1395

def k0_off2317 (k0_t1 : Fin k0_t1_loop.trips) : Fin 2 → Nat :=
  let c0_7601 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c363_i32_7600 : BitVec 32 := 363#32
  let v12121 : BitVec 32 := Scalar.addi v8853 c363_i32_7600
  let v12122 : Index := Scalar.indexCast v12121
  ![0, v12122.toNat]
def k0_off2318 (v12123 : BitVec 32) : Fin 3 → Nat :=
  let v12124 : Index := Scalar.indexCast v12123
  let c0_7602 : Index := 0#32
  let c0_7603 : Index := 0#32
  ![v12124.toNat, 0, 0]

def k0_chk1396 (v12123 : BitVec 32) : Prop :=
  (∀ a, (k0_off2318 v12123) a + S1x1x128.size a ≤ S100000x1x128.size a)
theorem k0_off2318_inb : ∀ (v12123 : BitVec 32) (k0_hw1396 : k0_chk1396 v12123), ∀ a, (k0_off2318 v12123) a + S1x1x128.size a ≤ S100000x1x128.size a := fun v12123 k0_hw1396 => k0_hw1396

def k0_off2319 (k0_t1 : Fin k0_t1_loop.trips) : Fin 2 → Nat :=
  let c0_7607 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c364_i32_7606 : BitVec 32 := 364#32
  let v12130 : BitVec 32 := Scalar.addi v8853 c364_i32_7606
  let v12131 : Index := Scalar.indexCast v12130
  ![0, v12131.toNat]
def k0_off2320 (v12132 : BitVec 32) : Fin 3 → Nat :=
  let v12133 : Index := Scalar.indexCast v12132
  let c0_7608 : Index := 0#32
  let c0_7609 : Index := 0#32
  ![v12133.toNat, 0, 0]

def k0_chk1397 (v12132 : BitVec 32) : Prop :=
  (∀ a, (k0_off2320 v12132) a + S1x1x128.size a ≤ S100000x1x128.size a)
theorem k0_off2320_inb : ∀ (v12132 : BitVec 32) (k0_hw1397 : k0_chk1397 v12132), ∀ a, (k0_off2320 v12132) a + S1x1x128.size a ≤ S100000x1x128.size a := fun v12132 k0_hw1397 => k0_hw1397

def k0_off2321 (k0_t1 : Fin k0_t1_loop.trips) : Fin 2 → Nat :=
  let c0_7613 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c365_i32_7612 : BitVec 32 := 365#32
  let v12139 : BitVec 32 := Scalar.addi v8853 c365_i32_7612
  let v12140 : Index := Scalar.indexCast v12139
  ![0, v12140.toNat]
def k0_off2322 (v12141 : BitVec 32) : Fin 3 → Nat :=
  let v12142 : Index := Scalar.indexCast v12141
  let c0_7614 : Index := 0#32
  let c0_7615 : Index := 0#32
  ![v12142.toNat, 0, 0]

def k0_chk1398 (v12141 : BitVec 32) : Prop :=
  (∀ a, (k0_off2322 v12141) a + S1x1x128.size a ≤ S100000x1x128.size a)
theorem k0_off2322_inb : ∀ (v12141 : BitVec 32) (k0_hw1398 : k0_chk1398 v12141), ∀ a, (k0_off2322 v12141) a + S1x1x128.size a ≤ S100000x1x128.size a := fun v12141 k0_hw1398 => k0_hw1398

def k0_off2323 (k0_t1 : Fin k0_t1_loop.trips) : Fin 2 → Nat :=
  let c0_7619 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c366_i32_7618 : BitVec 32 := 366#32
  let v12148 : BitVec 32 := Scalar.addi v8853 c366_i32_7618
  let v12149 : Index := Scalar.indexCast v12148
  ![0, v12149.toNat]
def k0_off2324 (v12150 : BitVec 32) : Fin 3 → Nat :=
  let v12151 : Index := Scalar.indexCast v12150
  let c0_7620 : Index := 0#32
  let c0_7621 : Index := 0#32
  ![v12151.toNat, 0, 0]

def k0_chk1399 (v12150 : BitVec 32) : Prop :=
  (∀ a, (k0_off2324 v12150) a + S1x1x128.size a ≤ S100000x1x128.size a)
theorem k0_off2324_inb : ∀ (v12150 : BitVec 32) (k0_hw1399 : k0_chk1399 v12150), ∀ a, (k0_off2324 v12150) a + S1x1x128.size a ≤ S100000x1x128.size a := fun v12150 k0_hw1399 => k0_hw1399

def k0_off2325 (k0_t1 : Fin k0_t1_loop.trips) : Fin 2 → Nat :=
  let c0_7625 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c367_i32_7624 : BitVec 32 := 367#32
  let v12157 : BitVec 32 := Scalar.addi v8853 c367_i32_7624
  let v12158 : Index := Scalar.indexCast v12157
  ![0, v12158.toNat]
def k0_off2326 (v12159 : BitVec 32) : Fin 3 → Nat :=
  let v12160 : Index := Scalar.indexCast v12159
  let c0_7626 : Index := 0#32
  let c0_7627 : Index := 0#32
  ![v12160.toNat, 0, 0]

def k0_chk1400 (v12159 : BitVec 32) : Prop :=
  (∀ a, (k0_off2326 v12159) a + S1x1x128.size a ≤ S100000x1x128.size a)
theorem k0_off2326_inb : ∀ (v12159 : BitVec 32) (k0_hw1400 : k0_chk1400 v12159), ∀ a, (k0_off2326 v12159) a + S1x1x128.size a ≤ S100000x1x128.size a := fun v12159 k0_hw1400 => k0_hw1400

def k0_off2327 (k0_t1 : Fin k0_t1_loop.trips) : Fin 2 → Nat :=
  let c0_7631 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c368_i32_7630 : BitVec 32 := 368#32
  let v12166 : BitVec 32 := Scalar.addi v8853 c368_i32_7630
  let v12167 : Index := Scalar.indexCast v12166
  ![0, v12167.toNat]
def k0_off2328 (v12168 : BitVec 32) : Fin 3 → Nat :=
  let v12169 : Index := Scalar.indexCast v12168
  let c0_7632 : Index := 0#32
  let c0_7633 : Index := 0#32
  ![v12169.toNat, 0, 0]

def k0_chk1401 (v12168 : BitVec 32) : Prop :=
  (∀ a, (k0_off2328 v12168) a + S1x1x128.size a ≤ S100000x1x128.size a)
theorem k0_off2328_inb : ∀ (v12168 : BitVec 32) (k0_hw1401 : k0_chk1401 v12168), ∀ a, (k0_off2328 v12168) a + S1x1x128.size a ≤ S100000x1x128.size a := fun v12168 k0_hw1401 => k0_hw1401

def k0_off2329 (k0_t1 : Fin k0_t1_loop.trips) : Fin 2 → Nat :=
  let c0_7637 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c369_i32_7636 : BitVec 32 := 369#32
  let v12175 : BitVec 32 := Scalar.addi v8853 c369_i32_7636
  let v12176 : Index := Scalar.indexCast v12175
  ![0, v12176.toNat]
def k0_off2330 (v12177 : BitVec 32) : Fin 3 → Nat :=
  let v12178 : Index := Scalar.indexCast v12177
  let c0_7638 : Index := 0#32
  let c0_7639 : Index := 0#32
  ![v12178.toNat, 0, 0]

def k0_chk1402 (v12177 : BitVec 32) : Prop :=
  (∀ a, (k0_off2330 v12177) a + S1x1x128.size a ≤ S100000x1x128.size a)
theorem k0_off2330_inb : ∀ (v12177 : BitVec 32) (k0_hw1402 : k0_chk1402 v12177), ∀ a, (k0_off2330 v12177) a + S1x1x128.size a ≤ S100000x1x128.size a := fun v12177 k0_hw1402 => k0_hw1402

def k0_off2331 (k0_t1 : Fin k0_t1_loop.trips) : Fin 2 → Nat :=
  let c0_7643 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c370_i32_7642 : BitVec 32 := 370#32
  let v12184 : BitVec 32 := Scalar.addi v8853 c370_i32_7642
  let v12185 : Index := Scalar.indexCast v12184
  ![0, v12185.toNat]
def k0_off2332 (v12186 : BitVec 32) : Fin 3 → Nat :=
  let v12187 : Index := Scalar.indexCast v12186
  let c0_7644 : Index := 0#32
  let c0_7645 : Index := 0#32
  ![v12187.toNat, 0, 0]

def k0_chk1403 (v12186 : BitVec 32) : Prop :=
  (∀ a, (k0_off2332 v12186) a + S1x1x128.size a ≤ S100000x1x128.size a)
theorem k0_off2332_inb : ∀ (v12186 : BitVec 32) (k0_hw1403 : k0_chk1403 v12186), ∀ a, (k0_off2332 v12186) a + S1x1x128.size a ≤ S100000x1x128.size a := fun v12186 k0_hw1403 => k0_hw1403

def k0_off2333 (k0_t1 : Fin k0_t1_loop.trips) : Fin 2 → Nat :=
  let c0_7649 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c371_i32_7648 : BitVec 32 := 371#32
  let v12193 : BitVec 32 := Scalar.addi v8853 c371_i32_7648
  let v12194 : Index := Scalar.indexCast v12193
  ![0, v12194.toNat]
def k0_off2334 (v12195 : BitVec 32) : Fin 3 → Nat :=
  let v12196 : Index := Scalar.indexCast v12195
  let c0_7650 : Index := 0#32
  let c0_7651 : Index := 0#32
  ![v12196.toNat, 0, 0]

def k0_chk1404 (v12195 : BitVec 32) : Prop :=
  (∀ a, (k0_off2334 v12195) a + S1x1x128.size a ≤ S100000x1x128.size a)
theorem k0_off2334_inb : ∀ (v12195 : BitVec 32) (k0_hw1404 : k0_chk1404 v12195), ∀ a, (k0_off2334 v12195) a + S1x1x128.size a ≤ S100000x1x128.size a := fun v12195 k0_hw1404 => k0_hw1404

def k0_off2335 (k0_t1 : Fin k0_t1_loop.trips) : Fin 2 → Nat :=
  let c0_7655 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c372_i32_7654 : BitVec 32 := 372#32
  let v12202 : BitVec 32 := Scalar.addi v8853 c372_i32_7654
  let v12203 : Index := Scalar.indexCast v12202
  ![0, v12203.toNat]
def k0_off2336 (v12204 : BitVec 32) : Fin 3 → Nat :=
  let v12205 : Index := Scalar.indexCast v12204
  let c0_7656 : Index := 0#32
  let c0_7657 : Index := 0#32
  ![v12205.toNat, 0, 0]

def k0_chk1405 (v12204 : BitVec 32) : Prop :=
  (∀ a, (k0_off2336 v12204) a + S1x1x128.size a ≤ S100000x1x128.size a)
theorem k0_off2336_inb : ∀ (v12204 : BitVec 32) (k0_hw1405 : k0_chk1405 v12204), ∀ a, (k0_off2336 v12204) a + S1x1x128.size a ≤ S100000x1x128.size a := fun v12204 k0_hw1405 => k0_hw1405

def k0_off2337 (k0_t1 : Fin k0_t1_loop.trips) : Fin 2 → Nat :=
  let c0_7661 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c373_i32_7660 : BitVec 32 := 373#32
  let v12211 : BitVec 32 := Scalar.addi v8853 c373_i32_7660
  let v12212 : Index := Scalar.indexCast v12211
  ![0, v12212.toNat]
def k0_off2338 (v12213 : BitVec 32) : Fin 3 → Nat :=
  let v12214 : Index := Scalar.indexCast v12213
  let c0_7662 : Index := 0#32
  let c0_7663 : Index := 0#32
  ![v12214.toNat, 0, 0]

def k0_chk1406 (v12213 : BitVec 32) : Prop :=
  (∀ a, (k0_off2338 v12213) a + S1x1x128.size a ≤ S100000x1x128.size a)
theorem k0_off2338_inb : ∀ (v12213 : BitVec 32) (k0_hw1406 : k0_chk1406 v12213), ∀ a, (k0_off2338 v12213) a + S1x1x128.size a ≤ S100000x1x128.size a := fun v12213 k0_hw1406 => k0_hw1406

def k0_off2339 (k0_t1 : Fin k0_t1_loop.trips) : Fin 2 → Nat :=
  let c0_7667 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c374_i32_7666 : BitVec 32 := 374#32
  let v12220 : BitVec 32 := Scalar.addi v8853 c374_i32_7666
  let v12221 : Index := Scalar.indexCast v12220
  ![0, v12221.toNat]
def k0_off2340 (v12222 : BitVec 32) : Fin 3 → Nat :=
  let v12223 : Index := Scalar.indexCast v12222
  let c0_7668 : Index := 0#32
  let c0_7669 : Index := 0#32
  ![v12223.toNat, 0, 0]

def k0_chk1407 (v12222 : BitVec 32) : Prop :=
  (∀ a, (k0_off2340 v12222) a + S1x1x128.size a ≤ S100000x1x128.size a)
theorem k0_off2340_inb : ∀ (v12222 : BitVec 32) (k0_hw1407 : k0_chk1407 v12222), ∀ a, (k0_off2340 v12222) a + S1x1x128.size a ≤ S100000x1x128.size a := fun v12222 k0_hw1407 => k0_hw1407

def k0_off2341 (k0_t1 : Fin k0_t1_loop.trips) : Fin 2 → Nat :=
  let c0_7673 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c375_i32_7672 : BitVec 32 := 375#32
  let v12229 : BitVec 32 := Scalar.addi v8853 c375_i32_7672
  let v12230 : Index := Scalar.indexCast v12229
  ![0, v12230.toNat]
def k0_off2342 (v12231 : BitVec 32) : Fin 3 → Nat :=
  let v12232 : Index := Scalar.indexCast v12231
  let c0_7674 : Index := 0#32
  let c0_7675 : Index := 0#32
  ![v12232.toNat, 0, 0]

def k0_chk1408 (v12231 : BitVec 32) : Prop :=
  (∀ a, (k0_off2342 v12231) a + S1x1x128.size a ≤ S100000x1x128.size a)
theorem k0_off2342_inb : ∀ (v12231 : BitVec 32) (k0_hw1408 : k0_chk1408 v12231), ∀ a, (k0_off2342 v12231) a + S1x1x128.size a ≤ S100000x1x128.size a := fun v12231 k0_hw1408 => k0_hw1408

def k0_off2343 (k0_t1 : Fin k0_t1_loop.trips) : Fin 2 → Nat :=
  let c0_7679 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c376_i32_7678 : BitVec 32 := 376#32
  let v12238 : BitVec 32 := Scalar.addi v8853 c376_i32_7678
  let v12239 : Index := Scalar.indexCast v12238
  ![0, v12239.toNat]
def k0_off2344 (v12240 : BitVec 32) : Fin 3 → Nat :=
  let v12241 : Index := Scalar.indexCast v12240
  let c0_7680 : Index := 0#32
  let c0_7681 : Index := 0#32
  ![v12241.toNat, 0, 0]

def k0_chk1409 (v12240 : BitVec 32) : Prop :=
  (∀ a, (k0_off2344 v12240) a + S1x1x128.size a ≤ S100000x1x128.size a)
theorem k0_off2344_inb : ∀ (v12240 : BitVec 32) (k0_hw1409 : k0_chk1409 v12240), ∀ a, (k0_off2344 v12240) a + S1x1x128.size a ≤ S100000x1x128.size a := fun v12240 k0_hw1409 => k0_hw1409

def k0_off2345 (k0_t1 : Fin k0_t1_loop.trips) : Fin 2 → Nat :=
  let c0_7685 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c377_i32_7684 : BitVec 32 := 377#32
  let v12247 : BitVec 32 := Scalar.addi v8853 c377_i32_7684
  let v12248 : Index := Scalar.indexCast v12247
  ![0, v12248.toNat]
def k0_off2346 (v12249 : BitVec 32) : Fin 3 → Nat :=
  let v12250 : Index := Scalar.indexCast v12249
  let c0_7686 : Index := 0#32
  let c0_7687 : Index := 0#32
  ![v12250.toNat, 0, 0]

def k0_chk1410 (v12249 : BitVec 32) : Prop :=
  (∀ a, (k0_off2346 v12249) a + S1x1x128.size a ≤ S100000x1x128.size a)
theorem k0_off2346_inb : ∀ (v12249 : BitVec 32) (k0_hw1410 : k0_chk1410 v12249), ∀ a, (k0_off2346 v12249) a + S1x1x128.size a ≤ S100000x1x128.size a := fun v12249 k0_hw1410 => k0_hw1410

def k0_off2347 (k0_t1 : Fin k0_t1_loop.trips) : Fin 2 → Nat :=
  let c0_7691 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c378_i32_7690 : BitVec 32 := 378#32
  let v12256 : BitVec 32 := Scalar.addi v8853 c378_i32_7690
  let v12257 : Index := Scalar.indexCast v12256
  ![0, v12257.toNat]
def k0_off2348 (v12258 : BitVec 32) : Fin 3 → Nat :=
  let v12259 : Index := Scalar.indexCast v12258
  let c0_7692 : Index := 0#32
  let c0_7693 : Index := 0#32
  ![v12259.toNat, 0, 0]

def k0_chk1411 (v12258 : BitVec 32) : Prop :=
  (∀ a, (k0_off2348 v12258) a + S1x1x128.size a ≤ S100000x1x128.size a)
theorem k0_off2348_inb : ∀ (v12258 : BitVec 32) (k0_hw1411 : k0_chk1411 v12258), ∀ a, (k0_off2348 v12258) a + S1x1x128.size a ≤ S100000x1x128.size a := fun v12258 k0_hw1411 => k0_hw1411

def k0_off2349 (k0_t1 : Fin k0_t1_loop.trips) : Fin 2 → Nat :=
  let c0_7697 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c379_i32_7696 : BitVec 32 := 379#32
  let v12265 : BitVec 32 := Scalar.addi v8853 c379_i32_7696
  let v12266 : Index := Scalar.indexCast v12265
  ![0, v12266.toNat]
def k0_off2350 (v12267 : BitVec 32) : Fin 3 → Nat :=
  let v12268 : Index := Scalar.indexCast v12267
  let c0_7698 : Index := 0#32
  let c0_7699 : Index := 0#32
  ![v12268.toNat, 0, 0]

def k0_chk1412 (v12267 : BitVec 32) : Prop :=
  (∀ a, (k0_off2350 v12267) a + S1x1x128.size a ≤ S100000x1x128.size a)
theorem k0_off2350_inb : ∀ (v12267 : BitVec 32) (k0_hw1412 : k0_chk1412 v12267), ∀ a, (k0_off2350 v12267) a + S1x1x128.size a ≤ S100000x1x128.size a := fun v12267 k0_hw1412 => k0_hw1412

def k0_off2351 (k0_t1 : Fin k0_t1_loop.trips) : Fin 2 → Nat :=
  let c0_7703 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c380_i32_7702 : BitVec 32 := 380#32
  let v12274 : BitVec 32 := Scalar.addi v8853 c380_i32_7702
  let v12275 : Index := Scalar.indexCast v12274
  ![0, v12275.toNat]
def k0_off2352 (v12276 : BitVec 32) : Fin 3 → Nat :=
  let v12277 : Index := Scalar.indexCast v12276
  let c0_7704 : Index := 0#32
  let c0_7705 : Index := 0#32
  ![v12277.toNat, 0, 0]

def k0_chk1413 (v12276 : BitVec 32) : Prop :=
  (∀ a, (k0_off2352 v12276) a + S1x1x128.size a ≤ S100000x1x128.size a)
theorem k0_off2352_inb : ∀ (v12276 : BitVec 32) (k0_hw1413 : k0_chk1413 v12276), ∀ a, (k0_off2352 v12276) a + S1x1x128.size a ≤ S100000x1x128.size a := fun v12276 k0_hw1413 => k0_hw1413

def k0_off2353 (k0_t1 : Fin k0_t1_loop.trips) : Fin 2 → Nat :=
  let c0_7709 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c381_i32_7708 : BitVec 32 := 381#32
  let v12283 : BitVec 32 := Scalar.addi v8853 c381_i32_7708
  let v12284 : Index := Scalar.indexCast v12283
  ![0, v12284.toNat]
def k0_off2354 (v12285 : BitVec 32) : Fin 3 → Nat :=
  let v12286 : Index := Scalar.indexCast v12285
  let c0_7710 : Index := 0#32
  let c0_7711 : Index := 0#32
  ![v12286.toNat, 0, 0]

def k0_chk1414 (v12285 : BitVec 32) : Prop :=
  (∀ a, (k0_off2354 v12285) a + S1x1x128.size a ≤ S100000x1x128.size a)
theorem k0_off2354_inb : ∀ (v12285 : BitVec 32) (k0_hw1414 : k0_chk1414 v12285), ∀ a, (k0_off2354 v12285) a + S1x1x128.size a ≤ S100000x1x128.size a := fun v12285 k0_hw1414 => k0_hw1414

def k0_off2355 (k0_t1 : Fin k0_t1_loop.trips) : Fin 2 → Nat :=
  let c0_7715 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c382_i32_7714 : BitVec 32 := 382#32
  let v12292 : BitVec 32 := Scalar.addi v8853 c382_i32_7714
  let v12293 : Index := Scalar.indexCast v12292
  ![0, v12293.toNat]
def k0_off2356 (v12294 : BitVec 32) : Fin 3 → Nat :=
  let v12295 : Index := Scalar.indexCast v12294
  let c0_7716 : Index := 0#32
  let c0_7717 : Index := 0#32
  ![v12295.toNat, 0, 0]

def k0_chk1415 (v12294 : BitVec 32) : Prop :=
  (∀ a, (k0_off2356 v12294) a + S1x1x128.size a ≤ S100000x1x128.size a)
theorem k0_off2356_inb : ∀ (v12294 : BitVec 32) (k0_hw1415 : k0_chk1415 v12294), ∀ a, (k0_off2356 v12294) a + S1x1x128.size a ≤ S100000x1x128.size a := fun v12294 k0_hw1415 => k0_hw1415

def k0_off2357 (k0_t1 : Fin k0_t1_loop.trips) : Fin 2 → Nat :=
  let c0_7721 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c383_i32_7720 : BitVec 32 := 383#32
  let v12301 : BitVec 32 := Scalar.addi v8853 c383_i32_7720
  let v12302 : Index := Scalar.indexCast v12301
  ![0, v12302.toNat]
def k0_off2358 (v12303 : BitVec 32) : Fin 3 → Nat :=
  let v12304 : Index := Scalar.indexCast v12303
  let c0_7722 : Index := 0#32
  let c0_7723 : Index := 0#32
  ![v12304.toNat, 0, 0]

def k0_chk1416 (v12303 : BitVec 32) : Prop :=
  (∀ a, (k0_off2358 v12303) a + S1x1x128.size a ≤ S100000x1x128.size a)
theorem k0_off2358_inb : ∀ (v12303 : BitVec 32) (k0_hw1416 : k0_chk1416 v12303), ∀ a, (k0_off2358 v12303) a + S1x1x128.size a ≤ S100000x1x128.size a := fun v12303 k0_hw1416 => k0_hw1416

def k0_off2359 (k0_t1 : Fin k0_t1_loop.trips) : Fin 2 → Nat :=
  let c0_7727 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c384_i32_7726 : BitVec 32 := 384#32
  let v12310 : BitVec 32 := Scalar.addi v8853 c384_i32_7726
  let v12311 : Index := Scalar.indexCast v12310
  ![0, v12311.toNat]
def k0_off2360 (v12312 : BitVec 32) : Fin 3 → Nat :=
  let v12313 : Index := Scalar.indexCast v12312
  let c0_7728 : Index := 0#32
  let c0_7729 : Index := 0#32
  ![v12313.toNat, 0, 0]

def k0_chk1417 (v12312 : BitVec 32) : Prop :=
  (∀ a, (k0_off2360 v12312) a + S1x1x128.size a ≤ S100000x1x128.size a)
theorem k0_off2360_inb : ∀ (v12312 : BitVec 32) (k0_hw1417 : k0_chk1417 v12312), ∀ a, (k0_off2360 v12312) a + S1x1x128.size a ≤ S100000x1x128.size a := fun v12312 k0_hw1417 => k0_hw1417

def k0_off2361 (k0_t1 : Fin k0_t1_loop.trips) : Fin 2 → Nat :=
  let c0_7733 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c385_i32_7732 : BitVec 32 := 385#32
  let v12319 : BitVec 32 := Scalar.addi v8853 c385_i32_7732
  let v12320 : Index := Scalar.indexCast v12319
  ![0, v12320.toNat]
def k0_off2362 (v12321 : BitVec 32) : Fin 3 → Nat :=
  let v12322 : Index := Scalar.indexCast v12321
  let c0_7734 : Index := 0#32
  let c0_7735 : Index := 0#32
  ![v12322.toNat, 0, 0]

def k0_chk1418 (v12321 : BitVec 32) : Prop :=
  (∀ a, (k0_off2362 v12321) a + S1x1x128.size a ≤ S100000x1x128.size a)
theorem k0_off2362_inb : ∀ (v12321 : BitVec 32) (k0_hw1418 : k0_chk1418 v12321), ∀ a, (k0_off2362 v12321) a + S1x1x128.size a ≤ S100000x1x128.size a := fun v12321 k0_hw1418 => k0_hw1418

def k0_off2363 (k0_t1 : Fin k0_t1_loop.trips) : Fin 2 → Nat :=
  let c0_7739 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c386_i32_7738 : BitVec 32 := 386#32
  let v12328 : BitVec 32 := Scalar.addi v8853 c386_i32_7738
  let v12329 : Index := Scalar.indexCast v12328
  ![0, v12329.toNat]
def k0_off2364 (v12330 : BitVec 32) : Fin 3 → Nat :=
  let v12331 : Index := Scalar.indexCast v12330
  let c0_7740 : Index := 0#32
  let c0_7741 : Index := 0#32
  ![v12331.toNat, 0, 0]

def k0_chk1419 (v12330 : BitVec 32) : Prop :=
  (∀ a, (k0_off2364 v12330) a + S1x1x128.size a ≤ S100000x1x128.size a)
theorem k0_off2364_inb : ∀ (v12330 : BitVec 32) (k0_hw1419 : k0_chk1419 v12330), ∀ a, (k0_off2364 v12330) a + S1x1x128.size a ≤ S100000x1x128.size a := fun v12330 k0_hw1419 => k0_hw1419

def k0_off2365 (k0_t1 : Fin k0_t1_loop.trips) : Fin 2 → Nat :=
  let c0_7745 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c387_i32_7744 : BitVec 32 := 387#32
  let v12337 : BitVec 32 := Scalar.addi v8853 c387_i32_7744
  let v12338 : Index := Scalar.indexCast v12337
  ![0, v12338.toNat]
def k0_off2366 (v12339 : BitVec 32) : Fin 3 → Nat :=
  let v12340 : Index := Scalar.indexCast v12339
  let c0_7746 : Index := 0#32
  let c0_7747 : Index := 0#32
  ![v12340.toNat, 0, 0]

def k0_chk1420 (v12339 : BitVec 32) : Prop :=
  (∀ a, (k0_off2366 v12339) a + S1x1x128.size a ≤ S100000x1x128.size a)
theorem k0_off2366_inb : ∀ (v12339 : BitVec 32) (k0_hw1420 : k0_chk1420 v12339), ∀ a, (k0_off2366 v12339) a + S1x1x128.size a ≤ S100000x1x128.size a := fun v12339 k0_hw1420 => k0_hw1420

def k0_off2367 (k0_t1 : Fin k0_t1_loop.trips) : Fin 2 → Nat :=
  let c0_7751 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c388_i32_7750 : BitVec 32 := 388#32
  let v12346 : BitVec 32 := Scalar.addi v8853 c388_i32_7750
  let v12347 : Index := Scalar.indexCast v12346
  ![0, v12347.toNat]
def k0_off2368 (v12348 : BitVec 32) : Fin 3 → Nat :=
  let v12349 : Index := Scalar.indexCast v12348
  let c0_7752 : Index := 0#32
  let c0_7753 : Index := 0#32
  ![v12349.toNat, 0, 0]

def k0_chk1421 (v12348 : BitVec 32) : Prop :=
  (∀ a, (k0_off2368 v12348) a + S1x1x128.size a ≤ S100000x1x128.size a)
theorem k0_off2368_inb : ∀ (v12348 : BitVec 32) (k0_hw1421 : k0_chk1421 v12348), ∀ a, (k0_off2368 v12348) a + S1x1x128.size a ≤ S100000x1x128.size a := fun v12348 k0_hw1421 => k0_hw1421

def k0_off2369 (k0_t1 : Fin k0_t1_loop.trips) : Fin 2 → Nat :=
  let c0_7757 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c389_i32_7756 : BitVec 32 := 389#32
  let v12355 : BitVec 32 := Scalar.addi v8853 c389_i32_7756
  let v12356 : Index := Scalar.indexCast v12355
  ![0, v12356.toNat]
def k0_off2370 (v12357 : BitVec 32) : Fin 3 → Nat :=
  let v12358 : Index := Scalar.indexCast v12357
  let c0_7758 : Index := 0#32
  let c0_7759 : Index := 0#32
  ![v12358.toNat, 0, 0]

def k0_chk1422 (v12357 : BitVec 32) : Prop :=
  (∀ a, (k0_off2370 v12357) a + S1x1x128.size a ≤ S100000x1x128.size a)
theorem k0_off2370_inb : ∀ (v12357 : BitVec 32) (k0_hw1422 : k0_chk1422 v12357), ∀ a, (k0_off2370 v12357) a + S1x1x128.size a ≤ S100000x1x128.size a := fun v12357 k0_hw1422 => k0_hw1422

def k0_off2371 (k0_t1 : Fin k0_t1_loop.trips) : Fin 2 → Nat :=
  let c0_7763 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c390_i32_7762 : BitVec 32 := 390#32
  let v12364 : BitVec 32 := Scalar.addi v8853 c390_i32_7762
  let v12365 : Index := Scalar.indexCast v12364
  ![0, v12365.toNat]
def k0_off2372 (v12366 : BitVec 32) : Fin 3 → Nat :=
  let v12367 : Index := Scalar.indexCast v12366
  let c0_7764 : Index := 0#32
  let c0_7765 : Index := 0#32
  ![v12367.toNat, 0, 0]

def k0_chk1423 (v12366 : BitVec 32) : Prop :=
  (∀ a, (k0_off2372 v12366) a + S1x1x128.size a ≤ S100000x1x128.size a)
theorem k0_off2372_inb : ∀ (v12366 : BitVec 32) (k0_hw1423 : k0_chk1423 v12366), ∀ a, (k0_off2372 v12366) a + S1x1x128.size a ≤ S100000x1x128.size a := fun v12366 k0_hw1423 => k0_hw1423

def k0_off2373 (k0_t1 : Fin k0_t1_loop.trips) : Fin 2 → Nat :=
  let c0_7769 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c391_i32_7768 : BitVec 32 := 391#32
  let v12373 : BitVec 32 := Scalar.addi v8853 c391_i32_7768
  let v12374 : Index := Scalar.indexCast v12373
  ![0, v12374.toNat]
def k0_off2374 (v12375 : BitVec 32) : Fin 3 → Nat :=
  let v12376 : Index := Scalar.indexCast v12375
  let c0_7770 : Index := 0#32
  let c0_7771 : Index := 0#32
  ![v12376.toNat, 0, 0]

def k0_chk1424 (v12375 : BitVec 32) : Prop :=
  (∀ a, (k0_off2374 v12375) a + S1x1x128.size a ≤ S100000x1x128.size a)
theorem k0_off2374_inb : ∀ (v12375 : BitVec 32) (k0_hw1424 : k0_chk1424 v12375), ∀ a, (k0_off2374 v12375) a + S1x1x128.size a ≤ S100000x1x128.size a := fun v12375 k0_hw1424 => k0_hw1424

def k0_off2375 (k0_t1 : Fin k0_t1_loop.trips) : Fin 2 → Nat :=
  let c0_7775 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c392_i32_7774 : BitVec 32 := 392#32
  let v12382 : BitVec 32 := Scalar.addi v8853 c392_i32_7774
  let v12383 : Index := Scalar.indexCast v12382
  ![0, v12383.toNat]
def k0_off2376 (v12384 : BitVec 32) : Fin 3 → Nat :=
  let v12385 : Index := Scalar.indexCast v12384
  let c0_7776 : Index := 0#32
  let c0_7777 : Index := 0#32
  ![v12385.toNat, 0, 0]

def k0_chk1425 (v12384 : BitVec 32) : Prop :=
  (∀ a, (k0_off2376 v12384) a + S1x1x128.size a ≤ S100000x1x128.size a)
theorem k0_off2376_inb : ∀ (v12384 : BitVec 32) (k0_hw1425 : k0_chk1425 v12384), ∀ a, (k0_off2376 v12384) a + S1x1x128.size a ≤ S100000x1x128.size a := fun v12384 k0_hw1425 => k0_hw1425

def k0_off2377 (k0_t1 : Fin k0_t1_loop.trips) : Fin 2 → Nat :=
  let c0_7781 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c393_i32_7780 : BitVec 32 := 393#32
  let v12391 : BitVec 32 := Scalar.addi v8853 c393_i32_7780
  let v12392 : Index := Scalar.indexCast v12391
  ![0, v12392.toNat]
def k0_off2378 (v12393 : BitVec 32) : Fin 3 → Nat :=
  let v12394 : Index := Scalar.indexCast v12393
  let c0_7782 : Index := 0#32
  let c0_7783 : Index := 0#32
  ![v12394.toNat, 0, 0]

def k0_chk1426 (v12393 : BitVec 32) : Prop :=
  (∀ a, (k0_off2378 v12393) a + S1x1x128.size a ≤ S100000x1x128.size a)
theorem k0_off2378_inb : ∀ (v12393 : BitVec 32) (k0_hw1426 : k0_chk1426 v12393), ∀ a, (k0_off2378 v12393) a + S1x1x128.size a ≤ S100000x1x128.size a := fun v12393 k0_hw1426 => k0_hw1426

def k0_off2379 (k0_t1 : Fin k0_t1_loop.trips) : Fin 2 → Nat :=
  let c0_7787 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c394_i32_7786 : BitVec 32 := 394#32
  let v12400 : BitVec 32 := Scalar.addi v8853 c394_i32_7786
  let v12401 : Index := Scalar.indexCast v12400
  ![0, v12401.toNat]
def k0_off2380 (v12402 : BitVec 32) : Fin 3 → Nat :=
  let v12403 : Index := Scalar.indexCast v12402
  let c0_7788 : Index := 0#32
  let c0_7789 : Index := 0#32
  ![v12403.toNat, 0, 0]

def k0_chk1427 (v12402 : BitVec 32) : Prop :=
  (∀ a, (k0_off2380 v12402) a + S1x1x128.size a ≤ S100000x1x128.size a)
theorem k0_off2380_inb : ∀ (v12402 : BitVec 32) (k0_hw1427 : k0_chk1427 v12402), ∀ a, (k0_off2380 v12402) a + S1x1x128.size a ≤ S100000x1x128.size a := fun v12402 k0_hw1427 => k0_hw1427

def k0_off2381 (k0_t1 : Fin k0_t1_loop.trips) : Fin 2 → Nat :=
  let c0_7793 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c395_i32_7792 : BitVec 32 := 395#32
  let v12409 : BitVec 32 := Scalar.addi v8853 c395_i32_7792
  let v12410 : Index := Scalar.indexCast v12409
  ![0, v12410.toNat]
def k0_off2382 (v12411 : BitVec 32) : Fin 3 → Nat :=
  let v12412 : Index := Scalar.indexCast v12411
  let c0_7794 : Index := 0#32
  let c0_7795 : Index := 0#32
  ![v12412.toNat, 0, 0]

def k0_chk1428 (v12411 : BitVec 32) : Prop :=
  (∀ a, (k0_off2382 v12411) a + S1x1x128.size a ≤ S100000x1x128.size a)
theorem k0_off2382_inb : ∀ (v12411 : BitVec 32) (k0_hw1428 : k0_chk1428 v12411), ∀ a, (k0_off2382 v12411) a + S1x1x128.size a ≤ S100000x1x128.size a := fun v12411 k0_hw1428 => k0_hw1428

def k0_off2383 (k0_t1 : Fin k0_t1_loop.trips) : Fin 2 → Nat :=
  let c0_7799 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c396_i32_7798 : BitVec 32 := 396#32
  let v12418 : BitVec 32 := Scalar.addi v8853 c396_i32_7798
  let v12419 : Index := Scalar.indexCast v12418
  ![0, v12419.toNat]
def k0_off2384 (v12420 : BitVec 32) : Fin 3 → Nat :=
  let v12421 : Index := Scalar.indexCast v12420
  let c0_7800 : Index := 0#32
  let c0_7801 : Index := 0#32
  ![v12421.toNat, 0, 0]

def k0_chk1429 (v12420 : BitVec 32) : Prop :=
  (∀ a, (k0_off2384 v12420) a + S1x1x128.size a ≤ S100000x1x128.size a)
theorem k0_off2384_inb : ∀ (v12420 : BitVec 32) (k0_hw1429 : k0_chk1429 v12420), ∀ a, (k0_off2384 v12420) a + S1x1x128.size a ≤ S100000x1x128.size a := fun v12420 k0_hw1429 => k0_hw1429

def k0_off2385 (k0_t1 : Fin k0_t1_loop.trips) : Fin 2 → Nat :=
  let c0_7805 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c397_i32_7804 : BitVec 32 := 397#32
  let v12427 : BitVec 32 := Scalar.addi v8853 c397_i32_7804
  let v12428 : Index := Scalar.indexCast v12427
  ![0, v12428.toNat]
def k0_off2386 (v12429 : BitVec 32) : Fin 3 → Nat :=
  let v12430 : Index := Scalar.indexCast v12429
  let c0_7806 : Index := 0#32
  let c0_7807 : Index := 0#32
  ![v12430.toNat, 0, 0]

def k0_chk1430 (v12429 : BitVec 32) : Prop :=
  (∀ a, (k0_off2386 v12429) a + S1x1x128.size a ≤ S100000x1x128.size a)
theorem k0_off2386_inb : ∀ (v12429 : BitVec 32) (k0_hw1430 : k0_chk1430 v12429), ∀ a, (k0_off2386 v12429) a + S1x1x128.size a ≤ S100000x1x128.size a := fun v12429 k0_hw1430 => k0_hw1430

def k0_off2387 (k0_t1 : Fin k0_t1_loop.trips) : Fin 2 → Nat :=
  let c0_7811 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c398_i32_7810 : BitVec 32 := 398#32
  let v12436 : BitVec 32 := Scalar.addi v8853 c398_i32_7810
  let v12437 : Index := Scalar.indexCast v12436
  ![0, v12437.toNat]
def k0_off2388 (v12438 : BitVec 32) : Fin 3 → Nat :=
  let v12439 : Index := Scalar.indexCast v12438
  let c0_7812 : Index := 0#32
  let c0_7813 : Index := 0#32
  ![v12439.toNat, 0, 0]

def k0_chk1431 (v12438 : BitVec 32) : Prop :=
  (∀ a, (k0_off2388 v12438) a + S1x1x128.size a ≤ S100000x1x128.size a)
theorem k0_off2388_inb : ∀ (v12438 : BitVec 32) (k0_hw1431 : k0_chk1431 v12438), ∀ a, (k0_off2388 v12438) a + S1x1x128.size a ≤ S100000x1x128.size a := fun v12438 k0_hw1431 => k0_hw1431

def k0_off2389 (k0_t1 : Fin k0_t1_loop.trips) : Fin 2 → Nat :=
  let c0_7817 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c399_i32_7816 : BitVec 32 := 399#32
  let v12445 : BitVec 32 := Scalar.addi v8853 c399_i32_7816
  let v12446 : Index := Scalar.indexCast v12445
  ![0, v12446.toNat]
def k0_off2390 (v12447 : BitVec 32) : Fin 3 → Nat :=
  let v12448 : Index := Scalar.indexCast v12447
  let c0_7818 : Index := 0#32
  let c0_7819 : Index := 0#32
  ![v12448.toNat, 0, 0]

def k0_chk1432 (v12447 : BitVec 32) : Prop :=
  (∀ a, (k0_off2390 v12447) a + S1x1x128.size a ≤ S100000x1x128.size a)
theorem k0_off2390_inb : ∀ (v12447 : BitVec 32) (k0_hw1432 : k0_chk1432 v12447), ∀ a, (k0_off2390 v12447) a + S1x1x128.size a ≤ S100000x1x128.size a := fun v12447 k0_hw1432 => k0_hw1432

def k0_off2391 (k0_t1 : Fin k0_t1_loop.trips) : Fin 2 → Nat :=
  let c0_7823 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c400_i32_7822 : BitVec 32 := 400#32
  let v12454 : BitVec 32 := Scalar.addi v8853 c400_i32_7822
  let v12455 : Index := Scalar.indexCast v12454
  ![0, v12455.toNat]
def k0_off2392 (v12456 : BitVec 32) : Fin 3 → Nat :=
  let v12457 : Index := Scalar.indexCast v12456
  let c0_7824 : Index := 0#32
  let c0_7825 : Index := 0#32
  ![v12457.toNat, 0, 0]

def k0_chk1433 (v12456 : BitVec 32) : Prop :=
  (∀ a, (k0_off2392 v12456) a + S1x1x128.size a ≤ S100000x1x128.size a)
theorem k0_off2392_inb : ∀ (v12456 : BitVec 32) (k0_hw1433 : k0_chk1433 v12456), ∀ a, (k0_off2392 v12456) a + S1x1x128.size a ≤ S100000x1x128.size a := fun v12456 k0_hw1433 => k0_hw1433

def k0_off2393 (k0_t1 : Fin k0_t1_loop.trips) : Fin 2 → Nat :=
  let c0_7829 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c401_i32_7828 : BitVec 32 := 401#32
  let v12463 : BitVec 32 := Scalar.addi v8853 c401_i32_7828
  let v12464 : Index := Scalar.indexCast v12463
  ![0, v12464.toNat]
def k0_off2394 (v12465 : BitVec 32) : Fin 3 → Nat :=
  let v12466 : Index := Scalar.indexCast v12465
  let c0_7830 : Index := 0#32
  let c0_7831 : Index := 0#32
  ![v12466.toNat, 0, 0]

def k0_chk1434 (v12465 : BitVec 32) : Prop :=
  (∀ a, (k0_off2394 v12465) a + S1x1x128.size a ≤ S100000x1x128.size a)
theorem k0_off2394_inb : ∀ (v12465 : BitVec 32) (k0_hw1434 : k0_chk1434 v12465), ∀ a, (k0_off2394 v12465) a + S1x1x128.size a ≤ S100000x1x128.size a := fun v12465 k0_hw1434 => k0_hw1434

def k0_off2395 (k0_t1 : Fin k0_t1_loop.trips) : Fin 2 → Nat :=
  let c0_7835 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c402_i32_7834 : BitVec 32 := 402#32
  let v12472 : BitVec 32 := Scalar.addi v8853 c402_i32_7834
  let v12473 : Index := Scalar.indexCast v12472
  ![0, v12473.toNat]
def k0_off2396 (v12474 : BitVec 32) : Fin 3 → Nat :=
  let v12475 : Index := Scalar.indexCast v12474
  let c0_7836 : Index := 0#32
  let c0_7837 : Index := 0#32
  ![v12475.toNat, 0, 0]

def k0_chk1435 (v12474 : BitVec 32) : Prop :=
  (∀ a, (k0_off2396 v12474) a + S1x1x128.size a ≤ S100000x1x128.size a)
theorem k0_off2396_inb : ∀ (v12474 : BitVec 32) (k0_hw1435 : k0_chk1435 v12474), ∀ a, (k0_off2396 v12474) a + S1x1x128.size a ≤ S100000x1x128.size a := fun v12474 k0_hw1435 => k0_hw1435

def k0_off2397 (k0_t1 : Fin k0_t1_loop.trips) : Fin 2 → Nat :=
  let c0_7841 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c403_i32_7840 : BitVec 32 := 403#32
  let v12481 : BitVec 32 := Scalar.addi v8853 c403_i32_7840
  let v12482 : Index := Scalar.indexCast v12481
  ![0, v12482.toNat]
def k0_off2398 (v12483 : BitVec 32) : Fin 3 → Nat :=
  let v12484 : Index := Scalar.indexCast v12483
  let c0_7842 : Index := 0#32
  let c0_7843 : Index := 0#32
  ![v12484.toNat, 0, 0]

def k0_chk1436 (v12483 : BitVec 32) : Prop :=
  (∀ a, (k0_off2398 v12483) a + S1x1x128.size a ≤ S100000x1x128.size a)
theorem k0_off2398_inb : ∀ (v12483 : BitVec 32) (k0_hw1436 : k0_chk1436 v12483), ∀ a, (k0_off2398 v12483) a + S1x1x128.size a ≤ S100000x1x128.size a := fun v12483 k0_hw1436 => k0_hw1436

def k0_off2399 (k0_t1 : Fin k0_t1_loop.trips) : Fin 2 → Nat :=
  let c0_7847 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c404_i32_7846 : BitVec 32 := 404#32
  let v12490 : BitVec 32 := Scalar.addi v8853 c404_i32_7846
  let v12491 : Index := Scalar.indexCast v12490
  ![0, v12491.toNat]
def k0_off2400 (v12492 : BitVec 32) : Fin 3 → Nat :=
  let v12493 : Index := Scalar.indexCast v12492
  let c0_7848 : Index := 0#32
  let c0_7849 : Index := 0#32
  ![v12493.toNat, 0, 0]

def k0_chk1437 (v12492 : BitVec 32) : Prop :=
  (∀ a, (k0_off2400 v12492) a + S1x1x128.size a ≤ S100000x1x128.size a)
theorem k0_off2400_inb : ∀ (v12492 : BitVec 32) (k0_hw1437 : k0_chk1437 v12492), ∀ a, (k0_off2400 v12492) a + S1x1x128.size a ≤ S100000x1x128.size a := fun v12492 k0_hw1437 => k0_hw1437

def k0_off2401 (k0_t1 : Fin k0_t1_loop.trips) : Fin 2 → Nat :=
  let c0_7853 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c405_i32_7852 : BitVec 32 := 405#32
  let v12499 : BitVec 32 := Scalar.addi v8853 c405_i32_7852
  let v12500 : Index := Scalar.indexCast v12499
  ![0, v12500.toNat]
def k0_off2402 (v12501 : BitVec 32) : Fin 3 → Nat :=
  let v12502 : Index := Scalar.indexCast v12501
  let c0_7854 : Index := 0#32
  let c0_7855 : Index := 0#32
  ![v12502.toNat, 0, 0]

def k0_chk1438 (v12501 : BitVec 32) : Prop :=
  (∀ a, (k0_off2402 v12501) a + S1x1x128.size a ≤ S100000x1x128.size a)
theorem k0_off2402_inb : ∀ (v12501 : BitVec 32) (k0_hw1438 : k0_chk1438 v12501), ∀ a, (k0_off2402 v12501) a + S1x1x128.size a ≤ S100000x1x128.size a := fun v12501 k0_hw1438 => k0_hw1438

def k0_off2403 (k0_t1 : Fin k0_t1_loop.trips) : Fin 2 → Nat :=
  let c0_7859 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c406_i32_7858 : BitVec 32 := 406#32
  let v12508 : BitVec 32 := Scalar.addi v8853 c406_i32_7858
  let v12509 : Index := Scalar.indexCast v12508
  ![0, v12509.toNat]
def k0_off2404 (v12510 : BitVec 32) : Fin 3 → Nat :=
  let v12511 : Index := Scalar.indexCast v12510
  let c0_7860 : Index := 0#32
  let c0_7861 : Index := 0#32
  ![v12511.toNat, 0, 0]

def k0_chk1439 (v12510 : BitVec 32) : Prop :=
  (∀ a, (k0_off2404 v12510) a + S1x1x128.size a ≤ S100000x1x128.size a)
theorem k0_off2404_inb : ∀ (v12510 : BitVec 32) (k0_hw1439 : k0_chk1439 v12510), ∀ a, (k0_off2404 v12510) a + S1x1x128.size a ≤ S100000x1x128.size a := fun v12510 k0_hw1439 => k0_hw1439

def k0_off2405 (k0_t1 : Fin k0_t1_loop.trips) : Fin 2 → Nat :=
  let c0_7865 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c407_i32_7864 : BitVec 32 := 407#32
  let v12517 : BitVec 32 := Scalar.addi v8853 c407_i32_7864
  let v12518 : Index := Scalar.indexCast v12517
  ![0, v12518.toNat]
def k0_off2406 (v12519 : BitVec 32) : Fin 3 → Nat :=
  let v12520 : Index := Scalar.indexCast v12519
  let c0_7866 : Index := 0#32
  let c0_7867 : Index := 0#32
  ![v12520.toNat, 0, 0]

def k0_chk1440 (v12519 : BitVec 32) : Prop :=
  (∀ a, (k0_off2406 v12519) a + S1x1x128.size a ≤ S100000x1x128.size a)
theorem k0_off2406_inb : ∀ (v12519 : BitVec 32) (k0_hw1440 : k0_chk1440 v12519), ∀ a, (k0_off2406 v12519) a + S1x1x128.size a ≤ S100000x1x128.size a := fun v12519 k0_hw1440 => k0_hw1440

def k0_off2407 (k0_t1 : Fin k0_t1_loop.trips) : Fin 2 → Nat :=
  let c0_7871 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c408_i32_7870 : BitVec 32 := 408#32
  let v12526 : BitVec 32 := Scalar.addi v8853 c408_i32_7870
  let v12527 : Index := Scalar.indexCast v12526
  ![0, v12527.toNat]
def k0_off2408 (v12528 : BitVec 32) : Fin 3 → Nat :=
  let v12529 : Index := Scalar.indexCast v12528
  let c0_7872 : Index := 0#32
  let c0_7873 : Index := 0#32
  ![v12529.toNat, 0, 0]

def k0_chk1441 (v12528 : BitVec 32) : Prop :=
  (∀ a, (k0_off2408 v12528) a + S1x1x128.size a ≤ S100000x1x128.size a)
theorem k0_off2408_inb : ∀ (v12528 : BitVec 32) (k0_hw1441 : k0_chk1441 v12528), ∀ a, (k0_off2408 v12528) a + S1x1x128.size a ≤ S100000x1x128.size a := fun v12528 k0_hw1441 => k0_hw1441

def k0_off2409 (k0_t1 : Fin k0_t1_loop.trips) : Fin 2 → Nat :=
  let c0_7877 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c409_i32_7876 : BitVec 32 := 409#32
  let v12535 : BitVec 32 := Scalar.addi v8853 c409_i32_7876
  let v12536 : Index := Scalar.indexCast v12535
  ![0, v12536.toNat]
def k0_off2410 (v12537 : BitVec 32) : Fin 3 → Nat :=
  let v12538 : Index := Scalar.indexCast v12537
  let c0_7878 : Index := 0#32
  let c0_7879 : Index := 0#32
  ![v12538.toNat, 0, 0]

def k0_chk1442 (v12537 : BitVec 32) : Prop :=
  (∀ a, (k0_off2410 v12537) a + S1x1x128.size a ≤ S100000x1x128.size a)
theorem k0_off2410_inb : ∀ (v12537 : BitVec 32) (k0_hw1442 : k0_chk1442 v12537), ∀ a, (k0_off2410 v12537) a + S1x1x128.size a ≤ S100000x1x128.size a := fun v12537 k0_hw1442 => k0_hw1442

def k0_off2411 (k0_t1 : Fin k0_t1_loop.trips) : Fin 2 → Nat :=
  let c0_7883 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c410_i32_7882 : BitVec 32 := 410#32
  let v12544 : BitVec 32 := Scalar.addi v8853 c410_i32_7882
  let v12545 : Index := Scalar.indexCast v12544
  ![0, v12545.toNat]
def k0_off2412 (v12546 : BitVec 32) : Fin 3 → Nat :=
  let v12547 : Index := Scalar.indexCast v12546
  let c0_7884 : Index := 0#32
  let c0_7885 : Index := 0#32
  ![v12547.toNat, 0, 0]

def k0_chk1443 (v12546 : BitVec 32) : Prop :=
  (∀ a, (k0_off2412 v12546) a + S1x1x128.size a ≤ S100000x1x128.size a)
theorem k0_off2412_inb : ∀ (v12546 : BitVec 32) (k0_hw1443 : k0_chk1443 v12546), ∀ a, (k0_off2412 v12546) a + S1x1x128.size a ≤ S100000x1x128.size a := fun v12546 k0_hw1443 => k0_hw1443

def k0_off2413 (k0_t1 : Fin k0_t1_loop.trips) : Fin 2 → Nat :=
  let c0_7889 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c411_i32_7888 : BitVec 32 := 411#32
  let v12553 : BitVec 32 := Scalar.addi v8853 c411_i32_7888
  let v12554 : Index := Scalar.indexCast v12553
  ![0, v12554.toNat]
def k0_off2414 (v12555 : BitVec 32) : Fin 3 → Nat :=
  let v12556 : Index := Scalar.indexCast v12555
  let c0_7890 : Index := 0#32
  let c0_7891 : Index := 0#32
  ![v12556.toNat, 0, 0]

def k0_chk1444 (v12555 : BitVec 32) : Prop :=
  (∀ a, (k0_off2414 v12555) a + S1x1x128.size a ≤ S100000x1x128.size a)
theorem k0_off2414_inb : ∀ (v12555 : BitVec 32) (k0_hw1444 : k0_chk1444 v12555), ∀ a, (k0_off2414 v12555) a + S1x1x128.size a ≤ S100000x1x128.size a := fun v12555 k0_hw1444 => k0_hw1444

def k0_off2415 (k0_t1 : Fin k0_t1_loop.trips) : Fin 2 → Nat :=
  let c0_7895 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c412_i32_7894 : BitVec 32 := 412#32
  let v12562 : BitVec 32 := Scalar.addi v8853 c412_i32_7894
  let v12563 : Index := Scalar.indexCast v12562
  ![0, v12563.toNat]
def k0_off2416 (v12564 : BitVec 32) : Fin 3 → Nat :=
  let v12565 : Index := Scalar.indexCast v12564
  let c0_7896 : Index := 0#32
  let c0_7897 : Index := 0#32
  ![v12565.toNat, 0, 0]

def k0_chk1445 (v12564 : BitVec 32) : Prop :=
  (∀ a, (k0_off2416 v12564) a + S1x1x128.size a ≤ S100000x1x128.size a)
theorem k0_off2416_inb : ∀ (v12564 : BitVec 32) (k0_hw1445 : k0_chk1445 v12564), ∀ a, (k0_off2416 v12564) a + S1x1x128.size a ≤ S100000x1x128.size a := fun v12564 k0_hw1445 => k0_hw1445

def k0_off2417 (k0_t1 : Fin k0_t1_loop.trips) : Fin 2 → Nat :=
  let c0_7901 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c413_i32_7900 : BitVec 32 := 413#32
  let v12571 : BitVec 32 := Scalar.addi v8853 c413_i32_7900
  let v12572 : Index := Scalar.indexCast v12571
  ![0, v12572.toNat]
def k0_off2418 (v12573 : BitVec 32) : Fin 3 → Nat :=
  let v12574 : Index := Scalar.indexCast v12573
  let c0_7902 : Index := 0#32
  let c0_7903 : Index := 0#32
  ![v12574.toNat, 0, 0]

def k0_chk1446 (v12573 : BitVec 32) : Prop :=
  (∀ a, (k0_off2418 v12573) a + S1x1x128.size a ≤ S100000x1x128.size a)
theorem k0_off2418_inb : ∀ (v12573 : BitVec 32) (k0_hw1446 : k0_chk1446 v12573), ∀ a, (k0_off2418 v12573) a + S1x1x128.size a ≤ S100000x1x128.size a := fun v12573 k0_hw1446 => k0_hw1446

def k0_off2419 (k0_t1 : Fin k0_t1_loop.trips) : Fin 2 → Nat :=
  let c0_7907 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c414_i32_7906 : BitVec 32 := 414#32
  let v12580 : BitVec 32 := Scalar.addi v8853 c414_i32_7906
  let v12581 : Index := Scalar.indexCast v12580
  ![0, v12581.toNat]
def k0_off2420 (v12582 : BitVec 32) : Fin 3 → Nat :=
  let v12583 : Index := Scalar.indexCast v12582
  let c0_7908 : Index := 0#32
  let c0_7909 : Index := 0#32
  ![v12583.toNat, 0, 0]

def k0_chk1447 (v12582 : BitVec 32) : Prop :=
  (∀ a, (k0_off2420 v12582) a + S1x1x128.size a ≤ S100000x1x128.size a)
theorem k0_off2420_inb : ∀ (v12582 : BitVec 32) (k0_hw1447 : k0_chk1447 v12582), ∀ a, (k0_off2420 v12582) a + S1x1x128.size a ≤ S100000x1x128.size a := fun v12582 k0_hw1447 => k0_hw1447

def k0_off2421 (k0_t1 : Fin k0_t1_loop.trips) : Fin 2 → Nat :=
  let c0_7913 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c415_i32_7912 : BitVec 32 := 415#32
  let v12589 : BitVec 32 := Scalar.addi v8853 c415_i32_7912
  let v12590 : Index := Scalar.indexCast v12589
  ![0, v12590.toNat]
def k0_off2422 (v12591 : BitVec 32) : Fin 3 → Nat :=
  let v12592 : Index := Scalar.indexCast v12591
  let c0_7914 : Index := 0#32
  let c0_7915 : Index := 0#32
  ![v12592.toNat, 0, 0]

def k0_chk1448 (v12591 : BitVec 32) : Prop :=
  (∀ a, (k0_off2422 v12591) a + S1x1x128.size a ≤ S100000x1x128.size a)
theorem k0_off2422_inb : ∀ (v12591 : BitVec 32) (k0_hw1448 : k0_chk1448 v12591), ∀ a, (k0_off2422 v12591) a + S1x1x128.size a ≤ S100000x1x128.size a := fun v12591 k0_hw1448 => k0_hw1448

def k0_off2423 (k0_t1 : Fin k0_t1_loop.trips) : Fin 2 → Nat :=
  let c0_7919 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c416_i32_7918 : BitVec 32 := 416#32
  let v12598 : BitVec 32 := Scalar.addi v8853 c416_i32_7918
  let v12599 : Index := Scalar.indexCast v12598
  ![0, v12599.toNat]
def k0_off2424 (v12600 : BitVec 32) : Fin 3 → Nat :=
  let v12601 : Index := Scalar.indexCast v12600
  let c0_7920 : Index := 0#32
  let c0_7921 : Index := 0#32
  ![v12601.toNat, 0, 0]

def k0_chk1449 (v12600 : BitVec 32) : Prop :=
  (∀ a, (k0_off2424 v12600) a + S1x1x128.size a ≤ S100000x1x128.size a)
theorem k0_off2424_inb : ∀ (v12600 : BitVec 32) (k0_hw1449 : k0_chk1449 v12600), ∀ a, (k0_off2424 v12600) a + S1x1x128.size a ≤ S100000x1x128.size a := fun v12600 k0_hw1449 => k0_hw1449

def k0_off2425 (k0_t1 : Fin k0_t1_loop.trips) : Fin 2 → Nat :=
  let c0_7925 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c417_i32_7924 : BitVec 32 := 417#32
  let v12607 : BitVec 32 := Scalar.addi v8853 c417_i32_7924
  let v12608 : Index := Scalar.indexCast v12607
  ![0, v12608.toNat]
def k0_off2426 (v12609 : BitVec 32) : Fin 3 → Nat :=
  let v12610 : Index := Scalar.indexCast v12609
  let c0_7926 : Index := 0#32
  let c0_7927 : Index := 0#32
  ![v12610.toNat, 0, 0]

def k0_chk1450 (v12609 : BitVec 32) : Prop :=
  (∀ a, (k0_off2426 v12609) a + S1x1x128.size a ≤ S100000x1x128.size a)
theorem k0_off2426_inb : ∀ (v12609 : BitVec 32) (k0_hw1450 : k0_chk1450 v12609), ∀ a, (k0_off2426 v12609) a + S1x1x128.size a ≤ S100000x1x128.size a := fun v12609 k0_hw1450 => k0_hw1450

def k0_off2427 (k0_t1 : Fin k0_t1_loop.trips) : Fin 2 → Nat :=
  let c0_7931 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c418_i32_7930 : BitVec 32 := 418#32
  let v12616 : BitVec 32 := Scalar.addi v8853 c418_i32_7930
  let v12617 : Index := Scalar.indexCast v12616
  ![0, v12617.toNat]
def k0_off2428 (v12618 : BitVec 32) : Fin 3 → Nat :=
  let v12619 : Index := Scalar.indexCast v12618
  let c0_7932 : Index := 0#32
  let c0_7933 : Index := 0#32
  ![v12619.toNat, 0, 0]

def k0_chk1451 (v12618 : BitVec 32) : Prop :=
  (∀ a, (k0_off2428 v12618) a + S1x1x128.size a ≤ S100000x1x128.size a)
theorem k0_off2428_inb : ∀ (v12618 : BitVec 32) (k0_hw1451 : k0_chk1451 v12618), ∀ a, (k0_off2428 v12618) a + S1x1x128.size a ≤ S100000x1x128.size a := fun v12618 k0_hw1451 => k0_hw1451

def k0_off2429 (k0_t1 : Fin k0_t1_loop.trips) : Fin 2 → Nat :=
  let c0_7937 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c419_i32_7936 : BitVec 32 := 419#32
  let v12625 : BitVec 32 := Scalar.addi v8853 c419_i32_7936
  let v12626 : Index := Scalar.indexCast v12625
  ![0, v12626.toNat]
def k0_off2430 (v12627 : BitVec 32) : Fin 3 → Nat :=
  let v12628 : Index := Scalar.indexCast v12627
  let c0_7938 : Index := 0#32
  let c0_7939 : Index := 0#32
  ![v12628.toNat, 0, 0]

def k0_chk1452 (v12627 : BitVec 32) : Prop :=
  (∀ a, (k0_off2430 v12627) a + S1x1x128.size a ≤ S100000x1x128.size a)
theorem k0_off2430_inb : ∀ (v12627 : BitVec 32) (k0_hw1452 : k0_chk1452 v12627), ∀ a, (k0_off2430 v12627) a + S1x1x128.size a ≤ S100000x1x128.size a := fun v12627 k0_hw1452 => k0_hw1452

def k0_off2431 (k0_t1 : Fin k0_t1_loop.trips) : Fin 2 → Nat :=
  let c0_7943 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c420_i32_7942 : BitVec 32 := 420#32
  let v12634 : BitVec 32 := Scalar.addi v8853 c420_i32_7942
  let v12635 : Index := Scalar.indexCast v12634
  ![0, v12635.toNat]
def k0_off2432 (v12636 : BitVec 32) : Fin 3 → Nat :=
  let v12637 : Index := Scalar.indexCast v12636
  let c0_7944 : Index := 0#32
  let c0_7945 : Index := 0#32
  ![v12637.toNat, 0, 0]

def k0_chk1453 (v12636 : BitVec 32) : Prop :=
  (∀ a, (k0_off2432 v12636) a + S1x1x128.size a ≤ S100000x1x128.size a)
theorem k0_off2432_inb : ∀ (v12636 : BitVec 32) (k0_hw1453 : k0_chk1453 v12636), ∀ a, (k0_off2432 v12636) a + S1x1x128.size a ≤ S100000x1x128.size a := fun v12636 k0_hw1453 => k0_hw1453

def k0_off2433 (k0_t1 : Fin k0_t1_loop.trips) : Fin 2 → Nat :=
  let c0_7949 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c421_i32_7948 : BitVec 32 := 421#32
  let v12643 : BitVec 32 := Scalar.addi v8853 c421_i32_7948
  let v12644 : Index := Scalar.indexCast v12643
  ![0, v12644.toNat]
def k0_off2434 (v12645 : BitVec 32) : Fin 3 → Nat :=
  let v12646 : Index := Scalar.indexCast v12645
  let c0_7950 : Index := 0#32
  let c0_7951 : Index := 0#32
  ![v12646.toNat, 0, 0]

def k0_chk1454 (v12645 : BitVec 32) : Prop :=
  (∀ a, (k0_off2434 v12645) a + S1x1x128.size a ≤ S100000x1x128.size a)
theorem k0_off2434_inb : ∀ (v12645 : BitVec 32) (k0_hw1454 : k0_chk1454 v12645), ∀ a, (k0_off2434 v12645) a + S1x1x128.size a ≤ S100000x1x128.size a := fun v12645 k0_hw1454 => k0_hw1454

def k0_off2435 (k0_t1 : Fin k0_t1_loop.trips) : Fin 2 → Nat :=
  let c0_7955 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c422_i32_7954 : BitVec 32 := 422#32
  let v12652 : BitVec 32 := Scalar.addi v8853 c422_i32_7954
  let v12653 : Index := Scalar.indexCast v12652
  ![0, v12653.toNat]
def k0_off2436 (v12654 : BitVec 32) : Fin 3 → Nat :=
  let v12655 : Index := Scalar.indexCast v12654
  let c0_7956 : Index := 0#32
  let c0_7957 : Index := 0#32
  ![v12655.toNat, 0, 0]

def k0_chk1455 (v12654 : BitVec 32) : Prop :=
  (∀ a, (k0_off2436 v12654) a + S1x1x128.size a ≤ S100000x1x128.size a)
theorem k0_off2436_inb : ∀ (v12654 : BitVec 32) (k0_hw1455 : k0_chk1455 v12654), ∀ a, (k0_off2436 v12654) a + S1x1x128.size a ≤ S100000x1x128.size a := fun v12654 k0_hw1455 => k0_hw1455

def k0_off2437 (k0_t1 : Fin k0_t1_loop.trips) : Fin 2 → Nat :=
  let c0_7961 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c423_i32_7960 : BitVec 32 := 423#32
  let v12661 : BitVec 32 := Scalar.addi v8853 c423_i32_7960
  let v12662 : Index := Scalar.indexCast v12661
  ![0, v12662.toNat]
def k0_off2438 (v12663 : BitVec 32) : Fin 3 → Nat :=
  let v12664 : Index := Scalar.indexCast v12663
  let c0_7962 : Index := 0#32
  let c0_7963 : Index := 0#32
  ![v12664.toNat, 0, 0]

def k0_chk1456 (v12663 : BitVec 32) : Prop :=
  (∀ a, (k0_off2438 v12663) a + S1x1x128.size a ≤ S100000x1x128.size a)
theorem k0_off2438_inb : ∀ (v12663 : BitVec 32) (k0_hw1456 : k0_chk1456 v12663), ∀ a, (k0_off2438 v12663) a + S1x1x128.size a ≤ S100000x1x128.size a := fun v12663 k0_hw1456 => k0_hw1456

def k0_off2439 (k0_t1 : Fin k0_t1_loop.trips) : Fin 2 → Nat :=
  let c0_7967 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c424_i32_7966 : BitVec 32 := 424#32
  let v12670 : BitVec 32 := Scalar.addi v8853 c424_i32_7966
  let v12671 : Index := Scalar.indexCast v12670
  ![0, v12671.toNat]
def k0_off2440 (v12672 : BitVec 32) : Fin 3 → Nat :=
  let v12673 : Index := Scalar.indexCast v12672
  let c0_7968 : Index := 0#32
  let c0_7969 : Index := 0#32
  ![v12673.toNat, 0, 0]

def k0_chk1457 (v12672 : BitVec 32) : Prop :=
  (∀ a, (k0_off2440 v12672) a + S1x1x128.size a ≤ S100000x1x128.size a)
theorem k0_off2440_inb : ∀ (v12672 : BitVec 32) (k0_hw1457 : k0_chk1457 v12672), ∀ a, (k0_off2440 v12672) a + S1x1x128.size a ≤ S100000x1x128.size a := fun v12672 k0_hw1457 => k0_hw1457

def k0_off2441 (k0_t1 : Fin k0_t1_loop.trips) : Fin 2 → Nat :=
  let c0_7973 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c425_i32_7972 : BitVec 32 := 425#32
  let v12679 : BitVec 32 := Scalar.addi v8853 c425_i32_7972
  let v12680 : Index := Scalar.indexCast v12679
  ![0, v12680.toNat]
def k0_off2442 (v12681 : BitVec 32) : Fin 3 → Nat :=
  let v12682 : Index := Scalar.indexCast v12681
  let c0_7974 : Index := 0#32
  let c0_7975 : Index := 0#32
  ![v12682.toNat, 0, 0]

def k0_chk1458 (v12681 : BitVec 32) : Prop :=
  (∀ a, (k0_off2442 v12681) a + S1x1x128.size a ≤ S100000x1x128.size a)
theorem k0_off2442_inb : ∀ (v12681 : BitVec 32) (k0_hw1458 : k0_chk1458 v12681), ∀ a, (k0_off2442 v12681) a + S1x1x128.size a ≤ S100000x1x128.size a := fun v12681 k0_hw1458 => k0_hw1458

def k0_off2443 (k0_t1 : Fin k0_t1_loop.trips) : Fin 2 → Nat :=
  let c0_7979 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c426_i32_7978 : BitVec 32 := 426#32
  let v12688 : BitVec 32 := Scalar.addi v8853 c426_i32_7978
  let v12689 : Index := Scalar.indexCast v12688
  ![0, v12689.toNat]
def k0_off2444 (v12690 : BitVec 32) : Fin 3 → Nat :=
  let v12691 : Index := Scalar.indexCast v12690
  let c0_7980 : Index := 0#32
  let c0_7981 : Index := 0#32
  ![v12691.toNat, 0, 0]

def k0_chk1459 (v12690 : BitVec 32) : Prop :=
  (∀ a, (k0_off2444 v12690) a + S1x1x128.size a ≤ S100000x1x128.size a)
theorem k0_off2444_inb : ∀ (v12690 : BitVec 32) (k0_hw1459 : k0_chk1459 v12690), ∀ a, (k0_off2444 v12690) a + S1x1x128.size a ≤ S100000x1x128.size a := fun v12690 k0_hw1459 => k0_hw1459

def k0_off2445 (k0_t1 : Fin k0_t1_loop.trips) : Fin 2 → Nat :=
  let c0_7985 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c427_i32_7984 : BitVec 32 := 427#32
  let v12697 : BitVec 32 := Scalar.addi v8853 c427_i32_7984
  let v12698 : Index := Scalar.indexCast v12697
  ![0, v12698.toNat]
def k0_off2446 (v12699 : BitVec 32) : Fin 3 → Nat :=
  let v12700 : Index := Scalar.indexCast v12699
  let c0_7986 : Index := 0#32
  let c0_7987 : Index := 0#32
  ![v12700.toNat, 0, 0]

def k0_chk1460 (v12699 : BitVec 32) : Prop :=
  (∀ a, (k0_off2446 v12699) a + S1x1x128.size a ≤ S100000x1x128.size a)
theorem k0_off2446_inb : ∀ (v12699 : BitVec 32) (k0_hw1460 : k0_chk1460 v12699), ∀ a, (k0_off2446 v12699) a + S1x1x128.size a ≤ S100000x1x128.size a := fun v12699 k0_hw1460 => k0_hw1460

def k0_off2447 (k0_t1 : Fin k0_t1_loop.trips) : Fin 2 → Nat :=
  let c0_7991 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c428_i32_7990 : BitVec 32 := 428#32
  let v12706 : BitVec 32 := Scalar.addi v8853 c428_i32_7990
  let v12707 : Index := Scalar.indexCast v12706
  ![0, v12707.toNat]
def k0_off2448 (v12708 : BitVec 32) : Fin 3 → Nat :=
  let v12709 : Index := Scalar.indexCast v12708
  let c0_7992 : Index := 0#32
  let c0_7993 : Index := 0#32
  ![v12709.toNat, 0, 0]

def k0_chk1461 (v12708 : BitVec 32) : Prop :=
  (∀ a, (k0_off2448 v12708) a + S1x1x128.size a ≤ S100000x1x128.size a)
theorem k0_off2448_inb : ∀ (v12708 : BitVec 32) (k0_hw1461 : k0_chk1461 v12708), ∀ a, (k0_off2448 v12708) a + S1x1x128.size a ≤ S100000x1x128.size a := fun v12708 k0_hw1461 => k0_hw1461

def k0_off2449 (k0_t1 : Fin k0_t1_loop.trips) : Fin 2 → Nat :=
  let c0_7997 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c429_i32_7996 : BitVec 32 := 429#32
  let v12715 : BitVec 32 := Scalar.addi v8853 c429_i32_7996
  let v12716 : Index := Scalar.indexCast v12715
  ![0, v12716.toNat]
def k0_off2450 (v12717 : BitVec 32) : Fin 3 → Nat :=
  let v12718 : Index := Scalar.indexCast v12717
  let c0_7998 : Index := 0#32
  let c0_7999 : Index := 0#32
  ![v12718.toNat, 0, 0]

def k0_chk1462 (v12717 : BitVec 32) : Prop :=
  (∀ a, (k0_off2450 v12717) a + S1x1x128.size a ≤ S100000x1x128.size a)
theorem k0_off2450_inb : ∀ (v12717 : BitVec 32) (k0_hw1462 : k0_chk1462 v12717), ∀ a, (k0_off2450 v12717) a + S1x1x128.size a ≤ S100000x1x128.size a := fun v12717 k0_hw1462 => k0_hw1462

def k0_off2451 (k0_t1 : Fin k0_t1_loop.trips) : Fin 2 → Nat :=
  let c0_8003 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c430_i32_8002 : BitVec 32 := 430#32
  let v12724 : BitVec 32 := Scalar.addi v8853 c430_i32_8002
  let v12725 : Index := Scalar.indexCast v12724
  ![0, v12725.toNat]
def k0_off2452 (v12726 : BitVec 32) : Fin 3 → Nat :=
  let v12727 : Index := Scalar.indexCast v12726
  let c0_8004 : Index := 0#32
  let c0_8005 : Index := 0#32
  ![v12727.toNat, 0, 0]

def k0_chk1463 (v12726 : BitVec 32) : Prop :=
  (∀ a, (k0_off2452 v12726) a + S1x1x128.size a ≤ S100000x1x128.size a)
theorem k0_off2452_inb : ∀ (v12726 : BitVec 32) (k0_hw1463 : k0_chk1463 v12726), ∀ a, (k0_off2452 v12726) a + S1x1x128.size a ≤ S100000x1x128.size a := fun v12726 k0_hw1463 => k0_hw1463

def k0_off2453 (k0_t1 : Fin k0_t1_loop.trips) : Fin 2 → Nat :=
  let c0_8009 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c431_i32_8008 : BitVec 32 := 431#32
  let v12733 : BitVec 32 := Scalar.addi v8853 c431_i32_8008
  let v12734 : Index := Scalar.indexCast v12733
  ![0, v12734.toNat]
def k0_off2454 (v12735 : BitVec 32) : Fin 3 → Nat :=
  let v12736 : Index := Scalar.indexCast v12735
  let c0_8010 : Index := 0#32
  let c0_8011 : Index := 0#32
  ![v12736.toNat, 0, 0]

def k0_chk1464 (v12735 : BitVec 32) : Prop :=
  (∀ a, (k0_off2454 v12735) a + S1x1x128.size a ≤ S100000x1x128.size a)
theorem k0_off2454_inb : ∀ (v12735 : BitVec 32) (k0_hw1464 : k0_chk1464 v12735), ∀ a, (k0_off2454 v12735) a + S1x1x128.size a ≤ S100000x1x128.size a := fun v12735 k0_hw1464 => k0_hw1464

def k0_off2455 (k0_t1 : Fin k0_t1_loop.trips) : Fin 2 → Nat :=
  let c0_8015 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c432_i32_8014 : BitVec 32 := 432#32
  let v12742 : BitVec 32 := Scalar.addi v8853 c432_i32_8014
  let v12743 : Index := Scalar.indexCast v12742
  ![0, v12743.toNat]
def k0_off2456 (v12744 : BitVec 32) : Fin 3 → Nat :=
  let v12745 : Index := Scalar.indexCast v12744
  let c0_8016 : Index := 0#32
  let c0_8017 : Index := 0#32
  ![v12745.toNat, 0, 0]

def k0_chk1465 (v12744 : BitVec 32) : Prop :=
  (∀ a, (k0_off2456 v12744) a + S1x1x128.size a ≤ S100000x1x128.size a)
theorem k0_off2456_inb : ∀ (v12744 : BitVec 32) (k0_hw1465 : k0_chk1465 v12744), ∀ a, (k0_off2456 v12744) a + S1x1x128.size a ≤ S100000x1x128.size a := fun v12744 k0_hw1465 => k0_hw1465

def k0_off2457 (k0_t1 : Fin k0_t1_loop.trips) : Fin 2 → Nat :=
  let c0_8021 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c433_i32_8020 : BitVec 32 := 433#32
  let v12751 : BitVec 32 := Scalar.addi v8853 c433_i32_8020
  let v12752 : Index := Scalar.indexCast v12751
  ![0, v12752.toNat]
def k0_off2458 (v12753 : BitVec 32) : Fin 3 → Nat :=
  let v12754 : Index := Scalar.indexCast v12753
  let c0_8022 : Index := 0#32
  let c0_8023 : Index := 0#32
  ![v12754.toNat, 0, 0]

def k0_chk1466 (v12753 : BitVec 32) : Prop :=
  (∀ a, (k0_off2458 v12753) a + S1x1x128.size a ≤ S100000x1x128.size a)
theorem k0_off2458_inb : ∀ (v12753 : BitVec 32) (k0_hw1466 : k0_chk1466 v12753), ∀ a, (k0_off2458 v12753) a + S1x1x128.size a ≤ S100000x1x128.size a := fun v12753 k0_hw1466 => k0_hw1466

def k0_off2459 (k0_t1 : Fin k0_t1_loop.trips) : Fin 2 → Nat :=
  let c0_8027 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c434_i32_8026 : BitVec 32 := 434#32
  let v12760 : BitVec 32 := Scalar.addi v8853 c434_i32_8026
  let v12761 : Index := Scalar.indexCast v12760
  ![0, v12761.toNat]
def k0_off2460 (v12762 : BitVec 32) : Fin 3 → Nat :=
  let v12763 : Index := Scalar.indexCast v12762
  let c0_8028 : Index := 0#32
  let c0_8029 : Index := 0#32
  ![v12763.toNat, 0, 0]

def k0_chk1467 (v12762 : BitVec 32) : Prop :=
  (∀ a, (k0_off2460 v12762) a + S1x1x128.size a ≤ S100000x1x128.size a)
theorem k0_off2460_inb : ∀ (v12762 : BitVec 32) (k0_hw1467 : k0_chk1467 v12762), ∀ a, (k0_off2460 v12762) a + S1x1x128.size a ≤ S100000x1x128.size a := fun v12762 k0_hw1467 => k0_hw1467

def k0_off2461 (k0_t1 : Fin k0_t1_loop.trips) : Fin 2 → Nat :=
  let c0_8033 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c435_i32_8032 : BitVec 32 := 435#32
  let v12769 : BitVec 32 := Scalar.addi v8853 c435_i32_8032
  let v12770 : Index := Scalar.indexCast v12769
  ![0, v12770.toNat]
def k0_off2462 (v12771 : BitVec 32) : Fin 3 → Nat :=
  let v12772 : Index := Scalar.indexCast v12771
  let c0_8034 : Index := 0#32
  let c0_8035 : Index := 0#32
  ![v12772.toNat, 0, 0]

def k0_chk1468 (v12771 : BitVec 32) : Prop :=
  (∀ a, (k0_off2462 v12771) a + S1x1x128.size a ≤ S100000x1x128.size a)
theorem k0_off2462_inb : ∀ (v12771 : BitVec 32) (k0_hw1468 : k0_chk1468 v12771), ∀ a, (k0_off2462 v12771) a + S1x1x128.size a ≤ S100000x1x128.size a := fun v12771 k0_hw1468 => k0_hw1468

def k0_off2463 (k0_t1 : Fin k0_t1_loop.trips) : Fin 2 → Nat :=
  let c0_8039 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c436_i32_8038 : BitVec 32 := 436#32
  let v12778 : BitVec 32 := Scalar.addi v8853 c436_i32_8038
  let v12779 : Index := Scalar.indexCast v12778
  ![0, v12779.toNat]
def k0_off2464 (v12780 : BitVec 32) : Fin 3 → Nat :=
  let v12781 : Index := Scalar.indexCast v12780
  let c0_8040 : Index := 0#32
  let c0_8041 : Index := 0#32
  ![v12781.toNat, 0, 0]

def k0_chk1469 (v12780 : BitVec 32) : Prop :=
  (∀ a, (k0_off2464 v12780) a + S1x1x128.size a ≤ S100000x1x128.size a)
theorem k0_off2464_inb : ∀ (v12780 : BitVec 32) (k0_hw1469 : k0_chk1469 v12780), ∀ a, (k0_off2464 v12780) a + S1x1x128.size a ≤ S100000x1x128.size a := fun v12780 k0_hw1469 => k0_hw1469

def k0_off2465 (k0_t1 : Fin k0_t1_loop.trips) : Fin 2 → Nat :=
  let c0_8045 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c437_i32_8044 : BitVec 32 := 437#32
  let v12787 : BitVec 32 := Scalar.addi v8853 c437_i32_8044
  let v12788 : Index := Scalar.indexCast v12787
  ![0, v12788.toNat]
def k0_off2466 (v12789 : BitVec 32) : Fin 3 → Nat :=
  let v12790 : Index := Scalar.indexCast v12789
  let c0_8046 : Index := 0#32
  let c0_8047 : Index := 0#32
  ![v12790.toNat, 0, 0]

def k0_chk1470 (v12789 : BitVec 32) : Prop :=
  (∀ a, (k0_off2466 v12789) a + S1x1x128.size a ≤ S100000x1x128.size a)
theorem k0_off2466_inb : ∀ (v12789 : BitVec 32) (k0_hw1470 : k0_chk1470 v12789), ∀ a, (k0_off2466 v12789) a + S1x1x128.size a ≤ S100000x1x128.size a := fun v12789 k0_hw1470 => k0_hw1470

def k0_off2467 (k0_t1 : Fin k0_t1_loop.trips) : Fin 2 → Nat :=
  let c0_8051 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c438_i32_8050 : BitVec 32 := 438#32
  let v12796 : BitVec 32 := Scalar.addi v8853 c438_i32_8050
  let v12797 : Index := Scalar.indexCast v12796
  ![0, v12797.toNat]
def k0_off2468 (v12798 : BitVec 32) : Fin 3 → Nat :=
  let v12799 : Index := Scalar.indexCast v12798
  let c0_8052 : Index := 0#32
  let c0_8053 : Index := 0#32
  ![v12799.toNat, 0, 0]

def k0_chk1471 (v12798 : BitVec 32) : Prop :=
  (∀ a, (k0_off2468 v12798) a + S1x1x128.size a ≤ S100000x1x128.size a)
theorem k0_off2468_inb : ∀ (v12798 : BitVec 32) (k0_hw1471 : k0_chk1471 v12798), ∀ a, (k0_off2468 v12798) a + S1x1x128.size a ≤ S100000x1x128.size a := fun v12798 k0_hw1471 => k0_hw1471

def k0_off2469 (k0_t1 : Fin k0_t1_loop.trips) : Fin 2 → Nat :=
  let c0_8057 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c439_i32_8056 : BitVec 32 := 439#32
  let v12805 : BitVec 32 := Scalar.addi v8853 c439_i32_8056
  let v12806 : Index := Scalar.indexCast v12805
  ![0, v12806.toNat]
def k0_off2470 (v12807 : BitVec 32) : Fin 3 → Nat :=
  let v12808 : Index := Scalar.indexCast v12807
  let c0_8058 : Index := 0#32
  let c0_8059 : Index := 0#32
  ![v12808.toNat, 0, 0]

def k0_chk1472 (v12807 : BitVec 32) : Prop :=
  (∀ a, (k0_off2470 v12807) a + S1x1x128.size a ≤ S100000x1x128.size a)
theorem k0_off2470_inb : ∀ (v12807 : BitVec 32) (k0_hw1472 : k0_chk1472 v12807), ∀ a, (k0_off2470 v12807) a + S1x1x128.size a ≤ S100000x1x128.size a := fun v12807 k0_hw1472 => k0_hw1472

def k0_off2471 (k0_t1 : Fin k0_t1_loop.trips) : Fin 2 → Nat :=
  let c0_8063 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c440_i32_8062 : BitVec 32 := 440#32
  let v12814 : BitVec 32 := Scalar.addi v8853 c440_i32_8062
  let v12815 : Index := Scalar.indexCast v12814
  ![0, v12815.toNat]
def k0_off2472 (v12816 : BitVec 32) : Fin 3 → Nat :=
  let v12817 : Index := Scalar.indexCast v12816
  let c0_8064 : Index := 0#32
  let c0_8065 : Index := 0#32
  ![v12817.toNat, 0, 0]

def k0_chk1473 (v12816 : BitVec 32) : Prop :=
  (∀ a, (k0_off2472 v12816) a + S1x1x128.size a ≤ S100000x1x128.size a)
theorem k0_off2472_inb : ∀ (v12816 : BitVec 32) (k0_hw1473 : k0_chk1473 v12816), ∀ a, (k0_off2472 v12816) a + S1x1x128.size a ≤ S100000x1x128.size a := fun v12816 k0_hw1473 => k0_hw1473

def k0_off2473 (k0_t1 : Fin k0_t1_loop.trips) : Fin 2 → Nat :=
  let c0_8069 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c441_i32_8068 : BitVec 32 := 441#32
  let v12823 : BitVec 32 := Scalar.addi v8853 c441_i32_8068
  let v12824 : Index := Scalar.indexCast v12823
  ![0, v12824.toNat]
def k0_off2474 (v12825 : BitVec 32) : Fin 3 → Nat :=
  let v12826 : Index := Scalar.indexCast v12825
  let c0_8070 : Index := 0#32
  let c0_8071 : Index := 0#32
  ![v12826.toNat, 0, 0]

def k0_chk1474 (v12825 : BitVec 32) : Prop :=
  (∀ a, (k0_off2474 v12825) a + S1x1x128.size a ≤ S100000x1x128.size a)
theorem k0_off2474_inb : ∀ (v12825 : BitVec 32) (k0_hw1474 : k0_chk1474 v12825), ∀ a, (k0_off2474 v12825) a + S1x1x128.size a ≤ S100000x1x128.size a := fun v12825 k0_hw1474 => k0_hw1474

def k0_off2475 (k0_t1 : Fin k0_t1_loop.trips) : Fin 2 → Nat :=
  let c0_8075 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c442_i32_8074 : BitVec 32 := 442#32
  let v12832 : BitVec 32 := Scalar.addi v8853 c442_i32_8074
  let v12833 : Index := Scalar.indexCast v12832
  ![0, v12833.toNat]
def k0_off2476 (v12834 : BitVec 32) : Fin 3 → Nat :=
  let v12835 : Index := Scalar.indexCast v12834
  let c0_8076 : Index := 0#32
  let c0_8077 : Index := 0#32
  ![v12835.toNat, 0, 0]

def k0_chk1475 (v12834 : BitVec 32) : Prop :=
  (∀ a, (k0_off2476 v12834) a + S1x1x128.size a ≤ S100000x1x128.size a)
theorem k0_off2476_inb : ∀ (v12834 : BitVec 32) (k0_hw1475 : k0_chk1475 v12834), ∀ a, (k0_off2476 v12834) a + S1x1x128.size a ≤ S100000x1x128.size a := fun v12834 k0_hw1475 => k0_hw1475

def k0_off2477 (k0_t1 : Fin k0_t1_loop.trips) : Fin 2 → Nat :=
  let c0_8081 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c443_i32_8080 : BitVec 32 := 443#32
  let v12841 : BitVec 32 := Scalar.addi v8853 c443_i32_8080
  let v12842 : Index := Scalar.indexCast v12841
  ![0, v12842.toNat]
def k0_off2478 (v12843 : BitVec 32) : Fin 3 → Nat :=
  let v12844 : Index := Scalar.indexCast v12843
  let c0_8082 : Index := 0#32
  let c0_8083 : Index := 0#32
  ![v12844.toNat, 0, 0]

def k0_chk1476 (v12843 : BitVec 32) : Prop :=
  (∀ a, (k0_off2478 v12843) a + S1x1x128.size a ≤ S100000x1x128.size a)
theorem k0_off2478_inb : ∀ (v12843 : BitVec 32) (k0_hw1476 : k0_chk1476 v12843), ∀ a, (k0_off2478 v12843) a + S1x1x128.size a ≤ S100000x1x128.size a := fun v12843 k0_hw1476 => k0_hw1476

def k0_off2479 (k0_t1 : Fin k0_t1_loop.trips) : Fin 2 → Nat :=
  let c0_8087 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c444_i32_8086 : BitVec 32 := 444#32
  let v12850 : BitVec 32 := Scalar.addi v8853 c444_i32_8086
  let v12851 : Index := Scalar.indexCast v12850
  ![0, v12851.toNat]
def k0_off2480 (v12852 : BitVec 32) : Fin 3 → Nat :=
  let v12853 : Index := Scalar.indexCast v12852
  let c0_8088 : Index := 0#32
  let c0_8089 : Index := 0#32
  ![v12853.toNat, 0, 0]

def k0_chk1477 (v12852 : BitVec 32) : Prop :=
  (∀ a, (k0_off2480 v12852) a + S1x1x128.size a ≤ S100000x1x128.size a)
theorem k0_off2480_inb : ∀ (v12852 : BitVec 32) (k0_hw1477 : k0_chk1477 v12852), ∀ a, (k0_off2480 v12852) a + S1x1x128.size a ≤ S100000x1x128.size a := fun v12852 k0_hw1477 => k0_hw1477

def k0_off2481 (k0_t1 : Fin k0_t1_loop.trips) : Fin 2 → Nat :=
  let c0_8093 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c445_i32_8092 : BitVec 32 := 445#32
  let v12859 : BitVec 32 := Scalar.addi v8853 c445_i32_8092
  let v12860 : Index := Scalar.indexCast v12859
  ![0, v12860.toNat]
def k0_off2482 (v12861 : BitVec 32) : Fin 3 → Nat :=
  let v12862 : Index := Scalar.indexCast v12861
  let c0_8094 : Index := 0#32
  let c0_8095 : Index := 0#32
  ![v12862.toNat, 0, 0]

def k0_chk1478 (v12861 : BitVec 32) : Prop :=
  (∀ a, (k0_off2482 v12861) a + S1x1x128.size a ≤ S100000x1x128.size a)
theorem k0_off2482_inb : ∀ (v12861 : BitVec 32) (k0_hw1478 : k0_chk1478 v12861), ∀ a, (k0_off2482 v12861) a + S1x1x128.size a ≤ S100000x1x128.size a := fun v12861 k0_hw1478 => k0_hw1478

def k0_off2483 (k0_t1 : Fin k0_t1_loop.trips) : Fin 2 → Nat :=
  let c0_8099 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c446_i32_8098 : BitVec 32 := 446#32
  let v12868 : BitVec 32 := Scalar.addi v8853 c446_i32_8098
  let v12869 : Index := Scalar.indexCast v12868
  ![0, v12869.toNat]
def k0_off2484 (v12870 : BitVec 32) : Fin 3 → Nat :=
  let v12871 : Index := Scalar.indexCast v12870
  let c0_8100 : Index := 0#32
  let c0_8101 : Index := 0#32
  ![v12871.toNat, 0, 0]

def k0_chk1479 (v12870 : BitVec 32) : Prop :=
  (∀ a, (k0_off2484 v12870) a + S1x1x128.size a ≤ S100000x1x128.size a)
theorem k0_off2484_inb : ∀ (v12870 : BitVec 32) (k0_hw1479 : k0_chk1479 v12870), ∀ a, (k0_off2484 v12870) a + S1x1x128.size a ≤ S100000x1x128.size a := fun v12870 k0_hw1479 => k0_hw1479

def k0_off2485 (k0_t1 : Fin k0_t1_loop.trips) : Fin 2 → Nat :=
  let c0_8105 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c447_i32_8104 : BitVec 32 := 447#32
  let v12877 : BitVec 32 := Scalar.addi v8853 c447_i32_8104
  let v12878 : Index := Scalar.indexCast v12877
  ![0, v12878.toNat]
def k0_off2486 (v12879 : BitVec 32) : Fin 3 → Nat :=
  let v12880 : Index := Scalar.indexCast v12879
  let c0_8106 : Index := 0#32
  let c0_8107 : Index := 0#32
  ![v12880.toNat, 0, 0]

def k0_chk1480 (v12879 : BitVec 32) : Prop :=
  (∀ a, (k0_off2486 v12879) a + S1x1x128.size a ≤ S100000x1x128.size a)
theorem k0_off2486_inb : ∀ (v12879 : BitVec 32) (k0_hw1480 : k0_chk1480 v12879), ∀ a, (k0_off2486 v12879) a + S1x1x128.size a ≤ S100000x1x128.size a := fun v12879 k0_hw1480 => k0_hw1480

def k0_off2487 (k0_t1 : Fin k0_t1_loop.trips) : Fin 2 → Nat :=
  let c0_8111 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c448_i32_8110 : BitVec 32 := 448#32
  let v12886 : BitVec 32 := Scalar.addi v8853 c448_i32_8110
  let v12887 : Index := Scalar.indexCast v12886
  ![0, v12887.toNat]
def k0_off2488 (v12888 : BitVec 32) : Fin 3 → Nat :=
  let v12889 : Index := Scalar.indexCast v12888
  let c0_8112 : Index := 0#32
  let c0_8113 : Index := 0#32
  ![v12889.toNat, 0, 0]

def k0_chk1481 (v12888 : BitVec 32) : Prop :=
  (∀ a, (k0_off2488 v12888) a + S1x1x128.size a ≤ S100000x1x128.size a)
theorem k0_off2488_inb : ∀ (v12888 : BitVec 32) (k0_hw1481 : k0_chk1481 v12888), ∀ a, (k0_off2488 v12888) a + S1x1x128.size a ≤ S100000x1x128.size a := fun v12888 k0_hw1481 => k0_hw1481

def k0_off2489 (k0_t1 : Fin k0_t1_loop.trips) : Fin 2 → Nat :=
  let c0_8117 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c449_i32_8116 : BitVec 32 := 449#32
  let v12895 : BitVec 32 := Scalar.addi v8853 c449_i32_8116
  let v12896 : Index := Scalar.indexCast v12895
  ![0, v12896.toNat]
def k0_off2490 (v12897 : BitVec 32) : Fin 3 → Nat :=
  let v12898 : Index := Scalar.indexCast v12897
  let c0_8118 : Index := 0#32
  let c0_8119 : Index := 0#32
  ![v12898.toNat, 0, 0]

def k0_chk1482 (v12897 : BitVec 32) : Prop :=
  (∀ a, (k0_off2490 v12897) a + S1x1x128.size a ≤ S100000x1x128.size a)
theorem k0_off2490_inb : ∀ (v12897 : BitVec 32) (k0_hw1482 : k0_chk1482 v12897), ∀ a, (k0_off2490 v12897) a + S1x1x128.size a ≤ S100000x1x128.size a := fun v12897 k0_hw1482 => k0_hw1482

def k0_off2491 (k0_t1 : Fin k0_t1_loop.trips) : Fin 2 → Nat :=
  let c0_8123 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c450_i32_8122 : BitVec 32 := 450#32
  let v12904 : BitVec 32 := Scalar.addi v8853 c450_i32_8122
  let v12905 : Index := Scalar.indexCast v12904
  ![0, v12905.toNat]
def k0_off2492 (v12906 : BitVec 32) : Fin 3 → Nat :=
  let v12907 : Index := Scalar.indexCast v12906
  let c0_8124 : Index := 0#32
  let c0_8125 : Index := 0#32
  ![v12907.toNat, 0, 0]

def k0_chk1483 (v12906 : BitVec 32) : Prop :=
  (∀ a, (k0_off2492 v12906) a + S1x1x128.size a ≤ S100000x1x128.size a)
theorem k0_off2492_inb : ∀ (v12906 : BitVec 32) (k0_hw1483 : k0_chk1483 v12906), ∀ a, (k0_off2492 v12906) a + S1x1x128.size a ≤ S100000x1x128.size a := fun v12906 k0_hw1483 => k0_hw1483

def k0_off2493 (k0_t1 : Fin k0_t1_loop.trips) : Fin 2 → Nat :=
  let c0_8129 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c451_i32_8128 : BitVec 32 := 451#32
  let v12913 : BitVec 32 := Scalar.addi v8853 c451_i32_8128
  let v12914 : Index := Scalar.indexCast v12913
  ![0, v12914.toNat]
def k0_off2494 (v12915 : BitVec 32) : Fin 3 → Nat :=
  let v12916 : Index := Scalar.indexCast v12915
  let c0_8130 : Index := 0#32
  let c0_8131 : Index := 0#32
  ![v12916.toNat, 0, 0]

def k0_chk1484 (v12915 : BitVec 32) : Prop :=
  (∀ a, (k0_off2494 v12915) a + S1x1x128.size a ≤ S100000x1x128.size a)
theorem k0_off2494_inb : ∀ (v12915 : BitVec 32) (k0_hw1484 : k0_chk1484 v12915), ∀ a, (k0_off2494 v12915) a + S1x1x128.size a ≤ S100000x1x128.size a := fun v12915 k0_hw1484 => k0_hw1484

def k0_off2495 (k0_t1 : Fin k0_t1_loop.trips) : Fin 2 → Nat :=
  let c0_8135 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c452_i32_8134 : BitVec 32 := 452#32
  let v12922 : BitVec 32 := Scalar.addi v8853 c452_i32_8134
  let v12923 : Index := Scalar.indexCast v12922
  ![0, v12923.toNat]
def k0_off2496 (v12924 : BitVec 32) : Fin 3 → Nat :=
  let v12925 : Index := Scalar.indexCast v12924
  let c0_8136 : Index := 0#32
  let c0_8137 : Index := 0#32
  ![v12925.toNat, 0, 0]

def k0_chk1485 (v12924 : BitVec 32) : Prop :=
  (∀ a, (k0_off2496 v12924) a + S1x1x128.size a ≤ S100000x1x128.size a)
theorem k0_off2496_inb : ∀ (v12924 : BitVec 32) (k0_hw1485 : k0_chk1485 v12924), ∀ a, (k0_off2496 v12924) a + S1x1x128.size a ≤ S100000x1x128.size a := fun v12924 k0_hw1485 => k0_hw1485

def k0_off2497 (k0_t1 : Fin k0_t1_loop.trips) : Fin 2 → Nat :=
  let c0_8141 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c453_i32_8140 : BitVec 32 := 453#32
  let v12931 : BitVec 32 := Scalar.addi v8853 c453_i32_8140
  let v12932 : Index := Scalar.indexCast v12931
  ![0, v12932.toNat]
def k0_off2498 (v12933 : BitVec 32) : Fin 3 → Nat :=
  let v12934 : Index := Scalar.indexCast v12933
  let c0_8142 : Index := 0#32
  let c0_8143 : Index := 0#32
  ![v12934.toNat, 0, 0]

def k0_chk1486 (v12933 : BitVec 32) : Prop :=
  (∀ a, (k0_off2498 v12933) a + S1x1x128.size a ≤ S100000x1x128.size a)
theorem k0_off2498_inb : ∀ (v12933 : BitVec 32) (k0_hw1486 : k0_chk1486 v12933), ∀ a, (k0_off2498 v12933) a + S1x1x128.size a ≤ S100000x1x128.size a := fun v12933 k0_hw1486 => k0_hw1486

def k0_off2499 (k0_t1 : Fin k0_t1_loop.trips) : Fin 2 → Nat :=
  let c0_8147 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c454_i32_8146 : BitVec 32 := 454#32
  let v12940 : BitVec 32 := Scalar.addi v8853 c454_i32_8146
  let v12941 : Index := Scalar.indexCast v12940
  ![0, v12941.toNat]
def k0_off2500 (v12942 : BitVec 32) : Fin 3 → Nat :=
  let v12943 : Index := Scalar.indexCast v12942
  let c0_8148 : Index := 0#32
  let c0_8149 : Index := 0#32
  ![v12943.toNat, 0, 0]

def k0_chk1487 (v12942 : BitVec 32) : Prop :=
  (∀ a, (k0_off2500 v12942) a + S1x1x128.size a ≤ S100000x1x128.size a)
theorem k0_off2500_inb : ∀ (v12942 : BitVec 32) (k0_hw1487 : k0_chk1487 v12942), ∀ a, (k0_off2500 v12942) a + S1x1x128.size a ≤ S100000x1x128.size a := fun v12942 k0_hw1487 => k0_hw1487

def k0_off2501 (k0_t1 : Fin k0_t1_loop.trips) : Fin 2 → Nat :=
  let c0_8153 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c455_i32_8152 : BitVec 32 := 455#32
  let v12949 : BitVec 32 := Scalar.addi v8853 c455_i32_8152
  let v12950 : Index := Scalar.indexCast v12949
  ![0, v12950.toNat]
def k0_off2502 (v12951 : BitVec 32) : Fin 3 → Nat :=
  let v12952 : Index := Scalar.indexCast v12951
  let c0_8154 : Index := 0#32
  let c0_8155 : Index := 0#32
  ![v12952.toNat, 0, 0]

def k0_chk1488 (v12951 : BitVec 32) : Prop :=
  (∀ a, (k0_off2502 v12951) a + S1x1x128.size a ≤ S100000x1x128.size a)
theorem k0_off2502_inb : ∀ (v12951 : BitVec 32) (k0_hw1488 : k0_chk1488 v12951), ∀ a, (k0_off2502 v12951) a + S1x1x128.size a ≤ S100000x1x128.size a := fun v12951 k0_hw1488 => k0_hw1488

def k0_off2503 (k0_t1 : Fin k0_t1_loop.trips) : Fin 2 → Nat :=
  let c0_8159 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c456_i32_8158 : BitVec 32 := 456#32
  let v12958 : BitVec 32 := Scalar.addi v8853 c456_i32_8158
  let v12959 : Index := Scalar.indexCast v12958
  ![0, v12959.toNat]
def k0_off2504 (v12960 : BitVec 32) : Fin 3 → Nat :=
  let v12961 : Index := Scalar.indexCast v12960
  let c0_8160 : Index := 0#32
  let c0_8161 : Index := 0#32
  ![v12961.toNat, 0, 0]

def k0_chk1489 (v12960 : BitVec 32) : Prop :=
  (∀ a, (k0_off2504 v12960) a + S1x1x128.size a ≤ S100000x1x128.size a)
theorem k0_off2504_inb : ∀ (v12960 : BitVec 32) (k0_hw1489 : k0_chk1489 v12960), ∀ a, (k0_off2504 v12960) a + S1x1x128.size a ≤ S100000x1x128.size a := fun v12960 k0_hw1489 => k0_hw1489

def k0_off2505 (k0_t1 : Fin k0_t1_loop.trips) : Fin 2 → Nat :=
  let c0_8165 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c457_i32_8164 : BitVec 32 := 457#32
  let v12967 : BitVec 32 := Scalar.addi v8853 c457_i32_8164
  let v12968 : Index := Scalar.indexCast v12967
  ![0, v12968.toNat]
def k0_off2506 (v12969 : BitVec 32) : Fin 3 → Nat :=
  let v12970 : Index := Scalar.indexCast v12969
  let c0_8166 : Index := 0#32
  let c0_8167 : Index := 0#32
  ![v12970.toNat, 0, 0]

def k0_chk1490 (v12969 : BitVec 32) : Prop :=
  (∀ a, (k0_off2506 v12969) a + S1x1x128.size a ≤ S100000x1x128.size a)
theorem k0_off2506_inb : ∀ (v12969 : BitVec 32) (k0_hw1490 : k0_chk1490 v12969), ∀ a, (k0_off2506 v12969) a + S1x1x128.size a ≤ S100000x1x128.size a := fun v12969 k0_hw1490 => k0_hw1490

def k0_off2507 (k0_t1 : Fin k0_t1_loop.trips) : Fin 2 → Nat :=
  let c0_8171 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c458_i32_8170 : BitVec 32 := 458#32
  let v12976 : BitVec 32 := Scalar.addi v8853 c458_i32_8170
  let v12977 : Index := Scalar.indexCast v12976
  ![0, v12977.toNat]
def k0_off2508 (v12978 : BitVec 32) : Fin 3 → Nat :=
  let v12979 : Index := Scalar.indexCast v12978
  let c0_8172 : Index := 0#32
  let c0_8173 : Index := 0#32
  ![v12979.toNat, 0, 0]

def k0_chk1491 (v12978 : BitVec 32) : Prop :=
  (∀ a, (k0_off2508 v12978) a + S1x1x128.size a ≤ S100000x1x128.size a)
theorem k0_off2508_inb : ∀ (v12978 : BitVec 32) (k0_hw1491 : k0_chk1491 v12978), ∀ a, (k0_off2508 v12978) a + S1x1x128.size a ≤ S100000x1x128.size a := fun v12978 k0_hw1491 => k0_hw1491

def k0_off2509 (k0_t1 : Fin k0_t1_loop.trips) : Fin 2 → Nat :=
  let c0_8177 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c459_i32_8176 : BitVec 32 := 459#32
  let v12985 : BitVec 32 := Scalar.addi v8853 c459_i32_8176
  let v12986 : Index := Scalar.indexCast v12985
  ![0, v12986.toNat]
def k0_off2510 (v12987 : BitVec 32) : Fin 3 → Nat :=
  let v12988 : Index := Scalar.indexCast v12987
  let c0_8178 : Index := 0#32
  let c0_8179 : Index := 0#32
  ![v12988.toNat, 0, 0]

def k0_chk1492 (v12987 : BitVec 32) : Prop :=
  (∀ a, (k0_off2510 v12987) a + S1x1x128.size a ≤ S100000x1x128.size a)
theorem k0_off2510_inb : ∀ (v12987 : BitVec 32) (k0_hw1492 : k0_chk1492 v12987), ∀ a, (k0_off2510 v12987) a + S1x1x128.size a ≤ S100000x1x128.size a := fun v12987 k0_hw1492 => k0_hw1492

def k0_off2511 (k0_t1 : Fin k0_t1_loop.trips) : Fin 2 → Nat :=
  let c0_8183 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c460_i32_8182 : BitVec 32 := 460#32
  let v12994 : BitVec 32 := Scalar.addi v8853 c460_i32_8182
  let v12995 : Index := Scalar.indexCast v12994
  ![0, v12995.toNat]
def k0_off2512 (v12996 : BitVec 32) : Fin 3 → Nat :=
  let v12997 : Index := Scalar.indexCast v12996
  let c0_8184 : Index := 0#32
  let c0_8185 : Index := 0#32
  ![v12997.toNat, 0, 0]

def k0_chk1493 (v12996 : BitVec 32) : Prop :=
  (∀ a, (k0_off2512 v12996) a + S1x1x128.size a ≤ S100000x1x128.size a)
theorem k0_off2512_inb : ∀ (v12996 : BitVec 32) (k0_hw1493 : k0_chk1493 v12996), ∀ a, (k0_off2512 v12996) a + S1x1x128.size a ≤ S100000x1x128.size a := fun v12996 k0_hw1493 => k0_hw1493

def k0_off2513 (k0_t1 : Fin k0_t1_loop.trips) : Fin 2 → Nat :=
  let c0_8189 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c461_i32_8188 : BitVec 32 := 461#32
  let v13003 : BitVec 32 := Scalar.addi v8853 c461_i32_8188
  let v13004 : Index := Scalar.indexCast v13003
  ![0, v13004.toNat]
def k0_off2514 (v13005 : BitVec 32) : Fin 3 → Nat :=
  let v13006 : Index := Scalar.indexCast v13005
  let c0_8190 : Index := 0#32
  let c0_8191 : Index := 0#32
  ![v13006.toNat, 0, 0]

def k0_chk1494 (v13005 : BitVec 32) : Prop :=
  (∀ a, (k0_off2514 v13005) a + S1x1x128.size a ≤ S100000x1x128.size a)
theorem k0_off2514_inb : ∀ (v13005 : BitVec 32) (k0_hw1494 : k0_chk1494 v13005), ∀ a, (k0_off2514 v13005) a + S1x1x128.size a ≤ S100000x1x128.size a := fun v13005 k0_hw1494 => k0_hw1494

def k0_off2515 (k0_t1 : Fin k0_t1_loop.trips) : Fin 2 → Nat :=
  let c0_8195 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c462_i32_8194 : BitVec 32 := 462#32
  let v13012 : BitVec 32 := Scalar.addi v8853 c462_i32_8194
  let v13013 : Index := Scalar.indexCast v13012
  ![0, v13013.toNat]
def k0_off2516 (v13014 : BitVec 32) : Fin 3 → Nat :=
  let v13015 : Index := Scalar.indexCast v13014
  let c0_8196 : Index := 0#32
  let c0_8197 : Index := 0#32
  ![v13015.toNat, 0, 0]

def k0_chk1495 (v13014 : BitVec 32) : Prop :=
  (∀ a, (k0_off2516 v13014) a + S1x1x128.size a ≤ S100000x1x128.size a)
theorem k0_off2516_inb : ∀ (v13014 : BitVec 32) (k0_hw1495 : k0_chk1495 v13014), ∀ a, (k0_off2516 v13014) a + S1x1x128.size a ≤ S100000x1x128.size a := fun v13014 k0_hw1495 => k0_hw1495

def k0_off2517 (k0_t1 : Fin k0_t1_loop.trips) : Fin 2 → Nat :=
  let c0_8201 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c463_i32_8200 : BitVec 32 := 463#32
  let v13021 : BitVec 32 := Scalar.addi v8853 c463_i32_8200
  let v13022 : Index := Scalar.indexCast v13021
  ![0, v13022.toNat]
def k0_off2518 (v13023 : BitVec 32) : Fin 3 → Nat :=
  let v13024 : Index := Scalar.indexCast v13023
  let c0_8202 : Index := 0#32
  let c0_8203 : Index := 0#32
  ![v13024.toNat, 0, 0]

def k0_chk1496 (v13023 : BitVec 32) : Prop :=
  (∀ a, (k0_off2518 v13023) a + S1x1x128.size a ≤ S100000x1x128.size a)
theorem k0_off2518_inb : ∀ (v13023 : BitVec 32) (k0_hw1496 : k0_chk1496 v13023), ∀ a, (k0_off2518 v13023) a + S1x1x128.size a ≤ S100000x1x128.size a := fun v13023 k0_hw1496 => k0_hw1496

def k0_off2519 (k0_t1 : Fin k0_t1_loop.trips) : Fin 2 → Nat :=
  let c0_8207 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c464_i32_8206 : BitVec 32 := 464#32
  let v13030 : BitVec 32 := Scalar.addi v8853 c464_i32_8206
  let v13031 : Index := Scalar.indexCast v13030
  ![0, v13031.toNat]
def k0_off2520 (v13032 : BitVec 32) : Fin 3 → Nat :=
  let v13033 : Index := Scalar.indexCast v13032
  let c0_8208 : Index := 0#32
  let c0_8209 : Index := 0#32
  ![v13033.toNat, 0, 0]

def k0_chk1497 (v13032 : BitVec 32) : Prop :=
  (∀ a, (k0_off2520 v13032) a + S1x1x128.size a ≤ S100000x1x128.size a)
theorem k0_off2520_inb : ∀ (v13032 : BitVec 32) (k0_hw1497 : k0_chk1497 v13032), ∀ a, (k0_off2520 v13032) a + S1x1x128.size a ≤ S100000x1x128.size a := fun v13032 k0_hw1497 => k0_hw1497

def k0_off2521 (k0_t1 : Fin k0_t1_loop.trips) : Fin 2 → Nat :=
  let c0_8213 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c465_i32_8212 : BitVec 32 := 465#32
  let v13039 : BitVec 32 := Scalar.addi v8853 c465_i32_8212
  let v13040 : Index := Scalar.indexCast v13039
  ![0, v13040.toNat]
def k0_off2522 (v13041 : BitVec 32) : Fin 3 → Nat :=
  let v13042 : Index := Scalar.indexCast v13041
  let c0_8214 : Index := 0#32
  let c0_8215 : Index := 0#32
  ![v13042.toNat, 0, 0]

def k0_chk1498 (v13041 : BitVec 32) : Prop :=
  (∀ a, (k0_off2522 v13041) a + S1x1x128.size a ≤ S100000x1x128.size a)
theorem k0_off2522_inb : ∀ (v13041 : BitVec 32) (k0_hw1498 : k0_chk1498 v13041), ∀ a, (k0_off2522 v13041) a + S1x1x128.size a ≤ S100000x1x128.size a := fun v13041 k0_hw1498 => k0_hw1498

def k0_off2523 (k0_t1 : Fin k0_t1_loop.trips) : Fin 2 → Nat :=
  let c0_8219 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c466_i32_8218 : BitVec 32 := 466#32
  let v13048 : BitVec 32 := Scalar.addi v8853 c466_i32_8218
  let v13049 : Index := Scalar.indexCast v13048
  ![0, v13049.toNat]
def k0_off2524 (v13050 : BitVec 32) : Fin 3 → Nat :=
  let v13051 : Index := Scalar.indexCast v13050
  let c0_8220 : Index := 0#32
  let c0_8221 : Index := 0#32
  ![v13051.toNat, 0, 0]

def k0_chk1499 (v13050 : BitVec 32) : Prop :=
  (∀ a, (k0_off2524 v13050) a + S1x1x128.size a ≤ S100000x1x128.size a)
theorem k0_off2524_inb : ∀ (v13050 : BitVec 32) (k0_hw1499 : k0_chk1499 v13050), ∀ a, (k0_off2524 v13050) a + S1x1x128.size a ≤ S100000x1x128.size a := fun v13050 k0_hw1499 => k0_hw1499

def k0_off2525 (k0_t1 : Fin k0_t1_loop.trips) : Fin 2 → Nat :=
  let c0_8225 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c467_i32_8224 : BitVec 32 := 467#32
  let v13057 : BitVec 32 := Scalar.addi v8853 c467_i32_8224
  let v13058 : Index := Scalar.indexCast v13057
  ![0, v13058.toNat]
def k0_off2526 (v13059 : BitVec 32) : Fin 3 → Nat :=
  let v13060 : Index := Scalar.indexCast v13059
  let c0_8226 : Index := 0#32
  let c0_8227 : Index := 0#32
  ![v13060.toNat, 0, 0]

def k0_chk1500 (v13059 : BitVec 32) : Prop :=
  (∀ a, (k0_off2526 v13059) a + S1x1x128.size a ≤ S100000x1x128.size a)
theorem k0_off2526_inb : ∀ (v13059 : BitVec 32) (k0_hw1500 : k0_chk1500 v13059), ∀ a, (k0_off2526 v13059) a + S1x1x128.size a ≤ S100000x1x128.size a := fun v13059 k0_hw1500 => k0_hw1500

def k0_off2527 (k0_t1 : Fin k0_t1_loop.trips) : Fin 2 → Nat :=
  let c0_8231 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c468_i32_8230 : BitVec 32 := 468#32
  let v13066 : BitVec 32 := Scalar.addi v8853 c468_i32_8230
  let v13067 : Index := Scalar.indexCast v13066
  ![0, v13067.toNat]
def k0_off2528 (v13068 : BitVec 32) : Fin 3 → Nat :=
  let v13069 : Index := Scalar.indexCast v13068
  let c0_8232 : Index := 0#32
  let c0_8233 : Index := 0#32
  ![v13069.toNat, 0, 0]

def k0_chk1501 (v13068 : BitVec 32) : Prop :=
  (∀ a, (k0_off2528 v13068) a + S1x1x128.size a ≤ S100000x1x128.size a)
theorem k0_off2528_inb : ∀ (v13068 : BitVec 32) (k0_hw1501 : k0_chk1501 v13068), ∀ a, (k0_off2528 v13068) a + S1x1x128.size a ≤ S100000x1x128.size a := fun v13068 k0_hw1501 => k0_hw1501

def k0_off2529 (k0_t1 : Fin k0_t1_loop.trips) : Fin 2 → Nat :=
  let c0_8237 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c469_i32_8236 : BitVec 32 := 469#32
  let v13075 : BitVec 32 := Scalar.addi v8853 c469_i32_8236
  let v13076 : Index := Scalar.indexCast v13075
  ![0, v13076.toNat]
def k0_off2530 (v13077 : BitVec 32) : Fin 3 → Nat :=
  let v13078 : Index := Scalar.indexCast v13077
  let c0_8238 : Index := 0#32
  let c0_8239 : Index := 0#32
  ![v13078.toNat, 0, 0]

def k0_chk1502 (v13077 : BitVec 32) : Prop :=
  (∀ a, (k0_off2530 v13077) a + S1x1x128.size a ≤ S100000x1x128.size a)
theorem k0_off2530_inb : ∀ (v13077 : BitVec 32) (k0_hw1502 : k0_chk1502 v13077), ∀ a, (k0_off2530 v13077) a + S1x1x128.size a ≤ S100000x1x128.size a := fun v13077 k0_hw1502 => k0_hw1502

def k0_off2531 (k0_t1 : Fin k0_t1_loop.trips) : Fin 2 → Nat :=
  let c0_8243 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c470_i32_8242 : BitVec 32 := 470#32
  let v13084 : BitVec 32 := Scalar.addi v8853 c470_i32_8242
  let v13085 : Index := Scalar.indexCast v13084
  ![0, v13085.toNat]
def k0_off2532 (v13086 : BitVec 32) : Fin 3 → Nat :=
  let v13087 : Index := Scalar.indexCast v13086
  let c0_8244 : Index := 0#32
  let c0_8245 : Index := 0#32
  ![v13087.toNat, 0, 0]

def k0_chk1503 (v13086 : BitVec 32) : Prop :=
  (∀ a, (k0_off2532 v13086) a + S1x1x128.size a ≤ S100000x1x128.size a)
theorem k0_off2532_inb : ∀ (v13086 : BitVec 32) (k0_hw1503 : k0_chk1503 v13086), ∀ a, (k0_off2532 v13086) a + S1x1x128.size a ≤ S100000x1x128.size a := fun v13086 k0_hw1503 => k0_hw1503

def k0_off2533 (k0_t1 : Fin k0_t1_loop.trips) : Fin 2 → Nat :=
  let c0_8249 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c471_i32_8248 : BitVec 32 := 471#32
  let v13093 : BitVec 32 := Scalar.addi v8853 c471_i32_8248
  let v13094 : Index := Scalar.indexCast v13093
  ![0, v13094.toNat]
def k0_off2534 (v13095 : BitVec 32) : Fin 3 → Nat :=
  let v13096 : Index := Scalar.indexCast v13095
  let c0_8250 : Index := 0#32
  let c0_8251 : Index := 0#32
  ![v13096.toNat, 0, 0]

def k0_chk1504 (v13095 : BitVec 32) : Prop :=
  (∀ a, (k0_off2534 v13095) a + S1x1x128.size a ≤ S100000x1x128.size a)
theorem k0_off2534_inb : ∀ (v13095 : BitVec 32) (k0_hw1504 : k0_chk1504 v13095), ∀ a, (k0_off2534 v13095) a + S1x1x128.size a ≤ S100000x1x128.size a := fun v13095 k0_hw1504 => k0_hw1504

def k0_off2535 (k0_t1 : Fin k0_t1_loop.trips) : Fin 2 → Nat :=
  let c0_8255 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c472_i32_8254 : BitVec 32 := 472#32
  let v13102 : BitVec 32 := Scalar.addi v8853 c472_i32_8254
  let v13103 : Index := Scalar.indexCast v13102
  ![0, v13103.toNat]
def k0_off2536 (v13104 : BitVec 32) : Fin 3 → Nat :=
  let v13105 : Index := Scalar.indexCast v13104
  let c0_8256 : Index := 0#32
  let c0_8257 : Index := 0#32
  ![v13105.toNat, 0, 0]

def k0_chk1505 (v13104 : BitVec 32) : Prop :=
  (∀ a, (k0_off2536 v13104) a + S1x1x128.size a ≤ S100000x1x128.size a)
theorem k0_off2536_inb : ∀ (v13104 : BitVec 32) (k0_hw1505 : k0_chk1505 v13104), ∀ a, (k0_off2536 v13104) a + S1x1x128.size a ≤ S100000x1x128.size a := fun v13104 k0_hw1505 => k0_hw1505

def k0_off2537 (k0_t1 : Fin k0_t1_loop.trips) : Fin 2 → Nat :=
  let c0_8261 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c473_i32_8260 : BitVec 32 := 473#32
  let v13111 : BitVec 32 := Scalar.addi v8853 c473_i32_8260
  let v13112 : Index := Scalar.indexCast v13111
  ![0, v13112.toNat]
def k0_off2538 (v13113 : BitVec 32) : Fin 3 → Nat :=
  let v13114 : Index := Scalar.indexCast v13113
  let c0_8262 : Index := 0#32
  let c0_8263 : Index := 0#32
  ![v13114.toNat, 0, 0]

def k0_chk1506 (v13113 : BitVec 32) : Prop :=
  (∀ a, (k0_off2538 v13113) a + S1x1x128.size a ≤ S100000x1x128.size a)
theorem k0_off2538_inb : ∀ (v13113 : BitVec 32) (k0_hw1506 : k0_chk1506 v13113), ∀ a, (k0_off2538 v13113) a + S1x1x128.size a ≤ S100000x1x128.size a := fun v13113 k0_hw1506 => k0_hw1506

def k0_off2539 (k0_t1 : Fin k0_t1_loop.trips) : Fin 2 → Nat :=
  let c0_8267 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c474_i32_8266 : BitVec 32 := 474#32
  let v13120 : BitVec 32 := Scalar.addi v8853 c474_i32_8266
  let v13121 : Index := Scalar.indexCast v13120
  ![0, v13121.toNat]
def k0_off2540 (v13122 : BitVec 32) : Fin 3 → Nat :=
  let v13123 : Index := Scalar.indexCast v13122
  let c0_8268 : Index := 0#32
  let c0_8269 : Index := 0#32
  ![v13123.toNat, 0, 0]

def k0_chk1507 (v13122 : BitVec 32) : Prop :=
  (∀ a, (k0_off2540 v13122) a + S1x1x128.size a ≤ S100000x1x128.size a)
theorem k0_off2540_inb : ∀ (v13122 : BitVec 32) (k0_hw1507 : k0_chk1507 v13122), ∀ a, (k0_off2540 v13122) a + S1x1x128.size a ≤ S100000x1x128.size a := fun v13122 k0_hw1507 => k0_hw1507

def k0_off2541 (k0_t1 : Fin k0_t1_loop.trips) : Fin 2 → Nat :=
  let c0_8273 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c475_i32_8272 : BitVec 32 := 475#32
  let v13129 : BitVec 32 := Scalar.addi v8853 c475_i32_8272
  let v13130 : Index := Scalar.indexCast v13129
  ![0, v13130.toNat]
def k0_off2542 (v13131 : BitVec 32) : Fin 3 → Nat :=
  let v13132 : Index := Scalar.indexCast v13131
  let c0_8274 : Index := 0#32
  let c0_8275 : Index := 0#32
  ![v13132.toNat, 0, 0]

def k0_chk1508 (v13131 : BitVec 32) : Prop :=
  (∀ a, (k0_off2542 v13131) a + S1x1x128.size a ≤ S100000x1x128.size a)
theorem k0_off2542_inb : ∀ (v13131 : BitVec 32) (k0_hw1508 : k0_chk1508 v13131), ∀ a, (k0_off2542 v13131) a + S1x1x128.size a ≤ S100000x1x128.size a := fun v13131 k0_hw1508 => k0_hw1508

def k0_off2543 (k0_t1 : Fin k0_t1_loop.trips) : Fin 2 → Nat :=
  let c0_8279 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c476_i32_8278 : BitVec 32 := 476#32
  let v13138 : BitVec 32 := Scalar.addi v8853 c476_i32_8278
  let v13139 : Index := Scalar.indexCast v13138
  ![0, v13139.toNat]
def k0_off2544 (v13140 : BitVec 32) : Fin 3 → Nat :=
  let v13141 : Index := Scalar.indexCast v13140
  let c0_8280 : Index := 0#32
  let c0_8281 : Index := 0#32
  ![v13141.toNat, 0, 0]

def k0_chk1509 (v13140 : BitVec 32) : Prop :=
  (∀ a, (k0_off2544 v13140) a + S1x1x128.size a ≤ S100000x1x128.size a)
theorem k0_off2544_inb : ∀ (v13140 : BitVec 32) (k0_hw1509 : k0_chk1509 v13140), ∀ a, (k0_off2544 v13140) a + S1x1x128.size a ≤ S100000x1x128.size a := fun v13140 k0_hw1509 => k0_hw1509

def k0_off2545 (k0_t1 : Fin k0_t1_loop.trips) : Fin 2 → Nat :=
  let c0_8285 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c477_i32_8284 : BitVec 32 := 477#32
  let v13147 : BitVec 32 := Scalar.addi v8853 c477_i32_8284
  let v13148 : Index := Scalar.indexCast v13147
  ![0, v13148.toNat]
def k0_off2546 (v13149 : BitVec 32) : Fin 3 → Nat :=
  let v13150 : Index := Scalar.indexCast v13149
  let c0_8286 : Index := 0#32
  let c0_8287 : Index := 0#32
  ![v13150.toNat, 0, 0]

def k0_chk1510 (v13149 : BitVec 32) : Prop :=
  (∀ a, (k0_off2546 v13149) a + S1x1x128.size a ≤ S100000x1x128.size a)
theorem k0_off2546_inb : ∀ (v13149 : BitVec 32) (k0_hw1510 : k0_chk1510 v13149), ∀ a, (k0_off2546 v13149) a + S1x1x128.size a ≤ S100000x1x128.size a := fun v13149 k0_hw1510 => k0_hw1510

def k0_off2547 (k0_t1 : Fin k0_t1_loop.trips) : Fin 2 → Nat :=
  let c0_8291 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c478_i32_8290 : BitVec 32 := 478#32
  let v13156 : BitVec 32 := Scalar.addi v8853 c478_i32_8290
  let v13157 : Index := Scalar.indexCast v13156
  ![0, v13157.toNat]
def k0_off2548 (v13158 : BitVec 32) : Fin 3 → Nat :=
  let v13159 : Index := Scalar.indexCast v13158
  let c0_8292 : Index := 0#32
  let c0_8293 : Index := 0#32
  ![v13159.toNat, 0, 0]

def k0_chk1511 (v13158 : BitVec 32) : Prop :=
  (∀ a, (k0_off2548 v13158) a + S1x1x128.size a ≤ S100000x1x128.size a)
theorem k0_off2548_inb : ∀ (v13158 : BitVec 32) (k0_hw1511 : k0_chk1511 v13158), ∀ a, (k0_off2548 v13158) a + S1x1x128.size a ≤ S100000x1x128.size a := fun v13158 k0_hw1511 => k0_hw1511

def k0_off2549 (k0_t1 : Fin k0_t1_loop.trips) : Fin 2 → Nat :=
  let c0_8297 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c479_i32_8296 : BitVec 32 := 479#32
  let v13165 : BitVec 32 := Scalar.addi v8853 c479_i32_8296
  let v13166 : Index := Scalar.indexCast v13165
  ![0, v13166.toNat]
def k0_off2550 (v13167 : BitVec 32) : Fin 3 → Nat :=
  let v13168 : Index := Scalar.indexCast v13167
  let c0_8298 : Index := 0#32
  let c0_8299 : Index := 0#32
  ![v13168.toNat, 0, 0]

def k0_chk1512 (v13167 : BitVec 32) : Prop :=
  (∀ a, (k0_off2550 v13167) a + S1x1x128.size a ≤ S100000x1x128.size a)
theorem k0_off2550_inb : ∀ (v13167 : BitVec 32) (k0_hw1512 : k0_chk1512 v13167), ∀ a, (k0_off2550 v13167) a + S1x1x128.size a ≤ S100000x1x128.size a := fun v13167 k0_hw1512 => k0_hw1512

def k0_off2551 (k0_t1 : Fin k0_t1_loop.trips) : Fin 2 → Nat :=
  let c0_8303 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c480_i32_8302 : BitVec 32 := 480#32
  let v13174 : BitVec 32 := Scalar.addi v8853 c480_i32_8302
  let v13175 : Index := Scalar.indexCast v13174
  ![0, v13175.toNat]
def k0_off2552 (v13176 : BitVec 32) : Fin 3 → Nat :=
  let v13177 : Index := Scalar.indexCast v13176
  let c0_8304 : Index := 0#32
  let c0_8305 : Index := 0#32
  ![v13177.toNat, 0, 0]

def k0_chk1513 (v13176 : BitVec 32) : Prop :=
  (∀ a, (k0_off2552 v13176) a + S1x1x128.size a ≤ S100000x1x128.size a)
theorem k0_off2552_inb : ∀ (v13176 : BitVec 32) (k0_hw1513 : k0_chk1513 v13176), ∀ a, (k0_off2552 v13176) a + S1x1x128.size a ≤ S100000x1x128.size a := fun v13176 k0_hw1513 => k0_hw1513

def k0_off2553 (k0_t1 : Fin k0_t1_loop.trips) : Fin 2 → Nat :=
  let c0_8309 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c481_i32_8308 : BitVec 32 := 481#32
  let v13183 : BitVec 32 := Scalar.addi v8853 c481_i32_8308
  let v13184 : Index := Scalar.indexCast v13183
  ![0, v13184.toNat]
def k0_off2554 (v13185 : BitVec 32) : Fin 3 → Nat :=
  let v13186 : Index := Scalar.indexCast v13185
  let c0_8310 : Index := 0#32
  let c0_8311 : Index := 0#32
  ![v13186.toNat, 0, 0]

def k0_chk1514 (v13185 : BitVec 32) : Prop :=
  (∀ a, (k0_off2554 v13185) a + S1x1x128.size a ≤ S100000x1x128.size a)
theorem k0_off2554_inb : ∀ (v13185 : BitVec 32) (k0_hw1514 : k0_chk1514 v13185), ∀ a, (k0_off2554 v13185) a + S1x1x128.size a ≤ S100000x1x128.size a := fun v13185 k0_hw1514 => k0_hw1514

def k0_off2555 (k0_t1 : Fin k0_t1_loop.trips) : Fin 2 → Nat :=
  let c0_8315 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c482_i32_8314 : BitVec 32 := 482#32
  let v13192 : BitVec 32 := Scalar.addi v8853 c482_i32_8314
  let v13193 : Index := Scalar.indexCast v13192
  ![0, v13193.toNat]
def k0_off2556 (v13194 : BitVec 32) : Fin 3 → Nat :=
  let v13195 : Index := Scalar.indexCast v13194
  let c0_8316 : Index := 0#32
  let c0_8317 : Index := 0#32
  ![v13195.toNat, 0, 0]

def k0_chk1515 (v13194 : BitVec 32) : Prop :=
  (∀ a, (k0_off2556 v13194) a + S1x1x128.size a ≤ S100000x1x128.size a)
theorem k0_off2556_inb : ∀ (v13194 : BitVec 32) (k0_hw1515 : k0_chk1515 v13194), ∀ a, (k0_off2556 v13194) a + S1x1x128.size a ≤ S100000x1x128.size a := fun v13194 k0_hw1515 => k0_hw1515

def k0_off2557 (k0_t1 : Fin k0_t1_loop.trips) : Fin 2 → Nat :=
  let c0_8321 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c483_i32_8320 : BitVec 32 := 483#32
  let v13201 : BitVec 32 := Scalar.addi v8853 c483_i32_8320
  let v13202 : Index := Scalar.indexCast v13201
  ![0, v13202.toNat]
def k0_off2558 (v13203 : BitVec 32) : Fin 3 → Nat :=
  let v13204 : Index := Scalar.indexCast v13203
  let c0_8322 : Index := 0#32
  let c0_8323 : Index := 0#32
  ![v13204.toNat, 0, 0]

def k0_chk1516 (v13203 : BitVec 32) : Prop :=
  (∀ a, (k0_off2558 v13203) a + S1x1x128.size a ≤ S100000x1x128.size a)
theorem k0_off2558_inb : ∀ (v13203 : BitVec 32) (k0_hw1516 : k0_chk1516 v13203), ∀ a, (k0_off2558 v13203) a + S1x1x128.size a ≤ S100000x1x128.size a := fun v13203 k0_hw1516 => k0_hw1516

def k0_off2559 (k0_t1 : Fin k0_t1_loop.trips) : Fin 2 → Nat :=
  let c0_8327 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c484_i32_8326 : BitVec 32 := 484#32
  let v13210 : BitVec 32 := Scalar.addi v8853 c484_i32_8326
  let v13211 : Index := Scalar.indexCast v13210
  ![0, v13211.toNat]
def k0_off2560 (v13212 : BitVec 32) : Fin 3 → Nat :=
  let v13213 : Index := Scalar.indexCast v13212
  let c0_8328 : Index := 0#32
  let c0_8329 : Index := 0#32
  ![v13213.toNat, 0, 0]

def k0_chk1517 (v13212 : BitVec 32) : Prop :=
  (∀ a, (k0_off2560 v13212) a + S1x1x128.size a ≤ S100000x1x128.size a)
theorem k0_off2560_inb : ∀ (v13212 : BitVec 32) (k0_hw1517 : k0_chk1517 v13212), ∀ a, (k0_off2560 v13212) a + S1x1x128.size a ≤ S100000x1x128.size a := fun v13212 k0_hw1517 => k0_hw1517

def k0_off2561 (k0_t1 : Fin k0_t1_loop.trips) : Fin 2 → Nat :=
  let c0_8333 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c485_i32_8332 : BitVec 32 := 485#32
  let v13219 : BitVec 32 := Scalar.addi v8853 c485_i32_8332
  let v13220 : Index := Scalar.indexCast v13219
  ![0, v13220.toNat]
def k0_off2562 (v13221 : BitVec 32) : Fin 3 → Nat :=
  let v13222 : Index := Scalar.indexCast v13221
  let c0_8334 : Index := 0#32
  let c0_8335 : Index := 0#32
  ![v13222.toNat, 0, 0]

def k0_chk1518 (v13221 : BitVec 32) : Prop :=
  (∀ a, (k0_off2562 v13221) a + S1x1x128.size a ≤ S100000x1x128.size a)
theorem k0_off2562_inb : ∀ (v13221 : BitVec 32) (k0_hw1518 : k0_chk1518 v13221), ∀ a, (k0_off2562 v13221) a + S1x1x128.size a ≤ S100000x1x128.size a := fun v13221 k0_hw1518 => k0_hw1518

def k0_off2563 (k0_t1 : Fin k0_t1_loop.trips) : Fin 2 → Nat :=
  let c0_8339 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c486_i32_8338 : BitVec 32 := 486#32
  let v13228 : BitVec 32 := Scalar.addi v8853 c486_i32_8338
  let v13229 : Index := Scalar.indexCast v13228
  ![0, v13229.toNat]
def k0_off2564 (v13230 : BitVec 32) : Fin 3 → Nat :=
  let v13231 : Index := Scalar.indexCast v13230
  let c0_8340 : Index := 0#32
  let c0_8341 : Index := 0#32
  ![v13231.toNat, 0, 0]

def k0_chk1519 (v13230 : BitVec 32) : Prop :=
  (∀ a, (k0_off2564 v13230) a + S1x1x128.size a ≤ S100000x1x128.size a)
theorem k0_off2564_inb : ∀ (v13230 : BitVec 32) (k0_hw1519 : k0_chk1519 v13230), ∀ a, (k0_off2564 v13230) a + S1x1x128.size a ≤ S100000x1x128.size a := fun v13230 k0_hw1519 => k0_hw1519

def k0_off2565 (k0_t1 : Fin k0_t1_loop.trips) : Fin 2 → Nat :=
  let c0_8345 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c487_i32_8344 : BitVec 32 := 487#32
  let v13237 : BitVec 32 := Scalar.addi v8853 c487_i32_8344
  let v13238 : Index := Scalar.indexCast v13237
  ![0, v13238.toNat]
def k0_off2566 (v13239 : BitVec 32) : Fin 3 → Nat :=
  let v13240 : Index := Scalar.indexCast v13239
  let c0_8346 : Index := 0#32
  let c0_8347 : Index := 0#32
  ![v13240.toNat, 0, 0]

def k0_chk1520 (v13239 : BitVec 32) : Prop :=
  (∀ a, (k0_off2566 v13239) a + S1x1x128.size a ≤ S100000x1x128.size a)
theorem k0_off2566_inb : ∀ (v13239 : BitVec 32) (k0_hw1520 : k0_chk1520 v13239), ∀ a, (k0_off2566 v13239) a + S1x1x128.size a ≤ S100000x1x128.size a := fun v13239 k0_hw1520 => k0_hw1520

def k0_off2567 (k0_t1 : Fin k0_t1_loop.trips) : Fin 2 → Nat :=
  let c0_8351 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c488_i32_8350 : BitVec 32 := 488#32
  let v13246 : BitVec 32 := Scalar.addi v8853 c488_i32_8350
  let v13247 : Index := Scalar.indexCast v13246
  ![0, v13247.toNat]
def k0_off2568 (v13248 : BitVec 32) : Fin 3 → Nat :=
  let v13249 : Index := Scalar.indexCast v13248
  let c0_8352 : Index := 0#32
  let c0_8353 : Index := 0#32
  ![v13249.toNat, 0, 0]

def k0_chk1521 (v13248 : BitVec 32) : Prop :=
  (∀ a, (k0_off2568 v13248) a + S1x1x128.size a ≤ S100000x1x128.size a)
theorem k0_off2568_inb : ∀ (v13248 : BitVec 32) (k0_hw1521 : k0_chk1521 v13248), ∀ a, (k0_off2568 v13248) a + S1x1x128.size a ≤ S100000x1x128.size a := fun v13248 k0_hw1521 => k0_hw1521

def k0_off2569 (k0_t1 : Fin k0_t1_loop.trips) : Fin 2 → Nat :=
  let c0_8357 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c489_i32_8356 : BitVec 32 := 489#32
  let v13255 : BitVec 32 := Scalar.addi v8853 c489_i32_8356
  let v13256 : Index := Scalar.indexCast v13255
  ![0, v13256.toNat]
def k0_off2570 (v13257 : BitVec 32) : Fin 3 → Nat :=
  let v13258 : Index := Scalar.indexCast v13257
  let c0_8358 : Index := 0#32
  let c0_8359 : Index := 0#32
  ![v13258.toNat, 0, 0]

def k0_chk1522 (v13257 : BitVec 32) : Prop :=
  (∀ a, (k0_off2570 v13257) a + S1x1x128.size a ≤ S100000x1x128.size a)
theorem k0_off2570_inb : ∀ (v13257 : BitVec 32) (k0_hw1522 : k0_chk1522 v13257), ∀ a, (k0_off2570 v13257) a + S1x1x128.size a ≤ S100000x1x128.size a := fun v13257 k0_hw1522 => k0_hw1522

def k0_off2571 (k0_t1 : Fin k0_t1_loop.trips) : Fin 2 → Nat :=
  let c0_8363 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c490_i32_8362 : BitVec 32 := 490#32
  let v13264 : BitVec 32 := Scalar.addi v8853 c490_i32_8362
  let v13265 : Index := Scalar.indexCast v13264
  ![0, v13265.toNat]
def k0_off2572 (v13266 : BitVec 32) : Fin 3 → Nat :=
  let v13267 : Index := Scalar.indexCast v13266
  let c0_8364 : Index := 0#32
  let c0_8365 : Index := 0#32
  ![v13267.toNat, 0, 0]

def k0_chk1523 (v13266 : BitVec 32) : Prop :=
  (∀ a, (k0_off2572 v13266) a + S1x1x128.size a ≤ S100000x1x128.size a)
theorem k0_off2572_inb : ∀ (v13266 : BitVec 32) (k0_hw1523 : k0_chk1523 v13266), ∀ a, (k0_off2572 v13266) a + S1x1x128.size a ≤ S100000x1x128.size a := fun v13266 k0_hw1523 => k0_hw1523

def k0_off2573 (k0_t1 : Fin k0_t1_loop.trips) : Fin 2 → Nat :=
  let c0_8369 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c491_i32_8368 : BitVec 32 := 491#32
  let v13273 : BitVec 32 := Scalar.addi v8853 c491_i32_8368
  let v13274 : Index := Scalar.indexCast v13273
  ![0, v13274.toNat]
def k0_off2574 (v13275 : BitVec 32) : Fin 3 → Nat :=
  let v13276 : Index := Scalar.indexCast v13275
  let c0_8370 : Index := 0#32
  let c0_8371 : Index := 0#32
  ![v13276.toNat, 0, 0]

def k0_chk1524 (v13275 : BitVec 32) : Prop :=
  (∀ a, (k0_off2574 v13275) a + S1x1x128.size a ≤ S100000x1x128.size a)
theorem k0_off2574_inb : ∀ (v13275 : BitVec 32) (k0_hw1524 : k0_chk1524 v13275), ∀ a, (k0_off2574 v13275) a + S1x1x128.size a ≤ S100000x1x128.size a := fun v13275 k0_hw1524 => k0_hw1524

def k0_off2575 (k0_t1 : Fin k0_t1_loop.trips) : Fin 2 → Nat :=
  let c0_8375 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c492_i32_8374 : BitVec 32 := 492#32
  let v13282 : BitVec 32 := Scalar.addi v8853 c492_i32_8374
  let v13283 : Index := Scalar.indexCast v13282
  ![0, v13283.toNat]
def k0_off2576 (v13284 : BitVec 32) : Fin 3 → Nat :=
  let v13285 : Index := Scalar.indexCast v13284
  let c0_8376 : Index := 0#32
  let c0_8377 : Index := 0#32
  ![v13285.toNat, 0, 0]

def k0_chk1525 (v13284 : BitVec 32) : Prop :=
  (∀ a, (k0_off2576 v13284) a + S1x1x128.size a ≤ S100000x1x128.size a)
theorem k0_off2576_inb : ∀ (v13284 : BitVec 32) (k0_hw1525 : k0_chk1525 v13284), ∀ a, (k0_off2576 v13284) a + S1x1x128.size a ≤ S100000x1x128.size a := fun v13284 k0_hw1525 => k0_hw1525

def k0_off2577 (k0_t1 : Fin k0_t1_loop.trips) : Fin 2 → Nat :=
  let c0_8381 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c493_i32_8380 : BitVec 32 := 493#32
  let v13291 : BitVec 32 := Scalar.addi v8853 c493_i32_8380
  let v13292 : Index := Scalar.indexCast v13291
  ![0, v13292.toNat]
def k0_off2578 (v13293 : BitVec 32) : Fin 3 → Nat :=
  let v13294 : Index := Scalar.indexCast v13293
  let c0_8382 : Index := 0#32
  let c0_8383 : Index := 0#32
  ![v13294.toNat, 0, 0]

def k0_chk1526 (v13293 : BitVec 32) : Prop :=
  (∀ a, (k0_off2578 v13293) a + S1x1x128.size a ≤ S100000x1x128.size a)
theorem k0_off2578_inb : ∀ (v13293 : BitVec 32) (k0_hw1526 : k0_chk1526 v13293), ∀ a, (k0_off2578 v13293) a + S1x1x128.size a ≤ S100000x1x128.size a := fun v13293 k0_hw1526 => k0_hw1526

def k0_off2579 (k0_t1 : Fin k0_t1_loop.trips) : Fin 2 → Nat :=
  let c0_8387 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c494_i32_8386 : BitVec 32 := 494#32
  let v13300 : BitVec 32 := Scalar.addi v8853 c494_i32_8386
  let v13301 : Index := Scalar.indexCast v13300
  ![0, v13301.toNat]
def k0_off2580 (v13302 : BitVec 32) : Fin 3 → Nat :=
  let v13303 : Index := Scalar.indexCast v13302
  let c0_8388 : Index := 0#32
  let c0_8389 : Index := 0#32
  ![v13303.toNat, 0, 0]

def k0_chk1527 (v13302 : BitVec 32) : Prop :=
  (∀ a, (k0_off2580 v13302) a + S1x1x128.size a ≤ S100000x1x128.size a)
theorem k0_off2580_inb : ∀ (v13302 : BitVec 32) (k0_hw1527 : k0_chk1527 v13302), ∀ a, (k0_off2580 v13302) a + S1x1x128.size a ≤ S100000x1x128.size a := fun v13302 k0_hw1527 => k0_hw1527

def k0_off2581 (k0_t1 : Fin k0_t1_loop.trips) : Fin 2 → Nat :=
  let c0_8393 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c495_i32_8392 : BitVec 32 := 495#32
  let v13309 : BitVec 32 := Scalar.addi v8853 c495_i32_8392
  let v13310 : Index := Scalar.indexCast v13309
  ![0, v13310.toNat]
def k0_off2582 (v13311 : BitVec 32) : Fin 3 → Nat :=
  let v13312 : Index := Scalar.indexCast v13311
  let c0_8394 : Index := 0#32
  let c0_8395 : Index := 0#32
  ![v13312.toNat, 0, 0]

def k0_chk1528 (v13311 : BitVec 32) : Prop :=
  (∀ a, (k0_off2582 v13311) a + S1x1x128.size a ≤ S100000x1x128.size a)
theorem k0_off2582_inb : ∀ (v13311 : BitVec 32) (k0_hw1528 : k0_chk1528 v13311), ∀ a, (k0_off2582 v13311) a + S1x1x128.size a ≤ S100000x1x128.size a := fun v13311 k0_hw1528 => k0_hw1528

def k0_off2583 (k0_t1 : Fin k0_t1_loop.trips) : Fin 2 → Nat :=
  let c0_8399 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c496_i32_8398 : BitVec 32 := 496#32
  let v13318 : BitVec 32 := Scalar.addi v8853 c496_i32_8398
  let v13319 : Index := Scalar.indexCast v13318
  ![0, v13319.toNat]
def k0_off2584 (v13320 : BitVec 32) : Fin 3 → Nat :=
  let v13321 : Index := Scalar.indexCast v13320
  let c0_8400 : Index := 0#32
  let c0_8401 : Index := 0#32
  ![v13321.toNat, 0, 0]

def k0_chk1529 (v13320 : BitVec 32) : Prop :=
  (∀ a, (k0_off2584 v13320) a + S1x1x128.size a ≤ S100000x1x128.size a)
theorem k0_off2584_inb : ∀ (v13320 : BitVec 32) (k0_hw1529 : k0_chk1529 v13320), ∀ a, (k0_off2584 v13320) a + S1x1x128.size a ≤ S100000x1x128.size a := fun v13320 k0_hw1529 => k0_hw1529

def k0_off2585 (k0_t1 : Fin k0_t1_loop.trips) : Fin 2 → Nat :=
  let c0_8405 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c497_i32_8404 : BitVec 32 := 497#32
  let v13327 : BitVec 32 := Scalar.addi v8853 c497_i32_8404
  let v13328 : Index := Scalar.indexCast v13327
  ![0, v13328.toNat]
def k0_off2586 (v13329 : BitVec 32) : Fin 3 → Nat :=
  let v13330 : Index := Scalar.indexCast v13329
  let c0_8406 : Index := 0#32
  let c0_8407 : Index := 0#32
  ![v13330.toNat, 0, 0]

def k0_chk1530 (v13329 : BitVec 32) : Prop :=
  (∀ a, (k0_off2586 v13329) a + S1x1x128.size a ≤ S100000x1x128.size a)
theorem k0_off2586_inb : ∀ (v13329 : BitVec 32) (k0_hw1530 : k0_chk1530 v13329), ∀ a, (k0_off2586 v13329) a + S1x1x128.size a ≤ S100000x1x128.size a := fun v13329 k0_hw1530 => k0_hw1530

def k0_off2587 (k0_t1 : Fin k0_t1_loop.trips) : Fin 2 → Nat :=
  let c0_8411 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c498_i32_8410 : BitVec 32 := 498#32
  let v13336 : BitVec 32 := Scalar.addi v8853 c498_i32_8410
  let v13337 : Index := Scalar.indexCast v13336
  ![0, v13337.toNat]
def k0_off2588 (v13338 : BitVec 32) : Fin 3 → Nat :=
  let v13339 : Index := Scalar.indexCast v13338
  let c0_8412 : Index := 0#32
  let c0_8413 : Index := 0#32
  ![v13339.toNat, 0, 0]

def k0_chk1531 (v13338 : BitVec 32) : Prop :=
  (∀ a, (k0_off2588 v13338) a + S1x1x128.size a ≤ S100000x1x128.size a)
theorem k0_off2588_inb : ∀ (v13338 : BitVec 32) (k0_hw1531 : k0_chk1531 v13338), ∀ a, (k0_off2588 v13338) a + S1x1x128.size a ≤ S100000x1x128.size a := fun v13338 k0_hw1531 => k0_hw1531

def k0_off2589 (k0_t1 : Fin k0_t1_loop.trips) : Fin 2 → Nat :=
  let c0_8417 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c499_i32_8416 : BitVec 32 := 499#32
  let v13345 : BitVec 32 := Scalar.addi v8853 c499_i32_8416
  let v13346 : Index := Scalar.indexCast v13345
  ![0, v13346.toNat]
def k0_off2590 (v13347 : BitVec 32) : Fin 3 → Nat :=
  let v13348 : Index := Scalar.indexCast v13347
  let c0_8418 : Index := 0#32
  let c0_8419 : Index := 0#32
  ![v13348.toNat, 0, 0]

def k0_chk1532 (v13347 : BitVec 32) : Prop :=
  (∀ a, (k0_off2590 v13347) a + S1x1x128.size a ≤ S100000x1x128.size a)
theorem k0_off2590_inb : ∀ (v13347 : BitVec 32) (k0_hw1532 : k0_chk1532 v13347), ∀ a, (k0_off2590 v13347) a + S1x1x128.size a ≤ S100000x1x128.size a := fun v13347 k0_hw1532 => k0_hw1532

def k0_off2591 (k0_t1 : Fin k0_t1_loop.trips) : Fin 2 → Nat :=
  let c0_8423 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c500_i32_8422 : BitVec 32 := 500#32
  let v13354 : BitVec 32 := Scalar.addi v8853 c500_i32_8422
  let v13355 : Index := Scalar.indexCast v13354
  ![0, v13355.toNat]
def k0_off2592 (v13356 : BitVec 32) : Fin 3 → Nat :=
  let v13357 : Index := Scalar.indexCast v13356
  let c0_8424 : Index := 0#32
  let c0_8425 : Index := 0#32
  ![v13357.toNat, 0, 0]

def k0_chk1533 (v13356 : BitVec 32) : Prop :=
  (∀ a, (k0_off2592 v13356) a + S1x1x128.size a ≤ S100000x1x128.size a)
theorem k0_off2592_inb : ∀ (v13356 : BitVec 32) (k0_hw1533 : k0_chk1533 v13356), ∀ a, (k0_off2592 v13356) a + S1x1x128.size a ≤ S100000x1x128.size a := fun v13356 k0_hw1533 => k0_hw1533

def k0_off2593 (k0_t1 : Fin k0_t1_loop.trips) : Fin 2 → Nat :=
  let c0_8429 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c501_i32_8428 : BitVec 32 := 501#32
  let v13363 : BitVec 32 := Scalar.addi v8853 c501_i32_8428
  let v13364 : Index := Scalar.indexCast v13363
  ![0, v13364.toNat]
def k0_off2594 (v13365 : BitVec 32) : Fin 3 → Nat :=
  let v13366 : Index := Scalar.indexCast v13365
  let c0_8430 : Index := 0#32
  let c0_8431 : Index := 0#32
  ![v13366.toNat, 0, 0]

def k0_chk1534 (v13365 : BitVec 32) : Prop :=
  (∀ a, (k0_off2594 v13365) a + S1x1x128.size a ≤ S100000x1x128.size a)
theorem k0_off2594_inb : ∀ (v13365 : BitVec 32) (k0_hw1534 : k0_chk1534 v13365), ∀ a, (k0_off2594 v13365) a + S1x1x128.size a ≤ S100000x1x128.size a := fun v13365 k0_hw1534 => k0_hw1534

def k0_off2595 (k0_t1 : Fin k0_t1_loop.trips) : Fin 2 → Nat :=
  let c0_8435 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c502_i32_8434 : BitVec 32 := 502#32
  let v13372 : BitVec 32 := Scalar.addi v8853 c502_i32_8434
  let v13373 : Index := Scalar.indexCast v13372
  ![0, v13373.toNat]
def k0_off2596 (v13374 : BitVec 32) : Fin 3 → Nat :=
  let v13375 : Index := Scalar.indexCast v13374
  let c0_8436 : Index := 0#32
  let c0_8437 : Index := 0#32
  ![v13375.toNat, 0, 0]

def k0_chk1535 (v13374 : BitVec 32) : Prop :=
  (∀ a, (k0_off2596 v13374) a + S1x1x128.size a ≤ S100000x1x128.size a)
theorem k0_off2596_inb : ∀ (v13374 : BitVec 32) (k0_hw1535 : k0_chk1535 v13374), ∀ a, (k0_off2596 v13374) a + S1x1x128.size a ≤ S100000x1x128.size a := fun v13374 k0_hw1535 => k0_hw1535

def k0_off2597 (k0_t1 : Fin k0_t1_loop.trips) : Fin 2 → Nat :=
  let c0_8441 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c503_i32_8440 : BitVec 32 := 503#32
  let v13381 : BitVec 32 := Scalar.addi v8853 c503_i32_8440
  let v13382 : Index := Scalar.indexCast v13381
  ![0, v13382.toNat]
def k0_off2598 (v13383 : BitVec 32) : Fin 3 → Nat :=
  let v13384 : Index := Scalar.indexCast v13383
  let c0_8442 : Index := 0#32
  let c0_8443 : Index := 0#32
  ![v13384.toNat, 0, 0]

def k0_chk1536 (v13383 : BitVec 32) : Prop :=
  (∀ a, (k0_off2598 v13383) a + S1x1x128.size a ≤ S100000x1x128.size a)
theorem k0_off2598_inb : ∀ (v13383 : BitVec 32) (k0_hw1536 : k0_chk1536 v13383), ∀ a, (k0_off2598 v13383) a + S1x1x128.size a ≤ S100000x1x128.size a := fun v13383 k0_hw1536 => k0_hw1536

def k0_off2599 (k0_t1 : Fin k0_t1_loop.trips) : Fin 2 → Nat :=
  let c0_8447 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c504_i32_8446 : BitVec 32 := 504#32
  let v13390 : BitVec 32 := Scalar.addi v8853 c504_i32_8446
  let v13391 : Index := Scalar.indexCast v13390
  ![0, v13391.toNat]
def k0_off2600 (v13392 : BitVec 32) : Fin 3 → Nat :=
  let v13393 : Index := Scalar.indexCast v13392
  let c0_8448 : Index := 0#32
  let c0_8449 : Index := 0#32
  ![v13393.toNat, 0, 0]

def k0_chk1537 (v13392 : BitVec 32) : Prop :=
  (∀ a, (k0_off2600 v13392) a + S1x1x128.size a ≤ S100000x1x128.size a)
theorem k0_off2600_inb : ∀ (v13392 : BitVec 32) (k0_hw1537 : k0_chk1537 v13392), ∀ a, (k0_off2600 v13392) a + S1x1x128.size a ≤ S100000x1x128.size a := fun v13392 k0_hw1537 => k0_hw1537

def k0_off2601 (k0_t1 : Fin k0_t1_loop.trips) : Fin 2 → Nat :=
  let c0_8453 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c505_i32_8452 : BitVec 32 := 505#32
  let v13399 : BitVec 32 := Scalar.addi v8853 c505_i32_8452
  let v13400 : Index := Scalar.indexCast v13399
  ![0, v13400.toNat]
def k0_off2602 (v13401 : BitVec 32) : Fin 3 → Nat :=
  let v13402 : Index := Scalar.indexCast v13401
  let c0_8454 : Index := 0#32
  let c0_8455 : Index := 0#32
  ![v13402.toNat, 0, 0]

def k0_chk1538 (v13401 : BitVec 32) : Prop :=
  (∀ a, (k0_off2602 v13401) a + S1x1x128.size a ≤ S100000x1x128.size a)
theorem k0_off2602_inb : ∀ (v13401 : BitVec 32) (k0_hw1538 : k0_chk1538 v13401), ∀ a, (k0_off2602 v13401) a + S1x1x128.size a ≤ S100000x1x128.size a := fun v13401 k0_hw1538 => k0_hw1538

def k0_off2603 (k0_t1 : Fin k0_t1_loop.trips) : Fin 2 → Nat :=
  let c0_8459 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c506_i32_8458 : BitVec 32 := 506#32
  let v13408 : BitVec 32 := Scalar.addi v8853 c506_i32_8458
  let v13409 : Index := Scalar.indexCast v13408
  ![0, v13409.toNat]
def k0_off2604 (v13410 : BitVec 32) : Fin 3 → Nat :=
  let v13411 : Index := Scalar.indexCast v13410
  let c0_8460 : Index := 0#32
  let c0_8461 : Index := 0#32
  ![v13411.toNat, 0, 0]

def k0_chk1539 (v13410 : BitVec 32) : Prop :=
  (∀ a, (k0_off2604 v13410) a + S1x1x128.size a ≤ S100000x1x128.size a)
theorem k0_off2604_inb : ∀ (v13410 : BitVec 32) (k0_hw1539 : k0_chk1539 v13410), ∀ a, (k0_off2604 v13410) a + S1x1x128.size a ≤ S100000x1x128.size a := fun v13410 k0_hw1539 => k0_hw1539

def k0_off2605 (k0_t1 : Fin k0_t1_loop.trips) : Fin 2 → Nat :=
  let c0_8465 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c507_i32_8464 : BitVec 32 := 507#32
  let v13417 : BitVec 32 := Scalar.addi v8853 c507_i32_8464
  let v13418 : Index := Scalar.indexCast v13417
  ![0, v13418.toNat]
def k0_off2606 (v13419 : BitVec 32) : Fin 3 → Nat :=
  let v13420 : Index := Scalar.indexCast v13419
  let c0_8466 : Index := 0#32
  let c0_8467 : Index := 0#32
  ![v13420.toNat, 0, 0]

def k0_chk1540 (v13419 : BitVec 32) : Prop :=
  (∀ a, (k0_off2606 v13419) a + S1x1x128.size a ≤ S100000x1x128.size a)
theorem k0_off2606_inb : ∀ (v13419 : BitVec 32) (k0_hw1540 : k0_chk1540 v13419), ∀ a, (k0_off2606 v13419) a + S1x1x128.size a ≤ S100000x1x128.size a := fun v13419 k0_hw1540 => k0_hw1540

def k0_off2607 (k0_t1 : Fin k0_t1_loop.trips) : Fin 2 → Nat :=
  let c0_8471 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c508_i32_8470 : BitVec 32 := 508#32
  let v13426 : BitVec 32 := Scalar.addi v8853 c508_i32_8470
  let v13427 : Index := Scalar.indexCast v13426
  ![0, v13427.toNat]
def k0_off2608 (v13428 : BitVec 32) : Fin 3 → Nat :=
  let v13429 : Index := Scalar.indexCast v13428
  let c0_8472 : Index := 0#32
  let c0_8473 : Index := 0#32
  ![v13429.toNat, 0, 0]

def k0_chk1541 (v13428 : BitVec 32) : Prop :=
  (∀ a, (k0_off2608 v13428) a + S1x1x128.size a ≤ S100000x1x128.size a)
theorem k0_off2608_inb : ∀ (v13428 : BitVec 32) (k0_hw1541 : k0_chk1541 v13428), ∀ a, (k0_off2608 v13428) a + S1x1x128.size a ≤ S100000x1x128.size a := fun v13428 k0_hw1541 => k0_hw1541

def k0_off2609 (k0_t1 : Fin k0_t1_loop.trips) : Fin 2 → Nat :=
  let c0_8477 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c509_i32_8476 : BitVec 32 := 509#32
  let v13435 : BitVec 32 := Scalar.addi v8853 c509_i32_8476
  let v13436 : Index := Scalar.indexCast v13435
  ![0, v13436.toNat]
def k0_off2610 (v13437 : BitVec 32) : Fin 3 → Nat :=
  let v13438 : Index := Scalar.indexCast v13437
  let c0_8478 : Index := 0#32
  let c0_8479 : Index := 0#32
  ![v13438.toNat, 0, 0]

def k0_chk1542 (v13437 : BitVec 32) : Prop :=
  (∀ a, (k0_off2610 v13437) a + S1x1x128.size a ≤ S100000x1x128.size a)
theorem k0_off2610_inb : ∀ (v13437 : BitVec 32) (k0_hw1542 : k0_chk1542 v13437), ∀ a, (k0_off2610 v13437) a + S1x1x128.size a ≤ S100000x1x128.size a := fun v13437 k0_hw1542 => k0_hw1542

def k0_off2611 (k0_t1 : Fin k0_t1_loop.trips) : Fin 2 → Nat :=
  let c0_8483 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c510_i32_8482 : BitVec 32 := 510#32
  let v13444 : BitVec 32 := Scalar.addi v8853 c510_i32_8482
  let v13445 : Index := Scalar.indexCast v13444
  ![0, v13445.toNat]
def k0_off2612 (v13446 : BitVec 32) : Fin 3 → Nat :=
  let v13447 : Index := Scalar.indexCast v13446
  let c0_8484 : Index := 0#32
  let c0_8485 : Index := 0#32
  ![v13447.toNat, 0, 0]

def k0_chk1543 (v13446 : BitVec 32) : Prop :=
  (∀ a, (k0_off2612 v13446) a + S1x1x128.size a ≤ S100000x1x128.size a)
theorem k0_off2612_inb : ∀ (v13446 : BitVec 32) (k0_hw1543 : k0_chk1543 v13446), ∀ a, (k0_off2612 v13446) a + S1x1x128.size a ≤ S100000x1x128.size a := fun v13446 k0_hw1543 => k0_hw1543

def k0_off2613 (k0_t1 : Fin k0_t1_loop.trips) : Fin 2 → Nat :=
  let c0_8489 : Index := 0#32
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c2_i32_5419 : BitVec 32 := 2#32
  let v8851 : BitVec 32 := Scalar.addi v3886 c2_i32_5419
  let c15_i32_5420 : BitVec 32 := 15#32
  let v8852 : BitVec 32 := Scalar.minsi v8851 c15_i32_5420
  let c512_i32_5421 : BitVec 32 := 512#32
  let v8853 : BitVec 32 := Scalar.muli v8852 c512_i32_5421
  let c511_i32_8488 : BitVec 32 := 511#32
  let v13453 : BitVec 32 := Scalar.addi v8853 c511_i32_8488
  let v13454 : Index := Scalar.indexCast v13453
  ![0, v13454.toNat]
def k0_off2614 (v13455 : BitVec 32) : Fin 3 → Nat :=
  let v13456 : Index := Scalar.indexCast v13455
  let c0_8490 : Index := 0#32
  let c0_8491 : Index := 0#32
  ![v13456.toNat, 0, 0]

def k0_chk1544 (v13455 : BitVec 32) : Prop :=
  (∀ a, (k0_off2614 v13455) a + S1x1x128.size a ≤ S100000x1x128.size a)
theorem k0_off2614_inb : ∀ (v13455 : BitVec 32) (k0_hw1544 : k0_chk1544 v13455), ∀ a, (k0_off2614 v13455) a + S1x1x128.size a ≤ S100000x1x128.size a := fun v13455 k0_hw1544 => k0_hw1544

def k0_off2615 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_8494 : BitVec 32 := 1#32
  let v13462 : BitVec 32 := Scalar.addi v3886 c1_i32_8494
  let c8_i32_8507 : BitVec 32 := 8#32
  let v13493 : BitVec 32 := Scalar.muli v13462 c8_i32_8507
  let v13494 : Index := Scalar.indexCast v13493
  let c0_8508 : Index := 0#32
  ![v13494.toNat, 0]
def k0_off2616 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_8494 : BitVec 32 := 1#32
  let v13462 : BitVec 32 := Scalar.addi v3886 c1_i32_8494
  let c8_i32_8511 : BitVec 32 := 8#32
  let v13504 : BitVec 32 := Scalar.muli v13462 c8_i32_8511
  let v13505 : Index := Scalar.indexCast v13504
  let c1_8512 : Index := 1#32
  ![v13505.toNat, 1]
def k0_off2617 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_8494 : BitVec 32 := 1#32
  let v13462 : BitVec 32 := Scalar.addi v3886 c1_i32_8494
  let c8_i32_8515 : BitVec 32 := 8#32
  let v13515 : BitVec 32 := Scalar.muli v13462 c8_i32_8515
  let v13516 : Index := Scalar.indexCast v13515
  let c2_8516 : Index := 2#32
  ![v13516.toNat, 2]
def k0_off2618 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_8494 : BitVec 32 := 1#32
  let v13462 : BitVec 32 := Scalar.addi v3886 c1_i32_8494
  let c8_i32_8519 : BitVec 32 := 8#32
  let v13526 : BitVec 32 := Scalar.muli v13462 c8_i32_8519
  let v13527 : Index := Scalar.indexCast v13526
  let c3_8520 : Index := 3#32
  ![v13527.toNat, 3]
def k0_off2619 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_8494 : BitVec 32 := 1#32
  let v13462 : BitVec 32 := Scalar.addi v3886 c1_i32_8494
  let c8_i32_8523 : BitVec 32 := 8#32
  let v13537 : BitVec 32 := Scalar.muli v13462 c8_i32_8523
  let v13538 : Index := Scalar.indexCast v13537
  let c4_8524 : Index := 4#32
  ![v13538.toNat, 4]
def k0_off2620 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_8494 : BitVec 32 := 1#32
  let v13462 : BitVec 32 := Scalar.addi v3886 c1_i32_8494
  let c8_i32_8527 : BitVec 32 := 8#32
  let v13548 : BitVec 32 := Scalar.muli v13462 c8_i32_8527
  let v13549 : Index := Scalar.indexCast v13548
  let c5_8528 : Index := 5#32
  ![v13549.toNat, 5]
def k0_off2621 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_8494 : BitVec 32 := 1#32
  let v13462 : BitVec 32 := Scalar.addi v3886 c1_i32_8494
  let c8_i32_8531 : BitVec 32 := 8#32
  let v13559 : BitVec 32 := Scalar.muli v13462 c8_i32_8531
  let v13560 : Index := Scalar.indexCast v13559
  let c6_8532 : Index := 6#32
  ![v13560.toNat, 6]
def k0_off2622 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_8494 : BitVec 32 := 1#32
  let v13462 : BitVec 32 := Scalar.addi v3886 c1_i32_8494
  let c8_i32_8535 : BitVec 32 := 8#32
  let v13570 : BitVec 32 := Scalar.muli v13462 c8_i32_8535
  let v13571 : Index := Scalar.indexCast v13570
  let c7_8536 : Index := 7#32
  ![v13571.toNat, 7]
def k0_off2623 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_8494 : BitVec 32 := 1#32
  let v13462 : BitVec 32 := Scalar.addi v3886 c1_i32_8494
  let c8_i32_8539 : BitVec 32 := 8#32
  let v13581 : BitVec 32 := Scalar.muli v13462 c8_i32_8539
  let v13582 : Index := Scalar.indexCast v13581
  let c8_8540 : Index := 8#32
  ![v13582.toNat, 8]
def k0_off2624 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_8494 : BitVec 32 := 1#32
  let v13462 : BitVec 32 := Scalar.addi v3886 c1_i32_8494
  let c8_i32_8543 : BitVec 32 := 8#32
  let v13592 : BitVec 32 := Scalar.muli v13462 c8_i32_8543
  let v13593 : Index := Scalar.indexCast v13592
  let c9_8544 : Index := 9#32
  ![v13593.toNat, 9]
def k0_off2625 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_8494 : BitVec 32 := 1#32
  let v13462 : BitVec 32 := Scalar.addi v3886 c1_i32_8494
  let c8_i32_8547 : BitVec 32 := 8#32
  let v13603 : BitVec 32 := Scalar.muli v13462 c8_i32_8547
  let v13604 : Index := Scalar.indexCast v13603
  let c10_8548 : Index := 10#32
  ![v13604.toNat, 10]
def k0_off2626 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_8494 : BitVec 32 := 1#32
  let v13462 : BitVec 32 := Scalar.addi v3886 c1_i32_8494
  let c8_i32_8551 : BitVec 32 := 8#32
  let v13614 : BitVec 32 := Scalar.muli v13462 c8_i32_8551
  let v13615 : Index := Scalar.indexCast v13614
  let c11_8552 : Index := 11#32
  ![v13615.toNat, 11]
def k0_off2627 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_8494 : BitVec 32 := 1#32
  let v13462 : BitVec 32 := Scalar.addi v3886 c1_i32_8494
  let c8_i32_8555 : BitVec 32 := 8#32
  let v13625 : BitVec 32 := Scalar.muli v13462 c8_i32_8555
  let v13626 : Index := Scalar.indexCast v13625
  let c12_8556 : Index := 12#32
  ![v13626.toNat, 12]
def k0_off2628 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_8494 : BitVec 32 := 1#32
  let v13462 : BitVec 32 := Scalar.addi v3886 c1_i32_8494
  let c8_i32_8559 : BitVec 32 := 8#32
  let v13636 : BitVec 32 := Scalar.muli v13462 c8_i32_8559
  let v13637 : Index := Scalar.indexCast v13636
  let c13_8560 : Index := 13#32
  ![v13637.toNat, 13]
def k0_off2629 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_8494 : BitVec 32 := 1#32
  let v13462 : BitVec 32 := Scalar.addi v3886 c1_i32_8494
  let c8_i32_8563 : BitVec 32 := 8#32
  let v13647 : BitVec 32 := Scalar.muli v13462 c8_i32_8563
  let v13648 : Index := Scalar.indexCast v13647
  let c14_8564 : Index := 14#32
  ![v13648.toNat, 14]
def k0_off2630 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_8494 : BitVec 32 := 1#32
  let v13462 : BitVec 32 := Scalar.addi v3886 c1_i32_8494
  let c8_i32_8567 : BitVec 32 := 8#32
  let v13658 : BitVec 32 := Scalar.muli v13462 c8_i32_8567
  let v13659 : Index := Scalar.indexCast v13658
  let c15_8568 : Index := 15#32
  ![v13659.toNat, 15]
def k0_off2631 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_8494 : BitVec 32 := 1#32
  let v13462 : BitVec 32 := Scalar.addi v3886 c1_i32_8494
  let c8_i32_8571 : BitVec 32 := 8#32
  let v13669 : BitVec 32 := Scalar.muli v13462 c8_i32_8571
  let v13670 : Index := Scalar.indexCast v13669
  let c16_8572 : Index := 16#32
  ![v13670.toNat, 16]
def k0_off2632 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_8494 : BitVec 32 := 1#32
  let v13462 : BitVec 32 := Scalar.addi v3886 c1_i32_8494
  let c8_i32_8575 : BitVec 32 := 8#32
  let v13680 : BitVec 32 := Scalar.muli v13462 c8_i32_8575
  let v13681 : Index := Scalar.indexCast v13680
  let c17_8576 : Index := 17#32
  ![v13681.toNat, 17]
def k0_off2633 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_8494 : BitVec 32 := 1#32
  let v13462 : BitVec 32 := Scalar.addi v3886 c1_i32_8494
  let c8_i32_8579 : BitVec 32 := 8#32
  let v13691 : BitVec 32 := Scalar.muli v13462 c8_i32_8579
  let v13692 : Index := Scalar.indexCast v13691
  let c18_8580 : Index := 18#32
  ![v13692.toNat, 18]
def k0_off2634 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_8494 : BitVec 32 := 1#32
  let v13462 : BitVec 32 := Scalar.addi v3886 c1_i32_8494
  let c8_i32_8583 : BitVec 32 := 8#32
  let v13702 : BitVec 32 := Scalar.muli v13462 c8_i32_8583
  let v13703 : Index := Scalar.indexCast v13702
  let c19_8584 : Index := 19#32
  ![v13703.toNat, 19]
def k0_off2635 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_8494 : BitVec 32 := 1#32
  let v13462 : BitVec 32 := Scalar.addi v3886 c1_i32_8494
  let c8_i32_8587 : BitVec 32 := 8#32
  let v13713 : BitVec 32 := Scalar.muli v13462 c8_i32_8587
  let v13714 : Index := Scalar.indexCast v13713
  let c20_8588 : Index := 20#32
  ![v13714.toNat, 20]
def k0_off2636 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_8494 : BitVec 32 := 1#32
  let v13462 : BitVec 32 := Scalar.addi v3886 c1_i32_8494
  let c8_i32_8591 : BitVec 32 := 8#32
  let v13724 : BitVec 32 := Scalar.muli v13462 c8_i32_8591
  let v13725 : Index := Scalar.indexCast v13724
  let c21_8592 : Index := 21#32
  ![v13725.toNat, 21]
def k0_off2637 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_8494 : BitVec 32 := 1#32
  let v13462 : BitVec 32 := Scalar.addi v3886 c1_i32_8494
  let c8_i32_8595 : BitVec 32 := 8#32
  let v13735 : BitVec 32 := Scalar.muli v13462 c8_i32_8595
  let v13736 : Index := Scalar.indexCast v13735
  let c22_8596 : Index := 22#32
  ![v13736.toNat, 22]
def k0_off2638 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_8494 : BitVec 32 := 1#32
  let v13462 : BitVec 32 := Scalar.addi v3886 c1_i32_8494
  let c8_i32_8599 : BitVec 32 := 8#32
  let v13746 : BitVec 32 := Scalar.muli v13462 c8_i32_8599
  let v13747 : Index := Scalar.indexCast v13746
  let c23_8600 : Index := 23#32
  ![v13747.toNat, 23]
def k0_off2639 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_8494 : BitVec 32 := 1#32
  let v13462 : BitVec 32 := Scalar.addi v3886 c1_i32_8494
  let c8_i32_8603 : BitVec 32 := 8#32
  let v13757 : BitVec 32 := Scalar.muli v13462 c8_i32_8603
  let v13758 : Index := Scalar.indexCast v13757
  let c24_8604 : Index := 24#32
  ![v13758.toNat, 24]
def k0_off2640 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_8494 : BitVec 32 := 1#32
  let v13462 : BitVec 32 := Scalar.addi v3886 c1_i32_8494
  let c8_i32_8607 : BitVec 32 := 8#32
  let v13768 : BitVec 32 := Scalar.muli v13462 c8_i32_8607
  let v13769 : Index := Scalar.indexCast v13768
  let c25_8608 : Index := 25#32
  ![v13769.toNat, 25]
def k0_off2641 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_8494 : BitVec 32 := 1#32
  let v13462 : BitVec 32 := Scalar.addi v3886 c1_i32_8494
  let c8_i32_8611 : BitVec 32 := 8#32
  let v13779 : BitVec 32 := Scalar.muli v13462 c8_i32_8611
  let v13780 : Index := Scalar.indexCast v13779
  let c26_8612 : Index := 26#32
  ![v13780.toNat, 26]
def k0_off2642 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_8494 : BitVec 32 := 1#32
  let v13462 : BitVec 32 := Scalar.addi v3886 c1_i32_8494
  let c8_i32_8615 : BitVec 32 := 8#32
  let v13790 : BitVec 32 := Scalar.muli v13462 c8_i32_8615
  let v13791 : Index := Scalar.indexCast v13790
  let c27_8616 : Index := 27#32
  ![v13791.toNat, 27]
def k0_off2643 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_8494 : BitVec 32 := 1#32
  let v13462 : BitVec 32 := Scalar.addi v3886 c1_i32_8494
  let c8_i32_8619 : BitVec 32 := 8#32
  let v13801 : BitVec 32 := Scalar.muli v13462 c8_i32_8619
  let v13802 : Index := Scalar.indexCast v13801
  let c28_8620 : Index := 28#32
  ![v13802.toNat, 28]
def k0_off2644 (k0_t1 : Fin k0_t1_loop.trips) : Fin 2 → Nat :=
  let c2_i32_2717 : BitVec 32 := 2#32
  let c0_i32_2661 : BitVec 32 := 0#32
  let c1_i32_2663 : BitVec 32 := 1#32
  let arg32 : BitVec 32 := Scf.iv c0_i32_2661 c1_i32_2663 k0_t1
  let v3886 : BitVec 32 := Scalar.muli c2_i32_2717 arg32
  let c1_i32_8494 : BitVec 32 := 1#32
  let v13462 : BitVec 32 := Scalar.addi v3886 c1_i32_8494
  let c8_i32_8623 : BitVec 32 := 8#32
  let v13812 : BitVec 32 := Scalar.muli v13462 c8_i32_8623
  let v13813 : Index := Scalar.indexCast v13812
  let c29_8624 : Index := 29#32
  ![v13813.toNat, 29]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S100000x1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S782x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x30 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x30 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S30x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S32x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S1x1x16 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== ReferenceIdeal.lean ====
abbrev S32x16x512 : Shape := ⟨3, ![32, 16, 512]⟩
abbrev S32x8 : Shape := ⟨2, ![32, 8]⟩
abbrev S100000x128 : Shape := ⟨2, ![100000, 128]⟩
abbrev S100000x1 : Shape := ⟨2, ![100000, 1]⟩
abbrev S8 : Shape := ⟨1, ![8]⟩
abbrev S30 : Shape := ⟨1, ![30]⟩
abbrev S30x128 : Shape := ⟨2, ![30, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S32x16x512x1 : Shape := ⟨4, ![32, 16, 512, 1]⟩
abbrev S32x16x512x128 : Shape := ⟨4, ![32, 16, 512, 128]⟩
abbrev S32x8192x128 : Shape := ⟨3, ![32, 8192, 128]⟩
abbrev S32x8x1 : Shape := ⟨3, ![32, 8, 1]⟩
abbrev S32x8x128 : Shape := ⟨3, ![32, 8, 128]⟩
abbrev S1x8 : Shape := ⟨2, ![1, 8]⟩
abbrev S32x8192 : Shape := ⟨2, ![32, 8192]⟩
abbrev S32x8x8192 : Shape := ⟨3, ![32, 8, 8192]⟩
abbrev S32x1x8192 : Shape := ⟨3, ![32, 1, 8192]⟩
abbrev S4096 : Shape := ⟨1, ![4096]⟩
abbrev S4096x1 : Shape := ⟨2, ![4096, 1]⟩
abbrev S4096x512 : Shape := ⟨2, ![4096, 512]⟩
abbrev S2097152 : Shape := ⟨1, ![2097152]⟩
abbrev S122880 : Shape := ⟨1, ![122880]⟩
abbrev S2097152x1 : Shape := ⟨2, ![2097152, 1]⟩
abbrev S32x8x16x30 : Shape := ⟨4, ![32, 8, 16, 30]⟩
abbrev S1x1x1x30 : Shape := ⟨4, ![1, 1, 1, 30]⟩
abbrev S32x8x16x128 : Shape := ⟨4, ![32, 8, 16, 128]⟩
abbrev S1x1x1x128 : Shape := ⟨4, ![1, 1, 1, 128]⟩
abbrev S32x8x16x64 : Shape := ⟨4, ![32, 8, 16, 64]⟩
abbrev S1x1x1x64 : Shape := ⟨4, ![1, 1, 1, 64]⟩
abbrev S32x8x16x32 : Shape := ⟨4, ![32, 8, 16, 32]⟩
abbrev S1x1x1x32 : Shape := ⟨4, ![1, 1, 1, 32]⟩
abbrev S32x8x16x1 : Shape := ⟨4, ![32, 8, 16, 1]⟩
abbrev S1x1x1x1 : Shape := ⟨4, ![1, 1, 1, 1]⟩
abbrev S32x8x16 : Shape := ⟨3, ![32, 8, 16]⟩
abbrev S32x16 : Shape := ⟨2, ![32, 16]⟩
abbrev S32x1x16 : Shape := ⟨3, ![32, 1, 16]⟩

abbrev nBuf : Space → Nat
  | .hbm => 194
  | .vmem => 0
  | .smem => 0
  | _ => 0

abbrev hbmTy0_0 (i : Nat) : BufTy := match i % 128 with
  | 0 => ⟨S32x16x512, .i32⟩
  | 1 => ⟨S32x8, .i32⟩
  | 2 => ⟨S100000x128, .f32⟩
  | 3 => ⟨S100000x1, .f32⟩
  | 4 => ⟨S8, .f32⟩
  | 5 => ⟨S30, .f32⟩
  | 6 => ⟨S30, .f32⟩
  | 7 => ⟨S30x128, .f32⟩
  | 8 => ⟨S128, .f32⟩
  | 9 => ⟨S128, .f32⟩
  | 10 => ⟨S128, .f32⟩
  | 11 => ⟨S128x64, .f32⟩
  | 12 => ⟨S64, .f32⟩
  | 13 => ⟨S64, .f32⟩
  | 14 => ⟨S64, .f32⟩
  | 15 => ⟨S64x32, .f32⟩
  | 16 => ⟨S32, .f32⟩
  | 17 => ⟨S32, .f32⟩
  | 18 => ⟨S32, .f32⟩
  | 19 => ⟨S32x1, .f32⟩
  | 20 => ⟨S1, .f32⟩
  | 21 => ⟨S1, .f32⟩
  | 22 => ⟨S1, .f32⟩
  | 23 => ⟨S_, .i32⟩
  | 24 => ⟨S32x16x512, .i32⟩
  | 25 => ⟨S32x16x512, .i1⟩
  | 26 => ⟨S_, .i32⟩
  | 27 => ⟨S32x16x512, .i32⟩
  | 28 => ⟨S32x16x512, .i32⟩
  | 29 => ⟨S32x16x512, .i32⟩
  | 30 => ⟨S32x16x512x1, .i32⟩
  | 31 => ⟨S32x16x512x128, .f32⟩
  | 32 => ⟨S32x8192x128, .f32⟩
  | 33 => ⟨S_, .i32⟩
  | 34 => ⟨S32x8, .i32⟩
  | 35 => ⟨S32x8, .i1⟩
  | 36 => ⟨S_, .i32⟩
  | 37 => ⟨S32x8, .i32⟩
  | 38 => ⟨S32x8, .i32⟩
  | 39 => ⟨S32x8, .i32⟩
  | 40 => ⟨S32x8x1, .i32⟩
  | 41 => ⟨S32x8x128, .f32⟩
  | 42 => ⟨S_, .i32⟩
  | 43 => ⟨S32x8, .i32⟩
  | 44 => ⟨S32x8, .i1⟩
  | 45 => ⟨S_, .i32⟩
  | 46 => ⟨S32x8, .i32⟩
  | 47 => ⟨S32x8, .i32⟩
  | 48 => ⟨S32x8, .i32⟩
  | 49 => ⟨S32x8x1, .i32⟩
  | 50 => ⟨S32x8x1, .f32⟩
  | 51 => ⟨S32x8, .f32⟩
  | 52 => ⟨S1x8, .f32⟩
  | 53 => ⟨S32x8, .f32⟩
  | 54 => ⟨S32x8, .f32⟩
  | 55 => ⟨S_, .f32⟩
  | 56 => ⟨S32, .f32⟩
  | 57 => ⟨S_, .f32⟩
  | 58 => ⟨S32, .f32⟩
  | 59 => ⟨S32, .f32⟩
  | 60 => ⟨S32x1, .f32⟩
  | 61 => ⟨S32x8, .f32⟩
  | 62 => ⟨S32x8, .f32⟩
  | 63 => ⟨S32x8, .f32⟩
  | 64 => ⟨S_, .f32⟩
  | 65 => ⟨S32, .f32⟩
  | 66 => ⟨S32x1, .f32⟩
  | 67 => ⟨S32x8, .f32⟩
  | 68 => ⟨S32x8, .f32⟩
  | 69 => ⟨S32x8192x128, .f32⟩
  | 70 => ⟨S_, .f32⟩
  | 71 => ⟨S32x8192, .f32⟩
  | 72 => ⟨S32x8192, .f32⟩
  | 73 => ⟨S32x8x128, .f32⟩
  | 74 => ⟨S_, .f32⟩
  | 75 => ⟨S32x8, .f32⟩
  | 76 => ⟨S32x8, .f32⟩
  | 77 => ⟨S32x8x8192, .f32⟩
  | 78 => ⟨S32x1x8192, .f32⟩
  | 79 => ⟨S32x8x1, .f32⟩
  | 80 => ⟨S32x8x8192, .f32⟩
  | 81 => ⟨S32x8x8192, .f32⟩
  | 82 => ⟨S32x8x8192, .f32⟩
  | 83 => ⟨S_, .f32⟩
  | 84 => ⟨S32x8x8192, .f32⟩
  | 85 => ⟨S32x8x8192, .f32⟩
  | 86 => ⟨S32x8x8192, .f32⟩
  | 87 => ⟨S_, .f32⟩
  | 88 => ⟨S32x8x8192, .f32⟩
  | 89 => ⟨S32x8x8192, .f32⟩
  | 90 => ⟨S_, .f32⟩
  | 91 => ⟨S32x8x8192, .f32⟩
  | 92 => ⟨S32x8x8192, .f32⟩
  | 93 => ⟨S_, .f32⟩
  | 94 => ⟨S32x8x8192, .f32⟩
  | 95 => ⟨S32x8x8192, .f32⟩
  | 96 => ⟨S32x8x8192, .f32⟩
  | 97 => ⟨S32x8x8192, .i32⟩
  | 98 => ⟨S_, .i32⟩
  | 99 => ⟨S_, .i32⟩
  | 100 => ⟨S_, .i32⟩
  | 101 => ⟨S32x8x8192, .i32⟩
  | 102 => ⟨S32x8x8192, .i32⟩
  | 103 => ⟨S_, .i32⟩
  | 104 => ⟨S32x8x8192, .i32⟩
  | 105 => ⟨S32x8x8192, .i32⟩
  | 106 => ⟨S4096, .i32⟩
  | 107 => ⟨S4096x1, .i32⟩
  | 108 => ⟨S_, .i32⟩
  | 109 => ⟨S4096x1, .i32⟩
  | 110 => ⟨S4096x1, .i32⟩
  | 111 => ⟨S4096x512, .i32⟩
  | 112 => ⟨S4096x512, .i32⟩
  | 113 => ⟨S4096x512, .i32⟩
  | 114 => ⟨S2097152, .i32⟩
  | 115 => ⟨S_, .f32⟩
  | 116 => ⟨S2097152, .f32⟩
  | 117 => ⟨S_, .f32⟩
  | 118 => ⟨S122880, .f32⟩
  | 119 => ⟨S2097152x1, .i32⟩
  | 120 => ⟨S122880, .f32⟩
  | 121 => ⟨S32x8x16x30, .f32⟩
  | 122 => ⟨S_, .f32⟩
  | 123 => ⟨S32x8x16x30, .f32⟩
  | 124 => ⟨S32x8x16x30, .f32⟩
  | 125 => ⟨S1x1x1x30, .f32⟩
  | 126 => ⟨S32x8x16x30, .f32⟩
  | 127 => ⟨S32x8x16x30, .f32⟩
  | _ => ⟨S32x16x512, .i32⟩

abbrev hbmTy0_1 (i : Nat) : BufTy := match i % 128 with
  | 0 => ⟨S1x1x1x30, .f32⟩
  | 1 => ⟨S32x8x16x30, .f32⟩
  | 2 => ⟨S32x8x16x30, .f32⟩
  | 3 => ⟨S32x8x16x128, .f32⟩
  | 4 => ⟨S1x1x1x128, .f32⟩
  | 5 => ⟨S32x8x16x128, .f32⟩
  | 6 => ⟨S32x8x16x128, .f32⟩
  | 7 => ⟨S_, .f32⟩
  | 8 => ⟨S32x8x16x128, .f32⟩
  | 9 => ⟨S32x8x16x128, .f32⟩
  | 10 => ⟨S1x1x1x128, .f32⟩
  | 11 => ⟨S32x8x16x128, .f32⟩
  | 12 => ⟨S32x8x16x128, .f32⟩
  | 13 => ⟨S1x1x1x128, .f32⟩
  | 14 => ⟨S32x8x16x128, .f32⟩
  | 15 => ⟨S32x8x16x128, .f32⟩
  | 16 => ⟨S32x8x16x128, .f32⟩
  | 17 => ⟨S32x8x16x64, .f32⟩
  | 18 => ⟨S1x1x1x64, .f32⟩
  | 19 => ⟨S32x8x16x64, .f32⟩
  | 20 => ⟨S32x8x16x64, .f32⟩
  | 21 => ⟨S_, .f32⟩
  | 22 => ⟨S32x8x16x64, .f32⟩
  | 23 => ⟨S32x8x16x64, .f32⟩
  | 24 => ⟨S1x1x1x64, .f32⟩
  | 25 => ⟨S32x8x16x64, .f32⟩
  | 26 => ⟨S32x8x16x64, .f32⟩
  | 27 => ⟨S1x1x1x64, .f32⟩
  | 28 => ⟨S32x8x16x64, .f32⟩
  | 29 => ⟨S32x8x16x64, .f32⟩
  | 30 => ⟨S32x8x16x64, .f32⟩
  | 31 => ⟨S32x8x16x32, .f32⟩
  | 32 => ⟨S1x1x1x32, .f32⟩
  | 33 => ⟨S32x8x16x32, .f32⟩
  | 34 => ⟨S32x8x16x32, .f32⟩
  | 35 => ⟨S_, .f32⟩
  | 36 => ⟨S32x8x16x32, .f32⟩
  | 37 => ⟨S32x8x16x32, .f32⟩
  | 38 => ⟨S1x1x1x32, .f32⟩
  | 39 => ⟨S32x8x16x32, .f32⟩
  | 40 => ⟨S32x8x16x32, .f32⟩
  | 41 => ⟨S1x1x1x32, .f32⟩
  | 42 => ⟨S32x8x16x32, .f32⟩
  | 43 => ⟨S32x8x16x32, .f32⟩
  | 44 => ⟨S32x8x16x32, .f32⟩
  | 45 => ⟨S32x8x16x1, .f32⟩
  | 46 => ⟨S1x1x1x1, .f32⟩
  | 47 => ⟨S32x8x16x1, .f32⟩
  | 48 => ⟨S32x8x16x1, .f32⟩
  | 49 => ⟨S_, .f32⟩
  | 50 => ⟨S32x8x16x1, .f32⟩
  | 51 => ⟨S32x8x16x1, .f32⟩
  | 52 => ⟨S1x1x1x1, .f32⟩
  | 53 => ⟨S32x8x16x1, .f32⟩
  | 54 => ⟨S32x8x16x1, .f32⟩
  | 55 => ⟨S1x1x1x1, .f32⟩
  | 56 => ⟨S32x8x16x1, .f32⟩
  | 57 => ⟨S32x8x16x1, .f32⟩
  | 58 => ⟨S32x8x16x1, .f32⟩
  | 59 => ⟨S32x8x16, .f32⟩
  | 60 => ⟨S32x8x1, .f32⟩
  | 61 => ⟨S32x8x16, .f32⟩
  | 62 => ⟨S32x8x16, .f32⟩
  | 63 => ⟨S_, .f32⟩
  | 64 => ⟨S32x16, .f32⟩
  | 65 => ⟨S32x1x16, .f32⟩
  | _ => ⟨S32x16x512, .i32⟩

abbrev hbmTy (i : Nat) : BufTy := match i / 128 with
  | 0 => hbmTy0_0 i
  | 1 => hbmTy0_1 i
  | _ => ⟨S32x16x512, .i32⟩

abbrev bufTy : (tb : Table) → Fin (tcTables nBuf tb) → BufTy
  | .hbm, ⟨i, _⟩ => hbmTy i
  | _, _ => ⟨S32x16x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_v0 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_c_1 : Ref sig .tc := ⟨.hbm, 33, rfl⟩
abbrev main_v8 : Ref sig .tc := ⟨.hbm, 34, rfl⟩
abbrev main_v9 : Ref sig .tc := ⟨.hbm, 35, rfl⟩
abbrev main_c_2 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_c_3 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst : Ref sig .tc := ⟨.hbm, 55, rfl⟩
abbrev main_v26 : Ref sig .tc := ⟨.hbm, 56, rfl⟩
abbrev main_cst_5 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_6 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_7 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_8 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_9 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_10 : Ref sig .tc := ⟨.hbm, 87, rfl⟩
abbrev main_v52 : Ref sig .tc := ⟨.hbm, 88, rfl⟩
abbrev main_v53 : Ref sig .tc := ⟨.hbm, 89, rfl⟩
abbrev main_cst_11 : Ref sig .tc := ⟨.hbm, 90, rfl⟩
abbrev main_v54 : Ref sig .tc := ⟨.hbm, 91, rfl⟩
abbrev main_v55 : Ref sig .tc := ⟨.hbm, 92, rfl⟩
abbrev main_cst_12 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_c_13 : Ref sig .tc := ⟨.hbm, 98, rfl⟩
abbrev main_c_14 : Ref sig .tc := ⟨.hbm, 99, rfl⟩
abbrev main_call0_v0 : Ref sig .tc := ⟨.hbm, 100, rfl⟩
abbrev main_call0_v1 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_c_15 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_cst_16 : Ref sig .tc := ⟨.hbm, 115, rfl⟩
abbrev main_v69 : Ref sig .tc := ⟨.hbm, 116, rfl⟩
abbrev main_cst_17 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_cst_18 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_cst_19 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_cst_20 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_cst_21 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_cst_22 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_cst_23 : Ref sig .tc := ⟨.hbm, 191, rfl⟩
abbrev main_v138 : Ref sig .tc := ⟨.hbm, 192, rfl⟩
abbrev main_v139 : Ref sig .tc := ⟨.hbm, 193, rfl⟩

abbrev nD : Nat := 1
abbrev τ : Topo := Topo.v7x

variable {F : FTy → Type} [FloatOps F]
-- ==== Proof.Rows.lean ====
module

public import Idealize.ShloMosaic.Adequacy
public import Idealize.ShloMosaic.Init
public import Idealize.ShloMosaic.Lib.Memref
public import Idealize.ShloMosaic.Lib.Pointwise

@[expose] public section

noncomputable section

namespace Drmm

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws

section Rules
variable {nD : Nat} {τ : Topo} {sig : RefSig} {Ix : Type} [DecidableEq Ix]
variable {Val : EltTy → Type} {Name : Type} [DecidableEq Name]
variable {U : Type} [URA U]
variable {Lvl : Type} [Preorder Lvl] {Λ : Labels} {α : Type}
local notation "𝕄" => MT nD τ sig Ix Val Name U Lvl

variable {defs : Defs nD τ sig Val Λ} (𝒱 : Variants) (c : Dev nD) (bd : Option 𝒱.V) (E : Set Name)
variable {s : Shape} {e : EltTy}

/-- A load through a rectangle of an owned memref continues at the owned contents there. -/
theorem wp_load_owns {cs : CoreSpace} {m : Memref sig .tc cs s e} {r : Rect s} {hl : m.view.LoadsAt r.toLoadRect}
    {k : (r.shape.Idx → Val e) → Prog (TpuEff nD τ sig Val Λ .tc) α} {q : PosShare TreeShare} {X : s.Idx → Val e}
    {R : sProp 𝕄} {Q : α → sProp 𝕄}
    (h : iprop(owns (c : Thread nD τ) m q X ∗ R)
      ⊢ wp frame (wpE defs 𝒱 (c : Thread nD τ) bd) E (k fun i => X (r.emb i)) Q) :
    iprop(owns (c : Thread nD τ) m q X ∗ R)
      ⊢ wp frame (wpE defs 𝒱 (c : Thread nD τ) bd) E (.op (.load m r.toLoadRect hl) k) Q := by
  refine (show iprop(owns (c : Thread nD τ) m q X ∗ R) ⊢ iprop((∃ f, ⌜m.view.read Val f = X⌝ ∗ (m.view.loc (c : Thread nD τ) ↦[m.view.set]{q} f)) ∗ R) from .rfl).trans ?_
  iintro ⟨⟨%f, %hf, Hm⟩, HR⟩
  subst hf
  iapply (wp_load (defs := defs) 𝒱 (c : Thread nD τ) bd E (m := m) (r := r.toLoadRect) (hl := hl) (S := m.view.set)
    (f := f) (q := q) (Finset.map_subset_map.mpr (Finset.subset_univ _))) $$ Hm
  iintro Hm
  iapply h
  isplitl [Hm]
  · iapply owns_intro $$ Hm
  · iexact HR

/-- A store of a whole rectangle of an owned memref continues with that rectangle's contents replaced. -/
theorem wp_store_owns {cs : CoreSpace} {m : Memref sig .tc cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ .tc) α} {X : s.Idx → Val e} {R : sProp 𝕄} {Q : α → sProp 𝕄}
    (h : iprop(owns (c : Thread nD τ) m fullShare (r.overlay X w) ∗ R)
      ⊢ wp frame (wpE defs 𝒱 (c : Thread nD τ) bd) E (k ⟨⟩) Q) :
    iprop(owns (c : Thread nD τ) m fullShare X ∗ R)
      ⊢ wp frame (wpE defs 𝒱 (c : Thread nD τ) bd) E (.op (.store m r w Finset.univ hx hm) k) Q := by
  refine (show iprop(owns (c : Thread nD τ) m fullShare X ∗ R) ⊢ iprop((∃ f, ⌜m.view.read Val f = X⌝ ∗ (m.view.loc (c : Thread nD τ) ↦[m.view.set]{fullShare} f)) ∗ R) from .rfl).trans ?_
  iintro ⟨⟨%f, %hf, Hm⟩, HR⟩
  subst hf
  have hov : m.view.read Val ((m.access r).write Val f w Finset.univ) = r.overlay (m.view.read Val f) w := by
    funext j
    by_cases hj : j ∈ r.set
    · rw [← Rect.map_emb_univ] at hj
      obtain ⟨i, -, rfl⟩ := Finset.mem_map.mp hj
      rw [Rect.overlay_emb]
      exact View.read_slice_write_emb r f w (Finset.mem_univ i)
    · rw [Rect.overlay_of_not_mem r _ _ hj]
      exact View.read_slice_write_of_not_mem r f w _ (by rwa [Rect.map_emb_univ])
  iapply (wp_store (defs := defs) 𝒱 (c : Thread nD τ) bd E (m := m) (r := r) (w := w) (hx := hx) (hm := hm) (S := m.view.set)
    (f := f) (by
      show (m.view.slice r).setOn Finset.univ ⊆ m.view.set
      intro i hi
      obtain ⟨x, -, rfl⟩ := Finset.mem_map.mp hi
      exact m.view.emb_mem_set (r.emb x))) $$ Hm
  iintro Hm
  iapply h
  isplitl [Hm]
  · rw [← hov]
    iapply owns_intro $$ Hm
  · iexact HR

end Rules
end Drmm
end
-- ==== Proof.Steps.lean ====
module

public import proofs.«01_k».proof.Proof.Rows
public import Idealize.ShloMosaic.Lib.Pipeline.Value

@[expose] public section

noncomputable section

namespace Drmm

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws

/-! ## What the tiles and the histogram hold, as functions of what was read -/

section Values
variable {F : FTy → Type}

/-- Word `n` of the document's words (one row of 8192). -/
def docWord (D : (⟨2, ![1, 8192]⟩ : Shape).Idx → BitVec 32) (n : ℕ) : BitVec 32 :=
  D (ix2 (0 : Fin 1) ⟨n % 8192, Nat.mod_lt _ (by decide)⟩)

/-- Lane `l` of the table's row `n`. -/
def tableRow {rows : ℕ} [NeZero rows] (T : (⟨3, ![rows, 1, 128]⟩ : Shape).Idx → F .f32) (n : ℕ) (l : Fin 128) : F .f32 :=
  T (ix3 ⟨n % rows, Nat.mod_lt _ (Nat.pos_of_ne_zero (NeZero.ne rows))⟩ (0 : Fin 1) l)

/-- A tile whose first `n` rows are the embeddings of the document's words `base`, `base + 1`, …; the rest as in `T`. -/
def rowsTo (D : (⟨2, ![1, 8192]⟩ : Shape).Idx → BitVec 32) (M : (⟨3, ![100000, 1, 128]⟩ : Shape).Idx → F .f32) (base n : ℕ)
    (T : (⟨2, ![512, 128]⟩ : Shape).Idx → F .f32) : (⟨2, ![512, 128]⟩ : Shape).Idx → F .f32 :=
  fun j => if (j 0).val < n then tableRow M (docWord D (base + (j 0).val)).toNat (j 1) else T j

/-- The tile of document slot `base / 512`, whole. -/
def tileOf (D : (⟨2, ![1, 8192]⟩ : Shape).Idx → BitVec 32) (M : (⟨3, ![100000, 1, 128]⟩ : Shape).Idx → F .f32) (base : ℕ) :
    (⟨2, ![512, 128]⟩ : Shape).Idx → F .f32 :=
  fun j => tableRow M (docWord D (base + (j 0).val)).toNat (j 1)

/-- No row gathered yet. -/
theorem rowsTo_zero (D : (⟨2, ![1, 8192]⟩ : Shape).Idx → BitVec 32) (M : (⟨3, ![100000, 1, 128]⟩ : Shape).Idx → F .f32) (base : ℕ)
    (T : (⟨2, ![512, 128]⟩ : Shape).Idx → F .f32) : rowsTo D M base 0 T = T := by
  funext j; simp [rowsTo]

/-- Every row gathered. -/
theorem rowsTo_all (D : (⟨2, ![1, 8192]⟩ : Shape).Idx → BitVec 32) (M : (⟨3, ![100000, 1, 128]⟩ : Shape).Idx → F .f32) (base : ℕ)
    (T : (⟨2, ![512, 128]⟩ : Shape).Idx → F .f32) : rowsTo D M base 512 T = tileOf D M base := by
  funext j
  have : (j 0).val < 512 := (j 0).isLt
  simp [rowsTo, tileOf, this]

/-- Storing row `n` of a tile whose first `n` rows are in place puts the first `n + 1` in place. -/
theorem rowsTo_succ (D : (⟨2, ![1, 8192]⟩ : Shape).Idx → BitVec 32) (M : (⟨3, ![100000, 1, 128]⟩ : Shape).Idx → F .f32) (base n : ℕ)
    (T : (⟨2, ![512, 128]⟩ : Shape).Idx → F .f32) {i : ∀ a, ![n, 0] a + ![1, 128] a ≤ (⟨2, ![512, 128]⟩ : Shape).size a}
    (w : (⟨2, ![1, 128]⟩ : Shape).Idx → F .f32)
    (hw : ∀ l : Fin 128, w (ix2 (0 : Fin 1) l) = tableRow M (docWord D (base + n)).toNat l) :
    (Rect.unit (s := ⟨2, ![512, 128]⟩) ![n, 0] ![1, 128] i).overlay (rowsTo D M base n T) w = rowsTo D M base (n + 1) T := by
  have hn : n < 512 := by have := i 0; simp at this; omega
  funext j
  obtain ⟨x, y, rfl⟩ : ∃ (x : Fin 512) (y : Fin 128), j = ix2 x y := ⟨j 0, j 1, eq_ix2 j⟩
  by_cases hj : x.val = n
  · have e : ix2 x y = (Rect.unit (s := ⟨2, ![512, 128]⟩) ![n, 0] ![1, 128] i).emb (ix2 (0 : Fin 1) y) := by
      funext a; apply Fin.ext
      match a with
      | ⟨0, _⟩ => show x.val = n + 1 * 0; omega
      | ⟨1, _⟩ => show y.val = 0 + 1 * y.val; omega
    refine (congrArg _ e).trans ((Rect.overlay_emb _ _ _ _).trans ((hw y).trans ?_))
    simp [rowsTo, hj]
  · rw [Rect.overlay_of_not_mem]
    · show (if x.val < n then _ else _) = (if x.val < n + 1 then _ else _)
      by_cases h : x.val < n
      · rw [if_pos h, if_pos (by omega)]
      · rw [if_neg h, if_neg (by omega)]
    · rw [Rect.mem_set_unit]
      intro h
      have h0 : n ≤ x.val ∧ x.val < n + 1 := h 0
      omega

/-- The histogram array with bins `0 … n-1` of the eight rows `r … r+7` in place (`C q nb` the count), the rest as in `X`. -/
def binsTo (C : Fin 8 → ℕ → F .f32) (r n : ℕ) (X : (⟨2, ![128, 30]⟩ : Shape).Idx → F .f32) : (⟨2, ![128, 30]⟩ : Shape).Idx → F .f32 :=
  fun j => if h : r ≤ (j 0).val ∧ (j 0).val < r + 8 ∧ (j 1).val < n then C ⟨(j 0).val - r, by omega⟩ (j 1).val else X j

/-- No bin counted yet. -/
theorem binsTo_zero (C : Fin 8 → ℕ → F .f32) (r : ℕ) (X : (⟨2, ![128, 30]⟩ : Shape).Idx → F .f32) : binsTo C r 0 X = X := by
  funext j; simp [binsTo]

/-- Storing bin `n` of the eight rows puts bins `0 … n` in place. -/
theorem binsTo_succ (C : Fin 8 → ℕ → F .f32) (r n : ℕ) (X : (⟨2, ![128, 30]⟩ : Shape).Idx → F .f32)
    {i : ∀ a, ![r, n] a + ![8, 1] a ≤ (⟨2, ![128, 30]⟩ : Shape).size a} (w : (⟨2, ![8, 1]⟩ : Shape).Idx → F .f32)
    (hw : ∀ q : Fin 8, w (ix2 q (0 : Fin 1)) = C q n) :
    (Rect.unit (s := ⟨2, ![128, 30]⟩) ![r, n] ![8, 1] i).overlay (binsTo C r n X) w = binsTo C r (n + 1) X := by
  funext j
  obtain ⟨x, y, rfl⟩ : ∃ (x : Fin 128) (y : Fin 30), j = ix2 x y := ⟨j 0, j 1, eq_ix2 j⟩
  by_cases hj : r ≤ x.val ∧ x.val < r + 8 ∧ y.val = n
  · have e : ix2 x y = (Rect.unit (s := ⟨2, ![128, 30]⟩) ![r, n] ![8, 1] i).emb (ix2 (⟨x.val - r, by omega⟩ : Fin 8) (0 : Fin 1)) := by
      funext a; apply Fin.ext
      match a with
      | ⟨0, _⟩ => show x.val = r + 1 * (x.val - r); omega
      | ⟨1, _⟩ => show y.val = n + 1 * 0; omega
    refine (congrArg _ e).trans ((Rect.overlay_emb _ _ _ _).trans ((hw _).trans ?_))
    have : r ≤ x.val ∧ x.val < r + 8 ∧ y.val < n + 1 := by omega
    simp [binsTo, this, hj.2.2]
  · rw [Rect.overlay_of_not_mem]
    · show (if h : r ≤ x.val ∧ x.val < r + 8 ∧ y.val < n then _ else _) = (if h : r ≤ x.val ∧ x.val < r + 8 ∧ y.val < n + 1 then _ else _)
      by_cases h : r ≤ x.val ∧ x.val < r + 8 ∧ y.val < n
      · rw [dif_pos h, dif_pos (by omega)]
      · rw [dif_neg h, dif_neg (by omega)]
    · rw [Rect.mem_set_unit]
      intro h
      have h0 : r ≤ x.val ∧ x.val < r + 8 := h 0
      have h1 : n ≤ y.val ∧ y.val < n + 1 := h 1
      omega

end Values

section Rules
variable {nD : Nat} {τ : Topo} {sig : RefSig} {Ix : Type} [DecidableEq Ix]
variable {F : FTy → Type} {Name : Type} [DecidableEq Name]
variable {U : Type} [URA U]
variable {Lvl : Type} [Preorder Lvl] {Λ : Labels} {α : Type}
local notation "𝕄" => MT nD τ sig Ix (Elt F) Name U Lvl

variable (c : Dev nD)
  (md : Memref sig .tc .smem ⟨2, ![1, 8192]⟩ .i32) (me : Memref sig .tc .vmem ⟨3, ![100000, 1, 128]⟩ .f32)
  (ma mb : Memref sig .tc .vmem ⟨2, ![512, 128]⟩ .f32) (mx : Memref sig .tc .vmem ⟨2, ![128, 30]⟩ .f32) (q : PosShare TreeShare)

/-- The buffers the gather and the histogram work on: the document's words, the embedding table, the two tiles and the histogram. -/
def Held (D : (⟨2, ![1, 8192]⟩ : Shape).Idx → BitVec 32) (M : (⟨3, ![100000, 1, 128]⟩ : Shape).Idx → F .f32)
    (A B : (⟨2, ![512, 128]⟩ : Shape).Idx → F .f32) (X : (⟨2, ![128, 30]⟩ : Shape).Idx → F .f32) (R : sProp 𝕄) : sProp 𝕄 :=
  iprop(owns (c : Thread nD τ) md fullShare D ∗ owns (c : Thread nD τ) me q M ∗ owns (c : Thread nD τ) ma fullShare A
    ∗ owns (c : Thread nD τ) mb fullShare B ∗ owns (c : Thread nD τ) mx fullShare X ∗ R)

variable {c md me ma mb mx q}
variable {defs : Defs nD τ sig (Elt F) Λ} {𝒱 : Variants} {bd : Option 𝒱.V} {E : Set Name}

/-- One word, as a load hands it over. -/
abbrev WordAt (F : FTy → Type) := (⟨2, ![1, 1]⟩ : Shape).Idx → Elt F .i32
/-- One row of a table, as a load hands it over. -/
abbrev TableRowAt (F : FTy → Type) := (⟨3, ![1, 1, 128]⟩ : Shape).Idx → Elt F .f32
/-- One row of a tile. -/
abbrev RowAt (F : FTy → Type) := (⟨2, ![1, 128]⟩ : Shape).Idx → Elt F .f32

/-- One bin of eight rows. -/
abbrev BinAt (F : FTy → Type) := (⟨2, ![8, 1]⟩ : Shape).Idx → Elt F .f32

/-- The rectangle of a whole tile places every index at itself. -/
theorem unit_zero_emb (i : ∀ a, ![0, 0] a + ![512, 128] a ≤ (⟨2, ![512, 128]⟩ : Shape).size a)
    (j : (Rect.unit (s := ⟨2, ![512, 128]⟩) ![0, 0] ![512, 128] i).shape.Idx) :
    (Rect.unit (s := ⟨2, ![512, 128]⟩) ![0, 0] ![512, 128] i).emb j = j := by
  funext a; apply Fin.ext
  match a with
  | ⟨0, _⟩ => show 0 + 1 * (j 0).val = (j 0).val; omega
  | ⟨1, _⟩ => show 0 + 1 * (j 1).val = (j 1).val; omega

/-- A one-by-one block has an entry. -/
theorem one_pos : 0 < (⟨2, ![1, 1]⟩ : Shape).numel := by decide

/-- One gathered row, for a tile `mt` that a state `S` holds: read the document's word, take it to be in range, read that row
    of the table and store it over row `u` of the tile. -/
theorem wp_row {mt : Memref sig .tc .vmem ⟨2, ![512, 128]⟩ .f32} {S : ((⟨2, ![512, 128]⟩ : Shape).Idx → F .f32) → sProp 𝕄}
    {R' : sProp 𝕄}
    {D : (⟨2, ![1, 8192]⟩ : Shape).Idx → BitVec 32} {M : (⟨3, ![100000, 1, 128]⟩ : Shape).Idx → F .f32} {base : ℕ}
    {T : (⟨2, ![512, 128]⟩ : Shape).Idx → F .f32} {Q : α → sProp 𝕄}
    (hS : ∀ X, S X ⊢ iprop(owns (c : Thread nD τ) md fullShare D ∗ owns (c : Thread nD τ) me q M ∗ owns (c : Thread nD τ) mt fullShare X ∗ R'))
    (hS' : ∀ X, iprop(owns (c : Thread nD τ) md fullShare D ∗ owns (c : Thread nD τ) me q M ∗ owns (c : Thread nD τ) mt fullShare X ∗ R') ⊢ S X)
    (hD : ∀ i, (D i).toNat < 100000)
    {n u : ℕ}
    {od : Fin 2 → ℕ} {id : ∀ a, od a + ![1, 1] a ≤ (⟨2, ![1, 8192]⟩ : Shape).size a}
    {hld : md.view.LoadsAt (Rect.unit (s := ⟨2, ![1, 8192]⟩) od ![1, 1] id).toLoadRect}
    {C : WordAt F → Prop} {dec : ∀ f, Decidable (C f)}
    {O : WordAt F → Fin 3 → ℕ}
    {ie : ∀ f, PLift (C f) → ∀ a, O f a + ![1, 1, 128] a ≤ (⟨3, ![100000, 1, 128]⟩ : Shape).size a}
    {hle : ∀ f h, me.view.LoadsAt (Rect.unit (s := ⟨3, ![100000, 1, 128]⟩) (O f) ![1, 1, 128] (ie f h)).toLoadRect}
    {it : ∀ a, ![u, 0] a + ![1, 128] a ≤ (⟨2, ![512, 128]⟩ : Shape).size a}
    {hlt : mt.view.LoadsAt (Rect.unit (s := ⟨2, ![512, 128]⟩) ![u, 0] ![1, 128] it).toLoadRect}
    {hx : (mt.access (Rect.unit (s := ⟨2, ![512, 128]⟩) ![u, 0] ![1, 128] it)).Stores Finset.univ}
    {hm : (Finset.univ : Finset (Rect.unit (s := ⟨2, ![512, 128]⟩) ![u, 0] ![1, 128] it).shape.Idx) = Finset.univ
      ∨ ∀ a, (Rect.unit (s := ⟨2, ![512, 128]⟩) ![u, 0] ![1, 128] it).stride a = 1}
    {W : WordAt F → TableRowAt F → RowAt F →
      RowAt F}
    {K : WordAt F → TableRowAt F → RowAt F →
      PUnit → Prog (TpuEff nD τ sig (Elt F) Λ .tc) α}
    (hn : n = u)
    (hod : od = ![0, base + u])
    (hC : ∀ f, (∀ i, (f i).toNat < 100000) → C f)
    (hO : ∀ f : WordAt F, O f = ![(f (Shape.Idx.first one_pos)).toNat, 0, 0])
    (hW : ∀ f v w, W f v w = fun j => v (ix3 0 0 (j 1)))
    (h : ∀ f v w, S (rowsTo D M base (u + 1) T) ⊢ wp frame (wpE defs 𝒱 (c : Thread nD τ) bd) E (K f v w ⟨⟩) Q) :
    S (rowsTo D M base n T) ⊢ wp frame (wpE defs 𝒱 (c : Thread nD τ) bd) E
      (.op (.load md (Rect.unit (s := ⟨2, ![1, 8192]⟩) od ![1, 1] id).toLoadRect hld) fun (f : WordAt F) =>
        .op (.assume (C f) (dec f)) fun hf =>
        .op (.load me (Rect.unit (s := ⟨3, ![100000, 1, 128]⟩) (O f) ![1, 1, 128] (ie f hf)).toLoadRect (hle f hf)) fun (v : TableRowAt F) =>
        .op (.load mt (Rect.unit (s := ⟨2, ![512, 128]⟩) ![u, 0] ![1, 128] it).toLoadRect hlt) fun (w : RowAt F) =>
        .op (.store mt (Rect.unit (s := ⟨2, ![512, 128]⟩) ![u, 0] ![1, 128] it) (W f v w) Finset.univ hx hm) (K f v w)) Q := by
  subst hn
  refine (hS _).trans ?_
  refine wp_load_owns 𝒱 c bd E ?_
  refine .trans ?_ (wp_assume (c := (c : Thread nD τ)) 𝒱 bd E (hC _ fun i => hD _))
  refine (show iprop(owns (c : Thread nD τ) md fullShare D ∗ owns (c : Thread nD τ) me q M ∗ owns (c : Thread nD τ) mt fullShare (rowsTo D M base n T) ∗ R')
    ⊢ iprop(owns (c : Thread nD τ) me q M ∗ owns (c : Thread nD τ) mt fullShare (rowsTo D M base n T) ∗ owns (c : Thread nD τ) md fullShare D ∗ R') from by
      iintro ⟨Hd, He, Ht, HR⟩; isplitl [He]; · iexact He
      isplitl [Ht]; · iexact Ht
      isplitl [Hd]; · iexact Hd
      iexact HR).trans ?_
  refine wp_load_owns 𝒱 c bd E ?_
  refine (show iprop(owns (c : Thread nD τ) me q M ∗ owns (c : Thread nD τ) mt fullShare (rowsTo D M base n T) ∗ owns (c : Thread nD τ) md fullShare D ∗ R')
    ⊢ iprop(owns (c : Thread nD τ) mt fullShare (rowsTo D M base n T) ∗ owns (c : Thread nD τ) md fullShare D ∗ owns (c : Thread nD τ) me q M ∗ R') from by
      iintro ⟨He, Ht, Hd, HR⟩; isplitl [Ht]; · iexact Ht
      isplitl [Hd]; · iexact Hd
      isplitl [He]; · iexact He
      iexact HR).trans ?_
  refine wp_load_owns 𝒱 c bd E ?_
  refine wp_store_owns 𝒱 c bd E ?_
  refine .trans ?_ (h _ _ _)
  rw [rowsTo_succ D M base n T]
  · refine .trans ?_ (hS' _)
    iintro ⟨Ht, Hd, He, HR⟩; isplitl [Hd]; · iexact Hd
    isplitl [He]; · iexact He
    isplitl [Ht]; · iexact Ht
    iexact HR
  · intro l
    rw [hW]
    have hbn : base + n < 8192 := by
      have := id 1; rw [hod] at this; simp at this; omega
    have hx₀ : Shape.Idx.first one_pos = ix2 (0 : Fin 1) (0 : Fin 1) := by
      funext a
      match a with
      | ⟨0, _⟩ => rfl
      | ⟨1, _⟩ => rfl
    have e1 : (Rect.unit (s := ⟨2, ![1, 8192]⟩) od ![1, 1] id).emb (ix2 (0 : Fin 1) (0 : Fin 1)) = ix2 (0 : Fin 1) ⟨(base + n) % 8192, Nat.mod_lt _ (by decide)⟩ := by
      subst hod
      funext a; apply Fin.ext
      match a with
      | ⟨0, _⟩ => rfl
      | ⟨1, _⟩ => show base + n + 1 * 0 = (base + n) % 8192; rw [Nat.mod_eq_of_lt hbn]; rfl
    show M _ = M _
    congr 1
    funext a; apply Fin.ext
    have hv := hD (ix2 (0 : Fin 1) ⟨(base + n) % 8192, Nat.mod_lt _ (by decide)⟩)
    refine (congrArg (· + _) (congrFun (hO _) a)).trans ?_
    match a with
    | ⟨0, _⟩ =>
      show (D _).toNat + 1 * 0 = (D _).toNat % 100000
      rw [hx₀, e1, Nat.mod_eq_of_lt hv]; rfl
    | ⟨1, _⟩ => rfl
    | ⟨2, _⟩ => show 0 + 1 * l.val = l.val; omega

/-- `wp_row` for the first tile of what is held. -/
theorem wp_row_a {D : (⟨2, ![1, 8192]⟩ : Shape).Idx → BitVec 32} {M : (⟨3, ![100000, 1, 128]⟩ : Shape).Idx → F .f32} {base : ℕ}
    {T B : (⟨2, ![512, 128]⟩ : Shape).Idx → F .f32} {X : (⟨2, ![128, 30]⟩ : Shape).Idx → F .f32} {R : sProp 𝕄} {Q : α → sProp 𝕄}
    (hD : ∀ i, (D i).toNat < 100000)
    {n u : ℕ}
    {od : Fin 2 → ℕ} {id : ∀ a, od a + ![1, 1] a ≤ (⟨2, ![1, 8192]⟩ : Shape).size a}
    {hld : md.view.LoadsAt (Rect.unit (s := ⟨2, ![1, 8192]⟩) od ![1, 1] id).toLoadRect}
    {C : WordAt F → Prop} {dec : ∀ f, Decidable (C f)}
    {O : WordAt F → Fin 3 → ℕ}
    {ie : ∀ f, PLift (C f) → ∀ a, O f a + ![1, 1, 128] a ≤ (⟨3, ![100000, 1, 128]⟩ : Shape).size a}
    {hle : ∀ f h, me.view.LoadsAt (Rect.unit (s := ⟨3, ![100000, 1, 128]⟩) (O f) ![1, 1, 128] (ie f h)).toLoadRect}
    {it : ∀ a, ![u, 0] a + ![1, 128] a ≤ (⟨2, ![512, 128]⟩ : Shape).size a}
    {hlt : ma.view.LoadsAt (Rect.unit (s := ⟨2, ![512, 128]⟩) ![u, 0] ![1, 128] it).toLoadRect}
    {hx : (ma.access (Rect.unit (s := ⟨2, ![512, 128]⟩) ![u, 0] ![1, 128] it)).Stores Finset.univ}
    {hm : (Finset.univ : Finset (Rect.unit (s := ⟨2, ![512, 128]⟩) ![u, 0] ![1, 128] it).shape.Idx) = Finset.univ
      ∨ ∀ a, (Rect.unit (s := ⟨2, ![512, 128]⟩) ![u, 0] ![1, 128] it).stride a = 1}
    {W : WordAt F → TableRowAt F → RowAt F →
      RowAt F}
    {K : WordAt F → TableRowAt F → RowAt F →
      PUnit → Prog (TpuEff nD τ sig (Elt F) Λ .tc) α}
    (hn : n = u)
    (hod : od = ![0, base + u])
    (hC : ∀ f, (∀ i, (f i).toNat < 100000) → C f)
    (hO : ∀ f : WordAt F, O f = ![(f (Shape.Idx.first one_pos)).toNat, 0, 0])
    (hW : ∀ f v w, W f v w = fun j => v (ix3 0 0 (j 1)))
    (h : ∀ f v w, Held c md me ma mb mx q D M (rowsTo D M base (u + 1) T) B X R ⊢ wp frame (wpE defs 𝒱 (c : Thread nD τ) bd) E (K f v w ⟨⟩) Q) :
    Held c md me ma mb mx q D M (rowsTo D M base n T) B X R ⊢ wp frame (wpE defs 𝒱 (c : Thread nD τ) bd) E
      (.op (.load md (Rect.unit (s := ⟨2, ![1, 8192]⟩) od ![1, 1] id).toLoadRect hld) fun (f : WordAt F) =>
        .op (.assume (C f) (dec f)) fun hf =>
        .op (.load me (Rect.unit (s := ⟨3, ![100000, 1, 128]⟩) (O f) ![1, 1, 128] (ie f hf)).toLoadRect (hle f hf)) fun (v : TableRowAt F) =>
        .op (.load ma (Rect.unit (s := ⟨2, ![512, 128]⟩) ![u, 0] ![1, 128] it).toLoadRect hlt) fun (w : RowAt F) =>
        .op (.store ma (Rect.unit (s := ⟨2, ![512, 128]⟩) ![u, 0] ![1, 128] it) (W f v w) Finset.univ hx hm) (K f v w)) Q :=
  wp_row (S := fun T => Held c md me ma mb mx q D M T B X R) (R' := iprop(owns (c : Thread nD τ) mb fullShare B ∗ owns (c : Thread nD τ) mx fullShare X ∗ R))
    (fun T => by
      show Held _ _ _ _ _ _ _ _ _ _ _ _ _ ⊢ _
      unfold Held
      iintro ⟨Hd, He, Ha, Hb, HX⟩; isplitl [Hd]; · iexact Hd
      isplitl [He]; · iexact He
      isplitl [Ha]; · iexact Ha
      isplitl [Hb]; · iexact Hb
      iexact HX)
    (fun T => by
      show _ ⊢ Held _ _ _ _ _ _ _ _ _ _ _ _ _
      unfold Held
      iintro ⟨Hd, He, Ht, Hu, HX⟩; isplitl [Hd]; · iexact Hd
      isplitl [He]; · iexact He
      isplitl [Ht]; · iexact Ht
      isplitl [Hu]; · iexact Hu
      iexact HX)
    hD hn hod hC hO hW h

/-- `wp_row` for the second tile of what is held. -/
theorem wp_row_b {D : (⟨2, ![1, 8192]⟩ : Shape).Idx → BitVec 32} {M : (⟨3, ![100000, 1, 128]⟩ : Shape).Idx → F .f32} {base : ℕ}
    {T A : (⟨2, ![512, 128]⟩ : Shape).Idx → F .f32} {X : (⟨2, ![128, 30]⟩ : Shape).Idx → F .f32} {R : sProp 𝕄} {Q : α → sProp 𝕄}
    (hD : ∀ i, (D i).toNat < 100000)
    {n u : ℕ}
    {od : Fin 2 → ℕ} {id : ∀ a, od a + ![1, 1] a ≤ (⟨2, ![1, 8192]⟩ : Shape).size a}
    {hld : md.view.LoadsAt (Rect.unit (s := ⟨2, ![1, 8192]⟩) od ![1, 1] id).toLoadRect}
    {C : WordAt F → Prop} {dec : ∀ f, Decidable (C f)}
    {O : WordAt F → Fin 3 → ℕ}
    {ie : ∀ f, PLift (C f) → ∀ a, O f a + ![1, 1, 128] a ≤ (⟨3, ![100000, 1, 128]⟩ : Shape).size a}
    {hle : ∀ f h, me.view.LoadsAt (Rect.unit (s := ⟨3, ![100000, 1, 128]⟩) (O f) ![1, 1, 128] (ie f h)).toLoadRect}
    {it : ∀ a, ![u, 0] a + ![1, 128] a ≤ (⟨2, ![512, 128]⟩ : Shape).size a}
    {hlt : mb.view.LoadsAt (Rect.unit (s := ⟨2, ![512, 128]⟩) ![u, 0] ![1, 128] it).toLoadRect}
    {hx : (mb.access (Rect.unit (s := ⟨2, ![512, 128]⟩) ![u, 0] ![1, 128] it)).Stores Finset.univ}
    {hm : (Finset.univ : Finset (Rect.unit (s := ⟨2, ![512, 128]⟩) ![u, 0] ![1, 128] it).shape.Idx) = Finset.univ
      ∨ ∀ a, (Rect.unit (s := ⟨2, ![512, 128]⟩) ![u, 0] ![1, 128] it).stride a = 1}
    {W : WordAt F → TableRowAt F → RowAt F →
      RowAt F}
    {K : WordAt F → TableRowAt F → RowAt F →
      PUnit → Prog (TpuEff nD τ sig (Elt F) Λ .tc) α}
    (hn : n = u)
    (hod : od = ![0, base + u])
    (hC : ∀ f, (∀ i, (f i).toNat < 100000) → C f)
    (hO : ∀ f : WordAt F, O f = ![(f (Shape.Idx.first one_pos)).toNat, 0, 0])
    (hW : ∀ f v w, W f v w = fun j => v (ix3 0 0 (j 1)))
    (h : ∀ f v w, Held c md me ma mb mx q D M A (rowsTo D M base (u + 1) T) X R ⊢ wp frame (wpE defs 𝒱 (c : Thread nD τ) bd) E (K f v w ⟨⟩) Q) :
    Held c md me ma mb mx q D M A (rowsTo D M base n T) X R ⊢ wp frame (wpE defs 𝒱 (c : Thread nD τ) bd) E
      (.op (.load md (Rect.unit (s := ⟨2, ![1, 8192]⟩) od ![1, 1] id).toLoadRect hld) fun (f : WordAt F) =>
        .op (.assume (C f) (dec f)) fun hf =>
        .op (.load me (Rect.unit (s := ⟨3, ![100000, 1, 128]⟩) (O f) ![1, 1, 128] (ie f hf)).toLoadRect (hle f hf)) fun (v : TableRowAt F) =>
        .op (.load mb (Rect.unit (s := ⟨2, ![512, 128]⟩) ![u, 0] ![1, 128] it).toLoadRect hlt) fun (w : RowAt F) =>
        .op (.store mb (Rect.unit (s := ⟨2, ![512, 128]⟩) ![u, 0] ![1, 128] it) (W f v w) Finset.univ hx hm) (K f v w)) Q :=
  wp_row (S := fun T => Held c md me ma mb mx q D M A T X R) (R' := iprop(owns (c : Thread nD τ) ma fullShare A ∗ owns (c : Thread nD τ) mx fullShare X ∗ R))
    (fun T => by
      show Held _ _ _ _ _ _ _ _ _ _ _ _ _ ⊢ _
      unfold Held
      iintro ⟨Hd, He, Ha, Hb, HX⟩; isplitl [Hd]; · iexact Hd
      isplitl [He]; · iexact He
      isplitl [Hb]; · iexact Hb
      isplitl [Ha]; · iexact Ha
      iexact HX)
    (fun T => by
      show _ ⊢ Held _ _ _ _ _ _ _ _ _ _ _ _ _
      unfold Held
      iintro ⟨Hd, He, Ht, Hu, HX⟩; isplitl [Hd]; · iexact Hd
      isplitl [He]; · iexact He
      isplitl [Hu]; · iexact Hu
      isplitl [Ht]; · iexact Ht
      iexact HX)
    hD hn hod hC hO hW h

/-- The rest of a gathered row once its word is at hand, for the first tile. -/
theorem wp_put_a {D : (⟨2, ![1, 8192]⟩ : Shape).Idx → BitVec 32} {M : (⟨3, ![100000, 1, 128]⟩ : Shape).Idx → F .f32} {base n u : ℕ}
    {T B : (⟨2, ![512, 128]⟩ : Shape).Idx → F .f32} {X : (⟨2, ![128, 30]⟩ : Shape).Idx → F .f32} {R : sProp 𝕄} {Q : α → sProp 𝕄}
    {O : Fin 3 → ℕ} {ie : ∀ a, O a + ![1, 1, 128] a ≤ (⟨3, ![100000, 1, 128]⟩ : Shape).size a}
    {hle : me.view.LoadsAt (Rect.unit (s := ⟨3, ![100000, 1, 128]⟩) O ![1, 1, 128] ie).toLoadRect}
    {it : ∀ a, ![u, 0] a + ![1, 128] a ≤ (⟨2, ![512, 128]⟩ : Shape).size a}
    {hlt : ma.view.LoadsAt (Rect.unit (s := ⟨2, ![512, 128]⟩) ![u, 0] ![1, 128] it).toLoadRect}
    {hx : (ma.access (Rect.unit (s := ⟨2, ![512, 128]⟩) ![u, 0] ![1, 128] it)).Stores Finset.univ}
    {hm : (Finset.univ : Finset (Rect.unit (s := ⟨2, ![512, 128]⟩) ![u, 0] ![1, 128] it).shape.Idx) = Finset.univ
      ∨ ∀ a, (Rect.unit (s := ⟨2, ![512, 128]⟩) ![u, 0] ![1, 128] it).stride a = 1}
    {W : TableRowAt F → RowAt F → RowAt F} {K : TableRowAt F → RowAt F → PUnit → Prog (TpuEff nD τ sig (Elt F) Λ .tc) α}
    (hn : n = u) (hO : O = ![(docWord D (base + u)).toNat, 0, 0]) (hW : ∀ v w, W v w = fun j => v (ix3 0 0 (j 1)))
    (h : ∀ v w, Held c md me ma mb mx q D M (rowsTo D M base (u + 1) T) B X R ⊢ wp frame (wpE defs 𝒱 (c : Thread nD τ) bd) E (K v w ⟨⟩) Q) :
    Held c md me ma mb mx q D M (rowsTo D M base n T) B X R ⊢ wp frame (wpE defs 𝒱 (c : Thread nD τ) bd) E
      (.op (.load me (Rect.unit (s := ⟨3, ![100000, 1, 128]⟩) O ![1, 1, 128] ie).toLoadRect hle) fun (v : TableRowAt F) =>
        .op (.load ma (Rect.unit (s := ⟨2, ![512, 128]⟩) ![u, 0] ![1, 128] it).toLoadRect hlt) fun (w : RowAt F) =>
        .op (.store ma (Rect.unit (s := ⟨2, ![512, 128]⟩) ![u, 0] ![1, 128] it) (W v w) Finset.univ hx hm) (K v w)) Q := by
  subst hn
  unfold Held at h ⊢
  iintro ⟨Hd, He, Ha, Hb, HX⟩
  iapply (wp_load_owns 𝒱 c bd E (m := me) (X := M) (q := q)
    (R := iprop(owns (c : Thread nD τ) md fullShare D ∗ owns (c : Thread nD τ) ma fullShare (rowsTo D M base n T) ∗ owns (c : Thread nD τ) mb fullShare B ∗ owns (c : Thread nD τ) mx fullShare X ∗ R)) ?_)
  · iintro ⟨He, Hd, Ha, Hb, HX⟩
    iapply (wp_load_owns 𝒱 c bd E (m := ma) (X := rowsTo D M base n T) (q := fullShare)
      (R := iprop(owns (c : Thread nD τ) md fullShare D ∗ owns (c : Thread nD τ) me q M ∗ owns (c : Thread nD τ) mb fullShare B ∗ owns (c : Thread nD τ) mx fullShare X ∗ R)) ?_)
    · refine wp_store_owns 𝒱 c bd E ?_
      rw [rowsTo_succ D M base n T]
      · refine .trans ?_ (h _ _)
        iintro ⟨Ha, Hd, He, Hb, HX⟩
        isplitl [Hd]; · iexact Hd
        isplitl [He]; · iexact He
        isplitl [Ha]; · iexact Ha
        isplitl [Hb]; · iexact Hb
        iexact HX
      · intro l
        rw [hW]
        show M _ = M _
        congr 1
        funext a; apply Fin.ext
        refine (congrArg (· + _) (congrFun hO a)).trans ?_
        have h0 := ie 0
        rw [hO] at h0
        have h1 : (docWord D (base + n)).toNat + 1 ≤ 100000 := h0
        match a with
        | ⟨0, _⟩ =>
          show (docWord D (base + n)).toNat + 1 * 0 = (docWord D (base + n)).toNat % 100000
          rw [Nat.mod_eq_of_lt (by omega)]; rfl
        | ⟨1, _⟩ => rfl
        | ⟨2, _⟩ => show 0 + 1 * l.val = l.val; omega
    · isplitl [Ha]; · iexact Ha
      isplitl [Hd]; · iexact Hd
      isplitl [He]; · iexact He
      isplitl [Hb]; · iexact Hb
      iexact HX
  · isplitl [He]; · iexact He
    isplitl [Hd]; · iexact Hd
    isplitl [Ha]; · iexact Ha
    isplitl [Hb]; · iexact Hb
    iexact HX

/-- The rest of a gathered row once its word is at hand, for the second tile. -/
theorem wp_put_b {D : (⟨2, ![1, 8192]⟩ : Shape).Idx → BitVec 32} {M : (⟨3, ![100000, 1, 128]⟩ : Shape).Idx → F .f32} {base n u : ℕ}
    {T A : (⟨2, ![512, 128]⟩ : Shape).Idx → F .f32} {X : (⟨2, ![128, 30]⟩ : Shape).Idx → F .f32} {R : sProp 𝕄} {Q : α → sProp 𝕄}
    {O : Fin 3 → ℕ} {ie : ∀ a, O a + ![1, 1, 128] a ≤ (⟨3, ![100000, 1, 128]⟩ : Shape).size a}
    {hle : me.view.LoadsAt (Rect.unit (s := ⟨3, ![100000, 1, 128]⟩) O ![1, 1, 128] ie).toLoadRect}
    {it : ∀ a, ![u, 0] a + ![1, 128] a ≤ (⟨2, ![512, 128]⟩ : Shape).size a}
    {hlt : mb.view.LoadsAt (Rect.unit (s := ⟨2, ![512, 128]⟩) ![u, 0] ![1, 128] it).toLoadRect}
    {hx : (mb.access (Rect.unit (s := ⟨2, ![512, 128]⟩) ![u, 0] ![1, 128] it)).Stores Finset.univ}
    {hm : (Finset.univ : Finset (Rect.unit (s := ⟨2, ![512, 128]⟩) ![u, 0] ![1, 128] it).shape.Idx) = Finset.univ
      ∨ ∀ a, (Rect.unit (s := ⟨2, ![512, 128]⟩) ![u, 0] ![1, 128] it).stride a = 1}
    {W : TableRowAt F → RowAt F → RowAt F} {K : TableRowAt F → RowAt F → PUnit → Prog (TpuEff nD τ sig (Elt F) Λ .tc) α}
    (hn : n = u) (hO : O = ![(docWord D (base + u)).toNat, 0, 0]) (hW : ∀ v w, W v w = fun j => v (ix3 0 0 (j 1)))
    (h : ∀ v w, Held c md me ma mb mx q D M A (rowsTo D M base (u + 1) T) X R ⊢ wp frame (wpE defs 𝒱 (c : Thread nD τ) bd) E (K v w ⟨⟩) Q) :
    Held c md me ma mb mx q D M A (rowsTo D M base n T) X R ⊢ wp frame (wpE defs 𝒱 (c : Thread nD τ) bd) E
      (.op (.load me (Rect.unit (s := ⟨3, ![100000, 1, 128]⟩) O ![1, 1, 128] ie).toLoadRect hle) fun (v : TableRowAt F) =>
        .op (.load mb (Rect.unit (s := ⟨2, ![512, 128]⟩) ![u, 0] ![1, 128] it).toLoadRect hlt) fun (w : RowAt F) =>
        .op (.store mb (Rect.unit (s := ⟨2, ![512, 128]⟩) ![u, 0] ![1, 128] it) (W v w) Finset.univ hx hm) (K v w)) Q := by
  subst hn
  unfold Held at h ⊢
  iintro ⟨Hd, He, Ha, Hb, HX⟩
  iapply (wp_load_owns 𝒱 c bd E (m := me) (X := M) (q := q)
    (R := iprop(owns (c : Thread nD τ) md fullShare D ∗ owns (c : Thread nD τ) ma fullShare A ∗ owns (c : Thread nD τ) mb fullShare (rowsTo D M base n T) ∗ owns (c : Thread nD τ) mx fullShare X ∗ R)) ?_)
  · iintro ⟨He, Hd, Ha, Hb, HX⟩
    iapply (wp_load_owns 𝒱 c bd E (m := mb) (X := rowsTo D M base n T) (q := fullShare)
      (R := iprop(owns (c : Thread nD τ) md fullShare D ∗ owns (c : Thread nD τ) me q M ∗ owns (c : Thread nD τ) ma fullShare A ∗ owns (c : Thread nD τ) mx fullShare X ∗ R)) ?_)
    · refine wp_store_owns 𝒱 c bd E ?_
      rw [rowsTo_succ D M base n T]
      · refine .trans ?_ (h _ _)
        iintro ⟨Hb, Hd, He, Ha, HX⟩
        isplitl [Hd]; · iexact Hd
        isplitl [He]; · iexact He
        isplitl [Ha]; · iexact Ha
        isplitl [Hb]; · iexact Hb
        iexact HX
      · intro l
        rw [hW]
        show M _ = M _
        congr 1
        funext a; apply Fin.ext
        refine (congrArg (· + _) (congrFun hO a)).trans ?_
        have h0 := ie 0
        rw [hO] at h0
        have h1 : (docWord D (base + n)).toNat + 1 ≤ 100000 := h0
        match a with
        | ⟨0, _⟩ =>
          show (docWord D (base + n)).toNat + 1 * 0 = (docWord D (base + n)).toNat % 100000
          rw [Nat.mod_eq_of_lt (by omega)]; rfl
        | ⟨1, _⟩ => rfl
        | ⟨2, _⟩ => show 0 + 1 * l.val = l.val; omega
    · isplitl [Hb]; · iexact Hb
      isplitl [Hd]; · iexact Hd
      isplitl [He]; · iexact He
      isplitl [Ha]; · iexact Ha
      iexact HX
  · isplitl [He]; · iexact He
    isplitl [Hd]; · iexact Hd
    isplitl [Ha]; · iexact Ha
    isplitl [Hb]; · iexact Hb
    iexact HX

section
variable {D : (⟨2, ![1, 8192]⟩ : Shape).Idx → BitVec 32} {M : (⟨3, ![100000, 1, 128]⟩ : Shape).Idx → F .f32}
  {A B : (⟨2, ![512, 128]⟩ : Shape).Idx → F .f32} {X : (⟨2, ![128, 30]⟩ : Shape).Idx → F .f32}

/-- Reading a word of the document. -/
theorem wp_word {R : sProp 𝕄} {Q : α → sProp 𝕄} (n : ℕ) {od : Fin 2 → ℕ} {id : ∀ a, od a + ![1, 1] a ≤ (⟨2, ![1, 8192]⟩ : Shape).size a}
    {hld : md.view.LoadsAt (Rect.unit (s := ⟨2, ![1, 8192]⟩) od ![1, 1] id).toLoadRect}
    {K : WordAt F → Prog (TpuEff nD τ sig (Elt F) Λ .tc) α} (hod : od = ![0, n])
    (h : ∀ f : WordAt F, (∀ i, f i = docWord D n) → Held c md me ma mb mx q D M A B X R ⊢ wp frame (wpE defs 𝒱 (c : Thread nD τ) bd) E (K f) Q) :
    Held c md me ma mb mx q D M A B X R ⊢ wp frame (wpE defs 𝒱 (c : Thread nD τ) bd) E
      (.op (.load md (Rect.unit (s := ⟨2, ![1, 8192]⟩) od ![1, 1] id).toLoadRect hld) K) Q := by
  subst hod
  unfold Held at h ⊢
  refine wp_load_owns 𝒱 c bd E (h _ fun i => ?_)
  have hn : n < 8192 := by have h1 : n + 1 ≤ 8192 := id 1; omega
  obtain ⟨x, y, rfl⟩ : ∃ (x : Fin 1) (y : Fin 1), i = ix2 x y := ⟨i 0, i 1, eq_ix2 i⟩
  unfold docWord
  congr 1
  funext a; apply Fin.ext
  match a with
  | ⟨0, _⟩ => show 0 + 1 * x.val = 0; omega
  | ⟨1, _⟩ => show n + 1 * y.val = n % 8192; rw [Nat.mod_eq_of_lt hn]; omega

/-- A condition the body takes to hold, when it does. -/
theorem wp_take {P : sProp 𝕄} {Q : α → sProp 𝕄} {C : Prop} {dec : Decidable C} {K : PLift C → Prog (TpuEff nD τ sig (Elt F) Λ .tc) α} (hC : C)
    (h : ∀ hc, P ⊢ wp frame (wpE defs 𝒱 (c : Thread nD τ) bd) E (K hc) Q) :
    P ⊢ wp frame (wpE defs 𝒱 (c : Thread nD τ) bd) E (.op (.assume C dec) K) Q :=
  (h _).trans (wp_assume (c := (c : Thread nD τ)) 𝒱 bd E hC)

/-- Reading the first tile whole. -/
theorem wp_tile_a {R : sProp 𝕄} {Q : α → sProp 𝕄} {i : ∀ a, ![0, 0] a + ![512, 128] a ≤ (⟨2, ![512, 128]⟩ : Shape).size a}
    {hl : ma.view.LoadsAt (Rect.unit (s := ⟨2, ![512, 128]⟩) ![0, 0] ![512, 128] i).toLoadRect}
    {K : ((⟨2, ![512, 128]⟩ : Shape).Idx → Elt F .f32) → Prog (TpuEff nD τ sig (Elt F) Λ .tc) α}
    (h : Held c md me ma mb mx q D M A B X R ⊢ wp frame (wpE defs 𝒱 (c : Thread nD τ) bd) E (K A) Q) :
    Held c md me ma mb mx q D M A B X R ⊢ wp frame (wpE defs 𝒱 (c : Thread nD τ) bd) E
      (.op (.load ma (Rect.unit (s := ⟨2, ![512, 128]⟩) ![0, 0] ![512, 128] i).toLoadRect hl) K) Q := by
  unfold Held at h ⊢
  iintro ⟨Hd, He, Ha, Hb, HX⟩
  iapply (wp_load_owns 𝒱 c bd E (m := ma) (X := A) (q := fullShare)
    (R := iprop(owns (c : Thread nD τ) md fullShare D ∗ owns (c : Thread nD τ) me q M ∗ owns (c : Thread nD τ) mb fullShare B ∗ owns (c : Thread nD τ) mx fullShare X ∗ R)) ?_)
  · rw [show (fun j => A ((Rect.unit (s := ⟨2, ![512, 128]⟩) ![0, 0] ![512, 128] i).emb j)) = A from funext fun j => congrArg A (unit_zero_emb i j)]
    refine .trans ?_ h
    iintro ⟨Ha, Hd, He, Hb, HX⟩
    isplitl [Hd]; · iexact Hd
    isplitl [He]; · iexact He
    isplitl [Ha]; · iexact Ha
    isplitl [Hb]; · iexact Hb
    iexact HX
  · isplitl [Ha]; · iexact Ha
    isplitl [Hd]; · iexact Hd
    isplitl [He]; · iexact He
    isplitl [Hb]; · iexact Hb
    iexact HX

/-- Reading the second tile whole. -/
theorem wp_tile_b {R : sProp 𝕄} {Q : α → sProp 𝕄} {i : ∀ a, ![0, 0] a + ![512, 128] a ≤ (⟨2, ![512, 128]⟩ : Shape).size a}
    {hl : mb.view.LoadsAt (Rect.unit (s := ⟨2, ![512, 128]⟩) ![0, 0] ![512, 128] i).toLoadRect}
    {K : ((⟨2, ![512, 128]⟩ : Shape).Idx → Elt F .f32) → Prog (TpuEff nD τ sig (Elt F) Λ .tc) α}
    (h : Held c md me ma mb mx q D M A B X R ⊢ wp frame (wpE defs 𝒱 (c : Thread nD τ) bd) E (K B) Q) :
    Held c md me ma mb mx q D M A B X R ⊢ wp frame (wpE defs 𝒱 (c : Thread nD τ) bd) E
      (.op (.load mb (Rect.unit (s := ⟨2, ![512, 128]⟩) ![0, 0] ![512, 128] i).toLoadRect hl) K) Q := by
  unfold Held at h ⊢
  iintro ⟨Hd, He, Ha, Hb, HX⟩
  iapply (wp_load_owns 𝒱 c bd E (m := mb) (X := B) (q := fullShare)
    (R := iprop(owns (c : Thread nD τ) md fullShare D ∗ owns (c : Thread nD τ) me q M ∗ owns (c : Thread nD τ) ma fullShare A ∗ owns (c : Thread nD τ) mx fullShare X ∗ R)) ?_)
  · rw [show (fun j => B ((Rect.unit (s := ⟨2, ![512, 128]⟩) ![0, 0] ![512, 128] i).emb j)) = B from funext fun j => congrArg B (unit_zero_emb i j)]
    refine .trans ?_ h
    iintro ⟨Hb, Hd, He, Ha, HX⟩
    isplitl [Hd]; · iexact Hd
    isplitl [He]; · iexact He
    isplitl [Ha]; · iexact Ha
    isplitl [Hb]; · iexact Hb
    iexact HX
  · isplitl [Hb]; · iexact Hb
    isplitl [Hd]; · iexact Hd
    isplitl [He]; · iexact He
    isplitl [Ha]; · iexact Ha
    iexact HX

/-- Any load of the histogram, its value unused. -/
theorem wp_binload {R : sProp 𝕄} {Q : α → sProp 𝕄} {ob : Fin 2 → ℕ} {i : ∀ a, ob a + ![8, 1] a ≤ (⟨2, ![128, 30]⟩ : Shape).size a}
    {hl : mx.view.LoadsAt (Rect.unit (s := ⟨2, ![128, 30]⟩) ob ![8, 1] i).toLoadRect} {K : BinAt F → Prog (TpuEff nD τ sig (Elt F) Λ .tc) α}
    (h : ∀ w, Held c md me ma mb mx q D M A B X R ⊢ wp frame (wpE defs 𝒱 (c : Thread nD τ) bd) E (K w) Q) :
    Held c md me ma mb mx q D M A B X R ⊢ wp frame (wpE defs 𝒱 (c : Thread nD τ) bd) E
      (.op (.load mx (Rect.unit (s := ⟨2, ![128, 30]⟩) ob ![8, 1] i).toLoadRect hl) K) Q := by
  unfold Held at h ⊢
  iintro ⟨Hd, He, Ha, Hb, Hx, HR⟩
  iapply (wp_load_owns 𝒱 c bd E (m := mx) (X := X) (q := fullShare)
    (R := iprop(owns (c : Thread nD τ) md fullShare D ∗ owns (c : Thread nD τ) me q M ∗ owns (c : Thread nD τ) ma fullShare A ∗ owns (c : Thread nD τ) mb fullShare B ∗ R)) ?_)
  · refine .trans ?_ (h _)
    iintro ⟨Hx, Hd, He, Ha, Hb, HR⟩
    isplitl [Hd]; · iexact Hd
    isplitl [He]; · iexact He
    isplitl [Ha]; · iexact Ha
    isplitl [Hb]; · iexact Hb
    isplitl [Hx]; · iexact Hx
    iexact HR
  · isplitl [Hx]; · iexact Hx
    isplitl [Hd]; · iexact Hd
    isplitl [He]; · iexact He
    isplitl [Ha]; · iexact Ha
    isplitl [Hb]; · iexact Hb
    iexact HR

/-- Storing bin `n` of eight rows of the histogram. -/
theorem wp_binput {R : sProp 𝕄} {Q : α → sProp 𝕄} {C : Fin 8 → ℕ → F .f32} {r n n' : ℕ} {ob : Fin 2 → ℕ} {i : ∀ a, ob a + ![8, 1] a ≤ (⟨2, ![128, 30]⟩ : Shape).size a}
    {W : BinAt F} {hx : (mx.access (Rect.unit (s := ⟨2, ![128, 30]⟩) ob ![8, 1] i)).Stores Finset.univ}
    {hm : (Finset.univ : Finset (Rect.unit (s := ⟨2, ![128, 30]⟩) ob ![8, 1] i).shape.Idx) = Finset.univ
      ∨ ∀ a, (Rect.unit (s := ⟨2, ![128, 30]⟩) ob ![8, 1] i).stride a = 1}
    {K : PUnit → Prog (TpuEff nD τ sig (Elt F) Λ .tc) α}
    (hob : ob = ![r, n]) (hn : n' = n) (hW : ∀ p : Fin 8, W (ix2 p (0 : Fin 1)) = C p n)
    (h : Held c md me ma mb mx q D M A B (binsTo C r (n + 1) X) R ⊢ wp frame (wpE defs 𝒱 (c : Thread nD τ) bd) E (K ⟨⟩) Q) :
    Held c md me ma mb mx q D M A B (binsTo C r n' X) R ⊢ wp frame (wpE defs 𝒱 (c : Thread nD τ) bd) E
      (.op (.store mx (Rect.unit (s := ⟨2, ![128, 30]⟩) ob ![8, 1] i) W Finset.univ hx hm) K) Q := by
  subst hob hn
  unfold Held at h ⊢
  iintro ⟨Hd, He, Ha, Hb, Hx, HR⟩
  iapply (wp_store_owns 𝒱 c bd E (m := mx) (X := binsTo C r n' X)
    (R := iprop(owns (c : Thread nD τ) md fullShare D ∗ owns (c : Thread nD τ) me q M ∗ owns (c : Thread nD τ) ma fullShare A ∗ owns (c : Thread nD τ) mb fullShare B ∗ R)) ?_)
  · rw [binsTo_succ C r n' X W hW]
    refine .trans ?_ h
    iintro ⟨Hx, Hd, He, Ha, Hb, HR⟩
    isplitl [Hd]; · iexact Hd
    isplitl [He]; · iexact He
    isplitl [Ha]; · iexact Ha
    isplitl [Hb]; · iexact Hb
    isplitl [Hx]; · iexact Hx
    iexact HR
  · isplitl [Hx]; · iexact Hx
    isplitl [Hd]; · iexact Hd
    isplitl [He]; · iexact He
    isplitl [Ha]; · iexact Ha
    isplitl [Hb]; · iexact Hb
    iexact HR
/-- No bin is in place yet. -/
theorem held_bins {R G : sProp 𝕄} (C : Fin 8 → ℕ → F .f32) (r : ℕ) (h : Held c md me ma mb mx q D M A B (binsTo C r 0 X) R ⊢ G) :
    Held c md me ma mb mx q D M A B X R ⊢ G := by
  rwa [binsTo_zero] at h

/-- No row of the first tile is in place yet. -/
theorem held_rows_a {R G : sProp 𝕄} (D' : (⟨2, ![1, 8192]⟩ : Shape).Idx → BitVec 32) (M' : (⟨3, ![100000, 1, 128]⟩ : Shape).Idx → F .f32) (base : ℕ)
    (h : Held c md me ma mb mx q D M (rowsTo D' M' base 0 A) B X R ⊢ G) : Held c md me ma mb mx q D M A B X R ⊢ G := by
  rwa [rowsTo_zero] at h

/-- No row of the second tile is in place yet. -/
theorem held_rows_b {R G : sProp 𝕄} (D' : (⟨2, ![1, 8192]⟩ : Shape).Idx → BitVec 32) (M' : (⟨3, ![100000, 1, 128]⟩ : Shape).Idx → F .f32) (base : ℕ)
    (h : Held c md me ma mb mx q D M A (rowsTo D' M' base 0 B) X R ⊢ G) : Held c md me ma mb mx q D M A B X R ⊢ G := by
  rwa [rowsTo_zero] at h

end

end Rules

/-! ## The side facts of a step, as the printed offsets give them -/

/-- A row below 100000 is a row of the table. -/
theorem row_inb (v : BitVec 32) (h : v.toNat < 100000) : ∀ a, ![v.toNat, 0, 0] a + ![1, 1, 128] a ≤ ![100000, 1, 128] a := by
  intro a
  match a with
  | ⟨0, _⟩ => show v.toNat + 1 ≤ 100000; omega
  | ⟨1, _⟩ => exact Nat.le_refl 1
  | ⟨2, _⟩ => exact Nat.le_refl 128

/-- The two shape casts of a stored row change nothing but the rank. -/
theorem row_cast {β : Type} (h1 : (⟨3, ![1, 1, 128]⟩ : Shape).ShapeCasts ⟨2, ![1, 128]⟩) (h2 : (⟨2, ![1, 128]⟩ : Shape).ShapeCasts ⟨2, ![1, 128]⟩)
    (v : (⟨3, ![1, 1, 128]⟩ : Shape).Idx → β) :
    shapeCast ⟨2, ![1, 128]⟩ (shapeCast ⟨2, ![1, 128]⟩ v h1) h2 = fun j => v (ix3 0 0 (j 1)) := by
  funext j
  obtain ⟨x, y, rfl⟩ : ∃ (x : Fin 1) (y : Fin 128), j = ix2 x y := ⟨j 0, j 1, eq_ix2 j⟩
  rw [shapeCast_self]
  refine shapeCast_apply v h1 _ (ix3 (0 : Fin 1) (0 : Fin 1) y) ?_
  rw [Shape.rowMajor_val_two, Shape.rowMajor_val_three]
  show (0 * 1 + 0) * 128 + y.val = x.val * 128 + y.val
  omega

/-- The two shape casts of a stored column of counts only give it a second axis. -/
theorem bin_cast {β : Type} (h1 : (⟨1, ![8]⟩ : Shape).ShapeCasts ⟨2, ![8, 1]⟩) (h2 : (⟨2, ![8, 1]⟩ : Shape).ShapeCasts ⟨2, ![8, 1]⟩)
    (v : (⟨1, ![8]⟩ : Shape).Idx → β) (p : Fin 8) :
    shapeCast ⟨2, ![8, 1]⟩ (shapeCast ⟨2, ![8, 1]⟩ v h1) h2 (ix2 p (0 : Fin 1)) = v (ix1 p) := by
  rw [shapeCast_self]
  refine shapeCast_apply v h1 _ (ix1 p) ?_
  rw [Shape.rowMajor_val_two, Shape.rowMajor_val_one]
  show p.val = p.val * 1 + 0
  omega

/-- The word of a short loop's counter. -/
theorem iv_toNat (t : ℕ) (ht : t < 8) : (Scf.iv 0#32 1#32 t).toNat = t := by
  interval_cases t <;> rfl

/-- The word offset of row `u` of the odd document of trip `t`. -/
theorem off_odd (t : ℕ) (ht : t < 8) (u : ℕ) (hu : u < 512) :
    ![0, (Scalar.indexCast (Scalar.addi (Scalar.muli (Scalar.addi (Scalar.muli 2#32 (Scf.iv 0#32 1#32 t)) 1#32) 512#32) (BitVec.ofNat 32 u))).toNat]
      = ![0, (2 * t + 1) * 512 + u] := by
  have : (Scalar.indexCast (Scalar.addi (Scalar.muli (Scalar.addi (Scalar.muli 2#32 (Scf.iv 0#32 1#32 t)) 1#32) 512#32) (BitVec.ofNat 32 u))).toNat
      = (2 * t + 1) * 512 + u := by
    have h := iv_toNat t ht
    simp only [Scalar.indexCast, Scalar.addi, Scalar.muli, IntOp.addi, IntOp.muli, BitVec.toNat_add, BitVec.toNat_mul, BitVec.toNat_ofNat, h]
    omega
  rw [this]

/-- The number of the document slot that trip `t` gathers ahead. -/
def ahead (t : ℕ) : ℕ := if t < 7 then 2 * t + 2 else 15

/-- The word offset of row `u` of the document gathered ahead in trip `t`. -/
theorem off_ahead (t : ℕ) (ht : t < 8) (u : ℕ) (hu : u < 512) :
    ![0, (Scalar.indexCast (Scalar.addi (Scalar.muli (Scalar.minsi (Scalar.addi (Scalar.muli 2#32 (Scf.iv 0#32 1#32 t)) 2#32) 15#32) 512#32) (BitVec.ofNat 32 u))).toNat]
      = ![0, ahead t * 512 + u] := by
  have : (Scalar.indexCast (Scalar.addi (Scalar.muli (Scalar.minsi (Scalar.addi (Scalar.muli 2#32 (Scf.iv 0#32 1#32 t)) 2#32) 15#32) 512#32) (BitVec.ofNat 32 u))).toNat
      = ahead t * 512 + u := by
    have h : (Scalar.minsi (Scalar.addi (Scalar.muli 2#32 (Scf.iv 0#32 1#32 t)) 2#32) 15#32).toNat = ahead t := by
      interval_cases t <;> rfl
    simp only [Scalar.indexCast, Scalar.addi, Scalar.muli, IntOp.addi, IntOp.muli, BitVec.toNat_add, BitVec.toNat_mul, BitVec.toNat_ofNat] at h ⊢
    rw [h]
    unfold ahead
    split <;> omega
  rw [this]

/-- The histogram rows of the even document of trip `t`. -/
theorem off_bin_even (t : ℕ) (ht : t < 8) (n : ℕ) :
    ![(Scalar.indexCast (Scalar.muli (Scalar.muli 2#32 (Scf.iv 0#32 1#32 t)) 8#32)).toNat, n] = ![2 * t * 8, n] := by
  interval_cases t <;> rfl

/-- The histogram rows of the odd document of trip `t`. -/
theorem off_bin_odd (t : ℕ) (ht : t < 8) (n : ℕ) :
    ![(Scalar.indexCast (Scalar.muli (Scalar.addi (Scalar.muli 2#32 (Scf.iv 0#32 1#32 t)) 1#32) 8#32)).toNat, n] = ![(2 * t + 1) * 8, n] := by
  interval_cases t <;> rfl

end Drmm
end
-- ==== Proof.Steps2.lean ====
module

public import proofs.«01_k».proof.Proof.Steps

@[expose] public section

noncomputable section

namespace Drmm

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws

/-! ## What the query rows hold, as functions of what was read -/

section Values
variable {F : FTy → Type}

/-- Word `n` of the table of query words. -/
def queryWord (T : (⟨1, ![256]⟩ : Shape).Idx → BitVec 32) (n : ℕ) : BitVec 32 := T (ix1 ⟨n % 256, Nat.mod_lt _ (by decide)⟩)

/-- The query rows with the first `n` in place: row `p` is `f p`; the rest as in `V`. -/
def queryTo (f : ℕ → Fin 128 → F .f32) (n : ℕ) (V : (⟨2, ![8, 128]⟩ : Shape).Idx → F .f32) : (⟨2, ![8, 128]⟩ : Shape).Idx → F .f32 :=
  fun j => if (j 0).val < n then f (j 0).val (j 1) else V j

/-- All eight query rows. -/
def queryAll (f : ℕ → Fin 128 → F .f32) : (⟨2, ![8, 128]⟩ : Shape).Idx → F .f32 := fun j => f (j 0).val (j 1)

/-- No query row read yet. -/
theorem queryTo_zero (f : ℕ → Fin 128 → F .f32) (V : (⟨2, ![8, 128]⟩ : Shape).Idx → F .f32) : queryTo f 0 V = V := by
  funext j; simp [queryTo]

/-- Every query row read. -/
theorem queryTo_all (f : ℕ → Fin 128 → F .f32) (V : (⟨2, ![8, 128]⟩ : Shape).Idx → F .f32) : queryTo f 8 V = queryAll f := by
  funext j
  have : (j 0).val < 8 := (j 0).isLt
  simp [queryTo, queryAll, this]

/-- Storing query row `n` puts the first `n + 1` in place. -/
theorem queryTo_succ (f : ℕ → Fin 128 → F .f32) (n : ℕ) (V : (⟨2, ![8, 128]⟩ : Shape).Idx → F .f32)
    {i : ∀ a, ![n, 0] a + ![1, 128] a ≤ (⟨2, ![8, 128]⟩ : Shape).size a} (w : (⟨2, ![1, 128]⟩ : Shape).Idx → F .f32)
    (hw : ∀ l : Fin 128, w (ix2 (0 : Fin 1) l) = f n l) :
    (Rect.unit (s := ⟨2, ![8, 128]⟩) ![n, 0] ![1, 128] i).overlay (queryTo f n V) w = queryTo f (n + 1) V := by
  funext j
  obtain ⟨x, y, rfl⟩ : ∃ (x : Fin 8) (y : Fin 128), j = ix2 x y := ⟨j 0, j 1, eq_ix2 j⟩
  by_cases hj : x.val = n
  · have e : ix2 x y = (Rect.unit (s := ⟨2, ![8, 128]⟩) ![n, 0] ![1, 128] i).emb (ix2 (0 : Fin 1) y) := by
      funext a; apply Fin.ext
      match a with
      | ⟨0, _⟩ => show x.val = n + 1 * 0; omega
      | ⟨1, _⟩ => show y.val = 0 + 1 * y.val; omega
    refine (congrArg _ e).trans ((Rect.overlay_emb _ _ _ _).trans ((hw y).trans ?_))
    simp [queryTo, hj]
  · rw [Rect.overlay_of_not_mem]
    · show (if x.val < n then _ else _) = (if x.val < n + 1 then _ else _)
      by_cases h : x.val < n
      · rw [if_pos h, if_pos (by omega)]
      · rw [if_neg h, if_neg (by omega)]
    · rw [Rect.mem_set_unit]
      intro h
      have h0 : n ≤ x.val ∧ x.val < n + 1 := h 0
      omega

/-- The histogram array after `n` document slots: the eight rows of each hold its counts; the rest as in `X`. -/
def histTo (C : ℕ → Fin 8 → ℕ → F .f32) (n : ℕ) (X : (⟨2, ![128, 30]⟩ : Shape).Idx → F .f32) : (⟨2, ![128, 30]⟩ : Shape).Idx → F .f32 :=
  fun j => if (j 0).val < n * 8 then C ((j 0).val / 8) ⟨(j 0).val % 8, Nat.mod_lt _ (by decide)⟩ (j 1).val else X j

/-- The histogram array of all sixteen slots. -/
def histAll (C : ℕ → Fin 8 → ℕ → F .f32) : (⟨2, ![128, 30]⟩ : Shape).Idx → F .f32 :=
  fun j => C ((j 0).val / 8) ⟨(j 0).val % 8, Nat.mod_lt _ (by decide)⟩ (j 1).val

/-- No document counted yet. -/
theorem histTo_zero (C : ℕ → Fin 8 → ℕ → F .f32) (X : (⟨2, ![128, 30]⟩ : Shape).Idx → F .f32) : histTo C 0 X = X := by
  funext j; simp [histTo]

/-- Every document counted. -/
theorem histTo_all (C : ℕ → Fin 8 → ℕ → F .f32) (X : (⟨2, ![128, 30]⟩ : Shape).Idx → F .f32) : histTo C 16 X = histAll C := by
  funext j
  have : (j 0).val < 16 * 8 := (j 0).isLt
  unfold histTo histAll
  rw [if_pos this]

/-- The bins of one more slot. -/
theorem histTo_succ (C : ℕ → Fin 8 → ℕ → F .f32) (n : ℕ) (X : (⟨2, ![128, 30]⟩ : Shape).Idx → F .f32) :
    binsTo (C n) (n * 8) 30 (histTo C n X) = histTo C (n + 1) X := by
  funext j
  obtain ⟨x, y, rfl⟩ : ∃ (x : Fin 128) (y : Fin 30), j = ix2 x y := ⟨j 0, j 1, eq_ix2 j⟩
  show (if h : n * 8 ≤ x.val ∧ x.val < n * 8 + 8 ∧ y.val < 30 then C n ⟨x.val - n * 8, by omega⟩ y.val else
      (if x.val < n * 8 then C (x.val / 8) ⟨x.val % 8, Nat.mod_lt _ (by decide)⟩ y.val else X (ix2 x y)))
    = (if x.val < (n + 1) * 8 then C (x.val / 8) ⟨x.val % 8, Nat.mod_lt _ (by decide)⟩ y.val else X (ix2 x y))
  have hy : y.val < 30 := y.isLt
  by_cases h : n * 8 ≤ x.val ∧ x.val < n * 8 + 8 ∧ y.val < 30
  · rw [dif_pos h, if_pos (by omega)]
    have e : x.val / 8 = n := by omega
    have e' : (⟨x.val - n * 8, by omega⟩ : Fin 8) = ⟨x.val % 8, Nat.mod_lt _ (by decide)⟩ := Fin.ext (by show x.val - n * 8 = x.val % 8; omega)
    rw [e, e']
  · rw [dif_neg h]
    by_cases h' : x.val < n * 8
    · rw [if_pos h', if_pos (by omega)]
    · rw [if_neg h', if_neg (by omega)]

/-- The slot whose tile the first buffer holds when trip `k` begins. -/
def slotA (k : ℕ) : ℕ := if k < 8 then 2 * k else 15

/-- The next document of the first slot is the one gathered ahead. -/
theorem slotA_succ (k : ℕ) (h : k < 8) : slotA (k + 1) = ahead k := by
  unfold slotA ahead; split <;> split <;> omega

/-- The first slot holds the even document of its pair. -/
theorem slotA_lt (k : ℕ) (h : k < 8) : slotA k = 2 * k := if_pos h

end Values

section Rules
variable {nD : Nat} {τ : Topo} {sig : RefSig} {Ix : Type} [DecidableEq Ix]
variable {F : FTy → Type} {Name : Type} [DecidableEq Name]
variable {U : Type} [URA U]
variable {Lvl : Type} [Preorder Lvl] {Λ : Labels} {α : Type}
local notation "𝕄" => MT nD τ sig Ix (Elt F) Name U Lvl

variable {c : Dev nD}
  {md : Memref sig .tc .smem ⟨2, ![1, 8192]⟩ .i32} {me : Memref sig .tc .vmem ⟨3, ![100000, 1, 128]⟩ .f32}
  {ma mb : Memref sig .tc .vmem ⟨2, ![512, 128]⟩ .f32} {mx : Memref sig .tc .vmem ⟨2, ![128, 30]⟩ .f32} {q : PosShare TreeShare}
variable {defs : Defs nD τ sig (Elt F) Λ} {𝒱 : Variants} {bd : Option 𝒱.V} {E : Set Name}

/-- A load of an owned part of a state. -/
theorem wp_get {cs : CoreSpace} {s : Shape} {e : EltTy} {m : Memref sig .tc cs s e} {r : Rect s} {hl : m.view.LoadsAt r.toLoadRect}
    {k : (r.shape.Idx → Elt F e) → Prog (TpuEff nD τ sig (Elt F) Λ .tc) α} {p : PosShare TreeShare} {X : s.Idx → Elt F e}
    {S R' : sProp 𝕄} {Q : α → sProp 𝕄}
    (hS : S ⊢ iprop(owns (c : Thread nD τ) m p X ∗ R')) (hS' : iprop(owns (c : Thread nD τ) m p X ∗ R') ⊢ S)
    (h : S ⊢ wp frame (wpE defs 𝒱 (c : Thread nD τ) bd) E (k fun i => X (r.emb i)) Q) :
    S ⊢ wp frame (wpE defs 𝒱 (c : Thread nD τ) bd) E (.op (.load m r.toLoadRect hl) k) Q :=
  hS.trans (wp_load_owns 𝒱 c bd E (hS'.trans h))

/-- A store over an owned part of a state. -/
theorem wp_set {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ .tc) α} {X : s.Idx → Elt F e}
    {S S' R' : sProp 𝕄} {Q : α → sProp 𝕄}
    (hS : S ⊢ iprop(owns (c : Thread nD τ) m fullShare X ∗ R')) (hS' : iprop(owns (c : Thread nD τ) m fullShare (r.overlay X w) ∗ R') ⊢ S')
    (h : S' ⊢ wp frame (wpE defs 𝒱 (c : Thread nD τ) bd) E (k ⟨⟩) Q) :
    S ⊢ wp frame (wpE defs 𝒱 (c : Thread nD τ) bd) E (.op (.store m r w Finset.univ hx hm) k) Q :=
  hS.trans (wp_store_owns 𝒱 c bd E (hS'.trans h))

/-- A rectangle at offset zero of a memref's own sizes places every index at itself. -/
theorem whole_emb {s : Shape} {off : Fin s.rank → ℕ} (i : ∀ a, off a + s.size a ≤ s.size a) (hz : ∀ a, off a = 0)
    (j : s.Idx) : (Rect.unit (s := s) off s.size i).emb j = j := by
  funext a; apply Fin.ext
  show off a + 1 * (j a).val = (j a).val
  rw [hz a]; omega

/-- Two zero offsets. -/
theorem zero₂ : ∀ a, (![0, 0] : Fin 2 → ℕ) a = 0 := by decide
/-- Three zero offsets. -/
theorem zero₃ : ∀ a, (![0, 0, 0] : Fin 3 → ℕ) a = 0 := by decide

/-- Reading whole the memref at the head of a list of owned ones; it goes to the list of those done. -/
theorem wp_next {cs : CoreSpace} {s : Shape} {e : EltTy} {m : Memref sig .tc cs s e} {off : Fin s.rank → ℕ}
    {i : ∀ a, off a + s.size a ≤ s.size a} {hl : m.view.LoadsAt (Rect.unit (s := s) off s.size i).toLoadRect}
    {k : (s.Idx → Elt F e) → Prog (TpuEff nD τ sig (Elt F) Λ .tc) α} {p : PosShare TreeShare} {X : s.Idx → Elt F e}
    {R Dn : sProp 𝕄} {Q : α → sProp 𝕄} (hz : ∀ a, off a = 0)
    (h : iprop(R ∗ (owns (c : Thread nD τ) m p X ∗ Dn)) ⊢ wp frame (wpE defs 𝒱 (c : Thread nD τ) bd) E (k X) Q) :
    iprop((owns (c : Thread nD τ) m p X ∗ R) ∗ Dn)
      ⊢ wp frame (wpE defs 𝒱 (c : Thread nD τ) bd) E (.op (.load m (Rect.unit (s := s) off s.size i).toLoadRect hl) k) Q := by
  refine .trans (Q := iprop(owns (c : Thread nD τ) m p X ∗ (R ∗ Dn))) ?_ (wp_load_owns 𝒱 c bd E ?_)
  · iintro ⟨⟨Hm, HR⟩, HD⟩
    isplitl [Hm]; · iexact Hm
    isplitl [HR]; · iexact HR
    iexact HD
  · rw [show (fun j => X ((Rect.unit (s := s) off s.size i).emb j)) = X from funext fun j => congrArg X (whole_emb i hz j)]
    refine .trans ?_ h
    iintro ⟨Hm, HR, HD⟩
    isplitl [HR]; · iexact HR
    isplitl [Hm]; · iexact Hm
    iexact HD

/-- A counted loop at the head of a program, by an invariant. -/
theorem wp_loop {σ β : Type} {w : ℕ} {lb ub st : BitVec w} {hok : Scf.OK lb ub st} {init : σ}
    {body : Fin (Scf.trips lb ub st) → σ → Prog (TpuEff nD τ sig (Elt F) Λ .tc) σ} {kk : σ → Prog (TpuEff nD τ sig (Elt F) Λ .tc) β}
    {Q : β → sProp 𝕄} (I : ℕ → sProp 𝕄)
    (hbody : ∀ (k : Fin (Scf.trips lb ub st)) (acc : σ), I k.val ⊢ wp frame (wpE defs 𝒱 (c : Thread nD τ) bd) E (body k acc) (fun _ => I (k.val + 1)))
    (h : ∀ acc, I (Scf.trips lb ub st) ⊢ wp frame (wpE defs 𝒱 (c : Thread nD τ) bd) E (kk acc) Q) :
    I 0 ⊢ wp frame (wpE defs 𝒱 (c : Thread nD τ) bd) E ((Scf.for lb ub st hok init body).bind kk) Q := by
  iintro HI
  iapply (Scf.wp_for_bind frame (wpE defs 𝒱 (c : Thread nD τ) bd) E lb ub st hok init body (fun k _ => I k) hbody) $$ HI
  iintro %acc HI
  iapply (h acc) $$ HI

/-- The same inside a part of a program that goes on. -/
theorem wp_loop' {σ β γ : Type} {w : ℕ} {lb ub st : BitVec w} {hok : Scf.OK lb ub st} {init : σ}
    {body : Fin (Scf.trips lb ub st) → σ → Prog (TpuEff nD τ sig (Elt F) Λ .tc) σ} {k₁ : σ → Prog (TpuEff nD τ sig (Elt F) Λ .tc) γ}
    {kk : γ → Prog (TpuEff nD τ sig (Elt F) Λ .tc) β}
    {Q : β → sProp 𝕄} (I : ℕ → sProp 𝕄)
    (hbody : ∀ (k : Fin (Scf.trips lb ub st)) (acc : σ), I k.val ⊢ wp frame (wpE defs 𝒱 (c : Thread nD τ) bd) E (body k acc) (fun _ => I (k.val + 1)))
    (h : ∀ acc, I (Scf.trips lb ub st) ⊢ wp frame (wpE defs 𝒱 (c : Thread nD τ) bd) E ((k₁ acc).bind kk) Q) :
    I 0 ⊢ wp frame (wpE defs 𝒱 (c : Thread nD τ) bd) E (((Scf.for lb ub st hok init body).bind k₁).bind kk) Q := by
  refine (wp_loop I hbody h).trans (Eq.mpr (congrArg (fun p => _ ⊢ wp frame (wpE defs 𝒱 (c : Thread nD τ) bd) E p Q) (Prog.bind_assoc _ k₁ kk)) .rfl)

/-- From each witness, from the existential. -/
theorem of_exists {β : Type} {P : β → sProp 𝕄} {G : sProp 𝕄} (h : ∀ b, P b ⊢ G) : iprop(∃ b, P b) ⊢ G := by
  iintro ⟨%b, H⟩
  iapply (h b) $$ H

/-- A program that has returned. -/
theorem wp_done {β : Type} {a : β} {P : sProp 𝕄} {Q : β → sProp 𝕄} (h : P ⊢ Q a) :
    P ⊢ wp frame (wpE defs 𝒱 (c : Thread nD τ) bd) E (.ret a) Q := by
  rw [wp_ret]
  iintro HP
  imodintro
  iapply h $$ HP

section
variable {D : (⟨2, ![1, 8192]⟩ : Shape).Idx → BitVec 32} {M : (⟨3, ![100000, 1, 128]⟩ : Shape).Idx → F .f32}
  {A B : (⟨2, ![512, 128]⟩ : Shape).Idx → F .f32} {X : (⟨2, ![128, 30]⟩ : Shape).Idx → F .f32}

/-- What is held, seen from the first tile. -/
theorem held_a (R : sProp 𝕄) (T : (⟨2, ![512, 128]⟩ : Shape).Idx → F .f32) : Held c md me ma mb mx q D M T B X R
    ⊢ iprop(owns (c : Thread nD τ) ma fullShare T ∗ (owns (c : Thread nD τ) md fullShare D ∗ owns (c : Thread nD τ) me q M
      ∗ owns (c : Thread nD τ) mb fullShare B ∗ owns (c : Thread nD τ) mx fullShare X ∗ R)) := by
  unfold Held
  iintro ⟨Hd, He, Ha, Hb⟩
  isplitl [Ha]; · iexact Ha
  isplitl [Hd]; · iexact Hd
  isplitl [He]; · iexact He
  iexact Hb

/-- Give the first slot back to the loop's buffers. -/
theorem held_a' (R : sProp 𝕄) (T : (⟨2, ![512, 128]⟩ : Shape).Idx → F .f32) :
    iprop(owns (c : Thread nD τ) ma fullShare T ∗ (owns (c : Thread nD τ) md fullShare D ∗ owns (c : Thread nD τ) me q M
      ∗ owns (c : Thread nD τ) mb fullShare B ∗ owns (c : Thread nD τ) mx fullShare X ∗ R)) ⊢ Held c md me ma mb mx q D M T B X R := by
  unfold Held
  iintro ⟨Ha, Hd, He, Hb⟩
  isplitl [Hd]; · iexact Hd
  isplitl [He]; · iexact He
  isplitl [Ha]; · iexact Ha
  iexact Hb

/-- What is held, seen from the histogram. -/
theorem held_x (R : sProp 𝕄) : Held c md me ma mb mx q D M A B X R
    ⊢ iprop(owns (c : Thread nD τ) mx fullShare X ∗ (owns (c : Thread nD τ) md fullShare D ∗ owns (c : Thread nD τ) me q M
      ∗ owns (c : Thread nD τ) ma fullShare A ∗ owns (c : Thread nD τ) mb fullShare B ∗ R)) := by
  unfold Held
  iintro ⟨Hd, He, Ha, Hb, Hx, HR⟩
  isplitl [Hx]; · iexact Hx
  isplitl [Hd]; · iexact Hd
  isplitl [He]; · iexact He
  isplitl [Ha]; · iexact Ha
  isplitl [Hb]; · iexact Hb
  iexact HR

/-- Give the counts back to the loop's buffers. -/
theorem held_x' (R : sProp 𝕄) : iprop(owns (c : Thread nD τ) mx fullShare X ∗ (owns (c : Thread nD τ) md fullShare D ∗ owns (c : Thread nD τ) me q M
      ∗ owns (c : Thread nD τ) ma fullShare A ∗ owns (c : Thread nD τ) mb fullShare B ∗ R)) ⊢ Held c md me ma mb mx q D M A B X R := by
  unfold Held
  iintro ⟨Hx, Hd, He, Ha, Hb, HR⟩
  isplitl [Hd]; · iexact Hd
  isplitl [He]; · iexact He
  isplitl [Ha]; · iexact Ha
  isplitl [Hb]; · iexact Hb
  isplitl [Hx]; · iexact Hx
  iexact HR

/-- What is held, seen from the first thing held beside it. -/
theorem held_r {P : sProp 𝕄} (R : sProp 𝕄) : Held c md me ma mb mx q D M A B X iprop(P ∗ R) ⊢ iprop(P ∗ Held c md me ma mb mx q D M A B X R) := by
  unfold Held
  iintro ⟨Hd, He, Ha, Hb, Hx, HP, HR⟩
  isplitl [HP]; · iexact HP
  isplitl [Hd]; · iexact Hd
  isplitl [He]; · iexact He
  isplitl [Ha]; · iexact Ha
  isplitl [Hb]; · iexact Hb
  isplitl [Hx]; · iexact Hx
  iexact HR

/-- Give the rest back to the loop's buffers. -/
theorem held_r' {P : sProp 𝕄} (R : sProp 𝕄) : iprop(P ∗ Held c md me ma mb mx q D M A B X R) ⊢ Held c md me ma mb mx q D M A B X iprop(P ∗ R) := by
  unfold Held
  iintro ⟨HP, Hd, He, Ha, Hb, Hx, HR⟩
  isplitl [Hd]; · iexact Hd
  isplitl [He]; · iexact He
  isplitl [Ha]; · iexact Ha
  isplitl [Hb]; · iexact Hb
  isplitl [Hx]; · iexact Hx
  isplitl [HP]; · iexact HP
  iexact HR

/-- The store that ends a gathered row of the first tile, the row at hand. -/
theorem wp_keep_a {base n u : ℕ} {T : (⟨2, ![512, 128]⟩ : Shape).Idx → F .f32} {R : sProp 𝕄} {Q : α → sProp 𝕄}
    {it : ∀ a, ![u, 0] a + ![1, 128] a ≤ (⟨2, ![512, 128]⟩ : Shape).size a}
    {hx : (ma.access (Rect.unit (s := ⟨2, ![512, 128]⟩) ![u, 0] ![1, 128] it)).Stores Finset.univ}
    {hm : (Finset.univ : Finset (Rect.unit (s := ⟨2, ![512, 128]⟩) ![u, 0] ![1, 128] it).shape.Idx) = Finset.univ
      ∨ ∀ a, (Rect.unit (s := ⟨2, ![512, 128]⟩) ![u, 0] ![1, 128] it).stride a = 1}
    {W : RowAt F} {K : PUnit → Prog (TpuEff nD τ sig (Elt F) Λ .tc) α} (hn : n = u)
    (hW : ∀ l : Fin 128, W (ix2 (0 : Fin 1) l) = tableRow M (docWord D (base + u)).toNat l)
    (h : Held c md me ma mb mx q D M (rowsTo D M base (u + 1) T) B X R ⊢ wp frame (wpE defs 𝒱 (c : Thread nD τ) bd) E (K ⟨⟩) Q) :
    Held c md me ma mb mx q D M (rowsTo D M base n T) B X R ⊢ wp frame (wpE defs 𝒱 (c : Thread nD τ) bd) E
      (.op (.store ma (Rect.unit (s := ⟨2, ![512, 128]⟩) ![u, 0] ![1, 128] it) W Finset.univ hx hm) K) Q := by
  subst hn
  refine wp_set (held_a R _) (.trans ?_ (held_a' R (rowsTo D M base (n + 1) T))) h
  rw [rowsTo_succ D M base n T W hW]

/-- The loads before the store of a gathered row of the first tile: the table's row and the old row, the latter unused. -/
theorem wp_look_a {n : ℕ} {T : (⟨2, ![512, 128]⟩ : Shape).Idx → F .f32} {R : sProp 𝕄} {Q : α → sProp 𝕄}
    {O : Fin 3 → ℕ} {ie : ∀ a, O a + ![1, 1, 128] a ≤ (⟨3, ![100000, 1, 128]⟩ : Shape).size a}
    {hle : me.view.LoadsAt (Rect.unit (s := ⟨3, ![100000, 1, 128]⟩) O ![1, 1, 128] ie).toLoadRect}
    {od : Fin 2 → ℕ} {it : ∀ a, od a + ![1, 128] a ≤ (⟨2, ![512, 128]⟩ : Shape).size a}
    {hlt : ma.view.LoadsAt (Rect.unit (s := ⟨2, ![512, 128]⟩) od ![1, 128] it).toLoadRect}
    {K : TableRowAt F → RowAt F → Prog (TpuEff nD τ sig (Elt F) Λ .tc) α}
    (hO : O = ![(docWord D n).toNat, 0, 0])
    (h : ∀ (v : TableRowAt F) w, (∀ l : Fin 128, v (ix3 (0 : Fin 1) (0 : Fin 1) l) = tableRow M (docWord D n).toNat l) →
      Held c md me ma mb mx q D M T B X R ⊢ wp frame (wpE defs 𝒱 (c : Thread nD τ) bd) E (K v w) Q) :
    Held c md me ma mb mx q D M T B X R ⊢ wp frame (wpE defs 𝒱 (c : Thread nD τ) bd) E
      (.op (.load me (Rect.unit (s := ⟨3, ![100000, 1, 128]⟩) O ![1, 1, 128] ie).toLoadRect hle) fun (v : TableRowAt F) =>
        .op (.load ma (Rect.unit (s := ⟨2, ![512, 128]⟩) od ![1, 128] it).toLoadRect hlt) fun (w : RowAt F) => K v w) Q := by
  refine wp_get (m := me) (p := q) (X := M) (R' := iprop(owns (c : Thread nD τ) md fullShare D ∗ owns (c : Thread nD τ) ma fullShare T
      ∗ owns (c : Thread nD τ) mb fullShare B ∗ owns (c : Thread nD τ) mx fullShare X ∗ R)) ?_ ?_ ?_
  · unfold Held
    iintro ⟨Hd, He, Ha⟩
    isplitl [He]; · iexact He
    isplitl [Hd]; · iexact Hd
    iexact Ha
  · unfold Held
    iintro ⟨He, Hd, Ha⟩
    isplitl [Hd]; · iexact Hd
    isplitl [He]; · iexact He
    iexact Ha
  refine wp_get (held_a R _) (held_a' R _) (h _ _ fun l => ?_)
  show M _ = M _
  congr 1
  funext a; apply Fin.ext
  refine (congrArg (· + _) (congrFun hO a)).trans ?_
  have h0 := ie 0
  rw [hO] at h0
  have h1 : (docWord D n).toNat + 1 ≤ 100000 := h0
  match a with
  | ⟨0, _⟩ =>
    show (docWord D n).toNat + 1 * 0 = (docWord D n).toNat % 100000
    rw [Nat.mod_eq_of_lt (by omega)]; rfl
  | ⟨1, _⟩ => rfl
  | ⟨2, _⟩ => show 0 + 1 * l.val = l.val; omega

end

/-! ## The query rows -/

variable (c)
  (mt : Memref sig .tc .smem ⟨1, ![256]⟩ .i32) (me' : Memref sig .tc .vmem ⟨3, ![100000, 1, 128]⟩ .f32) (mg : Memref sig .tc .vmem ⟨3, ![782, 1, 128]⟩ .f32)
  (mq mi : Memref sig .tc .vmem ⟨2, ![8, 128]⟩ .f32) (mw : Memref sig .tc .vmem ⟨2, ![8, 1]⟩ .f32) (qt q' : PosShare TreeShare)

/-- The buffers the query rows are made from and kept in: the table of query words, the two tables of rows, the query rows, the
    rows of inverse document frequencies, the gate's weights. -/
def Prep (T : (⟨1, ![256]⟩ : Shape).Idx → BitVec 32) (M : (⟨3, ![100000, 1, 128]⟩ : Shape).Idx → F .f32)
    (G : (⟨3, ![782, 1, 128]⟩ : Shape).Idx → F .f32) (V I : (⟨2, ![8, 128]⟩ : Shape).Idx → F .f32) (Wg : (⟨2, ![8, 1]⟩ : Shape).Idx → F .f32)
    (R : sProp 𝕄) : sProp 𝕄 :=
  iprop(owns (c : Thread nD τ) mt qt T ∗ owns (c : Thread nD τ) me' q' M ∗ owns (c : Thread nD τ) mg q' G
    ∗ owns (c : Thread nD τ) mq fullShare V ∗ owns (c : Thread nD τ) mi fullShare I ∗ owns (c : Thread nD τ) mw q' Wg ∗ R)

variable {c mt me' mg mq mi mw qt q'}
section
variable {T : (⟨1, ![256]⟩ : Shape).Idx → BitVec 32} {M : (⟨3, ![100000, 1, 128]⟩ : Shape).Idx → F .f32}
  {G : (⟨3, ![782, 1, 128]⟩ : Shape).Idx → F .f32} {V I : (⟨2, ![8, 128]⟩ : Shape).Idx → F .f32} {Wg : (⟨2, ![8, 1]⟩ : Shape).Idx → F .f32}

/-- One word of the table of query words, as a load hands it over. -/
abbrev QueryAt (F : FTy → Type) := (⟨1, ![1]⟩ : Shape).Idx → Elt F .i32

/-- A one-entry block has an entry. -/
theorem one_pos' : 0 < (⟨1, ![1]⟩ : Shape).numel := by decide

/-- Take the query words out of the prologue's buffers. -/
theorem prep_t (R : sProp 𝕄) : Prep c mt me' mg mq mi mw qt q' T M G V I Wg R ⊢ iprop(owns (c : Thread nD τ) mt qt T
    ∗ (owns (c : Thread nD τ) me' q' M ∗ owns (c : Thread nD τ) mg q' G
    ∗ owns (c : Thread nD τ) mq fullShare V ∗ owns (c : Thread nD τ) mi fullShare I ∗ owns (c : Thread nD τ) mw q' Wg ∗ R)) := .rfl

/-- Take the embedding table out of the prologue's buffers. -/
theorem prep_e (R : sProp 𝕄) : Prep c mt me' mg mq mi mw qt q' T M G V I Wg R ⊢ iprop(owns (c : Thread nD τ) me' q' M
    ∗ (owns (c : Thread nD τ) mt qt T ∗ owns (c : Thread nD τ) mg q' G
    ∗ owns (c : Thread nD τ) mq fullShare V ∗ owns (c : Thread nD τ) mi fullShare I ∗ owns (c : Thread nD τ) mw q' Wg ∗ R)) := by
  unfold Prep
  iintro ⟨Ht, He, Hg⟩
  isplitl [He]; · iexact He
  isplitl [Ht]; · iexact Ht
  iexact Hg
/-- Give the embedding table back. -/
theorem prep_e' (R : sProp 𝕄) : iprop(owns (c : Thread nD τ) me' q' M
    ∗ (owns (c : Thread nD τ) mt qt T ∗ owns (c : Thread nD τ) mg q' G
    ∗ owns (c : Thread nD τ) mq fullShare V ∗ owns (c : Thread nD τ) mi fullShare I ∗ owns (c : Thread nD τ) mw q' Wg ∗ R))
    ⊢ Prep c mt me' mg mq mi mw qt q' T M G V I Wg R := by
  unfold Prep
  iintro ⟨He, Ht, Hg⟩
  isplitl [Ht]; · iexact Ht
  isplitl [He]; · iexact He
  iexact Hg
/-- Take the second table out of the prologue's buffers. -/
theorem prep_g (R : sProp 𝕄) : Prep c mt me' mg mq mi mw qt q' T M G V I Wg R ⊢ iprop(owns (c : Thread nD τ) mg q' G
    ∗ (owns (c : Thread nD τ) mt qt T ∗ owns (c : Thread nD τ) me' q' M
    ∗ owns (c : Thread nD τ) mq fullShare V ∗ owns (c : Thread nD τ) mi fullShare I ∗ owns (c : Thread nD τ) mw q' Wg ∗ R)) := by
  unfold Prep
  iintro ⟨Ht, He, Hg, Hq⟩
  isplitl [Hg]; · iexact Hg
  isplitl [Ht]; · iexact Ht
  isplitl [He]; · iexact He
  iexact Hq
/-- Give the second table back. -/
theorem prep_g' (R : sProp 𝕄) : iprop(owns (c : Thread nD τ) mg q' G
    ∗ (owns (c : Thread nD τ) mt qt T ∗ owns (c : Thread nD τ) me' q' M
    ∗ owns (c : Thread nD τ) mq fullShare V ∗ owns (c : Thread nD τ) mi fullShare I ∗ owns (c : Thread nD τ) mw q' Wg ∗ R))
    ⊢ Prep c mt me' mg mq mi mw qt q' T M G V I Wg R := by
  unfold Prep
  iintro ⟨Hg, Ht, He, Hq⟩
  isplitl [Ht]; · iexact Ht
  isplitl [He]; · iexact He
  isplitl [Hg]; · iexact Hg
  iexact Hq
/-- Take the query rows out of the prologue's buffers. -/
theorem prep_q (R : sProp 𝕄) (V : (⟨2, ![8, 128]⟩ : Shape).Idx → F .f32) : Prep c mt me' mg mq mi mw qt q' T M G V I Wg R ⊢ iprop(owns (c : Thread nD τ) mq fullShare V
    ∗ (owns (c : Thread nD τ) mt qt T ∗ owns (c : Thread nD τ) me' q' M ∗ owns (c : Thread nD τ) mg q' G
    ∗ owns (c : Thread nD τ) mi fullShare I ∗ owns (c : Thread nD τ) mw q' Wg ∗ R)) := by
  unfold Prep
  iintro ⟨Ht, He, Hg, Hq, Hi⟩
  isplitl [Hq]; · iexact Hq
  isplitl [Ht]; · iexact Ht
  isplitl [He]; · iexact He
  isplitl [Hg]; · iexact Hg
  iexact Hi
/-- Give the query rows back. -/
theorem prep_q' (R : sProp 𝕄) (V : (⟨2, ![8, 128]⟩ : Shape).Idx → F .f32) : iprop(owns (c : Thread nD τ) mq fullShare V
    ∗ (owns (c : Thread nD τ) mt qt T ∗ owns (c : Thread nD τ) me' q' M ∗ owns (c : Thread nD τ) mg q' G
    ∗ owns (c : Thread nD τ) mi fullShare I ∗ owns (c : Thread nD τ) mw q' Wg ∗ R))
    ⊢ Prep c mt me' mg mq mi mw qt q' T M G V I Wg R := by
  unfold Prep
  iintro ⟨Hq, Ht, He, Hg, Hi⟩
  isplitl [Ht]; · iexact Ht
  isplitl [He]; · iexact He
  isplitl [Hg]; · iexact Hg
  isplitl [Hq]; · iexact Hq
  iexact Hi
/-- Take the masked rows out of the prologue's buffers. -/
theorem prep_i (R : sProp 𝕄) (I : (⟨2, ![8, 128]⟩ : Shape).Idx → F .f32) : Prep c mt me' mg mq mi mw qt q' T M G V I Wg R ⊢ iprop(owns (c : Thread nD τ) mi fullShare I
    ∗ (owns (c : Thread nD τ) mt qt T ∗ owns (c : Thread nD τ) me' q' M ∗ owns (c : Thread nD τ) mg q' G
    ∗ owns (c : Thread nD τ) mq fullShare V ∗ owns (c : Thread nD τ) mw q' Wg ∗ R)) := by
  unfold Prep
  iintro ⟨Ht, He, Hg, Hq, Hi, Hw⟩
  isplitl [Hi]; · iexact Hi
  isplitl [Ht]; · iexact Ht
  isplitl [He]; · iexact He
  isplitl [Hg]; · iexact Hg
  isplitl [Hq]; · iexact Hq
  iexact Hw
/-- Give the masked rows back. -/
theorem prep_i' (R : sProp 𝕄) (I : (⟨2, ![8, 128]⟩ : Shape).Idx → F .f32) : iprop(owns (c : Thread nD τ) mi fullShare I
    ∗ (owns (c : Thread nD τ) mt qt T ∗ owns (c : Thread nD τ) me' q' M ∗ owns (c : Thread nD τ) mg q' G
    ∗ owns (c : Thread nD τ) mq fullShare V ∗ owns (c : Thread nD τ) mw q' Wg ∗ R))
    ⊢ Prep c mt me' mg mq mi mw qt q' T M G V I Wg R := by
  unfold Prep
  iintro ⟨Hi, Ht, He, Hg, Hq, Hw⟩
  isplitl [Ht]; · iexact Ht
  isplitl [He]; · iexact He
  isplitl [Hg]; · iexact Hg
  isplitl [Hq]; · iexact Hq
  isplitl [Hi]; · iexact Hi
  iexact Hw
/-- Take the gate's weights out of the prologue's buffers. -/
theorem prep_w (R : sProp 𝕄) : Prep c mt me' mg mq mi mw qt q' T M G V I Wg R ⊢ iprop(owns (c : Thread nD τ) mw q' Wg
    ∗ (owns (c : Thread nD τ) mt qt T ∗ owns (c : Thread nD τ) me' q' M ∗ owns (c : Thread nD τ) mg q' G
    ∗ owns (c : Thread nD τ) mq fullShare V ∗ owns (c : Thread nD τ) mi fullShare I ∗ R)) := by
  unfold Prep
  iintro ⟨Ht, He, Hg, Hq, Hi, Hw, HR⟩
  isplitl [Hw]; · iexact Hw
  isplitl [Ht]; · iexact Ht
  isplitl [He]; · iexact He
  isplitl [Hg]; · iexact Hg
  isplitl [Hq]; · iexact Hq
  isplitl [Hi]; · iexact Hi
  iexact HR
/-- Give the gate's weights back. -/
theorem prep_w' (R : sProp 𝕄) : iprop(owns (c : Thread nD τ) mw q' Wg
    ∗ (owns (c : Thread nD τ) mt qt T ∗ owns (c : Thread nD τ) me' q' M ∗ owns (c : Thread nD τ) mg q' G
    ∗ owns (c : Thread nD τ) mq fullShare V ∗ owns (c : Thread nD τ) mi fullShare I ∗ R))
    ⊢ Prep c mt me' mg mq mi mw qt q' T M G V I Wg R := by
  unfold Prep
  iintro ⟨Hw, Ht, He, Hg, Hq, Hi, HR⟩
  isplitl [Ht]; · iexact Ht
  isplitl [He]; · iexact He
  isplitl [Hg]; · iexact Hg
  isplitl [Hq]; · iexact Hq
  isplitl [Hi]; · iexact Hi
  isplitl [Hw]; · iexact Hw
  iexact HR

/-- The query row's embedding. -/
def queryEmb (T : (⟨1, ![256]⟩ : Shape).Idx → BitVec 32) (M : (⟨3, ![100000, 1, 128]⟩ : Shape).Idx → F .f32) (base : ℕ) (p : ℕ) (l : Fin 128) : F .f32 :=
  tableRow M (queryWord T (base + p)).toNat l
/-- The query row's inverse document frequency, spread over a row by `mk`. -/
def queryIdf (mk : BitVec 32 → (Fin 128 → F .f32) → Fin 128 → F .f32) (T : (⟨1, ![256]⟩ : Shape).Idx → BitVec 32) (G : (⟨3, ![782, 1, 128]⟩ : Shape).Idx → F .f32)
    (base : ℕ) (p : ℕ) (l : Fin 128) : F .f32 :=
  mk (queryWord T (base + p)) (tableRow G (Scalar.shrsi (queryWord T (base + p)) 7#32).toNat) l

/-- One query: read its word, take it to be in range, keep its embedding and its row of the other table. -/
theorem wp_query {R : sProp 𝕄} {Q : α → sProp 𝕄} {base n u : ℕ} {mk : BitVec 32 → (Fin 128 → F .f32) → Fin 128 → F .f32}
    {od : Fin 1 → ℕ} {id : ∀ a, od a + ![1] a ≤ (⟨1, ![256]⟩ : Shape).size a}
    {hlt : mt.view.LoadsAt (Rect.unit (s := ⟨1, ![256]⟩) od ![1] id).toLoadRect}
    {C : QueryAt F → Prop} {dec : ∀ f, Decidable (C f)} {O O' : QueryAt F → Fin 3 → ℕ}
    {ie : ∀ f, PLift (C f) → ∀ a, O f a + ![1, 1, 128] a ≤ (⟨3, ![100000, 1, 128]⟩ : Shape).size a}
    {hle : ∀ f h, me'.view.LoadsAt (Rect.unit (s := ⟨3, ![100000, 1, 128]⟩) (O f) ![1, 1, 128] (ie f h)).toLoadRect}
    {ig : ∀ f, PLift (C f) → ∀ a, O' f a + ![1, 1, 128] a ≤ (⟨3, ![782, 1, 128]⟩ : Shape).size a}
    {hlg : ∀ f h, mg.view.LoadsAt (Rect.unit (s := ⟨3, ![782, 1, 128]⟩) (O' f) ![1, 1, 128] (ig f h)).toLoadRect}
    {it it' : ∀ a, ![u, 0] a + ![1, 128] a ≤ (⟨2, ![8, 128]⟩ : Shape).size a}
    {hlq : mq.view.LoadsAt (Rect.unit (s := ⟨2, ![8, 128]⟩) ![u, 0] ![1, 128] it).toLoadRect}
    {hxq : (mq.access (Rect.unit (s := ⟨2, ![8, 128]⟩) ![u, 0] ![1, 128] it)).Stores Finset.univ}
    {hmq : (Finset.univ : Finset (Rect.unit (s := ⟨2, ![8, 128]⟩) ![u, 0] ![1, 128] it).shape.Idx) = Finset.univ
      ∨ ∀ a, (Rect.unit (s := ⟨2, ![8, 128]⟩) ![u, 0] ![1, 128] it).stride a = 1}
    {hli : mi.view.LoadsAt (Rect.unit (s := ⟨2, ![8, 128]⟩) ![u, 0] ![1, 128] it').toLoadRect}
    {hxi : (mi.access (Rect.unit (s := ⟨2, ![8, 128]⟩) ![u, 0] ![1, 128] it')).Stores Finset.univ}
    {hmi : (Finset.univ : Finset (Rect.unit (s := ⟨2, ![8, 128]⟩) ![u, 0] ![1, 128] it').shape.Idx) = Finset.univ
      ∨ ∀ a, (Rect.unit (s := ⟨2, ![8, 128]⟩) ![u, 0] ![1, 128] it').stride a = 1}
    {W : QueryAt F → TableRowAt F → RowAt F → RowAt F} {W' : QueryAt F → TableRowAt F → RowAt F → TableRowAt F → RowAt F → RowAt F}
    {K : QueryAt F → TableRowAt F → RowAt F → TableRowAt F → RowAt F → PUnit → Prog (TpuEff nD τ sig (Elt F) Λ .tc) α}
    (hT : ∀ i, (T i).toNat < 100000) (hn : n = u) (hod : od = ![base + u])
    (hC : ∀ f, (∀ i, (f i).toNat < 100000) → C f)
    (hO : ∀ f : QueryAt F, O f = ![(f (Shape.Idx.first one_pos')).toNat, 0, 0])
    (hO' : ∀ f : QueryAt F, O' f = ![(Scalar.shrsi (f (Shape.Idx.first one_pos')) 7#32).toNat, 0, 0])
    (hW : ∀ f v w, W f v w = fun j => v (ix3 0 0 (j 1)))
    (hW' : ∀ f v w g w', W' f v w g w' = fun j => mk (f (Shape.Idx.first one_pos')) (fun l => g (ix3 0 0 l)) (j 1))
    (h : ∀ f v w g w', Prep c mt me' mg mq mi mw qt q' T M G (queryTo (queryEmb T M base) (u + 1) V) (queryTo (queryIdf mk T G base) (u + 1) I) Wg R
      ⊢ wp frame (wpE defs 𝒱 (c : Thread nD τ) bd) E (K f v w g w' ⟨⟩) Q) :
    Prep c mt me' mg mq mi mw qt q' T M G (queryTo (queryEmb T M base) n V) (queryTo (queryIdf mk T G base) n I) Wg R
      ⊢ wp frame (wpE defs 𝒱 (c : Thread nD τ) bd) E
      (.op (.load mt (Rect.unit (s := ⟨1, ![256]⟩) od ![1] id).toLoadRect hlt) fun (f : QueryAt F) =>
        .op (.assume (C f) (dec f)) fun hf =>
        .op (.load me' (Rect.unit (s := ⟨3, ![100000, 1, 128]⟩) (O f) ![1, 1, 128] (ie f hf)).toLoadRect (hle f hf)) fun (v : TableRowAt F) =>
        .op (.load mq (Rect.unit (s := ⟨2, ![8, 128]⟩) ![u, 0] ![1, 128] it).toLoadRect hlq) fun (w : RowAt F) =>
        .op (.store mq (Rect.unit (s := ⟨2, ![8, 128]⟩) ![u, 0] ![1, 128] it) (W f v w) Finset.univ hxq hmq) fun _ =>
        .op (.load mg (Rect.unit (s := ⟨3, ![782, 1, 128]⟩) (O' f) ![1, 1, 128] (ig f hf)).toLoadRect (hlg f hf)) fun (g : TableRowAt F) =>
        .op (.load mi (Rect.unit (s := ⟨2, ![8, 128]⟩) ![u, 0] ![1, 128] it').toLoadRect hli) fun (w' : RowAt F) =>
        .op (.store mi (Rect.unit (s := ⟨2, ![8, 128]⟩) ![u, 0] ![1, 128] it') (W' f v w g w') Finset.univ hxi hmi) (K f v w g w')) Q := by
  subst hn hod
  have hb : base + n < 256 := by have h1 : base + n + 1 ≤ 256 := id 0; omega
  have hx₀ : Shape.Idx.first one_pos' = ix1 (0 : Fin 1) := by
    funext a
    match a with
    | ⟨0, _⟩ => rfl
  have e1 : (Rect.unit (s := ⟨1, ![256]⟩) ![base + n] ![1] id).emb (Shape.Idx.first one_pos') = ix1 ⟨(base + n) % 256, Nat.mod_lt _ (by decide)⟩ := by
    rw [hx₀]
    funext a; apply Fin.ext
    match a with
    | ⟨0, _⟩ => show base + n + 1 * 0 = (base + n) % 256; rw [Nat.mod_eq_of_lt hb]; rfl
  have hf : T ((Rect.unit (s := ⟨1, ![256]⟩) ![base + n] ![1] id).emb (Shape.Idx.first one_pos')) = queryWord T (base + n) := congrArg T e1
  refine wp_get (prep_t R) (prep_t R) ?_
  refine wp_take (hC _ fun i => hT _) fun hc => ?_
  refine wp_get (prep_e R) (prep_e' R) ?_
  refine wp_get (prep_q R _) (prep_q' R _) ?_
  refine wp_set (S' := Prep c mt me' mg mq mi mw qt q' T M G (queryTo (queryEmb T M base) (n + 1) V) (queryTo (queryIdf mk T G base) n I) Wg R)
    (prep_q R _) (.trans ?_ (prep_q' R (queryTo (queryEmb T M base) (n + 1) V))) ?_
  · rw [queryTo_succ]
    intro l
    rw [hW]
    show M _ = M _
    congr 1
    funext a; apply Fin.ext
    have hv : (queryWord T (base + n)).toNat < 100000 := hT (ix1 ⟨(base + n) % 256, Nat.mod_lt _ (by decide)⟩)
    refine (congrArg (· + _) (congrFun (hO _) a)).trans ?_
    match a with
    | ⟨0, _⟩ =>
      show (T _).toNat + 1 * 0 = (queryWord T (base + n)).toNat % 100000
      rw [hf, Nat.mod_eq_of_lt hv]; rfl
    | ⟨1, _⟩ => rfl
    | ⟨2, _⟩ => show 0 + 1 * l.val = l.val; omega
  refine wp_get (prep_g R) (prep_g' R) ?_
  refine wp_get (prep_i R _) (prep_i' R _) ?_
  refine wp_set (prep_i R _) (.trans ?_ (prep_i' R (queryTo (queryIdf mk T G base) (n + 1) I))) (h _ _ _ _ _)
  · rw [queryTo_succ]
    intro l
    rw [hW']
    show mk (T _) _ l = mk _ _ l
    rw [hf]
    congr 1
    funext l
    show G _ = G _
    congr 1
    funext a; apply Fin.ext
    have hi0 := ig _ hc 0
    rw [hO'] at hi0
    have hi1 : (Scalar.shrsi (T ((Rect.unit (s := ⟨1, ![256]⟩) ![base + n] ![1] id).emb (Shape.Idx.first one_pos'))) 7#32).toNat + 1 ≤ 782 := hi0
    refine (congrArg (· + _) (congrFun (hO' _) a)).trans ?_
    match a with
    | ⟨0, _⟩ =>
      show (Scalar.shrsi (T _) 7#32).toNat + 1 * 0 = (Scalar.shrsi (queryWord T (base + n)) 7#32).toNat % 782
      rw [hf] at hi1 ⊢
      rw [Nat.mod_eq_of_lt (by omega)]; rfl
    | ⟨1, _⟩ => rfl
    | ⟨2, _⟩ => show 0 + 1 * l.val = l.val; omega

/-- No query row is in place yet. -/
theorem prep_zero {R P : sProp 𝕄} (f g : ℕ → Fin 128 → F .f32)
    (h : Prep c mt me' mg mq mi mw qt q' T M G (queryTo f 0 V) (queryTo g 0 I) Wg R ⊢ P) : Prep c mt me' mg mq mi mw qt q' T M G V I Wg R ⊢ P := by
  rwa [queryTo_zero, queryTo_zero] at h

end
end Rules

/-- A row of the second table. -/
theorem idf_inb (v : BitVec 32) (h : v.toNat < 100000) :
    ∀ a, ![(Scalar.shrsi v 7#32).toNat, 0, 0] a + ![1, 1, 128] a ≤ ![782, 1, 128] a := by
  have hs : (Scalar.shrsi v 7#32).toNat = v.toNat / 128 := by
    have hm : v.msb = false := by rw [BitVec.msb_eq_decide]; simp; omega
    show (v.sshiftRight' 7#32).toNat = _
    rw [BitVec.sshiftRight', BitVec.toNat_sshiftRight_of_msb_false hm]
    exact Nat.shiftRight_eq_div_pow _ _
  intro a
  match a with
  | ⟨0, _⟩ => show (Scalar.shrsi v 7#32).toNat + 1 ≤ 782; rw [hs]; omega
  | ⟨1, _⟩ => exact Nat.le_refl 1
  | ⟨2, _⟩ => exact Nat.le_refl 128

/-- The table entry of query `p` of batch `b`. -/
theorem off_query (b : ℕ) (hb : b < 32) (p : ℕ) (hp : p < 8) :
    ![(Scalar.indexCast (Scalar.addi (Scalar.muli (BitVec.ofNat 32 b) 8#32) (BitVec.ofNat 32 p))).toNat] = ![b * 8 + p] := by
  have : (Scalar.indexCast (Scalar.addi (Scalar.muli (BitVec.ofNat 32 b) 8#32) (BitVec.ofNat 32 p))).toNat = b * 8 + p := by
    simp only [Scalar.indexCast, Scalar.addi, Scalar.muli, IntOp.addi, IntOp.muli, BitVec.toNat_add, BitVec.toNat_mul, BitVec.toNat_ofNat]
    omega
  rw [this]

/-- The first shape cast of a gathered row. -/
theorem row_cast₁ {β : Type} (h1 : (⟨3, ![1, 1, 128]⟩ : Shape).ShapeCasts ⟨2, ![1, 128]⟩) (v : (⟨3, ![1, 1, 128]⟩ : Shape).Idx → β) :
    shapeCast ⟨2, ![1, 128]⟩ v h1 = fun j => v (ix3 0 0 (j 1)) := by
  funext j
  obtain ⟨x, y, rfl⟩ : ∃ (x : Fin 1) (y : Fin 128), j = ix2 x y := ⟨j 0, j 1, eq_ix2 j⟩
  refine shapeCast_apply v h1 _ (ix3 (0 : Fin 1) (0 : Fin 1) y) ?_
  rw [Shape.rowMajor_val_two, Shape.rowMajor_val_three]
  show (0 * 1 + 0) * 128 + y.val = x.val * 128 + y.val
  omega

end Drmm
end
-- ==== Proof.Copy.lean ====
module

public import proofs.«01_k».proof.Proof.Rows
public import Idealize.ShloMosaic.Lib.Transfers
public import Idealize.ShloMosaic.Lib.VecWindow

@[expose] public section

noncomputable section

namespace Drmm

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws

section Rules
variable {nD : Nat} {τ : Topo} {sig : RefSig} {Ix : Type} [DecidableEq Ix]
variable {Val : EltTy → Type} {Name : Type} [DecidableEq Name] [Infinite Name]
variable {U : Type} [URA U]
variable {Lvl : Type} [Preorder Lvl] {Λ : Labels} {α : Type}
local notation "𝕄" => MT nD τ sig Ix Val Name U Lvl

variable (EC : UEmb Counters (MT nD τ sig Ix Val Name U Lvl))
variable {defs : Defs nD τ sig Val Λ} {𝒱 : Variants} {c : Dev nD} {bd : Option 𝒱.V}
variable {cs cs' : CoreSpace} {s₀ s : Shape} {e : EltTy}

/-- Reading a whole memref, an owned part of a state. -/
theorem wp_whole {E : Set Name} {m : Memref sig .tc cs s e} {off : Fin s.rank → ℕ}
    {i : ∀ a, off a + s.size a ≤ s.size a} {hl : m.view.LoadsAt (Rect.unit (s := s) off s.size i).toLoadRect}
    {k : (s.Idx → Val e) → Prog (TpuEff nD τ sig Val Λ .tc) α} {p : PosShare TreeShare} {X : s.Idx → Val e}
    {S R' : sProp 𝕄} {Q : α → sProp 𝕄}
    (hS : S ⊢ iprop(owns (c : Thread nD τ) m p X ∗ R')) (hS' : iprop(owns (c : Thread nD τ) m p X ∗ R') ⊢ S)
    (h : S ⊢ wp frame (wpE defs 𝒱 (c : Thread nD τ) bd) E (k X) Q) :
    S ⊢ wp frame (wpE defs 𝒱 (c : Thread nD τ) bd) E (.op (.load m (Rect.unit (s := s) off s.size i).toLoadRect hl) k) Q := by
  refine hS.trans (wp_load_owns 𝒱 c bd E (hS'.trans ?_))
  rw [show (fun j => X ((Rect.unit (s := s) off s.size i).emb j)) = X from funext fun j => congrArg X (Rect.emb_unit_full i j)]
  exact h

/-- Replacing the whole leaves what it was replaced by. -/
theorem overlay_whole {off : Fin s.rank → ℕ} (i : ∀ a, off a + s.size a ≤ s.size a) (X : s.Idx → Val e)
    (w : (Rect.unit (s := s) off s.size i).shape.Idx → Val e) : (Rect.unit (s := s) off s.size i).overlay X w = w := by
  funext j
  have h := Rect.overlay_emb (Rect.unit (s := s) off s.size i) X w j
  rwa [Rect.emb_unit_full] at h

/-- Storing a whole memref, the head of a list of owned ones, after a load of it that is not used. -/
theorem wp_last {E : Set Name} {m : Memref sig .tc cs s e} {off off' : Fin s.rank → ℕ}
    {i : ∀ a, off a + s.size a ≤ s.size a} {hl : m.view.LoadsAt (Rect.unit (s := s) off s.size i).toLoadRect}
    {i' : ∀ a, off' a + s.size a ≤ s.size a} {w : (s.Idx → Val e) → s.Idx → Val e}
    {hx : (m.access (Rect.unit (s := s) off' s.size i')).Stores Finset.univ}
    {hm : (Finset.univ : Finset (Rect.unit (s := s) off' s.size i').shape.Idx) = Finset.univ ∨ ∀ a, (Rect.unit (s := s) off' s.size i').stride a = 1}
    {k : (s.Idx → Val e) → PUnit → Prog (TpuEff nD τ sig Val Λ .tc) α} {X : s.Idx → Val e} {R Dn : sProp 𝕄} {Q : α → sProp 𝕄}
    (h : ∀ x, iprop((owns (c : Thread nD τ) m fullShare (w x) ∗ R) ∗ Dn) ⊢ wp frame (wpE defs 𝒱 (c : Thread nD τ) bd) E (k x ⟨⟩) Q) :
    iprop((owns (c : Thread nD τ) m fullShare X ∗ R) ∗ Dn) ⊢ wp frame (wpE defs 𝒱 (c : Thread nD τ) bd) E
      (.op (.load m (Rect.unit (s := s) off s.size i).toLoadRect hl) fun x : s.Idx → Val e =>
        .op (.store m (Rect.unit (s := s) off' s.size i') (w x) Finset.univ hx hm) (k x)) Q := by
  refine .trans (Q := iprop(owns (c : Thread nD τ) m fullShare X ∗ (R ∗ Dn))) ?_ (wp_load_owns 𝒱 c bd E (wp_store_owns 𝒱 c bd E ?_))
  · iintro ⟨⟨Hm, HR⟩, HD⟩
    isplitl [Hm]; · iexact Hm
    isplitl [HR]; · iexact HR
    iexact HD
  · refine .trans ?_ (h _)
    rw [overlay_whole]
    iintro ⟨Hm, HR, HD⟩
    isplitl [Hm HR]
    · isplitl [Hm]; · iexact Hm
      iexact HR
    · iexact HD

/-- Issuing a copy of a whole memref, of which some axes of extent one are dropped: what is held of it until it is waited for gives the
    destination at the source's contents, and the source back. -/
theorem wp_copy [EC.LandsIn (upEmb : UEmb _ 𝕄)] {m : Memref sig .tc cs s₀ e} {dst : Memref sig .tc cs' s e} {off : Fin s₀.rank → ℕ}
    {i : ∀ a, off a + s₀.size a ≤ s₀.size a} {h1 : ∀ a, (Rect.unit (s := s₀) off s₀.size i).stride a = 1}
    {hq : (Rect.unit (s := s₀) off s₀.size i).shape.Squeezes s} {sm : SemLoc sig}
    {hsrc : (((m.slice (Rect.unit (s := s₀) off s₀.size i) h1).squeeze s hq).view).WordExact} {hdst : dst.view.WordExact}
    {hsem : DmaTarget.Typed (nD := nD) (τ := τ) (p := Proc.tc) cs sm (.here dst)}
    {k : PUnit → Prog (TpuEff nD τ sig Val Λ .tc) α} {p : PosShare TreeShare} {X : s₀.Idx → Val e} {Y : s.Idx → Val e}
    {R : sProp 𝕄} {Q : α → sProp 𝕄} (ι : Ix) (N : ℕ) (hN : dst.view.amount sm = N) (hN0 : 0 < N)
    (h : iprop(Transfers.Flight EC (c : Thread nD τ) sm ι N iprop(owns (c : Thread nD τ) dst fullShare (fun y => X (Shape.reshapeEquiv hq.numel_eq y))
        ∗ owns (c : Thread nD τ) m p X) ∗ R) ⊢ wp frame (wpE defs 𝒱 (c : Thread nD τ) bd) Set.univ (k ⟨⟩) Q) :
    iprop(owns (c : Thread nD τ) m p X ∗ owns (c : Thread nD τ) dst fullShare Y ∗ semVal ((c : Thread nD τ), sm) 0 ∗ R)
      ⊢ wp frame (wpE defs 𝒱 (c : Thread nD τ) bd) Set.univ
        (.op (.enqueueDma ((m.slice (Rect.unit (s := s₀) off s₀.size i) h1).squeeze s hq) (.here dst) sm hsrc hdst hsem) k) Q := by
  have hset : ((m.slice (Rect.unit (s := s₀) off s₀.size i) h1).squeeze s hq).view.set = m.view.set := by
    refine (View.set_reshape _ hq.numel_eq).trans ((View.set_slice m.view (Rect.unit (s := s₀) off s₀.size i)).trans ?_)
    rw [show (Rect.unit (s := s₀) off s₀.size i).set = Finset.univ from Finset.eq_univ_iff_forall.mpr fun j => by
      rw [← Rect.map_emb_univ]
      exact Finset.mem_map.mpr ⟨j, Finset.mem_univ _, Rect.emb_unit_full i j⟩]
    rfl
  refine (show iprop(owns (c : Thread nD τ) m p X ∗ owns (c : Thread nD τ) dst fullShare Y ∗ semVal ((c : Thread nD τ), sm) 0 ∗ R)
    ⊢ iprop((∃ f, ⌜m.view.read Val f = X⌝ ∗ (m.view.loc (c : Thread nD τ) ↦[m.view.set]{p} f))
      ∗ (∃ f, ⌜dst.view.read Val f = Y⌝ ∗ (dst.view.loc (c : Thread nD τ) ↦[dst.view.set]{fullShare} f)) ∗ semVal ((c : Thread nD τ), sm) 0 ∗ R) from .rfl).trans ?_
  iintro ⟨⟨%f, %hf, Hm⟩, ⟨%g, %hg, Hd⟩, Hs, HR⟩
  subst hf
  iapply (Transfers.wp_dmaLocal EC 𝒱 (c : Thread nD τ) bd (src := (m.slice (Rect.unit (s := s₀) off s₀.size i) h1).squeeze s hq)
    (dst := dst) (via := .same) (q := p) (fs := f) (Sd := dst.view.set) (fd := g) ι N hN hN0 (Finset.Subset.refl _)) $$ [Hm Hd Hs]
  · isplitl [Hm]
    · rw [hset]; iexact Hm
    isplitl [Hd]; · iexact Hd
    iexact Hs
  iintro HF
  iapply h
  isplitl [HF]
  · iapply (Transfers.Flight_mono EC (c : Thread nD τ) (D' := iprop(owns (c : Thread nD τ) dst fullShare (fun y => m.view.read Val f (Shape.reshapeEquiv hq.numel_eq y))
        ∗ owns (c : Thread nD τ) m p (m.view.read Val f))) ?_) $$ HF
    iintro ⟨Hd, Hm⟩
    isplitl [Hd]
    · iapply (show iprop(∃ f', ⌜dst.view.read Val f' = fun y => m.view.read Val f (Shape.reshapeEquiv hq.numel_eq y)⌝
        ∗ (dst.view.loc (c : Thread nD τ) ↦[dst.view.set]{fullShare} f')) ⊢ owns (c : Thread nD τ) dst fullShare (fun y => m.view.read Val f (Shape.reshapeEquiv hq.numel_eq y)) from .rfl)
      iexists (dst.view.write Val g (ReadAs.same.apply (((m.slice (Rect.unit (s := s₀) off s₀.size i) h1).squeeze s hq).view.read Val f)) Finset.univ)
      isplitr
      · ipureintro
        refine (View.read_write_univ _ _).trans ?_
        exact Memref.read_squeeze_full m i hq f
      · iexact Hd
    · rw [hset]
      iapply (show (m.view.loc (c : Thread nD τ) ↦[m.view.set]{p} f) ⊢ owns (c : Thread nD τ) m p (m.view.read Val f) from owns_intro (c : Thread nD τ) m p f) $$ Hm
  · iexact HR

/-- Waiting for a copy: what it delivers, the semaphore at zero again, and the wait recorded. -/
theorem wp_copied [EC.LandsIn (upEmb : UEmb _ 𝕄)] {s' : Shape} {e' : EltTy} {cs'' : Space} {sem : DmaSem sig}
    {src : Memref sig .tc cs'' s' e'} {dst : Memref sig .tc cs' s e} {hsrc : src.view.WordExact} {hdst : dst.view.WordExact}
    {k : PUnit → Prog (TpuEff nD τ sig Val Λ .tc) α} {D R : sProp 𝕄} {W : Waits sig Ix} {Q : α → sProp 𝕄}
    (ι : Ix) (N : ℕ) (hN : dst.view.dmaCredit = N)
    (h : iprop(D ∗ semVal ((c : Thread nD τ), .dma sem) 0 ∗ owes (c : Thread nD τ) 0 (insert (SemLoc.dma sem, ι) W) ∗ R)
      ⊢ wp frame (wpE defs 𝒱 (c : Thread nD τ) bd) Set.univ (k ⟨⟩) Q) :
    iprop(Transfers.Flight EC (c : Thread nD τ) (.dma sem) ι N D ∗ owes (c : Thread nD τ) 0 W ∗ R)
      ⊢ wp frame (wpE defs 𝒱 (c : Thread nD τ) bd) Set.univ (.op (.waitDma2 sem src dst hsrc hdst) k) Q := by
  iintro ⟨HF, HO, HR⟩
  iapply (Transfers.wp_waitLocal EC 𝒱 (c : Thread nD τ) bd ι hN) $$ [HF HO]
  · isplitl [HF] <;> iassumption
  iintro ⟨HD, Hs, HO⟩
  iapply h
  isplitl [HD]; · iexact HD
  isplitl [Hs]; · iexact Hs
  isplitl [HO] <;> iassumption

end Rules
end Drmm
end
-- ==== Proof.Held.lean ====
module

public import Idealize.ShloMosaic.Lib.Pipeline.Frame
public import Idealize.ShloMosaic.Lib.Pipeline.ValueKit

@[expose] public section

noncomputable section

namespace Drmm

open Idealize.ShloMosaic Idealize.ShloMosaic.TcCoe
open Idealize.ShloMosaic.Pipeline (Cfg Window heldIn)

variable {τ : Topo} {nD : ℕ} {sig : RefSig} {Λ₀ : Idealize.SL.Sem.Labels} {Val : EltTy → Type} [∀ e, Nonempty (Val e)] {c : Dev nD}

/-- A window only read holds `X` at every point, if `X` is the block at each point that fetches and does not change
    at the others. -/
theorem heldIn_eq (cfg : Cfg sig Λ₀) (A : (w : Fin cfg.W) → Buf Val ((cfg.win w).arr.view.loc (c.tc : Thread nD τ))) (w : Fin cfg.W)
    (X : (n : ℕ) → n < cfg.N → (cfg.win w).block.Idx → Val (cfg.win w).elt)
    (hX : ∀ (n : ℕ) (h : n < cfg.N), (cfg.win w).fetch ⟨n, h⟩ = true →
      (cfg.win w).fill (cfg.grid.coords ⟨n, h⟩) (fun _ => Classical.arbitrary _) (((cfg.win w).blk ⟨n, h⟩).view.read Val (A w)) = X n h)
    (hk : ∀ (n : ℕ) (h : n + 1 < cfg.N), (cfg.win w).fetch ⟨n + 1, h⟩ = false → X (n + 1) h = X n (Nat.lt_of_succ_lt h))
    (hw : (cfg.win w).isOut = false) :
    ∀ (n : ℕ) (h : n < cfg.N), heldIn cfg A w n h = X n h
  | 0, h => (Pipeline.heldIn_of_fetch A w ⟨0, h⟩ (((cfg.win w).fetch_in hw _).2 (.inl rfl))).trans
      (hX 0 h (((cfg.win w).fetch_in hw _).2 (.inl rfl)))
  | n + 1, h => by
    by_cases hf : (cfg.win w).fetch ⟨n + 1, h⟩ = true
    · exact (Pipeline.heldIn_of_fetch A w ⟨n + 1, h⟩ hf).trans (hX _ h hf)
    · have hf' := Bool.eq_false_iff.mpr hf
      rw [Pipeline.heldIn_of_not_fetch A w n h hf', heldIn_eq cfg A w X hX hk hw n _, hk n h hf']

/-- A block of a whole array at block index zero on every axis lies where the array's own index lies. -/
theorem whole_idx {n : ℕ} {d : Fin n → ℕ} (off size : Fin n → ℕ) (hoff : ∀ a, off a = 0) {i j : (a : Fin n) → Fin (d a)}
    (h : ∀ a, (i a).val = off a * size a + 1 * (j a).val) : i = j :=
  funext fun a => Fin.ext (by rw [h a, hoff a, Nat.zero_mul, Nat.zero_add, Nat.one_mul])

end Drmm

end
-- ==== Proof.I.Base.lean ====
module

public import proofs.«01_k».proof.KernelIdeal
public import proofs.«01_k».proof.Proof.Steps

@[expose] public section

noncomputable section

namespace Drmm.I

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Cert.KernelIdeal
open Facts Shapes1.Facts₀ Shapes2.Facts₀ K0.R1.Facts₀ K0.R2.Facts₀

variable {F : FTy → Type} [FloatOps F] [Facts]

/-- The float words of `0.0`, `1.0`, …, `29.0`: the bins' numbers. -/
def binWord (n : ℕ) : BitVec 32 :=
  [0x00000000#32, 0x3F800000#32, 0x40000000#32, 0x40400000#32, 0x40800000#32, 0x40A00000#32, 0x40C00000#32, 0x40E00000#32, 0x41000000#32, 0x41100000#32, 0x41200000#32, 0x41300000#32, 0x41400000#32, 0x41500000#32, 0x41600000#32, 0x41700000#32, 0x41800000#32, 0x41880000#32, 0x41900000#32, 0x41980000#32, 0x41A00000#32, 0x41A80000#32, 0x41B00000#32, 0x41B80000#32, 0x41C00000#32, 0x41C80000#32, 0x41D00000#32, 0x41D80000#32, 0x41E00000#32, 0x41E80000#32].getD n 0#32

/-- The bin, as a float, of every pair of a query term and a row of a tile: the cosine similarity, scaled to the bins, floored and clipped. -/
def binOf (qv : FVec F S8x128 .f32) (qn : FVec F S8x1 .f32) (T : FVec F S512x128 .f32) : FVec F S8x512 .f32 :=
  minimumf (broadcast S8x512 (Scalar.ofBits .f32 0x41E80000#32)) (maximumf (broadcast S8x512 (Scalar.ofBits .f32 0x00000000#32))
    (floor (mulf (divf (subf
      (divf (matmul dot_S8x128_S512x128_S8x512_1_1_0_0_n_n none qv T (constant S8x512 .f32 0x00000000#32))
        (addf (mulf (broadcastTo S8x512 qn broadcasts_S8x1_S8x512)
            (broadcastTo S8x512 (sqrt (shapeCast S1x512 (multiReduction .add [2] S4x128 (shapeCast S4x128x128 (mulf T T) shapeCasts_S512x128_S4x128x128)
              0x00000000#32 reduces_S4x128x128_S4x128 (.inl rfl) rfl) shapeCasts_S4x128_S1x512)) broadcasts_S1x512_S8x512))
          (broadcast S8x512 (Scalar.ofBits .f32 0x322BCC77#32))))
      (broadcast S8x512 (Scalar.ofBits .f32 0x3A83126F#32))) (broadcast S8x512 (Scalar.ofBits .f32 0x3F7FBE77#32)))
      (broadcast S8x512 (Scalar.ofBits .f32 0x41F00000#32)))))

/-- How many rows of the tile fall in bin `n`, for every query term: the bins equal to that number, counted as a sum of ones. -/
def countVec (b : FVec F S8x512 .f32) (n : ℕ) : FVec F S8 .f32 :=
  multiReduction .add [1] S8 (sitofp .f32 (extui 32 (cmpf .oeq b (broadcast S8x512 (Scalar.ofBits .f32 (binWord n)))) natLt_1_32))
    0x00000000#32 reduces_S8x512_S8 (.inl rfl) rfl

/-- `countVec` at one query term. -/
def countOf (b : FVec F S8x512 .f32) (p : Fin 8) (n : ℕ) : F .f32 := countVec b n (ix1 p)

/-- The counts of one document slot. -/
def slotCounts (qv : FVec F S8x128 .f32) (qn : FVec F S8x1 .f32) (D : S1x8192.Idx → BitVec 32) (M : S100000x1x128.Idx → F .f32) (base : ℕ) :
    Fin 8 → ℕ → F .f32 :=
  countOf (binOf qv qn (tileOf D M base))

end Drmm.I
end
-- ==== Proof.I.Values.lean ====
module

public import proofs.«01_k».proof.Proof.I.Base
public import proofs.«01_k».proof.Proof.Steps2

@[expose] public section

noncomputable section

namespace Drmm.I

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Cert.KernelIdeal
open Facts Shapes1.Facts₀ Shapes2.Facts₀ K0.R1.Facts₀ K0.R2.Facts₀

variable {F : FTy → Type} [FloatOps F] [Facts]

/-- The lane of a row that a word's low seven bits name, as ones and zeros. -/
def idfMask (w : BitVec 32) : FVec F S1x128 .f32 :=
  sitofp .f32 (extui 32 (cmpi .eq (iota .tc S1x128 32 [1] iota_S1x128_d1_w32) (broadcast S1x128 (Scalar.andi w 127#32))) natLt_1_32)

/-- A row of the second table with every lane but the one the word names put to zero. -/
def mkIdf (w : BitVec 32) (row : Fin 128 → F .f32) (l : Fin 128) : F .f32 := mulf (fun j : S1x128.Idx => row (j 1)) (idfMask w) (ix2 (0 : Fin 1) l)

/-- A row of the second table, masked to one lane, seen as one row. -/
theorem idf_cast (w : BitVec 32) (g : FVec F S1x1x128 .f32) (h : S1x1x128.ShapeCasts S1x128) (h' : S1x128.ShapeCasts S1x128) :
    shapeCast S1x128 (mulf (shapeCast S1x128 g h) (idfMask w)) h' = fun j => mkIdf w (fun l => g (ix3 (0 : Fin 1) (0 : Fin 1) l)) (j 1) := by
  rw [shapeCast_self, row_cast₁]
  funext j
  obtain ⟨x, y, rfl⟩ : ∃ (x : Fin 1) (y : Fin 128), j = ix2 x y := ⟨j 0, j 1, eq_ix2 j⟩
  obtain rfl : x = 0 := Subsingleton.elim _ _
  rfl

/-- The lengths of the query rows. -/
def normOf (V : FVec F S8x128 .f32) : FVec F S8x1 .f32 :=
  sqrt (shapeCast S8x1 (multiReduction .add [1] S8 (mulf V V) 0x00000000#32 reduces_S8x128_S8 (.inl rfl) rfl) shapeCasts_S8_S8x1)

/-- The gate's logits. -/
def logitOf (I : FVec F S8x128 .f32) (Wg : FVec F S8x1 .f32) : FVec F S8x1 .f32 :=
  mulf (shapeCast S8x1 Wg shapeCasts_S8x1_S8x1)
    (shapeCast S8x1 (multiReduction .add [1] S8 I 0x00000000#32 reduces_S8x128_S8 (.inl rfl) rfl) shapeCasts_S8_S8x1)

/-- Their exponentials, the greatest taken away first. -/
def expOf (z : FVec F S8x1 .f32) : FVec F S8x1 .f32 :=
  exp (subf z (broadcastTo S8x1 (shapeCast S1x1 (multiReduction .maximumf [0] S1 z 0xFF800000#32 reduces_S8x1_S1 (.inl rfl) rfl) shapeCasts_S1_S1x1) broadcasts_S1x1_S8x1))

/-- The gate: the logits' softmax over the eight queries. -/
def gateOf (I : FVec F S8x128 .f32) (Wg : FVec F S8x1 .f32) : FVec F S8x1 .f32 :=
  divf (expOf (logitOf I Wg)) (broadcastTo S8x1 (shapeCast S1x1
    (multiReduction .add [0] S1 (expOf (logitOf I Wg)) 0x00000000#32 reduces_S8x1_S1 (.inl rfl) rfl) shapeCasts_S1_S1x1) broadcasts_S1x1_S8x1)

/-- A batch normalisation at fixed statistics: scaled by a constant, then by one row, and another row added. -/
def normed {n : Shape} {r : Shape} (hr : r.Broadcasts n) (hc : r.ShapeCasts r) (g b : FVec F r .f32) (x : FVec F n .f32) : FVec F n .f32 :=
  addf (mulf (broadcastTo n (shapeCast r g hc) hr) (mulf x (broadcast n (Scalar.ofBits .f32 0x3F7FDF42#32)))) (broadcastTo n (shapeCast r b hc) hr)

/-- The four layers over the finished histogram. -/
def scoreOf (H : FVec F S128x30 .f32) (P6 P7 : FVec F S1x30 .f32) (P8 : FVec F S30x128 .f32) (P9 P10 P11 : FVec F S1x128 .f32)
    (P12 : FVec F S128x64 .f32) (P13 P14 P15 : FVec F S1x64 .f32) (P16 : FVec F S64x32 .f32) (P17 P18 P19 : FVec F S1x32 .f32)
    (P20 : FVec F S32x1 .f32) (P21 P22 P23 : FVec F S1x1 .f32) : FVec F S128x1 .f32 :=
  let x0 := normed broadcasts_S1x30_S128x30 shapeCasts_S1x30_S1x30 P6 P7 H
  let x1 := tanh (normed broadcasts_S1x128_S128x128 shapeCasts_S1x128_S1x128 P10 P11
    (addf (matmul dot_S128x30_S30x128_S128x128_1_0_0_1_n_n none x0 P8 (constant S128x128 .f32 0x00000000#32))
      (broadcastTo S128x128 (shapeCast S1x128 P9 shapeCasts_S1x128_S1x128) broadcasts_S1x128_S128x128)))
  let x2 := tanh (normed broadcasts_S1x64_S128x64 shapeCasts_S1x64_S1x64 P14 P15
    (addf (matmul dot_S128x128_S128x64_S128x64_1_0_0_1_n_n none x1 P12 (constant S128x64 .f32 0x00000000#32))
      (broadcastTo S128x64 (shapeCast S1x64 P13 shapeCasts_S1x64_S1x64) broadcasts_S1x64_S128x64)))
  let x3 := tanh (normed broadcasts_S1x32_S128x32 shapeCasts_S1x32_S1x32 P18 P19
    (addf (matmul dot_S128x64_S64x32_S128x32_1_0_0_1_n_n none x2 P16 (constant S128x32 .f32 0x00000000#32))
      (broadcastTo S128x32 (shapeCast S1x32 P17 shapeCasts_S1x32_S1x32) broadcasts_S1x32_S128x32)))
  tanh (normed broadcasts_S1x1_S128x1 shapeCasts_S1x1_S1x1 P22 P23
    (addf (matmul dot_S128x32_S32x1_S128x1_1_0_0_1_n_n none x3 P20 (constant S128x1 .f32 0x00000000#32))
      (broadcastTo S128x1 (shapeCast S1x1 P21 shapeCasts_S1x1_S1x1) broadcasts_S1x1_S128x1)))

/-- The scores of the sixteen documents: each query's score weighted by its gate, summed over the queries of a document. -/
def sumOf (s : FVec F S128x1 .f32) (gate : FVec F S8x1 .f32) : FVec F S1x16 .f32 :=
  matmul dot_S128x1_S128x16_S1x16_0_0_1_1_n_n none
    (mulf s (concatenate S128x1 0 [⟨S8x1, gate⟩, ⟨S8x1, gate⟩, ⟨S8x1, gate⟩, ⟨S8x1, gate⟩, ⟨S8x1, gate⟩, ⟨S8x1, gate⟩, ⟨S8x1, gate⟩, ⟨S8x1, gate⟩, ⟨S8x1, gate⟩, ⟨S8x1, gate⟩, ⟨S8x1, gate⟩, ⟨S8x1, gate⟩, ⟨S8x1, gate⟩, ⟨S8x1, gate⟩, ⟨S8x1, gate⟩, ⟨S8x1, gate⟩] concatenates_S8x1_S8x1_S8x1_S8x1_S8x1_S8x1_S8x1_S8x1_S8x1_S8x1_S8x1_S8x1_S8x1_S8x1_S8x1_S8x1_S128x1_d0))
    (sitofp .f32 (extui 32 (cmpi .eq (shrsi (iota .tc S128x16 32 [0] iota_S128x16_d0_w32) (broadcast S128x16 3#32)) (iota .tc S128x16 32 [1] iota_S128x16_d1_w32)) natLt_1_32))
    (constant S1x16 .f32 0x00000000#32)

/-- The words of the documents, as the copy leaves them: the window's, an axis of extent one dropped. -/
def docOf (X4 : S1x1x8192.Idx → BitVec 32) : S1x8192.Idx → BitVec 32 := fun y => X4 (Shape.reshapeEquiv squeezes_S1x1x8192_S1x8192.numel_eq y)
/-- The eight query rows of a batch. -/
def qvOf (T : S256.Idx → BitVec 32) (M : S100000x1x128.Idx → F .f32) (b : ℕ) : S8x128.Idx → F .f32 := queryAll (queryEmb T M (b * 8))
/-- Their rows of inverse document frequencies. -/
def idfOf (T : S256.Idx → BitVec 32) (G : S782x1x128.Idx → F .f32) (b : ℕ) : S8x128.Idx → F .f32 := queryAll (queryIdf mkIdf T G (b * 8))

end Drmm.I
end
-- ==== Proof.I.Prelude.lean ====
module

public import proofs.«01_k».proof.Proof.I.Values
public import proofs.«01_k».proof.Proof.Copy

@[expose] public section

noncomputable section

namespace Drmm.I

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Cert.KernelIdeal
open Facts Shapes1.Facts₀ Shapes2.Facts₀ K0.R1.Facts₀ K0.R2.Facts₀

variable {F : FTy → Type} [FloatOps F] [Facts]
variable {Ix : Type} [DecidableEq Ix] {Name : Type} [DecidableEq Name] {U : Type} [URA U] {Lvl : Type} [Preorder Lvl] {α : Type}
local notation "𝕄" => MT nD τ sig Ix (Elt F) Name U Lvl
variable (i : grid0.Coords) (arg1 : Memref sig .tc .smem S256 .i32) (harg1 : arg1.IsWhole) (arg2 : Memref sig .tc .vmem S100000x1x128 .f32) (harg2 : arg2.IsWhole) (arg3 : Memref sig .tc .vmem S782x1x128 .f32) (harg3 : arg3.IsWhole) (arg4 : Memref sig .tc .vmem S1x1x8192 .i32) (harg4 : arg4.IsWhole) (arg5 : Memref sig .tc .vmem S8x1 .f32) (harg5 : arg5.IsWhole) (arg6 : Memref sig .tc .vmem S1x30 .f32) (harg6 : arg6.IsWhole) (arg7 : Memref sig .tc .vmem S1x30 .f32) (harg7 : arg7.IsWhole) (arg8 : Memref sig .tc .vmem S30x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S128x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S64x32 .f32) (harg16 : arg16.IsWhole) (arg17 : Memref sig .tc .vmem S1x32 .f32) (harg17 : arg17.IsWhole) (arg18 : Memref sig .tc .vmem S1x32 .f32) (harg18 : arg18.IsWhole) (arg19 : Memref sig .tc .vmem S1x32 .f32) (harg19 : arg19.IsWhole) (arg20 : Memref sig .tc .vmem S32x1 .f32) (harg20 : arg20.IsWhole) (arg21 : Memref sig .tc .vmem S1x1 .f32) (harg21 : arg21.IsWhole) (arg22 : Memref sig .tc .vmem S1x1 .f32) (harg22 : arg22.IsWhole) (arg23 : Memref sig .tc .vmem S1x1 .f32) (harg23 : arg23.IsWhole) (arg24 : Memref sig .tc .vmem S1x1x16 .f32) (harg24 : arg24.IsWhole) (arg25 : Memref sig .tc .smem S1x8192 .i32) (harg25 : arg25.IsWhole) (arg26 : Memref sig .tc .vmem S8x128 .f32) (harg26 : arg26.IsWhole) (arg27 : Memref sig .tc .vmem S8x128 .f32) (harg27 : arg27.IsWhole) (arg28 : Memref sig .tc .vmem S512x128 .f32) (harg28 : arg28.IsWhole) (arg29 : Memref sig .tc .vmem S512x128 .f32) (harg29 : arg29.IsWhole) (arg30 : Memref sig .tc .vmem S128x30 .f32) (harg30 : arg30.IsWhole) (arg31 : DmaSems sig S_)
variable {c : Dev nD} {q : PosShare TreeShare} {defs : Defs nD τ sig (Elt F) Λ₀} {𝒱 : Variants} {bd : Option 𝒱.V} {E : Set Name}
variable {D : S1x8192.Idx → BitVec 32} {M : S100000x1x128.Idx → F .f32} {A B : S512x128.Idx → F .f32} {X : S128x30.Idx → F .f32}

variable [Infinite Name] (EC : UEmb Counters (MT nD τ sig Ix (Elt F) Name U Lvl)) [EC.LandsIn (upEmb : UEmb _ (MT nD τ sig Ix (Elt F) Name U Lvl))]
variable {T : S256.Idx → BitVec 32} {G : S782x1x128.Idx → F .f32} {V I : S8x128.Idx → F .f32} {Wg : S8x1.Idx → F .f32}
include EC in
set_option maxHeartbeats 0 in
/-- The opening of a grid step: the copy of the documents' words issued, the eight queries kept, the gate computed, the copy waited for,
    and the first document's rows up to within row 216. -/
theorem prelude449 (hT : ∀ i, (T i).toNat < 100000) {X4 : S1x1x8192.Idx → BitVec 32} (hD : ∀ i, (docOf X4 i).toNat < 100000)
    {D₀ : S1x8192.Idx → BitVec 32} {qt : PosShare TreeShare} {ι : Ix} {W₀ : Waits sig Ix} {R : sProp 𝕄} {Q : α → sProp 𝕄}
    {K : _ → Prog (TpuEff nD τ sig (Elt F) Λ₀ .tc) α}
    (h : ∀ x y, (∀ l : Fin 128, x (ix2 (0 : Fin 1) l) = tableRow M (docWord (docOf X4) (0 + 216)).toNat l) →
      Held c arg25 arg2 arg28 arg29 arg30 q (docOf X4) M (rowsTo (docOf X4) M 0 216 A) B X iprop(R ∗ owns (c : Thread nD τ) arg4 q X4 ∗ semVal ((c : Thread nD τ), .dma arg31.sem) 0 ∗ owes (c : Thread nD τ) 0 (insert (SemLoc.dma arg31.sem, ι) W₀)
      ∗ owns (c : Thread nD τ) arg1 qt T ∗ owns (c : Thread nD τ) arg3 q G ∗ owns (c : Thread nD τ) arg26 fullShare (qvOf T M (i 0).val)
      ∗ owns (c : Thread nD τ) arg27 fullShare (idfOf T G (i 0).val) ∗ owns (c : Thread nD τ) arg5 q Wg)
      ⊢ wp frame (wpE defs 𝒱 (c : Thread nD τ) bd) Set.univ (K ⟨qvOf T M (i 0).val, normOf (qvOf T M (i 0).val), gateOf (idfOf T G (i 0).val) Wg, x, y⟩) Q) :
    iprop(owns (c : Thread nD τ) arg4 q X4 ∗ owns (c : Thread nD τ) arg25 fullShare D₀ ∗ semVal ((c : Thread nD τ), .dma arg31.sem) 0
      ∗ owes (c : Thread nD τ) 0 W₀ ∗ Prep c arg1 arg2 arg3 arg26 arg27 arg5 qt q T M G V I Wg
        iprop(owns (c : Thread nD τ) arg28 fullShare A ∗ owns (c : Thread nD τ) arg29 fullShare B ∗ owns (c : Thread nD τ) arg30 fullShare X ∗ R))
      ⊢ wp frame (wpE defs 𝒱 (c : Thread nD τ) bd) Set.univ ((k0_part449 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 ).bind K) Q := by
  refine wp_copy EC ι arg25.view.dmaCredit rfl (View.dmaCredit_pos _ (by decide)) ?_
  refine .trans (Q := Prep c arg1 arg2 arg3 arg26 arg27 arg5 qt q T M G V I Wg
    iprop(Transfers.Flight EC (c : Thread nD τ) (.dma arg31.sem) ι arg25.view.dmaCredit iprop(owns (c : Thread nD τ) arg25 fullShare (docOf X4) ∗ owns (c : Thread nD τ) arg4 q X4)
      ∗ owes (c : Thread nD τ) 0 W₀ ∗ owns (c : Thread nD τ) arg28 fullShare A ∗ owns (c : Thread nD τ) arg29 fullShare B ∗ owns (c : Thread nD τ) arg30 fullShare X ∗ R)) ?_ ?_
  · unfold Prep docOf
    iintro ⟨HF, HO, Ht, He, Hg, Hq, Hi, Hw, HR⟩
    isplitl [Ht]; · iexact Ht
    isplitl [He]; · iexact He
    isplitl [Hg]; · iexact Hg
    isplitl [Hq]; · iexact Hq
    isplitl [Hi]; · iexact Hi
    isplitl [Hw]; · iexact Hw
    isplitl [HF]; · iexact HF
    isplitl [HO]; · iexact HO
    iexact HR
  refine prep_zero (queryEmb T M ((i 0).val * 8)) (queryIdf mkIdf T G ((i 0).val * 8)) ?_
  iterate 8
    refine wp_query hT rfl ?_ ?_ ?_ ?_ ?_ ?_ ?_
    · exact off_query (i 0).val (i 0).isLt _ (by decide)
    · exact fun f hf => ⟨row_inb _ (hf _), idf_inb _ (hf _)⟩
    · exact fun f => rfl
    · exact fun f => rfl
    · exact fun f v w => row_cast _ _ v
    · exact fun f v w g w' => idf_cast _ g _ _
    intro _ _ _ _ _
  rw [queryTo_all, queryTo_all]
  refine wp_whole (prep_q _ _) (prep_q' _ _) ?_
  refine wp_whole (prep_i _ _) (prep_i' _ _) ?_
  refine wp_whole (prep_w _) (prep_w' _) ?_
  refine .trans (Q := iprop(Transfers.Flight EC (c : Thread nD τ) (.dma arg31.sem) ι arg25.view.dmaCredit iprop(owns (c : Thread nD τ) arg25 fullShare (docOf X4) ∗ owns (c : Thread nD τ) arg4 q X4)
    ∗ owes (c : Thread nD τ) 0 W₀ ∗ Prep c arg1 arg2 arg3 arg26 arg27 arg5 qt q T M G (qvOf T M (i 0).val) (idfOf T G (i 0).val) Wg
      iprop(owns (c : Thread nD τ) arg28 fullShare A ∗ owns (c : Thread nD τ) arg29 fullShare B ∗ owns (c : Thread nD τ) arg30 fullShare X ∗ R))) ?_ ?_
  · unfold Prep qvOf idfOf
    iintro ⟨Ht, He, Hg, Hq, Hi, Hw, HF, HO, HR⟩
    isplitl [HF]; · iexact HF
    isplitl [HO]; · iexact HO
    isplitl [Ht]; · iexact Ht
    isplitl [He]; · iexact He
    isplitl [Hg]; · iexact Hg
    isplitl [Hq]; · iexact Hq
    isplitl [Hi]; · iexact Hi
    isplitl [Hw]; · iexact Hw
    iexact HR
  refine wp_copied EC ι _ rfl ?_
  refine .trans (Q := Held c arg25 arg2 arg28 arg29 arg30 q (docOf X4) M A B X iprop(R ∗ owns (c : Thread nD τ) arg4 q X4 ∗ semVal ((c : Thread nD τ), .dma arg31.sem) 0 ∗ owes (c : Thread nD τ) 0 (insert (SemLoc.dma arg31.sem, ι) W₀)
      ∗ owns (c : Thread nD τ) arg1 qt T ∗ owns (c : Thread nD τ) arg3 q G ∗ owns (c : Thread nD τ) arg26 fullShare (qvOf T M (i 0).val)
      ∗ owns (c : Thread nD τ) arg27 fullShare (idfOf T G (i 0).val) ∗ owns (c : Thread nD τ) arg5 q Wg)) ?_ ?_
  · unfold Prep Held
    iintro ⟨⟨Hd, H4⟩, Hs, HO, Ht, He, Hg, Hq, Hi, Hw, Ha, Hb, Hx, HR⟩
    isplitl [Hd]; · iexact Hd
    isplitl [He]; · iexact He
    isplitl [Ha]; · iexact Ha
    isplitl [Hb]; · iexact Hb
    isplitl [Hx]; · iexact Hx
    isplitl [HR]; · iexact HR
    isplitl [H4]; · iexact H4
    isplitl [Hs]; · iexact Hs
    isplitl [HO]; · iexact HO
    isplitl [Ht]; · iexact Ht
    isplitl [Hg]; · iexact Hg
    isplitl [Hq]; · iexact Hq
    isplitl [Hi]; · iexact Hi
    iexact Hw
  refine held_rows_a (docOf X4) M 0 ?_
  iterate 216
    refine wp_row_a hD rfl ?_ ?_ ?_ ?_ ?_
    · exact congrArg (fun n => ![0, n]) (Nat.zero_add _).symm
    · exact fun f hf => row_inb _ (hf _)
    · exact fun f => rfl
    · exact fun f v w => row_cast _ _ v
    intro _ _ _
  refine wp_word 216 rfl fun f hf => ?_
  refine wp_take ?_ fun hc => ?_
  · exact row_inb _ ((congrArg BitVec.toNat (hf _)).trans_lt (hD _))
  refine wp_look_a (n := 216) ?_ ?_
  · exact congrArg (fun (w : BitVec 32) => ![w.toNat, 0, 0]) (hf _)
  intro v w hvw
  exact h _ _ fun l => (congrFun (row_cast₁ _ _) _).trans ((hvw l).trans (by rw [Nat.zero_add]))

end Drmm.I
end
-- ==== Proof.I.Gather1.lean ====
module

public import proofs.«01_k».proof.Proof.I.Base
public import proofs.«01_k».proof.Proof.Steps2

@[expose] public section

noncomputable section

namespace Drmm.I

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Cert.KernelIdeal
open Facts Shapes1.Facts₀ Shapes2.Facts₀ K0.R1.Facts₀ K0.R2.Facts₀

variable {F : FTy → Type} [FloatOps F] [Facts]
variable {Ix : Type} [DecidableEq Ix] {Name : Type} [DecidableEq Name] {U : Type} [URA U] {Lvl : Type} [Preorder Lvl] {α : Type}
local notation "𝕄" => MT nD τ sig Ix (Elt F) Name U Lvl
variable (i : grid0.Coords) (arg1 : Memref sig .tc .smem S256 .i32) (harg1 : arg1.IsWhole) (arg2 : Memref sig .tc .vmem S100000x1x128 .f32) (harg2 : arg2.IsWhole) (arg3 : Memref sig .tc .vmem S782x1x128 .f32) (harg3 : arg3.IsWhole) (arg4 : Memref sig .tc .vmem S1x1x8192 .i32) (harg4 : arg4.IsWhole) (arg5 : Memref sig .tc .vmem S8x1 .f32) (harg5 : arg5.IsWhole) (arg6 : Memref sig .tc .vmem S1x30 .f32) (harg6 : arg6.IsWhole) (arg7 : Memref sig .tc .vmem S1x30 .f32) (harg7 : arg7.IsWhole) (arg8 : Memref sig .tc .vmem S30x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S128x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S64x32 .f32) (harg16 : arg16.IsWhole) (arg17 : Memref sig .tc .vmem S1x32 .f32) (harg17 : arg17.IsWhole) (arg18 : Memref sig .tc .vmem S1x32 .f32) (harg18 : arg18.IsWhole) (arg19 : Memref sig .tc .vmem S1x32 .f32) (harg19 : arg19.IsWhole) (arg20 : Memref sig .tc .vmem S32x1 .f32) (harg20 : arg20.IsWhole) (arg21 : Memref sig .tc .vmem S1x1 .f32) (harg21 : arg21.IsWhole) (arg22 : Memref sig .tc .vmem S1x1 .f32) (harg22 : arg22.IsWhole) (arg23 : Memref sig .tc .vmem S1x1 .f32) (harg23 : arg23.IsWhole) (arg24 : Memref sig .tc .vmem S1x1x16 .f32) (harg24 : arg24.IsWhole) (arg25 : Memref sig .tc .smem S1x8192 .i32) (harg25 : arg25.IsWhole) (arg26 : Memref sig .tc .vmem S8x128 .f32) (harg26 : arg26.IsWhole) (arg27 : Memref sig .tc .vmem S8x128 .f32) (harg27 : arg27.IsWhole) (arg28 : Memref sig .tc .vmem S512x128 .f32) (harg28 : arg28.IsWhole) (arg29 : Memref sig .tc .vmem S512x128 .f32) (harg29 : arg29.IsWhole) (arg30 : Memref sig .tc .vmem S128x30 .f32) (harg30 : arg30.IsWhole) (arg31 : DmaSems sig S_)
variable {c : Dev nD} {q : PosShare TreeShare} {defs : Defs nD τ sig (Elt F) Λ₀} {𝒱 : Variants} {bd : Option 𝒱.V} {E : Set Name}
variable {D : S1x8192.Idx → BitVec 32} {M : S100000x1x128.Idx → F .f32} {A B : S512x128.Idx → F .f32} {X : S128x30.Idx → F .f32}

set_option maxHeartbeats 0 in
/-- The first document's rows, from within one row to within another. -/
theorem gather450 (hD : ∀ i, (D i).toNat < 100000) (x : FVec F S1x128 .f32) (y : Vec F S1x128 .f32) {R : sProp 𝕄} {Q : α → sProp 𝕄}
    {K : _ → Prog (TpuEff nD τ sig (Elt F) Λ₀ .tc) α}
    (hv : ∀ l : Fin 128, x (ix2 (0 : Fin 1) l) = tableRow M (docWord D (0 + 216)).toNat l)
    (h : ∀ x y, (∀ l : Fin 128, x (ix2 (0 : Fin 1) l) = tableRow M (docWord D (0 + 456)).toNat l) → Held c arg25 arg2 arg28 arg29 arg30 q D M (rowsTo D M 0 456 A) B X R
      ⊢ wp frame (wpE defs 𝒱 (c : Thread nD τ) bd) E (K ⟨x, y⟩) Q) :
    Held c arg25 arg2 arg28 arg29 arg30 q D M (rowsTo D M 0 216 A) B X R
      ⊢ wp frame (wpE defs 𝒱 (c : Thread nD τ) bd) E ((k0_part450 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 x y).bind K) Q := by
  refine wp_keep_a rfl ?_ ?_
  · exact fun l => (congrFun (shapeCast_self _ _) _).trans (hv l)
  iterate 239
    refine wp_row_a hD rfl ?_ ?_ ?_ ?_ ?_
    · exact congrArg (fun n => ![0, n]) (Nat.zero_add _).symm
    · exact fun f hf => row_inb _ (hf _)
    · exact fun f => rfl
    · exact fun f v w => row_cast _ _ v
    intro _ _ _
  refine wp_word 456 rfl fun f hf => ?_
  refine wp_take ?_ fun hc => ?_
  · exact row_inb _ ((congrArg BitVec.toNat (hf _)).trans_lt (hD _))
  refine wp_look_a (n := 456) ?_ ?_
  · exact congrArg (fun (w : BitVec 32) => ![w.toNat, 0, 0]) (hf _)
  intro v w hvw
  exact h _ _ fun l => (congrFun (row_cast₁ _ _) _).trans ((hvw l).trans (by rw [Nat.zero_add]))

end Drmm.I
end
-- ==== Proof.I.Gather2.lean ====
module

public import proofs.«01_k».proof.Proof.I.Base
public import proofs.«01_k».proof.Proof.Steps2

@[expose] public section

noncomputable section

namespace Drmm.I

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Cert.KernelIdeal
open Facts Shapes1.Facts₀ Shapes2.Facts₀ K0.R1.Facts₀ K0.R2.Facts₀

variable {F : FTy → Type} [FloatOps F] [Facts]
variable {Ix : Type} [DecidableEq Ix] {Name : Type} [DecidableEq Name] {U : Type} [URA U] {Lvl : Type} [Preorder Lvl] {α : Type}
local notation "𝕄" => MT nD τ sig Ix (Elt F) Name U Lvl
variable (i : grid0.Coords) (arg1 : Memref sig .tc .smem S256 .i32) (harg1 : arg1.IsWhole) (arg2 : Memref sig .tc .vmem S100000x1x128 .f32) (harg2 : arg2.IsWhole) (arg3 : Memref sig .tc .vmem S782x1x128 .f32) (harg3 : arg3.IsWhole) (arg4 : Memref sig .tc .vmem S1x1x8192 .i32) (harg4 : arg4.IsWhole) (arg5 : Memref sig .tc .vmem S8x1 .f32) (harg5 : arg5.IsWhole) (arg6 : Memref sig .tc .vmem S1x30 .f32) (harg6 : arg6.IsWhole) (arg7 : Memref sig .tc .vmem S1x30 .f32) (harg7 : arg7.IsWhole) (arg8 : Memref sig .tc .vmem S30x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S128x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S64x32 .f32) (harg16 : arg16.IsWhole) (arg17 : Memref sig .tc .vmem S1x32 .f32) (harg17 : arg17.IsWhole) (arg18 : Memref sig .tc .vmem S1x32 .f32) (harg18 : arg18.IsWhole) (arg19 : Memref sig .tc .vmem S1x32 .f32) (harg19 : arg19.IsWhole) (arg20 : Memref sig .tc .vmem S32x1 .f32) (harg20 : arg20.IsWhole) (arg21 : Memref sig .tc .vmem S1x1 .f32) (harg21 : arg21.IsWhole) (arg22 : Memref sig .tc .vmem S1x1 .f32) (harg22 : arg22.IsWhole) (arg23 : Memref sig .tc .vmem S1x1 .f32) (harg23 : arg23.IsWhole) (arg24 : Memref sig .tc .vmem S1x1x16 .f32) (harg24 : arg24.IsWhole) (arg25 : Memref sig .tc .smem S1x8192 .i32) (harg25 : arg25.IsWhole) (arg26 : Memref sig .tc .vmem S8x128 .f32) (harg26 : arg26.IsWhole) (arg27 : Memref sig .tc .vmem S8x128 .f32) (harg27 : arg27.IsWhole) (arg28 : Memref sig .tc .vmem S512x128 .f32) (harg28 : arg28.IsWhole) (arg29 : Memref sig .tc .vmem S512x128 .f32) (harg29 : arg29.IsWhole) (arg30 : Memref sig .tc .vmem S128x30 .f32) (harg30 : arg30.IsWhole) (arg31 : DmaSems sig S_)
variable {c : Dev nD} {q : PosShare TreeShare} {defs : Defs nD τ sig (Elt F) Λ₀} {𝒱 : Variants} {bd : Option 𝒱.V} {E : Set Name}
variable {D : S1x8192.Idx → BitVec 32} {M : S100000x1x128.Idx → F .f32} {A B : S512x128.Idx → F .f32} {X : S128x30.Idx → F .f32}

set_option maxHeartbeats 0 in
/-- Four more rows of the first document. -/
theorem gather433 (hD : ∀ i, (D i).toNat < 100000) (x : FVec F S1x128 .f32) (y : Vec F S1x128 .f32) {R : sProp 𝕄} {Q : α → sProp 𝕄}
    {K : _ → Prog (TpuEff nD τ sig (Elt F) Λ₀ .tc) α}
    (hv : ∀ l : Fin 128, x (ix2 (0 : Fin 1) l) = tableRow M (docWord D (0 + 456)).toNat l)
    (h : ∀ x y, (∀ l : Fin 128, x (ix2 (0 : Fin 1) l) = tableRow M (docWord D (0 + 460)).toNat l) → Held c arg25 arg2 arg28 arg29 arg30 q D M (rowsTo D M 0 460 A) B X R
      ⊢ wp frame (wpE defs 𝒱 (c : Thread nD τ) bd) E (K ⟨x, y⟩) Q) :
    Held c arg25 arg2 arg28 arg29 arg30 q D M (rowsTo D M 0 456 A) B X R
      ⊢ wp frame (wpE defs 𝒱 (c : Thread nD τ) bd) E ((k0_part433 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 x y).bind K) Q := by
  refine wp_keep_a rfl ?_ ?_
  · exact fun l => (congrFun (shapeCast_self _ _) _).trans (hv l)
  iterate 3
    refine wp_row_a hD rfl ?_ ?_ ?_ ?_ ?_
    · exact congrArg (fun n => ![0, n]) (Nat.zero_add _).symm
    · exact fun f hf => row_inb _ (hf _)
    · exact fun f => rfl
    · exact fun f v w => row_cast _ _ v
    intro _ _ _
  refine wp_word 460 rfl fun f hf => ?_
  refine wp_take ?_ fun hc => ?_
  · exact row_inb _ ((congrArg BitVec.toNat (hf _)).trans_lt (hD _))
  refine wp_look_a (n := 460) ?_ ?_
  · exact congrArg (fun (w : BitVec 32) => ![w.toNat, 0, 0]) (hf _)
  intro v w hvw
  exact h _ _ fun l => (congrFun (row_cast₁ _ _) _).trans ((hvw l).trans (by rw [Nat.zero_add]))

set_option maxHeartbeats 0 in
/-- Four more rows of the first document. -/
theorem gather434 (hD : ∀ i, (D i).toNat < 100000) (x : FVec F S1x128 .f32) (y : Vec F S1x128 .f32) {R : sProp 𝕄} {Q : α → sProp 𝕄}
    {K : _ → Prog (TpuEff nD τ sig (Elt F) Λ₀ .tc) α}
    (hv : ∀ l : Fin 128, x (ix2 (0 : Fin 1) l) = tableRow M (docWord D (0 + 460)).toNat l)
    (h : ∀ x y, (∀ l : Fin 128, x (ix2 (0 : Fin 1) l) = tableRow M (docWord D (0 + 464)).toNat l) → Held c arg25 arg2 arg28 arg29 arg30 q D M (rowsTo D M 0 464 A) B X R
      ⊢ wp frame (wpE defs 𝒱 (c : Thread nD τ) bd) E (K ⟨x, y⟩) Q) :
    Held c arg25 arg2 arg28 arg29 arg30 q D M (rowsTo D M 0 460 A) B X R
      ⊢ wp frame (wpE defs 𝒱 (c : Thread nD τ) bd) E ((k0_part434 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 x y).bind K) Q := by
  refine wp_keep_a rfl ?_ ?_
  · exact fun l => (congrFun (shapeCast_self _ _) _).trans (hv l)
  iterate 3
    refine wp_row_a hD rfl ?_ ?_ ?_ ?_ ?_
    · exact congrArg (fun n => ![0, n]) (Nat.zero_add _).symm
    · exact fun f hf => row_inb _ (hf _)
    · exact fun f => rfl
    · exact fun f v w => row_cast _ _ v
    intro _ _ _
  refine wp_word 464 rfl fun f hf => ?_
  refine wp_take ?_ fun hc => ?_
  · exact row_inb _ ((congrArg BitVec.toNat (hf _)).trans_lt (hD _))
  refine wp_look_a (n := 464) ?_ ?_
  · exact congrArg (fun (w : BitVec 32) => ![w.toNat, 0, 0]) (hf _)
  intro v w hvw
  exact h _ _ fun l => (congrFun (row_cast₁ _ _) _).trans ((hvw l).trans (by rw [Nat.zero_add]))

set_option maxHeartbeats 0 in
/-- Four more rows of the first document. -/
theorem gather435 (hD : ∀ i, (D i).toNat < 100000) (x : FVec F S1x128 .f32) (y : Vec F S1x128 .f32) {R : sProp 𝕄} {Q : α → sProp 𝕄}
    {K : _ → Prog (TpuEff nD τ sig (Elt F) Λ₀ .tc) α}
    (hv : ∀ l : Fin 128, x (ix2 (0 : Fin 1) l) = tableRow M (docWord D (0 + 464)).toNat l)
    (h : ∀ x y, (∀ l : Fin 128, x (ix2 (0 : Fin 1) l) = tableRow M (docWord D (0 + 468)).toNat l) → Held c arg25 arg2 arg28 arg29 arg30 q D M (rowsTo D M 0 468 A) B X R
      ⊢ wp frame (wpE defs 𝒱 (c : Thread nD τ) bd) E (K ⟨x, y⟩) Q) :
    Held c arg25 arg2 arg28 arg29 arg30 q D M (rowsTo D M 0 464 A) B X R
      ⊢ wp frame (wpE defs 𝒱 (c : Thread nD τ) bd) E ((k0_part435 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 x y).bind K) Q := by
  refine wp_keep_a rfl ?_ ?_
  · exact fun l => (congrFun (shapeCast_self _ _) _).trans (hv l)
  iterate 3
    refine wp_row_a hD rfl ?_ ?_ ?_ ?_ ?_
    · exact congrArg (fun n => ![0, n]) (Nat.zero_add _).symm
    · exact fun f hf => row_inb _ (hf _)
    · exact fun f => rfl
    · exact fun f v w => row_cast _ _ v
    intro _ _ _
  refine wp_word 468 rfl fun f hf => ?_
  refine wp_take ?_ fun hc => ?_
  · exact row_inb _ ((congrArg BitVec.toNat (hf _)).trans_lt (hD _))
  refine wp_look_a (n := 468) ?_ ?_
  · exact congrArg (fun (w : BitVec 32) => ![w.toNat, 0, 0]) (hf _)
  intro v w hvw
  exact h _ _ fun l => (congrFun (row_cast₁ _ _) _).trans ((hvw l).trans (by rw [Nat.zero_add]))

set_option maxHeartbeats 0 in
/-- Four more rows of the first document. -/
theorem gather436 (hD : ∀ i, (D i).toNat < 100000) (x : FVec F S1x128 .f32) (y : Vec F S1x128 .f32) {R : sProp 𝕄} {Q : α → sProp 𝕄}
    {K : _ → Prog (TpuEff nD τ sig (Elt F) Λ₀ .tc) α}
    (hv : ∀ l : Fin 128, x (ix2 (0 : Fin 1) l) = tableRow M (docWord D (0 + 468)).toNat l)
    (h : ∀ x y, (∀ l : Fin 128, x (ix2 (0 : Fin 1) l) = tableRow M (docWord D (0 + 472)).toNat l) → Held c arg25 arg2 arg28 arg29 arg30 q D M (rowsTo D M 0 472 A) B X R
      ⊢ wp frame (wpE defs 𝒱 (c : Thread nD τ) bd) E (K ⟨x, y⟩) Q) :
    Held c arg25 arg2 arg28 arg29 arg30 q D M (rowsTo D M 0 468 A) B X R
      ⊢ wp frame (wpE defs 𝒱 (c : Thread nD τ) bd) E ((k0_part436 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 x y).bind K) Q := by
  refine wp_keep_a rfl ?_ ?_
  · exact fun l => (congrFun (shapeCast_self _ _) _).trans (hv l)
  iterate 3
    refine wp_row_a hD rfl ?_ ?_ ?_ ?_ ?_
    · exact congrArg (fun n => ![0, n]) (Nat.zero_add _).symm
    · exact fun f hf => row_inb _ (hf _)
    · exact fun f => rfl
    · exact fun f v w => row_cast _ _ v
    intro _ _ _
  refine wp_word 472 rfl fun f hf => ?_
  refine wp_take ?_ fun hc => ?_
  · exact row_inb _ ((congrArg BitVec.toNat (hf _)).trans_lt (hD _))
  refine wp_look_a (n := 472) ?_ ?_
  · exact congrArg (fun (w : BitVec 32) => ![w.toNat, 0, 0]) (hf _)
  intro v w hvw
  exact h _ _ fun l => (congrFun (row_cast₁ _ _) _).trans ((hvw l).trans (by rw [Nat.zero_add]))

set_option maxHeartbeats 0 in
/-- Four more rows of the first document. -/
theorem gather437 (hD : ∀ i, (D i).toNat < 100000) (x : FVec F S1x128 .f32) (y : Vec F S1x128 .f32) {R : sProp 𝕄} {Q : α → sProp 𝕄}
    {K : _ → Prog (TpuEff nD τ sig (Elt F) Λ₀ .tc) α}
    (hv : ∀ l : Fin 128, x (ix2 (0 : Fin 1) l) = tableRow M (docWord D (0 + 472)).toNat l)
    (h : ∀ x y, (∀ l : Fin 128, x (ix2 (0 : Fin 1) l) = tableRow M (docWord D (0 + 476)).toNat l) → Held c arg25 arg2 arg28 arg29 arg30 q D M (rowsTo D M 0 476 A) B X R
      ⊢ wp frame (wpE defs 𝒱 (c : Thread nD τ) bd) E (K ⟨x, y⟩) Q) :
    Held c arg25 arg2 arg28 arg29 arg30 q D M (rowsTo D M 0 472 A) B X R
      ⊢ wp frame (wpE defs 𝒱 (c : Thread nD τ) bd) E ((k0_part437 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 x y).bind K) Q := by
  refine wp_keep_a rfl ?_ ?_
  · exact fun l => (congrFun (shapeCast_self _ _) _).trans (hv l)
  iterate 3
    refine wp_row_a hD rfl ?_ ?_ ?_ ?_ ?_
    · exact congrArg (fun n => ![0, n]) (Nat.zero_add _).symm
    · exact fun f hf => row_inb _ (hf _)
    · exact fun f => rfl
    · exact fun f v w => row_cast _ _ v
    intro _ _ _
  refine wp_word 476 rfl fun f hf => ?_
  refine wp_take ?_ fun hc => ?_
  · exact row_inb _ ((congrArg BitVec.toNat (hf _)).trans_lt (hD _))
  refine wp_look_a (n := 476) ?_ ?_
  · exact congrArg (fun (w : BitVec 32) => ![w.toNat, 0, 0]) (hf _)
  intro v w hvw
  exact h _ _ fun l => (congrFun (row_cast₁ _ _) _).trans ((hvw l).trans (by rw [Nat.zero_add]))

set_option maxHeartbeats 0 in
/-- Four more rows of the first document. -/
theorem gather438 (hD : ∀ i, (D i).toNat < 100000) (x : FVec F S1x128 .f32) (y : Vec F S1x128 .f32) {R : sProp 𝕄} {Q : α → sProp 𝕄}
    {K : _ → Prog (TpuEff nD τ sig (Elt F) Λ₀ .tc) α}
    (hv : ∀ l : Fin 128, x (ix2 (0 : Fin 1) l) = tableRow M (docWord D (0 + 476)).toNat l)
    (h : ∀ x y, (∀ l : Fin 128, x (ix2 (0 : Fin 1) l) = tableRow M (docWord D (0 + 480)).toNat l) → Held c arg25 arg2 arg28 arg29 arg30 q D M (rowsTo D M 0 480 A) B X R
      ⊢ wp frame (wpE defs 𝒱 (c : Thread nD τ) bd) E (K ⟨x, y⟩) Q) :
    Held c arg25 arg2 arg28 arg29 arg30 q D M (rowsTo D M 0 476 A) B X R
      ⊢ wp frame (wpE defs 𝒱 (c : Thread nD τ) bd) E ((k0_part438 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 x y).bind K) Q := by
  refine wp_keep_a rfl ?_ ?_
  · exact fun l => (congrFun (shapeCast_self _ _) _).trans (hv l)
  iterate 3
    refine wp_row_a hD rfl ?_ ?_ ?_ ?_ ?_
    · exact congrArg (fun n => ![0, n]) (Nat.zero_add _).symm
    · exact fun f hf => row_inb _ (hf _)
    · exact fun f => rfl
    · exact fun f v w => row_cast _ _ v
    intro _ _ _
  refine wp_word 480 rfl fun f hf => ?_
  refine wp_take ?_ fun hc => ?_
  · exact row_inb _ ((congrArg BitVec.toNat (hf _)).trans_lt (hD _))
  refine wp_look_a (n := 480) ?_ ?_
  · exact congrArg (fun (w : BitVec 32) => ![w.toNat, 0, 0]) (hf _)
  intro v w hvw
  exact h _ _ fun l => (congrFun (row_cast₁ _ _) _).trans ((hvw l).trans (by rw [Nat.zero_add]))

set_option maxHeartbeats 0 in
/-- Four more rows of the first document. -/
theorem gather439 (hD : ∀ i, (D i).toNat < 100000) (x : FVec F S1x128 .f32) (y : Vec F S1x128 .f32) {R : sProp 𝕄} {Q : α → sProp 𝕄}
    {K : _ → Prog (TpuEff nD τ sig (Elt F) Λ₀ .tc) α}
    (hv : ∀ l : Fin 128, x (ix2 (0 : Fin 1) l) = tableRow M (docWord D (0 + 480)).toNat l)
    (h : ∀ x y, (∀ l : Fin 128, x (ix2 (0 : Fin 1) l) = tableRow M (docWord D (0 + 484)).toNat l) → Held c arg25 arg2 arg28 arg29 arg30 q D M (rowsTo D M 0 484 A) B X R
      ⊢ wp frame (wpE defs 𝒱 (c : Thread nD τ) bd) E (K ⟨x, y⟩) Q) :
    Held c arg25 arg2 arg28 arg29 arg30 q D M (rowsTo D M 0 480 A) B X R
      ⊢ wp frame (wpE defs 𝒱 (c : Thread nD τ) bd) E ((k0_part439 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 x y).bind K) Q := by
  refine wp_keep_a rfl ?_ ?_
  · exact fun l => (congrFun (shapeCast_self _ _) _).trans (hv l)
  iterate 3
    refine wp_row_a hD rfl ?_ ?_ ?_ ?_ ?_
    · exact congrArg (fun n => ![0, n]) (Nat.zero_add _).symm
    · exact fun f hf => row_inb _ (hf _)
    · exact fun f => rfl
    · exact fun f v w => row_cast _ _ v
    intro _ _ _
  refine wp_word 484 rfl fun f hf => ?_
  refine wp_take ?_ fun hc => ?_
  · exact row_inb _ ((congrArg BitVec.toNat (hf _)).trans_lt (hD _))
  refine wp_look_a (n := 484) ?_ ?_
  · exact congrArg (fun (w : BitVec 32) => ![w.toNat, 0, 0]) (hf _)
  intro v w hvw
  exact h _ _ fun l => (congrFun (row_cast₁ _ _) _).trans ((hvw l).trans (by rw [Nat.zero_add]))

set_option maxHeartbeats 0 in
/-- Four more rows of the first document. -/
theorem gather440 (hD : ∀ i, (D i).toNat < 100000) (x : FVec F S1x128 .f32) (y : Vec F S1x128 .f32) {R : sProp 𝕄} {Q : α → sProp 𝕄}
    {K : _ → Prog (TpuEff nD τ sig (Elt F) Λ₀ .tc) α}
    (hv : ∀ l : Fin 128, x (ix2 (0 : Fin 1) l) = tableRow M (docWord D (0 + 484)).toNat l)
    (h : ∀ x y, (∀ l : Fin 128, x (ix2 (0 : Fin 1) l) = tableRow M (docWord D (0 + 488)).toNat l) → Held c arg25 arg2 arg28 arg29 arg30 q D M (rowsTo D M 0 488 A) B X R
      ⊢ wp frame (wpE defs 𝒱 (c : Thread nD τ) bd) E (K ⟨x, y⟩) Q) :
    Held c arg25 arg2 arg28 arg29 arg30 q D M (rowsTo D M 0 484 A) B X R
      ⊢ wp frame (wpE defs 𝒱 (c : Thread nD τ) bd) E ((k0_part440 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 x y).bind K) Q := by
  refine wp_keep_a rfl ?_ ?_
  · exact fun l => (congrFun (shapeCast_self _ _) _).trans (hv l)
  iterate 3
    refine wp_row_a hD rfl ?_ ?_ ?_ ?_ ?_
    · exact congrArg (fun n => ![0, n]) (Nat.zero_add _).symm
    · exact fun f hf => row_inb _ (hf _)
    · exact fun f => rfl
    · exact fun f v w => row_cast _ _ v
    intro _ _ _
  refine wp_word 488 rfl fun f hf => ?_
  refine wp_take ?_ fun hc => ?_
  · exact row_inb _ ((congrArg BitVec.toNat (hf _)).trans_lt (hD _))
  refine wp_look_a (n := 488) ?_ ?_
  · exact congrArg (fun (w : BitVec 32) => ![w.toNat, 0, 0]) (hf _)
  intro v w hvw
  exact h _ _ fun l => (congrFun (row_cast₁ _ _) _).trans ((hvw l).trans (by rw [Nat.zero_add]))

set_option maxHeartbeats 0 in
/-- Four more rows of the first document. -/
theorem gather441 (hD : ∀ i, (D i).toNat < 100000) (x : FVec F S1x128 .f32) (y : Vec F S1x128 .f32) {R : sProp 𝕄} {Q : α → sProp 𝕄}
    {K : _ → Prog (TpuEff nD τ sig (Elt F) Λ₀ .tc) α}
    (hv : ∀ l : Fin 128, x (ix2 (0 : Fin 1) l) = tableRow M (docWord D (0 + 488)).toNat l)
    (h : ∀ x y, (∀ l : Fin 128, x (ix2 (0 : Fin 1) l) = tableRow M (docWord D (0 + 492)).toNat l) → Held c arg25 arg2 arg28 arg29 arg30 q D M (rowsTo D M 0 492 A) B X R
      ⊢ wp frame (wpE defs 𝒱 (c : Thread nD τ) bd) E (K ⟨x, y⟩) Q) :
    Held c arg25 arg2 arg28 arg29 arg30 q D M (rowsTo D M 0 488 A) B X R
      ⊢ wp frame (wpE defs 𝒱 (c : Thread nD τ) bd) E ((k0_part441 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 x y).bind K) Q := by
  refine wp_keep_a rfl ?_ ?_
  · exact fun l => (congrFun (shapeCast_self _ _) _).trans (hv l)
  iterate 3
    refine wp_row_a hD rfl ?_ ?_ ?_ ?_ ?_
    · exact congrArg (fun n => ![0, n]) (Nat.zero_add _).symm
    · exact fun f hf => row_inb _ (hf _)
    · exact fun f => rfl
    · exact fun f v w => row_cast _ _ v
    intro _ _ _
  refine wp_word 492 rfl fun f hf => ?_
  refine wp_take ?_ fun hc => ?_
  · exact row_inb _ ((congrArg BitVec.toNat (hf _)).trans_lt (hD _))
  refine wp_look_a (n := 492) ?_ ?_
  · exact congrArg (fun (w : BitVec 32) => ![w.toNat, 0, 0]) (hf _)
  intro v w hvw
  exact h _ _ fun l => (congrFun (row_cast₁ _ _) _).trans ((hvw l).trans (by rw [Nat.zero_add]))

set_option maxHeartbeats 0 in
/-- Four more rows of the first document. -/
theorem gather442 (hD : ∀ i, (D i).toNat < 100000) (x : FVec F S1x128 .f32) (y : Vec F S1x128 .f32) {R : sProp 𝕄} {Q : α → sProp 𝕄}
    {K : _ → Prog (TpuEff nD τ sig (Elt F) Λ₀ .tc) α}
    (hv : ∀ l : Fin 128, x (ix2 (0 : Fin 1) l) = tableRow M (docWord D (0 + 492)).toNat l)
    (h : ∀ x y, (∀ l : Fin 128, x (ix2 (0 : Fin 1) l) = tableRow M (docWord D (0 + 496)).toNat l) → Held c arg25 arg2 arg28 arg29 arg30 q D M (rowsTo D M 0 496 A) B X R
      ⊢ wp frame (wpE defs 𝒱 (c : Thread nD τ) bd) E (K ⟨x, y⟩) Q) :
    Held c arg25 arg2 arg28 arg29 arg30 q D M (rowsTo D M 0 492 A) B X R
      ⊢ wp frame (wpE defs 𝒱 (c : Thread nD τ) bd) E ((k0_part442 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 x y).bind K) Q := by
  refine wp_keep_a rfl ?_ ?_
  · exact fun l => (congrFun (shapeCast_self _ _) _).trans (hv l)
  iterate 3
    refine wp_row_a hD rfl ?_ ?_ ?_ ?_ ?_
    · exact congrArg (fun n => ![0, n]) (Nat.zero_add _).symm
    · exact fun f hf => row_inb _ (hf _)
    · exact fun f => rfl
    · exact fun f v w => row_cast _ _ v
    intro _ _ _
  refine wp_word 496 rfl fun f hf => ?_
  refine wp_take ?_ fun hc => ?_
  · exact row_inb _ ((congrArg BitVec.toNat (hf _)).trans_lt (hD _))
  refine wp_look_a (n := 496) ?_ ?_
  · exact congrArg (fun (w : BitVec 32) => ![w.toNat, 0, 0]) (hf _)
  intro v w hvw
  exact h _ _ fun l => (congrFun (row_cast₁ _ _) _).trans ((hvw l).trans (by rw [Nat.zero_add]))

set_option maxHeartbeats 0 in
/-- Four more rows of the first document. -/
theorem gather443 (hD : ∀ i, (D i).toNat < 100000) (x : FVec F S1x128 .f32) (y : Vec F S1x128 .f32) {R : sProp 𝕄} {Q : α → sProp 𝕄}
    {K : _ → Prog (TpuEff nD τ sig (Elt F) Λ₀ .tc) α}
    (hv : ∀ l : Fin 128, x (ix2 (0 : Fin 1) l) = tableRow M (docWord D (0 + 496)).toNat l)
    (h : ∀ x y, (∀ l : Fin 128, x (ix2 (0 : Fin 1) l) = tableRow M (docWord D (0 + 500)).toNat l) → Held c arg25 arg2 arg28 arg29 arg30 q D M (rowsTo D M 0 500 A) B X R
      ⊢ wp frame (wpE defs 𝒱 (c : Thread nD τ) bd) E (K ⟨x, y⟩) Q) :
    Held c arg25 arg2 arg28 arg29 arg30 q D M (rowsTo D M 0 496 A) B X R
      ⊢ wp frame (wpE defs 𝒱 (c : Thread nD τ) bd) E ((k0_part443 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 x y).bind K) Q := by
  refine wp_keep_a rfl ?_ ?_
  · exact fun l => (congrFun (shapeCast_self _ _) _).trans (hv l)
  iterate 3
    refine wp_row_a hD rfl ?_ ?_ ?_ ?_ ?_
    · exact congrArg (fun n => ![0, n]) (Nat.zero_add _).symm
    · exact fun f hf => row_inb _ (hf _)
    · exact fun f => rfl
    · exact fun f v w => row_cast _ _ v
    intro _ _ _
  refine wp_word 500 rfl fun f hf => ?_
  refine wp_take ?_ fun hc => ?_
  · exact row_inb _ ((congrArg BitVec.toNat (hf _)).trans_lt (hD _))
  refine wp_look_a (n := 500) ?_ ?_
  · exact congrArg (fun (w : BitVec 32) => ![w.toNat, 0, 0]) (hf _)
  intro v w hvw
  exact h _ _ fun l => (congrFun (row_cast₁ _ _) _).trans ((hvw l).trans (by rw [Nat.zero_add]))

set_option maxHeartbeats 0 in
/-- Four more rows of the first document. -/
theorem gather444 (hD : ∀ i, (D i).toNat < 100000) (x : FVec F S1x128 .f32) (y : Vec F S1x128 .f32) {R : sProp 𝕄} {Q : α → sProp 𝕄}
    {K : _ → Prog (TpuEff nD τ sig (Elt F) Λ₀ .tc) α}
    (hv : ∀ l : Fin 128, x (ix2 (0 : Fin 1) l) = tableRow M (docWord D (0 + 500)).toNat l)
    (h : ∀ x y, (∀ l : Fin 128, x (ix2 (0 : Fin 1) l) = tableRow M (docWord D (0 + 504)).toNat l) → Held c arg25 arg2 arg28 arg29 arg30 q D M (rowsTo D M 0 504 A) B X R
      ⊢ wp frame (wpE defs 𝒱 (c : Thread nD τ) bd) E (K ⟨x, y⟩) Q) :
    Held c arg25 arg2 arg28 arg29 arg30 q D M (rowsTo D M 0 500 A) B X R
      ⊢ wp frame (wpE defs 𝒱 (c : Thread nD τ) bd) E ((k0_part444 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 x y).bind K) Q := by
  refine wp_keep_a rfl ?_ ?_
  · exact fun l => (congrFun (shapeCast_self _ _) _).trans (hv l)
  iterate 3
    refine wp_row_a hD rfl ?_ ?_ ?_ ?_ ?_
    · exact congrArg (fun n => ![0, n]) (Nat.zero_add _).symm
    · exact fun f hf => row_inb _ (hf _)
    · exact fun f => rfl
    · exact fun f v w => row_cast _ _ v
    intro _ _ _
  refine wp_word 504 rfl fun f hf => ?_
  refine wp_take ?_ fun hc => ?_
  · exact row_inb _ ((congrArg BitVec.toNat (hf _)).trans_lt (hD _))
  refine wp_look_a (n := 504) ?_ ?_
  · exact congrArg (fun (w : BitVec 32) => ![w.toNat, 0, 0]) (hf _)
  intro v w hvw
  exact h _ _ fun l => (congrFun (row_cast₁ _ _) _).trans ((hvw l).trans (by rw [Nat.zero_add]))

set_option maxHeartbeats 0 in
/-- Four more rows of the first document. -/
theorem gather445 (hD : ∀ i, (D i).toNat < 100000) (x : FVec F S1x128 .f32) (y : Vec F S1x128 .f32) {R : sProp 𝕄} {Q : α → sProp 𝕄}
    {K : _ → Prog (TpuEff nD τ sig (Elt F) Λ₀ .tc) α}
    (hv : ∀ l : Fin 128, x (ix2 (0 : Fin 1) l) = tableRow M (docWord D (0 + 504)).toNat l)
    (h : ∀ x y, (∀ l : Fin 128, x (ix2 (0 : Fin 1) l) = tableRow M (docWord D (0 + 508)).toNat l) → Held c arg25 arg2 arg28 arg29 arg30 q D M (rowsTo D M 0 508 A) B X R
      ⊢ wp frame (wpE defs 𝒱 (c : Thread nD τ) bd) E (K ⟨x, y⟩) Q) :
    Held c arg25 arg2 arg28 arg29 arg30 q D M (rowsTo D M 0 504 A) B X R
      ⊢ wp frame (wpE defs 𝒱 (c : Thread nD τ) bd) E ((k0_part445 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 x y).bind K) Q := by
  refine wp_keep_a rfl ?_ ?_
  · exact fun l => (congrFun (shapeCast_self _ _) _).trans (hv l)
  iterate 3
    refine wp_row_a hD rfl ?_ ?_ ?_ ?_ ?_
    · exact congrArg (fun n => ![0, n]) (Nat.zero_add _).symm
    · exact fun f hf => row_inb _ (hf _)
    · exact fun f => rfl
    · exact fun f v w => row_cast _ _ v
    intro _ _ _
  refine wp_word 508 rfl fun f hf => ?_
  refine wp_take ?_ fun hc => ?_
  · exact row_inb _ ((congrArg BitVec.toNat (hf _)).trans_lt (hD _))
  refine wp_look_a (n := 508) ?_ ?_
  · exact congrArg (fun (w : BitVec 32) => ![w.toNat, 0, 0]) (hf _)
  intro v w hvw
  exact h _ _ fun l => (congrFun (row_cast₁ _ _) _).trans ((hvw l).trans (by rw [Nat.zero_add]))

end Drmm.I
end
-- ==== Proof.I.Rows1.lean ====
module

public import proofs.«01_k».proof.Proof.I.Base

@[expose] public section

noncomputable section

namespace Drmm.I

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Cert.KernelIdeal
open Facts Shapes1.Facts₀ Shapes2.Facts₀ K0.R1.Facts₀ K0.R2.Facts₀

variable {F : FTy → Type} [FloatOps F] [Facts]
variable {Ix : Type} [DecidableEq Ix] {Name : Type} [DecidableEq Name] {U : Type} [URA U] {Lvl : Type} [Preorder Lvl] {α : Type}
local notation "𝕄" => MT nD τ sig Ix (Elt F) Name U Lvl
variable (i : grid0.Coords) (arg1 : Memref sig .tc .smem S256 .i32) (harg1 : arg1.IsWhole) (arg2 : Memref sig .tc .vmem S100000x1x128 .f32) (harg2 : arg2.IsWhole) (arg3 : Memref sig .tc .vmem S782x1x128 .f32) (harg3 : arg3.IsWhole) (arg4 : Memref sig .tc .vmem S1x1x8192 .i32) (harg4 : arg4.IsWhole) (arg5 : Memref sig .tc .vmem S8x1 .f32) (harg5 : arg5.IsWhole) (arg6 : Memref sig .tc .vmem S1x30 .f32) (harg6 : arg6.IsWhole) (arg7 : Memref sig .tc .vmem S1x30 .f32) (harg7 : arg7.IsWhole) (arg8 : Memref sig .tc .vmem S30x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S128x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S64x32 .f32) (harg16 : arg16.IsWhole) (arg17 : Memref sig .tc .vmem S1x32 .f32) (harg17 : arg17.IsWhole) (arg18 : Memref sig .tc .vmem S1x32 .f32) (harg18 : arg18.IsWhole) (arg19 : Memref sig .tc .vmem S1x32 .f32) (harg19 : arg19.IsWhole) (arg20 : Memref sig .tc .vmem S32x1 .f32) (harg20 : arg20.IsWhole) (arg21 : Memref sig .tc .vmem S1x1 .f32) (harg21 : arg21.IsWhole) (arg22 : Memref sig .tc .vmem S1x1 .f32) (harg22 : arg22.IsWhole) (arg23 : Memref sig .tc .vmem S1x1 .f32) (harg23 : arg23.IsWhole) (arg24 : Memref sig .tc .vmem S1x1x16 .f32) (harg24 : arg24.IsWhole) (arg25 : Memref sig .tc .smem S1x8192 .i32) (harg25 : arg25.IsWhole) (arg26 : Memref sig .tc .vmem S8x128 .f32) (harg26 : arg26.IsWhole) (arg27 : Memref sig .tc .vmem S8x128 .f32) (harg27 : arg27.IsWhole) (arg28 : Memref sig .tc .vmem S512x128 .f32) (harg28 : arg28.IsWhole) (arg29 : Memref sig .tc .vmem S512x128 .f32) (harg29 : arg29.IsWhole) (arg30 : Memref sig .tc .vmem S128x30 .f32) (harg30 : arg30.IsWhole) (arg31 : DmaSems sig S_)
variable {c : Dev nD} {q : PosShare TreeShare} {defs : Defs nD τ sig (Elt F) Λ₀} {𝒱 : Variants} {bd : Option 𝒱.V} {E : Set Name}
variable {D : S1x8192.Idx → BitVec 32} {M : S100000x1x128.Idx → F .f32} {A B : S512x128.Idx → F .f32} {X : S128x30.Idx → F .f32}

set_option maxHeartbeats 0 in
/-- The first rows of the odd document, up to a row of which the word is read and in range. -/
theorem rows308 (hD : ∀ i, (D i).toNat < 100000) (t : Fin k0_t1_loop.trips) {R : sProp 𝕄} {Q : α → sProp 𝕄}
    {K : _ → Prog (TpuEff nD τ sig (Elt F) Λ₀ .tc) α}
    (h : ∀ a b v hw, v = docWord D ((2 * t.val + 1) * 512 + 211) → Held c arg25 arg2 arg28 arg29 arg30 q D M A (rowsTo D M ((2 * t.val + 1) * 512) 211 B) X R
      ⊢ wp frame (wpE defs 𝒱 (c : Thread nD τ) bd) E (K ⟨a, b, v, hw⟩) Q) :
    Held c arg25 arg2 arg28 arg29 arg30 q D M A (rowsTo D M ((2 * t.val + 1) * 512) 0 B) X R
      ⊢ wp frame (wpE defs 𝒱 (c : Thread nD τ) bd) E ((k0_part308 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 0#32 1#32 t).bind K) Q := by
  have ht : t.val < 8 := t.isLt
  iterate 211
    refine wp_row_b hD rfl ?_ ?_ ?_ ?_ ?_
    · exact off_odd t.val ht _ (by decide)
    · exact fun f hf => row_inb _ (hf _)
    · exact fun f => rfl
    · exact fun f v w => row_cast _ _ v
    intro _ _ _
  refine wp_word _ (off_odd t.val ht _ (by decide)) fun f hf => ?_
  refine wp_take ?_ fun hc => ?_
  · exact row_inb _ ((congrArg BitVec.toNat (hf _)).trans_lt (hD _))
  exact h _ _ _ _ (hf _)

end Drmm.I
end
-- ==== Proof.I.Rows2.lean ====
module

public import proofs.«01_k».proof.Proof.I.Base

@[expose] public section

noncomputable section

namespace Drmm.I

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Cert.KernelIdeal
open Facts Shapes1.Facts₀ Shapes2.Facts₀ K0.R1.Facts₀ K0.R2.Facts₀

variable {F : FTy → Type} [FloatOps F] [Facts]
variable {Ix : Type} [DecidableEq Ix] {Name : Type} [DecidableEq Name] {U : Type} [URA U] {Lvl : Type} [Preorder Lvl] {α : Type}
local notation "𝕄" => MT nD τ sig Ix (Elt F) Name U Lvl
variable (i : grid0.Coords) (arg1 : Memref sig .tc .smem S256 .i32) (harg1 : arg1.IsWhole) (arg2 : Memref sig .tc .vmem S100000x1x128 .f32) (harg2 : arg2.IsWhole) (arg3 : Memref sig .tc .vmem S782x1x128 .f32) (harg3 : arg3.IsWhole) (arg4 : Memref sig .tc .vmem S1x1x8192 .i32) (harg4 : arg4.IsWhole) (arg5 : Memref sig .tc .vmem S8x1 .f32) (harg5 : arg5.IsWhole) (arg6 : Memref sig .tc .vmem S1x30 .f32) (harg6 : arg6.IsWhole) (arg7 : Memref sig .tc .vmem S1x30 .f32) (harg7 : arg7.IsWhole) (arg8 : Memref sig .tc .vmem S30x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S128x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S64x32 .f32) (harg16 : arg16.IsWhole) (arg17 : Memref sig .tc .vmem S1x32 .f32) (harg17 : arg17.IsWhole) (arg18 : Memref sig .tc .vmem S1x32 .f32) (harg18 : arg18.IsWhole) (arg19 : Memref sig .tc .vmem S1x32 .f32) (harg19 : arg19.IsWhole) (arg20 : Memref sig .tc .vmem S32x1 .f32) (harg20 : arg20.IsWhole) (arg21 : Memref sig .tc .vmem S1x1 .f32) (harg21 : arg21.IsWhole) (arg22 : Memref sig .tc .vmem S1x1 .f32) (harg22 : arg22.IsWhole) (arg23 : Memref sig .tc .vmem S1x1 .f32) (harg23 : arg23.IsWhole) (arg24 : Memref sig .tc .vmem S1x1x16 .f32) (harg24 : arg24.IsWhole) (arg25 : Memref sig .tc .smem S1x8192 .i32) (harg25 : arg25.IsWhole) (arg26 : Memref sig .tc .vmem S8x128 .f32) (harg26 : arg26.IsWhole) (arg27 : Memref sig .tc .vmem S8x128 .f32) (harg27 : arg27.IsWhole) (arg28 : Memref sig .tc .vmem S512x128 .f32) (harg28 : arg28.IsWhole) (arg29 : Memref sig .tc .vmem S512x128 .f32) (harg29 : arg29.IsWhole) (arg30 : Memref sig .tc .vmem S128x30 .f32) (harg30 : arg30.IsWhole) (arg31 : DmaSems sig S_)
variable {c : Dev nD} {q : PosShare TreeShare} {defs : Defs nD τ sig (Elt F) Λ₀} {𝒱 : Variants} {bd : Option 𝒱.V} {E : Set Name}
variable {D : S1x8192.Idx → BitVec 32} {M : S100000x1x128.Idx → F .f32} {A B : S512x128.Idx → F .f32} {X : S128x30.Idx → F .f32}

set_option maxHeartbeats 0 in
/-- More rows of the odd document, from within one row. -/
theorem rows309 (hD : ∀ i, (D i).toNat < 100000) (t : Fin k0_t1_loop.trips) (b : BitVec 32) (v : Elt F .i32) (hw : k0_chk732 v) {R : sProp 𝕄} {Q : α → sProp 𝕄}
    {K : _ → Prog (TpuEff nD τ sig (Elt F) Λ₀ .tc) α}
    (hv : v = docWord D ((2 * t.val + 1) * 512 + 211))
    (h : ∀ a, Held c arg25 arg2 arg28 arg29 arg30 q D M A (rowsTo D M ((2 * t.val + 1) * 512) 423 B) X R
      ⊢ wp frame (wpE defs 𝒱 (c : Thread nD τ) bd) E (K a) Q) :
    Held c arg25 arg2 arg28 arg29 arg30 q D M A (rowsTo D M ((2 * t.val + 1) * 512) 211 B) X R
      ⊢ wp frame (wpE defs 𝒱 (c : Thread nD τ) bd) E ((k0_part309 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 t b v hw).bind K) Q := by
  have ht : t.val < 8 := t.isLt
  subst hv
  refine wp_put_b rfl rfl ?_ ?_
  · exact fun v w => row_cast _ _ v
  intro _ _
  iterate 211
    refine wp_row_b hD rfl ?_ ?_ ?_ ?_ ?_
    · exact off_odd t.val ht _ (by decide)
    · exact fun f hf => row_inb _ (hf _)
    · exact fun f => rfl
    · exact fun f v w => row_cast _ _ v
    intro _ _ _
  exact h _

end Drmm.I
end
-- ==== Proof.I.Rows3.lean ====
module

public import proofs.«01_k».proof.Proof.I.Base

@[expose] public section

noncomputable section

namespace Drmm.I

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Cert.KernelIdeal
open Facts Shapes1.Facts₀ Shapes2.Facts₀ K0.R1.Facts₀ K0.R2.Facts₀

variable {F : FTy → Type} [FloatOps F] [Facts]
variable {Ix : Type} [DecidableEq Ix] {Name : Type} [DecidableEq Name] {U : Type} [URA U] {Lvl : Type} [Preorder Lvl] {α : Type}
local notation "𝕄" => MT nD τ sig Ix (Elt F) Name U Lvl
variable (i : grid0.Coords) (arg1 : Memref sig .tc .smem S256 .i32) (harg1 : arg1.IsWhole) (arg2 : Memref sig .tc .vmem S100000x1x128 .f32) (harg2 : arg2.IsWhole) (arg3 : Memref sig .tc .vmem S782x1x128 .f32) (harg3 : arg3.IsWhole) (arg4 : Memref sig .tc .vmem S1x1x8192 .i32) (harg4 : arg4.IsWhole) (arg5 : Memref sig .tc .vmem S8x1 .f32) (harg5 : arg5.IsWhole) (arg6 : Memref sig .tc .vmem S1x30 .f32) (harg6 : arg6.IsWhole) (arg7 : Memref sig .tc .vmem S1x30 .f32) (harg7 : arg7.IsWhole) (arg8 : Memref sig .tc .vmem S30x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S128x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S64x32 .f32) (harg16 : arg16.IsWhole) (arg17 : Memref sig .tc .vmem S1x32 .f32) (harg17 : arg17.IsWhole) (arg18 : Memref sig .tc .vmem S1x32 .f32) (harg18 : arg18.IsWhole) (arg19 : Memref sig .tc .vmem S1x32 .f32) (harg19 : arg19.IsWhole) (arg20 : Memref sig .tc .vmem S32x1 .f32) (harg20 : arg20.IsWhole) (arg21 : Memref sig .tc .vmem S1x1 .f32) (harg21 : arg21.IsWhole) (arg22 : Memref sig .tc .vmem S1x1 .f32) (harg22 : arg22.IsWhole) (arg23 : Memref sig .tc .vmem S1x1 .f32) (harg23 : arg23.IsWhole) (arg24 : Memref sig .tc .vmem S1x1x16 .f32) (harg24 : arg24.IsWhole) (arg25 : Memref sig .tc .smem S1x8192 .i32) (harg25 : arg25.IsWhole) (arg26 : Memref sig .tc .vmem S8x128 .f32) (harg26 : arg26.IsWhole) (arg27 : Memref sig .tc .vmem S8x128 .f32) (harg27 : arg27.IsWhole) (arg28 : Memref sig .tc .vmem S512x128 .f32) (harg28 : arg28.IsWhole) (arg29 : Memref sig .tc .vmem S512x128 .f32) (harg29 : arg29.IsWhole) (arg30 : Memref sig .tc .vmem S128x30 .f32) (harg30 : arg30.IsWhole) (arg31 : DmaSems sig S_)
variable {c : Dev nD} {q : PosShare TreeShare} {defs : Defs nD τ sig (Elt F) Λ₀} {𝒱 : Variants} {bd : Option 𝒱.V} {E : Set Name}
variable {D : S1x8192.Idx → BitVec 32} {M : S100000x1x128.Idx → F .f32} {A B : S512x128.Idx → F .f32} {X : S128x30.Idx → F .f32}

set_option maxHeartbeats 0 in
/-- The rest of the odd document's rows, the histogram of the tile held before, and the first rows of the document ahead. -/
theorem rows310 (hD : ∀ i, (D i).toNat < 100000) (t : Fin k0_t1_loop.trips) (v187 : Vec F S8x128 .f32) (v191 : FVec F S8x1 .f32) (a b d : BitVec 32) {R : sProp 𝕄} {Q : α → sProp 𝕄}
    {K : _ → Prog (TpuEff nD τ sig (Elt F) Λ₀ .tc) α}
    (h : ∀ e v, v = docWord D (ahead t.val * 512 + 92) → Held c arg25 arg2 arg28 arg29 arg30 q D M (rowsTo D M (ahead t.val * 512) 92 A) (rowsTo D M ((2 * t.val + 1) * 512) 512 B) (binsTo (countOf (binOf v187 v191 A)) (2 * t.val * 8) 30 X) R
      ⊢ wp frame (wpE defs 𝒱 (c : Thread nD τ) bd) E (K ⟨e, v⟩) Q) :
    Held c arg25 arg2 arg28 arg29 arg30 q D M A (rowsTo D M ((2 * t.val + 1) * 512) 423 B) X R
      ⊢ wp frame (wpE defs 𝒱 (c : Thread nD τ) bd) E ((k0_part310 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 v187 v191 t a b d).bind K) Q := by
  have ht : t.val < 8 := t.isLt
  iterate 89
    refine wp_row_b hD rfl ?_ ?_ ?_ ?_ ?_
    · exact off_odd t.val ht _ (by decide)
    · exact fun f hf => row_inb _ (hf _)
    · exact fun f => rfl
    · exact fun f v w => row_cast _ _ v
    intro _ _ _
  refine wp_tile_a ?_
  refine held_bins (countOf (binOf v187 v191 A)) (2 * t.val * 8) ?_
  iterate 30
    refine wp_binload fun _ => ?_
    refine wp_binput (off_bin_even t.val ht _) rfl ?_ ?_
    · exact fun p => bin_cast _ _ _ p
  refine held_rows_a D M (ahead t.val * 512) ?_
  iterate 92
    refine wp_row_a hD rfl ?_ ?_ ?_ ?_ ?_
    · exact off_ahead t.val ht _ (by decide)
    · exact fun f hf => row_inb _ (hf _)
    · exact fun f => rfl
    · exact fun f v w => row_cast _ _ v
    intro _ _ _
  refine wp_word _ (off_ahead t.val ht _ (by decide)) fun f hf => ?_
  exact h _ _ (hf _)

end Drmm.I
end
-- ==== Proof.I.Rows4.lean ====
module

public import proofs.«01_k».proof.Proof.I.Base

@[expose] public section

noncomputable section

namespace Drmm.I

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Cert.KernelIdeal
open Facts Shapes1.Facts₀ Shapes2.Facts₀ K0.R1.Facts₀ K0.R2.Facts₀

variable {F : FTy → Type} [FloatOps F] [Facts]
variable {Ix : Type} [DecidableEq Ix] {Name : Type} [DecidableEq Name] {U : Type} [URA U] {Lvl : Type} [Preorder Lvl] {α : Type}
local notation "𝕄" => MT nD τ sig Ix (Elt F) Name U Lvl
variable (i : grid0.Coords) (arg1 : Memref sig .tc .smem S256 .i32) (harg1 : arg1.IsWhole) (arg2 : Memref sig .tc .vmem S100000x1x128 .f32) (harg2 : arg2.IsWhole) (arg3 : Memref sig .tc .vmem S782x1x128 .f32) (harg3 : arg3.IsWhole) (arg4 : Memref sig .tc .vmem S1x1x8192 .i32) (harg4 : arg4.IsWhole) (arg5 : Memref sig .tc .vmem S8x1 .f32) (harg5 : arg5.IsWhole) (arg6 : Memref sig .tc .vmem S1x30 .f32) (harg6 : arg6.IsWhole) (arg7 : Memref sig .tc .vmem S1x30 .f32) (harg7 : arg7.IsWhole) (arg8 : Memref sig .tc .vmem S30x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S128x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S64x32 .f32) (harg16 : arg16.IsWhole) (arg17 : Memref sig .tc .vmem S1x32 .f32) (harg17 : arg17.IsWhole) (arg18 : Memref sig .tc .vmem S1x32 .f32) (harg18 : arg18.IsWhole) (arg19 : Memref sig .tc .vmem S1x32 .f32) (harg19 : arg19.IsWhole) (arg20 : Memref sig .tc .vmem S32x1 .f32) (harg20 : arg20.IsWhole) (arg21 : Memref sig .tc .vmem S1x1 .f32) (harg21 : arg21.IsWhole) (arg22 : Memref sig .tc .vmem S1x1 .f32) (harg22 : arg22.IsWhole) (arg23 : Memref sig .tc .vmem S1x1 .f32) (harg23 : arg23.IsWhole) (arg24 : Memref sig .tc .vmem S1x1x16 .f32) (harg24 : arg24.IsWhole) (arg25 : Memref sig .tc .smem S1x8192 .i32) (harg25 : arg25.IsWhole) (arg26 : Memref sig .tc .vmem S8x128 .f32) (harg26 : arg26.IsWhole) (arg27 : Memref sig .tc .vmem S8x128 .f32) (harg27 : arg27.IsWhole) (arg28 : Memref sig .tc .vmem S512x128 .f32) (harg28 : arg28.IsWhole) (arg29 : Memref sig .tc .vmem S512x128 .f32) (harg29 : arg29.IsWhole) (arg30 : Memref sig .tc .vmem S128x30 .f32) (harg30 : arg30.IsWhole) (arg31 : DmaSems sig S_)
variable {c : Dev nD} {q : PosShare TreeShare} {defs : Defs nD τ sig (Elt F) Λ₀} {𝒱 : Variants} {bd : Option 𝒱.V} {E : Set Name}
variable {D : S1x8192.Idx → BitVec 32} {M : S100000x1x128.Idx → F .f32} {A B : S512x128.Idx → F .f32} {X : S128x30.Idx → F .f32}

set_option maxHeartbeats 0 in
/-- More rows of the document ahead, from within one row. -/
theorem rows311 (hD : ∀ i, (D i).toNat < 100000) (t : Fin k0_t1_loop.trips) (e : BitVec 32) (v : Elt F .i32) {R : sProp 𝕄} {Q : α → sProp 𝕄}
    {K : _ → Prog (TpuEff nD τ sig (Elt F) Λ₀ .tc) α}
    (hv : v = docWord D (ahead t.val * 512 + 92))
    (h : ∀ a, Held c arg25 arg2 arg28 arg29 arg30 q D M (rowsTo D M (ahead t.val * 512) 304 A) B X R
      ⊢ wp frame (wpE defs 𝒱 (c : Thread nD τ) bd) E (K a) Q) :
    Held c arg25 arg2 arg28 arg29 arg30 q D M (rowsTo D M (ahead t.val * 512) 92 A) B X R
      ⊢ wp frame (wpE defs 𝒱 (c : Thread nD τ) bd) E ((k0_part311 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 t e v).bind K) Q := by
  have ht : t.val < 8 := t.isLt
  subst hv
  refine wp_take ?_ fun hc => ?_
  · exact row_inb _ (hD _)
  refine wp_put_a rfl rfl ?_ ?_
  · exact fun v w => row_cast _ _ v
  intro _ _
  iterate 211
    refine wp_row_a hD rfl ?_ ?_ ?_ ?_ ?_
    · exact off_ahead t.val ht _ (by decide)
    · exact fun f hf => row_inb _ (hf _)
    · exact fun f => rfl
    · exact fun f v w => row_cast _ _ v
    intro _ _ _
  exact h _

end Drmm.I
end
-- ==== Proof.I.Rows5.lean ====
module

public import proofs.«01_k».proof.Proof.I.Base

@[expose] public section

noncomputable section

namespace Drmm.I

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Cert.KernelIdeal
open Facts Shapes1.Facts₀ Shapes2.Facts₀ K0.R1.Facts₀ K0.R2.Facts₀

variable {F : FTy → Type} [FloatOps F] [Facts]
variable {Ix : Type} [DecidableEq Ix] {Name : Type} [DecidableEq Name] {U : Type} [URA U] {Lvl : Type} [Preorder Lvl] {α : Type}
local notation "𝕄" => MT nD τ sig Ix (Elt F) Name U Lvl
variable (i : grid0.Coords) (arg1 : Memref sig .tc .smem S256 .i32) (harg1 : arg1.IsWhole) (arg2 : Memref sig .tc .vmem S100000x1x128 .f32) (harg2 : arg2.IsWhole) (arg3 : Memref sig .tc .vmem S782x1x128 .f32) (harg3 : arg3.IsWhole) (arg4 : Memref sig .tc .vmem S1x1x8192 .i32) (harg4 : arg4.IsWhole) (arg5 : Memref sig .tc .vmem S8x1 .f32) (harg5 : arg5.IsWhole) (arg6 : Memref sig .tc .vmem S1x30 .f32) (harg6 : arg6.IsWhole) (arg7 : Memref sig .tc .vmem S1x30 .f32) (harg7 : arg7.IsWhole) (arg8 : Memref sig .tc .vmem S30x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S128x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S64x32 .f32) (harg16 : arg16.IsWhole) (arg17 : Memref sig .tc .vmem S1x32 .f32) (harg17 : arg17.IsWhole) (arg18 : Memref sig .tc .vmem S1x32 .f32) (harg18 : arg18.IsWhole) (arg19 : Memref sig .tc .vmem S1x32 .f32) (harg19 : arg19.IsWhole) (arg20 : Memref sig .tc .vmem S32x1 .f32) (harg20 : arg20.IsWhole) (arg21 : Memref sig .tc .vmem S1x1 .f32) (harg21 : arg21.IsWhole) (arg22 : Memref sig .tc .vmem S1x1 .f32) (harg22 : arg22.IsWhole) (arg23 : Memref sig .tc .vmem S1x1 .f32) (harg23 : arg23.IsWhole) (arg24 : Memref sig .tc .vmem S1x1x16 .f32) (harg24 : arg24.IsWhole) (arg25 : Memref sig .tc .smem S1x8192 .i32) (harg25 : arg25.IsWhole) (arg26 : Memref sig .tc .vmem S8x128 .f32) (harg26 : arg26.IsWhole) (arg27 : Memref sig .tc .vmem S8x128 .f32) (harg27 : arg27.IsWhole) (arg28 : Memref sig .tc .vmem S512x128 .f32) (harg28 : arg28.IsWhole) (arg29 : Memref sig .tc .vmem S512x128 .f32) (harg29 : arg29.IsWhole) (arg30 : Memref sig .tc .vmem S128x30 .f32) (harg30 : arg30.IsWhole) (arg31 : DmaSems sig S_)
variable {c : Dev nD} {q : PosShare TreeShare} {defs : Defs nD τ sig (Elt F) Λ₀} {𝒱 : Variants} {bd : Option 𝒱.V} {E : Set Name}
variable {D : S1x8192.Idx → BitVec 32} {M : S100000x1x128.Idx → F .f32} {A B : S512x128.Idx → F .f32} {X : S128x30.Idx → F .f32}

set_option maxHeartbeats 0 in
/-- The last rows of the document ahead, and the histogram of the odd document begun. -/
theorem rows312 (hD : ∀ i, (D i).toNat < 100000) (t : Fin k0_t1_loop.trips) (v187 : Vec F S8x128 .f32) (v191 : FVec F S8x1 .f32) (a e d : BitVec 32) {R : sProp 𝕄} {Q : α → sProp 𝕄}
    {K : _ → Prog (TpuEff nD τ sig (Elt F) Λ₀ .tc) α}
    (h : ∀ f w, Held c arg25 arg2 arg28 arg29 arg30 q D M (rowsTo D M (ahead t.val * 512) 512 A) B (binsTo (countOf (binOf v187 v191 B)) ((2 * t.val + 1) * 8) 1 X) R
      ⊢ wp frame (wpE defs 𝒱 (c : Thread nD τ) bd) E (K ⟨f, binOf v187 v191 B, shapeCast S8x1 (countVec (binOf v187 v191 B) 1) shapeCasts_S8_S8x1, w⟩) Q) :
    Held c arg25 arg2 arg28 arg29 arg30 q D M (rowsTo D M (ahead t.val * 512) 304 A) B X R
      ⊢ wp frame (wpE defs 𝒱 (c : Thread nD τ) bd) E ((k0_part312 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 v187 v191 t a e d).bind K) Q := by
  have ht : t.val < 8 := t.isLt
  iterate 208
    refine wp_row_a hD rfl ?_ ?_ ?_ ?_ ?_
    · exact off_ahead t.val ht _ (by decide)
    · exact fun f hf => row_inb _ (hf _)
    · exact fun f => rfl
    · exact fun f v w => row_cast _ _ v
    intro _ _ _
  refine wp_tile_b ?_
  refine held_bins (countOf (binOf v187 v191 B)) ((2 * t.val + 1) * 8) ?_
  iterate 1
    refine wp_binload fun _ => ?_
    refine wp_binput (off_bin_odd t.val ht _) rfl ?_ ?_
    · exact fun p => bin_cast _ _ _ p
  refine wp_binload fun _ => ?_
  exact h _ _

end Drmm.I
end
-- ==== Proof.I.Loop.lean ====
module

public import proofs.«01_k».proof.Proof.I.Rows1
public import proofs.«01_k».proof.Proof.I.Rows2
public import proofs.«01_k».proof.Proof.I.Rows3
public import proofs.«01_k».proof.Proof.I.Rows4
public import proofs.«01_k».proof.Proof.I.Rows5
public import proofs.«01_k».proof.Proof.Steps2

@[expose] public section

noncomputable section

namespace Drmm.I

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Cert.KernelIdeal
open Facts Shapes1.Facts₀ Shapes2.Facts₀ K0.R1.Facts₀ K0.R2.Facts₀

variable {F : FTy → Type} [FloatOps F] [Facts]
section
variable {Ix : Type} [DecidableEq Ix] {Name : Type} [DecidableEq Name] {U : Type} [URA U] {Lvl : Type} [Preorder Lvl]
local notation "𝕄" => MT nD τ sig Ix (Elt F) Name U Lvl
/-- Before trip `k`: the first tile holds the document slot of that trip, the histogram the slots before it. -/
def tripInv (c : Dev nD) (arg25 : Memref sig .tc .smem S1x8192 .i32) (arg2 : Memref sig .tc .vmem S100000x1x128 .f32)
    (arg28 arg29 : Memref sig .tc .vmem S512x128 .f32) (arg30 : Memref sig .tc .vmem S128x30 .f32) (q : PosShare TreeShare)
    (D : S1x8192.Idx → BitVec 32) (M : S100000x1x128.Idx → F .f32) (v187 : FVec F S8x128 .f32) (v191 : FVec F S8x1 .f32)
    (X : S128x30.Idx → F .f32) (R : sProp 𝕄) (k : ℕ) : sProp 𝕄 :=
  iprop(∃ B, Held c arg25 arg2 arg28 arg29 arg30 q D M (tileOf D M (slotA k * 512)) B (histTo (fun n => slotCounts v187 v191 D M (n * 512)) (2 * k) X) R)
end

variable {Ix : Type} [DecidableEq Ix] {Name : Type} [DecidableEq Name] {U : Type} [URA U] {Lvl : Type} [Preorder Lvl] {α : Type}
local notation "𝕄" => MT nD τ sig Ix (Elt F) Name U Lvl
variable (i : grid0.Coords) (arg1 : Memref sig .tc .smem S256 .i32) (harg1 : arg1.IsWhole) (arg2 : Memref sig .tc .vmem S100000x1x128 .f32) (harg2 : arg2.IsWhole) (arg3 : Memref sig .tc .vmem S782x1x128 .f32) (harg3 : arg3.IsWhole) (arg4 : Memref sig .tc .vmem S1x1x8192 .i32) (harg4 : arg4.IsWhole) (arg5 : Memref sig .tc .vmem S8x1 .f32) (harg5 : arg5.IsWhole) (arg6 : Memref sig .tc .vmem S1x30 .f32) (harg6 : arg6.IsWhole) (arg7 : Memref sig .tc .vmem S1x30 .f32) (harg7 : arg7.IsWhole) (arg8 : Memref sig .tc .vmem S30x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S128x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S64x32 .f32) (harg16 : arg16.IsWhole) (arg17 : Memref sig .tc .vmem S1x32 .f32) (harg17 : arg17.IsWhole) (arg18 : Memref sig .tc .vmem S1x32 .f32) (harg18 : arg18.IsWhole) (arg19 : Memref sig .tc .vmem S1x32 .f32) (harg19 : arg19.IsWhole) (arg20 : Memref sig .tc .vmem S32x1 .f32) (harg20 : arg20.IsWhole) (arg21 : Memref sig .tc .vmem S1x1 .f32) (harg21 : arg21.IsWhole) (arg22 : Memref sig .tc .vmem S1x1 .f32) (harg22 : arg22.IsWhole) (arg23 : Memref sig .tc .vmem S1x1 .f32) (harg23 : arg23.IsWhole) (arg24 : Memref sig .tc .vmem S1x1x16 .f32) (harg24 : arg24.IsWhole) (arg25 : Memref sig .tc .smem S1x8192 .i32) (harg25 : arg25.IsWhole) (arg26 : Memref sig .tc .vmem S8x128 .f32) (harg26 : arg26.IsWhole) (arg27 : Memref sig .tc .vmem S8x128 .f32) (harg27 : arg27.IsWhole) (arg28 : Memref sig .tc .vmem S512x128 .f32) (harg28 : arg28.IsWhole) (arg29 : Memref sig .tc .vmem S512x128 .f32) (harg29 : arg29.IsWhole) (arg30 : Memref sig .tc .vmem S128x30 .f32) (harg30 : arg30.IsWhole) (arg31 : DmaSems sig S_)
variable {c : Dev nD} {q : PosShare TreeShare} {defs : Defs nD τ sig (Elt F) Λ₀} {𝒱 : Variants} {bd : Option 𝒱.V} {E : Set Name}
variable {D : S1x8192.Idx → BitVec 32} {M : S100000x1x128.Idx → F .f32} {A B : S512x128.Idx → F .f32} {X : S128x30.Idx → F .f32}

set_option maxHeartbeats 0 in
/-- The last row of the first document, the loop over pairs of documents, and the reading of the finished histogram and of the first parameter. -/
theorem loop446 (hD : ∀ i, (D i).toNat < 100000) (v187 : Vec F S8x128 .f32) (v191 : FVec F S8x1 .f32) (x : FVec F S1x128 .f32) (y : Vec F S1x128 .f32)
    {P6 : S1x30.Idx → F .f32} {R : sProp 𝕄} {Q : α → sProp 𝕄}
    {K : _ → Prog (TpuEff nD τ sig (Elt F) Λ₀ .tc) α}
    (hv : ∀ l : Fin 128, x (ix2 (0 : Fin 1) l) = tableRow M (docWord D (0 + 508)).toNat l)
    (h : ∀ B, Held c arg25 arg2 arg28 arg29 arg30 q D M (tileOf D M (15 * 512)) B (histAll (fun n => slotCounts v187 v191 D M (n * 512))) iprop(owns (c : Thread nD τ) arg6 q P6 ∗ R)
      ⊢ wp frame (wpE defs 𝒱 (c : Thread nD τ) bd) E (K ⟨histAll (fun n => slotCounts v187 v191 D M (n * 512)), P6⟩) Q) :
    Held c arg25 arg2 arg28 arg29 arg30 q D M (rowsTo D M 0 508 A) B X iprop(owns (c : Thread nD τ) arg6 q P6 ∗ R)
      ⊢ wp frame (wpE defs 𝒱 (c : Thread nD τ) bd) E ((k0_part446 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 v187 v191 x y).bind K) Q := by
  refine wp_keep_a rfl ?_ ?_
  · exact fun l => (congrFun (shapeCast_self _ _) _).trans (hv l)
  iterate 3
    refine wp_row_a hD rfl ?_ ?_ ?_ ?_ ?_
    · exact congrArg (fun n => ![0, n]) (Nat.zero_add _).symm
    · exact fun f hf => row_inb _ (hf _)
    · exact fun f => rfl
    · exact fun f v w => row_cast _ _ v
    intro _ _ _
  rw [rowsTo_all]
  refine .trans (Q := tripInv c arg25 arg2 arg28 arg29 arg30 q D M v187 v191 X iprop(owns (c : Thread nD τ) arg6 q P6 ∗ R) 0) ?_ ?_
  · unfold tripInv
    iintro H
    iexists B
    rw [histTo_zero]
    iexact H
  refine wp_loop' (tripInv c arg25 arg2 arg28 arg29 arg30 q D M v187 v191 X iprop(owns (c : Thread nD τ) arg6 q P6 ∗ R)) ?_ ?_
  · intro t _
    refine of_exists fun B => ?_
    have ht : t.val < 8 := t.isLt
    rw [slotA_lt _ ht]
    refine held_rows_b D M ((2 * t.val + 1) * 512) ?_
    refine rows308 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 hD t fun a b v hw hv => ?_
    refine rows309 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 hD t b v hw hv fun d => ?_
    refine rows310 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 hD t v187 v191 a b d fun e v' hv' => ?_
    rw [show binsTo (countOf (binOf v187 v191 (tileOf D M (2 * t.val * 512)))) (2 * t.val * 8) 30 (histTo (fun n => slotCounts v187 v191 D M (n * 512)) (2 * t.val) X)
      = histTo (fun n => slotCounts v187 v191 D M (n * 512)) (2 * t.val + 1) X from histTo_succ (fun n => slotCounts v187 v191 D M (n * 512)) (2 * t.val) X, rowsTo_all]
    refine rows311 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 hD t e v' hv' fun a' => ?_
    refine rows312 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 hD t v187 v191 a e a' fun f w => ?_
    rw [rowsTo_all]
    refine wp_binput (off_bin_odd t.val ht _) rfl ?_ ?_
    · exact fun p => bin_cast _ _ _ p
    iterate 28
      refine wp_binload fun _ => ?_
      refine wp_binput (off_bin_odd t.val ht _) rfl ?_ ?_
      · exact fun p => bin_cast _ _ _ p
    rw [show binsTo (countOf (binOf v187 v191 (tileOf D M ((2 * t.val + 1) * 512)))) ((2 * t.val + 1) * 8) 30 (histTo (fun n => slotCounts v187 v191 D M (n * 512)) (2 * t.val + 1) X)
      = histTo (fun n => slotCounts v187 v191 D M (n * 512)) (2 * (t.val + 1)) X from histTo_succ (fun n => slotCounts v187 v191 D M (n * 512)) (2 * t.val + 1) X]
    refine wp_done ?_
    unfold tripInv
    rw [slotA_succ _ ht]
    iintro H
    iexists (tileOf D M ((2 * t.val + 1) * 512))
    iexact H
  · intro _
    refine of_exists fun B => ?_
    rw [show histTo (fun n => slotCounts v187 v191 D M (n * 512)) (2 * Scf.trips k0_t1_loop.lb k0_t1_loop.ub k0_t1_loop.st) X = histAll (fun n => slotCounts v187 v191 D M (n * 512)) from histTo_all (fun n => slotCounts v187 v191 D M (n * 512)) X]
    refine wp_get (held_x _) (held_x' _) ?_
    refine wp_get (held_r _) (held_r' _) ?_
    rw [show (fun i => histAll (fun n => slotCounts v187 v191 D M (n * 512)) ((Rect.unit (s := S128x30) ![0, 0] S128x30.size inb_S128x30_S128x30_0_0).emb i)) = histAll (fun n => slotCounts v187 v191 D M (n * 512)) from
      funext fun j => congrArg _ (whole_emb (s := S128x30) _ zero₂ j),
      show (fun i => P6 ((Rect.unit (s := S1x30) ![0, 0] S1x30.size inb_S1x30_S1x30_0_0).emb i)) = P6 from
      funext fun j => congrArg _ (whole_emb (s := S1x30) _ zero₂ j)]
    exact h B

end Drmm.I
end
-- ==== Proof.I.Body.lean ====
module

public import proofs.«01_k».proof.Proof.I.Prelude
public import proofs.«01_k».proof.Proof.I.Gather1
public import proofs.«01_k».proof.Proof.I.Gather2
public import proofs.«01_k».proof.Proof.I.Loop

@[expose] public section

noncomputable section

namespace Drmm.I

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Cert.KernelIdeal
open Facts Shapes1.Facts₀ Shapes2.Facts₀ K0.R1.Facts₀ K0.R2.Facts₀

variable {F : FTy → Type} [FloatOps F] [Facts]
section
variable {Ix : Type} [DecidableEq Ix] {Name : Type} [DecidableEq Name] {U : Type} [URA U] {Lvl : Type} [Preorder Lvl]
local notation "𝕄" => MT nD τ sig Ix (Elt F) Name U Lvl
/-- What a grid step holds: the windows, the scratch buffers, the table of query words, the copy's semaphore at zero. -/
def Step (c : Dev nD) (arg1 : Memref sig .tc .smem S256 .i32) (arg2 : Memref sig .tc .vmem S100000x1x128 .f32) (arg3 : Memref sig .tc .vmem S782x1x128 .f32) (arg4 : Memref sig .tc .vmem S1x1x8192 .i32) (arg5 : Memref sig .tc .vmem S8x1 .f32) (arg6 : Memref sig .tc .vmem S1x30 .f32) (arg7 : Memref sig .tc .vmem S1x30 .f32) (arg8 : Memref sig .tc .vmem S30x128 .f32) (arg9 : Memref sig .tc .vmem S1x128 .f32) (arg10 : Memref sig .tc .vmem S1x128 .f32) (arg11 : Memref sig .tc .vmem S1x128 .f32) (arg12 : Memref sig .tc .vmem S128x64 .f32) (arg13 : Memref sig .tc .vmem S1x64 .f32) (arg14 : Memref sig .tc .vmem S1x64 .f32) (arg15 : Memref sig .tc .vmem S1x64 .f32) (arg16 : Memref sig .tc .vmem S64x32 .f32) (arg17 : Memref sig .tc .vmem S1x32 .f32) (arg18 : Memref sig .tc .vmem S1x32 .f32) (arg19 : Memref sig .tc .vmem S1x32 .f32) (arg20 : Memref sig .tc .vmem S32x1 .f32) (arg21 : Memref sig .tc .vmem S1x1 .f32) (arg22 : Memref sig .tc .vmem S1x1 .f32) (arg23 : Memref sig .tc .vmem S1x1 .f32) (arg24 : Memref sig .tc .vmem S1x1x16 .f32) (arg25 : Memref sig .tc .smem S1x8192 .i32) (arg26 : Memref sig .tc .vmem S8x128 .f32) (arg27 : Memref sig .tc .vmem S8x128 .f32) (arg28 : Memref sig .tc .vmem S512x128 .f32) (arg29 : Memref sig .tc .vmem S512x128 .f32) (arg30 : Memref sig .tc .vmem S128x30 .f32) (arg31 : DmaSems sig S_)
    (q qt : PosShare TreeShare) (X4 : S1x1x8192.Idx → BitVec 32) (T : S256.Idx → BitVec 32) (M : S100000x1x128.Idx → F .f32) (G : S782x1x128.Idx → F .f32) (Wg : S8x1.Idx → F .f32)
    (P6 : S1x30.Idx → F .f32) (P7 : S1x30.Idx → F .f32) (P8 : S30x128.Idx → F .f32) (P9 : S1x128.Idx → F .f32) (P10 : S1x128.Idx → F .f32) (P11 : S1x128.Idx → F .f32) (P12 : S128x64.Idx → F .f32) (P13 : S1x64.Idx → F .f32) (P14 : S1x64.Idx → F .f32) (P15 : S1x64.Idx → F .f32) (P16 : S64x32.Idx → F .f32) (P17 : S1x32.Idx → F .f32) (P18 : S1x32.Idx → F .f32) (P19 : S1x32.Idx → F .f32) (P20 : S32x1.Idx → F .f32) (P21 : S1x1.Idx → F .f32) (P22 : S1x1.Idx → F .f32) (P23 : S1x1.Idx → F .f32)
    (D : S1x8192.Idx → BitVec 32) (V I : S8x128.Idx → F .f32) (A B : S512x128.Idx → F .f32) (X : S128x30.Idx → F .f32) (Y : S1x1x16.Idx → F .f32) (W₀ : Waits sig Ix) : sProp 𝕄 :=
  iprop(owns (c : Thread nD τ) arg4 q X4
      ∗ owns (c : Thread nD τ) arg25 fullShare D
      ∗ semVal ((c : Thread nD τ), .dma arg31.sem) 0
      ∗ owes (c : Thread nD τ) 0 W₀
      ∗ owns (c : Thread nD τ) arg1 qt T
      ∗ owns (c : Thread nD τ) arg2 q M
      ∗ owns (c : Thread nD τ) arg3 q G
      ∗ owns (c : Thread nD τ) arg26 fullShare V
      ∗ owns (c : Thread nD τ) arg27 fullShare I
      ∗ owns (c : Thread nD τ) arg5 q Wg
      ∗ owns (c : Thread nD τ) arg28 fullShare A
      ∗ owns (c : Thread nD τ) arg29 fullShare B
      ∗ owns (c : Thread nD τ) arg30 fullShare X
      ∗ owns (c : Thread nD τ) arg6 q P6
      ∗ owns (c : Thread nD τ) arg7 q P7
      ∗ owns (c : Thread nD τ) arg8 q P8
      ∗ owns (c : Thread nD τ) arg9 q P9
      ∗ owns (c : Thread nD τ) arg10 q P10
      ∗ owns (c : Thread nD τ) arg11 q P11
      ∗ owns (c : Thread nD τ) arg12 q P12
      ∗ owns (c : Thread nD τ) arg13 q P13
      ∗ owns (c : Thread nD τ) arg14 q P14
      ∗ owns (c : Thread nD τ) arg15 q P15
      ∗ owns (c : Thread nD τ) arg16 q P16
      ∗ owns (c : Thread nD τ) arg17 q P17
      ∗ owns (c : Thread nD τ) arg18 q P18
      ∗ owns (c : Thread nD τ) arg19 q P19
      ∗ owns (c : Thread nD τ) arg20 q P20
      ∗ owns (c : Thread nD τ) arg21 q P21
      ∗ owns (c : Thread nD τ) arg22 q P22
      ∗ owns (c : Thread nD τ) arg23 q P23
      ∗ owns (c : Thread nD τ) arg24 fullShare Y)
end

/-- The block of scores a grid step stores, from the windows it reads. -/
def blockOf (b : ℕ) (X4 : S1x1x8192.Idx → BitVec 32) (T : S256.Idx → BitVec 32) (M : S100000x1x128.Idx → F .f32) (G : S782x1x128.Idx → F .f32) (Wg : S8x1.Idx → F .f32)
    (P6 : S1x30.Idx → F .f32) (P7 : S1x30.Idx → F .f32) (P8 : S30x128.Idx → F .f32) (P9 : S1x128.Idx → F .f32) (P10 : S1x128.Idx → F .f32) (P11 : S1x128.Idx → F .f32) (P12 : S128x64.Idx → F .f32) (P13 : S1x64.Idx → F .f32) (P14 : S1x64.Idx → F .f32) (P15 : S1x64.Idx → F .f32) (P16 : S64x32.Idx → F .f32) (P17 : S1x32.Idx → F .f32) (P18 : S1x32.Idx → F .f32) (P19 : S1x32.Idx → F .f32) (P20 : S32x1.Idx → F .f32) (P21 : S1x1.Idx → F .f32) (P22 : S1x1.Idx → F .f32) (P23 : S1x1.Idx → F .f32) : S1x1x16.Idx → F .f32 :=
  shapeCast S1x1x16 (sumOf (scoreOf (histAll fun n => slotCounts (qvOf T M b) (normOf (qvOf T M b)) (docOf X4) M (n * 512)) P6 P7 P8 P9 P10 P11 P12 P13 P14 P15 P16 P17 P18 P19 P20 P21 P22 P23)
    (gateOf (idfOf T G b) Wg)) shapeCasts_S1x16_S1x1x16

variable {Ix : Type} [DecidableEq Ix] {Name : Type} [DecidableEq Name] {U : Type} [URA U] {Lvl : Type} [Preorder Lvl] {α : Type}
local notation "𝕄" => MT nD τ sig Ix (Elt F) Name U Lvl
variable (i : grid0.Coords) (arg1 : Memref sig .tc .smem S256 .i32) (harg1 : arg1.IsWhole) (arg2 : Memref sig .tc .vmem S100000x1x128 .f32) (harg2 : arg2.IsWhole) (arg3 : Memref sig .tc .vmem S782x1x128 .f32) (harg3 : arg3.IsWhole) (arg4 : Memref sig .tc .vmem S1x1x8192 .i32) (harg4 : arg4.IsWhole) (arg5 : Memref sig .tc .vmem S8x1 .f32) (harg5 : arg5.IsWhole) (arg6 : Memref sig .tc .vmem S1x30 .f32) (harg6 : arg6.IsWhole) (arg7 : Memref sig .tc .vmem S1x30 .f32) (harg7 : arg7.IsWhole) (arg8 : Memref sig .tc .vmem S30x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S128x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S64x32 .f32) (harg16 : arg16.IsWhole) (arg17 : Memref sig .tc .vmem S1x32 .f32) (harg17 : arg17.IsWhole) (arg18 : Memref sig .tc .vmem S1x32 .f32) (harg18 : arg18.IsWhole) (arg19 : Memref sig .tc .vmem S1x32 .f32) (harg19 : arg19.IsWhole) (arg20 : Memref sig .tc .vmem S32x1 .f32) (harg20 : arg20.IsWhole) (arg21 : Memref sig .tc .vmem S1x1 .f32) (harg21 : arg21.IsWhole) (arg22 : Memref sig .tc .vmem S1x1 .f32) (harg22 : arg22.IsWhole) (arg23 : Memref sig .tc .vmem S1x1 .f32) (harg23 : arg23.IsWhole) (arg24 : Memref sig .tc .vmem S1x1x16 .f32) (harg24 : arg24.IsWhole) (arg25 : Memref sig .tc .smem S1x8192 .i32) (harg25 : arg25.IsWhole) (arg26 : Memref sig .tc .vmem S8x128 .f32) (harg26 : arg26.IsWhole) (arg27 : Memref sig .tc .vmem S8x128 .f32) (harg27 : arg27.IsWhole) (arg28 : Memref sig .tc .vmem S512x128 .f32) (harg28 : arg28.IsWhole) (arg29 : Memref sig .tc .vmem S512x128 .f32) (harg29 : arg29.IsWhole) (arg30 : Memref sig .tc .vmem S128x30 .f32) (harg30 : arg30.IsWhole) (arg31 : DmaSems sig S_)
variable {c : Dev nD} {q : PosShare TreeShare} {defs : Defs nD τ sig (Elt F) Λ₀} {𝒱 : Variants} {bd : Option 𝒱.V} {E : Set Name}
variable {D : S1x8192.Idx → BitVec 32} {M : S100000x1x128.Idx → F .f32} {A B : S512x128.Idx → F .f32} {X : S128x30.Idx → F .f32}

variable [Infinite Name] (EC : UEmb Counters (MT nD τ sig Ix (Elt F) Name U Lvl)) [EC.LandsIn (upEmb : UEmb _ (MT nD τ sig Ix (Elt F) Name U Lvl))]
variable {T : S256.Idx → BitVec 32} {G : S782x1x128.Idx → F .f32} {V I : S8x128.Idx → F .f32} {Wg : S8x1.Idx → F .f32}

include EC in
set_option maxHeartbeats 0 in
/-- A grid step: from the windows at their contents to the output window at the step's block of scores, everything read as it was. -/
theorem body {P6 : S1x30.Idx → F .f32} {P7 : S1x30.Idx → F .f32} {P8 : S30x128.Idx → F .f32} {P9 : S1x128.Idx → F .f32} {P10 : S1x128.Idx → F .f32} {P11 : S1x128.Idx → F .f32} {P12 : S128x64.Idx → F .f32} {P13 : S1x64.Idx → F .f32} {P14 : S1x64.Idx → F .f32} {P15 : S1x64.Idx → F .f32} {P16 : S64x32.Idx → F .f32} {P17 : S1x32.Idx → F .f32} {P18 : S1x32.Idx → F .f32} {P19 : S1x32.Idx → F .f32} {P20 : S32x1.Idx → F .f32} {P21 : S1x1.Idx → F .f32} {P22 : S1x1.Idx → F .f32} {P23 : S1x1.Idx → F .f32} {Y : S1x1x16.Idx → F .f32}
    (hT : ∀ i, (T i).toNat < 100000) {X4 : S1x1x8192.Idx → BitVec 32} (hD : ∀ i, (docOf X4 i).toNat < 100000)
    {D : S1x8192.Idx → BitVec 32} {qt : PosShare TreeShare} {ι : Ix} {W₀ : Waits sig Ix} {Q : PUnit → sProp 𝕄}
    (h : ∀ D' V' I' A' B' X', Step c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 q qt X4 T M G Wg P6 P7 P8 P9 P10 P11 P12 P13 P14 P15 P16 P17 P18 P19 P20 P21 P22 P23 D' V' I' A' B' X' (blockOf (i 0).val X4 T M G Wg P6 P7 P8 P9 P10 P11 P12 P13 P14 P15 P16 P17 P18 P19 P20 P21 P22 P23) (insert (SemLoc.dma arg31.sem, ι) W₀) ⊢ Q ⟨⟩) :
    Step c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 q qt X4 T M G Wg P6 P7 P8 P9 P10 P11 P12 P13 P14 P15 P16 P17 P18 P19 P20 P21 P22 P23 D V I A B X Y W₀
      ⊢ wp frame (wpE defs 𝒱 (c : Thread nD τ) bd) Set.univ (cc0__drmm_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31) Q := by
  refine .trans ?_ (prelude449 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 EC (q := q) (M := M) (T := T) (V := V) (I := I) (A := A) (B := B) (X := X) (Wg := Wg) (G := G) (D₀ := D) (W₀ := W₀) (ι := ι) (qt := qt) hT hD
    (R := iprop(owns (c : Thread nD τ) arg6 q P6 ∗ owns (c : Thread nD τ) arg7 q P7 ∗ (owns (c : Thread nD τ) arg8 q P8 ∗ (owns (c : Thread nD τ) arg9 q P9 ∗ (owns (c : Thread nD τ) arg10 q P10 ∗ (owns (c : Thread nD τ) arg11 q P11 ∗ (owns (c : Thread nD τ) arg12 q P12 ∗ (owns (c : Thread nD τ) arg13 q P13 ∗ (owns (c : Thread nD τ) arg14 q P14 ∗ (owns (c : Thread nD τ) arg15 q P15 ∗ (owns (c : Thread nD τ) arg16 q P16 ∗ (owns (c : Thread nD τ) arg17 q P17 ∗ (owns (c : Thread nD τ) arg18 q P18 ∗ (owns (c : Thread nD τ) arg19 q P19 ∗ (owns (c : Thread nD τ) arg20 q P20 ∗ (owns (c : Thread nD τ) arg21 q P21 ∗ (owns (c : Thread nD τ) arg22 q P22 ∗ (owns (c : Thread nD τ) arg23 q P23 ∗ (owns (c : Thread nD τ) arg24 fullShare Y))))))))))))))))))) fun x y hv => ?_)
  · unfold Step Prep
    iintro ⟨H4, H25, Hs, HO, H1, H2, H3, H26, H27, H5, H28, H29, H30, H6, H7, H8, H9, H10, H11, H12, H13, H14, H15, H16, H17, H18, H19, H20, H21, H22, H23, H24⟩
    isplitl [H4]; · iexact H4
    isplitl [H25]; · iexact H25
    isplitl [Hs]; · iexact Hs
    isplitl [HO]; · iexact HO
    isplitl [H1]; · iexact H1
    isplitl [H2]; · iexact H2
    isplitl [H3]; · iexact H3
    isplitl [H26]; · iexact H26
    isplitl [H27]; · iexact H27
    isplitl [H5]; · iexact H5
    isplitl [H28]; · iexact H28
    isplitl [H29]; · iexact H29
    isplitl [H30]; · iexact H30
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24
  refine .trans (Q := Held c arg25 arg2 arg28 arg29 arg30 q (docOf X4) M (rowsTo (docOf X4) M 0 216 A) B X iprop(owns (c : Thread nD τ) arg6 q P6
      ∗ (owns (c : Thread nD τ) arg7 q P7 ∗ (owns (c : Thread nD τ) arg8 q P8 ∗ (owns (c : Thread nD τ) arg9 q P9 ∗ (owns (c : Thread nD τ) arg10 q P10 ∗ (owns (c : Thread nD τ) arg11 q P11 ∗ (owns (c : Thread nD τ) arg12 q P12 ∗ (owns (c : Thread nD τ) arg13 q P13 ∗ (owns (c : Thread nD τ) arg14 q P14 ∗ (owns (c : Thread nD τ) arg15 q P15 ∗ (owns (c : Thread nD τ) arg16 q P16 ∗ (owns (c : Thread nD τ) arg17 q P17 ∗ (owns (c : Thread nD τ) arg18 q P18 ∗ (owns (c : Thread nD τ) arg19 q P19 ∗ (owns (c : Thread nD τ) arg20 q P20 ∗ (owns (c : Thread nD τ) arg21 q P21 ∗ (owns (c : Thread nD τ) arg22 q P22 ∗ (owns (c : Thread nD τ) arg23 q P23 ∗ (owns (c : Thread nD τ) arg24 fullShare Y)))))))))))))))))) ∗ owns (c : Thread nD τ) arg4 q X4 ∗ semVal ((c : Thread nD τ), .dma arg31.sem) 0 ∗ owes (c : Thread nD τ) 0 (insert (SemLoc.dma arg31.sem, ι) W₀)
      ∗ owns (c : Thread nD τ) arg1 qt T ∗ owns (c : Thread nD τ) arg3 q G ∗ owns (c : Thread nD τ) arg26 fullShare (qvOf T M (i 0).val)
      ∗ owns (c : Thread nD τ) arg27 fullShare (idfOf T G (i 0).val) ∗ owns (c : Thread nD τ) arg5 q Wg)) ?_ ?_
  · unfold Held
    iintro ⟨H25, H2, Ha, Hb, Hx, ⟨H6, HP⟩, HD⟩
    isplitl [H25]; · iexact H25
    isplitl [H2]; · iexact H2
    isplitl [Ha]; · iexact Ha
    isplitl [Hb]; · iexact Hb
    isplitl [Hx]; · iexact Hx
    isplitl [H6]; · iexact H6
    isplitl [HP]; · iexact HP
    iexact HD
  refine gather450 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 hD x y hv fun x y hv => ?_
  refine gather433 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 hD x y hv fun x y hv => ?_
  refine gather434 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 hD x y hv fun x y hv => ?_
  refine gather435 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 hD x y hv fun x y hv => ?_
  refine gather436 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 hD x y hv fun x y hv => ?_
  refine gather437 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 hD x y hv fun x y hv => ?_
  refine gather438 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 hD x y hv fun x y hv => ?_
  refine gather439 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 hD x y hv fun x y hv => ?_
  refine gather440 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 hD x y hv fun x y hv => ?_
  refine gather441 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 hD x y hv fun x y hv => ?_
  refine gather442 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 hD x y hv fun x y hv => ?_
  refine gather443 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 hD x y hv fun x y hv => ?_
  refine gather444 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 hD x y hv fun x y hv => ?_
  refine gather445 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 hD x y hv fun x y hv => ?_
  refine loop446 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 hD _ _ x y hv fun B' => ?_
  refine .trans (Q := iprop((owns (c : Thread nD τ) arg7 q P7 ∗ (owns (c : Thread nD τ) arg8 q P8 ∗ (owns (c : Thread nD τ) arg9 q P9 ∗ (owns (c : Thread nD τ) arg10 q P10 ∗ (owns (c : Thread nD τ) arg11 q P11 ∗ (owns (c : Thread nD τ) arg12 q P12 ∗ (owns (c : Thread nD τ) arg13 q P13 ∗ (owns (c : Thread nD τ) arg14 q P14 ∗ (owns (c : Thread nD τ) arg15 q P15 ∗ (owns (c : Thread nD τ) arg16 q P16 ∗ (owns (c : Thread nD τ) arg17 q P17 ∗ (owns (c : Thread nD τ) arg18 q P18 ∗ (owns (c : Thread nD τ) arg19 q P19 ∗ (owns (c : Thread nD τ) arg20 q P20 ∗ (owns (c : Thread nD τ) arg21 q P21 ∗ (owns (c : Thread nD τ) arg22 q P22 ∗ (owns (c : Thread nD τ) arg23 q P23 ∗ (owns (c : Thread nD τ) arg24 fullShare Y ∗ owns (c : Thread nD τ) arg6 q P6))))))))))))))))))
    ∗ Held c arg25 arg2 arg28 arg29 arg30 q (docOf X4) M (tileOf (docOf X4) M (15 * 512)) B'
      (histAll fun n => slotCounts (qvOf T M (i 0).val) (normOf (qvOf T M (i 0).val)) (docOf X4) M (n * 512)) iprop(owns (c : Thread nD τ) arg4 q X4 ∗ semVal ((c : Thread nD τ), .dma arg31.sem) 0 ∗ owes (c : Thread nD τ) 0 (insert (SemLoc.dma arg31.sem, ι) W₀)
      ∗ owns (c : Thread nD τ) arg1 qt T ∗ owns (c : Thread nD τ) arg3 q G ∗ owns (c : Thread nD τ) arg26 fullShare (qvOf T M (i 0).val)
      ∗ owns (c : Thread nD τ) arg27 fullShare (idfOf T G (i 0).val) ∗ owns (c : Thread nD τ) arg5 q Wg))) ?_ ?_
  · unfold Held
    iintro ⟨H25, H2, Ha, Hb, Hx, H6, ⟨H7, H8, H9, H10, H11, H12, H13, H14, H15, H16, H17, H18, H19, H20, H21, H22, H23, H24⟩, HD⟩
    isplitr [H25 H2 Ha Hb Hx HD]
    · isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      iexact H6
    isplitl [H25]; · iexact H25
    isplitl [H2]; · iexact H2
    isplitl [Ha]; · iexact Ha
    isplitl [Hb]; · iexact Hb
    isplitl [Hx]; · iexact Hx
    iexact HD
  iterate 17
    refine wp_next zero₂ ?_
  refine wp_last fun _ => ?_
  refine wp_done (.trans ?_ (h (docOf X4) (qvOf T M (i 0).val) (idfOf T G (i 0).val) (tileOf (docOf X4) M (15 * 512)) B'
    (histAll fun n => slotCounts (qvOf T M (i 0).val) (normOf (qvOf T M (i 0).val)) (docOf X4) M (n * 512))))
  unfold Step Held
  iintro ⟨⟨H24, H6⟩, H23, H22, H21, H20, H19, H18, H17, H16, H15, H14, H13, H12, H11, H10, H9, H8, H7, H25, H2, H28, H29, H30, H4, Hs, HO, H1, H3, H26, H27, H5⟩
  isplitl [H4]; · iexact H4
  isplitl [H25]; · iexact H25
  isplitl [Hs]; · iexact Hs
  isplitl [HO]; · iexact HO
  isplitl [H1]; · iexact H1
  isplitl [H2]; · iexact H2
  isplitl [H3]; · iexact H3
  isplitl [H26]; · iexact H26
  isplitl [H27]; · iexact H27
  isplitl [H5]; · iexact H5
  isplitl [H28]; · iexact H28
  isplitl [H29]; · iexact H29
  isplitl [H30]; · iexact H30
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

end Drmm.I
end
-- ==== Proof.I.Launch.lean ====
module

public import proofs.«01_k».proof.Proof.Gen.KernelIdeal.Launch
public import proofs.«01_k».proof.Proof.I.Body
public import proofs.«01_k».proof.Proof.Held

@[expose] public section

noncomputable section

namespace Drmm.I

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Idealize.ShloMosaic.Pipeline (Dat Cfg Window BodyObligation cellOf)
open Cert.KernelIdeal
open Facts Shapes1.Facts₀ Shapes2.Facts₀ K0.R1.Facts₀ K0.R2.Facts₀

variable {F : FTy → Type} [FloatOps F] [Facts]

variable (m : (ℓ : Loc nD τ sig) → Buf (Elt F) ℓ)

/-- What a buffer holds when the grid starts: the launch memory after the host's reshapes. -/
def V (c : Dev nD) (b : Ref sig .tc) : Buf (Elt F) ((c.tc : Thread nD τ).loc b) :=
  StableHlo.after (Gen.hostOps0 (F := F)) (fun b => m (c, b)) b

/-- The table of query words the region reads at entry. -/
def adm : (p : Fin 1) → (pcfgs (F := F) p).Adm := fun _ => ⟨fun k => V m 0 (pre0.ref k), trivial⟩

/-- The pipeline at that table. -/
abbrev cfgI : Cfg sig Λ₀ := Pipeline.pin (pcfgs (F := F)) (adm m) 0

/-- The array a window reads or writes, as the grid finds it. -/
abbrev AI (c : Dev nD) (w : Fin (cfgI m).W) : Buf (Elt F) (((cfgI m).win w).arr.view.loc (c.tc : Thread nD τ)) :=
  V m c (Pipeline.arrRef spec0 w)

/-- The row of document words grid step `n` reads. -/
def docBlk (c : Dev nD) (n : ℕ) (h : n < (cfgI m).N) : S1x1x8192.Idx → BitVec 32 :=
  fun j => V m c main_call0_v4 (ix3 (⟨n, h⟩ : Fin 32) (0 : Fin 1) (j 2))

/-- Window 0 reads its whole array at every step. -/
theorem held0 (c : Dev nD) (n : ℕ) (h : n < (cfgI m).N) :
    Pipeline.heldIn (cfgI m) (AI m c) 0 n h = V m c main_call0_v0 :=
  heldIn_eq (cfgI m) (AI m c) 0 (fun _ _ => V m c main_call0_v0) (fun n h _ => funext fun j => congrArg (V m c main_call0_v0)
    (whole_idx (cc0_transform_0 ((cfgI m).grid.coords ⟨n, h⟩)) S100000x1x128.size (fun a => by fin_cases a <;> rfl) fun _ => rfl)) (fun _ _ _ => rfl) rfl n h

/-- Window 1 reads its whole array at every step. -/
theorem held1 (c : Dev nD) (n : ℕ) (h : n < (cfgI m).N) :
    Pipeline.heldIn (cfgI m) (AI m c) 1 n h = V m c main_call0_v3 :=
  heldIn_eq (cfgI m) (AI m c) 1 (fun _ _ => V m c main_call0_v3) (fun n h _ => funext fun j => congrArg (V m c main_call0_v3)
    (whole_idx (cc0_transform_1 ((cfgI m).grid.coords ⟨n, h⟩)) S782x1x128.size (fun a => by fin_cases a <;> rfl) fun _ => rfl)) (fun _ _ _ => rfl) rfl n h

/-- Window 3 reads its whole array at every step. -/
theorem held3 (c : Dev nD) (n : ℕ) (h : n < (cfgI m).N) :
    Pipeline.heldIn (cfgI m) (AI m c) 3 n h = V m c main_call0_v6 :=
  heldIn_eq (cfgI m) (AI m c) 3 (fun _ _ => V m c main_call0_v6) (fun n h _ => funext fun j => congrArg (V m c main_call0_v6)
    (whole_idx (cc0_transform_3 ((cfgI m).grid.coords ⟨n, h⟩)) S8x1.size (fun a => by fin_cases a <;> rfl) fun _ => rfl)) (fun _ _ _ => rfl) rfl n h

/-- Window 4 reads its whole array at every step. -/
theorem held4 (c : Dev nD) (n : ℕ) (h : n < (cfgI m).N) :
    Pipeline.heldIn (cfgI m) (AI m c) 4 n h = V m c main_call0_v7 :=
  heldIn_eq (cfgI m) (AI m c) 4 (fun _ _ => V m c main_call0_v7) (fun n h _ => funext fun j => congrArg (V m c main_call0_v7)
    (whole_idx (cc0_transform_4 ((cfgI m).grid.coords ⟨n, h⟩)) S1x30.size (fun a => by fin_cases a <;> rfl) fun _ => rfl)) (fun _ _ _ => rfl) rfl n h

/-- Window 5 reads its whole array at every step. -/
theorem held5 (c : Dev nD) (n : ℕ) (h : n < (cfgI m).N) :
    Pipeline.heldIn (cfgI m) (AI m c) 5 n h = V m c main_call0_v8 :=
  heldIn_eq (cfgI m) (AI m c) 5 (fun _ _ => V m c main_call0_v8) (fun n h _ => funext fun j => congrArg (V m c main_call0_v8)
    (whole_idx (cc0_transform_5 ((cfgI m).grid.coords ⟨n, h⟩)) S1x30.size (fun a => by fin_cases a <;> rfl) fun _ => rfl)) (fun _ _ _ => rfl) rfl n h

/-- Window 6 reads its whole array at every step. -/
theorem held6 (c : Dev nD) (n : ℕ) (h : n < (cfgI m).N) :
    Pipeline.heldIn (cfgI m) (AI m c) 6 n h = V m c main_arg7 :=
  heldIn_eq (cfgI m) (AI m c) 6 (fun _ _ => V m c main_arg7) (fun n h _ => funext fun j => congrArg (V m c main_arg7)
    (whole_idx (cc0_transform_6 ((cfgI m).grid.coords ⟨n, h⟩)) S30x128.size (fun a => by fin_cases a <;> rfl) fun _ => rfl)) (fun _ _ _ => rfl) rfl n h

/-- Window 7 reads its whole array at every step. -/
theorem held7 (c : Dev nD) (n : ℕ) (h : n < (cfgI m).N) :
    Pipeline.heldIn (cfgI m) (AI m c) 7 n h = V m c main_call0_v9 :=
  heldIn_eq (cfgI m) (AI m c) 7 (fun _ _ => V m c main_call0_v9) (fun n h _ => funext fun j => congrArg (V m c main_call0_v9)
    (whole_idx (cc0_transform_7 ((cfgI m).grid.coords ⟨n, h⟩)) S1x128.size (fun a => by fin_cases a <;> rfl) fun _ => rfl)) (fun _ _ _ => rfl) rfl n h

/-- Window 8 reads its whole array at every step. -/
theorem held8 (c : Dev nD) (n : ℕ) (h : n < (cfgI m).N) :
    Pipeline.heldIn (cfgI m) (AI m c) 8 n h = V m c main_call0_v10 :=
  heldIn_eq (cfgI m) (AI m c) 8 (fun _ _ => V m c main_call0_v10) (fun n h _ => funext fun j => congrArg (V m c main_call0_v10)
    (whole_idx (cc0_transform_8 ((cfgI m).grid.coords ⟨n, h⟩)) S1x128.size (fun a => by fin_cases a <;> rfl) fun _ => rfl)) (fun _ _ _ => rfl) rfl n h

/-- Window 9 reads its whole array at every step. -/
theorem held9 (c : Dev nD) (n : ℕ) (h : n < (cfgI m).N) :
    Pipeline.heldIn (cfgI m) (AI m c) 9 n h = V m c main_call0_v11 :=
  heldIn_eq (cfgI m) (AI m c) 9 (fun _ _ => V m c main_call0_v11) (fun n h _ => funext fun j => congrArg (V m c main_call0_v11)
    (whole_idx (cc0_transform_9 ((cfgI m).grid.coords ⟨n, h⟩)) S1x128.size (fun a => by fin_cases a <;> rfl) fun _ => rfl)) (fun _ _ _ => rfl) rfl n h

/-- Window 10 reads its whole array at every step. -/
theorem held10 (c : Dev nD) (n : ℕ) (h : n < (cfgI m).N) :
    Pipeline.heldIn (cfgI m) (AI m c) 10 n h = V m c main_arg11 :=
  heldIn_eq (cfgI m) (AI m c) 10 (fun _ _ => V m c main_arg11) (fun n h _ => funext fun j => congrArg (V m c main_arg11)
    (whole_idx (cc0_transform_10 ((cfgI m).grid.coords ⟨n, h⟩)) S128x64.size (fun a => by fin_cases a <;> rfl) fun _ => rfl)) (fun _ _ _ => rfl) rfl n h

/-- Window 11 reads its whole array at every step. -/
theorem held11 (c : Dev nD) (n : ℕ) (h : n < (cfgI m).N) :
    Pipeline.heldIn (cfgI m) (AI m c) 11 n h = V m c main_call0_v12 :=
  heldIn_eq (cfgI m) (AI m c) 11 (fun _ _ => V m c main_call0_v12) (fun n h _ => funext fun j => congrArg (V m c main_call0_v12)
    (whole_idx (cc0_transform_11 ((cfgI m).grid.coords ⟨n, h⟩)) S1x64.size (fun a => by fin_cases a <;> rfl) fun _ => rfl)) (fun _ _ _ => rfl) rfl n h

/-- Window 12 reads its whole array at every step. -/
theorem held12 (c : Dev nD) (n : ℕ) (h : n < (cfgI m).N) :
    Pipeline.heldIn (cfgI m) (AI m c) 12 n h = V m c main_call0_v13 :=
  heldIn_eq (cfgI m) (AI m c) 12 (fun _ _ => V m c main_call0_v13) (fun n h _ => funext fun j => congrArg (V m c main_call0_v13)
    (whole_idx (cc0_transform_12 ((cfgI m).grid.coords ⟨n, h⟩)) S1x64.size (fun a => by fin_cases a <;> rfl) fun _ => rfl)) (fun _ _ _ => rfl) rfl n h

/-- Window 13 reads its whole array at every step. -/
theorem held13 (c : Dev nD) (n : ℕ) (h : n < (cfgI m).N) :
    Pipeline.heldIn (cfgI m) (AI m c) 13 n h = V m c main_call0_v14 :=
  heldIn_eq (cfgI m) (AI m c) 13 (fun _ _ => V m c main_call0_v14) (fun n h _ => funext fun j => congrArg (V m c main_call0_v14)
    (whole_idx (cc0_transform_13 ((cfgI m).grid.coords ⟨n, h⟩)) S1x64.size (fun a => by fin_cases a <;> rfl) fun _ => rfl)) (fun _ _ _ => rfl) rfl n h

/-- Window 14 reads its whole array at every step. -/
theorem held14 (c : Dev nD) (n : ℕ) (h : n < (cfgI m).N) :
    Pipeline.heldIn (cfgI m) (AI m c) 14 n h = V m c main_arg15 :=
  heldIn_eq (cfgI m) (AI m c) 14 (fun _ _ => V m c main_arg15) (fun n h _ => funext fun j => congrArg (V m c main_arg15)
    (whole_idx (cc0_transform_14 ((cfgI m).grid.coords ⟨n, h⟩)) S64x32.size (fun a => by fin_cases a <;> rfl) fun _ => rfl)) (fun _ _ _ => rfl) rfl n h

/-- Window 15 reads its whole array at every step. -/
theorem held15 (c : Dev nD) (n : ℕ) (h : n < (cfgI m).N) :
    Pipeline.heldIn (cfgI m) (AI m c) 15 n h = V m c main_call0_v15 :=
  heldIn_eq (cfgI m) (AI m c) 15 (fun _ _ => V m c main_call0_v15) (fun n h _ => funext fun j => congrArg (V m c main_call0_v15)
    (whole_idx (cc0_transform_15 ((cfgI m).grid.coords ⟨n, h⟩)) S1x32.size (fun a => by fin_cases a <;> rfl) fun _ => rfl)) (fun _ _ _ => rfl) rfl n h

/-- Window 16 reads its whole array at every step. -/
theorem held16 (c : Dev nD) (n : ℕ) (h : n < (cfgI m).N) :
    Pipeline.heldIn (cfgI m) (AI m c) 16 n h = V m c main_call0_v16 :=
  heldIn_eq (cfgI m) (AI m c) 16 (fun _ _ => V m c main_call0_v16) (fun n h _ => funext fun j => congrArg (V m c main_call0_v16)
    (whole_idx (cc0_transform_16 ((cfgI m).grid.coords ⟨n, h⟩)) S1x32.size (fun a => by fin_cases a <;> rfl) fun _ => rfl)) (fun _ _ _ => rfl) rfl n h

/-- Window 17 reads its whole array at every step. -/
theorem held17 (c : Dev nD) (n : ℕ) (h : n < (cfgI m).N) :
    Pipeline.heldIn (cfgI m) (AI m c) 17 n h = V m c main_call0_v17 :=
  heldIn_eq (cfgI m) (AI m c) 17 (fun _ _ => V m c main_call0_v17) (fun n h _ => funext fun j => congrArg (V m c main_call0_v17)
    (whole_idx (cc0_transform_17 ((cfgI m).grid.coords ⟨n, h⟩)) S1x32.size (fun a => by fin_cases a <;> rfl) fun _ => rfl)) (fun _ _ _ => rfl) rfl n h

/-- Window 18 reads its whole array at every step. -/
theorem held18 (c : Dev nD) (n : ℕ) (h : n < (cfgI m).N) :
    Pipeline.heldIn (cfgI m) (AI m c) 18 n h = V m c main_arg19 :=
  heldIn_eq (cfgI m) (AI m c) 18 (fun _ _ => V m c main_arg19) (fun n h _ => funext fun j => congrArg (V m c main_arg19)
    (whole_idx (cc0_transform_18 ((cfgI m).grid.coords ⟨n, h⟩)) S32x1.size (fun a => by fin_cases a <;> rfl) fun _ => rfl)) (fun _ _ _ => rfl) rfl n h

/-- Window 19 reads its whole array at every step. -/
theorem held19 (c : Dev nD) (n : ℕ) (h : n < (cfgI m).N) :
    Pipeline.heldIn (cfgI m) (AI m c) 19 n h = V m c main_call0_v18 :=
  heldIn_eq (cfgI m) (AI m c) 19 (fun _ _ => V m c main_call0_v18) (fun n h _ => funext fun j => congrArg (V m c main_call0_v18)
    (whole_idx (cc0_transform_19 ((cfgI m).grid.coords ⟨n, h⟩)) S1x1.size (fun a => by fin_cases a <;> rfl) fun _ => rfl)) (fun _ _ _ => rfl) rfl n h

/-- Window 20 reads its whole array at every step. -/
theorem held20 (c : Dev nD) (n : ℕ) (h : n < (cfgI m).N) :
    Pipeline.heldIn (cfgI m) (AI m c) 20 n h = V m c main_call0_v19 :=
  heldIn_eq (cfgI m) (AI m c) 20 (fun _ _ => V m c main_call0_v19) (fun n h _ => funext fun j => congrArg (V m c main_call0_v19)
    (whole_idx (cc0_transform_20 ((cfgI m).grid.coords ⟨n, h⟩)) S1x1.size (fun a => by fin_cases a <;> rfl) fun _ => rfl)) (fun _ _ _ => rfl) rfl n h

/-- Window 21 reads its whole array at every step. -/
theorem held21 (c : Dev nD) (n : ℕ) (h : n < (cfgI m).N) :
    Pipeline.heldIn (cfgI m) (AI m c) 21 n h = V m c main_call0_v20 :=
  heldIn_eq (cfgI m) (AI m c) 21 (fun _ _ => V m c main_call0_v20) (fun n h _ => funext fun j => congrArg (V m c main_call0_v20)
    (whole_idx (cc0_transform_21 ((cfgI m).grid.coords ⟨n, h⟩)) S1x1.size (fun a => by fin_cases a <;> rfl) fun _ => rfl)) (fun _ _ _ => rfl) rfl n h

/-- The grid is one axis: step `n` has coordinate `n`. -/
theorem coords_val (n : ℕ) (h : n < grid0.N) : (grid0.coords ⟨n, h⟩ 0).val = n := by
  have : ∀ t : Fin grid0.N, (grid0.coords t 0).val = t.val := by decide +kernel
  exact this ⟨n, h⟩

/-- The block of document words a grid step reads is the one of its coordinate. -/
theorem doc_index (i : grid0.Coords) : cc0_transform_2 i 0 = (i 0).val := by
  show (BitVec.ofNat 32 (i 0).val).toNat = _
  rw [BitVec.toNat_ofNat]
  exact Nat.mod_eq_of_lt (lt_trans (i 0).isLt (by show 32 < 2 ^ 32; decide))

/-- The window of document words holds the step's row. -/
theorem held2 (c : Dev nD) (n : ℕ) (h : n < (cfgI m).N) :
    Pipeline.heldIn (cfgI m) (AI m c) 2 n h = docBlk m c n h := by
  refine heldIn_eq (cfgI m) (AI m c) 2 (docBlk m c) (fun n h hf => funext fun (j : S1x1x8192.Idx) => congrArg (V m c main_call0_v4) (funext fun a => Fin.ext ?_))
    (fun n h hf => absurd hf ?_) rfl n h
  · show cc0_transform_2 (grid0.coords ⟨n, h⟩) a * S1x1x8192.size a + 1 * (j a).val = _
    fin_cases a
    · show cc0_transform_2 (grid0.coords ⟨n, h⟩) 0 * 1 + 1 * (j 0).val = n
      have h0 : (j 0).val < 1 := (j 0).isLt
      rw [doc_index, coords_val]; omega
    · show 0 * 1 + 1 * (j 1).val = 0
      have h0 : (j 1).val < 1 := (j 1).isLt
      omega
    · show 0 * 8192 + 1 * (j 2).val = (j 2).val
      omega
  · have : ∀ t : Fin grid0.N, Window.fetchOf grid0 false cc0_transform_2 t = true := by decide +kernel
    intro e
    exact Bool.noConfusion ((this ⟨n + 1, h⟩).symm.trans e)

/-- The kernel's own copy semaphore. -/
abbrev osem0 : Fin 1 → SemLoc sig := fun _ => .dma cc0_scratch6.sem

/-- The kernel's own semaphore is none of the pipeline's. -/
theorem ownSemFacts0 : Pipeline.OwnSemFacts spec0 osem0 := by decide

/-- The block of scores grid step `t` leaves in the output window. -/
def outBlk (c : Dev nD) (t : Fin (cfgI m).N) : S1x1x16.Idx → F .f32 :=
  blockOf (grid0.coords t 0).val (docBlk m c t.val t.isLt) (V m c main_call0_v5) (V m c main_call0_v0) (V m c main_call0_v3) (V m c main_call0_v6) (V m c main_call0_v7) (V m c main_call0_v8) (V m c main_arg7) (V m c main_call0_v9) (V m c main_call0_v10) (V m c main_call0_v11) (V m c main_arg11) (V m c main_call0_v12) (V m c main_call0_v13) (V m c main_call0_v14) (V m c main_arg15) (V m c main_call0_v15) (V m c main_call0_v16) (V m c main_call0_v17) (V m c main_arg19) (V m c main_call0_v18) (V m c main_call0_v19) (V m c main_call0_v20)

/-- The proof data: the windows only read hold their blocks, the output window the step's block of scores. -/
def dats (_ : Fin 1) (c : Dev nD) : Dat τ (Elt F) Unit ℕ (Pipeline.UD sig nD τ) ℕ (cfgI m) c where
  A w := V m c (Pipeline.arrRef spec0 w)
  after w t := match w with
    | ⟨22, _⟩ => outBlk m c t
    | w => Pipeline.heldIn (cfgI m) (AI m c) w t.val t.isLt
  Φ _ := iprop(Pipeline.ΦD osem0 spec0 ∅ (V m) c ∗ Pipeline.ΦT pre0 (adm m 0).1 c)
  q _ := fullShare
  owed _ := 0

end Drmm.I

end
-- ==== Proof.I.Run.lean ====
module

public import proofs.«01_k».proof.Proof.I.Launch

@[expose] public section

noncomputable section

namespace Drmm.I

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Idealize.ShloMosaic.Pipeline (Dat Cfg Window BodyObligation cellOf)
open Cert.KernelIdeal
open Facts Shapes1.Facts₀ Shapes2.Facts₀ K0.R1.Facts₀ K0.R2.Facts₀

variable {F : FTy → Type} [FloatOps F] [Facts]

variable (m : (ℓ : Loc nD τ sig) → Buf (Elt F) ℓ) (ρ : Dev nD → PrngReg)
local notation "𝕄" => MT nD τ sig Unit (Elt F) ℕ (Pipeline.UD sig nD τ) ℕ

/-- What window 0 holds after a grid step. -/
theorem after0 (c : Dev nD) (t : Fin (cfgI m).N) : (dats m 0 c).after 0 t = V m c main_call0_v0 := held0 m c t.val t.isLt
/-- What window 0 holds before a grid step. -/
theorem before0 (c : Dev nD) (t : Fin (cfgI m).N) (d) : (dats m 0 c).before 0 t d = V m c main_call0_v0 :=
  ((dats m 0 c).before_eq_heldIn 0 rfl (fun _ => rfl) (fun _ _ => rfl) (fun _ => rfl) t d).trans (held0 m c t.val t.isLt)
/-- What window 1 holds after a grid step. -/
theorem after1 (c : Dev nD) (t : Fin (cfgI m).N) : (dats m 0 c).after 1 t = V m c main_call0_v3 := held1 m c t.val t.isLt
/-- What window 1 holds before a grid step. -/
theorem before1 (c : Dev nD) (t : Fin (cfgI m).N) (d) : (dats m 0 c).before 1 t d = V m c main_call0_v3 :=
  ((dats m 0 c).before_eq_heldIn 1 rfl (fun _ => rfl) (fun _ _ => rfl) (fun _ => rfl) t d).trans (held1 m c t.val t.isLt)
/-- What window 2 holds after a grid step. -/
theorem after2 (c : Dev nD) (t : Fin (cfgI m).N) : (dats m 0 c).after 2 t = docBlk m c t.val t.isLt := held2 m c t.val t.isLt
/-- What window 2 holds before a grid step. -/
theorem before2 (c : Dev nD) (t : Fin (cfgI m).N) (d) : (dats m 0 c).before 2 t d = docBlk m c t.val t.isLt :=
  ((dats m 0 c).before_eq_heldIn 2 rfl (fun _ => rfl) (fun _ _ => rfl) (fun _ => rfl) t d).trans (held2 m c t.val t.isLt)
/-- What window 3 holds after a grid step. -/
theorem after3 (c : Dev nD) (t : Fin (cfgI m).N) : (dats m 0 c).after 3 t = V m c main_call0_v6 := held3 m c t.val t.isLt
/-- What window 3 holds before a grid step. -/
theorem before3 (c : Dev nD) (t : Fin (cfgI m).N) (d) : (dats m 0 c).before 3 t d = V m c main_call0_v6 :=
  ((dats m 0 c).before_eq_heldIn 3 rfl (fun _ => rfl) (fun _ _ => rfl) (fun _ => rfl) t d).trans (held3 m c t.val t.isLt)
/-- What window 4 holds after a grid step. -/
theorem after4 (c : Dev nD) (t : Fin (cfgI m).N) : (dats m 0 c).after 4 t = V m c main_call0_v7 := held4 m c t.val t.isLt
/-- What window 4 holds before a grid step. -/
theorem before4 (c : Dev nD) (t : Fin (cfgI m).N) (d) : (dats m 0 c).before 4 t d = V m c main_call0_v7 :=
  ((dats m 0 c).before_eq_heldIn 4 rfl (fun _ => rfl) (fun _ _ => rfl) (fun _ => rfl) t d).trans (held4 m c t.val t.isLt)
/-- What window 5 holds after a grid step. -/
theorem after5 (c : Dev nD) (t : Fin (cfgI m).N) : (dats m 0 c).after 5 t = V m c main_call0_v8 := held5 m c t.val t.isLt
/-- What window 5 holds before a grid step. -/
theorem before5 (c : Dev nD) (t : Fin (cfgI m).N) (d) : (dats m 0 c).before 5 t d = V m c main_call0_v8 :=
  ((dats m 0 c).before_eq_heldIn 5 rfl (fun _ => rfl) (fun _ _ => rfl) (fun _ => rfl) t d).trans (held5 m c t.val t.isLt)
/-- What window 6 holds after a grid step. -/
theorem after6 (c : Dev nD) (t : Fin (cfgI m).N) : (dats m 0 c).after 6 t = V m c main_arg7 := held6 m c t.val t.isLt
/-- What window 6 holds before a grid step. -/
theorem before6 (c : Dev nD) (t : Fin (cfgI m).N) (d) : (dats m 0 c).before 6 t d = V m c main_arg7 :=
  ((dats m 0 c).before_eq_heldIn 6 rfl (fun _ => rfl) (fun _ _ => rfl) (fun _ => rfl) t d).trans (held6 m c t.val t.isLt)
/-- What window 7 holds after a grid step. -/
theorem after7 (c : Dev nD) (t : Fin (cfgI m).N) : (dats m 0 c).after 7 t = V m c main_call0_v9 := held7 m c t.val t.isLt
/-- What window 7 holds before a grid step. -/
theorem before7 (c : Dev nD) (t : Fin (cfgI m).N) (d) : (dats m 0 c).before 7 t d = V m c main_call0_v9 :=
  ((dats m 0 c).before_eq_heldIn 7 rfl (fun _ => rfl) (fun _ _ => rfl) (fun _ => rfl) t d).trans (held7 m c t.val t.isLt)
/-- What window 8 holds after a grid step. -/
theorem after8 (c : Dev nD) (t : Fin (cfgI m).N) : (dats m 0 c).after 8 t = V m c main_call0_v10 := held8 m c t.val t.isLt
/-- What window 8 holds before a grid step. -/
theorem before8 (c : Dev nD) (t : Fin (cfgI m).N) (d) : (dats m 0 c).before 8 t d = V m c main_call0_v10 :=
  ((dats m 0 c).before_eq_heldIn 8 rfl (fun _ => rfl) (fun _ _ => rfl) (fun _ => rfl) t d).trans (held8 m c t.val t.isLt)
/-- What window 9 holds after a grid step. -/
theorem after9 (c : Dev nD) (t : Fin (cfgI m).N) : (dats m 0 c).after 9 t = V m c main_call0_v11 := held9 m c t.val t.isLt
/-- What window 9 holds before a grid step. -/
theorem before9 (c : Dev nD) (t : Fin (cfgI m).N) (d) : (dats m 0 c).before 9 t d = V m c main_call0_v11 :=
  ((dats m 0 c).before_eq_heldIn 9 rfl (fun _ => rfl) (fun _ _ => rfl) (fun _ => rfl) t d).trans (held9 m c t.val t.isLt)
/-- What window 10 holds after a grid step. -/
theorem after10 (c : Dev nD) (t : Fin (cfgI m).N) : (dats m 0 c).after 10 t = V m c main_arg11 := held10 m c t.val t.isLt
/-- What window 10 holds before a grid step. -/
theorem before10 (c : Dev nD) (t : Fin (cfgI m).N) (d) : (dats m 0 c).before 10 t d = V m c main_arg11 :=
  ((dats m 0 c).before_eq_heldIn 10 rfl (fun _ => rfl) (fun _ _ => rfl) (fun _ => rfl) t d).trans (held10 m c t.val t.isLt)
/-- What window 11 holds after a grid step. -/
theorem after11 (c : Dev nD) (t : Fin (cfgI m).N) : (dats m 0 c).after 11 t = V m c main_call0_v12 := held11 m c t.val t.isLt
/-- What window 11 holds before a grid step. -/
theorem before11 (c : Dev nD) (t : Fin (cfgI m).N) (d) : (dats m 0 c).before 11 t d = V m c main_call0_v12 :=
  ((dats m 0 c).before_eq_heldIn 11 rfl (fun _ => rfl) (fun _ _ => rfl) (fun _ => rfl) t d).trans (held11 m c t.val t.isLt)
/-- What window 12 holds after a grid step. -/
theorem after12 (c : Dev nD) (t : Fin (cfgI m).N) : (dats m 0 c).after 12 t = V m c main_call0_v13 := held12 m c t.val t.isLt
/-- What window 12 holds before a grid step. -/
theorem before12 (c : Dev nD) (t : Fin (cfgI m).N) (d) : (dats m 0 c).before 12 t d = V m c main_call0_v13 :=
  ((dats m 0 c).before_eq_heldIn 12 rfl (fun _ => rfl) (fun _ _ => rfl) (fun _ => rfl) t d).trans (held12 m c t.val t.isLt)
/-- What window 13 holds after a grid step. -/
theorem after13 (c : Dev nD) (t : Fin (cfgI m).N) : (dats m 0 c).after 13 t = V m c main_call0_v14 := held13 m c t.val t.isLt
/-- What window 13 holds before a grid step. -/
theorem before13 (c : Dev nD) (t : Fin (cfgI m).N) (d) : (dats m 0 c).before 13 t d = V m c main_call0_v14 :=
  ((dats m 0 c).before_eq_heldIn 13 rfl (fun _ => rfl) (fun _ _ => rfl) (fun _ => rfl) t d).trans (held13 m c t.val t.isLt)
/-- What window 14 holds after a grid step. -/
theorem after14 (c : Dev nD) (t : Fin (cfgI m).N) : (dats m 0 c).after 14 t = V m c main_arg15 := held14 m c t.val t.isLt
/-- What window 14 holds before a grid step. -/
theorem before14 (c : Dev nD) (t : Fin (cfgI m).N) (d) : (dats m 0 c).before 14 t d = V m c main_arg15 :=
  ((dats m 0 c).before_eq_heldIn 14 rfl (fun _ => rfl) (fun _ _ => rfl) (fun _ => rfl) t d).trans (held14 m c t.val t.isLt)
/-- What window 15 holds after a grid step. -/
theorem after15 (c : Dev nD) (t : Fin (cfgI m).N) : (dats m 0 c).after 15 t = V m c main_call0_v15 := held15 m c t.val t.isLt
/-- What window 15 holds before a grid step. -/
theorem before15 (c : Dev nD) (t : Fin (cfgI m).N) (d) : (dats m 0 c).before 15 t d = V m c main_call0_v15 :=
  ((dats m 0 c).before_eq_heldIn 15 rfl (fun _ => rfl) (fun _ _ => rfl) (fun _ => rfl) t d).trans (held15 m c t.val t.isLt)
/-- What window 16 holds after a grid step. -/
theorem after16 (c : Dev nD) (t : Fin (cfgI m).N) : (dats m 0 c).after 16 t = V m c main_call0_v16 := held16 m c t.val t.isLt
/-- What window 16 holds before a grid step. -/
theorem before16 (c : Dev nD) (t : Fin (cfgI m).N) (d) : (dats m 0 c).before 16 t d = V m c main_call0_v16 :=
  ((dats m 0 c).before_eq_heldIn 16 rfl (fun _ => rfl) (fun _ _ => rfl) (fun _ => rfl) t d).trans (held16 m c t.val t.isLt)
/-- What window 17 holds after a grid step. -/
theorem after17 (c : Dev nD) (t : Fin (cfgI m).N) : (dats m 0 c).after 17 t = V m c main_call0_v17 := held17 m c t.val t.isLt
/-- What window 17 holds before a grid step. -/
theorem before17 (c : Dev nD) (t : Fin (cfgI m).N) (d) : (dats m 0 c).before 17 t d = V m c main_call0_v17 :=
  ((dats m 0 c).before_eq_heldIn 17 rfl (fun _ => rfl) (fun _ _ => rfl) (fun _ => rfl) t d).trans (held17 m c t.val t.isLt)
/-- What window 18 holds after a grid step. -/
theorem after18 (c : Dev nD) (t : Fin (cfgI m).N) : (dats m 0 c).after 18 t = V m c main_arg19 := held18 m c t.val t.isLt
/-- What window 18 holds before a grid step. -/
theorem before18 (c : Dev nD) (t : Fin (cfgI m).N) (d) : (dats m 0 c).before 18 t d = V m c main_arg19 :=
  ((dats m 0 c).before_eq_heldIn 18 rfl (fun _ => rfl) (fun _ _ => rfl) (fun _ => rfl) t d).trans (held18 m c t.val t.isLt)
/-- What window 19 holds after a grid step. -/
theorem after19 (c : Dev nD) (t : Fin (cfgI m).N) : (dats m 0 c).after 19 t = V m c main_call0_v18 := held19 m c t.val t.isLt
/-- What window 19 holds before a grid step. -/
theorem before19 (c : Dev nD) (t : Fin (cfgI m).N) (d) : (dats m 0 c).before 19 t d = V m c main_call0_v18 :=
  ((dats m 0 c).before_eq_heldIn 19 rfl (fun _ => rfl) (fun _ _ => rfl) (fun _ => rfl) t d).trans (held19 m c t.val t.isLt)
/-- What window 20 holds after a grid step. -/
theorem after20 (c : Dev nD) (t : Fin (cfgI m).N) : (dats m 0 c).after 20 t = V m c main_call0_v19 := held20 m c t.val t.isLt
/-- What window 20 holds before a grid step. -/
theorem before20 (c : Dev nD) (t : Fin (cfgI m).N) (d) : (dats m 0 c).before 20 t d = V m c main_call0_v19 :=
  ((dats m 0 c).before_eq_heldIn 20 rfl (fun _ => rfl) (fun _ _ => rfl) (fun _ => rfl) t d).trans (held20 m c t.val t.isLt)
/-- What window 21 holds after a grid step. -/
theorem after21 (c : Dev nD) (t : Fin (cfgI m).N) : (dats m 0 c).after 21 t = V m c main_call0_v20 := held21 m c t.val t.isLt
/-- What window 21 holds before a grid step. -/
theorem before21 (c : Dev nD) (t : Fin (cfgI m).N) (d) : (dats m 0 c).before 21 t d = V m c main_call0_v20 :=
  ((dats m 0 c).before_eq_heldIn 21 rfl (fun _ => rfl) (fun _ _ => rfl) (fun _ => rfl) t d).trans (held21 m c t.val t.isLt)
/-- What window 22 holds after a grid step. -/
theorem after22 (c : Dev nD) (t : Fin (cfgI m).N) : (dats m 0 c).after 22 t = outBlk m c t := rfl

/-- The body the region runs at point `t`. -/
def bodyAt0 (t : Fin (cfgI m).N) : Prog (TpuEff nD τ sig (Elt F) Λ₀ .tc) PUnit :=
  cc0__drmm_kernel (grid0.coords t) (Memref.whole main_call0_v5) (Memref.isWhole_whole _) (spec0_0.stage ((cfgI m).slots t 0)) (hstage0_0 (((cfgI m).slots t 0).cast nbuf0_0)) (spec0_1.stage ((cfgI m).slots t 1)) (hstage0_1 (((cfgI m).slots t 1).cast nbuf0_1)) (spec0_2.stage ((cfgI m).slots t 2)) (hstage0_2 (((cfgI m).slots t 2).cast nbuf0_2)) (spec0_3.stage ((cfgI m).slots t 3)) (hstage0_3 (((cfgI m).slots t 3).cast nbuf0_3)) (spec0_4.stage ((cfgI m).slots t 4)) (hstage0_4 (((cfgI m).slots t 4).cast nbuf0_4)) (spec0_5.stage ((cfgI m).slots t 5)) (hstage0_5 (((cfgI m).slots t 5).cast nbuf0_5)) (spec0_6.stage ((cfgI m).slots t 6)) (hstage0_6 (((cfgI m).slots t 6).cast nbuf0_6)) (spec0_7.stage ((cfgI m).slots t 7)) (hstage0_7 (((cfgI m).slots t 7).cast nbuf0_7)) (spec0_8.stage ((cfgI m).slots t 8)) (hstage0_8 (((cfgI m).slots t 8).cast nbuf0_8)) (spec0_9.stage ((cfgI m).slots t 9)) (hstage0_9 (((cfgI m).slots t 9).cast nbuf0_9)) (spec0_10.stage ((cfgI m).slots t 10)) (hstage0_10 (((cfgI m).slots t 10).cast nbuf0_10)) (spec0_11.stage ((cfgI m).slots t 11)) (hstage0_11 (((cfgI m).slots t 11).cast nbuf0_11)) (spec0_12.stage ((cfgI m).slots t 12)) (hstage0_12 (((cfgI m).slots t 12).cast nbuf0_12)) (spec0_13.stage ((cfgI m).slots t 13)) (hstage0_13 (((cfgI m).slots t 13).cast nbuf0_13)) (spec0_14.stage ((cfgI m).slots t 14)) (hstage0_14 (((cfgI m).slots t 14).cast nbuf0_14)) (spec0_15.stage ((cfgI m).slots t 15)) (hstage0_15 (((cfgI m).slots t 15).cast nbuf0_15)) (spec0_16.stage ((cfgI m).slots t 16)) (hstage0_16 (((cfgI m).slots t 16).cast nbuf0_16)) (spec0_17.stage ((cfgI m).slots t 17)) (hstage0_17 (((cfgI m).slots t 17).cast nbuf0_17)) (spec0_18.stage ((cfgI m).slots t 18)) (hstage0_18 (((cfgI m).slots t 18).cast nbuf0_18)) (spec0_19.stage ((cfgI m).slots t 19)) (hstage0_19 (((cfgI m).slots t 19).cast nbuf0_19)) (spec0_20.stage ((cfgI m).slots t 20)) (hstage0_20 (((cfgI m).slots t 20).cast nbuf0_20)) (spec0_21.stage ((cfgI m).slots t 21)) (hstage0_21 (((cfgI m).slots t 21).cast nbuf0_21)) (spec0_22.stage ((cfgI m).slots t 22)) (hstage0_22 (((cfgI m).slots t 22).cast nbuf0_22)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6

/-- What a grid step is given: the step's buffers and every window's block as the step finds it. -/
def bodyPre (c : Dev nD) (t : Fin (cfgI m).N) : sProp 𝕄 :=
  iprop((dats m 0 c).Φ t.castSucc ∗ (dats m 0 c).owesAt () t.castSucc
    ∗ (∃ d, owns (c : Thread nD τ) (spec0_0.stage ((cfgI m).slots t 0)) fullShare ((dats m 0 c).before 0 t d))
    ∗ (∃ d, owns (c : Thread nD τ) (spec0_1.stage ((cfgI m).slots t 1)) fullShare ((dats m 0 c).before 1 t d))
    ∗ (∃ d, owns (c : Thread nD τ) (spec0_2.stage ((cfgI m).slots t 2)) fullShare ((dats m 0 c).before 2 t d))
    ∗ (∃ d, owns (c : Thread nD τ) (spec0_3.stage ((cfgI m).slots t 3)) fullShare ((dats m 0 c).before 3 t d))
    ∗ (∃ d, owns (c : Thread nD τ) (spec0_4.stage ((cfgI m).slots t 4)) fullShare ((dats m 0 c).before 4 t d))
    ∗ (∃ d, owns (c : Thread nD τ) (spec0_5.stage ((cfgI m).slots t 5)) fullShare ((dats m 0 c).before 5 t d))
    ∗ (∃ d, owns (c : Thread nD τ) (spec0_6.stage ((cfgI m).slots t 6)) fullShare ((dats m 0 c).before 6 t d))
    ∗ (∃ d, owns (c : Thread nD τ) (spec0_7.stage ((cfgI m).slots t 7)) fullShare ((dats m 0 c).before 7 t d))
    ∗ (∃ d, owns (c : Thread nD τ) (spec0_8.stage ((cfgI m).slots t 8)) fullShare ((dats m 0 c).before 8 t d))
    ∗ (∃ d, owns (c : Thread nD τ) (spec0_9.stage ((cfgI m).slots t 9)) fullShare ((dats m 0 c).before 9 t d))
    ∗ (∃ d, owns (c : Thread nD τ) (spec0_10.stage ((cfgI m).slots t 10)) fullShare ((dats m 0 c).before 10 t d))
    ∗ (∃ d, owns (c : Thread nD τ) (spec0_11.stage ((cfgI m).slots t 11)) fullShare ((dats m 0 c).before 11 t d))
    ∗ (∃ d, owns (c : Thread nD τ) (spec0_12.stage ((cfgI m).slots t 12)) fullShare ((dats m 0 c).before 12 t d))
    ∗ (∃ d, owns (c : Thread nD τ) (spec0_13.stage ((cfgI m).slots t 13)) fullShare ((dats m 0 c).before 13 t d))
    ∗ (∃ d, owns (c : Thread nD τ) (spec0_14.stage ((cfgI m).slots t 14)) fullShare ((dats m 0 c).before 14 t d))
    ∗ (∃ d, owns (c : Thread nD τ) (spec0_15.stage ((cfgI m).slots t 15)) fullShare ((dats m 0 c).before 15 t d))
    ∗ (∃ d, owns (c : Thread nD τ) (spec0_16.stage ((cfgI m).slots t 16)) fullShare ((dats m 0 c).before 16 t d))
    ∗ (∃ d, owns (c : Thread nD τ) (spec0_17.stage ((cfgI m).slots t 17)) fullShare ((dats m 0 c).before 17 t d))
    ∗ (∃ d, owns (c : Thread nD τ) (spec0_18.stage ((cfgI m).slots t 18)) fullShare ((dats m 0 c).before 18 t d))
    ∗ (∃ d, owns (c : Thread nD τ) (spec0_19.stage ((cfgI m).slots t 19)) fullShare ((dats m 0 c).before 19 t d))
    ∗ (∃ d, owns (c : Thread nD τ) (spec0_20.stage ((cfgI m).slots t 20)) fullShare ((dats m 0 c).before 20 t d))
    ∗ (∃ d, owns (c : Thread nD τ) (spec0_21.stage ((cfgI m).slots t 21)) fullShare ((dats m 0 c).before 21 t d))
    ∗ (∃ d, owns (c : Thread nD τ) (spec0_22.stage ((cfgI m).slots t 22)) fullShare ((dats m 0 c).before 22 t d)))
/-- What a grid step leaves: the step's buffers and every window's block as the step leaves it. -/
def bodyPost (c : Dev nD) (t : Fin (cfgI m).N) : sProp 𝕄 :=
  iprop((dats m 0 c).Φ t.succ ∗ (dats m 0 c).owesAt () t.succ
    ∗ owns (c : Thread nD τ) (spec0_0.stage ((cfgI m).slots t 0)) fullShare ((dats m 0 c).after 0 t)
    ∗ owns (c : Thread nD τ) (spec0_1.stage ((cfgI m).slots t 1)) fullShare ((dats m 0 c).after 1 t)
    ∗ owns (c : Thread nD τ) (spec0_2.stage ((cfgI m).slots t 2)) fullShare ((dats m 0 c).after 2 t)
    ∗ owns (c : Thread nD τ) (spec0_3.stage ((cfgI m).slots t 3)) fullShare ((dats m 0 c).after 3 t)
    ∗ owns (c : Thread nD τ) (spec0_4.stage ((cfgI m).slots t 4)) fullShare ((dats m 0 c).after 4 t)
    ∗ owns (c : Thread nD τ) (spec0_5.stage ((cfgI m).slots t 5)) fullShare ((dats m 0 c).after 5 t)
    ∗ owns (c : Thread nD τ) (spec0_6.stage ((cfgI m).slots t 6)) fullShare ((dats m 0 c).after 6 t)
    ∗ owns (c : Thread nD τ) (spec0_7.stage ((cfgI m).slots t 7)) fullShare ((dats m 0 c).after 7 t)
    ∗ owns (c : Thread nD τ) (spec0_8.stage ((cfgI m).slots t 8)) fullShare ((dats m 0 c).after 8 t)
    ∗ owns (c : Thread nD τ) (spec0_9.stage ((cfgI m).slots t 9)) fullShare ((dats m 0 c).after 9 t)
    ∗ owns (c : Thread nD τ) (spec0_10.stage ((cfgI m).slots t 10)) fullShare ((dats m 0 c).after 10 t)
    ∗ owns (c : Thread nD τ) (spec0_11.stage ((cfgI m).slots t 11)) fullShare ((dats m 0 c).after 11 t)
    ∗ owns (c : Thread nD τ) (spec0_12.stage ((cfgI m).slots t 12)) fullShare ((dats m 0 c).after 12 t)
    ∗ owns (c : Thread nD τ) (spec0_13.stage ((cfgI m).slots t 13)) fullShare ((dats m 0 c).after 13 t)
    ∗ owns (c : Thread nD τ) (spec0_14.stage ((cfgI m).slots t 14)) fullShare ((dats m 0 c).after 14 t)
    ∗ owns (c : Thread nD τ) (spec0_15.stage ((cfgI m).slots t 15)) fullShare ((dats m 0 c).after 15 t)
    ∗ owns (c : Thread nD τ) (spec0_16.stage ((cfgI m).slots t 16)) fullShare ((dats m 0 c).after 16 t)
    ∗ owns (c : Thread nD τ) (spec0_17.stage ((cfgI m).slots t 17)) fullShare ((dats m 0 c).after 17 t)
    ∗ owns (c : Thread nD τ) (spec0_18.stage ((cfgI m).slots t 18)) fullShare ((dats m 0 c).after 18 t)
    ∗ owns (c : Thread nD τ) (spec0_19.stage ((cfgI m).slots t 19)) fullShare ((dats m 0 c).after 19 t)
    ∗ owns (c : Thread nD τ) (spec0_20.stage ((cfgI m).slots t 20)) fullShare ((dats m 0 c).after 20 t)
    ∗ owns (c : Thread nD τ) (spec0_21.stage ((cfgI m).slots t 21)) fullShare ((dats m 0 c).after 21 t)
    ∗ owns (c : Thread nD τ) (spec0_22.stage ((cfgI m).slots t 22)) fullShare ((dats m 0 c).after 22 t))

/-- The invariant between points, one by one: the scratch buffers at some contents, the generator register, the copy's semaphore
    at zero, the table of query words. -/
theorem phi_eq (c : Dev nD) (t : Fin ((cfgI m).N + 1)) : (dats m 0 c).Φ t
    = iprop((((∃ f, owns (c : Thread nD τ) (Memref.whole cc0_scratch1) fullShare f) ∗ (∃ f, owns (c : Thread nD τ) (Memref.whole cc0_scratch2) fullShare f)
        ∗ (∃ f, owns (c : Thread nD τ) (Memref.whole cc0_scratch3) fullShare f) ∗ (∃ f, owns (c : Thread nD τ) (Memref.whole cc0_scratch4) fullShare f)
        ∗ (∃ f, owns (c : Thread nD τ) (Memref.whole cc0_scratch5) fullShare f) ∗ (∃ f, owns (c : Thread nD τ) (Memref.whole cc0_scratch0) fullShare f))
        ∗ (∃ r, prngReg c r) ∗ semVal ((c : Thread nD τ), .dma cc0_scratch6.sem) 0 ∗ emp)
      ∗ owns (c : Thread nD τ) (Memref.whole main_call0_v5) fullShare.right (V m c main_call0_v5)) := by
  have e : c = 0 := Subsingleton.elim _ _
  subst e
  show iprop(Pipeline.ΦD osem0 spec0 ∅ (V m) (0 : Dev nD) ∗ Pipeline.ΦT pre0 (adm m 0).1 (0 : Dev nD)) = _
  rw [Pipeline.ΦD_eq, Gen.scopedRest0_eq, Pipeline.ownSems0_eq_of_list (0 : Dev nD) osem0 [0] (by decide) (by decide)]
  simp only [owns_whole]
  have hT : (Pipeline.ΦT pre0 (adm m 0).1 (0 : Dev nD) : sProp 𝕄) = (((0 : Dev nD) : Thread nD τ).loc main_call0_v5) ↦{fullShare.right} (V m 0 main_call0_v5) := by
    show BI.bigSep (Finset.univ : Finset (Fin 1)) _ = _
    rw [BI.bigSep_univ_eq_bigSepL [(0 : Fin 1)] (by decide) (by decide)]
    rfl
  rw [hT, BI.bigSep_empty]
  rfl

set_option maxRecDepth 100000 in
set_option maxHeartbeats 0 in
/-- A grid step, everything it holds at the region's own windows and buffers. -/
def StepAt (c : Dev nD) (t : Fin (cfgI m).N) (D : S1x8192.Idx → BitVec 32) (V0 I0 : S8x128.Idx → F .f32) (A0 B0 : S512x128.Idx → F .f32)
    (X0 : S128x30.Idx → F .f32) (Y : S1x1x16.Idx → F .f32) (W : Waits sig Unit) : sProp 𝕄 :=
  Step c (Memref.whole main_call0_v5) (spec0_0.stage ((cfgI m).slots t 0)) (spec0_1.stage ((cfgI m).slots t 1)) (spec0_2.stage ((cfgI m).slots t 2)) (spec0_3.stage ((cfgI m).slots t 3)) (spec0_4.stage ((cfgI m).slots t 4)) (spec0_5.stage ((cfgI m).slots t 5)) (spec0_6.stage ((cfgI m).slots t 6)) (spec0_7.stage ((cfgI m).slots t 7)) (spec0_8.stage ((cfgI m).slots t 8)) (spec0_9.stage ((cfgI m).slots t 9)) (spec0_10.stage ((cfgI m).slots t 10)) (spec0_11.stage ((cfgI m).slots t 11)) (spec0_12.stage ((cfgI m).slots t 12)) (spec0_13.stage ((cfgI m).slots t 13)) (spec0_14.stage ((cfgI m).slots t 14)) (spec0_15.stage ((cfgI m).slots t 15)) (spec0_16.stage ((cfgI m).slots t 16)) (spec0_17.stage ((cfgI m).slots t 17)) (spec0_18.stage ((cfgI m).slots t 18)) (spec0_19.stage ((cfgI m).slots t 19)) (spec0_20.stage ((cfgI m).slots t 20)) (spec0_21.stage ((cfgI m).slots t 21)) (spec0_22.stage ((cfgI m).slots t 22)) (Memref.whole cc0_scratch0) (Memref.whole cc0_scratch1) (Memref.whole cc0_scratch2) (Memref.whole cc0_scratch3) (Memref.whole cc0_scratch4) (Memref.whole cc0_scratch5) cc0_scratch6 fullShare fullShare.right
    (docBlk m c t.val t.isLt) (V m c main_call0_v5) (V m c main_call0_v0) (V m c main_call0_v3) (V m c main_call0_v6) (V m c main_call0_v7) (V m c main_call0_v8) (V m c main_arg7) (V m c main_call0_v9) (V m c main_call0_v10) (V m c main_call0_v11) (V m c main_arg11) (V m c main_call0_v12) (V m c main_call0_v13) (V m c main_call0_v14) (V m c main_arg15) (V m c main_call0_v15) (V m c main_call0_v16) (V m c main_call0_v17) (V m c main_arg19) (V m c main_call0_v18) (V m c main_call0_v19) (V m c main_call0_v20) D V0 I0 A0 B0 X0 Y W

set_option maxRecDepth 100000 in
set_option maxHeartbeats 0 in
/-- A grid step takes its buffers and windows to the same with the output window at `outBlk`. -/
theorem step_run (c : Dev nD) (t : Fin (cfgI m).N) (hT : ∀ i, (V m c main_call0_v5 i : BitVec 32).toNat < 100000)
    (hD : ∀ i, (docOf (docBlk m c t.val t.isLt) i).toNat < 100000) (D V0 I0 A0 B0 X0 Y W) :
    StepAt m c t D V0 I0 A0 B0 X0 Y W ⊢ wp frame (wpE (defs₀ (F := F)) Variants.none (c : Thread nD τ) none) Set.univ (bodyAt0 m t)
      (fun _ => iprop(∃ D V0 I0 A0 B0 X0 W, StepAt m c t D V0 I0 A0 B0 X0 (outBlk m c t) W)) :=
  body (grid0.coords t) (Memref.whole main_call0_v5) (Memref.isWhole_whole _) (spec0_0.stage ((cfgI m).slots t 0)) (hstage0_0 (((cfgI m).slots t 0).cast nbuf0_0)) (spec0_1.stage ((cfgI m).slots t 1)) (hstage0_1 (((cfgI m).slots t 1).cast nbuf0_1)) (spec0_2.stage ((cfgI m).slots t 2)) (hstage0_2 (((cfgI m).slots t 2).cast nbuf0_2)) (spec0_3.stage ((cfgI m).slots t 3)) (hstage0_3 (((cfgI m).slots t 3).cast nbuf0_3)) (spec0_4.stage ((cfgI m).slots t 4)) (hstage0_4 (((cfgI m).slots t 4).cast nbuf0_4)) (spec0_5.stage ((cfgI m).slots t 5)) (hstage0_5 (((cfgI m).slots t 5).cast nbuf0_5)) (spec0_6.stage ((cfgI m).slots t 6)) (hstage0_6 (((cfgI m).slots t 6).cast nbuf0_6)) (spec0_7.stage ((cfgI m).slots t 7)) (hstage0_7 (((cfgI m).slots t 7).cast nbuf0_7)) (spec0_8.stage ((cfgI m).slots t 8)) (hstage0_8 (((cfgI m).slots t 8).cast nbuf0_8)) (spec0_9.stage ((cfgI m).slots t 9)) (hstage0_9 (((cfgI m).slots t 9).cast nbuf0_9)) (spec0_10.stage ((cfgI m).slots t 10)) (hstage0_10 (((cfgI m).slots t 10).cast nbuf0_10)) (spec0_11.stage ((cfgI m).slots t 11)) (hstage0_11 (((cfgI m).slots t 11).cast nbuf0_11)) (spec0_12.stage ((cfgI m).slots t 12)) (hstage0_12 (((cfgI m).slots t 12).cast nbuf0_12)) (spec0_13.stage ((cfgI m).slots t 13)) (hstage0_13 (((cfgI m).slots t 13).cast nbuf0_13)) (spec0_14.stage ((cfgI m).slots t 14)) (hstage0_14 (((cfgI m).slots t 14).cast nbuf0_14)) (spec0_15.stage ((cfgI m).slots t 15)) (hstage0_15 (((cfgI m).slots t 15).cast nbuf0_15)) (spec0_16.stage ((cfgI m).slots t 16)) (hstage0_16 (((cfgI m).slots t 16).cast nbuf0_16)) (spec0_17.stage ((cfgI m).slots t 17)) (hstage0_17 (((cfgI m).slots t 17).cast nbuf0_17)) (spec0_18.stage ((cfgI m).slots t 18)) (hstage0_18 (((cfgI m).slots t 18).cast nbuf0_18)) (spec0_19.stage ((cfgI m).slots t 19)) (hstage0_19 (((cfgI m).slots t 19).cast nbuf0_19)) (spec0_20.stage ((cfgI m).slots t 20)) (hstage0_20 (((cfgI m).slots t 20).cast nbuf0_20)) (spec0_21.stage ((cfgI m).slots t 21)) (hstage0_21 (((cfgI m).slots t 21).cast nbuf0_21)) (spec0_22.stage ((cfgI m).slots t 22)) (hstage0_22 (((cfgI m).slots t 22).cast nbuf0_22)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6
    countersEmb hT hD (ι := ()) fun D' V' I' A' B' X' => by
      unfold StepAt outBlk
      iintro H
      iexists D'; iexists V'; iexists I'; iexists A'; iexists B'; iexists X'; iexists _
      iexact H

set_option maxHeartbeats 0 in
/-- The grid step's body meets the pipeline's condition on it. -/
theorem sound_body (c : Dev nD) (t : Fin (cfgI m).N) (hT : ∀ i, (V m c main_call0_v5 i : BitVec 32).toNat < 100000)
    (hD : ∀ i, (docOf (docBlk m c t.val t.isLt) i).toNat < 100000) :
    bodyPre m c t ⊢ wp frame (wpE (defs₀ (F := F)) Variants.none (c : Thread nD τ) none) Set.univ (bodyAt0 m t) (fun _ => bodyPost m c t) := by
  refine .trans (Q := iprop((∃ D V0 I0 A0 B0 X0 Y W, StepAt m c t D V0 I0 A0 B0 X0 Y W) ∗ (∃ r, prngReg c r))) ?_ (.trans (Q := iprop(wp frame (wpE (defs₀ (F := F)) Variants.none (c : Thread nD τ) none) Set.univ (bodyAt0 m t)
      (fun _ => iprop(∃ D V0 I0 A0 B0 X0 W, StepAt m c t D V0 I0 A0 B0 X0 (outBlk m c t) W)) ∗ (∃ r, prngReg c r))) ?_ ((wp_frame_r _ _ _).trans (wp_mono _ _ _ fun _ => ?_)))
  · unfold bodyPre StepAt Step
    rw [phi_eq]
    unfold Dat.owesAt Pipeline.owesWithin
    rw [show (dats m 0 c).owed t.castSucc = 0 from rfl]
    iintro ⟨⟨⟨⟨⟨%V0, S1⟩, ⟨%I0, S2⟩, ⟨%A0, S3⟩, ⟨%B0, S4⟩, ⟨%X0, S5⟩, ⟨%D0, S0⟩⟩, Hg, Hs, He⟩, Ht⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    rw [before0, before1, before2, before3, before4, before5, before6, before7, before8, before9, before10, before11, before12, before13, before14, before15, before16, before17, before18, before19, before20, before21]
    isplitr [Hg]
    · iexists D0; iexists V0; iexists I0; iexists A0; iexists B0; iexists X0; iexists _; iexists W
      isplitl [H2]; · iexact H2
      isplitl [S0]; · iexact S0
      isplitl [Hs]; · iexact Hs
      isplitl [HW]; · iexact HW
      isplitl [Ht]; · iexact Ht
      isplitl [H0]; · iexact H0
      isplitl [H1]; · iexact H1
      isplitl [S1]; · iexact S1
      isplitl [S2]; · iexact S2
      isplitl [H3]; · iexact H3
      isplitl [S3]; · iexact S3
      isplitl [S4]; · iexact S4
      isplitl [S5]; · iexact S5
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      iexact H22
    · iexact Hg
  · iintro ⟨⟨%D, %V0, %I0, %A0, %B0, %X0, %Y, %W, H⟩, Hg⟩
    isplitr [Hg]
    · iapply (step_run m c t hT hD D V0 I0 A0 B0 X0 Y W)
      iexact H
    · iexact Hg
  · unfold bodyPost StepAt Step
    rw [phi_eq]
    rw [after0, after1, after2, after3, after4, after5, after6, after7, after8, after9, after10, after11, after12, after13, after14, after15, after16, after17, after18, after19, after20, after21, after22]
    unfold Dat.owesAt Pipeline.owesWithin
    rw [show (dats m 0 c).owed t.succ = 0 from rfl]
    iintro ⟨⟨%D, %V0, %I0, %A0, %B0, %X0, %W, H2, S0, Hs, HW, Ht, H0, H1, S1, S2, H3, S3, S4, S5, H4, H5, H6, H7, H8, H9, H10, H11, H12, H13, H14, H15, H16, H17, H18, H19, H20, H21, H22⟩, Hg⟩
    isplitl [S0 S1 S2 S3 S4 S5 Hg Hs Ht]
    · isplitr [Ht]
      · isplitl [S0 S1 S2 S3 S4 S5]
        · isplitl [S1]; · iexists _; iexact S1
          isplitl [S2]; · iexists _; iexact S2
          isplitl [S3]; · iexists _; iexact S3
          isplitl [S4]; · iexists _; iexact S4
          isplitl [S5]; · iexists _; iexact S5
          iexists _; iexact S0
        isplitl [Hg]; · iexact Hg
        isplitl [Hs]; · iexact Hs
        iempintro
      · iexact Ht
    isplitl [HW]
    · iexists W
      isplitr
      · ipureintro; exact fun _ _ => Or.inl trivial
      · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22

end Drmm.I

end
-- ==== Proof.I.Frame.lean ====
module

public import proofs.«01_k».proof.Proof.I.Run

@[expose] public section

noncomputable section

namespace Drmm.I

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Idealize.ShloMosaic.Pipeline (Dat Cfg Window BodyObligation cellOf)
open Cert.KernelIdeal
open Facts Shapes1.Facts₀ Shapes2.Facts₀ K0.R1.Facts₀ K0.R2.Facts₀

variable {F : FTy → Type} [FloatOps F] [Facts]

variable (m : (ℓ : Loc nD τ sig) → Buf (Elt F) ℓ) (ρ : Dev nD → PrngReg)
local notation "𝕄" => MT nD τ sig Unit (Elt F) ℕ (Pipeline.UD sig nD τ) ℕ

/-- The body the pipeline calls is the kernel at the step's coordinates and windows. -/
theorem defs₀_row (t : Fin (cfgI m).N) :
    defs₀ (F := F) .tc (cfgI m).body ((cfgI m).bodyArgs t ((cfgI m).slots t)) = bodyAt0 m t := by
  unfold defs₀; rw [Defs.onTc_tc]; rfl

/-- The words the launch memory hands the kernel name rows of the embedding table. -/
def Words : Prop := (∀ c i, (V m c main_call0_v5 i : BitVec 32).toNat < 100000)
  ∧ ∀ c (t : Fin (cfgI m).N) i, (docOf (docBlk m c t.val t.isLt) i).toNat < 100000

/-- With words in range the body meets the pipeline's condition at every step. -/
theorem body_obligation (hw : Words m) (c : Dev nD) : BodyObligation (dats (F := F) m 0 c) (defs₀ (F := F)) Variants.none () Set.univ := fun t => by
  rw [Gen.bigSep_W0, Gen.bigSep_W0, defs₀_row]
  exact triple_restated (sound_body m c t (hw.1 c) (hw.2 c t)) rfl .rfl fun _ => .rfl

/-- The main function is its host operations and then the grid. -/
theorem hmain : Pipeline.HMainP (Ix := Unit) (Name := ℕ) (U := Pipeline.UD sig nD τ) (Lvl := ℕ) (pcfgs (F := F)) 0 defs₀ Variants.none m (main (F := F)) (V m) :=
  Pipeline.hmainP_prefix (pcfgs (F := F)) 0 defs₀ Variants.none m (main (F := F)) Gen.hostOps0 Gen.hostOps0_sub
    (by simp only [Gen.hostOps0, List.Forall]; repeat' apply And.intro
        all_goals rfl) Gen.main_chain

set_option backward.isDefEq.respectTransparency.types false in
/-- The whole run: the windows' arrays at what the steps left, every other buffer as the grid found it, the semaphores at zero. -/
theorem run_main (hw : Words m) : θ_run defs (onTc (τ := τ) (main (F := F))) ⟨m, fun _ => 0, ρ⟩
    (fun r => Pipeline.FramePost (Pipeline.pin (pcfgs (F := F)) (adm m)) (dats m) 0 (V m) r ∧ r.2.sem = fun _ => 0) :=
  Pipeline.θ_run_frameP_dma (Q' := _) (pcfgs (F := F)) (adm m) (dats m) (0 : Fin 1) Gen.launch0 osem0 defs₀ Variants.none ownSemFacts0 ∅ (Finset.empty_subset _) m ρ main
    (hbody := fun c => (body_obligation m hw c).loose) (hshare := fun c => (dats m 0 c).share_full fun _ => rfl)
    (howed := fun _ _ => rfl) (V := V m) (hmain := hmain m) (hA := fun _ _ => rfl)
    (hpf := fun c k => by obtain rfl : c = 0 := Subsingleton.elim _ _; rfl)
    (hin := fun _ => .rfl) (hout := fun c => by
      refine (show _ ⊢ iprop(Pipeline.ΦD osem0 spec0 ∅ (V m) c ∗ Pipeline.ΦT pre0 (adm m 0).1 c) from .rfl).trans ?_
      iintro ⟨H, -⟩; iexact H)

end Drmm.I

end
-- ==== Proof.I.Args.lean ====
module

public import proofs.«01_k».proof.Proof.I.Frame
public import proofs.«01_k».proof.Pre_in_range
public import Idealize.ShloMosaic.Lib.ReduceAll
public import Idealize.ShloMosaic.Lib.StableHlo.RunRead
public import Idealize.ShloMosaic.Lib.StableHlo.Predicate

@[expose] public section

noncomputable section

/-!
# The kernel's arguments

The words of a memory in range name rows of the embedding table, and the run leaves every argument as it was.
-/

namespace Drmm.I

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Idealize.ShloMosaic.Pipeline (Dat Cfg Window BodyObligation cellOf)
open Cert.KernelIdeal
open Facts Shapes1.Facts₀ Shapes2.Facts₀ K0.R1.Facts₀ K0.R2.Facts₀

variable {F : FTy → Type} [FloatOps F] [Facts]

variable (m : (ℓ : Loc nD τ sig) → Buf (Elt F) ℓ) (ρ : Dev nD → PrngReg)
local notation "𝕄" => MT nD τ sig Unit (Elt F) ℕ (Pipeline.UD sig nD τ) ℕ

/-- The buffers the host's operations write before the grid. -/
def written : List (Ref sig .tc) :=
  [main_call0_v0, main_call0_v1, main_call0_c, main_call0_call0_v0, main_call0_v2, main_call0_v3, main_call0_v4, main_call0_v5, main_call0_v6, main_call0_v7, main_call0_v8, main_call0_v9, main_call0_v10, main_call0_v11, main_call0_v12, main_call0_v13, main_call0_v14, main_call0_v15, main_call0_v16, main_call0_v17, main_call0_v18, main_call0_v19, main_call0_v20]

/-- A buffer no host operation writes reaches the grid as it was launched. -/
theorem V_kept (c : Dev nD) (b : Ref sig .tc) (hb : b ∉ written) : V m c b = m ((c.tc : Thread nD τ).loc b) :=
  StableHlo.after_unwritten (ops := Gen.hostOps0 (F := F)) written rfl hb (fun b => m (c, b))

/-- The query words the grid reads are the argument's. -/
theorem V_words (c : Dev nD) : (V m c main_call0_v5 : S256.Idx → BitVec 32)
    = shapeCast S256 (m ((c.tc : Thread nD τ).loc main_arg1) : S32x8.Idx → BitVec 32) shapeCasts_S32x8_S256 := by
  unfold V Gen.hostOps0; after_results; rfl

/-- The document words the grid reads are the argument's. -/
theorem V_docs (c : Dev nD) : (V m c main_call0_v4 : S32x1x8192.Idx → BitVec 32)
    = shapeCast S32x1x8192 (m ((c.tc : Thread nD τ).loc main_arg0) : S32x16x512.Idx → BitVec 32) shapeCasts_S32x16x512_S32x1x8192 := by
  unfold V Gen.hostOps0; after_results; rfl

/-- A word at least 0 and below 100000, both signed, is below 100000 as a number. -/
theorem word_lt (a : BitVec 32) (h0 : IntOp.cmpi .sge a 0#32 = 1#1) (h1 : IntOp.cmpi .slt a 100000#32 = 1#1) : a.toNat < 100000 := by
  simp only [IntOp.cmpi, StableHlo.Predicate.ofBool_eq_one_iff, BitVec.sle, BitVec.slt, decide_eq_true_eq, BitVec.toInt_ofNat] at h0 h1
  have := BitVec.toInt_eq_toNat_cond a
  have := a.isLt
  simp at h0 h1
  split at * <;> omega

/-- The result array after the last step. -/
def outArr (c : Dev nD) : Buf (Elt F) ((c.tc : Thread nD τ).loc main_v0) := (dats m 0 c).arrAt 22 (cfgI m).N

variable {m}

/-- A buffer that is no window's array and that no host operation writes ends as it was launched. -/
theorem rest_kept {r : PUnit × MemSt nD τ sig (Elt F)} (h : Pipeline.FramePost (Pipeline.pin pcfgs (adm m)) (dats m) 0 (V m) r) (c : Dev nD)
    (b : Ref sig .tc) (hs : b.isScoped = false) (ha : ∀ w, (spec0 w).arr.view.ref ≠ b) (hb : b ∉ written) :
    r.2.mem ((c.tc : Thread nD τ).loc b) = m ((c.tc : Thread nD τ).loc b) :=
  ((h c).2 b (Pipeline.mem_restRefs_of b hs ha)).trans (V_kept m c b hb)

/-- The result array ends at `outArr`. -/
theorem out_end {r : PUnit × MemSt nD τ sig (Elt F)} (h : Pipeline.FramePost (Pipeline.pin pcfgs (adm m)) (dats m) 0 (V m) r) (c : Dev nD) :
    r.2.mem ((c.tc : Thread nD τ).loc main_v0) = outArr m c := (h c).1 22

/-- Argument 7, which a window reads, ends as it began. -/
theorem arg7_kept {r : PUnit × MemSt nD τ sig (Elt F)} (h : Pipeline.FramePost (Pipeline.pin pcfgs (adm m)) (dats m) 0 (V m) r) (c : Dev nD) :
    r.2.mem ((c.tc : Thread nD τ).loc main_arg7) = m ((c.tc : Thread nD τ).loc main_arg7) :=
  ((h c).1 6).trans (((dats m 0 c).arrAt_in 6 rfl _).trans (V_kept m c main_arg7 (by decide)))

/-- Argument 11, which a window reads, ends as it began. -/
theorem arg11_kept {r : PUnit × MemSt nD τ sig (Elt F)} (h : Pipeline.FramePost (Pipeline.pin pcfgs (adm m)) (dats m) 0 (V m) r) (c : Dev nD) :
    r.2.mem ((c.tc : Thread nD τ).loc main_arg11) = m ((c.tc : Thread nD τ).loc main_arg11) :=
  ((h c).1 10).trans (((dats m 0 c).arrAt_in 10 rfl _).trans (V_kept m c main_arg11 (by decide)))

/-- Argument 15, which a window reads, ends as it began. -/
theorem arg15_kept {r : PUnit × MemSt nD τ sig (Elt F)} (h : Pipeline.FramePost (Pipeline.pin pcfgs (adm m)) (dats m) 0 (V m) r) (c : Dev nD) :
    r.2.mem ((c.tc : Thread nD τ).loc main_arg15) = m ((c.tc : Thread nD τ).loc main_arg15) :=
  ((h c).1 14).trans (((dats m 0 c).arrAt_in 14 rfl _).trans (V_kept m c main_arg15 (by decide)))

/-- Argument 19, which a window reads, ends as it began. -/
theorem arg19_kept {r : PUnit × MemSt nD τ sig (Elt F)} (h : Pipeline.FramePost (Pipeline.pin pcfgs (adm m)) (dats m) 0 (V m) r) (c : Dev nD) :
    r.2.mem ((c.tc : Thread nD τ).loc main_arg19) = m ((c.tc : Thread nD τ).loc main_arg19) :=
  ((h c).1 18).trans (((dats m 0 c).arrAt_in 18 rfl _).trans (V_kept m c main_arg19 (by decide)))

variable (m)

/-- The whole run: the result array at `outArr`, every argument unchanged, every counter at zero. -/
theorem run_args (hw : Words m) : θ_run defs (onTc (τ := τ) (main (F := F))) ⟨m, fun _ => 0, ρ⟩ (fun r =>
    (∀ c : Dev nD, r.2.mem ((c.tc : Thread nD τ).loc main_v0) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) ∧ r.2.sem = fun _ => 0) :=
  (θ_run defs _ _).mono (fun r h => ⟨fun c => ⟨out_end h.1 c,
      rest_kept h.1 c main_arg0 (by decide) (by decide) (by decide),
      rest_kept h.1 c main_arg1 (by decide) (by decide) (by decide),
      rest_kept h.1 c main_arg2 (by decide) (by decide) (by decide),
      rest_kept h.1 c main_arg3 (by decide) (by decide) (by decide),
      rest_kept h.1 c main_arg4 (by decide) (by decide) (by decide),
      rest_kept h.1 c main_arg5 (by decide) (by decide) (by decide),
      rest_kept h.1 c main_arg6 (by decide) (by decide) (by decide),
      arg7_kept h.1 c,
      rest_kept h.1 c main_arg8 (by decide) (by decide) (by decide),
      rest_kept h.1 c main_arg9 (by decide) (by decide) (by decide),
      rest_kept h.1 c main_arg10 (by decide) (by decide) (by decide),
      arg11_kept h.1 c,
      rest_kept h.1 c main_arg12 (by decide) (by decide) (by decide),
      rest_kept h.1 c main_arg13 (by decide) (by decide) (by decide),
      rest_kept h.1 c main_arg14 (by decide) (by decide) (by decide),
      arg15_kept h.1 c,
      rest_kept h.1 c main_arg16 (by decide) (by decide) (by decide),
      rest_kept h.1 c main_arg17 (by decide) (by decide) (by decide),
      rest_kept h.1 c main_arg18 (by decide) (by decide) (by decide),
      arg19_kept h.1 c,
      rest_kept h.1 c main_arg20 (by decide) (by decide) (by decide),
      rest_kept h.1 c main_arg21 (by decide) (by decide) (by decide),
      rest_kept h.1 c main_arg22 (by decide) (by decide) (by decide)⟩, h.2⟩) (run_main m ρ hw)

/-- The range condition bounds every word of the documents and of the queries. -/
theorem args_lt [hP : Cert.Pre_in_range.Facts] (h : ∀ c : Dev nD, Cert.Pre_in_range.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) = fun _ => 1#1) : ∀ c : Dev nD, (∀ i : S32x16x512.Idx, ((m ((c.tc : Thread nD τ).loc main_arg0) : S32x16x512.Idx → BitVec 32) i).toNat < 100000)
      ∧ ∀ i : S32x8.Idx, ((m ((c.tc : Thread nD τ).loc main_arg1) : S32x8.Idx → BitVec 32) i).toNat < 100000 := by
  intro c
  have e := congrFun (h c) (fun x => x.elim0 : Cert.Pre_in_range.S_.Idx)
  obtain ⟨e0, e1⟩ := IntOp.andi_eq_one.1 e
  haveI : Subsingleton (⟨0, ![]⟩ : Shape).Idx := ⟨fun a b => funext fun x => x.elim0⟩
  exact ⟨fun i => by
      obtain ⟨a, b⟩ := IntOp.andi_eq_one.1 (Host.reduce_andi_all _ _ _ _ _ e0 i)
      exact word_lt _ a b, fun i => by
      obtain ⟨a, b⟩ := IntOp.andi_eq_one.1 (Host.reduce_andi_all _ _ _ _ _ e1 i)
      exact word_lt _ a b⟩

/-- Words in range name rows of the embedding table. -/
theorem words_of_pre [hP : Cert.Pre_in_range.Facts] (h : ∀ c : Dev nD, Cert.Pre_in_range.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) = fun _ => 1#1) : Words m := by
  have key := args_lt m h
  refine ⟨fun c i => ?_, fun c t i => ?_⟩
  · rw [V_words]; exact (key c).2 _
  · show (V m c main_call0_v4 _ : BitVec 32).toNat < _
    rw [V_docs]; exact (key c).1 _

end Drmm.I

end
-- ==== Proof.V.Bins.lean ====
module

public import Idealize.ShloMosaic.Lib.Pointwise

@[expose] public section

noncomputable section

/-!
# The number of a bin

The reference floors a scaled similarity, makes it a word and holds the word between 0 and 29. The kernel holds the floor itself
between 0.0 and 29.0 and compares it with the float of a bin's number. Over the extended reals the two agree.
-/

namespace Drmm.V

open Idealize.ShloMosaic

/-- The word of the bin of a scaled similarity: its floor as a word, held between 0 and 29. -/
def binWordOf (x : EReal) : BitVec 32 := IntOp.minsi 29#32 (IntOp.maxsi 0#32 (Ideal.fptosi 32 (Ideal.liftRound Int.floor x)))

/-- The number of that bin. -/
def binNum (x : EReal) : ℕ := (binWordOf x).toNat

/-- A word made of an integer and held between 0 and 29, as a number. -/
theorem clamp_word (v : ℤ) (h : -2147483648 ≤ v) (h' : v ≤ 2147483647) :
    (IntOp.minsi 29#32 (IntOp.maxsi 0#32 (BitVec.ofInt 32 v))).toNat = (min 29 (max 0 v)).toNat := by
  have e : (BitVec.ofInt 32 v).toInt = v := by
    rw [BitVec.toInt_ofInt]; exact Int.bmod_eq_of_le (by norm_num; omega) (by norm_num; omega)
  have e29 : (29#32).toInt = 29 := by decide
  have e0 : (0#32).toInt = 0 := by decide
  unfold IntOp.minsi IntOp.maxsi
  simp only [BitVec.slt, decide_eq_true_eq, e, e0]
  by_cases h1 : v < 0
  · rw [if_pos h1, e0, e29, if_neg (by norm_num), max_eq_left (le_of_lt h1)]; decide
  · rw [if_neg h1, e, e29, max_eq_right (not_lt.1 h1)]
    have e' := BitVec.toInt_eq_toNat_cond (BitVec.ofInt 32 v)
    rw [e] at e'
    have := (BitVec.ofInt 32 v).isLt
    by_cases h2 : 29 < v
    · rw [if_pos h2, min_eq_left (le_of_lt h2)]; decide
    · rw [if_neg h2, min_eq_right (not_lt.1 h2)]
      split at e' <;> omega

/-- The floor of minus infinity. -/
theorem floor_bot : Ideal.liftRound Int.floor ⊥ = ⊥ := rfl
/-- The floor of plus infinity. -/
theorem floor_top : Ideal.liftRound Int.floor ⊤ = ⊤ := rfl
/-- The floor of a real number. -/
theorem floor_coe (r : ℝ) : Ideal.liftRound Int.floor (r : EReal) = (((⌊r⌋ : ℤ) : ℝ) : EReal) := rfl

/-- Minus infinity falls into the first bin. -/
theorem binNum_bot : binNum ⊥ = 0 := by unfold binNum binWordOf; rw [floor_bot]; decide
/-- Plus infinity falls into the last bin. -/
theorem binNum_top : binNum ⊤ = 29 := by unfold binNum binWordOf; rw [floor_top]; decide
/-- A real number falls into the bin of its floor, held between 0 and 29. -/
theorem binNum_coe (r : ℝ) : binNum (r : EReal) = (min 29 (max 0 ⌊r⌋)).toNat := by
  unfold binNum binWordOf Ideal.fptosi
  rw [floor_coe]
  have e : Ideal.toIntClamped (-(2 ^ (32 - 1) : Nat)) ((2 ^ (32 - 1) : Nat) - 1) (((⌊r⌋ : ℤ) : ℝ) : EReal)
      = max (-2147483648) (min 2147483647 ⌊r⌋) := by
    show max _ (min _ (if (0 : ℝ) ≤ (⌊r⌋ : ℤ) then ⌊((⌊r⌋ : ℤ) : ℝ)⌋ else ⌈((⌊r⌋ : ℤ) : ℝ)⌉)) = _
    rw [Int.floor_intCast, Int.ceil_intCast, ite_self]; norm_num
  rw [e, clamp_word _ (by omega) (by omega)]
  omega

/-- There are thirty bins. -/
theorem binNum_lt (x : EReal) : binNum x < 30 := by
  induction x using EReal.rec with
  | bot => rw [binNum_bot]; norm_num
  | top => rw [binNum_top]; norm_num
  | coe r => rw [binNum_coe]; omega

/-- A scaled similarity's floor held between 0 and 29 is the number of its bin. -/
theorem clip_floor (x : EReal) : min ((29 : ℕ) : EReal) (max 0 (Ideal.liftRound Int.floor x)) = ((binNum x : ℕ) : EReal) := by
  induction x using EReal.rec with
  | bot => rw [binNum_bot, floor_bot, max_bot_right]; simp
  | top => rw [binNum_top, floor_top, max_top_right, min_top_right]
  | coe r =>
    rw [binNum_coe, floor_coe]
    have e29 : ((29 : ℕ) : EReal) = (((29 : ℤ) : ℝ) : EReal) := by norm_num; rfl
    have e0 : (0 : EReal) = (((0 : ℤ) : ℝ) : EReal) := by simp
    have em : ∀ a b : ℤ, max (((a : ℝ)) : EReal) ((b : ℝ) : EReal) = (((max a b : ℤ) : ℝ) : EReal) := fun a b => by
      rw [Int.cast_max]; exact (EReal.coe_strictMono.monotone.map_max).symm
    have en : ∀ a b : ℤ, min (((a : ℝ)) : EReal) ((b : ℝ) : EReal) = (((min a b : ℤ) : ℝ) : EReal) := fun a b => by
      rw [Int.cast_min]; exact (EReal.coe_strictMono.monotone.map_min).symm
    rw [e29, e0, em, en]
    obtain ⟨k, hk⟩ : ∃ k : ℕ, min 29 (max 0 ⌊r⌋) = (k : ℤ) := ⟨_, (Int.toNat_of_nonneg (by omega)).symm⟩
    rw [hk]; simp

end Drmm.V

end
-- ==== Proof.V.Spec.lean ====
module

public import proofs.«01_k».proof.Proof.V.Bins

@[expose] public section

noncomputable section

/-!
# The ranking, as mathematics over the extended reals

One score per document: histograms of similarities through four layers, weighted by the queries' gate. Both programs are read as this.
-/

namespace Drmm.V

open Idealize.ShloMosaic

/-- What the ranking reads beside the words: the tables, the gate's weights and the layers' weights. -/
structure Params where
  emb : Fin 100000 → Fin 128 → EReal
  idf : Fin 100000 → EReal
  wg : Fin 8 → EReal
  gi : Fin 30 → EReal
  bi : Fin 30 → EReal
  W0 : Fin 30 → Fin 128 → EReal
  b0 : Fin 128 → EReal
  g0 : Fin 128 → EReal
  be0 : Fin 128 → EReal
  W1 : Fin 128 → Fin 64 → EReal
  b1 : Fin 64 → EReal
  g1 : Fin 64 → EReal
  be1 : Fin 64 → EReal
  W2 : Fin 64 → Fin 32 → EReal
  b2 : Fin 32 → EReal
  g2 : Fin 32 → EReal
  be2 : Fin 32 → EReal
  W3 : Fin 32 → EReal
  b3 : EReal
  g3 : EReal
  be3 : EReal

/-- The row of a table that a word names. -/
def rowAt (w : BitVec 32) : Fin 100000 := ⟨w.toNat % 100000, Nat.mod_lt _ (by decide)⟩

/-- The cosine similarity of a query's row and a document word's, scaled to the bins. -/
def scaled (q d : Fin 128 → EReal) : EReal :=
  Ideal.div (Ideal.div (∑ e, q e * d e) (Ideal.sqrt (∑ e, q e * q e) * Ideal.sqrt (∑ e, d e * d e) + Ideal.ofBits .f32 0x322BCC77#32)
    - Ideal.ofBits .f32 0x3A83126F#32) (Ideal.ofBits .f32 0x3F7FBE77#32) * Ideal.ofBits .f32 0x41F00000#32

/-- How many of a document's words fall in bin `n` for a query. -/
def countAt (q : Fin 128 → EReal) (D : Fin 512 → Fin 128 → EReal) (n : ℕ) : EReal := ∑ l, if binNum (scaled q (D l)) = n then 1 else 0

/-- The normalisation's constant. -/
def scale : EReal := Ideal.ofBits .f32 0x3F7FDF42#32

/-- A dense layer, normalised, through tanh. -/
def layer {n k : ℕ} (W : Fin n → Fin k → EReal) (b g be : Fin k → EReal) (x : Fin n → EReal) (j : Fin k) : EReal :=
  Ideal.tanh (g j * ((∑ i, x i * W i j + b j) * scale) + be j)

namespace Params

variable (P : Params)

/-- The score of one histogram: normalised, then four layers. -/
def net (h : Fin 30 → EReal) : EReal :=
  layer (fun i (_ : Fin 1) => P.W3 i) (fun _ => P.b3) (fun _ => P.g3) (fun _ => P.be3)
    (layer P.W2 P.b2 P.g2 P.be2 (layer P.W1 P.b1 P.g1 P.be1 (layer P.W0 P.b0 P.g0 P.be0 fun i => P.gi i * (h i * scale) + P.bi i))) 0

/-- A query's logit. -/
def logit (qw : Fin 8 → BitVec 32) (q : Fin 8) : EReal := P.wg q * P.idf (rowAt (qw q))

/-- Its exponential, the greatest logit taken away. -/
def expo (qw : Fin 8 → BitVec 32) (q : Fin 8) : EReal :=
  Ideal.exp (P.logit qw q - Finset.fold max (Ideal.ofBits .f32 0xFF800000#32) (P.logit qw) Finset.univ)

/-- The softmax of the logits. -/
def gate (qw : Fin 8 → BitVec 32) (q : Fin 8) : EReal := Ideal.div (P.expo qw q) (∑ p, P.expo qw p)

/-- The histogram of a document's words for a query. -/
def hist (q : BitVec 32) (dw : Fin 512 → BitVec 32) (n : Fin 30) : EReal := countAt (P.emb (rowAt q)) (fun l => P.emb (rowAt (dw l))) n

/-- A document's score. -/
def score (qw : Fin 8 → BitVec 32) (dw : Fin 512 → BitVec 32) : EReal := ∑ q, P.net (P.hist (qw q) dw) * P.gate qw q

end Params

end Drmm.V

end
-- ==== Proof.V.Ker.lean ====
module

public import proofs.«01_k».proof.Proof.I.Body
public import proofs.«01_k».proof.Proof.V.Spec
public import Idealize.ShloMosaic.Lib.Pointwise
public import Idealize.ShloMosaic.Lib.Pipeline.Value

@[expose] public section

noncomputable section

/-!
# A grid step's block, read

The block of scores that a grid step stores holds, for each document, the score of Spec.lean.
-/

namespace Drmm.V

open Idealize.ShloMosaic Drmm.I Cert.KernelIdeal

/-- A float word of an integer below 2^24, read from its exponent and its fraction. -/
theorem word_val (w : BitVec 32) (n : ℕ) (h1 : (w.extractLsb' 31 1 == 1#1) = false) (h2 : (w.extractLsb' 23 8).toNat ≠ 255)
    (h3 : (w.extractLsb' 23 8).toNat ≠ 0) (h4 : (2 ^ 23 + (w.extractLsb' 0 23).toNat) * 2 ^ (w.extractLsb' 23 8).toNat = n * 2 ^ 150) :
    Ideal.ofBits .f32 w = ((n : ℕ) : EReal) := by
  show Ideal.ieee 8 23 w = _
  unfold Ideal.ieee
  rw [← EReal.coe_natCast]
  dsimp only
  rw [if_neg (by exact h2), if_neg h3, show ((w.extractLsb' (8 + 23) 1 == 1#1)) = false from h1]
  congr 1
  generalize (w.extractLsb' 23 8).toNat = ex at *
  have h5 := congrArg (Nat.cast (R := ℝ)) h4
  push_cast at h5
  have : ((2 : ℝ)) ^ ((ex : ℤ) - (2 ^ (8 - 1) - 1) - ((23 : ℕ) : ℤ)) = 2 ^ ex / 2 ^ 150 := by
    rw [show ((ex : ℤ) - (2 ^ (8 - 1) - 1) - ((23 : ℕ) : ℤ)) = (ex : ℤ) - (150 : ℕ) by norm_num; ring, zpow_sub₀ (by norm_num), zpow_natCast, zpow_natCast]
  rw [this]
  simp only [Bool.false_eq_true, if_false]
  push_cast
  simp only [Bool.false_eq_true, if_false, one_mul]
  rw [← mul_div_assoc, h5]
  norm_num

/-- The bins' words are the bins' numbers. -/
theorem binWord_val (n : ℕ) (h : n < 30) : Ideal.ofBits .f32 (binWord n) = ((n : ℕ) : EReal) := by
  rcases Nat.eq_zero_or_pos n with rfl | h0
  · exact (Ideal.ofBits_zero_f32).trans (by simp)
  · have key : ∀ n : Fin 30, 0 < n.val → ((binWord n).extractLsb' 31 1 == 1#1) = false ∧ ((binWord n).extractLsb' 23 8).toNat ≠ 255 ∧
      ((binWord n).extractLsb' 23 8).toNat ≠ 0 ∧ (2 ^ 23 + ((binWord n).extractLsb' 0 23).toNat) * 2 ^ ((binWord n).extractLsb' 23 8).toNat = n.val * 2 ^ 150 := by decide +kernel
    obtain ⟨a, b, c, d⟩ := key ⟨n, h⟩ h0
    exact word_val _ _ a b c d

variable [Facts]

/-- A bit, widened and turned to a float, is one or zero. -/
theorem bit_val (p : Prop) [Decidable p] : (FloatOps.sitofp (F := Ideal) .f32 (BitVec.setWidth 32 (BitVec.ofBool (decide p))) : EReal) = if p then 1 else 0 := by
  by_cases h : p
  · rw [if_pos h, decide_eq_true h]
    show (((BitVec.setWidth 32 (BitVec.ofBool true)).toInt : ℝ) : EReal) = 1
    rw [show (BitVec.setWidth 32 (BitVec.ofBool true)).toInt = 1 by decide]; simp
  · rw [if_neg h, decide_eq_false h]
    show (((BitVec.setWidth 32 (BitVec.ofBool false)).toInt : ℝ) : EReal) = 0
    rw [show (BitVec.setWidth 32 (BitVec.ofBool false)).toInt = 0 by decide]; simp

set_option maxRecDepth 16384

/-- A count of bins read: a sum of ones. -/
theorem countOf_eq (qv : FVec Ideal S8x128 .f32) (T : FVec Ideal S512x128 .f32) (q : Fin 8) (n : ℕ) (hn : n < 30) :
    countOf (binOf qv (normOf qv) T) q n = countAt (fun e => qv (ix2 q e)) (fun l e => T (ix2 l e)) n := by
  pointwise [countOf, countVec, binOf, normOf]
  rw [binWord_val n hn]
  unfold countAt
  refine Finset.sum_congr rfl fun l _ => ?_
  rw [show Ideal.ofBits .f32 1105723392#32 = ((29 : ℕ) : EReal) from binWord_val 29 (by decide)]
  rw [show Ideal.div (Ideal.div (∑ x_1, qv (ix2 q x_1) * T (ix2 l x_1)) _ - _) _ * _ = scaled (fun e => qv (ix2 q e)) (fun e => T (ix2 l e)) from rfl]
  rw [clip_floor]
  refine (bit_val _).trans (if_congr ?_ rfl rfl)
  exact EReal.natCast_eq_iff

/-- The layers read: row by row, the network of the specification. -/
theorem scoreOf_eq (P : Params) {H : FVec Ideal S128x30 .f32} {P6 P7 : FVec Ideal S1x30 .f32} {P8 : FVec Ideal S30x128 .f32} {P9 P10 P11 : FVec Ideal S1x128 .f32}
    {P12 : FVec Ideal S128x64 .f32} {P13 P14 P15 : FVec Ideal S1x64 .f32} {P16 : FVec Ideal S64x32 .f32} {P17 P18 P19 : FVec Ideal S1x32 .f32}
    {P20 : FVec Ideal S32x1 .f32} {P21 P22 P23 : FVec Ideal S1x1 .f32}
    (h6 : ∀ i, P6 (ix2 0 i) = P.gi i) (h7 : ∀ i, P7 (ix2 0 i) = P.bi i) (h8 : ∀ i j, P8 (ix2 i j) = P.W0 i j) (h9 : ∀ i, P9 (ix2 0 i) = P.b0 i)
    (h10 : ∀ i, P10 (ix2 0 i) = P.g0 i) (h11 : ∀ i, P11 (ix2 0 i) = P.be0 i) (h12 : ∀ i j, P12 (ix2 i j) = P.W1 i j) (h13 : ∀ i, P13 (ix2 0 i) = P.b1 i)
    (h14 : ∀ i, P14 (ix2 0 i) = P.g1 i) (h15 : ∀ i, P15 (ix2 0 i) = P.be1 i) (h16 : ∀ i j, P16 (ix2 i j) = P.W2 i j) (h17 : ∀ i, P17 (ix2 0 i) = P.b2 i)
    (h18 : ∀ i, P18 (ix2 0 i) = P.g2 i) (h19 : ∀ i, P19 (ix2 0 i) = P.be2 i) (h20 : ∀ i, P20 (ix2 i 0) = P.W3 i) (h21 : P21 (ix2 0 0) = P.b3)
    (h22 : P22 (ix2 0 0) = P.g3) (h23 : P23 (ix2 0 0) = P.be3) (r : Fin 128) :
    scoreOf H P6 P7 P8 P9 P10 P11 P12 P13 P14 P15 P16 P17 P18 P19 P20 P21 P22 P23 (ix2 r (0 : Fin 1)) = P.net fun i => H (ix2 r i) := by
  pointwise [scoreOf, normed]
  simp only [h6, h7, h8, h9, h10, h11, h12, h13, h14, h15, h16, h17, h18, h19, h20, h21, h22, h23]
  rfl

/-- The gate read: the specification's softmax. -/
theorem gateOf_eq (P : Params) (qw : Fin 8 → BitVec 32) {I : FVec Ideal S8x128 .f32} {Wg : FVec Ideal S8x1 .f32} (hw : ∀ q, Wg (ix2 q 0) = P.wg q)
    (hI : ∀ q, ∑ l, I (ix2 q l) = P.idf (rowAt (qw q))) (q : Fin 8) : gateOf I Wg (ix2 q (0 : Fin 1)) = P.gate qw q := by
  pointwise [gateOf, expOf, logitOf]
  simp only [hw, hI]
  rfl

/-- A row of sixteen copies of the gate. -/
theorem gates_apply (g : FVec Ideal S8x1 .f32) (h) (x : Fin 128) :
    concatenate S128x1 0 [⟨S8x1, g⟩, ⟨S8x1, g⟩, ⟨S8x1, g⟩, ⟨S8x1, g⟩, ⟨S8x1, g⟩, ⟨S8x1, g⟩, ⟨S8x1, g⟩, ⟨S8x1, g⟩, ⟨S8x1, g⟩, ⟨S8x1, g⟩, ⟨S8x1, g⟩, ⟨S8x1, g⟩, ⟨S8x1, g⟩, ⟨S8x1, g⟩, ⟨S8x1, g⟩, ⟨S8x1, g⟩] h (ix2 x (0 : Fin 1))
      = g (ix2 ⟨x.val % 8, Nat.mod_lt _ (by decide)⟩ 0) :=
  concatenate_ofFn_apply (t := S128x1) (s₁ := S8x1) 0 (N := 16) (fun _ => g) h rfl 8 rfl (ix2 x (0 : Fin 1)) ⟨x.val / 8, by omega⟩ rfl
    (ix2 ⟨x.val % 8, Nat.mod_lt _ (by decide)⟩ 0) rfl (fun b hb => by
      match b, hb with
      | ⟨0, _⟩, hb => exact absurd rfl hb
      | ⟨1, _⟩, hb => rfl)

/-- The mask of the sum over queries: a row belongs to a document when an eighth of it is the document's number. -/
theorem mask_val : ∀ (x : Fin 128) (d : Fin 16), IntOp.cmpi .eq (IntOp.shrsi .vector (BitVec.ofNat 32 x.val) 3#32) (BitVec.ofNat 32 d.val)
    = BitVec.ofBool (decide (x.val / 8 = d.val)) := by
  decide +kernel

/-- The sum over queries read. -/
theorem sumOf_eq (s : FVec Ideal S128x1 .f32) (g : FVec Ideal S8x1 .f32) (d : Fin 16) :
    sumOf s g (ix2 (0 : Fin 1) d) = ∑ q : Fin 8, s (ix2 ⟨d.val * 8 + q.val, by omega⟩ 0) * g (ix2 q 0) := by
  unfold sumOf
  generalize hC : concatenate S128x1 _ _ _ = C
  have hc : ∀ x : Fin 128, C (ix2 x 0) = g (ix2 ⟨x.val % 8, Nat.mod_lt _ (by decide)⟩ 0) := fun x => by rw [← hC]; exact gates_apply g _ x
  pointwise
  simp only [mask_val, bit_val, hc]
  rw [← Equiv.sum_comp (finProdFinEquiv (m := 16) (n := 8)), Fintype.sum_prod_type, Finset.sum_eq_single d]
  · refine Finset.sum_congr rfl fun q _ => ?_
    rw [if_pos (by show (q.val + 8 * d.val) / 8 = d.val; omega), mul_one]
    rw [show (finProdFinEquiv (d, q) : Fin 128) = ⟨d.val * 8 + q.val, by omega⟩ from Fin.ext (by show q.val + 8 * d.val = d.val * 8 + q.val; omega)]
    rw [show (⟨(⟨d.val * 8 + q.val, by omega⟩ : Fin 128).val % 8, Nat.mod_lt _ (by decide)⟩ : Fin 8) = q from
      Fin.ext (by show (d.val * 8 + q.val) % 8 = q.val; omega)]
  · intro k _ hk
    refine Finset.sum_eq_zero fun q _ => ?_
    rw [if_neg (fun h => hk (Fin.ext (by have : (q.val + 8 * k.val) / 8 = d.val := h; omega))), mul_zero]
  · intro h; exact absurd (Finset.mem_univ d) h

/-- The lanes' mask of a word: the lane of its low seven bits. -/
theorem lane_val (w : BitVec 32) (l : Fin 128) : IntOp.cmpi .eq (BitVec.ofNat 32 l.val) (Scalar.andi w 127#32) = BitVec.ofBool (decide (l.val = w.toNat % 128)) := by
  show BitVec.ofBool (BitVec.ofNat 32 l.val == w &&& 127#32) = _
  congr 1
  rw [Bool.eq_iff_iff, beq_iff_eq, decide_eq_true_iff, ← BitVec.toNat_inj, BitVec.toNat_and, BitVec.toNat_ofNat]
  rw [show (127#32 : BitVec 32).toNat = 2 ^ 7 - 1 from rfl, Nat.and_two_pow_sub_one_eq_mod]
  rw [Nat.mod_eq_of_lt (by omega)]

/-- A word's upper bits, in range. -/
theorem row_val (w : BitVec 32) (h : w.toNat < 100000) : (Scalar.shrsi w 7#32).toNat = w.toNat / 128 := by
  have hm : w.msb = false := by rw [BitVec.msb_eq_decide]; simp; omega
  show (w.sshiftRight' 7#32).toNat = _
  rw [BitVec.sshiftRight', BitVec.toNat_sshiftRight_of_msb_false hm]
  exact Nat.shiftRight_eq_div_pow _ _

/-- A query's row of the second table, summed over its lanes: the entry the word names. -/
theorem idfOf_sum (P : Params) (T : S256.Idx → BitVec 32) (G : FVec Ideal S782x1x128 .f32) (b : ℕ)
    (hG : ∀ n : Fin 100000, G (ix3 ⟨n.val / 128, by omega⟩ 0 ⟨n.val % 128, by omega⟩) = P.idf n) (hT : ∀ i, (T i).toNat < 100000) (q : Fin 8) :
    ∑ l, idfOf T G b (ix2 q l) = P.idf (rowAt (queryWord T (b * 8 + q.val))) := by
  have hw : (queryWord T (b * 8 + q.val)).toNat < 100000 := hT _
  show ∑ l, mkIdf (queryWord T (b * 8 + q.val)) (tableRow G (Scalar.shrsi (queryWord T (b * 8 + q.val)) 7#32).toNat) l = _
  generalize queryWord T (b * 8 + q.val) = w at *
  pointwise [mkIdf, idfMask]
  simp only [lane_val, bit_val, row_val w hw]
  rw [Finset.sum_eq_single ⟨w.toNat % 128, Nat.mod_lt _ (by decide)⟩]
  · rw [if_pos rfl, mul_one, ← hG (rowAt w)]
    show G _ = G _
    congr 1
    have h1 : w.toNat % 100000 = w.toNat := Nat.mod_eq_of_lt hw
    refine congrArg₂ (fun x y => ix3 x (0 : Fin 1) y) (Fin.ext ?_) (Fin.ext ?_)
    · show w.toNat / 128 % 782 = w.toNat % 100000 / 128
      rw [h1, Nat.mod_eq_of_lt (by omega)]
    · show w.toNat % 128 = w.toNat % 100000 % 128
      rw [h1]
  · intro l _ hl
    rw [if_neg (fun h => hl (Fin.ext h)), mul_zero]
  · intro h; exact absurd (Finset.mem_univ _) h

/-- The documents' words, an axis of extent one dropped. -/
theorem docOf_apply (X4 : S1x1x8192.Idx → BitVec 32) (n : Fin 8192) : docOf X4 (ix2 (0 : Fin 1) n) = X4 (ix3 0 0 n) := by
  show shapeCast S1x8192 X4 _ (ix2 (0 : Fin 1) n) = _
  pointwise

/-- A grid step's block read: each document's score. -/
theorem blockOf_eq (P : Params) (qw : Fin 8 → BitVec 32) (dw : Fin 16 → Fin 512 → BitVec 32) (b : ℕ)
    {X4 : S1x1x8192.Idx → BitVec 32} {T : S256.Idx → BitVec 32} {M : FVec Ideal S100000x1x128 .f32} {G : FVec Ideal S782x1x128 .f32} {Wg : FVec Ideal S8x1 .f32}
    {P6 P7 : FVec Ideal S1x30 .f32} {P8 : FVec Ideal S30x128 .f32} {P9 P10 P11 : FVec Ideal S1x128 .f32}
    {P12 : FVec Ideal S128x64 .f32} {P13 P14 P15 : FVec Ideal S1x64 .f32} {P16 : FVec Ideal S64x32 .f32} {P17 P18 P19 : FVec Ideal S1x32 .f32}
    {P20 : FVec Ideal S32x1 .f32} {P21 P22 P23 : FVec Ideal S1x1 .f32}
    (hX : ∀ d l, X4 (ix3 0 0 ⟨d.val * 512 + l.val, by omega⟩) = dw d l) (hT : ∀ i, (T i).toNat < 100000) (hq : ∀ q : Fin 8, queryWord T (b * 8 + q.val) = qw q)
    (hM : ∀ n e, M (ix3 n 0 e) = P.emb n e)
    (hG : ∀ n : Fin 100000, G (ix3 ⟨n.val / 128, by omega⟩ 0 ⟨n.val % 128, by omega⟩) = P.idf n) (hw : ∀ q, Wg (ix2 q 0) = P.wg q)
    (h6 : ∀ i, P6 (ix2 0 i) = P.gi i) (h7 : ∀ i, P7 (ix2 0 i) = P.bi i) (h8 : ∀ i j, P8 (ix2 i j) = P.W0 i j) (h9 : ∀ i, P9 (ix2 0 i) = P.b0 i)
    (h10 : ∀ i, P10 (ix2 0 i) = P.g0 i) (h11 : ∀ i, P11 (ix2 0 i) = P.be0 i) (h12 : ∀ i j, P12 (ix2 i j) = P.W1 i j) (h13 : ∀ i, P13 (ix2 0 i) = P.b1 i)
    (h14 : ∀ i, P14 (ix2 0 i) = P.g1 i) (h15 : ∀ i, P15 (ix2 0 i) = P.be1 i) (h16 : ∀ i j, P16 (ix2 i j) = P.W2 i j) (h17 : ∀ i, P17 (ix2 0 i) = P.b2 i)
    (h18 : ∀ i, P18 (ix2 0 i) = P.g2 i) (h19 : ∀ i, P19 (ix2 0 i) = P.be2 i) (h20 : ∀ i, P20 (ix2 i 0) = P.W3 i) (h21 : P21 (ix2 0 0) = P.b3)
    (h22 : P22 (ix2 0 0) = P.g3) (h23 : P23 (ix2 0 0) = P.be3) (d : Fin 16) :
    blockOf b X4 T M G Wg P6 P7 P8 P9 P10 P11 P12 P13 P14 P15 P16 P17 P18 P19 P20 P21 P22 P23 (ix3 (0 : Fin 1) (0 : Fin 1) d) = P.score qw (dw d) := by
  unfold blockOf
  generalize hS : sumOf (F := Ideal) _ _ = S
  pointwise
  rw [← hS, sumOf_eq]
  unfold Params.score
  refine Finset.sum_congr rfl fun q _ => ?_
  rw [scoreOf_eq P h6 h7 h8 h9 h10 h11 h12 h13 h14 h15 h16 h17 h18 h19 h20 h21 h22 h23, gateOf_eq P qw hw (fun q => by rw [idfOf_sum P T G b hG hT, hq])]
  congr 2
  funext n
  have hd : (d.val * 8 + q.val) / 8 = d.val := by omega
  have hm : (d.val * 8 + q.val) % 8 = q.val := by omega
  show slotCounts (qvOf T M b) (normOf (qvOf T M b)) (docOf X4) M ((d.val * 8 + q.val) / 8 * 512) ⟨(d.val * 8 + q.val) % 8, _⟩ n.val = _
  rw [hd, show (⟨(d.val * 8 + q.val) % 8, Nat.mod_lt _ (by decide)⟩ : Fin 8) = q from Fin.ext hm]
  unfold slotCounts
  rw [countOf_eq _ _ _ _ n.isLt]
  unfold Params.hist
  have hrow : ∀ (w : BitVec 32) (e : Fin 128), tableRow (F := Ideal) M w.toNat e = P.emb (rowAt w) e := fun w e => hM _ e
  congr 1
  · funext e
    show tableRow (F := Ideal) M (queryWord T (b * 8 + q.val)).toNat e = _
    rw [hrow, hq]
  · funext l e
    show tableRow (F := Ideal) M (docWord (docOf X4) (d.val * 512 + l.val)).toNat e = _
    rw [hrow]
    congr 2
    rw [← hX d l]
    unfold docWord
    refine (docOf_apply X4 _).trans (congrArg (fun z => X4 (ix3 (0 : Fin 1) (0 : Fin 1) z)) (Fin.ext ?_))
    show (d.val * 512 + l.val) % 8192 = d.val * 512 + l.val
    omega

end Drmm.V

end
-- ==== Proof.V.Index.lean ====
module

public import proofs.«01_k».proof.Proof.V.Spec
public import Idealize.ShloMosaic.Lib.Pointwise

@[expose] public section

noncomputable section

/-!
# Lookups and scatters at an index

A lookup of whole rows of a table, by one word each, read at an index; and where an update of a scatter into a flat array lands.
-/

namespace Drmm.V

open Idealize.ShloMosaic

/-- A lookup of rows by words in two axes: the row that the word names, the word held inside the table. -/
theorem lookup3 {α : Type} {N C A B w : ℕ} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (I : IVec ⟨3, ![A, B, 1]⟩ w) (a : Fin A) (b : Fin B) (c : Fin C) :
    Host.gather (t := ⟨3, ![A, B, C]⟩) ⟨[2], [0], [], [], [0], 2, ![1, C], wf⟩ x I (ix3 a b c)
      = x (ix2 ⟨min (I (ix3 a b (0 : Fin 1))).toInt.toNat (N - 1), by omega⟩ c) := by
  generalize hd : (⟨[2], [0], [], [], [0], 2, ![1, C], wf⟩ : GatherDims ⟨2, ![N, C]⟩ ⟨3, ![A, B, 1]⟩ ⟨3, ![A, B, C]⟩) = d
  unfold Host.gather
  congr 1
  funext k
  refine Fin.ext ?_
  show d.start (ix3 a b c) I k + d.batchCoord (ix3 a b c) k + d.offCoord (ix3 a b c) k = _
  rw [GatherDims.batchCoord_eq_zero _ _ _ (by rw [← hd]; exact List.not_mem_nil), Nat.add_zero]
  have h01 : k = 0 ∨ k = 1 := by
    match k with
    | ⟨0, _⟩ => exact Or.inl rfl
    | ⟨1, _⟩ => exact Or.inr rfl
  rcases h01 with rfl | rfl
  · rw [GatherDims.offCoord_eq_zero _ _ _ (by
      rw [← hd]; exact fun h => ((GatherDims.mem_sKept _ _).mp h).1 (List.mem_singleton.mpr rfl)), Nat.add_zero]
    unfold GatherDims.start
    rw [dif_pos (show (0 : Fin 2) ∈ d.startIndexMap by rw [← hd]; exact List.mem_singleton.mpr rfl)]
    subst hd
    have hs : ∀ p, GatherDims.siIdx (s := ⟨2, ![N, C]⟩) (si := ⟨3, ![A, B, 1]⟩) (t := ⟨3, ![A, B, C]⟩) ⟨[2], [0], [], [], [0], 2, ![1, C], wf⟩ (ix3 a b c) ⟨0, p⟩ = ix3 a b (0 : Fin 1) := fun p => by
      funext e
      refine Fin.ext ?_
      match e with
      | ⟨0, _⟩ => rfl
      | ⟨1, _⟩ => rfl
      | ⟨2, _⟩ => rfl
    exact congrArg (fun z => min (I z).toInt.toNat (N - 1)) (hs _)
  · subst hd
    unfold GatherDims.start
    rw [dif_neg (show (1 : Fin 2) ∉ [(0 : Fin 2)] by decide), Nat.zero_add]
    unfold GatherDims.offCoord
    rw [dif_pos (by rw [GatherDims.mem_sKept]; exact ⟨show (1 : Fin 2) ∉ [(0 : Fin 2)] by decide, List.not_mem_nil⟩)]
    rfl

/-- A lookup of rows by words in three axes. -/
theorem lookup4 {α : Type} {N C A B D w : ℕ} (hN : 0 < N)
    (wf : GatherDims.WF ⟨2, ![N, C]⟩ ⟨4, ![A, B, D, 1]⟩ ⟨4, ![A, B, D, C]⟩ [3] [0] [] [0] [] 3 ![1, C])
    (x : (⟨2, ![N, C]⟩ : Shape).Idx → α) (I : IVec ⟨4, ![A, B, D, 1]⟩ w) (a : Fin A) (b : Fin B) (d' : Fin D) (c : Fin C) :
    Host.gather (t := ⟨4, ![A, B, D, C]⟩) ⟨[3], [0], [], [], [0], 3, ![1, C], wf⟩ x I (ix4 a b d' c)
      = x (ix2 ⟨min (I (ix4 a b d' (0 : Fin 1))).toInt.toNat (N - 1), by omega⟩ c) := by
  generalize hd : (⟨[3], [0], [], [], [0], 3, ![1, C], wf⟩ : GatherDims ⟨2, ![N, C]⟩ ⟨4, ![A, B, D, 1]⟩ ⟨4, ![A, B, D, C]⟩) = d
  unfold Host.gather
  congr 1
  funext k
  refine Fin.ext ?_
  show d.start (ix4 a b d' c) I k + d.batchCoord (ix4 a b d' c) k + d.offCoord (ix4 a b d' c) k = _
  rw [GatherDims.batchCoord_eq_zero _ _ _ (by rw [← hd]; exact List.not_mem_nil), Nat.add_zero]
  have h01 : k = 0 ∨ k = 1 := by
    match k with
    | ⟨0, _⟩ => exact Or.inl rfl
    | ⟨1, _⟩ => exact Or.inr rfl
  rcases h01 with rfl | rfl
  · rw [GatherDims.offCoord_eq_zero _ _ _ (by
      rw [← hd]; exact fun h => ((GatherDims.mem_sKept _ _).mp h).1 (List.mem_singleton.mpr rfl)), Nat.add_zero]
    unfold GatherDims.start
    rw [dif_pos (show (0 : Fin 2) ∈ d.startIndexMap by rw [← hd]; exact List.mem_singleton.mpr rfl)]
    subst hd
    have hs : ∀ p, GatherDims.siIdx (s := ⟨2, ![N, C]⟩) (si := ⟨4, ![A, B, D, 1]⟩) (t := ⟨4, ![A, B, D, C]⟩) ⟨[3], [0], [], [], [0], 3, ![1, C], wf⟩ (ix4 a b d' c) ⟨0, p⟩ = ix4 a b d' (0 : Fin 1) := fun p => by
      funext e
      refine Fin.ext ?_
      match e with
      | ⟨0, _⟩ => rfl
      | ⟨1, _⟩ => rfl
      | ⟨2, _⟩ => rfl
      | ⟨3, _⟩ => rfl
    exact congrArg (fun z => min (I z).toInt.toNat (N - 1)) (hs _)
  · subst hd
    unfold GatherDims.start
    rw [dif_neg (show (1 : Fin 2) ∉ [(0 : Fin 2)] by decide), Nat.zero_add]
    unfold GatherDims.offCoord
    rw [dif_pos (by rw [GatherDims.mem_sKept]; exact ⟨show (1 : Fin 2) ∉ [(0 : Fin 2)] by decide, List.not_mem_nil⟩)]
    rfl

/-- An update of a scatter into a flat array, one word each, lands where its word says. -/
theorem lands {N U : ℕ} (wf : ScatterDims.WF ⟨1, ![N]⟩ ⟨2, ![U, 1]⟩ ⟨1, ![U]⟩ [] [0] [0] 1) (I : IVec ⟨2, ![U, 1]⟩ 32) (u : Fin U) (p : Fin N) :
    ScatterDims.resultIdx? (s := ⟨1, ![N]⟩) (u := ⟨1, ![U]⟩) ⟨[], [0], [0], 1, wf⟩ (ix1 u) I = some (ix1 p) ↔ (I (ix2 u (0 : Fin 1))).toInt = (p.val : ℤ) := by
  generalize hd : (⟨[], [0], [0], 1, wf⟩ : ScatterDims ⟨1, ![N]⟩ ⟨2, ![U, 1]⟩ ⟨1, ![U]⟩) = d
  have hw : d.window (ix1 u) 0 = 0 := by
    subst hd
    unfold ScatterDims.window
    exact dif_neg fun h => (of_decide_eq_true (List.mem_filter.1 h).2) (List.mem_singleton.2 rfl)
  have hs : d.start (ix1 u) I 0 = (I (ix2 u (0 : Fin 1))).toInt := by
    subst hd
    unfold ScatterDims.start
    rw [dif_pos (List.mem_singleton.2 rfl)]
    refine congrArg (fun z => (I z).toInt) (funext fun e => Fin.ext ?_)
    match e with
    | ⟨0, _⟩ => rfl
    | ⟨1, _⟩ => rfl
  have hat : d.start (ix1 u) I 0 + (d.window (ix1 u) 0 : ℤ) = (I (ix2 u (0 : Fin 1))).toInt := by rw [hs, hw]; simp
  have hp := p.isLt
  unfold ScatterDims.resultIdx?
  split
  · next h =>
    have h0 : 0 ≤ d.start (ix1 u) I 0 + (d.window (ix1 u) 0 : ℤ) := (h 0).1
    rw [hat] at h0
    constructor
    · intro e
      have e0 : (d.start (ix1 u) I 0 + (d.window (ix1 u) 0 : ℤ)).toNat = p.val := congrArg Fin.val (congrFun (Option.some.inj e) 0)
      rw [hat] at e0; omega
    · intro e
      refine congrArg some (funext fun k => Fin.ext ?_)
      obtain rfl : k = 0 := Subsingleton.elim _ _
      show (d.start (ix1 u) I 0 + (d.window (ix1 u) 0 : ℤ)).toNat = p.val
      rw [hat]; omega
  · next h =>
    refine ⟨fun e => (by cases e), fun e => (h fun k => ?_).elim⟩
    obtain rfl : k = 0 := Subsingleton.elim _ _
    show 0 ≤ d.start (ix1 u) I 0 + (d.window (ix1 u) 0 : ℤ) ∧ d.start (ix1 u) I 0 + (d.window (ix1 u) 0 : ℤ) < (N : ℤ)
    rw [hat]; omega

/-- A scatter of ones into zeros counts, at each position, the updates whose word says that position. -/
theorem scatter_ones {N U : ℕ} (wf : ScatterDims.WF ⟨1, ![N]⟩ ⟨2, ![U, 1]⟩ ⟨1, ![U]⟩ [] [0] [0] 1) (Z : FVec Ideal ⟨1, ![N]⟩ .f32)
    (I : IVec ⟨2, ![U, 1]⟩ 32) (O : FVec Ideal ⟨1, ![U]⟩ .f32) (hZ : ∀ p, Z (ix1 p) = (0 : EReal)) (hO : ∀ u, O (ix1 u) = (1 : EReal)) (p : Fin N) :
    Host.scatterAdd (F := Ideal) (⟨[], [0], [0], 1, wf⟩ : ScatterDims ⟨1, ![N]⟩ ⟨2, ![U, 1]⟩ ⟨1, ![U]⟩) Z I O (ix1 p)
      = ∑ u : Fin U, if (I (ix2 u (0 : Fin 1))).toInt = (p.val : ℤ) then (1 : EReal) else 0 := by
  show (Z (ix1 p) : EReal) + ∑ j ∈ Finset.univ.filter (fun j => ScatterDims.resultIdx? (s := ⟨1, ![N]⟩) (u := ⟨1, ![U]⟩) ⟨[], [0], [0], 1, wf⟩ j I = some (ix1 p)), O j = _
  rw [hZ, zero_add, Finset.sum_filter, sum_idx1]
  refine Finset.sum_congr rfl fun u _ => ?_
  rw [hO]
  exact if_congr (lands wf I u p) rfl rfl

/-- A word below a table's length, taken from the end when negative, is itself. -/
theorem wrap_word (w x : BitVec 32) (h : w.toNat < 100000) : Scalar.select (IntOp.cmpi .slt w 0#32) x w = w := by
  have hm : w.msb = false := by rw [BitVec.msb_eq_decide]; simp; omega
  have e : IntOp.cmpi .slt w 0#32 = 0#1 := by
    show BitVec.ofBool (w.slt 0#32) = 0#1
    rw [BitVec.slt_zero_eq_msb, hm]; rfl
  rw [e]; rfl

/-- The row that a word below the table's length names, the word held inside the table. -/
theorem held_row (w : BitVec 32) (h : w.toNat < 100000) (h' : min w.toInt.toNat (100000 - 1) < 100000) : (⟨min w.toInt.toNat (100000 - 1), h'⟩ : Fin 100000) = rowAt w := by
  have hi : w.toInt = w.toNat := by rw [BitVec.toInt_eq_toNat_cond, if_pos (by omega)]
  refine Fin.ext ?_
  show min w.toInt.toNat (100000 - 1) = w.toNat % 100000
  rw [hi]; omega

end Drmm.V

end
-- ==== Proof.V.Ref.lean ====
module

public import proofs.«01_k».proof.Proof.Gen.ReferenceIdeal.Run
public import proofs.«01_k».proof.Proof.V.Index
public import Idealize.ShloMosaic.Lib.Pointwise

@[expose] public section

noncomputable section

/-!
# The reference, in pieces

The reference's result is one long term; here it is cut into the steps of its text, and each step is read at an index.
-/

namespace Drmm.V

open Idealize.ShloMosaic Cert.ReferenceIdeal Cert.ReferenceIdeal.Gen Idealize.ShloMosaic.TcCoe Idealize.SL.Sem

/-- The queries' words as lookup indices, a negative one counted from the end. -/
def queryIdx (A1 : IVec S32x8 32) : IVec S32x8x1 32 :=
  broadcastInDim S32x8x1 ![0, 1] bcast_S32x8_S32x8x1_0_1 (select (cmpi .slt A1 (broadcastInDim S32x8 ![] bcast_S_S32x8 (constantI S_ 32 0#32))) (addi A1 (broadcastInDim S32x8 ![] bcast_S_S32x8 (constantI S_ 32 100000#32))) A1)

/-- The documents' words as lookup indices, a negative one counted from the end. -/
def docIdx (A0 : IVec S32x16x512 32) : IVec S32x16x512x1 32 :=
  broadcastInDim S32x16x512x1 ![0, 1, 2] bcast_S32x16x512_S32x16x512x1_0_1_2 (select (cmpi .slt A0 (broadcastInDim S32x16x512 ![] bcast_S_S32x16x512 (constantI S_ 32 0#32))) (addi A0 (broadcastInDim S32x16x512 ![] bcast_S_S32x16x512 (constantI S_ 32 100000#32))) A0)

/-- The rows of the queries. -/
def queryRows (A2 : FVec Ideal S100000x128 .f32) (I : IVec S32x8x1 32) : FVec Ideal S32x8x128 .f32 :=
  Host.gather gather_S100000x128_S32x8x1_S32x8x128_2_0_n_n_0_2_1128 A2 I

/-- The rows of the documents' words, a batch's documents one after the other. -/
def docRows (A2 : FVec Ideal S100000x128 .f32) (I : IVec S32x16x512x1 32) : FVec Ideal S32x8192x128 .f32 :=
  shapeCast _ (Host.gather gather_S100000x128_S32x16x512x1_S32x16x512x128_3_0_n_n_0_3_1128 A2 I) shapeCasts_S32x16x512x128_S32x8192x128

/-- The bin of every pair of a query and a word. -/
def binIdx (Q : FVec Ideal S32x8x128 .f32) (D : FVec Ideal S32x8192x128 .f32) : IVec S32x8x8192 32 :=
  minsi (broadcastInDim S32x8x8192 ![] bcast_S_S32x8x8192 (id (constantI S_ 32 29#32))) (maxsi (broadcastInDim S32x8x8192 ![] bcast_S_S32x8x8192 (id (constantI S_ 32 0#32))) (fptosi 32 (Host.floor (mulf (Host.divf (subf (Host.divf (Host.dotGeneral dot_S32x8x128_S32x8192x128_S32x8x8192_2_2_1_1_0_0 none Q D) (addf (mulf (broadcastInDim S32x8x8192 ![0, 1, 2] bcast_S32x1x8192_S32x8x8192_0_1_2 (broadcastInDim S32x1x8192 ![0, 2] bcast_S32x8192_S32x1x8192_0_2 (Host.sqrt (Host.reduceAdd (mulf D D) (constant S_ .f32 0x00000000#32) reducesTo_S32x8192x128_S32x8192_d2 h_S_)))) (broadcastInDim S32x8x8192 ![0, 1, 2] bcast_S32x8x1_S32x8x8192_0_1_2 (broadcastInDim S32x8x1 ![0, 1] bcast_S32x8_S32x8x1_0_1 (Host.sqrt (Host.reduceAdd (mulf Q Q) (constant S_ .f32 0x00000000#32) reducesTo_S32x8x128_S32x8_d2 h_S_))))) (broadcastInDim S32x8x8192 ![] bcast_S_S32x8x8192 (constant S_ .f32 0x322BCC77#32)))) (broadcastInDim S32x8x8192 ![] bcast_S_S32x8x8192 (constant S_ .f32 0x3A83126F#32))) (broadcastInDim S32x8x8192 ![] bcast_S_S32x8x8192 (constant S_ .f32 0x3F7FBE77#32))) (broadcastInDim S32x8x8192 ![] bcast_S_S32x8x8192 (constant S_ .f32 0x41F00000#32))))))

/-- The bins as positions in the flat array of all histograms. -/
def flatIdx (B : IVec S32x8x8192 32) : IVec S2097152x1 32 :=
  broadcastInDim S2097152x1 ![0] bcast_S2097152_S2097152x1_0 (shapeCast _ (addi (broadcastInDim S4096x512 ![0, 1] bcast_S4096x1_S4096x512_0_1 (muli (broadcastInDim S4096x1 ![0] bcast_S4096_S4096x1_0 (iotaInDim S4096 32 0)) (broadcastInDim S4096x1 ![] bcast_S_S4096x1 (constantI S_ 32 30#32)))) (shapeCast _ B shapeCasts_S32x8x8192_S4096x512)) shapeCasts_S4096x512_S2097152)

/-- All histograms. -/
def histAllRef (I : IVec S2097152x1 32) : FVec Ideal S32x8x16x30 .f32 :=
  shapeCast _ (Host.scatterAdd scatter_S122880_S2097152x1_S2097152_n_0_0_1 (broadcastInDim S122880 ![] bcast_S_S122880 (constant S_ .f32 0x00000000#32)) I (broadcastInDim S2097152 ![] bcast_S_S2097152 (constant S_ .f32 0x3F800000#32))) shapeCasts_S122880_S32x8x16x30

/-- The normalisation and the four layers. -/
def netRef (H : FVec Ideal S32x8x16x30 .f32) (A5 A6 : FVec Ideal S30 .f32) (A7 : FVec Ideal S30x128 .f32) (A8 A9 A10 : FVec Ideal S128 .f32) (A11 : FVec Ideal S128x64 .f32) (A12 A13 A14 : FVec Ideal S64 .f32) (A15 : FVec Ideal S64x32 .f32) (A16 A17 A18 : FVec Ideal S32 .f32) (A19 : FVec Ideal S32x1 .f32) (A20 A21 A22 : FVec Ideal S1 .f32) : FVec Ideal S32x8x16x1 .f32 :=
  Host.tanh (addf (mulf (broadcastInDim S32x8x16x1 ![0, 1, 2, 3] bcast_S1x1x1x1_S32x8x16x1_0_1_2_3 (broadcastInDim S1x1x1x1 ![3] bcast_S1_S1x1x1x1_3 A21)) (mulf (addf (Host.dotGeneral dot_S32x8x16x32_S32x1_S32x8x16x1_3_0_012_1_n_n none (Host.tanh (addf (mulf (broadcastInDim S32x8x16x32 ![0, 1, 2, 3] bcast_S1x1x1x32_S32x8x16x32_0_1_2_3 (broadcastInDim S1x1x1x32 ![3] bcast_S32_S1x1x1x32_3 A17)) (mulf (addf (Host.dotGeneral dot_S32x8x16x64_S64x32_S32x8x16x32_3_0_012_1_n_n none (Host.tanh (addf (mulf (broadcastInDim S32x8x16x64 ![0, 1, 2, 3] bcast_S1x1x1x64_S32x8x16x64_0_1_2_3 (broadcastInDim S1x1x1x64 ![3] bcast_S64_S1x1x1x64_3 A13)) (mulf (addf (Host.dotGeneral dot_S32x8x16x128_S128x64_S32x8x16x64_3_0_012_1_n_n none (Host.tanh (addf (mulf (broadcastInDim S32x8x16x128 ![0, 1, 2, 3] bcast_S1x1x1x128_S32x8x16x128_0_1_2_3 (broadcastInDim S1x1x1x128 ![3] bcast_S128_S1x1x1x128_3 A9)) (mulf (addf (Host.dotGeneral dot_S32x8x16x30_S30x128_S32x8x16x128_3_0_012_1_n_n none (addf (mulf (broadcastInDim S32x8x16x30 ![0, 1, 2, 3] bcast_S1x1x1x30_S32x8x16x30_0_1_2_3 (broadcastInDim S1x1x1x30 ![3] bcast_S30_S1x1x1x30_3 A5)) (mulf H (broadcastInDim S32x8x16x30 ![] bcast_S_S32x8x16x30 (constant S_ .f32 0x3F7FDF42#32)))) (broadcastInDim S32x8x16x30 ![0, 1, 2, 3] bcast_S1x1x1x30_S32x8x16x30_0_1_2_3 (broadcastInDim S1x1x1x30 ![3] bcast_S30_S1x1x1x30_3 A6))) A7) (broadcastInDim S32x8x16x128 ![0, 1, 2, 3] bcast_S1x1x1x128_S32x8x16x128_0_1_2_3 (broadcastInDim S1x1x1x128 ![3] bcast_S128_S1x1x1x128_3 A8))) (broadcastInDim S32x8x16x128 ![] bcast_S_S32x8x16x128 (constant S_ .f32 0x3F7FDF42#32)))) (broadcastInDim S32x8x16x128 ![0, 1, 2, 3] bcast_S1x1x1x128_S32x8x16x128_0_1_2_3 (broadcastInDim S1x1x1x128 ![3] bcast_S128_S1x1x1x128_3 A10)))) A11) (broadcastInDim S32x8x16x64 ![0, 1, 2, 3] bcast_S1x1x1x64_S32x8x16x64_0_1_2_3 (broadcastInDim S1x1x1x64 ![3] bcast_S64_S1x1x1x64_3 A12))) (broadcastInDim S32x8x16x64 ![] bcast_S_S32x8x16x64 (constant S_ .f32 0x3F7FDF42#32)))) (broadcastInDim S32x8x16x64 ![0, 1, 2, 3] bcast_S1x1x1x64_S32x8x16x64_0_1_2_3 (broadcastInDim S1x1x1x64 ![3] bcast_S64_S1x1x1x64_3 A14)))) A15) (broadcastInDim S32x8x16x32 ![0, 1, 2, 3] bcast_S1x1x1x32_S32x8x16x32_0_1_2_3 (broadcastInDim S1x1x1x32 ![3] bcast_S32_S1x1x1x32_3 A16))) (broadcastInDim S32x8x16x32 ![] bcast_S_S32x8x16x32 (constant S_ .f32 0x3F7FDF42#32)))) (broadcastInDim S32x8x16x32 ![0, 1, 2, 3] bcast_S1x1x1x32_S32x8x16x32_0_1_2_3 (broadcastInDim S1x1x1x32 ![3] bcast_S32_S1x1x1x32_3 A18)))) A19) (broadcastInDim S32x8x16x1 ![0, 1, 2, 3] bcast_S1x1x1x1_S32x8x16x1_0_1_2_3 (broadcastInDim S1x1x1x1 ![3] bcast_S1_S1x1x1x1_3 A20))) (broadcastInDim S32x8x16x1 ![] bcast_S_S32x8x16x1 (constant S_ .f32 0x3F7FDF42#32)))) (broadcastInDim S32x8x16x1 ![0, 1, 2, 3] bcast_S1x1x1x1_S32x8x16x1_0_1_2_3 (broadcastInDim S1x1x1x1 ![3] bcast_S1_S1x1x1x1_3 A22)))

/-- The gate's logits. -/
def logitRef (A3 : FVec Ideal S100000x1 .f32) (A4 : FVec Ideal S8 .f32) (I : IVec S32x8x1 32) : FVec Ideal S32x8 .f32 :=
  mulf (broadcastInDim S32x8 ![0, 1] bcast_S1x8_S32x8_0_1 (broadcastInDim S1x8 ![1] bcast_S8_S1x8_1 A4)) (shapeCast _ (Host.gather gather_S100000x1_S32x8x1_S32x8x1_2_0_n_n_0_2_11 A3 I) shapeCasts_S32x8x1_S32x8)

/-- Their exponentials, the greatest taken away. -/
def expRef (Z : FVec Ideal S32x8 .f32) : FVec Ideal S32x8 .f32 :=
  Host.exp (subf Z (broadcastInDim S32x8 ![0, 1] bcast_S32x1_S32x8_0_1 (broadcastInDim S32x1 ![0] bcast_S32_S32x1_0 (maximumf (broadcastInDim S32 ![] bcast_S_S32 (constant S_ .f32 0xFF800000#32)) (Host.reduce FloatOps.maximumf Z (constant S_ .f32 0xFF800000#32) reducesTo_S32x8_S32_d1 h_S_)))))

/-- The gate. -/
def gateRef (Z : FVec Ideal S32x8 .f32) : FVec Ideal S32x8 .f32 :=
  Host.divf (expRef Z) (broadcastInDim S32x8 ![0, 1] bcast_S32x1_S32x8_0_1 (broadcastInDim S32x1 ![0] bcast_S32_S32x1_0 (Host.reduceAdd (expRef Z) (constant S_ .f32 0x00000000#32) reducesTo_S32x8_S32_d1 h_S_)))

/-- The weighted scores, summed over the queries. -/
def outRef (net : FVec Ideal S32x8x16x1 .f32) (gate : FVec Ideal S32x8 .f32) : FVec Ideal S32x1x16 .f32 :=
  shapeCast _ (Host.reduceAdd (mulf (shapeCast _ net shapeCasts_S32x8x16x1_S32x8x16) (broadcastInDim S32x8x16 ![0, 1, 2] bcast_S32x8x1_S32x8x16_0_1_2 (broadcastInDim S32x8x1 ![0, 1] bcast_S32x8_S32x8x1_0_1 gate))) (constant S_ .f32 0x00000000#32) reducesTo_S32x8x16_S32x16_d1 h_S_) shapeCasts_S32x16_S32x1x16

/-- The reference's result is those steps, one after the other. -/
theorem result_eq (m : (ℓ : Loc nD τ sig) → Buf (Elt Ideal) ℓ) (c : Dev nD) :
    Cert.ReferenceIdeal.Value.res_main_v139 m c
      = outRef (netRef (histAllRef (flatIdx (binIdx (queryRows (m ((c.tc : Thread nD τ).loc main_arg2)) (queryIdx (m ((c.tc : Thread nD τ).loc main_arg1)))) (docRows (m ((c.tc : Thread nD τ).loc main_arg2)) (docIdx (m ((c.tc : Thread nD τ).loc main_arg0)))))))
          (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))) (gateRef (logitRef (m ((c.tc : Thread nD τ).loc main_arg3)) (m ((c.tc : Thread nD τ).loc main_arg4)) (queryIdx (m ((c.tc : Thread nD τ).loc main_arg1))))) := by
  unfold Cert.ReferenceIdeal.Value.res_main_v139
  rfl

set_option maxRecDepth 16384

/-- The layers read. -/
theorem netRef_eq (P : Params) {H : FVec Ideal S32x8x16x30 .f32} {A5 A6 : FVec Ideal S30 .f32} {A7 : FVec Ideal S30x128 .f32} {A8 A9 A10 : FVec Ideal S128 .f32}
    {A11 : FVec Ideal S128x64 .f32} {A12 A13 A14 : FVec Ideal S64 .f32} {A15 : FVec Ideal S64x32 .f32} {A16 A17 A18 : FVec Ideal S32 .f32}
    {A19 : FVec Ideal S32x1 .f32} {A20 A21 A22 : FVec Ideal S1 .f32}
    (h5 : ∀ i, A5 (ix1 i) = P.gi i) (h6 : ∀ i, A6 (ix1 i) = P.bi i) (h7 : ∀ i j, A7 (ix2 i j) = P.W0 i j) (h8 : ∀ i, A8 (ix1 i) = P.b0 i)
    (h9 : ∀ i, A9 (ix1 i) = P.g0 i) (h10 : ∀ i, A10 (ix1 i) = P.be0 i) (h11 : ∀ i j, A11 (ix2 i j) = P.W1 i j) (h12 : ∀ i, A12 (ix1 i) = P.b1 i)
    (h13 : ∀ i, A13 (ix1 i) = P.g1 i) (h14 : ∀ i, A14 (ix1 i) = P.be1 i) (h15 : ∀ i j, A15 (ix2 i j) = P.W2 i j) (h16 : ∀ i, A16 (ix1 i) = P.b2 i)
    (h17 : ∀ i, A17 (ix1 i) = P.g2 i) (h18 : ∀ i, A18 (ix1 i) = P.be2 i) (h19 : ∀ i, A19 (ix2 i 0) = P.W3 i) (h20 : A20 (ix1 0) = P.b3)
    (h21 : A21 (ix1 0) = P.g3) (h22 : A22 (ix1 0) = P.be3) (b : Fin 32) (q : Fin 8) (d : Fin 16) :
    netRef H A5 A6 A7 A8 A9 A10 A11 A12 A13 A14 A15 A16 A17 A18 A19 A20 A21 A22 (ix4 b q d (0 : Fin 1)) = P.net fun i => H (ix4 b q d i) := by
  pointwise [netRef]
  simp only [h5, h6, h7, h8, h9, h10, h11, h12, h13, h14, h15, h16, h17, h18, h19, h20, h21, h22]
  rfl

/-- The gate read. -/
theorem gateRef_eq (P : Params) (qw : Fin 8 → BitVec 32) {Z : FVec Ideal S32x8 .f32} (b : Fin 32) (hZ : ∀ q, Z (ix2 b q) = P.logit qw q) (q : Fin 8) :
    gateRef Z (ix2 b q) = P.gate qw q := by
  pointwise [gateRef, expRef]
  simp only [hZ]
  have hm : max (Ideal.ofBits .f32 4286578688#32) (Finset.fold max (Ideal.ofBits .f32 4286578688#32) (fun x => P.logit qw x) Finset.univ)
      = Finset.fold max (Ideal.ofBits .f32 4286578688#32) (fun x => P.logit qw x) Finset.univ :=
    max_eq_right (by rw [Finset.le_fold_max]; exact Or.inl le_rfl)
  rw [hm]
  rfl

/-- The sum over the queries read. -/
theorem outRef_eq (N : FVec Ideal S32x8x16x1 .f32) (g : FVec Ideal S32x8 .f32) (b : Fin 32) (d : Fin 16) :
    outRef N g (ix3 b (0 : Fin 1) d) = ∑ q, N (ix4 b q d (0 : Fin 1)) * g (ix2 b q) := by
  pointwise [outRef]

/-- A bin read. -/
theorem binIdx_eq (Q : FVec Ideal S32x8x128 .f32) (D : FVec Ideal S32x8192x128 .f32) (b : Fin 32) (q : Fin 8) (n : Fin 8192) :
    binIdx Q D (ix3 b q n) = binWordOf (scaled (fun e => Q (ix3 b q e)) (fun e => D (ix3 b n e))) := by
  pointwise [binIdx]
  unfold scaled
  rw [mul_comm (Ideal.sqrt (∑ e, Q (ix3 b q e) * Q (ix3 b q e)))]
  rfl

/-- A query's index read. -/
theorem queryIdx_eq (A1 : IVec S32x8 32) (h : ∀ i, (A1 i).toNat < 100000) (b : Fin 32) (q : Fin 8) : queryIdx A1 (ix3 b q (0 : Fin 1)) = A1 (ix2 b q) := by
  pointwise [queryIdx]
  exact wrap_word _ _ (h _)

/-- A document word's index read. -/
theorem docIdx_eq (A0 : IVec S32x16x512 32) (h : ∀ i, (A0 i).toNat < 100000) (b : Fin 32) (d : Fin 16) (l : Fin 512) :
    docIdx A0 (ix4 b d l (0 : Fin 1)) = A0 (ix3 b d l) := by
  pointwise [docIdx]
  exact wrap_word _ _ (h _)

/-- A query's row read. -/
theorem queryRows_eq (A2 : FVec Ideal S100000x128 .f32) (I : IVec S32x8x1 32) (b : Fin 32) (q : Fin 8) (e : Fin 128) (h : (I (ix3 b q (0 : Fin 1))).toNat < 100000) :
    queryRows A2 I (ix3 b q e) = A2 (ix2 (rowAt (I (ix3 b q (0 : Fin 1)))) e) :=
  (lookup3 (by decide) _ A2 I b q e).trans (congrArg (fun z => A2 (ix2 z e)) (held_row _ h _))

/-- A document word's row read. -/
theorem docRows_eq (A2 : FVec Ideal S100000x128 .f32) (I : IVec S32x16x512x1 32) (b : Fin 32) (n : Fin 8192) (e : Fin 128)
    (h : ∀ i, (I i).toNat < 100000) :
    docRows A2 I (ix3 b n e) = A2 (ix2 (rowAt (I (ix4 b (⟨n.val / 512, by omega⟩ : Fin 16) (⟨n.val % 512, by omega⟩ : Fin 512) (0 : Fin 1)))) e) := by
  unfold docRows
  generalize hX : Host.gather _ A2 I = X
  pointwise
  rw [← hX]
  exact (lookup4 (by decide) _ A2 I b _ _ e).trans (congrArg (fun z => A2 (ix2 z e)) (held_row _ (h _) _))

/-- A logit read. -/
theorem logitRef_eq (A3 : FVec Ideal S100000x1 .f32) (A4 : FVec Ideal S8 .f32) (I : IVec S32x8x1 32) (b : Fin 32) (q : Fin 8)
    (h : (I (ix3 b q (0 : Fin 1))).toNat < 100000) : logitRef A3 A4 I (ix2 b q) = A4 (ix1 q) * A3 (ix2 (rowAt (I (ix3 b q (0 : Fin 1)))) 0) := by
  unfold logitRef
  generalize hX : Host.gather _ A3 I = X
  pointwise
  rw [← hX]
  exact congrArg (A4 (ix1 q) * ·) ((lookup3 (by decide) _ A3 I b q 0).trans (congrArg (fun z => A3 (ix2 z 0)) (held_row _ h _)))

/-- The flat position of word `l` of histogram `r`, as a number. -/
theorem flatIdx_eq (B : IVec S32x8x8192 32) (hB : ∀ i, (B i).toNat < 30) (b : Fin 32) (q : Fin 8) (d : Fin 16) (l : Fin 512) :
    (flatIdx B (ix2 (⟨l.val + 512 * ((b.val * 8 + q.val) * 16 + d.val), by omega⟩ : Fin 2097152) (0 : Fin 1))).toInt
      = ((((b.val * 8 + q.val) * 16 + d.val) * 30 + (B (ix3 b q (⟨d.val * 512 + l.val, by omega⟩ : Fin 8192))).toNat : ℕ) : ℤ) := by
  have hr : (l.val + 512 * ((b.val * 8 + q.val) * 16 + d.val)) / 512 = (b.val * 8 + q.val) * 16 + d.val := by omega
  have hl : (l.val + 512 * ((b.val * 8 + q.val) * 16 + d.val)) % 512 = l.val := by omega
  have hk : ((b.val * 8 + q.val) * 16 + d.val) % 16 * 512 + l.val = d.val * 512 + l.val := by omega
  pointwise [flatIdx]
  simp only [hr, hk]
  have hw := hB (ix3 b q (⟨d.val * 512 + l.val, by omega⟩ : Fin 8192))
  generalize B (ix3 b q (⟨d.val * 512 + l.val, by omega⟩ : Fin 8192)) = w at *
  have hlt : (b.val * 8 + q.val) * 16 + d.val < 4096 := by omega
  generalize (b.val * 8 + q.val) * 16 + d.val = r at *
  have e : (IntOp.addi (IntOp.muli (BitVec.ofNat 32 r) 30#32) w).toNat = r * 30 + w.toNat := by
    show (BitVec.ofNat 32 r * 30#32 + w).toNat = _
    rw [BitVec.toNat_add, BitVec.toNat_mul, BitVec.toNat_ofNat, show (30#32 : BitVec 32).toNat = 30 from rfl]
    omega
  rw [BitVec.toInt_eq_toNat_cond, if_pos (by rw [e]; omega), e]

/-- A histogram read: the words of the document whose bin is the one asked for, counted. -/
theorem hist_eq (B : IVec S32x8x8192 32) (hB : ∀ i, (B i).toNat < 30) (b : Fin 32) (q : Fin 8) (d : Fin 16) (n : Fin 30) :
    histAllRef (flatIdx B) (ix4 b q d n) = ∑ l : Fin 512, if (B (ix3 b q (⟨d.val * 512 + l.val, by omega⟩ : Fin 8192))).toNat = n.val then (1 : EReal) else 0 := by
  unfold histAllRef
  generalize hX : Host.scatterAdd (F := Ideal) _ _ _ _ = X
  pointwise
  rw [← hX]
  refine (scatter_ones _ _ _ _ (fun p => by pointwise) (fun u => by pointwise) _).trans ?_
  have hf : ∀ (r : Fin 4096) (l : Fin 512), ∃ w : ℕ, w < 30 ∧ (flatIdx B (ix2 (finProdFinEquiv (r, l) : Fin (4096 * 512)) (0 : Fin 1))).toInt = ((r.val * 30 + w : ℕ) : ℤ) := fun r l => by
    refine ⟨_, hB (ix3 (⟨r.val / 128, by omega⟩ : Fin 32) (⟨r.val / 16 % 8, by omega⟩ : Fin 8) (⟨r.val % 16 * 512 + l.val, by omega⟩ : Fin 8192)), ?_⟩
    have hr : (r.val / 128 * 8 + r.val / 16 % 8) * 16 + r.val % 16 = r.val := by omega
    have e := flatIdx_eq B hB (⟨r.val / 128, by omega⟩ : Fin 32) (⟨r.val / 16 % 8, by omega⟩ : Fin 8) (⟨r.val % 16, by omega⟩ : Fin 16) l
    simp only [hr] at e
    exact e
  rw [← Equiv.sum_comp (finProdFinEquiv (m := 4096) (n := 512)), Fintype.sum_prod_type,
    Finset.sum_eq_single (⟨(b.val * 8 + q.val) * 16 + d.val, by omega⟩ : Fin 4096)]
  · refine Finset.sum_congr rfl fun l _ => if_congr ?_ rfl rfl
    have e := flatIdx_eq B hB b q d l
    have hu : (finProdFinEquiv ((⟨(b.val * 8 + q.val) * 16 + d.val, by omega⟩ : Fin 4096), l) : Fin (4096 * 512)) = (⟨l.val + 512 * ((b.val * 8 + q.val) * 16 + d.val), by omega⟩ : Fin 2097152) := rfl
    rw [hu, e]
    show _ = ((b.val * 3840 + q.val * 480 + d.val * 30 + n.val : ℕ) : ℤ) ↔ _
    omega
  · intro r _ hr
    refine Finset.sum_eq_zero fun l _ => if_neg fun h => hr (Fin.ext ?_)
    obtain ⟨w, hw, e⟩ := hf r l
    have h' : ((r.val * 30 + w : ℕ) : ℤ) = ((b.val * 3840 + q.val * 480 + d.val * 30 + n.val : ℕ) : ℤ) := e.symm.trans h
    show r.val = (b.val * 8 + q.val) * 16 + d.val
    omega
  · intro h; exact absurd (Finset.mem_univ _) h

/-- What the arguments give the ranking. -/
def paramsOf (A2 : FVec Ideal S100000x128 .f32) (A3 : FVec Ideal S100000x1 .f32) (A4 : FVec Ideal S8 .f32) (A5 A6 : FVec Ideal S30 .f32)
    (A7 : FVec Ideal S30x128 .f32) (A8 A9 A10 : FVec Ideal S128 .f32) (A11 : FVec Ideal S128x64 .f32) (A12 A13 A14 : FVec Ideal S64 .f32)
    (A15 : FVec Ideal S64x32 .f32) (A16 A17 A18 : FVec Ideal S32 .f32) (A19 : FVec Ideal S32x1 .f32) (A20 A21 A22 : FVec Ideal S1 .f32) : Params where
  emb n e := A2 (ix2 n e)
  idf n := A3 (ix2 n 0)
  wg q := A4 (ix1 q)
  gi i := A5 (ix1 i)
  bi i := A6 (ix1 i)
  W0 i j := A7 (ix2 i j)
  b0 i := A8 (ix1 i)
  g0 i := A9 (ix1 i)
  be0 i := A10 (ix1 i)
  W1 i j := A11 (ix2 i j)
  b1 i := A12 (ix1 i)
  g1 i := A13 (ix1 i)
  be1 i := A14 (ix1 i)
  W2 i j := A15 (ix2 i j)
  b2 i := A16 (ix1 i)
  g2 i := A17 (ix1 i)
  be2 i := A18 (ix1 i)
  W3 i := A19 (ix2 i 0)
  b3 := A20 (ix1 0)
  g3 := A21 (ix1 0)
  be3 := A22 (ix1 0)

/-- The reference read: each document's score. -/
theorem reference_eq (A0 : IVec S32x16x512 32) (A1 : IVec S32x8 32) (A2 : FVec Ideal S100000x128 .f32) (A3 : FVec Ideal S100000x1 .f32) (A4 : FVec Ideal S8 .f32) (A5 A6 : FVec Ideal S30 .f32)
    (A7 : FVec Ideal S30x128 .f32) (A8 A9 A10 : FVec Ideal S128 .f32) (A11 : FVec Ideal S128x64 .f32) (A12 A13 A14 : FVec Ideal S64 .f32)
    (A15 : FVec Ideal S64x32 .f32) (A16 A17 A18 : FVec Ideal S32 .f32) (A19 : FVec Ideal S32x1 .f32) (A20 A21 A22 : FVec Ideal S1 .f32)
    (h0 : ∀ i, (A0 i).toNat < 100000) (h1 : ∀ i, (A1 i).toNat < 100000) (b : Fin 32) (d : Fin 16) :
    outRef (netRef (histAllRef (flatIdx (binIdx (queryRows A2 (queryIdx A1)) (docRows A2 (docIdx A0)))))
        A5 A6 A7 A8 A9 A10 A11 A12 A13 A14 A15 A16 A17 A18 A19 A20 A21 A22) (gateRef (logitRef A3 A4 (queryIdx A1))) (ix3 b (0 : Fin 1) d)
      = (paramsOf A2 A3 A4 A5 A6 A7 A8 A9 A10 A11 A12 A13 A14 A15 A16 A17 A18 A19 A20 A21 A22).score (fun q => A1 (ix2 b q)) fun l => A0 (ix3 b d l) := by
  have hq : ∀ q, queryIdx A1 (ix3 b q (0 : Fin 1)) = A1 (ix2 b q) := queryIdx_eq A1 h1 b
  have hd : ∀ i, (docIdx A0 i).toNat < 100000 := fun i => by
    rw [eq_ix4 i, show i 3 = (0 : Fin 1) from Subsingleton.elim (α := Fin 1) _ _]
    exact lt_of_eq_of_lt (congrArg BitVec.toNat (docIdx_eq A0 h0 (i 0) (i 1) (i 2))) (h0 _)
  have hB : ∀ i, (binIdx (queryRows A2 (queryIdx A1)) (docRows A2 (docIdx A0)) i).toNat < 30 := fun i => by
    rw [eq_ix3 i]
    exact lt_of_eq_of_lt (congrArg BitVec.toNat (binIdx_eq _ _ (i 0) (i 1) (i 2))) (binNum_lt _)
  rw [outRef_eq]
  unfold Params.score
  refine Finset.sum_congr rfl fun q _ => ?_
  rw [netRef_eq (paramsOf A2 A3 A4 A5 A6 A7 A8 A9 A10 A11 A12 A13 A14 A15 A16 A17 A18 A19 A20 A21 A22) (fun _ => rfl) (fun _ => rfl) (fun _ _ => rfl)
      (fun _ => rfl) (fun _ => rfl) (fun _ => rfl) (fun _ _ => rfl) (fun _ => rfl) (fun _ => rfl) (fun _ => rfl) (fun _ _ => rfl) (fun _ => rfl)
      (fun _ => rfl) (fun _ => rfl) (fun _ => rfl) rfl rfl rfl,
    gateRef_eq (paramsOf A2 A3 A4 A5 A6 A7 A8 A9 A10 A11 A12 A13 A14 A15 A16 A17 A18 A19 A20 A21 A22) (fun q => A1 (ix2 b q)) b
      (fun q => by rw [logitRef_eq A3 A4 _ b q (by rw [hq]; exact h1 _), hq]; rfl)]
  refine congrArg (fun z => Params.net _ z * Params.gate _ _ q) (funext fun n => ?_)
  rw [hist_eq _ hB]
  unfold Params.hist countAt
  refine Finset.sum_congr rfl fun l _ => ?_
  rw [binIdx_eq]
  generalize hP : paramsOf A2 A3 A4 A5 A6 A7 A8 A9 A10 A11 A12 A13 A14 A15 A16 A17 A18 A19 A20 A21 A22 = P
  have hE : ∀ n e, A2 (ix2 n e) = P.emb n e := fun n e => by rw [← hP]; rfl
  have hs : scaled (fun e => queryRows A2 (queryIdx A1) (ix3 b q e)) (fun e => docRows A2 (docIdx A0) (ix3 b (⟨d.val * 512 + l.val, by omega⟩ : Fin 8192) e))
      = scaled (P.emb (rowAt (A1 (ix2 b q)))) (P.emb (rowAt (A0 (ix3 b d l)))) := by
    refine congrArg₂ scaled (funext fun e => ?_) (funext fun e => ?_)
    · rw [queryRows_eq _ _ _ _ _ (by rw [hq]; exact h1 _), hq]; exact hE _ _
    · rw [docRows_eq _ _ _ _ _ hd, docIdx_eq A0 h0]
      have e1 : (⟨(d.val * 512 + l.val) / 512, by omega⟩ : Fin 16) = d := Fin.ext (by show (d.val * 512 + l.val) / 512 = d.val; omega)
      have e2 : (⟨(d.val * 512 + l.val) % 512, by omega⟩ : Fin 512) = l := Fin.ext (by show (d.val * 512 + l.val) % 512 = l.val; omega)
      exact (congrArg₂ (fun x y => A2 (ix2 (rowAt (A0 (ix3 b x y))) e)) e1 e2).trans (hE _ _)
  rw [hs]
  rfl

end Drmm.V

end
-- ==== Proof.V.Value.lean ====
module

public import proofs.«01_k».proof.Proof.I.Args
public import proofs.«01_k».proof.Proof.V.Ker
public import proofs.«01_k».proof.Proof.V.Ref
public import Idealize.ShloMosaic.Lib.Pipeline.ValueKit
public import Idealize.ShloMosaic.Lib.Pipeline.Covers

@[expose] public section

noncomputable section

/-!
# The result array is the reference's result

The grid's blocks tile the result array; each holds its documents' scores, and so does the reference's result.
-/

namespace Drmm.V

open Idealize.ShloMosaic Idealize.ShloMosaic.TcCoe Drmm.I
open Idealize.SL.Sem
open Cert.KernelIdeal
open Facts Shapes1.Facts₀ Shapes2.Facts₀ K0.R1.Facts₀ K0.R2.Facts₀

variable [Facts]
variable (m : (ℓ : Loc nD τ sig) → Buf (Elt Ideal) ℓ) (c : Dev nD)

set_option maxRecDepth 16384

/-- What the arguments give the ranking. -/
def params : Params :=
  paramsOf (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))

/-- Array 0 the grid reads: a host reshape of an argument. -/
theorem at_v0 : (V m c main_call0_v0 : FVec Ideal S100000x1x128 .f32) = shapeCast S100000x1x128 (m ((c.tc : Thread nD τ).loc main_arg2) : FVec Ideal S100000x128 .f32) shapeCasts_S100000x128_S100000x1x128 := by
  unfold V Gen.hostOps0; after_results; rfl

/-- Array 6 the grid reads: a host reshape of an argument. -/
theorem at_v6 : (V m c main_call0_v6 : FVec Ideal S8x1 .f32) = shapeCast S8x1 (m ((c.tc : Thread nD τ).loc main_arg4) : FVec Ideal S8 .f32) shapeCasts_S8_S8x1 := by
  unfold V Gen.hostOps0; after_results; rfl

/-- Array 7 the grid reads: a host reshape of an argument. -/
theorem at_v7 : (V m c main_call0_v7 : FVec Ideal S1x30 .f32) = shapeCast S1x30 (m ((c.tc : Thread nD τ).loc main_arg5) : FVec Ideal S30 .f32) shapeCasts_S30_S1x30 := by
  unfold V Gen.hostOps0; after_results; rfl

/-- Array 8 the grid reads: a host reshape of an argument. -/
theorem at_v8 : (V m c main_call0_v8 : FVec Ideal S1x30 .f32) = shapeCast S1x30 (m ((c.tc : Thread nD τ).loc main_arg6) : FVec Ideal S30 .f32) shapeCasts_S30_S1x30 := by
  unfold V Gen.hostOps0; after_results; rfl

/-- Array 9 the grid reads: a host reshape of an argument. -/
theorem at_v9 : (V m c main_call0_v9 : FVec Ideal S1x128 .f32) = shapeCast S1x128 (m ((c.tc : Thread nD τ).loc main_arg8) : FVec Ideal S128 .f32) shapeCasts_S128_S1x128 := by
  unfold V Gen.hostOps0; after_results; rfl

/-- Array 10 the grid reads: a host reshape of an argument. -/
theorem at_v10 : (V m c main_call0_v10 : FVec Ideal S1x128 .f32) = shapeCast S1x128 (m ((c.tc : Thread nD τ).loc main_arg9) : FVec Ideal S128 .f32) shapeCasts_S128_S1x128 := by
  unfold V Gen.hostOps0; after_results; rfl

/-- Array 11 the grid reads: a host reshape of an argument. -/
theorem at_v11 : (V m c main_call0_v11 : FVec Ideal S1x128 .f32) = shapeCast S1x128 (m ((c.tc : Thread nD τ).loc main_arg10) : FVec Ideal S128 .f32) shapeCasts_S128_S1x128 := by
  unfold V Gen.hostOps0; after_results; rfl

/-- Array 12 the grid reads: a host reshape of an argument. -/
theorem at_v12 : (V m c main_call0_v12 : FVec Ideal S1x64 .f32) = shapeCast S1x64 (m ((c.tc : Thread nD τ).loc main_arg12) : FVec Ideal S64 .f32) shapeCasts_S64_S1x64 := by
  unfold V Gen.hostOps0; after_results; rfl

/-- Array 13 the grid reads: a host reshape of an argument. -/
theorem at_v13 : (V m c main_call0_v13 : FVec Ideal S1x64 .f32) = shapeCast S1x64 (m ((c.tc : Thread nD τ).loc main_arg13) : FVec Ideal S64 .f32) shapeCasts_S64_S1x64 := by
  unfold V Gen.hostOps0; after_results; rfl

/-- Array 14 the grid reads: a host reshape of an argument. -/
theorem at_v14 : (V m c main_call0_v14 : FVec Ideal S1x64 .f32) = shapeCast S1x64 (m ((c.tc : Thread nD τ).loc main_arg14) : FVec Ideal S64 .f32) shapeCasts_S64_S1x64 := by
  unfold V Gen.hostOps0; after_results; rfl

/-- Array 15 the grid reads: a host reshape of an argument. -/
theorem at_v15 : (V m c main_call0_v15 : FVec Ideal S1x32 .f32) = shapeCast S1x32 (m ((c.tc : Thread nD τ).loc main_arg16) : FVec Ideal S32 .f32) shapeCasts_S32_S1x32 := by
  unfold V Gen.hostOps0; after_results; rfl

/-- Array 16 the grid reads: a host reshape of an argument. -/
theorem at_v16 : (V m c main_call0_v16 : FVec Ideal S1x32 .f32) = shapeCast S1x32 (m ((c.tc : Thread nD τ).loc main_arg17) : FVec Ideal S32 .f32) shapeCasts_S32_S1x32 := by
  unfold V Gen.hostOps0; after_results; rfl

/-- Array 17 the grid reads: a host reshape of an argument. -/
theorem at_v17 : (V m c main_call0_v17 : FVec Ideal S1x32 .f32) = shapeCast S1x32 (m ((c.tc : Thread nD τ).loc main_arg18) : FVec Ideal S32 .f32) shapeCasts_S32_S1x32 := by
  unfold V Gen.hostOps0; after_results; rfl

/-- Array 18 the grid reads: a host reshape of an argument. -/
theorem at_v18 : (V m c main_call0_v18 : FVec Ideal S1x1 .f32) = shapeCast S1x1 (m ((c.tc : Thread nD τ).loc main_arg20) : FVec Ideal S1 .f32) shapeCasts_S1_S1x1 := by
  unfold V Gen.hostOps0; after_results; rfl

/-- Array 19 the grid reads: a host reshape of an argument. -/
theorem at_v19 : (V m c main_call0_v19 : FVec Ideal S1x1 .f32) = shapeCast S1x1 (m ((c.tc : Thread nD τ).loc main_arg21) : FVec Ideal S1 .f32) shapeCasts_S1_S1x1 := by
  unfold V Gen.hostOps0; after_results; rfl

/-- Array 20 the grid reads: a host reshape of an argument. -/
theorem at_v20 : (V m c main_call0_v20 : FVec Ideal S1x1 .f32) = shapeCast S1x1 (m ((c.tc : Thread nD τ).loc main_arg22) : FVec Ideal S1 .f32) shapeCasts_S1_S1x1 := by
  unfold V Gen.hostOps0; after_results; rfl

/-- The second table as the grid reads it: rows of 128 entries, the last row filled up. -/
theorem at_v3 (n : Fin 100000) : (V m c main_call0_v3 : FVec Ideal S782x1x128 .f32) (ix3 ⟨n.val / 128, by omega⟩ (0 : Fin 1) ⟨n.val % 128, by omega⟩)
    = (m ((c.tc : Thread nD τ).loc main_arg3) : FVec Ideal S100000x1 .f32) (ix2 n 0) := by
  have e : (V m c main_call0_v3 : FVec Ideal S782x1x128 .f32) = shapeCast S782x1x128 (pad S100096 ![0] ![96] ![0]
      (shapeCast S100000 (m ((c.tc : Thread nD τ).loc main_arg3) : FVec Ideal S100000x1 .f32) shapeCasts_S100000x1_S100000)
      (sitofp .f32 (constantI S_ 32 0#32) : FVec Ideal S_ .f32) pads_S100000_S100096_0960 h_S_) shapeCasts_S100096_S782x1x128 := by
    unfold V Gen.hostOps0; after_results; rfl
  rw [e]
  generalize (m ((c.tc : Thread nD τ).loc main_arg3) : FVec Ideal S100000x1 .f32) = A
  pointwise
  have hn : n.val / 128 * 128 + n.val % 128 = n.val := by omega
  simp only [hn]
  exact dif_pos n.isLt

/-- The documents' words as the grid reads them. -/
theorem docs_apply (A : IVec S32x16x512 32) (b : Fin 32) (d : Fin 16) (l : Fin 512) :
    shapeCast S32x1x8192 A shapeCasts_S32x16x512_S32x1x8192 (ix3 b (0 : Fin 1) (⟨d.val * 512 + l.val, by omega⟩ : Fin 8192)) = A (ix3 b d l) := by
  pointwise

/-- The queries' words as the grid reads them. -/
theorem words_apply (A : IVec S32x8 32) (b : Fin 32) (q : Fin 8) :
    shapeCast S256 A shapeCasts_S32x8_S256 (ix1 (⟨(b.val * 8 + q.val) % 256, Nat.mod_lt _ (by decide)⟩ : Fin 256)) = A (ix2 b q) := by
  have h : (b.val * 8 + q.val) % 256 = b.val * 8 + q.val := by omega
  simp only [h]
  pointwise

/-- The words of a grid step's documents. -/
theorem docBlk_apply (n : ℕ) (h : n < (cfgI m).N) (hn : n < 32) (d : Fin 16) (l : Fin 512) :
    docBlk m c n h (ix3 (0 : Fin 1) (0 : Fin 1) (⟨d.val * 512 + l.val, by omega⟩ : Fin 8192))
      = (m ((c.tc : Thread nD τ).loc main_arg0) : S32x16x512.Idx → BitVec 32) (ix3 (⟨n, hn⟩ : Fin 32) d l) :=
  (congrFun (V_docs (m := m) c) (ix3 (⟨n, hn⟩ : Fin 32) (0 : Fin 1) (⟨d.val * 512 + l.val, by omega⟩ : Fin 8192))).trans (docs_apply _ ⟨n, hn⟩ d l)

/-- The word of a grid step's query. -/
theorem queryWord_apply (b : Fin 32) (q : Fin 8) : queryWord (V m c main_call0_v5 : S256.Idx → BitVec 32) (b.val * 8 + q.val)
    = (m ((c.tc : Thread nD τ).loc main_arg1) : S32x8.Idx → BitVec 32) (ix2 b q) :=
  (congrFun (V_words (m := m) c) _).trans (words_apply _ b q)

/-- A grid step's block, at a document: its score. -/
theorem outBlk_eq (h0 : ∀ i, ((m ((c.tc : Thread nD τ).loc main_arg0) : S32x16x512.Idx → BitVec 32) i).toNat < 100000)
    (h1 : ∀ i, ((m ((c.tc : Thread nD τ).loc main_arg1) : S32x8.Idx → BitVec 32) i).toNat < 100000)
    (t : Fin (cfgI m).N) (ht : t.val < 32) (d : Fin 16) :
    outBlk m c t (ix3 (0 : Fin 1) (0 : Fin 1) d)
      = (params m c).score (fun q => (m ((c.tc : Thread nD τ).loc main_arg1) : S32x8.Idx → BitVec 32) (ix2 (⟨t.val, ht⟩ : Fin 32) q))
        fun l => (m ((c.tc : Thread nD τ).loc main_arg0) : S32x16x512.Idx → BitVec 32) (ix3 (⟨t.val, ht⟩ : Fin 32) d l) := by
  unfold outBlk
  have hb : (grid0.coords t 0).val = t.val := coords_val t.val t.isLt
  rw [hb]
  refine blockOf_eq (params m c) (fun q => (m ((c.tc : Thread nD τ).loc main_arg1) : S32x8.Idx → BitVec 32) (ix2 (⟨t.val, ht⟩ : Fin 32) q))
    (fun d l => (m ((c.tc : Thread nD τ).loc main_arg0) : S32x16x512.Idx → BitVec 32) (ix3 (⟨t.val, ht⟩ : Fin 32) d l)) t.val
    (fun d l => docBlk_apply m c t.val t.isLt ht d l) (fun i => by rw [V_words]; exact h1 _) (fun q => queryWord_apply m c ⟨t.val, ht⟩ q)
    (fun _ _ => by rw [at_v0]; pointwise; rfl) (fun n => at_v3 m c n)
    (fun _ => by rw [at_v6]; pointwise; rfl) (fun _ => by rw [at_v7]; pointwise; rfl) (fun _ => by rw [at_v8]; pointwise; rfl) (fun _ _ => by rw [V_kept m c main_arg7 (by decide)]; rfl) (fun _ => by rw [at_v9]; pointwise; rfl) (fun _ => by rw [at_v10]; pointwise; rfl) (fun _ => by rw [at_v11]; pointwise; rfl) (fun _ _ => by rw [V_kept m c main_arg11 (by decide)]; rfl)
    (fun _ => by rw [at_v12]; pointwise; rfl) (fun _ => by rw [at_v13]; pointwise; rfl) (fun _ => by rw [at_v14]; pointwise; rfl) (fun _ _ => by rw [V_kept m c main_arg15 (by decide)]; rfl) (fun _ => by rw [at_v15]; pointwise; rfl) (fun _ => by rw [at_v16]; pointwise; rfl) (fun _ => by rw [at_v17]; pointwise; rfl)
    (fun _ => by rw [V_kept m c main_arg19 (by decide)]; rfl) (by rw [at_v18]; pointwise; rfl) (by rw [at_v19]; pointwise; rfl) (by rw [at_v20]; pointwise; rfl) d

/-- The block of the result array that a grid step stores. -/
theorem out_index (i : grid0.Coords) : cc0_transform_22 i 0 = (i 0).val := by
  show (BitVec.ofNat 32 (i 0).val).toNat = _
  rw [BitVec.toNat_ofNat]
  exact Nat.mod_eq_of_lt (lt_trans (i 0).isLt (by show 32 < 2 ^ 32; decide))

/-- The grid's blocks tile the result array. -/
theorem out_covers : ((cfgI m).win 22).Covers := by
  refine ((cfgI m).win 22).covers_of_indexMap_surj rfl (fun a => (by decide : ∀ a, 0 < S1x1x16.size a) a) fun β => ?_
  have hr : ((cfgI m).win 22).shape.rank = 3 := rfl
  have n0 : ((cfgI m).win 22).nblk ⟨0, by rw [hr]; decide⟩ = 32 :=
    (by decide : (S32x1x16.size 0 + S1x1x16.size 0 - 1) / S1x1x16.size 0 = 32)
  have n1 : ((cfgI m).win 22).nblk ⟨1, by rw [hr]; decide⟩ = 1 :=
    (by decide : (S32x1x16.size 1 + S1x1x16.size 1 - 1) / S1x1x16.size 1 = 1)
  have n2 : ((cfgI m).win 22).nblk ⟨2, by rw [hr]; decide⟩ = 1 :=
    (by decide : (S32x1x16.size 2 + S1x1x16.size 2 - 1) / S1x1x16.size 2 = 1)
  let b : Fin 32 := ⟨(β ⟨0, by rw [hr]; decide⟩).val, lt_of_lt_of_eq (β ⟨0, by rw [hr]; decide⟩).isLt n0⟩
  let i : grid0.Coords := fun x => match x with | ⟨0, _⟩ => b
  refine ⟨i, fun a => ?_⟩
  match a with
  | ⟨0, _⟩ => exact (out_index i).trans (rfl : (i 0).val = b.val)
  | ⟨1, h⟩ => exact (Nat.lt_one_iff.1 (lt_of_lt_of_eq (β ⟨1, h⟩).isLt n1)).symm
  | ⟨2, h⟩ => exact (Nat.lt_one_iff.1 (lt_of_lt_of_eq (β ⟨2, h⟩).isLt n2)).symm

/-- An index of the output window. -/
theorem out_idx (y : S1x1x16.Idx) : ∃ d : Fin 16, y = ix3 (0 : Fin 1) (0 : Fin 1) d :=
  ⟨y 2, (eq_ix3 y).trans (congrArg₂ (fun (a b : Fin 1) => ix3 a b (y 2)) (Subsingleton.elim (α := Fin 1) _ _) (Subsingleton.elim (α := Fin 1) _ _))⟩

/-- The score of a document does not depend on how its index is written. -/
theorem score_at (b : Fin 32) (d : Fin 16) (e : S32x1x16.Idx) (e0 : (e 0 : Fin 32) = b) (e2 : (e 2 : Fin 16) = d) :
    ((params m c).score (fun q => (m ((c.tc : Thread nD τ).loc main_arg1) : S32x8.Idx → BitVec 32) (ix2 b q))
      fun l => (m ((c.tc : Thread nD τ).loc main_arg0) : S32x16x512.Idx → BitVec 32) (ix3 b d l))
    = (params m c).score (fun q => (m ((c.tc : Thread nD τ).loc main_arg1) : S32x8.Idx → BitVec 32) (ix2 (e 0) q))
      fun l => (m ((c.tc : Thread nD τ).loc main_arg0) : S32x16x512.Idx → BitVec 32) (ix3 (e 0) (e 2) l) := by
  rw [e0, e2]

/-- The result array after the last step, and the score it holds at each document. -/
theorem outArr_eq (h0 : ∀ i, ((m ((c.tc : Thread nD τ).loc main_arg0) : S32x16x512.Idx → BitVec 32) i).toNat < 100000)
    (h1 : ∀ i, ((m ((c.tc : Thread nD τ).loc main_arg1) : S32x8.Idx → BitVec 32) i).toNat < 100000) :
    (outArr m c : S32x1x16.Idx → EReal) = fun i => (params m c).score (fun q => (m ((c.tc : Thread nD τ).loc main_arg1) : S32x8.Idx → BitVec 32) (ix2 (i 0) q))
      fun l => (m ((c.tc : Thread nD τ).loc main_arg0) : S32x16x512.Idx → BitVec 32) (ix3 (i 0) (i 2) l) := by
  unfold outArr
  refine (dats m 0 c).arrAt_eq_of_covers 22 _ (out_covers m) fun t hf y => ?_
  have ht : t.val < 32 := t.isLt
  obtain ⟨d, rfl⟩ := out_idx y
  blk_simp
  refine (outBlk_eq m c h0 h1 t ht d).trans ?_
  refine score_at m c ⟨t.val, ht⟩ d ((((cfgI m).win 22).blk t).view.emb (ix3 (0 : Fin 1) (0 : Fin 1) d)) (Fin.ext ?_) (Fin.ext ?_)
  · show cc0_transform_22 (grid0.coords t) 0 * 1 + 1 * 0 = t.val
    rw [out_index, coords_val t.val t.isLt]; omega
  · show 0 * 16 + 1 * d.val = d.val
    omega

/-- The reference's result as an array: at each document its score. -/
theorem reference_scores (A0 : IVec S32x16x512 32) (A1 : IVec S32x8 32) (A2 : FVec Ideal S100000x128 .f32) (A3 : FVec Ideal S100000x1 .f32) (A4 : FVec Ideal S8 .f32) (A5 A6 : FVec Ideal S30 .f32)
    (A7 : FVec Ideal S30x128 .f32) (A8 A9 A10 : FVec Ideal S128 .f32) (A11 : FVec Ideal S128x64 .f32) (A12 A13 A14 : FVec Ideal S64 .f32)
    (A15 : FVec Ideal S64x32 .f32) (A16 A17 A18 : FVec Ideal S32 .f32) (A19 : FVec Ideal S32x1 .f32) (A20 A21 A22 : FVec Ideal S1 .f32)
    (h0 : ∀ i, (A0 i).toNat < 100000) (h1 : ∀ i, (A1 i).toNat < 100000) :
    (outRef (netRef (histAllRef (flatIdx (binIdx (queryRows A2 (queryIdx A1)) (docRows A2 (docIdx A0)))))
        A5 A6 A7 A8 A9 A10 A11 A12 A13 A14 A15 A16 A17 A18 A19 A20 A21 A22) (gateRef (logitRef A3 A4 (queryIdx A1))) : S32x1x16.Idx → EReal)
      = fun i => (paramsOf A2 A3 A4 A5 A6 A7 A8 A9 A10 A11 A12 A13 A14 A15 A16 A17 A18 A19 A20 A21 A22).score (fun q => A1 (ix2 (i 0) q)) fun l => A0 (ix3 (i 0) (i 2) l) := by
  funext i
  obtain ⟨b, d, rfl⟩ : ∃ (b : Fin 32) (d : Fin 16), i = ix3 b (0 : Fin 1) d :=
    ⟨i 0, i 2, (eq_ix3 i).trans (congrArg (fun (a : Fin 1) => ix3 (i 0) a (i 2)) (Subsingleton.elim (α := Fin 1) _ _))⟩
  exact reference_eq A0 A1 A2 A3 A4 A5 A6 A7 A8 A9 A10 A11 A12 A13 A14 A15 A16 A17 A18 A19 A20 A21 A22 h0 h1 b d

/-- On equal arguments with words in range the kernel's result array is the reference's. -/
theorem value (m' : (ℓ : Loc Cert.ReferenceIdeal.nD Cert.ReferenceIdeal.τ Cert.ReferenceIdeal.sig) → Buf (Elt Ideal) ℓ)
    (h0 : ∀ i, ((m ((c.tc : Thread nD τ).loc main_arg0) : S32x16x512.Idx → BitVec 32) i).toNat < 100000)
    (h1 : ∀ i, ((m ((c.tc : Thread nD τ).loc main_arg1) : S32x8.Idx → BitVec 32) i).toNat < 100000)
    (e : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)
      ∧ m' ((c.tc : Thread Cert.ReferenceIdeal.nD Cert.ReferenceIdeal.τ).loc Cert.ReferenceIdeal.main_arg14) = m ((c.tc : Thread nD τ).loc main_arg14)
      ∧ m' ((c.tc : Thread Cert.ReferenceIdeal.nD Cert.ReferenceIdeal.τ).loc Cert.ReferenceIdeal.main_arg15) = m ((c.tc : Thread nD τ).loc main_arg15)
      ∧ m' ((c.tc : Thread Cert.ReferenceIdeal.nD Cert.ReferenceIdeal.τ).loc Cert.ReferenceIdeal.main_arg16) = m ((c.tc : Thread nD τ).loc main_arg16)
      ∧ m' ((c.tc : Thread Cert.ReferenceIdeal.nD Cert.ReferenceIdeal.τ).loc Cert.ReferenceIdeal.main_arg17) = m ((c.tc : Thread nD τ).loc main_arg17)
      ∧ m' ((c.tc : Thread Cert.ReferenceIdeal.nD Cert.ReferenceIdeal.τ).loc Cert.ReferenceIdeal.main_arg18) = m ((c.tc : Thread nD τ).loc main_arg18)
      ∧ m' ((c.tc : Thread Cert.ReferenceIdeal.nD Cert.ReferenceIdeal.τ).loc Cert.ReferenceIdeal.main_arg19) = m ((c.tc : Thread nD τ).loc main_arg19)
      ∧ m' ((c.tc : Thread Cert.ReferenceIdeal.nD Cert.ReferenceIdeal.τ).loc Cert.ReferenceIdeal.main_arg20) = m ((c.tc : Thread nD τ).loc main_arg20)
      ∧ m' ((c.tc : Thread Cert.ReferenceIdeal.nD Cert.ReferenceIdeal.τ).loc Cert.ReferenceIdeal.main_arg21) = m ((c.tc : Thread nD τ).loc main_arg21)
      ∧ m' ((c.tc : Thread Cert.ReferenceIdeal.nD Cert.ReferenceIdeal.τ).loc Cert.ReferenceIdeal.main_arg22) = m ((c.tc : Thread nD τ).loc main_arg22)) :
    (Cert.ReferenceIdeal.Value.res_main_v139 m' c : S32x1x16.Idx → EReal) = outArr m c := by
  obtain ⟨e0, e1, e2, e3, e4, e5, e6, e7, e8, e9, e10, e11, e12, e13, e14, e15, e16, e17, e18, e19, e20, e21, e22⟩ := e
  refine (result_eq m' c).trans ?_
  rw [e0, e1, e2, e3, e4, e5, e6, e7, e8, e9, e10, e11, e12, e13, e14, e15, e16, e17, e18, e19, e20, e21, e22]
  exact (reference_scores _ _ _ _ _ _ _ _ _ _ _ _ _ _ _ _ _ _ _ _ _ _ _ h0 h1).trans (outArr_eq m c h0 h1).symm

end Drmm.V

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.ReferenceIdeal.Run
public import proofs.«01_k».proof.Proof.K.Args
public import proofs.«01_k».proof.Proof.I.Args
public import proofs.«01_k».proof.Proof.V.Value

@[expose] public section

noncomputable section

namespace Cert.Proof

open Idealize.ShloMosaic Idealize.SL.Sem

/-- The kernel at the bit-exact instance leaves its arguments and its counters as they were. -/
theorem frame_k : Cert.quiescent_Kernel (hKernel := Cert.Kernel.Gen.facts) (hPre_in_range := Cert.Pre_in_range.Gen.facts) := fun m ρ h =>
  (θ_run Cert.Kernel.defs _ _).mono (fun r e => ⟨fun c => (e.1 c).2, e.2⟩)
    (Drmm.K.run_args (F := Bits) m ρ (Drmm.K.words_of_pre (F := Bits) m (hP := Cert.Pre_in_range.Gen.facts) h))

/-- The kernel over the extended reals leaves its arguments and its counters as they were. -/
theorem frame_ki : Cert.quiescent_KernelIdeal (hKernelIdeal := Cert.KernelIdeal.Gen.facts) (hPre_in_range := Cert.Pre_in_range.Gen.facts) := fun m ρ h =>
  (θ_run Cert.KernelIdeal.defs _ _).mono (fun r e => ⟨fun c => (e.1 c).2, e.2⟩)
    (Drmm.I.run_args (F := Ideal) m ρ (Drmm.I.words_of_pre (F := Ideal) m (hP := Cert.Pre_in_range.Gen.facts) h))

/-- The reference is a line of host operations that declares no semaphore: it leaves its arguments as they were. -/
theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same, under the precondition. -/
theorem frame_ri_pre : Cert.quiescent_ReferenceIdeal_pre_in_range (hReferenceIdeal := Cert.ReferenceIdeal.Gen.facts) (hPre_in_range := Cert.Pre_in_range.Gen.facts) :=
  fun m ρ _ => frame_ri m ρ trivial

/-- The kernel's result over the extended reals is the reference's. -/
theorem algebraic : Cert.algebraic_KernelIdeal_ReferenceIdeal (hKernelIdeal := Cert.KernelIdeal.Gen.facts) (hReferenceIdeal := Cert.ReferenceIdeal.Gen.facts)
    (hPre_in_range := Cert.Pre_in_range.Gen.facts) := by
  intro m g m' g' h e
  have hlt := Drmm.I.args_lt (F := Ideal) m (hP := Cert.Pre_in_range.Gen.facts) h
  have hv := fun c => Drmm.V.value m c m' (hlt c).1 (hlt c).2 (e c)
  exact ⟨fun c => Drmm.I.outArr m c,
    (θ_run Cert.KernelIdeal.defs _ _).mono (fun r k => k.1)
      (Drmm.I.run_args (F := Ideal) m g (Drmm.I.words_of_pre (F := Ideal) m (hP := Cert.Pre_in_range.Gen.facts) h)),
    (θ_run Cert.ReferenceIdeal.defs _ _).mono (fun r k c => ⟨(k c).1.trans (hv c), (k c).2⟩) (Cert.ReferenceIdeal.Value.run (F := Ideal) m' g')⟩

/-- Every claim of the certificate. -/
theorem claim : Cert.Claim := ⟨Cert.Kernel.Gen.facts, Cert.KernelIdeal.Gen.facts, Cert.ReferenceIdeal.Gen.facts, Cert.Pre_in_range.Gen.facts,
  frame_k, frame_ki, frame_ri, frame_ri_pre, trivial, algebraic⟩

end Cert.Proof

end
